-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_zeros [hPre_zeros : Cert.Pre_zeros.Facts] (m : (ℓ : Loc Cert.KernelIdeal.nD Cert.KernelIdeal.τ Cert.KernelIdeal.sig) → Buf (Elt Ideal) ℓ) : Prop :=
  ∀ c : Dev Cert.KernelIdeal.nD,
    (Cert.Pre_zeros.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zeros [hKernelIdeal : Cert.KernelIdeal.Facts] [hPre_zeros : Cert.Pre_zeros.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zeros m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_pre_finite [hKernelIdeal : Cert.KernelIdeal.Facts] [hPre_finite : Cert.Pre_finite.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def holds_KernelIdeal_differs_pre_zeros [hKernelIdeal : Cert.KernelIdeal.Facts] [hPre_zeros : Cert.Pre_zeros.Facts] [hPost_differs : Cert.Post_differs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zeros m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_differs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPre_zeros : Cert.Pre_zeros.Facts) (hPost_near : Cert.Post_near.Facts) (hPost_differs : Cert.Post_differs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_zeros (hKernelIdeal := hKernelIdeal) (hPre_zeros := hPre_zeros)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_pre_finite (hKernelIdeal := hKernelIdeal) (hPre_finite := hPre_finite) (hPost_near := hPost_near)
    ∧ holds_KernelIdeal_differs_pre_zeros (hKernelIdeal := hKernelIdeal) (hPre_zeros := hPre_zeros) (hPost_differs := hPost_differs)
-- ==== Post_differs.lean ====
abbrev S4x21x512x512 : Shape := ⟨4, ![4, 21, 512, 512]⟩
abbrev S4x512x512 : Shape := ⟨3, ![4, 512, 512]⟩
abbrev S_ : Shape := ⟨0, ![]⟩
abbrev S4x1x512x512 : Shape := ⟨4, ![4, 1, 512, 512]⟩
abbrev S21x4x512x512 : Shape := ⟨4, ![21, 4, 512, 512]⟩
abbrev S21x1048576 : Shape := ⟨2, ![21, 1048576]⟩
abbrev S1x1048576 : Shape := ⟨2, ![1, 1048576]⟩
abbrev S21 : Shape := ⟨1, ![21]⟩
abbrev S21x1 : Shape := ⟨2, ![21, 1]⟩
abbrev S21x1048576x1 : Shape := ⟨3, ![21, 1048576, 1]⟩
abbrev S1 : Shape := ⟨1, ![1]⟩
abbrev S1x1x1 : Shape := ⟨3, ![1, 1, 1]⟩
abbrev S21x1048575 : Shape := ⟨2, ![21, 1048575]⟩

class Facts : Prop where
  reducesTo_S4x21x512x512_S4x512x512_d1 : S4x21x512x512.ReducesTo [1] S4x512x512
  h_S_ : 0 < S_.numel
  bcast_S_S4x512x512 : S_.BroadcastsInDim S4x512x512 (![] : Fin 0 → Fin S4x512x512.rank)
  bcast_S4x512x512_S4x1x512x512_0_2_3 : S4x512x512.BroadcastsInDim S4x1x512x512 (![0, 2, 3] : Fin 3 → Fin S4x1x512x512.rank)
  bcast_S4x1x512x512_S4x21x512x512_0_1_2_3 : S4x1x512x512.BroadcastsInDim S4x21x512x512 (![0, 1, 2, 3] : Fin 4 → Fin S4x21x512x512.rank)
  transposes_S4x21x512x512_S21x4x512x512_1_0_2_3 : S4x21x512x512.Transposes [1, 0, 2, 3] S21x4x512x512
  shapeCasts_S21x4x512x512_S21x1048576 : S21x4x512x512.ShapeCasts S21x1048576
  shapeCasts_S4x512x512_S1x1048576 : S4x512x512.ShapeCasts S1x1048576
  bcast_S21_S21x1_0 : S21.BroadcastsInDim S21x1 (![0] : Fin 1 → Fin S21x1.rank)
  bcast_S1x1048576_S21x1048576_0_1 : S1x1048576.BroadcastsInDim S21x1048576 (![0, 1] : Fin 2 → Fin S21x1048576.rank)
  bcast_S21x1_S21x1048576_0_1 : S21x1.BroadcastsInDim S21x1048576 (![0, 1] : Fin 2 → Fin S21x1048576.rank)
  bcast_S_S21x1048576 : S_.BroadcastsInDim S21x1048576 (![] : Fin 0 → Fin S21x1048576.rank)
  shapeCasts_S21x1048576_S21x1048576x1 : S21x1048576.ShapeCasts S21x1048576x1
  bcast_S_S21x1048576x1 : S_.BroadcastsInDim S21x1048576x1 (![] : Fin 0 → Fin S21x1048576x1.rank)
  bcast_S1_S1x1x1_2 : S1.BroadcastsInDim S1x1x1 (![2] : Fin 1 → Fin S1x1x1.rank)
  bcast_S1x1x1_S21x1048576x1_0_1_2 : S1x1x1.BroadcastsInDim S21x1048576x1 (![0, 1, 2] : Fin 3 → Fin S21x1048576x1.rank)
  reducesTo_S21x1048576x1_S21x1048576_d2 : S21x1048576x1.ReducesTo [2] S21x1048576
  reducesTo_S21x1048576_S21_d1 : S21x1048576.ReducesTo [1] S21
  bcast_S_S_ : S_.BroadcastsInDim S_ (![] : Fin 0 → Fin S_.rank)
  reduceWindows_S21x1048576_S21x1048576_w1s1p0_0_w1048576s1p1048575_0 : S21x1048576.ReduceWindows (![1, 1048576] : Fin 2 → Nat) ![1, 1] ![0, 1048575] ![0, 0] S21x1048576
  slices_S21x1048576_S21x1_0_0 : S21x1048576.Slices ![0, 0] S21x1
  slices_S21x1048576_S21x1048575_0_1 : S21x1048576.Slices ![0, 1] S21x1048575
  slices_S21x1048576_S21x1048575_0_0 : S21x1048576.Slices ![0, 0] S21x1048575
  concatenates_S21x1_S21x1048575_S21x1048576_d1 : Shape.Concatenates [S21x1, S21x1048575] S21x1048576 1
  bcast_S_S21 : S_.BroadcastsInDim S21 (![] : Fin 0 → Fin S21.rank)
  reducesTo_S21_S_d0 : S21.ReducesTo [0] S_
  gather_S21x1048576_S21x1048576x1_S21x1048576_n_1_0_0_1_2_11_wf : GatherDims.WF S21x1048576 S21x1048576x1 S21x1048576 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S21x1048576_S21x1048576x1_S21x1048576_n_1_0_0_1_2_11 : GatherDims S21x1048576 S21x1048576x1 S21x1048576 where
  offsetDims := []
  collapsedSliceDims := [1]
  operandBatchingDims := [0]
  startIndicesBatchingDims := [0]
  startIndexMap := [1]
  indexVectorDim := 2
  sliceSizes := ![1, 1]
  wf := gather_S21x1048576_S21x1048576x1_S21x1048576_n_1_0_0_1_2_11_wf

def fn_argsort {F : FTy → Type} [FloatOps F] (arg0 : FVec F S21x1048576 .f32) : IVec S21x1048576 32 :=
  let v0 : IVec S21x1048576 32 := iotaInDim S21x1048576 32 1
  let v1_0 : FVec F S21x1048576 .f32 := (fun x y => (Host.sort2 S21x1048576 1 comparator_f32_i32_d1 x y).1) arg0 v0
  let v1_1 : IVec S21x1048576 32 := (fun x y => (Host.sort2 S21x1048576 1 comparator_f32_i32_d1 x y).2) arg0 v0
  v1_1

def fn_take_along_axis {F : FTy → Type} [FloatOps F] (arg0 : FVec F S21x1048576 .f32) (arg1 : IVec S21x1048576 32) : FVec F S21x1048576 .f32 :=
  let c : IVec S_ 32 := constantI S_ 32 0#32
  let v0 : IVec S21x1048576 32 := broadcastInDim S21x1048576 ![] bcast_S_S21x1048576 c
  let v1 : IVec S21x1048576 1 := cmpi .slt arg1 v0
  let c_0 : IVec S_ 32 := constantI S_ 32 1048576#32
  let v2 : IVec S21x1048576 32 := broadcastInDim S21x1048576 ![] bcast_S_S21x1048576 c_0
  let v3 : IVec S21x1048576 32 := addi arg1 v2
  let v4 : IVec S21x1048576 32 := select v1 v3 arg1
  let v5 : IVec S21x1048576x1 32 := shapeCast S21x1048576x1 v4 shapeCasts_S21x1048576_S21x1048576x1
  let c_1 : IVec S1 32 := constantI S1 32 1048575#32
  let c_2 : IVec S_ 32 := constantI S_ 32 0#32
  let v6 : IVec S21x1048576x1 32 := broadcastInDim S21x1048576x1 ![] bcast_S_S21x1048576x1 c_2
  let v7 : IVec S21x1048576x1 1 := cmpi .sge v5 v6
  let v8 : IVec S1x1x1 32 := broadcastInDim S1x1x1 ![2] bcast_S1_S1x1x1_2 c_1
  let v9 : IVec S21x1048576x1 32 := broadcastInDim S21x1048576x1 ![0, 1, 2] bcast_S1x1x1_S21x1048576x1_0_1_2 v8
  let v10 : IVec S21x1048576x1 1 := cmpi .sle v5 v9
  let v11 : IVec S21x1048576x1 1 := andi v7 v10
  let c_3 : IVec S_ 1 := constantI S_ 1 1#1
  let v12 : IVec S21x1048576 1 := (fun x v => Host.reduce IntOp.andi x v reducesTo_S21x1048576x1_S21x1048576_d2 h_S_) v11 c_3
  let v13 : FVec F S21x1048576 .f32 := (fun x i => Host.gather gather_S21x1048576_S21x1048576x1_S21x1048576_n_1_0_0_1_2_11 x i) arg0 v5
  let cst : FVec F S_ .f32 := constant S_ .f32 0x7FC00000#32
  let v14 : FVec F S21x1048576 .f32 := broadcastInDim S21x1048576 ![] bcast_S_S21x1048576 cst
  let v15 : FVec F S21x1048576 .f32 := select v12 v13 v14
  v15

def fn_cumsum_0 {F : FTy → Type} [FloatOps F] (arg0 : FVec F S21x1048576 .f32) : FVec F S21x1048576 .f32 :=
  let cst : FVec F S_ .f32 := constant S_ .f32 0x00000000#32
  let v0 : FVec F S_ .f32 := broadcastInDim S_ ![] bcast_S_S_ cst
  let v1 : FVec F S21x1048576 .f32 := (fun x v => Host.reduceWindowAdd ![1, 1048576] ![1, 1] ![0, 1048575] ![0, 0] x v reduceWindows_S21x1048576_S21x1048576_w1s1p0_0_w1048576s1p1048575_0 h_S_) arg0 v0
  v1

def fn_cumsum {F : FTy → Type} [FloatOps F] (arg0 : FVec F S21x1048576 .f32) : FVec F S21x1048576 .f32 :=
  let v0 : FVec F S21x1048576 .f32 := fn_cumsum_0 (F := F) arg0
  v0

def fn_part2 {F : FTy → Type} [FloatOps F] (main_arg2 : FVec F S_ .f32) (main_v19 : FVec F S21x1048576 .f32) (main_v24 : FVec F S21x1048576 .f32) (main_v39 : FVec F S21x1 .f32) (main_v40 : FVec F S21x1048575 .f32) (main_v41 : FVec F S21x1048575 .f32) : IVec S_ 1 :=
  let main_v42 : FVec F S21x1048575 .f32 := subf main_v40 main_v41
  let main_v43 : FVec F S21x1048576 .f32 := (fun a b => concatenate S21x1048576 1 [⟨S21x1, a⟩, ⟨S21x1048575, b⟩] concatenates_S21x1_S21x1048575_S21x1048576_d1) main_v39 main_v42
  let main_v44 : FVec F S21x1048576 .f32 := mulf main_v24 main_v43
  let main_cst_5 : FVec F S_ .f32 := constant S_ .f32 0x00000000#32
  let main_v45 : FVec F S21 .f32 := (fun x v => Host.reduceAdd x v reducesTo_S21x1048576_S21_d1 h_S_) main_v44 main_cst_5
  let main_cst_6 : FVec F S_ .f32 := constant S_ .f32 0x00000000#32
  let main_v46 : FVec F S21 .f32 := (fun x v => Host.reduceAdd x v reducesTo_S21x1048576_S21_d1 h_S_) main_v19 main_cst_6
  let main_cst_7 : FVec F S_ .f32 := constant S_ .f32 0x00000000#32
  let main_v47 : FVec F S21 .f32 := broadcastInDim S21 ![] bcast_S_S21 main_cst_7
  let main_v48 : IVec S21 1 := cmpf .ogt main_v46 main_v47
  let main_v49 : FVec F S21 .f32 := uitofp .f32 main_v48
  let main_v50 : FVec F S21 .f32 := mulf main_v45 main_v49
  let main_cst_8 : FVec F S_ .f32 := constant S_ .f32 0x00000000#32
  let main_v51 : FVec F S_ .f32 := (fun x v => Host.reduceAdd x v reducesTo_S21_S_d0 h_S_) main_v50 main_cst_8
  let main_cst_9 : FVec F S_ .f32 := constant S_ .f32 0x00000000#32
  let main_v52 : FVec F S_ .f32 := (fun x v => Host.reduceAdd x v reducesTo_S21_S_d0 h_S_) main_v49 main_cst_9
  let main_cst_10 : FVec F S_ .f32 := constant S_ .f32 0x3F800000#32
  let main_v53 : FVec F S_ .f32 := maximumf main_v52 main_cst_10
  let main_v54 : FVec F S_ .f32 := Host.divf main_v51 main_v53
  let main_v55 : IVec S_ 1 := cmpf .une main_arg2 main_v54
  main_v55

def fn_part1 {F : FTy → Type} [FloatOps F] (main_arg2 : FVec F S_ .f32) (main_v19 : FVec F S21x1048576 .f32) (main_v20 : FVec F S21x1048576 .f32) : IVec S_ 1 :=
  let main_v21 : FVec F S21x1048576 .f32 := Host.absf main_v20
  let main_v22 : FVec F S21x1048576 .f32 := Host.negf main_v21
  let main_v23 : IVec S21x1048576 32 := fn_argsort (F := F) main_v22
  let main_v24 : FVec F S21x1048576 .f32 := fn_take_along_axis (F := F) main_v21 main_v23
  let main_v25 : FVec F S21x1048576 .f32 := fn_take_along_axis (F := F) main_v19 main_v23
  let main_cst_2 : FVec F S_ .f32 := constant S_ .f32 0x00000000#32
  let main_v26 : FVec F S21 .f32 := (fun x v => Host.reduceAdd x v reducesTo_S21x1048576_S21_d1 h_S_) main_v25 main_cst_2
  let main_v27 : FVec F S21x1 .f32 := broadcastInDim S21x1 ![0] bcast_S21_S21x1_0 main_v26
  let main_v28 : FVec F S21x1048576 .f32 := fn_cumsum (F := F) main_v25
  let main_v29 : FVec F S21x1048576 .f32 := broadcastInDim S21x1048576 ![0, 1] bcast_S21x1_S21x1048576_0_1 main_v27
  let main_v30 : FVec F S21x1048576 .f32 := subf main_v29 main_v28
  let main_cst_3 : FVec F S_ .f32 := constant S_ .f32 0x3F800000#32
  let main_v31 : FVec F S21x1048576 .f32 := broadcastInDim S21x1048576 ![] bcast_S_S21x1048576 main_cst_3
  let main_v32 : FVec F S21x1048576 .f32 := subf main_v31 main_v25
  let main_v33 : FVec F S21x1048576 .f32 := fn_cumsum (F := F) main_v32
  let main_v34 : FVec F S21x1048576 .f32 := broadcastInDim S21x1048576 ![0, 1] bcast_S21x1_S21x1048576_0_1 main_v27
  let main_v35 : FVec F S21x1048576 .f32 := addf main_v34 main_v33
  let main_v36 : FVec F S21x1048576 .f32 := Host.divf main_v30 main_v35
  let main_cst_4 : FVec F S_ .f32 := constant S_ .f32 0x3F800000#32
  let main_v37 : FVec F S21x1048576 .f32 := broadcastInDim S21x1048576 ![] bcast_S_S21x1048576 main_cst_4
  let main_v38 : FVec F S21x1048576 .f32 := subf main_v37 main_v36
  let main_v39 : FVec F S21x1 .f32 := (extractStridedSlice S21x1 ![0, 0] · slices_S21x1048576_S21x1_0_0) main_v38
  let main_v40 : FVec F S21x1048575 .f32 := (extractStridedSlice S21x1048575 ![0, 1] · slices_S21x1048576_S21x1048575_0_1) main_v38
  let main_v41 : FVec F S21x1048575 .f32 := (extractStridedSlice S21x1048575 ![0, 0] · slices_S21x1048576_S21x1048575_0_0) main_v38
  fn_part2 (F := F) main_arg2 main_v19 main_v24 main_v39 main_v40 main_v41

def fn {F : FTy → Type} [FloatOps F] (main_arg0 : FVec F S4x21x512x512 .f32) (main_arg1 : IVec S4x512x512 32) (main_arg2 : FVec F S_ .f32) : IVec S_ 1 :=
  let main_cst : FVec F S_ .f32 := constant S_ .f32 0xFF800000#32
  let main_v0 : FVec F S4x512x512 .f32 := (fun x v => Host.reduce FloatOps.maximumf x v reducesTo_S4x21x512x512_S4x512x512_d1 h_S_) main_arg0 main_cst
  let main_cst_0 : FVec F S_ .f32 := constant S_ .f32 0xFF800000#32
  let main_v1 : FVec F S4x512x512 .f32 := broadcastInDim S4x512x512 ![] bcast_S_S4x512x512 main_cst_0
  let main_v2 : FVec F S4x512x512 .f32 := maximumf main_v1 main_v0
  let main_v3 : FVec F S4x1x512x512 .f32 := broadcastInDim S4x1x512x512 ![0, 2, 3] bcast_S4x512x512_S4x1x512x512_0_2_3 main_v2
  let main_v4 : FVec F S4x21x512x512 .f32 := broadcastInDim S4x21x512x512 ![0, 1, 2, 3] bcast_S4x1x512x512_S4x21x512x512_0_1_2_3 main_v3
  let main_v5 : FVec F S4x21x512x512 .f32 := subf main_arg0 main_v4
  let main_v6 : FVec F S4x21x512x512 .f32 := Host.exp main_v5
  let main_cst_1 : FVec F S_ .f32 := constant S_ .f32 0x00000000#32
  let main_v7 : FVec F S4x512x512 .f32 := (fun x v => Host.reduceAdd x v reducesTo_S4x21x512x512_S4x512x512_d1 h_S_) main_v6 main_cst_1
  let main_v8 : FVec F S4x1x512x512 .f32 := broadcastInDim S4x1x512x512 ![0, 2, 3] bcast_S4x512x512_S4x1x512x512_0_2_3 main_v7
  let main_v9 : FVec F S4x21x512x512 .f32 := broadcastInDim S4x21x512x512 ![0, 1, 2, 3] bcast_S4x1x512x512_S4x21x512x512_0_1_2_3 main_v8
  let main_v10 : FVec F S4x21x512x512 .f32 := Host.divf main_v6 main_v9
  let main_v11 : FVec F S21x4x512x512 .f32 := (transpose S21x4x512x512 [1, 0, 2, 3] · transposes_S4x21x512x512_S21x4x512x512_1_0_2_3) main_v10
  let main_v12 : FVec F S21x1048576 .f32 := shapeCast S21x1048576 main_v11 shapeCasts_S21x4x512x512_S21x1048576
  let main_v13 : IVec S1x1048576 32 := shapeCast S1x1048576 main_arg1 shapeCasts_S4x512x512_S1x1048576
  let main_v14 : IVec S21 32 := iotaInDim S21 32 0
  let main_v15 : IVec S21x1 32 := broadcastInDim S21x1 ![0] bcast_S21_S21x1_0 main_v14
  let main_v16 : IVec S21x1048576 32 := broadcastInDim S21x1048576 ![0, 1] bcast_S1x1048576_S21x1048576_0_1 main_v13
  let main_v17 : IVec S21x1048576 32 := broadcastInDim S21x1048576 ![0, 1] bcast_S21x1_S21x1048576_0_1 main_v15
  let main_v18 : IVec S21x1048576 1 := cmpi .eq main_v16 main_v17
  let main_v19 : FVec F S21x1048576 .f32 := uitofp .f32 main_v18
  let main_v20 : FVec F S21x1048576 .f32 := subf main_v19 main_v12
  fn_part1 (F := F) main_arg2 main_v19 main_v20
-- ==== Post_near.lean ====
abbrev S4x21x512x512 : Shape := ⟨4, ![4, 21, 512, 512]⟩
abbrev S4x512x512 : Shape := ⟨3, ![4, 512, 512]⟩
abbrev S_ : Shape := ⟨0, ![]⟩
abbrev S4x1x512x512 : Shape := ⟨4, ![4, 1, 512, 512]⟩
abbrev S21x4x512x512 : Shape := ⟨4, ![21, 4, 512, 512]⟩
abbrev S21x1048576 : Shape := ⟨2, ![21, 1048576]⟩
abbrev S1x1048576 : Shape := ⟨2, ![1, 1048576]⟩
abbrev S21 : Shape := ⟨1, ![21]⟩
abbrev S21x1 : Shape := ⟨2, ![21, 1]⟩
abbrev S21x1048576x1 : Shape := ⟨3, ![21, 1048576, 1]⟩
abbrev S1 : Shape := ⟨1, ![1]⟩
abbrev S1x1x1 : Shape := ⟨3, ![1, 1, 1]⟩
abbrev S21x1048575 : Shape := ⟨2, ![21, 1048575]⟩

class Facts : Prop where
  reducesTo_S4x21x512x512_S4x512x512_d1 : S4x21x512x512.ReducesTo [1] S4x512x512
  h_S_ : 0 < S_.numel
  bcast_S_S4x512x512 : S_.BroadcastsInDim S4x512x512 (![] : Fin 0 → Fin S4x512x512.rank)
  bcast_S4x512x512_S4x1x512x512_0_2_3 : S4x512x512.BroadcastsInDim S4x1x512x512 (![0, 2, 3] : Fin 3 → Fin S4x1x512x512.rank)
  bcast_S4x1x512x512_S4x21x512x512_0_1_2_3 : S4x1x512x512.BroadcastsInDim S4x21x512x512 (![0, 1, 2, 3] : Fin 4 → Fin S4x21x512x512.rank)
  transposes_S4x21x512x512_S21x4x512x512_1_0_2_3 : S4x21x512x512.Transposes [1, 0, 2, 3] S21x4x512x512
  shapeCasts_S21x4x512x512_S21x1048576 : S21x4x512x512.ShapeCasts S21x1048576
  shapeCasts_S4x512x512_S1x1048576 : S4x512x512.ShapeCasts S1x1048576
  bcast_S21_S21x1_0 : S21.BroadcastsInDim S21x1 (![0] : Fin 1 → Fin S21x1.rank)
  bcast_S1x1048576_S21x1048576_0_1 : S1x1048576.BroadcastsInDim S21x1048576 (![0, 1] : Fin 2 → Fin S21x1048576.rank)
  bcast_S21x1_S21x1048576_0_1 : S21x1.BroadcastsInDim S21x1048576 (![0, 1] : Fin 2 → Fin S21x1048576.rank)
  bcast_S_S21x1048576 : S_.BroadcastsInDim S21x1048576 (![] : Fin 0 → Fin S21x1048576.rank)
  shapeCasts_S21x1048576_S21x1048576x1 : S21x1048576.ShapeCasts S21x1048576x1
  bcast_S_S21x1048576x1 : S_.BroadcastsInDim S21x1048576x1 (![] : Fin 0 → Fin S21x1048576x1.rank)
  bcast_S1_S1x1x1_2 : S1.BroadcastsInDim S1x1x1 (![2] : Fin 1 → Fin S1x1x1.rank)
  bcast_S1x1x1_S21x1048576x1_0_1_2 : S1x1x1.BroadcastsInDim S21x1048576x1 (![0, 1, 2] : Fin 3 → Fin S21x1048576x1.rank)
  reducesTo_S21x1048576x1_S21x1048576_d2 : S21x1048576x1.ReducesTo [2] S21x1048576
  reducesTo_S21x1048576_S21_d1 : S21x1048576.ReducesTo [1] S21
  bcast_S_S_ : S_.BroadcastsInDim S_ (![] : Fin 0 → Fin S_.rank)
  reduceWindows_S21x1048576_S21x1048576_w1s1p0_0_w1048576s1p1048575_0 : S21x1048576.ReduceWindows (![1, 1048576] : Fin 2 → Nat) ![1, 1] ![0, 1048575] ![0, 0] S21x1048576
  slices_S21x1048576_S21x1_0_0 : S21x1048576.Slices ![0, 0] S21x1
  slices_S21x1048576_S21x1048575_0_1 : S21x1048576.Slices ![0, 1] S21x1048575
  slices_S21x1048576_S21x1048575_0_0 : S21x1048576.Slices ![0, 0] S21x1048575
  concatenates_S21x1_S21x1048575_S21x1048576_d1 : Shape.Concatenates [S21x1, S21x1048575] S21x1048576 1
  bcast_S_S21 : S_.BroadcastsInDim S21 (![] : Fin 0 → Fin S21.rank)
  reducesTo_S21_S_d0 : S21.ReducesTo [0] S_
  gather_S21x1048576_S21x1048576x1_S21x1048576_n_1_0_0_1_2_11_wf : GatherDims.WF S21x1048576 S21x1048576x1 S21x1048576 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S21x1048576_S21x1048576x1_S21x1048576_n_1_0_0_1_2_11 : GatherDims S21x1048576 S21x1048576x1 S21x1048576 where
  offsetDims := []
  collapsedSliceDims := [1]
  operandBatchingDims := [0]
  startIndicesBatchingDims := [0]
  startIndexMap := [1]
  indexVectorDim := 2
  sliceSizes := ![1, 1]
  wf := gather_S21x1048576_S21x1048576x1_S21x1048576_n_1_0_0_1_2_11_wf

def fn_argsort {F : FTy → Type} [FloatOps F] (arg0 : FVec F S21x1048576 .f32) : IVec S21x1048576 32 :=
  let v0 : IVec S21x1048576 32 := iotaInDim S21x1048576 32 1
  let v1_0 : FVec F S21x1048576 .f32 := (fun x y => (Host.sort2 S21x1048576 1 comparator_f32_i32_d1 x y).1) arg0 v0
  let v1_1 : IVec S21x1048576 32 := (fun x y => (Host.sort2 S21x1048576 1 comparator_f32_i32_d1 x y).2) arg0 v0
  v1_1

def fn_take_along_axis {F : FTy → Type} [FloatOps F] (arg0 : FVec F S21x1048576 .f32) (arg1 : IVec S21x1048576 32) : FVec F S21x1048576 .f32 :=
  let c : IVec S_ 32 := constantI S_ 32 0#32
  let v0 : IVec S21x1048576 32 := broadcastInDim S21x1048576 ![] bcast_S_S21x1048576 c
  let v1 : IVec S21x1048576 1 := cmpi .slt arg1 v0
  let c_0 : IVec S_ 32 := constantI S_ 32 1048576#32
  let v2 : IVec S21x1048576 32 := broadcastInDim S21x1048576 ![] bcast_S_S21x1048576 c_0
  let v3 : IVec S21x1048576 32 := addi arg1 v2
  let v4 : IVec S21x1048576 32 := select v1 v3 arg1
  let v5 : IVec S21x1048576x1 32 := shapeCast S21x1048576x1 v4 shapeCasts_S21x1048576_S21x1048576x1
  let c_1 : IVec S1 32 := constantI S1 32 1048575#32
  let c_2 : IVec S_ 32 := constantI S_ 32 0#32
  let v6 : IVec S21x1048576x1 32 := broadcastInDim S21x1048576x1 ![] bcast_S_S21x1048576x1 c_2
  let v7 : IVec S21x1048576x1 1 := cmpi .sge v5 v6
  let v8 : IVec S1x1x1 32 := broadcastInDim S1x1x1 ![2] bcast_S1_S1x1x1_2 c_1
  let v9 : IVec S21x1048576x1 32 := broadcastInDim S21x1048576x1 ![0, 1, 2] bcast_S1x1x1_S21x1048576x1_0_1_2 v8
  let v10 : IVec S21x1048576x1 1 := cmpi .sle v5 v9
  let v11 : IVec S21x1048576x1 1 := andi v7 v10
  let c_3 : IVec S_ 1 := constantI S_ 1 1#1
  let v12 : IVec S21x1048576 1 := (fun x v => Host.reduce IntOp.andi x v reducesTo_S21x1048576x1_S21x1048576_d2 h_S_) v11 c_3
  let v13 : FVec F S21x1048576 .f32 := (fun x i => Host.gather gather_S21x1048576_S21x1048576x1_S21x1048576_n_1_0_0_1_2_11 x i) arg0 v5
  let cst : FVec F S_ .f32 := constant S_ .f32 0x7FC00000#32
  let v14 : FVec F S21x1048576 .f32 := broadcastInDim S21x1048576 ![] bcast_S_S21x1048576 cst
  let v15 : FVec F S21x1048576 .f32 := select v12 v13 v14
  v15

def fn_cumsum_0 {F : FTy → Type} [FloatOps F] (arg0 : FVec F S21x1048576 .f32) : FVec F S21x1048576 .f32 :=
  let cst : FVec F S_ .f32 := constant S_ .f32 0x00000000#32
  let v0 : FVec F S_ .f32 := broadcastInDim S_ ![] bcast_S_S_ cst
  let v1 : FVec F S21x1048576 .f32 := (fun x v => Host.reduceWindowAdd ![1, 1048576] ![1, 1] ![0, 1048575] ![0, 0] x v reduceWindows_S21x1048576_S21x1048576_w1s1p0_0_w1048576s1p1048575_0 h_S_) arg0 v0
  v1

def fn_cumsum {F : FTy → Type} [FloatOps F] (arg0 : FVec F S21x1048576 .f32) : FVec F S21x1048576 .f32 :=
  let v0 : FVec F S21x1048576 .f32 := fn_cumsum_0 (F := F) arg0
  v0

def fn_part2 {F : FTy → Type} [FloatOps F] (main_arg2 : FVec F S_ .f32) (main_v19 : FVec F S21x1048576 .f32) (main_v24 : FVec F S21x1048576 .f32) (main_v39 : FVec F S21x1 .f32) (main_v40 : FVec F S21x1048575 .f32) (main_v41 : FVec F S21x1048575 .f32) : IVec S_ 1 :=
  let main_v42 : FVec F S21x1048575 .f32 := subf main_v40 main_v41
  let main_v43 : FVec F S21x1048576 .f32 := (fun a b => concatenate S21x1048576 1 [⟨S21x1, a⟩, ⟨S21x1048575, b⟩] concatenates_S21x1_S21x1048575_S21x1048576_d1) main_v39 main_v42
  let main_v44 : FVec F S21x1048576 .f32 := mulf main_v24 main_v43
  let main_cst_5 : FVec F S_ .f32 := constant S_ .f32 0x00000000#32
  let main_v45 : FVec F S21 .f32 := (fun x v => Host.reduceAdd x v reducesTo_S21x1048576_S21_d1 h_S_) main_v44 main_cst_5
  let main_cst_6 : FVec F S_ .f32 := constant S_ .f32 0x00000000#32
  let main_v46 : FVec F S21 .f32 := (fun x v => Host.reduceAdd x v reducesTo_S21x1048576_S21_d1 h_S_) main_v19 main_cst_6
  let main_cst_7 : FVec F S_ .f32 := constant S_ .f32 0x00000000#32
  let main_v47 : FVec F S21 .f32 := broadcastInDim S21 ![] bcast_S_S21 main_cst_7
  let main_v48 : IVec S21 1 := cmpf .ogt main_v46 main_v47
  let main_v49 : FVec F S21 .f32 := uitofp .f32 main_v48
  let main_v50 : FVec F S21 .f32 := mulf main_v45 main_v49
  let main_cst_8 : FVec F S_ .f32 := constant S_ .f32 0x00000000#32
  let main_v51 : FVec F S_ .f32 := (fun x v => Host.reduceAdd x v reducesTo_S21_S_d0 h_S_) main_v50 main_cst_8
  let main_cst_9 : FVec F S_ .f32 := constant S_ .f32 0x00000000#32
  let main_v52 : FVec F S_ .f32 := (fun x v => Host.reduceAdd x v reducesTo_S21_S_d0 h_S_) main_v49 main_cst_9
  let main_cst_10 : FVec F S_ .f32 := constant S_ .f32 0x3F800000#32
  let main_v53 : FVec F S_ .f32 := maximumf main_v52 main_cst_10
  let main_v54 : FVec F S_ .f32 := Host.divf main_v51 main_v53
  let main_v55 : FVec F S_ .f32 := subf main_arg2 main_v54
  let main_v56 : FVec F S_ .f32 := Host.absf main_v55
  let main_cst_11 : FVec F S_ .f32 := constant S_ .f32 0x3B800000#32
  let main_v57 : IVec S_ 1 := cmpf .ole main_v56 main_cst_11
  main_v57

def fn_part1 {F : FTy → Type} [FloatOps F] (main_arg2 : FVec F S_ .f32) (main_v19 : FVec F S21x1048576 .f32) (main_v20 : FVec F S21x1048576 .f32) : IVec S_ 1 :=
  let main_v21 : FVec F S21x1048576 .f32 := Host.absf main_v20
  let main_v22 : FVec F S21x1048576 .f32 := Host.negf main_v21
  let main_v23 : IVec S21x1048576 32 := fn_argsort (F := F) main_v22
  let main_v24 : FVec F S21x1048576 .f32 := fn_take_along_axis (F := F) main_v21 main_v23
  let main_v25 : FVec F S21x1048576 .f32 := fn_take_along_axis (F := F) main_v19 main_v23
  let main_cst_2 : FVec F S_ .f32 := constant S_ .f32 0x00000000#32
  let main_v26 : FVec F S21 .f32 := (fun x v => Host.reduceAdd x v reducesTo_S21x1048576_S21_d1 h_S_) main_v25 main_cst_2
  let main_v27 : FVec F S21x1 .f32 := broadcastInDim S21x1 ![0] bcast_S21_S21x1_0 main_v26
  let main_v28 : FVec F S21x1048576 .f32 := fn_cumsum (F := F) main_v25
  let main_v29 : FVec F S21x1048576 .f32 := broadcastInDim S21x1048576 ![0, 1] bcast_S21x1_S21x1048576_0_1 main_v27
  let main_v30 : FVec F S21x1048576 .f32 := subf main_v29 main_v28
  let main_cst_3 : FVec F S_ .f32 := constant S_ .f32 0x3F800000#32
  let main_v31 : FVec F S21x1048576 .f32 := broadcastInDim S21x1048576 ![] bcast_S_S21x1048576 main_cst_3
  let main_v32 : FVec F S21x1048576 .f32 := subf main_v31 main_v25
  let main_v33 : FVec F S21x1048576 .f32 := fn_cumsum (F := F) main_v32
  let main_v34 : FVec F S21x1048576 .f32 := broadcastInDim S21x1048576 ![0, 1] bcast_S21x1_S21x1048576_0_1 main_v27
  let main_v35 : FVec F S21x1048576 .f32 := addf main_v34 main_v33
  let main_v36 : FVec F S21x1048576 .f32 := Host.divf main_v30 main_v35
  let main_cst_4 : FVec F S_ .f32 := constant S_ .f32 0x3F800000#32
  let main_v37 : FVec F S21x1048576 .f32 := broadcastInDim S21x1048576 ![] bcast_S_S21x1048576 main_cst_4
  let main_v38 : FVec F S21x1048576 .f32 := subf main_v37 main_v36
  let main_v39 : FVec F S21x1 .f32 := (extractStridedSlice S21x1 ![0, 0] · slices_S21x1048576_S21x1_0_0) main_v38
  let main_v40 : FVec F S21x1048575 .f32 := (extractStridedSlice S21x1048575 ![0, 1] · slices_S21x1048576_S21x1048575_0_1) main_v38
  let main_v41 : FVec F S21x1048575 .f32 := (extractStridedSlice S21x1048575 ![0, 0] · slices_S21x1048576_S21x1048575_0_0) main_v38
  fn_part2 (F := F) main_arg2 main_v19 main_v24 main_v39 main_v40 main_v41

def fn {F : FTy → Type} [FloatOps F] (main_arg0 : FVec F S4x21x512x512 .f32) (main_arg1 : IVec S4x512x512 32) (main_arg2 : FVec F S_ .f32) : IVec S_ 1 :=
  let main_cst : FVec F S_ .f32 := constant S_ .f32 0xFF800000#32
  let main_v0 : FVec F S4x512x512 .f32 := (fun x v => Host.reduce FloatOps.maximumf x v reducesTo_S4x21x512x512_S4x512x512_d1 h_S_) main_arg0 main_cst
  let main_cst_0 : FVec F S_ .f32 := constant S_ .f32 0xFF800000#32
  let main_v1 : FVec F S4x512x512 .f32 := broadcastInDim S4x512x512 ![] bcast_S_S4x512x512 main_cst_0
  let main_v2 : FVec F S4x512x512 .f32 := maximumf main_v1 main_v0
  let main_v3 : FVec F S4x1x512x512 .f32 := broadcastInDim S4x1x512x512 ![0, 2, 3] bcast_S4x512x512_S4x1x512x512_0_2_3 main_v2
  let main_v4 : FVec F S4x21x512x512 .f32 := broadcastInDim S4x21x512x512 ![0, 1, 2, 3] bcast_S4x1x512x512_S4x21x512x512_0_1_2_3 main_v3
  let main_v5 : FVec F S4x21x512x512 .f32 := subf main_arg0 main_v4
  let main_v6 : FVec F S4x21x512x512 .f32 := Host.exp main_v5
  let main_cst_1 : FVec F S_ .f32 := constant S_ .f32 0x00000000#32
  let main_v7 : FVec F S4x512x512 .f32 := (fun x v => Host.reduceAdd x v reducesTo_S4x21x512x512_S4x512x512_d1 h_S_) main_v6 main_cst_1
  let main_v8 : FVec F S4x1x512x512 .f32 := broadcastInDim S4x1x512x512 ![0, 2, 3] bcast_S4x512x512_S4x1x512x512_0_2_3 main_v7
  let main_v9 : FVec F S4x21x512x512 .f32 := broadcastInDim S4x21x512x512 ![0, 1, 2, 3] bcast_S4x1x512x512_S4x21x512x512_0_1_2_3 main_v8
  let main_v10 : FVec F S4x21x512x512 .f32 := Host.divf main_v6 main_v9
  let main_v11 : FVec F S21x4x512x512 .f32 := (transpose S21x4x512x512 [1, 0, 2, 3] · transposes_S4x21x512x512_S21x4x512x512_1_0_2_3) main_v10
  let main_v12 : FVec F S21x1048576 .f32 := shapeCast S21x1048576 main_v11 shapeCasts_S21x4x512x512_S21x1048576
  let main_v13 : IVec S1x1048576 32 := shapeCast S1x1048576 main_arg1 shapeCasts_S4x512x512_S1x1048576
  let main_v14 : IVec S21 32 := iotaInDim S21 32 0
  let main_v15 : IVec S21x1 32 := broadcastInDim S21x1 ![0] bcast_S21_S21x1_0 main_v14
  let main_v16 : IVec S21x1048576 32 := broadcastInDim S21x1048576 ![0, 1] bcast_S1x1048576_S21x1048576_0_1 main_v13
  let main_v17 : IVec S21x1048576 32 := broadcastInDim S21x1048576 ![0, 1] bcast_S21x1_S21x1048576_0_1 main_v15
  let main_v18 : IVec S21x1048576 1 := cmpi .eq main_v16 main_v17
  let main_v19 : FVec F S21x1048576 .f32 := uitofp .f32 main_v18
  let main_v20 : FVec F S21x1048576 .f32 := subf main_v19 main_v12
  fn_part1 (F := F) main_arg2 main_v19 main_v20
-- ==== Pre_finite.lean ====
abbrev S4x21x512x512 : Shape := ⟨4, ![4, 21, 512, 512]⟩
abbrev S4x512x512 : Shape := ⟨3, ![4, 512, 512]⟩
abbrev S_ : Shape := ⟨0, ![]⟩

class Facts : Prop where
  bcast_S_S4x21x512x512 : S_.BroadcastsInDim S4x21x512x512 (![] : Fin 0 → Fin S4x21x512x512.rank)
  reducesTo_S4x21x512x512_S_d0_1_2_3 : S4x21x512x512.ReducesTo [0, 1, 2, 3] S_
  h_S_ : 0 < S_.numel

variable [Facts]

def fn {F : FTy → Type} [FloatOps F] (main_arg0 : FVec F S4x21x512x512 .f32) (main_arg1 : IVec S4x512x512 32) : IVec S_ 1 :=
  let main_v0 : FVec F S4x21x512x512 .f32 := Host.absf main_arg0
  let main_cst : FVec F S_ .f32 := constant S_ .f32 0x7F800000#32
  let main_v1 : FVec F S4x21x512x512 .f32 := broadcastInDim S4x21x512x512 ![] bcast_S_S4x21x512x512 main_cst
  let main_v2 : IVec S4x21x512x512 1 := cmpf .olt main_v0 main_v1
  let main_c : IVec S_ 1 := constantI S_ 1 1#1
  let main_v3 : IVec S_ 1 := (fun x v => Host.reduce IntOp.andi x v reducesTo_S4x21x512x512_S_d0_1_2_3 h_S_) main_v2 main_c
  main_v3
-- ==== Pre_zeros.lean ====
abbrev S4x21x512x512 : Shape := ⟨4, ![4, 21, 512, 512]⟩
abbrev S4x512x512 : Shape := ⟨3, ![4, 512, 512]⟩
abbrev S_ : Shape := ⟨0, ![]⟩

class Facts : Prop where
  bcast_S_S4x21x512x512 : S_.BroadcastsInDim S4x21x512x512 (![] : Fin 0 → Fin S4x21x512x512.rank)
  reducesTo_S4x21x512x512_S_d0_1_2_3 : S4x21x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x21x512x512 .f32) (main_arg1 : IVec S4x512x512 32) : IVec S_ 1 :=
  let main_cst : FVec F S_ .f32 := constant S_ .f32 0x00000000#32
  let main_v0 : FVec F S4x21x512x512 .f32 := broadcastInDim S4x21x512x512 ![] bcast_S_S4x21x512x512 main_cst
  let main_v1 : IVec S4x21x512x512 1 := cmpf .oeq main_arg0 main_v0
  let main_c : IVec S_ 1 := constantI S_ 1 1#1
  let main_v2 : IVec S_ 1 := (fun x v => Host.reduce IntOp.andi x v reducesTo_S4x21x512x512_S_d0_1_2_3 h_S_) main_v1 main_c
  let main_c_0 : IVec S_ 32 := constantI S_ 32 0#32
  let main_v3 : IVec S4x512x512 32 := broadcastInDim S4x512x512 ![] bcast_S_S4x512x512 main_c_0
  let main_v4 : IVec S4x512x512 1 := cmpi .eq main_arg1 main_v3
  let main_c_1 : IVec S_ 1 := constantI S_ 1 1#1
  let main_v5 : IVec S_ 1 := (fun x v => Host.reduce IntOp.andi x v reducesTo_S4x512x512_S_d0_1_2 h_S_) main_v4 main_c_1
  let main_v6 : IVec S_ 1 := andi main_v2 main_v5
  main_v6
-- ==== Kernel.lean ====
abbrev S4x21x512x512 : Shape := ⟨4, ![4, 21, 512, 512]⟩
abbrev S4x512x512 : Shape := ⟨3, ![4, 512, 512]⟩
abbrev S1x21x128x512 : Shape := ⟨4, ![1, 21, 128, 512]⟩
abbrev S1x128x512 : Shape := ⟨3, ![1, 128, 512]⟩
abbrev S21x128x512 : Shape := ⟨3, ![21, 128, 512]⟩
abbrev S128x512 : Shape := ⟨2, ![128, 512]⟩
abbrev S32x5504 : Shape := ⟨2, ![32, 5504]⟩
abbrev S16x512 : Shape := ⟨2, ![16, 512]⟩
abbrev S88320 : Shape := ⟨1, ![88320]⟩
abbrev S_ : Shape := ⟨0, ![]⟩
abbrev S16 : Shape := ⟨1, ![16]⟩
abbrev S1x1x16x512 : Shape := ⟨4, ![1, 1, 16, 512]⟩
abbrev S1x16 : Shape := ⟨2, ![1, 16]⟩
abbrev S5504 : Shape := ⟨1, ![5504]⟩
abbrev S1x5504 : Shape := ⟨2, ![1, 5504]⟩
abbrev S32x5376 : Shape := ⟨2, ![32, 5376]⟩
abbrev S32x42x128 : Shape := ⟨3, ![32, 42, 128]⟩
abbrev S1x1 : Shape := ⟨2, ![1, 1]⟩
abbrev S42x128 : Shape := ⟨2, ![42, 128]⟩
abbrev S21x128 : Shape := ⟨2, ![21, 128]⟩
abbrev S128x128 : Shape := ⟨2, ![128, 128]⟩
abbrev S21x1 : Shape := ⟨2, ![21, 1]⟩
abbrev S21 : Shape := ⟨1, ![21]⟩
abbrev S1 : Shape := ⟨1, ![1]⟩

abbrev nBuf : Table → Nat
  | .hbm => 8
  | .local .tc .vmem => 8
  | .local .scVector .vmem => 3
  | _ => 0

abbrev bufTy : (tb : Table) → Fin (nBuf tb) → BufTy
  | .hbm, ⟨0, _⟩ => ⟨S4x21x512x512, .f32⟩
  | .hbm, ⟨1, _⟩ => ⟨S4x512x512, .i32⟩
  | .hbm, ⟨2, _⟩ => ⟨S4x21x512x512, .i32⟩
  | .hbm, ⟨3, _⟩ => ⟨S32x5504, .f32⟩
  | .hbm, ⟨4, _⟩ => ⟨S32x5376, .f32⟩
  | .hbm, ⟨5, _⟩ => ⟨S32x42x128, .f32⟩
  | .hbm, ⟨6, _⟩ => ⟨S1x1, .f32⟩
  | .hbm, ⟨7, _⟩ => ⟨S_, .f32⟩
  | .local .tc .vmem, ⟨0, _⟩ => ⟨S1x21x128x512, .f32⟩
  | .local .tc .vmem, ⟨1, _⟩ => ⟨S1x21x128x512, .f32⟩
  | .local .tc .vmem, ⟨2, _⟩ => ⟨S1x128x512, .i32⟩
  | .local .tc .vmem, ⟨3, _⟩ => ⟨S1x128x512, .i32⟩
  | .local .tc .vmem, ⟨4, _⟩ => ⟨S1x21x128x512, .i32⟩
  | .local .tc .vmem, ⟨5, _⟩ => ⟨S1x21x128x512, .i32⟩
  | .local .tc .vmem, ⟨6, _⟩ => ⟨S32x42x128, .f32⟩
  | .local .tc .vmem, ⟨7, _⟩ => ⟨S1x1, .f32⟩
  | .local .scVector .vmem, ⟨0, _⟩ => ⟨S16x512, .i32⟩
  | .local .scVector .vmem, ⟨1, _⟩ => ⟨S16x512, .i32⟩
  | .local .scVector .vmem, ⟨2, _⟩ => ⟨S88320, .f32⟩
  | _, _ => ⟨S4x21x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x21x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_1 : BitVec 32 := 0#32
  let c5520_i32 : BitVec 32 := 5520#32
  let v5 : BitVec 32 := Scalar.addi c0_i32_1 c5520_i32
  let c1_i32 : BitVec 32 := 1#32
  ⟨c0_i32_1, v5, c1_i32⟩
def k1_off1 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32_1151 : BitVec 32 := 16#32
  let v777 : BitVec 32 := Scalar.muli arg9 c16_i32_1151
  let v778 : Index := Scalar.indexCast v777
  ![v778.toNat]
def k1_off2 (i : grid1.Coords) : Fin 4 → Nat :=
  let c0_i32_3 : BitVec 32 := 0#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_5 : BitVec 32 := 0#32
  ![0, 0, v2.toNat, 0]
def k1_off3 (i : grid1.Coords) : Fin 4 → Nat :=
  let c0_i32_7 : BitVec 32 := 0#32
  let c1_i32_8 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_9 : BitVec 32 := 0#32
  ![0, 1, v2.toNat, 0]
@[reducible] def k1_t2_loop : Scf.Loop 32 :=
  let c0_i32_16 : BitVec 32 := 0#32
  let c32_i32 : BitVec 32 := 32#32
  let v18 : BitVec 32 := Scalar.addi c0_i32_16 c32_i32
  let c1_i32_17 : BitVec 32 := 1#32
  ⟨c0_i32_16, v18, c1_i32_17⟩
def k1_off4 (k1_t2 : Fin k1_t2_loop.trips) : Fin 2 → Nat :=
  let c0_i32_1152 : BitVec 32 := 0#32
  let v778 : Index := Scalar.indexCast c0_i32_1152
  let c0_i32_16 : BitVec 32 := 0#32
  let c1_i32_17 : BitVec 32 := 1#32
  let arg9 : BitVec 32 := Scf.iv c0_i32_16 c1_i32_17 k1_t2
  let c16_i32_1151 : BitVec 32 := 16#32
  let v777 : BitVec 32 := Scalar.muli arg9 c16_i32_1151
  let v779 : Index := Scalar.indexCast v777
  ![0, v779.toNat]
def k1_off5 (k1_t2 : Fin k1_t2_loop.trips) : Fin 2 → Nat :=
  let c1_i32_1154 : BitVec 32 := 1#32
  let v782 : Index := Scalar.indexCast c1_i32_1154
  let c0_i32_16 : BitVec 32 := 0#32
  let c1_i32_17 : BitVec 32 := 1#32
  let arg9 : BitVec 32 := Scf.iv c0_i32_16 c1_i32_17 k1_t2
  let c16_i32_1153 : BitVec 32 := 16#32
  let v781 : BitVec 32 := Scalar.muli arg9 c16_i32_1153
  let v783 : Index := Scalar.indexCast v781
  ![1, v783.toNat]
def k1_off6 (k1_t2 : Fin k1_t2_loop.trips) : Fin 2 → Nat :=
  let c2_i32_1156 : BitVec 32 := 2#32
  let v786 : Index := Scalar.indexCast c2_i32_1156
  let c0_i32_16 : BitVec 32 := 0#32
  let c1_i32_17 : BitVec 32 := 1#32
  let arg9 : BitVec 32 := Scf.iv c0_i32_16 c1_i32_17 k1_t2
  let c16_i32_1155 : BitVec 32 := 16#32
  let v785 : BitVec 32 := Scalar.muli arg9 c16_i32_1155
  let v787 : Index := Scalar.indexCast v785
  ![2, v787.toNat]
def k1_off7 (k1_t2 : Fin k1_t2_loop.trips) : Fin 2 → Nat :=
  let c3_i32_1158 : BitVec 32 := 3#32
  let v790 : Index := Scalar.indexCast c3_i32_1158
  let c0_i32_16 : BitVec 32 := 0#32
  let c1_i32_17 : BitVec 32 := 1#32
  let arg9 : BitVec 32 := Scf.iv c0_i32_16 c1_i32_17 k1_t2
  let c16_i32_1157 : BitVec 32 := 16#32
  let v789 : BitVec 32 := Scalar.muli arg9 c16_i32_1157
  let v791 : Index := Scalar.indexCast v789
  ![3, v791.toNat]
def k1_off8 (k1_t2 : Fin k1_t2_loop.trips) : Fin 2 → Nat :=
  let c4_i32_1160 : BitVec 32 := 4#32
  let v794 : Index := Scalar.indexCast c4_i32_1160
  let c0_i32_16 : BitVec 32 := 0#32
  let c1_i32_17 : BitVec 32 := 1#32
  let arg9 : BitVec 32 := Scf.iv c0_i32_16 c1_i32_17 k1_t2
  let c16_i32_1159 : BitVec 32 := 16#32
  let v793 : BitVec 32 := Scalar.muli arg9 c16_i32_1159
  let v795 : Index := Scalar.indexCast v793
  ![4, v795.toNat]
def k1_off9 (k1_t2 : Fin k1_t2_loop.trips) : Fin 2 → Nat :=
  let c5_i32_1162 : BitVec 32 := 5#32
  let v798 : Index := Scalar.indexCast c5_i32_1162
  let c0_i32_16 : BitVec 32 := 0#32
  let c1_i32_17 : BitVec 32 := 1#32
  let arg9 : BitVec 32 := Scf.iv c0_i32_16 c1_i32_17 k1_t2
  let c16_i32_1161 : BitVec 32 := 16#32
  let v797 : BitVec 32 := Scalar.muli arg9 c16_i32_1161
  let v799 : Index := Scalar.indexCast v797
  ![5, v799.toNat]
def k1_off10 (k1_t2 : Fin k1_t2_loop.trips) : Fin 2 → Nat :=
  let c6_i32_1164 : BitVec 32 := 6#32
  let v802 : Index := Scalar.indexCast c6_i32_1164
  let c0_i32_16 : BitVec 32 := 0#32
  let c1_i32_17 : BitVec 32 := 1#32
  let arg9 : BitVec 32 := Scf.iv c0_i32_16 c1_i32_17 k1_t2
  let c16_i32_1163 : BitVec 32 := 16#32
  let v801 : BitVec 32 := Scalar.muli arg9 c16_i32_1163
  let v803 : Index := Scalar.indexCast v801
  ![6, v803.toNat]
def k1_off11 (k1_t2 : Fin k1_t2_loop.trips) : Fin 2 → Nat :=
  let c7_i32_1166 : BitVec 32 := 7#32
  let v806 : Index := Scalar.indexCast c7_i32_1166
  let c0_i32_16 : BitVec 32 := 0#32
  let c1_i32_17 : BitVec 32 := 1#32
  let arg9 : BitVec 32 := Scf.iv c0_i32_16 c1_i32_17 k1_t2
  let c16_i32_1165 : BitVec 32 := 16#32
  let v805 : BitVec 32 := Scalar.muli arg9 c16_i32_1165
  let v807 : Index := Scalar.indexCast v805
  ![7, v807.toNat]
def k1_off12 (k1_t2 : Fin k1_t2_loop.trips) : Fin 2 → Nat :=
  let c8_i32_1168 : BitVec 32 := 8#32
  let v810 : Index := Scalar.indexCast c8_i32_1168
  let c0_i32_16 : BitVec 32 := 0#32
  let c1_i32_17 : BitVec 32 := 1#32
  let arg9 : BitVec 32 := Scf.iv c0_i32_16 c1_i32_17 k1_t2
  let c16_i32_1167 : BitVec 32 := 16#32
  let v809 : BitVec 32 := Scalar.muli arg9 c16_i32_1167
  let v811 : Index := Scalar.indexCast v809
  ![8, v811.toNat]
def k1_off13 (k1_t2 : Fin k1_t2_loop.trips) : Fin 2 → Nat :=
  let c9_i32_1170 : BitVec 32 := 9#32
  let v814 : Index := Scalar.indexCast c9_i32_1170
  let c0_i32_16 : BitVec 32 := 0#32
  let c1_i32_17 : BitVec 32 := 1#32
  let arg9 : BitVec 32 := Scf.iv c0_i32_16 c1_i32_17 k1_t2
  let c16_i32_1169 : BitVec 32 := 16#32
  let v813 : BitVec 32 := Scalar.muli arg9 c16_i32_1169
  let v815 : Index := Scalar.indexCast v813
  ![9, v815.toNat]
def k1_off14 (k1_t2 : Fin k1_t2_loop.trips) : Fin 2 → Nat :=
  let c10_i32_1172 : BitVec 32 := 10#32
  let v818 : Index := Scalar.indexCast c10_i32_1172
  let c0_i32_16 : BitVec 32 := 0#32
  let c1_i32_17 : BitVec 32 := 1#32
  let arg9 : BitVec 32 := Scf.iv c0_i32_16 c1_i32_17 k1_t2
  let c16_i32_1171 : BitVec 32 := 16#32
  let v817 : BitVec 32 := Scalar.muli arg9 c16_i32_1171
  let v819 : Index := Scalar.indexCast v817
  ![10, v819.toNat]
def k1_off15 (k1_t2 : Fin k1_t2_loop.trips) : Fin 2 → Nat :=
  let c11_i32_1174 : BitVec 32 := 11#32
  let v822 : Index := Scalar.indexCast c11_i32_1174
  let c0_i32_16 : BitVec 32 := 0#32
  let c1_i32_17 : BitVec 32 := 1#32
  let arg9 : BitVec 32 := Scf.iv c0_i32_16 c1_i32_17 k1_t2
  let c16_i32_1173 : BitVec 32 := 16#32
  let v821 : BitVec 32 := Scalar.muli arg9 c16_i32_1173
  let v823 : Index := Scalar.indexCast v821
  ![11, v823.toNat]
def k1_off16 (k1_t2 : Fin k1_t2_loop.trips) : Fin 2 → Nat :=
  let c12_i32_1176 : BitVec 32 := 12#32
  let v826 : Index := Scalar.indexCast c12_i32_1176
  let c0_i32_16 : BitVec 32 := 0#32
  let c1_i32_17 : BitVec 32 := 1#32
  let arg9 : BitVec 32 := Scf.iv c0_i32_16 c1_i32_17 k1_t2
  let c16_i32_1175 : BitVec 32 := 16#32
  let v825 : BitVec 32 := Scalar.muli arg9 c16_i32_1175
  let v827 : Index := Scalar.indexCast v825
  ![12, v827.toNat]
def k1_off17 (k1_t2 : Fin k1_t2_loop.trips) : Fin 2 → Nat :=
  let c13_i32_1178 : BitVec 32 := 13#32
  let v830 : Index := Scalar.indexCast c13_i32_1178
  let c0_i32_16 : BitVec 32 := 0#32
  let c1_i32_17 : BitVec 32 := 1#32
  let arg9 : BitVec 32 := Scf.iv c0_i32_16 c1_i32_17 k1_t2
  let c16_i32_1177 : BitVec 32 := 16#32
  let v829 : BitVec 32 := Scalar.muli arg9 c16_i32_1177
  let v831 : Index := Scalar.indexCast v829
  ![13, v831.toNat]
def k1_off18 (k1_t2 : Fin k1_t2_loop.trips) : Fin 2 → Nat :=
  let c14_i32_1180 : BitVec 32 := 14#32
  let v834 : Index := Scalar.indexCast c14_i32_1180
  let c0_i32_16 : BitVec 32 := 0#32
  let c1_i32_17 : BitVec 32 := 1#32
  let arg9 : BitVec 32 := Scf.iv c0_i32_16 c1_i32_17 k1_t2
  let c16_i32_1179 : BitVec 32 := 16#32
  let v833 : BitVec 32 := Scalar.muli arg9 c16_i32_1179
  let v835 : Index := Scalar.indexCast v833
  ![14, v835.toNat]
def k1_off19 (k1_t2 : Fin k1_t2_loop.trips) : Fin 2 → Nat :=
  let c15_i32_1182 : BitVec 32 := 15#32
  let v838 : Index := Scalar.indexCast c15_i32_1182
  let c0_i32_16 : BitVec 32 := 0#32
  let c1_i32_17 : BitVec 32 := 1#32
  let arg9 : BitVec 32 := Scf.iv c0_i32_16 c1_i32_17 k1_t2
  let c16_i32_1181 : BitVec 32 := 16#32
  let v837 : BitVec 32 := Scalar.muli arg9 c16_i32_1181
  let v839 : Index := Scalar.indexCast v837
  ![15, v839.toNat]

def k1_chk1 (v780 : IVec S16 32) : Prop :=
  (∀ a x, ((![v780] : Fin 1 → IVec S16 32) a x).toNat < S88320.size a)
theorem k1_idx1_inb : ∀ (v780 : IVec S16 32) (k1_hw1 : k1_chk1 v780), ∀ a x, ((![v780] : Fin 1 → IVec S16 32) a x).toNat < S88320.size a := fun v780 k1_hw1 => k1_hw1

def k1_chk2 (v784 : IVec S16 32) : Prop :=
  (∀ a x, ((![v784] : Fin 1 → IVec S16 32) a x).toNat < S88320.size a)
theorem k1_idx2_inb : ∀ (v784 : IVec S16 32) (k1_hw2 : k1_chk2 v784), ∀ a x, ((![v784] : Fin 1 → IVec S16 32) a x).toNat < S88320.size a := fun v784 k1_hw2 => k1_hw2

def k1_chk3 (v788 : IVec S16 32) : Prop :=
  (∀ a x, ((![v788] : Fin 1 → IVec S16 32) a x).toNat < S88320.size a)
theorem k1_idx3_inb : ∀ (v788 : IVec S16 32) (k1_hw3 : k1_chk3 v788), ∀ a x, ((![v788] : Fin 1 → IVec S16 32) a x).toNat < S88320.size a := fun v788 k1_hw3 => k1_hw3

def k1_chk4 (v792 : IVec S16 32) : Prop :=
  (∀ a x, ((![v792] : Fin 1 → IVec S16 32) a x).toNat < S88320.size a)
theorem k1_idx4_inb : ∀ (v792 : IVec S16 32) (k1_hw4 : k1_chk4 v792), ∀ a x, ((![v792] : Fin 1 → IVec S16 32) a x).toNat < S88320.size a := fun v792 k1_hw4 => k1_hw4

def k1_chk5 (v796 : IVec S16 32) : Prop :=
  (∀ a x, ((![v796] : Fin 1 → IVec S16 32) a x).toNat < S88320.size a)
theorem k1_idx5_inb : ∀ (v796 : IVec S16 32) (k1_hw5 : k1_chk5 v796), ∀ a x, ((![v796] : Fin 1 → IVec S16 32) a x).toNat < S88320.size a := fun v796 k1_hw5 => k1_hw5

def k1_chk6 (v800 : IVec S16 32) : Prop :=
  (∀ a x, ((![v800] : Fin 1 → IVec S16 32) a x).toNat < S88320.size a)
theorem k1_idx6_inb : ∀ (v800 : IVec S16 32) (k1_hw6 : k1_chk6 v800), ∀ a x, ((![v800] : Fin 1 → IVec S16 32) a x).toNat < S88320.size a := fun v800 k1_hw6 => k1_hw6

def k1_chk7 (v804 : IVec S16 32) : Prop :=
  (∀ a x, ((![v804] : Fin 1 → IVec S16 32) a x).toNat < S88320.size a)
theorem k1_idx7_inb : ∀ (v804 : IVec S16 32) (k1_hw7 : k1_chk7 v804), ∀ a x, ((![v804] : Fin 1 → IVec S16 32) a x).toNat < S88320.size a := fun v804 k1_hw7 => k1_hw7

def k1_chk8 (v808 : IVec S16 32) : Prop :=
  (∀ a x, ((![v808] : Fin 1 → IVec S16 32) a x).toNat < S88320.size a)
theorem k1_idx8_inb : ∀ (v808 : IVec S16 32) (k1_hw8 : k1_chk8 v808), ∀ a x, ((![v808] : Fin 1 → IVec S16 32) a x).toNat < S88320.size a := fun v808 k1_hw8 => k1_hw8

def k1_chk9 (v812 : IVec S16 32) : Prop :=
  (∀ a x, ((![v812] : Fin 1 → IVec S16 32) a x).toNat < S88320.size a)
theorem k1_idx9_inb : ∀ (v812 : IVec S16 32) (k1_hw9 : k1_chk9 v812), ∀ a x, ((![v812] : Fin 1 → IVec S16 32) a x).toNat < S88320.size a := fun v812 k1_hw9 => k1_hw9

def k1_chk10 (v816 : IVec S16 32) : Prop :=
  (∀ a x, ((![v816] : Fin 1 → IVec S16 32) a x).toNat < S88320.size a)
theorem k1_idx10_inb : ∀ (v816 : IVec S16 32) (k1_hw10 : k1_chk10 v816), ∀ a x, ((![v816] : Fin 1 → IVec S16 32) a x).toNat < S88320.size a := fun v816 k1_hw10 => k1_hw10

def k1_chk11 (v820 : IVec S16 32) : Prop :=
  (∀ a x, ((![v820] : Fin 1 → IVec S16 32) a x).toNat < S88320.size a)
theorem k1_idx11_inb : ∀ (v820 : IVec S16 32) (k1_hw11 : k1_chk11 v820), ∀ a x, ((![v820] : Fin 1 → IVec S16 32) a x).toNat < S88320.size a := fun v820 k1_hw11 => k1_hw11

def k1_chk12 (v824 : IVec S16 32) : Prop :=
  (∀ a x, ((![v824] : Fin 1 → IVec S16 32) a x).toNat < S88320.size a)
theorem k1_idx12_inb : ∀ (v824 : IVec S16 32) (k1_hw12 : k1_chk12 v824), ∀ a x, ((![v824] : Fin 1 → IVec S16 32) a x).toNat < S88320.size a := fun v824 k1_hw12 => k1_hw12

def k1_chk13 (v828 : IVec S16 32) : Prop :=
  (∀ a x, ((![v828] : Fin 1 → IVec S16 32) a x).toNat < S88320.size a)
theorem k1_idx13_inb : ∀ (v828 : IVec S16 32) (k1_hw13 : k1_chk13 v828), ∀ a x, ((![v828] : Fin 1 → IVec S16 32) a x).toNat < S88320.size a := fun v828 k1_hw13 => k1_hw13

def k1_chk14 (v832 : IVec S16 32) : Prop :=
  (∀ a x, ((![v832] : Fin 1 → IVec S16 32) a x).toNat < S88320.size a)
theorem k1_idx14_inb : ∀ (v832 : IVec S16 32) (k1_hw14 : k1_chk14 v832), ∀ a x, ((![v832] : Fin 1 → IVec S16 32) a x).toNat < S88320.size a := fun v832 k1_hw14 => k1_hw14

def k1_chk15 (v836 : IVec S16 32) : Prop :=
  (∀ a x, ((![v836] : Fin 1 → IVec S16 32) a x).toNat < S88320.size a)
theorem k1_idx15_inb : ∀ (v836 : IVec S16 32) (k1_hw15 : k1_chk15 v836), ∀ a x, ((![v836] : Fin 1 → IVec S16 32) a x).toNat < S88320.size a := fun v836 k1_hw15 => k1_hw15

def k1_chk16 (v840 : IVec S16 32) : Prop :=
  (∀ a x, ((![v840] : Fin 1 → IVec S16 32) a x).toNat < S88320.size a)
theorem k1_idx16_inb : ∀ (v840 : IVec S16 32) (k1_hw16 : k1_chk16 v840), ∀ a x, ((![v840] : Fin 1 → IVec S16 32) a x).toNat < S88320.size a := fun v840 k1_hw16 => k1_hw16
def k1_off20 (i : grid1.Coords) : Fin 4 → Nat :=
  let c0_i32_19 : BitVec 32 := 0#32
  let c2_i32_20 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_21 : BitVec 32 := 0#32
  ![0, 2, v2.toNat, 0]
@[reducible] def k1_t3_loop : Scf.Loop 32 :=
  let c0_i32_28 : BitVec 32 := 0#32
  let c32_i32_29 : BitVec 32 := 32#32
  let v27 : BitVec 32 := Scalar.addi c0_i32_28 c32_i32_29
  let c1_i32_30 : BitVec 32 := 1#32
  ⟨c0_i32_28, v27, c1_i32_30⟩
def k1_off21 (k1_t3 : Fin k1_t3_loop.trips) : Fin 2 → Nat :=
  let c0_i32_1152 : BitVec 32 := 0#32
  let v778 : Index := Scalar.indexCast c0_i32_1152
  let c0_i32_28 : BitVec 32 := 0#32
  let c1_i32_30 : BitVec 32 := 1#32
  let arg9 : BitVec 32 := Scf.iv c0_i32_28 c1_i32_30 k1_t3
  let c16_i32_1151 : BitVec 32 := 16#32
  let v777 : BitVec 32 := Scalar.muli arg9 c16_i32_1151
  let v779 : Index := Scalar.indexCast v777
  ![0, v779.toNat]
def k1_off22 (k1_t3 : Fin k1_t3_loop.trips) : Fin 2 → Nat :=
  let c1_i32_1154 : BitVec 32 := 1#32
  let v782 : Index := Scalar.indexCast c1_i32_1154
  let c0_i32_28 : BitVec 32 := 0#32
  let c1_i32_30 : BitVec 32 := 1#32
  let arg9 : BitVec 32 := Scf.iv c0_i32_28 c1_i32_30 k1_t3
  let c16_i32_1153 : BitVec 32 := 16#32
  let v781 : BitVec 32 := Scalar.muli arg9 c16_i32_1153
  let v783 : Index := Scalar.indexCast v781
  ![1, v783.toNat]
def k1_off23 (k1_t3 : Fin k1_t3_loop.trips) : Fin 2 → Nat :=
  let c2_i32_1156 : BitVec 32 := 2#32
  let v786 : Index := Scalar.indexCast c2_i32_1156
  let c0_i32_28 : BitVec 32 := 0#32
  let c1_i32_30 : BitVec 32 := 1#32
  let arg9 : BitVec 32 := Scf.iv c0_i32_28 c1_i32_30 k1_t3
  let c16_i32_1155 : BitVec 32 := 16#32
  let v785 : BitVec 32 := Scalar.muli arg9 c16_i32_1155
  let v787 : Index := Scalar.indexCast v785
  ![2, v787.toNat]
def k1_off24 (k1_t3 : Fin k1_t3_loop.trips) : Fin 2 → Nat :=
  let c3_i32_1158 : BitVec 32 := 3#32
  let v790 : Index := Scalar.indexCast c3_i32_1158
  let c0_i32_28 : BitVec 32 := 0#32
  let c1_i32_30 : BitVec 32 := 1#32
  let arg9 : BitVec 32 := Scf.iv c0_i32_28 c1_i32_30 k1_t3
  let c16_i32_1157 : BitVec 32 := 16#32
  let v789 : BitVec 32 := Scalar.muli arg9 c16_i32_1157
  let v791 : Index := Scalar.indexCast v789
  ![3, v791.toNat]
def k1_off25 (k1_t3 : Fin k1_t3_loop.trips) : Fin 2 → Nat :=
  let c4_i32_1160 : BitVec 32 := 4#32
  let v794 : Index := Scalar.indexCast c4_i32_1160
  let c0_i32_28 : BitVec 32 := 0#32
  let c1_i32_30 : BitVec 32 := 1#32
  let arg9 : BitVec 32 := Scf.iv c0_i32_28 c1_i32_30 k1_t3
  let c16_i32_1159 : BitVec 32 := 16#32
  let v793 : BitVec 32 := Scalar.muli arg9 c16_i32_1159
  let v795 : Index := Scalar.indexCast v793
  ![4, v795.toNat]
def k1_off26 (k1_t3 : Fin k1_t3_loop.trips) : Fin 2 → Nat :=
  let c5_i32_1162 : BitVec 32 := 5#32
  let v798 : Index := Scalar.indexCast c5_i32_1162
  let c0_i32_28 : BitVec 32 := 0#32
  let c1_i32_30 : BitVec 32 := 1#32
  let arg9 : BitVec 32 := Scf.iv c0_i32_28 c1_i32_30 k1_t3
  let c16_i32_1161 : BitVec 32 := 16#32
  let v797 : BitVec 32 := Scalar.muli arg9 c16_i32_1161
  let v799 : Index := Scalar.indexCast v797
  ![5, v799.toNat]
def k1_off27 (k1_t3 : Fin k1_t3_loop.trips) : Fin 2 → Nat :=
  let c6_i32_1164 : BitVec 32 := 6#32
  let v802 : Index := Scalar.indexCast c6_i32_1164
  let c0_i32_28 : BitVec 32 := 0#32
  let c1_i32_30 : BitVec 32 := 1#32
  let arg9 : BitVec 32 := Scf.iv c0_i32_28 c1_i32_30 k1_t3
  let c16_i32_1163 : BitVec 32 := 16#32
  let v801 : BitVec 32 := Scalar.muli arg9 c16_i32_1163
  let v803 : Index := Scalar.indexCast v801
  ![6, v803.toNat]
def k1_off28 (k1_t3 : Fin k1_t3_loop.trips) : Fin 2 → Nat :=
  let c7_i32_1166 : BitVec 32 := 7#32
  let v806 : Index := Scalar.indexCast c7_i32_1166
  let c0_i32_28 : BitVec 32 := 0#32
  let c1_i32_30 : BitVec 32 := 1#32
  let arg9 : BitVec 32 := Scf.iv c0_i32_28 c1_i32_30 k1_t3
  let c16_i32_1165 : BitVec 32 := 16#32
  let v805 : BitVec 32 := Scalar.muli arg9 c16_i32_1165
  let v807 : Index := Scalar.indexCast v805
  ![7, v807.toNat]
def k1_off29 (k1_t3 : Fin k1_t3_loop.trips) : Fin 2 → Nat :=
  let c8_i32_1168 : BitVec 32 := 8#32
  let v810 : Index := Scalar.indexCast c8_i32_1168
  let c0_i32_28 : BitVec 32 := 0#32
  let c1_i32_30 : BitVec 32 := 1#32
  let arg9 : BitVec 32 := Scf.iv c0_i32_28 c1_i32_30 k1_t3
  let c16_i32_1167 : BitVec 32 := 16#32
  let v809 : BitVec 32 := Scalar.muli arg9 c16_i32_1167
  let v811 : Index := Scalar.indexCast v809
  ![8, v811.toNat]
def k1_off30 (k1_t3 : Fin k1_t3_loop.trips) : Fin 2 → Nat :=
  let c9_i32_1170 : BitVec 32 := 9#32
  let v814 : Index := Scalar.indexCast c9_i32_1170
  let c0_i32_28 : BitVec 32 := 0#32
  let c1_i32_30 : BitVec 32 := 1#32
  let arg9 : BitVec 32 := Scf.iv c0_i32_28 c1_i32_30 k1_t3
  let c16_i32_1169 : BitVec 32 := 16#32
  let v813 : BitVec 32 := Scalar.muli arg9 c16_i32_1169
  let v815 : Index := Scalar.indexCast v813
  ![9, v815.toNat]
def k1_off31 (k1_t3 : Fin k1_t3_loop.trips) : Fin 2 → Nat :=
  let c10_i32_1172 : BitVec 32 := 10#32
  let v818 : Index := Scalar.indexCast c10_i32_1172
  let c0_i32_28 : BitVec 32 := 0#32
  let c1_i32_30 : BitVec 32 := 1#32
  let arg9 : BitVec 32 := Scf.iv c0_i32_28 c1_i32_30 k1_t3
  let c16_i32_1171 : BitVec 32 := 16#32
  let v817 : BitVec 32 := Scalar.muli arg9 c16_i32_1171
  let v819 : Index := Scalar.indexCast v817
  ![10, v819.toNat]
def k1_off32 (k1_t3 : Fin k1_t3_loop.trips) : Fin 2 → Nat :=
  let c11_i32_1174 : BitVec 32 := 11#32
  let v822 : Index := Scalar.indexCast c11_i32_1174
  let c0_i32_28 : BitVec 32 := 0#32
  let c1_i32_30 : BitVec 32 := 1#32
  let arg9 : BitVec 32 := Scf.iv c0_i32_28 c1_i32_30 k1_t3
  let c16_i32_1173 : BitVec 32 := 16#32
  let v821 : BitVec 32 := Scalar.muli arg9 c16_i32_1173
  let v823 : Index := Scalar.indexCast v821
  ![11, v823.toNat]
def k1_off33 (k1_t3 : Fin k1_t3_loop.trips) : Fin 2 → Nat :=
  let c12_i32_1176 : BitVec 32 := 12#32
  let v826 : Index := Scalar.indexCast c12_i32_1176
  let c0_i32_28 : BitVec 32 := 0#32
  let c1_i32_30 : BitVec 32 := 1#32
  let arg9 : BitVec 32 := Scf.iv c0_i32_28 c1_i32_30 k1_t3
  let c16_i32_1175 : BitVec 32 := 16#32
  let v825 : BitVec 32 := Scalar.muli arg9 c16_i32_1175
  let v827 : Index := Scalar.indexCast v825
  ![12, v827.toNat]
def k1_off34 (k1_t3 : Fin k1_t3_loop.trips) : Fin 2 → Nat :=
  let c13_i32_1178 : BitVec 32 := 13#32
  let v830 : Index := Scalar.indexCast c13_i32_1178
  let c0_i32_28 : BitVec 32 := 0#32
  let c1_i32_30 : BitVec 32 := 1#32
  let arg9 : BitVec 32 := Scf.iv c0_i32_28 c1_i32_30 k1_t3
  let c16_i32_1177 : BitVec 32 := 16#32
  let v829 : BitVec 32 := Scalar.muli arg9 c16_i32_1177
  let v831 : Index := Scalar.indexCast v829
  ![13, v831.toNat]
def k1_off35 (k1_t3 : Fin k1_t3_loop.trips) : Fin 2 → Nat :=
  let c14_i32_1180 : BitVec 32 := 14#32
  let v834 : Index := Scalar.indexCast c14_i32_1180
  let c0_i32_28 : BitVec 32 := 0#32
  let c1_i32_30 : BitVec 32 := 1#32
  let arg9 : BitVec 32 := Scf.iv c0_i32_28 c1_i32_30 k1_t3
  let c16_i32_1179 : BitVec 32 := 16#32
  let v833 : BitVec 32 := Scalar.muli arg9 c16_i32_1179
  let v835 : Index := Scalar.indexCast v833
  ![14, v835.toNat]
def k1_off36 (k1_t3 : Fin k1_t3_loop.trips) : Fin 2 → Nat :=
  let c15_i32_1182 : BitVec 32 := 15#32
  let v838 : Index := Scalar.indexCast c15_i32_1182
  let c0_i32_28 : BitVec 32 := 0#32
  let c1_i32_30 : BitVec 32 := 1#32
  let arg9 : BitVec 32 := Scf.iv c0_i32_28 c1_i32_30 k1_t3
  let c16_i32_1181 : BitVec 32 := 16#32
  let v837 : BitVec 32 := Scalar.muli arg9 c16_i32_1181
  let v839 : Index := Scalar.indexCast v837
  ![15, v839.toNat]

def k1_chk17 (v780 : IVec S16 32) : Prop :=
  (∀ a x, ((![v780] : Fin 1 → IVec S16 32) a x).toNat < S88320.size a)
theorem k1_idx17_inb : ∀ (v780 : IVec S16 32) (k1_hw17 : k1_chk17 v780), ∀ a x, ((![v780] : Fin 1 → IVec S16 32) a x).toNat < S88320.size a := fun v780 k1_hw17 => k1_hw17

def k1_chk18 (v784 : IVec S16 32) : Prop :=
  (∀ a x, ((![v784] : Fin 1 → IVec S16 32) a x).toNat < S88320.size a)
theorem k1_idx18_inb : ∀ (v784 : IVec S16 32) (k1_hw18 : k1_chk18 v784), ∀ a x, ((![v784] : Fin 1 → IVec S16 32) a x).toNat < S88320.size a := fun v784 k1_hw18 => k1_hw18

def k1_chk19 (v788 : IVec S16 32) : Prop :=
  (∀ a x, ((![v788] : Fin 1 → IVec S16 32) a x).toNat < S88320.size a)
theorem k1_idx19_inb : ∀ (v788 : IVec S16 32) (k1_hw19 : k1_chk19 v788), ∀ a x, ((![v788] : Fin 1 → IVec S16 32) a x).toNat < S88320.size a := fun v788 k1_hw19 => k1_hw19

def k1_chk20 (v792 : IVec S16 32) : Prop :=
  (∀ a x, ((![v792] : Fin 1 → IVec S16 32) a x).toNat < S88320.size a)
theorem k1_idx20_inb : ∀ (v792 : IVec S16 32) (k1_hw20 : k1_chk20 v792), ∀ a x, ((![v792] : Fin 1 → IVec S16 32) a x).toNat < S88320.size a := fun v792 k1_hw20 => k1_hw20

def k1_chk21 (v796 : IVec S16 32) : Prop :=
  (∀ a x, ((![v796] : Fin 1 → IVec S16 32) a x).toNat < S88320.size a)
theorem k1_idx21_inb : ∀ (v796 : IVec S16 32) (k1_hw21 : k1_chk21 v796), ∀ a x, ((![v796] : Fin 1 → IVec S16 32) a x).toNat < S88320.size a := fun v796 k1_hw21 => k1_hw21

def k1_chk22 (v800 : IVec S16 32) : Prop :=
  (∀ a x, ((![v800] : Fin 1 → IVec S16 32) a x).toNat < S88320.size a)
theorem k1_idx22_inb : ∀ (v800 : IVec S16 32) (k1_hw22 : k1_chk22 v800), ∀ a x, ((![v800] : Fin 1 → IVec S16 32) a x).toNat < S88320.size a := fun v800 k1_hw22 => k1_hw22

def k1_chk23 (v804 : IVec S16 32) : Prop :=
  (∀ a x, ((![v804] : Fin 1 → IVec S16 32) a x).toNat < S88320.size a)
theorem k1_idx23_inb : ∀ (v804 : IVec S16 32) (k1_hw23 : k1_chk23 v804), ∀ a x, ((![v804] : Fin 1 → IVec S16 32) a x).toNat < S88320.size a := fun v804 k1_hw23 => k1_hw23

def k1_chk24 (v808 : IVec S16 32) : Prop :=
  (∀ a x, ((![v808] : Fin 1 → IVec S16 32) a x).toNat < S88320.size a)
theorem k1_idx24_inb : ∀ (v808 : IVec S16 32) (k1_hw24 : k1_chk24 v808), ∀ a x, ((![v808] : Fin 1 → IVec S16 32) a x).toNat < S88320.size a := fun v808 k1_hw24 => k1_hw24

def k1_chk25 (v812 : IVec S16 32) : Prop :=
  (∀ a x, ((![v812] : Fin 1 → IVec S16 32) a x).toNat < S88320.size a)
theorem k1_idx25_inb : ∀ (v812 : IVec S16 32) (k1_hw25 : k1_chk25 v812), ∀ a x, ((![v812] : Fin 1 → IVec S16 32) a x).toNat < S88320.size a := fun v812 k1_hw25 => k1_hw25

def k1_chk26 (v816 : IVec S16 32) : Prop :=
  (∀ a x, ((![v816] : Fin 1 → IVec S16 32) a x).toNat < S88320.size a)
theorem k1_idx26_inb : ∀ (v816 : IVec S16 32) (k1_hw26 : k1_chk26 v816), ∀ a x, ((![v816] : Fin 1 → IVec S16 32) a x).toNat < S88320.size a := fun v816 k1_hw26 => k1_hw26

def k1_chk27 (v820 : IVec S16 32) : Prop :=
  (∀ a x, ((![v820] : Fin 1 → IVec S16 32) a x).toNat < S88320.size a)
theorem k1_idx27_inb : ∀ (v820 : IVec S16 32) (k1_hw27 : k1_chk27 v820), ∀ a x, ((![v820] : Fin 1 → IVec S16 32) a x).toNat < S88320.size a := fun v820 k1_hw27 => k1_hw27

def k1_chk28 (v824 : IVec S16 32) : Prop :=
  (∀ a x, ((![v824] : Fin 1 → IVec S16 32) a x).toNat < S88320.size a)
theorem k1_idx28_inb : ∀ (v824 : IVec S16 32) (k1_hw28 : k1_chk28 v824), ∀ a x, ((![v824] : Fin 1 → IVec S16 32) a x).toNat < S88320.size a := fun v824 k1_hw28 => k1_hw28

def k1_chk29 (v828 : IVec S16 32) : Prop :=
  (∀ a x, ((![v828] : Fin 1 → IVec S16 32) a x).toNat < S88320.size a)
theorem k1_idx29_inb : ∀ (v828 : IVec S16 32) (k1_hw29 : k1_chk29 v828), ∀ a x, ((![v828] : Fin 1 → IVec S16 32) a x).toNat < S88320.size a := fun v828 k1_hw29 => k1_hw29

def k1_chk30 (v832 : IVec S16 32) : Prop :=
  (∀ a x, ((![v832] : Fin 1 → IVec S16 32) a x).toNat < S88320.size a)
theorem k1_idx30_inb : ∀ (v832 : IVec S16 32) (k1_hw30 : k1_chk30 v832), ∀ a x, ((![v832] : Fin 1 → IVec S16 32) a x).toNat < S88320.size a := fun v832 k1_hw30 => k1_hw30

def k1_chk31 (v836 : IVec S16 32) : Prop :=
  (∀ a x, ((![v836] : Fin 1 → IVec S16 32) a x).toNat < S88320.size a)
theorem k1_idx31_inb : ∀ (v836 : IVec S16 32) (k1_hw31 : k1_chk31 v836), ∀ a x, ((![v836] : Fin 1 → IVec S16 32) a x).toNat < S88320.size a := fun v836 k1_hw31 => k1_hw31

def k1_chk32 (v840 : IVec S16 32) : Prop :=
  (∀ a x, ((![v840] : Fin 1 → IVec S16 32) a x).toNat < S88320.size a)
theorem k1_idx32_inb : ∀ (v840 : IVec S16 32) (k1_hw32 : k1_chk32 v840), ∀ a x, ((![v840] : Fin 1 → IVec S16 32) a x).toNat < S88320.size a := fun v840 k1_hw32 => k1_hw32
def k1_off37 (i : grid1.Coords) : Fin 4 → Nat :=
  let c0_i32_32 : BitVec 32 := 0#32
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_33 : BitVec 32 := 0#32
  ![0, 3, v2.toNat, 0]
@[reducible] def k1_t4_loop : Scf.Loop 32 :=
  let c0_i32_40 : BitVec 32 := 0#32
  let c32_i32_41 : BitVec 32 := 32#32
  let v36 : BitVec 32 := Scalar.addi c0_i32_40 c32_i32_41
  let c1_i32_42 : BitVec 32 := 1#32
  ⟨c0_i32_40, v36, c1_i32_42⟩
def k1_off38 (k1_t4 : Fin k1_t4_loop.trips) : Fin 2 → Nat :=
  let c0_i32_1152 : BitVec 32 := 0#32
  let v778 : Index := Scalar.indexCast c0_i32_1152
  let c0_i32_40 : BitVec 32 := 0#32
  let c1_i32_42 : BitVec 32 := 1#32
  let arg9 : BitVec 32 := Scf.iv c0_i32_40 c1_i32_42 k1_t4
  let c16_i32_1151 : BitVec 32 := 16#32
  let v777 : BitVec 32 := Scalar.muli arg9 c16_i32_1151
  let v779 : Index := Scalar.indexCast v777
  ![0, v779.toNat]
def k1_off39 (k1_t4 : Fin k1_t4_loop.trips) : Fin 2 → Nat :=
  let c1_i32_1154 : BitVec 32 := 1#32
  let v782 : Index := Scalar.indexCast c1_i32_1154
  let c0_i32_40 : BitVec 32 := 0#32
  let c1_i32_42 : BitVec 32 := 1#32
  let arg9 : BitVec 32 := Scf.iv c0_i32_40 c1_i32_42 k1_t4
  let c16_i32_1153 : BitVec 32 := 16#32
  let v781 : BitVec 32 := Scalar.muli arg9 c16_i32_1153
  let v783 : Index := Scalar.indexCast v781
  ![1, v783.toNat]
def k1_off40 (k1_t4 : Fin k1_t4_loop.trips) : Fin 2 → Nat :=
  let c2_i32_1156 : BitVec 32 := 2#32
  let v786 : Index := Scalar.indexCast c2_i32_1156
  let c0_i32_40 : BitVec 32 := 0#32
  let c1_i32_42 : BitVec 32 := 1#32
  let arg9 : BitVec 32 := Scf.iv c0_i32_40 c1_i32_42 k1_t4
  let c16_i32_1155 : BitVec 32 := 16#32
  let v785 : BitVec 32 := Scalar.muli arg9 c16_i32_1155
  let v787 : Index := Scalar.indexCast v785
  ![2, v787.toNat]
def k1_off41 (k1_t4 : Fin k1_t4_loop.trips) : Fin 2 → Nat :=
  let c3_i32_1158 : BitVec 32 := 3#32
  let v790 : Index := Scalar.indexCast c3_i32_1158
  let c0_i32_40 : BitVec 32 := 0#32
  let c1_i32_42 : BitVec 32 := 1#32
  let arg9 : BitVec 32 := Scf.iv c0_i32_40 c1_i32_42 k1_t4
  let c16_i32_1157 : BitVec 32 := 16#32
  let v789 : BitVec 32 := Scalar.muli arg9 c16_i32_1157
  let v791 : Index := Scalar.indexCast v789
  ![3, v791.toNat]
def k1_off42 (k1_t4 : Fin k1_t4_loop.trips) : Fin 2 → Nat :=
  let c4_i32_1160 : BitVec 32 := 4#32
  let v794 : Index := Scalar.indexCast c4_i32_1160
  let c0_i32_40 : BitVec 32 := 0#32
  let c1_i32_42 : BitVec 32 := 1#32
  let arg9 : BitVec 32 := Scf.iv c0_i32_40 c1_i32_42 k1_t4
  let c16_i32_1159 : BitVec 32 := 16#32
  let v793 : BitVec 32 := Scalar.muli arg9 c16_i32_1159
  let v795 : Index := Scalar.indexCast v793
  ![4, v795.toNat]
def k1_off43 (k1_t4 : Fin k1_t4_loop.trips) : Fin 2 → Nat :=
  let c5_i32_1162 : BitVec 32 := 5#32
  let v798 : Index := Scalar.indexCast c5_i32_1162
  let c0_i32_40 : BitVec 32 := 0#32
  let c1_i32_42 : BitVec 32 := 1#32
  let arg9 : BitVec 32 := Scf.iv c0_i32_40 c1_i32_42 k1_t4
  let c16_i32_1161 : BitVec 32 := 16#32
  let v797 : BitVec 32 := Scalar.muli arg9 c16_i32_1161
  let v799 : Index := Scalar.indexCast v797
  ![5, v799.toNat]
def k1_off44 (k1_t4 : Fin k1_t4_loop.trips) : Fin 2 → Nat :=
  let c6_i32_1164 : BitVec 32 := 6#32
  let v802 : Index := Scalar.indexCast c6_i32_1164
  let c0_i32_40 : BitVec 32 := 0#32
  let c1_i32_42 : BitVec 32 := 1#32
  let arg9 : BitVec 32 := Scf.iv c0_i32_40 c1_i32_42 k1_t4
  let c16_i32_1163 : BitVec 32 := 16#32
  let v801 : BitVec 32 := Scalar.muli arg9 c16_i32_1163
  let v803 : Index := Scalar.indexCast v801
  ![6, v803.toNat]
def k1_off45 (k1_t4 : Fin k1_t4_loop.trips) : Fin 2 → Nat :=
  let c7_i32_1166 : BitVec 32 := 7#32
  let v806 : Index := Scalar.indexCast c7_i32_1166
  let c0_i32_40 : BitVec 32 := 0#32
  let c1_i32_42 : BitVec 32 := 1#32
  let arg9 : BitVec 32 := Scf.iv c0_i32_40 c1_i32_42 k1_t4
  let c16_i32_1165 : BitVec 32 := 16#32
  let v805 : BitVec 32 := Scalar.muli arg9 c16_i32_1165
  let v807 : Index := Scalar.indexCast v805
  ![7, v807.toNat]
def k1_off46 (k1_t4 : Fin k1_t4_loop.trips) : Fin 2 → Nat :=
  let c8_i32_1168 : BitVec 32 := 8#32
  let v810 : Index := Scalar.indexCast c8_i32_1168
  let c0_i32_40 : BitVec 32 := 0#32
  let c1_i32_42 : BitVec 32 := 1#32
  let arg9 : BitVec 32 := Scf.iv c0_i32_40 c1_i32_42 k1_t4
  let c16_i32_1167 : BitVec 32 := 16#32
  let v809 : BitVec 32 := Scalar.muli arg9 c16_i32_1167
  let v811 : Index := Scalar.indexCast v809
  ![8, v811.toNat]
def k1_off47 (k1_t4 : Fin k1_t4_loop.trips) : Fin 2 → Nat :=
  let c9_i32_1170 : BitVec 32 := 9#32
  let v814 : Index := Scalar.indexCast c9_i32_1170
  let c0_i32_40 : BitVec 32 := 0#32
  let c1_i32_42 : BitVec 32 := 1#32
  let arg9 : BitVec 32 := Scf.iv c0_i32_40 c1_i32_42 k1_t4
  let c16_i32_1169 : BitVec 32 := 16#32
  let v813 : BitVec 32 := Scalar.muli arg9 c16_i32_1169
  let v815 : Index := Scalar.indexCast v813
  ![9, v815.toNat]
def k1_off48 (k1_t4 : Fin k1_t4_loop.trips) : Fin 2 → Nat :=
  let c10_i32_1172 : BitVec 32 := 10#32
  let v818 : Index := Scalar.indexCast c10_i32_1172
  let c0_i32_40 : BitVec 32 := 0#32
  let c1_i32_42 : BitVec 32 := 1#32
  let arg9 : BitVec 32 := Scf.iv c0_i32_40 c1_i32_42 k1_t4
  let c16_i32_1171 : BitVec 32 := 16#32
  let v817 : BitVec 32 := Scalar.muli arg9 c16_i32_1171
  let v819 : Index := Scalar.indexCast v817
  ![10, v819.toNat]
def k1_off49 (k1_t4 : Fin k1_t4_loop.trips) : Fin 2 → Nat :=
  let c11_i32_1174 : BitVec 32 := 11#32
  let v822 : Index := Scalar.indexCast c11_i32_1174
  let c0_i32_40 : BitVec 32 := 0#32
  let c1_i32_42 : BitVec 32 := 1#32
  let arg9 : BitVec 32 := Scf.iv c0_i32_40 c1_i32_42 k1_t4
  let c16_i32_1173 : BitVec 32 := 16#32
  let v821 : BitVec 32 := Scalar.muli arg9 c16_i32_1173
  let v823 : Index := Scalar.indexCast v821
  ![11, v823.toNat]
def k1_off50 (k1_t4 : Fin k1_t4_loop.trips) : Fin 2 → Nat :=
  let c12_i32_1176 : BitVec 32 := 12#32
  let v826 : Index := Scalar.indexCast c12_i32_1176
  let c0_i32_40 : BitVec 32 := 0#32
  let c1_i32_42 : BitVec 32 := 1#32
  let arg9 : BitVec 32 := Scf.iv c0_i32_40 c1_i32_42 k1_t4
  let c16_i32_1175 : BitVec 32 := 16#32
  let v825 : BitVec 32 := Scalar.muli arg9 c16_i32_1175
  let v827 : Index := Scalar.indexCast v825
  ![12, v827.toNat]
def k1_off51 (k1_t4 : Fin k1_t4_loop.trips) : Fin 2 → Nat :=
  let c13_i32_1178 : BitVec 32 := 13#32
  let v830 : Index := Scalar.indexCast c13_i32_1178
  let c0_i32_40 : BitVec 32 := 0#32
  let c1_i32_42 : BitVec 32 := 1#32
  let arg9 : BitVec 32 := Scf.iv c0_i32_40 c1_i32_42 k1_t4
  let c16_i32_1177 : BitVec 32 := 16#32
  let v829 : BitVec 32 := Scalar.muli arg9 c16_i32_1177
  let v831 : Index := Scalar.indexCast v829
  ![13, v831.toNat]
def k1_off52 (k1_t4 : Fin k1_t4_loop.trips) : Fin 2 → Nat :=
  let c14_i32_1180 : BitVec 32 := 14#32
  let v834 : Index := Scalar.indexCast c14_i32_1180
  let c0_i32_40 : BitVec 32 := 0#32
  let c1_i32_42 : BitVec 32 := 1#32
  let arg9 : BitVec 32 := Scf.iv c0_i32_40 c1_i32_42 k1_t4
  let c16_i32_1179 : BitVec 32 := 16#32
  let v833 : BitVec 32 := Scalar.muli arg9 c16_i32_1179
  let v835 : Index := Scalar.indexCast v833
  ![14, v835.toNat]
def k1_off53 (k1_t4 : Fin k1_t4_loop.trips) : Fin 2 → Nat :=
  let c15_i32_1182 : BitVec 32 := 15#32
  let v838 : Index := Scalar.indexCast c15_i32_1182
  let c0_i32_40 : BitVec 32 := 0#32
  let c1_i32_42 : BitVec 32 := 1#32
  let arg9 : BitVec 32 := Scf.iv c0_i32_40 c1_i32_42 k1_t4
  let c16_i32_1181 : BitVec 32 := 16#32
  let v837 : BitVec 32 := Scalar.muli arg9 c16_i32_1181
  let v839 : Index := Scalar.indexCast v837
  ![15, v839.toNat]

def k1_chk33 (v780 : IVec S16 32) : Prop :=
  (∀ a x, ((![v780] : Fin 1 → IVec S16 32) a x).toNat < S88320.size a)
theorem k1_idx33_inb : ∀ (v780 : IVec S16 32) (k1_hw33 : k1_chk33 v780), ∀ a x, ((![v780] : Fin 1 → IVec S16 32) a x).toNat < S88320.size a := fun v780 k1_hw33 => k1_hw33

def k1_chk34 (v784 : IVec S16 32) : Prop :=
  (∀ a x, ((![v784] : Fin 1 → IVec S16 32) a x).toNat < S88320.size a)
theorem k1_idx34_inb : ∀ (v784 : IVec S16 32) (k1_hw34 : k1_chk34 v784), ∀ a x, ((![v784] : Fin 1 → IVec S16 32) a x).toNat < S88320.size a := fun v784 k1_hw34 => k1_hw34

def k1_chk35 (v788 : IVec S16 32) : Prop :=
  (∀ a x, ((![v788] : Fin 1 → IVec S16 32) a x).toNat < S88320.size a)
theorem k1_idx35_inb : ∀ (v788 : IVec S16 32) (k1_hw35 : k1_chk35 v788), ∀ a x, ((![v788] : Fin 1 → IVec S16 32) a x).toNat < S88320.size a := fun v788 k1_hw35 => k1_hw35

def k1_chk36 (v792 : IVec S16 32) : Prop :=
  (∀ a x, ((![v792] : Fin 1 → IVec S16 32) a x).toNat < S88320.size a)
theorem k1_idx36_inb : ∀ (v792 : IVec S16 32) (k1_hw36 : k1_chk36 v792), ∀ a x, ((![v792] : Fin 1 → IVec S16 32) a x).toNat < S88320.size a := fun v792 k1_hw36 => k1_hw36

def k1_chk37 (v796 : IVec S16 32) : Prop :=
  (∀ a x, ((![v796] : Fin 1 → IVec S16 32) a x).toNat < S88320.size a)
theorem k1_idx37_inb : ∀ (v796 : IVec S16 32) (k1_hw37 : k1_chk37 v796), ∀ a x, ((![v796] : Fin 1 → IVec S16 32) a x).toNat < S88320.size a := fun v796 k1_hw37 => k1_hw37

def k1_chk38 (v800 : IVec S16 32) : Prop :=
  (∀ a x, ((![v800] : Fin 1 → IVec S16 32) a x).toNat < S88320.size a)
theorem k1_idx38_inb : ∀ (v800 : IVec S16 32) (k1_hw38 : k1_chk38 v800), ∀ a x, ((![v800] : Fin 1 → IVec S16 32) a x).toNat < S88320.size a := fun v800 k1_hw38 => k1_hw38

def k1_chk39 (v804 : IVec S16 32) : Prop :=
  (∀ a x, ((![v804] : Fin 1 → IVec S16 32) a x).toNat < S88320.size a)
theorem k1_idx39_inb : ∀ (v804 : IVec S16 32) (k1_hw39 : k1_chk39 v804), ∀ a x, ((![v804] : Fin 1 → IVec S16 32) a x).toNat < S88320.size a := fun v804 k1_hw39 => k1_hw39

def k1_chk40 (v808 : IVec S16 32) : Prop :=
  (∀ a x, ((![v808] : Fin 1 → IVec S16 32) a x).toNat < S88320.size a)
theorem k1_idx40_inb : ∀ (v808 : IVec S16 32) (k1_hw40 : k1_chk40 v808), ∀ a x, ((![v808] : Fin 1 → IVec S16 32) a x).toNat < S88320.size a := fun v808 k1_hw40 => k1_hw40

def k1_chk41 (v812 : IVec S16 32) : Prop :=
  (∀ a x, ((![v812] : Fin 1 → IVec S16 32) a x).toNat < S88320.size a)
theorem k1_idx41_inb : ∀ (v812 : IVec S16 32) (k1_hw41 : k1_chk41 v812), ∀ a x, ((![v812] : Fin 1 → IVec S16 32) a x).toNat < S88320.size a := fun v812 k1_hw41 => k1_hw41

def k1_chk42 (v816 : IVec S16 32) : Prop :=
  (∀ a x, ((![v816] : Fin 1 → IVec S16 32) a x).toNat < S88320.size a)
theorem k1_idx42_inb : ∀ (v816 : IVec S16 32) (k1_hw42 : k1_chk42 v816), ∀ a x, ((![v816] : Fin 1 → IVec S16 32) a x).toNat < S88320.size a := fun v816 k1_hw42 => k1_hw42

def k1_chk43 (v820 : IVec S16 32) : Prop :=
  (∀ a x, ((![v820] : Fin 1 → IVec S16 32) a x).toNat < S88320.size a)
theorem k1_idx43_inb : ∀ (v820 : IVec S16 32) (k1_hw43 : k1_chk43 v820), ∀ a x, ((![v820] : Fin 1 → IVec S16 32) a x).toNat < S88320.size a := fun v820 k1_hw43 => k1_hw43

def k1_chk44 (v824 : IVec S16 32) : Prop :=
  (∀ a x, ((![v824] : Fin 1 → IVec S16 32) a x).toNat < S88320.size a)
theorem k1_idx44_inb : ∀ (v824 : IVec S16 32) (k1_hw44 : k1_chk44 v824), ∀ a x, ((![v824] : Fin 1 → IVec S16 32) a x).toNat < S88320.size a := fun v824 k1_hw44 => k1_hw44

def k1_chk45 (v828 : IVec S16 32) : Prop :=
  (∀ a x, ((![v828] : Fin 1 → IVec S16 32) a x).toNat < S88320.size a)
theorem k1_idx45_inb : ∀ (v828 : IVec S16 32) (k1_hw45 : k1_chk45 v828), ∀ a x, ((![v828] : Fin 1 → IVec S16 32) a x).toNat < S88320.size a := fun v828 k1_hw45 => k1_hw45

def k1_chk46 (v832 : IVec S16 32) : Prop :=
  (∀ a x, ((![v832] : Fin 1 → IVec S16 32) a x).toNat < S88320.size a)
theorem k1_idx46_inb : ∀ (v832 : IVec S16 32) (k1_hw46 : k1_chk46 v832), ∀ a x, ((![v832] : Fin 1 → IVec S16 32) a x).toNat < S88320.size a := fun v832 k1_hw46 => k1_hw46

def k1_chk47 (v836 : IVec S16 32) : Prop :=
  (∀ a x, ((![v836] : Fin 1 → IVec S16 32) a x).toNat < S88320.size a)
theorem k1_idx47_inb : ∀ (v836 : IVec S16 32) (k1_hw47 : k1_chk47 v836), ∀ a x, ((![v836] : Fin 1 → IVec S16 32) a x).toNat < S88320.size a := fun v836 k1_hw47 => k1_hw47

def k1_chk48 (v840 : IVec S16 32) : Prop :=
  (∀ a x, ((![v840] : Fin 1 → IVec S16 32) a x).toNat < S88320.size a)
theorem k1_idx48_inb : ∀ (v840 : IVec S16 32) (k1_hw48 : k1_chk48 v840), ∀ a x, ((![v840] : Fin 1 → IVec S16 32) a x).toNat < S88320.size a := fun v840 k1_hw48 => k1_hw48
def k1_off54 (i : grid1.Coords) : Fin 4 → Nat :=
  let c0_i32_44 : BitVec 32 := 0#32
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  ![0, 4, v2.toNat, 0]
@[reducible] def k1_t5_loop : Scf.Loop 32 :=
  let c0_i32_52 : BitVec 32 := 0#32
  let c32_i32_53 : BitVec 32 := 32#32
  let v45 : BitVec 32 := Scalar.addi c0_i32_52 c32_i32_53
  let c1_i32_54 : BitVec 32 := 1#32
  ⟨c0_i32_52, v45, c1_i32_54⟩
def k1_off55 (k1_t5 : Fin k1_t5_loop.trips) : Fin 2 → Nat :=
  let c0_i32_1152 : BitVec 32 := 0#32
  let v778 : Index := Scalar.indexCast c0_i32_1152
  let c0_i32_52 : BitVec 32 := 0#32
  let c1_i32_54 : BitVec 32 := 1#32
  let arg9 : BitVec 32 := Scf.iv c0_i32_52 c1_i32_54 k1_t5
  let c16_i32_1151 : BitVec 32 := 16#32
  let v777 : BitVec 32 := Scalar.muli arg9 c16_i32_1151
  let v779 : Index := Scalar.indexCast v777
  ![0, v779.toNat]
def k1_off56 (k1_t5 : Fin k1_t5_loop.trips) : Fin 2 → Nat :=
  let c1_i32_1154 : BitVec 32 := 1#32
  let v782 : Index := Scalar.indexCast c1_i32_1154
  let c0_i32_52 : BitVec 32 := 0#32
  let c1_i32_54 : BitVec 32 := 1#32
  let arg9 : BitVec 32 := Scf.iv c0_i32_52 c1_i32_54 k1_t5
  let c16_i32_1153 : BitVec 32 := 16#32
  let v781 : BitVec 32 := Scalar.muli arg9 c16_i32_1153
  let v783 : Index := Scalar.indexCast v781
  ![1, v783.toNat]
def k1_off57 (k1_t5 : Fin k1_t5_loop.trips) : Fin 2 → Nat :=
  let c2_i32_1156 : BitVec 32 := 2#32
  let v786 : Index := Scalar.indexCast c2_i32_1156
  let c0_i32_52 : BitVec 32 := 0#32
  let c1_i32_54 : BitVec 32 := 1#32
  let arg9 : BitVec 32 := Scf.iv c0_i32_52 c1_i32_54 k1_t5
  let c16_i32_1155 : BitVec 32 := 16#32
  let v785 : BitVec 32 := Scalar.muli arg9 c16_i32_1155
  let v787 : Index := Scalar.indexCast v785
  ![2, v787.toNat]
def k1_off58 (k1_t5 : Fin k1_t5_loop.trips) : Fin 2 → Nat :=
  let c3_i32_1158 : BitVec 32 := 3#32
  let v790 : Index := Scalar.indexCast c3_i32_1158
  let c0_i32_52 : BitVec 32 := 0#32
  let c1_i32_54 : BitVec 32 := 1#32
  let arg9 : BitVec 32 := Scf.iv c0_i32_52 c1_i32_54 k1_t5
  let c16_i32_1157 : BitVec 32 := 16#32
  let v789 : BitVec 32 := Scalar.muli arg9 c16_i32_1157
  let v791 : Index := Scalar.indexCast v789
  ![3, v791.toNat]
def k1_off59 (k1_t5 : Fin k1_t5_loop.trips) : Fin 2 → Nat :=
  let c4_i32_1160 : BitVec 32 := 4#32
  let v794 : Index := Scalar.indexCast c4_i32_1160
  let c0_i32_52 : BitVec 32 := 0#32
  let c1_i32_54 : BitVec 32 := 1#32
  let arg9 : BitVec 32 := Scf.iv c0_i32_52 c1_i32_54 k1_t5
  let c16_i32_1159 : BitVec 32 := 16#32
  let v793 : BitVec 32 := Scalar.muli arg9 c16_i32_1159
  let v795 : Index := Scalar.indexCast v793
  ![4, v795.toNat]
def k1_off60 (k1_t5 : Fin k1_t5_loop.trips) : Fin 2 → Nat :=
  let c5_i32_1162 : BitVec 32 := 5#32
  let v798 : Index := Scalar.indexCast c5_i32_1162
  let c0_i32_52 : BitVec 32 := 0#32
  let c1_i32_54 : BitVec 32 := 1#32
  let arg9 : BitVec 32 := Scf.iv c0_i32_52 c1_i32_54 k1_t5
  let c16_i32_1161 : BitVec 32 := 16#32
  let v797 : BitVec 32 := Scalar.muli arg9 c16_i32_1161
  let v799 : Index := Scalar.indexCast v797
  ![5, v799.toNat]
def k1_off61 (k1_t5 : Fin k1_t5_loop.trips) : Fin 2 → Nat :=
  let c6_i32_1164 : BitVec 32 := 6#32
  let v802 : Index := Scalar.indexCast c6_i32_1164
  let c0_i32_52 : BitVec 32 := 0#32
  let c1_i32_54 : BitVec 32 := 1#32
  let arg9 : BitVec 32 := Scf.iv c0_i32_52 c1_i32_54 k1_t5
  let c16_i32_1163 : BitVec 32 := 16#32
  let v801 : BitVec 32 := Scalar.muli arg9 c16_i32_1163
  let v803 : Index := Scalar.indexCast v801
  ![6, v803.toNat]
def k1_off62 (k1_t5 : Fin k1_t5_loop.trips) : Fin 2 → Nat :=
  let c7_i32_1166 : BitVec 32 := 7#32
  let v806 : Index := Scalar.indexCast c7_i32_1166
  let c0_i32_52 : BitVec 32 := 0#32
  let c1_i32_54 : BitVec 32 := 1#32
  let arg9 : BitVec 32 := Scf.iv c0_i32_52 c1_i32_54 k1_t5
  let c16_i32_1165 : BitVec 32 := 16#32
  let v805 : BitVec 32 := Scalar.muli arg9 c16_i32_1165
  let v807 : Index := Scalar.indexCast v805
  ![7, v807.toNat]
def k1_off63 (k1_t5 : Fin k1_t5_loop.trips) : Fin 2 → Nat :=
  let c8_i32_1168 : BitVec 32 := 8#32
  let v810 : Index := Scalar.indexCast c8_i32_1168
  let c0_i32_52 : BitVec 32 := 0#32
  let c1_i32_54 : BitVec 32 := 1#32
  let arg9 : BitVec 32 := Scf.iv c0_i32_52 c1_i32_54 k1_t5
  let c16_i32_1167 : BitVec 32 := 16#32
  let v809 : BitVec 32 := Scalar.muli arg9 c16_i32_1167
  let v811 : Index := Scalar.indexCast v809
  ![8, v811.toNat]
def k1_off64 (k1_t5 : Fin k1_t5_loop.trips) : Fin 2 → Nat :=
  let c9_i32_1170 : BitVec 32 := 9#32
  let v814 : Index := Scalar.indexCast c9_i32_1170
  let c0_i32_52 : BitVec 32 := 0#32
  let c1_i32_54 : BitVec 32 := 1#32
  let arg9 : BitVec 32 := Scf.iv c0_i32_52 c1_i32_54 k1_t5
  let c16_i32_1169 : BitVec 32 := 16#32
  let v813 : BitVec 32 := Scalar.muli arg9 c16_i32_1169
  let v815 : Index := Scalar.indexCast v813
  ![9, v815.toNat]
def k1_off65 (k1_t5 : Fin k1_t5_loop.trips) : Fin 2 → Nat :=
  let c10_i32_1172 : BitVec 32 := 10#32
  let v818 : Index := Scalar.indexCast c10_i32_1172
  let c0_i32_52 : BitVec 32 := 0#32
  let c1_i32_54 : BitVec 32 := 1#32
  let arg9 : BitVec 32 := Scf.iv c0_i32_52 c1_i32_54 k1_t5
  let c16_i32_1171 : BitVec 32 := 16#32
  let v817 : BitVec 32 := Scalar.muli arg9 c16_i32_1171
  let v819 : Index := Scalar.indexCast v817
  ![10, v819.toNat]
def k1_off66 (k1_t5 : Fin k1_t5_loop.trips) : Fin 2 → Nat :=
  let c11_i32_1174 : BitVec 32 := 11#32
  let v822 : Index := Scalar.indexCast c11_i32_1174
  let c0_i32_52 : BitVec 32 := 0#32
  let c1_i32_54 : BitVec 32 := 1#32
  let arg9 : BitVec 32 := Scf.iv c0_i32_52 c1_i32_54 k1_t5
  let c16_i32_1173 : BitVec 32 := 16#32
  let v821 : BitVec 32 := Scalar.muli arg9 c16_i32_1173
  let v823 : Index := Scalar.indexCast v821
  ![11, v823.toNat]
def k1_off67 (k1_t5 : Fin k1_t5_loop.trips) : Fin 2 → Nat :=
  let c12_i32_1176 : BitVec 32 := 12#32
  let v826 : Index := Scalar.indexCast c12_i32_1176
  let c0_i32_52 : BitVec 32 := 0#32
  let c1_i32_54 : BitVec 32 := 1#32
  let arg9 : BitVec 32 := Scf.iv c0_i32_52 c1_i32_54 k1_t5
  let c16_i32_1175 : BitVec 32 := 16#32
  let v825 : BitVec 32 := Scalar.muli arg9 c16_i32_1175
  let v827 : Index := Scalar.indexCast v825
  ![12, v827.toNat]
def k1_off68 (k1_t5 : Fin k1_t5_loop.trips) : Fin 2 → Nat :=
  let c13_i32_1178 : BitVec 32 := 13#32
  let v830 : Index := Scalar.indexCast c13_i32_1178
  let c0_i32_52 : BitVec 32 := 0#32
  let c1_i32_54 : BitVec 32 := 1#32
  let arg9 : BitVec 32 := Scf.iv c0_i32_52 c1_i32_54 k1_t5
  let c16_i32_1177 : BitVec 32 := 16#32
  let v829 : BitVec 32 := Scalar.muli arg9 c16_i32_1177
  let v831 : Index := Scalar.indexCast v829
  ![13, v831.toNat]
def k1_off69 (k1_t5 : Fin k1_t5_loop.trips) : Fin 2 → Nat :=
  let c14_i32_1180 : BitVec 32 := 14#32
  let v834 : Index := Scalar.indexCast c14_i32_1180
  let c0_i32_52 : BitVec 32 := 0#32
  let c1_i32_54 : BitVec 32 := 1#32
  let arg9 : BitVec 32 := Scf.iv c0_i32_52 c1_i32_54 k1_t5
  let c16_i32_1179 : BitVec 32 := 16#32
  let v833 : BitVec 32 := Scalar.muli arg9 c16_i32_1179
  let v835 : Index := Scalar.indexCast v833
  ![14, v835.toNat]
def k1_off70 (k1_t5 : Fin k1_t5_loop.trips) : Fin 2 → Nat :=
  let c15_i32_1182 : BitVec 32 := 15#32
  let v838 : Index := Scalar.indexCast c15_i32_1182
  let c0_i32_52 : BitVec 32 := 0#32
  let c1_i32_54 : BitVec 32 := 1#32
  let arg9 : BitVec 32 := Scf.iv c0_i32_52 c1_i32_54 k1_t5
  let c16_i32_1181 : BitVec 32 := 16#32
  let v837 : BitVec 32 := Scalar.muli arg9 c16_i32_1181
  let v839 : Index := Scalar.indexCast v837
  ![15, v839.toNat]

def k1_chk49 (v780 : IVec S16 32) : Prop :=
  (∀ a x, ((![v780] : Fin 1 → IVec S16 32) a x).toNat < S88320.size a)
theorem k1_idx49_inb : ∀ (v780 : IVec S16 32) (k1_hw49 : k1_chk49 v780), ∀ a x, ((![v780] : Fin 1 → IVec S16 32) a x).toNat < S88320.size a := fun v780 k1_hw49 => k1_hw49

def k1_chk50 (v784 : IVec S16 32) : Prop :=
  (∀ a x, ((![v784] : Fin 1 → IVec S16 32) a x).toNat < S88320.size a)
theorem k1_idx50_inb : ∀ (v784 : IVec S16 32) (k1_hw50 : k1_chk50 v784), ∀ a x, ((![v784] : Fin 1 → IVec S16 32) a x).toNat < S88320.size a := fun v784 k1_hw50 => k1_hw50

def k1_chk51 (v788 : IVec S16 32) : Prop :=
  (∀ a x, ((![v788] : Fin 1 → IVec S16 32) a x).toNat < S88320.size a)
theorem k1_idx51_inb : ∀ (v788 : IVec S16 32) (k1_hw51 : k1_chk51 v788), ∀ a x, ((![v788] : Fin 1 → IVec S16 32) a x).toNat < S88320.size a := fun v788 k1_hw51 => k1_hw51

def k1_chk52 (v792 : IVec S16 32) : Prop :=
  (∀ a x, ((![v792] : Fin 1 → IVec S16 32) a x).toNat < S88320.size a)
theorem k1_idx52_inb : ∀ (v792 : IVec S16 32) (k1_hw52 : k1_chk52 v792), ∀ a x, ((![v792] : Fin 1 → IVec S16 32) a x).toNat < S88320.size a := fun v792 k1_hw52 => k1_hw52

def k1_chk53 (v796 : IVec S16 32) : Prop :=
  (∀ a x, ((![v796] : Fin 1 → IVec S16 32) a x).toNat < S88320.size a)
theorem k1_idx53_inb : ∀ (v796 : IVec S16 32) (k1_hw53 : k1_chk53 v796), ∀ a x, ((![v796] : Fin 1 → IVec S16 32) a x).toNat < S88320.size a := fun v796 k1_hw53 => k1_hw53

def k1_chk54 (v800 : IVec S16 32) : Prop :=
  (∀ a x, ((![v800] : Fin 1 → IVec S16 32) a x).toNat < S88320.size a)
theorem k1_idx54_inb : ∀ (v800 : IVec S16 32) (k1_hw54 : k1_chk54 v800), ∀ a x, ((![v800] : Fin 1 → IVec S16 32) a x).toNat < S88320.size a := fun v800 k1_hw54 => k1_hw54

def k1_chk55 (v804 : IVec S16 32) : Prop :=
  (∀ a x, ((![v804] : Fin 1 → IVec S16 32) a x).toNat < S88320.size a)
theorem k1_idx55_inb : ∀ (v804 : IVec S16 32) (k1_hw55 : k1_chk55 v804), ∀ a x, ((![v804] : Fin 1 → IVec S16 32) a x).toNat < S88320.size a := fun v804 k1_hw55 => k1_hw55

def k1_chk56 (v808 : IVec S16 32) : Prop :=
  (∀ a x, ((![v808] : Fin 1 → IVec S16 32) a x).toNat < S88320.size a)
theorem k1_idx56_inb : ∀ (v808 : IVec S16 32) (k1_hw56 : k1_chk56 v808), ∀ a x, ((![v808] : Fin 1 → IVec S16 32) a x).toNat < S88320.size a := fun v808 k1_hw56 => k1_hw56

def k1_chk57 (v812 : IVec S16 32) : Prop :=
  (∀ a x, ((![v812] : Fin 1 → IVec S16 32) a x).toNat < S88320.size a)
theorem k1_idx57_inb : ∀ (v812 : IVec S16 32) (k1_hw57 : k1_chk57 v812), ∀ a x, ((![v812] : Fin 1 → IVec S16 32) a x).toNat < S88320.size a := fun v812 k1_hw57 => k1_hw57

def k1_chk58 (v816 : IVec S16 32) : Prop :=
  (∀ a x, ((![v816] : Fin 1 → IVec S16 32) a x).toNat < S88320.size a)
theorem k1_idx58_inb : ∀ (v816 : IVec S16 32) (k1_hw58 : k1_chk58 v816), ∀ a x, ((![v816] : Fin 1 → IVec S16 32) a x).toNat < S88320.size a := fun v816 k1_hw58 => k1_hw58

def k1_chk59 (v820 : IVec S16 32) : Prop :=
  (∀ a x, ((![v820] : Fin 1 → IVec S16 32) a x).toNat < S88320.size a)
theorem k1_idx59_inb : ∀ (v820 : IVec S16 32) (k1_hw59 : k1_chk59 v820), ∀ a x, ((![v820] : Fin 1 → IVec S16 32) a x).toNat < S88320.size a := fun v820 k1_hw59 => k1_hw59

def k1_chk60 (v824 : IVec S16 32) : Prop :=
  (∀ a x, ((![v824] : Fin 1 → IVec S16 32) a x).toNat < S88320.size a)
theorem k1_idx60_inb : ∀ (v824 : IVec S16 32) (k1_hw60 : k1_chk60 v824), ∀ a x, ((![v824] : Fin 1 → IVec S16 32) a x).toNat < S88320.size a := fun v824 k1_hw60 => k1_hw60

def k1_chk61 (v828 : IVec S16 32) : Prop :=
  (∀ a x, ((![v828] : Fin 1 → IVec S16 32) a x).toNat < S88320.size a)
theorem k1_idx61_inb : ∀ (v828 : IVec S16 32) (k1_hw61 : k1_chk61 v828), ∀ a x, ((![v828] : Fin 1 → IVec S16 32) a x).toNat < S88320.size a := fun v828 k1_hw61 => k1_hw61

def k1_chk62 (v832 : IVec S16 32) : Prop :=
  (∀ a x, ((![v832] : Fin 1 → IVec S16 32) a x).toNat < S88320.size a)
theorem k1_idx62_inb : ∀ (v832 : IVec S16 32) (k1_hw62 : k1_chk62 v832), ∀ a x, ((![v832] : Fin 1 → IVec S16 32) a x).toNat < S88320.size a := fun v832 k1_hw62 => k1_hw62

def k1_chk63 (v836 : IVec S16 32) : Prop :=
  (∀ a x, ((![v836] : Fin 1 → IVec S16 32) a x).toNat < S88320.size a)
theorem k1_idx63_inb : ∀ (v836 : IVec S16 32) (k1_hw63 : k1_chk63 v836), ∀ a x, ((![v836] : Fin 1 → IVec S16 32) a x).toNat < S88320.size a := fun v836 k1_hw63 => k1_hw63

def k1_chk64 (v840 : IVec S16 32) : Prop :=
  (∀ a x, ((![v840] : Fin 1 → IVec S16 32) a x).toNat < S88320.size a)
theorem k1_idx64_inb : ∀ (v840 : IVec S16 32) (k1_hw64 : k1_chk64 v840), ∀ a x, ((![v840] : Fin 1 → IVec S16 32) a x).toNat < S88320.size a := fun v840 k1_hw64 => k1_hw64
def k1_off71 (i : grid1.Coords) : Fin 4 → Nat :=
  let c0_i32_56 : BitVec 32 := 0#32
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_57 : BitVec 32 := 0#32
  ![0, 5, v2.toNat, 0]
@[reducible] def k1_t6_loop : Scf.Loop 32 :=
  let c0_i32_64 : BitVec 32 := 0#32
  let c32_i32_65 : BitVec 32 := 32#32
  let v54 : BitVec 32 := Scalar.addi c0_i32_64 c32_i32_65
  let c1_i32_66 : BitVec 32 := 1#32
  ⟨c0_i32_64, v54, c1_i32_66⟩
def k1_off72 (k1_t6 : Fin k1_t6_loop.trips) : Fin 2 → Nat :=
  let c0_i32_1152 : BitVec 32 := 0#32
  let v778 : Index := Scalar.indexCast c0_i32_1152
  let c0_i32_64 : BitVec 32 := 0#32
  let c1_i32_66 : BitVec 32 := 1#32
  let arg9 : BitVec 32 := Scf.iv c0_i32_64 c1_i32_66 k1_t6
  let c16_i32_1151 : BitVec 32 := 16#32
  let v777 : BitVec 32 := Scalar.muli arg9 c16_i32_1151
  let v779 : Index := Scalar.indexCast v777
  ![0, v779.toNat]
def k1_off73 (k1_t6 : Fin k1_t6_loop.trips) : Fin 2 → Nat :=
  let c1_i32_1154 : BitVec 32 := 1#32
  let v782 : Index := Scalar.indexCast c1_i32_1154
  let c0_i32_64 : BitVec 32 := 0#32
  let c1_i32_66 : BitVec 32 := 1#32
  let arg9 : BitVec 32 := Scf.iv c0_i32_64 c1_i32_66 k1_t6
  let c16_i32_1153 : BitVec 32 := 16#32
  let v781 : BitVec 32 := Scalar.muli arg9 c16_i32_1153
  let v783 : Index := Scalar.indexCast v781
  ![1, v783.toNat]
def k1_off74 (k1_t6 : Fin k1_t6_loop.trips) : Fin 2 → Nat :=
  let c2_i32_1156 : BitVec 32 := 2#32
  let v786 : Index := Scalar.indexCast c2_i32_1156
  let c0_i32_64 : BitVec 32 := 0#32
  let c1_i32_66 : BitVec 32 := 1#32
  let arg9 : BitVec 32 := Scf.iv c0_i32_64 c1_i32_66 k1_t6
  let c16_i32_1155 : BitVec 32 := 16#32
  let v785 : BitVec 32 := Scalar.muli arg9 c16_i32_1155
  let v787 : Index := Scalar.indexCast v785
  ![2, v787.toNat]
def k1_off75 (k1_t6 : Fin k1_t6_loop.trips) : Fin 2 → Nat :=
  let c3_i32_1158 : BitVec 32 := 3#32
  let v790 : Index := Scalar.indexCast c3_i32_1158
  let c0_i32_64 : BitVec 32 := 0#32
  let c1_i32_66 : BitVec 32 := 1#32
  let arg9 : BitVec 32 := Scf.iv c0_i32_64 c1_i32_66 k1_t6
  let c16_i32_1157 : BitVec 32 := 16#32
  let v789 : BitVec 32 := Scalar.muli arg9 c16_i32_1157
  let v791 : Index := Scalar.indexCast v789
  ![3, v791.toNat]
def k1_off76 (k1_t6 : Fin k1_t6_loop.trips) : Fin 2 → Nat :=
  let c4_i32_1160 : BitVec 32 := 4#32
  let v794 : Index := Scalar.indexCast c4_i32_1160
  let c0_i32_64 : BitVec 32 := 0#32
  let c1_i32_66 : BitVec 32 := 1#32
  let arg9 : BitVec 32 := Scf.iv c0_i32_64 c1_i32_66 k1_t6
  let c16_i32_1159 : BitVec 32 := 16#32
  let v793 : BitVec 32 := Scalar.muli arg9 c16_i32_1159
  let v795 : Index := Scalar.indexCast v793
  ![4, v795.toNat]
def k1_off77 (k1_t6 : Fin k1_t6_loop.trips) : Fin 2 → Nat :=
  let c5_i32_1162 : BitVec 32 := 5#32
  let v798 : Index := Scalar.indexCast c5_i32_1162
  let c0_i32_64 : BitVec 32 := 0#32
  let c1_i32_66 : BitVec 32 := 1#32
  let arg9 : BitVec 32 := Scf.iv c0_i32_64 c1_i32_66 k1_t6
  let c16_i32_1161 : BitVec 32 := 16#32
  let v797 : BitVec 32 := Scalar.muli arg9 c16_i32_1161
  let v799 : Index := Scalar.indexCast v797
  ![5, v799.toNat]
def k1_off78 (k1_t6 : Fin k1_t6_loop.trips) : Fin 2 → Nat :=
  let c6_i32_1164 : BitVec 32 := 6#32
  let v802 : Index := Scalar.indexCast c6_i32_1164
  let c0_i32_64 : BitVec 32 := 0#32
  let c1_i32_66 : BitVec 32 := 1#32
  let arg9 : BitVec 32 := Scf.iv c0_i32_64 c1_i32_66 k1_t6
  let c16_i32_1163 : BitVec 32 := 16#32
  let v801 : BitVec 32 := Scalar.muli arg9 c16_i32_1163
  let v803 : Index := Scalar.indexCast v801
  ![6, v803.toNat]
def k1_off79 (k1_t6 : Fin k1_t6_loop.trips) : Fin 2 → Nat :=
  let c7_i32_1166 : BitVec 32 := 7#32
  let v806 : Index := Scalar.indexCast c7_i32_1166
  let c0_i32_64 : BitVec 32 := 0#32
  let c1_i32_66 : BitVec 32 := 1#32
  let arg9 : BitVec 32 := Scf.iv c0_i32_64 c1_i32_66 k1_t6
  let c16_i32_1165 : BitVec 32 := 16#32
  let v805 : BitVec 32 := Scalar.muli arg9 c16_i32_1165
  let v807 : Index := Scalar.indexCast v805
  ![7, v807.toNat]
def k1_off80 (k1_t6 : Fin k1_t6_loop.trips) : Fin 2 → Nat :=
  let c8_i32_1168 : BitVec 32 := 8#32
  let v810 : Index := Scalar.indexCast c8_i32_1168
  let c0_i32_64 : BitVec 32 := 0#32
  let c1_i32_66 : BitVec 32 := 1#32
  let arg9 : BitVec 32 := Scf.iv c0_i32_64 c1_i32_66 k1_t6
  let c16_i32_1167 : BitVec 32 := 16#32
  let v809 : BitVec 32 := Scalar.muli arg9 c16_i32_1167
  let v811 : Index := Scalar.indexCast v809
  ![8, v811.toNat]
def k1_off81 (k1_t6 : Fin k1_t6_loop.trips) : Fin 2 → Nat :=
  let c9_i32_1170 : BitVec 32 := 9#32
  let v814 : Index := Scalar.indexCast c9_i32_1170
  let c0_i32_64 : BitVec 32 := 0#32
  let c1_i32_66 : BitVec 32 := 1#32
  let arg9 : BitVec 32 := Scf.iv c0_i32_64 c1_i32_66 k1_t6
  let c16_i32_1169 : BitVec 32 := 16#32
  let v813 : BitVec 32 := Scalar.muli arg9 c16_i32_1169
  let v815 : Index := Scalar.indexCast v813
  ![9, v815.toNat]
def k1_off82 (k1_t6 : Fin k1_t6_loop.trips) : Fin 2 → Nat :=
  let c10_i32_1172 : BitVec 32 := 10#32
  let v818 : Index := Scalar.indexCast c10_i32_1172
  let c0_i32_64 : BitVec 32 := 0#32
  let c1_i32_66 : BitVec 32 := 1#32
  let arg9 : BitVec 32 := Scf.iv c0_i32_64 c1_i32_66 k1_t6
  let c16_i32_1171 : BitVec 32 := 16#32
  let v817 : BitVec 32 := Scalar.muli arg9 c16_i32_1171
  let v819 : Index := Scalar.indexCast v817
  ![10, v819.toNat]
def k1_off83 (k1_t6 : Fin k1_t6_loop.trips) : Fin 2 → Nat :=
  let c11_i32_1174 : BitVec 32 := 11#32
  let v822 : Index := Scalar.indexCast c11_i32_1174
  let c0_i32_64 : BitVec 32 := 0#32
  let c1_i32_66 : BitVec 32 := 1#32
  let arg9 : BitVec 32 := Scf.iv c0_i32_64 c1_i32_66 k1_t6
  let c16_i32_1173 : BitVec 32 := 16#32
  let v821 : BitVec 32 := Scalar.muli arg9 c16_i32_1173
  let v823 : Index := Scalar.indexCast v821
  ![11, v823.toNat]
def k1_off84 (k1_t6 : Fin k1_t6_loop.trips) : Fin 2 → Nat :=
  let c12_i32_1176 : BitVec 32 := 12#32
  let v826 : Index := Scalar.indexCast c12_i32_1176
  let c0_i32_64 : BitVec 32 := 0#32
  let c1_i32_66 : BitVec 32 := 1#32
  let arg9 : BitVec 32 := Scf.iv c0_i32_64 c1_i32_66 k1_t6
  let c16_i32_1175 : BitVec 32 := 16#32
  let v825 : BitVec 32 := Scalar.muli arg9 c16_i32_1175
  let v827 : Index := Scalar.indexCast v825
  ![12, v827.toNat]
def k1_off85 (k1_t6 : Fin k1_t6_loop.trips) : Fin 2 → Nat :=
  let c13_i32_1178 : BitVec 32 := 13#32
  let v830 : Index := Scalar.indexCast c13_i32_1178
  let c0_i32_64 : BitVec 32 := 0#32
  let c1_i32_66 : BitVec 32 := 1#32
  let arg9 : BitVec 32 := Scf.iv c0_i32_64 c1_i32_66 k1_t6
  let c16_i32_1177 : BitVec 32 := 16#32
  let v829 : BitVec 32 := Scalar.muli arg9 c16_i32_1177
  let v831 : Index := Scalar.indexCast v829
  ![13, v831.toNat]
def k1_off86 (k1_t6 : Fin k1_t6_loop.trips) : Fin 2 → Nat :=
  let c14_i32_1180 : BitVec 32 := 14#32
  let v834 : Index := Scalar.indexCast c14_i32_1180
  let c0_i32_64 : BitVec 32 := 0#32
  let c1_i32_66 : BitVec 32 := 1#32
  let arg9 : BitVec 32 := Scf.iv c0_i32_64 c1_i32_66 k1_t6
  let c16_i32_1179 : BitVec 32 := 16#32
  let v833 : BitVec 32 := Scalar.muli arg9 c16_i32_1179
  let v835 : Index := Scalar.indexCast v833
  ![14, v835.toNat]
def k1_off87 (k1_t6 : Fin k1_t6_loop.trips) : Fin 2 → Nat :=
  let c15_i32_1182 : BitVec 32 := 15#32
  let v838 : Index := Scalar.indexCast c15_i32_1182
  let c0_i32_64 : BitVec 32 := 0#32
  let c1_i32_66 : BitVec 32 := 1#32
  let arg9 : BitVec 32 := Scf.iv c0_i32_64 c1_i32_66 k1_t6
  let c16_i32_1181 : BitVec 32 := 16#32
  let v837 : BitVec 32 := Scalar.muli arg9 c16_i32_1181
  let v839 : Index := Scalar.indexCast v837
  ![15, v839.toNat]

def k1_chk65 (v780 : IVec S16 32) : Prop :=
  (∀ a x, ((![v780] : Fin 1 → IVec S16 32) a x).toNat < S88320.size a)
theorem k1_idx65_inb : ∀ (v780 : IVec S16 32) (k1_hw65 : k1_chk65 v780), ∀ a x, ((![v780] : Fin 1 → IVec S16 32) a x).toNat < S88320.size a := fun v780 k1_hw65 => k1_hw65

def k1_chk66 (v784 : IVec S16 32) : Prop :=
  (∀ a x, ((![v784] : Fin 1 → IVec S16 32) a x).toNat < S88320.size a)
theorem k1_idx66_inb : ∀ (v784 : IVec S16 32) (k1_hw66 : k1_chk66 v784), ∀ a x, ((![v784] : Fin 1 → IVec S16 32) a x).toNat < S88320.size a := fun v784 k1_hw66 => k1_hw66

def k1_chk67 (v788 : IVec S16 32) : Prop :=
  (∀ a x, ((![v788] : Fin 1 → IVec S16 32) a x).toNat < S88320.size a)
theorem k1_idx67_inb : ∀ (v788 : IVec S16 32) (k1_hw67 : k1_chk67 v788), ∀ a x, ((![v788] : Fin 1 → IVec S16 32) a x).toNat < S88320.size a := fun v788 k1_hw67 => k1_hw67

def k1_chk68 (v792 : IVec S16 32) : Prop :=
  (∀ a x, ((![v792] : Fin 1 → IVec S16 32) a x).toNat < S88320.size a)
theorem k1_idx68_inb : ∀ (v792 : IVec S16 32) (k1_hw68 : k1_chk68 v792), ∀ a x, ((![v792] : Fin 1 → IVec S16 32) a x).toNat < S88320.size a := fun v792 k1_hw68 => k1_hw68

def k1_chk69 (v796 : IVec S16 32) : Prop :=
  (∀ a x, ((![v796] : Fin 1 → IVec S16 32) a x).toNat < S88320.size a)
theorem k1_idx69_inb : ∀ (v796 : IVec S16 32) (k1_hw69 : k1_chk69 v796), ∀ a x, ((![v796] : Fin 1 → IVec S16 32) a x).toNat < S88320.size a := fun v796 k1_hw69 => k1_hw69

def k1_chk70 (v800 : IVec S16 32) : Prop :=
  (∀ a x, ((![v800] : Fin 1 → IVec S16 32) a x).toNat < S88320.size a)
theorem k1_idx70_inb : ∀ (v800 : IVec S16 32) (k1_hw70 : k1_chk70 v800), ∀ a x, ((![v800] : Fin 1 → IVec S16 32) a x).toNat < S88320.size a := fun v800 k1_hw70 => k1_hw70

def k1_chk71 (v804 : IVec S16 32) : Prop :=
  (∀ a x, ((![v804] : Fin 1 → IVec S16 32) a x).toNat < S88320.size a)
theorem k1_idx71_inb : ∀ (v804 : IVec S16 32) (k1_hw71 : k1_chk71 v804), ∀ a x, ((![v804] : Fin 1 → IVec S16 32) a x).toNat < S88320.size a := fun v804 k1_hw71 => k1_hw71

def k1_chk72 (v808 : IVec S16 32) : Prop :=
  (∀ a x, ((![v808] : Fin 1 → IVec S16 32) a x).toNat < S88320.size a)
theorem k1_idx72_inb : ∀ (v808 : IVec S16 32) (k1_hw72 : k1_chk72 v808), ∀ a x, ((![v808] : Fin 1 → IVec S16 32) a x).toNat < S88320.size a := fun v808 k1_hw72 => k1_hw72

def k1_chk73 (v812 : IVec S16 32) : Prop :=
  (∀ a x, ((![v812] : Fin 1 → IVec S16 32) a x).toNat < S88320.size a)
theorem k1_idx73_inb : ∀ (v812 : IVec S16 32) (k1_hw73 : k1_chk73 v812), ∀ a x, ((![v812] : Fin 1 → IVec S16 32) a x).toNat < S88320.size a := fun v812 k1_hw73 => k1_hw73

def k1_chk74 (v816 : IVec S16 32) : Prop :=
  (∀ a x, ((![v816] : Fin 1 → IVec S16 32) a x).toNat < S88320.size a)
theorem k1_idx74_inb : ∀ (v816 : IVec S16 32) (k1_hw74 : k1_chk74 v816), ∀ a x, ((![v816] : Fin 1 → IVec S16 32) a x).toNat < S88320.size a := fun v816 k1_hw74 => k1_hw74

def k1_chk75 (v820 : IVec S16 32) : Prop :=
  (∀ a x, ((![v820] : Fin 1 → IVec S16 32) a x).toNat < S88320.size a)
theorem k1_idx75_inb : ∀ (v820 : IVec S16 32) (k1_hw75 : k1_chk75 v820), ∀ a x, ((![v820] : Fin 1 → IVec S16 32) a x).toNat < S88320.size a := fun v820 k1_hw75 => k1_hw75

def k1_chk76 (v824 : IVec S16 32) : Prop :=
  (∀ a x, ((![v824] : Fin 1 → IVec S16 32) a x).toNat < S88320.size a)
theorem k1_idx76_inb : ∀ (v824 : IVec S16 32) (k1_hw76 : k1_chk76 v824), ∀ a x, ((![v824] : Fin 1 → IVec S16 32) a x).toNat < S88320.size a := fun v824 k1_hw76 => k1_hw76

def k1_chk77 (v828 : IVec S16 32) : Prop :=
  (∀ a x, ((![v828] : Fin 1 → IVec S16 32) a x).toNat < S88320.size a)
theorem k1_idx77_inb : ∀ (v828 : IVec S16 32) (k1_hw77 : k1_chk77 v828), ∀ a x, ((![v828] : Fin 1 → IVec S16 32) a x).toNat < S88320.size a := fun v828 k1_hw77 => k1_hw77

def k1_chk78 (v832 : IVec S16 32) : Prop :=
  (∀ a x, ((![v832] : Fin 1 → IVec S16 32) a x).toNat < S88320.size a)
theorem k1_idx78_inb : ∀ (v832 : IVec S16 32) (k1_hw78 : k1_chk78 v832), ∀ a x, ((![v832] : Fin 1 → IVec S16 32) a x).toNat < S88320.size a := fun v832 k1_hw78 => k1_hw78

def k1_chk79 (v836 : IVec S16 32) : Prop :=
  (∀ a x, ((![v836] : Fin 1 → IVec S16 32) a x).toNat < S88320.size a)
theorem k1_idx79_inb : ∀ (v836 : IVec S16 32) (k1_hw79 : k1_chk79 v836), ∀ a x, ((![v836] : Fin 1 → IVec S16 32) a x).toNat < S88320.size a := fun v836 k1_hw79 => k1_hw79

def k1_chk80 (v840 : IVec S16 32) : Prop :=
  (∀ a x, ((![v840] : Fin 1 → IVec S16 32) a x).toNat < S88320.size a)
theorem k1_idx80_inb : ∀ (v840 : IVec S16 32) (k1_hw80 : k1_chk80 v840), ∀ a x, ((![v840] : Fin 1 → IVec S16 32) a x).toNat < S88320.size a := fun v840 k1_hw80 => k1_hw80
def k1_off88 (i : grid1.Coords) : Fin 4 → Nat :=
  let c0_i32_68 : BitVec 32 := 0#32
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_69 : BitVec 32 := 0#32
  ![0, 6, v2.toNat, 0]
@[reducible] def k1_t7_loop : Scf.Loop 32 :=
  let c0_i32_76 : BitVec 32 := 0#32
  let c32_i32_77 : BitVec 32 := 32#32
  let v63 : BitVec 32 := Scalar.addi c0_i32_76 c32_i32_77
  let c1_i32_78 : BitVec 32 := 1#32
  ⟨c0_i32_76, v63, c1_i32_78⟩
def k1_off89 (k1_t7 : Fin k1_t7_loop.trips) : Fin 2 → Nat :=
  let c0_i32_1152 : BitVec 32 := 0#32
  let v778 : Index := Scalar.indexCast c0_i32_1152
  let c0_i32_76 : BitVec 32 := 0#32
  let c1_i32_78 : BitVec 32 := 1#32
  let arg9 : BitVec 32 := Scf.iv c0_i32_76 c1_i32_78 k1_t7
  let c16_i32_1151 : BitVec 32 := 16#32
  let v777 : BitVec 32 := Scalar.muli arg9 c16_i32_1151
  let v779 : Index := Scalar.indexCast v777
  ![0, v779.toNat]
def k1_off90 (k1_t7 : Fin k1_t7_loop.trips) : Fin 2 → Nat :=
  let c1_i32_1154 : BitVec 32 := 1#32
  let v782 : Index := Scalar.indexCast c1_i32_1154
  let c0_i32_76 : BitVec 32 := 0#32
  let c1_i32_78 : BitVec 32 := 1#32
  let arg9 : BitVec 32 := Scf.iv c0_i32_76 c1_i32_78 k1_t7
  let c16_i32_1153 : BitVec 32 := 16#32
  let v781 : BitVec 32 := Scalar.muli arg9 c16_i32_1153
  let v783 : Index := Scalar.indexCast v781
  ![1, v783.toNat]
def k1_off91 (k1_t7 : Fin k1_t7_loop.trips) : Fin 2 → Nat :=
  let c2_i32_1156 : BitVec 32 := 2#32
  let v786 : Index := Scalar.indexCast c2_i32_1156
  let c0_i32_76 : BitVec 32 := 0#32
  let c1_i32_78 : BitVec 32 := 1#32
  let arg9 : BitVec 32 := Scf.iv c0_i32_76 c1_i32_78 k1_t7
  let c16_i32_1155 : BitVec 32 := 16#32
  let v785 : BitVec 32 := Scalar.muli arg9 c16_i32_1155
  let v787 : Index := Scalar.indexCast v785
  ![2, v787.toNat]
def k1_off92 (k1_t7 : Fin k1_t7_loop.trips) : Fin 2 → Nat :=
  let c3_i32_1158 : BitVec 32 := 3#32
  let v790 : Index := Scalar.indexCast c3_i32_1158
  let c0_i32_76 : BitVec 32 := 0#32
  let c1_i32_78 : BitVec 32 := 1#32
  let arg9 : BitVec 32 := Scf.iv c0_i32_76 c1_i32_78 k1_t7
  let c16_i32_1157 : BitVec 32 := 16#32
  let v789 : BitVec 32 := Scalar.muli arg9 c16_i32_1157
  let v791 : Index := Scalar.indexCast v789
  ![3, v791.toNat]
def k1_off93 (k1_t7 : Fin k1_t7_loop.trips) : Fin 2 → Nat :=
  let c4_i32_1160 : BitVec 32 := 4#32
  let v794 : Index := Scalar.indexCast c4_i32_1160
  let c0_i32_76 : BitVec 32 := 0#32
  let c1_i32_78 : BitVec 32 := 1#32
  let arg9 : BitVec 32 := Scf.iv c0_i32_76 c1_i32_78 k1_t7
  let c16_i32_1159 : BitVec 32 := 16#32
  let v793 : BitVec 32 := Scalar.muli arg9 c16_i32_1159
  let v795 : Index := Scalar.indexCast v793
  ![4, v795.toNat]
def k1_off94 (k1_t7 : Fin k1_t7_loop.trips) : Fin 2 → Nat :=
  let c5_i32_1162 : BitVec 32 := 5#32
  let v798 : Index := Scalar.indexCast c5_i32_1162
  let c0_i32_76 : BitVec 32 := 0#32
  let c1_i32_78 : BitVec 32 := 1#32
  let arg9 : BitVec 32 := Scf.iv c0_i32_76 c1_i32_78 k1_t7
  let c16_i32_1161 : BitVec 32 := 16#32
  let v797 : BitVec 32 := Scalar.muli arg9 c16_i32_1161
  let v799 : Index := Scalar.indexCast v797
  ![5, v799.toNat]
def k1_off95 (k1_t7 : Fin k1_t7_loop.trips) : Fin 2 → Nat :=
  let c6_i32_1164 : BitVec 32 := 6#32
  let v802 : Index := Scalar.indexCast c6_i32_1164
  let c0_i32_76 : BitVec 32 := 0#32
  let c1_i32_78 : BitVec 32 := 1#32
  let arg9 : BitVec 32 := Scf.iv c0_i32_76 c1_i32_78 k1_t7
  let c16_i32_1163 : BitVec 32 := 16#32
  let v801 : BitVec 32 := Scalar.muli arg9 c16_i32_1163
  let v803 : Index := Scalar.indexCast v801
  ![6, v803.toNat]
def k1_off96 (k1_t7 : Fin k1_t7_loop.trips) : Fin 2 → Nat :=
  let c7_i32_1166 : BitVec 32 := 7#32
  let v806 : Index := Scalar.indexCast c7_i32_1166
  let c0_i32_76 : BitVec 32 := 0#32
  let c1_i32_78 : BitVec 32 := 1#32
  let arg9 : BitVec 32 := Scf.iv c0_i32_76 c1_i32_78 k1_t7
  let c16_i32_1165 : BitVec 32 := 16#32
  let v805 : BitVec 32 := Scalar.muli arg9 c16_i32_1165
  let v807 : Index := Scalar.indexCast v805
  ![7, v807.toNat]
def k1_off97 (k1_t7 : Fin k1_t7_loop.trips) : Fin 2 → Nat :=
  let c8_i32_1168 : BitVec 32 := 8#32
  let v810 : Index := Scalar.indexCast c8_i32_1168
  let c0_i32_76 : BitVec 32 := 0#32
  let c1_i32_78 : BitVec 32 := 1#32
  let arg9 : BitVec 32 := Scf.iv c0_i32_76 c1_i32_78 k1_t7
  let c16_i32_1167 : BitVec 32 := 16#32
  let v809 : BitVec 32 := Scalar.muli arg9 c16_i32_1167
  let v811 : Index := Scalar.indexCast v809
  ![8, v811.toNat]
def k1_off98 (k1_t7 : Fin k1_t7_loop.trips) : Fin 2 → Nat :=
  let c9_i32_1170 : BitVec 32 := 9#32
  let v814 : Index := Scalar.indexCast c9_i32_1170
  let c0_i32_76 : BitVec 32 := 0#32
  let c1_i32_78 : BitVec 32 := 1#32
  let arg9 : BitVec 32 := Scf.iv c0_i32_76 c1_i32_78 k1_t7
  let c16_i32_1169 : BitVec 32 := 16#32
  let v813 : BitVec 32 := Scalar.muli arg9 c16_i32_1169
  let v815 : Index := Scalar.indexCast v813
  ![9, v815.toNat]
def k1_off99 (k1_t7 : Fin k1_t7_loop.trips) : Fin 2 → Nat :=
  let c10_i32_1172 : BitVec 32 := 10#32
  let v818 : Index := Scalar.indexCast c10_i32_1172
  let c0_i32_76 : BitVec 32 := 0#32
  let c1_i32_78 : BitVec 32 := 1#32
  let arg9 : BitVec 32 := Scf.iv c0_i32_76 c1_i32_78 k1_t7
  let c16_i32_1171 : BitVec 32 := 16#32
  let v817 : BitVec 32 := Scalar.muli arg9 c16_i32_1171
  let v819 : Index := Scalar.indexCast v817
  ![10, v819.toNat]
def k1_off100 (k1_t7 : Fin k1_t7_loop.trips) : Fin 2 → Nat :=
  let c11_i32_1174 : BitVec 32 := 11#32
  let v822 : Index := Scalar.indexCast c11_i32_1174
  let c0_i32_76 : BitVec 32 := 0#32
  let c1_i32_78 : BitVec 32 := 1#32
  let arg9 : BitVec 32 := Scf.iv c0_i32_76 c1_i32_78 k1_t7
  let c16_i32_1173 : BitVec 32 := 16#32
  let v821 : BitVec 32 := Scalar.muli arg9 c16_i32_1173
  let v823 : Index := Scalar.indexCast v821
  ![11, v823.toNat]
def k1_off101 (k1_t7 : Fin k1_t7_loop.trips) : Fin 2 → Nat :=
  let c12_i32_1176 : BitVec 32 := 12#32
  let v826 : Index := Scalar.indexCast c12_i32_1176
  let c0_i32_76 : BitVec 32 := 0#32
  let c1_i32_78 : BitVec 32 := 1#32
  let arg9 : BitVec 32 := Scf.iv c0_i32_76 c1_i32_78 k1_t7
  let c16_i32_1175 : BitVec 32 := 16#32
  let v825 : BitVec 32 := Scalar.muli arg9 c16_i32_1175
  let v827 : Index := Scalar.indexCast v825
  ![12, v827.toNat]
def k1_off102 (k1_t7 : Fin k1_t7_loop.trips) : Fin 2 → Nat :=
  let c13_i32_1178 : BitVec 32 := 13#32
  let v830 : Index := Scalar.indexCast c13_i32_1178
  let c0_i32_76 : BitVec 32 := 0#32
  let c1_i32_78 : BitVec 32 := 1#32
  let arg9 : BitVec 32 := Scf.iv c0_i32_76 c1_i32_78 k1_t7
  let c16_i32_1177 : BitVec 32 := 16#32
  let v829 : BitVec 32 := Scalar.muli arg9 c16_i32_1177
  let v831 : Index := Scalar.indexCast v829
  ![13, v831.toNat]
def k1_off103 (k1_t7 : Fin k1_t7_loop.trips) : Fin 2 → Nat :=
  let c14_i32_1180 : BitVec 32 := 14#32
  let v834 : Index := Scalar.indexCast c14_i32_1180
  let c0_i32_76 : BitVec 32 := 0#32
  let c1_i32_78 : BitVec 32 := 1#32
  let arg9 : BitVec 32 := Scf.iv c0_i32_76 c1_i32_78 k1_t7
  let c16_i32_1179 : BitVec 32 := 16#32
  let v833 : BitVec 32 := Scalar.muli arg9 c16_i32_1179
  let v835 : Index := Scalar.indexCast v833
  ![14, v835.toNat]
def k1_off104 (k1_t7 : Fin k1_t7_loop.trips) : Fin 2 → Nat :=
  let c15_i32_1182 : BitVec 32 := 15#32
  let v838 : Index := Scalar.indexCast c15_i32_1182
  let c0_i32_76 : BitVec 32 := 0#32
  let c1_i32_78 : BitVec 32 := 1#32
  let arg9 : BitVec 32 := Scf.iv c0_i32_76 c1_i32_78 k1_t7
  let c16_i32_1181 : BitVec 32 := 16#32
  let v837 : BitVec 32 := Scalar.muli arg9 c16_i32_1181
  let v839 : Index := Scalar.indexCast v837
  ![15, v839.toNat]

def k1_chk81 (v780 : IVec S16 32) : Prop :=
  (∀ a x, ((![v780] : Fin 1 → IVec S16 32) a x).toNat < S88320.size a)
theorem k1_idx81_inb : ∀ (v780 : IVec S16 32) (k1_hw81 : k1_chk81 v780), ∀ a x, ((![v780] : Fin 1 → IVec S16 32) a x).toNat < S88320.size a := fun v780 k1_hw81 => k1_hw81

def k1_chk82 (v784 : IVec S16 32) : Prop :=
  (∀ a x, ((![v784] : Fin 1 → IVec S16 32) a x).toNat < S88320.size a)
theorem k1_idx82_inb : ∀ (v784 : IVec S16 32) (k1_hw82 : k1_chk82 v784), ∀ a x, ((![v784] : Fin 1 → IVec S16 32) a x).toNat < S88320.size a := fun v784 k1_hw82 => k1_hw82

def k1_chk83 (v788 : IVec S16 32) : Prop :=
  (∀ a x, ((![v788] : Fin 1 → IVec S16 32) a x).toNat < S88320.size a)
theorem k1_idx83_inb : ∀ (v788 : IVec S16 32) (k1_hw83 : k1_chk83 v788), ∀ a x, ((![v788] : Fin 1 → IVec S16 32) a x).toNat < S88320.size a := fun v788 k1_hw83 => k1_hw83

def k1_chk84 (v792 : IVec S16 32) : Prop :=
  (∀ a x, ((![v792] : Fin 1 → IVec S16 32) a x).toNat < S88320.size a)
theorem k1_idx84_inb : ∀ (v792 : IVec S16 32) (k1_hw84 : k1_chk84 v792), ∀ a x, ((![v792] : Fin 1 → IVec S16 32) a x).toNat < S88320.size a := fun v792 k1_hw84 => k1_hw84

def k1_chk85 (v796 : IVec S16 32) : Prop :=
  (∀ a x, ((![v796] : Fin 1 → IVec S16 32) a x).toNat < S88320.size a)
theorem k1_idx85_inb : ∀ (v796 : IVec S16 32) (k1_hw85 : k1_chk85 v796), ∀ a x, ((![v796] : Fin 1 → IVec S16 32) a x).toNat < S88320.size a := fun v796 k1_hw85 => k1_hw85

def k1_chk86 (v800 : IVec S16 32) : Prop :=
  (∀ a x, ((![v800] : Fin 1 → IVec S16 32) a x).toNat < S88320.size a)
theorem k1_idx86_inb : ∀ (v800 : IVec S16 32) (k1_hw86 : k1_chk86 v800), ∀ a x, ((![v800] : Fin 1 → IVec S16 32) a x).toNat < S88320.size a := fun v800 k1_hw86 => k1_hw86

def k1_chk87 (v804 : IVec S16 32) : Prop :=
  (∀ a x, ((![v804] : Fin 1 → IVec S16 32) a x).toNat < S88320.size a)
theorem k1_idx87_inb : ∀ (v804 : IVec S16 32) (k1_hw87 : k1_chk87 v804), ∀ a x, ((![v804] : Fin 1 → IVec S16 32) a x).toNat < S88320.size a := fun v804 k1_hw87 => k1_hw87

def k1_chk88 (v808 : IVec S16 32) : Prop :=
  (∀ a x, ((![v808] : Fin 1 → IVec S16 32) a x).toNat < S88320.size a)
theorem k1_idx88_inb : ∀ (v808 : IVec S16 32) (k1_hw88 : k1_chk88 v808), ∀ a x, ((![v808] : Fin 1 → IVec S16 32) a x).toNat < S88320.size a := fun v808 k1_hw88 => k1_hw88

def k1_chk89 (v812 : IVec S16 32) : Prop :=
  (∀ a x, ((![v812] : Fin 1 → IVec S16 32) a x).toNat < S88320.size a)
theorem k1_idx89_inb : ∀ (v812 : IVec S16 32) (k1_hw89 : k1_chk89 v812), ∀ a x, ((![v812] : Fin 1 → IVec S16 32) a x).toNat < S88320.size a := fun v812 k1_hw89 => k1_hw89

def k1_chk90 (v816 : IVec S16 32) : Prop :=
  (∀ a x, ((![v816] : Fin 1 → IVec S16 32) a x).toNat < S88320.size a)
theorem k1_idx90_inb : ∀ (v816 : IVec S16 32) (k1_hw90 : k1_chk90 v816), ∀ a x, ((![v816] : Fin 1 → IVec S16 32) a x).toNat < S88320.size a := fun v816 k1_hw90 => k1_hw90

def k1_chk91 (v820 : IVec S16 32) : Prop :=
  (∀ a x, ((![v820] : Fin 1 → IVec S16 32) a x).toNat < S88320.size a)
theorem k1_idx91_inb : ∀ (v820 : IVec S16 32) (k1_hw91 : k1_chk91 v820), ∀ a x, ((![v820] : Fin 1 → IVec S16 32) a x).toNat < S88320.size a := fun v820 k1_hw91 => k1_hw91

def k1_chk92 (v824 : IVec S16 32) : Prop :=
  (∀ a x, ((![v824] : Fin 1 → IVec S16 32) a x).toNat < S88320.size a)
theorem k1_idx92_inb : ∀ (v824 : IVec S16 32) (k1_hw92 : k1_chk92 v824), ∀ a x, ((![v824] : Fin 1 → IVec S16 32) a x).toNat < S88320.size a := fun v824 k1_hw92 => k1_hw92

def k1_chk93 (v828 : IVec S16 32) : Prop :=
  (∀ a x, ((![v828] : Fin 1 → IVec S16 32) a x).toNat < S88320.size a)
theorem k1_idx93_inb : ∀ (v828 : IVec S16 32) (k1_hw93 : k1_chk93 v828), ∀ a x, ((![v828] : Fin 1 → IVec S16 32) a x).toNat < S88320.size a := fun v828 k1_hw93 => k1_hw93

def k1_chk94 (v832 : IVec S16 32) : Prop :=
  (∀ a x, ((![v832] : Fin 1 → IVec S16 32) a x).toNat < S88320.size a)
theorem k1_idx94_inb : ∀ (v832 : IVec S16 32) (k1_hw94 : k1_chk94 v832), ∀ a x, ((![v832] : Fin 1 → IVec S16 32) a x).toNat < S88320.size a := fun v832 k1_hw94 => k1_hw94

def k1_chk95 (v836 : IVec S16 32) : Prop :=
  (∀ a x, ((![v836] : Fin 1 → IVec S16 32) a x).toNat < S88320.size a)
theorem k1_idx95_inb : ∀ (v836 : IVec S16 32) (k1_hw95 : k1_chk95 v836), ∀ a x, ((![v836] : Fin 1 → IVec S16 32) a x).toNat < S88320.size a := fun v836 k1_hw95 => k1_hw95

def k1_chk96 (v840 : IVec S16 32) : Prop :=
  (∀ a x, ((![v840] : Fin 1 → IVec S16 32) a x).toNat < S88320.size a)
theorem k1_idx96_inb : ∀ (v840 : IVec S16 32) (k1_hw96 : k1_chk96 v840), ∀ a x, ((![v840] : Fin 1 → IVec S16 32) a x).toNat < S88320.size a := fun v840 k1_hw96 => k1_hw96
def k1_off105 (i : grid1.Coords) : Fin 4 → Nat :=
  let c0_i32_80 : BitVec 32 := 0#32
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_81 : BitVec 32 := 0#32
  ![0, 7, v2.toNat, 0]
@[reducible] def k1_t8_loop : Scf.Loop 32 :=
  let c0_i32_88 : BitVec 32 := 0#32
  let c32_i32_89 : BitVec 32 := 32#32
  let v72 : BitVec 32 := Scalar.addi c0_i32_88 c32_i32_89
  let c1_i32_90 : BitVec 32 := 1#32
  ⟨c0_i32_88, v72, c1_i32_90⟩
def k1_off106 (k1_t8 : Fin k1_t8_loop.trips) : Fin 2 → Nat :=
  let c0_i32_1152 : BitVec 32 := 0#32
  let v778 : Index := Scalar.indexCast c0_i32_1152
  let c0_i32_88 : BitVec 32 := 0#32
  let c1_i32_90 : BitVec 32 := 1#32
  let arg9 : BitVec 32 := Scf.iv c0_i32_88 c1_i32_90 k1_t8
  let c16_i32_1151 : BitVec 32 := 16#32
  let v777 : BitVec 32 := Scalar.muli arg9 c16_i32_1151
  let v779 : Index := Scalar.indexCast v777
  ![0, v779.toNat]
def k1_off107 (k1_t8 : Fin k1_t8_loop.trips) : Fin 2 → Nat :=
  let c1_i32_1154 : BitVec 32 := 1#32
  let v782 : Index := Scalar.indexCast c1_i32_1154
  let c0_i32_88 : BitVec 32 := 0#32
  let c1_i32_90 : BitVec 32 := 1#32
  let arg9 : BitVec 32 := Scf.iv c0_i32_88 c1_i32_90 k1_t8
  let c16_i32_1153 : BitVec 32 := 16#32
  let v781 : BitVec 32 := Scalar.muli arg9 c16_i32_1153
  let v783 : Index := Scalar.indexCast v781
  ![1, v783.toNat]
def k1_off108 (k1_t8 : Fin k1_t8_loop.trips) : Fin 2 → Nat :=
  let c2_i32_1156 : BitVec 32 := 2#32
  let v786 : Index := Scalar.indexCast c2_i32_1156
  let c0_i32_88 : BitVec 32 := 0#32
  let c1_i32_90 : BitVec 32 := 1#32
  let arg9 : BitVec 32 := Scf.iv c0_i32_88 c1_i32_90 k1_t8
  let c16_i32_1155 : BitVec 32 := 16#32
  let v785 : BitVec 32 := Scalar.muli arg9 c16_i32_1155
  let v787 : Index := Scalar.indexCast v785
  ![2, v787.toNat]
def k1_off109 (k1_t8 : Fin k1_t8_loop.trips) : Fin 2 → Nat :=
  let c3_i32_1158 : BitVec 32 := 3#32
  let v790 : Index := Scalar.indexCast c3_i32_1158
  let c0_i32_88 : BitVec 32 := 0#32
  let c1_i32_90 : BitVec 32 := 1#32
  let arg9 : BitVec 32 := Scf.iv c0_i32_88 c1_i32_90 k1_t8
  let c16_i32_1157 : BitVec 32 := 16#32
  let v789 : BitVec 32 := Scalar.muli arg9 c16_i32_1157
  let v791 : Index := Scalar.indexCast v789
  ![3, v791.toNat]
def k1_off110 (k1_t8 : Fin k1_t8_loop.trips) : Fin 2 → Nat :=
  let c4_i32_1160 : BitVec 32 := 4#32
  let v794 : Index := Scalar.indexCast c4_i32_1160
  let c0_i32_88 : BitVec 32 := 0#32
  let c1_i32_90 : BitVec 32 := 1#32
  let arg9 : BitVec 32 := Scf.iv c0_i32_88 c1_i32_90 k1_t8
  let c16_i32_1159 : BitVec 32 := 16#32
  let v793 : BitVec 32 := Scalar.muli arg9 c16_i32_1159
  let v795 : Index := Scalar.indexCast v793
  ![4, v795.toNat]
def k1_off111 (k1_t8 : Fin k1_t8_loop.trips) : Fin 2 → Nat :=
  let c5_i32_1162 : BitVec 32 := 5#32
  let v798 : Index := Scalar.indexCast c5_i32_1162
  let c0_i32_88 : BitVec 32 := 0#32
  let c1_i32_90 : BitVec 32 := 1#32
  let arg9 : BitVec 32 := Scf.iv c0_i32_88 c1_i32_90 k1_t8
  let c16_i32_1161 : BitVec 32 := 16#32
  let v797 : BitVec 32 := Scalar.muli arg9 c16_i32_1161
  let v799 : Index := Scalar.indexCast v797
  ![5, v799.toNat]
def k1_off112 (k1_t8 : Fin k1_t8_loop.trips) : Fin 2 → Nat :=
  let c6_i32_1164 : BitVec 32 := 6#32
  let v802 : Index := Scalar.indexCast c6_i32_1164
  let c0_i32_88 : BitVec 32 := 0#32
  let c1_i32_90 : BitVec 32 := 1#32
  let arg9 : BitVec 32 := Scf.iv c0_i32_88 c1_i32_90 k1_t8
  let c16_i32_1163 : BitVec 32 := 16#32
  let v801 : BitVec 32 := Scalar.muli arg9 c16_i32_1163
  let v803 : Index := Scalar.indexCast v801
  ![6, v803.toNat]
def k1_off113 (k1_t8 : Fin k1_t8_loop.trips) : Fin 2 → Nat :=
  let c7_i32_1166 : BitVec 32 := 7#32
  let v806 : Index := Scalar.indexCast c7_i32_1166
  let c0_i32_88 : BitVec 32 := 0#32
  let c1_i32_90 : BitVec 32 := 1#32
  let arg9 : BitVec 32 := Scf.iv c0_i32_88 c1_i32_90 k1_t8
  let c16_i32_1165 : BitVec 32 := 16#32
  let v805 : BitVec 32 := Scalar.muli arg9 c16_i32_1165
  let v807 : Index := Scalar.indexCast v805
  ![7, v807.toNat]
def k1_off114 (k1_t8 : Fin k1_t8_loop.trips) : Fin 2 → Nat :=
  let c8_i32_1168 : BitVec 32 := 8#32
  let v810 : Index := Scalar.indexCast c8_i32_1168
  let c0_i32_88 : BitVec 32 := 0#32
  let c1_i32_90 : BitVec 32 := 1#32
  let arg9 : BitVec 32 := Scf.iv c0_i32_88 c1_i32_90 k1_t8
  let c16_i32_1167 : BitVec 32 := 16#32
  let v809 : BitVec 32 := Scalar.muli arg9 c16_i32_1167
  let v811 : Index := Scalar.indexCast v809
  ![8, v811.toNat]
def k1_off115 (k1_t8 : Fin k1_t8_loop.trips) : Fin 2 → Nat :=
  let c9_i32_1170 : BitVec 32 := 9#32
  let v814 : Index := Scalar.indexCast c9_i32_1170
  let c0_i32_88 : BitVec 32 := 0#32
  let c1_i32_90 : BitVec 32 := 1#32
  let arg9 : BitVec 32 := Scf.iv c0_i32_88 c1_i32_90 k1_t8
  let c16_i32_1169 : BitVec 32 := 16#32
  let v813 : BitVec 32 := Scalar.muli arg9 c16_i32_1169
  let v815 : Index := Scalar.indexCast v813
  ![9, v815.toNat]
def k1_off116 (k1_t8 : Fin k1_t8_loop.trips) : Fin 2 → Nat :=
  let c10_i32_1172 : BitVec 32 := 10#32
  let v818 : Index := Scalar.indexCast c10_i32_1172
  let c0_i32_88 : BitVec 32 := 0#32
  let c1_i32_90 : BitVec 32 := 1#32
  let arg9 : BitVec 32 := Scf.iv c0_i32_88 c1_i32_90 k1_t8
  let c16_i32_1171 : BitVec 32 := 16#32
  let v817 : BitVec 32 := Scalar.muli arg9 c16_i32_1171
  let v819 : Index := Scalar.indexCast v817
  ![10, v819.toNat]
def k1_off117 (k1_t8 : Fin k1_t8_loop.trips) : Fin 2 → Nat :=
  let c11_i32_1174 : BitVec 32 := 11#32
  let v822 : Index := Scalar.indexCast c11_i32_1174
  let c0_i32_88 : BitVec 32 := 0#32
  let c1_i32_90 : BitVec 32 := 1#32
  let arg9 : BitVec 32 := Scf.iv c0_i32_88 c1_i32_90 k1_t8
  let c16_i32_1173 : BitVec 32 := 16#32
  let v821 : BitVec 32 := Scalar.muli arg9 c16_i32_1173
  let v823 : Index := Scalar.indexCast v821
  ![11, v823.toNat]
def k1_off118 (k1_t8 : Fin k1_t8_loop.trips) : Fin 2 → Nat :=
  let c12_i32_1176 : BitVec 32 := 12#32
  let v826 : Index := Scalar.indexCast c12_i32_1176
  let c0_i32_88 : BitVec 32 := 0#32
  let c1_i32_90 : BitVec 32 := 1#32
  let arg9 : BitVec 32 := Scf.iv c0_i32_88 c1_i32_90 k1_t8
  let c16_i32_1175 : BitVec 32 := 16#32
  let v825 : BitVec 32 := Scalar.muli arg9 c16_i32_1175
  let v827 : Index := Scalar.indexCast v825
  ![12, v827.toNat]
def k1_off119 (k1_t8 : Fin k1_t8_loop.trips) : Fin 2 → Nat :=
  let c13_i32_1178 : BitVec 32 := 13#32
  let v830 : Index := Scalar.indexCast c13_i32_1178
  let c0_i32_88 : BitVec 32 := 0#32
  let c1_i32_90 : BitVec 32 := 1#32
  let arg9 : BitVec 32 := Scf.iv c0_i32_88 c1_i32_90 k1_t8
  let c16_i32_1177 : BitVec 32 := 16#32
  let v829 : BitVec 32 := Scalar.muli arg9 c16_i32_1177
  let v831 : Index := Scalar.indexCast v829
  ![13, v831.toNat]
def k1_off120 (k1_t8 : Fin k1_t8_loop.trips) : Fin 2 → Nat :=
  let c14_i32_1180 : BitVec 32 := 14#32
  let v834 : Index := Scalar.indexCast c14_i32_1180
  let c0_i32_88 : BitVec 32 := 0#32
  let c1_i32_90 : BitVec 32 := 1#32
  let arg9 : BitVec 32 := Scf.iv c0_i32_88 c1_i32_90 k1_t8
  let c16_i32_1179 : BitVec 32 := 16#32
  let v833 : BitVec 32 := Scalar.muli arg9 c16_i32_1179
  let v835 : Index := Scalar.indexCast v833
  ![14, v835.toNat]
def k1_off121 (k1_t8 : Fin k1_t8_loop.trips) : Fin 2 → Nat :=
  let c15_i32_1182 : BitVec 32 := 15#32
  let v838 : Index := Scalar.indexCast c15_i32_1182
  let c0_i32_88 : BitVec 32 := 0#32
  let c1_i32_90 : BitVec 32 := 1#32
  let arg9 : BitVec 32 := Scf.iv c0_i32_88 c1_i32_90 k1_t8
  let c16_i32_1181 : BitVec 32 := 16#32
  let v837 : BitVec 32 := Scalar.muli arg9 c16_i32_1181
  let v839 : Index := Scalar.indexCast v837
  ![15, v839.toNat]

def k1_chk97 (v780 : IVec S16 32) : Prop :=
  (∀ a x, ((![v780] : Fin 1 → IVec S16 32) a x).toNat < S88320.size a)
theorem k1_idx97_inb : ∀ (v780 : IVec S16 32) (k1_hw97 : k1_chk97 v780), ∀ a x, ((![v780] : Fin 1 → IVec S16 32) a x).toNat < S88320.size a := fun v780 k1_hw97 => k1_hw97

def k1_chk98 (v784 : IVec S16 32) : Prop :=
  (∀ a x, ((![v784] : Fin 1 → IVec S16 32) a x).toNat < S88320.size a)
theorem k1_idx98_inb : ∀ (v784 : IVec S16 32) (k1_hw98 : k1_chk98 v784), ∀ a x, ((![v784] : Fin 1 → IVec S16 32) a x).toNat < S88320.size a := fun v784 k1_hw98 => k1_hw98

def k1_chk99 (v788 : IVec S16 32) : Prop :=
  (∀ a x, ((![v788] : Fin 1 → IVec S16 32) a x).toNat < S88320.size a)
theorem k1_idx99_inb : ∀ (v788 : IVec S16 32) (k1_hw99 : k1_chk99 v788), ∀ a x, ((![v788] : Fin 1 → IVec S16 32) a x).toNat < S88320.size a := fun v788 k1_hw99 => k1_hw99

def k1_chk100 (v792 : IVec S16 32) : Prop :=
  (∀ a x, ((![v792] : Fin 1 → IVec S16 32) a x).toNat < S88320.size a)
theorem k1_idx100_inb : ∀ (v792 : IVec S16 32) (k1_hw100 : k1_chk100 v792), ∀ a x, ((![v792] : Fin 1 → IVec S16 32) a x).toNat < S88320.size a := fun v792 k1_hw100 => k1_hw100

def k1_chk101 (v796 : IVec S16 32) : Prop :=
  (∀ a x, ((![v796] : Fin 1 → IVec S16 32) a x).toNat < S88320.size a)
theorem k1_idx101_inb : ∀ (v796 : IVec S16 32) (k1_hw101 : k1_chk101 v796), ∀ a x, ((![v796] : Fin 1 → IVec S16 32) a x).toNat < S88320.size a := fun v796 k1_hw101 => k1_hw101

def k1_chk102 (v800 : IVec S16 32) : Prop :=
  (∀ a x, ((![v800] : Fin 1 → IVec S16 32) a x).toNat < S88320.size a)
theorem k1_idx102_inb : ∀ (v800 : IVec S16 32) (k1_hw102 : k1_chk102 v800), ∀ a x, ((![v800] : Fin 1 → IVec S16 32) a x).toNat < S88320.size a := fun v800 k1_hw102 => k1_hw102

def k1_chk103 (v804 : IVec S16 32) : Prop :=
  (∀ a x, ((![v804] : Fin 1 → IVec S16 32) a x).toNat < S88320.size a)
theorem k1_idx103_inb : ∀ (v804 : IVec S16 32) (k1_hw103 : k1_chk103 v804), ∀ a x, ((![v804] : Fin 1 → IVec S16 32) a x).toNat < S88320.size a := fun v804 k1_hw103 => k1_hw103

def k1_chk104 (v808 : IVec S16 32) : Prop :=
  (∀ a x, ((![v808] : Fin 1 → IVec S16 32) a x).toNat < S88320.size a)
theorem k1_idx104_inb : ∀ (v808 : IVec S16 32) (k1_hw104 : k1_chk104 v808), ∀ a x, ((![v808] : Fin 1 → IVec S16 32) a x).toNat < S88320.size a := fun v808 k1_hw104 => k1_hw104

def k1_chk105 (v812 : IVec S16 32) : Prop :=
  (∀ a x, ((![v812] : Fin 1 → IVec S16 32) a x).toNat < S88320.size a)
theorem k1_idx105_inb : ∀ (v812 : IVec S16 32) (k1_hw105 : k1_chk105 v812), ∀ a x, ((![v812] : Fin 1 → IVec S16 32) a x).toNat < S88320.size a := fun v812 k1_hw105 => k1_hw105

def k1_chk106 (v816 : IVec S16 32) : Prop :=
  (∀ a x, ((![v816] : Fin 1 → IVec S16 32) a x).toNat < S88320.size a)
theorem k1_idx106_inb : ∀ (v816 : IVec S16 32) (k1_hw106 : k1_chk106 v816), ∀ a x, ((![v816] : Fin 1 → IVec S16 32) a x).toNat < S88320.size a := fun v816 k1_hw106 => k1_hw106

def k1_chk107 (v820 : IVec S16 32) : Prop :=
  (∀ a x, ((![v820] : Fin 1 → IVec S16 32) a x).toNat < S88320.size a)
theorem k1_idx107_inb : ∀ (v820 : IVec S16 32) (k1_hw107 : k1_chk107 v820), ∀ a x, ((![v820] : Fin 1 → IVec S16 32) a x).toNat < S88320.size a := fun v820 k1_hw107 => k1_hw107

def k1_chk108 (v824 : IVec S16 32) : Prop :=
  (∀ a x, ((![v824] : Fin 1 → IVec S16 32) a x).toNat < S88320.size a)
theorem k1_idx108_inb : ∀ (v824 : IVec S16 32) (k1_hw108 : k1_chk108 v824), ∀ a x, ((![v824] : Fin 1 → IVec S16 32) a x).toNat < S88320.size a := fun v824 k1_hw108 => k1_hw108

def k1_chk109 (v828 : IVec S16 32) : Prop :=
  (∀ a x, ((![v828] : Fin 1 → IVec S16 32) a x).toNat < S88320.size a)
theorem k1_idx109_inb : ∀ (v828 : IVec S16 32) (k1_hw109 : k1_chk109 v828), ∀ a x, ((![v828] : Fin 1 → IVec S16 32) a x).toNat < S88320.size a := fun v828 k1_hw109 => k1_hw109

def k1_chk110 (v832 : IVec S16 32) : Prop :=
  (∀ a x, ((![v832] : Fin 1 → IVec S16 32) a x).toNat < S88320.size a)
theorem k1_idx110_inb : ∀ (v832 : IVec S16 32) (k1_hw110 : k1_chk110 v832), ∀ a x, ((![v832] : Fin 1 → IVec S16 32) a x).toNat < S88320.size a := fun v832 k1_hw110 => k1_hw110

def k1_chk111 (v836 : IVec S16 32) : Prop :=
  (∀ a x, ((![v836] : Fin 1 → IVec S16 32) a x).toNat < S88320.size a)
theorem k1_idx111_inb : ∀ (v836 : IVec S16 32) (k1_hw111 : k1_chk111 v836), ∀ a x, ((![v836] : Fin 1 → IVec S16 32) a x).toNat < S88320.size a := fun v836 k1_hw111 => k1_hw111

def k1_chk112 (v840 : IVec S16 32) : Prop :=
  (∀ a x, ((![v840] : Fin 1 → IVec S16 32) a x).toNat < S88320.size a)
theorem k1_idx112_inb : ∀ (v840 : IVec S16 32) (k1_hw112 : k1_chk112 v840), ∀ a x, ((![v840] : Fin 1 → IVec S16 32) a x).toNat < S88320.size a := fun v840 k1_hw112 => k1_hw112
def k1_off122 (i : grid1.Coords) : Fin 4 → Nat :=
  let c0_i32_92 : BitVec 32 := 0#32
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_93 : BitVec 32 := 0#32
  ![0, 8, v2.toNat, 0]
@[reducible] def k1_t9_loop : Scf.Loop 32 :=
  let c0_i32_100 : BitVec 32 := 0#32
  let c32_i32_101 : BitVec 32 := 32#32
  let v81 : BitVec 32 := Scalar.addi c0_i32_100 c32_i32_101
  let c1_i32_102 : BitVec 32 := 1#32
  ⟨c0_i32_100, v81, c1_i32_102⟩
def k1_off123 (k1_t9 : Fin k1_t9_loop.trips) : Fin 2 → Nat :=
  let c0_i32_1152 : BitVec 32 := 0#32
  let v778 : Index := Scalar.indexCast c0_i32_1152
  let c0_i32_100 : BitVec 32 := 0#32
  let c1_i32_102 : BitVec 32 := 1#32
  let arg9 : BitVec 32 := Scf.iv c0_i32_100 c1_i32_102 k1_t9
  let c16_i32_1151 : BitVec 32 := 16#32
  let v777 : BitVec 32 := Scalar.muli arg9 c16_i32_1151
  let v779 : Index := Scalar.indexCast v777
  ![0, v779.toNat]
def k1_off124 (k1_t9 : Fin k1_t9_loop.trips) : Fin 2 → Nat :=
  let c1_i32_1154 : BitVec 32 := 1#32
  let v782 : Index := Scalar.indexCast c1_i32_1154
  let c0_i32_100 : BitVec 32 := 0#32
  let c1_i32_102 : BitVec 32 := 1#32
  let arg9 : BitVec 32 := Scf.iv c0_i32_100 c1_i32_102 k1_t9
  let c16_i32_1153 : BitVec 32 := 16#32
  let v781 : BitVec 32 := Scalar.muli arg9 c16_i32_1153
  let v783 : Index := Scalar.indexCast v781
  ![1, v783.toNat]
def k1_off125 (k1_t9 : Fin k1_t9_loop.trips) : Fin 2 → Nat :=
  let c2_i32_1156 : BitVec 32 := 2#32
  let v786 : Index := Scalar.indexCast c2_i32_1156
  let c0_i32_100 : BitVec 32 := 0#32
  let c1_i32_102 : BitVec 32 := 1#32
  let arg9 : BitVec 32 := Scf.iv c0_i32_100 c1_i32_102 k1_t9
  let c16_i32_1155 : BitVec 32 := 16#32
  let v785 : BitVec 32 := Scalar.muli arg9 c16_i32_1155
  let v787 : Index := Scalar.indexCast v785
  ![2, v787.toNat]
def k1_off126 (k1_t9 : Fin k1_t9_loop.trips) : Fin 2 → Nat :=
  let c3_i32_1158 : BitVec 32 := 3#32
  let v790 : Index := Scalar.indexCast c3_i32_1158
  let c0_i32_100 : BitVec 32 := 0#32
  let c1_i32_102 : BitVec 32 := 1#32
  let arg9 : BitVec 32 := Scf.iv c0_i32_100 c1_i32_102 k1_t9
  let c16_i32_1157 : BitVec 32 := 16#32
  let v789 : BitVec 32 := Scalar.muli arg9 c16_i32_1157
  let v791 : Index := Scalar.indexCast v789
  ![3, v791.toNat]
def k1_off127 (k1_t9 : Fin k1_t9_loop.trips) : Fin 2 → Nat :=
  let c4_i32_1160 : BitVec 32 := 4#32
  let v794 : Index := Scalar.indexCast c4_i32_1160
  let c0_i32_100 : BitVec 32 := 0#32
  let c1_i32_102 : BitVec 32 := 1#32
  let arg9 : BitVec 32 := Scf.iv c0_i32_100 c1_i32_102 k1_t9
  let c16_i32_1159 : BitVec 32 := 16#32
  let v793 : BitVec 32 := Scalar.muli arg9 c16_i32_1159
  let v795 : Index := Scalar.indexCast v793
  ![4, v795.toNat]
def k1_off128 (k1_t9 : Fin k1_t9_loop.trips) : Fin 2 → Nat :=
  let c5_i32_1162 : BitVec 32 := 5#32
  let v798 : Index := Scalar.indexCast c5_i32_1162
  let c0_i32_100 : BitVec 32 := 0#32
  let c1_i32_102 : BitVec 32 := 1#32
  let arg9 : BitVec 32 := Scf.iv c0_i32_100 c1_i32_102 k1_t9
  let c16_i32_1161 : BitVec 32 := 16#32
  let v797 : BitVec 32 := Scalar.muli arg9 c16_i32_1161
  let v799 : Index := Scalar.indexCast v797
  ![5, v799.toNat]
def k1_off129 (k1_t9 : Fin k1_t9_loop.trips) : Fin 2 → Nat :=
  let c6_i32_1164 : BitVec 32 := 6#32
  let v802 : Index := Scalar.indexCast c6_i32_1164
  let c0_i32_100 : BitVec 32 := 0#32
  let c1_i32_102 : BitVec 32 := 1#32
  let arg9 : BitVec 32 := Scf.iv c0_i32_100 c1_i32_102 k1_t9
  let c16_i32_1163 : BitVec 32 := 16#32
  let v801 : BitVec 32 := Scalar.muli arg9 c16_i32_1163
  let v803 : Index := Scalar.indexCast v801
  ![6, v803.toNat]
def k1_off130 (k1_t9 : Fin k1_t9_loop.trips) : Fin 2 → Nat :=
  let c7_i32_1166 : BitVec 32 := 7#32
  let v806 : Index := Scalar.indexCast c7_i32_1166
  let c0_i32_100 : BitVec 32 := 0#32
  let c1_i32_102 : BitVec 32 := 1#32
  let arg9 : BitVec 32 := Scf.iv c0_i32_100 c1_i32_102 k1_t9
  let c16_i32_1165 : BitVec 32 := 16#32
  let v805 : BitVec 32 := Scalar.muli arg9 c16_i32_1165
  let v807 : Index := Scalar.indexCast v805
  ![7, v807.toNat]
def k1_off131 (k1_t9 : Fin k1_t9_loop.trips) : Fin 2 → Nat :=
  let c8_i32_1168 : BitVec 32 := 8#32
  let v810 : Index := Scalar.indexCast c8_i32_1168
  let c0_i32_100 : BitVec 32 := 0#32
  let c1_i32_102 : BitVec 32 := 1#32
  let arg9 : BitVec 32 := Scf.iv c0_i32_100 c1_i32_102 k1_t9
  let c16_i32_1167 : BitVec 32 := 16#32
  let v809 : BitVec 32 := Scalar.muli arg9 c16_i32_1167
  let v811 : Index := Scalar.indexCast v809
  ![8, v811.toNat]
def k1_off132 (k1_t9 : Fin k1_t9_loop.trips) : Fin 2 → Nat :=
  let c9_i32_1170 : BitVec 32 := 9#32
  let v814 : Index := Scalar.indexCast c9_i32_1170
  let c0_i32_100 : BitVec 32 := 0#32
  let c1_i32_102 : BitVec 32 := 1#32
  let arg9 : BitVec 32 := Scf.iv c0_i32_100 c1_i32_102 k1_t9
  let c16_i32_1169 : BitVec 32 := 16#32
  let v813 : BitVec 32 := Scalar.muli arg9 c16_i32_1169
  let v815 : Index := Scalar.indexCast v813
  ![9, v815.toNat]
def k1_off133 (k1_t9 : Fin k1_t9_loop.trips) : Fin 2 → Nat :=
  let c10_i32_1172 : BitVec 32 := 10#32
  let v818 : Index := Scalar.indexCast c10_i32_1172
  let c0_i32_100 : BitVec 32 := 0#32
  let c1_i32_102 : BitVec 32 := 1#32
  let arg9 : BitVec 32 := Scf.iv c0_i32_100 c1_i32_102 k1_t9
  let c16_i32_1171 : BitVec 32 := 16#32
  let v817 : BitVec 32 := Scalar.muli arg9 c16_i32_1171
  let v819 : Index := Scalar.indexCast v817
  ![10, v819.toNat]
def k1_off134 (k1_t9 : Fin k1_t9_loop.trips) : Fin 2 → Nat :=
  let c11_i32_1174 : BitVec 32 := 11#32
  let v822 : Index := Scalar.indexCast c11_i32_1174
  let c0_i32_100 : BitVec 32 := 0#32
  let c1_i32_102 : BitVec 32 := 1#32
  let arg9 : BitVec 32 := Scf.iv c0_i32_100 c1_i32_102 k1_t9
  let c16_i32_1173 : BitVec 32 := 16#32
  let v821 : BitVec 32 := Scalar.muli arg9 c16_i32_1173
  let v823 : Index := Scalar.indexCast v821
  ![11, v823.toNat]
def k1_off135 (k1_t9 : Fin k1_t9_loop.trips) : Fin 2 → Nat :=
  let c12_i32_1176 : BitVec 32 := 12#32
  let v826 : Index := Scalar.indexCast c12_i32_1176
  let c0_i32_100 : BitVec 32 := 0#32
  let c1_i32_102 : BitVec 32 := 1#32
  let arg9 : BitVec 32 := Scf.iv c0_i32_100 c1_i32_102 k1_t9
  let c16_i32_1175 : BitVec 32 := 16#32
  let v825 : BitVec 32 := Scalar.muli arg9 c16_i32_1175
  let v827 : Index := Scalar.indexCast v825
  ![12, v827.toNat]
def k1_off136 (k1_t9 : Fin k1_t9_loop.trips) : Fin 2 → Nat :=
  let c13_i32_1178 : BitVec 32 := 13#32
  let v830 : Index := Scalar.indexCast c13_i32_1178
  let c0_i32_100 : BitVec 32 := 0#32
  let c1_i32_102 : BitVec 32 := 1#32
  let arg9 : BitVec 32 := Scf.iv c0_i32_100 c1_i32_102 k1_t9
  let c16_i32_1177 : BitVec 32 := 16#32
  let v829 : BitVec 32 := Scalar.muli arg9 c16_i32_1177
  let v831 : Index := Scalar.indexCast v829
  ![13, v831.toNat]
def k1_off137 (k1_t9 : Fin k1_t9_loop.trips) : Fin 2 → Nat :=
  let c14_i32_1180 : BitVec 32 := 14#32
  let v834 : Index := Scalar.indexCast c14_i32_1180
  let c0_i32_100 : BitVec 32 := 0#32
  let c1_i32_102 : BitVec 32 := 1#32
  let arg9 : BitVec 32 := Scf.iv c0_i32_100 c1_i32_102 k1_t9
  let c16_i32_1179 : BitVec 32 := 16#32
  let v833 : BitVec 32 := Scalar.muli arg9 c16_i32_1179
  let v835 : Index := Scalar.indexCast v833
  ![14, v835.toNat]
def k1_off138 (k1_t9 : Fin k1_t9_loop.trips) : Fin 2 → Nat :=
  let c15_i32_1182 : BitVec 32 := 15#32
  let v838 : Index := Scalar.indexCast c15_i32_1182
  let c0_i32_100 : BitVec 32 := 0#32
  let c1_i32_102 : BitVec 32 := 1#32
  let arg9 : BitVec 32 := Scf.iv c0_i32_100 c1_i32_102 k1_t9
  let c16_i32_1181 : BitVec 32 := 16#32
  let v837 : BitVec 32 := Scalar.muli arg9 c16_i32_1181
  let v839 : Index := Scalar.indexCast v837
  ![15, v839.toNat]

def k1_chk113 (v780 : IVec S16 32) : Prop :=
  (∀ a x, ((![v780] : Fin 1 → IVec S16 32) a x).toNat < S88320.size a)
theorem k1_idx113_inb : ∀ (v780 : IVec S16 32) (k1_hw113 : k1_chk113 v780), ∀ a x, ((![v780] : Fin 1 → IVec S16 32) a x).toNat < S88320.size a := fun v780 k1_hw113 => k1_hw113

def k1_chk114 (v784 : IVec S16 32) : Prop :=
  (∀ a x, ((![v784] : Fin 1 → IVec S16 32) a x).toNat < S88320.size a)
theorem k1_idx114_inb : ∀ (v784 : IVec S16 32) (k1_hw114 : k1_chk114 v784), ∀ a x, ((![v784] : Fin 1 → IVec S16 32) a x).toNat < S88320.size a := fun v784 k1_hw114 => k1_hw114

def k1_chk115 (v788 : IVec S16 32) : Prop :=
  (∀ a x, ((![v788] : Fin 1 → IVec S16 32) a x).toNat < S88320.size a)
theorem k1_idx115_inb : ∀ (v788 : IVec S16 32) (k1_hw115 : k1_chk115 v788), ∀ a x, ((![v788] : Fin 1 → IVec S16 32) a x).toNat < S88320.size a := fun v788 k1_hw115 => k1_hw115

def k1_chk116 (v792 : IVec S16 32) : Prop :=
  (∀ a x, ((![v792] : Fin 1 → IVec S16 32) a x).toNat < S88320.size a)
theorem k1_idx116_inb : ∀ (v792 : IVec S16 32) (k1_hw116 : k1_chk116 v792), ∀ a x, ((![v792] : Fin 1 → IVec S16 32) a x).toNat < S88320.size a := fun v792 k1_hw116 => k1_hw116

def k1_chk117 (v796 : IVec S16 32) : Prop :=
  (∀ a x, ((![v796] : Fin 1 → IVec S16 32) a x).toNat < S88320.size a)
theorem k1_idx117_inb : ∀ (v796 : IVec S16 32) (k1_hw117 : k1_chk117 v796), ∀ a x, ((![v796] : Fin 1 → IVec S16 32) a x).toNat < S88320.size a := fun v796 k1_hw117 => k1_hw117

def k1_chk118 (v800 : IVec S16 32) : Prop :=
  (∀ a x, ((![v800] : Fin 1 → IVec S16 32) a x).toNat < S88320.size a)
theorem k1_idx118_inb : ∀ (v800 : IVec S16 32) (k1_hw118 : k1_chk118 v800), ∀ a x, ((![v800] : Fin 1 → IVec S16 32) a x).toNat < S88320.size a := fun v800 k1_hw118 => k1_hw118

def k1_chk119 (v804 : IVec S16 32) : Prop :=
  (∀ a x, ((![v804] : Fin 1 → IVec S16 32) a x).toNat < S88320.size a)
theorem k1_idx119_inb : ∀ (v804 : IVec S16 32) (k1_hw119 : k1_chk119 v804), ∀ a x, ((![v804] : Fin 1 → IVec S16 32) a x).toNat < S88320.size a := fun v804 k1_hw119 => k1_hw119

def k1_chk120 (v808 : IVec S16 32) : Prop :=
  (∀ a x, ((![v808] : Fin 1 → IVec S16 32) a x).toNat < S88320.size a)
theorem k1_idx120_inb : ∀ (v808 : IVec S16 32) (k1_hw120 : k1_chk120 v808), ∀ a x, ((![v808] : Fin 1 → IVec S16 32) a x).toNat < S88320.size a := fun v808 k1_hw120 => k1_hw120

def k1_chk121 (v812 : IVec S16 32) : Prop :=
  (∀ a x, ((![v812] : Fin 1 → IVec S16 32) a x).toNat < S88320.size a)
theorem k1_idx121_inb : ∀ (v812 : IVec S16 32) (k1_hw121 : k1_chk121 v812), ∀ a x, ((![v812] : Fin 1 → IVec S16 32) a x).toNat < S88320.size a := fun v812 k1_hw121 => k1_hw121

def k1_chk122 (v816 : IVec S16 32) : Prop :=
  (∀ a x, ((![v816] : Fin 1 → IVec S16 32) a x).toNat < S88320.size a)
theorem k1_idx122_inb : ∀ (v816 : IVec S16 32) (k1_hw122 : k1_chk122 v816), ∀ a x, ((![v816] : Fin 1 → IVec S16 32) a x).toNat < S88320.size a := fun v816 k1_hw122 => k1_hw122

def k1_chk123 (v820 : IVec S16 32) : Prop :=
  (∀ a x, ((![v820] : Fin 1 → IVec S16 32) a x).toNat < S88320.size a)
theorem k1_idx123_inb : ∀ (v820 : IVec S16 32) (k1_hw123 : k1_chk123 v820), ∀ a x, ((![v820] : Fin 1 → IVec S16 32) a x).toNat < S88320.size a := fun v820 k1_hw123 => k1_hw123

def k1_chk124 (v824 : IVec S16 32) : Prop :=
  (∀ a x, ((![v824] : Fin 1 → IVec S16 32) a x).toNat < S88320.size a)
theorem k1_idx124_inb : ∀ (v824 : IVec S16 32) (k1_hw124 : k1_chk124 v824), ∀ a x, ((![v824] : Fin 1 → IVec S16 32) a x).toNat < S88320.size a := fun v824 k1_hw124 => k1_hw124

def k1_chk125 (v828 : IVec S16 32) : Prop :=
  (∀ a x, ((![v828] : Fin 1 → IVec S16 32) a x).toNat < S88320.size a)
theorem k1_idx125_inb : ∀ (v828 : IVec S16 32) (k1_hw125 : k1_chk125 v828), ∀ a x, ((![v828] : Fin 1 → IVec S16 32) a x).toNat < S88320.size a := fun v828 k1_hw125 => k1_hw125

def k1_chk126 (v832 : IVec S16 32) : Prop :=
  (∀ a x, ((![v832] : Fin 1 → IVec S16 32) a x).toNat < S88320.size a)
theorem k1_idx126_inb : ∀ (v832 : IVec S16 32) (k1_hw126 : k1_chk126 v832), ∀ a x, ((![v832] : Fin 1 → IVec S16 32) a x).toNat < S88320.size a := fun v832 k1_hw126 => k1_hw126

def k1_chk127 (v836 : IVec S16 32) : Prop :=
  (∀ a x, ((![v836] : Fin 1 → IVec S16 32) a x).toNat < S88320.size a)
theorem k1_idx127_inb : ∀ (v836 : IVec S16 32) (k1_hw127 : k1_chk127 v836), ∀ a x, ((![v836] : Fin 1 → IVec S16 32) a x).toNat < S88320.size a := fun v836 k1_hw127 => k1_hw127

def k1_chk128 (v840 : IVec S16 32) : Prop :=
  (∀ a x, ((![v840] : Fin 1 → IVec S16 32) a x).toNat < S88320.size a)
theorem k1_idx128_inb : ∀ (v840 : IVec S16 32) (k1_hw128 : k1_chk128 v840), ∀ a x, ((![v840] : Fin 1 → IVec S16 32) a x).toNat < S88320.size a := fun v840 k1_hw128 => k1_hw128
def k1_off139 (i : grid1.Coords) : Fin 4 → Nat :=
  let c0_i32_104 : BitVec 32 := 0#32
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_105 : BitVec 32 := 0#32
  ![0, 9, v2.toNat, 0]
@[reducible] def k1_t10_loop : Scf.Loop 32 :=
  let c0_i32_112 : BitVec 32 := 0#32
  let c32_i32_113 : BitVec 32 := 32#32
  let v90 : BitVec 32 := Scalar.addi c0_i32_112 c32_i32_113
  let c1_i32_114 : BitVec 32 := 1#32
  ⟨c0_i32_112, v90, c1_i32_114⟩
def k1_off140 (k1_t10 : Fin k1_t10_loop.trips) : Fin 2 → Nat :=
  let c0_i32_1152 : BitVec 32 := 0#32
  let v778 : Index := Scalar.indexCast c0_i32_1152
  let c0_i32_112 : BitVec 32 := 0#32
  let c1_i32_114 : BitVec 32 := 1#32
  let arg9 : BitVec 32 := Scf.iv c0_i32_112 c1_i32_114 k1_t10
  let c16_i32_1151 : BitVec 32 := 16#32
  let v777 : BitVec 32 := Scalar.muli arg9 c16_i32_1151
  let v779 : Index := Scalar.indexCast v777
  ![0, v779.toNat]
def k1_off141 (k1_t10 : Fin k1_t10_loop.trips) : Fin 2 → Nat :=
  let c1_i32_1154 : BitVec 32 := 1#32
  let v782 : Index := Scalar.indexCast c1_i32_1154
  let c0_i32_112 : BitVec 32 := 0#32
  let c1_i32_114 : BitVec 32 := 1#32
  let arg9 : BitVec 32 := Scf.iv c0_i32_112 c1_i32_114 k1_t10
  let c16_i32_1153 : BitVec 32 := 16#32
  let v781 : BitVec 32 := Scalar.muli arg9 c16_i32_1153
  let v783 : Index := Scalar.indexCast v781
  ![1, v783.toNat]
def k1_off142 (k1_t10 : Fin k1_t10_loop.trips) : Fin 2 → Nat :=
  let c2_i32_1156 : BitVec 32 := 2#32
  let v786 : Index := Scalar.indexCast c2_i32_1156
  let c0_i32_112 : BitVec 32 := 0#32
  let c1_i32_114 : BitVec 32 := 1#32
  let arg9 : BitVec 32 := Scf.iv c0_i32_112 c1_i32_114 k1_t10
  let c16_i32_1155 : BitVec 32 := 16#32
  let v785 : BitVec 32 := Scalar.muli arg9 c16_i32_1155
  let v787 : Index := Scalar.indexCast v785
  ![2, v787.toNat]
def k1_off143 (k1_t10 : Fin k1_t10_loop.trips) : Fin 2 → Nat :=
  let c3_i32_1158 : BitVec 32 := 3#32
  let v790 : Index := Scalar.indexCast c3_i32_1158
  let c0_i32_112 : BitVec 32 := 0#32
  let c1_i32_114 : BitVec 32 := 1#32
  let arg9 : BitVec 32 := Scf.iv c0_i32_112 c1_i32_114 k1_t10
  let c16_i32_1157 : BitVec 32 := 16#32
  let v789 : BitVec 32 := Scalar.muli arg9 c16_i32_1157
  let v791 : Index := Scalar.indexCast v789
  ![3, v791.toNat]
def k1_off144 (k1_t10 : Fin k1_t10_loop.trips) : Fin 2 → Nat :=
  let c4_i32_1160 : BitVec 32 := 4#32
  let v794 : Index := Scalar.indexCast c4_i32_1160
  let c0_i32_112 : BitVec 32 := 0#32
  let c1_i32_114 : BitVec 32 := 1#32
  let arg9 : BitVec 32 := Scf.iv c0_i32_112 c1_i32_114 k1_t10
  let c16_i32_1159 : BitVec 32 := 16#32
  let v793 : BitVec 32 := Scalar.muli arg9 c16_i32_1159
  let v795 : Index := Scalar.indexCast v793
  ![4, v795.toNat]
def k1_off145 (k1_t10 : Fin k1_t10_loop.trips) : Fin 2 → Nat :=
  let c5_i32_1162 : BitVec 32 := 5#32
  let v798 : Index := Scalar.indexCast c5_i32_1162
  let c0_i32_112 : BitVec 32 := 0#32
  let c1_i32_114 : BitVec 32 := 1#32
  let arg9 : BitVec 32 := Scf.iv c0_i32_112 c1_i32_114 k1_t10
  let c16_i32_1161 : BitVec 32 := 16#32
  let v797 : BitVec 32 := Scalar.muli arg9 c16_i32_1161
  let v799 : Index := Scalar.indexCast v797
  ![5, v799.toNat]
def k1_off146 (k1_t10 : Fin k1_t10_loop.trips) : Fin 2 → Nat :=
  let c6_i32_1164 : BitVec 32 := 6#32
  let v802 : Index := Scalar.indexCast c6_i32_1164
  let c0_i32_112 : BitVec 32 := 0#32
  let c1_i32_114 : BitVec 32 := 1#32
  let arg9 : BitVec 32 := Scf.iv c0_i32_112 c1_i32_114 k1_t10
  let c16_i32_1163 : BitVec 32 := 16#32
  let v801 : BitVec 32 := Scalar.muli arg9 c16_i32_1163
  let v803 : Index := Scalar.indexCast v801
  ![6, v803.toNat]
def k1_off147 (k1_t10 : Fin k1_t10_loop.trips) : Fin 2 → Nat :=
  let c7_i32_1166 : BitVec 32 := 7#32
  let v806 : Index := Scalar.indexCast c7_i32_1166
  let c0_i32_112 : BitVec 32 := 0#32
  let c1_i32_114 : BitVec 32 := 1#32
  let arg9 : BitVec 32 := Scf.iv c0_i32_112 c1_i32_114 k1_t10
  let c16_i32_1165 : BitVec 32 := 16#32
  let v805 : BitVec 32 := Scalar.muli arg9 c16_i32_1165
  let v807 : Index := Scalar.indexCast v805
  ![7, v807.toNat]
def k1_off148 (k1_t10 : Fin k1_t10_loop.trips) : Fin 2 → Nat :=
  let c8_i32_1168 : BitVec 32 := 8#32
  let v810 : Index := Scalar.indexCast c8_i32_1168
  let c0_i32_112 : BitVec 32 := 0#32
  let c1_i32_114 : BitVec 32 := 1#32
  let arg9 : BitVec 32 := Scf.iv c0_i32_112 c1_i32_114 k1_t10
  let c16_i32_1167 : BitVec 32 := 16#32
  let v809 : BitVec 32 := Scalar.muli arg9 c16_i32_1167
  let v811 : Index := Scalar.indexCast v809
  ![8, v811.toNat]
def k1_off149 (k1_t10 : Fin k1_t10_loop.trips) : Fin 2 → Nat :=
  let c9_i32_1170 : BitVec 32 := 9#32
  let v814 : Index := Scalar.indexCast c9_i32_1170
  let c0_i32_112 : BitVec 32 := 0#32
  let c1_i32_114 : BitVec 32 := 1#32
  let arg9 : BitVec 32 := Scf.iv c0_i32_112 c1_i32_114 k1_t10
  let c16_i32_1169 : BitVec 32 := 16#32
  let v813 : BitVec 32 := Scalar.muli arg9 c16_i32_1169
  let v815 : Index := Scalar.indexCast v813
  ![9, v815.toNat]
def k1_off150 (k1_t10 : Fin k1_t10_loop.trips) : Fin 2 → Nat :=
  let c10_i32_1172 : BitVec 32 := 10#32
  let v818 : Index := Scalar.indexCast c10_i32_1172
  let c0_i32_112 : BitVec 32 := 0#32
  let c1_i32_114 : BitVec 32 := 1#32
  let arg9 : BitVec 32 := Scf.iv c0_i32_112 c1_i32_114 k1_t10
  let c16_i32_1171 : BitVec 32 := 16#32
  let v817 : BitVec 32 := Scalar.muli arg9 c16_i32_1171
  let v819 : Index := Scalar.indexCast v817
  ![10, v819.toNat]
def k1_off151 (k1_t10 : Fin k1_t10_loop.trips) : Fin 2 → Nat :=
  let c11_i32_1174 : BitVec 32 := 11#32
  let v822 : Index := Scalar.indexCast c11_i32_1174
  let c0_i32_112 : BitVec 32 := 0#32
  let c1_i32_114 : BitVec 32 := 1#32
  let arg9 : BitVec 32 := Scf.iv c0_i32_112 c1_i32_114 k1_t10
  let c16_i32_1173 : BitVec 32 := 16#32
  let v821 : BitVec 32 := Scalar.muli arg9 c16_i32_1173
  let v823 : Index := Scalar.indexCast v821
  ![11, v823.toNat]
def k1_off152 (k1_t10 : Fin k1_t10_loop.trips) : Fin 2 → Nat :=
  let c12_i32_1176 : BitVec 32 := 12#32
  let v826 : Index := Scalar.indexCast c12_i32_1176
  let c0_i32_112 : BitVec 32 := 0#32
  let c1_i32_114 : BitVec 32 := 1#32
  let arg9 : BitVec 32 := Scf.iv c0_i32_112 c1_i32_114 k1_t10
  let c16_i32_1175 : BitVec 32 := 16#32
  let v825 : BitVec 32 := Scalar.muli arg9 c16_i32_1175
  let v827 : Index := Scalar.indexCast v825
  ![12, v827.toNat]
def k1_off153 (k1_t10 : Fin k1_t10_loop.trips) : Fin 2 → Nat :=
  let c13_i32_1178 : BitVec 32 := 13#32
  let v830 : Index := Scalar.indexCast c13_i32_1178
  let c0_i32_112 : BitVec 32 := 0#32
  let c1_i32_114 : BitVec 32 := 1#32
  let arg9 : BitVec 32 := Scf.iv c0_i32_112 c1_i32_114 k1_t10
  let c16_i32_1177 : BitVec 32 := 16#32
  let v829 : BitVec 32 := Scalar.muli arg9 c16_i32_1177
  let v831 : Index := Scalar.indexCast v829
  ![13, v831.toNat]
def k1_off154 (k1_t10 : Fin k1_t10_loop.trips) : Fin 2 → Nat :=
  let c14_i32_1180 : BitVec 32 := 14#32
  let v834 : Index := Scalar.indexCast c14_i32_1180
  let c0_i32_112 : BitVec 32 := 0#32
  let c1_i32_114 : BitVec 32 := 1#32
  let arg9 : BitVec 32 := Scf.iv c0_i32_112 c1_i32_114 k1_t10
  let c16_i32_1179 : BitVec 32 := 16#32
  let v833 : BitVec 32 := Scalar.muli arg9 c16_i32_1179
  let v835 : Index := Scalar.indexCast v833
  ![14, v835.toNat]
def k1_off155 (k1_t10 : Fin k1_t10_loop.trips) : Fin 2 → Nat :=
  let c15_i32_1182 : BitVec 32 := 15#32
  let v838 : Index := Scalar.indexCast c15_i32_1182
  let c0_i32_112 : BitVec 32 := 0#32
  let c1_i32_114 : BitVec 32 := 1#32
  let arg9 : BitVec 32 := Scf.iv c0_i32_112 c1_i32_114 k1_t10
  let c16_i32_1181 : BitVec 32 := 16#32
  let v837 : BitVec 32 := Scalar.muli arg9 c16_i32_1181
  let v839 : Index := Scalar.indexCast v837
  ![15, v839.toNat]

def k1_chk129 (v780 : IVec S16 32) : Prop :=
  (∀ a x, ((![v780] : Fin 1 → IVec S16 32) a x).toNat < S88320.size a)
theorem k1_idx129_inb : ∀ (v780 : IVec S16 32) (k1_hw129 : k1_chk129 v780), ∀ a x, ((![v780] : Fin 1 → IVec S16 32) a x).toNat < S88320.size a := fun v780 k1_hw129 => k1_hw129

def k1_chk130 (v784 : IVec S16 32) : Prop :=
  (∀ a x, ((![v784] : Fin 1 → IVec S16 32) a x).toNat < S88320.size a)
theorem k1_idx130_inb : ∀ (v784 : IVec S16 32) (k1_hw130 : k1_chk130 v784), ∀ a x, ((![v784] : Fin 1 → IVec S16 32) a x).toNat < S88320.size a := fun v784 k1_hw130 => k1_hw130

def k1_chk131 (v788 : IVec S16 32) : Prop :=
  (∀ a x, ((![v788] : Fin 1 → IVec S16 32) a x).toNat < S88320.size a)
theorem k1_idx131_inb : ∀ (v788 : IVec S16 32) (k1_hw131 : k1_chk131 v788), ∀ a x, ((![v788] : Fin 1 → IVec S16 32) a x).toNat < S88320.size a := fun v788 k1_hw131 => k1_hw131

def k1_chk132 (v792 : IVec S16 32) : Prop :=
  (∀ a x, ((![v792] : Fin 1 → IVec S16 32) a x).toNat < S88320.size a)
theorem k1_idx132_inb : ∀ (v792 : IVec S16 32) (k1_hw132 : k1_chk132 v792), ∀ a x, ((![v792] : Fin 1 → IVec S16 32) a x).toNat < S88320.size a := fun v792 k1_hw132 => k1_hw132

def k1_chk133 (v796 : IVec S16 32) : Prop :=
  (∀ a x, ((![v796] : Fin 1 → IVec S16 32) a x).toNat < S88320.size a)
theorem k1_idx133_inb : ∀ (v796 : IVec S16 32) (k1_hw133 : k1_chk133 v796), ∀ a x, ((![v796] : Fin 1 → IVec S16 32) a x).toNat < S88320.size a := fun v796 k1_hw133 => k1_hw133

def k1_chk134 (v800 : IVec S16 32) : Prop :=
  (∀ a x, ((![v800] : Fin 1 → IVec S16 32) a x).toNat < S88320.size a)
theorem k1_idx134_inb : ∀ (v800 : IVec S16 32) (k1_hw134 : k1_chk134 v800), ∀ a x, ((![v800] : Fin 1 → IVec S16 32) a x).toNat < S88320.size a := fun v800 k1_hw134 => k1_hw134

def k1_chk135 (v804 : IVec S16 32) : Prop :=
  (∀ a x, ((![v804] : Fin 1 → IVec S16 32) a x).toNat < S88320.size a)
theorem k1_idx135_inb : ∀ (v804 : IVec S16 32) (k1_hw135 : k1_chk135 v804), ∀ a x, ((![v804] : Fin 1 → IVec S16 32) a x).toNat < S88320.size a := fun v804 k1_hw135 => k1_hw135

def k1_chk136 (v808 : IVec S16 32) : Prop :=
  (∀ a x, ((![v808] : Fin 1 → IVec S16 32) a x).toNat < S88320.size a)
theorem k1_idx136_inb : ∀ (v808 : IVec S16 32) (k1_hw136 : k1_chk136 v808), ∀ a x, ((![v808] : Fin 1 → IVec S16 32) a x).toNat < S88320.size a := fun v808 k1_hw136 => k1_hw136

def k1_chk137 (v812 : IVec S16 32) : Prop :=
  (∀ a x, ((![v812] : Fin 1 → IVec S16 32) a x).toNat < S88320.size a)
theorem k1_idx137_inb : ∀ (v812 : IVec S16 32) (k1_hw137 : k1_chk137 v812), ∀ a x, ((![v812] : Fin 1 → IVec S16 32) a x).toNat < S88320.size a := fun v812 k1_hw137 => k1_hw137

def k1_chk138 (v816 : IVec S16 32) : Prop :=
  (∀ a x, ((![v816] : Fin 1 → IVec S16 32) a x).toNat < S88320.size a)
theorem k1_idx138_inb : ∀ (v816 : IVec S16 32) (k1_hw138 : k1_chk138 v816), ∀ a x, ((![v816] : Fin 1 → IVec S16 32) a x).toNat < S88320.size a := fun v816 k1_hw138 => k1_hw138

def k1_chk139 (v820 : IVec S16 32) : Prop :=
  (∀ a x, ((![v820] : Fin 1 → IVec S16 32) a x).toNat < S88320.size a)
theorem k1_idx139_inb : ∀ (v820 : IVec S16 32) (k1_hw139 : k1_chk139 v820), ∀ a x, ((![v820] : Fin 1 → IVec S16 32) a x).toNat < S88320.size a := fun v820 k1_hw139 => k1_hw139

def k1_chk140 (v824 : IVec S16 32) : Prop :=
  (∀ a x, ((![v824] : Fin 1 → IVec S16 32) a x).toNat < S88320.size a)
theorem k1_idx140_inb : ∀ (v824 : IVec S16 32) (k1_hw140 : k1_chk140 v824), ∀ a x, ((![v824] : Fin 1 → IVec S16 32) a x).toNat < S88320.size a := fun v824 k1_hw140 => k1_hw140

def k1_chk141 (v828 : IVec S16 32) : Prop :=
  (∀ a x, ((![v828] : Fin 1 → IVec S16 32) a x).toNat < S88320.size a)
theorem k1_idx141_inb : ∀ (v828 : IVec S16 32) (k1_hw141 : k1_chk141 v828), ∀ a x, ((![v828] : Fin 1 → IVec S16 32) a x).toNat < S88320.size a := fun v828 k1_hw141 => k1_hw141

def k1_chk142 (v832 : IVec S16 32) : Prop :=
  (∀ a x, ((![v832] : Fin 1 → IVec S16 32) a x).toNat < S88320.size a)
theorem k1_idx142_inb : ∀ (v832 : IVec S16 32) (k1_hw142 : k1_chk142 v832), ∀ a x, ((![v832] : Fin 1 → IVec S16 32) a x).toNat < S88320.size a := fun v832 k1_hw142 => k1_hw142

def k1_chk143 (v836 : IVec S16 32) : Prop :=
  (∀ a x, ((![v836] : Fin 1 → IVec S16 32) a x).toNat < S88320.size a)
theorem k1_idx143_inb : ∀ (v836 : IVec S16 32) (k1_hw143 : k1_chk143 v836), ∀ a x, ((![v836] : Fin 1 → IVec S16 32) a x).toNat < S88320.size a := fun v836 k1_hw143 => k1_hw143

def k1_chk144 (v840 : IVec S16 32) : Prop :=
  (∀ a x, ((![v840] : Fin 1 → IVec S16 32) a x).toNat < S88320.size a)
theorem k1_idx144_inb : ∀ (v840 : IVec S16 32) (k1_hw144 : k1_chk144 v840), ∀ a x, ((![v840] : Fin 1 → IVec S16 32) a x).toNat < S88320.size a := fun v840 k1_hw144 => k1_hw144
def k1_off156 (i : grid1.Coords) : Fin 4 → Nat :=
  let c0_i32_116 : BitVec 32 := 0#32
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_117 : BitVec 32 := 0#32
  ![0, 10, v2.toNat, 0]
@[reducible] def k1_t11_loop : Scf.Loop 32 :=
  let c0_i32_124 : BitVec 32 := 0#32
  let c32_i32_125 : BitVec 32 := 32#32
  let v99 : BitVec 32 := Scalar.addi c0_i32_124 c32_i32_125
  let c1_i32_126 : BitVec 32 := 1#32
  ⟨c0_i32_124, v99, c1_i32_126⟩
def k1_off157 (k1_t11 : Fin k1_t11_loop.trips) : Fin 2 → Nat :=
  let c0_i32_1152 : BitVec 32 := 0#32
  let v778 : Index := Scalar.indexCast c0_i32_1152
  let c0_i32_124 : BitVec 32 := 0#32
  let c1_i32_126 : BitVec 32 := 1#32
  let arg9 : BitVec 32 := Scf.iv c0_i32_124 c1_i32_126 k1_t11
  let c16_i32_1151 : BitVec 32 := 16#32
  let v777 : BitVec 32 := Scalar.muli arg9 c16_i32_1151
  let v779 : Index := Scalar.indexCast v777
  ![0, v779.toNat]
def k1_off158 (k1_t11 : Fin k1_t11_loop.trips) : Fin 2 → Nat :=
  let c1_i32_1154 : BitVec 32 := 1#32
  let v782 : Index := Scalar.indexCast c1_i32_1154
  let c0_i32_124 : BitVec 32 := 0#32
  let c1_i32_126 : BitVec 32 := 1#32
  let arg9 : BitVec 32 := Scf.iv c0_i32_124 c1_i32_126 k1_t11
  let c16_i32_1153 : BitVec 32 := 16#32
  let v781 : BitVec 32 := Scalar.muli arg9 c16_i32_1153
  let v783 : Index := Scalar.indexCast v781
  ![1, v783.toNat]
def k1_off159 (k1_t11 : Fin k1_t11_loop.trips) : Fin 2 → Nat :=
  let c2_i32_1156 : BitVec 32 := 2#32
  let v786 : Index := Scalar.indexCast c2_i32_1156
  let c0_i32_124 : BitVec 32 := 0#32
  let c1_i32_126 : BitVec 32 := 1#32
  let arg9 : BitVec 32 := Scf.iv c0_i32_124 c1_i32_126 k1_t11
  let c16_i32_1155 : BitVec 32 := 16#32
  let v785 : BitVec 32 := Scalar.muli arg9 c16_i32_1155
  let v787 : Index := Scalar.indexCast v785
  ![2, v787.toNat]
def k1_off160 (k1_t11 : Fin k1_t11_loop.trips) : Fin 2 → Nat :=
  let c3_i32_1158 : BitVec 32 := 3#32
  let v790 : Index := Scalar.indexCast c3_i32_1158
  let c0_i32_124 : BitVec 32 := 0#32
  let c1_i32_126 : BitVec 32 := 1#32
  let arg9 : BitVec 32 := Scf.iv c0_i32_124 c1_i32_126 k1_t11
  let c16_i32_1157 : BitVec 32 := 16#32
  let v789 : BitVec 32 := Scalar.muli arg9 c16_i32_1157
  let v791 : Index := Scalar.indexCast v789
  ![3, v791.toNat]
def k1_off161 (k1_t11 : Fin k1_t11_loop.trips) : Fin 2 → Nat :=
  let c4_i32_1160 : BitVec 32 := 4#32
  let v794 : Index := Scalar.indexCast c4_i32_1160
  let c0_i32_124 : BitVec 32 := 0#32
  let c1_i32_126 : BitVec 32 := 1#32
  let arg9 : BitVec 32 := Scf.iv c0_i32_124 c1_i32_126 k1_t11
  let c16_i32_1159 : BitVec 32 := 16#32
  let v793 : BitVec 32 := Scalar.muli arg9 c16_i32_1159
  let v795 : Index := Scalar.indexCast v793
  ![4, v795.toNat]
def k1_off162 (k1_t11 : Fin k1_t11_loop.trips) : Fin 2 → Nat :=
  let c5_i32_1162 : BitVec 32 := 5#32
  let v798 : Index := Scalar.indexCast c5_i32_1162
  let c0_i32_124 : BitVec 32 := 0#32
  let c1_i32_126 : BitVec 32 := 1#32
  let arg9 : BitVec 32 := Scf.iv c0_i32_124 c1_i32_126 k1_t11
  let c16_i32_1161 : BitVec 32 := 16#32
  let v797 : BitVec 32 := Scalar.muli arg9 c16_i32_1161
  let v799 : Index := Scalar.indexCast v797
  ![5, v799.toNat]
def k1_off163 (k1_t11 : Fin k1_t11_loop.trips) : Fin 2 → Nat :=
  let c6_i32_1164 : BitVec 32 := 6#32
  let v802 : Index := Scalar.indexCast c6_i32_1164
  let c0_i32_124 : BitVec 32 := 0#32
  let c1_i32_126 : BitVec 32 := 1#32
  let arg9 : BitVec 32 := Scf.iv c0_i32_124 c1_i32_126 k1_t11
  let c16_i32_1163 : BitVec 32 := 16#32
  let v801 : BitVec 32 := Scalar.muli arg9 c16_i32_1163
  let v803 : Index := Scalar.indexCast v801
  ![6, v803.toNat]
def k1_off164 (k1_t11 : Fin k1_t11_loop.trips) : Fin 2 → Nat :=
  let c7_i32_1166 : BitVec 32 := 7#32
  let v806 : Index := Scalar.indexCast c7_i32_1166
  let c0_i32_124 : BitVec 32 := 0#32
  let c1_i32_126 : BitVec 32 := 1#32
  let arg9 : BitVec 32 := Scf.iv c0_i32_124 c1_i32_126 k1_t11
  let c16_i32_1165 : BitVec 32 := 16#32
  let v805 : BitVec 32 := Scalar.muli arg9 c16_i32_1165
  let v807 : Index := Scalar.indexCast v805
  ![7, v807.toNat]
def k1_off165 (k1_t11 : Fin k1_t11_loop.trips) : Fin 2 → Nat :=
  let c8_i32_1168 : BitVec 32 := 8#32
  let v810 : Index := Scalar.indexCast c8_i32_1168
  let c0_i32_124 : BitVec 32 := 0#32
  let c1_i32_126 : BitVec 32 := 1#32
  let arg9 : BitVec 32 := Scf.iv c0_i32_124 c1_i32_126 k1_t11
  let c16_i32_1167 : BitVec 32 := 16#32
  let v809 : BitVec 32 := Scalar.muli arg9 c16_i32_1167
  let v811 : Index := Scalar.indexCast v809
  ![8, v811.toNat]
def k1_off166 (k1_t11 : Fin k1_t11_loop.trips) : Fin 2 → Nat :=
  let c9_i32_1170 : BitVec 32 := 9#32
  let v814 : Index := Scalar.indexCast c9_i32_1170
  let c0_i32_124 : BitVec 32 := 0#32
  let c1_i32_126 : BitVec 32 := 1#32
  let arg9 : BitVec 32 := Scf.iv c0_i32_124 c1_i32_126 k1_t11
  let c16_i32_1169 : BitVec 32 := 16#32
  let v813 : BitVec 32 := Scalar.muli arg9 c16_i32_1169
  let v815 : Index := Scalar.indexCast v813
  ![9, v815.toNat]
def k1_off167 (k1_t11 : Fin k1_t11_loop.trips) : Fin 2 → Nat :=
  let c10_i32_1172 : BitVec 32 := 10#32
  let v818 : Index := Scalar.indexCast c10_i32_1172
  let c0_i32_124 : BitVec 32 := 0#32
  let c1_i32_126 : BitVec 32 := 1#32
  let arg9 : BitVec 32 := Scf.iv c0_i32_124 c1_i32_126 k1_t11
  let c16_i32_1171 : BitVec 32 := 16#32
  let v817 : BitVec 32 := Scalar.muli arg9 c16_i32_1171
  let v819 : Index := Scalar.indexCast v817
  ![10, v819.toNat]
def k1_off168 (k1_t11 : Fin k1_t11_loop.trips) : Fin 2 → Nat :=
  let c11_i32_1174 : BitVec 32 := 11#32
  let v822 : Index := Scalar.indexCast c11_i32_1174
  let c0_i32_124 : BitVec 32 := 0#32
  let c1_i32_126 : BitVec 32 := 1#32
  let arg9 : BitVec 32 := Scf.iv c0_i32_124 c1_i32_126 k1_t11
  let c16_i32_1173 : BitVec 32 := 16#32
  let v821 : BitVec 32 := Scalar.muli arg9 c16_i32_1173
  let v823 : Index := Scalar.indexCast v821
  ![11, v823.toNat]
def k1_off169 (k1_t11 : Fin k1_t11_loop.trips) : Fin 2 → Nat :=
  let c12_i32_1176 : BitVec 32 := 12#32
  let v826 : Index := Scalar.indexCast c12_i32_1176
  let c0_i32_124 : BitVec 32 := 0#32
  let c1_i32_126 : BitVec 32 := 1#32
  let arg9 : BitVec 32 := Scf.iv c0_i32_124 c1_i32_126 k1_t11
  let c16_i32_1175 : BitVec 32 := 16#32
  let v825 : BitVec 32 := Scalar.muli arg9 c16_i32_1175
  let v827 : Index := Scalar.indexCast v825
  ![12, v827.toNat]
def k1_off170 (k1_t11 : Fin k1_t11_loop.trips) : Fin 2 → Nat :=
  let c13_i32_1178 : BitVec 32 := 13#32
  let v830 : Index := Scalar.indexCast c13_i32_1178
  let c0_i32_124 : BitVec 32 := 0#32
  let c1_i32_126 : BitVec 32 := 1#32
  let arg9 : BitVec 32 := Scf.iv c0_i32_124 c1_i32_126 k1_t11
  let c16_i32_1177 : BitVec 32 := 16#32
  let v829 : BitVec 32 := Scalar.muli arg9 c16_i32_1177
  let v831 : Index := Scalar.indexCast v829
  ![13, v831.toNat]
def k1_off171 (k1_t11 : Fin k1_t11_loop.trips) : Fin 2 → Nat :=
  let c14_i32_1180 : BitVec 32 := 14#32
  let v834 : Index := Scalar.indexCast c14_i32_1180
  let c0_i32_124 : BitVec 32 := 0#32
  let c1_i32_126 : BitVec 32 := 1#32
  let arg9 : BitVec 32 := Scf.iv c0_i32_124 c1_i32_126 k1_t11
  let c16_i32_1179 : BitVec 32 := 16#32
  let v833 : BitVec 32 := Scalar.muli arg9 c16_i32_1179
  let v835 : Index := Scalar.indexCast v833
  ![14, v835.toNat]
def k1_off172 (k1_t11 : Fin k1_t11_loop.trips) : Fin 2 → Nat :=
  let c15_i32_1182 : BitVec 32 := 15#32
  let v838 : Index := Scalar.indexCast c15_i32_1182
  let c0_i32_124 : BitVec 32 := 0#32
  let c1_i32_126 : BitVec 32 := 1#32
  let arg9 : BitVec 32 := Scf.iv c0_i32_124 c1_i32_126 k1_t11
  let c16_i32_1181 : BitVec 32 := 16#32
  let v837 : BitVec 32 := Scalar.muli arg9 c16_i32_1181
  let v839 : Index := Scalar.indexCast v837
  ![15, v839.toNat]

def k1_chk145 (v780 : IVec S16 32) : Prop :=
  (∀ a x, ((![v780] : Fin 1 → IVec S16 32) a x).toNat < S88320.size a)
theorem k1_idx145_inb : ∀ (v780 : IVec S16 32) (k1_hw145 : k1_chk145 v780), ∀ a x, ((![v780] : Fin 1 → IVec S16 32) a x).toNat < S88320.size a := fun v780 k1_hw145 => k1_hw145

def k1_chk146 (v784 : IVec S16 32) : Prop :=
  (∀ a x, ((![v784] : Fin 1 → IVec S16 32) a x).toNat < S88320.size a)
theorem k1_idx146_inb : ∀ (v784 : IVec S16 32) (k1_hw146 : k1_chk146 v784), ∀ a x, ((![v784] : Fin 1 → IVec S16 32) a x).toNat < S88320.size a := fun v784 k1_hw146 => k1_hw146

def k1_chk147 (v788 : IVec S16 32) : Prop :=
  (∀ a x, ((![v788] : Fin 1 → IVec S16 32) a x).toNat < S88320.size a)
theorem k1_idx147_inb : ∀ (v788 : IVec S16 32) (k1_hw147 : k1_chk147 v788), ∀ a x, ((![v788] : Fin 1 → IVec S16 32) a x).toNat < S88320.size a := fun v788 k1_hw147 => k1_hw147

def k1_chk148 (v792 : IVec S16 32) : Prop :=
  (∀ a x, ((![v792] : Fin 1 → IVec S16 32) a x).toNat < S88320.size a)
theorem k1_idx148_inb : ∀ (v792 : IVec S16 32) (k1_hw148 : k1_chk148 v792), ∀ a x, ((![v792] : Fin 1 → IVec S16 32) a x).toNat < S88320.size a := fun v792 k1_hw148 => k1_hw148

def k1_chk149 (v796 : IVec S16 32) : Prop :=
  (∀ a x, ((![v796] : Fin 1 → IVec S16 32) a x).toNat < S88320.size a)
theorem k1_idx149_inb : ∀ (v796 : IVec S16 32) (k1_hw149 : k1_chk149 v796), ∀ a x, ((![v796] : Fin 1 → IVec S16 32) a x).toNat < S88320.size a := fun v796 k1_hw149 => k1_hw149

def k1_chk150 (v800 : IVec S16 32) : Prop :=
  (∀ a x, ((![v800] : Fin 1 → IVec S16 32) a x).toNat < S88320.size a)
theorem k1_idx150_inb : ∀ (v800 : IVec S16 32) (k1_hw150 : k1_chk150 v800), ∀ a x, ((![v800] : Fin 1 → IVec S16 32) a x).toNat < S88320.size a := fun v800 k1_hw150 => k1_hw150

def k1_chk151 (v804 : IVec S16 32) : Prop :=
  (∀ a x, ((![v804] : Fin 1 → IVec S16 32) a x).toNat < S88320.size a)
theorem k1_idx151_inb : ∀ (v804 : IVec S16 32) (k1_hw151 : k1_chk151 v804), ∀ a x, ((![v804] : Fin 1 → IVec S16 32) a x).toNat < S88320.size a := fun v804 k1_hw151 => k1_hw151

def k1_chk152 (v808 : IVec S16 32) : Prop :=
  (∀ a x, ((![v808] : Fin 1 → IVec S16 32) a x).toNat < S88320.size a)
theorem k1_idx152_inb : ∀ (v808 : IVec S16 32) (k1_hw152 : k1_chk152 v808), ∀ a x, ((![v808] : Fin 1 → IVec S16 32) a x).toNat < S88320.size a := fun v808 k1_hw152 => k1_hw152

def k1_chk153 (v812 : IVec S16 32) : Prop :=
  (∀ a x, ((![v812] : Fin 1 → IVec S16 32) a x).toNat < S88320.size a)
theorem k1_idx153_inb : ∀ (v812 : IVec S16 32) (k1_hw153 : k1_chk153 v812), ∀ a x, ((![v812] : Fin 1 → IVec S16 32) a x).toNat < S88320.size a := fun v812 k1_hw153 => k1_hw153

def k1_chk154 (v816 : IVec S16 32) : Prop :=
  (∀ a x, ((![v816] : Fin 1 → IVec S16 32) a x).toNat < S88320.size a)
theorem k1_idx154_inb : ∀ (v816 : IVec S16 32) (k1_hw154 : k1_chk154 v816), ∀ a x, ((![v816] : Fin 1 → IVec S16 32) a x).toNat < S88320.size a := fun v816 k1_hw154 => k1_hw154

def k1_chk155 (v820 : IVec S16 32) : Prop :=
  (∀ a x, ((![v820] : Fin 1 → IVec S16 32) a x).toNat < S88320.size a)
theorem k1_idx155_inb : ∀ (v820 : IVec S16 32) (k1_hw155 : k1_chk155 v820), ∀ a x, ((![v820] : Fin 1 → IVec S16 32) a x).toNat < S88320.size a := fun v820 k1_hw155 => k1_hw155

def k1_chk156 (v824 : IVec S16 32) : Prop :=
  (∀ a x, ((![v824] : Fin 1 → IVec S16 32) a x).toNat < S88320.size a)
theorem k1_idx156_inb : ∀ (v824 : IVec S16 32) (k1_hw156 : k1_chk156 v824), ∀ a x, ((![v824] : Fin 1 → IVec S16 32) a x).toNat < S88320.size a := fun v824 k1_hw156 => k1_hw156

def k1_chk157 (v828 : IVec S16 32) : Prop :=
  (∀ a x, ((![v828] : Fin 1 → IVec S16 32) a x).toNat < S88320.size a)
theorem k1_idx157_inb : ∀ (v828 : IVec S16 32) (k1_hw157 : k1_chk157 v828), ∀ a x, ((![v828] : Fin 1 → IVec S16 32) a x).toNat < S88320.size a := fun v828 k1_hw157 => k1_hw157

def k1_chk158 (v832 : IVec S16 32) : Prop :=
  (∀ a x, ((![v832] : Fin 1 → IVec S16 32) a x).toNat < S88320.size a)
theorem k1_idx158_inb : ∀ (v832 : IVec S16 32) (k1_hw158 : k1_chk158 v832), ∀ a x, ((![v832] : Fin 1 → IVec S16 32) a x).toNat < S88320.size a := fun v832 k1_hw158 => k1_hw158

def k1_chk159 (v836 : IVec S16 32) : Prop :=
  (∀ a x, ((![v836] : Fin 1 → IVec S16 32) a x).toNat < S88320.size a)
theorem k1_idx159_inb : ∀ (v836 : IVec S16 32) (k1_hw159 : k1_chk159 v836), ∀ a x, ((![v836] : Fin 1 → IVec S16 32) a x).toNat < S88320.size a := fun v836 k1_hw159 => k1_hw159

def k1_chk160 (v840 : IVec S16 32) : Prop :=
  (∀ a x, ((![v840] : Fin 1 → IVec S16 32) a x).toNat < S88320.size a)
theorem k1_idx160_inb : ∀ (v840 : IVec S16 32) (k1_hw160 : k1_chk160 v840), ∀ a x, ((![v840] : Fin 1 → IVec S16 32) a x).toNat < S88320.size a := fun v840 k1_hw160 => k1_hw160
def k1_off173 (i : grid1.Coords) : Fin 4 → Nat :=
  let c0_i32_128 : BitVec 32 := 0#32
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_129 : BitVec 32 := 0#32
  ![0, 11, v2.toNat, 0]
@[reducible] def k1_t12_loop : Scf.Loop 32 :=
  let c0_i32_136 : BitVec 32 := 0#32
  let c32_i32_137 : BitVec 32 := 32#32
  let v108 : BitVec 32 := Scalar.addi c0_i32_136 c32_i32_137
  let c1_i32_138 : BitVec 32 := 1#32
  ⟨c0_i32_136, v108, c1_i32_138⟩
def k1_off174 (k1_t12 : Fin k1_t12_loop.trips) : Fin 2 → Nat :=
  let c0_i32_1152 : BitVec 32 := 0#32
  let v778 : Index := Scalar.indexCast c0_i32_1152
  let c0_i32_136 : BitVec 32 := 0#32
  let c1_i32_138 : BitVec 32 := 1#32
  let arg9 : BitVec 32 := Scf.iv c0_i32_136 c1_i32_138 k1_t12
  let c16_i32_1151 : BitVec 32 := 16#32
  let v777 : BitVec 32 := Scalar.muli arg9 c16_i32_1151
  let v779 : Index := Scalar.indexCast v777
  ![0, v779.toNat]
def k1_off175 (k1_t12 : Fin k1_t12_loop.trips) : Fin 2 → Nat :=
  let c1_i32_1154 : BitVec 32 := 1#32
  let v782 : Index := Scalar.indexCast c1_i32_1154
  let c0_i32_136 : BitVec 32 := 0#32
  let c1_i32_138 : BitVec 32 := 1#32
  let arg9 : BitVec 32 := Scf.iv c0_i32_136 c1_i32_138 k1_t12
  let c16_i32_1153 : BitVec 32 := 16#32
  let v781 : BitVec 32 := Scalar.muli arg9 c16_i32_1153
  let v783 : Index := Scalar.indexCast v781
  ![1, v783.toNat]
def k1_off176 (k1_t12 : Fin k1_t12_loop.trips) : Fin 2 → Nat :=
  let c2_i32_1156 : BitVec 32 := 2#32
  let v786 : Index := Scalar.indexCast c2_i32_1156
  let c0_i32_136 : BitVec 32 := 0#32
  let c1_i32_138 : BitVec 32 := 1#32
  let arg9 : BitVec 32 := Scf.iv c0_i32_136 c1_i32_138 k1_t12
  let c16_i32_1155 : BitVec 32 := 16#32
  let v785 : BitVec 32 := Scalar.muli arg9 c16_i32_1155
  let v787 : Index := Scalar.indexCast v785
  ![2, v787.toNat]
def k1_off177 (k1_t12 : Fin k1_t12_loop.trips) : Fin 2 → Nat :=
  let c3_i32_1158 : BitVec 32 := 3#32
  let v790 : Index := Scalar.indexCast c3_i32_1158
  let c0_i32_136 : BitVec 32 := 0#32
  let c1_i32_138 : BitVec 32 := 1#32
  let arg9 : BitVec 32 := Scf.iv c0_i32_136 c1_i32_138 k1_t12
  let c16_i32_1157 : BitVec 32 := 16#32
  let v789 : BitVec 32 := Scalar.muli arg9 c16_i32_1157
  let v791 : Index := Scalar.indexCast v789
  ![3, v791.toNat]
def k1_off178 (k1_t12 : Fin k1_t12_loop.trips) : Fin 2 → Nat :=
  let c4_i32_1160 : BitVec 32 := 4#32
  let v794 : Index := Scalar.indexCast c4_i32_1160
  let c0_i32_136 : BitVec 32 := 0#32
  let c1_i32_138 : BitVec 32 := 1#32
  let arg9 : BitVec 32 := Scf.iv c0_i32_136 c1_i32_138 k1_t12
  let c16_i32_1159 : BitVec 32 := 16#32
  let v793 : BitVec 32 := Scalar.muli arg9 c16_i32_1159
  let v795 : Index := Scalar.indexCast v793
  ![4, v795.toNat]
def k1_off179 (k1_t12 : Fin k1_t12_loop.trips) : Fin 2 → Nat :=
  let c5_i32_1162 : BitVec 32 := 5#32
  let v798 : Index := Scalar.indexCast c5_i32_1162
  let c0_i32_136 : BitVec 32 := 0#32
  let c1_i32_138 : BitVec 32 := 1#32
  let arg9 : BitVec 32 := Scf.iv c0_i32_136 c1_i32_138 k1_t12
  let c16_i32_1161 : BitVec 32 := 16#32
  let v797 : BitVec 32 := Scalar.muli arg9 c16_i32_1161
  let v799 : Index := Scalar.indexCast v797
  ![5, v799.toNat]
def k1_off180 (k1_t12 : Fin k1_t12_loop.trips) : Fin 2 → Nat :=
  let c6_i32_1164 : BitVec 32 := 6#32
  let v802 : Index := Scalar.indexCast c6_i32_1164
  let c0_i32_136 : BitVec 32 := 0#32
  let c1_i32_138 : BitVec 32 := 1#32
  let arg9 : BitVec 32 := Scf.iv c0_i32_136 c1_i32_138 k1_t12
  let c16_i32_1163 : BitVec 32 := 16#32
  let v801 : BitVec 32 := Scalar.muli arg9 c16_i32_1163
  let v803 : Index := Scalar.indexCast v801
  ![6, v803.toNat]
def k1_off181 (k1_t12 : Fin k1_t12_loop.trips) : Fin 2 → Nat :=
  let c7_i32_1166 : BitVec 32 := 7#32
  let v806 : Index := Scalar.indexCast c7_i32_1166
  let c0_i32_136 : BitVec 32 := 0#32
  let c1_i32_138 : BitVec 32 := 1#32
  let arg9 : BitVec 32 := Scf.iv c0_i32_136 c1_i32_138 k1_t12
  let c16_i32_1165 : BitVec 32 := 16#32
  let v805 : BitVec 32 := Scalar.muli arg9 c16_i32_1165
  let v807 : Index := Scalar.indexCast v805
  ![7, v807.toNat]
def k1_off182 (k1_t12 : Fin k1_t12_loop.trips) : Fin 2 → Nat :=
  let c8_i32_1168 : BitVec 32 := 8#32
  let v810 : Index := Scalar.indexCast c8_i32_1168
  let c0_i32_136 : BitVec 32 := 0#32
  let c1_i32_138 : BitVec 32 := 1#32
  let arg9 : BitVec 32 := Scf.iv c0_i32_136 c1_i32_138 k1_t12
  let c16_i32_1167 : BitVec 32 := 16#32
  let v809 : BitVec 32 := Scalar.muli arg9 c16_i32_1167
  let v811 : Index := Scalar.indexCast v809
  ![8, v811.toNat]
def k1_off183 (k1_t12 : Fin k1_t12_loop.trips) : Fin 2 → Nat :=
  let c9_i32_1170 : BitVec 32 := 9#32
  let v814 : Index := Scalar.indexCast c9_i32_1170
  let c0_i32_136 : BitVec 32 := 0#32
  let c1_i32_138 : BitVec 32 := 1#32
  let arg9 : BitVec 32 := Scf.iv c0_i32_136 c1_i32_138 k1_t12
  let c16_i32_1169 : BitVec 32 := 16#32
  let v813 : BitVec 32 := Scalar.muli arg9 c16_i32_1169
  let v815 : Index := Scalar.indexCast v813
  ![9, v815.toNat]
def k1_off184 (k1_t12 : Fin k1_t12_loop.trips) : Fin 2 → Nat :=
  let c10_i32_1172 : BitVec 32 := 10#32
  let v818 : Index := Scalar.indexCast c10_i32_1172
  let c0_i32_136 : BitVec 32 := 0#32
  let c1_i32_138 : BitVec 32 := 1#32
  let arg9 : BitVec 32 := Scf.iv c0_i32_136 c1_i32_138 k1_t12
  let c16_i32_1171 : BitVec 32 := 16#32
  let v817 : BitVec 32 := Scalar.muli arg9 c16_i32_1171
  let v819 : Index := Scalar.indexCast v817
  ![10, v819.toNat]
def k1_off185 (k1_t12 : Fin k1_t12_loop.trips) : Fin 2 → Nat :=
  let c11_i32_1174 : BitVec 32 := 11#32
  let v822 : Index := Scalar.indexCast c11_i32_1174
  let c0_i32_136 : BitVec 32 := 0#32
  let c1_i32_138 : BitVec 32 := 1#32
  let arg9 : BitVec 32 := Scf.iv c0_i32_136 c1_i32_138 k1_t12
  let c16_i32_1173 : BitVec 32 := 16#32
  let v821 : BitVec 32 := Scalar.muli arg9 c16_i32_1173
  let v823 : Index := Scalar.indexCast v821
  ![11, v823.toNat]
def k1_off186 (k1_t12 : Fin k1_t12_loop.trips) : Fin 2 → Nat :=
  let c12_i32_1176 : BitVec 32 := 12#32
  let v826 : Index := Scalar.indexCast c12_i32_1176
  let c0_i32_136 : BitVec 32 := 0#32
  let c1_i32_138 : BitVec 32 := 1#32
  let arg9 : BitVec 32 := Scf.iv c0_i32_136 c1_i32_138 k1_t12
  let c16_i32_1175 : BitVec 32 := 16#32
  let v825 : BitVec 32 := Scalar.muli arg9 c16_i32_1175
  let v827 : Index := Scalar.indexCast v825
  ![12, v827.toNat]
def k1_off187 (k1_t12 : Fin k1_t12_loop.trips) : Fin 2 → Nat :=
  let c13_i32_1178 : BitVec 32 := 13#32
  let v830 : Index := Scalar.indexCast c13_i32_1178
  let c0_i32_136 : BitVec 32 := 0#32
  let c1_i32_138 : BitVec 32 := 1#32
  let arg9 : BitVec 32 := Scf.iv c0_i32_136 c1_i32_138 k1_t12
  let c16_i32_1177 : BitVec 32 := 16#32
  let v829 : BitVec 32 := Scalar.muli arg9 c16_i32_1177
  let v831 : Index := Scalar.indexCast v829
  ![13, v831.toNat]
def k1_off188 (k1_t12 : Fin k1_t12_loop.trips) : Fin 2 → Nat :=
  let c14_i32_1180 : BitVec 32 := 14#32
  let v834 : Index := Scalar.indexCast c14_i32_1180
  let c0_i32_136 : BitVec 32 := 0#32
  let c1_i32_138 : BitVec 32 := 1#32
  let arg9 : BitVec 32 := Scf.iv c0_i32_136 c1_i32_138 k1_t12
  let c16_i32_1179 : BitVec 32 := 16#32
  let v833 : BitVec 32 := Scalar.muli arg9 c16_i32_1179
  let v835 : Index := Scalar.indexCast v833
  ![14, v835.toNat]
def k1_off189 (k1_t12 : Fin k1_t12_loop.trips) : Fin 2 → Nat :=
  let c15_i32_1182 : BitVec 32 := 15#32
  let v838 : Index := Scalar.indexCast c15_i32_1182
  let c0_i32_136 : BitVec 32 := 0#32
  let c1_i32_138 : BitVec 32 := 1#32
  let arg9 : BitVec 32 := Scf.iv c0_i32_136 c1_i32_138 k1_t12
  let c16_i32_1181 : BitVec 32 := 16#32
  let v837 : BitVec 32 := Scalar.muli arg9 c16_i32_1181
  let v839 : Index := Scalar.indexCast v837
  ![15, v839.toNat]

def k1_chk161 (v780 : IVec S16 32) : Prop :=
  (∀ a x, ((![v780] : Fin 1 → IVec S16 32) a x).toNat < S88320.size a)
theorem k1_idx161_inb : ∀ (v780 : IVec S16 32) (k1_hw161 : k1_chk161 v780), ∀ a x, ((![v780] : Fin 1 → IVec S16 32) a x).toNat < S88320.size a := fun v780 k1_hw161 => k1_hw161

def k1_chk162 (v784 : IVec S16 32) : Prop :=
  (∀ a x, ((![v784] : Fin 1 → IVec S16 32) a x).toNat < S88320.size a)
theorem k1_idx162_inb : ∀ (v784 : IVec S16 32) (k1_hw162 : k1_chk162 v784), ∀ a x, ((![v784] : Fin 1 → IVec S16 32) a x).toNat < S88320.size a := fun v784 k1_hw162 => k1_hw162

def k1_chk163 (v788 : IVec S16 32) : Prop :=
  (∀ a x, ((![v788] : Fin 1 → IVec S16 32) a x).toNat < S88320.size a)
theorem k1_idx163_inb : ∀ (v788 : IVec S16 32) (k1_hw163 : k1_chk163 v788), ∀ a x, ((![v788] : Fin 1 → IVec S16 32) a x).toNat < S88320.size a := fun v788 k1_hw163 => k1_hw163

def k1_chk164 (v792 : IVec S16 32) : Prop :=
  (∀ a x, ((![v792] : Fin 1 → IVec S16 32) a x).toNat < S88320.size a)
theorem k1_idx164_inb : ∀ (v792 : IVec S16 32) (k1_hw164 : k1_chk164 v792), ∀ a x, ((![v792] : Fin 1 → IVec S16 32) a x).toNat < S88320.size a := fun v792 k1_hw164 => k1_hw164

def k1_chk165 (v796 : IVec S16 32) : Prop :=
  (∀ a x, ((![v796] : Fin 1 → IVec S16 32) a x).toNat < S88320.size a)
theorem k1_idx165_inb : ∀ (v796 : IVec S16 32) (k1_hw165 : k1_chk165 v796), ∀ a x, ((![v796] : Fin 1 → IVec S16 32) a x).toNat < S88320.size a := fun v796 k1_hw165 => k1_hw165

def k1_chk166 (v800 : IVec S16 32) : Prop :=
  (∀ a x, ((![v800] : Fin 1 → IVec S16 32) a x).toNat < S88320.size a)
theorem k1_idx166_inb : ∀ (v800 : IVec S16 32) (k1_hw166 : k1_chk166 v800), ∀ a x, ((![v800] : Fin 1 → IVec S16 32) a x).toNat < S88320.size a := fun v800 k1_hw166 => k1_hw166

def k1_chk167 (v804 : IVec S16 32) : Prop :=
  (∀ a x, ((![v804] : Fin 1 → IVec S16 32) a x).toNat < S88320.size a)
theorem k1_idx167_inb : ∀ (v804 : IVec S16 32) (k1_hw167 : k1_chk167 v804), ∀ a x, ((![v804] : Fin 1 → IVec S16 32) a x).toNat < S88320.size a := fun v804 k1_hw167 => k1_hw167

def k1_chk168 (v808 : IVec S16 32) : Prop :=
  (∀ a x, ((![v808] : Fin 1 → IVec S16 32) a x).toNat < S88320.size a)
theorem k1_idx168_inb : ∀ (v808 : IVec S16 32) (k1_hw168 : k1_chk168 v808), ∀ a x, ((![v808] : Fin 1 → IVec S16 32) a x).toNat < S88320.size a := fun v808 k1_hw168 => k1_hw168

def k1_chk169 (v812 : IVec S16 32) : Prop :=
  (∀ a x, ((![v812] : Fin 1 → IVec S16 32) a x).toNat < S88320.size a)
theorem k1_idx169_inb : ∀ (v812 : IVec S16 32) (k1_hw169 : k1_chk169 v812), ∀ a x, ((![v812] : Fin 1 → IVec S16 32) a x).toNat < S88320.size a := fun v812 k1_hw169 => k1_hw169

def k1_chk170 (v816 : IVec S16 32) : Prop :=
  (∀ a x, ((![v816] : Fin 1 → IVec S16 32) a x).toNat < S88320.size a)
theorem k1_idx170_inb : ∀ (v816 : IVec S16 32) (k1_hw170 : k1_chk170 v816), ∀ a x, ((![v816] : Fin 1 → IVec S16 32) a x).toNat < S88320.size a := fun v816 k1_hw170 => k1_hw170

def k1_chk171 (v820 : IVec S16 32) : Prop :=
  (∀ a x, ((![v820] : Fin 1 → IVec S16 32) a x).toNat < S88320.size a)
theorem k1_idx171_inb : ∀ (v820 : IVec S16 32) (k1_hw171 : k1_chk171 v820), ∀ a x, ((![v820] : Fin 1 → IVec S16 32) a x).toNat < S88320.size a := fun v820 k1_hw171 => k1_hw171

def k1_chk172 (v824 : IVec S16 32) : Prop :=
  (∀ a x, ((![v824] : Fin 1 → IVec S16 32) a x).toNat < S88320.size a)
theorem k1_idx172_inb : ∀ (v824 : IVec S16 32) (k1_hw172 : k1_chk172 v824), ∀ a x, ((![v824] : Fin 1 → IVec S16 32) a x).toNat < S88320.size a := fun v824 k1_hw172 => k1_hw172

def k1_chk173 (v828 : IVec S16 32) : Prop :=
  (∀ a x, ((![v828] : Fin 1 → IVec S16 32) a x).toNat < S88320.size a)
theorem k1_idx173_inb : ∀ (v828 : IVec S16 32) (k1_hw173 : k1_chk173 v828), ∀ a x, ((![v828] : Fin 1 → IVec S16 32) a x).toNat < S88320.size a := fun v828 k1_hw173 => k1_hw173

def k1_chk174 (v832 : IVec S16 32) : Prop :=
  (∀ a x, ((![v832] : Fin 1 → IVec S16 32) a x).toNat < S88320.size a)
theorem k1_idx174_inb : ∀ (v832 : IVec S16 32) (k1_hw174 : k1_chk174 v832), ∀ a x, ((![v832] : Fin 1 → IVec S16 32) a x).toNat < S88320.size a := fun v832 k1_hw174 => k1_hw174

def k1_chk175 (v836 : IVec S16 32) : Prop :=
  (∀ a x, ((![v836] : Fin 1 → IVec S16 32) a x).toNat < S88320.size a)
theorem k1_idx175_inb : ∀ (v836 : IVec S16 32) (k1_hw175 : k1_chk175 v836), ∀ a x, ((![v836] : Fin 1 → IVec S16 32) a x).toNat < S88320.size a := fun v836 k1_hw175 => k1_hw175

def k1_chk176 (v840 : IVec S16 32) : Prop :=
  (∀ a x, ((![v840] : Fin 1 → IVec S16 32) a x).toNat < S88320.size a)
theorem k1_idx176_inb : ∀ (v840 : IVec S16 32) (k1_hw176 : k1_chk176 v840), ∀ a x, ((![v840] : Fin 1 → IVec S16 32) a x).toNat < S88320.size a := fun v840 k1_hw176 => k1_hw176
def k1_off190 (i : grid1.Coords) : Fin 4 → Nat :=
  let c0_i32_140 : BitVec 32 := 0#32
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_141 : BitVec 32 := 0#32
  ![0, 12, v2.toNat, 0]
@[reducible] def k1_t13_loop : Scf.Loop 32 :=
  let c0_i32_148 : BitVec 32 := 0#32
  let c32_i32_149 : BitVec 32 := 32#32
  let v117 : BitVec 32 := Scalar.addi c0_i32_148 c32_i32_149
  let c1_i32_150 : BitVec 32 := 1#32
  ⟨c0_i32_148, v117, c1_i32_150⟩
def k1_off191 (k1_t13 : Fin k1_t13_loop.trips) : Fin 2 → Nat :=
  let c0_i32_1152 : BitVec 32 := 0#32
  let v778 : Index := Scalar.indexCast c0_i32_1152
  let c0_i32_148 : BitVec 32 := 0#32
  let c1_i32_150 : BitVec 32 := 1#32
  let arg9 : BitVec 32 := Scf.iv c0_i32_148 c1_i32_150 k1_t13
  let c16_i32_1151 : BitVec 32 := 16#32
  let v777 : BitVec 32 := Scalar.muli arg9 c16_i32_1151
  let v779 : Index := Scalar.indexCast v777
  ![0, v779.toNat]
def k1_off192 (k1_t13 : Fin k1_t13_loop.trips) : Fin 2 → Nat :=
  let c1_i32_1154 : BitVec 32 := 1#32
  let v782 : Index := Scalar.indexCast c1_i32_1154
  let c0_i32_148 : BitVec 32 := 0#32
  let c1_i32_150 : BitVec 32 := 1#32
  let arg9 : BitVec 32 := Scf.iv c0_i32_148 c1_i32_150 k1_t13
  let c16_i32_1153 : BitVec 32 := 16#32
  let v781 : BitVec 32 := Scalar.muli arg9 c16_i32_1153
  let v783 : Index := Scalar.indexCast v781
  ![1, v783.toNat]
def k1_off193 (k1_t13 : Fin k1_t13_loop.trips) : Fin 2 → Nat :=
  let c2_i32_1156 : BitVec 32 := 2#32
  let v786 : Index := Scalar.indexCast c2_i32_1156
  let c0_i32_148 : BitVec 32 := 0#32
  let c1_i32_150 : BitVec 32 := 1#32
  let arg9 : BitVec 32 := Scf.iv c0_i32_148 c1_i32_150 k1_t13
  let c16_i32_1155 : BitVec 32 := 16#32
  let v785 : BitVec 32 := Scalar.muli arg9 c16_i32_1155
  let v787 : Index := Scalar.indexCast v785
  ![2, v787.toNat]
def k1_off194 (k1_t13 : Fin k1_t13_loop.trips) : Fin 2 → Nat :=
  let c3_i32_1158 : BitVec 32 := 3#32
  let v790 : Index := Scalar.indexCast c3_i32_1158
  let c0_i32_148 : BitVec 32 := 0#32
  let c1_i32_150 : BitVec 32 := 1#32
  let arg9 : BitVec 32 := Scf.iv c0_i32_148 c1_i32_150 k1_t13
  let c16_i32_1157 : BitVec 32 := 16#32
  let v789 : BitVec 32 := Scalar.muli arg9 c16_i32_1157
  let v791 : Index := Scalar.indexCast v789
  ![3, v791.toNat]
def k1_off195 (k1_t13 : Fin k1_t13_loop.trips) : Fin 2 → Nat :=
  let c4_i32_1160 : BitVec 32 := 4#32
  let v794 : Index := Scalar.indexCast c4_i32_1160
  let c0_i32_148 : BitVec 32 := 0#32
  let c1_i32_150 : BitVec 32 := 1#32
  let arg9 : BitVec 32 := Scf.iv c0_i32_148 c1_i32_150 k1_t13
  let c16_i32_1159 : BitVec 32 := 16#32
  let v793 : BitVec 32 := Scalar.muli arg9 c16_i32_1159
  let v795 : Index := Scalar.indexCast v793
  ![4, v795.toNat]
def k1_off196 (k1_t13 : Fin k1_t13_loop.trips) : Fin 2 → Nat :=
  let c5_i32_1162 : BitVec 32 := 5#32
  let v798 : Index := Scalar.indexCast c5_i32_1162
  let c0_i32_148 : BitVec 32 := 0#32
  let c1_i32_150 : BitVec 32 := 1#32
  let arg9 : BitVec 32 := Scf.iv c0_i32_148 c1_i32_150 k1_t13
  let c16_i32_1161 : BitVec 32 := 16#32
  let v797 : BitVec 32 := Scalar.muli arg9 c16_i32_1161
  let v799 : Index := Scalar.indexCast v797
  ![5, v799.toNat]
def k1_off197 (k1_t13 : Fin k1_t13_loop.trips) : Fin 2 → Nat :=
  let c6_i32_1164 : BitVec 32 := 6#32
  let v802 : Index := Scalar.indexCast c6_i32_1164
  let c0_i32_148 : BitVec 32 := 0#32
  let c1_i32_150 : BitVec 32 := 1#32
  let arg9 : BitVec 32 := Scf.iv c0_i32_148 c1_i32_150 k1_t13
  let c16_i32_1163 : BitVec 32 := 16#32
  let v801 : BitVec 32 := Scalar.muli arg9 c16_i32_1163
  let v803 : Index := Scalar.indexCast v801
  ![6, v803.toNat]
def k1_off198 (k1_t13 : Fin k1_t13_loop.trips) : Fin 2 → Nat :=
  let c7_i32_1166 : BitVec 32 := 7#32
  let v806 : Index := Scalar.indexCast c7_i32_1166
  let c0_i32_148 : BitVec 32 := 0#32
  let c1_i32_150 : BitVec 32 := 1#32
  let arg9 : BitVec 32 := Scf.iv c0_i32_148 c1_i32_150 k1_t13
  let c16_i32_1165 : BitVec 32 := 16#32
  let v805 : BitVec 32 := Scalar.muli arg9 c16_i32_1165
  let v807 : Index := Scalar.indexCast v805
  ![7, v807.toNat]
def k1_off199 (k1_t13 : Fin k1_t13_loop.trips) : Fin 2 → Nat :=
  let c8_i32_1168 : BitVec 32 := 8#32
  let v810 : Index := Scalar.indexCast c8_i32_1168
  let c0_i32_148 : BitVec 32 := 0#32
  let c1_i32_150 : BitVec 32 := 1#32
  let arg9 : BitVec 32 := Scf.iv c0_i32_148 c1_i32_150 k1_t13
  let c16_i32_1167 : BitVec 32 := 16#32
  let v809 : BitVec 32 := Scalar.muli arg9 c16_i32_1167
  let v811 : Index := Scalar.indexCast v809
  ![8, v811.toNat]
def k1_off200 (k1_t13 : Fin k1_t13_loop.trips) : Fin 2 → Nat :=
  let c9_i32_1170 : BitVec 32 := 9#32
  let v814 : Index := Scalar.indexCast c9_i32_1170
  let c0_i32_148 : BitVec 32 := 0#32
  let c1_i32_150 : BitVec 32 := 1#32
  let arg9 : BitVec 32 := Scf.iv c0_i32_148 c1_i32_150 k1_t13
  let c16_i32_1169 : BitVec 32 := 16#32
  let v813 : BitVec 32 := Scalar.muli arg9 c16_i32_1169
  let v815 : Index := Scalar.indexCast v813
  ![9, v815.toNat]
def k1_off201 (k1_t13 : Fin k1_t13_loop.trips) : Fin 2 → Nat :=
  let c10_i32_1172 : BitVec 32 := 10#32
  let v818 : Index := Scalar.indexCast c10_i32_1172
  let c0_i32_148 : BitVec 32 := 0#32
  let c1_i32_150 : BitVec 32 := 1#32
  let arg9 : BitVec 32 := Scf.iv c0_i32_148 c1_i32_150 k1_t13
  let c16_i32_1171 : BitVec 32 := 16#32
  let v817 : BitVec 32 := Scalar.muli arg9 c16_i32_1171
  let v819 : Index := Scalar.indexCast v817
  ![10, v819.toNat]
def k1_off202 (k1_t13 : Fin k1_t13_loop.trips) : Fin 2 → Nat :=
  let c11_i32_1174 : BitVec 32 := 11#32
  let v822 : Index := Scalar.indexCast c11_i32_1174
  let c0_i32_148 : BitVec 32 := 0#32
  let c1_i32_150 : BitVec 32 := 1#32
  let arg9 : BitVec 32 := Scf.iv c0_i32_148 c1_i32_150 k1_t13
  let c16_i32_1173 : BitVec 32 := 16#32
  let v821 : BitVec 32 := Scalar.muli arg9 c16_i32_1173
  let v823 : Index := Scalar.indexCast v821
  ![11, v823.toNat]
def k1_off203 (k1_t13 : Fin k1_t13_loop.trips) : Fin 2 → Nat :=
  let c12_i32_1176 : BitVec 32 := 12#32
  let v826 : Index := Scalar.indexCast c12_i32_1176
  let c0_i32_148 : BitVec 32 := 0#32
  let c1_i32_150 : BitVec 32 := 1#32
  let arg9 : BitVec 32 := Scf.iv c0_i32_148 c1_i32_150 k1_t13
  let c16_i32_1175 : BitVec 32 := 16#32
  let v825 : BitVec 32 := Scalar.muli arg9 c16_i32_1175
  let v827 : Index := Scalar.indexCast v825
  ![12, v827.toNat]
def k1_off204 (k1_t13 : Fin k1_t13_loop.trips) : Fin 2 → Nat :=
  let c13_i32_1178 : BitVec 32 := 13#32
  let v830 : Index := Scalar.indexCast c13_i32_1178
  let c0_i32_148 : BitVec 32 := 0#32
  let c1_i32_150 : BitVec 32 := 1#32
  let arg9 : BitVec 32 := Scf.iv c0_i32_148 c1_i32_150 k1_t13
  let c16_i32_1177 : BitVec 32 := 16#32
  let v829 : BitVec 32 := Scalar.muli arg9 c16_i32_1177
  let v831 : Index := Scalar.indexCast v829
  ![13, v831.toNat]
def k1_off205 (k1_t13 : Fin k1_t13_loop.trips) : Fin 2 → Nat :=
  let c14_i32_1180 : BitVec 32 := 14#32
  let v834 : Index := Scalar.indexCast c14_i32_1180
  let c0_i32_148 : BitVec 32 := 0#32
  let c1_i32_150 : BitVec 32 := 1#32
  let arg9 : BitVec 32 := Scf.iv c0_i32_148 c1_i32_150 k1_t13
  let c16_i32_1179 : BitVec 32 := 16#32
  let v833 : BitVec 32 := Scalar.muli arg9 c16_i32_1179
  let v835 : Index := Scalar.indexCast v833
  ![14, v835.toNat]
def k1_off206 (k1_t13 : Fin k1_t13_loop.trips) : Fin 2 → Nat :=
  let c15_i32_1182 : BitVec 32 := 15#32
  let v838 : Index := Scalar.indexCast c15_i32_1182
  let c0_i32_148 : BitVec 32 := 0#32
  let c1_i32_150 : BitVec 32 := 1#32
  let arg9 : BitVec 32 := Scf.iv c0_i32_148 c1_i32_150 k1_t13
  let c16_i32_1181 : BitVec 32 := 16#32
  let v837 : BitVec 32 := Scalar.muli arg9 c16_i32_1181
  let v839 : Index := Scalar.indexCast v837
  ![15, v839.toNat]

def k1_chk177 (v780 : IVec S16 32) : Prop :=
  (∀ a x, ((![v780] : Fin 1 → IVec S16 32) a x).toNat < S88320.size a)
theorem k1_idx177_inb : ∀ (v780 : IVec S16 32) (k1_hw177 : k1_chk177 v780), ∀ a x, ((![v780] : Fin 1 → IVec S16 32) a x).toNat < S88320.size a := fun v780 k1_hw177 => k1_hw177

def k1_chk178 (v784 : IVec S16 32) : Prop :=
  (∀ a x, ((![v784] : Fin 1 → IVec S16 32) a x).toNat < S88320.size a)
theorem k1_idx178_inb : ∀ (v784 : IVec S16 32) (k1_hw178 : k1_chk178 v784), ∀ a x, ((![v784] : Fin 1 → IVec S16 32) a x).toNat < S88320.size a := fun v784 k1_hw178 => k1_hw178

def k1_chk179 (v788 : IVec S16 32) : Prop :=
  (∀ a x, ((![v788] : Fin 1 → IVec S16 32) a x).toNat < S88320.size a)
theorem k1_idx179_inb : ∀ (v788 : IVec S16 32) (k1_hw179 : k1_chk179 v788), ∀ a x, ((![v788] : Fin 1 → IVec S16 32) a x).toNat < S88320.size a := fun v788 k1_hw179 => k1_hw179

def k1_chk180 (v792 : IVec S16 32) : Prop :=
  (∀ a x, ((![v792] : Fin 1 → IVec S16 32) a x).toNat < S88320.size a)
theorem k1_idx180_inb : ∀ (v792 : IVec S16 32) (k1_hw180 : k1_chk180 v792), ∀ a x, ((![v792] : Fin 1 → IVec S16 32) a x).toNat < S88320.size a := fun v792 k1_hw180 => k1_hw180

def k1_chk181 (v796 : IVec S16 32) : Prop :=
  (∀ a x, ((![v796] : Fin 1 → IVec S16 32) a x).toNat < S88320.size a)
theorem k1_idx181_inb : ∀ (v796 : IVec S16 32) (k1_hw181 : k1_chk181 v796), ∀ a x, ((![v796] : Fin 1 → IVec S16 32) a x).toNat < S88320.size a := fun v796 k1_hw181 => k1_hw181

def k1_chk182 (v800 : IVec S16 32) : Prop :=
  (∀ a x, ((![v800] : Fin 1 → IVec S16 32) a x).toNat < S88320.size a)
theorem k1_idx182_inb : ∀ (v800 : IVec S16 32) (k1_hw182 : k1_chk182 v800), ∀ a x, ((![v800] : Fin 1 → IVec S16 32) a x).toNat < S88320.size a := fun v800 k1_hw182 => k1_hw182

def k1_chk183 (v804 : IVec S16 32) : Prop :=
  (∀ a x, ((![v804] : Fin 1 → IVec S16 32) a x).toNat < S88320.size a)
theorem k1_idx183_inb : ∀ (v804 : IVec S16 32) (k1_hw183 : k1_chk183 v804), ∀ a x, ((![v804] : Fin 1 → IVec S16 32) a x).toNat < S88320.size a := fun v804 k1_hw183 => k1_hw183

def k1_chk184 (v808 : IVec S16 32) : Prop :=
  (∀ a x, ((![v808] : Fin 1 → IVec S16 32) a x).toNat < S88320.size a)
theorem k1_idx184_inb : ∀ (v808 : IVec S16 32) (k1_hw184 : k1_chk184 v808), ∀ a x, ((![v808] : Fin 1 → IVec S16 32) a x).toNat < S88320.size a := fun v808 k1_hw184 => k1_hw184

def k1_chk185 (v812 : IVec S16 32) : Prop :=
  (∀ a x, ((![v812] : Fin 1 → IVec S16 32) a x).toNat < S88320.size a)
theorem k1_idx185_inb : ∀ (v812 : IVec S16 32) (k1_hw185 : k1_chk185 v812), ∀ a x, ((![v812] : Fin 1 → IVec S16 32) a x).toNat < S88320.size a := fun v812 k1_hw185 => k1_hw185

def k1_chk186 (v816 : IVec S16 32) : Prop :=
  (∀ a x, ((![v816] : Fin 1 → IVec S16 32) a x).toNat < S88320.size a)
theorem k1_idx186_inb : ∀ (v816 : IVec S16 32) (k1_hw186 : k1_chk186 v816), ∀ a x, ((![v816] : Fin 1 → IVec S16 32) a x).toNat < S88320.size a := fun v816 k1_hw186 => k1_hw186

def k1_chk187 (v820 : IVec S16 32) : Prop :=
  (∀ a x, ((![v820] : Fin 1 → IVec S16 32) a x).toNat < S88320.size a)
theorem k1_idx187_inb : ∀ (v820 : IVec S16 32) (k1_hw187 : k1_chk187 v820), ∀ a x, ((![v820] : Fin 1 → IVec S16 32) a x).toNat < S88320.size a := fun v820 k1_hw187 => k1_hw187

def k1_chk188 (v824 : IVec S16 32) : Prop :=
  (∀ a x, ((![v824] : Fin 1 → IVec S16 32) a x).toNat < S88320.size a)
theorem k1_idx188_inb : ∀ (v824 : IVec S16 32) (k1_hw188 : k1_chk188 v824), ∀ a x, ((![v824] : Fin 1 → IVec S16 32) a x).toNat < S88320.size a := fun v824 k1_hw188 => k1_hw188

def k1_chk189 (v828 : IVec S16 32) : Prop :=
  (∀ a x, ((![v828] : Fin 1 → IVec S16 32) a x).toNat < S88320.size a)
theorem k1_idx189_inb : ∀ (v828 : IVec S16 32) (k1_hw189 : k1_chk189 v828), ∀ a x, ((![v828] : Fin 1 → IVec S16 32) a x).toNat < S88320.size a := fun v828 k1_hw189 => k1_hw189

def k1_chk190 (v832 : IVec S16 32) : Prop :=
  (∀ a x, ((![v832] : Fin 1 → IVec S16 32) a x).toNat < S88320.size a)
theorem k1_idx190_inb : ∀ (v832 : IVec S16 32) (k1_hw190 : k1_chk190 v832), ∀ a x, ((![v832] : Fin 1 → IVec S16 32) a x).toNat < S88320.size a := fun v832 k1_hw190 => k1_hw190

def k1_chk191 (v836 : IVec S16 32) : Prop :=
  (∀ a x, ((![v836] : Fin 1 → IVec S16 32) a x).toNat < S88320.size a)
theorem k1_idx191_inb : ∀ (v836 : IVec S16 32) (k1_hw191 : k1_chk191 v836), ∀ a x, ((![v836] : Fin 1 → IVec S16 32) a x).toNat < S88320.size a := fun v836 k1_hw191 => k1_hw191

def k1_chk192 (v840 : IVec S16 32) : Prop :=
  (∀ a x, ((![v840] : Fin 1 → IVec S16 32) a x).toNat < S88320.size a)
theorem k1_idx192_inb : ∀ (v840 : IVec S16 32) (k1_hw192 : k1_chk192 v840), ∀ a x, ((![v840] : Fin 1 → IVec S16 32) a x).toNat < S88320.size a := fun v840 k1_hw192 => k1_hw192
def k1_off207 (i : grid1.Coords) : Fin 4 → Nat :=
  let c0_i32_152 : BitVec 32 := 0#32
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_153 : BitVec 32 := 0#32
  ![0, 13, v2.toNat, 0]
@[reducible] def k1_t14_loop : Scf.Loop 32 :=
  let c0_i32_160 : BitVec 32 := 0#32
  let c32_i32_161 : BitVec 32 := 32#32
  let v126 : BitVec 32 := Scalar.addi c0_i32_160 c32_i32_161
  let c1_i32_162 : BitVec 32 := 1#32
  ⟨c0_i32_160, v126, c1_i32_162⟩
def k1_off208 (k1_t14 : Fin k1_t14_loop.trips) : Fin 2 → Nat :=
  let c0_i32_1152 : BitVec 32 := 0#32
  let v778 : Index := Scalar.indexCast c0_i32_1152
  let c0_i32_160 : BitVec 32 := 0#32
  let c1_i32_162 : BitVec 32 := 1#32
  let arg9 : BitVec 32 := Scf.iv c0_i32_160 c1_i32_162 k1_t14
  let c16_i32_1151 : BitVec 32 := 16#32
  let v777 : BitVec 32 := Scalar.muli arg9 c16_i32_1151
  let v779 : Index := Scalar.indexCast v777
  ![0, v779.toNat]
def k1_off209 (k1_t14 : Fin k1_t14_loop.trips) : Fin 2 → Nat :=
  let c1_i32_1154 : BitVec 32 := 1#32
  let v782 : Index := Scalar.indexCast c1_i32_1154
  let c0_i32_160 : BitVec 32 := 0#32
  let c1_i32_162 : BitVec 32 := 1#32
  let arg9 : BitVec 32 := Scf.iv c0_i32_160 c1_i32_162 k1_t14
  let c16_i32_1153 : BitVec 32 := 16#32
  let v781 : BitVec 32 := Scalar.muli arg9 c16_i32_1153
  let v783 : Index := Scalar.indexCast v781
  ![1, v783.toNat]
def k1_off210 (k1_t14 : Fin k1_t14_loop.trips) : Fin 2 → Nat :=
  let c2_i32_1156 : BitVec 32 := 2#32
  let v786 : Index := Scalar.indexCast c2_i32_1156
  let c0_i32_160 : BitVec 32 := 0#32
  let c1_i32_162 : BitVec 32 := 1#32
  let arg9 : BitVec 32 := Scf.iv c0_i32_160 c1_i32_162 k1_t14
  let c16_i32_1155 : BitVec 32 := 16#32
  let v785 : BitVec 32 := Scalar.muli arg9 c16_i32_1155
  let v787 : Index := Scalar.indexCast v785
  ![2, v787.toNat]
def k1_off211 (k1_t14 : Fin k1_t14_loop.trips) : Fin 2 → Nat :=
  let c3_i32_1158 : BitVec 32 := 3#32
  let v790 : Index := Scalar.indexCast c3_i32_1158
  let c0_i32_160 : BitVec 32 := 0#32
  let c1_i32_162 : BitVec 32 := 1#32
  let arg9 : BitVec 32 := Scf.iv c0_i32_160 c1_i32_162 k1_t14
  let c16_i32_1157 : BitVec 32 := 16#32
  let v789 : BitVec 32 := Scalar.muli arg9 c16_i32_1157
  let v791 : Index := Scalar.indexCast v789
  ![3, v791.toNat]
def k1_off212 (k1_t14 : Fin k1_t14_loop.trips) : Fin 2 → Nat :=
  let c4_i32_1160 : BitVec 32 := 4#32
  let v794 : Index := Scalar.indexCast c4_i32_1160
  let c0_i32_160 : BitVec 32 := 0#32
  let c1_i32_162 : BitVec 32 := 1#32
  let arg9 : BitVec 32 := Scf.iv c0_i32_160 c1_i32_162 k1_t14
  let c16_i32_1159 : BitVec 32 := 16#32
  let v793 : BitVec 32 := Scalar.muli arg9 c16_i32_1159
  let v795 : Index := Scalar.indexCast v793
  ![4, v795.toNat]
def k1_off213 (k1_t14 : Fin k1_t14_loop.trips) : Fin 2 → Nat :=
  let c5_i32_1162 : BitVec 32 := 5#32
  let v798 : Index := Scalar.indexCast c5_i32_1162
  let c0_i32_160 : BitVec 32 := 0#32
  let c1_i32_162 : BitVec 32 := 1#32
  let arg9 : BitVec 32 := Scf.iv c0_i32_160 c1_i32_162 k1_t14
  let c16_i32_1161 : BitVec 32 := 16#32
  let v797 : BitVec 32 := Scalar.muli arg9 c16_i32_1161
  let v799 : Index := Scalar.indexCast v797
  ![5, v799.toNat]
def k1_off214 (k1_t14 : Fin k1_t14_loop.trips) : Fin 2 → Nat :=
  let c6_i32_1164 : BitVec 32 := 6#32
  let v802 : Index := Scalar.indexCast c6_i32_1164
  let c0_i32_160 : BitVec 32 := 0#32
  let c1_i32_162 : BitVec 32 := 1#32
  let arg9 : BitVec 32 := Scf.iv c0_i32_160 c1_i32_162 k1_t14
  let c16_i32_1163 : BitVec 32 := 16#32
  let v801 : BitVec 32 := Scalar.muli arg9 c16_i32_1163
  let v803 : Index := Scalar.indexCast v801
  ![6, v803.toNat]
def k1_off215 (k1_t14 : Fin k1_t14_loop.trips) : Fin 2 → Nat :=
  let c7_i32_1166 : BitVec 32 := 7#32
  let v806 : Index := Scalar.indexCast c7_i32_1166
  let c0_i32_160 : BitVec 32 := 0#32
  let c1_i32_162 : BitVec 32 := 1#32
  let arg9 : BitVec 32 := Scf.iv c0_i32_160 c1_i32_162 k1_t14
  let c16_i32_1165 : BitVec 32 := 16#32
  let v805 : BitVec 32 := Scalar.muli arg9 c16_i32_1165
  let v807 : Index := Scalar.indexCast v805
  ![7, v807.toNat]
def k1_off216 (k1_t14 : Fin k1_t14_loop.trips) : Fin 2 → Nat :=
  let c8_i32_1168 : BitVec 32 := 8#32
  let v810 : Index := Scalar.indexCast c8_i32_1168
  let c0_i32_160 : BitVec 32 := 0#32
  let c1_i32_162 : BitVec 32 := 1#32
  let arg9 : BitVec 32 := Scf.iv c0_i32_160 c1_i32_162 k1_t14
  let c16_i32_1167 : BitVec 32 := 16#32
  let v809 : BitVec 32 := Scalar.muli arg9 c16_i32_1167
  let v811 : Index := Scalar.indexCast v809
  ![8, v811.toNat]
def k1_off217 (k1_t14 : Fin k1_t14_loop.trips) : Fin 2 → Nat :=
  let c9_i32_1170 : BitVec 32 := 9#32
  let v814 : Index := Scalar.indexCast c9_i32_1170
  let c0_i32_160 : BitVec 32 := 0#32
  let c1_i32_162 : BitVec 32 := 1#32
  let arg9 : BitVec 32 := Scf.iv c0_i32_160 c1_i32_162 k1_t14
  let c16_i32_1169 : BitVec 32 := 16#32
  let v813 : BitVec 32 := Scalar.muli arg9 c16_i32_1169
  let v815 : Index := Scalar.indexCast v813
  ![9, v815.toNat]
def k1_off218 (k1_t14 : Fin k1_t14_loop.trips) : Fin 2 → Nat :=
  let c10_i32_1172 : BitVec 32 := 10#32
  let v818 : Index := Scalar.indexCast c10_i32_1172
  let c0_i32_160 : BitVec 32 := 0#32
  let c1_i32_162 : BitVec 32 := 1#32
  let arg9 : BitVec 32 := Scf.iv c0_i32_160 c1_i32_162 k1_t14
  let c16_i32_1171 : BitVec 32 := 16#32
  let v817 : BitVec 32 := Scalar.muli arg9 c16_i32_1171
  let v819 : Index := Scalar.indexCast v817
  ![10, v819.toNat]
def k1_off219 (k1_t14 : Fin k1_t14_loop.trips) : Fin 2 → Nat :=
  let c11_i32_1174 : BitVec 32 := 11#32
  let v822 : Index := Scalar.indexCast c11_i32_1174
  let c0_i32_160 : BitVec 32 := 0#32
  let c1_i32_162 : BitVec 32 := 1#32
  let arg9 : BitVec 32 := Scf.iv c0_i32_160 c1_i32_162 k1_t14
  let c16_i32_1173 : BitVec 32 := 16#32
  let v821 : BitVec 32 := Scalar.muli arg9 c16_i32_1173
  let v823 : Index := Scalar.indexCast v821
  ![11, v823.toNat]
def k1_off220 (k1_t14 : Fin k1_t14_loop.trips) : Fin 2 → Nat :=
  let c12_i32_1176 : BitVec 32 := 12#32
  let v826 : Index := Scalar.indexCast c12_i32_1176
  let c0_i32_160 : BitVec 32 := 0#32
  let c1_i32_162 : BitVec 32 := 1#32
  let arg9 : BitVec 32 := Scf.iv c0_i32_160 c1_i32_162 k1_t14
  let c16_i32_1175 : BitVec 32 := 16#32
  let v825 : BitVec 32 := Scalar.muli arg9 c16_i32_1175
  let v827 : Index := Scalar.indexCast v825
  ![12, v827.toNat]
def k1_off221 (k1_t14 : Fin k1_t14_loop.trips) : Fin 2 → Nat :=
  let c13_i32_1178 : BitVec 32 := 13#32
  let v830 : Index := Scalar.indexCast c13_i32_1178
  let c0_i32_160 : BitVec 32 := 0#32
  let c1_i32_162 : BitVec 32 := 1#32
  let arg9 : BitVec 32 := Scf.iv c0_i32_160 c1_i32_162 k1_t14
  let c16_i32_1177 : BitVec 32 := 16#32
  let v829 : BitVec 32 := Scalar.muli arg9 c16_i32_1177
  let v831 : Index := Scalar.indexCast v829
  ![13, v831.toNat]
def k1_off222 (k1_t14 : Fin k1_t14_loop.trips) : Fin 2 → Nat :=
  let c14_i32_1180 : BitVec 32 := 14#32
  let v834 : Index := Scalar.indexCast c14_i32_1180
  let c0_i32_160 : BitVec 32 := 0#32
  let c1_i32_162 : BitVec 32 := 1#32
  let arg9 : BitVec 32 := Scf.iv c0_i32_160 c1_i32_162 k1_t14
  let c16_i32_1179 : BitVec 32 := 16#32
  let v833 : BitVec 32 := Scalar.muli arg9 c16_i32_1179
  let v835 : Index := Scalar.indexCast v833
  ![14, v835.toNat]
def k1_off223 (k1_t14 : Fin k1_t14_loop.trips) : Fin 2 → Nat :=
  let c15_i32_1182 : BitVec 32 := 15#32
  let v838 : Index := Scalar.indexCast c15_i32_1182
  let c0_i32_160 : BitVec 32 := 0#32
  let c1_i32_162 : BitVec 32 := 1#32
  let arg9 : BitVec 32 := Scf.iv c0_i32_160 c1_i32_162 k1_t14
  let c16_i32_1181 : BitVec 32 := 16#32
  let v837 : BitVec 32 := Scalar.muli arg9 c16_i32_1181
  let v839 : Index := Scalar.indexCast v837
  ![15, v839.toNat]

def k1_chk193 (v780 : IVec S16 32) : Prop :=
  (∀ a x, ((![v780] : Fin 1 → IVec S16 32) a x).toNat < S88320.size a)
theorem k1_idx193_inb : ∀ (v780 : IVec S16 32) (k1_hw193 : k1_chk193 v780), ∀ a x, ((![v780] : Fin 1 → IVec S16 32) a x).toNat < S88320.size a := fun v780 k1_hw193 => k1_hw193

def k1_chk194 (v784 : IVec S16 32) : Prop :=
  (∀ a x, ((![v784] : Fin 1 → IVec S16 32) a x).toNat < S88320.size a)
theorem k1_idx194_inb : ∀ (v784 : IVec S16 32) (k1_hw194 : k1_chk194 v784), ∀ a x, ((![v784] : Fin 1 → IVec S16 32) a x).toNat < S88320.size a := fun v784 k1_hw194 => k1_hw194

def k1_chk195 (v788 : IVec S16 32) : Prop :=
  (∀ a x, ((![v788] : Fin 1 → IVec S16 32) a x).toNat < S88320.size a)
theorem k1_idx195_inb : ∀ (v788 : IVec S16 32) (k1_hw195 : k1_chk195 v788), ∀ a x, ((![v788] : Fin 1 → IVec S16 32) a x).toNat < S88320.size a := fun v788 k1_hw195 => k1_hw195

def k1_chk196 (v792 : IVec S16 32) : Prop :=
  (∀ a x, ((![v792] : Fin 1 → IVec S16 32) a x).toNat < S88320.size a)
theorem k1_idx196_inb : ∀ (v792 : IVec S16 32) (k1_hw196 : k1_chk196 v792), ∀ a x, ((![v792] : Fin 1 → IVec S16 32) a x).toNat < S88320.size a := fun v792 k1_hw196 => k1_hw196

def k1_chk197 (v796 : IVec S16 32) : Prop :=
  (∀ a x, ((![v796] : Fin 1 → IVec S16 32) a x).toNat < S88320.size a)
theorem k1_idx197_inb : ∀ (v796 : IVec S16 32) (k1_hw197 : k1_chk197 v796), ∀ a x, ((![v796] : Fin 1 → IVec S16 32) a x).toNat < S88320.size a := fun v796 k1_hw197 => k1_hw197

def k1_chk198 (v800 : IVec S16 32) : Prop :=
  (∀ a x, ((![v800] : Fin 1 → IVec S16 32) a x).toNat < S88320.size a)
theorem k1_idx198_inb : ∀ (v800 : IVec S16 32) (k1_hw198 : k1_chk198 v800), ∀ a x, ((![v800] : Fin 1 → IVec S16 32) a x).toNat < S88320.size a := fun v800 k1_hw198 => k1_hw198

def k1_chk199 (v804 : IVec S16 32) : Prop :=
  (∀ a x, ((![v804] : Fin 1 → IVec S16 32) a x).toNat < S88320.size a)
theorem k1_idx199_inb : ∀ (v804 : IVec S16 32) (k1_hw199 : k1_chk199 v804), ∀ a x, ((![v804] : Fin 1 → IVec S16 32) a x).toNat < S88320.size a := fun v804 k1_hw199 => k1_hw199

def k1_chk200 (v808 : IVec S16 32) : Prop :=
  (∀ a x, ((![v808] : Fin 1 → IVec S16 32) a x).toNat < S88320.size a)
theorem k1_idx200_inb : ∀ (v808 : IVec S16 32) (k1_hw200 : k1_chk200 v808), ∀ a x, ((![v808] : Fin 1 → IVec S16 32) a x).toNat < S88320.size a := fun v808 k1_hw200 => k1_hw200

def k1_chk201 (v812 : IVec S16 32) : Prop :=
  (∀ a x, ((![v812] : Fin 1 → IVec S16 32) a x).toNat < S88320.size a)
theorem k1_idx201_inb : ∀ (v812 : IVec S16 32) (k1_hw201 : k1_chk201 v812), ∀ a x, ((![v812] : Fin 1 → IVec S16 32) a x).toNat < S88320.size a := fun v812 k1_hw201 => k1_hw201

def k1_chk202 (v816 : IVec S16 32) : Prop :=
  (∀ a x, ((![v816] : Fin 1 → IVec S16 32) a x).toNat < S88320.size a)
theorem k1_idx202_inb : ∀ (v816 : IVec S16 32) (k1_hw202 : k1_chk202 v816), ∀ a x, ((![v816] : Fin 1 → IVec S16 32) a x).toNat < S88320.size a := fun v816 k1_hw202 => k1_hw202

def k1_chk203 (v820 : IVec S16 32) : Prop :=
  (∀ a x, ((![v820] : Fin 1 → IVec S16 32) a x).toNat < S88320.size a)
theorem k1_idx203_inb : ∀ (v820 : IVec S16 32) (k1_hw203 : k1_chk203 v820), ∀ a x, ((![v820] : Fin 1 → IVec S16 32) a x).toNat < S88320.size a := fun v820 k1_hw203 => k1_hw203

def k1_chk204 (v824 : IVec S16 32) : Prop :=
  (∀ a x, ((![v824] : Fin 1 → IVec S16 32) a x).toNat < S88320.size a)
theorem k1_idx204_inb : ∀ (v824 : IVec S16 32) (k1_hw204 : k1_chk204 v824), ∀ a x, ((![v824] : Fin 1 → IVec S16 32) a x).toNat < S88320.size a := fun v824 k1_hw204 => k1_hw204

def k1_chk205 (v828 : IVec S16 32) : Prop :=
  (∀ a x, ((![v828] : Fin 1 → IVec S16 32) a x).toNat < S88320.size a)
theorem k1_idx205_inb : ∀ (v828 : IVec S16 32) (k1_hw205 : k1_chk205 v828), ∀ a x, ((![v828] : Fin 1 → IVec S16 32) a x).toNat < S88320.size a := fun v828 k1_hw205 => k1_hw205

def k1_chk206 (v832 : IVec S16 32) : Prop :=
  (∀ a x, ((![v832] : Fin 1 → IVec S16 32) a x).toNat < S88320.size a)
theorem k1_idx206_inb : ∀ (v832 : IVec S16 32) (k1_hw206 : k1_chk206 v832), ∀ a x, ((![v832] : Fin 1 → IVec S16 32) a x).toNat < S88320.size a := fun v832 k1_hw206 => k1_hw206

def k1_chk207 (v836 : IVec S16 32) : Prop :=
  (∀ a x, ((![v836] : Fin 1 → IVec S16 32) a x).toNat < S88320.size a)
theorem k1_idx207_inb : ∀ (v836 : IVec S16 32) (k1_hw207 : k1_chk207 v836), ∀ a x, ((![v836] : Fin 1 → IVec S16 32) a x).toNat < S88320.size a := fun v836 k1_hw207 => k1_hw207

def k1_chk208 (v840 : IVec S16 32) : Prop :=
  (∀ a x, ((![v840] : Fin 1 → IVec S16 32) a x).toNat < S88320.size a)
theorem k1_idx208_inb : ∀ (v840 : IVec S16 32) (k1_hw208 : k1_chk208 v840), ∀ a x, ((![v840] : Fin 1 → IVec S16 32) a x).toNat < S88320.size a := fun v840 k1_hw208 => k1_hw208
def k1_off224 (i : grid1.Coords) : Fin 4 → Nat :=
  let c0_i32_164 : BitVec 32 := 0#32
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_165 : BitVec 32 := 0#32
  ![0, 14, v2.toNat, 0]
@[reducible] def k1_t15_loop : Scf.Loop 32 :=
  let c0_i32_172 : BitVec 32 := 0#32
  let c32_i32_173 : BitVec 32 := 32#32
  let v135 : BitVec 32 := Scalar.addi c0_i32_172 c32_i32_173
  let c1_i32_174 : BitVec 32 := 1#32
  ⟨c0_i32_172, v135, c1_i32_174⟩
def k1_off225 (k1_t15 : Fin k1_t15_loop.trips) : Fin 2 → Nat :=
  let c0_i32_1152 : BitVec 32 := 0#32
  let v778 : Index := Scalar.indexCast c0_i32_1152
  let c0_i32_172 : BitVec 32 := 0#32
  let c1_i32_174 : BitVec 32 := 1#32
  let arg9 : BitVec 32 := Scf.iv c0_i32_172 c1_i32_174 k1_t15
  let c16_i32_1151 : BitVec 32 := 16#32
  let v777 : BitVec 32 := Scalar.muli arg9 c16_i32_1151
  let v779 : Index := Scalar.indexCast v777
  ![0, v779.toNat]
def k1_off226 (k1_t15 : Fin k1_t15_loop.trips) : Fin 2 → Nat :=
  let c1_i32_1154 : BitVec 32 := 1#32
  let v782 : Index := Scalar.indexCast c1_i32_1154
  let c0_i32_172 : BitVec 32 := 0#32
  let c1_i32_174 : BitVec 32 := 1#32
  let arg9 : BitVec 32 := Scf.iv c0_i32_172 c1_i32_174 k1_t15
  let c16_i32_1153 : BitVec 32 := 16#32
  let v781 : BitVec 32 := Scalar.muli arg9 c16_i32_1153
  let v783 : Index := Scalar.indexCast v781
  ![1, v783.toNat]
def k1_off227 (k1_t15 : Fin k1_t15_loop.trips) : Fin 2 → Nat :=
  let c2_i32_1156 : BitVec 32 := 2#32
  let v786 : Index := Scalar.indexCast c2_i32_1156
  let c0_i32_172 : BitVec 32 := 0#32
  let c1_i32_174 : BitVec 32 := 1#32
  let arg9 : BitVec 32 := Scf.iv c0_i32_172 c1_i32_174 k1_t15
  let c16_i32_1155 : BitVec 32 := 16#32
  let v785 : BitVec 32 := Scalar.muli arg9 c16_i32_1155
  let v787 : Index := Scalar.indexCast v785
  ![2, v787.toNat]
def k1_off228 (k1_t15 : Fin k1_t15_loop.trips) : Fin 2 → Nat :=
  let c3_i32_1158 : BitVec 32 := 3#32
  let v790 : Index := Scalar.indexCast c3_i32_1158
  let c0_i32_172 : BitVec 32 := 0#32
  let c1_i32_174 : BitVec 32 := 1#32
  let arg9 : BitVec 32 := Scf.iv c0_i32_172 c1_i32_174 k1_t15
  let c16_i32_1157 : BitVec 32 := 16#32
  let v789 : BitVec 32 := Scalar.muli arg9 c16_i32_1157
  let v791 : Index := Scalar.indexCast v789
  ![3, v791.toNat]
def k1_off229 (k1_t15 : Fin k1_t15_loop.trips) : Fin 2 → Nat :=
  let c4_i32_1160 : BitVec 32 := 4#32
  let v794 : Index := Scalar.indexCast c4_i32_1160
  let c0_i32_172 : BitVec 32 := 0#32
  let c1_i32_174 : BitVec 32 := 1#32
  let arg9 : BitVec 32 := Scf.iv c0_i32_172 c1_i32_174 k1_t15
  let c16_i32_1159 : BitVec 32 := 16#32
  let v793 : BitVec 32 := Scalar.muli arg9 c16_i32_1159
  let v795 : Index := Scalar.indexCast v793
  ![4, v795.toNat]
def k1_off230 (k1_t15 : Fin k1_t15_loop.trips) : Fin 2 → Nat :=
  let c5_i32_1162 : BitVec 32 := 5#32
  let v798 : Index := Scalar.indexCast c5_i32_1162
  let c0_i32_172 : BitVec 32 := 0#32
  let c1_i32_174 : BitVec 32 := 1#32
  let arg9 : BitVec 32 := Scf.iv c0_i32_172 c1_i32_174 k1_t15
  let c16_i32_1161 : BitVec 32 := 16#32
  let v797 : BitVec 32 := Scalar.muli arg9 c16_i32_1161
  let v799 : Index := Scalar.indexCast v797
  ![5, v799.toNat]
def k1_off231 (k1_t15 : Fin k1_t15_loop.trips) : Fin 2 → Nat :=
  let c6_i32_1164 : BitVec 32 := 6#32
  let v802 : Index := Scalar.indexCast c6_i32_1164
  let c0_i32_172 : BitVec 32 := 0#32
  let c1_i32_174 : BitVec 32 := 1#32
  let arg9 : BitVec 32 := Scf.iv c0_i32_172 c1_i32_174 k1_t15
  let c16_i32_1163 : BitVec 32 := 16#32
  let v801 : BitVec 32 := Scalar.muli arg9 c16_i32_1163
  let v803 : Index := Scalar.indexCast v801
  ![6, v803.toNat]
def k1_off232 (k1_t15 : Fin k1_t15_loop.trips) : Fin 2 → Nat :=
  let c7_i32_1166 : BitVec 32 := 7#32
  let v806 : Index := Scalar.indexCast c7_i32_1166
  let c0_i32_172 : BitVec 32 := 0#32
  let c1_i32_174 : BitVec 32 := 1#32
  let arg9 : BitVec 32 := Scf.iv c0_i32_172 c1_i32_174 k1_t15
  let c16_i32_1165 : BitVec 32 := 16#32
  let v805 : BitVec 32 := Scalar.muli arg9 c16_i32_1165
  let v807 : Index := Scalar.indexCast v805
  ![7, v807.toNat]
def k1_off233 (k1_t15 : Fin k1_t15_loop.trips) : Fin 2 → Nat :=
  let c8_i32_1168 : BitVec 32 := 8#32
  let v810 : Index := Scalar.indexCast c8_i32_1168
  let c0_i32_172 : BitVec 32 := 0#32
  let c1_i32_174 : BitVec 32 := 1#32
  let arg9 : BitVec 32 := Scf.iv c0_i32_172 c1_i32_174 k1_t15
  let c16_i32_1167 : BitVec 32 := 16#32
  let v809 : BitVec 32 := Scalar.muli arg9 c16_i32_1167
  let v811 : Index := Scalar.indexCast v809
  ![8, v811.toNat]
def k1_off234 (k1_t15 : Fin k1_t15_loop.trips) : Fin 2 → Nat :=
  let c9_i32_1170 : BitVec 32 := 9#32
  let v814 : Index := Scalar.indexCast c9_i32_1170
  let c0_i32_172 : BitVec 32 := 0#32
  let c1_i32_174 : BitVec 32 := 1#32
  let arg9 : BitVec 32 := Scf.iv c0_i32_172 c1_i32_174 k1_t15
  let c16_i32_1169 : BitVec 32 := 16#32
  let v813 : BitVec 32 := Scalar.muli arg9 c16_i32_1169
  let v815 : Index := Scalar.indexCast v813
  ![9, v815.toNat]
def k1_off235 (k1_t15 : Fin k1_t15_loop.trips) : Fin 2 → Nat :=
  let c10_i32_1172 : BitVec 32 := 10#32
  let v818 : Index := Scalar.indexCast c10_i32_1172
  let c0_i32_172 : BitVec 32 := 0#32
  let c1_i32_174 : BitVec 32 := 1#32
  let arg9 : BitVec 32 := Scf.iv c0_i32_172 c1_i32_174 k1_t15
  let c16_i32_1171 : BitVec 32 := 16#32
  let v817 : BitVec 32 := Scalar.muli arg9 c16_i32_1171
  let v819 : Index := Scalar.indexCast v817
  ![10, v819.toNat]
def k1_off236 (k1_t15 : Fin k1_t15_loop.trips) : Fin 2 → Nat :=
  let c11_i32_1174 : BitVec 32 := 11#32
  let v822 : Index := Scalar.indexCast c11_i32_1174
  let c0_i32_172 : BitVec 32 := 0#32
  let c1_i32_174 : BitVec 32 := 1#32
  let arg9 : BitVec 32 := Scf.iv c0_i32_172 c1_i32_174 k1_t15
  let c16_i32_1173 : BitVec 32 := 16#32
  let v821 : BitVec 32 := Scalar.muli arg9 c16_i32_1173
  let v823 : Index := Scalar.indexCast v821
  ![11, v823.toNat]
def k1_off237 (k1_t15 : Fin k1_t15_loop.trips) : Fin 2 → Nat :=
  let c12_i32_1176 : BitVec 32 := 12#32
  let v826 : Index := Scalar.indexCast c12_i32_1176
  let c0_i32_172 : BitVec 32 := 0#32
  let c1_i32_174 : BitVec 32 := 1#32
  let arg9 : BitVec 32 := Scf.iv c0_i32_172 c1_i32_174 k1_t15
  let c16_i32_1175 : BitVec 32 := 16#32
  let v825 : BitVec 32 := Scalar.muli arg9 c16_i32_1175
  let v827 : Index := Scalar.indexCast v825
  ![12, v827.toNat]
def k1_off238 (k1_t15 : Fin k1_t15_loop.trips) : Fin 2 → Nat :=
  let c13_i32_1178 : BitVec 32 := 13#32
  let v830 : Index := Scalar.indexCast c13_i32_1178
  let c0_i32_172 : BitVec 32 := 0#32
  let c1_i32_174 : BitVec 32 := 1#32
  let arg9 : BitVec 32 := Scf.iv c0_i32_172 c1_i32_174 k1_t15
  let c16_i32_1177 : BitVec 32 := 16#32
  let v829 : BitVec 32 := Scalar.muli arg9 c16_i32_1177
  let v831 : Index := Scalar.indexCast v829
  ![13, v831.toNat]
def k1_off239 (k1_t15 : Fin k1_t15_loop.trips) : Fin 2 → Nat :=
  let c14_i32_1180 : BitVec 32 := 14#32
  let v834 : Index := Scalar.indexCast c14_i32_1180
  let c0_i32_172 : BitVec 32 := 0#32
  let c1_i32_174 : BitVec 32 := 1#32
  let arg9 : BitVec 32 := Scf.iv c0_i32_172 c1_i32_174 k1_t15
  let c16_i32_1179 : BitVec 32 := 16#32
  let v833 : BitVec 32 := Scalar.muli arg9 c16_i32_1179
  let v835 : Index := Scalar.indexCast v833
  ![14, v835.toNat]
def k1_off240 (k1_t15 : Fin k1_t15_loop.trips) : Fin 2 → Nat :=
  let c15_i32_1182 : BitVec 32 := 15#32
  let v838 : Index := Scalar.indexCast c15_i32_1182
  let c0_i32_172 : BitVec 32 := 0#32
  let c1_i32_174 : BitVec 32 := 1#32
  let arg9 : BitVec 32 := Scf.iv c0_i32_172 c1_i32_174 k1_t15
  let c16_i32_1181 : BitVec 32 := 16#32
  let v837 : BitVec 32 := Scalar.muli arg9 c16_i32_1181
  let v839 : Index := Scalar.indexCast v837
  ![15, v839.toNat]

def k1_chk209 (v780 : IVec S16 32) : Prop :=
  (∀ a x, ((![v780] : Fin 1 → IVec S16 32) a x).toNat < S88320.size a)
theorem k1_idx209_inb : ∀ (v780 : IVec S16 32) (k1_hw209 : k1_chk209 v780), ∀ a x, ((![v780] : Fin 1 → IVec S16 32) a x).toNat < S88320.size a := fun v780 k1_hw209 => k1_hw209

def k1_chk210 (v784 : IVec S16 32) : Prop :=
  (∀ a x, ((![v784] : Fin 1 → IVec S16 32) a x).toNat < S88320.size a)
theorem k1_idx210_inb : ∀ (v784 : IVec S16 32) (k1_hw210 : k1_chk210 v784), ∀ a x, ((![v784] : Fin 1 → IVec S16 32) a x).toNat < S88320.size a := fun v784 k1_hw210 => k1_hw210

def k1_chk211 (v788 : IVec S16 32) : Prop :=
  (∀ a x, ((![v788] : Fin 1 → IVec S16 32) a x).toNat < S88320.size a)
theorem k1_idx211_inb : ∀ (v788 : IVec S16 32) (k1_hw211 : k1_chk211 v788), ∀ a x, ((![v788] : Fin 1 → IVec S16 32) a x).toNat < S88320.size a := fun v788 k1_hw211 => k1_hw211

def k1_chk212 (v792 : IVec S16 32) : Prop :=
  (∀ a x, ((![v792] : Fin 1 → IVec S16 32) a x).toNat < S88320.size a)
theorem k1_idx212_inb : ∀ (v792 : IVec S16 32) (k1_hw212 : k1_chk212 v792), ∀ a x, ((![v792] : Fin 1 → IVec S16 32) a x).toNat < S88320.size a := fun v792 k1_hw212 => k1_hw212

def k1_chk213 (v796 : IVec S16 32) : Prop :=
  (∀ a x, ((![v796] : Fin 1 → IVec S16 32) a x).toNat < S88320.size a)
theorem k1_idx213_inb : ∀ (v796 : IVec S16 32) (k1_hw213 : k1_chk213 v796), ∀ a x, ((![v796] : Fin 1 → IVec S16 32) a x).toNat < S88320.size a := fun v796 k1_hw213 => k1_hw213

def k1_chk214 (v800 : IVec S16 32) : Prop :=
  (∀ a x, ((![v800] : Fin 1 → IVec S16 32) a x).toNat < S88320.size a)
theorem k1_idx214_inb : ∀ (v800 : IVec S16 32) (k1_hw214 : k1_chk214 v800), ∀ a x, ((![v800] : Fin 1 → IVec S16 32) a x).toNat < S88320.size a := fun v800 k1_hw214 => k1_hw214

def k1_chk215 (v804 : IVec S16 32) : Prop :=
  (∀ a x, ((![v804] : Fin 1 → IVec S16 32) a x).toNat < S88320.size a)
theorem k1_idx215_inb : ∀ (v804 : IVec S16 32) (k1_hw215 : k1_chk215 v804), ∀ a x, ((![v804] : Fin 1 → IVec S16 32) a x).toNat < S88320.size a := fun v804 k1_hw215 => k1_hw215

def k1_chk216 (v808 : IVec S16 32) : Prop :=
  (∀ a x, ((![v808] : Fin 1 → IVec S16 32) a x).toNat < S88320.size a)
theorem k1_idx216_inb : ∀ (v808 : IVec S16 32) (k1_hw216 : k1_chk216 v808), ∀ a x, ((![v808] : Fin 1 → IVec S16 32) a x).toNat < S88320.size a := fun v808 k1_hw216 => k1_hw216

def k1_chk217 (v812 : IVec S16 32) : Prop :=
  (∀ a x, ((![v812] : Fin 1 → IVec S16 32) a x).toNat < S88320.size a)
theorem k1_idx217_inb : ∀ (v812 : IVec S16 32) (k1_hw217 : k1_chk217 v812), ∀ a x, ((![v812] : Fin 1 → IVec S16 32) a x).toNat < S88320.size a := fun v812 k1_hw217 => k1_hw217

def k1_chk218 (v816 : IVec S16 32) : Prop :=
  (∀ a x, ((![v816] : Fin 1 → IVec S16 32) a x).toNat < S88320.size a)
theorem k1_idx218_inb : ∀ (v816 : IVec S16 32) (k1_hw218 : k1_chk218 v816), ∀ a x, ((![v816] : Fin 1 → IVec S16 32) a x).toNat < S88320.size a := fun v816 k1_hw218 => k1_hw218

def k1_chk219 (v820 : IVec S16 32) : Prop :=
  (∀ a x, ((![v820] : Fin 1 → IVec S16 32) a x).toNat < S88320.size a)
theorem k1_idx219_inb : ∀ (v820 : IVec S16 32) (k1_hw219 : k1_chk219 v820), ∀ a x, ((![v820] : Fin 1 → IVec S16 32) a x).toNat < S88320.size a := fun v820 k1_hw219 => k1_hw219

def k1_chk220 (v824 : IVec S16 32) : Prop :=
  (∀ a x, ((![v824] : Fin 1 → IVec S16 32) a x).toNat < S88320.size a)
theorem k1_idx220_inb : ∀ (v824 : IVec S16 32) (k1_hw220 : k1_chk220 v824), ∀ a x, ((![v824] : Fin 1 → IVec S16 32) a x).toNat < S88320.size a := fun v824 k1_hw220 => k1_hw220

def k1_chk221 (v828 : IVec S16 32) : Prop :=
  (∀ a x, ((![v828] : Fin 1 → IVec S16 32) a x).toNat < S88320.size a)
theorem k1_idx221_inb : ∀ (v828 : IVec S16 32) (k1_hw221 : k1_chk221 v828), ∀ a x, ((![v828] : Fin 1 → IVec S16 32) a x).toNat < S88320.size a := fun v828 k1_hw221 => k1_hw221

def k1_chk222 (v832 : IVec S16 32) : Prop :=
  (∀ a x, ((![v832] : Fin 1 → IVec S16 32) a x).toNat < S88320.size a)
theorem k1_idx222_inb : ∀ (v832 : IVec S16 32) (k1_hw222 : k1_chk222 v832), ∀ a x, ((![v832] : Fin 1 → IVec S16 32) a x).toNat < S88320.size a := fun v832 k1_hw222 => k1_hw222

def k1_chk223 (v836 : IVec S16 32) : Prop :=
  (∀ a x, ((![v836] : Fin 1 → IVec S16 32) a x).toNat < S88320.size a)
theorem k1_idx223_inb : ∀ (v836 : IVec S16 32) (k1_hw223 : k1_chk223 v836), ∀ a x, ((![v836] : Fin 1 → IVec S16 32) a x).toNat < S88320.size a := fun v836 k1_hw223 => k1_hw223

def k1_chk224 (v840 : IVec S16 32) : Prop :=
  (∀ a x, ((![v840] : Fin 1 → IVec S16 32) a x).toNat < S88320.size a)
theorem k1_idx224_inb : ∀ (v840 : IVec S16 32) (k1_hw224 : k1_chk224 v840), ∀ a x, ((![v840] : Fin 1 → IVec S16 32) a x).toNat < S88320.size a := fun v840 k1_hw224 => k1_hw224
def k1_off241 (i : grid1.Coords) : Fin 4 → Nat :=
  let c0_i32_176 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_177 : BitVec 32 := 0#32
  ![0, 15, v2.toNat, 0]
@[reducible] def k1_t16_loop : Scf.Loop 32 :=
  let c0_i32_184 : BitVec 32 := 0#32
  let c32_i32_185 : BitVec 32 := 32#32
  let v144 : BitVec 32 := Scalar.addi c0_i32_184 c32_i32_185
  let c1_i32_186 : BitVec 32 := 1#32
  ⟨c0_i32_184, v144, c1_i32_186⟩
def k1_off242 (k1_t16 : Fin k1_t16_loop.trips) : Fin 2 → Nat :=
  let c0_i32_1152 : BitVec 32 := 0#32
  let v778 : Index := Scalar.indexCast c0_i32_1152
  let c0_i32_184 : BitVec 32 := 0#32
  let c1_i32_186 : BitVec 32 := 1#32
  let arg9 : BitVec 32 := Scf.iv c0_i32_184 c1_i32_186 k1_t16
  let c16_i32_1151 : BitVec 32 := 16#32
  let v777 : BitVec 32 := Scalar.muli arg9 c16_i32_1151
  let v779 : Index := Scalar.indexCast v777
  ![0, v779.toNat]
def k1_off243 (k1_t16 : Fin k1_t16_loop.trips) : Fin 2 → Nat :=
  let c1_i32_1154 : BitVec 32 := 1#32
  let v782 : Index := Scalar.indexCast c1_i32_1154
  let c0_i32_184 : BitVec 32 := 0#32
  let c1_i32_186 : BitVec 32 := 1#32
  let arg9 : BitVec 32 := Scf.iv c0_i32_184 c1_i32_186 k1_t16
  let c16_i32_1153 : BitVec 32 := 16#32
  let v781 : BitVec 32 := Scalar.muli arg9 c16_i32_1153
  let v783 : Index := Scalar.indexCast v781
  ![1, v783.toNat]
def k1_off244 (k1_t16 : Fin k1_t16_loop.trips) : Fin 2 → Nat :=
  let c2_i32_1156 : BitVec 32 := 2#32
  let v786 : Index := Scalar.indexCast c2_i32_1156
  let c0_i32_184 : BitVec 32 := 0#32
  let c1_i32_186 : BitVec 32 := 1#32
  let arg9 : BitVec 32 := Scf.iv c0_i32_184 c1_i32_186 k1_t16
  let c16_i32_1155 : BitVec 32 := 16#32
  let v785 : BitVec 32 := Scalar.muli arg9 c16_i32_1155
  let v787 : Index := Scalar.indexCast v785
  ![2, v787.toNat]
def k1_off245 (k1_t16 : Fin k1_t16_loop.trips) : Fin 2 → Nat :=
  let c3_i32_1158 : BitVec 32 := 3#32
  let v790 : Index := Scalar.indexCast c3_i32_1158
  let c0_i32_184 : BitVec 32 := 0#32
  let c1_i32_186 : BitVec 32 := 1#32
  let arg9 : BitVec 32 := Scf.iv c0_i32_184 c1_i32_186 k1_t16
  let c16_i32_1157 : BitVec 32 := 16#32
  let v789 : BitVec 32 := Scalar.muli arg9 c16_i32_1157
  let v791 : Index := Scalar.indexCast v789
  ![3, v791.toNat]
def k1_off246 (k1_t16 : Fin k1_t16_loop.trips) : Fin 2 → Nat :=
  let c4_i32_1160 : BitVec 32 := 4#32
  let v794 : Index := Scalar.indexCast c4_i32_1160
  let c0_i32_184 : BitVec 32 := 0#32
  let c1_i32_186 : BitVec 32 := 1#32
  let arg9 : BitVec 32 := Scf.iv c0_i32_184 c1_i32_186 k1_t16
  let c16_i32_1159 : BitVec 32 := 16#32
  let v793 : BitVec 32 := Scalar.muli arg9 c16_i32_1159
  let v795 : Index := Scalar.indexCast v793
  ![4, v795.toNat]
def k1_off247 (k1_t16 : Fin k1_t16_loop.trips) : Fin 2 → Nat :=
  let c5_i32_1162 : BitVec 32 := 5#32
  let v798 : Index := Scalar.indexCast c5_i32_1162
  let c0_i32_184 : BitVec 32 := 0#32
  let c1_i32_186 : BitVec 32 := 1#32
  let arg9 : BitVec 32 := Scf.iv c0_i32_184 c1_i32_186 k1_t16
  let c16_i32_1161 : BitVec 32 := 16#32
  let v797 : BitVec 32 := Scalar.muli arg9 c16_i32_1161
  let v799 : Index := Scalar.indexCast v797
  ![5, v799.toNat]
def k1_off248 (k1_t16 : Fin k1_t16_loop.trips) : Fin 2 → Nat :=
  let c6_i32_1164 : BitVec 32 := 6#32
  let v802 : Index := Scalar.indexCast c6_i32_1164
  let c0_i32_184 : BitVec 32 := 0#32
  let c1_i32_186 : BitVec 32 := 1#32
  let arg9 : BitVec 32 := Scf.iv c0_i32_184 c1_i32_186 k1_t16
  let c16_i32_1163 : BitVec 32 := 16#32
  let v801 : BitVec 32 := Scalar.muli arg9 c16_i32_1163
  let v803 : Index := Scalar.indexCast v801
  ![6, v803.toNat]
def k1_off249 (k1_t16 : Fin k1_t16_loop.trips) : Fin 2 → Nat :=
  let c7_i32_1166 : BitVec 32 := 7#32
  let v806 : Index := Scalar.indexCast c7_i32_1166
  let c0_i32_184 : BitVec 32 := 0#32
  let c1_i32_186 : BitVec 32 := 1#32
  let arg9 : BitVec 32 := Scf.iv c0_i32_184 c1_i32_186 k1_t16
  let c16_i32_1165 : BitVec 32 := 16#32
  let v805 : BitVec 32 := Scalar.muli arg9 c16_i32_1165
  let v807 : Index := Scalar.indexCast v805
  ![7, v807.toNat]
def k1_off250 (k1_t16 : Fin k1_t16_loop.trips) : Fin 2 → Nat :=
  let c8_i32_1168 : BitVec 32 := 8#32
  let v810 : Index := Scalar.indexCast c8_i32_1168
  let c0_i32_184 : BitVec 32 := 0#32
  let c1_i32_186 : BitVec 32 := 1#32
  let arg9 : BitVec 32 := Scf.iv c0_i32_184 c1_i32_186 k1_t16
  let c16_i32_1167 : BitVec 32 := 16#32
  let v809 : BitVec 32 := Scalar.muli arg9 c16_i32_1167
  let v811 : Index := Scalar.indexCast v809
  ![8, v811.toNat]
def k1_off251 (k1_t16 : Fin k1_t16_loop.trips) : Fin 2 → Nat :=
  let c9_i32_1170 : BitVec 32 := 9#32
  let v814 : Index := Scalar.indexCast c9_i32_1170
  let c0_i32_184 : BitVec 32 := 0#32
  let c1_i32_186 : BitVec 32 := 1#32
  let arg9 : BitVec 32 := Scf.iv c0_i32_184 c1_i32_186 k1_t16
  let c16_i32_1169 : BitVec 32 := 16#32
  let v813 : BitVec 32 := Scalar.muli arg9 c16_i32_1169
  let v815 : Index := Scalar.indexCast v813
  ![9, v815.toNat]
def k1_off252 (k1_t16 : Fin k1_t16_loop.trips) : Fin 2 → Nat :=
  let c10_i32_1172 : BitVec 32 := 10#32
  let v818 : Index := Scalar.indexCast c10_i32_1172
  let c0_i32_184 : BitVec 32 := 0#32
  let c1_i32_186 : BitVec 32 := 1#32
  let arg9 : BitVec 32 := Scf.iv c0_i32_184 c1_i32_186 k1_t16
  let c16_i32_1171 : BitVec 32 := 16#32
  let v817 : BitVec 32 := Scalar.muli arg9 c16_i32_1171
  let v819 : Index := Scalar.indexCast v817
  ![10, v819.toNat]
def k1_off253 (k1_t16 : Fin k1_t16_loop.trips) : Fin 2 → Nat :=
  let c11_i32_1174 : BitVec 32 := 11#32
  let v822 : Index := Scalar.indexCast c11_i32_1174
  let c0_i32_184 : BitVec 32 := 0#32
  let c1_i32_186 : BitVec 32 := 1#32
  let arg9 : BitVec 32 := Scf.iv c0_i32_184 c1_i32_186 k1_t16
  let c16_i32_1173 : BitVec 32 := 16#32
  let v821 : BitVec 32 := Scalar.muli arg9 c16_i32_1173
  let v823 : Index := Scalar.indexCast v821
  ![11, v823.toNat]
def k1_off254 (k1_t16 : Fin k1_t16_loop.trips) : Fin 2 → Nat :=
  let c12_i32_1176 : BitVec 32 := 12#32
  let v826 : Index := Scalar.indexCast c12_i32_1176
  let c0_i32_184 : BitVec 32 := 0#32
  let c1_i32_186 : BitVec 32 := 1#32
  let arg9 : BitVec 32 := Scf.iv c0_i32_184 c1_i32_186 k1_t16
  let c16_i32_1175 : BitVec 32 := 16#32
  let v825 : BitVec 32 := Scalar.muli arg9 c16_i32_1175
  let v827 : Index := Scalar.indexCast v825
  ![12, v827.toNat]
def k1_off255 (k1_t16 : Fin k1_t16_loop.trips) : Fin 2 → Nat :=
  let c13_i32_1178 : BitVec 32 := 13#32
  let v830 : Index := Scalar.indexCast c13_i32_1178
  let c0_i32_184 : BitVec 32 := 0#32
  let c1_i32_186 : BitVec 32 := 1#32
  let arg9 : BitVec 32 := Scf.iv c0_i32_184 c1_i32_186 k1_t16
  let c16_i32_1177 : BitVec 32 := 16#32
  let v829 : BitVec 32 := Scalar.muli arg9 c16_i32_1177
  let v831 : Index := Scalar.indexCast v829
  ![13, v831.toNat]
def k1_off256 (k1_t16 : Fin k1_t16_loop.trips) : Fin 2 → Nat :=
  let c14_i32_1180 : BitVec 32 := 14#32
  let v834 : Index := Scalar.indexCast c14_i32_1180
  let c0_i32_184 : BitVec 32 := 0#32
  let c1_i32_186 : BitVec 32 := 1#32
  let arg9 : BitVec 32 := Scf.iv c0_i32_184 c1_i32_186 k1_t16
  let c16_i32_1179 : BitVec 32 := 16#32
  let v833 : BitVec 32 := Scalar.muli arg9 c16_i32_1179
  let v835 : Index := Scalar.indexCast v833
  ![14, v835.toNat]
def k1_off257 (k1_t16 : Fin k1_t16_loop.trips) : Fin 2 → Nat :=
  let c15_i32_1182 : BitVec 32 := 15#32
  let v838 : Index := Scalar.indexCast c15_i32_1182
  let c0_i32_184 : BitVec 32 := 0#32
  let c1_i32_186 : BitVec 32 := 1#32
  let arg9 : BitVec 32 := Scf.iv c0_i32_184 c1_i32_186 k1_t16
  let c16_i32_1181 : BitVec 32 := 16#32
  let v837 : BitVec 32 := Scalar.muli arg9 c16_i32_1181
  let v839 : Index := Scalar.indexCast v837
  ![15, v839.toNat]

def k1_chk225 (v780 : IVec S16 32) : Prop :=
  (∀ a x, ((![v780] : Fin 1 → IVec S16 32) a x).toNat < S88320.size a)
theorem k1_idx225_inb : ∀ (v780 : IVec S16 32) (k1_hw225 : k1_chk225 v780), ∀ a x, ((![v780] : Fin 1 → IVec S16 32) a x).toNat < S88320.size a := fun v780 k1_hw225 => k1_hw225

def k1_chk226 (v784 : IVec S16 32) : Prop :=
  (∀ a x, ((![v784] : Fin 1 → IVec S16 32) a x).toNat < S88320.size a)
theorem k1_idx226_inb : ∀ (v784 : IVec S16 32) (k1_hw226 : k1_chk226 v784), ∀ a x, ((![v784] : Fin 1 → IVec S16 32) a x).toNat < S88320.size a := fun v784 k1_hw226 => k1_hw226

def k1_chk227 (v788 : IVec S16 32) : Prop :=
  (∀ a x, ((![v788] : Fin 1 → IVec S16 32) a x).toNat < S88320.size a)
theorem k1_idx227_inb : ∀ (v788 : IVec S16 32) (k1_hw227 : k1_chk227 v788), ∀ a x, ((![v788] : Fin 1 → IVec S16 32) a x).toNat < S88320.size a := fun v788 k1_hw227 => k1_hw227

def k1_chk228 (v792 : IVec S16 32) : Prop :=
  (∀ a x, ((![v792] : Fin 1 → IVec S16 32) a x).toNat < S88320.size a)
theorem k1_idx228_inb : ∀ (v792 : IVec S16 32) (k1_hw228 : k1_chk228 v792), ∀ a x, ((![v792] : Fin 1 → IVec S16 32) a x).toNat < S88320.size a := fun v792 k1_hw228 => k1_hw228

def k1_chk229 (v796 : IVec S16 32) : Prop :=
  (∀ a x, ((![v796] : Fin 1 → IVec S16 32) a x).toNat < S88320.size a)
theorem k1_idx229_inb : ∀ (v796 : IVec S16 32) (k1_hw229 : k1_chk229 v796), ∀ a x, ((![v796] : Fin 1 → IVec S16 32) a x).toNat < S88320.size a := fun v796 k1_hw229 => k1_hw229

def k1_chk230 (v800 : IVec S16 32) : Prop :=
  (∀ a x, ((![v800] : Fin 1 → IVec S16 32) a x).toNat < S88320.size a)
theorem k1_idx230_inb : ∀ (v800 : IVec S16 32) (k1_hw230 : k1_chk230 v800), ∀ a x, ((![v800] : Fin 1 → IVec S16 32) a x).toNat < S88320.size a := fun v800 k1_hw230 => k1_hw230

def k1_chk231 (v804 : IVec S16 32) : Prop :=
  (∀ a x, ((![v804] : Fin 1 → IVec S16 32) a x).toNat < S88320.size a)
theorem k1_idx231_inb : ∀ (v804 : IVec S16 32) (k1_hw231 : k1_chk231 v804), ∀ a x, ((![v804] : Fin 1 → IVec S16 32) a x).toNat < S88320.size a := fun v804 k1_hw231 => k1_hw231

def k1_chk232 (v808 : IVec S16 32) : Prop :=
  (∀ a x, ((![v808] : Fin 1 → IVec S16 32) a x).toNat < S88320.size a)
theorem k1_idx232_inb : ∀ (v808 : IVec S16 32) (k1_hw232 : k1_chk232 v808), ∀ a x, ((![v808] : Fin 1 → IVec S16 32) a x).toNat < S88320.size a := fun v808 k1_hw232 => k1_hw232

def k1_chk233 (v812 : IVec S16 32) : Prop :=
  (∀ a x, ((![v812] : Fin 1 → IVec S16 32) a x).toNat < S88320.size a)
theorem k1_idx233_inb : ∀ (v812 : IVec S16 32) (k1_hw233 : k1_chk233 v812), ∀ a x, ((![v812] : Fin 1 → IVec S16 32) a x).toNat < S88320.size a := fun v812 k1_hw233 => k1_hw233

def k1_chk234 (v816 : IVec S16 32) : Prop :=
  (∀ a x, ((![v816] : Fin 1 → IVec S16 32) a x).toNat < S88320.size a)
theorem k1_idx234_inb : ∀ (v816 : IVec S16 32) (k1_hw234 : k1_chk234 v816), ∀ a x, ((![v816] : Fin 1 → IVec S16 32) a x).toNat < S88320.size a := fun v816 k1_hw234 => k1_hw234

def k1_chk235 (v820 : IVec S16 32) : Prop :=
  (∀ a x, ((![v820] : Fin 1 → IVec S16 32) a x).toNat < S88320.size a)
theorem k1_idx235_inb : ∀ (v820 : IVec S16 32) (k1_hw235 : k1_chk235 v820), ∀ a x, ((![v820] : Fin 1 → IVec S16 32) a x).toNat < S88320.size a := fun v820 k1_hw235 => k1_hw235

def k1_chk236 (v824 : IVec S16 32) : Prop :=
  (∀ a x, ((![v824] : Fin 1 → IVec S16 32) a x).toNat < S88320.size a)
theorem k1_idx236_inb : ∀ (v824 : IVec S16 32) (k1_hw236 : k1_chk236 v824), ∀ a x, ((![v824] : Fin 1 → IVec S16 32) a x).toNat < S88320.size a := fun v824 k1_hw236 => k1_hw236

def k1_chk237 (v828 : IVec S16 32) : Prop :=
  (∀ a x, ((![v828] : Fin 1 → IVec S16 32) a x).toNat < S88320.size a)
theorem k1_idx237_inb : ∀ (v828 : IVec S16 32) (k1_hw237 : k1_chk237 v828), ∀ a x, ((![v828] : Fin 1 → IVec S16 32) a x).toNat < S88320.size a := fun v828 k1_hw237 => k1_hw237

def k1_chk238 (v832 : IVec S16 32) : Prop :=
  (∀ a x, ((![v832] : Fin 1 → IVec S16 32) a x).toNat < S88320.size a)
theorem k1_idx238_inb : ∀ (v832 : IVec S16 32) (k1_hw238 : k1_chk238 v832), ∀ a x, ((![v832] : Fin 1 → IVec S16 32) a x).toNat < S88320.size a := fun v832 k1_hw238 => k1_hw238

def k1_chk239 (v836 : IVec S16 32) : Prop :=
  (∀ a x, ((![v836] : Fin 1 → IVec S16 32) a x).toNat < S88320.size a)
theorem k1_idx239_inb : ∀ (v836 : IVec S16 32) (k1_hw239 : k1_chk239 v836), ∀ a x, ((![v836] : Fin 1 → IVec S16 32) a x).toNat < S88320.size a := fun v836 k1_hw239 => k1_hw239

def k1_chk240 (v840 : IVec S16 32) : Prop :=
  (∀ a x, ((![v840] : Fin 1 → IVec S16 32) a x).toNat < S88320.size a)
theorem k1_idx240_inb : ∀ (v840 : IVec S16 32) (k1_hw240 : k1_chk240 v840), ∀ a x, ((![v840] : Fin 1 → IVec S16 32) a x).toNat < S88320.size a := fun v840 k1_hw240 => k1_hw240
def k1_off258 (i : grid1.Coords) : Fin 4 → Nat :=
  let c0_i32_188 : BitVec 32 := 0#32
  let c16_i32_189 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_190 : BitVec 32 := 0#32
  ![0, 16, v2.toNat, 0]
@[reducible] def k1_t17_loop : Scf.Loop 32 :=
  let c0_i32_197 : BitVec 32 := 0#32
  let c32_i32_198 : BitVec 32 := 32#32
  let v153 : BitVec 32 := Scalar.addi c0_i32_197 c32_i32_198
  let c1_i32_199 : BitVec 32 := 1#32
  ⟨c0_i32_197, v153, c1_i32_199⟩
def k1_off259 (k1_t17 : Fin k1_t17_loop.trips) : Fin 2 → Nat :=
  let c0_i32_1152 : BitVec 32 := 0#32
  let v778 : Index := Scalar.indexCast c0_i32_1152
  let c0_i32_197 : BitVec 32 := 0#32
  let c1_i32_199 : BitVec 32 := 1#32
  let arg9 : BitVec 32 := Scf.iv c0_i32_197 c1_i32_199 k1_t17
  let c16_i32_1151 : BitVec 32 := 16#32
  let v777 : BitVec 32 := Scalar.muli arg9 c16_i32_1151
  let v779 : Index := Scalar.indexCast v777
  ![0, v779.toNat]
def k1_off260 (k1_t17 : Fin k1_t17_loop.trips) : Fin 2 → Nat :=
  let c1_i32_1154 : BitVec 32 := 1#32
  let v782 : Index := Scalar.indexCast c1_i32_1154
  let c0_i32_197 : BitVec 32 := 0#32
  let c1_i32_199 : BitVec 32 := 1#32
  let arg9 : BitVec 32 := Scf.iv c0_i32_197 c1_i32_199 k1_t17
  let c16_i32_1153 : BitVec 32 := 16#32
  let v781 : BitVec 32 := Scalar.muli arg9 c16_i32_1153
  let v783 : Index := Scalar.indexCast v781
  ![1, v783.toNat]
def k1_off261 (k1_t17 : Fin k1_t17_loop.trips) : Fin 2 → Nat :=
  let c2_i32_1156 : BitVec 32 := 2#32
  let v786 : Index := Scalar.indexCast c2_i32_1156
  let c0_i32_197 : BitVec 32 := 0#32
  let c1_i32_199 : BitVec 32 := 1#32
  let arg9 : BitVec 32 := Scf.iv c0_i32_197 c1_i32_199 k1_t17
  let c16_i32_1155 : BitVec 32 := 16#32
  let v785 : BitVec 32 := Scalar.muli arg9 c16_i32_1155
  let v787 : Index := Scalar.indexCast v785
  ![2, v787.toNat]
def k1_off262 (k1_t17 : Fin k1_t17_loop.trips) : Fin 2 → Nat :=
  let c3_i32_1158 : BitVec 32 := 3#32
  let v790 : Index := Scalar.indexCast c3_i32_1158
  let c0_i32_197 : BitVec 32 := 0#32
  let c1_i32_199 : BitVec 32 := 1#32
  let arg9 : BitVec 32 := Scf.iv c0_i32_197 c1_i32_199 k1_t17
  let c16_i32_1157 : BitVec 32 := 16#32
  let v789 : BitVec 32 := Scalar.muli arg9 c16_i32_1157
  let v791 : Index := Scalar.indexCast v789
  ![3, v791.toNat]
def k1_off263 (k1_t17 : Fin k1_t17_loop.trips) : Fin 2 → Nat :=
  let c4_i32_1160 : BitVec 32 := 4#32
  let v794 : Index := Scalar.indexCast c4_i32_1160
  let c0_i32_197 : BitVec 32 := 0#32
  let c1_i32_199 : BitVec 32 := 1#32
  let arg9 : BitVec 32 := Scf.iv c0_i32_197 c1_i32_199 k1_t17
  let c16_i32_1159 : BitVec 32 := 16#32
  let v793 : BitVec 32 := Scalar.muli arg9 c16_i32_1159
  let v795 : Index := Scalar.indexCast v793
  ![4, v795.toNat]
def k1_off264 (k1_t17 : Fin k1_t17_loop.trips) : Fin 2 → Nat :=
  let c5_i32_1162 : BitVec 32 := 5#32
  let v798 : Index := Scalar.indexCast c5_i32_1162
  let c0_i32_197 : BitVec 32 := 0#32
  let c1_i32_199 : BitVec 32 := 1#32
  let arg9 : BitVec 32 := Scf.iv c0_i32_197 c1_i32_199 k1_t17
  let c16_i32_1161 : BitVec 32 := 16#32
  let v797 : BitVec 32 := Scalar.muli arg9 c16_i32_1161
  let v799 : Index := Scalar.indexCast v797
  ![5, v799.toNat]
def k1_off265 (k1_t17 : Fin k1_t17_loop.trips) : Fin 2 → Nat :=
  let c6_i32_1164 : BitVec 32 := 6#32
  let v802 : Index := Scalar.indexCast c6_i32_1164
  let c0_i32_197 : BitVec 32 := 0#32
  let c1_i32_199 : BitVec 32 := 1#32
  let arg9 : BitVec 32 := Scf.iv c0_i32_197 c1_i32_199 k1_t17
  let c16_i32_1163 : BitVec 32 := 16#32
  let v801 : BitVec 32 := Scalar.muli arg9 c16_i32_1163
  let v803 : Index := Scalar.indexCast v801
  ![6, v803.toNat]
def k1_off266 (k1_t17 : Fin k1_t17_loop.trips) : Fin 2 → Nat :=
  let c7_i32_1166 : BitVec 32 := 7#32
  let v806 : Index := Scalar.indexCast c7_i32_1166
  let c0_i32_197 : BitVec 32 := 0#32
  let c1_i32_199 : BitVec 32 := 1#32
  let arg9 : BitVec 32 := Scf.iv c0_i32_197 c1_i32_199 k1_t17
  let c16_i32_1165 : BitVec 32 := 16#32
  let v805 : BitVec 32 := Scalar.muli arg9 c16_i32_1165
  let v807 : Index := Scalar.indexCast v805
  ![7, v807.toNat]
def k1_off267 (k1_t17 : Fin k1_t17_loop.trips) : Fin 2 → Nat :=
  let c8_i32_1168 : BitVec 32 := 8#32
  let v810 : Index := Scalar.indexCast c8_i32_1168
  let c0_i32_197 : BitVec 32 := 0#32
  let c1_i32_199 : BitVec 32 := 1#32
  let arg9 : BitVec 32 := Scf.iv c0_i32_197 c1_i32_199 k1_t17
  let c16_i32_1167 : BitVec 32 := 16#32
  let v809 : BitVec 32 := Scalar.muli arg9 c16_i32_1167
  let v811 : Index := Scalar.indexCast v809
  ![8, v811.toNat]
def k1_off268 (k1_t17 : Fin k1_t17_loop.trips) : Fin 2 → Nat :=
  let c9_i32_1170 : BitVec 32 := 9#32
  let v814 : Index := Scalar.indexCast c9_i32_1170
  let c0_i32_197 : BitVec 32 := 0#32
  let c1_i32_199 : BitVec 32 := 1#32
  let arg9 : BitVec 32 := Scf.iv c0_i32_197 c1_i32_199 k1_t17
  let c16_i32_1169 : BitVec 32 := 16#32
  let v813 : BitVec 32 := Scalar.muli arg9 c16_i32_1169
  let v815 : Index := Scalar.indexCast v813
  ![9, v815.toNat]
def k1_off269 (k1_t17 : Fin k1_t17_loop.trips) : Fin 2 → Nat :=
  let c10_i32_1172 : BitVec 32 := 10#32
  let v818 : Index := Scalar.indexCast c10_i32_1172
  let c0_i32_197 : BitVec 32 := 0#32
  let c1_i32_199 : BitVec 32 := 1#32
  let arg9 : BitVec 32 := Scf.iv c0_i32_197 c1_i32_199 k1_t17
  let c16_i32_1171 : BitVec 32 := 16#32
  let v817 : BitVec 32 := Scalar.muli arg9 c16_i32_1171
  let v819 : Index := Scalar.indexCast v817
  ![10, v819.toNat]
def k1_off270 (k1_t17 : Fin k1_t17_loop.trips) : Fin 2 → Nat :=
  let c11_i32_1174 : BitVec 32 := 11#32
  let v822 : Index := Scalar.indexCast c11_i32_1174
  let c0_i32_197 : BitVec 32 := 0#32
  let c1_i32_199 : BitVec 32 := 1#32
  let arg9 : BitVec 32 := Scf.iv c0_i32_197 c1_i32_199 k1_t17
  let c16_i32_1173 : BitVec 32 := 16#32
  let v821 : BitVec 32 := Scalar.muli arg9 c16_i32_1173
  let v823 : Index := Scalar.indexCast v821
  ![11, v823.toNat]
def k1_off271 (k1_t17 : Fin k1_t17_loop.trips) : Fin 2 → Nat :=
  let c12_i32_1176 : BitVec 32 := 12#32
  let v826 : Index := Scalar.indexCast c12_i32_1176
  let c0_i32_197 : BitVec 32 := 0#32
  let c1_i32_199 : BitVec 32 := 1#32
  let arg9 : BitVec 32 := Scf.iv c0_i32_197 c1_i32_199 k1_t17
  let c16_i32_1175 : BitVec 32 := 16#32
  let v825 : BitVec 32 := Scalar.muli arg9 c16_i32_1175
  let v827 : Index := Scalar.indexCast v825
  ![12, v827.toNat]
def k1_off272 (k1_t17 : Fin k1_t17_loop.trips) : Fin 2 → Nat :=
  let c13_i32_1178 : BitVec 32 := 13#32
  let v830 : Index := Scalar.indexCast c13_i32_1178
  let c0_i32_197 : BitVec 32 := 0#32
  let c1_i32_199 : BitVec 32 := 1#32
  let arg9 : BitVec 32 := Scf.iv c0_i32_197 c1_i32_199 k1_t17
  let c16_i32_1177 : BitVec 32 := 16#32
  let v829 : BitVec 32 := Scalar.muli arg9 c16_i32_1177
  let v831 : Index := Scalar.indexCast v829
  ![13, v831.toNat]
def k1_off273 (k1_t17 : Fin k1_t17_loop.trips) : Fin 2 → Nat :=
  let c14_i32_1180 : BitVec 32 := 14#32
  let v834 : Index := Scalar.indexCast c14_i32_1180
  let c0_i32_197 : BitVec 32 := 0#32
  let c1_i32_199 : BitVec 32 := 1#32
  let arg9 : BitVec 32 := Scf.iv c0_i32_197 c1_i32_199 k1_t17
  let c16_i32_1179 : BitVec 32 := 16#32
  let v833 : BitVec 32 := Scalar.muli arg9 c16_i32_1179
  let v835 : Index := Scalar.indexCast v833
  ![14, v835.toNat]
def k1_off274 (k1_t17 : Fin k1_t17_loop.trips) : Fin 2 → Nat :=
  let c15_i32_1182 : BitVec 32 := 15#32
  let v838 : Index := Scalar.indexCast c15_i32_1182
  let c0_i32_197 : BitVec 32 := 0#32
  let c1_i32_199 : BitVec 32 := 1#32
  let arg9 : BitVec 32 := Scf.iv c0_i32_197 c1_i32_199 k1_t17
  let c16_i32_1181 : BitVec 32 := 16#32
  let v837 : BitVec 32 := Scalar.muli arg9 c16_i32_1181
  let v839 : Index := Scalar.indexCast v837
  ![15, v839.toNat]

def k1_chk241 (v780 : IVec S16 32) : Prop :=
  (∀ a x, ((![v780] : Fin 1 → IVec S16 32) a x).toNat < S88320.size a)
theorem k1_idx241_inb : ∀ (v780 : IVec S16 32) (k1_hw241 : k1_chk241 v780), ∀ a x, ((![v780] : Fin 1 → IVec S16 32) a x).toNat < S88320.size a := fun v780 k1_hw241 => k1_hw241

def k1_chk242 (v784 : IVec S16 32) : Prop :=
  (∀ a x, ((![v784] : Fin 1 → IVec S16 32) a x).toNat < S88320.size a)
theorem k1_idx242_inb : ∀ (v784 : IVec S16 32) (k1_hw242 : k1_chk242 v784), ∀ a x, ((![v784] : Fin 1 → IVec S16 32) a x).toNat < S88320.size a := fun v784 k1_hw242 => k1_hw242

def k1_chk243 (v788 : IVec S16 32) : Prop :=
  (∀ a x, ((![v788] : Fin 1 → IVec S16 32) a x).toNat < S88320.size a)
theorem k1_idx243_inb : ∀ (v788 : IVec S16 32) (k1_hw243 : k1_chk243 v788), ∀ a x, ((![v788] : Fin 1 → IVec S16 32) a x).toNat < S88320.size a := fun v788 k1_hw243 => k1_hw243

def k1_chk244 (v792 : IVec S16 32) : Prop :=
  (∀ a x, ((![v792] : Fin 1 → IVec S16 32) a x).toNat < S88320.size a)
theorem k1_idx244_inb : ∀ (v792 : IVec S16 32) (k1_hw244 : k1_chk244 v792), ∀ a x, ((![v792] : Fin 1 → IVec S16 32) a x).toNat < S88320.size a := fun v792 k1_hw244 => k1_hw244

def k1_chk245 (v796 : IVec S16 32) : Prop :=
  (∀ a x, ((![v796] : Fin 1 → IVec S16 32) a x).toNat < S88320.size a)
theorem k1_idx245_inb : ∀ (v796 : IVec S16 32) (k1_hw245 : k1_chk245 v796), ∀ a x, ((![v796] : Fin 1 → IVec S16 32) a x).toNat < S88320.size a := fun v796 k1_hw245 => k1_hw245

def k1_chk246 (v800 : IVec S16 32) : Prop :=
  (∀ a x, ((![v800] : Fin 1 → IVec S16 32) a x).toNat < S88320.size a)
theorem k1_idx246_inb : ∀ (v800 : IVec S16 32) (k1_hw246 : k1_chk246 v800), ∀ a x, ((![v800] : Fin 1 → IVec S16 32) a x).toNat < S88320.size a := fun v800 k1_hw246 => k1_hw246

def k1_chk247 (v804 : IVec S16 32) : Prop :=
  (∀ a x, ((![v804] : Fin 1 → IVec S16 32) a x).toNat < S88320.size a)
theorem k1_idx247_inb : ∀ (v804 : IVec S16 32) (k1_hw247 : k1_chk247 v804), ∀ a x, ((![v804] : Fin 1 → IVec S16 32) a x).toNat < S88320.size a := fun v804 k1_hw247 => k1_hw247

def k1_chk248 (v808 : IVec S16 32) : Prop :=
  (∀ a x, ((![v808] : Fin 1 → IVec S16 32) a x).toNat < S88320.size a)
theorem k1_idx248_inb : ∀ (v808 : IVec S16 32) (k1_hw248 : k1_chk248 v808), ∀ a x, ((![v808] : Fin 1 → IVec S16 32) a x).toNat < S88320.size a := fun v808 k1_hw248 => k1_hw248

def k1_chk249 (v812 : IVec S16 32) : Prop :=
  (∀ a x, ((![v812] : Fin 1 → IVec S16 32) a x).toNat < S88320.size a)
theorem k1_idx249_inb : ∀ (v812 : IVec S16 32) (k1_hw249 : k1_chk249 v812), ∀ a x, ((![v812] : Fin 1 → IVec S16 32) a x).toNat < S88320.size a := fun v812 k1_hw249 => k1_hw249

def k1_chk250 (v816 : IVec S16 32) : Prop :=
  (∀ a x, ((![v816] : Fin 1 → IVec S16 32) a x).toNat < S88320.size a)
theorem k1_idx250_inb : ∀ (v816 : IVec S16 32) (k1_hw250 : k1_chk250 v816), ∀ a x, ((![v816] : Fin 1 → IVec S16 32) a x).toNat < S88320.size a := fun v816 k1_hw250 => k1_hw250

def k1_chk251 (v820 : IVec S16 32) : Prop :=
  (∀ a x, ((![v820] : Fin 1 → IVec S16 32) a x).toNat < S88320.size a)
theorem k1_idx251_inb : ∀ (v820 : IVec S16 32) (k1_hw251 : k1_chk251 v820), ∀ a x, ((![v820] : Fin 1 → IVec S16 32) a x).toNat < S88320.size a := fun v820 k1_hw251 => k1_hw251

def k1_chk252 (v824 : IVec S16 32) : Prop :=
  (∀ a x, ((![v824] : Fin 1 → IVec S16 32) a x).toNat < S88320.size a)
theorem k1_idx252_inb : ∀ (v824 : IVec S16 32) (k1_hw252 : k1_chk252 v824), ∀ a x, ((![v824] : Fin 1 → IVec S16 32) a x).toNat < S88320.size a := fun v824 k1_hw252 => k1_hw252

def k1_chk253 (v828 : IVec S16 32) : Prop :=
  (∀ a x, ((![v828] : Fin 1 → IVec S16 32) a x).toNat < S88320.size a)
theorem k1_idx253_inb : ∀ (v828 : IVec S16 32) (k1_hw253 : k1_chk253 v828), ∀ a x, ((![v828] : Fin 1 → IVec S16 32) a x).toNat < S88320.size a := fun v828 k1_hw253 => k1_hw253

def k1_chk254 (v832 : IVec S16 32) : Prop :=
  (∀ a x, ((![v832] : Fin 1 → IVec S16 32) a x).toNat < S88320.size a)
theorem k1_idx254_inb : ∀ (v832 : IVec S16 32) (k1_hw254 : k1_chk254 v832), ∀ a x, ((![v832] : Fin 1 → IVec S16 32) a x).toNat < S88320.size a := fun v832 k1_hw254 => k1_hw254

def k1_chk255 (v836 : IVec S16 32) : Prop :=
  (∀ a x, ((![v836] : Fin 1 → IVec S16 32) a x).toNat < S88320.size a)
theorem k1_idx255_inb : ∀ (v836 : IVec S16 32) (k1_hw255 : k1_chk255 v836), ∀ a x, ((![v836] : Fin 1 → IVec S16 32) a x).toNat < S88320.size a := fun v836 k1_hw255 => k1_hw255

def k1_chk256 (v840 : IVec S16 32) : Prop :=
  (∀ a x, ((![v840] : Fin 1 → IVec S16 32) a x).toNat < S88320.size a)
theorem k1_idx256_inb : ∀ (v840 : IVec S16 32) (k1_hw256 : k1_chk256 v840), ∀ a x, ((![v840] : Fin 1 → IVec S16 32) a x).toNat < S88320.size a := fun v840 k1_hw256 => k1_hw256
def k1_off275 (i : grid1.Coords) : Fin 4 → Nat :=
  let c0_i32_201 : BitVec 32 := 0#32
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_202 : BitVec 32 := 0#32
  ![0, 17, v2.toNat, 0]
@[reducible] def k1_t18_loop : Scf.Loop 32 :=
  let c0_i32_209 : BitVec 32 := 0#32
  let c32_i32_210 : BitVec 32 := 32#32
  let v162 : BitVec 32 := Scalar.addi c0_i32_209 c32_i32_210
  let c1_i32_211 : BitVec 32 := 1#32
  ⟨c0_i32_209, v162, c1_i32_211⟩
def k1_off276 (k1_t18 : Fin k1_t18_loop.trips) : Fin 2 → Nat :=
  let c0_i32_1152 : BitVec 32 := 0#32
  let v778 : Index := Scalar.indexCast c0_i32_1152
  let c0_i32_209 : BitVec 32 := 0#32
  let c1_i32_211 : BitVec 32 := 1#32
  let arg9 : BitVec 32 := Scf.iv c0_i32_209 c1_i32_211 k1_t18
  let c16_i32_1151 : BitVec 32 := 16#32
  let v777 : BitVec 32 := Scalar.muli arg9 c16_i32_1151
  let v779 : Index := Scalar.indexCast v777
  ![0, v779.toNat]
def k1_off277 (k1_t18 : Fin k1_t18_loop.trips) : Fin 2 → Nat :=
  let c1_i32_1154 : BitVec 32 := 1#32
  let v782 : Index := Scalar.indexCast c1_i32_1154
  let c0_i32_209 : BitVec 32 := 0#32
  let c1_i32_211 : BitVec 32 := 1#32
  let arg9 : BitVec 32 := Scf.iv c0_i32_209 c1_i32_211 k1_t18
  let c16_i32_1153 : BitVec 32 := 16#32
  let v781 : BitVec 32 := Scalar.muli arg9 c16_i32_1153
  let v783 : Index := Scalar.indexCast v781
  ![1, v783.toNat]
def k1_off278 (k1_t18 : Fin k1_t18_loop.trips) : Fin 2 → Nat :=
  let c2_i32_1156 : BitVec 32 := 2#32
  let v786 : Index := Scalar.indexCast c2_i32_1156
  let c0_i32_209 : BitVec 32 := 0#32
  let c1_i32_211 : BitVec 32 := 1#32
  let arg9 : BitVec 32 := Scf.iv c0_i32_209 c1_i32_211 k1_t18
  let c16_i32_1155 : BitVec 32 := 16#32
  let v785 : BitVec 32 := Scalar.muli arg9 c16_i32_1155
  let v787 : Index := Scalar.indexCast v785
  ![2, v787.toNat]
def k1_off279 (k1_t18 : Fin k1_t18_loop.trips) : Fin 2 → Nat :=
  let c3_i32_1158 : BitVec 32 := 3#32
  let v790 : Index := Scalar.indexCast c3_i32_1158
  let c0_i32_209 : BitVec 32 := 0#32
  let c1_i32_211 : BitVec 32 := 1#32
  let arg9 : BitVec 32 := Scf.iv c0_i32_209 c1_i32_211 k1_t18
  let c16_i32_1157 : BitVec 32 := 16#32
  let v789 : BitVec 32 := Scalar.muli arg9 c16_i32_1157
  let v791 : Index := Scalar.indexCast v789
  ![3, v791.toNat]
def k1_off280 (k1_t18 : Fin k1_t18_loop.trips) : Fin 2 → Nat :=
  let c4_i32_1160 : BitVec 32 := 4#32
  let v794 : Index := Scalar.indexCast c4_i32_1160
  let c0_i32_209 : BitVec 32 := 0#32
  let c1_i32_211 : BitVec 32 := 1#32
  let arg9 : BitVec 32 := Scf.iv c0_i32_209 c1_i32_211 k1_t18
  let c16_i32_1159 : BitVec 32 := 16#32
  let v793 : BitVec 32 := Scalar.muli arg9 c16_i32_1159
  let v795 : Index := Scalar.indexCast v793
  ![4, v795.toNat]
def k1_off281 (k1_t18 : Fin k1_t18_loop.trips) : Fin 2 → Nat :=
  let c5_i32_1162 : BitVec 32 := 5#32
  let v798 : Index := Scalar.indexCast c5_i32_1162
  let c0_i32_209 : BitVec 32 := 0#32
  let c1_i32_211 : BitVec 32 := 1#32
  let arg9 : BitVec 32 := Scf.iv c0_i32_209 c1_i32_211 k1_t18
  let c16_i32_1161 : BitVec 32 := 16#32
  let v797 : BitVec 32 := Scalar.muli arg9 c16_i32_1161
  let v799 : Index := Scalar.indexCast v797
  ![5, v799.toNat]
def k1_off282 (k1_t18 : Fin k1_t18_loop.trips) : Fin 2 → Nat :=
  let c6_i32_1164 : BitVec 32 := 6#32
  let v802 : Index := Scalar.indexCast c6_i32_1164
  let c0_i32_209 : BitVec 32 := 0#32
  let c1_i32_211 : BitVec 32 := 1#32
  let arg9 : BitVec 32 := Scf.iv c0_i32_209 c1_i32_211 k1_t18
  let c16_i32_1163 : BitVec 32 := 16#32
  let v801 : BitVec 32 := Scalar.muli arg9 c16_i32_1163
  let v803 : Index := Scalar.indexCast v801
  ![6, v803.toNat]
def k1_off283 (k1_t18 : Fin k1_t18_loop.trips) : Fin 2 → Nat :=
  let c7_i32_1166 : BitVec 32 := 7#32
  let v806 : Index := Scalar.indexCast c7_i32_1166
  let c0_i32_209 : BitVec 32 := 0#32
  let c1_i32_211 : BitVec 32 := 1#32
  let arg9 : BitVec 32 := Scf.iv c0_i32_209 c1_i32_211 k1_t18
  let c16_i32_1165 : BitVec 32 := 16#32
  let v805 : BitVec 32 := Scalar.muli arg9 c16_i32_1165
  let v807 : Index := Scalar.indexCast v805
  ![7, v807.toNat]
def k1_off284 (k1_t18 : Fin k1_t18_loop.trips) : Fin 2 → Nat :=
  let c8_i32_1168 : BitVec 32 := 8#32
  let v810 : Index := Scalar.indexCast c8_i32_1168
  let c0_i32_209 : BitVec 32 := 0#32
  let c1_i32_211 : BitVec 32 := 1#32
  let arg9 : BitVec 32 := Scf.iv c0_i32_209 c1_i32_211 k1_t18
  let c16_i32_1167 : BitVec 32 := 16#32
  let v809 : BitVec 32 := Scalar.muli arg9 c16_i32_1167
  let v811 : Index := Scalar.indexCast v809
  ![8, v811.toNat]
def k1_off285 (k1_t18 : Fin k1_t18_loop.trips) : Fin 2 → Nat :=
  let c9_i32_1170 : BitVec 32 := 9#32
  let v814 : Index := Scalar.indexCast c9_i32_1170
  let c0_i32_209 : BitVec 32 := 0#32
  let c1_i32_211 : BitVec 32 := 1#32
  let arg9 : BitVec 32 := Scf.iv c0_i32_209 c1_i32_211 k1_t18
  let c16_i32_1169 : BitVec 32 := 16#32
  let v813 : BitVec 32 := Scalar.muli arg9 c16_i32_1169
  let v815 : Index := Scalar.indexCast v813
  ![9, v815.toNat]
def k1_off286 (k1_t18 : Fin k1_t18_loop.trips) : Fin 2 → Nat :=
  let c10_i32_1172 : BitVec 32 := 10#32
  let v818 : Index := Scalar.indexCast c10_i32_1172
  let c0_i32_209 : BitVec 32 := 0#32
  let c1_i32_211 : BitVec 32 := 1#32
  let arg9 : BitVec 32 := Scf.iv c0_i32_209 c1_i32_211 k1_t18
  let c16_i32_1171 : BitVec 32 := 16#32
  let v817 : BitVec 32 := Scalar.muli arg9 c16_i32_1171
  let v819 : Index := Scalar.indexCast v817
  ![10, v819.toNat]
def k1_off287 (k1_t18 : Fin k1_t18_loop.trips) : Fin 2 → Nat :=
  let c11_i32_1174 : BitVec 32 := 11#32
  let v822 : Index := Scalar.indexCast c11_i32_1174
  let c0_i32_209 : BitVec 32 := 0#32
  let c1_i32_211 : BitVec 32 := 1#32
  let arg9 : BitVec 32 := Scf.iv c0_i32_209 c1_i32_211 k1_t18
  let c16_i32_1173 : BitVec 32 := 16#32
  let v821 : BitVec 32 := Scalar.muli arg9 c16_i32_1173
  let v823 : Index := Scalar.indexCast v821
  ![11, v823.toNat]
def k1_off288 (k1_t18 : Fin k1_t18_loop.trips) : Fin 2 → Nat :=
  let c12_i32_1176 : BitVec 32 := 12#32
  let v826 : Index := Scalar.indexCast c12_i32_1176
  let c0_i32_209 : BitVec 32 := 0#32
  let c1_i32_211 : BitVec 32 := 1#32
  let arg9 : BitVec 32 := Scf.iv c0_i32_209 c1_i32_211 k1_t18
  let c16_i32_1175 : BitVec 32 := 16#32
  let v825 : BitVec 32 := Scalar.muli arg9 c16_i32_1175
  let v827 : Index := Scalar.indexCast v825
  ![12, v827.toNat]
def k1_off289 (k1_t18 : Fin k1_t18_loop.trips) : Fin 2 → Nat :=
  let c13_i32_1178 : BitVec 32 := 13#32
  let v830 : Index := Scalar.indexCast c13_i32_1178
  let c0_i32_209 : BitVec 32 := 0#32
  let c1_i32_211 : BitVec 32 := 1#32
  let arg9 : BitVec 32 := Scf.iv c0_i32_209 c1_i32_211 k1_t18
  let c16_i32_1177 : BitVec 32 := 16#32
  let v829 : BitVec 32 := Scalar.muli arg9 c16_i32_1177
  let v831 : Index := Scalar.indexCast v829
  ![13, v831.toNat]
def k1_off290 (k1_t18 : Fin k1_t18_loop.trips) : Fin 2 → Nat :=
  let c14_i32_1180 : BitVec 32 := 14#32
  let v834 : Index := Scalar.indexCast c14_i32_1180
  let c0_i32_209 : BitVec 32 := 0#32
  let c1_i32_211 : BitVec 32 := 1#32
  let arg9 : BitVec 32 := Scf.iv c0_i32_209 c1_i32_211 k1_t18
  let c16_i32_1179 : BitVec 32 := 16#32
  let v833 : BitVec 32 := Scalar.muli arg9 c16_i32_1179
  let v835 : Index := Scalar.indexCast v833
  ![14, v835.toNat]
def k1_off291 (k1_t18 : Fin k1_t18_loop.trips) : Fin 2 → Nat :=
  let c15_i32_1182 : BitVec 32 := 15#32
  let v838 : Index := Scalar.indexCast c15_i32_1182
  let c0_i32_209 : BitVec 32 := 0#32
  let c1_i32_211 : BitVec 32 := 1#32
  let arg9 : BitVec 32 := Scf.iv c0_i32_209 c1_i32_211 k1_t18
  let c16_i32_1181 : BitVec 32 := 16#32
  let v837 : BitVec 32 := Scalar.muli arg9 c16_i32_1181
  let v839 : Index := Scalar.indexCast v837
  ![15, v839.toNat]

def k1_chk257 (v780 : IVec S16 32) : Prop :=
  (∀ a x, ((![v780] : Fin 1 → IVec S16 32) a x).toNat < S88320.size a)
theorem k1_idx257_inb : ∀ (v780 : IVec S16 32) (k1_hw257 : k1_chk257 v780), ∀ a x, ((![v780] : Fin 1 → IVec S16 32) a x).toNat < S88320.size a := fun v780 k1_hw257 => k1_hw257

def k1_chk258 (v784 : IVec S16 32) : Prop :=
  (∀ a x, ((![v784] : Fin 1 → IVec S16 32) a x).toNat < S88320.size a)
theorem k1_idx258_inb : ∀ (v784 : IVec S16 32) (k1_hw258 : k1_chk258 v784), ∀ a x, ((![v784] : Fin 1 → IVec S16 32) a x).toNat < S88320.size a := fun v784 k1_hw258 => k1_hw258

def k1_chk259 (v788 : IVec S16 32) : Prop :=
  (∀ a x, ((![v788] : Fin 1 → IVec S16 32) a x).toNat < S88320.size a)
theorem k1_idx259_inb : ∀ (v788 : IVec S16 32) (k1_hw259 : k1_chk259 v788), ∀ a x, ((![v788] : Fin 1 → IVec S16 32) a x).toNat < S88320.size a := fun v788 k1_hw259 => k1_hw259

def k1_chk260 (v792 : IVec S16 32) : Prop :=
  (∀ a x, ((![v792] : Fin 1 → IVec S16 32) a x).toNat < S88320.size a)
theorem k1_idx260_inb : ∀ (v792 : IVec S16 32) (k1_hw260 : k1_chk260 v792), ∀ a x, ((![v792] : Fin 1 → IVec S16 32) a x).toNat < S88320.size a := fun v792 k1_hw260 => k1_hw260

def k1_chk261 (v796 : IVec S16 32) : Prop :=
  (∀ a x, ((![v796] : Fin 1 → IVec S16 32) a x).toNat < S88320.size a)
theorem k1_idx261_inb : ∀ (v796 : IVec S16 32) (k1_hw261 : k1_chk261 v796), ∀ a x, ((![v796] : Fin 1 → IVec S16 32) a x).toNat < S88320.size a := fun v796 k1_hw261 => k1_hw261

def k1_chk262 (v800 : IVec S16 32) : Prop :=
  (∀ a x, ((![v800] : Fin 1 → IVec S16 32) a x).toNat < S88320.size a)
theorem k1_idx262_inb : ∀ (v800 : IVec S16 32) (k1_hw262 : k1_chk262 v800), ∀ a x, ((![v800] : Fin 1 → IVec S16 32) a x).toNat < S88320.size a := fun v800 k1_hw262 => k1_hw262

def k1_chk263 (v804 : IVec S16 32) : Prop :=
  (∀ a x, ((![v804] : Fin 1 → IVec S16 32) a x).toNat < S88320.size a)
theorem k1_idx263_inb : ∀ (v804 : IVec S16 32) (k1_hw263 : k1_chk263 v804), ∀ a x, ((![v804] : Fin 1 → IVec S16 32) a x).toNat < S88320.size a := fun v804 k1_hw263 => k1_hw263

def k1_chk264 (v808 : IVec S16 32) : Prop :=
  (∀ a x, ((![v808] : Fin 1 → IVec S16 32) a x).toNat < S88320.size a)
theorem k1_idx264_inb : ∀ (v808 : IVec S16 32) (k1_hw264 : k1_chk264 v808), ∀ a x, ((![v808] : Fin 1 → IVec S16 32) a x).toNat < S88320.size a := fun v808 k1_hw264 => k1_hw264

def k1_chk265 (v812 : IVec S16 32) : Prop :=
  (∀ a x, ((![v812] : Fin 1 → IVec S16 32) a x).toNat < S88320.size a)
theorem k1_idx265_inb : ∀ (v812 : IVec S16 32) (k1_hw265 : k1_chk265 v812), ∀ a x, ((![v812] : Fin 1 → IVec S16 32) a x).toNat < S88320.size a := fun v812 k1_hw265 => k1_hw265

def k1_chk266 (v816 : IVec S16 32) : Prop :=
  (∀ a x, ((![v816] : Fin 1 → IVec S16 32) a x).toNat < S88320.size a)
theorem k1_idx266_inb : ∀ (v816 : IVec S16 32) (k1_hw266 : k1_chk266 v816), ∀ a x, ((![v816] : Fin 1 → IVec S16 32) a x).toNat < S88320.size a := fun v816 k1_hw266 => k1_hw266

def k1_chk267 (v820 : IVec S16 32) : Prop :=
  (∀ a x, ((![v820] : Fin 1 → IVec S16 32) a x).toNat < S88320.size a)
theorem k1_idx267_inb : ∀ (v820 : IVec S16 32) (k1_hw267 : k1_chk267 v820), ∀ a x, ((![v820] : Fin 1 → IVec S16 32) a x).toNat < S88320.size a := fun v820 k1_hw267 => k1_hw267

def k1_chk268 (v824 : IVec S16 32) : Prop :=
  (∀ a x, ((![v824] : Fin 1 → IVec S16 32) a x).toNat < S88320.size a)
theorem k1_idx268_inb : ∀ (v824 : IVec S16 32) (k1_hw268 : k1_chk268 v824), ∀ a x, ((![v824] : Fin 1 → IVec S16 32) a x).toNat < S88320.size a := fun v824 k1_hw268 => k1_hw268

def k1_chk269 (v828 : IVec S16 32) : Prop :=
  (∀ a x, ((![v828] : Fin 1 → IVec S16 32) a x).toNat < S88320.size a)
theorem k1_idx269_inb : ∀ (v828 : IVec S16 32) (k1_hw269 : k1_chk269 v828), ∀ a x, ((![v828] : Fin 1 → IVec S16 32) a x).toNat < S88320.size a := fun v828 k1_hw269 => k1_hw269

def k1_chk270 (v832 : IVec S16 32) : Prop :=
  (∀ a x, ((![v832] : Fin 1 → IVec S16 32) a x).toNat < S88320.size a)
theorem k1_idx270_inb : ∀ (v832 : IVec S16 32) (k1_hw270 : k1_chk270 v832), ∀ a x, ((![v832] : Fin 1 → IVec S16 32) a x).toNat < S88320.size a := fun v832 k1_hw270 => k1_hw270

def k1_chk271 (v836 : IVec S16 32) : Prop :=
  (∀ a x, ((![v836] : Fin 1 → IVec S16 32) a x).toNat < S88320.size a)
theorem k1_idx271_inb : ∀ (v836 : IVec S16 32) (k1_hw271 : k1_chk271 v836), ∀ a x, ((![v836] : Fin 1 → IVec S16 32) a x).toNat < S88320.size a := fun v836 k1_hw271 => k1_hw271

def k1_chk272 (v840 : IVec S16 32) : Prop :=
  (∀ a x, ((![v840] : Fin 1 → IVec S16 32) a x).toNat < S88320.size a)
theorem k1_idx272_inb : ∀ (v840 : IVec S16 32) (k1_hw272 : k1_chk272 v840), ∀ a x, ((![v840] : Fin 1 → IVec S16 32) a x).toNat < S88320.size a := fun v840 k1_hw272 => k1_hw272
def k1_off292 (i : grid1.Coords) : Fin 4 → Nat :=
  let c0_i32_213 : BitVec 32 := 0#32
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_214 : BitVec 32 := 0#32
  ![0, 18, v2.toNat, 0]
@[reducible] def k1_t19_loop : Scf.Loop 32 :=
  let c0_i32_221 : BitVec 32 := 0#32
  let c32_i32_222 : BitVec 32 := 32#32
  let v171 : BitVec 32 := Scalar.addi c0_i32_221 c32_i32_222
  let c1_i32_223 : BitVec 32 := 1#32
  ⟨c0_i32_221, v171, c1_i32_223⟩
def k1_off293 (k1_t19 : Fin k1_t19_loop.trips) : Fin 2 → Nat :=
  let c0_i32_1152 : BitVec 32 := 0#32
  let v778 : Index := Scalar.indexCast c0_i32_1152
  let c0_i32_221 : BitVec 32 := 0#32
  let c1_i32_223 : BitVec 32 := 1#32
  let arg9 : BitVec 32 := Scf.iv c0_i32_221 c1_i32_223 k1_t19
  let c16_i32_1151 : BitVec 32 := 16#32
  let v777 : BitVec 32 := Scalar.muli arg9 c16_i32_1151
  let v779 : Index := Scalar.indexCast v777
  ![0, v779.toNat]
def k1_off294 (k1_t19 : Fin k1_t19_loop.trips) : Fin 2 → Nat :=
  let c1_i32_1154 : BitVec 32 := 1#32
  let v782 : Index := Scalar.indexCast c1_i32_1154
  let c0_i32_221 : BitVec 32 := 0#32
  let c1_i32_223 : BitVec 32 := 1#32
  let arg9 : BitVec 32 := Scf.iv c0_i32_221 c1_i32_223 k1_t19
  let c16_i32_1153 : BitVec 32 := 16#32
  let v781 : BitVec 32 := Scalar.muli arg9 c16_i32_1153
  let v783 : Index := Scalar.indexCast v781
  ![1, v783.toNat]
def k1_off295 (k1_t19 : Fin k1_t19_loop.trips) : Fin 2 → Nat :=
  let c2_i32_1156 : BitVec 32 := 2#32
  let v786 : Index := Scalar.indexCast c2_i32_1156
  let c0_i32_221 : BitVec 32 := 0#32
  let c1_i32_223 : BitVec 32 := 1#32
  let arg9 : BitVec 32 := Scf.iv c0_i32_221 c1_i32_223 k1_t19
  let c16_i32_1155 : BitVec 32 := 16#32
  let v785 : BitVec 32 := Scalar.muli arg9 c16_i32_1155
  let v787 : Index := Scalar.indexCast v785
  ![2, v787.toNat]
def k1_off296 (k1_t19 : Fin k1_t19_loop.trips) : Fin 2 → Nat :=
  let c3_i32_1158 : BitVec 32 := 3#32
  let v790 : Index := Scalar.indexCast c3_i32_1158
  let c0_i32_221 : BitVec 32 := 0#32
  let c1_i32_223 : BitVec 32 := 1#32
  let arg9 : BitVec 32 := Scf.iv c0_i32_221 c1_i32_223 k1_t19
  let c16_i32_1157 : BitVec 32 := 16#32
  let v789 : BitVec 32 := Scalar.muli arg9 c16_i32_1157
  let v791 : Index := Scalar.indexCast v789
  ![3, v791.toNat]
def k1_off297 (k1_t19 : Fin k1_t19_loop.trips) : Fin 2 → Nat :=
  let c4_i32_1160 : BitVec 32 := 4#32
  let v794 : Index := Scalar.indexCast c4_i32_1160
  let c0_i32_221 : BitVec 32 := 0#32
  let c1_i32_223 : BitVec 32 := 1#32
  let arg9 : BitVec 32 := Scf.iv c0_i32_221 c1_i32_223 k1_t19
  let c16_i32_1159 : BitVec 32 := 16#32
  let v793 : BitVec 32 := Scalar.muli arg9 c16_i32_1159
  let v795 : Index := Scalar.indexCast v793
  ![4, v795.toNat]
def k1_off298 (k1_t19 : Fin k1_t19_loop.trips) : Fin 2 → Nat :=
  let c5_i32_1162 : BitVec 32 := 5#32
  let v798 : Index := Scalar.indexCast c5_i32_1162
  let c0_i32_221 : BitVec 32 := 0#32
  let c1_i32_223 : BitVec 32 := 1#32
  let arg9 : BitVec 32 := Scf.iv c0_i32_221 c1_i32_223 k1_t19
  let c16_i32_1161 : BitVec 32 := 16#32
  let v797 : BitVec 32 := Scalar.muli arg9 c16_i32_1161
  let v799 : Index := Scalar.indexCast v797
  ![5, v799.toNat]
def k1_off299 (k1_t19 : Fin k1_t19_loop.trips) : Fin 2 → Nat :=
  let c6_i32_1164 : BitVec 32 := 6#32
  let v802 : Index := Scalar.indexCast c6_i32_1164
  let c0_i32_221 : BitVec 32 := 0#32
  let c1_i32_223 : BitVec 32 := 1#32
  let arg9 : BitVec 32 := Scf.iv c0_i32_221 c1_i32_223 k1_t19
  let c16_i32_1163 : BitVec 32 := 16#32
  let v801 : BitVec 32 := Scalar.muli arg9 c16_i32_1163
  let v803 : Index := Scalar.indexCast v801
  ![6, v803.toNat]
def k1_off300 (k1_t19 : Fin k1_t19_loop.trips) : Fin 2 → Nat :=
  let c7_i32_1166 : BitVec 32 := 7#32
  let v806 : Index := Scalar.indexCast c7_i32_1166
  let c0_i32_221 : BitVec 32 := 0#32
  let c1_i32_223 : BitVec 32 := 1#32
  let arg9 : BitVec 32 := Scf.iv c0_i32_221 c1_i32_223 k1_t19
  let c16_i32_1165 : BitVec 32 := 16#32
  let v805 : BitVec 32 := Scalar.muli arg9 c16_i32_1165
  let v807 : Index := Scalar.indexCast v805
  ![7, v807.toNat]
def k1_off301 (k1_t19 : Fin k1_t19_loop.trips) : Fin 2 → Nat :=
  let c8_i32_1168 : BitVec 32 := 8#32
  let v810 : Index := Scalar.indexCast c8_i32_1168
  let c0_i32_221 : BitVec 32 := 0#32
  let c1_i32_223 : BitVec 32 := 1#32
  let arg9 : BitVec 32 := Scf.iv c0_i32_221 c1_i32_223 k1_t19
  let c16_i32_1167 : BitVec 32 := 16#32
  let v809 : BitVec 32 := Scalar.muli arg9 c16_i32_1167
  let v811 : Index := Scalar.indexCast v809
  ![8, v811.toNat]
def k1_off302 (k1_t19 : Fin k1_t19_loop.trips) : Fin 2 → Nat :=
  let c9_i32_1170 : BitVec 32 := 9#32
  let v814 : Index := Scalar.indexCast c9_i32_1170
  let c0_i32_221 : BitVec 32 := 0#32
  let c1_i32_223 : BitVec 32 := 1#32
  let arg9 : BitVec 32 := Scf.iv c0_i32_221 c1_i32_223 k1_t19
  let c16_i32_1169 : BitVec 32 := 16#32
  let v813 : BitVec 32 := Scalar.muli arg9 c16_i32_1169
  let v815 : Index := Scalar.indexCast v813
  ![9, v815.toNat]
def k1_off303 (k1_t19 : Fin k1_t19_loop.trips) : Fin 2 → Nat :=
  let c10_i32_1172 : BitVec 32 := 10#32
  let v818 : Index := Scalar.indexCast c10_i32_1172
  let c0_i32_221 : BitVec 32 := 0#32
  let c1_i32_223 : BitVec 32 := 1#32
  let arg9 : BitVec 32 := Scf.iv c0_i32_221 c1_i32_223 k1_t19
  let c16_i32_1171 : BitVec 32 := 16#32
  let v817 : BitVec 32 := Scalar.muli arg9 c16_i32_1171
  let v819 : Index := Scalar.indexCast v817
  ![10, v819.toNat]
def k1_off304 (k1_t19 : Fin k1_t19_loop.trips) : Fin 2 → Nat :=
  let c11_i32_1174 : BitVec 32 := 11#32
  let v822 : Index := Scalar.indexCast c11_i32_1174
  let c0_i32_221 : BitVec 32 := 0#32
  let c1_i32_223 : BitVec 32 := 1#32
  let arg9 : BitVec 32 := Scf.iv c0_i32_221 c1_i32_223 k1_t19
  let c16_i32_1173 : BitVec 32 := 16#32
  let v821 : BitVec 32 := Scalar.muli arg9 c16_i32_1173
  let v823 : Index := Scalar.indexCast v821
  ![11, v823.toNat]
def k1_off305 (k1_t19 : Fin k1_t19_loop.trips) : Fin 2 → Nat :=
  let c12_i32_1176 : BitVec 32 := 12#32
  let v826 : Index := Scalar.indexCast c12_i32_1176
  let c0_i32_221 : BitVec 32 := 0#32
  let c1_i32_223 : BitVec 32 := 1#32
  let arg9 : BitVec 32 := Scf.iv c0_i32_221 c1_i32_223 k1_t19
  let c16_i32_1175 : BitVec 32 := 16#32
  let v825 : BitVec 32 := Scalar.muli arg9 c16_i32_1175
  let v827 : Index := Scalar.indexCast v825
  ![12, v827.toNat]
def k1_off306 (k1_t19 : Fin k1_t19_loop.trips) : Fin 2 → Nat :=
  let c13_i32_1178 : BitVec 32 := 13#32
  let v830 : Index := Scalar.indexCast c13_i32_1178
  let c0_i32_221 : BitVec 32 := 0#32
  let c1_i32_223 : BitVec 32 := 1#32
  let arg9 : BitVec 32 := Scf.iv c0_i32_221 c1_i32_223 k1_t19
  let c16_i32_1177 : BitVec 32 := 16#32
  let v829 : BitVec 32 := Scalar.muli arg9 c16_i32_1177
  let v831 : Index := Scalar.indexCast v829
  ![13, v831.toNat]
def k1_off307 (k1_t19 : Fin k1_t19_loop.trips) : Fin 2 → Nat :=
  let c14_i32_1180 : BitVec 32 := 14#32
  let v834 : Index := Scalar.indexCast c14_i32_1180
  let c0_i32_221 : BitVec 32 := 0#32
  let c1_i32_223 : BitVec 32 := 1#32
  let arg9 : BitVec 32 := Scf.iv c0_i32_221 c1_i32_223 k1_t19
  let c16_i32_1179 : BitVec 32 := 16#32
  let v833 : BitVec 32 := Scalar.muli arg9 c16_i32_1179
  let v835 : Index := Scalar.indexCast v833
  ![14, v835.toNat]
def k1_off308 (k1_t19 : Fin k1_t19_loop.trips) : Fin 2 → Nat :=
  let c15_i32_1182 : BitVec 32 := 15#32
  let v838 : Index := Scalar.indexCast c15_i32_1182
  let c0_i32_221 : BitVec 32 := 0#32
  let c1_i32_223 : BitVec 32 := 1#32
  let arg9 : BitVec 32 := Scf.iv c0_i32_221 c1_i32_223 k1_t19
  let c16_i32_1181 : BitVec 32 := 16#32
  let v837 : BitVec 32 := Scalar.muli arg9 c16_i32_1181
  let v839 : Index := Scalar.indexCast v837
  ![15, v839.toNat]

def k1_chk273 (v780 : IVec S16 32) : Prop :=
  (∀ a x, ((![v780] : Fin 1 → IVec S16 32) a x).toNat < S88320.size a)
theorem k1_idx273_inb : ∀ (v780 : IVec S16 32) (k1_hw273 : k1_chk273 v780), ∀ a x, ((![v780] : Fin 1 → IVec S16 32) a x).toNat < S88320.size a := fun v780 k1_hw273 => k1_hw273

def k1_chk274 (v784 : IVec S16 32) : Prop :=
  (∀ a x, ((![v784] : Fin 1 → IVec S16 32) a x).toNat < S88320.size a)
theorem k1_idx274_inb : ∀ (v784 : IVec S16 32) (k1_hw274 : k1_chk274 v784), ∀ a x, ((![v784] : Fin 1 → IVec S16 32) a x).toNat < S88320.size a := fun v784 k1_hw274 => k1_hw274

def k1_chk275 (v788 : IVec S16 32) : Prop :=
  (∀ a x, ((![v788] : Fin 1 → IVec S16 32) a x).toNat < S88320.size a)
theorem k1_idx275_inb : ∀ (v788 : IVec S16 32) (k1_hw275 : k1_chk275 v788), ∀ a x, ((![v788] : Fin 1 → IVec S16 32) a x).toNat < S88320.size a := fun v788 k1_hw275 => k1_hw275

def k1_chk276 (v792 : IVec S16 32) : Prop :=
  (∀ a x, ((![v792] : Fin 1 → IVec S16 32) a x).toNat < S88320.size a)
theorem k1_idx276_inb : ∀ (v792 : IVec S16 32) (k1_hw276 : k1_chk276 v792), ∀ a x, ((![v792] : Fin 1 → IVec S16 32) a x).toNat < S88320.size a := fun v792 k1_hw276 => k1_hw276

def k1_chk277 (v796 : IVec S16 32) : Prop :=
  (∀ a x, ((![v796] : Fin 1 → IVec S16 32) a x).toNat < S88320.size a)
theorem k1_idx277_inb : ∀ (v796 : IVec S16 32) (k1_hw277 : k1_chk277 v796), ∀ a x, ((![v796] : Fin 1 → IVec S16 32) a x).toNat < S88320.size a := fun v796 k1_hw277 => k1_hw277

def k1_chk278 (v800 : IVec S16 32) : Prop :=
  (∀ a x, ((![v800] : Fin 1 → IVec S16 32) a x).toNat < S88320.size a)
theorem k1_idx278_inb : ∀ (v800 : IVec S16 32) (k1_hw278 : k1_chk278 v800), ∀ a x, ((![v800] : Fin 1 → IVec S16 32) a x).toNat < S88320.size a := fun v800 k1_hw278 => k1_hw278

def k1_chk279 (v804 : IVec S16 32) : Prop :=
  (∀ a x, ((![v804] : Fin 1 → IVec S16 32) a x).toNat < S88320.size a)
theorem k1_idx279_inb : ∀ (v804 : IVec S16 32) (k1_hw279 : k1_chk279 v804), ∀ a x, ((![v804] : Fin 1 → IVec S16 32) a x).toNat < S88320.size a := fun v804 k1_hw279 => k1_hw279

def k1_chk280 (v808 : IVec S16 32) : Prop :=
  (∀ a x, ((![v808] : Fin 1 → IVec S16 32) a x).toNat < S88320.size a)
theorem k1_idx280_inb : ∀ (v808 : IVec S16 32) (k1_hw280 : k1_chk280 v808), ∀ a x, ((![v808] : Fin 1 → IVec S16 32) a x).toNat < S88320.size a := fun v808 k1_hw280 => k1_hw280

def k1_chk281 (v812 : IVec S16 32) : Prop :=
  (∀ a x, ((![v812] : Fin 1 → IVec S16 32) a x).toNat < S88320.size a)
theorem k1_idx281_inb : ∀ (v812 : IVec S16 32) (k1_hw281 : k1_chk281 v812), ∀ a x, ((![v812] : Fin 1 → IVec S16 32) a x).toNat < S88320.size a := fun v812 k1_hw281 => k1_hw281

def k1_chk282 (v816 : IVec S16 32) : Prop :=
  (∀ a x, ((![v816] : Fin 1 → IVec S16 32) a x).toNat < S88320.size a)
theorem k1_idx282_inb : ∀ (v816 : IVec S16 32) (k1_hw282 : k1_chk282 v816), ∀ a x, ((![v816] : Fin 1 → IVec S16 32) a x).toNat < S88320.size a := fun v816 k1_hw282 => k1_hw282

def k1_chk283 (v820 : IVec S16 32) : Prop :=
  (∀ a x, ((![v820] : Fin 1 → IVec S16 32) a x).toNat < S88320.size a)
theorem k1_idx283_inb : ∀ (v820 : IVec S16 32) (k1_hw283 : k1_chk283 v820), ∀ a x, ((![v820] : Fin 1 → IVec S16 32) a x).toNat < S88320.size a := fun v820 k1_hw283 => k1_hw283

def k1_chk284 (v824 : IVec S16 32) : Prop :=
  (∀ a x, ((![v824] : Fin 1 → IVec S16 32) a x).toNat < S88320.size a)
theorem k1_idx284_inb : ∀ (v824 : IVec S16 32) (k1_hw284 : k1_chk284 v824), ∀ a x, ((![v824] : Fin 1 → IVec S16 32) a x).toNat < S88320.size a := fun v824 k1_hw284 => k1_hw284

def k1_chk285 (v828 : IVec S16 32) : Prop :=
  (∀ a x, ((![v828] : Fin 1 → IVec S16 32) a x).toNat < S88320.size a)
theorem k1_idx285_inb : ∀ (v828 : IVec S16 32) (k1_hw285 : k1_chk285 v828), ∀ a x, ((![v828] : Fin 1 → IVec S16 32) a x).toNat < S88320.size a := fun v828 k1_hw285 => k1_hw285

def k1_chk286 (v832 : IVec S16 32) : Prop :=
  (∀ a x, ((![v832] : Fin 1 → IVec S16 32) a x).toNat < S88320.size a)
theorem k1_idx286_inb : ∀ (v832 : IVec S16 32) (k1_hw286 : k1_chk286 v832), ∀ a x, ((![v832] : Fin 1 → IVec S16 32) a x).toNat < S88320.size a := fun v832 k1_hw286 => k1_hw286

def k1_chk287 (v836 : IVec S16 32) : Prop :=
  (∀ a x, ((![v836] : Fin 1 → IVec S16 32) a x).toNat < S88320.size a)
theorem k1_idx287_inb : ∀ (v836 : IVec S16 32) (k1_hw287 : k1_chk287 v836), ∀ a x, ((![v836] : Fin 1 → IVec S16 32) a x).toNat < S88320.size a := fun v836 k1_hw287 => k1_hw287

def k1_chk288 (v840 : IVec S16 32) : Prop :=
  (∀ a x, ((![v840] : Fin 1 → IVec S16 32) a x).toNat < S88320.size a)
theorem k1_idx288_inb : ∀ (v840 : IVec S16 32) (k1_hw288 : k1_chk288 v840), ∀ a x, ((![v840] : Fin 1 → IVec S16 32) a x).toNat < S88320.size a := fun v840 k1_hw288 => k1_hw288
def k1_off309 (i : grid1.Coords) : Fin 4 → Nat :=
  let c0_i32_225 : BitVec 32 := 0#32
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_226 : BitVec 32 := 0#32
  ![0, 19, v2.toNat, 0]
@[reducible] def k1_t20_loop : Scf.Loop 32 :=
  let c0_i32_233 : BitVec 32 := 0#32
  let c32_i32_234 : BitVec 32 := 32#32
  let v180 : BitVec 32 := Scalar.addi c0_i32_233 c32_i32_234
  let c1_i32_235 : BitVec 32 := 1#32
  ⟨c0_i32_233, v180, c1_i32_235⟩
def k1_off310 (k1_t20 : Fin k1_t20_loop.trips) : Fin 2 → Nat :=
  let c0_i32_1152 : BitVec 32 := 0#32
  let v778 : Index := Scalar.indexCast c0_i32_1152
  let c0_i32_233 : BitVec 32 := 0#32
  let c1_i32_235 : BitVec 32 := 1#32
  let arg9 : BitVec 32 := Scf.iv c0_i32_233 c1_i32_235 k1_t20
  let c16_i32_1151 : BitVec 32 := 16#32
  let v777 : BitVec 32 := Scalar.muli arg9 c16_i32_1151
  let v779 : Index := Scalar.indexCast v777
  ![0, v779.toNat]
def k1_off311 (k1_t20 : Fin k1_t20_loop.trips) : Fin 2 → Nat :=
  let c1_i32_1154 : BitVec 32 := 1#32
  let v782 : Index := Scalar.indexCast c1_i32_1154
  let c0_i32_233 : BitVec 32 := 0#32
  let c1_i32_235 : BitVec 32 := 1#32
  let arg9 : BitVec 32 := Scf.iv c0_i32_233 c1_i32_235 k1_t20
  let c16_i32_1153 : BitVec 32 := 16#32
  let v781 : BitVec 32 := Scalar.muli arg9 c16_i32_1153
  let v783 : Index := Scalar.indexCast v781
  ![1, v783.toNat]
def k1_off312 (k1_t20 : Fin k1_t20_loop.trips) : Fin 2 → Nat :=
  let c2_i32_1156 : BitVec 32 := 2#32
  let v786 : Index := Scalar.indexCast c2_i32_1156
  let c0_i32_233 : BitVec 32 := 0#32
  let c1_i32_235 : BitVec 32 := 1#32
  let arg9 : BitVec 32 := Scf.iv c0_i32_233 c1_i32_235 k1_t20
  let c16_i32_1155 : BitVec 32 := 16#32
  let v785 : BitVec 32 := Scalar.muli arg9 c16_i32_1155
  let v787 : Index := Scalar.indexCast v785
  ![2, v787.toNat]
def k1_off313 (k1_t20 : Fin k1_t20_loop.trips) : Fin 2 → Nat :=
  let c3_i32_1158 : BitVec 32 := 3#32
  let v790 : Index := Scalar.indexCast c3_i32_1158
  let c0_i32_233 : BitVec 32 := 0#32
  let c1_i32_235 : BitVec 32 := 1#32
  let arg9 : BitVec 32 := Scf.iv c0_i32_233 c1_i32_235 k1_t20
  let c16_i32_1157 : BitVec 32 := 16#32
  let v789 : BitVec 32 := Scalar.muli arg9 c16_i32_1157
  let v791 : Index := Scalar.indexCast v789
  ![3, v791.toNat]
def k1_off314 (k1_t20 : Fin k1_t20_loop.trips) : Fin 2 → Nat :=
  let c4_i32_1160 : BitVec 32 := 4#32
  let v794 : Index := Scalar.indexCast c4_i32_1160
  let c0_i32_233 : BitVec 32 := 0#32
  let c1_i32_235 : BitVec 32 := 1#32
  let arg9 : BitVec 32 := Scf.iv c0_i32_233 c1_i32_235 k1_t20
  let c16_i32_1159 : BitVec 32 := 16#32
  let v793 : BitVec 32 := Scalar.muli arg9 c16_i32_1159
  let v795 : Index := Scalar.indexCast v793
  ![4, v795.toNat]
def k1_off315 (k1_t20 : Fin k1_t20_loop.trips) : Fin 2 → Nat :=
  let c5_i32_1162 : BitVec 32 := 5#32
  let v798 : Index := Scalar.indexCast c5_i32_1162
  let c0_i32_233 : BitVec 32 := 0#32
  let c1_i32_235 : BitVec 32 := 1#32
  let arg9 : BitVec 32 := Scf.iv c0_i32_233 c1_i32_235 k1_t20
  let c16_i32_1161 : BitVec 32 := 16#32
  let v797 : BitVec 32 := Scalar.muli arg9 c16_i32_1161
  let v799 : Index := Scalar.indexCast v797
  ![5, v799.toNat]
def k1_off316 (k1_t20 : Fin k1_t20_loop.trips) : Fin 2 → Nat :=
  let c6_i32_1164 : BitVec 32 := 6#32
  let v802 : Index := Scalar.indexCast c6_i32_1164
  let c0_i32_233 : BitVec 32 := 0#32
  let c1_i32_235 : BitVec 32 := 1#32
  let arg9 : BitVec 32 := Scf.iv c0_i32_233 c1_i32_235 k1_t20
  let c16_i32_1163 : BitVec 32 := 16#32
  let v801 : BitVec 32 := Scalar.muli arg9 c16_i32_1163
  let v803 : Index := Scalar.indexCast v801
  ![6, v803.toNat]
def k1_off317 (k1_t20 : Fin k1_t20_loop.trips) : Fin 2 → Nat :=
  let c7_i32_1166 : BitVec 32 := 7#32
  let v806 : Index := Scalar.indexCast c7_i32_1166
  let c0_i32_233 : BitVec 32 := 0#32
  let c1_i32_235 : BitVec 32 := 1#32
  let arg9 : BitVec 32 := Scf.iv c0_i32_233 c1_i32_235 k1_t20
  let c16_i32_1165 : BitVec 32 := 16#32
  let v805 : BitVec 32 := Scalar.muli arg9 c16_i32_1165
  let v807 : Index := Scalar.indexCast v805
  ![7, v807.toNat]
def k1_off318 (k1_t20 : Fin k1_t20_loop.trips) : Fin 2 → Nat :=
  let c8_i32_1168 : BitVec 32 := 8#32
  let v810 : Index := Scalar.indexCast c8_i32_1168
  let c0_i32_233 : BitVec 32 := 0#32
  let c1_i32_235 : BitVec 32 := 1#32
  let arg9 : BitVec 32 := Scf.iv c0_i32_233 c1_i32_235 k1_t20
  let c16_i32_1167 : BitVec 32 := 16#32
  let v809 : BitVec 32 := Scalar.muli arg9 c16_i32_1167
  let v811 : Index := Scalar.indexCast v809
  ![8, v811.toNat]
def k1_off319 (k1_t20 : Fin k1_t20_loop.trips) : Fin 2 → Nat :=
  let c9_i32_1170 : BitVec 32 := 9#32
  let v814 : Index := Scalar.indexCast c9_i32_1170
  let c0_i32_233 : BitVec 32 := 0#32
  let c1_i32_235 : BitVec 32 := 1#32
  let arg9 : BitVec 32 := Scf.iv c0_i32_233 c1_i32_235 k1_t20
  let c16_i32_1169 : BitVec 32 := 16#32
  let v813 : BitVec 32 := Scalar.muli arg9 c16_i32_1169
  let v815 : Index := Scalar.indexCast v813
  ![9, v815.toNat]
def k1_off320 (k1_t20 : Fin k1_t20_loop.trips) : Fin 2 → Nat :=
  let c10_i32_1172 : BitVec 32 := 10#32
  let v818 : Index := Scalar.indexCast c10_i32_1172
  let c0_i32_233 : BitVec 32 := 0#32
  let c1_i32_235 : BitVec 32 := 1#32
  let arg9 : BitVec 32 := Scf.iv c0_i32_233 c1_i32_235 k1_t20
  let c16_i32_1171 : BitVec 32 := 16#32
  let v817 : BitVec 32 := Scalar.muli arg9 c16_i32_1171
  let v819 : Index := Scalar.indexCast v817
  ![10, v819.toNat]
def k1_off321 (k1_t20 : Fin k1_t20_loop.trips) : Fin 2 → Nat :=
  let c11_i32_1174 : BitVec 32 := 11#32
  let v822 : Index := Scalar.indexCast c11_i32_1174
  let c0_i32_233 : BitVec 32 := 0#32
  let c1_i32_235 : BitVec 32 := 1#32
  let arg9 : BitVec 32 := Scf.iv c0_i32_233 c1_i32_235 k1_t20
  let c16_i32_1173 : BitVec 32 := 16#32
  let v821 : BitVec 32 := Scalar.muli arg9 c16_i32_1173
  let v823 : Index := Scalar.indexCast v821
  ![11, v823.toNat]
def k1_off322 (k1_t20 : Fin k1_t20_loop.trips) : Fin 2 → Nat :=
  let c12_i32_1176 : BitVec 32 := 12#32
  let v826 : Index := Scalar.indexCast c12_i32_1176
  let c0_i32_233 : BitVec 32 := 0#32
  let c1_i32_235 : BitVec 32 := 1#32
  let arg9 : BitVec 32 := Scf.iv c0_i32_233 c1_i32_235 k1_t20
  let c16_i32_1175 : BitVec 32 := 16#32
  let v825 : BitVec 32 := Scalar.muli arg9 c16_i32_1175
  let v827 : Index := Scalar.indexCast v825
  ![12, v827.toNat]
def k1_off323 (k1_t20 : Fin k1_t20_loop.trips) : Fin 2 → Nat :=
  let c13_i32_1178 : BitVec 32 := 13#32
  let v830 : Index := Scalar.indexCast c13_i32_1178
  let c0_i32_233 : BitVec 32 := 0#32
  let c1_i32_235 : BitVec 32 := 1#32
  let arg9 : BitVec 32 := Scf.iv c0_i32_233 c1_i32_235 k1_t20
  let c16_i32_1177 : BitVec 32 := 16#32
  let v829 : BitVec 32 := Scalar.muli arg9 c16_i32_1177
  let v831 : Index := Scalar.indexCast v829
  ![13, v831.toNat]
def k1_off324 (k1_t20 : Fin k1_t20_loop.trips) : Fin 2 → Nat :=
  let c14_i32_1180 : BitVec 32 := 14#32
  let v834 : Index := Scalar.indexCast c14_i32_1180
  let c0_i32_233 : BitVec 32 := 0#32
  let c1_i32_235 : BitVec 32 := 1#32
  let arg9 : BitVec 32 := Scf.iv c0_i32_233 c1_i32_235 k1_t20
  let c16_i32_1179 : BitVec 32 := 16#32
  let v833 : BitVec 32 := Scalar.muli arg9 c16_i32_1179
  let v835 : Index := Scalar.indexCast v833
  ![14, v835.toNat]
def k1_off325 (k1_t20 : Fin k1_t20_loop.trips) : Fin 2 → Nat :=
  let c15_i32_1182 : BitVec 32 := 15#32
  let v838 : Index := Scalar.indexCast c15_i32_1182
  let c0_i32_233 : BitVec 32 := 0#32
  let c1_i32_235 : BitVec 32 := 1#32
  let arg9 : BitVec 32 := Scf.iv c0_i32_233 c1_i32_235 k1_t20
  let c16_i32_1181 : BitVec 32 := 16#32
  let v837 : BitVec 32 := Scalar.muli arg9 c16_i32_1181
  let v839 : Index := Scalar.indexCast v837
  ![15, v839.toNat]

def k1_chk289 (v780 : IVec S16 32) : Prop :=
  (∀ a x, ((![v780] : Fin 1 → IVec S16 32) a x).toNat < S88320.size a)
theorem k1_idx289_inb : ∀ (v780 : IVec S16 32) (k1_hw289 : k1_chk289 v780), ∀ a x, ((![v780] : Fin 1 → IVec S16 32) a x).toNat < S88320.size a := fun v780 k1_hw289 => k1_hw289

def k1_chk290 (v784 : IVec S16 32) : Prop :=
  (∀ a x, ((![v784] : Fin 1 → IVec S16 32) a x).toNat < S88320.size a)
theorem k1_idx290_inb : ∀ (v784 : IVec S16 32) (k1_hw290 : k1_chk290 v784), ∀ a x, ((![v784] : Fin 1 → IVec S16 32) a x).toNat < S88320.size a := fun v784 k1_hw290 => k1_hw290

def k1_chk291 (v788 : IVec S16 32) : Prop :=
  (∀ a x, ((![v788] : Fin 1 → IVec S16 32) a x).toNat < S88320.size a)
theorem k1_idx291_inb : ∀ (v788 : IVec S16 32) (k1_hw291 : k1_chk291 v788), ∀ a x, ((![v788] : Fin 1 → IVec S16 32) a x).toNat < S88320.size a := fun v788 k1_hw291 => k1_hw291

def k1_chk292 (v792 : IVec S16 32) : Prop :=
  (∀ a x, ((![v792] : Fin 1 → IVec S16 32) a x).toNat < S88320.size a)
theorem k1_idx292_inb : ∀ (v792 : IVec S16 32) (k1_hw292 : k1_chk292 v792), ∀ a x, ((![v792] : Fin 1 → IVec S16 32) a x).toNat < S88320.size a := fun v792 k1_hw292 => k1_hw292

def k1_chk293 (v796 : IVec S16 32) : Prop :=
  (∀ a x, ((![v796] : Fin 1 → IVec S16 32) a x).toNat < S88320.size a)
theorem k1_idx293_inb : ∀ (v796 : IVec S16 32) (k1_hw293 : k1_chk293 v796), ∀ a x, ((![v796] : Fin 1 → IVec S16 32) a x).toNat < S88320.size a := fun v796 k1_hw293 => k1_hw293

def k1_chk294 (v800 : IVec S16 32) : Prop :=
  (∀ a x, ((![v800] : Fin 1 → IVec S16 32) a x).toNat < S88320.size a)
theorem k1_idx294_inb : ∀ (v800 : IVec S16 32) (k1_hw294 : k1_chk294 v800), ∀ a x, ((![v800] : Fin 1 → IVec S16 32) a x).toNat < S88320.size a := fun v800 k1_hw294 => k1_hw294

def k1_chk295 (v804 : IVec S16 32) : Prop :=
  (∀ a x, ((![v804] : Fin 1 → IVec S16 32) a x).toNat < S88320.size a)
theorem k1_idx295_inb : ∀ (v804 : IVec S16 32) (k1_hw295 : k1_chk295 v804), ∀ a x, ((![v804] : Fin 1 → IVec S16 32) a x).toNat < S88320.size a := fun v804 k1_hw295 => k1_hw295

def k1_chk296 (v808 : IVec S16 32) : Prop :=
  (∀ a x, ((![v808] : Fin 1 → IVec S16 32) a x).toNat < S88320.size a)
theorem k1_idx296_inb : ∀ (v808 : IVec S16 32) (k1_hw296 : k1_chk296 v808), ∀ a x, ((![v808] : Fin 1 → IVec S16 32) a x).toNat < S88320.size a := fun v808 k1_hw296 => k1_hw296

def k1_chk297 (v812 : IVec S16 32) : Prop :=
  (∀ a x, ((![v812] : Fin 1 → IVec S16 32) a x).toNat < S88320.size a)
theorem k1_idx297_inb : ∀ (v812 : IVec S16 32) (k1_hw297 : k1_chk297 v812), ∀ a x, ((![v812] : Fin 1 → IVec S16 32) a x).toNat < S88320.size a := fun v812 k1_hw297 => k1_hw297

def k1_chk298 (v816 : IVec S16 32) : Prop :=
  (∀ a x, ((![v816] : Fin 1 → IVec S16 32) a x).toNat < S88320.size a)
theorem k1_idx298_inb : ∀ (v816 : IVec S16 32) (k1_hw298 : k1_chk298 v816), ∀ a x, ((![v816] : Fin 1 → IVec S16 32) a x).toNat < S88320.size a := fun v816 k1_hw298 => k1_hw298

def k1_chk299 (v820 : IVec S16 32) : Prop :=
  (∀ a x, ((![v820] : Fin 1 → IVec S16 32) a x).toNat < S88320.size a)
theorem k1_idx299_inb : ∀ (v820 : IVec S16 32) (k1_hw299 : k1_chk299 v820), ∀ a x, ((![v820] : Fin 1 → IVec S16 32) a x).toNat < S88320.size a := fun v820 k1_hw299 => k1_hw299

def k1_chk300 (v824 : IVec S16 32) : Prop :=
  (∀ a x, ((![v824] : Fin 1 → IVec S16 32) a x).toNat < S88320.size a)
theorem k1_idx300_inb : ∀ (v824 : IVec S16 32) (k1_hw300 : k1_chk300 v824), ∀ a x, ((![v824] : Fin 1 → IVec S16 32) a x).toNat < S88320.size a := fun v824 k1_hw300 => k1_hw300

def k1_chk301 (v828 : IVec S16 32) : Prop :=
  (∀ a x, ((![v828] : Fin 1 → IVec S16 32) a x).toNat < S88320.size a)
theorem k1_idx301_inb : ∀ (v828 : IVec S16 32) (k1_hw301 : k1_chk301 v828), ∀ a x, ((![v828] : Fin 1 → IVec S16 32) a x).toNat < S88320.size a := fun v828 k1_hw301 => k1_hw301

def k1_chk302 (v832 : IVec S16 32) : Prop :=
  (∀ a x, ((![v832] : Fin 1 → IVec S16 32) a x).toNat < S88320.size a)
theorem k1_idx302_inb : ∀ (v832 : IVec S16 32) (k1_hw302 : k1_chk302 v832), ∀ a x, ((![v832] : Fin 1 → IVec S16 32) a x).toNat < S88320.size a := fun v832 k1_hw302 => k1_hw302

def k1_chk303 (v836 : IVec S16 32) : Prop :=
  (∀ a x, ((![v836] : Fin 1 → IVec S16 32) a x).toNat < S88320.size a)
theorem k1_idx303_inb : ∀ (v836 : IVec S16 32) (k1_hw303 : k1_chk303 v836), ∀ a x, ((![v836] : Fin 1 → IVec S16 32) a x).toNat < S88320.size a := fun v836 k1_hw303 => k1_hw303

def k1_chk304 (v840 : IVec S16 32) : Prop :=
  (∀ a x, ((![v840] : Fin 1 → IVec S16 32) a x).toNat < S88320.size a)
theorem k1_idx304_inb : ∀ (v840 : IVec S16 32) (k1_hw304 : k1_chk304 v840), ∀ a x, ((![v840] : Fin 1 → IVec S16 32) a x).toNat < S88320.size a := fun v840 k1_hw304 => k1_hw304
def k1_off326 (i : grid1.Coords) : Fin 4 → Nat :=
  let c0_i32_237 : BitVec 32 := 0#32
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_238 : BitVec 32 := 0#32
  ![0, 20, v2.toNat, 0]
@[reducible] def k1_t21_loop : Scf.Loop 32 :=
  let c0_i32_245 : BitVec 32 := 0#32
  let c32_i32_246 : BitVec 32 := 32#32
  let v189 : BitVec 32 := Scalar.addi c0_i32_245 c32_i32_246
  let c1_i32_247 : BitVec 32 := 1#32
  ⟨c0_i32_245, v189, c1_i32_247⟩
def k1_off327 (k1_t21 : Fin k1_t21_loop.trips) : Fin 2 → Nat :=
  let c0_i32_1152 : BitVec 32 := 0#32
  let v778 : Index := Scalar.indexCast c0_i32_1152
  let c0_i32_245 : BitVec 32 := 0#32
  let c1_i32_247 : BitVec 32 := 1#32
  let arg9 : BitVec 32 := Scf.iv c0_i32_245 c1_i32_247 k1_t21
  let c16_i32_1151 : BitVec 32 := 16#32
  let v777 : BitVec 32 := Scalar.muli arg9 c16_i32_1151
  let v779 : Index := Scalar.indexCast v777
  ![0, v779.toNat]
def k1_off328 (k1_t21 : Fin k1_t21_loop.trips) : Fin 2 → Nat :=
  let c1_i32_1154 : BitVec 32 := 1#32
  let v782 : Index := Scalar.indexCast c1_i32_1154
  let c0_i32_245 : BitVec 32 := 0#32
  let c1_i32_247 : BitVec 32 := 1#32
  let arg9 : BitVec 32 := Scf.iv c0_i32_245 c1_i32_247 k1_t21
  let c16_i32_1153 : BitVec 32 := 16#32
  let v781 : BitVec 32 := Scalar.muli arg9 c16_i32_1153
  let v783 : Index := Scalar.indexCast v781
  ![1, v783.toNat]
def k1_off329 (k1_t21 : Fin k1_t21_loop.trips) : Fin 2 → Nat :=
  let c2_i32_1156 : BitVec 32 := 2#32
  let v786 : Index := Scalar.indexCast c2_i32_1156
  let c0_i32_245 : BitVec 32 := 0#32
  let c1_i32_247 : BitVec 32 := 1#32
  let arg9 : BitVec 32 := Scf.iv c0_i32_245 c1_i32_247 k1_t21
  let c16_i32_1155 : BitVec 32 := 16#32
  let v785 : BitVec 32 := Scalar.muli arg9 c16_i32_1155
  let v787 : Index := Scalar.indexCast v785
  ![2, v787.toNat]
def k1_off330 (k1_t21 : Fin k1_t21_loop.trips) : Fin 2 → Nat :=
  let c3_i32_1158 : BitVec 32 := 3#32
  let v790 : Index := Scalar.indexCast c3_i32_1158
  let c0_i32_245 : BitVec 32 := 0#32
  let c1_i32_247 : BitVec 32 := 1#32
  let arg9 : BitVec 32 := Scf.iv c0_i32_245 c1_i32_247 k1_t21
  let c16_i32_1157 : BitVec 32 := 16#32
  let v789 : BitVec 32 := Scalar.muli arg9 c16_i32_1157
  let v791 : Index := Scalar.indexCast v789
  ![3, v791.toNat]
def k1_off331 (k1_t21 : Fin k1_t21_loop.trips) : Fin 2 → Nat :=
  let c4_i32_1160 : BitVec 32 := 4#32
  let v794 : Index := Scalar.indexCast c4_i32_1160
  let c0_i32_245 : BitVec 32 := 0#32
  let c1_i32_247 : BitVec 32 := 1#32
  let arg9 : BitVec 32 := Scf.iv c0_i32_245 c1_i32_247 k1_t21
  let c16_i32_1159 : BitVec 32 := 16#32
  let v793 : BitVec 32 := Scalar.muli arg9 c16_i32_1159
  let v795 : Index := Scalar.indexCast v793
  ![4, v795.toNat]
def k1_off332 (k1_t21 : Fin k1_t21_loop.trips) : Fin 2 → Nat :=
  let c5_i32_1162 : BitVec 32 := 5#32
  let v798 : Index := Scalar.indexCast c5_i32_1162
  let c0_i32_245 : BitVec 32 := 0#32
  let c1_i32_247 : BitVec 32 := 1#32
  let arg9 : BitVec 32 := Scf.iv c0_i32_245 c1_i32_247 k1_t21
  let c16_i32_1161 : BitVec 32 := 16#32
  let v797 : BitVec 32 := Scalar.muli arg9 c16_i32_1161
  let v799 : Index := Scalar.indexCast v797
  ![5, v799.toNat]
def k1_off333 (k1_t21 : Fin k1_t21_loop.trips) : Fin 2 → Nat :=
  let c6_i32_1164 : BitVec 32 := 6#32
  let v802 : Index := Scalar.indexCast c6_i32_1164
  let c0_i32_245 : BitVec 32 := 0#32
  let c1_i32_247 : BitVec 32 := 1#32
  let arg9 : BitVec 32 := Scf.iv c0_i32_245 c1_i32_247 k1_t21
  let c16_i32_1163 : BitVec 32 := 16#32
  let v801 : BitVec 32 := Scalar.muli arg9 c16_i32_1163
  let v803 : Index := Scalar.indexCast v801
  ![6, v803.toNat]
def k1_off334 (k1_t21 : Fin k1_t21_loop.trips) : Fin 2 → Nat :=
  let c7_i32_1166 : BitVec 32 := 7#32
  let v806 : Index := Scalar.indexCast c7_i32_1166
  let c0_i32_245 : BitVec 32 := 0#32
  let c1_i32_247 : BitVec 32 := 1#32
  let arg9 : BitVec 32 := Scf.iv c0_i32_245 c1_i32_247 k1_t21
  let c16_i32_1165 : BitVec 32 := 16#32
  let v805 : BitVec 32 := Scalar.muli arg9 c16_i32_1165
  let v807 : Index := Scalar.indexCast v805
  ![7, v807.toNat]
def k1_off335 (k1_t21 : Fin k1_t21_loop.trips) : Fin 2 → Nat :=
  let c8_i32_1168 : BitVec 32 := 8#32
  let v810 : Index := Scalar.indexCast c8_i32_1168
  let c0_i32_245 : BitVec 32 := 0#32
  let c1_i32_247 : BitVec 32 := 1#32
  let arg9 : BitVec 32 := Scf.iv c0_i32_245 c1_i32_247 k1_t21
  let c16_i32_1167 : BitVec 32 := 16#32
  let v809 : BitVec 32 := Scalar.muli arg9 c16_i32_1167
  let v811 : Index := Scalar.indexCast v809
  ![8, v811.toNat]
def k1_off336 (k1_t21 : Fin k1_t21_loop.trips) : Fin 2 → Nat :=
  let c9_i32_1170 : BitVec 32 := 9#32
  let v814 : Index := Scalar.indexCast c9_i32_1170
  let c0_i32_245 : BitVec 32 := 0#32
  let c1_i32_247 : BitVec 32 := 1#32
  let arg9 : BitVec 32 := Scf.iv c0_i32_245 c1_i32_247 k1_t21
  let c16_i32_1169 : BitVec 32 := 16#32
  let v813 : BitVec 32 := Scalar.muli arg9 c16_i32_1169
  let v815 : Index := Scalar.indexCast v813
  ![9, v815.toNat]
def k1_off337 (k1_t21 : Fin k1_t21_loop.trips) : Fin 2 → Nat :=
  let c10_i32_1172 : BitVec 32 := 10#32
  let v818 : Index := Scalar.indexCast c10_i32_1172
  let c0_i32_245 : BitVec 32 := 0#32
  let c1_i32_247 : BitVec 32 := 1#32
  let arg9 : BitVec 32 := Scf.iv c0_i32_245 c1_i32_247 k1_t21
  let c16_i32_1171 : BitVec 32 := 16#32
  let v817 : BitVec 32 := Scalar.muli arg9 c16_i32_1171
  let v819 : Index := Scalar.indexCast v817
  ![10, v819.toNat]
def k1_off338 (k1_t21 : Fin k1_t21_loop.trips) : Fin 2 → Nat :=
  let c11_i32_1174 : BitVec 32 := 11#32
  let v822 : Index := Scalar.indexCast c11_i32_1174
  let c0_i32_245 : BitVec 32 := 0#32
  let c1_i32_247 : BitVec 32 := 1#32
  let arg9 : BitVec 32 := Scf.iv c0_i32_245 c1_i32_247 k1_t21
  let c16_i32_1173 : BitVec 32 := 16#32
  let v821 : BitVec 32 := Scalar.muli arg9 c16_i32_1173
  let v823 : Index := Scalar.indexCast v821
  ![11, v823.toNat]
def k1_off339 (k1_t21 : Fin k1_t21_loop.trips) : Fin 2 → Nat :=
  let c12_i32_1176 : BitVec 32 := 12#32
  let v826 : Index := Scalar.indexCast c12_i32_1176
  let c0_i32_245 : BitVec 32 := 0#32
  let c1_i32_247 : BitVec 32 := 1#32
  let arg9 : BitVec 32 := Scf.iv c0_i32_245 c1_i32_247 k1_t21
  let c16_i32_1175 : BitVec 32 := 16#32
  let v825 : BitVec 32 := Scalar.muli arg9 c16_i32_1175
  let v827 : Index := Scalar.indexCast v825
  ![12, v827.toNat]
def k1_off340 (k1_t21 : Fin k1_t21_loop.trips) : Fin 2 → Nat :=
  let c13_i32_1178 : BitVec 32 := 13#32
  let v830 : Index := Scalar.indexCast c13_i32_1178
  let c0_i32_245 : BitVec 32 := 0#32
  let c1_i32_247 : BitVec 32 := 1#32
  let arg9 : BitVec 32 := Scf.iv c0_i32_245 c1_i32_247 k1_t21
  let c16_i32_1177 : BitVec 32 := 16#32
  let v829 : BitVec 32 := Scalar.muli arg9 c16_i32_1177
  let v831 : Index := Scalar.indexCast v829
  ![13, v831.toNat]
def k1_off341 (k1_t21 : Fin k1_t21_loop.trips) : Fin 2 → Nat :=
  let c14_i32_1180 : BitVec 32 := 14#32
  let v834 : Index := Scalar.indexCast c14_i32_1180
  let c0_i32_245 : BitVec 32 := 0#32
  let c1_i32_247 : BitVec 32 := 1#32
  let arg9 : BitVec 32 := Scf.iv c0_i32_245 c1_i32_247 k1_t21
  let c16_i32_1179 : BitVec 32 := 16#32
  let v833 : BitVec 32 := Scalar.muli arg9 c16_i32_1179
  let v835 : Index := Scalar.indexCast v833
  ![14, v835.toNat]
def k1_off342 (k1_t21 : Fin k1_t21_loop.trips) : Fin 2 → Nat :=
  let c15_i32_1182 : BitVec 32 := 15#32
  let v838 : Index := Scalar.indexCast c15_i32_1182
  let c0_i32_245 : BitVec 32 := 0#32
  let c1_i32_247 : BitVec 32 := 1#32
  let arg9 : BitVec 32 := Scf.iv c0_i32_245 c1_i32_247 k1_t21
  let c16_i32_1181 : BitVec 32 := 16#32
  let v837 : BitVec 32 := Scalar.muli arg9 c16_i32_1181
  let v839 : Index := Scalar.indexCast v837
  ![15, v839.toNat]

def k1_chk305 (v780 : IVec S16 32) : Prop :=
  (∀ a x, ((![v780] : Fin 1 → IVec S16 32) a x).toNat < S88320.size a)
theorem k1_idx305_inb : ∀ (v780 : IVec S16 32) (k1_hw305 : k1_chk305 v780), ∀ a x, ((![v780] : Fin 1 → IVec S16 32) a x).toNat < S88320.size a := fun v780 k1_hw305 => k1_hw305

def k1_chk306 (v784 : IVec S16 32) : Prop :=
  (∀ a x, ((![v784] : Fin 1 → IVec S16 32) a x).toNat < S88320.size a)
theorem k1_idx306_inb : ∀ (v784 : IVec S16 32) (k1_hw306 : k1_chk306 v784), ∀ a x, ((![v784] : Fin 1 → IVec S16 32) a x).toNat < S88320.size a := fun v784 k1_hw306 => k1_hw306

def k1_chk307 (v788 : IVec S16 32) : Prop :=
  (∀ a x, ((![v788] : Fin 1 → IVec S16 32) a x).toNat < S88320.size a)
theorem k1_idx307_inb : ∀ (v788 : IVec S16 32) (k1_hw307 : k1_chk307 v788), ∀ a x, ((![v788] : Fin 1 → IVec S16 32) a x).toNat < S88320.size a := fun v788 k1_hw307 => k1_hw307

def k1_chk308 (v792 : IVec S16 32) : Prop :=
  (∀ a x, ((![v792] : Fin 1 → IVec S16 32) a x).toNat < S88320.size a)
theorem k1_idx308_inb : ∀ (v792 : IVec S16 32) (k1_hw308 : k1_chk308 v792), ∀ a x, ((![v792] : Fin 1 → IVec S16 32) a x).toNat < S88320.size a := fun v792 k1_hw308 => k1_hw308

def k1_chk309 (v796 : IVec S16 32) : Prop :=
  (∀ a x, ((![v796] : Fin 1 → IVec S16 32) a x).toNat < S88320.size a)
theorem k1_idx309_inb : ∀ (v796 : IVec S16 32) (k1_hw309 : k1_chk309 v796), ∀ a x, ((![v796] : Fin 1 → IVec S16 32) a x).toNat < S88320.size a := fun v796 k1_hw309 => k1_hw309

def k1_chk310 (v800 : IVec S16 32) : Prop :=
  (∀ a x, ((![v800] : Fin 1 → IVec S16 32) a x).toNat < S88320.size a)
theorem k1_idx310_inb : ∀ (v800 : IVec S16 32) (k1_hw310 : k1_chk310 v800), ∀ a x, ((![v800] : Fin 1 → IVec S16 32) a x).toNat < S88320.size a := fun v800 k1_hw310 => k1_hw310

def k1_chk311 (v804 : IVec S16 32) : Prop :=
  (∀ a x, ((![v804] : Fin 1 → IVec S16 32) a x).toNat < S88320.size a)
theorem k1_idx311_inb : ∀ (v804 : IVec S16 32) (k1_hw311 : k1_chk311 v804), ∀ a x, ((![v804] : Fin 1 → IVec S16 32) a x).toNat < S88320.size a := fun v804 k1_hw311 => k1_hw311

def k1_chk312 (v808 : IVec S16 32) : Prop :=
  (∀ a x, ((![v808] : Fin 1 → IVec S16 32) a x).toNat < S88320.size a)
theorem k1_idx312_inb : ∀ (v808 : IVec S16 32) (k1_hw312 : k1_chk312 v808), ∀ a x, ((![v808] : Fin 1 → IVec S16 32) a x).toNat < S88320.size a := fun v808 k1_hw312 => k1_hw312

def k1_chk313 (v812 : IVec S16 32) : Prop :=
  (∀ a x, ((![v812] : Fin 1 → IVec S16 32) a x).toNat < S88320.size a)
theorem k1_idx313_inb : ∀ (v812 : IVec S16 32) (k1_hw313 : k1_chk313 v812), ∀ a x, ((![v812] : Fin 1 → IVec S16 32) a x).toNat < S88320.size a := fun v812 k1_hw313 => k1_hw313

def k1_chk314 (v816 : IVec S16 32) : Prop :=
  (∀ a x, ((![v816] : Fin 1 → IVec S16 32) a x).toNat < S88320.size a)
theorem k1_idx314_inb : ∀ (v816 : IVec S16 32) (k1_hw314 : k1_chk314 v816), ∀ a x, ((![v816] : Fin 1 → IVec S16 32) a x).toNat < S88320.size a := fun v816 k1_hw314 => k1_hw314

def k1_chk315 (v820 : IVec S16 32) : Prop :=
  (∀ a x, ((![v820] : Fin 1 → IVec S16 32) a x).toNat < S88320.size a)
theorem k1_idx315_inb : ∀ (v820 : IVec S16 32) (k1_hw315 : k1_chk315 v820), ∀ a x, ((![v820] : Fin 1 → IVec S16 32) a x).toNat < S88320.size a := fun v820 k1_hw315 => k1_hw315

def k1_chk316 (v824 : IVec S16 32) : Prop :=
  (∀ a x, ((![v824] : Fin 1 → IVec S16 32) a x).toNat < S88320.size a)
theorem k1_idx316_inb : ∀ (v824 : IVec S16 32) (k1_hw316 : k1_chk316 v824), ∀ a x, ((![v824] : Fin 1 → IVec S16 32) a x).toNat < S88320.size a := fun v824 k1_hw316 => k1_hw316

def k1_chk317 (v828 : IVec S16 32) : Prop :=
  (∀ a x, ((![v828] : Fin 1 → IVec S16 32) a x).toNat < S88320.size a)
theorem k1_idx317_inb : ∀ (v828 : IVec S16 32) (k1_hw317 : k1_chk317 v828), ∀ a x, ((![v828] : Fin 1 → IVec S16 32) a x).toNat < S88320.size a := fun v828 k1_hw317 => k1_hw317

def k1_chk318 (v832 : IVec S16 32) : Prop :=
  (∀ a x, ((![v832] : Fin 1 → IVec S16 32) a x).toNat < S88320.size a)
theorem k1_idx318_inb : ∀ (v832 : IVec S16 32) (k1_hw318 : k1_chk318 v832), ∀ a x, ((![v832] : Fin 1 → IVec S16 32) a x).toNat < S88320.size a := fun v832 k1_hw318 => k1_hw318

def k1_chk319 (v836 : IVec S16 32) : Prop :=
  (∀ a x, ((![v836] : Fin 1 → IVec S16 32) a x).toNat < S88320.size a)
theorem k1_idx319_inb : ∀ (v836 : IVec S16 32) (k1_hw319 : k1_chk319 v836), ∀ a x, ((![v836] : Fin 1 → IVec S16 32) a x).toNat < S88320.size a := fun v836 k1_hw319 => k1_hw319

def k1_chk320 (v840 : IVec S16 32) : Prop :=
  (∀ a x, ((![v840] : Fin 1 → IVec S16 32) a x).toNat < S88320.size a)
theorem k1_idx320_inb : ∀ (v840 : IVec S16 32) (k1_hw320 : k1_chk320 v840), ∀ a x, ((![v840] : Fin 1 → IVec S16 32) a x).toNat < S88320.size a := fun v840 k1_hw320 => k1_hw320
def k1_off343 (i : grid1.Coords) : Fin 4 → Nat :=
  let c1_i32_249 : BitVec 32 := 1#32
  let c0_i32_250 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_251 : BitVec 32 := 0#32
  ![1, 0, v2.toNat, 0]
@[reducible] def k1_t22_loop : Scf.Loop 32 :=
  let c0_i32_258 : BitVec 32 := 0#32
  let c32_i32_259 : BitVec 32 := 32#32
  let v198 : BitVec 32 := Scalar.addi c0_i32_258 c32_i32_259
  let c1_i32_260 : BitVec 32 := 1#32
  ⟨c0_i32_258, v198, c1_i32_260⟩
def k1_off344 (k1_t22 : Fin k1_t22_loop.trips) : Fin 2 → Nat :=
  let c0_i32_1152 : BitVec 32 := 0#32
  let v778 : Index := Scalar.indexCast c0_i32_1152
  let c0_i32_258 : BitVec 32 := 0#32
  let c1_i32_260 : BitVec 32 := 1#32
  let arg9 : BitVec 32 := Scf.iv c0_i32_258 c1_i32_260 k1_t22
  let c16_i32_1151 : BitVec 32 := 16#32
  let v777 : BitVec 32 := Scalar.muli arg9 c16_i32_1151
  let v779 : Index := Scalar.indexCast v777
  ![0, v779.toNat]
def k1_off345 (k1_t22 : Fin k1_t22_loop.trips) : Fin 2 → Nat :=
  let c1_i32_1154 : BitVec 32 := 1#32
  let v782 : Index := Scalar.indexCast c1_i32_1154
  let c0_i32_258 : BitVec 32 := 0#32
  let c1_i32_260 : BitVec 32 := 1#32
  let arg9 : BitVec 32 := Scf.iv c0_i32_258 c1_i32_260 k1_t22
  let c16_i32_1153 : BitVec 32 := 16#32
  let v781 : BitVec 32 := Scalar.muli arg9 c16_i32_1153
  let v783 : Index := Scalar.indexCast v781
  ![1, v783.toNat]
def k1_off346 (k1_t22 : Fin k1_t22_loop.trips) : Fin 2 → Nat :=
  let c2_i32_1156 : BitVec 32 := 2#32
  let v786 : Index := Scalar.indexCast c2_i32_1156
  let c0_i32_258 : BitVec 32 := 0#32
  let c1_i32_260 : BitVec 32 := 1#32
  let arg9 : BitVec 32 := Scf.iv c0_i32_258 c1_i32_260 k1_t22
  let c16_i32_1155 : BitVec 32 := 16#32
  let v785 : BitVec 32 := Scalar.muli arg9 c16_i32_1155
  let v787 : Index := Scalar.indexCast v785
  ![2, v787.toNat]
def k1_off347 (k1_t22 : Fin k1_t22_loop.trips) : Fin 2 → Nat :=
  let c3_i32_1158 : BitVec 32 := 3#32
  let v790 : Index := Scalar.indexCast c3_i32_1158
  let c0_i32_258 : BitVec 32 := 0#32
  let c1_i32_260 : BitVec 32 := 1#32
  let arg9 : BitVec 32 := Scf.iv c0_i32_258 c1_i32_260 k1_t22
  let c16_i32_1157 : BitVec 32 := 16#32
  let v789 : BitVec 32 := Scalar.muli arg9 c16_i32_1157
  let v791 : Index := Scalar.indexCast v789
  ![3, v791.toNat]
def k1_off348 (k1_t22 : Fin k1_t22_loop.trips) : Fin 2 → Nat :=
  let c4_i32_1160 : BitVec 32 := 4#32
  let v794 : Index := Scalar.indexCast c4_i32_1160
  let c0_i32_258 : BitVec 32 := 0#32
  let c1_i32_260 : BitVec 32 := 1#32
  let arg9 : BitVec 32 := Scf.iv c0_i32_258 c1_i32_260 k1_t22
  let c16_i32_1159 : BitVec 32 := 16#32
  let v793 : BitVec 32 := Scalar.muli arg9 c16_i32_1159
  let v795 : Index := Scalar.indexCast v793
  ![4, v795.toNat]
def k1_off349 (k1_t22 : Fin k1_t22_loop.trips) : Fin 2 → Nat :=
  let c5_i32_1162 : BitVec 32 := 5#32
  let v798 : Index := Scalar.indexCast c5_i32_1162
  let c0_i32_258 : BitVec 32 := 0#32
  let c1_i32_260 : BitVec 32 := 1#32
  let arg9 : BitVec 32 := Scf.iv c0_i32_258 c1_i32_260 k1_t22
  let c16_i32_1161 : BitVec 32 := 16#32
  let v797 : BitVec 32 := Scalar.muli arg9 c16_i32_1161
  let v799 : Index := Scalar.indexCast v797
  ![5, v799.toNat]
def k1_off350 (k1_t22 : Fin k1_t22_loop.trips) : Fin 2 → Nat :=
  let c6_i32_1164 : BitVec 32 := 6#32
  let v802 : Index := Scalar.indexCast c6_i32_1164
  let c0_i32_258 : BitVec 32 := 0#32
  let c1_i32_260 : BitVec 32 := 1#32
  let arg9 : BitVec 32 := Scf.iv c0_i32_258 c1_i32_260 k1_t22
  let c16_i32_1163 : BitVec 32 := 16#32
  let v801 : BitVec 32 := Scalar.muli arg9 c16_i32_1163
  let v803 : Index := Scalar.indexCast v801
  ![6, v803.toNat]
def k1_off351 (k1_t22 : Fin k1_t22_loop.trips) : Fin 2 → Nat :=
  let c7_i32_1166 : BitVec 32 := 7#32
  let v806 : Index := Scalar.indexCast c7_i32_1166
  let c0_i32_258 : BitVec 32 := 0#32
  let c1_i32_260 : BitVec 32 := 1#32
  let arg9 : BitVec 32 := Scf.iv c0_i32_258 c1_i32_260 k1_t22
  let c16_i32_1165 : BitVec 32 := 16#32
  let v805 : BitVec 32 := Scalar.muli arg9 c16_i32_1165
  let v807 : Index := Scalar.indexCast v805
  ![7, v807.toNat]
def k1_off352 (k1_t22 : Fin k1_t22_loop.trips) : Fin 2 → Nat :=
  let c8_i32_1168 : BitVec 32 := 8#32
  let v810 : Index := Scalar.indexCast c8_i32_1168
  let c0_i32_258 : BitVec 32 := 0#32
  let c1_i32_260 : BitVec 32 := 1#32
  let arg9 : BitVec 32 := Scf.iv c0_i32_258 c1_i32_260 k1_t22
  let c16_i32_1167 : BitVec 32 := 16#32
  let v809 : BitVec 32 := Scalar.muli arg9 c16_i32_1167
  let v811 : Index := Scalar.indexCast v809
  ![8, v811.toNat]
def k1_off353 (k1_t22 : Fin k1_t22_loop.trips) : Fin 2 → Nat :=
  let c9_i32_1170 : BitVec 32 := 9#32
  let v814 : Index := Scalar.indexCast c9_i32_1170
  let c0_i32_258 : BitVec 32 := 0#32
  let c1_i32_260 : BitVec 32 := 1#32
  let arg9 : BitVec 32 := Scf.iv c0_i32_258 c1_i32_260 k1_t22
  let c16_i32_1169 : BitVec 32 := 16#32
  let v813 : BitVec 32 := Scalar.muli arg9 c16_i32_1169
  let v815 : Index := Scalar.indexCast v813
  ![9, v815.toNat]
def k1_off354 (k1_t22 : Fin k1_t22_loop.trips) : Fin 2 → Nat :=
  let c10_i32_1172 : BitVec 32 := 10#32
  let v818 : Index := Scalar.indexCast c10_i32_1172
  let c0_i32_258 : BitVec 32 := 0#32
  let c1_i32_260 : BitVec 32 := 1#32
  let arg9 : BitVec 32 := Scf.iv c0_i32_258 c1_i32_260 k1_t22
  let c16_i32_1171 : BitVec 32 := 16#32
  let v817 : BitVec 32 := Scalar.muli arg9 c16_i32_1171
  let v819 : Index := Scalar.indexCast v817
  ![10, v819.toNat]
def k1_off355 (k1_t22 : Fin k1_t22_loop.trips) : Fin 2 → Nat :=
  let c11_i32_1174 : BitVec 32 := 11#32
  let v822 : Index := Scalar.indexCast c11_i32_1174
  let c0_i32_258 : BitVec 32 := 0#32
  let c1_i32_260 : BitVec 32 := 1#32
  let arg9 : BitVec 32 := Scf.iv c0_i32_258 c1_i32_260 k1_t22
  let c16_i32_1173 : BitVec 32 := 16#32
  let v821 : BitVec 32 := Scalar.muli arg9 c16_i32_1173
  let v823 : Index := Scalar.indexCast v821
  ![11, v823.toNat]
def k1_off356 (k1_t22 : Fin k1_t22_loop.trips) : Fin 2 → Nat :=
  let c12_i32_1176 : BitVec 32 := 12#32
  let v826 : Index := Scalar.indexCast c12_i32_1176
  let c0_i32_258 : BitVec 32 := 0#32
  let c1_i32_260 : BitVec 32 := 1#32
  let arg9 : BitVec 32 := Scf.iv c0_i32_258 c1_i32_260 k1_t22
  let c16_i32_1175 : BitVec 32 := 16#32
  let v825 : BitVec 32 := Scalar.muli arg9 c16_i32_1175
  let v827 : Index := Scalar.indexCast v825
  ![12, v827.toNat]
def k1_off357 (k1_t22 : Fin k1_t22_loop.trips) : Fin 2 → Nat :=
  let c13_i32_1178 : BitVec 32 := 13#32
  let v830 : Index := Scalar.indexCast c13_i32_1178
  let c0_i32_258 : BitVec 32 := 0#32
  let c1_i32_260 : BitVec 32 := 1#32
  let arg9 : BitVec 32 := Scf.iv c0_i32_258 c1_i32_260 k1_t22
  let c16_i32_1177 : BitVec 32 := 16#32
  let v829 : BitVec 32 := Scalar.muli arg9 c16_i32_1177
  let v831 : Index := Scalar.indexCast v829
  ![13, v831.toNat]
def k1_off358 (k1_t22 : Fin k1_t22_loop.trips) : Fin 2 → Nat :=
  let c14_i32_1180 : BitVec 32 := 14#32
  let v834 : Index := Scalar.indexCast c14_i32_1180
  let c0_i32_258 : BitVec 32 := 0#32
  let c1_i32_260 : BitVec 32 := 1#32
  let arg9 : BitVec 32 := Scf.iv c0_i32_258 c1_i32_260 k1_t22
  let c16_i32_1179 : BitVec 32 := 16#32
  let v833 : BitVec 32 := Scalar.muli arg9 c16_i32_1179
  let v835 : Index := Scalar.indexCast v833
  ![14, v835.toNat]
def k1_off359 (k1_t22 : Fin k1_t22_loop.trips) : Fin 2 → Nat :=
  let c15_i32_1182 : BitVec 32 := 15#32
  let v838 : Index := Scalar.indexCast c15_i32_1182
  let c0_i32_258 : BitVec 32 := 0#32
  let c1_i32_260 : BitVec 32 := 1#32
  let arg9 : BitVec 32 := Scf.iv c0_i32_258 c1_i32_260 k1_t22
  let c16_i32_1181 : BitVec 32 := 16#32
  let v837 : BitVec 32 := Scalar.muli arg9 c16_i32_1181
  let v839 : Index := Scalar.indexCast v837
  ![15, v839.toNat]

def k1_chk321 (v780 : IVec S16 32) : Prop :=
  (∀ a x, ((![v780] : Fin 1 → IVec S16 32) a x).toNat < S88320.size a)
theorem k1_idx321_inb : ∀ (v780 : IVec S16 32) (k1_hw321 : k1_chk321 v780), ∀ a x, ((![v780] : Fin 1 → IVec S16 32) a x).toNat < S88320.size a := fun v780 k1_hw321 => k1_hw321

def k1_chk322 (v784 : IVec S16 32) : Prop :=
  (∀ a x, ((![v784] : Fin 1 → IVec S16 32) a x).toNat < S88320.size a)
theorem k1_idx322_inb : ∀ (v784 : IVec S16 32) (k1_hw322 : k1_chk322 v784), ∀ a x, ((![v784] : Fin 1 → IVec S16 32) a x).toNat < S88320.size a := fun v784 k1_hw322 => k1_hw322

def k1_chk323 (v788 : IVec S16 32) : Prop :=
  (∀ a x, ((![v788] : Fin 1 → IVec S16 32) a x).toNat < S88320.size a)
theorem k1_idx323_inb : ∀ (v788 : IVec S16 32) (k1_hw323 : k1_chk323 v788), ∀ a x, ((![v788] : Fin 1 → IVec S16 32) a x).toNat < S88320.size a := fun v788 k1_hw323 => k1_hw323

def k1_chk324 (v792 : IVec S16 32) : Prop :=
  (∀ a x, ((![v792] : Fin 1 → IVec S16 32) a x).toNat < S88320.size a)
theorem k1_idx324_inb : ∀ (v792 : IVec S16 32) (k1_hw324 : k1_chk324 v792), ∀ a x, ((![v792] : Fin 1 → IVec S16 32) a x).toNat < S88320.size a := fun v792 k1_hw324 => k1_hw324

def k1_chk325 (v796 : IVec S16 32) : Prop :=
  (∀ a x, ((![v796] : Fin 1 → IVec S16 32) a x).toNat < S88320.size a)
theorem k1_idx325_inb : ∀ (v796 : IVec S16 32) (k1_hw325 : k1_chk325 v796), ∀ a x, ((![v796] : Fin 1 → IVec S16 32) a x).toNat < S88320.size a := fun v796 k1_hw325 => k1_hw325

def k1_chk326 (v800 : IVec S16 32) : Prop :=
  (∀ a x, ((![v800] : Fin 1 → IVec S16 32) a x).toNat < S88320.size a)
theorem k1_idx326_inb : ∀ (v800 : IVec S16 32) (k1_hw326 : k1_chk326 v800), ∀ a x, ((![v800] : Fin 1 → IVec S16 32) a x).toNat < S88320.size a := fun v800 k1_hw326 => k1_hw326

def k1_chk327 (v804 : IVec S16 32) : Prop :=
  (∀ a x, ((![v804] : Fin 1 → IVec S16 32) a x).toNat < S88320.size a)
theorem k1_idx327_inb : ∀ (v804 : IVec S16 32) (k1_hw327 : k1_chk327 v804), ∀ a x, ((![v804] : Fin 1 → IVec S16 32) a x).toNat < S88320.size a := fun v804 k1_hw327 => k1_hw327

def k1_chk328 (v808 : IVec S16 32) : Prop :=
  (∀ a x, ((![v808] : Fin 1 → IVec S16 32) a x).toNat < S88320.size a)
theorem k1_idx328_inb : ∀ (v808 : IVec S16 32) (k1_hw328 : k1_chk328 v808), ∀ a x, ((![v808] : Fin 1 → IVec S16 32) a x).toNat < S88320.size a := fun v808 k1_hw328 => k1_hw328

def k1_chk329 (v812 : IVec S16 32) : Prop :=
  (∀ a x, ((![v812] : Fin 1 → IVec S16 32) a x).toNat < S88320.size a)
theorem k1_idx329_inb : ∀ (v812 : IVec S16 32) (k1_hw329 : k1_chk329 v812), ∀ a x, ((![v812] : Fin 1 → IVec S16 32) a x).toNat < S88320.size a := fun v812 k1_hw329 => k1_hw329

def k1_chk330 (v816 : IVec S16 32) : Prop :=
  (∀ a x, ((![v816] : Fin 1 → IVec S16 32) a x).toNat < S88320.size a)
theorem k1_idx330_inb : ∀ (v816 : IVec S16 32) (k1_hw330 : k1_chk330 v816), ∀ a x, ((![v816] : Fin 1 → IVec S16 32) a x).toNat < S88320.size a := fun v816 k1_hw330 => k1_hw330

def k1_chk331 (v820 : IVec S16 32) : Prop :=
  (∀ a x, ((![v820] : Fin 1 → IVec S16 32) a x).toNat < S88320.size a)
theorem k1_idx331_inb : ∀ (v820 : IVec S16 32) (k1_hw331 : k1_chk331 v820), ∀ a x, ((![v820] : Fin 1 → IVec S16 32) a x).toNat < S88320.size a := fun v820 k1_hw331 => k1_hw331

def k1_chk332 (v824 : IVec S16 32) : Prop :=
  (∀ a x, ((![v824] : Fin 1 → IVec S16 32) a x).toNat < S88320.size a)
theorem k1_idx332_inb : ∀ (v824 : IVec S16 32) (k1_hw332 : k1_chk332 v824), ∀ a x, ((![v824] : Fin 1 → IVec S16 32) a x).toNat < S88320.size a := fun v824 k1_hw332 => k1_hw332

def k1_chk333 (v828 : IVec S16 32) : Prop :=
  (∀ a x, ((![v828] : Fin 1 → IVec S16 32) a x).toNat < S88320.size a)
theorem k1_idx333_inb : ∀ (v828 : IVec S16 32) (k1_hw333 : k1_chk333 v828), ∀ a x, ((![v828] : Fin 1 → IVec S16 32) a x).toNat < S88320.size a := fun v828 k1_hw333 => k1_hw333

def k1_chk334 (v832 : IVec S16 32) : Prop :=
  (∀ a x, ((![v832] : Fin 1 → IVec S16 32) a x).toNat < S88320.size a)
theorem k1_idx334_inb : ∀ (v832 : IVec S16 32) (k1_hw334 : k1_chk334 v832), ∀ a x, ((![v832] : Fin 1 → IVec S16 32) a x).toNat < S88320.size a := fun v832 k1_hw334 => k1_hw334

def k1_chk335 (v836 : IVec S16 32) : Prop :=
  (∀ a x, ((![v836] : Fin 1 → IVec S16 32) a x).toNat < S88320.size a)
theorem k1_idx335_inb : ∀ (v836 : IVec S16 32) (k1_hw335 : k1_chk335 v836), ∀ a x, ((![v836] : Fin 1 → IVec S16 32) a x).toNat < S88320.size a := fun v836 k1_hw335 => k1_hw335

def k1_chk336 (v840 : IVec S16 32) : Prop :=
  (∀ a x, ((![v840] : Fin 1 → IVec S16 32) a x).toNat < S88320.size a)
theorem k1_idx336_inb : ∀ (v840 : IVec S16 32) (k1_hw336 : k1_chk336 v840), ∀ a x, ((![v840] : Fin 1 → IVec S16 32) a x).toNat < S88320.size a := fun v840 k1_hw336 => k1_hw336
def k1_off360 (i : grid1.Coords) : Fin 4 → Nat :=
  let c1_i32_262 : BitVec 32 := 1#32
  let c1_i32_263 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_264 : BitVec 32 := 0#32
  ![1, 1, v2.toNat, 0]
@[reducible] def k1_t23_loop : Scf.Loop 32 :=
  let c0_i32_271 : BitVec 32 := 0#32
  let c32_i32_272 : BitVec 32 := 32#32
  let v207 : BitVec 32 := Scalar.addi c0_i32_271 c32_i32_272
  let c1_i32_273 : BitVec 32 := 1#32
  ⟨c0_i32_271, v207, c1_i32_273⟩
def k1_off361 (k1_t23 : Fin k1_t23_loop.trips) : Fin 2 → Nat :=
  let c0_i32_1152 : BitVec 32 := 0#32
  let v778 : Index := Scalar.indexCast c0_i32_1152
  let c0_i32_271 : BitVec 32 := 0#32
  let c1_i32_273 : BitVec 32 := 1#32
  let arg9 : BitVec 32 := Scf.iv c0_i32_271 c1_i32_273 k1_t23
  let c16_i32_1151 : BitVec 32 := 16#32
  let v777 : BitVec 32 := Scalar.muli arg9 c16_i32_1151
  let v779 : Index := Scalar.indexCast v777
  ![0, v779.toNat]
def k1_off362 (k1_t23 : Fin k1_t23_loop.trips) : Fin 2 → Nat :=
  let c1_i32_1154 : BitVec 32 := 1#32
  let v782 : Index := Scalar.indexCast c1_i32_1154
  let c0_i32_271 : BitVec 32 := 0#32
  let c1_i32_273 : BitVec 32 := 1#32
  let arg9 : BitVec 32 := Scf.iv c0_i32_271 c1_i32_273 k1_t23
  let c16_i32_1153 : BitVec 32 := 16#32
  let v781 : BitVec 32 := Scalar.muli arg9 c16_i32_1153
  let v783 : Index := Scalar.indexCast v781
  ![1, v783.toNat]
def k1_off363 (k1_t23 : Fin k1_t23_loop.trips) : Fin 2 → Nat :=
  let c2_i32_1156 : BitVec 32 := 2#32
  let v786 : Index := Scalar.indexCast c2_i32_1156
  let c0_i32_271 : BitVec 32 := 0#32
  let c1_i32_273 : BitVec 32 := 1#32
  let arg9 : BitVec 32 := Scf.iv c0_i32_271 c1_i32_273 k1_t23
  let c16_i32_1155 : BitVec 32 := 16#32
  let v785 : BitVec 32 := Scalar.muli arg9 c16_i32_1155
  let v787 : Index := Scalar.indexCast v785
  ![2, v787.toNat]
def k1_off364 (k1_t23 : Fin k1_t23_loop.trips) : Fin 2 → Nat :=
  let c3_i32_1158 : BitVec 32 := 3#32
  let v790 : Index := Scalar.indexCast c3_i32_1158
  let c0_i32_271 : BitVec 32 := 0#32
  let c1_i32_273 : BitVec 32 := 1#32
  let arg9 : BitVec 32 := Scf.iv c0_i32_271 c1_i32_273 k1_t23
  let c16_i32_1157 : BitVec 32 := 16#32
  let v789 : BitVec 32 := Scalar.muli arg9 c16_i32_1157
  let v791 : Index := Scalar.indexCast v789
  ![3, v791.toNat]
def k1_off365 (k1_t23 : Fin k1_t23_loop.trips) : Fin 2 → Nat :=
  let c4_i32_1160 : BitVec 32 := 4#32
  let v794 : Index := Scalar.indexCast c4_i32_1160
  let c0_i32_271 : BitVec 32 := 0#32
  let c1_i32_273 : BitVec 32 := 1#32
  let arg9 : BitVec 32 := Scf.iv c0_i32_271 c1_i32_273 k1_t23
  let c16_i32_1159 : BitVec 32 := 16#32
  let v793 : BitVec 32 := Scalar.muli arg9 c16_i32_1159
  let v795 : Index := Scalar.indexCast v793
  ![4, v795.toNat]
def k1_off366 (k1_t23 : Fin k1_t23_loop.trips) : Fin 2 → Nat :=
  let c5_i32_1162 : BitVec 32 := 5#32
  let v798 : Index := Scalar.indexCast c5_i32_1162
  let c0_i32_271 : BitVec 32 := 0#32
  let c1_i32_273 : BitVec 32 := 1#32
  let arg9 : BitVec 32 := Scf.iv c0_i32_271 c1_i32_273 k1_t23
  let c16_i32_1161 : BitVec 32 := 16#32
  let v797 : BitVec 32 := Scalar.muli arg9 c16_i32_1161
  let v799 : Index := Scalar.indexCast v797
  ![5, v799.toNat]
def k1_off367 (k1_t23 : Fin k1_t23_loop.trips) : Fin 2 → Nat :=
  let c6_i32_1164 : BitVec 32 := 6#32
  let v802 : Index := Scalar.indexCast c6_i32_1164
  let c0_i32_271 : BitVec 32 := 0#32
  let c1_i32_273 : BitVec 32 := 1#32
  let arg9 : BitVec 32 := Scf.iv c0_i32_271 c1_i32_273 k1_t23
  let c16_i32_1163 : BitVec 32 := 16#32
  let v801 : BitVec 32 := Scalar.muli arg9 c16_i32_1163
  let v803 : Index := Scalar.indexCast v801
  ![6, v803.toNat]
def k1_off368 (k1_t23 : Fin k1_t23_loop.trips) : Fin 2 → Nat :=
  let c7_i32_1166 : BitVec 32 := 7#32
  let v806 : Index := Scalar.indexCast c7_i32_1166
  let c0_i32_271 : BitVec 32 := 0#32
  let c1_i32_273 : BitVec 32 := 1#32
  let arg9 : BitVec 32 := Scf.iv c0_i32_271 c1_i32_273 k1_t23
  let c16_i32_1165 : BitVec 32 := 16#32
  let v805 : BitVec 32 := Scalar.muli arg9 c16_i32_1165
  let v807 : Index := Scalar.indexCast v805
  ![7, v807.toNat]
def k1_off369 (k1_t23 : Fin k1_t23_loop.trips) : Fin 2 → Nat :=
  let c8_i32_1168 : BitVec 32 := 8#32
  let v810 : Index := Scalar.indexCast c8_i32_1168
  let c0_i32_271 : BitVec 32 := 0#32
  let c1_i32_273 : BitVec 32 := 1#32
  let arg9 : BitVec 32 := Scf.iv c0_i32_271 c1_i32_273 k1_t23
  let c16_i32_1167 : BitVec 32 := 16#32
  let v809 : BitVec 32 := Scalar.muli arg9 c16_i32_1167
  let v811 : Index := Scalar.indexCast v809
  ![8, v811.toNat]
def k1_off370 (k1_t23 : Fin k1_t23_loop.trips) : Fin 2 → Nat :=
  let c9_i32_1170 : BitVec 32 := 9#32
  let v814 : Index := Scalar.indexCast c9_i32_1170
  let c0_i32_271 : BitVec 32 := 0#32
  let c1_i32_273 : BitVec 32 := 1#32
  let arg9 : BitVec 32 := Scf.iv c0_i32_271 c1_i32_273 k1_t23
  let c16_i32_1169 : BitVec 32 := 16#32
  let v813 : BitVec 32 := Scalar.muli arg9 c16_i32_1169
  let v815 : Index := Scalar.indexCast v813
  ![9, v815.toNat]
def k1_off371 (k1_t23 : Fin k1_t23_loop.trips) : Fin 2 → Nat :=
  let c10_i32_1172 : BitVec 32 := 10#32
  let v818 : Index := Scalar.indexCast c10_i32_1172
  let c0_i32_271 : BitVec 32 := 0#32
  let c1_i32_273 : BitVec 32 := 1#32
  let arg9 : BitVec 32 := Scf.iv c0_i32_271 c1_i32_273 k1_t23
  let c16_i32_1171 : BitVec 32 := 16#32
  let v817 : BitVec 32 := Scalar.muli arg9 c16_i32_1171
  let v819 : Index := Scalar.indexCast v817
  ![10, v819.toNat]
def k1_off372 (k1_t23 : Fin k1_t23_loop.trips) : Fin 2 → Nat :=
  let c11_i32_1174 : BitVec 32 := 11#32
  let v822 : Index := Scalar.indexCast c11_i32_1174
  let c0_i32_271 : BitVec 32 := 0#32
  let c1_i32_273 : BitVec 32 := 1#32
  let arg9 : BitVec 32 := Scf.iv c0_i32_271 c1_i32_273 k1_t23
  let c16_i32_1173 : BitVec 32 := 16#32
  let v821 : BitVec 32 := Scalar.muli arg9 c16_i32_1173
  let v823 : Index := Scalar.indexCast v821
  ![11, v823.toNat]
def k1_off373 (k1_t23 : Fin k1_t23_loop.trips) : Fin 2 → Nat :=
  let c12_i32_1176 : BitVec 32 := 12#32
  let v826 : Index := Scalar.indexCast c12_i32_1176
  let c0_i32_271 : BitVec 32 := 0#32
  let c1_i32_273 : BitVec 32 := 1#32
  let arg9 : BitVec 32 := Scf.iv c0_i32_271 c1_i32_273 k1_t23
  let c16_i32_1175 : BitVec 32 := 16#32
  let v825 : BitVec 32 := Scalar.muli arg9 c16_i32_1175
  let v827 : Index := Scalar.indexCast v825
  ![12, v827.toNat]
def k1_off374 (k1_t23 : Fin k1_t23_loop.trips) : Fin 2 → Nat :=
  let c13_i32_1178 : BitVec 32 := 13#32
  let v830 : Index := Scalar.indexCast c13_i32_1178
  let c0_i32_271 : BitVec 32 := 0#32
  let c1_i32_273 : BitVec 32 := 1#32
  let arg9 : BitVec 32 := Scf.iv c0_i32_271 c1_i32_273 k1_t23
  let c16_i32_1177 : BitVec 32 := 16#32
  let v829 : BitVec 32 := Scalar.muli arg9 c16_i32_1177
  let v831 : Index := Scalar.indexCast v829
  ![13, v831.toNat]
def k1_off375 (k1_t23 : Fin k1_t23_loop.trips) : Fin 2 → Nat :=
  let c14_i32_1180 : BitVec 32 := 14#32
  let v834 : Index := Scalar.indexCast c14_i32_1180
  let c0_i32_271 : BitVec 32 := 0#32
  let c1_i32_273 : BitVec 32 := 1#32
  let arg9 : BitVec 32 := Scf.iv c0_i32_271 c1_i32_273 k1_t23
  let c16_i32_1179 : BitVec 32 := 16#32
  let v833 : BitVec 32 := Scalar.muli arg9 c16_i32_1179
  let v835 : Index := Scalar.indexCast v833
  ![14, v835.toNat]
def k1_off376 (k1_t23 : Fin k1_t23_loop.trips) : Fin 2 → Nat :=
  let c15_i32_1182 : BitVec 32 := 15#32
  let v838 : Index := Scalar.indexCast c15_i32_1182
  let c0_i32_271 : BitVec 32 := 0#32
  let c1_i32_273 : BitVec 32 := 1#32
  let arg9 : BitVec 32 := Scf.iv c0_i32_271 c1_i32_273 k1_t23
  let c16_i32_1181 : BitVec 32 := 16#32
  let v837 : BitVec 32 := Scalar.muli arg9 c16_i32_1181
  let v839 : Index := Scalar.indexCast v837
  ![15, v839.toNat]

def k1_chk337 (v780 : IVec S16 32) : Prop :=
  (∀ a x, ((![v780] : Fin 1 → IVec S16 32) a x).toNat < S88320.size a)
theorem k1_idx337_inb : ∀ (v780 : IVec S16 32) (k1_hw337 : k1_chk337 v780), ∀ a x, ((![v780] : Fin 1 → IVec S16 32) a x).toNat < S88320.size a := fun v780 k1_hw337 => k1_hw337

def k1_chk338 (v784 : IVec S16 32) : Prop :=
  (∀ a x, ((![v784] : Fin 1 → IVec S16 32) a x).toNat < S88320.size a)
theorem k1_idx338_inb : ∀ (v784 : IVec S16 32) (k1_hw338 : k1_chk338 v784), ∀ a x, ((![v784] : Fin 1 → IVec S16 32) a x).toNat < S88320.size a := fun v784 k1_hw338 => k1_hw338

def k1_chk339 (v788 : IVec S16 32) : Prop :=
  (∀ a x, ((![v788] : Fin 1 → IVec S16 32) a x).toNat < S88320.size a)
theorem k1_idx339_inb : ∀ (v788 : IVec S16 32) (k1_hw339 : k1_chk339 v788), ∀ a x, ((![v788] : Fin 1 → IVec S16 32) a x).toNat < S88320.size a := fun v788 k1_hw339 => k1_hw339

def k1_chk340 (v792 : IVec S16 32) : Prop :=
  (∀ a x, ((![v792] : Fin 1 → IVec S16 32) a x).toNat < S88320.size a)
theorem k1_idx340_inb : ∀ (v792 : IVec S16 32) (k1_hw340 : k1_chk340 v792), ∀ a x, ((![v792] : Fin 1 → IVec S16 32) a x).toNat < S88320.size a := fun v792 k1_hw340 => k1_hw340

def k1_chk341 (v796 : IVec S16 32) : Prop :=
  (∀ a x, ((![v796] : Fin 1 → IVec S16 32) a x).toNat < S88320.size a)
theorem k1_idx341_inb : ∀ (v796 : IVec S16 32) (k1_hw341 : k1_chk341 v796), ∀ a x, ((![v796] : Fin 1 → IVec S16 32) a x).toNat < S88320.size a := fun v796 k1_hw341 => k1_hw341

def k1_chk342 (v800 : IVec S16 32) : Prop :=
  (∀ a x, ((![v800] : Fin 1 → IVec S16 32) a x).toNat < S88320.size a)
theorem k1_idx342_inb : ∀ (v800 : IVec S16 32) (k1_hw342 : k1_chk342 v800), ∀ a x, ((![v800] : Fin 1 → IVec S16 32) a x).toNat < S88320.size a := fun v800 k1_hw342 => k1_hw342

def k1_chk343 (v804 : IVec S16 32) : Prop :=
  (∀ a x, ((![v804] : Fin 1 → IVec S16 32) a x).toNat < S88320.size a)
theorem k1_idx343_inb : ∀ (v804 : IVec S16 32) (k1_hw343 : k1_chk343 v804), ∀ a x, ((![v804] : Fin 1 → IVec S16 32) a x).toNat < S88320.size a := fun v804 k1_hw343 => k1_hw343

def k1_chk344 (v808 : IVec S16 32) : Prop :=
  (∀ a x, ((![v808] : Fin 1 → IVec S16 32) a x).toNat < S88320.size a)
theorem k1_idx344_inb : ∀ (v808 : IVec S16 32) (k1_hw344 : k1_chk344 v808), ∀ a x, ((![v808] : Fin 1 → IVec S16 32) a x).toNat < S88320.size a := fun v808 k1_hw344 => k1_hw344

def k1_chk345 (v812 : IVec S16 32) : Prop :=
  (∀ a x, ((![v812] : Fin 1 → IVec S16 32) a x).toNat < S88320.size a)
theorem k1_idx345_inb : ∀ (v812 : IVec S16 32) (k1_hw345 : k1_chk345 v812), ∀ a x, ((![v812] : Fin 1 → IVec S16 32) a x).toNat < S88320.size a := fun v812 k1_hw345 => k1_hw345

def k1_chk346 (v816 : IVec S16 32) : Prop :=
  (∀ a x, ((![v816] : Fin 1 → IVec S16 32) a x).toNat < S88320.size a)
theorem k1_idx346_inb : ∀ (v816 : IVec S16 32) (k1_hw346 : k1_chk346 v816), ∀ a x, ((![v816] : Fin 1 → IVec S16 32) a x).toNat < S88320.size a := fun v816 k1_hw346 => k1_hw346

def k1_chk347 (v820 : IVec S16 32) : Prop :=
  (∀ a x, ((![v820] : Fin 1 → IVec S16 32) a x).toNat < S88320.size a)
theorem k1_idx347_inb : ∀ (v820 : IVec S16 32) (k1_hw347 : k1_chk347 v820), ∀ a x, ((![v820] : Fin 1 → IVec S16 32) a x).toNat < S88320.size a := fun v820 k1_hw347 => k1_hw347

def k1_chk348 (v824 : IVec S16 32) : Prop :=
  (∀ a x, ((![v824] : Fin 1 → IVec S16 32) a x).toNat < S88320.size a)
theorem k1_idx348_inb : ∀ (v824 : IVec S16 32) (k1_hw348 : k1_chk348 v824), ∀ a x, ((![v824] : Fin 1 → IVec S16 32) a x).toNat < S88320.size a := fun v824 k1_hw348 => k1_hw348

def k1_chk349 (v828 : IVec S16 32) : Prop :=
  (∀ a x, ((![v828] : Fin 1 → IVec S16 32) a x).toNat < S88320.size a)
theorem k1_idx349_inb : ∀ (v828 : IVec S16 32) (k1_hw349 : k1_chk349 v828), ∀ a x, ((![v828] : Fin 1 → IVec S16 32) a x).toNat < S88320.size a := fun v828 k1_hw349 => k1_hw349

def k1_chk350 (v832 : IVec S16 32) : Prop :=
  (∀ a x, ((![v832] : Fin 1 → IVec S16 32) a x).toNat < S88320.size a)
theorem k1_idx350_inb : ∀ (v832 : IVec S16 32) (k1_hw350 : k1_chk350 v832), ∀ a x, ((![v832] : Fin 1 → IVec S16 32) a x).toNat < S88320.size a := fun v832 k1_hw350 => k1_hw350

def k1_chk351 (v836 : IVec S16 32) : Prop :=
  (∀ a x, ((![v836] : Fin 1 → IVec S16 32) a x).toNat < S88320.size a)
theorem k1_idx351_inb : ∀ (v836 : IVec S16 32) (k1_hw351 : k1_chk351 v836), ∀ a x, ((![v836] : Fin 1 → IVec S16 32) a x).toNat < S88320.size a := fun v836 k1_hw351 => k1_hw351

def k1_chk352 (v840 : IVec S16 32) : Prop :=
  (∀ a x, ((![v840] : Fin 1 → IVec S16 32) a x).toNat < S88320.size a)
theorem k1_idx352_inb : ∀ (v840 : IVec S16 32) (k1_hw352 : k1_chk352 v840), ∀ a x, ((![v840] : Fin 1 → IVec S16 32) a x).toNat < S88320.size a := fun v840 k1_hw352 => k1_hw352
def k1_off377 (i : grid1.Coords) : Fin 4 → Nat :=
  let c1_i32_275 : BitVec 32 := 1#32
  let c2_i32_276 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_277 : BitVec 32 := 0#32
  ![1, 2, v2.toNat, 0]
@[reducible] def k1_t24_loop : Scf.Loop 32 :=
  let c0_i32_284 : BitVec 32 := 0#32
  let c32_i32_285 : BitVec 32 := 32#32
  let v216 : BitVec 32 := Scalar.addi c0_i32_284 c32_i32_285
  let c1_i32_286 : BitVec 32 := 1#32
  ⟨c0_i32_284, v216, c1_i32_286⟩
def k1_off378 (k1_t24 : Fin k1_t24_loop.trips) : Fin 2 → Nat :=
  let c0_i32_1152 : BitVec 32 := 0#32
  let v778 : Index := Scalar.indexCast c0_i32_1152
  let c0_i32_284 : BitVec 32 := 0#32
  let c1_i32_286 : BitVec 32 := 1#32
  let arg9 : BitVec 32 := Scf.iv c0_i32_284 c1_i32_286 k1_t24
  let c16_i32_1151 : BitVec 32 := 16#32
  let v777 : BitVec 32 := Scalar.muli arg9 c16_i32_1151
  let v779 : Index := Scalar.indexCast v777
  ![0, v779.toNat]
def k1_off379 (k1_t24 : Fin k1_t24_loop.trips) : Fin 2 → Nat :=
  let c1_i32_1154 : BitVec 32 := 1#32
  let v782 : Index := Scalar.indexCast c1_i32_1154
  let c0_i32_284 : BitVec 32 := 0#32
  let c1_i32_286 : BitVec 32 := 1#32
  let arg9 : BitVec 32 := Scf.iv c0_i32_284 c1_i32_286 k1_t24
  let c16_i32_1153 : BitVec 32 := 16#32
  let v781 : BitVec 32 := Scalar.muli arg9 c16_i32_1153
  let v783 : Index := Scalar.indexCast v781
  ![1, v783.toNat]
def k1_off380 (k1_t24 : Fin k1_t24_loop.trips) : Fin 2 → Nat :=
  let c2_i32_1156 : BitVec 32 := 2#32
  let v786 : Index := Scalar.indexCast c2_i32_1156
  let c0_i32_284 : BitVec 32 := 0#32
  let c1_i32_286 : BitVec 32 := 1#32
  let arg9 : BitVec 32 := Scf.iv c0_i32_284 c1_i32_286 k1_t24
  let c16_i32_1155 : BitVec 32 := 16#32
  let v785 : BitVec 32 := Scalar.muli arg9 c16_i32_1155
  let v787 : Index := Scalar.indexCast v785
  ![2, v787.toNat]
def k1_off381 (k1_t24 : Fin k1_t24_loop.trips) : Fin 2 → Nat :=
  let c3_i32_1158 : BitVec 32 := 3#32
  let v790 : Index := Scalar.indexCast c3_i32_1158
  let c0_i32_284 : BitVec 32 := 0#32
  let c1_i32_286 : BitVec 32 := 1#32
  let arg9 : BitVec 32 := Scf.iv c0_i32_284 c1_i32_286 k1_t24
  let c16_i32_1157 : BitVec 32 := 16#32
  let v789 : BitVec 32 := Scalar.muli arg9 c16_i32_1157
  let v791 : Index := Scalar.indexCast v789
  ![3, v791.toNat]
def k1_off382 (k1_t24 : Fin k1_t24_loop.trips) : Fin 2 → Nat :=
  let c4_i32_1160 : BitVec 32 := 4#32
  let v794 : Index := Scalar.indexCast c4_i32_1160
  let c0_i32_284 : BitVec 32 := 0#32
  let c1_i32_286 : BitVec 32 := 1#32
  let arg9 : BitVec 32 := Scf.iv c0_i32_284 c1_i32_286 k1_t24
  let c16_i32_1159 : BitVec 32 := 16#32
  let v793 : BitVec 32 := Scalar.muli arg9 c16_i32_1159
  let v795 : Index := Scalar.indexCast v793
  ![4, v795.toNat]
def k1_off383 (k1_t24 : Fin k1_t24_loop.trips) : Fin 2 → Nat :=
  let c5_i32_1162 : BitVec 32 := 5#32
  let v798 : Index := Scalar.indexCast c5_i32_1162
  let c0_i32_284 : BitVec 32 := 0#32
  let c1_i32_286 : BitVec 32 := 1#32
  let arg9 : BitVec 32 := Scf.iv c0_i32_284 c1_i32_286 k1_t24
  let c16_i32_1161 : BitVec 32 := 16#32
  let v797 : BitVec 32 := Scalar.muli arg9 c16_i32_1161
  let v799 : Index := Scalar.indexCast v797
  ![5, v799.toNat]
def k1_off384 (k1_t24 : Fin k1_t24_loop.trips) : Fin 2 → Nat :=
  let c6_i32_1164 : BitVec 32 := 6#32
  let v802 : Index := Scalar.indexCast c6_i32_1164
  let c0_i32_284 : BitVec 32 := 0#32
  let c1_i32_286 : BitVec 32 := 1#32
  let arg9 : BitVec 32 := Scf.iv c0_i32_284 c1_i32_286 k1_t24
  let c16_i32_1163 : BitVec 32 := 16#32
  let v801 : BitVec 32 := Scalar.muli arg9 c16_i32_1163
  let v803 : Index := Scalar.indexCast v801
  ![6, v803.toNat]
def k1_off385 (k1_t24 : Fin k1_t24_loop.trips) : Fin 2 → Nat :=
  let c7_i32_1166 : BitVec 32 := 7#32
  let v806 : Index := Scalar.indexCast c7_i32_1166
  let c0_i32_284 : BitVec 32 := 0#32
  let c1_i32_286 : BitVec 32 := 1#32
  let arg9 : BitVec 32 := Scf.iv c0_i32_284 c1_i32_286 k1_t24
  let c16_i32_1165 : BitVec 32 := 16#32
  let v805 : BitVec 32 := Scalar.muli arg9 c16_i32_1165
  let v807 : Index := Scalar.indexCast v805
  ![7, v807.toNat]
def k1_off386 (k1_t24 : Fin k1_t24_loop.trips) : Fin 2 → Nat :=
  let c8_i32_1168 : BitVec 32 := 8#32
  let v810 : Index := Scalar.indexCast c8_i32_1168
  let c0_i32_284 : BitVec 32 := 0#32
  let c1_i32_286 : BitVec 32 := 1#32
  let arg9 : BitVec 32 := Scf.iv c0_i32_284 c1_i32_286 k1_t24
  let c16_i32_1167 : BitVec 32 := 16#32
  let v809 : BitVec 32 := Scalar.muli arg9 c16_i32_1167
  let v811 : Index := Scalar.indexCast v809
  ![8, v811.toNat]
def k1_off387 (k1_t24 : Fin k1_t24_loop.trips) : Fin 2 → Nat :=
  let c9_i32_1170 : BitVec 32 := 9#32
  let v814 : Index := Scalar.indexCast c9_i32_1170
  let c0_i32_284 : BitVec 32 := 0#32
  let c1_i32_286 : BitVec 32 := 1#32
  let arg9 : BitVec 32 := Scf.iv c0_i32_284 c1_i32_286 k1_t24
  let c16_i32_1169 : BitVec 32 := 16#32
  let v813 : BitVec 32 := Scalar.muli arg9 c16_i32_1169
  let v815 : Index := Scalar.indexCast v813
  ![9, v815.toNat]
def k1_off388 (k1_t24 : Fin k1_t24_loop.trips) : Fin 2 → Nat :=
  let c10_i32_1172 : BitVec 32 := 10#32
  let v818 : Index := Scalar.indexCast c10_i32_1172
  let c0_i32_284 : BitVec 32 := 0#32
  let c1_i32_286 : BitVec 32 := 1#32
  let arg9 : BitVec 32 := Scf.iv c0_i32_284 c1_i32_286 k1_t24
  let c16_i32_1171 : BitVec 32 := 16#32
  let v817 : BitVec 32 := Scalar.muli arg9 c16_i32_1171
  let v819 : Index := Scalar.indexCast v817
  ![10, v819.toNat]
def k1_off389 (k1_t24 : Fin k1_t24_loop.trips) : Fin 2 → Nat :=
  let c11_i32_1174 : BitVec 32 := 11#32
  let v822 : Index := Scalar.indexCast c11_i32_1174
  let c0_i32_284 : BitVec 32 := 0#32
  let c1_i32_286 : BitVec 32 := 1#32
  let arg9 : BitVec 32 := Scf.iv c0_i32_284 c1_i32_286 k1_t24
  let c16_i32_1173 : BitVec 32 := 16#32
  let v821 : BitVec 32 := Scalar.muli arg9 c16_i32_1173
  let v823 : Index := Scalar.indexCast v821
  ![11, v823.toNat]
def k1_off390 (k1_t24 : Fin k1_t24_loop.trips) : Fin 2 → Nat :=
  let c12_i32_1176 : BitVec 32 := 12#32
  let v826 : Index := Scalar.indexCast c12_i32_1176
  let c0_i32_284 : BitVec 32 := 0#32
  let c1_i32_286 : BitVec 32 := 1#32
  let arg9 : BitVec 32 := Scf.iv c0_i32_284 c1_i32_286 k1_t24
  let c16_i32_1175 : BitVec 32 := 16#32
  let v825 : BitVec 32 := Scalar.muli arg9 c16_i32_1175
  let v827 : Index := Scalar.indexCast v825
  ![12, v827.toNat]
def k1_off391 (k1_t24 : Fin k1_t24_loop.trips) : Fin 2 → Nat :=
  let c13_i32_1178 : BitVec 32 := 13#32
  let v830 : Index := Scalar.indexCast c13_i32_1178
  let c0_i32_284 : BitVec 32 := 0#32
  let c1_i32_286 : BitVec 32 := 1#32
  let arg9 : BitVec 32 := Scf.iv c0_i32_284 c1_i32_286 k1_t24
  let c16_i32_1177 : BitVec 32 := 16#32
  let v829 : BitVec 32 := Scalar.muli arg9 c16_i32_1177
  let v831 : Index := Scalar.indexCast v829
  ![13, v831.toNat]
def k1_off392 (k1_t24 : Fin k1_t24_loop.trips) : Fin 2 → Nat :=
  let c14_i32_1180 : BitVec 32 := 14#32
  let v834 : Index := Scalar.indexCast c14_i32_1180
  let c0_i32_284 : BitVec 32 := 0#32
  let c1_i32_286 : BitVec 32 := 1#32
  let arg9 : BitVec 32 := Scf.iv c0_i32_284 c1_i32_286 k1_t24
  let c16_i32_1179 : BitVec 32 := 16#32
  let v833 : BitVec 32 := Scalar.muli arg9 c16_i32_1179
  let v835 : Index := Scalar.indexCast v833
  ![14, v835.toNat]
def k1_off393 (k1_t24 : Fin k1_t24_loop.trips) : Fin 2 → Nat :=
  let c15_i32_1182 : BitVec 32 := 15#32
  let v838 : Index := Scalar.indexCast c15_i32_1182
  let c0_i32_284 : BitVec 32 := 0#32
  let c1_i32_286 : BitVec 32 := 1#32
  let arg9 : BitVec 32 := Scf.iv c0_i32_284 c1_i32_286 k1_t24
  let c16_i32_1181 : BitVec 32 := 16#32
  let v837 : BitVec 32 := Scalar.muli arg9 c16_i32_1181
  let v839 : Index := Scalar.indexCast v837
  ![15, v839.toNat]

def k1_chk353 (v780 : IVec S16 32) : Prop :=
  (∀ a x, ((![v780] : Fin 1 → IVec S16 32) a x).toNat < S88320.size a)
theorem k1_idx353_inb : ∀ (v780 : IVec S16 32) (k1_hw353 : k1_chk353 v780), ∀ a x, ((![v780] : Fin 1 → IVec S16 32) a x).toNat < S88320.size a := fun v780 k1_hw353 => k1_hw353

def k1_chk354 (v784 : IVec S16 32) : Prop :=
  (∀ a x, ((![v784] : Fin 1 → IVec S16 32) a x).toNat < S88320.size a)
theorem k1_idx354_inb : ∀ (v784 : IVec S16 32) (k1_hw354 : k1_chk354 v784), ∀ a x, ((![v784] : Fin 1 → IVec S16 32) a x).toNat < S88320.size a := fun v784 k1_hw354 => k1_hw354

def k1_chk355 (v788 : IVec S16 32) : Prop :=
  (∀ a x, ((![v788] : Fin 1 → IVec S16 32) a x).toNat < S88320.size a)
theorem k1_idx355_inb : ∀ (v788 : IVec S16 32) (k1_hw355 : k1_chk355 v788), ∀ a x, ((![v788] : Fin 1 → IVec S16 32) a x).toNat < S88320.size a := fun v788 k1_hw355 => k1_hw355

def k1_chk356 (v792 : IVec S16 32) : Prop :=
  (∀ a x, ((![v792] : Fin 1 → IVec S16 32) a x).toNat < S88320.size a)
theorem k1_idx356_inb : ∀ (v792 : IVec S16 32) (k1_hw356 : k1_chk356 v792), ∀ a x, ((![v792] : Fin 1 → IVec S16 32) a x).toNat < S88320.size a := fun v792 k1_hw356 => k1_hw356

def k1_chk357 (v796 : IVec S16 32) : Prop :=
  (∀ a x, ((![v796] : Fin 1 → IVec S16 32) a x).toNat < S88320.size a)
theorem k1_idx357_inb : ∀ (v796 : IVec S16 32) (k1_hw357 : k1_chk357 v796), ∀ a x, ((![v796] : Fin 1 → IVec S16 32) a x).toNat < S88320.size a := fun v796 k1_hw357 => k1_hw357

def k1_chk358 (v800 : IVec S16 32) : Prop :=
  (∀ a x, ((![v800] : Fin 1 → IVec S16 32) a x).toNat < S88320.size a)
theorem k1_idx358_inb : ∀ (v800 : IVec S16 32) (k1_hw358 : k1_chk358 v800), ∀ a x, ((![v800] : Fin 1 → IVec S16 32) a x).toNat < S88320.size a := fun v800 k1_hw358 => k1_hw358

def k1_chk359 (v804 : IVec S16 32) : Prop :=
  (∀ a x, ((![v804] : Fin 1 → IVec S16 32) a x).toNat < S88320.size a)
theorem k1_idx359_inb : ∀ (v804 : IVec S16 32) (k1_hw359 : k1_chk359 v804), ∀ a x, ((![v804] : Fin 1 → IVec S16 32) a x).toNat < S88320.size a := fun v804 k1_hw359 => k1_hw359

def k1_chk360 (v808 : IVec S16 32) : Prop :=
  (∀ a x, ((![v808] : Fin 1 → IVec S16 32) a x).toNat < S88320.size a)
theorem k1_idx360_inb : ∀ (v808 : IVec S16 32) (k1_hw360 : k1_chk360 v808), ∀ a x, ((![v808] : Fin 1 → IVec S16 32) a x).toNat < S88320.size a := fun v808 k1_hw360 => k1_hw360

def k1_chk361 (v812 : IVec S16 32) : Prop :=
  (∀ a x, ((![v812] : Fin 1 → IVec S16 32) a x).toNat < S88320.size a)
theorem k1_idx361_inb : ∀ (v812 : IVec S16 32) (k1_hw361 : k1_chk361 v812), ∀ a x, ((![v812] : Fin 1 → IVec S16 32) a x).toNat < S88320.size a := fun v812 k1_hw361 => k1_hw361

def k1_chk362 (v816 : IVec S16 32) : Prop :=
  (∀ a x, ((![v816] : Fin 1 → IVec S16 32) a x).toNat < S88320.size a)
theorem k1_idx362_inb : ∀ (v816 : IVec S16 32) (k1_hw362 : k1_chk362 v816), ∀ a x, ((![v816] : Fin 1 → IVec S16 32) a x).toNat < S88320.size a := fun v816 k1_hw362 => k1_hw362

def k1_chk363 (v820 : IVec S16 32) : Prop :=
  (∀ a x, ((![v820] : Fin 1 → IVec S16 32) a x).toNat < S88320.size a)
theorem k1_idx363_inb : ∀ (v820 : IVec S16 32) (k1_hw363 : k1_chk363 v820), ∀ a x, ((![v820] : Fin 1 → IVec S16 32) a x).toNat < S88320.size a := fun v820 k1_hw363 => k1_hw363

def k1_chk364 (v824 : IVec S16 32) : Prop :=
  (∀ a x, ((![v824] : Fin 1 → IVec S16 32) a x).toNat < S88320.size a)
theorem k1_idx364_inb : ∀ (v824 : IVec S16 32) (k1_hw364 : k1_chk364 v824), ∀ a x, ((![v824] : Fin 1 → IVec S16 32) a x).toNat < S88320.size a := fun v824 k1_hw364 => k1_hw364

def k1_chk365 (v828 : IVec S16 32) : Prop :=
  (∀ a x, ((![v828] : Fin 1 → IVec S16 32) a x).toNat < S88320.size a)
theorem k1_idx365_inb : ∀ (v828 : IVec S16 32) (k1_hw365 : k1_chk365 v828), ∀ a x, ((![v828] : Fin 1 → IVec S16 32) a x).toNat < S88320.size a := fun v828 k1_hw365 => k1_hw365

def k1_chk366 (v832 : IVec S16 32) : Prop :=
  (∀ a x, ((![v832] : Fin 1 → IVec S16 32) a x).toNat < S88320.size a)
theorem k1_idx366_inb : ∀ (v832 : IVec S16 32) (k1_hw366 : k1_chk366 v832), ∀ a x, ((![v832] : Fin 1 → IVec S16 32) a x).toNat < S88320.size a := fun v832 k1_hw366 => k1_hw366

def k1_chk367 (v836 : IVec S16 32) : Prop :=
  (∀ a x, ((![v836] : Fin 1 → IVec S16 32) a x).toNat < S88320.size a)
theorem k1_idx367_inb : ∀ (v836 : IVec S16 32) (k1_hw367 : k1_chk367 v836), ∀ a x, ((![v836] : Fin 1 → IVec S16 32) a x).toNat < S88320.size a := fun v836 k1_hw367 => k1_hw367

def k1_chk368 (v840 : IVec S16 32) : Prop :=
  (∀ a x, ((![v840] : Fin 1 → IVec S16 32) a x).toNat < S88320.size a)
theorem k1_idx368_inb : ∀ (v840 : IVec S16 32) (k1_hw368 : k1_chk368 v840), ∀ a x, ((![v840] : Fin 1 → IVec S16 32) a x).toNat < S88320.size a := fun v840 k1_hw368 => k1_hw368
def k1_off394 (i : grid1.Coords) : Fin 4 → Nat :=
  let c1_i32_288 : BitVec 32 := 1#32
  let c3_i32_289 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_290 : BitVec 32 := 0#32
  ![1, 3, v2.toNat, 0]
@[reducible] def k1_t25_loop : Scf.Loop 32 :=
  let c0_i32_297 : BitVec 32 := 0#32
  let c32_i32_298 : BitVec 32 := 32#32
  let v225 : BitVec 32 := Scalar.addi c0_i32_297 c32_i32_298
  let c1_i32_299 : BitVec 32 := 1#32
  ⟨c0_i32_297, v225, c1_i32_299⟩
def k1_off395 (k1_t25 : Fin k1_t25_loop.trips) : Fin 2 → Nat :=
  let c0_i32_1152 : BitVec 32 := 0#32
  let v778 : Index := Scalar.indexCast c0_i32_1152
  let c0_i32_297 : BitVec 32 := 0#32
  let c1_i32_299 : BitVec 32 := 1#32
  let arg9 : BitVec 32 := Scf.iv c0_i32_297 c1_i32_299 k1_t25
  let c16_i32_1151 : BitVec 32 := 16#32
  let v777 : BitVec 32 := Scalar.muli arg9 c16_i32_1151
  let v779 : Index := Scalar.indexCast v777
  ![0, v779.toNat]
def k1_off396 (k1_t25 : Fin k1_t25_loop.trips) : Fin 2 → Nat :=
  let c1_i32_1154 : BitVec 32 := 1#32
  let v782 : Index := Scalar.indexCast c1_i32_1154
  let c0_i32_297 : BitVec 32 := 0#32
  let c1_i32_299 : BitVec 32 := 1#32
  let arg9 : BitVec 32 := Scf.iv c0_i32_297 c1_i32_299 k1_t25
  let c16_i32_1153 : BitVec 32 := 16#32
  let v781 : BitVec 32 := Scalar.muli arg9 c16_i32_1153
  let v783 : Index := Scalar.indexCast v781
  ![1, v783.toNat]
def k1_off397 (k1_t25 : Fin k1_t25_loop.trips) : Fin 2 → Nat :=
  let c2_i32_1156 : BitVec 32 := 2#32
  let v786 : Index := Scalar.indexCast c2_i32_1156
  let c0_i32_297 : BitVec 32 := 0#32
  let c1_i32_299 : BitVec 32 := 1#32
  let arg9 : BitVec 32 := Scf.iv c0_i32_297 c1_i32_299 k1_t25
  let c16_i32_1155 : BitVec 32 := 16#32
  let v785 : BitVec 32 := Scalar.muli arg9 c16_i32_1155
  let v787 : Index := Scalar.indexCast v785
  ![2, v787.toNat]
def k1_off398 (k1_t25 : Fin k1_t25_loop.trips) : Fin 2 → Nat :=
  let c3_i32_1158 : BitVec 32 := 3#32
  let v790 : Index := Scalar.indexCast c3_i32_1158
  let c0_i32_297 : BitVec 32 := 0#32
  let c1_i32_299 : BitVec 32 := 1#32
  let arg9 : BitVec 32 := Scf.iv c0_i32_297 c1_i32_299 k1_t25
  let c16_i32_1157 : BitVec 32 := 16#32
  let v789 : BitVec 32 := Scalar.muli arg9 c16_i32_1157
  let v791 : Index := Scalar.indexCast v789
  ![3, v791.toNat]
def k1_off399 (k1_t25 : Fin k1_t25_loop.trips) : Fin 2 → Nat :=
  let c4_i32_1160 : BitVec 32 := 4#32
  let v794 : Index := Scalar.indexCast c4_i32_1160
  let c0_i32_297 : BitVec 32 := 0#32
  let c1_i32_299 : BitVec 32 := 1#32
  let arg9 : BitVec 32 := Scf.iv c0_i32_297 c1_i32_299 k1_t25
  let c16_i32_1159 : BitVec 32 := 16#32
  let v793 : BitVec 32 := Scalar.muli arg9 c16_i32_1159
  let v795 : Index := Scalar.indexCast v793
  ![4, v795.toNat]
def k1_off400 (k1_t25 : Fin k1_t25_loop.trips) : Fin 2 → Nat :=
  let c5_i32_1162 : BitVec 32 := 5#32
  let v798 : Index := Scalar.indexCast c5_i32_1162
  let c0_i32_297 : BitVec 32 := 0#32
  let c1_i32_299 : BitVec 32 := 1#32
  let arg9 : BitVec 32 := Scf.iv c0_i32_297 c1_i32_299 k1_t25
  let c16_i32_1161 : BitVec 32 := 16#32
  let v797 : BitVec 32 := Scalar.muli arg9 c16_i32_1161
  let v799 : Index := Scalar.indexCast v797
  ![5, v799.toNat]
def k1_off401 (k1_t25 : Fin k1_t25_loop.trips) : Fin 2 → Nat :=
  let c6_i32_1164 : BitVec 32 := 6#32
  let v802 : Index := Scalar.indexCast c6_i32_1164
  let c0_i32_297 : BitVec 32 := 0#32
  let c1_i32_299 : BitVec 32 := 1#32
  let arg9 : BitVec 32 := Scf.iv c0_i32_297 c1_i32_299 k1_t25
  let c16_i32_1163 : BitVec 32 := 16#32
  let v801 : BitVec 32 := Scalar.muli arg9 c16_i32_1163
  let v803 : Index := Scalar.indexCast v801
  ![6, v803.toNat]
def k1_off402 (k1_t25 : Fin k1_t25_loop.trips) : Fin 2 → Nat :=
  let c7_i32_1166 : BitVec 32 := 7#32
  let v806 : Index := Scalar.indexCast c7_i32_1166
  let c0_i32_297 : BitVec 32 := 0#32
  let c1_i32_299 : BitVec 32 := 1#32
  let arg9 : BitVec 32 := Scf.iv c0_i32_297 c1_i32_299 k1_t25
  let c16_i32_1165 : BitVec 32 := 16#32
  let v805 : BitVec 32 := Scalar.muli arg9 c16_i32_1165
  let v807 : Index := Scalar.indexCast v805
  ![7, v807.toNat]
def k1_off403 (k1_t25 : Fin k1_t25_loop.trips) : Fin 2 → Nat :=
  let c8_i32_1168 : BitVec 32 := 8#32
  let v810 : Index := Scalar.indexCast c8_i32_1168
  let c0_i32_297 : BitVec 32 := 0#32
  let c1_i32_299 : BitVec 32 := 1#32
  let arg9 : BitVec 32 := Scf.iv c0_i32_297 c1_i32_299 k1_t25
  let c16_i32_1167 : BitVec 32 := 16#32
  let v809 : BitVec 32 := Scalar.muli arg9 c16_i32_1167
  let v811 : Index := Scalar.indexCast v809
  ![8, v811.toNat]
def k1_off404 (k1_t25 : Fin k1_t25_loop.trips) : Fin 2 → Nat :=
  let c9_i32_1170 : BitVec 32 := 9#32
  let v814 : Index := Scalar.indexCast c9_i32_1170
  let c0_i32_297 : BitVec 32 := 0#32
  let c1_i32_299 : BitVec 32 := 1#32
  let arg9 : BitVec 32 := Scf.iv c0_i32_297 c1_i32_299 k1_t25
  let c16_i32_1169 : BitVec 32 := 16#32
  let v813 : BitVec 32 := Scalar.muli arg9 c16_i32_1169
  let v815 : Index := Scalar.indexCast v813
  ![9, v815.toNat]
def k1_off405 (k1_t25 : Fin k1_t25_loop.trips) : Fin 2 → Nat :=
  let c10_i32_1172 : BitVec 32 := 10#32
  let v818 : Index := Scalar.indexCast c10_i32_1172
  let c0_i32_297 : BitVec 32 := 0#32
  let c1_i32_299 : BitVec 32 := 1#32
  let arg9 : BitVec 32 := Scf.iv c0_i32_297 c1_i32_299 k1_t25
  let c16_i32_1171 : BitVec 32 := 16#32
  let v817 : BitVec 32 := Scalar.muli arg9 c16_i32_1171
  let v819 : Index := Scalar.indexCast v817
  ![10, v819.toNat]
def k1_off406 (k1_t25 : Fin k1_t25_loop.trips) : Fin 2 → Nat :=
  let c11_i32_1174 : BitVec 32 := 11#32
  let v822 : Index := Scalar.indexCast c11_i32_1174
  let c0_i32_297 : BitVec 32 := 0#32
  let c1_i32_299 : BitVec 32 := 1#32
  let arg9 : BitVec 32 := Scf.iv c0_i32_297 c1_i32_299 k1_t25
  let c16_i32_1173 : BitVec 32 := 16#32
  let v821 : BitVec 32 := Scalar.muli arg9 c16_i32_1173
  let v823 : Index := Scalar.indexCast v821
  ![11, v823.toNat]
def k1_off407 (k1_t25 : Fin k1_t25_loop.trips) : Fin 2 → Nat :=
  let c12_i32_1176 : BitVec 32 := 12#32
  let v826 : Index := Scalar.indexCast c12_i32_1176
  let c0_i32_297 : BitVec 32 := 0#32
  let c1_i32_299 : BitVec 32 := 1#32
  let arg9 : BitVec 32 := Scf.iv c0_i32_297 c1_i32_299 k1_t25
  let c16_i32_1175 : BitVec 32 := 16#32
  let v825 : BitVec 32 := Scalar.muli arg9 c16_i32_1175
  let v827 : Index := Scalar.indexCast v825
  ![12, v827.toNat]
def k1_off408 (k1_t25 : Fin k1_t25_loop.trips) : Fin 2 → Nat :=
  let c13_i32_1178 : BitVec 32 := 13#32
  let v830 : Index := Scalar.indexCast c13_i32_1178
  let c0_i32_297 : BitVec 32 := 0#32
  let c1_i32_299 : BitVec 32 := 1#32
  let arg9 : BitVec 32 := Scf.iv c0_i32_297 c1_i32_299 k1_t25
  let c16_i32_1177 : BitVec 32 := 16#32
  let v829 : BitVec 32 := Scalar.muli arg9 c16_i32_1177
  let v831 : Index := Scalar.indexCast v829
  ![13, v831.toNat]
def k1_off409 (k1_t25 : Fin k1_t25_loop.trips) : Fin 2 → Nat :=
  let c14_i32_1180 : BitVec 32 := 14#32
  let v834 : Index := Scalar.indexCast c14_i32_1180
  let c0_i32_297 : BitVec 32 := 0#32
  let c1_i32_299 : BitVec 32 := 1#32
  let arg9 : BitVec 32 := Scf.iv c0_i32_297 c1_i32_299 k1_t25
  let c16_i32_1179 : BitVec 32 := 16#32
  let v833 : BitVec 32 := Scalar.muli arg9 c16_i32_1179
  let v835 : Index := Scalar.indexCast v833
  ![14, v835.toNat]
def k1_off410 (k1_t25 : Fin k1_t25_loop.trips) : Fin 2 → Nat :=
  let c15_i32_1182 : BitVec 32 := 15#32
  let v838 : Index := Scalar.indexCast c15_i32_1182
  let c0_i32_297 : BitVec 32 := 0#32
  let c1_i32_299 : BitVec 32 := 1#32
  let arg9 : BitVec 32 := Scf.iv c0_i32_297 c1_i32_299 k1_t25
  let c16_i32_1181 : BitVec 32 := 16#32
  let v837 : BitVec 32 := Scalar.muli arg9 c16_i32_1181
  let v839 : Index := Scalar.indexCast v837
  ![15, v839.toNat]

def k1_chk369 (v780 : IVec S16 32) : Prop :=
  (∀ a x, ((![v780] : Fin 1 → IVec S16 32) a x).toNat < S88320.size a)
theorem k1_idx369_inb : ∀ (v780 : IVec S16 32) (k1_hw369 : k1_chk369 v780), ∀ a x, ((![v780] : Fin 1 → IVec S16 32) a x).toNat < S88320.size a := fun v780 k1_hw369 => k1_hw369

def k1_chk370 (v784 : IVec S16 32) : Prop :=
  (∀ a x, ((![v784] : Fin 1 → IVec S16 32) a x).toNat < S88320.size a)
theorem k1_idx370_inb : ∀ (v784 : IVec S16 32) (k1_hw370 : k1_chk370 v784), ∀ a x, ((![v784] : Fin 1 → IVec S16 32) a x).toNat < S88320.size a := fun v784 k1_hw370 => k1_hw370

def k1_chk371 (v788 : IVec S16 32) : Prop :=
  (∀ a x, ((![v788] : Fin 1 → IVec S16 32) a x).toNat < S88320.size a)
theorem k1_idx371_inb : ∀ (v788 : IVec S16 32) (k1_hw371 : k1_chk371 v788), ∀ a x, ((![v788] : Fin 1 → IVec S16 32) a x).toNat < S88320.size a := fun v788 k1_hw371 => k1_hw371

def k1_chk372 (v792 : IVec S16 32) : Prop :=
  (∀ a x, ((![v792] : Fin 1 → IVec S16 32) a x).toNat < S88320.size a)
theorem k1_idx372_inb : ∀ (v792 : IVec S16 32) (k1_hw372 : k1_chk372 v792), ∀ a x, ((![v792] : Fin 1 → IVec S16 32) a x).toNat < S88320.size a := fun v792 k1_hw372 => k1_hw372

def k1_chk373 (v796 : IVec S16 32) : Prop :=
  (∀ a x, ((![v796] : Fin 1 → IVec S16 32) a x).toNat < S88320.size a)
theorem k1_idx373_inb : ∀ (v796 : IVec S16 32) (k1_hw373 : k1_chk373 v796), ∀ a x, ((![v796] : Fin 1 → IVec S16 32) a x).toNat < S88320.size a := fun v796 k1_hw373 => k1_hw373

def k1_chk374 (v800 : IVec S16 32) : Prop :=
  (∀ a x, ((![v800] : Fin 1 → IVec S16 32) a x).toNat < S88320.size a)
theorem k1_idx374_inb : ∀ (v800 : IVec S16 32) (k1_hw374 : k1_chk374 v800), ∀ a x, ((![v800] : Fin 1 → IVec S16 32) a x).toNat < S88320.size a := fun v800 k1_hw374 => k1_hw374

def k1_chk375 (v804 : IVec S16 32) : Prop :=
  (∀ a x, ((![v804] : Fin 1 → IVec S16 32) a x).toNat < S88320.size a)
theorem k1_idx375_inb : ∀ (v804 : IVec S16 32) (k1_hw375 : k1_chk375 v804), ∀ a x, ((![v804] : Fin 1 → IVec S16 32) a x).toNat < S88320.size a := fun v804 k1_hw375 => k1_hw375

def k1_chk376 (v808 : IVec S16 32) : Prop :=
  (∀ a x, ((![v808] : Fin 1 → IVec S16 32) a x).toNat < S88320.size a)
theorem k1_idx376_inb : ∀ (v808 : IVec S16 32) (k1_hw376 : k1_chk376 v808), ∀ a x, ((![v808] : Fin 1 → IVec S16 32) a x).toNat < S88320.size a := fun v808 k1_hw376 => k1_hw376

def k1_chk377 (v812 : IVec S16 32) : Prop :=
  (∀ a x, ((![v812] : Fin 1 → IVec S16 32) a x).toNat < S88320.size a)
theorem k1_idx377_inb : ∀ (v812 : IVec S16 32) (k1_hw377 : k1_chk377 v812), ∀ a x, ((![v812] : Fin 1 → IVec S16 32) a x).toNat < S88320.size a := fun v812 k1_hw377 => k1_hw377

def k1_chk378 (v816 : IVec S16 32) : Prop :=
  (∀ a x, ((![v816] : Fin 1 → IVec S16 32) a x).toNat < S88320.size a)
theorem k1_idx378_inb : ∀ (v816 : IVec S16 32) (k1_hw378 : k1_chk378 v816), ∀ a x, ((![v816] : Fin 1 → IVec S16 32) a x).toNat < S88320.size a := fun v816 k1_hw378 => k1_hw378

def k1_chk379 (v820 : IVec S16 32) : Prop :=
  (∀ a x, ((![v820] : Fin 1 → IVec S16 32) a x).toNat < S88320.size a)
theorem k1_idx379_inb : ∀ (v820 : IVec S16 32) (k1_hw379 : k1_chk379 v820), ∀ a x, ((![v820] : Fin 1 → IVec S16 32) a x).toNat < S88320.size a := fun v820 k1_hw379 => k1_hw379

def k1_chk380 (v824 : IVec S16 32) : Prop :=
  (∀ a x, ((![v824] : Fin 1 → IVec S16 32) a x).toNat < S88320.size a)
theorem k1_idx380_inb : ∀ (v824 : IVec S16 32) (k1_hw380 : k1_chk380 v824), ∀ a x, ((![v824] : Fin 1 → IVec S16 32) a x).toNat < S88320.size a := fun v824 k1_hw380 => k1_hw380

def k1_chk381 (v828 : IVec S16 32) : Prop :=
  (∀ a x, ((![v828] : Fin 1 → IVec S16 32) a x).toNat < S88320.size a)
theorem k1_idx381_inb : ∀ (v828 : IVec S16 32) (k1_hw381 : k1_chk381 v828), ∀ a x, ((![v828] : Fin 1 → IVec S16 32) a x).toNat < S88320.size a := fun v828 k1_hw381 => k1_hw381

def k1_chk382 (v832 : IVec S16 32) : Prop :=
  (∀ a x, ((![v832] : Fin 1 → IVec S16 32) a x).toNat < S88320.size a)
theorem k1_idx382_inb : ∀ (v832 : IVec S16 32) (k1_hw382 : k1_chk382 v832), ∀ a x, ((![v832] : Fin 1 → IVec S16 32) a x).toNat < S88320.size a := fun v832 k1_hw382 => k1_hw382

def k1_chk383 (v836 : IVec S16 32) : Prop :=
  (∀ a x, ((![v836] : Fin 1 → IVec S16 32) a x).toNat < S88320.size a)
theorem k1_idx383_inb : ∀ (v836 : IVec S16 32) (k1_hw383 : k1_chk383 v836), ∀ a x, ((![v836] : Fin 1 → IVec S16 32) a x).toNat < S88320.size a := fun v836 k1_hw383 => k1_hw383

def k1_chk384 (v840 : IVec S16 32) : Prop :=
  (∀ a x, ((![v840] : Fin 1 → IVec S16 32) a x).toNat < S88320.size a)
theorem k1_idx384_inb : ∀ (v840 : IVec S16 32) (k1_hw384 : k1_chk384 v840), ∀ a x, ((![v840] : Fin 1 → IVec S16 32) a x).toNat < S88320.size a := fun v840 k1_hw384 => k1_hw384
def k1_off411 (i : grid1.Coords) : Fin 4 → Nat :=
  let c1_i32_301 : BitVec 32 := 1#32
  let c4_i32_302 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_303 : BitVec 32 := 0#32
  ![1, 4, v2.toNat, 0]
@[reducible] def k1_t26_loop : Scf.Loop 32 :=
  let c0_i32_310 : BitVec 32 := 0#32
  let c32_i32_311 : BitVec 32 := 32#32
  let v234 : BitVec 32 := Scalar.addi c0_i32_310 c32_i32_311
  let c1_i32_312 : BitVec 32 := 1#32
  ⟨c0_i32_310, v234, c1_i32_312⟩
def k1_off412 (k1_t26 : Fin k1_t26_loop.trips) : Fin 2 → Nat :=
  let c0_i32_1152 : BitVec 32 := 0#32
  let v778 : Index := Scalar.indexCast c0_i32_1152
  let c0_i32_310 : BitVec 32 := 0#32
  let c1_i32_312 : BitVec 32 := 1#32
  let arg9 : BitVec 32 := Scf.iv c0_i32_310 c1_i32_312 k1_t26
  let c16_i32_1151 : BitVec 32 := 16#32
  let v777 : BitVec 32 := Scalar.muli arg9 c16_i32_1151
  let v779 : Index := Scalar.indexCast v777
  ![0, v779.toNat]
def k1_off413 (k1_t26 : Fin k1_t26_loop.trips) : Fin 2 → Nat :=
  let c1_i32_1154 : BitVec 32 := 1#32
  let v782 : Index := Scalar.indexCast c1_i32_1154
  let c0_i32_310 : BitVec 32 := 0#32
  let c1_i32_312 : BitVec 32 := 1#32
  let arg9 : BitVec 32 := Scf.iv c0_i32_310 c1_i32_312 k1_t26
  let c16_i32_1153 : BitVec 32 := 16#32
  let v781 : BitVec 32 := Scalar.muli arg9 c16_i32_1153
  let v783 : Index := Scalar.indexCast v781
  ![1, v783.toNat]
def k1_off414 (k1_t26 : Fin k1_t26_loop.trips) : Fin 2 → Nat :=
  let c2_i32_1156 : BitVec 32 := 2#32
  let v786 : Index := Scalar.indexCast c2_i32_1156
  let c0_i32_310 : BitVec 32 := 0#32
  let c1_i32_312 : BitVec 32 := 1#32
  let arg9 : BitVec 32 := Scf.iv c0_i32_310 c1_i32_312 k1_t26
  let c16_i32_1155 : BitVec 32 := 16#32
  let v785 : BitVec 32 := Scalar.muli arg9 c16_i32_1155
  let v787 : Index := Scalar.indexCast v785
  ![2, v787.toNat]
def k1_off415 (k1_t26 : Fin k1_t26_loop.trips) : Fin 2 → Nat :=
  let c3_i32_1158 : BitVec 32 := 3#32
  let v790 : Index := Scalar.indexCast c3_i32_1158
  let c0_i32_310 : BitVec 32 := 0#32
  let c1_i32_312 : BitVec 32 := 1#32
  let arg9 : BitVec 32 := Scf.iv c0_i32_310 c1_i32_312 k1_t26
  let c16_i32_1157 : BitVec 32 := 16#32
  let v789 : BitVec 32 := Scalar.muli arg9 c16_i32_1157
  let v791 : Index := Scalar.indexCast v789
  ![3, v791.toNat]
def k1_off416 (k1_t26 : Fin k1_t26_loop.trips) : Fin 2 → Nat :=
  let c4_i32_1160 : BitVec 32 := 4#32
  let v794 : Index := Scalar.indexCast c4_i32_1160
  let c0_i32_310 : BitVec 32 := 0#32
  let c1_i32_312 : BitVec 32 := 1#32
  let arg9 : BitVec 32 := Scf.iv c0_i32_310 c1_i32_312 k1_t26
  let c16_i32_1159 : BitVec 32 := 16#32
  let v793 : BitVec 32 := Scalar.muli arg9 c16_i32_1159
  let v795 : Index := Scalar.indexCast v793
  ![4, v795.toNat]
def k1_off417 (k1_t26 : Fin k1_t26_loop.trips) : Fin 2 → Nat :=
  let c5_i32_1162 : BitVec 32 := 5#32
  let v798 : Index := Scalar.indexCast c5_i32_1162
  let c0_i32_310 : BitVec 32 := 0#32
  let c1_i32_312 : BitVec 32 := 1#32
  let arg9 : BitVec 32 := Scf.iv c0_i32_310 c1_i32_312 k1_t26
  let c16_i32_1161 : BitVec 32 := 16#32
  let v797 : BitVec 32 := Scalar.muli arg9 c16_i32_1161
  let v799 : Index := Scalar.indexCast v797
  ![5, v799.toNat]
def k1_off418 (k1_t26 : Fin k1_t26_loop.trips) : Fin 2 → Nat :=
  let c6_i32_1164 : BitVec 32 := 6#32
  let v802 : Index := Scalar.indexCast c6_i32_1164
  let c0_i32_310 : BitVec 32 := 0#32
  let c1_i32_312 : BitVec 32 := 1#32
  let arg9 : BitVec 32 := Scf.iv c0_i32_310 c1_i32_312 k1_t26
  let c16_i32_1163 : BitVec 32 := 16#32
  let v801 : BitVec 32 := Scalar.muli arg9 c16_i32_1163
  let v803 : Index := Scalar.indexCast v801
  ![6, v803.toNat]
def k1_off419 (k1_t26 : Fin k1_t26_loop.trips) : Fin 2 → Nat :=
  let c7_i32_1166 : BitVec 32 := 7#32
  let v806 : Index := Scalar.indexCast c7_i32_1166
  let c0_i32_310 : BitVec 32 := 0#32
  let c1_i32_312 : BitVec 32 := 1#32
  let arg9 : BitVec 32 := Scf.iv c0_i32_310 c1_i32_312 k1_t26
  let c16_i32_1165 : BitVec 32 := 16#32
  let v805 : BitVec 32 := Scalar.muli arg9 c16_i32_1165
  let v807 : Index := Scalar.indexCast v805
  ![7, v807.toNat]
def k1_off420 (k1_t26 : Fin k1_t26_loop.trips) : Fin 2 → Nat :=
  let c8_i32_1168 : BitVec 32 := 8#32
  let v810 : Index := Scalar.indexCast c8_i32_1168
  let c0_i32_310 : BitVec 32 := 0#32
  let c1_i32_312 : BitVec 32 := 1#32
  let arg9 : BitVec 32 := Scf.iv c0_i32_310 c1_i32_312 k1_t26
  let c16_i32_1167 : BitVec 32 := 16#32
  let v809 : BitVec 32 := Scalar.muli arg9 c16_i32_1167
  let v811 : Index := Scalar.indexCast v809
  ![8, v811.toNat]
def k1_off421 (k1_t26 : Fin k1_t26_loop.trips) : Fin 2 → Nat :=
  let c9_i32_1170 : BitVec 32 := 9#32
  let v814 : Index := Scalar.indexCast c9_i32_1170
  let c0_i32_310 : BitVec 32 := 0#32
  let c1_i32_312 : BitVec 32 := 1#32
  let arg9 : BitVec 32 := Scf.iv c0_i32_310 c1_i32_312 k1_t26
  let c16_i32_1169 : BitVec 32 := 16#32
  let v813 : BitVec 32 := Scalar.muli arg9 c16_i32_1169
  let v815 : Index := Scalar.indexCast v813
  ![9, v815.toNat]
def k1_off422 (k1_t26 : Fin k1_t26_loop.trips) : Fin 2 → Nat :=
  let c10_i32_1172 : BitVec 32 := 10#32
  let v818 : Index := Scalar.indexCast c10_i32_1172
  let c0_i32_310 : BitVec 32 := 0#32
  let c1_i32_312 : BitVec 32 := 1#32
  let arg9 : BitVec 32 := Scf.iv c0_i32_310 c1_i32_312 k1_t26
  let c16_i32_1171 : BitVec 32 := 16#32
  let v817 : BitVec 32 := Scalar.muli arg9 c16_i32_1171
  let v819 : Index := Scalar.indexCast v817
  ![10, v819.toNat]
def k1_off423 (k1_t26 : Fin k1_t26_loop.trips) : Fin 2 → Nat :=
  let c11_i32_1174 : BitVec 32 := 11#32
  let v822 : Index := Scalar.indexCast c11_i32_1174
  let c0_i32_310 : BitVec 32 := 0#32
  let c1_i32_312 : BitVec 32 := 1#32
  let arg9 : BitVec 32 := Scf.iv c0_i32_310 c1_i32_312 k1_t26
  let c16_i32_1173 : BitVec 32 := 16#32
  let v821 : BitVec 32 := Scalar.muli arg9 c16_i32_1173
  let v823 : Index := Scalar.indexCast v821
  ![11, v823.toNat]
def k1_off424 (k1_t26 : Fin k1_t26_loop.trips) : Fin 2 → Nat :=
  let c12_i32_1176 : BitVec 32 := 12#32
  let v826 : Index := Scalar.indexCast c12_i32_1176
  let c0_i32_310 : BitVec 32 := 0#32
  let c1_i32_312 : BitVec 32 := 1#32
  let arg9 : BitVec 32 := Scf.iv c0_i32_310 c1_i32_312 k1_t26
  let c16_i32_1175 : BitVec 32 := 16#32
  let v825 : BitVec 32 := Scalar.muli arg9 c16_i32_1175
  let v827 : Index := Scalar.indexCast v825
  ![12, v827.toNat]
def k1_off425 (k1_t26 : Fin k1_t26_loop.trips) : Fin 2 → Nat :=
  let c13_i32_1178 : BitVec 32 := 13#32
  let v830 : Index := Scalar.indexCast c13_i32_1178
  let c0_i32_310 : BitVec 32 := 0#32
  let c1_i32_312 : BitVec 32 := 1#32
  let arg9 : BitVec 32 := Scf.iv c0_i32_310 c1_i32_312 k1_t26
  let c16_i32_1177 : BitVec 32 := 16#32
  let v829 : BitVec 32 := Scalar.muli arg9 c16_i32_1177
  let v831 : Index := Scalar.indexCast v829
  ![13, v831.toNat]
def k1_off426 (k1_t26 : Fin k1_t26_loop.trips) : Fin 2 → Nat :=
  let c14_i32_1180 : BitVec 32 := 14#32
  let v834 : Index := Scalar.indexCast c14_i32_1180
  let c0_i32_310 : BitVec 32 := 0#32
  let c1_i32_312 : BitVec 32 := 1#32
  let arg9 : BitVec 32 := Scf.iv c0_i32_310 c1_i32_312 k1_t26
  let c16_i32_1179 : BitVec 32 := 16#32
  let v833 : BitVec 32 := Scalar.muli arg9 c16_i32_1179
  let v835 : Index := Scalar.indexCast v833
  ![14, v835.toNat]
def k1_off427 (k1_t26 : Fin k1_t26_loop.trips) : Fin 2 → Nat :=
  let c15_i32_1182 : BitVec 32 := 15#32
  let v838 : Index := Scalar.indexCast c15_i32_1182
  let c0_i32_310 : BitVec 32 := 0#32
  let c1_i32_312 : BitVec 32 := 1#32
  let arg9 : BitVec 32 := Scf.iv c0_i32_310 c1_i32_312 k1_t26
  let c16_i32_1181 : BitVec 32 := 16#32
  let v837 : BitVec 32 := Scalar.muli arg9 c16_i32_1181
  let v839 : Index := Scalar.indexCast v837
  ![15, v839.toNat]

def k1_chk385 (v780 : IVec S16 32) : Prop :=
  (∀ a x, ((![v780] : Fin 1 → IVec S16 32) a x).toNat < S88320.size a)
theorem k1_idx385_inb : ∀ (v780 : IVec S16 32) (k1_hw385 : k1_chk385 v780), ∀ a x, ((![v780] : Fin 1 → IVec S16 32) a x).toNat < S88320.size a := fun v780 k1_hw385 => k1_hw385

def k1_chk386 (v784 : IVec S16 32) : Prop :=
  (∀ a x, ((![v784] : Fin 1 → IVec S16 32) a x).toNat < S88320.size a)
theorem k1_idx386_inb : ∀ (v784 : IVec S16 32) (k1_hw386 : k1_chk386 v784), ∀ a x, ((![v784] : Fin 1 → IVec S16 32) a x).toNat < S88320.size a := fun v784 k1_hw386 => k1_hw386

def k1_chk387 (v788 : IVec S16 32) : Prop :=
  (∀ a x, ((![v788] : Fin 1 → IVec S16 32) a x).toNat < S88320.size a)
theorem k1_idx387_inb : ∀ (v788 : IVec S16 32) (k1_hw387 : k1_chk387 v788), ∀ a x, ((![v788] : Fin 1 → IVec S16 32) a x).toNat < S88320.size a := fun v788 k1_hw387 => k1_hw387

def k1_chk388 (v792 : IVec S16 32) : Prop :=
  (∀ a x, ((![v792] : Fin 1 → IVec S16 32) a x).toNat < S88320.size a)
theorem k1_idx388_inb : ∀ (v792 : IVec S16 32) (k1_hw388 : k1_chk388 v792), ∀ a x, ((![v792] : Fin 1 → IVec S16 32) a x).toNat < S88320.size a := fun v792 k1_hw388 => k1_hw388

def k1_chk389 (v796 : IVec S16 32) : Prop :=
  (∀ a x, ((![v796] : Fin 1 → IVec S16 32) a x).toNat < S88320.size a)
theorem k1_idx389_inb : ∀ (v796 : IVec S16 32) (k1_hw389 : k1_chk389 v796), ∀ a x, ((![v796] : Fin 1 → IVec S16 32) a x).toNat < S88320.size a := fun v796 k1_hw389 => k1_hw389

def k1_chk390 (v800 : IVec S16 32) : Prop :=
  (∀ a x, ((![v800] : Fin 1 → IVec S16 32) a x).toNat < S88320.size a)
theorem k1_idx390_inb : ∀ (v800 : IVec S16 32) (k1_hw390 : k1_chk390 v800), ∀ a x, ((![v800] : Fin 1 → IVec S16 32) a x).toNat < S88320.size a := fun v800 k1_hw390 => k1_hw390

def k1_chk391 (v804 : IVec S16 32) : Prop :=
  (∀ a x, ((![v804] : Fin 1 → IVec S16 32) a x).toNat < S88320.size a)
theorem k1_idx391_inb : ∀ (v804 : IVec S16 32) (k1_hw391 : k1_chk391 v804), ∀ a x, ((![v804] : Fin 1 → IVec S16 32) a x).toNat < S88320.size a := fun v804 k1_hw391 => k1_hw391

def k1_chk392 (v808 : IVec S16 32) : Prop :=
  (∀ a x, ((![v808] : Fin 1 → IVec S16 32) a x).toNat < S88320.size a)
theorem k1_idx392_inb : ∀ (v808 : IVec S16 32) (k1_hw392 : k1_chk392 v808), ∀ a x, ((![v808] : Fin 1 → IVec S16 32) a x).toNat < S88320.size a := fun v808 k1_hw392 => k1_hw392

def k1_chk393 (v812 : IVec S16 32) : Prop :=
  (∀ a x, ((![v812] : Fin 1 → IVec S16 32) a x).toNat < S88320.size a)
theorem k1_idx393_inb : ∀ (v812 : IVec S16 32) (k1_hw393 : k1_chk393 v812), ∀ a x, ((![v812] : Fin 1 → IVec S16 32) a x).toNat < S88320.size a := fun v812 k1_hw393 => k1_hw393

def k1_chk394 (v816 : IVec S16 32) : Prop :=
  (∀ a x, ((![v816] : Fin 1 → IVec S16 32) a x).toNat < S88320.size a)
theorem k1_idx394_inb : ∀ (v816 : IVec S16 32) (k1_hw394 : k1_chk394 v816), ∀ a x, ((![v816] : Fin 1 → IVec S16 32) a x).toNat < S88320.size a := fun v816 k1_hw394 => k1_hw394

def k1_chk395 (v820 : IVec S16 32) : Prop :=
  (∀ a x, ((![v820] : Fin 1 → IVec S16 32) a x).toNat < S88320.size a)
theorem k1_idx395_inb : ∀ (v820 : IVec S16 32) (k1_hw395 : k1_chk395 v820), ∀ a x, ((![v820] : Fin 1 → IVec S16 32) a x).toNat < S88320.size a := fun v820 k1_hw395 => k1_hw395

def k1_chk396 (v824 : IVec S16 32) : Prop :=
  (∀ a x, ((![v824] : Fin 1 → IVec S16 32) a x).toNat < S88320.size a)
theorem k1_idx396_inb : ∀ (v824 : IVec S16 32) (k1_hw396 : k1_chk396 v824), ∀ a x, ((![v824] : Fin 1 → IVec S16 32) a x).toNat < S88320.size a := fun v824 k1_hw396 => k1_hw396

def k1_chk397 (v828 : IVec S16 32) : Prop :=
  (∀ a x, ((![v828] : Fin 1 → IVec S16 32) a x).toNat < S88320.size a)
theorem k1_idx397_inb : ∀ (v828 : IVec S16 32) (k1_hw397 : k1_chk397 v828), ∀ a x, ((![v828] : Fin 1 → IVec S16 32) a x).toNat < S88320.size a := fun v828 k1_hw397 => k1_hw397

def k1_chk398 (v832 : IVec S16 32) : Prop :=
  (∀ a x, ((![v832] : Fin 1 → IVec S16 32) a x).toNat < S88320.size a)
theorem k1_idx398_inb : ∀ (v832 : IVec S16 32) (k1_hw398 : k1_chk398 v832), ∀ a x, ((![v832] : Fin 1 → IVec S16 32) a x).toNat < S88320.size a := fun v832 k1_hw398 => k1_hw398

def k1_chk399 (v836 : IVec S16 32) : Prop :=
  (∀ a x, ((![v836] : Fin 1 → IVec S16 32) a x).toNat < S88320.size a)
theorem k1_idx399_inb : ∀ (v836 : IVec S16 32) (k1_hw399 : k1_chk399 v836), ∀ a x, ((![v836] : Fin 1 → IVec S16 32) a x).toNat < S88320.size a := fun v836 k1_hw399 => k1_hw399

def k1_chk400 (v840 : IVec S16 32) : Prop :=
  (∀ a x, ((![v840] : Fin 1 → IVec S16 32) a x).toNat < S88320.size a)
theorem k1_idx400_inb : ∀ (v840 : IVec S16 32) (k1_hw400 : k1_chk400 v840), ∀ a x, ((![v840] : Fin 1 → IVec S16 32) a x).toNat < S88320.size a := fun v840 k1_hw400 => k1_hw400
def k1_off428 (i : grid1.Coords) : Fin 4 → Nat :=
  let c1_i32_314 : BitVec 32 := 1#32
  let c5_i32_315 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_316 : BitVec 32 := 0#32
  ![1, 5, v2.toNat, 0]
@[reducible] def k1_t27_loop : Scf.Loop 32 :=
  let c0_i32_323 : BitVec 32 := 0#32
  let c32_i32_324 : BitVec 32 := 32#32
  let v243 : BitVec 32 := Scalar.addi c0_i32_323 c32_i32_324
  let c1_i32_325 : BitVec 32 := 1#32
  ⟨c0_i32_323, v243, c1_i32_325⟩
def k1_off429 (k1_t27 : Fin k1_t27_loop.trips) : Fin 2 → Nat :=
  let c0_i32_1152 : BitVec 32 := 0#32
  let v778 : Index := Scalar.indexCast c0_i32_1152
  let c0_i32_323 : BitVec 32 := 0#32
  let c1_i32_325 : BitVec 32 := 1#32
  let arg9 : BitVec 32 := Scf.iv c0_i32_323 c1_i32_325 k1_t27
  let c16_i32_1151 : BitVec 32 := 16#32
  let v777 : BitVec 32 := Scalar.muli arg9 c16_i32_1151
  let v779 : Index := Scalar.indexCast v777
  ![0, v779.toNat]
def k1_off430 (k1_t27 : Fin k1_t27_loop.trips) : Fin 2 → Nat :=
  let c1_i32_1154 : BitVec 32 := 1#32
  let v782 : Index := Scalar.indexCast c1_i32_1154
  let c0_i32_323 : BitVec 32 := 0#32
  let c1_i32_325 : BitVec 32 := 1#32
  let arg9 : BitVec 32 := Scf.iv c0_i32_323 c1_i32_325 k1_t27
  let c16_i32_1153 : BitVec 32 := 16#32
  let v781 : BitVec 32 := Scalar.muli arg9 c16_i32_1153
  let v783 : Index := Scalar.indexCast v781
  ![1, v783.toNat]
def k1_off431 (k1_t27 : Fin k1_t27_loop.trips) : Fin 2 → Nat :=
  let c2_i32_1156 : BitVec 32 := 2#32
  let v786 : Index := Scalar.indexCast c2_i32_1156
  let c0_i32_323 : BitVec 32 := 0#32
  let c1_i32_325 : BitVec 32 := 1#32
  let arg9 : BitVec 32 := Scf.iv c0_i32_323 c1_i32_325 k1_t27
  let c16_i32_1155 : BitVec 32 := 16#32
  let v785 : BitVec 32 := Scalar.muli arg9 c16_i32_1155
  let v787 : Index := Scalar.indexCast v785
  ![2, v787.toNat]
def k1_off432 (k1_t27 : Fin k1_t27_loop.trips) : Fin 2 → Nat :=
  let c3_i32_1158 : BitVec 32 := 3#32
  let v790 : Index := Scalar.indexCast c3_i32_1158
  let c0_i32_323 : BitVec 32 := 0#32
  let c1_i32_325 : BitVec 32 := 1#32
  let arg9 : BitVec 32 := Scf.iv c0_i32_323 c1_i32_325 k1_t27
  let c16_i32_1157 : BitVec 32 := 16#32
  let v789 : BitVec 32 := Scalar.muli arg9 c16_i32_1157
  let v791 : Index := Scalar.indexCast v789
  ![3, v791.toNat]
def k1_off433 (k1_t27 : Fin k1_t27_loop.trips) : Fin 2 → Nat :=
  let c4_i32_1160 : BitVec 32 := 4#32
  let v794 : Index := Scalar.indexCast c4_i32_1160
  let c0_i32_323 : BitVec 32 := 0#32
  let c1_i32_325 : BitVec 32 := 1#32
  let arg9 : BitVec 32 := Scf.iv c0_i32_323 c1_i32_325 k1_t27
  let c16_i32_1159 : BitVec 32 := 16#32
  let v793 : BitVec 32 := Scalar.muli arg9 c16_i32_1159
  let v795 : Index := Scalar.indexCast v793
  ![4, v795.toNat]
def k1_off434 (k1_t27 : Fin k1_t27_loop.trips) : Fin 2 → Nat :=
  let c5_i32_1162 : BitVec 32 := 5#32
  let v798 : Index := Scalar.indexCast c5_i32_1162
  let c0_i32_323 : BitVec 32 := 0#32
  let c1_i32_325 : BitVec 32 := 1#32
  let arg9 : BitVec 32 := Scf.iv c0_i32_323 c1_i32_325 k1_t27
  let c16_i32_1161 : BitVec 32 := 16#32
  let v797 : BitVec 32 := Scalar.muli arg9 c16_i32_1161
  let v799 : Index := Scalar.indexCast v797
  ![5, v799.toNat]
def k1_off435 (k1_t27 : Fin k1_t27_loop.trips) : Fin 2 → Nat :=
  let c6_i32_1164 : BitVec 32 := 6#32
  let v802 : Index := Scalar.indexCast c6_i32_1164
  let c0_i32_323 : BitVec 32 := 0#32
  let c1_i32_325 : BitVec 32 := 1#32
  let arg9 : BitVec 32 := Scf.iv c0_i32_323 c1_i32_325 k1_t27
  let c16_i32_1163 : BitVec 32 := 16#32
  let v801 : BitVec 32 := Scalar.muli arg9 c16_i32_1163
  let v803 : Index := Scalar.indexCast v801
  ![6, v803.toNat]
def k1_off436 (k1_t27 : Fin k1_t27_loop.trips) : Fin 2 → Nat :=
  let c7_i32_1166 : BitVec 32 := 7#32
  let v806 : Index := Scalar.indexCast c7_i32_1166
  let c0_i32_323 : BitVec 32 := 0#32
  let c1_i32_325 : BitVec 32 := 1#32
  let arg9 : BitVec 32 := Scf.iv c0_i32_323 c1_i32_325 k1_t27
  let c16_i32_1165 : BitVec 32 := 16#32
  let v805 : BitVec 32 := Scalar.muli arg9 c16_i32_1165
  let v807 : Index := Scalar.indexCast v805
  ![7, v807.toNat]
def k1_off437 (k1_t27 : Fin k1_t27_loop.trips) : Fin 2 → Nat :=
  let c8_i32_1168 : BitVec 32 := 8#32
  let v810 : Index := Scalar.indexCast c8_i32_1168
  let c0_i32_323 : BitVec 32 := 0#32
  let c1_i32_325 : BitVec 32 := 1#32
  let arg9 : BitVec 32 := Scf.iv c0_i32_323 c1_i32_325 k1_t27
  let c16_i32_1167 : BitVec 32 := 16#32
  let v809 : BitVec 32 := Scalar.muli arg9 c16_i32_1167
  let v811 : Index := Scalar.indexCast v809
  ![8, v811.toNat]
def k1_off438 (k1_t27 : Fin k1_t27_loop.trips) : Fin 2 → Nat :=
  let c9_i32_1170 : BitVec 32 := 9#32
  let v814 : Index := Scalar.indexCast c9_i32_1170
  let c0_i32_323 : BitVec 32 := 0#32
  let c1_i32_325 : BitVec 32 := 1#32
  let arg9 : BitVec 32 := Scf.iv c0_i32_323 c1_i32_325 k1_t27
  let c16_i32_1169 : BitVec 32 := 16#32
  let v813 : BitVec 32 := Scalar.muli arg9 c16_i32_1169
  let v815 : Index := Scalar.indexCast v813
  ![9, v815.toNat]
def k1_off439 (k1_t27 : Fin k1_t27_loop.trips) : Fin 2 → Nat :=
  let c10_i32_1172 : BitVec 32 := 10#32
  let v818 : Index := Scalar.indexCast c10_i32_1172
  let c0_i32_323 : BitVec 32 := 0#32
  let c1_i32_325 : BitVec 32 := 1#32
  let arg9 : BitVec 32 := Scf.iv c0_i32_323 c1_i32_325 k1_t27
  let c16_i32_1171 : BitVec 32 := 16#32
  let v817 : BitVec 32 := Scalar.muli arg9 c16_i32_1171
  let v819 : Index := Scalar.indexCast v817
  ![10, v819.toNat]
def k1_off440 (k1_t27 : Fin k1_t27_loop.trips) : Fin 2 → Nat :=
  let c11_i32_1174 : BitVec 32 := 11#32
  let v822 : Index := Scalar.indexCast c11_i32_1174
  let c0_i32_323 : BitVec 32 := 0#32
  let c1_i32_325 : BitVec 32 := 1#32
  let arg9 : BitVec 32 := Scf.iv c0_i32_323 c1_i32_325 k1_t27
  let c16_i32_1173 : BitVec 32 := 16#32
  let v821 : BitVec 32 := Scalar.muli arg9 c16_i32_1173
  let v823 : Index := Scalar.indexCast v821
  ![11, v823.toNat]
def k1_off441 (k1_t27 : Fin k1_t27_loop.trips) : Fin 2 → Nat :=
  let c12_i32_1176 : BitVec 32 := 12#32
  let v826 : Index := Scalar.indexCast c12_i32_1176
  let c0_i32_323 : BitVec 32 := 0#32
  let c1_i32_325 : BitVec 32 := 1#32
  let arg9 : BitVec 32 := Scf.iv c0_i32_323 c1_i32_325 k1_t27
  let c16_i32_1175 : BitVec 32 := 16#32
  let v825 : BitVec 32 := Scalar.muli arg9 c16_i32_1175
  let v827 : Index := Scalar.indexCast v825
  ![12, v827.toNat]
def k1_off442 (k1_t27 : Fin k1_t27_loop.trips) : Fin 2 → Nat :=
  let c13_i32_1178 : BitVec 32 := 13#32
  let v830 : Index := Scalar.indexCast c13_i32_1178
  let c0_i32_323 : BitVec 32 := 0#32
  let c1_i32_325 : BitVec 32 := 1#32
  let arg9 : BitVec 32 := Scf.iv c0_i32_323 c1_i32_325 k1_t27
  let c16_i32_1177 : BitVec 32 := 16#32
  let v829 : BitVec 32 := Scalar.muli arg9 c16_i32_1177
  let v831 : Index := Scalar.indexCast v829
  ![13, v831.toNat]
def k1_off443 (k1_t27 : Fin k1_t27_loop.trips) : Fin 2 → Nat :=
  let c14_i32_1180 : BitVec 32 := 14#32
  let v834 : Index := Scalar.indexCast c14_i32_1180
  let c0_i32_323 : BitVec 32 := 0#32
  let c1_i32_325 : BitVec 32 := 1#32
  let arg9 : BitVec 32 := Scf.iv c0_i32_323 c1_i32_325 k1_t27
  let c16_i32_1179 : BitVec 32 := 16#32
  let v833 : BitVec 32 := Scalar.muli arg9 c16_i32_1179
  let v835 : Index := Scalar.indexCast v833
  ![14, v835.toNat]
def k1_off444 (k1_t27 : Fin k1_t27_loop.trips) : Fin 2 → Nat :=
  let c15_i32_1182 : BitVec 32 := 15#32
  let v838 : Index := Scalar.indexCast c15_i32_1182
  let c0_i32_323 : BitVec 32 := 0#32
  let c1_i32_325 : BitVec 32 := 1#32
  let arg9 : BitVec 32 := Scf.iv c0_i32_323 c1_i32_325 k1_t27
  let c16_i32_1181 : BitVec 32 := 16#32
  let v837 : BitVec 32 := Scalar.muli arg9 c16_i32_1181
  let v839 : Index := Scalar.indexCast v837
  ![15, v839.toNat]

def k1_chk401 (v780 : IVec S16 32) : Prop :=
  (∀ a x, ((![v780] : Fin 1 → IVec S16 32) a x).toNat < S88320.size a)
theorem k1_idx401_inb : ∀ (v780 : IVec S16 32) (k1_hw401 : k1_chk401 v780), ∀ a x, ((![v780] : Fin 1 → IVec S16 32) a x).toNat < S88320.size a := fun v780 k1_hw401 => k1_hw401

def k1_chk402 (v784 : IVec S16 32) : Prop :=
  (∀ a x, ((![v784] : Fin 1 → IVec S16 32) a x).toNat < S88320.size a)
theorem k1_idx402_inb : ∀ (v784 : IVec S16 32) (k1_hw402 : k1_chk402 v784), ∀ a x, ((![v784] : Fin 1 → IVec S16 32) a x).toNat < S88320.size a := fun v784 k1_hw402 => k1_hw402

def k1_chk403 (v788 : IVec S16 32) : Prop :=
  (∀ a x, ((![v788] : Fin 1 → IVec S16 32) a x).toNat < S88320.size a)
theorem k1_idx403_inb : ∀ (v788 : IVec S16 32) (k1_hw403 : k1_chk403 v788), ∀ a x, ((![v788] : Fin 1 → IVec S16 32) a x).toNat < S88320.size a := fun v788 k1_hw403 => k1_hw403

def k1_chk404 (v792 : IVec S16 32) : Prop :=
  (∀ a x, ((![v792] : Fin 1 → IVec S16 32) a x).toNat < S88320.size a)
theorem k1_idx404_inb : ∀ (v792 : IVec S16 32) (k1_hw404 : k1_chk404 v792), ∀ a x, ((![v792] : Fin 1 → IVec S16 32) a x).toNat < S88320.size a := fun v792 k1_hw404 => k1_hw404

def k1_chk405 (v796 : IVec S16 32) : Prop :=
  (∀ a x, ((![v796] : Fin 1 → IVec S16 32) a x).toNat < S88320.size a)
theorem k1_idx405_inb : ∀ (v796 : IVec S16 32) (k1_hw405 : k1_chk405 v796), ∀ a x, ((![v796] : Fin 1 → IVec S16 32) a x).toNat < S88320.size a := fun v796 k1_hw405 => k1_hw405

def k1_chk406 (v800 : IVec S16 32) : Prop :=
  (∀ a x, ((![v800] : Fin 1 → IVec S16 32) a x).toNat < S88320.size a)
theorem k1_idx406_inb : ∀ (v800 : IVec S16 32) (k1_hw406 : k1_chk406 v800), ∀ a x, ((![v800] : Fin 1 → IVec S16 32) a x).toNat < S88320.size a := fun v800 k1_hw406 => k1_hw406

def k1_chk407 (v804 : IVec S16 32) : Prop :=
  (∀ a x, ((![v804] : Fin 1 → IVec S16 32) a x).toNat < S88320.size a)
theorem k1_idx407_inb : ∀ (v804 : IVec S16 32) (k1_hw407 : k1_chk407 v804), ∀ a x, ((![v804] : Fin 1 → IVec S16 32) a x).toNat < S88320.size a := fun v804 k1_hw407 => k1_hw407

def k1_chk408 (v808 : IVec S16 32) : Prop :=
  (∀ a x, ((![v808] : Fin 1 → IVec S16 32) a x).toNat < S88320.size a)
theorem k1_idx408_inb : ∀ (v808 : IVec S16 32) (k1_hw408 : k1_chk408 v808), ∀ a x, ((![v808] : Fin 1 → IVec S16 32) a x).toNat < S88320.size a := fun v808 k1_hw408 => k1_hw408

def k1_chk409 (v812 : IVec S16 32) : Prop :=
  (∀ a x, ((![v812] : Fin 1 → IVec S16 32) a x).toNat < S88320.size a)
theorem k1_idx409_inb : ∀ (v812 : IVec S16 32) (k1_hw409 : k1_chk409 v812), ∀ a x, ((![v812] : Fin 1 → IVec S16 32) a x).toNat < S88320.size a := fun v812 k1_hw409 => k1_hw409

def k1_chk410 (v816 : IVec S16 32) : Prop :=
  (∀ a x, ((![v816] : Fin 1 → IVec S16 32) a x).toNat < S88320.size a)
theorem k1_idx410_inb : ∀ (v816 : IVec S16 32) (k1_hw410 : k1_chk410 v816), ∀ a x, ((![v816] : Fin 1 → IVec S16 32) a x).toNat < S88320.size a := fun v816 k1_hw410 => k1_hw410

def k1_chk411 (v820 : IVec S16 32) : Prop :=
  (∀ a x, ((![v820] : Fin 1 → IVec S16 32) a x).toNat < S88320.size a)
theorem k1_idx411_inb : ∀ (v820 : IVec S16 32) (k1_hw411 : k1_chk411 v820), ∀ a x, ((![v820] : Fin 1 → IVec S16 32) a x).toNat < S88320.size a := fun v820 k1_hw411 => k1_hw411

def k1_chk412 (v824 : IVec S16 32) : Prop :=
  (∀ a x, ((![v824] : Fin 1 → IVec S16 32) a x).toNat < S88320.size a)
theorem k1_idx412_inb : ∀ (v824 : IVec S16 32) (k1_hw412 : k1_chk412 v824), ∀ a x, ((![v824] : Fin 1 → IVec S16 32) a x).toNat < S88320.size a := fun v824 k1_hw412 => k1_hw412

def k1_chk413 (v828 : IVec S16 32) : Prop :=
  (∀ a x, ((![v828] : Fin 1 → IVec S16 32) a x).toNat < S88320.size a)
theorem k1_idx413_inb : ∀ (v828 : IVec S16 32) (k1_hw413 : k1_chk413 v828), ∀ a x, ((![v828] : Fin 1 → IVec S16 32) a x).toNat < S88320.size a := fun v828 k1_hw413 => k1_hw413

def k1_chk414 (v832 : IVec S16 32) : Prop :=
  (∀ a x, ((![v832] : Fin 1 → IVec S16 32) a x).toNat < S88320.size a)
theorem k1_idx414_inb : ∀ (v832 : IVec S16 32) (k1_hw414 : k1_chk414 v832), ∀ a x, ((![v832] : Fin 1 → IVec S16 32) a x).toNat < S88320.size a := fun v832 k1_hw414 => k1_hw414

def k1_chk415 (v836 : IVec S16 32) : Prop :=
  (∀ a x, ((![v836] : Fin 1 → IVec S16 32) a x).toNat < S88320.size a)
theorem k1_idx415_inb : ∀ (v836 : IVec S16 32) (k1_hw415 : k1_chk415 v836), ∀ a x, ((![v836] : Fin 1 → IVec S16 32) a x).toNat < S88320.size a := fun v836 k1_hw415 => k1_hw415

def k1_chk416 (v840 : IVec S16 32) : Prop :=
  (∀ a x, ((![v840] : Fin 1 → IVec S16 32) a x).toNat < S88320.size a)
theorem k1_idx416_inb : ∀ (v840 : IVec S16 32) (k1_hw416 : k1_chk416 v840), ∀ a x, ((![v840] : Fin 1 → IVec S16 32) a x).toNat < S88320.size a := fun v840 k1_hw416 => k1_hw416
def k1_off445 (i : grid1.Coords) : Fin 4 → Nat :=
  let c1_i32_327 : BitVec 32 := 1#32
  let c6_i32_328 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_329 : BitVec 32 := 0#32
  ![1, 6, v2.toNat, 0]
@[reducible] def k1_t28_loop : Scf.Loop 32 :=
  let c0_i32_336 : BitVec 32 := 0#32
  let c32_i32_337 : BitVec 32 := 32#32
  let v252 : BitVec 32 := Scalar.addi c0_i32_336 c32_i32_337
  let c1_i32_338 : BitVec 32 := 1#32
  ⟨c0_i32_336, v252, c1_i32_338⟩
def k1_off446 (k1_t28 : Fin k1_t28_loop.trips) : Fin 2 → Nat :=
  let c0_i32_1152 : BitVec 32 := 0#32
  let v778 : Index := Scalar.indexCast c0_i32_1152
  let c0_i32_336 : BitVec 32 := 0#32
  let c1_i32_338 : BitVec 32 := 1#32
  let arg9 : BitVec 32 := Scf.iv c0_i32_336 c1_i32_338 k1_t28
  let c16_i32_1151 : BitVec 32 := 16#32
  let v777 : BitVec 32 := Scalar.muli arg9 c16_i32_1151
  let v779 : Index := Scalar.indexCast v777
  ![0, v779.toNat]
def k1_off447 (k1_t28 : Fin k1_t28_loop.trips) : Fin 2 → Nat :=
  let c1_i32_1154 : BitVec 32 := 1#32
  let v782 : Index := Scalar.indexCast c1_i32_1154
  let c0_i32_336 : BitVec 32 := 0#32
  let c1_i32_338 : BitVec 32 := 1#32
  let arg9 : BitVec 32 := Scf.iv c0_i32_336 c1_i32_338 k1_t28
  let c16_i32_1153 : BitVec 32 := 16#32
  let v781 : BitVec 32 := Scalar.muli arg9 c16_i32_1153
  let v783 : Index := Scalar.indexCast v781
  ![1, v783.toNat]
def k1_off448 (k1_t28 : Fin k1_t28_loop.trips) : Fin 2 → Nat :=
  let c2_i32_1156 : BitVec 32 := 2#32
  let v786 : Index := Scalar.indexCast c2_i32_1156
  let c0_i32_336 : BitVec 32 := 0#32
  let c1_i32_338 : BitVec 32 := 1#32
  let arg9 : BitVec 32 := Scf.iv c0_i32_336 c1_i32_338 k1_t28
  let c16_i32_1155 : BitVec 32 := 16#32
  let v785 : BitVec 32 := Scalar.muli arg9 c16_i32_1155
  let v787 : Index := Scalar.indexCast v785
  ![2, v787.toNat]
def k1_off449 (k1_t28 : Fin k1_t28_loop.trips) : Fin 2 → Nat :=
  let c3_i32_1158 : BitVec 32 := 3#32
  let v790 : Index := Scalar.indexCast c3_i32_1158
  let c0_i32_336 : BitVec 32 := 0#32
  let c1_i32_338 : BitVec 32 := 1#32
  let arg9 : BitVec 32 := Scf.iv c0_i32_336 c1_i32_338 k1_t28
  let c16_i32_1157 : BitVec 32 := 16#32
  let v789 : BitVec 32 := Scalar.muli arg9 c16_i32_1157
  let v791 : Index := Scalar.indexCast v789
  ![3, v791.toNat]
def k1_off450 (k1_t28 : Fin k1_t28_loop.trips) : Fin 2 → Nat :=
  let c4_i32_1160 : BitVec 32 := 4#32
  let v794 : Index := Scalar.indexCast c4_i32_1160
  let c0_i32_336 : BitVec 32 := 0#32
  let c1_i32_338 : BitVec 32 := 1#32
  let arg9 : BitVec 32 := Scf.iv c0_i32_336 c1_i32_338 k1_t28
  let c16_i32_1159 : BitVec 32 := 16#32
  let v793 : BitVec 32 := Scalar.muli arg9 c16_i32_1159
  let v795 : Index := Scalar.indexCast v793
  ![4, v795.toNat]
def k1_off451 (k1_t28 : Fin k1_t28_loop.trips) : Fin 2 → Nat :=
  let c5_i32_1162 : BitVec 32 := 5#32
  let v798 : Index := Scalar.indexCast c5_i32_1162
  let c0_i32_336 : BitVec 32 := 0#32
  let c1_i32_338 : BitVec 32 := 1#32
  let arg9 : BitVec 32 := Scf.iv c0_i32_336 c1_i32_338 k1_t28
  let c16_i32_1161 : BitVec 32 := 16#32
  let v797 : BitVec 32 := Scalar.muli arg9 c16_i32_1161
  let v799 : Index := Scalar.indexCast v797
  ![5, v799.toNat]
def k1_off452 (k1_t28 : Fin k1_t28_loop.trips) : Fin 2 → Nat :=
  let c6_i32_1164 : BitVec 32 := 6#32
  let v802 : Index := Scalar.indexCast c6_i32_1164
  let c0_i32_336 : BitVec 32 := 0#32
  let c1_i32_338 : BitVec 32 := 1#32
  let arg9 : BitVec 32 := Scf.iv c0_i32_336 c1_i32_338 k1_t28
  let c16_i32_1163 : BitVec 32 := 16#32
  let v801 : BitVec 32 := Scalar.muli arg9 c16_i32_1163
  let v803 : Index := Scalar.indexCast v801
  ![6, v803.toNat]
def k1_off453 (k1_t28 : Fin k1_t28_loop.trips) : Fin 2 → Nat :=
  let c7_i32_1166 : BitVec 32 := 7#32
  let v806 : Index := Scalar.indexCast c7_i32_1166
  let c0_i32_336 : BitVec 32 := 0#32
  let c1_i32_338 : BitVec 32 := 1#32
  let arg9 : BitVec 32 := Scf.iv c0_i32_336 c1_i32_338 k1_t28
  let c16_i32_1165 : BitVec 32 := 16#32
  let v805 : BitVec 32 := Scalar.muli arg9 c16_i32_1165
  let v807 : Index := Scalar.indexCast v805
  ![7, v807.toNat]
def k1_off454 (k1_t28 : Fin k1_t28_loop.trips) : Fin 2 → Nat :=
  let c8_i32_1168 : BitVec 32 := 8#32
  let v810 : Index := Scalar.indexCast c8_i32_1168
  let c0_i32_336 : BitVec 32 := 0#32
  let c1_i32_338 : BitVec 32 := 1#32
  let arg9 : BitVec 32 := Scf.iv c0_i32_336 c1_i32_338 k1_t28
  let c16_i32_1167 : BitVec 32 := 16#32
  let v809 : BitVec 32 := Scalar.muli arg9 c16_i32_1167
  let v811 : Index := Scalar.indexCast v809
  ![8, v811.toNat]
def k1_off455 (k1_t28 : Fin k1_t28_loop.trips) : Fin 2 → Nat :=
  let c9_i32_1170 : BitVec 32 := 9#32
  let v814 : Index := Scalar.indexCast c9_i32_1170
  let c0_i32_336 : BitVec 32 := 0#32
  let c1_i32_338 : BitVec 32 := 1#32
  let arg9 : BitVec 32 := Scf.iv c0_i32_336 c1_i32_338 k1_t28
  let c16_i32_1169 : BitVec 32 := 16#32
  let v813 : BitVec 32 := Scalar.muli arg9 c16_i32_1169
  let v815 : Index := Scalar.indexCast v813
  ![9, v815.toNat]
def k1_off456 (k1_t28 : Fin k1_t28_loop.trips) : Fin 2 → Nat :=
  let c10_i32_1172 : BitVec 32 := 10#32
  let v818 : Index := Scalar.indexCast c10_i32_1172
  let c0_i32_336 : BitVec 32 := 0#32
  let c1_i32_338 : BitVec 32 := 1#32
  let arg9 : BitVec 32 := Scf.iv c0_i32_336 c1_i32_338 k1_t28
  let c16_i32_1171 : BitVec 32 := 16#32
  let v817 : BitVec 32 := Scalar.muli arg9 c16_i32_1171
  let v819 : Index := Scalar.indexCast v817
  ![10, v819.toNat]
def k1_off457 (k1_t28 : Fin k1_t28_loop.trips) : Fin 2 → Nat :=
  let c11_i32_1174 : BitVec 32 := 11#32
  let v822 : Index := Scalar.indexCast c11_i32_1174
  let c0_i32_336 : BitVec 32 := 0#32
  let c1_i32_338 : BitVec 32 := 1#32
  let arg9 : BitVec 32 := Scf.iv c0_i32_336 c1_i32_338 k1_t28
  let c16_i32_1173 : BitVec 32 := 16#32
  let v821 : BitVec 32 := Scalar.muli arg9 c16_i32_1173
  let v823 : Index := Scalar.indexCast v821
  ![11, v823.toNat]
def k1_off458 (k1_t28 : Fin k1_t28_loop.trips) : Fin 2 → Nat :=
  let c12_i32_1176 : BitVec 32 := 12#32
  let v826 : Index := Scalar.indexCast c12_i32_1176
  let c0_i32_336 : BitVec 32 := 0#32
  let c1_i32_338 : BitVec 32 := 1#32
  let arg9 : BitVec 32 := Scf.iv c0_i32_336 c1_i32_338 k1_t28
  let c16_i32_1175 : BitVec 32 := 16#32
  let v825 : BitVec 32 := Scalar.muli arg9 c16_i32_1175
  let v827 : Index := Scalar.indexCast v825
  ![12, v827.toNat]
def k1_off459 (k1_t28 : Fin k1_t28_loop.trips) : Fin 2 → Nat :=
  let c13_i32_1178 : BitVec 32 := 13#32
  let v830 : Index := Scalar.indexCast c13_i32_1178
  let c0_i32_336 : BitVec 32 := 0#32
  let c1_i32_338 : BitVec 32 := 1#32
  let arg9 : BitVec 32 := Scf.iv c0_i32_336 c1_i32_338 k1_t28
  let c16_i32_1177 : BitVec 32 := 16#32
  let v829 : BitVec 32 := Scalar.muli arg9 c16_i32_1177
  let v831 : Index := Scalar.indexCast v829
  ![13, v831.toNat]
def k1_off460 (k1_t28 : Fin k1_t28_loop.trips) : Fin 2 → Nat :=
  let c14_i32_1180 : BitVec 32 := 14#32
  let v834 : Index := Scalar.indexCast c14_i32_1180
  let c0_i32_336 : BitVec 32 := 0#32
  let c1_i32_338 : BitVec 32 := 1#32
  let arg9 : BitVec 32 := Scf.iv c0_i32_336 c1_i32_338 k1_t28
  let c16_i32_1179 : BitVec 32 := 16#32
  let v833 : BitVec 32 := Scalar.muli arg9 c16_i32_1179
  let v835 : Index := Scalar.indexCast v833
  ![14, v835.toNat]
def k1_off461 (k1_t28 : Fin k1_t28_loop.trips) : Fin 2 → Nat :=
  let c15_i32_1182 : BitVec 32 := 15#32
  let v838 : Index := Scalar.indexCast c15_i32_1182
  let c0_i32_336 : BitVec 32 := 0#32
  let c1_i32_338 : BitVec 32 := 1#32
  let arg9 : BitVec 32 := Scf.iv c0_i32_336 c1_i32_338 k1_t28
  let c16_i32_1181 : BitVec 32 := 16#32
  let v837 : BitVec 32 := Scalar.muli arg9 c16_i32_1181
  let v839 : Index := Scalar.indexCast v837
  ![15, v839.toNat]

def k1_chk417 (v780 : IVec S16 32) : Prop :=
  (∀ a x, ((![v780] : Fin 1 → IVec S16 32) a x).toNat < S88320.size a)
theorem k1_idx417_inb : ∀ (v780 : IVec S16 32) (k1_hw417 : k1_chk417 v780), ∀ a x, ((![v780] : Fin 1 → IVec S16 32) a x).toNat < S88320.size a := fun v780 k1_hw417 => k1_hw417

def k1_chk418 (v784 : IVec S16 32) : Prop :=
  (∀ a x, ((![v784] : Fin 1 → IVec S16 32) a x).toNat < S88320.size a)
theorem k1_idx418_inb : ∀ (v784 : IVec S16 32) (k1_hw418 : k1_chk418 v784), ∀ a x, ((![v784] : Fin 1 → IVec S16 32) a x).toNat < S88320.size a := fun v784 k1_hw418 => k1_hw418

def k1_chk419 (v788 : IVec S16 32) : Prop :=
  (∀ a x, ((![v788] : Fin 1 → IVec S16 32) a x).toNat < S88320.size a)
theorem k1_idx419_inb : ∀ (v788 : IVec S16 32) (k1_hw419 : k1_chk419 v788), ∀ a x, ((![v788] : Fin 1 → IVec S16 32) a x).toNat < S88320.size a := fun v788 k1_hw419 => k1_hw419

def k1_chk420 (v792 : IVec S16 32) : Prop :=
  (∀ a x, ((![v792] : Fin 1 → IVec S16 32) a x).toNat < S88320.size a)
theorem k1_idx420_inb : ∀ (v792 : IVec S16 32) (k1_hw420 : k1_chk420 v792), ∀ a x, ((![v792] : Fin 1 → IVec S16 32) a x).toNat < S88320.size a := fun v792 k1_hw420 => k1_hw420

def k1_chk421 (v796 : IVec S16 32) : Prop :=
  (∀ a x, ((![v796] : Fin 1 → IVec S16 32) a x).toNat < S88320.size a)
theorem k1_idx421_inb : ∀ (v796 : IVec S16 32) (k1_hw421 : k1_chk421 v796), ∀ a x, ((![v796] : Fin 1 → IVec S16 32) a x).toNat < S88320.size a := fun v796 k1_hw421 => k1_hw421

def k1_chk422 (v800 : IVec S16 32) : Prop :=
  (∀ a x, ((![v800] : Fin 1 → IVec S16 32) a x).toNat < S88320.size a)
theorem k1_idx422_inb : ∀ (v800 : IVec S16 32) (k1_hw422 : k1_chk422 v800), ∀ a x, ((![v800] : Fin 1 → IVec S16 32) a x).toNat < S88320.size a := fun v800 k1_hw422 => k1_hw422

def k1_chk423 (v804 : IVec S16 32) : Prop :=
  (∀ a x, ((![v804] : Fin 1 → IVec S16 32) a x).toNat < S88320.size a)
theorem k1_idx423_inb : ∀ (v804 : IVec S16 32) (k1_hw423 : k1_chk423 v804), ∀ a x, ((![v804] : Fin 1 → IVec S16 32) a x).toNat < S88320.size a := fun v804 k1_hw423 => k1_hw423

def k1_chk424 (v808 : IVec S16 32) : Prop :=
  (∀ a x, ((![v808] : Fin 1 → IVec S16 32) a x).toNat < S88320.size a)
theorem k1_idx424_inb : ∀ (v808 : IVec S16 32) (k1_hw424 : k1_chk424 v808), ∀ a x, ((![v808] : Fin 1 → IVec S16 32) a x).toNat < S88320.size a := fun v808 k1_hw424 => k1_hw424

def k1_chk425 (v812 : IVec S16 32) : Prop :=
  (∀ a x, ((![v812] : Fin 1 → IVec S16 32) a x).toNat < S88320.size a)
theorem k1_idx425_inb : ∀ (v812 : IVec S16 32) (k1_hw425 : k1_chk425 v812), ∀ a x, ((![v812] : Fin 1 → IVec S16 32) a x).toNat < S88320.size a := fun v812 k1_hw425 => k1_hw425

def k1_chk426 (v816 : IVec S16 32) : Prop :=
  (∀ a x, ((![v816] : Fin 1 → IVec S16 32) a x).toNat < S88320.size a)
theorem k1_idx426_inb : ∀ (v816 : IVec S16 32) (k1_hw426 : k1_chk426 v816), ∀ a x, ((![v816] : Fin 1 → IVec S16 32) a x).toNat < S88320.size a := fun v816 k1_hw426 => k1_hw426

def k1_chk427 (v820 : IVec S16 32) : Prop :=
  (∀ a x, ((![v820] : Fin 1 → IVec S16 32) a x).toNat < S88320.size a)
theorem k1_idx427_inb : ∀ (v820 : IVec S16 32) (k1_hw427 : k1_chk427 v820), ∀ a x, ((![v820] : Fin 1 → IVec S16 32) a x).toNat < S88320.size a := fun v820 k1_hw427 => k1_hw427

def k1_chk428 (v824 : IVec S16 32) : Prop :=
  (∀ a x, ((![v824] : Fin 1 → IVec S16 32) a x).toNat < S88320.size a)
theorem k1_idx428_inb : ∀ (v824 : IVec S16 32) (k1_hw428 : k1_chk428 v824), ∀ a x, ((![v824] : Fin 1 → IVec S16 32) a x).toNat < S88320.size a := fun v824 k1_hw428 => k1_hw428

def k1_chk429 (v828 : IVec S16 32) : Prop :=
  (∀ a x, ((![v828] : Fin 1 → IVec S16 32) a x).toNat < S88320.size a)
theorem k1_idx429_inb : ∀ (v828 : IVec S16 32) (k1_hw429 : k1_chk429 v828), ∀ a x, ((![v828] : Fin 1 → IVec S16 32) a x).toNat < S88320.size a := fun v828 k1_hw429 => k1_hw429

def k1_chk430 (v832 : IVec S16 32) : Prop :=
  (∀ a x, ((![v832] : Fin 1 → IVec S16 32) a x).toNat < S88320.size a)
theorem k1_idx430_inb : ∀ (v832 : IVec S16 32) (k1_hw430 : k1_chk430 v832), ∀ a x, ((![v832] : Fin 1 → IVec S16 32) a x).toNat < S88320.size a := fun v832 k1_hw430 => k1_hw430

def k1_chk431 (v836 : IVec S16 32) : Prop :=
  (∀ a x, ((![v836] : Fin 1 → IVec S16 32) a x).toNat < S88320.size a)
theorem k1_idx431_inb : ∀ (v836 : IVec S16 32) (k1_hw431 : k1_chk431 v836), ∀ a x, ((![v836] : Fin 1 → IVec S16 32) a x).toNat < S88320.size a := fun v836 k1_hw431 => k1_hw431

def k1_chk432 (v840 : IVec S16 32) : Prop :=
  (∀ a x, ((![v840] : Fin 1 → IVec S16 32) a x).toNat < S88320.size a)
theorem k1_idx432_inb : ∀ (v840 : IVec S16 32) (k1_hw432 : k1_chk432 v840), ∀ a x, ((![v840] : Fin 1 → IVec S16 32) a x).toNat < S88320.size a := fun v840 k1_hw432 => k1_hw432
def k1_off462 (i : grid1.Coords) : Fin 4 → Nat :=
  let c1_i32_340 : BitVec 32 := 1#32
  let c7_i32_341 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_342 : BitVec 32 := 0#32
  ![1, 7, v2.toNat, 0]
@[reducible] def k1_t29_loop : Scf.Loop 32 :=
  let c0_i32_349 : BitVec 32 := 0#32
  let c32_i32_350 : BitVec 32 := 32#32
  let v261 : BitVec 32 := Scalar.addi c0_i32_349 c32_i32_350
  let c1_i32_351 : BitVec 32 := 1#32
  ⟨c0_i32_349, v261, c1_i32_351⟩
def k1_off463 (k1_t29 : Fin k1_t29_loop.trips) : Fin 2 → Nat :=
  let c0_i32_1152 : BitVec 32 := 0#32
  let v778 : Index := Scalar.indexCast c0_i32_1152
  let c0_i32_349 : BitVec 32 := 0#32
  let c1_i32_351 : BitVec 32 := 1#32
  let arg9 : BitVec 32 := Scf.iv c0_i32_349 c1_i32_351 k1_t29
  let c16_i32_1151 : BitVec 32 := 16#32
  let v777 : BitVec 32 := Scalar.muli arg9 c16_i32_1151
  let v779 : Index := Scalar.indexCast v777
  ![0, v779.toNat]
def k1_off464 (k1_t29 : Fin k1_t29_loop.trips) : Fin 2 → Nat :=
  let c1_i32_1154 : BitVec 32 := 1#32
  let v782 : Index := Scalar.indexCast c1_i32_1154
  let c0_i32_349 : BitVec 32 := 0#32
  let c1_i32_351 : BitVec 32 := 1#32
  let arg9 : BitVec 32 := Scf.iv c0_i32_349 c1_i32_351 k1_t29
  let c16_i32_1153 : BitVec 32 := 16#32
  let v781 : BitVec 32 := Scalar.muli arg9 c16_i32_1153
  let v783 : Index := Scalar.indexCast v781
  ![1, v783.toNat]
def k1_off465 (k1_t29 : Fin k1_t29_loop.trips) : Fin 2 → Nat :=
  let c2_i32_1156 : BitVec 32 := 2#32
  let v786 : Index := Scalar.indexCast c2_i32_1156
  let c0_i32_349 : BitVec 32 := 0#32
  let c1_i32_351 : BitVec 32 := 1#32
  let arg9 : BitVec 32 := Scf.iv c0_i32_349 c1_i32_351 k1_t29
  let c16_i32_1155 : BitVec 32 := 16#32
  let v785 : BitVec 32 := Scalar.muli arg9 c16_i32_1155
  let v787 : Index := Scalar.indexCast v785
  ![2, v787.toNat]
def k1_off466 (k1_t29 : Fin k1_t29_loop.trips) : Fin 2 → Nat :=
  let c3_i32_1158 : BitVec 32 := 3#32
  let v790 : Index := Scalar.indexCast c3_i32_1158
  let c0_i32_349 : BitVec 32 := 0#32
  let c1_i32_351 : BitVec 32 := 1#32
  let arg9 : BitVec 32 := Scf.iv c0_i32_349 c1_i32_351 k1_t29
  let c16_i32_1157 : BitVec 32 := 16#32
  let v789 : BitVec 32 := Scalar.muli arg9 c16_i32_1157
  let v791 : Index := Scalar.indexCast v789
  ![3, v791.toNat]
def k1_off467 (k1_t29 : Fin k1_t29_loop.trips) : Fin 2 → Nat :=
  let c4_i32_1160 : BitVec 32 := 4#32
  let v794 : Index := Scalar.indexCast c4_i32_1160
  let c0_i32_349 : BitVec 32 := 0#32
  let c1_i32_351 : BitVec 32 := 1#32
  let arg9 : BitVec 32 := Scf.iv c0_i32_349 c1_i32_351 k1_t29
  let c16_i32_1159 : BitVec 32 := 16#32
  let v793 : BitVec 32 := Scalar.muli arg9 c16_i32_1159
  let v795 : Index := Scalar.indexCast v793
  ![4, v795.toNat]
def k1_off468 (k1_t29 : Fin k1_t29_loop.trips) : Fin 2 → Nat :=
  let c5_i32_1162 : BitVec 32 := 5#32
  let v798 : Index := Scalar.indexCast c5_i32_1162
  let c0_i32_349 : BitVec 32 := 0#32
  let c1_i32_351 : BitVec 32 := 1#32
  let arg9 : BitVec 32 := Scf.iv c0_i32_349 c1_i32_351 k1_t29
  let c16_i32_1161 : BitVec 32 := 16#32
  let v797 : BitVec 32 := Scalar.muli arg9 c16_i32_1161
  let v799 : Index := Scalar.indexCast v797
  ![5, v799.toNat]
def k1_off469 (k1_t29 : Fin k1_t29_loop.trips) : Fin 2 → Nat :=
  let c6_i32_1164 : BitVec 32 := 6#32
  let v802 : Index := Scalar.indexCast c6_i32_1164
  let c0_i32_349 : BitVec 32 := 0#32
  let c1_i32_351 : BitVec 32 := 1#32
  let arg9 : BitVec 32 := Scf.iv c0_i32_349 c1_i32_351 k1_t29
  let c16_i32_1163 : BitVec 32 := 16#32
  let v801 : BitVec 32 := Scalar.muli arg9 c16_i32_1163
  let v803 : Index := Scalar.indexCast v801
  ![6, v803.toNat]
def k1_off470 (k1_t29 : Fin k1_t29_loop.trips) : Fin 2 → Nat :=
  let c7_i32_1166 : BitVec 32 := 7#32
  let v806 : Index := Scalar.indexCast c7_i32_1166
  let c0_i32_349 : BitVec 32 := 0#32
  let c1_i32_351 : BitVec 32 := 1#32
  let arg9 : BitVec 32 := Scf.iv c0_i32_349 c1_i32_351 k1_t29
  let c16_i32_1165 : BitVec 32 := 16#32
  let v805 : BitVec 32 := Scalar.muli arg9 c16_i32_1165
  let v807 : Index := Scalar.indexCast v805
  ![7, v807.toNat]
def k1_off471 (k1_t29 : Fin k1_t29_loop.trips) : Fin 2 → Nat :=
  let c8_i32_1168 : BitVec 32 := 8#32
  let v810 : Index := Scalar.indexCast c8_i32_1168
  let c0_i32_349 : BitVec 32 := 0#32
  let c1_i32_351 : BitVec 32 := 1#32
  let arg9 : BitVec 32 := Scf.iv c0_i32_349 c1_i32_351 k1_t29
  let c16_i32_1167 : BitVec 32 := 16#32
  let v809 : BitVec 32 := Scalar.muli arg9 c16_i32_1167
  let v811 : Index := Scalar.indexCast v809
  ![8, v811.toNat]
def k1_off472 (k1_t29 : Fin k1_t29_loop.trips) : Fin 2 → Nat :=
  let c9_i32_1170 : BitVec 32 := 9#32
  let v814 : Index := Scalar.indexCast c9_i32_1170
  let c0_i32_349 : BitVec 32 := 0#32
  let c1_i32_351 : BitVec 32 := 1#32
  let arg9 : BitVec 32 := Scf.iv c0_i32_349 c1_i32_351 k1_t29
  let c16_i32_1169 : BitVec 32 := 16#32
  let v813 : BitVec 32 := Scalar.muli arg9 c16_i32_1169
  let v815 : Index := Scalar.indexCast v813
  ![9, v815.toNat]
def k1_off473 (k1_t29 : Fin k1_t29_loop.trips) : Fin 2 → Nat :=
  let c10_i32_1172 : BitVec 32 := 10#32
  let v818 : Index := Scalar.indexCast c10_i32_1172
  let c0_i32_349 : BitVec 32 := 0#32
  let c1_i32_351 : BitVec 32 := 1#32
  let arg9 : BitVec 32 := Scf.iv c0_i32_349 c1_i32_351 k1_t29
  let c16_i32_1171 : BitVec 32 := 16#32
  let v817 : BitVec 32 := Scalar.muli arg9 c16_i32_1171
  let v819 : Index := Scalar.indexCast v817
  ![10, v819.toNat]
def k1_off474 (k1_t29 : Fin k1_t29_loop.trips) : Fin 2 → Nat :=
  let c11_i32_1174 : BitVec 32 := 11#32
  let v822 : Index := Scalar.indexCast c11_i32_1174
  let c0_i32_349 : BitVec 32 := 0#32
  let c1_i32_351 : BitVec 32 := 1#32
  let arg9 : BitVec 32 := Scf.iv c0_i32_349 c1_i32_351 k1_t29
  let c16_i32_1173 : BitVec 32 := 16#32
  let v821 : BitVec 32 := Scalar.muli arg9 c16_i32_1173
  let v823 : Index := Scalar.indexCast v821
  ![11, v823.toNat]
def k1_off475 (k1_t29 : Fin k1_t29_loop.trips) : Fin 2 → Nat :=
  let c12_i32_1176 : BitVec 32 := 12#32
  let v826 : Index := Scalar.indexCast c12_i32_1176
  let c0_i32_349 : BitVec 32 := 0#32
  let c1_i32_351 : BitVec 32 := 1#32
  let arg9 : BitVec 32 := Scf.iv c0_i32_349 c1_i32_351 k1_t29
  let c16_i32_1175 : BitVec 32 := 16#32
  let v825 : BitVec 32 := Scalar.muli arg9 c16_i32_1175
  let v827 : Index := Scalar.indexCast v825
  ![12, v827.toNat]
def k1_off476 (k1_t29 : Fin k1_t29_loop.trips) : Fin 2 → Nat :=
  let c13_i32_1178 : BitVec 32 := 13#32
  let v830 : Index := Scalar.indexCast c13_i32_1178
  let c0_i32_349 : BitVec 32 := 0#32
  let c1_i32_351 : BitVec 32 := 1#32
  let arg9 : BitVec 32 := Scf.iv c0_i32_349 c1_i32_351 k1_t29
  let c16_i32_1177 : BitVec 32 := 16#32
  let v829 : BitVec 32 := Scalar.muli arg9 c16_i32_1177
  let v831 : Index := Scalar.indexCast v829
  ![13, v831.toNat]
def k1_off477 (k1_t29 : Fin k1_t29_loop.trips) : Fin 2 → Nat :=
  let c14_i32_1180 : BitVec 32 := 14#32
  let v834 : Index := Scalar.indexCast c14_i32_1180
  let c0_i32_349 : BitVec 32 := 0#32
  let c1_i32_351 : BitVec 32 := 1#32
  let arg9 : BitVec 32 := Scf.iv c0_i32_349 c1_i32_351 k1_t29
  let c16_i32_1179 : BitVec 32 := 16#32
  let v833 : BitVec 32 := Scalar.muli arg9 c16_i32_1179
  let v835 : Index := Scalar.indexCast v833
  ![14, v835.toNat]
def k1_off478 (k1_t29 : Fin k1_t29_loop.trips) : Fin 2 → Nat :=
  let c15_i32_1182 : BitVec 32 := 15#32
  let v838 : Index := Scalar.indexCast c15_i32_1182
  let c0_i32_349 : BitVec 32 := 0#32
  let c1_i32_351 : BitVec 32 := 1#32
  let arg9 : BitVec 32 := Scf.iv c0_i32_349 c1_i32_351 k1_t29
  let c16_i32_1181 : BitVec 32 := 16#32
  let v837 : BitVec 32 := Scalar.muli arg9 c16_i32_1181
  let v839 : Index := Scalar.indexCast v837
  ![15, v839.toNat]

def k1_chk433 (v780 : IVec S16 32) : Prop :=
  (∀ a x, ((![v780] : Fin 1 → IVec S16 32) a x).toNat < S88320.size a)
theorem k1_idx433_inb : ∀ (v780 : IVec S16 32) (k1_hw433 : k1_chk433 v780), ∀ a x, ((![v780] : Fin 1 → IVec S16 32) a x).toNat < S88320.size a := fun v780 k1_hw433 => k1_hw433

def k1_chk434 (v784 : IVec S16 32) : Prop :=
  (∀ a x, ((![v784] : Fin 1 → IVec S16 32) a x).toNat < S88320.size a)
theorem k1_idx434_inb : ∀ (v784 : IVec S16 32) (k1_hw434 : k1_chk434 v784), ∀ a x, ((![v784] : Fin 1 → IVec S16 32) a x).toNat < S88320.size a := fun v784 k1_hw434 => k1_hw434

def k1_chk435 (v788 : IVec S16 32) : Prop :=
  (∀ a x, ((![v788] : Fin 1 → IVec S16 32) a x).toNat < S88320.size a)
theorem k1_idx435_inb : ∀ (v788 : IVec S16 32) (k1_hw435 : k1_chk435 v788), ∀ a x, ((![v788] : Fin 1 → IVec S16 32) a x).toNat < S88320.size a := fun v788 k1_hw435 => k1_hw435

def k1_chk436 (v792 : IVec S16 32) : Prop :=
  (∀ a x, ((![v792] : Fin 1 → IVec S16 32) a x).toNat < S88320.size a)
theorem k1_idx436_inb : ∀ (v792 : IVec S16 32) (k1_hw436 : k1_chk436 v792), ∀ a x, ((![v792] : Fin 1 → IVec S16 32) a x).toNat < S88320.size a := fun v792 k1_hw436 => k1_hw436

def k1_chk437 (v796 : IVec S16 32) : Prop :=
  (∀ a x, ((![v796] : Fin 1 → IVec S16 32) a x).toNat < S88320.size a)
theorem k1_idx437_inb : ∀ (v796 : IVec S16 32) (k1_hw437 : k1_chk437 v796), ∀ a x, ((![v796] : Fin 1 → IVec S16 32) a x).toNat < S88320.size a := fun v796 k1_hw437 => k1_hw437

def k1_chk438 (v800 : IVec S16 32) : Prop :=
  (∀ a x, ((![v800] : Fin 1 → IVec S16 32) a x).toNat < S88320.size a)
theorem k1_idx438_inb : ∀ (v800 : IVec S16 32) (k1_hw438 : k1_chk438 v800), ∀ a x, ((![v800] : Fin 1 → IVec S16 32) a x).toNat < S88320.size a := fun v800 k1_hw438 => k1_hw438

def k1_chk439 (v804 : IVec S16 32) : Prop :=
  (∀ a x, ((![v804] : Fin 1 → IVec S16 32) a x).toNat < S88320.size a)
theorem k1_idx439_inb : ∀ (v804 : IVec S16 32) (k1_hw439 : k1_chk439 v804), ∀ a x, ((![v804] : Fin 1 → IVec S16 32) a x).toNat < S88320.size a := fun v804 k1_hw439 => k1_hw439

def k1_chk440 (v808 : IVec S16 32) : Prop :=
  (∀ a x, ((![v808] : Fin 1 → IVec S16 32) a x).toNat < S88320.size a)
theorem k1_idx440_inb : ∀ (v808 : IVec S16 32) (k1_hw440 : k1_chk440 v808), ∀ a x, ((![v808] : Fin 1 → IVec S16 32) a x).toNat < S88320.size a := fun v808 k1_hw440 => k1_hw440

def k1_chk441 (v812 : IVec S16 32) : Prop :=
  (∀ a x, ((![v812] : Fin 1 → IVec S16 32) a x).toNat < S88320.size a)
theorem k1_idx441_inb : ∀ (v812 : IVec S16 32) (k1_hw441 : k1_chk441 v812), ∀ a x, ((![v812] : Fin 1 → IVec S16 32) a x).toNat < S88320.size a := fun v812 k1_hw441 => k1_hw441

def k1_chk442 (v816 : IVec S16 32) : Prop :=
  (∀ a x, ((![v816] : Fin 1 → IVec S16 32) a x).toNat < S88320.size a)
theorem k1_idx442_inb : ∀ (v816 : IVec S16 32) (k1_hw442 : k1_chk442 v816), ∀ a x, ((![v816] : Fin 1 → IVec S16 32) a x).toNat < S88320.size a := fun v816 k1_hw442 => k1_hw442

def k1_chk443 (v820 : IVec S16 32) : Prop :=
  (∀ a x, ((![v820] : Fin 1 → IVec S16 32) a x).toNat < S88320.size a)
theorem k1_idx443_inb : ∀ (v820 : IVec S16 32) (k1_hw443 : k1_chk443 v820), ∀ a x, ((![v820] : Fin 1 → IVec S16 32) a x).toNat < S88320.size a := fun v820 k1_hw443 => k1_hw443

def k1_chk444 (v824 : IVec S16 32) : Prop :=
  (∀ a x, ((![v824] : Fin 1 → IVec S16 32) a x).toNat < S88320.size a)
theorem k1_idx444_inb : ∀ (v824 : IVec S16 32) (k1_hw444 : k1_chk444 v824), ∀ a x, ((![v824] : Fin 1 → IVec S16 32) a x).toNat < S88320.size a := fun v824 k1_hw444 => k1_hw444

def k1_chk445 (v828 : IVec S16 32) : Prop :=
  (∀ a x, ((![v828] : Fin 1 → IVec S16 32) a x).toNat < S88320.size a)
theorem k1_idx445_inb : ∀ (v828 : IVec S16 32) (k1_hw445 : k1_chk445 v828), ∀ a x, ((![v828] : Fin 1 → IVec S16 32) a x).toNat < S88320.size a := fun v828 k1_hw445 => k1_hw445

def k1_chk446 (v832 : IVec S16 32) : Prop :=
  (∀ a x, ((![v832] : Fin 1 → IVec S16 32) a x).toNat < S88320.size a)
theorem k1_idx446_inb : ∀ (v832 : IVec S16 32) (k1_hw446 : k1_chk446 v832), ∀ a x, ((![v832] : Fin 1 → IVec S16 32) a x).toNat < S88320.size a := fun v832 k1_hw446 => k1_hw446

def k1_chk447 (v836 : IVec S16 32) : Prop :=
  (∀ a x, ((![v836] : Fin 1 → IVec S16 32) a x).toNat < S88320.size a)
theorem k1_idx447_inb : ∀ (v836 : IVec S16 32) (k1_hw447 : k1_chk447 v836), ∀ a x, ((![v836] : Fin 1 → IVec S16 32) a x).toNat < S88320.size a := fun v836 k1_hw447 => k1_hw447

def k1_chk448 (v840 : IVec S16 32) : Prop :=
  (∀ a x, ((![v840] : Fin 1 → IVec S16 32) a x).toNat < S88320.size a)
theorem k1_idx448_inb : ∀ (v840 : IVec S16 32) (k1_hw448 : k1_chk448 v840), ∀ a x, ((![v840] : Fin 1 → IVec S16 32) a x).toNat < S88320.size a := fun v840 k1_hw448 => k1_hw448
def k1_off479 (i : grid1.Coords) : Fin 4 → Nat :=
  let c1_i32_353 : BitVec 32 := 1#32
  let c8_i32_354 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_355 : BitVec 32 := 0#32
  ![1, 8, v2.toNat, 0]
@[reducible] def k1_t30_loop : Scf.Loop 32 :=
  let c0_i32_362 : BitVec 32 := 0#32
  let c32_i32_363 : BitVec 32 := 32#32
  let v270 : BitVec 32 := Scalar.addi c0_i32_362 c32_i32_363
  let c1_i32_364 : BitVec 32 := 1#32
  ⟨c0_i32_362, v270, c1_i32_364⟩
def k1_off480 (k1_t30 : Fin k1_t30_loop.trips) : Fin 2 → Nat :=
  let c0_i32_1152 : BitVec 32 := 0#32
  let v778 : Index := Scalar.indexCast c0_i32_1152
  let c0_i32_362 : BitVec 32 := 0#32
  let c1_i32_364 : BitVec 32 := 1#32
  let arg9 : BitVec 32 := Scf.iv c0_i32_362 c1_i32_364 k1_t30
  let c16_i32_1151 : BitVec 32 := 16#32
  let v777 : BitVec 32 := Scalar.muli arg9 c16_i32_1151
  let v779 : Index := Scalar.indexCast v777
  ![0, v779.toNat]
def k1_off481 (k1_t30 : Fin k1_t30_loop.trips) : Fin 2 → Nat :=
  let c1_i32_1154 : BitVec 32 := 1#32
  let v782 : Index := Scalar.indexCast c1_i32_1154
  let c0_i32_362 : BitVec 32 := 0#32
  let c1_i32_364 : BitVec 32 := 1#32
  let arg9 : BitVec 32 := Scf.iv c0_i32_362 c1_i32_364 k1_t30
  let c16_i32_1153 : BitVec 32 := 16#32
  let v781 : BitVec 32 := Scalar.muli arg9 c16_i32_1153
  let v783 : Index := Scalar.indexCast v781
  ![1, v783.toNat]
def k1_off482 (k1_t30 : Fin k1_t30_loop.trips) : Fin 2 → Nat :=
  let c2_i32_1156 : BitVec 32 := 2#32
  let v786 : Index := Scalar.indexCast c2_i32_1156
  let c0_i32_362 : BitVec 32 := 0#32
  let c1_i32_364 : BitVec 32 := 1#32
  let arg9 : BitVec 32 := Scf.iv c0_i32_362 c1_i32_364 k1_t30
  let c16_i32_1155 : BitVec 32 := 16#32
  let v785 : BitVec 32 := Scalar.muli arg9 c16_i32_1155
  let v787 : Index := Scalar.indexCast v785
  ![2, v787.toNat]
def k1_off483 (k1_t30 : Fin k1_t30_loop.trips) : Fin 2 → Nat :=
  let c3_i32_1158 : BitVec 32 := 3#32
  let v790 : Index := Scalar.indexCast c3_i32_1158
  let c0_i32_362 : BitVec 32 := 0#32
  let c1_i32_364 : BitVec 32 := 1#32
  let arg9 : BitVec 32 := Scf.iv c0_i32_362 c1_i32_364 k1_t30
  let c16_i32_1157 : BitVec 32 := 16#32
  let v789 : BitVec 32 := Scalar.muli arg9 c16_i32_1157
  let v791 : Index := Scalar.indexCast v789
  ![3, v791.toNat]
def k1_off484 (k1_t30 : Fin k1_t30_loop.trips) : Fin 2 → Nat :=
  let c4_i32_1160 : BitVec 32 := 4#32
  let v794 : Index := Scalar.indexCast c4_i32_1160
  let c0_i32_362 : BitVec 32 := 0#32
  let c1_i32_364 : BitVec 32 := 1#32
  let arg9 : BitVec 32 := Scf.iv c0_i32_362 c1_i32_364 k1_t30
  let c16_i32_1159 : BitVec 32 := 16#32
  let v793 : BitVec 32 := Scalar.muli arg9 c16_i32_1159
  let v795 : Index := Scalar.indexCast v793
  ![4, v795.toNat]
def k1_off485 (k1_t30 : Fin k1_t30_loop.trips) : Fin 2 → Nat :=
  let c5_i32_1162 : BitVec 32 := 5#32
  let v798 : Index := Scalar.indexCast c5_i32_1162
  let c0_i32_362 : BitVec 32 := 0#32
  let c1_i32_364 : BitVec 32 := 1#32
  let arg9 : BitVec 32 := Scf.iv c0_i32_362 c1_i32_364 k1_t30
  let c16_i32_1161 : BitVec 32 := 16#32
  let v797 : BitVec 32 := Scalar.muli arg9 c16_i32_1161
  let v799 : Index := Scalar.indexCast v797
  ![5, v799.toNat]
def k1_off486 (k1_t30 : Fin k1_t30_loop.trips) : Fin 2 → Nat :=
  let c6_i32_1164 : BitVec 32 := 6#32
  let v802 : Index := Scalar.indexCast c6_i32_1164
  let c0_i32_362 : BitVec 32 := 0#32
  let c1_i32_364 : BitVec 32 := 1#32
  let arg9 : BitVec 32 := Scf.iv c0_i32_362 c1_i32_364 k1_t30
  let c16_i32_1163 : BitVec 32 := 16#32
  let v801 : BitVec 32 := Scalar.muli arg9 c16_i32_1163
  let v803 : Index := Scalar.indexCast v801
  ![6, v803.toNat]
def k1_off487 (k1_t30 : Fin k1_t30_loop.trips) : Fin 2 → Nat :=
  let c7_i32_1166 : BitVec 32 := 7#32
  let v806 : Index := Scalar.indexCast c7_i32_1166
  let c0_i32_362 : BitVec 32 := 0#32
  let c1_i32_364 : BitVec 32 := 1#32
  let arg9 : BitVec 32 := Scf.iv c0_i32_362 c1_i32_364 k1_t30
  let c16_i32_1165 : BitVec 32 := 16#32
  let v805 : BitVec 32 := Scalar.muli arg9 c16_i32_1165
  let v807 : Index := Scalar.indexCast v805
  ![7, v807.toNat]
def k1_off488 (k1_t30 : Fin k1_t30_loop.trips) : Fin 2 → Nat :=
  let c8_i32_1168 : BitVec 32 := 8#32
  let v810 : Index := Scalar.indexCast c8_i32_1168
  let c0_i32_362 : BitVec 32 := 0#32
  let c1_i32_364 : BitVec 32 := 1#32
  let arg9 : BitVec 32 := Scf.iv c0_i32_362 c1_i32_364 k1_t30
  let c16_i32_1167 : BitVec 32 := 16#32
  let v809 : BitVec 32 := Scalar.muli arg9 c16_i32_1167
  let v811 : Index := Scalar.indexCast v809
  ![8, v811.toNat]
def k1_off489 (k1_t30 : Fin k1_t30_loop.trips) : Fin 2 → Nat :=
  let c9_i32_1170 : BitVec 32 := 9#32
  let v814 : Index := Scalar.indexCast c9_i32_1170
  let c0_i32_362 : BitVec 32 := 0#32
  let c1_i32_364 : BitVec 32 := 1#32
  let arg9 : BitVec 32 := Scf.iv c0_i32_362 c1_i32_364 k1_t30
  let c16_i32_1169 : BitVec 32 := 16#32
  let v813 : BitVec 32 := Scalar.muli arg9 c16_i32_1169
  let v815 : Index := Scalar.indexCast v813
  ![9, v815.toNat]
def k1_off490 (k1_t30 : Fin k1_t30_loop.trips) : Fin 2 → Nat :=
  let c10_i32_1172 : BitVec 32 := 10#32
  let v818 : Index := Scalar.indexCast c10_i32_1172
  let c0_i32_362 : BitVec 32 := 0#32
  let c1_i32_364 : BitVec 32 := 1#32
  let arg9 : BitVec 32 := Scf.iv c0_i32_362 c1_i32_364 k1_t30
  let c16_i32_1171 : BitVec 32 := 16#32
  let v817 : BitVec 32 := Scalar.muli arg9 c16_i32_1171
  let v819 : Index := Scalar.indexCast v817
  ![10, v819.toNat]
def k1_off491 (k1_t30 : Fin k1_t30_loop.trips) : Fin 2 → Nat :=
  let c11_i32_1174 : BitVec 32 := 11#32
  let v822 : Index := Scalar.indexCast c11_i32_1174
  let c0_i32_362 : BitVec 32 := 0#32
  let c1_i32_364 : BitVec 32 := 1#32
  let arg9 : BitVec 32 := Scf.iv c0_i32_362 c1_i32_364 k1_t30
  let c16_i32_1173 : BitVec 32 := 16#32
  let v821 : BitVec 32 := Scalar.muli arg9 c16_i32_1173
  let v823 : Index := Scalar.indexCast v821
  ![11, v823.toNat]
def k1_off492 (k1_t30 : Fin k1_t30_loop.trips) : Fin 2 → Nat :=
  let c12_i32_1176 : BitVec 32 := 12#32
  let v826 : Index := Scalar.indexCast c12_i32_1176
  let c0_i32_362 : BitVec 32 := 0#32
  let c1_i32_364 : BitVec 32 := 1#32
  let arg9 : BitVec 32 := Scf.iv c0_i32_362 c1_i32_364 k1_t30
  let c16_i32_1175 : BitVec 32 := 16#32
  let v825 : BitVec 32 := Scalar.muli arg9 c16_i32_1175
  let v827 : Index := Scalar.indexCast v825
  ![12, v827.toNat]
def k1_off493 (k1_t30 : Fin k1_t30_loop.trips) : Fin 2 → Nat :=
  let c13_i32_1178 : BitVec 32 := 13#32
  let v830 : Index := Scalar.indexCast c13_i32_1178
  let c0_i32_362 : BitVec 32 := 0#32
  let c1_i32_364 : BitVec 32 := 1#32
  let arg9 : BitVec 32 := Scf.iv c0_i32_362 c1_i32_364 k1_t30
  let c16_i32_1177 : BitVec 32 := 16#32
  let v829 : BitVec 32 := Scalar.muli arg9 c16_i32_1177
  let v831 : Index := Scalar.indexCast v829
  ![13, v831.toNat]
def k1_off494 (k1_t30 : Fin k1_t30_loop.trips) : Fin 2 → Nat :=
  let c14_i32_1180 : BitVec 32 := 14#32
  let v834 : Index := Scalar.indexCast c14_i32_1180
  let c0_i32_362 : BitVec 32 := 0#32
  let c1_i32_364 : BitVec 32 := 1#32
  let arg9 : BitVec 32 := Scf.iv c0_i32_362 c1_i32_364 k1_t30
  let c16_i32_1179 : BitVec 32 := 16#32
  let v833 : BitVec 32 := Scalar.muli arg9 c16_i32_1179
  let v835 : Index := Scalar.indexCast v833
  ![14, v835.toNat]
def k1_off495 (k1_t30 : Fin k1_t30_loop.trips) : Fin 2 → Nat :=
  let c15_i32_1182 : BitVec 32 := 15#32
  let v838 : Index := Scalar.indexCast c15_i32_1182
  let c0_i32_362 : BitVec 32 := 0#32
  let c1_i32_364 : BitVec 32 := 1#32
  let arg9 : BitVec 32 := Scf.iv c0_i32_362 c1_i32_364 k1_t30
  let c16_i32_1181 : BitVec 32 := 16#32
  let v837 : BitVec 32 := Scalar.muli arg9 c16_i32_1181
  let v839 : Index := Scalar.indexCast v837
  ![15, v839.toNat]

def k1_chk449 (v780 : IVec S16 32) : Prop :=
  (∀ a x, ((![v780] : Fin 1 → IVec S16 32) a x).toNat < S88320.size a)
theorem k1_idx449_inb : ∀ (v780 : IVec S16 32) (k1_hw449 : k1_chk449 v780), ∀ a x, ((![v780] : Fin 1 → IVec S16 32) a x).toNat < S88320.size a := fun v780 k1_hw449 => k1_hw449

def k1_chk450 (v784 : IVec S16 32) : Prop :=
  (∀ a x, ((![v784] : Fin 1 → IVec S16 32) a x).toNat < S88320.size a)
theorem k1_idx450_inb : ∀ (v784 : IVec S16 32) (k1_hw450 : k1_chk450 v784), ∀ a x, ((![v784] : Fin 1 → IVec S16 32) a x).toNat < S88320.size a := fun v784 k1_hw450 => k1_hw450

def k1_chk451 (v788 : IVec S16 32) : Prop :=
  (∀ a x, ((![v788] : Fin 1 → IVec S16 32) a x).toNat < S88320.size a)
theorem k1_idx451_inb : ∀ (v788 : IVec S16 32) (k1_hw451 : k1_chk451 v788), ∀ a x, ((![v788] : Fin 1 → IVec S16 32) a x).toNat < S88320.size a := fun v788 k1_hw451 => k1_hw451

def k1_chk452 (v792 : IVec S16 32) : Prop :=
  (∀ a x, ((![v792] : Fin 1 → IVec S16 32) a x).toNat < S88320.size a)
theorem k1_idx452_inb : ∀ (v792 : IVec S16 32) (k1_hw452 : k1_chk452 v792), ∀ a x, ((![v792] : Fin 1 → IVec S16 32) a x).toNat < S88320.size a := fun v792 k1_hw452 => k1_hw452

def k1_chk453 (v796 : IVec S16 32) : Prop :=
  (∀ a x, ((![v796] : Fin 1 → IVec S16 32) a x).toNat < S88320.size a)
theorem k1_idx453_inb : ∀ (v796 : IVec S16 32) (k1_hw453 : k1_chk453 v796), ∀ a x, ((![v796] : Fin 1 → IVec S16 32) a x).toNat < S88320.size a := fun v796 k1_hw453 => k1_hw453

def k1_chk454 (v800 : IVec S16 32) : Prop :=
  (∀ a x, ((![v800] : Fin 1 → IVec S16 32) a x).toNat < S88320.size a)
theorem k1_idx454_inb : ∀ (v800 : IVec S16 32) (k1_hw454 : k1_chk454 v800), ∀ a x, ((![v800] : Fin 1 → IVec S16 32) a x).toNat < S88320.size a := fun v800 k1_hw454 => k1_hw454

def k1_chk455 (v804 : IVec S16 32) : Prop :=
  (∀ a x, ((![v804] : Fin 1 → IVec S16 32) a x).toNat < S88320.size a)
theorem k1_idx455_inb : ∀ (v804 : IVec S16 32) (k1_hw455 : k1_chk455 v804), ∀ a x, ((![v804] : Fin 1 → IVec S16 32) a x).toNat < S88320.size a := fun v804 k1_hw455 => k1_hw455

def k1_chk456 (v808 : IVec S16 32) : Prop :=
  (∀ a x, ((![v808] : Fin 1 → IVec S16 32) a x).toNat < S88320.size a)
theorem k1_idx456_inb : ∀ (v808 : IVec S16 32) (k1_hw456 : k1_chk456 v808), ∀ a x, ((![v808] : Fin 1 → IVec S16 32) a x).toNat < S88320.size a := fun v808 k1_hw456 => k1_hw456

def k1_chk457 (v812 : IVec S16 32) : Prop :=
  (∀ a x, ((![v812] : Fin 1 → IVec S16 32) a x).toNat < S88320.size a)
theorem k1_idx457_inb : ∀ (v812 : IVec S16 32) (k1_hw457 : k1_chk457 v812), ∀ a x, ((![v812] : Fin 1 → IVec S16 32) a x).toNat < S88320.size a := fun v812 k1_hw457 => k1_hw457

def k1_chk458 (v816 : IVec S16 32) : Prop :=
  (∀ a x, ((![v816] : Fin 1 → IVec S16 32) a x).toNat < S88320.size a)
theorem k1_idx458_inb : ∀ (v816 : IVec S16 32) (k1_hw458 : k1_chk458 v816), ∀ a x, ((![v816] : Fin 1 → IVec S16 32) a x).toNat < S88320.size a := fun v816 k1_hw458 => k1_hw458

def k1_chk459 (v820 : IVec S16 32) : Prop :=
  (∀ a x, ((![v820] : Fin 1 → IVec S16 32) a x).toNat < S88320.size a)
theorem k1_idx459_inb : ∀ (v820 : IVec S16 32) (k1_hw459 : k1_chk459 v820), ∀ a x, ((![v820] : Fin 1 → IVec S16 32) a x).toNat < S88320.size a := fun v820 k1_hw459 => k1_hw459

def k1_chk460 (v824 : IVec S16 32) : Prop :=
  (∀ a x, ((![v824] : Fin 1 → IVec S16 32) a x).toNat < S88320.size a)
theorem k1_idx460_inb : ∀ (v824 : IVec S16 32) (k1_hw460 : k1_chk460 v824), ∀ a x, ((![v824] : Fin 1 → IVec S16 32) a x).toNat < S88320.size a := fun v824 k1_hw460 => k1_hw460

def k1_chk461 (v828 : IVec S16 32) : Prop :=
  (∀ a x, ((![v828] : Fin 1 → IVec S16 32) a x).toNat < S88320.size a)
theorem k1_idx461_inb : ∀ (v828 : IVec S16 32) (k1_hw461 : k1_chk461 v828), ∀ a x, ((![v828] : Fin 1 → IVec S16 32) a x).toNat < S88320.size a := fun v828 k1_hw461 => k1_hw461

def k1_chk462 (v832 : IVec S16 32) : Prop :=
  (∀ a x, ((![v832] : Fin 1 → IVec S16 32) a x).toNat < S88320.size a)
theorem k1_idx462_inb : ∀ (v832 : IVec S16 32) (k1_hw462 : k1_chk462 v832), ∀ a x, ((![v832] : Fin 1 → IVec S16 32) a x).toNat < S88320.size a := fun v832 k1_hw462 => k1_hw462

def k1_chk463 (v836 : IVec S16 32) : Prop :=
  (∀ a x, ((![v836] : Fin 1 → IVec S16 32) a x).toNat < S88320.size a)
theorem k1_idx463_inb : ∀ (v836 : IVec S16 32) (k1_hw463 : k1_chk463 v836), ∀ a x, ((![v836] : Fin 1 → IVec S16 32) a x).toNat < S88320.size a := fun v836 k1_hw463 => k1_hw463

def k1_chk464 (v840 : IVec S16 32) : Prop :=
  (∀ a x, ((![v840] : Fin 1 → IVec S16 32) a x).toNat < S88320.size a)
theorem k1_idx464_inb : ∀ (v840 : IVec S16 32) (k1_hw464 : k1_chk464 v840), ∀ a x, ((![v840] : Fin 1 → IVec S16 32) a x).toNat < S88320.size a := fun v840 k1_hw464 => k1_hw464
def k1_off496 (i : grid1.Coords) : Fin 4 → Nat :=
  let c1_i32_366 : BitVec 32 := 1#32
  let c9_i32_367 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_368 : BitVec 32 := 0#32
  ![1, 9, v2.toNat, 0]
@[reducible] def k1_t31_loop : Scf.Loop 32 :=
  let c0_i32_375 : BitVec 32 := 0#32
  let c32_i32_376 : BitVec 32 := 32#32
  let v279 : BitVec 32 := Scalar.addi c0_i32_375 c32_i32_376
  let c1_i32_377 : BitVec 32 := 1#32
  ⟨c0_i32_375, v279, c1_i32_377⟩
def k1_off497 (k1_t31 : Fin k1_t31_loop.trips) : Fin 2 → Nat :=
  let c0_i32_1152 : BitVec 32 := 0#32
  let v778 : Index := Scalar.indexCast c0_i32_1152
  let c0_i32_375 : BitVec 32 := 0#32
  let c1_i32_377 : BitVec 32 := 1#32
  let arg9 : BitVec 32 := Scf.iv c0_i32_375 c1_i32_377 k1_t31
  let c16_i32_1151 : BitVec 32 := 16#32
  let v777 : BitVec 32 := Scalar.muli arg9 c16_i32_1151
  let v779 : Index := Scalar.indexCast v777
  ![0, v779.toNat]
def k1_off498 (k1_t31 : Fin k1_t31_loop.trips) : Fin 2 → Nat :=
  let c1_i32_1154 : BitVec 32 := 1#32
  let v782 : Index := Scalar.indexCast c1_i32_1154
  let c0_i32_375 : BitVec 32 := 0#32
  let c1_i32_377 : BitVec 32 := 1#32
  let arg9 : BitVec 32 := Scf.iv c0_i32_375 c1_i32_377 k1_t31
  let c16_i32_1153 : BitVec 32 := 16#32
  let v781 : BitVec 32 := Scalar.muli arg9 c16_i32_1153
  let v783 : Index := Scalar.indexCast v781
  ![1, v783.toNat]
def k1_off499 (k1_t31 : Fin k1_t31_loop.trips) : Fin 2 → Nat :=
  let c2_i32_1156 : BitVec 32 := 2#32
  let v786 : Index := Scalar.indexCast c2_i32_1156
  let c0_i32_375 : BitVec 32 := 0#32
  let c1_i32_377 : BitVec 32 := 1#32
  let arg9 : BitVec 32 := Scf.iv c0_i32_375 c1_i32_377 k1_t31
  let c16_i32_1155 : BitVec 32 := 16#32
  let v785 : BitVec 32 := Scalar.muli arg9 c16_i32_1155
  let v787 : Index := Scalar.indexCast v785
  ![2, v787.toNat]
def k1_off500 (k1_t31 : Fin k1_t31_loop.trips) : Fin 2 → Nat :=
  let c3_i32_1158 : BitVec 32 := 3#32
  let v790 : Index := Scalar.indexCast c3_i32_1158
  let c0_i32_375 : BitVec 32 := 0#32
  let c1_i32_377 : BitVec 32 := 1#32
  let arg9 : BitVec 32 := Scf.iv c0_i32_375 c1_i32_377 k1_t31
  let c16_i32_1157 : BitVec 32 := 16#32
  let v789 : BitVec 32 := Scalar.muli arg9 c16_i32_1157
  let v791 : Index := Scalar.indexCast v789
  ![3, v791.toNat]
def k1_off501 (k1_t31 : Fin k1_t31_loop.trips) : Fin 2 → Nat :=
  let c4_i32_1160 : BitVec 32 := 4#32
  let v794 : Index := Scalar.indexCast c4_i32_1160
  let c0_i32_375 : BitVec 32 := 0#32
  let c1_i32_377 : BitVec 32 := 1#32
  let arg9 : BitVec 32 := Scf.iv c0_i32_375 c1_i32_377 k1_t31
  let c16_i32_1159 : BitVec 32 := 16#32
  let v793 : BitVec 32 := Scalar.muli arg9 c16_i32_1159
  let v795 : Index := Scalar.indexCast v793
  ![4, v795.toNat]
def k1_off502 (k1_t31 : Fin k1_t31_loop.trips) : Fin 2 → Nat :=
  let c5_i32_1162 : BitVec 32 := 5#32
  let v798 : Index := Scalar.indexCast c5_i32_1162
  let c0_i32_375 : BitVec 32 := 0#32
  let c1_i32_377 : BitVec 32 := 1#32
  let arg9 : BitVec 32 := Scf.iv c0_i32_375 c1_i32_377 k1_t31
  let c16_i32_1161 : BitVec 32 := 16#32
  let v797 : BitVec 32 := Scalar.muli arg9 c16_i32_1161
  let v799 : Index := Scalar.indexCast v797
  ![5, v799.toNat]
def k1_off503 (k1_t31 : Fin k1_t31_loop.trips) : Fin 2 → Nat :=
  let c6_i32_1164 : BitVec 32 := 6#32
  let v802 : Index := Scalar.indexCast c6_i32_1164
  let c0_i32_375 : BitVec 32 := 0#32
  let c1_i32_377 : BitVec 32 := 1#32
  let arg9 : BitVec 32 := Scf.iv c0_i32_375 c1_i32_377 k1_t31
  let c16_i32_1163 : BitVec 32 := 16#32
  let v801 : BitVec 32 := Scalar.muli arg9 c16_i32_1163
  let v803 : Index := Scalar.indexCast v801
  ![6, v803.toNat]
def k1_off504 (k1_t31 : Fin k1_t31_loop.trips) : Fin 2 → Nat :=
  let c7_i32_1166 : BitVec 32 := 7#32
  let v806 : Index := Scalar.indexCast c7_i32_1166
  let c0_i32_375 : BitVec 32 := 0#32
  let c1_i32_377 : BitVec 32 := 1#32
  let arg9 : BitVec 32 := Scf.iv c0_i32_375 c1_i32_377 k1_t31
  let c16_i32_1165 : BitVec 32 := 16#32
  let v805 : BitVec 32 := Scalar.muli arg9 c16_i32_1165
  let v807 : Index := Scalar.indexCast v805
  ![7, v807.toNat]
def k1_off505 (k1_t31 : Fin k1_t31_loop.trips) : Fin 2 → Nat :=
  let c8_i32_1168 : BitVec 32 := 8#32
  let v810 : Index := Scalar.indexCast c8_i32_1168
  let c0_i32_375 : BitVec 32 := 0#32
  let c1_i32_377 : BitVec 32 := 1#32
  let arg9 : BitVec 32 := Scf.iv c0_i32_375 c1_i32_377 k1_t31
  let c16_i32_1167 : BitVec 32 := 16#32
  let v809 : BitVec 32 := Scalar.muli arg9 c16_i32_1167
  let v811 : Index := Scalar.indexCast v809
  ![8, v811.toNat]
def k1_off506 (k1_t31 : Fin k1_t31_loop.trips) : Fin 2 → Nat :=
  let c9_i32_1170 : BitVec 32 := 9#32
  let v814 : Index := Scalar.indexCast c9_i32_1170
  let c0_i32_375 : BitVec 32 := 0#32
  let c1_i32_377 : BitVec 32 := 1#32
  let arg9 : BitVec 32 := Scf.iv c0_i32_375 c1_i32_377 k1_t31
  let c16_i32_1169 : BitVec 32 := 16#32
  let v813 : BitVec 32 := Scalar.muli arg9 c16_i32_1169
  let v815 : Index := Scalar.indexCast v813
  ![9, v815.toNat]
def k1_off507 (k1_t31 : Fin k1_t31_loop.trips) : Fin 2 → Nat :=
  let c10_i32_1172 : BitVec 32 := 10#32
  let v818 : Index := Scalar.indexCast c10_i32_1172
  let c0_i32_375 : BitVec 32 := 0#32
  let c1_i32_377 : BitVec 32 := 1#32
  let arg9 : BitVec 32 := Scf.iv c0_i32_375 c1_i32_377 k1_t31
  let c16_i32_1171 : BitVec 32 := 16#32
  let v817 : BitVec 32 := Scalar.muli arg9 c16_i32_1171
  let v819 : Index := Scalar.indexCast v817
  ![10, v819.toNat]
def k1_off508 (k1_t31 : Fin k1_t31_loop.trips) : Fin 2 → Nat :=
  let c11_i32_1174 : BitVec 32 := 11#32
  let v822 : Index := Scalar.indexCast c11_i32_1174
  let c0_i32_375 : BitVec 32 := 0#32
  let c1_i32_377 : BitVec 32 := 1#32
  let arg9 : BitVec 32 := Scf.iv c0_i32_375 c1_i32_377 k1_t31
  let c16_i32_1173 : BitVec 32 := 16#32
  let v821 : BitVec 32 := Scalar.muli arg9 c16_i32_1173
  let v823 : Index := Scalar.indexCast v821
  ![11, v823.toNat]
def k1_off509 (k1_t31 : Fin k1_t31_loop.trips) : Fin 2 → Nat :=
  let c12_i32_1176 : BitVec 32 := 12#32
  let v826 : Index := Scalar.indexCast c12_i32_1176
  let c0_i32_375 : BitVec 32 := 0#32
  let c1_i32_377 : BitVec 32 := 1#32
  let arg9 : BitVec 32 := Scf.iv c0_i32_375 c1_i32_377 k1_t31
  let c16_i32_1175 : BitVec 32 := 16#32
  let v825 : BitVec 32 := Scalar.muli arg9 c16_i32_1175
  let v827 : Index := Scalar.indexCast v825
  ![12, v827.toNat]
def k1_off510 (k1_t31 : Fin k1_t31_loop.trips) : Fin 2 → Nat :=
  let c13_i32_1178 : BitVec 32 := 13#32
  let v830 : Index := Scalar.indexCast c13_i32_1178
  let c0_i32_375 : BitVec 32 := 0#32
  let c1_i32_377 : BitVec 32 := 1#32
  let arg9 : BitVec 32 := Scf.iv c0_i32_375 c1_i32_377 k1_t31
  let c16_i32_1177 : BitVec 32 := 16#32
  let v829 : BitVec 32 := Scalar.muli arg9 c16_i32_1177
  let v831 : Index := Scalar.indexCast v829
  ![13, v831.toNat]
def k1_off511 (k1_t31 : Fin k1_t31_loop.trips) : Fin 2 → Nat :=
  let c14_i32_1180 : BitVec 32 := 14#32
  let v834 : Index := Scalar.indexCast c14_i32_1180
  let c0_i32_375 : BitVec 32 := 0#32
  let c1_i32_377 : BitVec 32 := 1#32
  let arg9 : BitVec 32 := Scf.iv c0_i32_375 c1_i32_377 k1_t31
  let c16_i32_1179 : BitVec 32 := 16#32
  let v833 : BitVec 32 := Scalar.muli arg9 c16_i32_1179
  let v835 : Index := Scalar.indexCast v833
  ![14, v835.toNat]
def k1_off512 (k1_t31 : Fin k1_t31_loop.trips) : Fin 2 → Nat :=
  let c15_i32_1182 : BitVec 32 := 15#32
  let v838 : Index := Scalar.indexCast c15_i32_1182
  let c0_i32_375 : BitVec 32 := 0#32
  let c1_i32_377 : BitVec 32 := 1#32
  let arg9 : BitVec 32 := Scf.iv c0_i32_375 c1_i32_377 k1_t31
  let c16_i32_1181 : BitVec 32 := 16#32
  let v837 : BitVec 32 := Scalar.muli arg9 c16_i32_1181
  let v839 : Index := Scalar.indexCast v837
  ![15, v839.toNat]

def k1_chk465 (v780 : IVec S16 32) : Prop :=
  (∀ a x, ((![v780] : Fin 1 → IVec S16 32) a x).toNat < S88320.size a)
theorem k1_idx465_inb : ∀ (v780 : IVec S16 32) (k1_hw465 : k1_chk465 v780), ∀ a x, ((![v780] : Fin 1 → IVec S16 32) a x).toNat < S88320.size a := fun v780 k1_hw465 => k1_hw465

def k1_chk466 (v784 : IVec S16 32) : Prop :=
  (∀ a x, ((![v784] : Fin 1 → IVec S16 32) a x).toNat < S88320.size a)
theorem k1_idx466_inb : ∀ (v784 : IVec S16 32) (k1_hw466 : k1_chk466 v784), ∀ a x, ((![v784] : Fin 1 → IVec S16 32) a x).toNat < S88320.size a := fun v784 k1_hw466 => k1_hw466

def k1_chk467 (v788 : IVec S16 32) : Prop :=
  (∀ a x, ((![v788] : Fin 1 → IVec S16 32) a x).toNat < S88320.size a)
theorem k1_idx467_inb : ∀ (v788 : IVec S16 32) (k1_hw467 : k1_chk467 v788), ∀ a x, ((![v788] : Fin 1 → IVec S16 32) a x).toNat < S88320.size a := fun v788 k1_hw467 => k1_hw467

def k1_chk468 (v792 : IVec S16 32) : Prop :=
  (∀ a x, ((![v792] : Fin 1 → IVec S16 32) a x).toNat < S88320.size a)
theorem k1_idx468_inb : ∀ (v792 : IVec S16 32) (k1_hw468 : k1_chk468 v792), ∀ a x, ((![v792] : Fin 1 → IVec S16 32) a x).toNat < S88320.size a := fun v792 k1_hw468 => k1_hw468

def k1_chk469 (v796 : IVec S16 32) : Prop :=
  (∀ a x, ((![v796] : Fin 1 → IVec S16 32) a x).toNat < S88320.size a)
theorem k1_idx469_inb : ∀ (v796 : IVec S16 32) (k1_hw469 : k1_chk469 v796), ∀ a x, ((![v796] : Fin 1 → IVec S16 32) a x).toNat < S88320.size a := fun v796 k1_hw469 => k1_hw469

def k1_chk470 (v800 : IVec S16 32) : Prop :=
  (∀ a x, ((![v800] : Fin 1 → IVec S16 32) a x).toNat < S88320.size a)
theorem k1_idx470_inb : ∀ (v800 : IVec S16 32) (k1_hw470 : k1_chk470 v800), ∀ a x, ((![v800] : Fin 1 → IVec S16 32) a x).toNat < S88320.size a := fun v800 k1_hw470 => k1_hw470

def k1_chk471 (v804 : IVec S16 32) : Prop :=
  (∀ a x, ((![v804] : Fin 1 → IVec S16 32) a x).toNat < S88320.size a)
theorem k1_idx471_inb : ∀ (v804 : IVec S16 32) (k1_hw471 : k1_chk471 v804), ∀ a x, ((![v804] : Fin 1 → IVec S16 32) a x).toNat < S88320.size a := fun v804 k1_hw471 => k1_hw471

def k1_chk472 (v808 : IVec S16 32) : Prop :=
  (∀ a x, ((![v808] : Fin 1 → IVec S16 32) a x).toNat < S88320.size a)
theorem k1_idx472_inb : ∀ (v808 : IVec S16 32) (k1_hw472 : k1_chk472 v808), ∀ a x, ((![v808] : Fin 1 → IVec S16 32) a x).toNat < S88320.size a := fun v808 k1_hw472 => k1_hw472

def k1_chk473 (v812 : IVec S16 32) : Prop :=
  (∀ a x, ((![v812] : Fin 1 → IVec S16 32) a x).toNat < S88320.size a)
theorem k1_idx473_inb : ∀ (v812 : IVec S16 32) (k1_hw473 : k1_chk473 v812), ∀ a x, ((![v812] : Fin 1 → IVec S16 32) a x).toNat < S88320.size a := fun v812 k1_hw473 => k1_hw473

def k1_chk474 (v816 : IVec S16 32) : Prop :=
  (∀ a x, ((![v816] : Fin 1 → IVec S16 32) a x).toNat < S88320.size a)
theorem k1_idx474_inb : ∀ (v816 : IVec S16 32) (k1_hw474 : k1_chk474 v816), ∀ a x, ((![v816] : Fin 1 → IVec S16 32) a x).toNat < S88320.size a := fun v816 k1_hw474 => k1_hw474

def k1_chk475 (v820 : IVec S16 32) : Prop :=
  (∀ a x, ((![v820] : Fin 1 → IVec S16 32) a x).toNat < S88320.size a)
theorem k1_idx475_inb : ∀ (v820 : IVec S16 32) (k1_hw475 : k1_chk475 v820), ∀ a x, ((![v820] : Fin 1 → IVec S16 32) a x).toNat < S88320.size a := fun v820 k1_hw475 => k1_hw475

def k1_chk476 (v824 : IVec S16 32) : Prop :=
  (∀ a x, ((![v824] : Fin 1 → IVec S16 32) a x).toNat < S88320.size a)
theorem k1_idx476_inb : ∀ (v824 : IVec S16 32) (k1_hw476 : k1_chk476 v824), ∀ a x, ((![v824] : Fin 1 → IVec S16 32) a x).toNat < S88320.size a := fun v824 k1_hw476 => k1_hw476

def k1_chk477 (v828 : IVec S16 32) : Prop :=
  (∀ a x, ((![v828] : Fin 1 → IVec S16 32) a x).toNat < S88320.size a)
theorem k1_idx477_inb : ∀ (v828 : IVec S16 32) (k1_hw477 : k1_chk477 v828), ∀ a x, ((![v828] : Fin 1 → IVec S16 32) a x).toNat < S88320.size a := fun v828 k1_hw477 => k1_hw477

def k1_chk478 (v832 : IVec S16 32) : Prop :=
  (∀ a x, ((![v832] : Fin 1 → IVec S16 32) a x).toNat < S88320.size a)
theorem k1_idx478_inb : ∀ (v832 : IVec S16 32) (k1_hw478 : k1_chk478 v832), ∀ a x, ((![v832] : Fin 1 → IVec S16 32) a x).toNat < S88320.size a := fun v832 k1_hw478 => k1_hw478

def k1_chk479 (v836 : IVec S16 32) : Prop :=
  (∀ a x, ((![v836] : Fin 1 → IVec S16 32) a x).toNat < S88320.size a)
theorem k1_idx479_inb : ∀ (v836 : IVec S16 32) (k1_hw479 : k1_chk479 v836), ∀ a x, ((![v836] : Fin 1 → IVec S16 32) a x).toNat < S88320.size a := fun v836 k1_hw479 => k1_hw479

def k1_chk480 (v840 : IVec S16 32) : Prop :=
  (∀ a x, ((![v840] : Fin 1 → IVec S16 32) a x).toNat < S88320.size a)
theorem k1_idx480_inb : ∀ (v840 : IVec S16 32) (k1_hw480 : k1_chk480 v840), ∀ a x, ((![v840] : Fin 1 → IVec S16 32) a x).toNat < S88320.size a := fun v840 k1_hw480 => k1_hw480
def k1_off513 (i : grid1.Coords) : Fin 4 → Nat :=
  let c1_i32_379 : BitVec 32 := 1#32
  let c10_i32_380 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_381 : BitVec 32 := 0#32
  ![1, 10, v2.toNat, 0]
@[reducible] def k1_t32_loop : Scf.Loop 32 :=
  let c0_i32_388 : BitVec 32 := 0#32
  let c32_i32_389 : BitVec 32 := 32#32
  let v288 : BitVec 32 := Scalar.addi c0_i32_388 c32_i32_389
  let c1_i32_390 : BitVec 32 := 1#32
  ⟨c0_i32_388, v288, c1_i32_390⟩
def k1_off514 (k1_t32 : Fin k1_t32_loop.trips) : Fin 2 → Nat :=
  let c0_i32_1152 : BitVec 32 := 0#32
  let v778 : Index := Scalar.indexCast c0_i32_1152
  let c0_i32_388 : BitVec 32 := 0#32
  let c1_i32_390 : BitVec 32 := 1#32
  let arg9 : BitVec 32 := Scf.iv c0_i32_388 c1_i32_390 k1_t32
  let c16_i32_1151 : BitVec 32 := 16#32
  let v777 : BitVec 32 := Scalar.muli arg9 c16_i32_1151
  let v779 : Index := Scalar.indexCast v777
  ![0, v779.toNat]
def k1_off515 (k1_t32 : Fin k1_t32_loop.trips) : Fin 2 → Nat :=
  let c1_i32_1154 : BitVec 32 := 1#32
  let v782 : Index := Scalar.indexCast c1_i32_1154
  let c0_i32_388 : BitVec 32 := 0#32
  let c1_i32_390 : BitVec 32 := 1#32
  let arg9 : BitVec 32 := Scf.iv c0_i32_388 c1_i32_390 k1_t32
  let c16_i32_1153 : BitVec 32 := 16#32
  let v781 : BitVec 32 := Scalar.muli arg9 c16_i32_1153
  let v783 : Index := Scalar.indexCast v781
  ![1, v783.toNat]
def k1_off516 (k1_t32 : Fin k1_t32_loop.trips) : Fin 2 → Nat :=
  let c2_i32_1156 : BitVec 32 := 2#32
  let v786 : Index := Scalar.indexCast c2_i32_1156
  let c0_i32_388 : BitVec 32 := 0#32
  let c1_i32_390 : BitVec 32 := 1#32
  let arg9 : BitVec 32 := Scf.iv c0_i32_388 c1_i32_390 k1_t32
  let c16_i32_1155 : BitVec 32 := 16#32
  let v785 : BitVec 32 := Scalar.muli arg9 c16_i32_1155
  let v787 : Index := Scalar.indexCast v785
  ![2, v787.toNat]
def k1_off517 (k1_t32 : Fin k1_t32_loop.trips) : Fin 2 → Nat :=
  let c3_i32_1158 : BitVec 32 := 3#32
  let v790 : Index := Scalar.indexCast c3_i32_1158
  let c0_i32_388 : BitVec 32 := 0#32
  let c1_i32_390 : BitVec 32 := 1#32
  let arg9 : BitVec 32 := Scf.iv c0_i32_388 c1_i32_390 k1_t32
  let c16_i32_1157 : BitVec 32 := 16#32
  let v789 : BitVec 32 := Scalar.muli arg9 c16_i32_1157
  let v791 : Index := Scalar.indexCast v789
  ![3, v791.toNat]
def k1_off518 (k1_t32 : Fin k1_t32_loop.trips) : Fin 2 → Nat :=
  let c4_i32_1160 : BitVec 32 := 4#32
  let v794 : Index := Scalar.indexCast c4_i32_1160
  let c0_i32_388 : BitVec 32 := 0#32
  let c1_i32_390 : BitVec 32 := 1#32
  let arg9 : BitVec 32 := Scf.iv c0_i32_388 c1_i32_390 k1_t32
  let c16_i32_1159 : BitVec 32 := 16#32
  let v793 : BitVec 32 := Scalar.muli arg9 c16_i32_1159
  let v795 : Index := Scalar.indexCast v793
  ![4, v795.toNat]
def k1_off519 (k1_t32 : Fin k1_t32_loop.trips) : Fin 2 → Nat :=
  let c5_i32_1162 : BitVec 32 := 5#32
  let v798 : Index := Scalar.indexCast c5_i32_1162
  let c0_i32_388 : BitVec 32 := 0#32
  let c1_i32_390 : BitVec 32 := 1#32
  let arg9 : BitVec 32 := Scf.iv c0_i32_388 c1_i32_390 k1_t32
  let c16_i32_1161 : BitVec 32 := 16#32
  let v797 : BitVec 32 := Scalar.muli arg9 c16_i32_1161
  let v799 : Index := Scalar.indexCast v797
  ![5, v799.toNat]
def k1_off520 (k1_t32 : Fin k1_t32_loop.trips) : Fin 2 → Nat :=
  let c6_i32_1164 : BitVec 32 := 6#32
  let v802 : Index := Scalar.indexCast c6_i32_1164
  let c0_i32_388 : BitVec 32 := 0#32
  let c1_i32_390 : BitVec 32 := 1#32
  let arg9 : BitVec 32 := Scf.iv c0_i32_388 c1_i32_390 k1_t32
  let c16_i32_1163 : BitVec 32 := 16#32
  let v801 : BitVec 32 := Scalar.muli arg9 c16_i32_1163
  let v803 : Index := Scalar.indexCast v801
  ![6, v803.toNat]
def k1_off521 (k1_t32 : Fin k1_t32_loop.trips) : Fin 2 → Nat :=
  let c7_i32_1166 : BitVec 32 := 7#32
  let v806 : Index := Scalar.indexCast c7_i32_1166
  let c0_i32_388 : BitVec 32 := 0#32
  let c1_i32_390 : BitVec 32 := 1#32
  let arg9 : BitVec 32 := Scf.iv c0_i32_388 c1_i32_390 k1_t32
  let c16_i32_1165 : BitVec 32 := 16#32
  let v805 : BitVec 32 := Scalar.muli arg9 c16_i32_1165
  let v807 : Index := Scalar.indexCast v805
  ![7, v807.toNat]
def k1_off522 (k1_t32 : Fin k1_t32_loop.trips) : Fin 2 → Nat :=
  let c8_i32_1168 : BitVec 32 := 8#32
  let v810 : Index := Scalar.indexCast c8_i32_1168
  let c0_i32_388 : BitVec 32 := 0#32
  let c1_i32_390 : BitVec 32 := 1#32
  let arg9 : BitVec 32 := Scf.iv c0_i32_388 c1_i32_390 k1_t32
  let c16_i32_1167 : BitVec 32 := 16#32
  let v809 : BitVec 32 := Scalar.muli arg9 c16_i32_1167
  let v811 : Index := Scalar.indexCast v809
  ![8, v811.toNat]
def k1_off523 (k1_t32 : Fin k1_t32_loop.trips) : Fin 2 → Nat :=
  let c9_i32_1170 : BitVec 32 := 9#32
  let v814 : Index := Scalar.indexCast c9_i32_1170
  let c0_i32_388 : BitVec 32 := 0#32
  let c1_i32_390 : BitVec 32 := 1#32
  let arg9 : BitVec 32 := Scf.iv c0_i32_388 c1_i32_390 k1_t32
  let c16_i32_1169 : BitVec 32 := 16#32
  let v813 : BitVec 32 := Scalar.muli arg9 c16_i32_1169
  let v815 : Index := Scalar.indexCast v813
  ![9, v815.toNat]
def k1_off524 (k1_t32 : Fin k1_t32_loop.trips) : Fin 2 → Nat :=
  let c10_i32_1172 : BitVec 32 := 10#32
  let v818 : Index := Scalar.indexCast c10_i32_1172
  let c0_i32_388 : BitVec 32 := 0#32
  let c1_i32_390 : BitVec 32 := 1#32
  let arg9 : BitVec 32 := Scf.iv c0_i32_388 c1_i32_390 k1_t32
  let c16_i32_1171 : BitVec 32 := 16#32
  let v817 : BitVec 32 := Scalar.muli arg9 c16_i32_1171
  let v819 : Index := Scalar.indexCast v817
  ![10, v819.toNat]
def k1_off525 (k1_t32 : Fin k1_t32_loop.trips) : Fin 2 → Nat :=
  let c11_i32_1174 : BitVec 32 := 11#32
  let v822 : Index := Scalar.indexCast c11_i32_1174
  let c0_i32_388 : BitVec 32 := 0#32
  let c1_i32_390 : BitVec 32 := 1#32
  let arg9 : BitVec 32 := Scf.iv c0_i32_388 c1_i32_390 k1_t32
  let c16_i32_1173 : BitVec 32 := 16#32
  let v821 : BitVec 32 := Scalar.muli arg9 c16_i32_1173
  let v823 : Index := Scalar.indexCast v821
  ![11, v823.toNat]
def k1_off526 (k1_t32 : Fin k1_t32_loop.trips) : Fin 2 → Nat :=
  let c12_i32_1176 : BitVec 32 := 12#32
  let v826 : Index := Scalar.indexCast c12_i32_1176
  let c0_i32_388 : BitVec 32 := 0#32
  let c1_i32_390 : BitVec 32 := 1#32
  let arg9 : BitVec 32 := Scf.iv c0_i32_388 c1_i32_390 k1_t32
  let c16_i32_1175 : BitVec 32 := 16#32
  let v825 : BitVec 32 := Scalar.muli arg9 c16_i32_1175
  let v827 : Index := Scalar.indexCast v825
  ![12, v827.toNat]
def k1_off527 (k1_t32 : Fin k1_t32_loop.trips) : Fin 2 → Nat :=
  let c13_i32_1178 : BitVec 32 := 13#32
  let v830 : Index := Scalar.indexCast c13_i32_1178
  let c0_i32_388 : BitVec 32 := 0#32
  let c1_i32_390 : BitVec 32 := 1#32
  let arg9 : BitVec 32 := Scf.iv c0_i32_388 c1_i32_390 k1_t32
  let c16_i32_1177 : BitVec 32 := 16#32
  let v829 : BitVec 32 := Scalar.muli arg9 c16_i32_1177
  let v831 : Index := Scalar.indexCast v829
  ![13, v831.toNat]
def k1_off528 (k1_t32 : Fin k1_t32_loop.trips) : Fin 2 → Nat :=
  let c14_i32_1180 : BitVec 32 := 14#32
  let v834 : Index := Scalar.indexCast c14_i32_1180
  let c0_i32_388 : BitVec 32 := 0#32
  let c1_i32_390 : BitVec 32 := 1#32
  let arg9 : BitVec 32 := Scf.iv c0_i32_388 c1_i32_390 k1_t32
  let c16_i32_1179 : BitVec 32 := 16#32
  let v833 : BitVec 32 := Scalar.muli arg9 c16_i32_1179
  let v835 : Index := Scalar.indexCast v833
  ![14, v835.toNat]
def k1_off529 (k1_t32 : Fin k1_t32_loop.trips) : Fin 2 → Nat :=
  let c15_i32_1182 : BitVec 32 := 15#32
  let v838 : Index := Scalar.indexCast c15_i32_1182
  let c0_i32_388 : BitVec 32 := 0#32
  let c1_i32_390 : BitVec 32 := 1#32
  let arg9 : BitVec 32 := Scf.iv c0_i32_388 c1_i32_390 k1_t32
  let c16_i32_1181 : BitVec 32 := 16#32
  let v837 : BitVec 32 := Scalar.muli arg9 c16_i32_1181
  let v839 : Index := Scalar.indexCast v837
  ![15, v839.toNat]

def k1_chk481 (v780 : IVec S16 32) : Prop :=
  (∀ a x, ((![v780] : Fin 1 → IVec S16 32) a x).toNat < S88320.size a)
theorem k1_idx481_inb : ∀ (v780 : IVec S16 32) (k1_hw481 : k1_chk481 v780), ∀ a x, ((![v780] : Fin 1 → IVec S16 32) a x).toNat < S88320.size a := fun v780 k1_hw481 => k1_hw481

def k1_chk482 (v784 : IVec S16 32) : Prop :=
  (∀ a x, ((![v784] : Fin 1 → IVec S16 32) a x).toNat < S88320.size a)
theorem k1_idx482_inb : ∀ (v784 : IVec S16 32) (k1_hw482 : k1_chk482 v784), ∀ a x, ((![v784] : Fin 1 → IVec S16 32) a x).toNat < S88320.size a := fun v784 k1_hw482 => k1_hw482

def k1_chk483 (v788 : IVec S16 32) : Prop :=
  (∀ a x, ((![v788] : Fin 1 → IVec S16 32) a x).toNat < S88320.size a)
theorem k1_idx483_inb : ∀ (v788 : IVec S16 32) (k1_hw483 : k1_chk483 v788), ∀ a x, ((![v788] : Fin 1 → IVec S16 32) a x).toNat < S88320.size a := fun v788 k1_hw483 => k1_hw483

def k1_chk484 (v792 : IVec S16 32) : Prop :=
  (∀ a x, ((![v792] : Fin 1 → IVec S16 32) a x).toNat < S88320.size a)
theorem k1_idx484_inb : ∀ (v792 : IVec S16 32) (k1_hw484 : k1_chk484 v792), ∀ a x, ((![v792] : Fin 1 → IVec S16 32) a x).toNat < S88320.size a := fun v792 k1_hw484 => k1_hw484

def k1_chk485 (v796 : IVec S16 32) : Prop :=
  (∀ a x, ((![v796] : Fin 1 → IVec S16 32) a x).toNat < S88320.size a)
theorem k1_idx485_inb : ∀ (v796 : IVec S16 32) (k1_hw485 : k1_chk485 v796), ∀ a x, ((![v796] : Fin 1 → IVec S16 32) a x).toNat < S88320.size a := fun v796 k1_hw485 => k1_hw485

def k1_chk486 (v800 : IVec S16 32) : Prop :=
  (∀ a x, ((![v800] : Fin 1 → IVec S16 32) a x).toNat < S88320.size a)
theorem k1_idx486_inb : ∀ (v800 : IVec S16 32) (k1_hw486 : k1_chk486 v800), ∀ a x, ((![v800] : Fin 1 → IVec S16 32) a x).toNat < S88320.size a := fun v800 k1_hw486 => k1_hw486

def k1_chk487 (v804 : IVec S16 32) : Prop :=
  (∀ a x, ((![v804] : Fin 1 → IVec S16 32) a x).toNat < S88320.size a)
theorem k1_idx487_inb : ∀ (v804 : IVec S16 32) (k1_hw487 : k1_chk487 v804), ∀ a x, ((![v804] : Fin 1 → IVec S16 32) a x).toNat < S88320.size a := fun v804 k1_hw487 => k1_hw487

def k1_chk488 (v808 : IVec S16 32) : Prop :=
  (∀ a x, ((![v808] : Fin 1 → IVec S16 32) a x).toNat < S88320.size a)
theorem k1_idx488_inb : ∀ (v808 : IVec S16 32) (k1_hw488 : k1_chk488 v808), ∀ a x, ((![v808] : Fin 1 → IVec S16 32) a x).toNat < S88320.size a := fun v808 k1_hw488 => k1_hw488

def k1_chk489 (v812 : IVec S16 32) : Prop :=
  (∀ a x, ((![v812] : Fin 1 → IVec S16 32) a x).toNat < S88320.size a)
theorem k1_idx489_inb : ∀ (v812 : IVec S16 32) (k1_hw489 : k1_chk489 v812), ∀ a x, ((![v812] : Fin 1 → IVec S16 32) a x).toNat < S88320.size a := fun v812 k1_hw489 => k1_hw489

def k1_chk490 (v816 : IVec S16 32) : Prop :=
  (∀ a x, ((![v816] : Fin 1 → IVec S16 32) a x).toNat < S88320.size a)
theorem k1_idx490_inb : ∀ (v816 : IVec S16 32) (k1_hw490 : k1_chk490 v816), ∀ a x, ((![v816] : Fin 1 → IVec S16 32) a x).toNat < S88320.size a := fun v816 k1_hw490 => k1_hw490

def k1_chk491 (v820 : IVec S16 32) : Prop :=
  (∀ a x, ((![v820] : Fin 1 → IVec S16 32) a x).toNat < S88320.size a)
theorem k1_idx491_inb : ∀ (v820 : IVec S16 32) (k1_hw491 : k1_chk491 v820), ∀ a x, ((![v820] : Fin 1 → IVec S16 32) a x).toNat < S88320.size a := fun v820 k1_hw491 => k1_hw491

def k1_chk492 (v824 : IVec S16 32) : Prop :=
  (∀ a x, ((![v824] : Fin 1 → IVec S16 32) a x).toNat < S88320.size a)
theorem k1_idx492_inb : ∀ (v824 : IVec S16 32) (k1_hw492 : k1_chk492 v824), ∀ a x, ((![v824] : Fin 1 → IVec S16 32) a x).toNat < S88320.size a := fun v824 k1_hw492 => k1_hw492

def k1_chk493 (v828 : IVec S16 32) : Prop :=
  (∀ a x, ((![v828] : Fin 1 → IVec S16 32) a x).toNat < S88320.size a)
theorem k1_idx493_inb : ∀ (v828 : IVec S16 32) (k1_hw493 : k1_chk493 v828), ∀ a x, ((![v828] : Fin 1 → IVec S16 32) a x).toNat < S88320.size a := fun v828 k1_hw493 => k1_hw493

def k1_chk494 (v832 : IVec S16 32) : Prop :=
  (∀ a x, ((![v832] : Fin 1 → IVec S16 32) a x).toNat < S88320.size a)
theorem k1_idx494_inb : ∀ (v832 : IVec S16 32) (k1_hw494 : k1_chk494 v832), ∀ a x, ((![v832] : Fin 1 → IVec S16 32) a x).toNat < S88320.size a := fun v832 k1_hw494 => k1_hw494

def k1_chk495 (v836 : IVec S16 32) : Prop :=
  (∀ a x, ((![v836] : Fin 1 → IVec S16 32) a x).toNat < S88320.size a)
theorem k1_idx495_inb : ∀ (v836 : IVec S16 32) (k1_hw495 : k1_chk495 v836), ∀ a x, ((![v836] : Fin 1 → IVec S16 32) a x).toNat < S88320.size a := fun v836 k1_hw495 => k1_hw495

def k1_chk496 (v840 : IVec S16 32) : Prop :=
  (∀ a x, ((![v840] : Fin 1 → IVec S16 32) a x).toNat < S88320.size a)
theorem k1_idx496_inb : ∀ (v840 : IVec S16 32) (k1_hw496 : k1_chk496 v840), ∀ a x, ((![v840] : Fin 1 → IVec S16 32) a x).toNat < S88320.size a := fun v840 k1_hw496 => k1_hw496
def k1_off530 (i : grid1.Coords) : Fin 4 → Nat :=
  let c1_i32_392 : BitVec 32 := 1#32
  let c11_i32_393 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_394 : BitVec 32 := 0#32
  ![1, 11, v2.toNat, 0]
@[reducible] def k1_t33_loop : Scf.Loop 32 :=
  let c0_i32_401 : BitVec 32 := 0#32
  let c32_i32_402 : BitVec 32 := 32#32
  let v297 : BitVec 32 := Scalar.addi c0_i32_401 c32_i32_402
  let c1_i32_403 : BitVec 32 := 1#32
  ⟨c0_i32_401, v297, c1_i32_403⟩
def k1_off531 (k1_t33 : Fin k1_t33_loop.trips) : Fin 2 → Nat :=
  let c0_i32_1152 : BitVec 32 := 0#32
  let v778 : Index := Scalar.indexCast c0_i32_1152
  let c0_i32_401 : BitVec 32 := 0#32
  let c1_i32_403 : BitVec 32 := 1#32
  let arg9 : BitVec 32 := Scf.iv c0_i32_401 c1_i32_403 k1_t33
  let c16_i32_1151 : BitVec 32 := 16#32
  let v777 : BitVec 32 := Scalar.muli arg9 c16_i32_1151
  let v779 : Index := Scalar.indexCast v777
  ![0, v779.toNat]
def k1_off532 (k1_t33 : Fin k1_t33_loop.trips) : Fin 2 → Nat :=
  let c1_i32_1154 : BitVec 32 := 1#32
  let v782 : Index := Scalar.indexCast c1_i32_1154
  let c0_i32_401 : BitVec 32 := 0#32
  let c1_i32_403 : BitVec 32 := 1#32
  let arg9 : BitVec 32 := Scf.iv c0_i32_401 c1_i32_403 k1_t33
  let c16_i32_1153 : BitVec 32 := 16#32
  let v781 : BitVec 32 := Scalar.muli arg9 c16_i32_1153
  let v783 : Index := Scalar.indexCast v781
  ![1, v783.toNat]
def k1_off533 (k1_t33 : Fin k1_t33_loop.trips) : Fin 2 → Nat :=
  let c2_i32_1156 : BitVec 32 := 2#32
  let v786 : Index := Scalar.indexCast c2_i32_1156
  let c0_i32_401 : BitVec 32 := 0#32
  let c1_i32_403 : BitVec 32 := 1#32
  let arg9 : BitVec 32 := Scf.iv c0_i32_401 c1_i32_403 k1_t33
  let c16_i32_1155 : BitVec 32 := 16#32
  let v785 : BitVec 32 := Scalar.muli arg9 c16_i32_1155
  let v787 : Index := Scalar.indexCast v785
  ![2, v787.toNat]
def k1_off534 (k1_t33 : Fin k1_t33_loop.trips) : Fin 2 → Nat :=
  let c3_i32_1158 : BitVec 32 := 3#32
  let v790 : Index := Scalar.indexCast c3_i32_1158
  let c0_i32_401 : BitVec 32 := 0#32
  let c1_i32_403 : BitVec 32 := 1#32
  let arg9 : BitVec 32 := Scf.iv c0_i32_401 c1_i32_403 k1_t33
  let c16_i32_1157 : BitVec 32 := 16#32
  let v789 : BitVec 32 := Scalar.muli arg9 c16_i32_1157
  let v791 : Index := Scalar.indexCast v789
  ![3, v791.toNat]
def k1_off535 (k1_t33 : Fin k1_t33_loop.trips) : Fin 2 → Nat :=
  let c4_i32_1160 : BitVec 32 := 4#32
  let v794 : Index := Scalar.indexCast c4_i32_1160
  let c0_i32_401 : BitVec 32 := 0#32
  let c1_i32_403 : BitVec 32 := 1#32
  let arg9 : BitVec 32 := Scf.iv c0_i32_401 c1_i32_403 k1_t33
  let c16_i32_1159 : BitVec 32 := 16#32
  let v793 : BitVec 32 := Scalar.muli arg9 c16_i32_1159
  let v795 : Index := Scalar.indexCast v793
  ![4, v795.toNat]
def k1_off536 (k1_t33 : Fin k1_t33_loop.trips) : Fin 2 → Nat :=
  let c5_i32_1162 : BitVec 32 := 5#32
  let v798 : Index := Scalar.indexCast c5_i32_1162
  let c0_i32_401 : BitVec 32 := 0#32
  let c1_i32_403 : BitVec 32 := 1#32
  let arg9 : BitVec 32 := Scf.iv c0_i32_401 c1_i32_403 k1_t33
  let c16_i32_1161 : BitVec 32 := 16#32
  let v797 : BitVec 32 := Scalar.muli arg9 c16_i32_1161
  let v799 : Index := Scalar.indexCast v797
  ![5, v799.toNat]
def k1_off537 (k1_t33 : Fin k1_t33_loop.trips) : Fin 2 → Nat :=
  let c6_i32_1164 : BitVec 32 := 6#32
  let v802 : Index := Scalar.indexCast c6_i32_1164
  let c0_i32_401 : BitVec 32 := 0#32
  let c1_i32_403 : BitVec 32 := 1#32
  let arg9 : BitVec 32 := Scf.iv c0_i32_401 c1_i32_403 k1_t33
  let c16_i32_1163 : BitVec 32 := 16#32
  let v801 : BitVec 32 := Scalar.muli arg9 c16_i32_1163
  let v803 : Index := Scalar.indexCast v801
  ![6, v803.toNat]
def k1_off538 (k1_t33 : Fin k1_t33_loop.trips) : Fin 2 → Nat :=
  let c7_i32_1166 : BitVec 32 := 7#32
  let v806 : Index := Scalar.indexCast c7_i32_1166
  let c0_i32_401 : BitVec 32 := 0#32
  let c1_i32_403 : BitVec 32 := 1#32
  let arg9 : BitVec 32 := Scf.iv c0_i32_401 c1_i32_403 k1_t33
  let c16_i32_1165 : BitVec 32 := 16#32
  let v805 : BitVec 32 := Scalar.muli arg9 c16_i32_1165
  let v807 : Index := Scalar.indexCast v805
  ![7, v807.toNat]
def k1_off539 (k1_t33 : Fin k1_t33_loop.trips) : Fin 2 → Nat :=
  let c8_i32_1168 : BitVec 32 := 8#32
  let v810 : Index := Scalar.indexCast c8_i32_1168
  let c0_i32_401 : BitVec 32 := 0#32
  let c1_i32_403 : BitVec 32 := 1#32
  let arg9 : BitVec 32 := Scf.iv c0_i32_401 c1_i32_403 k1_t33
  let c16_i32_1167 : BitVec 32 := 16#32
  let v809 : BitVec 32 := Scalar.muli arg9 c16_i32_1167
  let v811 : Index := Scalar.indexCast v809
  ![8, v811.toNat]
def k1_off540 (k1_t33 : Fin k1_t33_loop.trips) : Fin 2 → Nat :=
  let c9_i32_1170 : BitVec 32 := 9#32
  let v814 : Index := Scalar.indexCast c9_i32_1170
  let c0_i32_401 : BitVec 32 := 0#32
  let c1_i32_403 : BitVec 32 := 1#32
  let arg9 : BitVec 32 := Scf.iv c0_i32_401 c1_i32_403 k1_t33
  let c16_i32_1169 : BitVec 32 := 16#32
  let v813 : BitVec 32 := Scalar.muli arg9 c16_i32_1169
  let v815 : Index := Scalar.indexCast v813
  ![9, v815.toNat]
def k1_off541 (k1_t33 : Fin k1_t33_loop.trips) : Fin 2 → Nat :=
  let c10_i32_1172 : BitVec 32 := 10#32
  let v818 : Index := Scalar.indexCast c10_i32_1172
  let c0_i32_401 : BitVec 32 := 0#32
  let c1_i32_403 : BitVec 32 := 1#32
  let arg9 : BitVec 32 := Scf.iv c0_i32_401 c1_i32_403 k1_t33
  let c16_i32_1171 : BitVec 32 := 16#32
  let v817 : BitVec 32 := Scalar.muli arg9 c16_i32_1171
  let v819 : Index := Scalar.indexCast v817
  ![10, v819.toNat]
def k1_off542 (k1_t33 : Fin k1_t33_loop.trips) : Fin 2 → Nat :=
  let c11_i32_1174 : BitVec 32 := 11#32
  let v822 : Index := Scalar.indexCast c11_i32_1174
  let c0_i32_401 : BitVec 32 := 0#32
  let c1_i32_403 : BitVec 32 := 1#32
  let arg9 : BitVec 32 := Scf.iv c0_i32_401 c1_i32_403 k1_t33
  let c16_i32_1173 : BitVec 32 := 16#32
  let v821 : BitVec 32 := Scalar.muli arg9 c16_i32_1173
  let v823 : Index := Scalar.indexCast v821
  ![11, v823.toNat]
def k1_off543 (k1_t33 : Fin k1_t33_loop.trips) : Fin 2 → Nat :=
  let c12_i32_1176 : BitVec 32 := 12#32
  let v826 : Index := Scalar.indexCast c12_i32_1176
  let c0_i32_401 : BitVec 32 := 0#32
  let c1_i32_403 : BitVec 32 := 1#32
  let arg9 : BitVec 32 := Scf.iv c0_i32_401 c1_i32_403 k1_t33
  let c16_i32_1175 : BitVec 32 := 16#32
  let v825 : BitVec 32 := Scalar.muli arg9 c16_i32_1175
  let v827 : Index := Scalar.indexCast v825
  ![12, v827.toNat]
def k1_off544 (k1_t33 : Fin k1_t33_loop.trips) : Fin 2 → Nat :=
  let c13_i32_1178 : BitVec 32 := 13#32
  let v830 : Index := Scalar.indexCast c13_i32_1178
  let c0_i32_401 : BitVec 32 := 0#32
  let c1_i32_403 : BitVec 32 := 1#32
  let arg9 : BitVec 32 := Scf.iv c0_i32_401 c1_i32_403 k1_t33
  let c16_i32_1177 : BitVec 32 := 16#32
  let v829 : BitVec 32 := Scalar.muli arg9 c16_i32_1177
  let v831 : Index := Scalar.indexCast v829
  ![13, v831.toNat]
def k1_off545 (k1_t33 : Fin k1_t33_loop.trips) : Fin 2 → Nat :=
  let c14_i32_1180 : BitVec 32 := 14#32
  let v834 : Index := Scalar.indexCast c14_i32_1180
  let c0_i32_401 : BitVec 32 := 0#32
  let c1_i32_403 : BitVec 32 := 1#32
  let arg9 : BitVec 32 := Scf.iv c0_i32_401 c1_i32_403 k1_t33
  let c16_i32_1179 : BitVec 32 := 16#32
  let v833 : BitVec 32 := Scalar.muli arg9 c16_i32_1179
  let v835 : Index := Scalar.indexCast v833
  ![14, v835.toNat]
def k1_off546 (k1_t33 : Fin k1_t33_loop.trips) : Fin 2 → Nat :=
  let c15_i32_1182 : BitVec 32 := 15#32
  let v838 : Index := Scalar.indexCast c15_i32_1182
  let c0_i32_401 : BitVec 32 := 0#32
  let c1_i32_403 : BitVec 32 := 1#32
  let arg9 : BitVec 32 := Scf.iv c0_i32_401 c1_i32_403 k1_t33
  let c16_i32_1181 : BitVec 32 := 16#32
  let v837 : BitVec 32 := Scalar.muli arg9 c16_i32_1181
  let v839 : Index := Scalar.indexCast v837
  ![15, v839.toNat]

def k1_chk497 (v780 : IVec S16 32) : Prop :=
  (∀ a x, ((![v780] : Fin 1 → IVec S16 32) a x).toNat < S88320.size a)
theorem k1_idx497_inb : ∀ (v780 : IVec S16 32) (k1_hw497 : k1_chk497 v780), ∀ a x, ((![v780] : Fin 1 → IVec S16 32) a x).toNat < S88320.size a := fun v780 k1_hw497 => k1_hw497

def k1_chk498 (v784 : IVec S16 32) : Prop :=
  (∀ a x, ((![v784] : Fin 1 → IVec S16 32) a x).toNat < S88320.size a)
theorem k1_idx498_inb : ∀ (v784 : IVec S16 32) (k1_hw498 : k1_chk498 v784), ∀ a x, ((![v784] : Fin 1 → IVec S16 32) a x).toNat < S88320.size a := fun v784 k1_hw498 => k1_hw498

def k1_chk499 (v788 : IVec S16 32) : Prop :=
  (∀ a x, ((![v788] : Fin 1 → IVec S16 32) a x).toNat < S88320.size a)
theorem k1_idx499_inb : ∀ (v788 : IVec S16 32) (k1_hw499 : k1_chk499 v788), ∀ a x, ((![v788] : Fin 1 → IVec S16 32) a x).toNat < S88320.size a := fun v788 k1_hw499 => k1_hw499

def k1_chk500 (v792 : IVec S16 32) : Prop :=
  (∀ a x, ((![v792] : Fin 1 → IVec S16 32) a x).toNat < S88320.size a)
theorem k1_idx500_inb : ∀ (v792 : IVec S16 32) (k1_hw500 : k1_chk500 v792), ∀ a x, ((![v792] : Fin 1 → IVec S16 32) a x).toNat < S88320.size a := fun v792 k1_hw500 => k1_hw500

def k1_chk501 (v796 : IVec S16 32) : Prop :=
  (∀ a x, ((![v796] : Fin 1 → IVec S16 32) a x).toNat < S88320.size a)
theorem k1_idx501_inb : ∀ (v796 : IVec S16 32) (k1_hw501 : k1_chk501 v796), ∀ a x, ((![v796] : Fin 1 → IVec S16 32) a x).toNat < S88320.size a := fun v796 k1_hw501 => k1_hw501

def k1_chk502 (v800 : IVec S16 32) : Prop :=
  (∀ a x, ((![v800] : Fin 1 → IVec S16 32) a x).toNat < S88320.size a)
theorem k1_idx502_inb : ∀ (v800 : IVec S16 32) (k1_hw502 : k1_chk502 v800), ∀ a x, ((![v800] : Fin 1 → IVec S16 32) a x).toNat < S88320.size a := fun v800 k1_hw502 => k1_hw502

def k1_chk503 (v804 : IVec S16 32) : Prop :=
  (∀ a x, ((![v804] : Fin 1 → IVec S16 32) a x).toNat < S88320.size a)
theorem k1_idx503_inb : ∀ (v804 : IVec S16 32) (k1_hw503 : k1_chk503 v804), ∀ a x, ((![v804] : Fin 1 → IVec S16 32) a x).toNat < S88320.size a := fun v804 k1_hw503 => k1_hw503

def k1_chk504 (v808 : IVec S16 32) : Prop :=
  (∀ a x, ((![v808] : Fin 1 → IVec S16 32) a x).toNat < S88320.size a)
theorem k1_idx504_inb : ∀ (v808 : IVec S16 32) (k1_hw504 : k1_chk504 v808), ∀ a x, ((![v808] : Fin 1 → IVec S16 32) a x).toNat < S88320.size a := fun v808 k1_hw504 => k1_hw504

def k1_chk505 (v812 : IVec S16 32) : Prop :=
  (∀ a x, ((![v812] : Fin 1 → IVec S16 32) a x).toNat < S88320.size a)
theorem k1_idx505_inb : ∀ (v812 : IVec S16 32) (k1_hw505 : k1_chk505 v812), ∀ a x, ((![v812] : Fin 1 → IVec S16 32) a x).toNat < S88320.size a := fun v812 k1_hw505 => k1_hw505

def k1_chk506 (v816 : IVec S16 32) : Prop :=
  (∀ a x, ((![v816] : Fin 1 → IVec S16 32) a x).toNat < S88320.size a)
theorem k1_idx506_inb : ∀ (v816 : IVec S16 32) (k1_hw506 : k1_chk506 v816), ∀ a x, ((![v816] : Fin 1 → IVec S16 32) a x).toNat < S88320.size a := fun v816 k1_hw506 => k1_hw506

def k1_chk507 (v820 : IVec S16 32) : Prop :=
  (∀ a x, ((![v820] : Fin 1 → IVec S16 32) a x).toNat < S88320.size a)
theorem k1_idx507_inb : ∀ (v820 : IVec S16 32) (k1_hw507 : k1_chk507 v820), ∀ a x, ((![v820] : Fin 1 → IVec S16 32) a x).toNat < S88320.size a := fun v820 k1_hw507 => k1_hw507

def k1_chk508 (v824 : IVec S16 32) : Prop :=
  (∀ a x, ((![v824] : Fin 1 → IVec S16 32) a x).toNat < S88320.size a)
theorem k1_idx508_inb : ∀ (v824 : IVec S16 32) (k1_hw508 : k1_chk508 v824), ∀ a x, ((![v824] : Fin 1 → IVec S16 32) a x).toNat < S88320.size a := fun v824 k1_hw508 => k1_hw508

def k1_chk509 (v828 : IVec S16 32) : Prop :=
  (∀ a x, ((![v828] : Fin 1 → IVec S16 32) a x).toNat < S88320.size a)
theorem k1_idx509_inb : ∀ (v828 : IVec S16 32) (k1_hw509 : k1_chk509 v828), ∀ a x, ((![v828] : Fin 1 → IVec S16 32) a x).toNat < S88320.size a := fun v828 k1_hw509 => k1_hw509

def k1_chk510 (v832 : IVec S16 32) : Prop :=
  (∀ a x, ((![v832] : Fin 1 → IVec S16 32) a x).toNat < S88320.size a)
theorem k1_idx510_inb : ∀ (v832 : IVec S16 32) (k1_hw510 : k1_chk510 v832), ∀ a x, ((![v832] : Fin 1 → IVec S16 32) a x).toNat < S88320.size a := fun v832 k1_hw510 => k1_hw510

def k1_chk511 (v836 : IVec S16 32) : Prop :=
  (∀ a x, ((![v836] : Fin 1 → IVec S16 32) a x).toNat < S88320.size a)
theorem k1_idx511_inb : ∀ (v836 : IVec S16 32) (k1_hw511 : k1_chk511 v836), ∀ a x, ((![v836] : Fin 1 → IVec S16 32) a x).toNat < S88320.size a := fun v836 k1_hw511 => k1_hw511

def k1_chk512 (v840 : IVec S16 32) : Prop :=
  (∀ a x, ((![v840] : Fin 1 → IVec S16 32) a x).toNat < S88320.size a)
theorem k1_idx512_inb : ∀ (v840 : IVec S16 32) (k1_hw512 : k1_chk512 v840), ∀ a x, ((![v840] : Fin 1 → IVec S16 32) a x).toNat < S88320.size a := fun v840 k1_hw512 => k1_hw512
def k1_off547 (i : grid1.Coords) : Fin 4 → Nat :=
  let c1_i32_405 : BitVec 32 := 1#32
  let c12_i32_406 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_407 : BitVec 32 := 0#32
  ![1, 12, v2.toNat, 0]
@[reducible] def k1_t34_loop : Scf.Loop 32 :=
  let c0_i32_414 : BitVec 32 := 0#32
  let c32_i32_415 : BitVec 32 := 32#32
  let v306 : BitVec 32 := Scalar.addi c0_i32_414 c32_i32_415
  let c1_i32_416 : BitVec 32 := 1#32
  ⟨c0_i32_414, v306, c1_i32_416⟩
def k1_off548 (k1_t34 : Fin k1_t34_loop.trips) : Fin 2 → Nat :=
  let c0_i32_1152 : BitVec 32 := 0#32
  let v778 : Index := Scalar.indexCast c0_i32_1152
  let c0_i32_414 : BitVec 32 := 0#32
  let c1_i32_416 : BitVec 32 := 1#32
  let arg9 : BitVec 32 := Scf.iv c0_i32_414 c1_i32_416 k1_t34
  let c16_i32_1151 : BitVec 32 := 16#32
  let v777 : BitVec 32 := Scalar.muli arg9 c16_i32_1151
  let v779 : Index := Scalar.indexCast v777
  ![0, v779.toNat]
def k1_off549 (k1_t34 : Fin k1_t34_loop.trips) : Fin 2 → Nat :=
  let c1_i32_1154 : BitVec 32 := 1#32
  let v782 : Index := Scalar.indexCast c1_i32_1154
  let c0_i32_414 : BitVec 32 := 0#32
  let c1_i32_416 : BitVec 32 := 1#32
  let arg9 : BitVec 32 := Scf.iv c0_i32_414 c1_i32_416 k1_t34
  let c16_i32_1153 : BitVec 32 := 16#32
  let v781 : BitVec 32 := Scalar.muli arg9 c16_i32_1153
  let v783 : Index := Scalar.indexCast v781
  ![1, v783.toNat]
def k1_off550 (k1_t34 : Fin k1_t34_loop.trips) : Fin 2 → Nat :=
  let c2_i32_1156 : BitVec 32 := 2#32
  let v786 : Index := Scalar.indexCast c2_i32_1156
  let c0_i32_414 : BitVec 32 := 0#32
  let c1_i32_416 : BitVec 32 := 1#32
  let arg9 : BitVec 32 := Scf.iv c0_i32_414 c1_i32_416 k1_t34
  let c16_i32_1155 : BitVec 32 := 16#32
  let v785 : BitVec 32 := Scalar.muli arg9 c16_i32_1155
  let v787 : Index := Scalar.indexCast v785
  ![2, v787.toNat]
def k1_off551 (k1_t34 : Fin k1_t34_loop.trips) : Fin 2 → Nat :=
  let c3_i32_1158 : BitVec 32 := 3#32
  let v790 : Index := Scalar.indexCast c3_i32_1158
  let c0_i32_414 : BitVec 32 := 0#32
  let c1_i32_416 : BitVec 32 := 1#32
  let arg9 : BitVec 32 := Scf.iv c0_i32_414 c1_i32_416 k1_t34
  let c16_i32_1157 : BitVec 32 := 16#32
  let v789 : BitVec 32 := Scalar.muli arg9 c16_i32_1157
  let v791 : Index := Scalar.indexCast v789
  ![3, v791.toNat]
def k1_off552 (k1_t34 : Fin k1_t34_loop.trips) : Fin 2 → Nat :=
  let c4_i32_1160 : BitVec 32 := 4#32
  let v794 : Index := Scalar.indexCast c4_i32_1160
  let c0_i32_414 : BitVec 32 := 0#32
  let c1_i32_416 : BitVec 32 := 1#32
  let arg9 : BitVec 32 := Scf.iv c0_i32_414 c1_i32_416 k1_t34
  let c16_i32_1159 : BitVec 32 := 16#32
  let v793 : BitVec 32 := Scalar.muli arg9 c16_i32_1159
  let v795 : Index := Scalar.indexCast v793
  ![4, v795.toNat]
def k1_off553 (k1_t34 : Fin k1_t34_loop.trips) : Fin 2 → Nat :=
  let c5_i32_1162 : BitVec 32 := 5#32
  let v798 : Index := Scalar.indexCast c5_i32_1162
  let c0_i32_414 : BitVec 32 := 0#32
  let c1_i32_416 : BitVec 32 := 1#32
  let arg9 : BitVec 32 := Scf.iv c0_i32_414 c1_i32_416 k1_t34
  let c16_i32_1161 : BitVec 32 := 16#32
  let v797 : BitVec 32 := Scalar.muli arg9 c16_i32_1161
  let v799 : Index := Scalar.indexCast v797
  ![5, v799.toNat]
def k1_off554 (k1_t34 : Fin k1_t34_loop.trips) : Fin 2 → Nat :=
  let c6_i32_1164 : BitVec 32 := 6#32
  let v802 : Index := Scalar.indexCast c6_i32_1164
  let c0_i32_414 : BitVec 32 := 0#32
  let c1_i32_416 : BitVec 32 := 1#32
  let arg9 : BitVec 32 := Scf.iv c0_i32_414 c1_i32_416 k1_t34
  let c16_i32_1163 : BitVec 32 := 16#32
  let v801 : BitVec 32 := Scalar.muli arg9 c16_i32_1163
  let v803 : Index := Scalar.indexCast v801
  ![6, v803.toNat]
def k1_off555 (k1_t34 : Fin k1_t34_loop.trips) : Fin 2 → Nat :=
  let c7_i32_1166 : BitVec 32 := 7#32
  let v806 : Index := Scalar.indexCast c7_i32_1166
  let c0_i32_414 : BitVec 32 := 0#32
  let c1_i32_416 : BitVec 32 := 1#32
  let arg9 : BitVec 32 := Scf.iv c0_i32_414 c1_i32_416 k1_t34
  let c16_i32_1165 : BitVec 32 := 16#32
  let v805 : BitVec 32 := Scalar.muli arg9 c16_i32_1165
  let v807 : Index := Scalar.indexCast v805
  ![7, v807.toNat]
def k1_off556 (k1_t34 : Fin k1_t34_loop.trips) : Fin 2 → Nat :=
  let c8_i32_1168 : BitVec 32 := 8#32
  let v810 : Index := Scalar.indexCast c8_i32_1168
  let c0_i32_414 : BitVec 32 := 0#32
  let c1_i32_416 : BitVec 32 := 1#32
  let arg9 : BitVec 32 := Scf.iv c0_i32_414 c1_i32_416 k1_t34
  let c16_i32_1167 : BitVec 32 := 16#32
  let v809 : BitVec 32 := Scalar.muli arg9 c16_i32_1167
  let v811 : Index := Scalar.indexCast v809
  ![8, v811.toNat]
def k1_off557 (k1_t34 : Fin k1_t34_loop.trips) : Fin 2 → Nat :=
  let c9_i32_1170 : BitVec 32 := 9#32
  let v814 : Index := Scalar.indexCast c9_i32_1170
  let c0_i32_414 : BitVec 32 := 0#32
  let c1_i32_416 : BitVec 32 := 1#32
  let arg9 : BitVec 32 := Scf.iv c0_i32_414 c1_i32_416 k1_t34
  let c16_i32_1169 : BitVec 32 := 16#32
  let v813 : BitVec 32 := Scalar.muli arg9 c16_i32_1169
  let v815 : Index := Scalar.indexCast v813
  ![9, v815.toNat]
def k1_off558 (k1_t34 : Fin k1_t34_loop.trips) : Fin 2 → Nat :=
  let c10_i32_1172 : BitVec 32 := 10#32
  let v818 : Index := Scalar.indexCast c10_i32_1172
  let c0_i32_414 : BitVec 32 := 0#32
  let c1_i32_416 : BitVec 32 := 1#32
  let arg9 : BitVec 32 := Scf.iv c0_i32_414 c1_i32_416 k1_t34
  let c16_i32_1171 : BitVec 32 := 16#32
  let v817 : BitVec 32 := Scalar.muli arg9 c16_i32_1171
  let v819 : Index := Scalar.indexCast v817
  ![10, v819.toNat]
def k1_off559 (k1_t34 : Fin k1_t34_loop.trips) : Fin 2 → Nat :=
  let c11_i32_1174 : BitVec 32 := 11#32
  let v822 : Index := Scalar.indexCast c11_i32_1174
  let c0_i32_414 : BitVec 32 := 0#32
  let c1_i32_416 : BitVec 32 := 1#32
  let arg9 : BitVec 32 := Scf.iv c0_i32_414 c1_i32_416 k1_t34
  let c16_i32_1173 : BitVec 32 := 16#32
  let v821 : BitVec 32 := Scalar.muli arg9 c16_i32_1173
  let v823 : Index := Scalar.indexCast v821
  ![11, v823.toNat]
def k1_off560 (k1_t34 : Fin k1_t34_loop.trips) : Fin 2 → Nat :=
  let c12_i32_1176 : BitVec 32 := 12#32
  let v826 : Index := Scalar.indexCast c12_i32_1176
  let c0_i32_414 : BitVec 32 := 0#32
  let c1_i32_416 : BitVec 32 := 1#32
  let arg9 : BitVec 32 := Scf.iv c0_i32_414 c1_i32_416 k1_t34
  let c16_i32_1175 : BitVec 32 := 16#32
  let v825 : BitVec 32 := Scalar.muli arg9 c16_i32_1175
  let v827 : Index := Scalar.indexCast v825
  ![12, v827.toNat]
def k1_off561 (k1_t34 : Fin k1_t34_loop.trips) : Fin 2 → Nat :=
  let c13_i32_1178 : BitVec 32 := 13#32
  let v830 : Index := Scalar.indexCast c13_i32_1178
  let c0_i32_414 : BitVec 32 := 0#32
  let c1_i32_416 : BitVec 32 := 1#32
  let arg9 : BitVec 32 := Scf.iv c0_i32_414 c1_i32_416 k1_t34
  let c16_i32_1177 : BitVec 32 := 16#32
  let v829 : BitVec 32 := Scalar.muli arg9 c16_i32_1177
  let v831 : Index := Scalar.indexCast v829
  ![13, v831.toNat]
def k1_off562 (k1_t34 : Fin k1_t34_loop.trips) : Fin 2 → Nat :=
  let c14_i32_1180 : BitVec 32 := 14#32
  let v834 : Index := Scalar.indexCast c14_i32_1180
  let c0_i32_414 : BitVec 32 := 0#32
  let c1_i32_416 : BitVec 32 := 1#32
  let arg9 : BitVec 32 := Scf.iv c0_i32_414 c1_i32_416 k1_t34
  let c16_i32_1179 : BitVec 32 := 16#32
  let v833 : BitVec 32 := Scalar.muli arg9 c16_i32_1179
  let v835 : Index := Scalar.indexCast v833
  ![14, v835.toNat]
def k1_off563 (k1_t34 : Fin k1_t34_loop.trips) : Fin 2 → Nat :=
  let c15_i32_1182 : BitVec 32 := 15#32
  let v838 : Index := Scalar.indexCast c15_i32_1182
  let c0_i32_414 : BitVec 32 := 0#32
  let c1_i32_416 : BitVec 32 := 1#32
  let arg9 : BitVec 32 := Scf.iv c0_i32_414 c1_i32_416 k1_t34
  let c16_i32_1181 : BitVec 32 := 16#32
  let v837 : BitVec 32 := Scalar.muli arg9 c16_i32_1181
  let v839 : Index := Scalar.indexCast v837
  ![15, v839.toNat]

def k1_chk513 (v780 : IVec S16 32) : Prop :=
  (∀ a x, ((![v780] : Fin 1 → IVec S16 32) a x).toNat < S88320.size a)
theorem k1_idx513_inb : ∀ (v780 : IVec S16 32) (k1_hw513 : k1_chk513 v780), ∀ a x, ((![v780] : Fin 1 → IVec S16 32) a x).toNat < S88320.size a := fun v780 k1_hw513 => k1_hw513

def k1_chk514 (v784 : IVec S16 32) : Prop :=
  (∀ a x, ((![v784] : Fin 1 → IVec S16 32) a x).toNat < S88320.size a)
theorem k1_idx514_inb : ∀ (v784 : IVec S16 32) (k1_hw514 : k1_chk514 v784), ∀ a x, ((![v784] : Fin 1 → IVec S16 32) a x).toNat < S88320.size a := fun v784 k1_hw514 => k1_hw514

def k1_chk515 (v788 : IVec S16 32) : Prop :=
  (∀ a x, ((![v788] : Fin 1 → IVec S16 32) a x).toNat < S88320.size a)
theorem k1_idx515_inb : ∀ (v788 : IVec S16 32) (k1_hw515 : k1_chk515 v788), ∀ a x, ((![v788] : Fin 1 → IVec S16 32) a x).toNat < S88320.size a := fun v788 k1_hw515 => k1_hw515

def k1_chk516 (v792 : IVec S16 32) : Prop :=
  (∀ a x, ((![v792] : Fin 1 → IVec S16 32) a x).toNat < S88320.size a)
theorem k1_idx516_inb : ∀ (v792 : IVec S16 32) (k1_hw516 : k1_chk516 v792), ∀ a x, ((![v792] : Fin 1 → IVec S16 32) a x).toNat < S88320.size a := fun v792 k1_hw516 => k1_hw516

def k1_chk517 (v796 : IVec S16 32) : Prop :=
  (∀ a x, ((![v796] : Fin 1 → IVec S16 32) a x).toNat < S88320.size a)
theorem k1_idx517_inb : ∀ (v796 : IVec S16 32) (k1_hw517 : k1_chk517 v796), ∀ a x, ((![v796] : Fin 1 → IVec S16 32) a x).toNat < S88320.size a := fun v796 k1_hw517 => k1_hw517

def k1_chk518 (v800 : IVec S16 32) : Prop :=
  (∀ a x, ((![v800] : Fin 1 → IVec S16 32) a x).toNat < S88320.size a)
theorem k1_idx518_inb : ∀ (v800 : IVec S16 32) (k1_hw518 : k1_chk518 v800), ∀ a x, ((![v800] : Fin 1 → IVec S16 32) a x).toNat < S88320.size a := fun v800 k1_hw518 => k1_hw518

def k1_chk519 (v804 : IVec S16 32) : Prop :=
  (∀ a x, ((![v804] : Fin 1 → IVec S16 32) a x).toNat < S88320.size a)
theorem k1_idx519_inb : ∀ (v804 : IVec S16 32) (k1_hw519 : k1_chk519 v804), ∀ a x, ((![v804] : Fin 1 → IVec S16 32) a x).toNat < S88320.size a := fun v804 k1_hw519 => k1_hw519

def k1_chk520 (v808 : IVec S16 32) : Prop :=
  (∀ a x, ((![v808] : Fin 1 → IVec S16 32) a x).toNat < S88320.size a)
theorem k1_idx520_inb : ∀ (v808 : IVec S16 32) (k1_hw520 : k1_chk520 v808), ∀ a x, ((![v808] : Fin 1 → IVec S16 32) a x).toNat < S88320.size a := fun v808 k1_hw520 => k1_hw520

def k1_chk521 (v812 : IVec S16 32) : Prop :=
  (∀ a x, ((![v812] : Fin 1 → IVec S16 32) a x).toNat < S88320.size a)
theorem k1_idx521_inb : ∀ (v812 : IVec S16 32) (k1_hw521 : k1_chk521 v812), ∀ a x, ((![v812] : Fin 1 → IVec S16 32) a x).toNat < S88320.size a := fun v812 k1_hw521 => k1_hw521

def k1_chk522 (v816 : IVec S16 32) : Prop :=
  (∀ a x, ((![v816] : Fin 1 → IVec S16 32) a x).toNat < S88320.size a)
theorem k1_idx522_inb : ∀ (v816 : IVec S16 32) (k1_hw522 : k1_chk522 v816), ∀ a x, ((![v816] : Fin 1 → IVec S16 32) a x).toNat < S88320.size a := fun v816 k1_hw522 => k1_hw522

def k1_chk523 (v820 : IVec S16 32) : Prop :=
  (∀ a x, ((![v820] : Fin 1 → IVec S16 32) a x).toNat < S88320.size a)
theorem k1_idx523_inb : ∀ (v820 : IVec S16 32) (k1_hw523 : k1_chk523 v820), ∀ a x, ((![v820] : Fin 1 → IVec S16 32) a x).toNat < S88320.size a := fun v820 k1_hw523 => k1_hw523

def k1_chk524 (v824 : IVec S16 32) : Prop :=
  (∀ a x, ((![v824] : Fin 1 → IVec S16 32) a x).toNat < S88320.size a)
theorem k1_idx524_inb : ∀ (v824 : IVec S16 32) (k1_hw524 : k1_chk524 v824), ∀ a x, ((![v824] : Fin 1 → IVec S16 32) a x).toNat < S88320.size a := fun v824 k1_hw524 => k1_hw524

def k1_chk525 (v828 : IVec S16 32) : Prop :=
  (∀ a x, ((![v828] : Fin 1 → IVec S16 32) a x).toNat < S88320.size a)
theorem k1_idx525_inb : ∀ (v828 : IVec S16 32) (k1_hw525 : k1_chk525 v828), ∀ a x, ((![v828] : Fin 1 → IVec S16 32) a x).toNat < S88320.size a := fun v828 k1_hw525 => k1_hw525

def k1_chk526 (v832 : IVec S16 32) : Prop :=
  (∀ a x, ((![v832] : Fin 1 → IVec S16 32) a x).toNat < S88320.size a)
theorem k1_idx526_inb : ∀ (v832 : IVec S16 32) (k1_hw526 : k1_chk526 v832), ∀ a x, ((![v832] : Fin 1 → IVec S16 32) a x).toNat < S88320.size a := fun v832 k1_hw526 => k1_hw526

def k1_chk527 (v836 : IVec S16 32) : Prop :=
  (∀ a x, ((![v836] : Fin 1 → IVec S16 32) a x).toNat < S88320.size a)
theorem k1_idx527_inb : ∀ (v836 : IVec S16 32) (k1_hw527 : k1_chk527 v836), ∀ a x, ((![v836] : Fin 1 → IVec S16 32) a x).toNat < S88320.size a := fun v836 k1_hw527 => k1_hw527

def k1_chk528 (v840 : IVec S16 32) : Prop :=
  (∀ a x, ((![v840] : Fin 1 → IVec S16 32) a x).toNat < S88320.size a)
theorem k1_idx528_inb : ∀ (v840 : IVec S16 32) (k1_hw528 : k1_chk528 v840), ∀ a x, ((![v840] : Fin 1 → IVec S16 32) a x).toNat < S88320.size a := fun v840 k1_hw528 => k1_hw528
def k1_off564 (i : grid1.Coords) : Fin 4 → Nat :=
  let c1_i32_418 : BitVec 32 := 1#32
  let c13_i32_419 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_420 : BitVec 32 := 0#32
  ![1, 13, v2.toNat, 0]
@[reducible] def k1_t35_loop : Scf.Loop 32 :=
  let c0_i32_427 : BitVec 32 := 0#32
  let c32_i32_428 : BitVec 32 := 32#32
  let v315 : BitVec 32 := Scalar.addi c0_i32_427 c32_i32_428
  let c1_i32_429 : BitVec 32 := 1#32
  ⟨c0_i32_427, v315, c1_i32_429⟩
def k1_off565 (k1_t35 : Fin k1_t35_loop.trips) : Fin 2 → Nat :=
  let c0_i32_1152 : BitVec 32 := 0#32
  let v778 : Index := Scalar.indexCast c0_i32_1152
  let c0_i32_427 : BitVec 32 := 0#32
  let c1_i32_429 : BitVec 32 := 1#32
  let arg9 : BitVec 32 := Scf.iv c0_i32_427 c1_i32_429 k1_t35
  let c16_i32_1151 : BitVec 32 := 16#32
  let v777 : BitVec 32 := Scalar.muli arg9 c16_i32_1151
  let v779 : Index := Scalar.indexCast v777
  ![0, v779.toNat]
def k1_off566 (k1_t35 : Fin k1_t35_loop.trips) : Fin 2 → Nat :=
  let c1_i32_1154 : BitVec 32 := 1#32
  let v782 : Index := Scalar.indexCast c1_i32_1154
  let c0_i32_427 : BitVec 32 := 0#32
  let c1_i32_429 : BitVec 32 := 1#32
  let arg9 : BitVec 32 := Scf.iv c0_i32_427 c1_i32_429 k1_t35
  let c16_i32_1153 : BitVec 32 := 16#32
  let v781 : BitVec 32 := Scalar.muli arg9 c16_i32_1153
  let v783 : Index := Scalar.indexCast v781
  ![1, v783.toNat]
def k1_off567 (k1_t35 : Fin k1_t35_loop.trips) : Fin 2 → Nat :=
  let c2_i32_1156 : BitVec 32 := 2#32
  let v786 : Index := Scalar.indexCast c2_i32_1156
  let c0_i32_427 : BitVec 32 := 0#32
  let c1_i32_429 : BitVec 32 := 1#32
  let arg9 : BitVec 32 := Scf.iv c0_i32_427 c1_i32_429 k1_t35
  let c16_i32_1155 : BitVec 32 := 16#32
  let v785 : BitVec 32 := Scalar.muli arg9 c16_i32_1155
  let v787 : Index := Scalar.indexCast v785
  ![2, v787.toNat]
def k1_off568 (k1_t35 : Fin k1_t35_loop.trips) : Fin 2 → Nat :=
  let c3_i32_1158 : BitVec 32 := 3#32
  let v790 : Index := Scalar.indexCast c3_i32_1158
  let c0_i32_427 : BitVec 32 := 0#32
  let c1_i32_429 : BitVec 32 := 1#32
  let arg9 : BitVec 32 := Scf.iv c0_i32_427 c1_i32_429 k1_t35
  let c16_i32_1157 : BitVec 32 := 16#32
  let v789 : BitVec 32 := Scalar.muli arg9 c16_i32_1157
  let v791 : Index := Scalar.indexCast v789
  ![3, v791.toNat]
def k1_off569 (k1_t35 : Fin k1_t35_loop.trips) : Fin 2 → Nat :=
  let c4_i32_1160 : BitVec 32 := 4#32
  let v794 : Index := Scalar.indexCast c4_i32_1160
  let c0_i32_427 : BitVec 32 := 0#32
  let c1_i32_429 : BitVec 32 := 1#32
  let arg9 : BitVec 32 := Scf.iv c0_i32_427 c1_i32_429 k1_t35
  let c16_i32_1159 : BitVec 32 := 16#32
  let v793 : BitVec 32 := Scalar.muli arg9 c16_i32_1159
  let v795 : Index := Scalar.indexCast v793
  ![4, v795.toNat]
def k1_off570 (k1_t35 : Fin k1_t35_loop.trips) : Fin 2 → Nat :=
  let c5_i32_1162 : BitVec 32 := 5#32
  let v798 : Index := Scalar.indexCast c5_i32_1162
  let c0_i32_427 : BitVec 32 := 0#32
  let c1_i32_429 : BitVec 32 := 1#32
  let arg9 : BitVec 32 := Scf.iv c0_i32_427 c1_i32_429 k1_t35
  let c16_i32_1161 : BitVec 32 := 16#32
  let v797 : BitVec 32 := Scalar.muli arg9 c16_i32_1161
  let v799 : Index := Scalar.indexCast v797
  ![5, v799.toNat]
def k1_off571 (k1_t35 : Fin k1_t35_loop.trips) : Fin 2 → Nat :=
  let c6_i32_1164 : BitVec 32 := 6#32
  let v802 : Index := Scalar.indexCast c6_i32_1164
  let c0_i32_427 : BitVec 32 := 0#32
  let c1_i32_429 : BitVec 32 := 1#32
  let arg9 : BitVec 32 := Scf.iv c0_i32_427 c1_i32_429 k1_t35
  let c16_i32_1163 : BitVec 32 := 16#32
  let v801 : BitVec 32 := Scalar.muli arg9 c16_i32_1163
  let v803 : Index := Scalar.indexCast v801
  ![6, v803.toNat]
def k1_off572 (k1_t35 : Fin k1_t35_loop.trips) : Fin 2 → Nat :=
  let c7_i32_1166 : BitVec 32 := 7#32
  let v806 : Index := Scalar.indexCast c7_i32_1166
  let c0_i32_427 : BitVec 32 := 0#32
  let c1_i32_429 : BitVec 32 := 1#32
  let arg9 : BitVec 32 := Scf.iv c0_i32_427 c1_i32_429 k1_t35
  let c16_i32_1165 : BitVec 32 := 16#32
  let v805 : BitVec 32 := Scalar.muli arg9 c16_i32_1165
  let v807 : Index := Scalar.indexCast v805
  ![7, v807.toNat]
def k1_off573 (k1_t35 : Fin k1_t35_loop.trips) : Fin 2 → Nat :=
  let c8_i32_1168 : BitVec 32 := 8#32
  let v810 : Index := Scalar.indexCast c8_i32_1168
  let c0_i32_427 : BitVec 32 := 0#32
  let c1_i32_429 : BitVec 32 := 1#32
  let arg9 : BitVec 32 := Scf.iv c0_i32_427 c1_i32_429 k1_t35
  let c16_i32_1167 : BitVec 32 := 16#32
  let v809 : BitVec 32 := Scalar.muli arg9 c16_i32_1167
  let v811 : Index := Scalar.indexCast v809
  ![8, v811.toNat]
def k1_off574 (k1_t35 : Fin k1_t35_loop.trips) : Fin 2 → Nat :=
  let c9_i32_1170 : BitVec 32 := 9#32
  let v814 : Index := Scalar.indexCast c9_i32_1170
  let c0_i32_427 : BitVec 32 := 0#32
  let c1_i32_429 : BitVec 32 := 1#32
  let arg9 : BitVec 32 := Scf.iv c0_i32_427 c1_i32_429 k1_t35
  let c16_i32_1169 : BitVec 32 := 16#32
  let v813 : BitVec 32 := Scalar.muli arg9 c16_i32_1169
  let v815 : Index := Scalar.indexCast v813
  ![9, v815.toNat]
def k1_off575 (k1_t35 : Fin k1_t35_loop.trips) : Fin 2 → Nat :=
  let c10_i32_1172 : BitVec 32 := 10#32
  let v818 : Index := Scalar.indexCast c10_i32_1172
  let c0_i32_427 : BitVec 32 := 0#32
  let c1_i32_429 : BitVec 32 := 1#32
  let arg9 : BitVec 32 := Scf.iv c0_i32_427 c1_i32_429 k1_t35
  let c16_i32_1171 : BitVec 32 := 16#32
  let v817 : BitVec 32 := Scalar.muli arg9 c16_i32_1171
  let v819 : Index := Scalar.indexCast v817
  ![10, v819.toNat]
def k1_off576 (k1_t35 : Fin k1_t35_loop.trips) : Fin 2 → Nat :=
  let c11_i32_1174 : BitVec 32 := 11#32
  let v822 : Index := Scalar.indexCast c11_i32_1174
  let c0_i32_427 : BitVec 32 := 0#32
  let c1_i32_429 : BitVec 32 := 1#32
  let arg9 : BitVec 32 := Scf.iv c0_i32_427 c1_i32_429 k1_t35
  let c16_i32_1173 : BitVec 32 := 16#32
  let v821 : BitVec 32 := Scalar.muli arg9 c16_i32_1173
  let v823 : Index := Scalar.indexCast v821
  ![11, v823.toNat]
def k1_off577 (k1_t35 : Fin k1_t35_loop.trips) : Fin 2 → Nat :=
  let c12_i32_1176 : BitVec 32 := 12#32
  let v826 : Index := Scalar.indexCast c12_i32_1176
  let c0_i32_427 : BitVec 32 := 0#32
  let c1_i32_429 : BitVec 32 := 1#32
  let arg9 : BitVec 32 := Scf.iv c0_i32_427 c1_i32_429 k1_t35
  let c16_i32_1175 : BitVec 32 := 16#32
  let v825 : BitVec 32 := Scalar.muli arg9 c16_i32_1175
  let v827 : Index := Scalar.indexCast v825
  ![12, v827.toNat]
def k1_off578 (k1_t35 : Fin k1_t35_loop.trips) : Fin 2 → Nat :=
  let c13_i32_1178 : BitVec 32 := 13#32
  let v830 : Index := Scalar.indexCast c13_i32_1178
  let c0_i32_427 : BitVec 32 := 0#32
  let c1_i32_429 : BitVec 32 := 1#32
  let arg9 : BitVec 32 := Scf.iv c0_i32_427 c1_i32_429 k1_t35
  let c16_i32_1177 : BitVec 32 := 16#32
  let v829 : BitVec 32 := Scalar.muli arg9 c16_i32_1177
  let v831 : Index := Scalar.indexCast v829
  ![13, v831.toNat]
def k1_off579 (k1_t35 : Fin k1_t35_loop.trips) : Fin 2 → Nat :=
  let c14_i32_1180 : BitVec 32 := 14#32
  let v834 : Index := Scalar.indexCast c14_i32_1180
  let c0_i32_427 : BitVec 32 := 0#32
  let c1_i32_429 : BitVec 32 := 1#32
  let arg9 : BitVec 32 := Scf.iv c0_i32_427 c1_i32_429 k1_t35
  let c16_i32_1179 : BitVec 32 := 16#32
  let v833 : BitVec 32 := Scalar.muli arg9 c16_i32_1179
  let v835 : Index := Scalar.indexCast v833
  ![14, v835.toNat]
def k1_off580 (k1_t35 : Fin k1_t35_loop.trips) : Fin 2 → Nat :=
  let c15_i32_1182 : BitVec 32 := 15#32
  let v838 : Index := Scalar.indexCast c15_i32_1182
  let c0_i32_427 : BitVec 32 := 0#32
  let c1_i32_429 : BitVec 32 := 1#32
  let arg9 : BitVec 32 := Scf.iv c0_i32_427 c1_i32_429 k1_t35
  let c16_i32_1181 : BitVec 32 := 16#32
  let v837 : BitVec 32 := Scalar.muli arg9 c16_i32_1181
  let v839 : Index := Scalar.indexCast v837
  ![15, v839.toNat]

def k1_chk529 (v780 : IVec S16 32) : Prop :=
  (∀ a x, ((![v780] : Fin 1 → IVec S16 32) a x).toNat < S88320.size a)
theorem k1_idx529_inb : ∀ (v780 : IVec S16 32) (k1_hw529 : k1_chk529 v780), ∀ a x, ((![v780] : Fin 1 → IVec S16 32) a x).toNat < S88320.size a := fun v780 k1_hw529 => k1_hw529

def k1_chk530 (v784 : IVec S16 32) : Prop :=
  (∀ a x, ((![v784] : Fin 1 → IVec S16 32) a x).toNat < S88320.size a)
theorem k1_idx530_inb : ∀ (v784 : IVec S16 32) (k1_hw530 : k1_chk530 v784), ∀ a x, ((![v784] : Fin 1 → IVec S16 32) a x).toNat < S88320.size a := fun v784 k1_hw530 => k1_hw530

def k1_chk531 (v788 : IVec S16 32) : Prop :=
  (∀ a x, ((![v788] : Fin 1 → IVec S16 32) a x).toNat < S88320.size a)
theorem k1_idx531_inb : ∀ (v788 : IVec S16 32) (k1_hw531 : k1_chk531 v788), ∀ a x, ((![v788] : Fin 1 → IVec S16 32) a x).toNat < S88320.size a := fun v788 k1_hw531 => k1_hw531

def k1_chk532 (v792 : IVec S16 32) : Prop :=
  (∀ a x, ((![v792] : Fin 1 → IVec S16 32) a x).toNat < S88320.size a)
theorem k1_idx532_inb : ∀ (v792 : IVec S16 32) (k1_hw532 : k1_chk532 v792), ∀ a x, ((![v792] : Fin 1 → IVec S16 32) a x).toNat < S88320.size a := fun v792 k1_hw532 => k1_hw532

def k1_chk533 (v796 : IVec S16 32) : Prop :=
  (∀ a x, ((![v796] : Fin 1 → IVec S16 32) a x).toNat < S88320.size a)
theorem k1_idx533_inb : ∀ (v796 : IVec S16 32) (k1_hw533 : k1_chk533 v796), ∀ a x, ((![v796] : Fin 1 → IVec S16 32) a x).toNat < S88320.size a := fun v796 k1_hw533 => k1_hw533

def k1_chk534 (v800 : IVec S16 32) : Prop :=
  (∀ a x, ((![v800] : Fin 1 → IVec S16 32) a x).toNat < S88320.size a)
theorem k1_idx534_inb : ∀ (v800 : IVec S16 32) (k1_hw534 : k1_chk534 v800), ∀ a x, ((![v800] : Fin 1 → IVec S16 32) a x).toNat < S88320.size a := fun v800 k1_hw534 => k1_hw534

def k1_chk535 (v804 : IVec S16 32) : Prop :=
  (∀ a x, ((![v804] : Fin 1 → IVec S16 32) a x).toNat < S88320.size a)
theorem k1_idx535_inb : ∀ (v804 : IVec S16 32) (k1_hw535 : k1_chk535 v804), ∀ a x, ((![v804] : Fin 1 → IVec S16 32) a x).toNat < S88320.size a := fun v804 k1_hw535 => k1_hw535

def k1_chk536 (v808 : IVec S16 32) : Prop :=
  (∀ a x, ((![v808] : Fin 1 → IVec S16 32) a x).toNat < S88320.size a)
theorem k1_idx536_inb : ∀ (v808 : IVec S16 32) (k1_hw536 : k1_chk536 v808), ∀ a x, ((![v808] : Fin 1 → IVec S16 32) a x).toNat < S88320.size a := fun v808 k1_hw536 => k1_hw536

def k1_chk537 (v812 : IVec S16 32) : Prop :=
  (∀ a x, ((![v812] : Fin 1 → IVec S16 32) a x).toNat < S88320.size a)
theorem k1_idx537_inb : ∀ (v812 : IVec S16 32) (k1_hw537 : k1_chk537 v812), ∀ a x, ((![v812] : Fin 1 → IVec S16 32) a x).toNat < S88320.size a := fun v812 k1_hw537 => k1_hw537

def k1_chk538 (v816 : IVec S16 32) : Prop :=
  (∀ a x, ((![v816] : Fin 1 → IVec S16 32) a x).toNat < S88320.size a)
theorem k1_idx538_inb : ∀ (v816 : IVec S16 32) (k1_hw538 : k1_chk538 v816), ∀ a x, ((![v816] : Fin 1 → IVec S16 32) a x).toNat < S88320.size a := fun v816 k1_hw538 => k1_hw538

def k1_chk539 (v820 : IVec S16 32) : Prop :=
  (∀ a x, ((![v820] : Fin 1 → IVec S16 32) a x).toNat < S88320.size a)
theorem k1_idx539_inb : ∀ (v820 : IVec S16 32) (k1_hw539 : k1_chk539 v820), ∀ a x, ((![v820] : Fin 1 → IVec S16 32) a x).toNat < S88320.size a := fun v820 k1_hw539 => k1_hw539

def k1_chk540 (v824 : IVec S16 32) : Prop :=
  (∀ a x, ((![v824] : Fin 1 → IVec S16 32) a x).toNat < S88320.size a)
theorem k1_idx540_inb : ∀ (v824 : IVec S16 32) (k1_hw540 : k1_chk540 v824), ∀ a x, ((![v824] : Fin 1 → IVec S16 32) a x).toNat < S88320.size a := fun v824 k1_hw540 => k1_hw540

def k1_chk541 (v828 : IVec S16 32) : Prop :=
  (∀ a x, ((![v828] : Fin 1 → IVec S16 32) a x).toNat < S88320.size a)
theorem k1_idx541_inb : ∀ (v828 : IVec S16 32) (k1_hw541 : k1_chk541 v828), ∀ a x, ((![v828] : Fin 1 → IVec S16 32) a x).toNat < S88320.size a := fun v828 k1_hw541 => k1_hw541

def k1_chk542 (v832 : IVec S16 32) : Prop :=
  (∀ a x, ((![v832] : Fin 1 → IVec S16 32) a x).toNat < S88320.size a)
theorem k1_idx542_inb : ∀ (v832 : IVec S16 32) (k1_hw542 : k1_chk542 v832), ∀ a x, ((![v832] : Fin 1 → IVec S16 32) a x).toNat < S88320.size a := fun v832 k1_hw542 => k1_hw542

def k1_chk543 (v836 : IVec S16 32) : Prop :=
  (∀ a x, ((![v836] : Fin 1 → IVec S16 32) a x).toNat < S88320.size a)
theorem k1_idx543_inb : ∀ (v836 : IVec S16 32) (k1_hw543 : k1_chk543 v836), ∀ a x, ((![v836] : Fin 1 → IVec S16 32) a x).toNat < S88320.size a := fun v836 k1_hw543 => k1_hw543

def k1_chk544 (v840 : IVec S16 32) : Prop :=
  (∀ a x, ((![v840] : Fin 1 → IVec S16 32) a x).toNat < S88320.size a)
theorem k1_idx544_inb : ∀ (v840 : IVec S16 32) (k1_hw544 : k1_chk544 v840), ∀ a x, ((![v840] : Fin 1 → IVec S16 32) a x).toNat < S88320.size a := fun v840 k1_hw544 => k1_hw544
def k1_off581 (i : grid1.Coords) : Fin 4 → Nat :=
  let c1_i32_431 : BitVec 32 := 1#32
  let c14_i32_432 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_433 : BitVec 32 := 0#32
  ![1, 14, v2.toNat, 0]
@[reducible] def k1_t36_loop : Scf.Loop 32 :=
  let c0_i32_440 : BitVec 32 := 0#32
  let c32_i32_441 : BitVec 32 := 32#32
  let v324 : BitVec 32 := Scalar.addi c0_i32_440 c32_i32_441
  let c1_i32_442 : BitVec 32 := 1#32
  ⟨c0_i32_440, v324, c1_i32_442⟩
def k1_off582 (k1_t36 : Fin k1_t36_loop.trips) : Fin 2 → Nat :=
  let c0_i32_1152 : BitVec 32 := 0#32
  let v778 : Index := Scalar.indexCast c0_i32_1152
  let c0_i32_440 : BitVec 32 := 0#32
  let c1_i32_442 : BitVec 32 := 1#32
  let arg9 : BitVec 32 := Scf.iv c0_i32_440 c1_i32_442 k1_t36
  let c16_i32_1151 : BitVec 32 := 16#32
  let v777 : BitVec 32 := Scalar.muli arg9 c16_i32_1151
  let v779 : Index := Scalar.indexCast v777
  ![0, v779.toNat]
def k1_off583 (k1_t36 : Fin k1_t36_loop.trips) : Fin 2 → Nat :=
  let c1_i32_1154 : BitVec 32 := 1#32
  let v782 : Index := Scalar.indexCast c1_i32_1154
  let c0_i32_440 : BitVec 32 := 0#32
  let c1_i32_442 : BitVec 32 := 1#32
  let arg9 : BitVec 32 := Scf.iv c0_i32_440 c1_i32_442 k1_t36
  let c16_i32_1153 : BitVec 32 := 16#32
  let v781 : BitVec 32 := Scalar.muli arg9 c16_i32_1153
  let v783 : Index := Scalar.indexCast v781
  ![1, v783.toNat]
def k1_off584 (k1_t36 : Fin k1_t36_loop.trips) : Fin 2 → Nat :=
  let c2_i32_1156 : BitVec 32 := 2#32
  let v786 : Index := Scalar.indexCast c2_i32_1156
  let c0_i32_440 : BitVec 32 := 0#32
  let c1_i32_442 : BitVec 32 := 1#32
  let arg9 : BitVec 32 := Scf.iv c0_i32_440 c1_i32_442 k1_t36
  let c16_i32_1155 : BitVec 32 := 16#32
  let v785 : BitVec 32 := Scalar.muli arg9 c16_i32_1155
  let v787 : Index := Scalar.indexCast v785
  ![2, v787.toNat]
def k1_off585 (k1_t36 : Fin k1_t36_loop.trips) : Fin 2 → Nat :=
  let c3_i32_1158 : BitVec 32 := 3#32
  let v790 : Index := Scalar.indexCast c3_i32_1158
  let c0_i32_440 : BitVec 32 := 0#32
  let c1_i32_442 : BitVec 32 := 1#32
  let arg9 : BitVec 32 := Scf.iv c0_i32_440 c1_i32_442 k1_t36
  let c16_i32_1157 : BitVec 32 := 16#32
  let v789 : BitVec 32 := Scalar.muli arg9 c16_i32_1157
  let v791 : Index := Scalar.indexCast v789
  ![3, v791.toNat]
def k1_off586 (k1_t36 : Fin k1_t36_loop.trips) : Fin 2 → Nat :=
  let c4_i32_1160 : BitVec 32 := 4#32
  let v794 : Index := Scalar.indexCast c4_i32_1160
  let c0_i32_440 : BitVec 32 := 0#32
  let c1_i32_442 : BitVec 32 := 1#32
  let arg9 : BitVec 32 := Scf.iv c0_i32_440 c1_i32_442 k1_t36
  let c16_i32_1159 : BitVec 32 := 16#32
  let v793 : BitVec 32 := Scalar.muli arg9 c16_i32_1159
  let v795 : Index := Scalar.indexCast v793
  ![4, v795.toNat]
def k1_off587 (k1_t36 : Fin k1_t36_loop.trips) : Fin 2 → Nat :=
  let c5_i32_1162 : BitVec 32 := 5#32
  let v798 : Index := Scalar.indexCast c5_i32_1162
  let c0_i32_440 : BitVec 32 := 0#32
  let c1_i32_442 : BitVec 32 := 1#32
  let arg9 : BitVec 32 := Scf.iv c0_i32_440 c1_i32_442 k1_t36
  let c16_i32_1161 : BitVec 32 := 16#32
  let v797 : BitVec 32 := Scalar.muli arg9 c16_i32_1161
  let v799 : Index := Scalar.indexCast v797
  ![5, v799.toNat]
def k1_off588 (k1_t36 : Fin k1_t36_loop.trips) : Fin 2 → Nat :=
  let c6_i32_1164 : BitVec 32 := 6#32
  let v802 : Index := Scalar.indexCast c6_i32_1164
  let c0_i32_440 : BitVec 32 := 0#32
  let c1_i32_442 : BitVec 32 := 1#32
  let arg9 : BitVec 32 := Scf.iv c0_i32_440 c1_i32_442 k1_t36
  let c16_i32_1163 : BitVec 32 := 16#32
  let v801 : BitVec 32 := Scalar.muli arg9 c16_i32_1163
  let v803 : Index := Scalar.indexCast v801
  ![6, v803.toNat]
def k1_off589 (k1_t36 : Fin k1_t36_loop.trips) : Fin 2 → Nat :=
  let c7_i32_1166 : BitVec 32 := 7#32
  let v806 : Index := Scalar.indexCast c7_i32_1166
  let c0_i32_440 : BitVec 32 := 0#32
  let c1_i32_442 : BitVec 32 := 1#32
  let arg9 : BitVec 32 := Scf.iv c0_i32_440 c1_i32_442 k1_t36
  let c16_i32_1165 : BitVec 32 := 16#32
  let v805 : BitVec 32 := Scalar.muli arg9 c16_i32_1165
  let v807 : Index := Scalar.indexCast v805
  ![7, v807.toNat]
def k1_off590 (k1_t36 : Fin k1_t36_loop.trips) : Fin 2 → Nat :=
  let c8_i32_1168 : BitVec 32 := 8#32
  let v810 : Index := Scalar.indexCast c8_i32_1168
  let c0_i32_440 : BitVec 32 := 0#32
  let c1_i32_442 : BitVec 32 := 1#32
  let arg9 : BitVec 32 := Scf.iv c0_i32_440 c1_i32_442 k1_t36
  let c16_i32_1167 : BitVec 32 := 16#32
  let v809 : BitVec 32 := Scalar.muli arg9 c16_i32_1167
  let v811 : Index := Scalar.indexCast v809
  ![8, v811.toNat]
def k1_off591 (k1_t36 : Fin k1_t36_loop.trips) : Fin 2 → Nat :=
  let c9_i32_1170 : BitVec 32 := 9#32
  let v814 : Index := Scalar.indexCast c9_i32_1170
  let c0_i32_440 : BitVec 32 := 0#32
  let c1_i32_442 : BitVec 32 := 1#32
  let arg9 : BitVec 32 := Scf.iv c0_i32_440 c1_i32_442 k1_t36
  let c16_i32_1169 : BitVec 32 := 16#32
  let v813 : BitVec 32 := Scalar.muli arg9 c16_i32_1169
  let v815 : Index := Scalar.indexCast v813
  ![9, v815.toNat]
def k1_off592 (k1_t36 : Fin k1_t36_loop.trips) : Fin 2 → Nat :=
  let c10_i32_1172 : BitVec 32 := 10#32
  let v818 : Index := Scalar.indexCast c10_i32_1172
  let c0_i32_440 : BitVec 32 := 0#32
  let c1_i32_442 : BitVec 32 := 1#32
  let arg9 : BitVec 32 := Scf.iv c0_i32_440 c1_i32_442 k1_t36
  let c16_i32_1171 : BitVec 32 := 16#32
  let v817 : BitVec 32 := Scalar.muli arg9 c16_i32_1171
  let v819 : Index := Scalar.indexCast v817
  ![10, v819.toNat]
def k1_off593 (k1_t36 : Fin k1_t36_loop.trips) : Fin 2 → Nat :=
  let c11_i32_1174 : BitVec 32 := 11#32
  let v822 : Index := Scalar.indexCast c11_i32_1174
  let c0_i32_440 : BitVec 32 := 0#32
  let c1_i32_442 : BitVec 32 := 1#32
  let arg9 : BitVec 32 := Scf.iv c0_i32_440 c1_i32_442 k1_t36
  let c16_i32_1173 : BitVec 32 := 16#32
  let v821 : BitVec 32 := Scalar.muli arg9 c16_i32_1173
  let v823 : Index := Scalar.indexCast v821
  ![11, v823.toNat]
def k1_off594 (k1_t36 : Fin k1_t36_loop.trips) : Fin 2 → Nat :=
  let c12_i32_1176 : BitVec 32 := 12#32
  let v826 : Index := Scalar.indexCast c12_i32_1176
  let c0_i32_440 : BitVec 32 := 0#32
  let c1_i32_442 : BitVec 32 := 1#32
  let arg9 : BitVec 32 := Scf.iv c0_i32_440 c1_i32_442 k1_t36
  let c16_i32_1175 : BitVec 32 := 16#32
  let v825 : BitVec 32 := Scalar.muli arg9 c16_i32_1175
  let v827 : Index := Scalar.indexCast v825
  ![12, v827.toNat]
def k1_off595 (k1_t36 : Fin k1_t36_loop.trips) : Fin 2 → Nat :=
  let c13_i32_1178 : BitVec 32 := 13#32
  let v830 : Index := Scalar.indexCast c13_i32_1178
  let c0_i32_440 : BitVec 32 := 0#32
  let c1_i32_442 : BitVec 32 := 1#32
  let arg9 : BitVec 32 := Scf.iv c0_i32_440 c1_i32_442 k1_t36
  let c16_i32_1177 : BitVec 32 := 16#32
  let v829 : BitVec 32 := Scalar.muli arg9 c16_i32_1177
  let v831 : Index := Scalar.indexCast v829
  ![13, v831.toNat]
def k1_off596 (k1_t36 : Fin k1_t36_loop.trips) : Fin 2 → Nat :=
  let c14_i32_1180 : BitVec 32 := 14#32
  let v834 : Index := Scalar.indexCast c14_i32_1180
  let c0_i32_440 : BitVec 32 := 0#32
  let c1_i32_442 : BitVec 32 := 1#32
  let arg9 : BitVec 32 := Scf.iv c0_i32_440 c1_i32_442 k1_t36
  let c16_i32_1179 : BitVec 32 := 16#32
  let v833 : BitVec 32 := Scalar.muli arg9 c16_i32_1179
  let v835 : Index := Scalar.indexCast v833
  ![14, v835.toNat]
def k1_off597 (k1_t36 : Fin k1_t36_loop.trips) : Fin 2 → Nat :=
  let c15_i32_1182 : BitVec 32 := 15#32
  let v838 : Index := Scalar.indexCast c15_i32_1182
  let c0_i32_440 : BitVec 32 := 0#32
  let c1_i32_442 : BitVec 32 := 1#32
  let arg9 : BitVec 32 := Scf.iv c0_i32_440 c1_i32_442 k1_t36
  let c16_i32_1181 : BitVec 32 := 16#32
  let v837 : BitVec 32 := Scalar.muli arg9 c16_i32_1181
  let v839 : Index := Scalar.indexCast v837
  ![15, v839.toNat]

def k1_chk545 (v780 : IVec S16 32) : Prop :=
  (∀ a x, ((![v780] : Fin 1 → IVec S16 32) a x).toNat < S88320.size a)
theorem k1_idx545_inb : ∀ (v780 : IVec S16 32) (k1_hw545 : k1_chk545 v780), ∀ a x, ((![v780] : Fin 1 → IVec S16 32) a x).toNat < S88320.size a := fun v780 k1_hw545 => k1_hw545

def k1_chk546 (v784 : IVec S16 32) : Prop :=
  (∀ a x, ((![v784] : Fin 1 → IVec S16 32) a x).toNat < S88320.size a)
theorem k1_idx546_inb : ∀ (v784 : IVec S16 32) (k1_hw546 : k1_chk546 v784), ∀ a x, ((![v784] : Fin 1 → IVec S16 32) a x).toNat < S88320.size a := fun v784 k1_hw546 => k1_hw546

def k1_chk547 (v788 : IVec S16 32) : Prop :=
  (∀ a x, ((![v788] : Fin 1 → IVec S16 32) a x).toNat < S88320.size a)
theorem k1_idx547_inb : ∀ (v788 : IVec S16 32) (k1_hw547 : k1_chk547 v788), ∀ a x, ((![v788] : Fin 1 → IVec S16 32) a x).toNat < S88320.size a := fun v788 k1_hw547 => k1_hw547

def k1_chk548 (v792 : IVec S16 32) : Prop :=
  (∀ a x, ((![v792] : Fin 1 → IVec S16 32) a x).toNat < S88320.size a)
theorem k1_idx548_inb : ∀ (v792 : IVec S16 32) (k1_hw548 : k1_chk548 v792), ∀ a x, ((![v792] : Fin 1 → IVec S16 32) a x).toNat < S88320.size a := fun v792 k1_hw548 => k1_hw548

def k1_chk549 (v796 : IVec S16 32) : Prop :=
  (∀ a x, ((![v796] : Fin 1 → IVec S16 32) a x).toNat < S88320.size a)
theorem k1_idx549_inb : ∀ (v796 : IVec S16 32) (k1_hw549 : k1_chk549 v796), ∀ a x, ((![v796] : Fin 1 → IVec S16 32) a x).toNat < S88320.size a := fun v796 k1_hw549 => k1_hw549

def k1_chk550 (v800 : IVec S16 32) : Prop :=
  (∀ a x, ((![v800] : Fin 1 → IVec S16 32) a x).toNat < S88320.size a)
theorem k1_idx550_inb : ∀ (v800 : IVec S16 32) (k1_hw550 : k1_chk550 v800), ∀ a x, ((![v800] : Fin 1 → IVec S16 32) a x).toNat < S88320.size a := fun v800 k1_hw550 => k1_hw550

def k1_chk551 (v804 : IVec S16 32) : Prop :=
  (∀ a x, ((![v804] : Fin 1 → IVec S16 32) a x).toNat < S88320.size a)
theorem k1_idx551_inb : ∀ (v804 : IVec S16 32) (k1_hw551 : k1_chk551 v804), ∀ a x, ((![v804] : Fin 1 → IVec S16 32) a x).toNat < S88320.size a := fun v804 k1_hw551 => k1_hw551

def k1_chk552 (v808 : IVec S16 32) : Prop :=
  (∀ a x, ((![v808] : Fin 1 → IVec S16 32) a x).toNat < S88320.size a)
theorem k1_idx552_inb : ∀ (v808 : IVec S16 32) (k1_hw552 : k1_chk552 v808), ∀ a x, ((![v808] : Fin 1 → IVec S16 32) a x).toNat < S88320.size a := fun v808 k1_hw552 => k1_hw552

def k1_chk553 (v812 : IVec S16 32) : Prop :=
  (∀ a x, ((![v812] : Fin 1 → IVec S16 32) a x).toNat < S88320.size a)
theorem k1_idx553_inb : ∀ (v812 : IVec S16 32) (k1_hw553 : k1_chk553 v812), ∀ a x, ((![v812] : Fin 1 → IVec S16 32) a x).toNat < S88320.size a := fun v812 k1_hw553 => k1_hw553

def k1_chk554 (v816 : IVec S16 32) : Prop :=
  (∀ a x, ((![v816] : Fin 1 → IVec S16 32) a x).toNat < S88320.size a)
theorem k1_idx554_inb : ∀ (v816 : IVec S16 32) (k1_hw554 : k1_chk554 v816), ∀ a x, ((![v816] : Fin 1 → IVec S16 32) a x).toNat < S88320.size a := fun v816 k1_hw554 => k1_hw554

def k1_chk555 (v820 : IVec S16 32) : Prop :=
  (∀ a x, ((![v820] : Fin 1 → IVec S16 32) a x).toNat < S88320.size a)
theorem k1_idx555_inb : ∀ (v820 : IVec S16 32) (k1_hw555 : k1_chk555 v820), ∀ a x, ((![v820] : Fin 1 → IVec S16 32) a x).toNat < S88320.size a := fun v820 k1_hw555 => k1_hw555

def k1_chk556 (v824 : IVec S16 32) : Prop :=
  (∀ a x, ((![v824] : Fin 1 → IVec S16 32) a x).toNat < S88320.size a)
theorem k1_idx556_inb : ∀ (v824 : IVec S16 32) (k1_hw556 : k1_chk556 v824), ∀ a x, ((![v824] : Fin 1 → IVec S16 32) a x).toNat < S88320.size a := fun v824 k1_hw556 => k1_hw556

def k1_chk557 (v828 : IVec S16 32) : Prop :=
  (∀ a x, ((![v828] : Fin 1 → IVec S16 32) a x).toNat < S88320.size a)
theorem k1_idx557_inb : ∀ (v828 : IVec S16 32) (k1_hw557 : k1_chk557 v828), ∀ a x, ((![v828] : Fin 1 → IVec S16 32) a x).toNat < S88320.size a := fun v828 k1_hw557 => k1_hw557

def k1_chk558 (v832 : IVec S16 32) : Prop :=
  (∀ a x, ((![v832] : Fin 1 → IVec S16 32) a x).toNat < S88320.size a)
theorem k1_idx558_inb : ∀ (v832 : IVec S16 32) (k1_hw558 : k1_chk558 v832), ∀ a x, ((![v832] : Fin 1 → IVec S16 32) a x).toNat < S88320.size a := fun v832 k1_hw558 => k1_hw558

def k1_chk559 (v836 : IVec S16 32) : Prop :=
  (∀ a x, ((![v836] : Fin 1 → IVec S16 32) a x).toNat < S88320.size a)
theorem k1_idx559_inb : ∀ (v836 : IVec S16 32) (k1_hw559 : k1_chk559 v836), ∀ a x, ((![v836] : Fin 1 → IVec S16 32) a x).toNat < S88320.size a := fun v836 k1_hw559 => k1_hw559

def k1_chk560 (v840 : IVec S16 32) : Prop :=
  (∀ a x, ((![v840] : Fin 1 → IVec S16 32) a x).toNat < S88320.size a)
theorem k1_idx560_inb : ∀ (v840 : IVec S16 32) (k1_hw560 : k1_chk560 v840), ∀ a x, ((![v840] : Fin 1 → IVec S16 32) a x).toNat < S88320.size a := fun v840 k1_hw560 => k1_hw560
def k1_off598 (i : grid1.Coords) : Fin 4 → Nat :=
  let c1_i32_444 : BitVec 32 := 1#32
  let c15_i32_445 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_446 : BitVec 32 := 0#32
  ![1, 15, v2.toNat, 0]
@[reducible] def k1_t37_loop : Scf.Loop 32 :=
  let c0_i32_453 : BitVec 32 := 0#32
  let c32_i32_454 : BitVec 32 := 32#32
  let v333 : BitVec 32 := Scalar.addi c0_i32_453 c32_i32_454
  let c1_i32_455 : BitVec 32 := 1#32
  ⟨c0_i32_453, v333, c1_i32_455⟩
def k1_off599 (k1_t37 : Fin k1_t37_loop.trips) : Fin 2 → Nat :=
  let c0_i32_1152 : BitVec 32 := 0#32
  let v778 : Index := Scalar.indexCast c0_i32_1152
  let c0_i32_453 : BitVec 32 := 0#32
  let c1_i32_455 : BitVec 32 := 1#32
  let arg9 : BitVec 32 := Scf.iv c0_i32_453 c1_i32_455 k1_t37
  let c16_i32_1151 : BitVec 32 := 16#32
  let v777 : BitVec 32 := Scalar.muli arg9 c16_i32_1151
  let v779 : Index := Scalar.indexCast v777
  ![0, v779.toNat]
def k1_off600 (k1_t37 : Fin k1_t37_loop.trips) : Fin 2 → Nat :=
  let c1_i32_1154 : BitVec 32 := 1#32
  let v782 : Index := Scalar.indexCast c1_i32_1154
  let c0_i32_453 : BitVec 32 := 0#32
  let c1_i32_455 : BitVec 32 := 1#32
  let arg9 : BitVec 32 := Scf.iv c0_i32_453 c1_i32_455 k1_t37
  let c16_i32_1153 : BitVec 32 := 16#32
  let v781 : BitVec 32 := Scalar.muli arg9 c16_i32_1153
  let v783 : Index := Scalar.indexCast v781
  ![1, v783.toNat]
def k1_off601 (k1_t37 : Fin k1_t37_loop.trips) : Fin 2 → Nat :=
  let c2_i32_1156 : BitVec 32 := 2#32
  let v786 : Index := Scalar.indexCast c2_i32_1156
  let c0_i32_453 : BitVec 32 := 0#32
  let c1_i32_455 : BitVec 32 := 1#32
  let arg9 : BitVec 32 := Scf.iv c0_i32_453 c1_i32_455 k1_t37
  let c16_i32_1155 : BitVec 32 := 16#32
  let v785 : BitVec 32 := Scalar.muli arg9 c16_i32_1155
  let v787 : Index := Scalar.indexCast v785
  ![2, v787.toNat]
def k1_off602 (k1_t37 : Fin k1_t37_loop.trips) : Fin 2 → Nat :=
  let c3_i32_1158 : BitVec 32 := 3#32
  let v790 : Index := Scalar.indexCast c3_i32_1158
  let c0_i32_453 : BitVec 32 := 0#32
  let c1_i32_455 : BitVec 32 := 1#32
  let arg9 : BitVec 32 := Scf.iv c0_i32_453 c1_i32_455 k1_t37
  let c16_i32_1157 : BitVec 32 := 16#32
  let v789 : BitVec 32 := Scalar.muli arg9 c16_i32_1157
  let v791 : Index := Scalar.indexCast v789
  ![3, v791.toNat]
def k1_off603 (k1_t37 : Fin k1_t37_loop.trips) : Fin 2 → Nat :=
  let c4_i32_1160 : BitVec 32 := 4#32
  let v794 : Index := Scalar.indexCast c4_i32_1160
  let c0_i32_453 : BitVec 32 := 0#32
  let c1_i32_455 : BitVec 32 := 1#32
  let arg9 : BitVec 32 := Scf.iv c0_i32_453 c1_i32_455 k1_t37
  let c16_i32_1159 : BitVec 32 := 16#32
  let v793 : BitVec 32 := Scalar.muli arg9 c16_i32_1159
  let v795 : Index := Scalar.indexCast v793
  ![4, v795.toNat]
def k1_off604 (k1_t37 : Fin k1_t37_loop.trips) : Fin 2 → Nat :=
  let c5_i32_1162 : BitVec 32 := 5#32
  let v798 : Index := Scalar.indexCast c5_i32_1162
  let c0_i32_453 : BitVec 32 := 0#32
  let c1_i32_455 : BitVec 32 := 1#32
  let arg9 : BitVec 32 := Scf.iv c0_i32_453 c1_i32_455 k1_t37
  let c16_i32_1161 : BitVec 32 := 16#32
  let v797 : BitVec 32 := Scalar.muli arg9 c16_i32_1161
  let v799 : Index := Scalar.indexCast v797
  ![5, v799.toNat]
def k1_off605 (k1_t37 : Fin k1_t37_loop.trips) : Fin 2 → Nat :=
  let c6_i32_1164 : BitVec 32 := 6#32
  let v802 : Index := Scalar.indexCast c6_i32_1164
  let c0_i32_453 : BitVec 32 := 0#32
  let c1_i32_455 : BitVec 32 := 1#32
  let arg9 : BitVec 32 := Scf.iv c0_i32_453 c1_i32_455 k1_t37
  let c16_i32_1163 : BitVec 32 := 16#32
  let v801 : BitVec 32 := Scalar.muli arg9 c16_i32_1163
  let v803 : Index := Scalar.indexCast v801
  ![6, v803.toNat]
def k1_off606 (k1_t37 : Fin k1_t37_loop.trips) : Fin 2 → Nat :=
  let c7_i32_1166 : BitVec 32 := 7#32
  let v806 : Index := Scalar.indexCast c7_i32_1166
  let c0_i32_453 : BitVec 32 := 0#32
  let c1_i32_455 : BitVec 32 := 1#32
  let arg9 : BitVec 32 := Scf.iv c0_i32_453 c1_i32_455 k1_t37
  let c16_i32_1165 : BitVec 32 := 16#32
  let v805 : BitVec 32 := Scalar.muli arg9 c16_i32_1165
  let v807 : Index := Scalar.indexCast v805
  ![7, v807.toNat]
def k1_off607 (k1_t37 : Fin k1_t37_loop.trips) : Fin 2 → Nat :=
  let c8_i32_1168 : BitVec 32 := 8#32
  let v810 : Index := Scalar.indexCast c8_i32_1168
  let c0_i32_453 : BitVec 32 := 0#32
  let c1_i32_455 : BitVec 32 := 1#32
  let arg9 : BitVec 32 := Scf.iv c0_i32_453 c1_i32_455 k1_t37
  let c16_i32_1167 : BitVec 32 := 16#32
  let v809 : BitVec 32 := Scalar.muli arg9 c16_i32_1167
  let v811 : Index := Scalar.indexCast v809
  ![8, v811.toNat]
def k1_off608 (k1_t37 : Fin k1_t37_loop.trips) : Fin 2 → Nat :=
  let c9_i32_1170 : BitVec 32 := 9#32
  let v814 : Index := Scalar.indexCast c9_i32_1170
  let c0_i32_453 : BitVec 32 := 0#32
  let c1_i32_455 : BitVec 32 := 1#32
  let arg9 : BitVec 32 := Scf.iv c0_i32_453 c1_i32_455 k1_t37
  let c16_i32_1169 : BitVec 32 := 16#32
  let v813 : BitVec 32 := Scalar.muli arg9 c16_i32_1169
  let v815 : Index := Scalar.indexCast v813
  ![9, v815.toNat]
def k1_off609 (k1_t37 : Fin k1_t37_loop.trips) : Fin 2 → Nat :=
  let c10_i32_1172 : BitVec 32 := 10#32
  let v818 : Index := Scalar.indexCast c10_i32_1172
  let c0_i32_453 : BitVec 32 := 0#32
  let c1_i32_455 : BitVec 32 := 1#32
  let arg9 : BitVec 32 := Scf.iv c0_i32_453 c1_i32_455 k1_t37
  let c16_i32_1171 : BitVec 32 := 16#32
  let v817 : BitVec 32 := Scalar.muli arg9 c16_i32_1171
  let v819 : Index := Scalar.indexCast v817
  ![10, v819.toNat]
def k1_off610 (k1_t37 : Fin k1_t37_loop.trips) : Fin 2 → Nat :=
  let c11_i32_1174 : BitVec 32 := 11#32
  let v822 : Index := Scalar.indexCast c11_i32_1174
  let c0_i32_453 : BitVec 32 := 0#32
  let c1_i32_455 : BitVec 32 := 1#32
  let arg9 : BitVec 32 := Scf.iv c0_i32_453 c1_i32_455 k1_t37
  let c16_i32_1173 : BitVec 32 := 16#32
  let v821 : BitVec 32 := Scalar.muli arg9 c16_i32_1173
  let v823 : Index := Scalar.indexCast v821
  ![11, v823.toNat]
def k1_off611 (k1_t37 : Fin k1_t37_loop.trips) : Fin 2 → Nat :=
  let c12_i32_1176 : BitVec 32 := 12#32
  let v826 : Index := Scalar.indexCast c12_i32_1176
  let c0_i32_453 : BitVec 32 := 0#32
  let c1_i32_455 : BitVec 32 := 1#32
  let arg9 : BitVec 32 := Scf.iv c0_i32_453 c1_i32_455 k1_t37
  let c16_i32_1175 : BitVec 32 := 16#32
  let v825 : BitVec 32 := Scalar.muli arg9 c16_i32_1175
  let v827 : Index := Scalar.indexCast v825
  ![12, v827.toNat]
def k1_off612 (k1_t37 : Fin k1_t37_loop.trips) : Fin 2 → Nat :=
  let c13_i32_1178 : BitVec 32 := 13#32
  let v830 : Index := Scalar.indexCast c13_i32_1178
  let c0_i32_453 : BitVec 32 := 0#32
  let c1_i32_455 : BitVec 32 := 1#32
  let arg9 : BitVec 32 := Scf.iv c0_i32_453 c1_i32_455 k1_t37
  let c16_i32_1177 : BitVec 32 := 16#32
  let v829 : BitVec 32 := Scalar.muli arg9 c16_i32_1177
  let v831 : Index := Scalar.indexCast v829
  ![13, v831.toNat]
def k1_off613 (k1_t37 : Fin k1_t37_loop.trips) : Fin 2 → Nat :=
  let c14_i32_1180 : BitVec 32 := 14#32
  let v834 : Index := Scalar.indexCast c14_i32_1180
  let c0_i32_453 : BitVec 32 := 0#32
  let c1_i32_455 : BitVec 32 := 1#32
  let arg9 : BitVec 32 := Scf.iv c0_i32_453 c1_i32_455 k1_t37
  let c16_i32_1179 : BitVec 32 := 16#32
  let v833 : BitVec 32 := Scalar.muli arg9 c16_i32_1179
  let v835 : Index := Scalar.indexCast v833
  ![14, v835.toNat]
def k1_off614 (k1_t37 : Fin k1_t37_loop.trips) : Fin 2 → Nat :=
  let c15_i32_1182 : BitVec 32 := 15#32
  let v838 : Index := Scalar.indexCast c15_i32_1182
  let c0_i32_453 : BitVec 32 := 0#32
  let c1_i32_455 : BitVec 32 := 1#32
  let arg9 : BitVec 32 := Scf.iv c0_i32_453 c1_i32_455 k1_t37
  let c16_i32_1181 : BitVec 32 := 16#32
  let v837 : BitVec 32 := Scalar.muli arg9 c16_i32_1181
  let v839 : Index := Scalar.indexCast v837
  ![15, v839.toNat]

def k1_chk561 (v780 : IVec S16 32) : Prop :=
  (∀ a x, ((![v780] : Fin 1 → IVec S16 32) a x).toNat < S88320.size a)
theorem k1_idx561_inb : ∀ (v780 : IVec S16 32) (k1_hw561 : k1_chk561 v780), ∀ a x, ((![v780] : Fin 1 → IVec S16 32) a x).toNat < S88320.size a := fun v780 k1_hw561 => k1_hw561

def k1_chk562 (v784 : IVec S16 32) : Prop :=
  (∀ a x, ((![v784] : Fin 1 → IVec S16 32) a x).toNat < S88320.size a)
theorem k1_idx562_inb : ∀ (v784 : IVec S16 32) (k1_hw562 : k1_chk562 v784), ∀ a x, ((![v784] : Fin 1 → IVec S16 32) a x).toNat < S88320.size a := fun v784 k1_hw562 => k1_hw562

def k1_chk563 (v788 : IVec S16 32) : Prop :=
  (∀ a x, ((![v788] : Fin 1 → IVec S16 32) a x).toNat < S88320.size a)
theorem k1_idx563_inb : ∀ (v788 : IVec S16 32) (k1_hw563 : k1_chk563 v788), ∀ a x, ((![v788] : Fin 1 → IVec S16 32) a x).toNat < S88320.size a := fun v788 k1_hw563 => k1_hw563

def k1_chk564 (v792 : IVec S16 32) : Prop :=
  (∀ a x, ((![v792] : Fin 1 → IVec S16 32) a x).toNat < S88320.size a)
theorem k1_idx564_inb : ∀ (v792 : IVec S16 32) (k1_hw564 : k1_chk564 v792), ∀ a x, ((![v792] : Fin 1 → IVec S16 32) a x).toNat < S88320.size a := fun v792 k1_hw564 => k1_hw564

def k1_chk565 (v796 : IVec S16 32) : Prop :=
  (∀ a x, ((![v796] : Fin 1 → IVec S16 32) a x).toNat < S88320.size a)
theorem k1_idx565_inb : ∀ (v796 : IVec S16 32) (k1_hw565 : k1_chk565 v796), ∀ a x, ((![v796] : Fin 1 → IVec S16 32) a x).toNat < S88320.size a := fun v796 k1_hw565 => k1_hw565

def k1_chk566 (v800 : IVec S16 32) : Prop :=
  (∀ a x, ((![v800] : Fin 1 → IVec S16 32) a x).toNat < S88320.size a)
theorem k1_idx566_inb : ∀ (v800 : IVec S16 32) (k1_hw566 : k1_chk566 v800), ∀ a x, ((![v800] : Fin 1 → IVec S16 32) a x).toNat < S88320.size a := fun v800 k1_hw566 => k1_hw566

def k1_chk567 (v804 : IVec S16 32) : Prop :=
  (∀ a x, ((![v804] : Fin 1 → IVec S16 32) a x).toNat < S88320.size a)
theorem k1_idx567_inb : ∀ (v804 : IVec S16 32) (k1_hw567 : k1_chk567 v804), ∀ a x, ((![v804] : Fin 1 → IVec S16 32) a x).toNat < S88320.size a := fun v804 k1_hw567 => k1_hw567

def k1_chk568 (v808 : IVec S16 32) : Prop :=
  (∀ a x, ((![v808] : Fin 1 → IVec S16 32) a x).toNat < S88320.size a)
theorem k1_idx568_inb : ∀ (v808 : IVec S16 32) (k1_hw568 : k1_chk568 v808), ∀ a x, ((![v808] : Fin 1 → IVec S16 32) a x).toNat < S88320.size a := fun v808 k1_hw568 => k1_hw568

def k1_chk569 (v812 : IVec S16 32) : Prop :=
  (∀ a x, ((![v812] : Fin 1 → IVec S16 32) a x).toNat < S88320.size a)
theorem k1_idx569_inb : ∀ (v812 : IVec S16 32) (k1_hw569 : k1_chk569 v812), ∀ a x, ((![v812] : Fin 1 → IVec S16 32) a x).toNat < S88320.size a := fun v812 k1_hw569 => k1_hw569

def k1_chk570 (v816 : IVec S16 32) : Prop :=
  (∀ a x, ((![v816] : Fin 1 → IVec S16 32) a x).toNat < S88320.size a)
theorem k1_idx570_inb : ∀ (v816 : IVec S16 32) (k1_hw570 : k1_chk570 v816), ∀ a x, ((![v816] : Fin 1 → IVec S16 32) a x).toNat < S88320.size a := fun v816 k1_hw570 => k1_hw570

def k1_chk571 (v820 : IVec S16 32) : Prop :=
  (∀ a x, ((![v820] : Fin 1 → IVec S16 32) a x).toNat < S88320.size a)
theorem k1_idx571_inb : ∀ (v820 : IVec S16 32) (k1_hw571 : k1_chk571 v820), ∀ a x, ((![v820] : Fin 1 → IVec S16 32) a x).toNat < S88320.size a := fun v820 k1_hw571 => k1_hw571

def k1_chk572 (v824 : IVec S16 32) : Prop :=
  (∀ a x, ((![v824] : Fin 1 → IVec S16 32) a x).toNat < S88320.size a)
theorem k1_idx572_inb : ∀ (v824 : IVec S16 32) (k1_hw572 : k1_chk572 v824), ∀ a x, ((![v824] : Fin 1 → IVec S16 32) a x).toNat < S88320.size a := fun v824 k1_hw572 => k1_hw572

def k1_chk573 (v828 : IVec S16 32) : Prop :=
  (∀ a x, ((![v828] : Fin 1 → IVec S16 32) a x).toNat < S88320.size a)
theorem k1_idx573_inb : ∀ (v828 : IVec S16 32) (k1_hw573 : k1_chk573 v828), ∀ a x, ((![v828] : Fin 1 → IVec S16 32) a x).toNat < S88320.size a := fun v828 k1_hw573 => k1_hw573

def k1_chk574 (v832 : IVec S16 32) : Prop :=
  (∀ a x, ((![v832] : Fin 1 → IVec S16 32) a x).toNat < S88320.size a)
theorem k1_idx574_inb : ∀ (v832 : IVec S16 32) (k1_hw574 : k1_chk574 v832), ∀ a x, ((![v832] : Fin 1 → IVec S16 32) a x).toNat < S88320.size a := fun v832 k1_hw574 => k1_hw574

def k1_chk575 (v836 : IVec S16 32) : Prop :=
  (∀ a x, ((![v836] : Fin 1 → IVec S16 32) a x).toNat < S88320.size a)
theorem k1_idx575_inb : ∀ (v836 : IVec S16 32) (k1_hw575 : k1_chk575 v836), ∀ a x, ((![v836] : Fin 1 → IVec S16 32) a x).toNat < S88320.size a := fun v836 k1_hw575 => k1_hw575

def k1_chk576 (v840 : IVec S16 32) : Prop :=
  (∀ a x, ((![v840] : Fin 1 → IVec S16 32) a x).toNat < S88320.size a)
theorem k1_idx576_inb : ∀ (v840 : IVec S16 32) (k1_hw576 : k1_chk576 v840), ∀ a x, ((![v840] : Fin 1 → IVec S16 32) a x).toNat < S88320.size a := fun v840 k1_hw576 => k1_hw576
def k1_off615 (i : grid1.Coords) : Fin 4 → Nat :=
  let c1_i32_457 : BitVec 32 := 1#32
  let c16_i32_458 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_459 : BitVec 32 := 0#32
  ![1, 16, v2.toNat, 0]
@[reducible] def k1_t38_loop : Scf.Loop 32 :=
  let c0_i32_466 : BitVec 32 := 0#32
  let c32_i32_467 : BitVec 32 := 32#32
  let v342 : BitVec 32 := Scalar.addi c0_i32_466 c32_i32_467
  let c1_i32_468 : BitVec 32 := 1#32
  ⟨c0_i32_466, v342, c1_i32_468⟩
def k1_off616 (k1_t38 : Fin k1_t38_loop.trips) : Fin 2 → Nat :=
  let c0_i32_1152 : BitVec 32 := 0#32
  let v778 : Index := Scalar.indexCast c0_i32_1152
  let c0_i32_466 : BitVec 32 := 0#32
  let c1_i32_468 : BitVec 32 := 1#32
  let arg9 : BitVec 32 := Scf.iv c0_i32_466 c1_i32_468 k1_t38
  let c16_i32_1151 : BitVec 32 := 16#32
  let v777 : BitVec 32 := Scalar.muli arg9 c16_i32_1151
  let v779 : Index := Scalar.indexCast v777
  ![0, v779.toNat]
def k1_off617 (k1_t38 : Fin k1_t38_loop.trips) : Fin 2 → Nat :=
  let c1_i32_1154 : BitVec 32 := 1#32
  let v782 : Index := Scalar.indexCast c1_i32_1154
  let c0_i32_466 : BitVec 32 := 0#32
  let c1_i32_468 : BitVec 32 := 1#32
  let arg9 : BitVec 32 := Scf.iv c0_i32_466 c1_i32_468 k1_t38
  let c16_i32_1153 : BitVec 32 := 16#32
  let v781 : BitVec 32 := Scalar.muli arg9 c16_i32_1153
  let v783 : Index := Scalar.indexCast v781
  ![1, v783.toNat]
def k1_off618 (k1_t38 : Fin k1_t38_loop.trips) : Fin 2 → Nat :=
  let c2_i32_1156 : BitVec 32 := 2#32
  let v786 : Index := Scalar.indexCast c2_i32_1156
  let c0_i32_466 : BitVec 32 := 0#32
  let c1_i32_468 : BitVec 32 := 1#32
  let arg9 : BitVec 32 := Scf.iv c0_i32_466 c1_i32_468 k1_t38
  let c16_i32_1155 : BitVec 32 := 16#32
  let v785 : BitVec 32 := Scalar.muli arg9 c16_i32_1155
  let v787 : Index := Scalar.indexCast v785
  ![2, v787.toNat]
def k1_off619 (k1_t38 : Fin k1_t38_loop.trips) : Fin 2 → Nat :=
  let c3_i32_1158 : BitVec 32 := 3#32
  let v790 : Index := Scalar.indexCast c3_i32_1158
  let c0_i32_466 : BitVec 32 := 0#32
  let c1_i32_468 : BitVec 32 := 1#32
  let arg9 : BitVec 32 := Scf.iv c0_i32_466 c1_i32_468 k1_t38
  let c16_i32_1157 : BitVec 32 := 16#32
  let v789 : BitVec 32 := Scalar.muli arg9 c16_i32_1157
  let v791 : Index := Scalar.indexCast v789
  ![3, v791.toNat]
def k1_off620 (k1_t38 : Fin k1_t38_loop.trips) : Fin 2 → Nat :=
  let c4_i32_1160 : BitVec 32 := 4#32
  let v794 : Index := Scalar.indexCast c4_i32_1160
  let c0_i32_466 : BitVec 32 := 0#32
  let c1_i32_468 : BitVec 32 := 1#32
  let arg9 : BitVec 32 := Scf.iv c0_i32_466 c1_i32_468 k1_t38
  let c16_i32_1159 : BitVec 32 := 16#32
  let v793 : BitVec 32 := Scalar.muli arg9 c16_i32_1159
  let v795 : Index := Scalar.indexCast v793
  ![4, v795.toNat]
def k1_off621 (k1_t38 : Fin k1_t38_loop.trips) : Fin 2 → Nat :=
  let c5_i32_1162 : BitVec 32 := 5#32
  let v798 : Index := Scalar.indexCast c5_i32_1162
  let c0_i32_466 : BitVec 32 := 0#32
  let c1_i32_468 : BitVec 32 := 1#32
  let arg9 : BitVec 32 := Scf.iv c0_i32_466 c1_i32_468 k1_t38
  let c16_i32_1161 : BitVec 32 := 16#32
  let v797 : BitVec 32 := Scalar.muli arg9 c16_i32_1161
  let v799 : Index := Scalar.indexCast v797
  ![5, v799.toNat]
def k1_off622 (k1_t38 : Fin k1_t38_loop.trips) : Fin 2 → Nat :=
  let c6_i32_1164 : BitVec 32 := 6#32
  let v802 : Index := Scalar.indexCast c6_i32_1164
  let c0_i32_466 : BitVec 32 := 0#32
  let c1_i32_468 : BitVec 32 := 1#32
  let arg9 : BitVec 32 := Scf.iv c0_i32_466 c1_i32_468 k1_t38
  let c16_i32_1163 : BitVec 32 := 16#32
  let v801 : BitVec 32 := Scalar.muli arg9 c16_i32_1163
  let v803 : Index := Scalar.indexCast v801
  ![6, v803.toNat]
def k1_off623 (k1_t38 : Fin k1_t38_loop.trips) : Fin 2 → Nat :=
  let c7_i32_1166 : BitVec 32 := 7#32
  let v806 : Index := Scalar.indexCast c7_i32_1166
  let c0_i32_466 : BitVec 32 := 0#32
  let c1_i32_468 : BitVec 32 := 1#32
  let arg9 : BitVec 32 := Scf.iv c0_i32_466 c1_i32_468 k1_t38
  let c16_i32_1165 : BitVec 32 := 16#32
  let v805 : BitVec 32 := Scalar.muli arg9 c16_i32_1165
  let v807 : Index := Scalar.indexCast v805
  ![7, v807.toNat]
def k1_off624 (k1_t38 : Fin k1_t38_loop.trips) : Fin 2 → Nat :=
  let c8_i32_1168 : BitVec 32 := 8#32
  let v810 : Index := Scalar.indexCast c8_i32_1168
  let c0_i32_466 : BitVec 32 := 0#32
  let c1_i32_468 : BitVec 32 := 1#32
  let arg9 : BitVec 32 := Scf.iv c0_i32_466 c1_i32_468 k1_t38
  let c16_i32_1167 : BitVec 32 := 16#32
  let v809 : BitVec 32 := Scalar.muli arg9 c16_i32_1167
  let v811 : Index := Scalar.indexCast v809
  ![8, v811.toNat]
def k1_off625 (k1_t38 : Fin k1_t38_loop.trips) : Fin 2 → Nat :=
  let c9_i32_1170 : BitVec 32 := 9#32
  let v814 : Index := Scalar.indexCast c9_i32_1170
  let c0_i32_466 : BitVec 32 := 0#32
  let c1_i32_468 : BitVec 32 := 1#32
  let arg9 : BitVec 32 := Scf.iv c0_i32_466 c1_i32_468 k1_t38
  let c16_i32_1169 : BitVec 32 := 16#32
  let v813 : BitVec 32 := Scalar.muli arg9 c16_i32_1169
  let v815 : Index := Scalar.indexCast v813
  ![9, v815.toNat]
def k1_off626 (k1_t38 : Fin k1_t38_loop.trips) : Fin 2 → Nat :=
  let c10_i32_1172 : BitVec 32 := 10#32
  let v818 : Index := Scalar.indexCast c10_i32_1172
  let c0_i32_466 : BitVec 32 := 0#32
  let c1_i32_468 : BitVec 32 := 1#32
  let arg9 : BitVec 32 := Scf.iv c0_i32_466 c1_i32_468 k1_t38
  let c16_i32_1171 : BitVec 32 := 16#32
  let v817 : BitVec 32 := Scalar.muli arg9 c16_i32_1171
  let v819 : Index := Scalar.indexCast v817
  ![10, v819.toNat]
def k1_off627 (k1_t38 : Fin k1_t38_loop.trips) : Fin 2 → Nat :=
  let c11_i32_1174 : BitVec 32 := 11#32
  let v822 : Index := Scalar.indexCast c11_i32_1174
  let c0_i32_466 : BitVec 32 := 0#32
  let c1_i32_468 : BitVec 32 := 1#32
  let arg9 : BitVec 32 := Scf.iv c0_i32_466 c1_i32_468 k1_t38
  let c16_i32_1173 : BitVec 32 := 16#32
  let v821 : BitVec 32 := Scalar.muli arg9 c16_i32_1173
  let v823 : Index := Scalar.indexCast v821
  ![11, v823.toNat]
def k1_off628 (k1_t38 : Fin k1_t38_loop.trips) : Fin 2 → Nat :=
  let c12_i32_1176 : BitVec 32 := 12#32
  let v826 : Index := Scalar.indexCast c12_i32_1176
  let c0_i32_466 : BitVec 32 := 0#32
  let c1_i32_468 : BitVec 32 := 1#32
  let arg9 : BitVec 32 := Scf.iv c0_i32_466 c1_i32_468 k1_t38
  let c16_i32_1175 : BitVec 32 := 16#32
  let v825 : BitVec 32 := Scalar.muli arg9 c16_i32_1175
  let v827 : Index := Scalar.indexCast v825
  ![12, v827.toNat]
def k1_off629 (k1_t38 : Fin k1_t38_loop.trips) : Fin 2 → Nat :=
  let c13_i32_1178 : BitVec 32 := 13#32
  let v830 : Index := Scalar.indexCast c13_i32_1178
  let c0_i32_466 : BitVec 32 := 0#32
  let c1_i32_468 : BitVec 32 := 1#32
  let arg9 : BitVec 32 := Scf.iv c0_i32_466 c1_i32_468 k1_t38
  let c16_i32_1177 : BitVec 32 := 16#32
  let v829 : BitVec 32 := Scalar.muli arg9 c16_i32_1177
  let v831 : Index := Scalar.indexCast v829
  ![13, v831.toNat]
def k1_off630 (k1_t38 : Fin k1_t38_loop.trips) : Fin 2 → Nat :=
  let c14_i32_1180 : BitVec 32 := 14#32
  let v834 : Index := Scalar.indexCast c14_i32_1180
  let c0_i32_466 : BitVec 32 := 0#32
  let c1_i32_468 : BitVec 32 := 1#32
  let arg9 : BitVec 32 := Scf.iv c0_i32_466 c1_i32_468 k1_t38
  let c16_i32_1179 : BitVec 32 := 16#32
  let v833 : BitVec 32 := Scalar.muli arg9 c16_i32_1179
  let v835 : Index := Scalar.indexCast v833
  ![14, v835.toNat]
def k1_off631 (k1_t38 : Fin k1_t38_loop.trips) : Fin 2 → Nat :=
  let c15_i32_1182 : BitVec 32 := 15#32
  let v838 : Index := Scalar.indexCast c15_i32_1182
  let c0_i32_466 : BitVec 32 := 0#32
  let c1_i32_468 : BitVec 32 := 1#32
  let arg9 : BitVec 32 := Scf.iv c0_i32_466 c1_i32_468 k1_t38
  let c16_i32_1181 : BitVec 32 := 16#32
  let v837 : BitVec 32 := Scalar.muli arg9 c16_i32_1181
  let v839 : Index := Scalar.indexCast v837
  ![15, v839.toNat]

def k1_chk577 (v780 : IVec S16 32) : Prop :=
  (∀ a x, ((![v780] : Fin 1 → IVec S16 32) a x).toNat < S88320.size a)
theorem k1_idx577_inb : ∀ (v780 : IVec S16 32) (k1_hw577 : k1_chk577 v780), ∀ a x, ((![v780] : Fin 1 → IVec S16 32) a x).toNat < S88320.size a := fun v780 k1_hw577 => k1_hw577

def k1_chk578 (v784 : IVec S16 32) : Prop :=
  (∀ a x, ((![v784] : Fin 1 → IVec S16 32) a x).toNat < S88320.size a)
theorem k1_idx578_inb : ∀ (v784 : IVec S16 32) (k1_hw578 : k1_chk578 v784), ∀ a x, ((![v784] : Fin 1 → IVec S16 32) a x).toNat < S88320.size a := fun v784 k1_hw578 => k1_hw578

def k1_chk579 (v788 : IVec S16 32) : Prop :=
  (∀ a x, ((![v788] : Fin 1 → IVec S16 32) a x).toNat < S88320.size a)
theorem k1_idx579_inb : ∀ (v788 : IVec S16 32) (k1_hw579 : k1_chk579 v788), ∀ a x, ((![v788] : Fin 1 → IVec S16 32) a x).toNat < S88320.size a := fun v788 k1_hw579 => k1_hw579

def k1_chk580 (v792 : IVec S16 32) : Prop :=
  (∀ a x, ((![v792] : Fin 1 → IVec S16 32) a x).toNat < S88320.size a)
theorem k1_idx580_inb : ∀ (v792 : IVec S16 32) (k1_hw580 : k1_chk580 v792), ∀ a x, ((![v792] : Fin 1 → IVec S16 32) a x).toNat < S88320.size a := fun v792 k1_hw580 => k1_hw580

def k1_chk581 (v796 : IVec S16 32) : Prop :=
  (∀ a x, ((![v796] : Fin 1 → IVec S16 32) a x).toNat < S88320.size a)
theorem k1_idx581_inb : ∀ (v796 : IVec S16 32) (k1_hw581 : k1_chk581 v796), ∀ a x, ((![v796] : Fin 1 → IVec S16 32) a x).toNat < S88320.size a := fun v796 k1_hw581 => k1_hw581

def k1_chk582 (v800 : IVec S16 32) : Prop :=
  (∀ a x, ((![v800] : Fin 1 → IVec S16 32) a x).toNat < S88320.size a)
theorem k1_idx582_inb : ∀ (v800 : IVec S16 32) (k1_hw582 : k1_chk582 v800), ∀ a x, ((![v800] : Fin 1 → IVec S16 32) a x).toNat < S88320.size a := fun v800 k1_hw582 => k1_hw582

def k1_chk583 (v804 : IVec S16 32) : Prop :=
  (∀ a x, ((![v804] : Fin 1 → IVec S16 32) a x).toNat < S88320.size a)
theorem k1_idx583_inb : ∀ (v804 : IVec S16 32) (k1_hw583 : k1_chk583 v804), ∀ a x, ((![v804] : Fin 1 → IVec S16 32) a x).toNat < S88320.size a := fun v804 k1_hw583 => k1_hw583

def k1_chk584 (v808 : IVec S16 32) : Prop :=
  (∀ a x, ((![v808] : Fin 1 → IVec S16 32) a x).toNat < S88320.size a)
theorem k1_idx584_inb : ∀ (v808 : IVec S16 32) (k1_hw584 : k1_chk584 v808), ∀ a x, ((![v808] : Fin 1 → IVec S16 32) a x).toNat < S88320.size a := fun v808 k1_hw584 => k1_hw584

def k1_chk585 (v812 : IVec S16 32) : Prop :=
  (∀ a x, ((![v812] : Fin 1 → IVec S16 32) a x).toNat < S88320.size a)
theorem k1_idx585_inb : ∀ (v812 : IVec S16 32) (k1_hw585 : k1_chk585 v812), ∀ a x, ((![v812] : Fin 1 → IVec S16 32) a x).toNat < S88320.size a := fun v812 k1_hw585 => k1_hw585

def k1_chk586 (v816 : IVec S16 32) : Prop :=
  (∀ a x, ((![v816] : Fin 1 → IVec S16 32) a x).toNat < S88320.size a)
theorem k1_idx586_inb : ∀ (v816 : IVec S16 32) (k1_hw586 : k1_chk586 v816), ∀ a x, ((![v816] : Fin 1 → IVec S16 32) a x).toNat < S88320.size a := fun v816 k1_hw586 => k1_hw586

def k1_chk587 (v820 : IVec S16 32) : Prop :=
  (∀ a x, ((![v820] : Fin 1 → IVec S16 32) a x).toNat < S88320.size a)
theorem k1_idx587_inb : ∀ (v820 : IVec S16 32) (k1_hw587 : k1_chk587 v820), ∀ a x, ((![v820] : Fin 1 → IVec S16 32) a x).toNat < S88320.size a := fun v820 k1_hw587 => k1_hw587

def k1_chk588 (v824 : IVec S16 32) : Prop :=
  (∀ a x, ((![v824] : Fin 1 → IVec S16 32) a x).toNat < S88320.size a)
theorem k1_idx588_inb : ∀ (v824 : IVec S16 32) (k1_hw588 : k1_chk588 v824), ∀ a x, ((![v824] : Fin 1 → IVec S16 32) a x).toNat < S88320.size a := fun v824 k1_hw588 => k1_hw588

def k1_chk589 (v828 : IVec S16 32) : Prop :=
  (∀ a x, ((![v828] : Fin 1 → IVec S16 32) a x).toNat < S88320.size a)
theorem k1_idx589_inb : ∀ (v828 : IVec S16 32) (k1_hw589 : k1_chk589 v828), ∀ a x, ((![v828] : Fin 1 → IVec S16 32) a x).toNat < S88320.size a := fun v828 k1_hw589 => k1_hw589

def k1_chk590 (v832 : IVec S16 32) : Prop :=
  (∀ a x, ((![v832] : Fin 1 → IVec S16 32) a x).toNat < S88320.size a)
theorem k1_idx590_inb : ∀ (v832 : IVec S16 32) (k1_hw590 : k1_chk590 v832), ∀ a x, ((![v832] : Fin 1 → IVec S16 32) a x).toNat < S88320.size a := fun v832 k1_hw590 => k1_hw590

def k1_chk591 (v836 : IVec S16 32) : Prop :=
  (∀ a x, ((![v836] : Fin 1 → IVec S16 32) a x).toNat < S88320.size a)
theorem k1_idx591_inb : ∀ (v836 : IVec S16 32) (k1_hw591 : k1_chk591 v836), ∀ a x, ((![v836] : Fin 1 → IVec S16 32) a x).toNat < S88320.size a := fun v836 k1_hw591 => k1_hw591

def k1_chk592 (v840 : IVec S16 32) : Prop :=
  (∀ a x, ((![v840] : Fin 1 → IVec S16 32) a x).toNat < S88320.size a)
theorem k1_idx592_inb : ∀ (v840 : IVec S16 32) (k1_hw592 : k1_chk592 v840), ∀ a x, ((![v840] : Fin 1 → IVec S16 32) a x).toNat < S88320.size a := fun v840 k1_hw592 => k1_hw592
def k1_off632 (i : grid1.Coords) : Fin 4 → Nat :=
  let c1_i32_470 : BitVec 32 := 1#32
  let c17_i32_471 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_472 : BitVec 32 := 0#32
  ![1, 17, v2.toNat, 0]
@[reducible] def k1_t39_loop : Scf.Loop 32 :=
  let c0_i32_479 : BitVec 32 := 0#32
  let c32_i32_480 : BitVec 32 := 32#32
  let v351 : BitVec 32 := Scalar.addi c0_i32_479 c32_i32_480
  let c1_i32_481 : BitVec 32 := 1#32
  ⟨c0_i32_479, v351, c1_i32_481⟩
def k1_off633 (k1_t39 : Fin k1_t39_loop.trips) : Fin 2 → Nat :=
  let c0_i32_1152 : BitVec 32 := 0#32
  let v778 : Index := Scalar.indexCast c0_i32_1152
  let c0_i32_479 : BitVec 32 := 0#32
  let c1_i32_481 : BitVec 32 := 1#32
  let arg9 : BitVec 32 := Scf.iv c0_i32_479 c1_i32_481 k1_t39
  let c16_i32_1151 : BitVec 32 := 16#32
  let v777 : BitVec 32 := Scalar.muli arg9 c16_i32_1151
  let v779 : Index := Scalar.indexCast v777
  ![0, v779.toNat]
def k1_off634 (k1_t39 : Fin k1_t39_loop.trips) : Fin 2 → Nat :=
  let c1_i32_1154 : BitVec 32 := 1#32
  let v782 : Index := Scalar.indexCast c1_i32_1154
  let c0_i32_479 : BitVec 32 := 0#32
  let c1_i32_481 : BitVec 32 := 1#32
  let arg9 : BitVec 32 := Scf.iv c0_i32_479 c1_i32_481 k1_t39
  let c16_i32_1153 : BitVec 32 := 16#32
  let v781 : BitVec 32 := Scalar.muli arg9 c16_i32_1153
  let v783 : Index := Scalar.indexCast v781
  ![1, v783.toNat]
def k1_off635 (k1_t39 : Fin k1_t39_loop.trips) : Fin 2 → Nat :=
  let c2_i32_1156 : BitVec 32 := 2#32
  let v786 : Index := Scalar.indexCast c2_i32_1156
  let c0_i32_479 : BitVec 32 := 0#32
  let c1_i32_481 : BitVec 32 := 1#32
  let arg9 : BitVec 32 := Scf.iv c0_i32_479 c1_i32_481 k1_t39
  let c16_i32_1155 : BitVec 32 := 16#32
  let v785 : BitVec 32 := Scalar.muli arg9 c16_i32_1155
  let v787 : Index := Scalar.indexCast v785
  ![2, v787.toNat]
def k1_off636 (k1_t39 : Fin k1_t39_loop.trips) : Fin 2 → Nat :=
  let c3_i32_1158 : BitVec 32 := 3#32
  let v790 : Index := Scalar.indexCast c3_i32_1158
  let c0_i32_479 : BitVec 32 := 0#32
  let c1_i32_481 : BitVec 32 := 1#32
  let arg9 : BitVec 32 := Scf.iv c0_i32_479 c1_i32_481 k1_t39
  let c16_i32_1157 : BitVec 32 := 16#32
  let v789 : BitVec 32 := Scalar.muli arg9 c16_i32_1157
  let v791 : Index := Scalar.indexCast v789
  ![3, v791.toNat]
def k1_off637 (k1_t39 : Fin k1_t39_loop.trips) : Fin 2 → Nat :=
  let c4_i32_1160 : BitVec 32 := 4#32
  let v794 : Index := Scalar.indexCast c4_i32_1160
  let c0_i32_479 : BitVec 32 := 0#32
  let c1_i32_481 : BitVec 32 := 1#32
  let arg9 : BitVec 32 := Scf.iv c0_i32_479 c1_i32_481 k1_t39
  let c16_i32_1159 : BitVec 32 := 16#32
  let v793 : BitVec 32 := Scalar.muli arg9 c16_i32_1159
  let v795 : Index := Scalar.indexCast v793
  ![4, v795.toNat]
def k1_off638 (k1_t39 : Fin k1_t39_loop.trips) : Fin 2 → Nat :=
  let c5_i32_1162 : BitVec 32 := 5#32
  let v798 : Index := Scalar.indexCast c5_i32_1162
  let c0_i32_479 : BitVec 32 := 0#32
  let c1_i32_481 : BitVec 32 := 1#32
  let arg9 : BitVec 32 := Scf.iv c0_i32_479 c1_i32_481 k1_t39
  let c16_i32_1161 : BitVec 32 := 16#32
  let v797 : BitVec 32 := Scalar.muli arg9 c16_i32_1161
  let v799 : Index := Scalar.indexCast v797
  ![5, v799.toNat]
def k1_off639 (k1_t39 : Fin k1_t39_loop.trips) : Fin 2 → Nat :=
  let c6_i32_1164 : BitVec 32 := 6#32
  let v802 : Index := Scalar.indexCast c6_i32_1164
  let c0_i32_479 : BitVec 32 := 0#32
  let c1_i32_481 : BitVec 32 := 1#32
  let arg9 : BitVec 32 := Scf.iv c0_i32_479 c1_i32_481 k1_t39
  let c16_i32_1163 : BitVec 32 := 16#32
  let v801 : BitVec 32 := Scalar.muli arg9 c16_i32_1163
  let v803 : Index := Scalar.indexCast v801
  ![6, v803.toNat]
def k1_off640 (k1_t39 : Fin k1_t39_loop.trips) : Fin 2 → Nat :=
  let c7_i32_1166 : BitVec 32 := 7#32
  let v806 : Index := Scalar.indexCast c7_i32_1166
  let c0_i32_479 : BitVec 32 := 0#32
  let c1_i32_481 : BitVec 32 := 1#32
  let arg9 : BitVec 32 := Scf.iv c0_i32_479 c1_i32_481 k1_t39
  let c16_i32_1165 : BitVec 32 := 16#32
  let v805 : BitVec 32 := Scalar.muli arg9 c16_i32_1165
  let v807 : Index := Scalar.indexCast v805
  ![7, v807.toNat]
def k1_off641 (k1_t39 : Fin k1_t39_loop.trips) : Fin 2 → Nat :=
  let c8_i32_1168 : BitVec 32 := 8#32
  let v810 : Index := Scalar.indexCast c8_i32_1168
  let c0_i32_479 : BitVec 32 := 0#32
  let c1_i32_481 : BitVec 32 := 1#32
  let arg9 : BitVec 32 := Scf.iv c0_i32_479 c1_i32_481 k1_t39
  let c16_i32_1167 : BitVec 32 := 16#32
  let v809 : BitVec 32 := Scalar.muli arg9 c16_i32_1167
  let v811 : Index := Scalar.indexCast v809
  ![8, v811.toNat]
def k1_off642 (k1_t39 : Fin k1_t39_loop.trips) : Fin 2 → Nat :=
  let c9_i32_1170 : BitVec 32 := 9#32
  let v814 : Index := Scalar.indexCast c9_i32_1170
  let c0_i32_479 : BitVec 32 := 0#32
  let c1_i32_481 : BitVec 32 := 1#32
  let arg9 : BitVec 32 := Scf.iv c0_i32_479 c1_i32_481 k1_t39
  let c16_i32_1169 : BitVec 32 := 16#32
  let v813 : BitVec 32 := Scalar.muli arg9 c16_i32_1169
  let v815 : Index := Scalar.indexCast v813
  ![9, v815.toNat]
def k1_off643 (k1_t39 : Fin k1_t39_loop.trips) : Fin 2 → Nat :=
  let c10_i32_1172 : BitVec 32 := 10#32
  let v818 : Index := Scalar.indexCast c10_i32_1172
  let c0_i32_479 : BitVec 32 := 0#32
  let c1_i32_481 : BitVec 32 := 1#32
  let arg9 : BitVec 32 := Scf.iv c0_i32_479 c1_i32_481 k1_t39
  let c16_i32_1171 : BitVec 32 := 16#32
  let v817 : BitVec 32 := Scalar.muli arg9 c16_i32_1171
  let v819 : Index := Scalar.indexCast v817
  ![10, v819.toNat]
def k1_off644 (k1_t39 : Fin k1_t39_loop.trips) : Fin 2 → Nat :=
  let c11_i32_1174 : BitVec 32 := 11#32
  let v822 : Index := Scalar.indexCast c11_i32_1174
  let c0_i32_479 : BitVec 32 := 0#32
  let c1_i32_481 : BitVec 32 := 1#32
  let arg9 : BitVec 32 := Scf.iv c0_i32_479 c1_i32_481 k1_t39
  let c16_i32_1173 : BitVec 32 := 16#32
  let v821 : BitVec 32 := Scalar.muli arg9 c16_i32_1173
  let v823 : Index := Scalar.indexCast v821
  ![11, v823.toNat]
def k1_off645 (k1_t39 : Fin k1_t39_loop.trips) : Fin 2 → Nat :=
  let c12_i32_1176 : BitVec 32 := 12#32
  let v826 : Index := Scalar.indexCast c12_i32_1176
  let c0_i32_479 : BitVec 32 := 0#32
  let c1_i32_481 : BitVec 32 := 1#32
  let arg9 : BitVec 32 := Scf.iv c0_i32_479 c1_i32_481 k1_t39
  let c16_i32_1175 : BitVec 32 := 16#32
  let v825 : BitVec 32 := Scalar.muli arg9 c16_i32_1175
  let v827 : Index := Scalar.indexCast v825
  ![12, v827.toNat]
def k1_off646 (k1_t39 : Fin k1_t39_loop.trips) : Fin 2 → Nat :=
  let c13_i32_1178 : BitVec 32 := 13#32
  let v830 : Index := Scalar.indexCast c13_i32_1178
  let c0_i32_479 : BitVec 32 := 0#32
  let c1_i32_481 : BitVec 32 := 1#32
  let arg9 : BitVec 32 := Scf.iv c0_i32_479 c1_i32_481 k1_t39
  let c16_i32_1177 : BitVec 32 := 16#32
  let v829 : BitVec 32 := Scalar.muli arg9 c16_i32_1177
  let v831 : Index := Scalar.indexCast v829
  ![13, v831.toNat]
def k1_off647 (k1_t39 : Fin k1_t39_loop.trips) : Fin 2 → Nat :=
  let c14_i32_1180 : BitVec 32 := 14#32
  let v834 : Index := Scalar.indexCast c14_i32_1180
  let c0_i32_479 : BitVec 32 := 0#32
  let c1_i32_481 : BitVec 32 := 1#32
  let arg9 : BitVec 32 := Scf.iv c0_i32_479 c1_i32_481 k1_t39
  let c16_i32_1179 : BitVec 32 := 16#32
  let v833 : BitVec 32 := Scalar.muli arg9 c16_i32_1179
  let v835 : Index := Scalar.indexCast v833
  ![14, v835.toNat]
def k1_off648 (k1_t39 : Fin k1_t39_loop.trips) : Fin 2 → Nat :=
  let c15_i32_1182 : BitVec 32 := 15#32
  let v838 : Index := Scalar.indexCast c15_i32_1182
  let c0_i32_479 : BitVec 32 := 0#32
  let c1_i32_481 : BitVec 32 := 1#32
  let arg9 : BitVec 32 := Scf.iv c0_i32_479 c1_i32_481 k1_t39
  let c16_i32_1181 : BitVec 32 := 16#32
  let v837 : BitVec 32 := Scalar.muli arg9 c16_i32_1181
  let v839 : Index := Scalar.indexCast v837
  ![15, v839.toNat]

def k1_chk593 (v780 : IVec S16 32) : Prop :=
  (∀ a x, ((![v780] : Fin 1 → IVec S16 32) a x).toNat < S88320.size a)
theorem k1_idx593_inb : ∀ (v780 : IVec S16 32) (k1_hw593 : k1_chk593 v780), ∀ a x, ((![v780] : Fin 1 → IVec S16 32) a x).toNat < S88320.size a := fun v780 k1_hw593 => k1_hw593

def k1_chk594 (v784 : IVec S16 32) : Prop :=
  (∀ a x, ((![v784] : Fin 1 → IVec S16 32) a x).toNat < S88320.size a)
theorem k1_idx594_inb : ∀ (v784 : IVec S16 32) (k1_hw594 : k1_chk594 v784), ∀ a x, ((![v784] : Fin 1 → IVec S16 32) a x).toNat < S88320.size a := fun v784 k1_hw594 => k1_hw594

def k1_chk595 (v788 : IVec S16 32) : Prop :=
  (∀ a x, ((![v788] : Fin 1 → IVec S16 32) a x).toNat < S88320.size a)
theorem k1_idx595_inb : ∀ (v788 : IVec S16 32) (k1_hw595 : k1_chk595 v788), ∀ a x, ((![v788] : Fin 1 → IVec S16 32) a x).toNat < S88320.size a := fun v788 k1_hw595 => k1_hw595

def k1_chk596 (v792 : IVec S16 32) : Prop :=
  (∀ a x, ((![v792] : Fin 1 → IVec S16 32) a x).toNat < S88320.size a)
theorem k1_idx596_inb : ∀ (v792 : IVec S16 32) (k1_hw596 : k1_chk596 v792), ∀ a x, ((![v792] : Fin 1 → IVec S16 32) a x).toNat < S88320.size a := fun v792 k1_hw596 => k1_hw596

def k1_chk597 (v796 : IVec S16 32) : Prop :=
  (∀ a x, ((![v796] : Fin 1 → IVec S16 32) a x).toNat < S88320.size a)
theorem k1_idx597_inb : ∀ (v796 : IVec S16 32) (k1_hw597 : k1_chk597 v796), ∀ a x, ((![v796] : Fin 1 → IVec S16 32) a x).toNat < S88320.size a := fun v796 k1_hw597 => k1_hw597

def k1_chk598 (v800 : IVec S16 32) : Prop :=
  (∀ a x, ((![v800] : Fin 1 → IVec S16 32) a x).toNat < S88320.size a)
theorem k1_idx598_inb : ∀ (v800 : IVec S16 32) (k1_hw598 : k1_chk598 v800), ∀ a x, ((![v800] : Fin 1 → IVec S16 32) a x).toNat < S88320.size a := fun v800 k1_hw598 => k1_hw598

def k1_chk599 (v804 : IVec S16 32) : Prop :=
  (∀ a x, ((![v804] : Fin 1 → IVec S16 32) a x).toNat < S88320.size a)
theorem k1_idx599_inb : ∀ (v804 : IVec S16 32) (k1_hw599 : k1_chk599 v804), ∀ a x, ((![v804] : Fin 1 → IVec S16 32) a x).toNat < S88320.size a := fun v804 k1_hw599 => k1_hw599

def k1_chk600 (v808 : IVec S16 32) : Prop :=
  (∀ a x, ((![v808] : Fin 1 → IVec S16 32) a x).toNat < S88320.size a)
theorem k1_idx600_inb : ∀ (v808 : IVec S16 32) (k1_hw600 : k1_chk600 v808), ∀ a x, ((![v808] : Fin 1 → IVec S16 32) a x).toNat < S88320.size a := fun v808 k1_hw600 => k1_hw600

def k1_chk601 (v812 : IVec S16 32) : Prop :=
  (∀ a x, ((![v812] : Fin 1 → IVec S16 32) a x).toNat < S88320.size a)
theorem k1_idx601_inb : ∀ (v812 : IVec S16 32) (k1_hw601 : k1_chk601 v812), ∀ a x, ((![v812] : Fin 1 → IVec S16 32) a x).toNat < S88320.size a := fun v812 k1_hw601 => k1_hw601

def k1_chk602 (v816 : IVec S16 32) : Prop :=
  (∀ a x, ((![v816] : Fin 1 → IVec S16 32) a x).toNat < S88320.size a)
theorem k1_idx602_inb : ∀ (v816 : IVec S16 32) (k1_hw602 : k1_chk602 v816), ∀ a x, ((![v816] : Fin 1 → IVec S16 32) a x).toNat < S88320.size a := fun v816 k1_hw602 => k1_hw602

def k1_chk603 (v820 : IVec S16 32) : Prop :=
  (∀ a x, ((![v820] : Fin 1 → IVec S16 32) a x).toNat < S88320.size a)
theorem k1_idx603_inb : ∀ (v820 : IVec S16 32) (k1_hw603 : k1_chk603 v820), ∀ a x, ((![v820] : Fin 1 → IVec S16 32) a x).toNat < S88320.size a := fun v820 k1_hw603 => k1_hw603

def k1_chk604 (v824 : IVec S16 32) : Prop :=
  (∀ a x, ((![v824] : Fin 1 → IVec S16 32) a x).toNat < S88320.size a)
theorem k1_idx604_inb : ∀ (v824 : IVec S16 32) (k1_hw604 : k1_chk604 v824), ∀ a x, ((![v824] : Fin 1 → IVec S16 32) a x).toNat < S88320.size a := fun v824 k1_hw604 => k1_hw604

def k1_chk605 (v828 : IVec S16 32) : Prop :=
  (∀ a x, ((![v828] : Fin 1 → IVec S16 32) a x).toNat < S88320.size a)
theorem k1_idx605_inb : ∀ (v828 : IVec S16 32) (k1_hw605 : k1_chk605 v828), ∀ a x, ((![v828] : Fin 1 → IVec S16 32) a x).toNat < S88320.size a := fun v828 k1_hw605 => k1_hw605

def k1_chk606 (v832 : IVec S16 32) : Prop :=
  (∀ a x, ((![v832] : Fin 1 → IVec S16 32) a x).toNat < S88320.size a)
theorem k1_idx606_inb : ∀ (v832 : IVec S16 32) (k1_hw606 : k1_chk606 v832), ∀ a x, ((![v832] : Fin 1 → IVec S16 32) a x).toNat < S88320.size a := fun v832 k1_hw606 => k1_hw606

def k1_chk607 (v836 : IVec S16 32) : Prop :=
  (∀ a x, ((![v836] : Fin 1 → IVec S16 32) a x).toNat < S88320.size a)
theorem k1_idx607_inb : ∀ (v836 : IVec S16 32) (k1_hw607 : k1_chk607 v836), ∀ a x, ((![v836] : Fin 1 → IVec S16 32) a x).toNat < S88320.size a := fun v836 k1_hw607 => k1_hw607

def k1_chk608 (v840 : IVec S16 32) : Prop :=
  (∀ a x, ((![v840] : Fin 1 → IVec S16 32) a x).toNat < S88320.size a)
theorem k1_idx608_inb : ∀ (v840 : IVec S16 32) (k1_hw608 : k1_chk608 v840), ∀ a x, ((![v840] : Fin 1 → IVec S16 32) a x).toNat < S88320.size a := fun v840 k1_hw608 => k1_hw608
def k1_off649 (i : grid1.Coords) : Fin 4 → Nat :=
  let c1_i32_483 : BitVec 32 := 1#32
  let c18_i32_484 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_485 : BitVec 32 := 0#32
  ![1, 18, v2.toNat, 0]
@[reducible] def k1_t40_loop : Scf.Loop 32 :=
  let c0_i32_492 : BitVec 32 := 0#32
  let c32_i32_493 : BitVec 32 := 32#32
  let v360 : BitVec 32 := Scalar.addi c0_i32_492 c32_i32_493
  let c1_i32_494 : BitVec 32 := 1#32
  ⟨c0_i32_492, v360, c1_i32_494⟩
def k1_off650 (k1_t40 : Fin k1_t40_loop.trips) : Fin 2 → Nat :=
  let c0_i32_1152 : BitVec 32 := 0#32
  let v778 : Index := Scalar.indexCast c0_i32_1152
  let c0_i32_492 : BitVec 32 := 0#32
  let c1_i32_494 : BitVec 32 := 1#32
  let arg9 : BitVec 32 := Scf.iv c0_i32_492 c1_i32_494 k1_t40
  let c16_i32_1151 : BitVec 32 := 16#32
  let v777 : BitVec 32 := Scalar.muli arg9 c16_i32_1151
  let v779 : Index := Scalar.indexCast v777
  ![0, v779.toNat]
def k1_off651 (k1_t40 : Fin k1_t40_loop.trips) : Fin 2 → Nat :=
  let c1_i32_1154 : BitVec 32 := 1#32
  let v782 : Index := Scalar.indexCast c1_i32_1154
  let c0_i32_492 : BitVec 32 := 0#32
  let c1_i32_494 : BitVec 32 := 1#32
  let arg9 : BitVec 32 := Scf.iv c0_i32_492 c1_i32_494 k1_t40
  let c16_i32_1153 : BitVec 32 := 16#32
  let v781 : BitVec 32 := Scalar.muli arg9 c16_i32_1153
  let v783 : Index := Scalar.indexCast v781
  ![1, v783.toNat]
def k1_off652 (k1_t40 : Fin k1_t40_loop.trips) : Fin 2 → Nat :=
  let c2_i32_1156 : BitVec 32 := 2#32
  let v786 : Index := Scalar.indexCast c2_i32_1156
  let c0_i32_492 : BitVec 32 := 0#32
  let c1_i32_494 : BitVec 32 := 1#32
  let arg9 : BitVec 32 := Scf.iv c0_i32_492 c1_i32_494 k1_t40
  let c16_i32_1155 : BitVec 32 := 16#32
  let v785 : BitVec 32 := Scalar.muli arg9 c16_i32_1155
  let v787 : Index := Scalar.indexCast v785
  ![2, v787.toNat]
def k1_off653 (k1_t40 : Fin k1_t40_loop.trips) : Fin 2 → Nat :=
  let c3_i32_1158 : BitVec 32 := 3#32
  let v790 : Index := Scalar.indexCast c3_i32_1158
  let c0_i32_492 : BitVec 32 := 0#32
  let c1_i32_494 : BitVec 32 := 1#32
  let arg9 : BitVec 32 := Scf.iv c0_i32_492 c1_i32_494 k1_t40
  let c16_i32_1157 : BitVec 32 := 16#32
  let v789 : BitVec 32 := Scalar.muli arg9 c16_i32_1157
  let v791 : Index := Scalar.indexCast v789
  ![3, v791.toNat]
def k1_off654 (k1_t40 : Fin k1_t40_loop.trips) : Fin 2 → Nat :=
  let c4_i32_1160 : BitVec 32 := 4#32
  let v794 : Index := Scalar.indexCast c4_i32_1160
  let c0_i32_492 : BitVec 32 := 0#32
  let c1_i32_494 : BitVec 32 := 1#32
  let arg9 : BitVec 32 := Scf.iv c0_i32_492 c1_i32_494 k1_t40
  let c16_i32_1159 : BitVec 32 := 16#32
  let v793 : BitVec 32 := Scalar.muli arg9 c16_i32_1159
  let v795 : Index := Scalar.indexCast v793
  ![4, v795.toNat]
def k1_off655 (k1_t40 : Fin k1_t40_loop.trips) : Fin 2 → Nat :=
  let c5_i32_1162 : BitVec 32 := 5#32
  let v798 : Index := Scalar.indexCast c5_i32_1162
  let c0_i32_492 : BitVec 32 := 0#32
  let c1_i32_494 : BitVec 32 := 1#32
  let arg9 : BitVec 32 := Scf.iv c0_i32_492 c1_i32_494 k1_t40
  let c16_i32_1161 : BitVec 32 := 16#32
  let v797 : BitVec 32 := Scalar.muli arg9 c16_i32_1161
  let v799 : Index := Scalar.indexCast v797
  ![5, v799.toNat]
def k1_off656 (k1_t40 : Fin k1_t40_loop.trips) : Fin 2 → Nat :=
  let c6_i32_1164 : BitVec 32 := 6#32
  let v802 : Index := Scalar.indexCast c6_i32_1164
  let c0_i32_492 : BitVec 32 := 0#32
  let c1_i32_494 : BitVec 32 := 1#32
  let arg9 : BitVec 32 := Scf.iv c0_i32_492 c1_i32_494 k1_t40
  let c16_i32_1163 : BitVec 32 := 16#32
  let v801 : BitVec 32 := Scalar.muli arg9 c16_i32_1163
  let v803 : Index := Scalar.indexCast v801
  ![6, v803.toNat]
def k1_off657 (k1_t40 : Fin k1_t40_loop.trips) : Fin 2 → Nat :=
  let c7_i32_1166 : BitVec 32 := 7#32
  let v806 : Index := Scalar.indexCast c7_i32_1166
  let c0_i32_492 : BitVec 32 := 0#32
  let c1_i32_494 : BitVec 32 := 1#32
  let arg9 : BitVec 32 := Scf.iv c0_i32_492 c1_i32_494 k1_t40
  let c16_i32_1165 : BitVec 32 := 16#32
  let v805 : BitVec 32 := Scalar.muli arg9 c16_i32_1165
  let v807 : Index := Scalar.indexCast v805
  ![7, v807.toNat]
def k1_off658 (k1_t40 : Fin k1_t40_loop.trips) : Fin 2 → Nat :=
  let c8_i32_1168 : BitVec 32 := 8#32
  let v810 : Index := Scalar.indexCast c8_i32_1168
  let c0_i32_492 : BitVec 32 := 0#32
  let c1_i32_494 : BitVec 32 := 1#32
  let arg9 : BitVec 32 := Scf.iv c0_i32_492 c1_i32_494 k1_t40
  let c16_i32_1167 : BitVec 32 := 16#32
  let v809 : BitVec 32 := Scalar.muli arg9 c16_i32_1167
  let v811 : Index := Scalar.indexCast v809
  ![8, v811.toNat]
def k1_off659 (k1_t40 : Fin k1_t40_loop.trips) : Fin 2 → Nat :=
  let c9_i32_1170 : BitVec 32 := 9#32
  let v814 : Index := Scalar.indexCast c9_i32_1170
  let c0_i32_492 : BitVec 32 := 0#32
  let c1_i32_494 : BitVec 32 := 1#32
  let arg9 : BitVec 32 := Scf.iv c0_i32_492 c1_i32_494 k1_t40
  let c16_i32_1169 : BitVec 32 := 16#32
  let v813 : BitVec 32 := Scalar.muli arg9 c16_i32_1169
  let v815 : Index := Scalar.indexCast v813
  ![9, v815.toNat]
def k1_off660 (k1_t40 : Fin k1_t40_loop.trips) : Fin 2 → Nat :=
  let c10_i32_1172 : BitVec 32 := 10#32
  let v818 : Index := Scalar.indexCast c10_i32_1172
  let c0_i32_492 : BitVec 32 := 0#32
  let c1_i32_494 : BitVec 32 := 1#32
  let arg9 : BitVec 32 := Scf.iv c0_i32_492 c1_i32_494 k1_t40
  let c16_i32_1171 : BitVec 32 := 16#32
  let v817 : BitVec 32 := Scalar.muli arg9 c16_i32_1171
  let v819 : Index := Scalar.indexCast v817
  ![10, v819.toNat]
def k1_off661 (k1_t40 : Fin k1_t40_loop.trips) : Fin 2 → Nat :=
  let c11_i32_1174 : BitVec 32 := 11#32
  let v822 : Index := Scalar.indexCast c11_i32_1174
  let c0_i32_492 : BitVec 32 := 0#32
  let c1_i32_494 : BitVec 32 := 1#32
  let arg9 : BitVec 32 := Scf.iv c0_i32_492 c1_i32_494 k1_t40
  let c16_i32_1173 : BitVec 32 := 16#32
  let v821 : BitVec 32 := Scalar.muli arg9 c16_i32_1173
  let v823 : Index := Scalar.indexCast v821
  ![11, v823.toNat]
def k1_off662 (k1_t40 : Fin k1_t40_loop.trips) : Fin 2 → Nat :=
  let c12_i32_1176 : BitVec 32 := 12#32
  let v826 : Index := Scalar.indexCast c12_i32_1176
  let c0_i32_492 : BitVec 32 := 0#32
  let c1_i32_494 : BitVec 32 := 1#32
  let arg9 : BitVec 32 := Scf.iv c0_i32_492 c1_i32_494 k1_t40
  let c16_i32_1175 : BitVec 32 := 16#32
  let v825 : BitVec 32 := Scalar.muli arg9 c16_i32_1175
  let v827 : Index := Scalar.indexCast v825
  ![12, v827.toNat]
def k1_off663 (k1_t40 : Fin k1_t40_loop.trips) : Fin 2 → Nat :=
  let c13_i32_1178 : BitVec 32 := 13#32
  let v830 : Index := Scalar.indexCast c13_i32_1178
  let c0_i32_492 : BitVec 32 := 0#32
  let c1_i32_494 : BitVec 32 := 1#32
  let arg9 : BitVec 32 := Scf.iv c0_i32_492 c1_i32_494 k1_t40
  let c16_i32_1177 : BitVec 32 := 16#32
  let v829 : BitVec 32 := Scalar.muli arg9 c16_i32_1177
  let v831 : Index := Scalar.indexCast v829
  ![13, v831.toNat]
def k1_off664 (k1_t40 : Fin k1_t40_loop.trips) : Fin 2 → Nat :=
  let c14_i32_1180 : BitVec 32 := 14#32
  let v834 : Index := Scalar.indexCast c14_i32_1180
  let c0_i32_492 : BitVec 32 := 0#32
  let c1_i32_494 : BitVec 32 := 1#32
  let arg9 : BitVec 32 := Scf.iv c0_i32_492 c1_i32_494 k1_t40
  let c16_i32_1179 : BitVec 32 := 16#32
  let v833 : BitVec 32 := Scalar.muli arg9 c16_i32_1179
  let v835 : Index := Scalar.indexCast v833
  ![14, v835.toNat]
def k1_off665 (k1_t40 : Fin k1_t40_loop.trips) : Fin 2 → Nat :=
  let c15_i32_1182 : BitVec 32 := 15#32
  let v838 : Index := Scalar.indexCast c15_i32_1182
  let c0_i32_492 : BitVec 32 := 0#32
  let c1_i32_494 : BitVec 32 := 1#32
  let arg9 : BitVec 32 := Scf.iv c0_i32_492 c1_i32_494 k1_t40
  let c16_i32_1181 : BitVec 32 := 16#32
  let v837 : BitVec 32 := Scalar.muli arg9 c16_i32_1181
  let v839 : Index := Scalar.indexCast v837
  ![15, v839.toNat]

def k1_chk609 (v780 : IVec S16 32) : Prop :=
  (∀ a x, ((![v780] : Fin 1 → IVec S16 32) a x).toNat < S88320.size a)
theorem k1_idx609_inb : ∀ (v780 : IVec S16 32) (k1_hw609 : k1_chk609 v780), ∀ a x, ((![v780] : Fin 1 → IVec S16 32) a x).toNat < S88320.size a := fun v780 k1_hw609 => k1_hw609

def k1_chk610 (v784 : IVec S16 32) : Prop :=
  (∀ a x, ((![v784] : Fin 1 → IVec S16 32) a x).toNat < S88320.size a)
theorem k1_idx610_inb : ∀ (v784 : IVec S16 32) (k1_hw610 : k1_chk610 v784), ∀ a x, ((![v784] : Fin 1 → IVec S16 32) a x).toNat < S88320.size a := fun v784 k1_hw610 => k1_hw610

def k1_chk611 (v788 : IVec S16 32) : Prop :=
  (∀ a x, ((![v788] : Fin 1 → IVec S16 32) a x).toNat < S88320.size a)
theorem k1_idx611_inb : ∀ (v788 : IVec S16 32) (k1_hw611 : k1_chk611 v788), ∀ a x, ((![v788] : Fin 1 → IVec S16 32) a x).toNat < S88320.size a := fun v788 k1_hw611 => k1_hw611

def k1_chk612 (v792 : IVec S16 32) : Prop :=
  (∀ a x, ((![v792] : Fin 1 → IVec S16 32) a x).toNat < S88320.size a)
theorem k1_idx612_inb : ∀ (v792 : IVec S16 32) (k1_hw612 : k1_chk612 v792), ∀ a x, ((![v792] : Fin 1 → IVec S16 32) a x).toNat < S88320.size a := fun v792 k1_hw612 => k1_hw612

def k1_chk613 (v796 : IVec S16 32) : Prop :=
  (∀ a x, ((![v796] : Fin 1 → IVec S16 32) a x).toNat < S88320.size a)
theorem k1_idx613_inb : ∀ (v796 : IVec S16 32) (k1_hw613 : k1_chk613 v796), ∀ a x, ((![v796] : Fin 1 → IVec S16 32) a x).toNat < S88320.size a := fun v796 k1_hw613 => k1_hw613

def k1_chk614 (v800 : IVec S16 32) : Prop :=
  (∀ a x, ((![v800] : Fin 1 → IVec S16 32) a x).toNat < S88320.size a)
theorem k1_idx614_inb : ∀ (v800 : IVec S16 32) (k1_hw614 : k1_chk614 v800), ∀ a x, ((![v800] : Fin 1 → IVec S16 32) a x).toNat < S88320.size a := fun v800 k1_hw614 => k1_hw614

def k1_chk615 (v804 : IVec S16 32) : Prop :=
  (∀ a x, ((![v804] : Fin 1 → IVec S16 32) a x).toNat < S88320.size a)
theorem k1_idx615_inb : ∀ (v804 : IVec S16 32) (k1_hw615 : k1_chk615 v804), ∀ a x, ((![v804] : Fin 1 → IVec S16 32) a x).toNat < S88320.size a := fun v804 k1_hw615 => k1_hw615

def k1_chk616 (v808 : IVec S16 32) : Prop :=
  (∀ a x, ((![v808] : Fin 1 → IVec S16 32) a x).toNat < S88320.size a)
theorem k1_idx616_inb : ∀ (v808 : IVec S16 32) (k1_hw616 : k1_chk616 v808), ∀ a x, ((![v808] : Fin 1 → IVec S16 32) a x).toNat < S88320.size a := fun v808 k1_hw616 => k1_hw616

def k1_chk617 (v812 : IVec S16 32) : Prop :=
  (∀ a x, ((![v812] : Fin 1 → IVec S16 32) a x).toNat < S88320.size a)
theorem k1_idx617_inb : ∀ (v812 : IVec S16 32) (k1_hw617 : k1_chk617 v812), ∀ a x, ((![v812] : Fin 1 → IVec S16 32) a x).toNat < S88320.size a := fun v812 k1_hw617 => k1_hw617

def k1_chk618 (v816 : IVec S16 32) : Prop :=
  (∀ a x, ((![v816] : Fin 1 → IVec S16 32) a x).toNat < S88320.size a)
theorem k1_idx618_inb : ∀ (v816 : IVec S16 32) (k1_hw618 : k1_chk618 v816), ∀ a x, ((![v816] : Fin 1 → IVec S16 32) a x).toNat < S88320.size a := fun v816 k1_hw618 => k1_hw618

def k1_chk619 (v820 : IVec S16 32) : Prop :=
  (∀ a x, ((![v820] : Fin 1 → IVec S16 32) a x).toNat < S88320.size a)
theorem k1_idx619_inb : ∀ (v820 : IVec S16 32) (k1_hw619 : k1_chk619 v820), ∀ a x, ((![v820] : Fin 1 → IVec S16 32) a x).toNat < S88320.size a := fun v820 k1_hw619 => k1_hw619

def k1_chk620 (v824 : IVec S16 32) : Prop :=
  (∀ a x, ((![v824] : Fin 1 → IVec S16 32) a x).toNat < S88320.size a)
theorem k1_idx620_inb : ∀ (v824 : IVec S16 32) (k1_hw620 : k1_chk620 v824), ∀ a x, ((![v824] : Fin 1 → IVec S16 32) a x).toNat < S88320.size a := fun v824 k1_hw620 => k1_hw620

def k1_chk621 (v828 : IVec S16 32) : Prop :=
  (∀ a x, ((![v828] : Fin 1 → IVec S16 32) a x).toNat < S88320.size a)
theorem k1_idx621_inb : ∀ (v828 : IVec S16 32) (k1_hw621 : k1_chk621 v828), ∀ a x, ((![v828] : Fin 1 → IVec S16 32) a x).toNat < S88320.size a := fun v828 k1_hw621 => k1_hw621

def k1_chk622 (v832 : IVec S16 32) : Prop :=
  (∀ a x, ((![v832] : Fin 1 → IVec S16 32) a x).toNat < S88320.size a)
theorem k1_idx622_inb : ∀ (v832 : IVec S16 32) (k1_hw622 : k1_chk622 v832), ∀ a x, ((![v832] : Fin 1 → IVec S16 32) a x).toNat < S88320.size a := fun v832 k1_hw622 => k1_hw622

def k1_chk623 (v836 : IVec S16 32) : Prop :=
  (∀ a x, ((![v836] : Fin 1 → IVec S16 32) a x).toNat < S88320.size a)
theorem k1_idx623_inb : ∀ (v836 : IVec S16 32) (k1_hw623 : k1_chk623 v836), ∀ a x, ((![v836] : Fin 1 → IVec S16 32) a x).toNat < S88320.size a := fun v836 k1_hw623 => k1_hw623

def k1_chk624 (v840 : IVec S16 32) : Prop :=
  (∀ a x, ((![v840] : Fin 1 → IVec S16 32) a x).toNat < S88320.size a)
theorem k1_idx624_inb : ∀ (v840 : IVec S16 32) (k1_hw624 : k1_chk624 v840), ∀ a x, ((![v840] : Fin 1 → IVec S16 32) a x).toNat < S88320.size a := fun v840 k1_hw624 => k1_hw624
def k1_off666 (i : grid1.Coords) : Fin 4 → Nat :=
  let c1_i32_496 : BitVec 32 := 1#32
  let c19_i32_497 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_498 : BitVec 32 := 0#32
  ![1, 19, v2.toNat, 0]
@[reducible] def k1_t41_loop : Scf.Loop 32 :=
  let c0_i32_505 : BitVec 32 := 0#32
  let c32_i32_506 : BitVec 32 := 32#32
  let v369 : BitVec 32 := Scalar.addi c0_i32_505 c32_i32_506
  let c1_i32_507 : BitVec 32 := 1#32
  ⟨c0_i32_505, v369, c1_i32_507⟩
def k1_off667 (k1_t41 : Fin k1_t41_loop.trips) : Fin 2 → Nat :=
  let c0_i32_1152 : BitVec 32 := 0#32
  let v778 : Index := Scalar.indexCast c0_i32_1152
  let c0_i32_505 : BitVec 32 := 0#32
  let c1_i32_507 : BitVec 32 := 1#32
  let arg9 : BitVec 32 := Scf.iv c0_i32_505 c1_i32_507 k1_t41
  let c16_i32_1151 : BitVec 32 := 16#32
  let v777 : BitVec 32 := Scalar.muli arg9 c16_i32_1151
  let v779 : Index := Scalar.indexCast v777
  ![0, v779.toNat]
def k1_off668 (k1_t41 : Fin k1_t41_loop.trips) : Fin 2 → Nat :=
  let c1_i32_1154 : BitVec 32 := 1#32
  let v782 : Index := Scalar.indexCast c1_i32_1154
  let c0_i32_505 : BitVec 32 := 0#32
  let c1_i32_507 : BitVec 32 := 1#32
  let arg9 : BitVec 32 := Scf.iv c0_i32_505 c1_i32_507 k1_t41
  let c16_i32_1153 : BitVec 32 := 16#32
  let v781 : BitVec 32 := Scalar.muli arg9 c16_i32_1153
  let v783 : Index := Scalar.indexCast v781
  ![1, v783.toNat]
def k1_off669 (k1_t41 : Fin k1_t41_loop.trips) : Fin 2 → Nat :=
  let c2_i32_1156 : BitVec 32 := 2#32
  let v786 : Index := Scalar.indexCast c2_i32_1156
  let c0_i32_505 : BitVec 32 := 0#32
  let c1_i32_507 : BitVec 32 := 1#32
  let arg9 : BitVec 32 := Scf.iv c0_i32_505 c1_i32_507 k1_t41
  let c16_i32_1155 : BitVec 32 := 16#32
  let v785 : BitVec 32 := Scalar.muli arg9 c16_i32_1155
  let v787 : Index := Scalar.indexCast v785
  ![2, v787.toNat]
def k1_off670 (k1_t41 : Fin k1_t41_loop.trips) : Fin 2 → Nat :=
  let c3_i32_1158 : BitVec 32 := 3#32
  let v790 : Index := Scalar.indexCast c3_i32_1158
  let c0_i32_505 : BitVec 32 := 0#32
  let c1_i32_507 : BitVec 32 := 1#32
  let arg9 : BitVec 32 := Scf.iv c0_i32_505 c1_i32_507 k1_t41
  let c16_i32_1157 : BitVec 32 := 16#32
  let v789 : BitVec 32 := Scalar.muli arg9 c16_i32_1157
  let v791 : Index := Scalar.indexCast v789
  ![3, v791.toNat]
def k1_off671 (k1_t41 : Fin k1_t41_loop.trips) : Fin 2 → Nat :=
  let c4_i32_1160 : BitVec 32 := 4#32
  let v794 : Index := Scalar.indexCast c4_i32_1160
  let c0_i32_505 : BitVec 32 := 0#32
  let c1_i32_507 : BitVec 32 := 1#32
  let arg9 : BitVec 32 := Scf.iv c0_i32_505 c1_i32_507 k1_t41
  let c16_i32_1159 : BitVec 32 := 16#32
  let v793 : BitVec 32 := Scalar.muli arg9 c16_i32_1159
  let v795 : Index := Scalar.indexCast v793
  ![4, v795.toNat]
def k1_off672 (k1_t41 : Fin k1_t41_loop.trips) : Fin 2 → Nat :=
  let c5_i32_1162 : BitVec 32 := 5#32
  let v798 : Index := Scalar.indexCast c5_i32_1162
  let c0_i32_505 : BitVec 32 := 0#32
  let c1_i32_507 : BitVec 32 := 1#32
  let arg9 : BitVec 32 := Scf.iv c0_i32_505 c1_i32_507 k1_t41
  let c16_i32_1161 : BitVec 32 := 16#32
  let v797 : BitVec 32 := Scalar.muli arg9 c16_i32_1161
  let v799 : Index := Scalar.indexCast v797
  ![5, v799.toNat]
def k1_off673 (k1_t41 : Fin k1_t41_loop.trips) : Fin 2 → Nat :=
  let c6_i32_1164 : BitVec 32 := 6#32
  let v802 : Index := Scalar.indexCast c6_i32_1164
  let c0_i32_505 : BitVec 32 := 0#32
  let c1_i32_507 : BitVec 32 := 1#32
  let arg9 : BitVec 32 := Scf.iv c0_i32_505 c1_i32_507 k1_t41
  let c16_i32_1163 : BitVec 32 := 16#32
  let v801 : BitVec 32 := Scalar.muli arg9 c16_i32_1163
  let v803 : Index := Scalar.indexCast v801
  ![6, v803.toNat]
def k1_off674 (k1_t41 : Fin k1_t41_loop.trips) : Fin 2 → Nat :=
  let c7_i32_1166 : BitVec 32 := 7#32
  let v806 : Index := Scalar.indexCast c7_i32_1166
  let c0_i32_505 : BitVec 32 := 0#32
  let c1_i32_507 : BitVec 32 := 1#32
  let arg9 : BitVec 32 := Scf.iv c0_i32_505 c1_i32_507 k1_t41
  let c16_i32_1165 : BitVec 32 := 16#32
  let v805 : BitVec 32 := Scalar.muli arg9 c16_i32_1165
  let v807 : Index := Scalar.indexCast v805
  ![7, v807.toNat]
def k1_off675 (k1_t41 : Fin k1_t41_loop.trips) : Fin 2 → Nat :=
  let c8_i32_1168 : BitVec 32 := 8#32
  let v810 : Index := Scalar.indexCast c8_i32_1168
  let c0_i32_505 : BitVec 32 := 0#32
  let c1_i32_507 : BitVec 32 := 1#32
  let arg9 : BitVec 32 := Scf.iv c0_i32_505 c1_i32_507 k1_t41
  let c16_i32_1167 : BitVec 32 := 16#32
  let v809 : BitVec 32 := Scalar.muli arg9 c16_i32_1167
  let v811 : Index := Scalar.indexCast v809
  ![8, v811.toNat]
def k1_off676 (k1_t41 : Fin k1_t41_loop.trips) : Fin 2 → Nat :=
  let c9_i32_1170 : BitVec 32 := 9#32
  let v814 : Index := Scalar.indexCast c9_i32_1170
  let c0_i32_505 : BitVec 32 := 0#32
  let c1_i32_507 : BitVec 32 := 1#32
  let arg9 : BitVec 32 := Scf.iv c0_i32_505 c1_i32_507 k1_t41
  let c16_i32_1169 : BitVec 32 := 16#32
  let v813 : BitVec 32 := Scalar.muli arg9 c16_i32_1169
  let v815 : Index := Scalar.indexCast v813
  ![9, v815.toNat]
def k1_off677 (k1_t41 : Fin k1_t41_loop.trips) : Fin 2 → Nat :=
  let c10_i32_1172 : BitVec 32 := 10#32
  let v818 : Index := Scalar.indexCast c10_i32_1172
  let c0_i32_505 : BitVec 32 := 0#32
  let c1_i32_507 : BitVec 32 := 1#32
  let arg9 : BitVec 32 := Scf.iv c0_i32_505 c1_i32_507 k1_t41
  let c16_i32_1171 : BitVec 32 := 16#32
  let v817 : BitVec 32 := Scalar.muli arg9 c16_i32_1171
  let v819 : Index := Scalar.indexCast v817
  ![10, v819.toNat]
def k1_off678 (k1_t41 : Fin k1_t41_loop.trips) : Fin 2 → Nat :=
  let c11_i32_1174 : BitVec 32 := 11#32
  let v822 : Index := Scalar.indexCast c11_i32_1174
  let c0_i32_505 : BitVec 32 := 0#32
  let c1_i32_507 : BitVec 32 := 1#32
  let arg9 : BitVec 32 := Scf.iv c0_i32_505 c1_i32_507 k1_t41
  let c16_i32_1173 : BitVec 32 := 16#32
  let v821 : BitVec 32 := Scalar.muli arg9 c16_i32_1173
  let v823 : Index := Scalar.indexCast v821
  ![11, v823.toNat]
def k1_off679 (k1_t41 : Fin k1_t41_loop.trips) : Fin 2 → Nat :=
  let c12_i32_1176 : BitVec 32 := 12#32
  let v826 : Index := Scalar.indexCast c12_i32_1176
  let c0_i32_505 : BitVec 32 := 0#32
  let c1_i32_507 : BitVec 32 := 1#32
  let arg9 : BitVec 32 := Scf.iv c0_i32_505 c1_i32_507 k1_t41
  let c16_i32_1175 : BitVec 32 := 16#32
  let v825 : BitVec 32 := Scalar.muli arg9 c16_i32_1175
  let v827 : Index := Scalar.indexCast v825
  ![12, v827.toNat]
def k1_off680 (k1_t41 : Fin k1_t41_loop.trips) : Fin 2 → Nat :=
  let c13_i32_1178 : BitVec 32 := 13#32
  let v830 : Index := Scalar.indexCast c13_i32_1178
  let c0_i32_505 : BitVec 32 := 0#32
  let c1_i32_507 : BitVec 32 := 1#32
  let arg9 : BitVec 32 := Scf.iv c0_i32_505 c1_i32_507 k1_t41
  let c16_i32_1177 : BitVec 32 := 16#32
  let v829 : BitVec 32 := Scalar.muli arg9 c16_i32_1177
  let v831 : Index := Scalar.indexCast v829
  ![13, v831.toNat]
def k1_off681 (k1_t41 : Fin k1_t41_loop.trips) : Fin 2 → Nat :=
  let c14_i32_1180 : BitVec 32 := 14#32
  let v834 : Index := Scalar.indexCast c14_i32_1180
  let c0_i32_505 : BitVec 32 := 0#32
  let c1_i32_507 : BitVec 32 := 1#32
  let arg9 : BitVec 32 := Scf.iv c0_i32_505 c1_i32_507 k1_t41
  let c16_i32_1179 : BitVec 32 := 16#32
  let v833 : BitVec 32 := Scalar.muli arg9 c16_i32_1179
  let v835 : Index := Scalar.indexCast v833
  ![14, v835.toNat]
def k1_off682 (k1_t41 : Fin k1_t41_loop.trips) : Fin 2 → Nat :=
  let c15_i32_1182 : BitVec 32 := 15#32
  let v838 : Index := Scalar.indexCast c15_i32_1182
  let c0_i32_505 : BitVec 32 := 0#32
  let c1_i32_507 : BitVec 32 := 1#32
  let arg9 : BitVec 32 := Scf.iv c0_i32_505 c1_i32_507 k1_t41
  let c16_i32_1181 : BitVec 32 := 16#32
  let v837 : BitVec 32 := Scalar.muli arg9 c16_i32_1181
  let v839 : Index := Scalar.indexCast v837
  ![15, v839.toNat]

def k1_chk625 (v780 : IVec S16 32) : Prop :=
  (∀ a x, ((![v780] : Fin 1 → IVec S16 32) a x).toNat < S88320.size a)
theorem k1_idx625_inb : ∀ (v780 : IVec S16 32) (k1_hw625 : k1_chk625 v780), ∀ a x, ((![v780] : Fin 1 → IVec S16 32) a x).toNat < S88320.size a := fun v780 k1_hw625 => k1_hw625

def k1_chk626 (v784 : IVec S16 32) : Prop :=
  (∀ a x, ((![v784] : Fin 1 → IVec S16 32) a x).toNat < S88320.size a)
theorem k1_idx626_inb : ∀ (v784 : IVec S16 32) (k1_hw626 : k1_chk626 v784), ∀ a x, ((![v784] : Fin 1 → IVec S16 32) a x).toNat < S88320.size a := fun v784 k1_hw626 => k1_hw626

def k1_chk627 (v788 : IVec S16 32) : Prop :=
  (∀ a x, ((![v788] : Fin 1 → IVec S16 32) a x).toNat < S88320.size a)
theorem k1_idx627_inb : ∀ (v788 : IVec S16 32) (k1_hw627 : k1_chk627 v788), ∀ a x, ((![v788] : Fin 1 → IVec S16 32) a x).toNat < S88320.size a := fun v788 k1_hw627 => k1_hw627

def k1_chk628 (v792 : IVec S16 32) : Prop :=
  (∀ a x, ((![v792] : Fin 1 → IVec S16 32) a x).toNat < S88320.size a)
theorem k1_idx628_inb : ∀ (v792 : IVec S16 32) (k1_hw628 : k1_chk628 v792), ∀ a x, ((![v792] : Fin 1 → IVec S16 32) a x).toNat < S88320.size a := fun v792 k1_hw628 => k1_hw628

def k1_chk629 (v796 : IVec S16 32) : Prop :=
  (∀ a x, ((![v796] : Fin 1 → IVec S16 32) a x).toNat < S88320.size a)
theorem k1_idx629_inb : ∀ (v796 : IVec S16 32) (k1_hw629 : k1_chk629 v796), ∀ a x, ((![v796] : Fin 1 → IVec S16 32) a x).toNat < S88320.size a := fun v796 k1_hw629 => k1_hw629

def k1_chk630 (v800 : IVec S16 32) : Prop :=
  (∀ a x, ((![v800] : Fin 1 → IVec S16 32) a x).toNat < S88320.size a)
theorem k1_idx630_inb : ∀ (v800 : IVec S16 32) (k1_hw630 : k1_chk630 v800), ∀ a x, ((![v800] : Fin 1 → IVec S16 32) a x).toNat < S88320.size a := fun v800 k1_hw630 => k1_hw630

def k1_chk631 (v804 : IVec S16 32) : Prop :=
  (∀ a x, ((![v804] : Fin 1 → IVec S16 32) a x).toNat < S88320.size a)
theorem k1_idx631_inb : ∀ (v804 : IVec S16 32) (k1_hw631 : k1_chk631 v804), ∀ a x, ((![v804] : Fin 1 → IVec S16 32) a x).toNat < S88320.size a := fun v804 k1_hw631 => k1_hw631

def k1_chk632 (v808 : IVec S16 32) : Prop :=
  (∀ a x, ((![v808] : Fin 1 → IVec S16 32) a x).toNat < S88320.size a)
theorem k1_idx632_inb : ∀ (v808 : IVec S16 32) (k1_hw632 : k1_chk632 v808), ∀ a x, ((![v808] : Fin 1 → IVec S16 32) a x).toNat < S88320.size a := fun v808 k1_hw632 => k1_hw632

def k1_chk633 (v812 : IVec S16 32) : Prop :=
  (∀ a x, ((![v812] : Fin 1 → IVec S16 32) a x).toNat < S88320.size a)
theorem k1_idx633_inb : ∀ (v812 : IVec S16 32) (k1_hw633 : k1_chk633 v812), ∀ a x, ((![v812] : Fin 1 → IVec S16 32) a x).toNat < S88320.size a := fun v812 k1_hw633 => k1_hw633

def k1_chk634 (v816 : IVec S16 32) : Prop :=
  (∀ a x, ((![v816] : Fin 1 → IVec S16 32) a x).toNat < S88320.size a)
theorem k1_idx634_inb : ∀ (v816 : IVec S16 32) (k1_hw634 : k1_chk634 v816), ∀ a x, ((![v816] : Fin 1 → IVec S16 32) a x).toNat < S88320.size a := fun v816 k1_hw634 => k1_hw634

def k1_chk635 (v820 : IVec S16 32) : Prop :=
  (∀ a x, ((![v820] : Fin 1 → IVec S16 32) a x).toNat < S88320.size a)
theorem k1_idx635_inb : ∀ (v820 : IVec S16 32) (k1_hw635 : k1_chk635 v820), ∀ a x, ((![v820] : Fin 1 → IVec S16 32) a x).toNat < S88320.size a := fun v820 k1_hw635 => k1_hw635

def k1_chk636 (v824 : IVec S16 32) : Prop :=
  (∀ a x, ((![v824] : Fin 1 → IVec S16 32) a x).toNat < S88320.size a)
theorem k1_idx636_inb : ∀ (v824 : IVec S16 32) (k1_hw636 : k1_chk636 v824), ∀ a x, ((![v824] : Fin 1 → IVec S16 32) a x).toNat < S88320.size a := fun v824 k1_hw636 => k1_hw636

def k1_chk637 (v828 : IVec S16 32) : Prop :=
  (∀ a x, ((![v828] : Fin 1 → IVec S16 32) a x).toNat < S88320.size a)
theorem k1_idx637_inb : ∀ (v828 : IVec S16 32) (k1_hw637 : k1_chk637 v828), ∀ a x, ((![v828] : Fin 1 → IVec S16 32) a x).toNat < S88320.size a := fun v828 k1_hw637 => k1_hw637

def k1_chk638 (v832 : IVec S16 32) : Prop :=
  (∀ a x, ((![v832] : Fin 1 → IVec S16 32) a x).toNat < S88320.size a)
theorem k1_idx638_inb : ∀ (v832 : IVec S16 32) (k1_hw638 : k1_chk638 v832), ∀ a x, ((![v832] : Fin 1 → IVec S16 32) a x).toNat < S88320.size a := fun v832 k1_hw638 => k1_hw638

def k1_chk639 (v836 : IVec S16 32) : Prop :=
  (∀ a x, ((![v836] : Fin 1 → IVec S16 32) a x).toNat < S88320.size a)
theorem k1_idx639_inb : ∀ (v836 : IVec S16 32) (k1_hw639 : k1_chk639 v836), ∀ a x, ((![v836] : Fin 1 → IVec S16 32) a x).toNat < S88320.size a := fun v836 k1_hw639 => k1_hw639

def k1_chk640 (v840 : IVec S16 32) : Prop :=
  (∀ a x, ((![v840] : Fin 1 → IVec S16 32) a x).toNat < S88320.size a)
theorem k1_idx640_inb : ∀ (v840 : IVec S16 32) (k1_hw640 : k1_chk640 v840), ∀ a x, ((![v840] : Fin 1 → IVec S16 32) a x).toNat < S88320.size a := fun v840 k1_hw640 => k1_hw640
def k1_off683 (i : grid1.Coords) : Fin 4 → Nat :=
  let c1_i32_509 : BitVec 32 := 1#32
  let c20_i32_510 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_511 : BitVec 32 := 0#32
  ![1, 20, v2.toNat, 0]
@[reducible] def k1_t42_loop : Scf.Loop 32 :=
  let c0_i32_518 : BitVec 32 := 0#32
  let c32_i32_519 : BitVec 32 := 32#32
  let v378 : BitVec 32 := Scalar.addi c0_i32_518 c32_i32_519
  let c1_i32_520 : BitVec 32 := 1#32
  ⟨c0_i32_518, v378, c1_i32_520⟩
def k1_off684 (k1_t42 : Fin k1_t42_loop.trips) : Fin 2 → Nat :=
  let c0_i32_1152 : BitVec 32 := 0#32
  let v778 : Index := Scalar.indexCast c0_i32_1152
  let c0_i32_518 : BitVec 32 := 0#32
  let c1_i32_520 : BitVec 32 := 1#32
  let arg9 : BitVec 32 := Scf.iv c0_i32_518 c1_i32_520 k1_t42
  let c16_i32_1151 : BitVec 32 := 16#32
  let v777 : BitVec 32 := Scalar.muli arg9 c16_i32_1151
  let v779 : Index := Scalar.indexCast v777
  ![0, v779.toNat]
def k1_off685 (k1_t42 : Fin k1_t42_loop.trips) : Fin 2 → Nat :=
  let c1_i32_1154 : BitVec 32 := 1#32
  let v782 : Index := Scalar.indexCast c1_i32_1154
  let c0_i32_518 : BitVec 32 := 0#32
  let c1_i32_520 : BitVec 32 := 1#32
  let arg9 : BitVec 32 := Scf.iv c0_i32_518 c1_i32_520 k1_t42
  let c16_i32_1153 : BitVec 32 := 16#32
  let v781 : BitVec 32 := Scalar.muli arg9 c16_i32_1153
  let v783 : Index := Scalar.indexCast v781
  ![1, v783.toNat]
def k1_off686 (k1_t42 : Fin k1_t42_loop.trips) : Fin 2 → Nat :=
  let c2_i32_1156 : BitVec 32 := 2#32
  let v786 : Index := Scalar.indexCast c2_i32_1156
  let c0_i32_518 : BitVec 32 := 0#32
  let c1_i32_520 : BitVec 32 := 1#32
  let arg9 : BitVec 32 := Scf.iv c0_i32_518 c1_i32_520 k1_t42
  let c16_i32_1155 : BitVec 32 := 16#32
  let v785 : BitVec 32 := Scalar.muli arg9 c16_i32_1155
  let v787 : Index := Scalar.indexCast v785
  ![2, v787.toNat]
def k1_off687 (k1_t42 : Fin k1_t42_loop.trips) : Fin 2 → Nat :=
  let c3_i32_1158 : BitVec 32 := 3#32
  let v790 : Index := Scalar.indexCast c3_i32_1158
  let c0_i32_518 : BitVec 32 := 0#32
  let c1_i32_520 : BitVec 32 := 1#32
  let arg9 : BitVec 32 := Scf.iv c0_i32_518 c1_i32_520 k1_t42
  let c16_i32_1157 : BitVec 32 := 16#32
  let v789 : BitVec 32 := Scalar.muli arg9 c16_i32_1157
  let v791 : Index := Scalar.indexCast v789
  ![3, v791.toNat]
def k1_off688 (k1_t42 : Fin k1_t42_loop.trips) : Fin 2 → Nat :=
  let c4_i32_1160 : BitVec 32 := 4#32
  let v794 : Index := Scalar.indexCast c4_i32_1160
  let c0_i32_518 : BitVec 32 := 0#32
  let c1_i32_520 : BitVec 32 := 1#32
  let arg9 : BitVec 32 := Scf.iv c0_i32_518 c1_i32_520 k1_t42
  let c16_i32_1159 : BitVec 32 := 16#32
  let v793 : BitVec 32 := Scalar.muli arg9 c16_i32_1159
  let v795 : Index := Scalar.indexCast v793
  ![4, v795.toNat]
def k1_off689 (k1_t42 : Fin k1_t42_loop.trips) : Fin 2 → Nat :=
  let c5_i32_1162 : BitVec 32 := 5#32
  let v798 : Index := Scalar.indexCast c5_i32_1162
  let c0_i32_518 : BitVec 32 := 0#32
  let c1_i32_520 : BitVec 32 := 1#32
  let arg9 : BitVec 32 := Scf.iv c0_i32_518 c1_i32_520 k1_t42
  let c16_i32_1161 : BitVec 32 := 16#32
  let v797 : BitVec 32 := Scalar.muli arg9 c16_i32_1161
  let v799 : Index := Scalar.indexCast v797
  ![5, v799.toNat]
def k1_off690 (k1_t42 : Fin k1_t42_loop.trips) : Fin 2 → Nat :=
  let c6_i32_1164 : BitVec 32 := 6#32
  let v802 : Index := Scalar.indexCast c6_i32_1164
  let c0_i32_518 : BitVec 32 := 0#32
  let c1_i32_520 : BitVec 32 := 1#32
  let arg9 : BitVec 32 := Scf.iv c0_i32_518 c1_i32_520 k1_t42
  let c16_i32_1163 : BitVec 32 := 16#32
  let v801 : BitVec 32 := Scalar.muli arg9 c16_i32_1163
  let v803 : Index := Scalar.indexCast v801
  ![6, v803.toNat]
def k1_off691 (k1_t42 : Fin k1_t42_loop.trips) : Fin 2 → Nat :=
  let c7_i32_1166 : BitVec 32 := 7#32
  let v806 : Index := Scalar.indexCast c7_i32_1166
  let c0_i32_518 : BitVec 32 := 0#32
  let c1_i32_520 : BitVec 32 := 1#32
  let arg9 : BitVec 32 := Scf.iv c0_i32_518 c1_i32_520 k1_t42
  let c16_i32_1165 : BitVec 32 := 16#32
  let v805 : BitVec 32 := Scalar.muli arg9 c16_i32_1165
  let v807 : Index := Scalar.indexCast v805
  ![7, v807.toNat]
def k1_off692 (k1_t42 : Fin k1_t42_loop.trips) : Fin 2 → Nat :=
  let c8_i32_1168 : BitVec 32 := 8#32
  let v810 : Index := Scalar.indexCast c8_i32_1168
  let c0_i32_518 : BitVec 32 := 0#32
  let c1_i32_520 : BitVec 32 := 1#32
  let arg9 : BitVec 32 := Scf.iv c0_i32_518 c1_i32_520 k1_t42
  let c16_i32_1167 : BitVec 32 := 16#32
  let v809 : BitVec 32 := Scalar.muli arg9 c16_i32_1167
  let v811 : Index := Scalar.indexCast v809
  ![8, v811.toNat]
def k1_off693 (k1_t42 : Fin k1_t42_loop.trips) : Fin 2 → Nat :=
  let c9_i32_1170 : BitVec 32 := 9#32
  let v814 : Index := Scalar.indexCast c9_i32_1170
  let c0_i32_518 : BitVec 32 := 0#32
  let c1_i32_520 : BitVec 32 := 1#32
  let arg9 : BitVec 32 := Scf.iv c0_i32_518 c1_i32_520 k1_t42
  let c16_i32_1169 : BitVec 32 := 16#32
  let v813 : BitVec 32 := Scalar.muli arg9 c16_i32_1169
  let v815 : Index := Scalar.indexCast v813
  ![9, v815.toNat]
def k1_off694 (k1_t42 : Fin k1_t42_loop.trips) : Fin 2 → Nat :=
  let c10_i32_1172 : BitVec 32 := 10#32
  let v818 : Index := Scalar.indexCast c10_i32_1172
  let c0_i32_518 : BitVec 32 := 0#32
  let c1_i32_520 : BitVec 32 := 1#32
  let arg9 : BitVec 32 := Scf.iv c0_i32_518 c1_i32_520 k1_t42
  let c16_i32_1171 : BitVec 32 := 16#32
  let v817 : BitVec 32 := Scalar.muli arg9 c16_i32_1171
  let v819 : Index := Scalar.indexCast v817
  ![10, v819.toNat]
def k1_off695 (k1_t42 : Fin k1_t42_loop.trips) : Fin 2 → Nat :=
  let c11_i32_1174 : BitVec 32 := 11#32
  let v822 : Index := Scalar.indexCast c11_i32_1174
  let c0_i32_518 : BitVec 32 := 0#32
  let c1_i32_520 : BitVec 32 := 1#32
  let arg9 : BitVec 32 := Scf.iv c0_i32_518 c1_i32_520 k1_t42
  let c16_i32_1173 : BitVec 32 := 16#32
  let v821 : BitVec 32 := Scalar.muli arg9 c16_i32_1173
  let v823 : Index := Scalar.indexCast v821
  ![11, v823.toNat]
def k1_off696 (k1_t42 : Fin k1_t42_loop.trips) : Fin 2 → Nat :=
  let c12_i32_1176 : BitVec 32 := 12#32
  let v826 : Index := Scalar.indexCast c12_i32_1176
  let c0_i32_518 : BitVec 32 := 0#32
  let c1_i32_520 : BitVec 32 := 1#32
  let arg9 : BitVec 32 := Scf.iv c0_i32_518 c1_i32_520 k1_t42
  let c16_i32_1175 : BitVec 32 := 16#32
  let v825 : BitVec 32 := Scalar.muli arg9 c16_i32_1175
  let v827 : Index := Scalar.indexCast v825
  ![12, v827.toNat]
def k1_off697 (k1_t42 : Fin k1_t42_loop.trips) : Fin 2 → Nat :=
  let c13_i32_1178 : BitVec 32 := 13#32
  let v830 : Index := Scalar.indexCast c13_i32_1178
  let c0_i32_518 : BitVec 32 := 0#32
  let c1_i32_520 : BitVec 32 := 1#32
  let arg9 : BitVec 32 := Scf.iv c0_i32_518 c1_i32_520 k1_t42
  let c16_i32_1177 : BitVec 32 := 16#32
  let v829 : BitVec 32 := Scalar.muli arg9 c16_i32_1177
  let v831 : Index := Scalar.indexCast v829
  ![13, v831.toNat]
def k1_off698 (k1_t42 : Fin k1_t42_loop.trips) : Fin 2 → Nat :=
  let c14_i32_1180 : BitVec 32 := 14#32
  let v834 : Index := Scalar.indexCast c14_i32_1180
  let c0_i32_518 : BitVec 32 := 0#32
  let c1_i32_520 : BitVec 32 := 1#32
  let arg9 : BitVec 32 := Scf.iv c0_i32_518 c1_i32_520 k1_t42
  let c16_i32_1179 : BitVec 32 := 16#32
  let v833 : BitVec 32 := Scalar.muli arg9 c16_i32_1179
  let v835 : Index := Scalar.indexCast v833
  ![14, v835.toNat]
def k1_off699 (k1_t42 : Fin k1_t42_loop.trips) : Fin 2 → Nat :=
  let c15_i32_1182 : BitVec 32 := 15#32
  let v838 : Index := Scalar.indexCast c15_i32_1182
  let c0_i32_518 : BitVec 32 := 0#32
  let c1_i32_520 : BitVec 32 := 1#32
  let arg9 : BitVec 32 := Scf.iv c0_i32_518 c1_i32_520 k1_t42
  let c16_i32_1181 : BitVec 32 := 16#32
  let v837 : BitVec 32 := Scalar.muli arg9 c16_i32_1181
  let v839 : Index := Scalar.indexCast v837
  ![15, v839.toNat]

def k1_chk641 (v780 : IVec S16 32) : Prop :=
  (∀ a x, ((![v780] : Fin 1 → IVec S16 32) a x).toNat < S88320.size a)
theorem k1_idx641_inb : ∀ (v780 : IVec S16 32) (k1_hw641 : k1_chk641 v780), ∀ a x, ((![v780] : Fin 1 → IVec S16 32) a x).toNat < S88320.size a := fun v780 k1_hw641 => k1_hw641

def k1_chk642 (v784 : IVec S16 32) : Prop :=
  (∀ a x, ((![v784] : Fin 1 → IVec S16 32) a x).toNat < S88320.size a)
theorem k1_idx642_inb : ∀ (v784 : IVec S16 32) (k1_hw642 : k1_chk642 v784), ∀ a x, ((![v784] : Fin 1 → IVec S16 32) a x).toNat < S88320.size a := fun v784 k1_hw642 => k1_hw642

def k1_chk643 (v788 : IVec S16 32) : Prop :=
  (∀ a x, ((![v788] : Fin 1 → IVec S16 32) a x).toNat < S88320.size a)
theorem k1_idx643_inb : ∀ (v788 : IVec S16 32) (k1_hw643 : k1_chk643 v788), ∀ a x, ((![v788] : Fin 1 → IVec S16 32) a x).toNat < S88320.size a := fun v788 k1_hw643 => k1_hw643

def k1_chk644 (v792 : IVec S16 32) : Prop :=
  (∀ a x, ((![v792] : Fin 1 → IVec S16 32) a x).toNat < S88320.size a)
theorem k1_idx644_inb : ∀ (v792 : IVec S16 32) (k1_hw644 : k1_chk644 v792), ∀ a x, ((![v792] : Fin 1 → IVec S16 32) a x).toNat < S88320.size a := fun v792 k1_hw644 => k1_hw644

def k1_chk645 (v796 : IVec S16 32) : Prop :=
  (∀ a x, ((![v796] : Fin 1 → IVec S16 32) a x).toNat < S88320.size a)
theorem k1_idx645_inb : ∀ (v796 : IVec S16 32) (k1_hw645 : k1_chk645 v796), ∀ a x, ((![v796] : Fin 1 → IVec S16 32) a x).toNat < S88320.size a := fun v796 k1_hw645 => k1_hw645

def k1_chk646 (v800 : IVec S16 32) : Prop :=
  (∀ a x, ((![v800] : Fin 1 → IVec S16 32) a x).toNat < S88320.size a)
theorem k1_idx646_inb : ∀ (v800 : IVec S16 32) (k1_hw646 : k1_chk646 v800), ∀ a x, ((![v800] : Fin 1 → IVec S16 32) a x).toNat < S88320.size a := fun v800 k1_hw646 => k1_hw646

def k1_chk647 (v804 : IVec S16 32) : Prop :=
  (∀ a x, ((![v804] : Fin 1 → IVec S16 32) a x).toNat < S88320.size a)
theorem k1_idx647_inb : ∀ (v804 : IVec S16 32) (k1_hw647 : k1_chk647 v804), ∀ a x, ((![v804] : Fin 1 → IVec S16 32) a x).toNat < S88320.size a := fun v804 k1_hw647 => k1_hw647

def k1_chk648 (v808 : IVec S16 32) : Prop :=
  (∀ a x, ((![v808] : Fin 1 → IVec S16 32) a x).toNat < S88320.size a)
theorem k1_idx648_inb : ∀ (v808 : IVec S16 32) (k1_hw648 : k1_chk648 v808), ∀ a x, ((![v808] : Fin 1 → IVec S16 32) a x).toNat < S88320.size a := fun v808 k1_hw648 => k1_hw648

def k1_chk649 (v812 : IVec S16 32) : Prop :=
  (∀ a x, ((![v812] : Fin 1 → IVec S16 32) a x).toNat < S88320.size a)
theorem k1_idx649_inb : ∀ (v812 : IVec S16 32) (k1_hw649 : k1_chk649 v812), ∀ a x, ((![v812] : Fin 1 → IVec S16 32) a x).toNat < S88320.size a := fun v812 k1_hw649 => k1_hw649

def k1_chk650 (v816 : IVec S16 32) : Prop :=
  (∀ a x, ((![v816] : Fin 1 → IVec S16 32) a x).toNat < S88320.size a)
theorem k1_idx650_inb : ∀ (v816 : IVec S16 32) (k1_hw650 : k1_chk650 v816), ∀ a x, ((![v816] : Fin 1 → IVec S16 32) a x).toNat < S88320.size a := fun v816 k1_hw650 => k1_hw650

def k1_chk651 (v820 : IVec S16 32) : Prop :=
  (∀ a x, ((![v820] : Fin 1 → IVec S16 32) a x).toNat < S88320.size a)
theorem k1_idx651_inb : ∀ (v820 : IVec S16 32) (k1_hw651 : k1_chk651 v820), ∀ a x, ((![v820] : Fin 1 → IVec S16 32) a x).toNat < S88320.size a := fun v820 k1_hw651 => k1_hw651

def k1_chk652 (v824 : IVec S16 32) : Prop :=
  (∀ a x, ((![v824] : Fin 1 → IVec S16 32) a x).toNat < S88320.size a)
theorem k1_idx652_inb : ∀ (v824 : IVec S16 32) (k1_hw652 : k1_chk652 v824), ∀ a x, ((![v824] : Fin 1 → IVec S16 32) a x).toNat < S88320.size a := fun v824 k1_hw652 => k1_hw652

def k1_chk653 (v828 : IVec S16 32) : Prop :=
  (∀ a x, ((![v828] : Fin 1 → IVec S16 32) a x).toNat < S88320.size a)
theorem k1_idx653_inb : ∀ (v828 : IVec S16 32) (k1_hw653 : k1_chk653 v828), ∀ a x, ((![v828] : Fin 1 → IVec S16 32) a x).toNat < S88320.size a := fun v828 k1_hw653 => k1_hw653

def k1_chk654 (v832 : IVec S16 32) : Prop :=
  (∀ a x, ((![v832] : Fin 1 → IVec S16 32) a x).toNat < S88320.size a)
theorem k1_idx654_inb : ∀ (v832 : IVec S16 32) (k1_hw654 : k1_chk654 v832), ∀ a x, ((![v832] : Fin 1 → IVec S16 32) a x).toNat < S88320.size a := fun v832 k1_hw654 => k1_hw654

def k1_chk655 (v836 : IVec S16 32) : Prop :=
  (∀ a x, ((![v836] : Fin 1 → IVec S16 32) a x).toNat < S88320.size a)
theorem k1_idx655_inb : ∀ (v836 : IVec S16 32) (k1_hw655 : k1_chk655 v836), ∀ a x, ((![v836] : Fin 1 → IVec S16 32) a x).toNat < S88320.size a := fun v836 k1_hw655 => k1_hw655

def k1_chk656 (v840 : IVec S16 32) : Prop :=
  (∀ a x, ((![v840] : Fin 1 → IVec S16 32) a x).toNat < S88320.size a)
theorem k1_idx656_inb : ∀ (v840 : IVec S16 32) (k1_hw656 : k1_chk656 v840), ∀ a x, ((![v840] : Fin 1 → IVec S16 32) a x).toNat < S88320.size a := fun v840 k1_hw656 => k1_hw656
def k1_off700 (i : grid1.Coords) : Fin 4 → Nat :=
  let c2_i32_522 : BitVec 32 := 2#32
  let c0_i32_523 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_524 : BitVec 32 := 0#32
  ![2, 0, v2.toNat, 0]
@[reducible] def k1_t43_loop : Scf.Loop 32 :=
  let c0_i32_531 : BitVec 32 := 0#32
  let c32_i32_532 : BitVec 32 := 32#32
  let v387 : BitVec 32 := Scalar.addi c0_i32_531 c32_i32_532
  let c1_i32_533 : BitVec 32 := 1#32
  ⟨c0_i32_531, v387, c1_i32_533⟩
def k1_off701 (k1_t43 : Fin k1_t43_loop.trips) : Fin 2 → Nat :=
  let c0_i32_1152 : BitVec 32 := 0#32
  let v778 : Index := Scalar.indexCast c0_i32_1152
  let c0_i32_531 : BitVec 32 := 0#32
  let c1_i32_533 : BitVec 32 := 1#32
  let arg9 : BitVec 32 := Scf.iv c0_i32_531 c1_i32_533 k1_t43
  let c16_i32_1151 : BitVec 32 := 16#32
  let v777 : BitVec 32 := Scalar.muli arg9 c16_i32_1151
  let v779 : Index := Scalar.indexCast v777
  ![0, v779.toNat]
def k1_off702 (k1_t43 : Fin k1_t43_loop.trips) : Fin 2 → Nat :=
  let c1_i32_1154 : BitVec 32 := 1#32
  let v782 : Index := Scalar.indexCast c1_i32_1154
  let c0_i32_531 : BitVec 32 := 0#32
  let c1_i32_533 : BitVec 32 := 1#32
  let arg9 : BitVec 32 := Scf.iv c0_i32_531 c1_i32_533 k1_t43
  let c16_i32_1153 : BitVec 32 := 16#32
  let v781 : BitVec 32 := Scalar.muli arg9 c16_i32_1153
  let v783 : Index := Scalar.indexCast v781
  ![1, v783.toNat]
def k1_off703 (k1_t43 : Fin k1_t43_loop.trips) : Fin 2 → Nat :=
  let c2_i32_1156 : BitVec 32 := 2#32
  let v786 : Index := Scalar.indexCast c2_i32_1156
  let c0_i32_531 : BitVec 32 := 0#32
  let c1_i32_533 : BitVec 32 := 1#32
  let arg9 : BitVec 32 := Scf.iv c0_i32_531 c1_i32_533 k1_t43
  let c16_i32_1155 : BitVec 32 := 16#32
  let v785 : BitVec 32 := Scalar.muli arg9 c16_i32_1155
  let v787 : Index := Scalar.indexCast v785
  ![2, v787.toNat]
def k1_off704 (k1_t43 : Fin k1_t43_loop.trips) : Fin 2 → Nat :=
  let c3_i32_1158 : BitVec 32 := 3#32
  let v790 : Index := Scalar.indexCast c3_i32_1158
  let c0_i32_531 : BitVec 32 := 0#32
  let c1_i32_533 : BitVec 32 := 1#32
  let arg9 : BitVec 32 := Scf.iv c0_i32_531 c1_i32_533 k1_t43
  let c16_i32_1157 : BitVec 32 := 16#32
  let v789 : BitVec 32 := Scalar.muli arg9 c16_i32_1157
  let v791 : Index := Scalar.indexCast v789
  ![3, v791.toNat]
def k1_off705 (k1_t43 : Fin k1_t43_loop.trips) : Fin 2 → Nat :=
  let c4_i32_1160 : BitVec 32 := 4#32
  let v794 : Index := Scalar.indexCast c4_i32_1160
  let c0_i32_531 : BitVec 32 := 0#32
  let c1_i32_533 : BitVec 32 := 1#32
  let arg9 : BitVec 32 := Scf.iv c0_i32_531 c1_i32_533 k1_t43
  let c16_i32_1159 : BitVec 32 := 16#32
  let v793 : BitVec 32 := Scalar.muli arg9 c16_i32_1159
  let v795 : Index := Scalar.indexCast v793
  ![4, v795.toNat]
def k1_off706 (k1_t43 : Fin k1_t43_loop.trips) : Fin 2 → Nat :=
  let c5_i32_1162 : BitVec 32 := 5#32
  let v798 : Index := Scalar.indexCast c5_i32_1162
  let c0_i32_531 : BitVec 32 := 0#32
  let c1_i32_533 : BitVec 32 := 1#32
  let arg9 : BitVec 32 := Scf.iv c0_i32_531 c1_i32_533 k1_t43
  let c16_i32_1161 : BitVec 32 := 16#32
  let v797 : BitVec 32 := Scalar.muli arg9 c16_i32_1161
  let v799 : Index := Scalar.indexCast v797
  ![5, v799.toNat]
def k1_off707 (k1_t43 : Fin k1_t43_loop.trips) : Fin 2 → Nat :=
  let c6_i32_1164 : BitVec 32 := 6#32
  let v802 : Index := Scalar.indexCast c6_i32_1164
  let c0_i32_531 : BitVec 32 := 0#32
  let c1_i32_533 : BitVec 32 := 1#32
  let arg9 : BitVec 32 := Scf.iv c0_i32_531 c1_i32_533 k1_t43
  let c16_i32_1163 : BitVec 32 := 16#32
  let v801 : BitVec 32 := Scalar.muli arg9 c16_i32_1163
  let v803 : Index := Scalar.indexCast v801
  ![6, v803.toNat]
def k1_off708 (k1_t43 : Fin k1_t43_loop.trips) : Fin 2 → Nat :=
  let c7_i32_1166 : BitVec 32 := 7#32
  let v806 : Index := Scalar.indexCast c7_i32_1166
  let c0_i32_531 : BitVec 32 := 0#32
  let c1_i32_533 : BitVec 32 := 1#32
  let arg9 : BitVec 32 := Scf.iv c0_i32_531 c1_i32_533 k1_t43
  let c16_i32_1165 : BitVec 32 := 16#32
  let v805 : BitVec 32 := Scalar.muli arg9 c16_i32_1165
  let v807 : Index := Scalar.indexCast v805
  ![7, v807.toNat]
def k1_off709 (k1_t43 : Fin k1_t43_loop.trips) : Fin 2 → Nat :=
  let c8_i32_1168 : BitVec 32 := 8#32
  let v810 : Index := Scalar.indexCast c8_i32_1168
  let c0_i32_531 : BitVec 32 := 0#32
  let c1_i32_533 : BitVec 32 := 1#32
  let arg9 : BitVec 32 := Scf.iv c0_i32_531 c1_i32_533 k1_t43
  let c16_i32_1167 : BitVec 32 := 16#32
  let v809 : BitVec 32 := Scalar.muli arg9 c16_i32_1167
  let v811 : Index := Scalar.indexCast v809
  ![8, v811.toNat]
def k1_off710 (k1_t43 : Fin k1_t43_loop.trips) : Fin 2 → Nat :=
  let c9_i32_1170 : BitVec 32 := 9#32
  let v814 : Index := Scalar.indexCast c9_i32_1170
  let c0_i32_531 : BitVec 32 := 0#32
  let c1_i32_533 : BitVec 32 := 1#32
  let arg9 : BitVec 32 := Scf.iv c0_i32_531 c1_i32_533 k1_t43
  let c16_i32_1169 : BitVec 32 := 16#32
  let v813 : BitVec 32 := Scalar.muli arg9 c16_i32_1169
  let v815 : Index := Scalar.indexCast v813
  ![9, v815.toNat]
def k1_off711 (k1_t43 : Fin k1_t43_loop.trips) : Fin 2 → Nat :=
  let c10_i32_1172 : BitVec 32 := 10#32
  let v818 : Index := Scalar.indexCast c10_i32_1172
  let c0_i32_531 : BitVec 32 := 0#32
  let c1_i32_533 : BitVec 32 := 1#32
  let arg9 : BitVec 32 := Scf.iv c0_i32_531 c1_i32_533 k1_t43
  let c16_i32_1171 : BitVec 32 := 16#32
  let v817 : BitVec 32 := Scalar.muli arg9 c16_i32_1171
  let v819 : Index := Scalar.indexCast v817
  ![10, v819.toNat]
def k1_off712 (k1_t43 : Fin k1_t43_loop.trips) : Fin 2 → Nat :=
  let c11_i32_1174 : BitVec 32 := 11#32
  let v822 : Index := Scalar.indexCast c11_i32_1174
  let c0_i32_531 : BitVec 32 := 0#32
  let c1_i32_533 : BitVec 32 := 1#32
  let arg9 : BitVec 32 := Scf.iv c0_i32_531 c1_i32_533 k1_t43
  let c16_i32_1173 : BitVec 32 := 16#32
  let v821 : BitVec 32 := Scalar.muli arg9 c16_i32_1173
  let v823 : Index := Scalar.indexCast v821
  ![11, v823.toNat]
def k1_off713 (k1_t43 : Fin k1_t43_loop.trips) : Fin 2 → Nat :=
  let c12_i32_1176 : BitVec 32 := 12#32
  let v826 : Index := Scalar.indexCast c12_i32_1176
  let c0_i32_531 : BitVec 32 := 0#32
  let c1_i32_533 : BitVec 32 := 1#32
  let arg9 : BitVec 32 := Scf.iv c0_i32_531 c1_i32_533 k1_t43
  let c16_i32_1175 : BitVec 32 := 16#32
  let v825 : BitVec 32 := Scalar.muli arg9 c16_i32_1175
  let v827 : Index := Scalar.indexCast v825
  ![12, v827.toNat]
def k1_off714 (k1_t43 : Fin k1_t43_loop.trips) : Fin 2 → Nat :=
  let c13_i32_1178 : BitVec 32 := 13#32
  let v830 : Index := Scalar.indexCast c13_i32_1178
  let c0_i32_531 : BitVec 32 := 0#32
  let c1_i32_533 : BitVec 32 := 1#32
  let arg9 : BitVec 32 := Scf.iv c0_i32_531 c1_i32_533 k1_t43
  let c16_i32_1177 : BitVec 32 := 16#32
  let v829 : BitVec 32 := Scalar.muli arg9 c16_i32_1177
  let v831 : Index := Scalar.indexCast v829
  ![13, v831.toNat]
def k1_off715 (k1_t43 : Fin k1_t43_loop.trips) : Fin 2 → Nat :=
  let c14_i32_1180 : BitVec 32 := 14#32
  let v834 : Index := Scalar.indexCast c14_i32_1180
  let c0_i32_531 : BitVec 32 := 0#32
  let c1_i32_533 : BitVec 32 := 1#32
  let arg9 : BitVec 32 := Scf.iv c0_i32_531 c1_i32_533 k1_t43
  let c16_i32_1179 : BitVec 32 := 16#32
  let v833 : BitVec 32 := Scalar.muli arg9 c16_i32_1179
  let v835 : Index := Scalar.indexCast v833
  ![14, v835.toNat]
def k1_off716 (k1_t43 : Fin k1_t43_loop.trips) : Fin 2 → Nat :=
  let c15_i32_1182 : BitVec 32 := 15#32
  let v838 : Index := Scalar.indexCast c15_i32_1182
  let c0_i32_531 : BitVec 32 := 0#32
  let c1_i32_533 : BitVec 32 := 1#32
  let arg9 : BitVec 32 := Scf.iv c0_i32_531 c1_i32_533 k1_t43
  let c16_i32_1181 : BitVec 32 := 16#32
  let v837 : BitVec 32 := Scalar.muli arg9 c16_i32_1181
  let v839 : Index := Scalar.indexCast v837
  ![15, v839.toNat]

def k1_chk657 (v780 : IVec S16 32) : Prop :=
  (∀ a x, ((![v780] : Fin 1 → IVec S16 32) a x).toNat < S88320.size a)
theorem k1_idx657_inb : ∀ (v780 : IVec S16 32) (k1_hw657 : k1_chk657 v780), ∀ a x, ((![v780] : Fin 1 → IVec S16 32) a x).toNat < S88320.size a := fun v780 k1_hw657 => k1_hw657

def k1_chk658 (v784 : IVec S16 32) : Prop :=
  (∀ a x, ((![v784] : Fin 1 → IVec S16 32) a x).toNat < S88320.size a)
theorem k1_idx658_inb : ∀ (v784 : IVec S16 32) (k1_hw658 : k1_chk658 v784), ∀ a x, ((![v784] : Fin 1 → IVec S16 32) a x).toNat < S88320.size a := fun v784 k1_hw658 => k1_hw658

def k1_chk659 (v788 : IVec S16 32) : Prop :=
  (∀ a x, ((![v788] : Fin 1 → IVec S16 32) a x).toNat < S88320.size a)
theorem k1_idx659_inb : ∀ (v788 : IVec S16 32) (k1_hw659 : k1_chk659 v788), ∀ a x, ((![v788] : Fin 1 → IVec S16 32) a x).toNat < S88320.size a := fun v788 k1_hw659 => k1_hw659

def k1_chk660 (v792 : IVec S16 32) : Prop :=
  (∀ a x, ((![v792] : Fin 1 → IVec S16 32) a x).toNat < S88320.size a)
theorem k1_idx660_inb : ∀ (v792 : IVec S16 32) (k1_hw660 : k1_chk660 v792), ∀ a x, ((![v792] : Fin 1 → IVec S16 32) a x).toNat < S88320.size a := fun v792 k1_hw660 => k1_hw660

def k1_chk661 (v796 : IVec S16 32) : Prop :=
  (∀ a x, ((![v796] : Fin 1 → IVec S16 32) a x).toNat < S88320.size a)
theorem k1_idx661_inb : ∀ (v796 : IVec S16 32) (k1_hw661 : k1_chk661 v796), ∀ a x, ((![v796] : Fin 1 → IVec S16 32) a x).toNat < S88320.size a := fun v796 k1_hw661 => k1_hw661

def k1_chk662 (v800 : IVec S16 32) : Prop :=
  (∀ a x, ((![v800] : Fin 1 → IVec S16 32) a x).toNat < S88320.size a)
theorem k1_idx662_inb : ∀ (v800 : IVec S16 32) (k1_hw662 : k1_chk662 v800), ∀ a x, ((![v800] : Fin 1 → IVec S16 32) a x).toNat < S88320.size a := fun v800 k1_hw662 => k1_hw662

def k1_chk663 (v804 : IVec S16 32) : Prop :=
  (∀ a x, ((![v804] : Fin 1 → IVec S16 32) a x).toNat < S88320.size a)
theorem k1_idx663_inb : ∀ (v804 : IVec S16 32) (k1_hw663 : k1_chk663 v804), ∀ a x, ((![v804] : Fin 1 → IVec S16 32) a x).toNat < S88320.size a := fun v804 k1_hw663 => k1_hw663

def k1_chk664 (v808 : IVec S16 32) : Prop :=
  (∀ a x, ((![v808] : Fin 1 → IVec S16 32) a x).toNat < S88320.size a)
theorem k1_idx664_inb : ∀ (v808 : IVec S16 32) (k1_hw664 : k1_chk664 v808), ∀ a x, ((![v808] : Fin 1 → IVec S16 32) a x).toNat < S88320.size a := fun v808 k1_hw664 => k1_hw664

def k1_chk665 (v812 : IVec S16 32) : Prop :=
  (∀ a x, ((![v812] : Fin 1 → IVec S16 32) a x).toNat < S88320.size a)
theorem k1_idx665_inb : ∀ (v812 : IVec S16 32) (k1_hw665 : k1_chk665 v812), ∀ a x, ((![v812] : Fin 1 → IVec S16 32) a x).toNat < S88320.size a := fun v812 k1_hw665 => k1_hw665

def k1_chk666 (v816 : IVec S16 32) : Prop :=
  (∀ a x, ((![v816] : Fin 1 → IVec S16 32) a x).toNat < S88320.size a)
theorem k1_idx666_inb : ∀ (v816 : IVec S16 32) (k1_hw666 : k1_chk666 v816), ∀ a x, ((![v816] : Fin 1 → IVec S16 32) a x).toNat < S88320.size a := fun v816 k1_hw666 => k1_hw666

def k1_chk667 (v820 : IVec S16 32) : Prop :=
  (∀ a x, ((![v820] : Fin 1 → IVec S16 32) a x).toNat < S88320.size a)
theorem k1_idx667_inb : ∀ (v820 : IVec S16 32) (k1_hw667 : k1_chk667 v820), ∀ a x, ((![v820] : Fin 1 → IVec S16 32) a x).toNat < S88320.size a := fun v820 k1_hw667 => k1_hw667

def k1_chk668 (v824 : IVec S16 32) : Prop :=
  (∀ a x, ((![v824] : Fin 1 → IVec S16 32) a x).toNat < S88320.size a)
theorem k1_idx668_inb : ∀ (v824 : IVec S16 32) (k1_hw668 : k1_chk668 v824), ∀ a x, ((![v824] : Fin 1 → IVec S16 32) a x).toNat < S88320.size a := fun v824 k1_hw668 => k1_hw668

def k1_chk669 (v828 : IVec S16 32) : Prop :=
  (∀ a x, ((![v828] : Fin 1 → IVec S16 32) a x).toNat < S88320.size a)
theorem k1_idx669_inb : ∀ (v828 : IVec S16 32) (k1_hw669 : k1_chk669 v828), ∀ a x, ((![v828] : Fin 1 → IVec S16 32) a x).toNat < S88320.size a := fun v828 k1_hw669 => k1_hw669

def k1_chk670 (v832 : IVec S16 32) : Prop :=
  (∀ a x, ((![v832] : Fin 1 → IVec S16 32) a x).toNat < S88320.size a)
theorem k1_idx670_inb : ∀ (v832 : IVec S16 32) (k1_hw670 : k1_chk670 v832), ∀ a x, ((![v832] : Fin 1 → IVec S16 32) a x).toNat < S88320.size a := fun v832 k1_hw670 => k1_hw670

def k1_chk671 (v836 : IVec S16 32) : Prop :=
  (∀ a x, ((![v836] : Fin 1 → IVec S16 32) a x).toNat < S88320.size a)
theorem k1_idx671_inb : ∀ (v836 : IVec S16 32) (k1_hw671 : k1_chk671 v836), ∀ a x, ((![v836] : Fin 1 → IVec S16 32) a x).toNat < S88320.size a := fun v836 k1_hw671 => k1_hw671

def k1_chk672 (v840 : IVec S16 32) : Prop :=
  (∀ a x, ((![v840] : Fin 1 → IVec S16 32) a x).toNat < S88320.size a)
theorem k1_idx672_inb : ∀ (v840 : IVec S16 32) (k1_hw672 : k1_chk672 v840), ∀ a x, ((![v840] : Fin 1 → IVec S16 32) a x).toNat < S88320.size a := fun v840 k1_hw672 => k1_hw672
def k1_off717 (i : grid1.Coords) : Fin 4 → Nat :=
  let c2_i32_535 : BitVec 32 := 2#32
  let c1_i32_536 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_537 : BitVec 32 := 0#32
  ![2, 1, v2.toNat, 0]
@[reducible] def k1_t44_loop : Scf.Loop 32 :=
  let c0_i32_544 : BitVec 32 := 0#32
  let c32_i32_545 : BitVec 32 := 32#32
  let v396 : BitVec 32 := Scalar.addi c0_i32_544 c32_i32_545
  let c1_i32_546 : BitVec 32 := 1#32
  ⟨c0_i32_544, v396, c1_i32_546⟩
def k1_off718 (k1_t44 : Fin k1_t44_loop.trips) : Fin 2 → Nat :=
  let c0_i32_1152 : BitVec 32 := 0#32
  let v778 : Index := Scalar.indexCast c0_i32_1152
  let c0_i32_544 : BitVec 32 := 0#32
  let c1_i32_546 : BitVec 32 := 1#32
  let arg9 : BitVec 32 := Scf.iv c0_i32_544 c1_i32_546 k1_t44
  let c16_i32_1151 : BitVec 32 := 16#32
  let v777 : BitVec 32 := Scalar.muli arg9 c16_i32_1151
  let v779 : Index := Scalar.indexCast v777
  ![0, v779.toNat]
def k1_off719 (k1_t44 : Fin k1_t44_loop.trips) : Fin 2 → Nat :=
  let c1_i32_1154 : BitVec 32 := 1#32
  let v782 : Index := Scalar.indexCast c1_i32_1154
  let c0_i32_544 : BitVec 32 := 0#32
  let c1_i32_546 : BitVec 32 := 1#32
  let arg9 : BitVec 32 := Scf.iv c0_i32_544 c1_i32_546 k1_t44
  let c16_i32_1153 : BitVec 32 := 16#32
  let v781 : BitVec 32 := Scalar.muli arg9 c16_i32_1153
  let v783 : Index := Scalar.indexCast v781
  ![1, v783.toNat]
def k1_off720 (k1_t44 : Fin k1_t44_loop.trips) : Fin 2 → Nat :=
  let c2_i32_1156 : BitVec 32 := 2#32
  let v786 : Index := Scalar.indexCast c2_i32_1156
  let c0_i32_544 : BitVec 32 := 0#32
  let c1_i32_546 : BitVec 32 := 1#32
  let arg9 : BitVec 32 := Scf.iv c0_i32_544 c1_i32_546 k1_t44
  let c16_i32_1155 : BitVec 32 := 16#32
  let v785 : BitVec 32 := Scalar.muli arg9 c16_i32_1155
  let v787 : Index := Scalar.indexCast v785
  ![2, v787.toNat]
def k1_off721 (k1_t44 : Fin k1_t44_loop.trips) : Fin 2 → Nat :=
  let c3_i32_1158 : BitVec 32 := 3#32
  let v790 : Index := Scalar.indexCast c3_i32_1158
  let c0_i32_544 : BitVec 32 := 0#32
  let c1_i32_546 : BitVec 32 := 1#32
  let arg9 : BitVec 32 := Scf.iv c0_i32_544 c1_i32_546 k1_t44
  let c16_i32_1157 : BitVec 32 := 16#32
  let v789 : BitVec 32 := Scalar.muli arg9 c16_i32_1157
  let v791 : Index := Scalar.indexCast v789
  ![3, v791.toNat]
def k1_off722 (k1_t44 : Fin k1_t44_loop.trips) : Fin 2 → Nat :=
  let c4_i32_1160 : BitVec 32 := 4#32
  let v794 : Index := Scalar.indexCast c4_i32_1160
  let c0_i32_544 : BitVec 32 := 0#32
  let c1_i32_546 : BitVec 32 := 1#32
  let arg9 : BitVec 32 := Scf.iv c0_i32_544 c1_i32_546 k1_t44
  let c16_i32_1159 : BitVec 32 := 16#32
  let v793 : BitVec 32 := Scalar.muli arg9 c16_i32_1159
  let v795 : Index := Scalar.indexCast v793
  ![4, v795.toNat]
def k1_off723 (k1_t44 : Fin k1_t44_loop.trips) : Fin 2 → Nat :=
  let c5_i32_1162 : BitVec 32 := 5#32
  let v798 : Index := Scalar.indexCast c5_i32_1162
  let c0_i32_544 : BitVec 32 := 0#32
  let c1_i32_546 : BitVec 32 := 1#32
  let arg9 : BitVec 32 := Scf.iv c0_i32_544 c1_i32_546 k1_t44
  let c16_i32_1161 : BitVec 32 := 16#32
  let v797 : BitVec 32 := Scalar.muli arg9 c16_i32_1161
  let v799 : Index := Scalar.indexCast v797
  ![5, v799.toNat]
def k1_off724 (k1_t44 : Fin k1_t44_loop.trips) : Fin 2 → Nat :=
  let c6_i32_1164 : BitVec 32 := 6#32
  let v802 : Index := Scalar.indexCast c6_i32_1164
  let c0_i32_544 : BitVec 32 := 0#32
  let c1_i32_546 : BitVec 32 := 1#32
  let arg9 : BitVec 32 := Scf.iv c0_i32_544 c1_i32_546 k1_t44
  let c16_i32_1163 : BitVec 32 := 16#32
  let v801 : BitVec 32 := Scalar.muli arg9 c16_i32_1163
  let v803 : Index := Scalar.indexCast v801
  ![6, v803.toNat]
def k1_off725 (k1_t44 : Fin k1_t44_loop.trips) : Fin 2 → Nat :=
  let c7_i32_1166 : BitVec 32 := 7#32
  let v806 : Index := Scalar.indexCast c7_i32_1166
  let c0_i32_544 : BitVec 32 := 0#32
  let c1_i32_546 : BitVec 32 := 1#32
  let arg9 : BitVec 32 := Scf.iv c0_i32_544 c1_i32_546 k1_t44
  let c16_i32_1165 : BitVec 32 := 16#32
  let v805 : BitVec 32 := Scalar.muli arg9 c16_i32_1165
  let v807 : Index := Scalar.indexCast v805
  ![7, v807.toNat]
def k1_off726 (k1_t44 : Fin k1_t44_loop.trips) : Fin 2 → Nat :=
  let c8_i32_1168 : BitVec 32 := 8#32
  let v810 : Index := Scalar.indexCast c8_i32_1168
  let c0_i32_544 : BitVec 32 := 0#32
  let c1_i32_546 : BitVec 32 := 1#32
  let arg9 : BitVec 32 := Scf.iv c0_i32_544 c1_i32_546 k1_t44
  let c16_i32_1167 : BitVec 32 := 16#32
  let v809 : BitVec 32 := Scalar.muli arg9 c16_i32_1167
  let v811 : Index := Scalar.indexCast v809
  ![8, v811.toNat]
def k1_off727 (k1_t44 : Fin k1_t44_loop.trips) : Fin 2 → Nat :=
  let c9_i32_1170 : BitVec 32 := 9#32
  let v814 : Index := Scalar.indexCast c9_i32_1170
  let c0_i32_544 : BitVec 32 := 0#32
  let c1_i32_546 : BitVec 32 := 1#32
  let arg9 : BitVec 32 := Scf.iv c0_i32_544 c1_i32_546 k1_t44
  let c16_i32_1169 : BitVec 32 := 16#32
  let v813 : BitVec 32 := Scalar.muli arg9 c16_i32_1169
  let v815 : Index := Scalar.indexCast v813
  ![9, v815.toNat]
def k1_off728 (k1_t44 : Fin k1_t44_loop.trips) : Fin 2 → Nat :=
  let c10_i32_1172 : BitVec 32 := 10#32
  let v818 : Index := Scalar.indexCast c10_i32_1172
  let c0_i32_544 : BitVec 32 := 0#32
  let c1_i32_546 : BitVec 32 := 1#32
  let arg9 : BitVec 32 := Scf.iv c0_i32_544 c1_i32_546 k1_t44
  let c16_i32_1171 : BitVec 32 := 16#32
  let v817 : BitVec 32 := Scalar.muli arg9 c16_i32_1171
  let v819 : Index := Scalar.indexCast v817
  ![10, v819.toNat]
def k1_off729 (k1_t44 : Fin k1_t44_loop.trips) : Fin 2 → Nat :=
  let c11_i32_1174 : BitVec 32 := 11#32
  let v822 : Index := Scalar.indexCast c11_i32_1174
  let c0_i32_544 : BitVec 32 := 0#32
  let c1_i32_546 : BitVec 32 := 1#32
  let arg9 : BitVec 32 := Scf.iv c0_i32_544 c1_i32_546 k1_t44
  let c16_i32_1173 : BitVec 32 := 16#32
  let v821 : BitVec 32 := Scalar.muli arg9 c16_i32_1173
  let v823 : Index := Scalar.indexCast v821
  ![11, v823.toNat]
def k1_off730 (k1_t44 : Fin k1_t44_loop.trips) : Fin 2 → Nat :=
  let c12_i32_1176 : BitVec 32 := 12#32
  let v826 : Index := Scalar.indexCast c12_i32_1176
  let c0_i32_544 : BitVec 32 := 0#32
  let c1_i32_546 : BitVec 32 := 1#32
  let arg9 : BitVec 32 := Scf.iv c0_i32_544 c1_i32_546 k1_t44
  let c16_i32_1175 : BitVec 32 := 16#32
  let v825 : BitVec 32 := Scalar.muli arg9 c16_i32_1175
  let v827 : Index := Scalar.indexCast v825
  ![12, v827.toNat]
def k1_off731 (k1_t44 : Fin k1_t44_loop.trips) : Fin 2 → Nat :=
  let c13_i32_1178 : BitVec 32 := 13#32
  let v830 : Index := Scalar.indexCast c13_i32_1178
  let c0_i32_544 : BitVec 32 := 0#32
  let c1_i32_546 : BitVec 32 := 1#32
  let arg9 : BitVec 32 := Scf.iv c0_i32_544 c1_i32_546 k1_t44
  let c16_i32_1177 : BitVec 32 := 16#32
  let v829 : BitVec 32 := Scalar.muli arg9 c16_i32_1177
  let v831 : Index := Scalar.indexCast v829
  ![13, v831.toNat]
def k1_off732 (k1_t44 : Fin k1_t44_loop.trips) : Fin 2 → Nat :=
  let c14_i32_1180 : BitVec 32 := 14#32
  let v834 : Index := Scalar.indexCast c14_i32_1180
  let c0_i32_544 : BitVec 32 := 0#32
  let c1_i32_546 : BitVec 32 := 1#32
  let arg9 : BitVec 32 := Scf.iv c0_i32_544 c1_i32_546 k1_t44
  let c16_i32_1179 : BitVec 32 := 16#32
  let v833 : BitVec 32 := Scalar.muli arg9 c16_i32_1179
  let v835 : Index := Scalar.indexCast v833
  ![14, v835.toNat]
def k1_off733 (k1_t44 : Fin k1_t44_loop.trips) : Fin 2 → Nat :=
  let c15_i32_1182 : BitVec 32 := 15#32
  let v838 : Index := Scalar.indexCast c15_i32_1182
  let c0_i32_544 : BitVec 32 := 0#32
  let c1_i32_546 : BitVec 32 := 1#32
  let arg9 : BitVec 32 := Scf.iv c0_i32_544 c1_i32_546 k1_t44
  let c16_i32_1181 : BitVec 32 := 16#32
  let v837 : BitVec 32 := Scalar.muli arg9 c16_i32_1181
  let v839 : Index := Scalar.indexCast v837
  ![15, v839.toNat]

def k1_chk673 (v780 : IVec S16 32) : Prop :=
  (∀ a x, ((![v780] : Fin 1 → IVec S16 32) a x).toNat < S88320.size a)
theorem k1_idx673_inb : ∀ (v780 : IVec S16 32) (k1_hw673 : k1_chk673 v780), ∀ a x, ((![v780] : Fin 1 → IVec S16 32) a x).toNat < S88320.size a := fun v780 k1_hw673 => k1_hw673

def k1_chk674 (v784 : IVec S16 32) : Prop :=
  (∀ a x, ((![v784] : Fin 1 → IVec S16 32) a x).toNat < S88320.size a)
theorem k1_idx674_inb : ∀ (v784 : IVec S16 32) (k1_hw674 : k1_chk674 v784), ∀ a x, ((![v784] : Fin 1 → IVec S16 32) a x).toNat < S88320.size a := fun v784 k1_hw674 => k1_hw674

def k1_chk675 (v788 : IVec S16 32) : Prop :=
  (∀ a x, ((![v788] : Fin 1 → IVec S16 32) a x).toNat < S88320.size a)
theorem k1_idx675_inb : ∀ (v788 : IVec S16 32) (k1_hw675 : k1_chk675 v788), ∀ a x, ((![v788] : Fin 1 → IVec S16 32) a x).toNat < S88320.size a := fun v788 k1_hw675 => k1_hw675

def k1_chk676 (v792 : IVec S16 32) : Prop :=
  (∀ a x, ((![v792] : Fin 1 → IVec S16 32) a x).toNat < S88320.size a)
theorem k1_idx676_inb : ∀ (v792 : IVec S16 32) (k1_hw676 : k1_chk676 v792), ∀ a x, ((![v792] : Fin 1 → IVec S16 32) a x).toNat < S88320.size a := fun v792 k1_hw676 => k1_hw676

def k1_chk677 (v796 : IVec S16 32) : Prop :=
  (∀ a x, ((![v796] : Fin 1 → IVec S16 32) a x).toNat < S88320.size a)
theorem k1_idx677_inb : ∀ (v796 : IVec S16 32) (k1_hw677 : k1_chk677 v796), ∀ a x, ((![v796] : Fin 1 → IVec S16 32) a x).toNat < S88320.size a := fun v796 k1_hw677 => k1_hw677

def k1_chk678 (v800 : IVec S16 32) : Prop :=
  (∀ a x, ((![v800] : Fin 1 → IVec S16 32) a x).toNat < S88320.size a)
theorem k1_idx678_inb : ∀ (v800 : IVec S16 32) (k1_hw678 : k1_chk678 v800), ∀ a x, ((![v800] : Fin 1 → IVec S16 32) a x).toNat < S88320.size a := fun v800 k1_hw678 => k1_hw678

def k1_chk679 (v804 : IVec S16 32) : Prop :=
  (∀ a x, ((![v804] : Fin 1 → IVec S16 32) a x).toNat < S88320.size a)
theorem k1_idx679_inb : ∀ (v804 : IVec S16 32) (k1_hw679 : k1_chk679 v804), ∀ a x, ((![v804] : Fin 1 → IVec S16 32) a x).toNat < S88320.size a := fun v804 k1_hw679 => k1_hw679

def k1_chk680 (v808 : IVec S16 32) : Prop :=
  (∀ a x, ((![v808] : Fin 1 → IVec S16 32) a x).toNat < S88320.size a)
theorem k1_idx680_inb : ∀ (v808 : IVec S16 32) (k1_hw680 : k1_chk680 v808), ∀ a x, ((![v808] : Fin 1 → IVec S16 32) a x).toNat < S88320.size a := fun v808 k1_hw680 => k1_hw680

def k1_chk681 (v812 : IVec S16 32) : Prop :=
  (∀ a x, ((![v812] : Fin 1 → IVec S16 32) a x).toNat < S88320.size a)
theorem k1_idx681_inb : ∀ (v812 : IVec S16 32) (k1_hw681 : k1_chk681 v812), ∀ a x, ((![v812] : Fin 1 → IVec S16 32) a x).toNat < S88320.size a := fun v812 k1_hw681 => k1_hw681

def k1_chk682 (v816 : IVec S16 32) : Prop :=
  (∀ a x, ((![v816] : Fin 1 → IVec S16 32) a x).toNat < S88320.size a)
theorem k1_idx682_inb : ∀ (v816 : IVec S16 32) (k1_hw682 : k1_chk682 v816), ∀ a x, ((![v816] : Fin 1 → IVec S16 32) a x).toNat < S88320.size a := fun v816 k1_hw682 => k1_hw682

def k1_chk683 (v820 : IVec S16 32) : Prop :=
  (∀ a x, ((![v820] : Fin 1 → IVec S16 32) a x).toNat < S88320.size a)
theorem k1_idx683_inb : ∀ (v820 : IVec S16 32) (k1_hw683 : k1_chk683 v820), ∀ a x, ((![v820] : Fin 1 → IVec S16 32) a x).toNat < S88320.size a := fun v820 k1_hw683 => k1_hw683

def k1_chk684 (v824 : IVec S16 32) : Prop :=
  (∀ a x, ((![v824] : Fin 1 → IVec S16 32) a x).toNat < S88320.size a)
theorem k1_idx684_inb : ∀ (v824 : IVec S16 32) (k1_hw684 : k1_chk684 v824), ∀ a x, ((![v824] : Fin 1 → IVec S16 32) a x).toNat < S88320.size a := fun v824 k1_hw684 => k1_hw684

def k1_chk685 (v828 : IVec S16 32) : Prop :=
  (∀ a x, ((![v828] : Fin 1 → IVec S16 32) a x).toNat < S88320.size a)
theorem k1_idx685_inb : ∀ (v828 : IVec S16 32) (k1_hw685 : k1_chk685 v828), ∀ a x, ((![v828] : Fin 1 → IVec S16 32) a x).toNat < S88320.size a := fun v828 k1_hw685 => k1_hw685

def k1_chk686 (v832 : IVec S16 32) : Prop :=
  (∀ a x, ((![v832] : Fin 1 → IVec S16 32) a x).toNat < S88320.size a)
theorem k1_idx686_inb : ∀ (v832 : IVec S16 32) (k1_hw686 : k1_chk686 v832), ∀ a x, ((![v832] : Fin 1 → IVec S16 32) a x).toNat < S88320.size a := fun v832 k1_hw686 => k1_hw686

def k1_chk687 (v836 : IVec S16 32) : Prop :=
  (∀ a x, ((![v836] : Fin 1 → IVec S16 32) a x).toNat < S88320.size a)
theorem k1_idx687_inb : ∀ (v836 : IVec S16 32) (k1_hw687 : k1_chk687 v836), ∀ a x, ((![v836] : Fin 1 → IVec S16 32) a x).toNat < S88320.size a := fun v836 k1_hw687 => k1_hw687

def k1_chk688 (v840 : IVec S16 32) : Prop :=
  (∀ a x, ((![v840] : Fin 1 → IVec S16 32) a x).toNat < S88320.size a)
theorem k1_idx688_inb : ∀ (v840 : IVec S16 32) (k1_hw688 : k1_chk688 v840), ∀ a x, ((![v840] : Fin 1 → IVec S16 32) a x).toNat < S88320.size a := fun v840 k1_hw688 => k1_hw688
def k1_off734 (i : grid1.Coords) : Fin 4 → Nat :=
  let c2_i32_548 : BitVec 32 := 2#32
  let c2_i32_549 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_550 : BitVec 32 := 0#32
  ![2, 2, v2.toNat, 0]
@[reducible] def k1_t45_loop : Scf.Loop 32 :=
  let c0_i32_557 : BitVec 32 := 0#32
  let c32_i32_558 : BitVec 32 := 32#32
  let v405 : BitVec 32 := Scalar.addi c0_i32_557 c32_i32_558
  let c1_i32_559 : BitVec 32 := 1#32
  ⟨c0_i32_557, v405, c1_i32_559⟩
def k1_off735 (k1_t45 : Fin k1_t45_loop.trips) : Fin 2 → Nat :=
  let c0_i32_1152 : BitVec 32 := 0#32
  let v778 : Index := Scalar.indexCast c0_i32_1152
  let c0_i32_557 : BitVec 32 := 0#32
  let c1_i32_559 : BitVec 32 := 1#32
  let arg9 : BitVec 32 := Scf.iv c0_i32_557 c1_i32_559 k1_t45
  let c16_i32_1151 : BitVec 32 := 16#32
  let v777 : BitVec 32 := Scalar.muli arg9 c16_i32_1151
  let v779 : Index := Scalar.indexCast v777
  ![0, v779.toNat]
def k1_off736 (k1_t45 : Fin k1_t45_loop.trips) : Fin 2 → Nat :=
  let c1_i32_1154 : BitVec 32 := 1#32
  let v782 : Index := Scalar.indexCast c1_i32_1154
  let c0_i32_557 : BitVec 32 := 0#32
  let c1_i32_559 : BitVec 32 := 1#32
  let arg9 : BitVec 32 := Scf.iv c0_i32_557 c1_i32_559 k1_t45
  let c16_i32_1153 : BitVec 32 := 16#32
  let v781 : BitVec 32 := Scalar.muli arg9 c16_i32_1153
  let v783 : Index := Scalar.indexCast v781
  ![1, v783.toNat]
def k1_off737 (k1_t45 : Fin k1_t45_loop.trips) : Fin 2 → Nat :=
  let c2_i32_1156 : BitVec 32 := 2#32
  let v786 : Index := Scalar.indexCast c2_i32_1156
  let c0_i32_557 : BitVec 32 := 0#32
  let c1_i32_559 : BitVec 32 := 1#32
  let arg9 : BitVec 32 := Scf.iv c0_i32_557 c1_i32_559 k1_t45
  let c16_i32_1155 : BitVec 32 := 16#32
  let v785 : BitVec 32 := Scalar.muli arg9 c16_i32_1155
  let v787 : Index := Scalar.indexCast v785
  ![2, v787.toNat]
def k1_off738 (k1_t45 : Fin k1_t45_loop.trips) : Fin 2 → Nat :=
  let c3_i32_1158 : BitVec 32 := 3#32
  let v790 : Index := Scalar.indexCast c3_i32_1158
  let c0_i32_557 : BitVec 32 := 0#32
  let c1_i32_559 : BitVec 32 := 1#32
  let arg9 : BitVec 32 := Scf.iv c0_i32_557 c1_i32_559 k1_t45
  let c16_i32_1157 : BitVec 32 := 16#32
  let v789 : BitVec 32 := Scalar.muli arg9 c16_i32_1157
  let v791 : Index := Scalar.indexCast v789
  ![3, v791.toNat]
def k1_off739 (k1_t45 : Fin k1_t45_loop.trips) : Fin 2 → Nat :=
  let c4_i32_1160 : BitVec 32 := 4#32
  let v794 : Index := Scalar.indexCast c4_i32_1160
  let c0_i32_557 : BitVec 32 := 0#32
  let c1_i32_559 : BitVec 32 := 1#32
  let arg9 : BitVec 32 := Scf.iv c0_i32_557 c1_i32_559 k1_t45
  let c16_i32_1159 : BitVec 32 := 16#32
  let v793 : BitVec 32 := Scalar.muli arg9 c16_i32_1159
  let v795 : Index := Scalar.indexCast v793
  ![4, v795.toNat]
def k1_off740 (k1_t45 : Fin k1_t45_loop.trips) : Fin 2 → Nat :=
  let c5_i32_1162 : BitVec 32 := 5#32
  let v798 : Index := Scalar.indexCast c5_i32_1162
  let c0_i32_557 : BitVec 32 := 0#32
  let c1_i32_559 : BitVec 32 := 1#32
  let arg9 : BitVec 32 := Scf.iv c0_i32_557 c1_i32_559 k1_t45
  let c16_i32_1161 : BitVec 32 := 16#32
  let v797 : BitVec 32 := Scalar.muli arg9 c16_i32_1161
  let v799 : Index := Scalar.indexCast v797
  ![5, v799.toNat]
def k1_off741 (k1_t45 : Fin k1_t45_loop.trips) : Fin 2 → Nat :=
  let c6_i32_1164 : BitVec 32 := 6#32
  let v802 : Index := Scalar.indexCast c6_i32_1164
  let c0_i32_557 : BitVec 32 := 0#32
  let c1_i32_559 : BitVec 32 := 1#32
  let arg9 : BitVec 32 := Scf.iv c0_i32_557 c1_i32_559 k1_t45
  let c16_i32_1163 : BitVec 32 := 16#32
  let v801 : BitVec 32 := Scalar.muli arg9 c16_i32_1163
  let v803 : Index := Scalar.indexCast v801
  ![6, v803.toNat]
def k1_off742 (k1_t45 : Fin k1_t45_loop.trips) : Fin 2 → Nat :=
  let c7_i32_1166 : BitVec 32 := 7#32
  let v806 : Index := Scalar.indexCast c7_i32_1166
  let c0_i32_557 : BitVec 32 := 0#32
  let c1_i32_559 : BitVec 32 := 1#32
  let arg9 : BitVec 32 := Scf.iv c0_i32_557 c1_i32_559 k1_t45
  let c16_i32_1165 : BitVec 32 := 16#32
  let v805 : BitVec 32 := Scalar.muli arg9 c16_i32_1165
  let v807 : Index := Scalar.indexCast v805
  ![7, v807.toNat]
def k1_off743 (k1_t45 : Fin k1_t45_loop.trips) : Fin 2 → Nat :=
  let c8_i32_1168 : BitVec 32 := 8#32
  let v810 : Index := Scalar.indexCast c8_i32_1168
  let c0_i32_557 : BitVec 32 := 0#32
  let c1_i32_559 : BitVec 32 := 1#32
  let arg9 : BitVec 32 := Scf.iv c0_i32_557 c1_i32_559 k1_t45
  let c16_i32_1167 : BitVec 32 := 16#32
  let v809 : BitVec 32 := Scalar.muli arg9 c16_i32_1167
  let v811 : Index := Scalar.indexCast v809
  ![8, v811.toNat]
def k1_off744 (k1_t45 : Fin k1_t45_loop.trips) : Fin 2 → Nat :=
  let c9_i32_1170 : BitVec 32 := 9#32
  let v814 : Index := Scalar.indexCast c9_i32_1170
  let c0_i32_557 : BitVec 32 := 0#32
  let c1_i32_559 : BitVec 32 := 1#32
  let arg9 : BitVec 32 := Scf.iv c0_i32_557 c1_i32_559 k1_t45
  let c16_i32_1169 : BitVec 32 := 16#32
  let v813 : BitVec 32 := Scalar.muli arg9 c16_i32_1169
  let v815 : Index := Scalar.indexCast v813
  ![9, v815.toNat]
def k1_off745 (k1_t45 : Fin k1_t45_loop.trips) : Fin 2 → Nat :=
  let c10_i32_1172 : BitVec 32 := 10#32
  let v818 : Index := Scalar.indexCast c10_i32_1172
  let c0_i32_557 : BitVec 32 := 0#32
  let c1_i32_559 : BitVec 32 := 1#32
  let arg9 : BitVec 32 := Scf.iv c0_i32_557 c1_i32_559 k1_t45
  let c16_i32_1171 : BitVec 32 := 16#32
  let v817 : BitVec 32 := Scalar.muli arg9 c16_i32_1171
  let v819 : Index := Scalar.indexCast v817
  ![10, v819.toNat]
def k1_off746 (k1_t45 : Fin k1_t45_loop.trips) : Fin 2 → Nat :=
  let c11_i32_1174 : BitVec 32 := 11#32
  let v822 : Index := Scalar.indexCast c11_i32_1174
  let c0_i32_557 : BitVec 32 := 0#32
  let c1_i32_559 : BitVec 32 := 1#32
  let arg9 : BitVec 32 := Scf.iv c0_i32_557 c1_i32_559 k1_t45
  let c16_i32_1173 : BitVec 32 := 16#32
  let v821 : BitVec 32 := Scalar.muli arg9 c16_i32_1173
  let v823 : Index := Scalar.indexCast v821
  ![11, v823.toNat]
def k1_off747 (k1_t45 : Fin k1_t45_loop.trips) : Fin 2 → Nat :=
  let c12_i32_1176 : BitVec 32 := 12#32
  let v826 : Index := Scalar.indexCast c12_i32_1176
  let c0_i32_557 : BitVec 32 := 0#32
  let c1_i32_559 : BitVec 32 := 1#32
  let arg9 : BitVec 32 := Scf.iv c0_i32_557 c1_i32_559 k1_t45
  let c16_i32_1175 : BitVec 32 := 16#32
  let v825 : BitVec 32 := Scalar.muli arg9 c16_i32_1175
  let v827 : Index := Scalar.indexCast v825
  ![12, v827.toNat]
def k1_off748 (k1_t45 : Fin k1_t45_loop.trips) : Fin 2 → Nat :=
  let c13_i32_1178 : BitVec 32 := 13#32
  let v830 : Index := Scalar.indexCast c13_i32_1178
  let c0_i32_557 : BitVec 32 := 0#32
  let c1_i32_559 : BitVec 32 := 1#32
  let arg9 : BitVec 32 := Scf.iv c0_i32_557 c1_i32_559 k1_t45
  let c16_i32_1177 : BitVec 32 := 16#32
  let v829 : BitVec 32 := Scalar.muli arg9 c16_i32_1177
  let v831 : Index := Scalar.indexCast v829
  ![13, v831.toNat]
def k1_off749 (k1_t45 : Fin k1_t45_loop.trips) : Fin 2 → Nat :=
  let c14_i32_1180 : BitVec 32 := 14#32
  let v834 : Index := Scalar.indexCast c14_i32_1180
  let c0_i32_557 : BitVec 32 := 0#32
  let c1_i32_559 : BitVec 32 := 1#32
  let arg9 : BitVec 32 := Scf.iv c0_i32_557 c1_i32_559 k1_t45
  let c16_i32_1179 : BitVec 32 := 16#32
  let v833 : BitVec 32 := Scalar.muli arg9 c16_i32_1179
  let v835 : Index := Scalar.indexCast v833
  ![14, v835.toNat]
def k1_off750 (k1_t45 : Fin k1_t45_loop.trips) : Fin 2 → Nat :=
  let c15_i32_1182 : BitVec 32 := 15#32
  let v838 : Index := Scalar.indexCast c15_i32_1182
  let c0_i32_557 : BitVec 32 := 0#32
  let c1_i32_559 : BitVec 32 := 1#32
  let arg9 : BitVec 32 := Scf.iv c0_i32_557 c1_i32_559 k1_t45
  let c16_i32_1181 : BitVec 32 := 16#32
  let v837 : BitVec 32 := Scalar.muli arg9 c16_i32_1181
  let v839 : Index := Scalar.indexCast v837
  ![15, v839.toNat]

def k1_chk689 (v780 : IVec S16 32) : Prop :=
  (∀ a x, ((![v780] : Fin 1 → IVec S16 32) a x).toNat < S88320.size a)
theorem k1_idx689_inb : ∀ (v780 : IVec S16 32) (k1_hw689 : k1_chk689 v780), ∀ a x, ((![v780] : Fin 1 → IVec S16 32) a x).toNat < S88320.size a := fun v780 k1_hw689 => k1_hw689

def k1_chk690 (v784 : IVec S16 32) : Prop :=
  (∀ a x, ((![v784] : Fin 1 → IVec S16 32) a x).toNat < S88320.size a)
theorem k1_idx690_inb : ∀ (v784 : IVec S16 32) (k1_hw690 : k1_chk690 v784), ∀ a x, ((![v784] : Fin 1 → IVec S16 32) a x).toNat < S88320.size a := fun v784 k1_hw690 => k1_hw690

def k1_chk691 (v788 : IVec S16 32) : Prop :=
  (∀ a x, ((![v788] : Fin 1 → IVec S16 32) a x).toNat < S88320.size a)
theorem k1_idx691_inb : ∀ (v788 : IVec S16 32) (k1_hw691 : k1_chk691 v788), ∀ a x, ((![v788] : Fin 1 → IVec S16 32) a x).toNat < S88320.size a := fun v788 k1_hw691 => k1_hw691

def k1_chk692 (v792 : IVec S16 32) : Prop :=
  (∀ a x, ((![v792] : Fin 1 → IVec S16 32) a x).toNat < S88320.size a)
theorem k1_idx692_inb : ∀ (v792 : IVec S16 32) (k1_hw692 : k1_chk692 v792), ∀ a x, ((![v792] : Fin 1 → IVec S16 32) a x).toNat < S88320.size a := fun v792 k1_hw692 => k1_hw692

def k1_chk693 (v796 : IVec S16 32) : Prop :=
  (∀ a x, ((![v796] : Fin 1 → IVec S16 32) a x).toNat < S88320.size a)
theorem k1_idx693_inb : ∀ (v796 : IVec S16 32) (k1_hw693 : k1_chk693 v796), ∀ a x, ((![v796] : Fin 1 → IVec S16 32) a x).toNat < S88320.size a := fun v796 k1_hw693 => k1_hw693

def k1_chk694 (v800 : IVec S16 32) : Prop :=
  (∀ a x, ((![v800] : Fin 1 → IVec S16 32) a x).toNat < S88320.size a)
theorem k1_idx694_inb : ∀ (v800 : IVec S16 32) (k1_hw694 : k1_chk694 v800), ∀ a x, ((![v800] : Fin 1 → IVec S16 32) a x).toNat < S88320.size a := fun v800 k1_hw694 => k1_hw694

def k1_chk695 (v804 : IVec S16 32) : Prop :=
  (∀ a x, ((![v804] : Fin 1 → IVec S16 32) a x).toNat < S88320.size a)
theorem k1_idx695_inb : ∀ (v804 : IVec S16 32) (k1_hw695 : k1_chk695 v804), ∀ a x, ((![v804] : Fin 1 → IVec S16 32) a x).toNat < S88320.size a := fun v804 k1_hw695 => k1_hw695

def k1_chk696 (v808 : IVec S16 32) : Prop :=
  (∀ a x, ((![v808] : Fin 1 → IVec S16 32) a x).toNat < S88320.size a)
theorem k1_idx696_inb : ∀ (v808 : IVec S16 32) (k1_hw696 : k1_chk696 v808), ∀ a x, ((![v808] : Fin 1 → IVec S16 32) a x).toNat < S88320.size a := fun v808 k1_hw696 => k1_hw696

def k1_chk697 (v812 : IVec S16 32) : Prop :=
  (∀ a x, ((![v812] : Fin 1 → IVec S16 32) a x).toNat < S88320.size a)
theorem k1_idx697_inb : ∀ (v812 : IVec S16 32) (k1_hw697 : k1_chk697 v812), ∀ a x, ((![v812] : Fin 1 → IVec S16 32) a x).toNat < S88320.size a := fun v812 k1_hw697 => k1_hw697

def k1_chk698 (v816 : IVec S16 32) : Prop :=
  (∀ a x, ((![v816] : Fin 1 → IVec S16 32) a x).toNat < S88320.size a)
theorem k1_idx698_inb : ∀ (v816 : IVec S16 32) (k1_hw698 : k1_chk698 v816), ∀ a x, ((![v816] : Fin 1 → IVec S16 32) a x).toNat < S88320.size a := fun v816 k1_hw698 => k1_hw698

def k1_chk699 (v820 : IVec S16 32) : Prop :=
  (∀ a x, ((![v820] : Fin 1 → IVec S16 32) a x).toNat < S88320.size a)
theorem k1_idx699_inb : ∀ (v820 : IVec S16 32) (k1_hw699 : k1_chk699 v820), ∀ a x, ((![v820] : Fin 1 → IVec S16 32) a x).toNat < S88320.size a := fun v820 k1_hw699 => k1_hw699

def k1_chk700 (v824 : IVec S16 32) : Prop :=
  (∀ a x, ((![v824] : Fin 1 → IVec S16 32) a x).toNat < S88320.size a)
theorem k1_idx700_inb : ∀ (v824 : IVec S16 32) (k1_hw700 : k1_chk700 v824), ∀ a x, ((![v824] : Fin 1 → IVec S16 32) a x).toNat < S88320.size a := fun v824 k1_hw700 => k1_hw700

def k1_chk701 (v828 : IVec S16 32) : Prop :=
  (∀ a x, ((![v828] : Fin 1 → IVec S16 32) a x).toNat < S88320.size a)
theorem k1_idx701_inb : ∀ (v828 : IVec S16 32) (k1_hw701 : k1_chk701 v828), ∀ a x, ((![v828] : Fin 1 → IVec S16 32) a x).toNat < S88320.size a := fun v828 k1_hw701 => k1_hw701

def k1_chk702 (v832 : IVec S16 32) : Prop :=
  (∀ a x, ((![v832] : Fin 1 → IVec S16 32) a x).toNat < S88320.size a)
theorem k1_idx702_inb : ∀ (v832 : IVec S16 32) (k1_hw702 : k1_chk702 v832), ∀ a x, ((![v832] : Fin 1 → IVec S16 32) a x).toNat < S88320.size a := fun v832 k1_hw702 => k1_hw702

def k1_chk703 (v836 : IVec S16 32) : Prop :=
  (∀ a x, ((![v836] : Fin 1 → IVec S16 32) a x).toNat < S88320.size a)
theorem k1_idx703_inb : ∀ (v836 : IVec S16 32) (k1_hw703 : k1_chk703 v836), ∀ a x, ((![v836] : Fin 1 → IVec S16 32) a x).toNat < S88320.size a := fun v836 k1_hw703 => k1_hw703

def k1_chk704 (v840 : IVec S16 32) : Prop :=
  (∀ a x, ((![v840] : Fin 1 → IVec S16 32) a x).toNat < S88320.size a)
theorem k1_idx704_inb : ∀ (v840 : IVec S16 32) (k1_hw704 : k1_chk704 v840), ∀ a x, ((![v840] : Fin 1 → IVec S16 32) a x).toNat < S88320.size a := fun v840 k1_hw704 => k1_hw704
def k1_off751 (i : grid1.Coords) : Fin 4 → Nat :=
  let c2_i32_561 : BitVec 32 := 2#32
  let c3_i32_562 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_563 : BitVec 32 := 0#32
  ![2, 3, v2.toNat, 0]
@[reducible] def k1_t46_loop : Scf.Loop 32 :=
  let c0_i32_570 : BitVec 32 := 0#32
  let c32_i32_571 : BitVec 32 := 32#32
  let v414 : BitVec 32 := Scalar.addi c0_i32_570 c32_i32_571
  let c1_i32_572 : BitVec 32 := 1#32
  ⟨c0_i32_570, v414, c1_i32_572⟩
def k1_off752 (k1_t46 : Fin k1_t46_loop.trips) : Fin 2 → Nat :=
  let c0_i32_1152 : BitVec 32 := 0#32
  let v778 : Index := Scalar.indexCast c0_i32_1152
  let c0_i32_570 : BitVec 32 := 0#32
  let c1_i32_572 : BitVec 32 := 1#32
  let arg9 : BitVec 32 := Scf.iv c0_i32_570 c1_i32_572 k1_t46
  let c16_i32_1151 : BitVec 32 := 16#32
  let v777 : BitVec 32 := Scalar.muli arg9 c16_i32_1151
  let v779 : Index := Scalar.indexCast v777
  ![0, v779.toNat]
def k1_off753 (k1_t46 : Fin k1_t46_loop.trips) : Fin 2 → Nat :=
  let c1_i32_1154 : BitVec 32 := 1#32
  let v782 : Index := Scalar.indexCast c1_i32_1154
  let c0_i32_570 : BitVec 32 := 0#32
  let c1_i32_572 : BitVec 32 := 1#32
  let arg9 : BitVec 32 := Scf.iv c0_i32_570 c1_i32_572 k1_t46
  let c16_i32_1153 : BitVec 32 := 16#32
  let v781 : BitVec 32 := Scalar.muli arg9 c16_i32_1153
  let v783 : Index := Scalar.indexCast v781
  ![1, v783.toNat]
def k1_off754 (k1_t46 : Fin k1_t46_loop.trips) : Fin 2 → Nat :=
  let c2_i32_1156 : BitVec 32 := 2#32
  let v786 : Index := Scalar.indexCast c2_i32_1156
  let c0_i32_570 : BitVec 32 := 0#32
  let c1_i32_572 : BitVec 32 := 1#32
  let arg9 : BitVec 32 := Scf.iv c0_i32_570 c1_i32_572 k1_t46
  let c16_i32_1155 : BitVec 32 := 16#32
  let v785 : BitVec 32 := Scalar.muli arg9 c16_i32_1155
  let v787 : Index := Scalar.indexCast v785
  ![2, v787.toNat]
def k1_off755 (k1_t46 : Fin k1_t46_loop.trips) : Fin 2 → Nat :=
  let c3_i32_1158 : BitVec 32 := 3#32
  let v790 : Index := Scalar.indexCast c3_i32_1158
  let c0_i32_570 : BitVec 32 := 0#32
  let c1_i32_572 : BitVec 32 := 1#32
  let arg9 : BitVec 32 := Scf.iv c0_i32_570 c1_i32_572 k1_t46
  let c16_i32_1157 : BitVec 32 := 16#32
  let v789 : BitVec 32 := Scalar.muli arg9 c16_i32_1157
  let v791 : Index := Scalar.indexCast v789
  ![3, v791.toNat]
def k1_off756 (k1_t46 : Fin k1_t46_loop.trips) : Fin 2 → Nat :=
  let c4_i32_1160 : BitVec 32 := 4#32
  let v794 : Index := Scalar.indexCast c4_i32_1160
  let c0_i32_570 : BitVec 32 := 0#32
  let c1_i32_572 : BitVec 32 := 1#32
  let arg9 : BitVec 32 := Scf.iv c0_i32_570 c1_i32_572 k1_t46
  let c16_i32_1159 : BitVec 32 := 16#32
  let v793 : BitVec 32 := Scalar.muli arg9 c16_i32_1159
  let v795 : Index := Scalar.indexCast v793
  ![4, v795.toNat]
def k1_off757 (k1_t46 : Fin k1_t46_loop.trips) : Fin 2 → Nat :=
  let c5_i32_1162 : BitVec 32 := 5#32
  let v798 : Index := Scalar.indexCast c5_i32_1162
  let c0_i32_570 : BitVec 32 := 0#32
  let c1_i32_572 : BitVec 32 := 1#32
  let arg9 : BitVec 32 := Scf.iv c0_i32_570 c1_i32_572 k1_t46
  let c16_i32_1161 : BitVec 32 := 16#32
  let v797 : BitVec 32 := Scalar.muli arg9 c16_i32_1161
  let v799 : Index := Scalar.indexCast v797
  ![5, v799.toNat]
def k1_off758 (k1_t46 : Fin k1_t46_loop.trips) : Fin 2 → Nat :=
  let c6_i32_1164 : BitVec 32 := 6#32
  let v802 : Index := Scalar.indexCast c6_i32_1164
  let c0_i32_570 : BitVec 32 := 0#32
  let c1_i32_572 : BitVec 32 := 1#32
  let arg9 : BitVec 32 := Scf.iv c0_i32_570 c1_i32_572 k1_t46
  let c16_i32_1163 : BitVec 32 := 16#32
  let v801 : BitVec 32 := Scalar.muli arg9 c16_i32_1163
  let v803 : Index := Scalar.indexCast v801
  ![6, v803.toNat]
def k1_off759 (k1_t46 : Fin k1_t46_loop.trips) : Fin 2 → Nat :=
  let c7_i32_1166 : BitVec 32 := 7#32
  let v806 : Index := Scalar.indexCast c7_i32_1166
  let c0_i32_570 : BitVec 32 := 0#32
  let c1_i32_572 : BitVec 32 := 1#32
  let arg9 : BitVec 32 := Scf.iv c0_i32_570 c1_i32_572 k1_t46
  let c16_i32_1165 : BitVec 32 := 16#32
  let v805 : BitVec 32 := Scalar.muli arg9 c16_i32_1165
  let v807 : Index := Scalar.indexCast v805
  ![7, v807.toNat]
def k1_off760 (k1_t46 : Fin k1_t46_loop.trips) : Fin 2 → Nat :=
  let c8_i32_1168 : BitVec 32 := 8#32
  let v810 : Index := Scalar.indexCast c8_i32_1168
  let c0_i32_570 : BitVec 32 := 0#32
  let c1_i32_572 : BitVec 32 := 1#32
  let arg9 : BitVec 32 := Scf.iv c0_i32_570 c1_i32_572 k1_t46
  let c16_i32_1167 : BitVec 32 := 16#32
  let v809 : BitVec 32 := Scalar.muli arg9 c16_i32_1167
  let v811 : Index := Scalar.indexCast v809
  ![8, v811.toNat]
def k1_off761 (k1_t46 : Fin k1_t46_loop.trips) : Fin 2 → Nat :=
  let c9_i32_1170 : BitVec 32 := 9#32
  let v814 : Index := Scalar.indexCast c9_i32_1170
  let c0_i32_570 : BitVec 32 := 0#32
  let c1_i32_572 : BitVec 32 := 1#32
  let arg9 : BitVec 32 := Scf.iv c0_i32_570 c1_i32_572 k1_t46
  let c16_i32_1169 : BitVec 32 := 16#32
  let v813 : BitVec 32 := Scalar.muli arg9 c16_i32_1169
  let v815 : Index := Scalar.indexCast v813
  ![9, v815.toNat]
def k1_off762 (k1_t46 : Fin k1_t46_loop.trips) : Fin 2 → Nat :=
  let c10_i32_1172 : BitVec 32 := 10#32
  let v818 : Index := Scalar.indexCast c10_i32_1172
  let c0_i32_570 : BitVec 32 := 0#32
  let c1_i32_572 : BitVec 32 := 1#32
  let arg9 : BitVec 32 := Scf.iv c0_i32_570 c1_i32_572 k1_t46
  let c16_i32_1171 : BitVec 32 := 16#32
  let v817 : BitVec 32 := Scalar.muli arg9 c16_i32_1171
  let v819 : Index := Scalar.indexCast v817
  ![10, v819.toNat]
def k1_off763 (k1_t46 : Fin k1_t46_loop.trips) : Fin 2 → Nat :=
  let c11_i32_1174 : BitVec 32 := 11#32
  let v822 : Index := Scalar.indexCast c11_i32_1174
  let c0_i32_570 : BitVec 32 := 0#32
  let c1_i32_572 : BitVec 32 := 1#32
  let arg9 : BitVec 32 := Scf.iv c0_i32_570 c1_i32_572 k1_t46
  let c16_i32_1173 : BitVec 32 := 16#32
  let v821 : BitVec 32 := Scalar.muli arg9 c16_i32_1173
  let v823 : Index := Scalar.indexCast v821
  ![11, v823.toNat]
def k1_off764 (k1_t46 : Fin k1_t46_loop.trips) : Fin 2 → Nat :=
  let c12_i32_1176 : BitVec 32 := 12#32
  let v826 : Index := Scalar.indexCast c12_i32_1176
  let c0_i32_570 : BitVec 32 := 0#32
  let c1_i32_572 : BitVec 32 := 1#32
  let arg9 : BitVec 32 := Scf.iv c0_i32_570 c1_i32_572 k1_t46
  let c16_i32_1175 : BitVec 32 := 16#32
  let v825 : BitVec 32 := Scalar.muli arg9 c16_i32_1175
  let v827 : Index := Scalar.indexCast v825
  ![12, v827.toNat]
def k1_off765 (k1_t46 : Fin k1_t46_loop.trips) : Fin 2 → Nat :=
  let c13_i32_1178 : BitVec 32 := 13#32
  let v830 : Index := Scalar.indexCast c13_i32_1178
  let c0_i32_570 : BitVec 32 := 0#32
  let c1_i32_572 : BitVec 32 := 1#32
  let arg9 : BitVec 32 := Scf.iv c0_i32_570 c1_i32_572 k1_t46
  let c16_i32_1177 : BitVec 32 := 16#32
  let v829 : BitVec 32 := Scalar.muli arg9 c16_i32_1177
  let v831 : Index := Scalar.indexCast v829
  ![13, v831.toNat]
def k1_off766 (k1_t46 : Fin k1_t46_loop.trips) : Fin 2 → Nat :=
  let c14_i32_1180 : BitVec 32 := 14#32
  let v834 : Index := Scalar.indexCast c14_i32_1180
  let c0_i32_570 : BitVec 32 := 0#32
  let c1_i32_572 : BitVec 32 := 1#32
  let arg9 : BitVec 32 := Scf.iv c0_i32_570 c1_i32_572 k1_t46
  let c16_i32_1179 : BitVec 32 := 16#32
  let v833 : BitVec 32 := Scalar.muli arg9 c16_i32_1179
  let v835 : Index := Scalar.indexCast v833
  ![14, v835.toNat]
def k1_off767 (k1_t46 : Fin k1_t46_loop.trips) : Fin 2 → Nat :=
  let c15_i32_1182 : BitVec 32 := 15#32
  let v838 : Index := Scalar.indexCast c15_i32_1182
  let c0_i32_570 : BitVec 32 := 0#32
  let c1_i32_572 : BitVec 32 := 1#32
  let arg9 : BitVec 32 := Scf.iv c0_i32_570 c1_i32_572 k1_t46
  let c16_i32_1181 : BitVec 32 := 16#32
  let v837 : BitVec 32 := Scalar.muli arg9 c16_i32_1181
  let v839 : Index := Scalar.indexCast v837
  ![15, v839.toNat]

def k1_chk705 (v780 : IVec S16 32) : Prop :=
  (∀ a x, ((![v780] : Fin 1 → IVec S16 32) a x).toNat < S88320.size a)
theorem k1_idx705_inb : ∀ (v780 : IVec S16 32) (k1_hw705 : k1_chk705 v780), ∀ a x, ((![v780] : Fin 1 → IVec S16 32) a x).toNat < S88320.size a := fun v780 k1_hw705 => k1_hw705

def k1_chk706 (v784 : IVec S16 32) : Prop :=
  (∀ a x, ((![v784] : Fin 1 → IVec S16 32) a x).toNat < S88320.size a)
theorem k1_idx706_inb : ∀ (v784 : IVec S16 32) (k1_hw706 : k1_chk706 v784), ∀ a x, ((![v784] : Fin 1 → IVec S16 32) a x).toNat < S88320.size a := fun v784 k1_hw706 => k1_hw706

def k1_chk707 (v788 : IVec S16 32) : Prop :=
  (∀ a x, ((![v788] : Fin 1 → IVec S16 32) a x).toNat < S88320.size a)
theorem k1_idx707_inb : ∀ (v788 : IVec S16 32) (k1_hw707 : k1_chk707 v788), ∀ a x, ((![v788] : Fin 1 → IVec S16 32) a x).toNat < S88320.size a := fun v788 k1_hw707 => k1_hw707

def k1_chk708 (v792 : IVec S16 32) : Prop :=
  (∀ a x, ((![v792] : Fin 1 → IVec S16 32) a x).toNat < S88320.size a)
theorem k1_idx708_inb : ∀ (v792 : IVec S16 32) (k1_hw708 : k1_chk708 v792), ∀ a x, ((![v792] : Fin 1 → IVec S16 32) a x).toNat < S88320.size a := fun v792 k1_hw708 => k1_hw708

def k1_chk709 (v796 : IVec S16 32) : Prop :=
  (∀ a x, ((![v796] : Fin 1 → IVec S16 32) a x).toNat < S88320.size a)
theorem k1_idx709_inb : ∀ (v796 : IVec S16 32) (k1_hw709 : k1_chk709 v796), ∀ a x, ((![v796] : Fin 1 → IVec S16 32) a x).toNat < S88320.size a := fun v796 k1_hw709 => k1_hw709

def k1_chk710 (v800 : IVec S16 32) : Prop :=
  (∀ a x, ((![v800] : Fin 1 → IVec S16 32) a x).toNat < S88320.size a)
theorem k1_idx710_inb : ∀ (v800 : IVec S16 32) (k1_hw710 : k1_chk710 v800), ∀ a x, ((![v800] : Fin 1 → IVec S16 32) a x).toNat < S88320.size a := fun v800 k1_hw710 => k1_hw710

def k1_chk711 (v804 : IVec S16 32) : Prop :=
  (∀ a x, ((![v804] : Fin 1 → IVec S16 32) a x).toNat < S88320.size a)
theorem k1_idx711_inb : ∀ (v804 : IVec S16 32) (k1_hw711 : k1_chk711 v804), ∀ a x, ((![v804] : Fin 1 → IVec S16 32) a x).toNat < S88320.size a := fun v804 k1_hw711 => k1_hw711

def k1_chk712 (v808 : IVec S16 32) : Prop :=
  (∀ a x, ((![v808] : Fin 1 → IVec S16 32) a x).toNat < S88320.size a)
theorem k1_idx712_inb : ∀ (v808 : IVec S16 32) (k1_hw712 : k1_chk712 v808), ∀ a x, ((![v808] : Fin 1 → IVec S16 32) a x).toNat < S88320.size a := fun v808 k1_hw712 => k1_hw712

def k1_chk713 (v812 : IVec S16 32) : Prop :=
  (∀ a x, ((![v812] : Fin 1 → IVec S16 32) a x).toNat < S88320.size a)
theorem k1_idx713_inb : ∀ (v812 : IVec S16 32) (k1_hw713 : k1_chk713 v812), ∀ a x, ((![v812] : Fin 1 → IVec S16 32) a x).toNat < S88320.size a := fun v812 k1_hw713 => k1_hw713

def k1_chk714 (v816 : IVec S16 32) : Prop :=
  (∀ a x, ((![v816] : Fin 1 → IVec S16 32) a x).toNat < S88320.size a)
theorem k1_idx714_inb : ∀ (v816 : IVec S16 32) (k1_hw714 : k1_chk714 v816), ∀ a x, ((![v816] : Fin 1 → IVec S16 32) a x).toNat < S88320.size a := fun v816 k1_hw714 => k1_hw714

def k1_chk715 (v820 : IVec S16 32) : Prop :=
  (∀ a x, ((![v820] : Fin 1 → IVec S16 32) a x).toNat < S88320.size a)
theorem k1_idx715_inb : ∀ (v820 : IVec S16 32) (k1_hw715 : k1_chk715 v820), ∀ a x, ((![v820] : Fin 1 → IVec S16 32) a x).toNat < S88320.size a := fun v820 k1_hw715 => k1_hw715

def k1_chk716 (v824 : IVec S16 32) : Prop :=
  (∀ a x, ((![v824] : Fin 1 → IVec S16 32) a x).toNat < S88320.size a)
theorem k1_idx716_inb : ∀ (v824 : IVec S16 32) (k1_hw716 : k1_chk716 v824), ∀ a x, ((![v824] : Fin 1 → IVec S16 32) a x).toNat < S88320.size a := fun v824 k1_hw716 => k1_hw716

def k1_chk717 (v828 : IVec S16 32) : Prop :=
  (∀ a x, ((![v828] : Fin 1 → IVec S16 32) a x).toNat < S88320.size a)
theorem k1_idx717_inb : ∀ (v828 : IVec S16 32) (k1_hw717 : k1_chk717 v828), ∀ a x, ((![v828] : Fin 1 → IVec S16 32) a x).toNat < S88320.size a := fun v828 k1_hw717 => k1_hw717

def k1_chk718 (v832 : IVec S16 32) : Prop :=
  (∀ a x, ((![v832] : Fin 1 → IVec S16 32) a x).toNat < S88320.size a)
theorem k1_idx718_inb : ∀ (v832 : IVec S16 32) (k1_hw718 : k1_chk718 v832), ∀ a x, ((![v832] : Fin 1 → IVec S16 32) a x).toNat < S88320.size a := fun v832 k1_hw718 => k1_hw718

def k1_chk719 (v836 : IVec S16 32) : Prop :=
  (∀ a x, ((![v836] : Fin 1 → IVec S16 32) a x).toNat < S88320.size a)
theorem k1_idx719_inb : ∀ (v836 : IVec S16 32) (k1_hw719 : k1_chk719 v836), ∀ a x, ((![v836] : Fin 1 → IVec S16 32) a x).toNat < S88320.size a := fun v836 k1_hw719 => k1_hw719

def k1_chk720 (v840 : IVec S16 32) : Prop :=
  (∀ a x, ((![v840] : Fin 1 → IVec S16 32) a x).toNat < S88320.size a)
theorem k1_idx720_inb : ∀ (v840 : IVec S16 32) (k1_hw720 : k1_chk720 v840), ∀ a x, ((![v840] : Fin 1 → IVec S16 32) a x).toNat < S88320.size a := fun v840 k1_hw720 => k1_hw720
def k1_off768 (i : grid1.Coords) : Fin 4 → Nat :=
  let c2_i32_574 : BitVec 32 := 2#32
  let c4_i32_575 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_576 : BitVec 32 := 0#32
  ![2, 4, v2.toNat, 0]
@[reducible] def k1_t47_loop : Scf.Loop 32 :=
  let c0_i32_583 : BitVec 32 := 0#32
  let c32_i32_584 : BitVec 32 := 32#32
  let v423 : BitVec 32 := Scalar.addi c0_i32_583 c32_i32_584
  let c1_i32_585 : BitVec 32 := 1#32
  ⟨c0_i32_583, v423, c1_i32_585⟩
def k1_off769 (k1_t47 : Fin k1_t47_loop.trips) : Fin 2 → Nat :=
  let c0_i32_1152 : BitVec 32 := 0#32
  let v778 : Index := Scalar.indexCast c0_i32_1152
  let c0_i32_583 : BitVec 32 := 0#32
  let c1_i32_585 : BitVec 32 := 1#32
  let arg9 : BitVec 32 := Scf.iv c0_i32_583 c1_i32_585 k1_t47
  let c16_i32_1151 : BitVec 32 := 16#32
  let v777 : BitVec 32 := Scalar.muli arg9 c16_i32_1151
  let v779 : Index := Scalar.indexCast v777
  ![0, v779.toNat]
def k1_off770 (k1_t47 : Fin k1_t47_loop.trips) : Fin 2 → Nat :=
  let c1_i32_1154 : BitVec 32 := 1#32
  let v782 : Index := Scalar.indexCast c1_i32_1154
  let c0_i32_583 : BitVec 32 := 0#32
  let c1_i32_585 : BitVec 32 := 1#32
  let arg9 : BitVec 32 := Scf.iv c0_i32_583 c1_i32_585 k1_t47
  let c16_i32_1153 : BitVec 32 := 16#32
  let v781 : BitVec 32 := Scalar.muli arg9 c16_i32_1153
  let v783 : Index := Scalar.indexCast v781
  ![1, v783.toNat]
def k1_off771 (k1_t47 : Fin k1_t47_loop.trips) : Fin 2 → Nat :=
  let c2_i32_1156 : BitVec 32 := 2#32
  let v786 : Index := Scalar.indexCast c2_i32_1156
  let c0_i32_583 : BitVec 32 := 0#32
  let c1_i32_585 : BitVec 32 := 1#32
  let arg9 : BitVec 32 := Scf.iv c0_i32_583 c1_i32_585 k1_t47
  let c16_i32_1155 : BitVec 32 := 16#32
  let v785 : BitVec 32 := Scalar.muli arg9 c16_i32_1155
  let v787 : Index := Scalar.indexCast v785
  ![2, v787.toNat]
def k1_off772 (k1_t47 : Fin k1_t47_loop.trips) : Fin 2 → Nat :=
  let c3_i32_1158 : BitVec 32 := 3#32
  let v790 : Index := Scalar.indexCast c3_i32_1158
  let c0_i32_583 : BitVec 32 := 0#32
  let c1_i32_585 : BitVec 32 := 1#32
  let arg9 : BitVec 32 := Scf.iv c0_i32_583 c1_i32_585 k1_t47
  let c16_i32_1157 : BitVec 32 := 16#32
  let v789 : BitVec 32 := Scalar.muli arg9 c16_i32_1157
  let v791 : Index := Scalar.indexCast v789
  ![3, v791.toNat]
def k1_off773 (k1_t47 : Fin k1_t47_loop.trips) : Fin 2 → Nat :=
  let c4_i32_1160 : BitVec 32 := 4#32
  let v794 : Index := Scalar.indexCast c4_i32_1160
  let c0_i32_583 : BitVec 32 := 0#32
  let c1_i32_585 : BitVec 32 := 1#32
  let arg9 : BitVec 32 := Scf.iv c0_i32_583 c1_i32_585 k1_t47
  let c16_i32_1159 : BitVec 32 := 16#32
  let v793 : BitVec 32 := Scalar.muli arg9 c16_i32_1159
  let v795 : Index := Scalar.indexCast v793
  ![4, v795.toNat]
def k1_off774 (k1_t47 : Fin k1_t47_loop.trips) : Fin 2 → Nat :=
  let c5_i32_1162 : BitVec 32 := 5#32
  let v798 : Index := Scalar.indexCast c5_i32_1162
  let c0_i32_583 : BitVec 32 := 0#32
  let c1_i32_585 : BitVec 32 := 1#32
  let arg9 : BitVec 32 := Scf.iv c0_i32_583 c1_i32_585 k1_t47
  let c16_i32_1161 : BitVec 32 := 16#32
  let v797 : BitVec 32 := Scalar.muli arg9 c16_i32_1161
  let v799 : Index := Scalar.indexCast v797
  ![5, v799.toNat]
def k1_off775 (k1_t47 : Fin k1_t47_loop.trips) : Fin 2 → Nat :=
  let c6_i32_1164 : BitVec 32 := 6#32
  let v802 : Index := Scalar.indexCast c6_i32_1164
  let c0_i32_583 : BitVec 32 := 0#32
  let c1_i32_585 : BitVec 32 := 1#32
  let arg9 : BitVec 32 := Scf.iv c0_i32_583 c1_i32_585 k1_t47
  let c16_i32_1163 : BitVec 32 := 16#32
  let v801 : BitVec 32 := Scalar.muli arg9 c16_i32_1163
  let v803 : Index := Scalar.indexCast v801
  ![6, v803.toNat]
def k1_off776 (k1_t47 : Fin k1_t47_loop.trips) : Fin 2 → Nat :=
  let c7_i32_1166 : BitVec 32 := 7#32
  let v806 : Index := Scalar.indexCast c7_i32_1166
  let c0_i32_583 : BitVec 32 := 0#32
  let c1_i32_585 : BitVec 32 := 1#32
  let arg9 : BitVec 32 := Scf.iv c0_i32_583 c1_i32_585 k1_t47
  let c16_i32_1165 : BitVec 32 := 16#32
  let v805 : BitVec 32 := Scalar.muli arg9 c16_i32_1165
  let v807 : Index := Scalar.indexCast v805
  ![7, v807.toNat]
def k1_off777 (k1_t47 : Fin k1_t47_loop.trips) : Fin 2 → Nat :=
  let c8_i32_1168 : BitVec 32 := 8#32
  let v810 : Index := Scalar.indexCast c8_i32_1168
  let c0_i32_583 : BitVec 32 := 0#32
  let c1_i32_585 : BitVec 32 := 1#32
  let arg9 : BitVec 32 := Scf.iv c0_i32_583 c1_i32_585 k1_t47
  let c16_i32_1167 : BitVec 32 := 16#32
  let v809 : BitVec 32 := Scalar.muli arg9 c16_i32_1167
  let v811 : Index := Scalar.indexCast v809
  ![8, v811.toNat]
def k1_off778 (k1_t47 : Fin k1_t47_loop.trips) : Fin 2 → Nat :=
  let c9_i32_1170 : BitVec 32 := 9#32
  let v814 : Index := Scalar.indexCast c9_i32_1170
  let c0_i32_583 : BitVec 32 := 0#32
  let c1_i32_585 : BitVec 32 := 1#32
  let arg9 : BitVec 32 := Scf.iv c0_i32_583 c1_i32_585 k1_t47
  let c16_i32_1169 : BitVec 32 := 16#32
  let v813 : BitVec 32 := Scalar.muli arg9 c16_i32_1169
  let v815 : Index := Scalar.indexCast v813
  ![9, v815.toNat]
def k1_off779 (k1_t47 : Fin k1_t47_loop.trips) : Fin 2 → Nat :=
  let c10_i32_1172 : BitVec 32 := 10#32
  let v818 : Index := Scalar.indexCast c10_i32_1172
  let c0_i32_583 : BitVec 32 := 0#32
  let c1_i32_585 : BitVec 32 := 1#32
  let arg9 : BitVec 32 := Scf.iv c0_i32_583 c1_i32_585 k1_t47
  let c16_i32_1171 : BitVec 32 := 16#32
  let v817 : BitVec 32 := Scalar.muli arg9 c16_i32_1171
  let v819 : Index := Scalar.indexCast v817
  ![10, v819.toNat]
def k1_off780 (k1_t47 : Fin k1_t47_loop.trips) : Fin 2 → Nat :=
  let c11_i32_1174 : BitVec 32 := 11#32
  let v822 : Index := Scalar.indexCast c11_i32_1174
  let c0_i32_583 : BitVec 32 := 0#32
  let c1_i32_585 : BitVec 32 := 1#32
  let arg9 : BitVec 32 := Scf.iv c0_i32_583 c1_i32_585 k1_t47
  let c16_i32_1173 : BitVec 32 := 16#32
  let v821 : BitVec 32 := Scalar.muli arg9 c16_i32_1173
  let v823 : Index := Scalar.indexCast v821
  ![11, v823.toNat]
def k1_off781 (k1_t47 : Fin k1_t47_loop.trips) : Fin 2 → Nat :=
  let c12_i32_1176 : BitVec 32 := 12#32
  let v826 : Index := Scalar.indexCast c12_i32_1176
  let c0_i32_583 : BitVec 32 := 0#32
  let c1_i32_585 : BitVec 32 := 1#32
  let arg9 : BitVec 32 := Scf.iv c0_i32_583 c1_i32_585 k1_t47
  let c16_i32_1175 : BitVec 32 := 16#32
  let v825 : BitVec 32 := Scalar.muli arg9 c16_i32_1175
  let v827 : Index := Scalar.indexCast v825
  ![12, v827.toNat]
def k1_off782 (k1_t47 : Fin k1_t47_loop.trips) : Fin 2 → Nat :=
  let c13_i32_1178 : BitVec 32 := 13#32
  let v830 : Index := Scalar.indexCast c13_i32_1178
  let c0_i32_583 : BitVec 32 := 0#32
  let c1_i32_585 : BitVec 32 := 1#32
  let arg9 : BitVec 32 := Scf.iv c0_i32_583 c1_i32_585 k1_t47
  let c16_i32_1177 : BitVec 32 := 16#32
  let v829 : BitVec 32 := Scalar.muli arg9 c16_i32_1177
  let v831 : Index := Scalar.indexCast v829
  ![13, v831.toNat]
def k1_off783 (k1_t47 : Fin k1_t47_loop.trips) : Fin 2 → Nat :=
  let c14_i32_1180 : BitVec 32 := 14#32
  let v834 : Index := Scalar.indexCast c14_i32_1180
  let c0_i32_583 : BitVec 32 := 0#32
  let c1_i32_585 : BitVec 32 := 1#32
  let arg9 : BitVec 32 := Scf.iv c0_i32_583 c1_i32_585 k1_t47
  let c16_i32_1179 : BitVec 32 := 16#32
  let v833 : BitVec 32 := Scalar.muli arg9 c16_i32_1179
  let v835 : Index := Scalar.indexCast v833
  ![14, v835.toNat]
def k1_off784 (k1_t47 : Fin k1_t47_loop.trips) : Fin 2 → Nat :=
  let c15_i32_1182 : BitVec 32 := 15#32
  let v838 : Index := Scalar.indexCast c15_i32_1182
  let c0_i32_583 : BitVec 32 := 0#32
  let c1_i32_585 : BitVec 32 := 1#32
  let arg9 : BitVec 32 := Scf.iv c0_i32_583 c1_i32_585 k1_t47
  let c16_i32_1181 : BitVec 32 := 16#32
  let v837 : BitVec 32 := Scalar.muli arg9 c16_i32_1181
  let v839 : Index := Scalar.indexCast v837
  ![15, v839.toNat]

def k1_chk721 (v780 : IVec S16 32) : Prop :=
  (∀ a x, ((![v780] : Fin 1 → IVec S16 32) a x).toNat < S88320.size a)
theorem k1_idx721_inb : ∀ (v780 : IVec S16 32) (k1_hw721 : k1_chk721 v780), ∀ a x, ((![v780] : Fin 1 → IVec S16 32) a x).toNat < S88320.size a := fun v780 k1_hw721 => k1_hw721

def k1_chk722 (v784 : IVec S16 32) : Prop :=
  (∀ a x, ((![v784] : Fin 1 → IVec S16 32) a x).toNat < S88320.size a)
theorem k1_idx722_inb : ∀ (v784 : IVec S16 32) (k1_hw722 : k1_chk722 v784), ∀ a x, ((![v784] : Fin 1 → IVec S16 32) a x).toNat < S88320.size a := fun v784 k1_hw722 => k1_hw722

def k1_chk723 (v788 : IVec S16 32) : Prop :=
  (∀ a x, ((![v788] : Fin 1 → IVec S16 32) a x).toNat < S88320.size a)
theorem k1_idx723_inb : ∀ (v788 : IVec S16 32) (k1_hw723 : k1_chk723 v788), ∀ a x, ((![v788] : Fin 1 → IVec S16 32) a x).toNat < S88320.size a := fun v788 k1_hw723 => k1_hw723

def k1_chk724 (v792 : IVec S16 32) : Prop :=
  (∀ a x, ((![v792] : Fin 1 → IVec S16 32) a x).toNat < S88320.size a)
theorem k1_idx724_inb : ∀ (v792 : IVec S16 32) (k1_hw724 : k1_chk724 v792), ∀ a x, ((![v792] : Fin 1 → IVec S16 32) a x).toNat < S88320.size a := fun v792 k1_hw724 => k1_hw724

def k1_chk725 (v796 : IVec S16 32) : Prop :=
  (∀ a x, ((![v796] : Fin 1 → IVec S16 32) a x).toNat < S88320.size a)
theorem k1_idx725_inb : ∀ (v796 : IVec S16 32) (k1_hw725 : k1_chk725 v796), ∀ a x, ((![v796] : Fin 1 → IVec S16 32) a x).toNat < S88320.size a := fun v796 k1_hw725 => k1_hw725

def k1_chk726 (v800 : IVec S16 32) : Prop :=
  (∀ a x, ((![v800] : Fin 1 → IVec S16 32) a x).toNat < S88320.size a)
theorem k1_idx726_inb : ∀ (v800 : IVec S16 32) (k1_hw726 : k1_chk726 v800), ∀ a x, ((![v800] : Fin 1 → IVec S16 32) a x).toNat < S88320.size a := fun v800 k1_hw726 => k1_hw726

def k1_chk727 (v804 : IVec S16 32) : Prop :=
  (∀ a x, ((![v804] : Fin 1 → IVec S16 32) a x).toNat < S88320.size a)
theorem k1_idx727_inb : ∀ (v804 : IVec S16 32) (k1_hw727 : k1_chk727 v804), ∀ a x, ((![v804] : Fin 1 → IVec S16 32) a x).toNat < S88320.size a := fun v804 k1_hw727 => k1_hw727

def k1_chk728 (v808 : IVec S16 32) : Prop :=
  (∀ a x, ((![v808] : Fin 1 → IVec S16 32) a x).toNat < S88320.size a)
theorem k1_idx728_inb : ∀ (v808 : IVec S16 32) (k1_hw728 : k1_chk728 v808), ∀ a x, ((![v808] : Fin 1 → IVec S16 32) a x).toNat < S88320.size a := fun v808 k1_hw728 => k1_hw728

def k1_chk729 (v812 : IVec S16 32) : Prop :=
  (∀ a x, ((![v812] : Fin 1 → IVec S16 32) a x).toNat < S88320.size a)
theorem k1_idx729_inb : ∀ (v812 : IVec S16 32) (k1_hw729 : k1_chk729 v812), ∀ a x, ((![v812] : Fin 1 → IVec S16 32) a x).toNat < S88320.size a := fun v812 k1_hw729 => k1_hw729

def k1_chk730 (v816 : IVec S16 32) : Prop :=
  (∀ a x, ((![v816] : Fin 1 → IVec S16 32) a x).toNat < S88320.size a)
theorem k1_idx730_inb : ∀ (v816 : IVec S16 32) (k1_hw730 : k1_chk730 v816), ∀ a x, ((![v816] : Fin 1 → IVec S16 32) a x).toNat < S88320.size a := fun v816 k1_hw730 => k1_hw730

def k1_chk731 (v820 : IVec S16 32) : Prop :=
  (∀ a x, ((![v820] : Fin 1 → IVec S16 32) a x).toNat < S88320.size a)
theorem k1_idx731_inb : ∀ (v820 : IVec S16 32) (k1_hw731 : k1_chk731 v820), ∀ a x, ((![v820] : Fin 1 → IVec S16 32) a x).toNat < S88320.size a := fun v820 k1_hw731 => k1_hw731

def k1_chk732 (v824 : IVec S16 32) : Prop :=
  (∀ a x, ((![v824] : Fin 1 → IVec S16 32) a x).toNat < S88320.size a)
theorem k1_idx732_inb : ∀ (v824 : IVec S16 32) (k1_hw732 : k1_chk732 v824), ∀ a x, ((![v824] : Fin 1 → IVec S16 32) a x).toNat < S88320.size a := fun v824 k1_hw732 => k1_hw732

def k1_chk733 (v828 : IVec S16 32) : Prop :=
  (∀ a x, ((![v828] : Fin 1 → IVec S16 32) a x).toNat < S88320.size a)
theorem k1_idx733_inb : ∀ (v828 : IVec S16 32) (k1_hw733 : k1_chk733 v828), ∀ a x, ((![v828] : Fin 1 → IVec S16 32) a x).toNat < S88320.size a := fun v828 k1_hw733 => k1_hw733

def k1_chk734 (v832 : IVec S16 32) : Prop :=
  (∀ a x, ((![v832] : Fin 1 → IVec S16 32) a x).toNat < S88320.size a)
theorem k1_idx734_inb : ∀ (v832 : IVec S16 32) (k1_hw734 : k1_chk734 v832), ∀ a x, ((![v832] : Fin 1 → IVec S16 32) a x).toNat < S88320.size a := fun v832 k1_hw734 => k1_hw734

def k1_chk735 (v836 : IVec S16 32) : Prop :=
  (∀ a x, ((![v836] : Fin 1 → IVec S16 32) a x).toNat < S88320.size a)
theorem k1_idx735_inb : ∀ (v836 : IVec S16 32) (k1_hw735 : k1_chk735 v836), ∀ a x, ((![v836] : Fin 1 → IVec S16 32) a x).toNat < S88320.size a := fun v836 k1_hw735 => k1_hw735

def k1_chk736 (v840 : IVec S16 32) : Prop :=
  (∀ a x, ((![v840] : Fin 1 → IVec S16 32) a x).toNat < S88320.size a)
theorem k1_idx736_inb : ∀ (v840 : IVec S16 32) (k1_hw736 : k1_chk736 v840), ∀ a x, ((![v840] : Fin 1 → IVec S16 32) a x).toNat < S88320.size a := fun v840 k1_hw736 => k1_hw736
def k1_off785 (i : grid1.Coords) : Fin 4 → Nat :=
  let c2_i32_587 : BitVec 32 := 2#32
  let c5_i32_588 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_589 : BitVec 32 := 0#32
  ![2, 5, v2.toNat, 0]
@[reducible] def k1_t48_loop : Scf.Loop 32 :=
  let c0_i32_596 : BitVec 32 := 0#32
  let c32_i32_597 : BitVec 32 := 32#32
  let v432 : BitVec 32 := Scalar.addi c0_i32_596 c32_i32_597
  let c1_i32_598 : BitVec 32 := 1#32
  ⟨c0_i32_596, v432, c1_i32_598⟩
def k1_off786 (k1_t48 : Fin k1_t48_loop.trips) : Fin 2 → Nat :=
  let c0_i32_1152 : BitVec 32 := 0#32
  let v778 : Index := Scalar.indexCast c0_i32_1152
  let c0_i32_596 : BitVec 32 := 0#32
  let c1_i32_598 : BitVec 32 := 1#32
  let arg9 : BitVec 32 := Scf.iv c0_i32_596 c1_i32_598 k1_t48
  let c16_i32_1151 : BitVec 32 := 16#32
  let v777 : BitVec 32 := Scalar.muli arg9 c16_i32_1151
  let v779 : Index := Scalar.indexCast v777
  ![0, v779.toNat]
def k1_off787 (k1_t48 : Fin k1_t48_loop.trips) : Fin 2 → Nat :=
  let c1_i32_1154 : BitVec 32 := 1#32
  let v782 : Index := Scalar.indexCast c1_i32_1154
  let c0_i32_596 : BitVec 32 := 0#32
  let c1_i32_598 : BitVec 32 := 1#32
  let arg9 : BitVec 32 := Scf.iv c0_i32_596 c1_i32_598 k1_t48
  let c16_i32_1153 : BitVec 32 := 16#32
  let v781 : BitVec 32 := Scalar.muli arg9 c16_i32_1153
  let v783 : Index := Scalar.indexCast v781
  ![1, v783.toNat]
def k1_off788 (k1_t48 : Fin k1_t48_loop.trips) : Fin 2 → Nat :=
  let c2_i32_1156 : BitVec 32 := 2#32
  let v786 : Index := Scalar.indexCast c2_i32_1156
  let c0_i32_596 : BitVec 32 := 0#32
  let c1_i32_598 : BitVec 32 := 1#32
  let arg9 : BitVec 32 := Scf.iv c0_i32_596 c1_i32_598 k1_t48
  let c16_i32_1155 : BitVec 32 := 16#32
  let v785 : BitVec 32 := Scalar.muli arg9 c16_i32_1155
  let v787 : Index := Scalar.indexCast v785
  ![2, v787.toNat]
def k1_off789 (k1_t48 : Fin k1_t48_loop.trips) : Fin 2 → Nat :=
  let c3_i32_1158 : BitVec 32 := 3#32
  let v790 : Index := Scalar.indexCast c3_i32_1158
  let c0_i32_596 : BitVec 32 := 0#32
  let c1_i32_598 : BitVec 32 := 1#32
  let arg9 : BitVec 32 := Scf.iv c0_i32_596 c1_i32_598 k1_t48
  let c16_i32_1157 : BitVec 32 := 16#32
  let v789 : BitVec 32 := Scalar.muli arg9 c16_i32_1157
  let v791 : Index := Scalar.indexCast v789
  ![3, v791.toNat]
def k1_off790 (k1_t48 : Fin k1_t48_loop.trips) : Fin 2 → Nat :=
  let c4_i32_1160 : BitVec 32 := 4#32
  let v794 : Index := Scalar.indexCast c4_i32_1160
  let c0_i32_596 : BitVec 32 := 0#32
  let c1_i32_598 : BitVec 32 := 1#32
  let arg9 : BitVec 32 := Scf.iv c0_i32_596 c1_i32_598 k1_t48
  let c16_i32_1159 : BitVec 32 := 16#32
  let v793 : BitVec 32 := Scalar.muli arg9 c16_i32_1159
  let v795 : Index := Scalar.indexCast v793
  ![4, v795.toNat]
def k1_off791 (k1_t48 : Fin k1_t48_loop.trips) : Fin 2 → Nat :=
  let c5_i32_1162 : BitVec 32 := 5#32
  let v798 : Index := Scalar.indexCast c5_i32_1162
  let c0_i32_596 : BitVec 32 := 0#32
  let c1_i32_598 : BitVec 32 := 1#32
  let arg9 : BitVec 32 := Scf.iv c0_i32_596 c1_i32_598 k1_t48
  let c16_i32_1161 : BitVec 32 := 16#32
  let v797 : BitVec 32 := Scalar.muli arg9 c16_i32_1161
  let v799 : Index := Scalar.indexCast v797
  ![5, v799.toNat]
def k1_off792 (k1_t48 : Fin k1_t48_loop.trips) : Fin 2 → Nat :=
  let c6_i32_1164 : BitVec 32 := 6#32
  let v802 : Index := Scalar.indexCast c6_i32_1164
  let c0_i32_596 : BitVec 32 := 0#32
  let c1_i32_598 : BitVec 32 := 1#32
  let arg9 : BitVec 32 := Scf.iv c0_i32_596 c1_i32_598 k1_t48
  let c16_i32_1163 : BitVec 32 := 16#32
  let v801 : BitVec 32 := Scalar.muli arg9 c16_i32_1163
  let v803 : Index := Scalar.indexCast v801
  ![6, v803.toNat]
def k1_off793 (k1_t48 : Fin k1_t48_loop.trips) : Fin 2 → Nat :=
  let c7_i32_1166 : BitVec 32 := 7#32
  let v806 : Index := Scalar.indexCast c7_i32_1166
  let c0_i32_596 : BitVec 32 := 0#32
  let c1_i32_598 : BitVec 32 := 1#32
  let arg9 : BitVec 32 := Scf.iv c0_i32_596 c1_i32_598 k1_t48
  let c16_i32_1165 : BitVec 32 := 16#32
  let v805 : BitVec 32 := Scalar.muli arg9 c16_i32_1165
  let v807 : Index := Scalar.indexCast v805
  ![7, v807.toNat]
def k1_off794 (k1_t48 : Fin k1_t48_loop.trips) : Fin 2 → Nat :=
  let c8_i32_1168 : BitVec 32 := 8#32
  let v810 : Index := Scalar.indexCast c8_i32_1168
  let c0_i32_596 : BitVec 32 := 0#32
  let c1_i32_598 : BitVec 32 := 1#32
  let arg9 : BitVec 32 := Scf.iv c0_i32_596 c1_i32_598 k1_t48
  let c16_i32_1167 : BitVec 32 := 16#32
  let v809 : BitVec 32 := Scalar.muli arg9 c16_i32_1167
  let v811 : Index := Scalar.indexCast v809
  ![8, v811.toNat]
def k1_off795 (k1_t48 : Fin k1_t48_loop.trips) : Fin 2 → Nat :=
  let c9_i32_1170 : BitVec 32 := 9#32
  let v814 : Index := Scalar.indexCast c9_i32_1170
  let c0_i32_596 : BitVec 32 := 0#32
  let c1_i32_598 : BitVec 32 := 1#32
  let arg9 : BitVec 32 := Scf.iv c0_i32_596 c1_i32_598 k1_t48
  let c16_i32_1169 : BitVec 32 := 16#32
  let v813 : BitVec 32 := Scalar.muli arg9 c16_i32_1169
  let v815 : Index := Scalar.indexCast v813
  ![9, v815.toNat]
def k1_off796 (k1_t48 : Fin k1_t48_loop.trips) : Fin 2 → Nat :=
  let c10_i32_1172 : BitVec 32 := 10#32
  let v818 : Index := Scalar.indexCast c10_i32_1172
  let c0_i32_596 : BitVec 32 := 0#32
  let c1_i32_598 : BitVec 32 := 1#32
  let arg9 : BitVec 32 := Scf.iv c0_i32_596 c1_i32_598 k1_t48
  let c16_i32_1171 : BitVec 32 := 16#32
  let v817 : BitVec 32 := Scalar.muli arg9 c16_i32_1171
  let v819 : Index := Scalar.indexCast v817
  ![10, v819.toNat]
def k1_off797 (k1_t48 : Fin k1_t48_loop.trips) : Fin 2 → Nat :=
  let c11_i32_1174 : BitVec 32 := 11#32
  let v822 : Index := Scalar.indexCast c11_i32_1174
  let c0_i32_596 : BitVec 32 := 0#32
  let c1_i32_598 : BitVec 32 := 1#32
  let arg9 : BitVec 32 := Scf.iv c0_i32_596 c1_i32_598 k1_t48
  let c16_i32_1173 : BitVec 32 := 16#32
  let v821 : BitVec 32 := Scalar.muli arg9 c16_i32_1173
  let v823 : Index := Scalar.indexCast v821
  ![11, v823.toNat]
def k1_off798 (k1_t48 : Fin k1_t48_loop.trips) : Fin 2 → Nat :=
  let c12_i32_1176 : BitVec 32 := 12#32
  let v826 : Index := Scalar.indexCast c12_i32_1176
  let c0_i32_596 : BitVec 32 := 0#32
  let c1_i32_598 : BitVec 32 := 1#32
  let arg9 : BitVec 32 := Scf.iv c0_i32_596 c1_i32_598 k1_t48
  let c16_i32_1175 : BitVec 32 := 16#32
  let v825 : BitVec 32 := Scalar.muli arg9 c16_i32_1175
  let v827 : Index := Scalar.indexCast v825
  ![12, v827.toNat]
def k1_off799 (k1_t48 : Fin k1_t48_loop.trips) : Fin 2 → Nat :=
  let c13_i32_1178 : BitVec 32 := 13#32
  let v830 : Index := Scalar.indexCast c13_i32_1178
  let c0_i32_596 : BitVec 32 := 0#32
  let c1_i32_598 : BitVec 32 := 1#32
  let arg9 : BitVec 32 := Scf.iv c0_i32_596 c1_i32_598 k1_t48
  let c16_i32_1177 : BitVec 32 := 16#32
  let v829 : BitVec 32 := Scalar.muli arg9 c16_i32_1177
  let v831 : Index := Scalar.indexCast v829
  ![13, v831.toNat]
def k1_off800 (k1_t48 : Fin k1_t48_loop.trips) : Fin 2 → Nat :=
  let c14_i32_1180 : BitVec 32 := 14#32
  let v834 : Index := Scalar.indexCast c14_i32_1180
  let c0_i32_596 : BitVec 32 := 0#32
  let c1_i32_598 : BitVec 32 := 1#32
  let arg9 : BitVec 32 := Scf.iv c0_i32_596 c1_i32_598 k1_t48
  let c16_i32_1179 : BitVec 32 := 16#32
  let v833 : BitVec 32 := Scalar.muli arg9 c16_i32_1179
  let v835 : Index := Scalar.indexCast v833
  ![14, v835.toNat]
def k1_off801 (k1_t48 : Fin k1_t48_loop.trips) : Fin 2 → Nat :=
  let c15_i32_1182 : BitVec 32 := 15#32
  let v838 : Index := Scalar.indexCast c15_i32_1182
  let c0_i32_596 : BitVec 32 := 0#32
  let c1_i32_598 : BitVec 32 := 1#32
  let arg9 : BitVec 32 := Scf.iv c0_i32_596 c1_i32_598 k1_t48
  let c16_i32_1181 : BitVec 32 := 16#32
  let v837 : BitVec 32 := Scalar.muli arg9 c16_i32_1181
  let v839 : Index := Scalar.indexCast v837
  ![15, v839.toNat]

def k1_chk737 (v780 : IVec S16 32) : Prop :=
  (∀ a x, ((![v780] : Fin 1 → IVec S16 32) a x).toNat < S88320.size a)
theorem k1_idx737_inb : ∀ (v780 : IVec S16 32) (k1_hw737 : k1_chk737 v780), ∀ a x, ((![v780] : Fin 1 → IVec S16 32) a x).toNat < S88320.size a := fun v780 k1_hw737 => k1_hw737

def k1_chk738 (v784 : IVec S16 32) : Prop :=
  (∀ a x, ((![v784] : Fin 1 → IVec S16 32) a x).toNat < S88320.size a)
theorem k1_idx738_inb : ∀ (v784 : IVec S16 32) (k1_hw738 : k1_chk738 v784), ∀ a x, ((![v784] : Fin 1 → IVec S16 32) a x).toNat < S88320.size a := fun v784 k1_hw738 => k1_hw738

def k1_chk739 (v788 : IVec S16 32) : Prop :=
  (∀ a x, ((![v788] : Fin 1 → IVec S16 32) a x).toNat < S88320.size a)
theorem k1_idx739_inb : ∀ (v788 : IVec S16 32) (k1_hw739 : k1_chk739 v788), ∀ a x, ((![v788] : Fin 1 → IVec S16 32) a x).toNat < S88320.size a := fun v788 k1_hw739 => k1_hw739

def k1_chk740 (v792 : IVec S16 32) : Prop :=
  (∀ a x, ((![v792] : Fin 1 → IVec S16 32) a x).toNat < S88320.size a)
theorem k1_idx740_inb : ∀ (v792 : IVec S16 32) (k1_hw740 : k1_chk740 v792), ∀ a x, ((![v792] : Fin 1 → IVec S16 32) a x).toNat < S88320.size a := fun v792 k1_hw740 => k1_hw740

def k1_chk741 (v796 : IVec S16 32) : Prop :=
  (∀ a x, ((![v796] : Fin 1 → IVec S16 32) a x).toNat < S88320.size a)
theorem k1_idx741_inb : ∀ (v796 : IVec S16 32) (k1_hw741 : k1_chk741 v796), ∀ a x, ((![v796] : Fin 1 → IVec S16 32) a x).toNat < S88320.size a := fun v796 k1_hw741 => k1_hw741

def k1_chk742 (v800 : IVec S16 32) : Prop :=
  (∀ a x, ((![v800] : Fin 1 → IVec S16 32) a x).toNat < S88320.size a)
theorem k1_idx742_inb : ∀ (v800 : IVec S16 32) (k1_hw742 : k1_chk742 v800), ∀ a x, ((![v800] : Fin 1 → IVec S16 32) a x).toNat < S88320.size a := fun v800 k1_hw742 => k1_hw742

def k1_chk743 (v804 : IVec S16 32) : Prop :=
  (∀ a x, ((![v804] : Fin 1 → IVec S16 32) a x).toNat < S88320.size a)
theorem k1_idx743_inb : ∀ (v804 : IVec S16 32) (k1_hw743 : k1_chk743 v804), ∀ a x, ((![v804] : Fin 1 → IVec S16 32) a x).toNat < S88320.size a := fun v804 k1_hw743 => k1_hw743

def k1_chk744 (v808 : IVec S16 32) : Prop :=
  (∀ a x, ((![v808] : Fin 1 → IVec S16 32) a x).toNat < S88320.size a)
theorem k1_idx744_inb : ∀ (v808 : IVec S16 32) (k1_hw744 : k1_chk744 v808), ∀ a x, ((![v808] : Fin 1 → IVec S16 32) a x).toNat < S88320.size a := fun v808 k1_hw744 => k1_hw744

def k1_chk745 (v812 : IVec S16 32) : Prop :=
  (∀ a x, ((![v812] : Fin 1 → IVec S16 32) a x).toNat < S88320.size a)
theorem k1_idx745_inb : ∀ (v812 : IVec S16 32) (k1_hw745 : k1_chk745 v812), ∀ a x, ((![v812] : Fin 1 → IVec S16 32) a x).toNat < S88320.size a := fun v812 k1_hw745 => k1_hw745

def k1_chk746 (v816 : IVec S16 32) : Prop :=
  (∀ a x, ((![v816] : Fin 1 → IVec S16 32) a x).toNat < S88320.size a)
theorem k1_idx746_inb : ∀ (v816 : IVec S16 32) (k1_hw746 : k1_chk746 v816), ∀ a x, ((![v816] : Fin 1 → IVec S16 32) a x).toNat < S88320.size a := fun v816 k1_hw746 => k1_hw746

def k1_chk747 (v820 : IVec S16 32) : Prop :=
  (∀ a x, ((![v820] : Fin 1 → IVec S16 32) a x).toNat < S88320.size a)
theorem k1_idx747_inb : ∀ (v820 : IVec S16 32) (k1_hw747 : k1_chk747 v820), ∀ a x, ((![v820] : Fin 1 → IVec S16 32) a x).toNat < S88320.size a := fun v820 k1_hw747 => k1_hw747

def k1_chk748 (v824 : IVec S16 32) : Prop :=
  (∀ a x, ((![v824] : Fin 1 → IVec S16 32) a x).toNat < S88320.size a)
theorem k1_idx748_inb : ∀ (v824 : IVec S16 32) (k1_hw748 : k1_chk748 v824), ∀ a x, ((![v824] : Fin 1 → IVec S16 32) a x).toNat < S88320.size a := fun v824 k1_hw748 => k1_hw748

def k1_chk749 (v828 : IVec S16 32) : Prop :=
  (∀ a x, ((![v828] : Fin 1 → IVec S16 32) a x).toNat < S88320.size a)
theorem k1_idx749_inb : ∀ (v828 : IVec S16 32) (k1_hw749 : k1_chk749 v828), ∀ a x, ((![v828] : Fin 1 → IVec S16 32) a x).toNat < S88320.size a := fun v828 k1_hw749 => k1_hw749

def k1_chk750 (v832 : IVec S16 32) : Prop :=
  (∀ a x, ((![v832] : Fin 1 → IVec S16 32) a x).toNat < S88320.size a)
theorem k1_idx750_inb : ∀ (v832 : IVec S16 32) (k1_hw750 : k1_chk750 v832), ∀ a x, ((![v832] : Fin 1 → IVec S16 32) a x).toNat < S88320.size a := fun v832 k1_hw750 => k1_hw750

def k1_chk751 (v836 : IVec S16 32) : Prop :=
  (∀ a x, ((![v836] : Fin 1 → IVec S16 32) a x).toNat < S88320.size a)
theorem k1_idx751_inb : ∀ (v836 : IVec S16 32) (k1_hw751 : k1_chk751 v836), ∀ a x, ((![v836] : Fin 1 → IVec S16 32) a x).toNat < S88320.size a := fun v836 k1_hw751 => k1_hw751

def k1_chk752 (v840 : IVec S16 32) : Prop :=
  (∀ a x, ((![v840] : Fin 1 → IVec S16 32) a x).toNat < S88320.size a)
theorem k1_idx752_inb : ∀ (v840 : IVec S16 32) (k1_hw752 : k1_chk752 v840), ∀ a x, ((![v840] : Fin 1 → IVec S16 32) a x).toNat < S88320.size a := fun v840 k1_hw752 => k1_hw752
def k1_off802 (i : grid1.Coords) : Fin 4 → Nat :=
  let c2_i32_600 : BitVec 32 := 2#32
  let c6_i32_601 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_602 : BitVec 32 := 0#32
  ![2, 6, v2.toNat, 0]
@[reducible] def k1_t49_loop : Scf.Loop 32 :=
  let c0_i32_609 : BitVec 32 := 0#32
  let c32_i32_610 : BitVec 32 := 32#32
  let v441 : BitVec 32 := Scalar.addi c0_i32_609 c32_i32_610
  let c1_i32_611 : BitVec 32 := 1#32
  ⟨c0_i32_609, v441, c1_i32_611⟩
def k1_off803 (k1_t49 : Fin k1_t49_loop.trips) : Fin 2 → Nat :=
  let c0_i32_1152 : BitVec 32 := 0#32
  let v778 : Index := Scalar.indexCast c0_i32_1152
  let c0_i32_609 : BitVec 32 := 0#32
  let c1_i32_611 : BitVec 32 := 1#32
  let arg9 : BitVec 32 := Scf.iv c0_i32_609 c1_i32_611 k1_t49
  let c16_i32_1151 : BitVec 32 := 16#32
  let v777 : BitVec 32 := Scalar.muli arg9 c16_i32_1151
  let v779 : Index := Scalar.indexCast v777
  ![0, v779.toNat]
def k1_off804 (k1_t49 : Fin k1_t49_loop.trips) : Fin 2 → Nat :=
  let c1_i32_1154 : BitVec 32 := 1#32
  let v782 : Index := Scalar.indexCast c1_i32_1154
  let c0_i32_609 : BitVec 32 := 0#32
  let c1_i32_611 : BitVec 32 := 1#32
  let arg9 : BitVec 32 := Scf.iv c0_i32_609 c1_i32_611 k1_t49
  let c16_i32_1153 : BitVec 32 := 16#32
  let v781 : BitVec 32 := Scalar.muli arg9 c16_i32_1153
  let v783 : Index := Scalar.indexCast v781
  ![1, v783.toNat]
def k1_off805 (k1_t49 : Fin k1_t49_loop.trips) : Fin 2 → Nat :=
  let c2_i32_1156 : BitVec 32 := 2#32
  let v786 : Index := Scalar.indexCast c2_i32_1156
  let c0_i32_609 : BitVec 32 := 0#32
  let c1_i32_611 : BitVec 32 := 1#32
  let arg9 : BitVec 32 := Scf.iv c0_i32_609 c1_i32_611 k1_t49
  let c16_i32_1155 : BitVec 32 := 16#32
  let v785 : BitVec 32 := Scalar.muli arg9 c16_i32_1155
  let v787 : Index := Scalar.indexCast v785
  ![2, v787.toNat]
def k1_off806 (k1_t49 : Fin k1_t49_loop.trips) : Fin 2 → Nat :=
  let c3_i32_1158 : BitVec 32 := 3#32
  let v790 : Index := Scalar.indexCast c3_i32_1158
  let c0_i32_609 : BitVec 32 := 0#32
  let c1_i32_611 : BitVec 32 := 1#32
  let arg9 : BitVec 32 := Scf.iv c0_i32_609 c1_i32_611 k1_t49
  let c16_i32_1157 : BitVec 32 := 16#32
  let v789 : BitVec 32 := Scalar.muli arg9 c16_i32_1157
  let v791 : Index := Scalar.indexCast v789
  ![3, v791.toNat]
def k1_off807 (k1_t49 : Fin k1_t49_loop.trips) : Fin 2 → Nat :=
  let c4_i32_1160 : BitVec 32 := 4#32
  let v794 : Index := Scalar.indexCast c4_i32_1160
  let c0_i32_609 : BitVec 32 := 0#32
  let c1_i32_611 : BitVec 32 := 1#32
  let arg9 : BitVec 32 := Scf.iv c0_i32_609 c1_i32_611 k1_t49
  let c16_i32_1159 : BitVec 32 := 16#32
  let v793 : BitVec 32 := Scalar.muli arg9 c16_i32_1159
  let v795 : Index := Scalar.indexCast v793
  ![4, v795.toNat]
def k1_off808 (k1_t49 : Fin k1_t49_loop.trips) : Fin 2 → Nat :=
  let c5_i32_1162 : BitVec 32 := 5#32
  let v798 : Index := Scalar.indexCast c5_i32_1162
  let c0_i32_609 : BitVec 32 := 0#32
  let c1_i32_611 : BitVec 32 := 1#32
  let arg9 : BitVec 32 := Scf.iv c0_i32_609 c1_i32_611 k1_t49
  let c16_i32_1161 : BitVec 32 := 16#32
  let v797 : BitVec 32 := Scalar.muli arg9 c16_i32_1161
  let v799 : Index := Scalar.indexCast v797
  ![5, v799.toNat]
def k1_off809 (k1_t49 : Fin k1_t49_loop.trips) : Fin 2 → Nat :=
  let c6_i32_1164 : BitVec 32 := 6#32
  let v802 : Index := Scalar.indexCast c6_i32_1164
  let c0_i32_609 : BitVec 32 := 0#32
  let c1_i32_611 : BitVec 32 := 1#32
  let arg9 : BitVec 32 := Scf.iv c0_i32_609 c1_i32_611 k1_t49
  let c16_i32_1163 : BitVec 32 := 16#32
  let v801 : BitVec 32 := Scalar.muli arg9 c16_i32_1163
  let v803 : Index := Scalar.indexCast v801
  ![6, v803.toNat]
def k1_off810 (k1_t49 : Fin k1_t49_loop.trips) : Fin 2 → Nat :=
  let c7_i32_1166 : BitVec 32 := 7#32
  let v806 : Index := Scalar.indexCast c7_i32_1166
  let c0_i32_609 : BitVec 32 := 0#32
  let c1_i32_611 : BitVec 32 := 1#32
  let arg9 : BitVec 32 := Scf.iv c0_i32_609 c1_i32_611 k1_t49
  let c16_i32_1165 : BitVec 32 := 16#32
  let v805 : BitVec 32 := Scalar.muli arg9 c16_i32_1165
  let v807 : Index := Scalar.indexCast v805
  ![7, v807.toNat]
def k1_off811 (k1_t49 : Fin k1_t49_loop.trips) : Fin 2 → Nat :=
  let c8_i32_1168 : BitVec 32 := 8#32
  let v810 : Index := Scalar.indexCast c8_i32_1168
  let c0_i32_609 : BitVec 32 := 0#32
  let c1_i32_611 : BitVec 32 := 1#32
  let arg9 : BitVec 32 := Scf.iv c0_i32_609 c1_i32_611 k1_t49
  let c16_i32_1167 : BitVec 32 := 16#32
  let v809 : BitVec 32 := Scalar.muli arg9 c16_i32_1167
  let v811 : Index := Scalar.indexCast v809
  ![8, v811.toNat]
def k1_off812 (k1_t49 : Fin k1_t49_loop.trips) : Fin 2 → Nat :=
  let c9_i32_1170 : BitVec 32 := 9#32
  let v814 : Index := Scalar.indexCast c9_i32_1170
  let c0_i32_609 : BitVec 32 := 0#32
  let c1_i32_611 : BitVec 32 := 1#32
  let arg9 : BitVec 32 := Scf.iv c0_i32_609 c1_i32_611 k1_t49
  let c16_i32_1169 : BitVec 32 := 16#32
  let v813 : BitVec 32 := Scalar.muli arg9 c16_i32_1169
  let v815 : Index := Scalar.indexCast v813
  ![9, v815.toNat]
def k1_off813 (k1_t49 : Fin k1_t49_loop.trips) : Fin 2 → Nat :=
  let c10_i32_1172 : BitVec 32 := 10#32
  let v818 : Index := Scalar.indexCast c10_i32_1172
  let c0_i32_609 : BitVec 32 := 0#32
  let c1_i32_611 : BitVec 32 := 1#32
  let arg9 : BitVec 32 := Scf.iv c0_i32_609 c1_i32_611 k1_t49
  let c16_i32_1171 : BitVec 32 := 16#32
  let v817 : BitVec 32 := Scalar.muli arg9 c16_i32_1171
  let v819 : Index := Scalar.indexCast v817
  ![10, v819.toNat]
def k1_off814 (k1_t49 : Fin k1_t49_loop.trips) : Fin 2 → Nat :=
  let c11_i32_1174 : BitVec 32 := 11#32
  let v822 : Index := Scalar.indexCast c11_i32_1174
  let c0_i32_609 : BitVec 32 := 0#32
  let c1_i32_611 : BitVec 32 := 1#32
  let arg9 : BitVec 32 := Scf.iv c0_i32_609 c1_i32_611 k1_t49
  let c16_i32_1173 : BitVec 32 := 16#32
  let v821 : BitVec 32 := Scalar.muli arg9 c16_i32_1173
  let v823 : Index := Scalar.indexCast v821
  ![11, v823.toNat]
def k1_off815 (k1_t49 : Fin k1_t49_loop.trips) : Fin 2 → Nat :=
  let c12_i32_1176 : BitVec 32 := 12#32
  let v826 : Index := Scalar.indexCast c12_i32_1176
  let c0_i32_609 : BitVec 32 := 0#32
  let c1_i32_611 : BitVec 32 := 1#32
  let arg9 : BitVec 32 := Scf.iv c0_i32_609 c1_i32_611 k1_t49
  let c16_i32_1175 : BitVec 32 := 16#32
  let v825 : BitVec 32 := Scalar.muli arg9 c16_i32_1175
  let v827 : Index := Scalar.indexCast v825
  ![12, v827.toNat]
def k1_off816 (k1_t49 : Fin k1_t49_loop.trips) : Fin 2 → Nat :=
  let c13_i32_1178 : BitVec 32 := 13#32
  let v830 : Index := Scalar.indexCast c13_i32_1178
  let c0_i32_609 : BitVec 32 := 0#32
  let c1_i32_611 : BitVec 32 := 1#32
  let arg9 : BitVec 32 := Scf.iv c0_i32_609 c1_i32_611 k1_t49
  let c16_i32_1177 : BitVec 32 := 16#32
  let v829 : BitVec 32 := Scalar.muli arg9 c16_i32_1177
  let v831 : Index := Scalar.indexCast v829
  ![13, v831.toNat]
def k1_off817 (k1_t49 : Fin k1_t49_loop.trips) : Fin 2 → Nat :=
  let c14_i32_1180 : BitVec 32 := 14#32
  let v834 : Index := Scalar.indexCast c14_i32_1180
  let c0_i32_609 : BitVec 32 := 0#32
  let c1_i32_611 : BitVec 32 := 1#32
  let arg9 : BitVec 32 := Scf.iv c0_i32_609 c1_i32_611 k1_t49
  let c16_i32_1179 : BitVec 32 := 16#32
  let v833 : BitVec 32 := Scalar.muli arg9 c16_i32_1179
  let v835 : Index := Scalar.indexCast v833
  ![14, v835.toNat]
def k1_off818 (k1_t49 : Fin k1_t49_loop.trips) : Fin 2 → Nat :=
  let c15_i32_1182 : BitVec 32 := 15#32
  let v838 : Index := Scalar.indexCast c15_i32_1182
  let c0_i32_609 : BitVec 32 := 0#32
  let c1_i32_611 : BitVec 32 := 1#32
  let arg9 : BitVec 32 := Scf.iv c0_i32_609 c1_i32_611 k1_t49
  let c16_i32_1181 : BitVec 32 := 16#32
  let v837 : BitVec 32 := Scalar.muli arg9 c16_i32_1181
  let v839 : Index := Scalar.indexCast v837
  ![15, v839.toNat]

def k1_chk753 (v780 : IVec S16 32) : Prop :=
  (∀ a x, ((![v780] : Fin 1 → IVec S16 32) a x).toNat < S88320.size a)
theorem k1_idx753_inb : ∀ (v780 : IVec S16 32) (k1_hw753 : k1_chk753 v780), ∀ a x, ((![v780] : Fin 1 → IVec S16 32) a x).toNat < S88320.size a := fun v780 k1_hw753 => k1_hw753

def k1_chk754 (v784 : IVec S16 32) : Prop :=
  (∀ a x, ((![v784] : Fin 1 → IVec S16 32) a x).toNat < S88320.size a)
theorem k1_idx754_inb : ∀ (v784 : IVec S16 32) (k1_hw754 : k1_chk754 v784), ∀ a x, ((![v784] : Fin 1 → IVec S16 32) a x).toNat < S88320.size a := fun v784 k1_hw754 => k1_hw754

def k1_chk755 (v788 : IVec S16 32) : Prop :=
  (∀ a x, ((![v788] : Fin 1 → IVec S16 32) a x).toNat < S88320.size a)
theorem k1_idx755_inb : ∀ (v788 : IVec S16 32) (k1_hw755 : k1_chk755 v788), ∀ a x, ((![v788] : Fin 1 → IVec S16 32) a x).toNat < S88320.size a := fun v788 k1_hw755 => k1_hw755

def k1_chk756 (v792 : IVec S16 32) : Prop :=
  (∀ a x, ((![v792] : Fin 1 → IVec S16 32) a x).toNat < S88320.size a)
theorem k1_idx756_inb : ∀ (v792 : IVec S16 32) (k1_hw756 : k1_chk756 v792), ∀ a x, ((![v792] : Fin 1 → IVec S16 32) a x).toNat < S88320.size a := fun v792 k1_hw756 => k1_hw756

def k1_chk757 (v796 : IVec S16 32) : Prop :=
  (∀ a x, ((![v796] : Fin 1 → IVec S16 32) a x).toNat < S88320.size a)
theorem k1_idx757_inb : ∀ (v796 : IVec S16 32) (k1_hw757 : k1_chk757 v796), ∀ a x, ((![v796] : Fin 1 → IVec S16 32) a x).toNat < S88320.size a := fun v796 k1_hw757 => k1_hw757

def k1_chk758 (v800 : IVec S16 32) : Prop :=
  (∀ a x, ((![v800] : Fin 1 → IVec S16 32) a x).toNat < S88320.size a)
theorem k1_idx758_inb : ∀ (v800 : IVec S16 32) (k1_hw758 : k1_chk758 v800), ∀ a x, ((![v800] : Fin 1 → IVec S16 32) a x).toNat < S88320.size a := fun v800 k1_hw758 => k1_hw758

def k1_chk759 (v804 : IVec S16 32) : Prop :=
  (∀ a x, ((![v804] : Fin 1 → IVec S16 32) a x).toNat < S88320.size a)
theorem k1_idx759_inb : ∀ (v804 : IVec S16 32) (k1_hw759 : k1_chk759 v804), ∀ a x, ((![v804] : Fin 1 → IVec S16 32) a x).toNat < S88320.size a := fun v804 k1_hw759 => k1_hw759

def k1_chk760 (v808 : IVec S16 32) : Prop :=
  (∀ a x, ((![v808] : Fin 1 → IVec S16 32) a x).toNat < S88320.size a)
theorem k1_idx760_inb : ∀ (v808 : IVec S16 32) (k1_hw760 : k1_chk760 v808), ∀ a x, ((![v808] : Fin 1 → IVec S16 32) a x).toNat < S88320.size a := fun v808 k1_hw760 => k1_hw760

def k1_chk761 (v812 : IVec S16 32) : Prop :=
  (∀ a x, ((![v812] : Fin 1 → IVec S16 32) a x).toNat < S88320.size a)
theorem k1_idx761_inb : ∀ (v812 : IVec S16 32) (k1_hw761 : k1_chk761 v812), ∀ a x, ((![v812] : Fin 1 → IVec S16 32) a x).toNat < S88320.size a := fun v812 k1_hw761 => k1_hw761

def k1_chk762 (v816 : IVec S16 32) : Prop :=
  (∀ a x, ((![v816] : Fin 1 → IVec S16 32) a x).toNat < S88320.size a)
theorem k1_idx762_inb : ∀ (v816 : IVec S16 32) (k1_hw762 : k1_chk762 v816), ∀ a x, ((![v816] : Fin 1 → IVec S16 32) a x).toNat < S88320.size a := fun v816 k1_hw762 => k1_hw762

def k1_chk763 (v820 : IVec S16 32) : Prop :=
  (∀ a x, ((![v820] : Fin 1 → IVec S16 32) a x).toNat < S88320.size a)
theorem k1_idx763_inb : ∀ (v820 : IVec S16 32) (k1_hw763 : k1_chk763 v820), ∀ a x, ((![v820] : Fin 1 → IVec S16 32) a x).toNat < S88320.size a := fun v820 k1_hw763 => k1_hw763

def k1_chk764 (v824 : IVec S16 32) : Prop :=
  (∀ a x, ((![v824] : Fin 1 → IVec S16 32) a x).toNat < S88320.size a)
theorem k1_idx764_inb : ∀ (v824 : IVec S16 32) (k1_hw764 : k1_chk764 v824), ∀ a x, ((![v824] : Fin 1 → IVec S16 32) a x).toNat < S88320.size a := fun v824 k1_hw764 => k1_hw764

def k1_chk765 (v828 : IVec S16 32) : Prop :=
  (∀ a x, ((![v828] : Fin 1 → IVec S16 32) a x).toNat < S88320.size a)
theorem k1_idx765_inb : ∀ (v828 : IVec S16 32) (k1_hw765 : k1_chk765 v828), ∀ a x, ((![v828] : Fin 1 → IVec S16 32) a x).toNat < S88320.size a := fun v828 k1_hw765 => k1_hw765

def k1_chk766 (v832 : IVec S16 32) : Prop :=
  (∀ a x, ((![v832] : Fin 1 → IVec S16 32) a x).toNat < S88320.size a)
theorem k1_idx766_inb : ∀ (v832 : IVec S16 32) (k1_hw766 : k1_chk766 v832), ∀ a x, ((![v832] : Fin 1 → IVec S16 32) a x).toNat < S88320.size a := fun v832 k1_hw766 => k1_hw766

def k1_chk767 (v836 : IVec S16 32) : Prop :=
  (∀ a x, ((![v836] : Fin 1 → IVec S16 32) a x).toNat < S88320.size a)
theorem k1_idx767_inb : ∀ (v836 : IVec S16 32) (k1_hw767 : k1_chk767 v836), ∀ a x, ((![v836] : Fin 1 → IVec S16 32) a x).toNat < S88320.size a := fun v836 k1_hw767 => k1_hw767

def k1_chk768 (v840 : IVec S16 32) : Prop :=
  (∀ a x, ((![v840] : Fin 1 → IVec S16 32) a x).toNat < S88320.size a)
theorem k1_idx768_inb : ∀ (v840 : IVec S16 32) (k1_hw768 : k1_chk768 v840), ∀ a x, ((![v840] : Fin 1 → IVec S16 32) a x).toNat < S88320.size a := fun v840 k1_hw768 => k1_hw768
def k1_off819 (i : grid1.Coords) : Fin 4 → Nat :=
  let c2_i32_613 : BitVec 32 := 2#32
  let c7_i32_614 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_615 : BitVec 32 := 0#32
  ![2, 7, v2.toNat, 0]
@[reducible] def k1_t50_loop : Scf.Loop 32 :=
  let c0_i32_622 : BitVec 32 := 0#32
  let c32_i32_623 : BitVec 32 := 32#32
  let v450 : BitVec 32 := Scalar.addi c0_i32_622 c32_i32_623
  let c1_i32_624 : BitVec 32 := 1#32
  ⟨c0_i32_622, v450, c1_i32_624⟩
def k1_off820 (k1_t50 : Fin k1_t50_loop.trips) : Fin 2 → Nat :=
  let c0_i32_1152 : BitVec 32 := 0#32
  let v778 : Index := Scalar.indexCast c0_i32_1152
  let c0_i32_622 : BitVec 32 := 0#32
  let c1_i32_624 : BitVec 32 := 1#32
  let arg9 : BitVec 32 := Scf.iv c0_i32_622 c1_i32_624 k1_t50
  let c16_i32_1151 : BitVec 32 := 16#32
  let v777 : BitVec 32 := Scalar.muli arg9 c16_i32_1151
  let v779 : Index := Scalar.indexCast v777
  ![0, v779.toNat]
def k1_off821 (k1_t50 : Fin k1_t50_loop.trips) : Fin 2 → Nat :=
  let c1_i32_1154 : BitVec 32 := 1#32
  let v782 : Index := Scalar.indexCast c1_i32_1154
  let c0_i32_622 : BitVec 32 := 0#32
  let c1_i32_624 : BitVec 32 := 1#32
  let arg9 : BitVec 32 := Scf.iv c0_i32_622 c1_i32_624 k1_t50
  let c16_i32_1153 : BitVec 32 := 16#32
  let v781 : BitVec 32 := Scalar.muli arg9 c16_i32_1153
  let v783 : Index := Scalar.indexCast v781
  ![1, v783.toNat]
def k1_off822 (k1_t50 : Fin k1_t50_loop.trips) : Fin 2 → Nat :=
  let c2_i32_1156 : BitVec 32 := 2#32
  let v786 : Index := Scalar.indexCast c2_i32_1156
  let c0_i32_622 : BitVec 32 := 0#32
  let c1_i32_624 : BitVec 32 := 1#32
  let arg9 : BitVec 32 := Scf.iv c0_i32_622 c1_i32_624 k1_t50
  let c16_i32_1155 : BitVec 32 := 16#32
  let v785 : BitVec 32 := Scalar.muli arg9 c16_i32_1155
  let v787 : Index := Scalar.indexCast v785
  ![2, v787.toNat]
def k1_off823 (k1_t50 : Fin k1_t50_loop.trips) : Fin 2 → Nat :=
  let c3_i32_1158 : BitVec 32 := 3#32
  let v790 : Index := Scalar.indexCast c3_i32_1158
  let c0_i32_622 : BitVec 32 := 0#32
  let c1_i32_624 : BitVec 32 := 1#32
  let arg9 : BitVec 32 := Scf.iv c0_i32_622 c1_i32_624 k1_t50
  let c16_i32_1157 : BitVec 32 := 16#32
  let v789 : BitVec 32 := Scalar.muli arg9 c16_i32_1157
  let v791 : Index := Scalar.indexCast v789
  ![3, v791.toNat]
def k1_off824 (k1_t50 : Fin k1_t50_loop.trips) : Fin 2 → Nat :=
  let c4_i32_1160 : BitVec 32 := 4#32
  let v794 : Index := Scalar.indexCast c4_i32_1160
  let c0_i32_622 : BitVec 32 := 0#32
  let c1_i32_624 : BitVec 32 := 1#32
  let arg9 : BitVec 32 := Scf.iv c0_i32_622 c1_i32_624 k1_t50
  let c16_i32_1159 : BitVec 32 := 16#32
  let v793 : BitVec 32 := Scalar.muli arg9 c16_i32_1159
  let v795 : Index := Scalar.indexCast v793
  ![4, v795.toNat]
def k1_off825 (k1_t50 : Fin k1_t50_loop.trips) : Fin 2 → Nat :=
  let c5_i32_1162 : BitVec 32 := 5#32
  let v798 : Index := Scalar.indexCast c5_i32_1162
  let c0_i32_622 : BitVec 32 := 0#32
  let c1_i32_624 : BitVec 32 := 1#32
  let arg9 : BitVec 32 := Scf.iv c0_i32_622 c1_i32_624 k1_t50
  let c16_i32_1161 : BitVec 32 := 16#32
  let v797 : BitVec 32 := Scalar.muli arg9 c16_i32_1161
  let v799 : Index := Scalar.indexCast v797
  ![5, v799.toNat]
def k1_off826 (k1_t50 : Fin k1_t50_loop.trips) : Fin 2 → Nat :=
  let c6_i32_1164 : BitVec 32 := 6#32
  let v802 : Index := Scalar.indexCast c6_i32_1164
  let c0_i32_622 : BitVec 32 := 0#32
  let c1_i32_624 : BitVec 32 := 1#32
  let arg9 : BitVec 32 := Scf.iv c0_i32_622 c1_i32_624 k1_t50
  let c16_i32_1163 : BitVec 32 := 16#32
  let v801 : BitVec 32 := Scalar.muli arg9 c16_i32_1163
  let v803 : Index := Scalar.indexCast v801
  ![6, v803.toNat]
def k1_off827 (k1_t50 : Fin k1_t50_loop.trips) : Fin 2 → Nat :=
  let c7_i32_1166 : BitVec 32 := 7#32
  let v806 : Index := Scalar.indexCast c7_i32_1166
  let c0_i32_622 : BitVec 32 := 0#32
  let c1_i32_624 : BitVec 32 := 1#32
  let arg9 : BitVec 32 := Scf.iv c0_i32_622 c1_i32_624 k1_t50
  let c16_i32_1165 : BitVec 32 := 16#32
  let v805 : BitVec 32 := Scalar.muli arg9 c16_i32_1165
  let v807 : Index := Scalar.indexCast v805
  ![7, v807.toNat]
def k1_off828 (k1_t50 : Fin k1_t50_loop.trips) : Fin 2 → Nat :=
  let c8_i32_1168 : BitVec 32 := 8#32
  let v810 : Index := Scalar.indexCast c8_i32_1168
  let c0_i32_622 : BitVec 32 := 0#32
  let c1_i32_624 : BitVec 32 := 1#32
  let arg9 : BitVec 32 := Scf.iv c0_i32_622 c1_i32_624 k1_t50
  let c16_i32_1167 : BitVec 32 := 16#32
  let v809 : BitVec 32 := Scalar.muli arg9 c16_i32_1167
  let v811 : Index := Scalar.indexCast v809
  ![8, v811.toNat]
def k1_off829 (k1_t50 : Fin k1_t50_loop.trips) : Fin 2 → Nat :=
  let c9_i32_1170 : BitVec 32 := 9#32
  let v814 : Index := Scalar.indexCast c9_i32_1170
  let c0_i32_622 : BitVec 32 := 0#32
  let c1_i32_624 : BitVec 32 := 1#32
  let arg9 : BitVec 32 := Scf.iv c0_i32_622 c1_i32_624 k1_t50
  let c16_i32_1169 : BitVec 32 := 16#32
  let v813 : BitVec 32 := Scalar.muli arg9 c16_i32_1169
  let v815 : Index := Scalar.indexCast v813
  ![9, v815.toNat]
def k1_off830 (k1_t50 : Fin k1_t50_loop.trips) : Fin 2 → Nat :=
  let c10_i32_1172 : BitVec 32 := 10#32
  let v818 : Index := Scalar.indexCast c10_i32_1172
  let c0_i32_622 : BitVec 32 := 0#32
  let c1_i32_624 : BitVec 32 := 1#32
  let arg9 : BitVec 32 := Scf.iv c0_i32_622 c1_i32_624 k1_t50
  let c16_i32_1171 : BitVec 32 := 16#32
  let v817 : BitVec 32 := Scalar.muli arg9 c16_i32_1171
  let v819 : Index := Scalar.indexCast v817
  ![10, v819.toNat]
def k1_off831 (k1_t50 : Fin k1_t50_loop.trips) : Fin 2 → Nat :=
  let c11_i32_1174 : BitVec 32 := 11#32
  let v822 : Index := Scalar.indexCast c11_i32_1174
  let c0_i32_622 : BitVec 32 := 0#32
  let c1_i32_624 : BitVec 32 := 1#32
  let arg9 : BitVec 32 := Scf.iv c0_i32_622 c1_i32_624 k1_t50
  let c16_i32_1173 : BitVec 32 := 16#32
  let v821 : BitVec 32 := Scalar.muli arg9 c16_i32_1173
  let v823 : Index := Scalar.indexCast v821
  ![11, v823.toNat]
def k1_off832 (k1_t50 : Fin k1_t50_loop.trips) : Fin 2 → Nat :=
  let c12_i32_1176 : BitVec 32 := 12#32
  let v826 : Index := Scalar.indexCast c12_i32_1176
  let c0_i32_622 : BitVec 32 := 0#32
  let c1_i32_624 : BitVec 32 := 1#32
  let arg9 : BitVec 32 := Scf.iv c0_i32_622 c1_i32_624 k1_t50
  let c16_i32_1175 : BitVec 32 := 16#32
  let v825 : BitVec 32 := Scalar.muli arg9 c16_i32_1175
  let v827 : Index := Scalar.indexCast v825
  ![12, v827.toNat]
def k1_off833 (k1_t50 : Fin k1_t50_loop.trips) : Fin 2 → Nat :=
  let c13_i32_1178 : BitVec 32 := 13#32
  let v830 : Index := Scalar.indexCast c13_i32_1178
  let c0_i32_622 : BitVec 32 := 0#32
  let c1_i32_624 : BitVec 32 := 1#32
  let arg9 : BitVec 32 := Scf.iv c0_i32_622 c1_i32_624 k1_t50
  let c16_i32_1177 : BitVec 32 := 16#32
  let v829 : BitVec 32 := Scalar.muli arg9 c16_i32_1177
  let v831 : Index := Scalar.indexCast v829
  ![13, v831.toNat]
def k1_off834 (k1_t50 : Fin k1_t50_loop.trips) : Fin 2 → Nat :=
  let c14_i32_1180 : BitVec 32 := 14#32
  let v834 : Index := Scalar.indexCast c14_i32_1180
  let c0_i32_622 : BitVec 32 := 0#32
  let c1_i32_624 : BitVec 32 := 1#32
  let arg9 : BitVec 32 := Scf.iv c0_i32_622 c1_i32_624 k1_t50
  let c16_i32_1179 : BitVec 32 := 16#32
  let v833 : BitVec 32 := Scalar.muli arg9 c16_i32_1179
  let v835 : Index := Scalar.indexCast v833
  ![14, v835.toNat]
def k1_off835 (k1_t50 : Fin k1_t50_loop.trips) : Fin 2 → Nat :=
  let c15_i32_1182 : BitVec 32 := 15#32
  let v838 : Index := Scalar.indexCast c15_i32_1182
  let c0_i32_622 : BitVec 32 := 0#32
  let c1_i32_624 : BitVec 32 := 1#32
  let arg9 : BitVec 32 := Scf.iv c0_i32_622 c1_i32_624 k1_t50
  let c16_i32_1181 : BitVec 32 := 16#32
  let v837 : BitVec 32 := Scalar.muli arg9 c16_i32_1181
  let v839 : Index := Scalar.indexCast v837
  ![15, v839.toNat]

def k1_chk769 (v780 : IVec S16 32) : Prop :=
  (∀ a x, ((![v780] : Fin 1 → IVec S16 32) a x).toNat < S88320.size a)
theorem k1_idx769_inb : ∀ (v780 : IVec S16 32) (k1_hw769 : k1_chk769 v780), ∀ a x, ((![v780] : Fin 1 → IVec S16 32) a x).toNat < S88320.size a := fun v780 k1_hw769 => k1_hw769

def k1_chk770 (v784 : IVec S16 32) : Prop :=
  (∀ a x, ((![v784] : Fin 1 → IVec S16 32) a x).toNat < S88320.size a)
theorem k1_idx770_inb : ∀ (v784 : IVec S16 32) (k1_hw770 : k1_chk770 v784), ∀ a x, ((![v784] : Fin 1 → IVec S16 32) a x).toNat < S88320.size a := fun v784 k1_hw770 => k1_hw770

def k1_chk771 (v788 : IVec S16 32) : Prop :=
  (∀ a x, ((![v788] : Fin 1 → IVec S16 32) a x).toNat < S88320.size a)
theorem k1_idx771_inb : ∀ (v788 : IVec S16 32) (k1_hw771 : k1_chk771 v788), ∀ a x, ((![v788] : Fin 1 → IVec S16 32) a x).toNat < S88320.size a := fun v788 k1_hw771 => k1_hw771

def k1_chk772 (v792 : IVec S16 32) : Prop :=
  (∀ a x, ((![v792] : Fin 1 → IVec S16 32) a x).toNat < S88320.size a)
theorem k1_idx772_inb : ∀ (v792 : IVec S16 32) (k1_hw772 : k1_chk772 v792), ∀ a x, ((![v792] : Fin 1 → IVec S16 32) a x).toNat < S88320.size a := fun v792 k1_hw772 => k1_hw772

def k1_chk773 (v796 : IVec S16 32) : Prop :=
  (∀ a x, ((![v796] : Fin 1 → IVec S16 32) a x).toNat < S88320.size a)
theorem k1_idx773_inb : ∀ (v796 : IVec S16 32) (k1_hw773 : k1_chk773 v796), ∀ a x, ((![v796] : Fin 1 → IVec S16 32) a x).toNat < S88320.size a := fun v796 k1_hw773 => k1_hw773

def k1_chk774 (v800 : IVec S16 32) : Prop :=
  (∀ a x, ((![v800] : Fin 1 → IVec S16 32) a x).toNat < S88320.size a)
theorem k1_idx774_inb : ∀ (v800 : IVec S16 32) (k1_hw774 : k1_chk774 v800), ∀ a x, ((![v800] : Fin 1 → IVec S16 32) a x).toNat < S88320.size a := fun v800 k1_hw774 => k1_hw774

def k1_chk775 (v804 : IVec S16 32) : Prop :=
  (∀ a x, ((![v804] : Fin 1 → IVec S16 32) a x).toNat < S88320.size a)
theorem k1_idx775_inb : ∀ (v804 : IVec S16 32) (k1_hw775 : k1_chk775 v804), ∀ a x, ((![v804] : Fin 1 → IVec S16 32) a x).toNat < S88320.size a := fun v804 k1_hw775 => k1_hw775

def k1_chk776 (v808 : IVec S16 32) : Prop :=
  (∀ a x, ((![v808] : Fin 1 → IVec S16 32) a x).toNat < S88320.size a)
theorem k1_idx776_inb : ∀ (v808 : IVec S16 32) (k1_hw776 : k1_chk776 v808), ∀ a x, ((![v808] : Fin 1 → IVec S16 32) a x).toNat < S88320.size a := fun v808 k1_hw776 => k1_hw776

def k1_chk777 (v812 : IVec S16 32) : Prop :=
  (∀ a x, ((![v812] : Fin 1 → IVec S16 32) a x).toNat < S88320.size a)
theorem k1_idx777_inb : ∀ (v812 : IVec S16 32) (k1_hw777 : k1_chk777 v812), ∀ a x, ((![v812] : Fin 1 → IVec S16 32) a x).toNat < S88320.size a := fun v812 k1_hw777 => k1_hw777

def k1_chk778 (v816 : IVec S16 32) : Prop :=
  (∀ a x, ((![v816] : Fin 1 → IVec S16 32) a x).toNat < S88320.size a)
theorem k1_idx778_inb : ∀ (v816 : IVec S16 32) (k1_hw778 : k1_chk778 v816), ∀ a x, ((![v816] : Fin 1 → IVec S16 32) a x).toNat < S88320.size a := fun v816 k1_hw778 => k1_hw778

def k1_chk779 (v820 : IVec S16 32) : Prop :=
  (∀ a x, ((![v820] : Fin 1 → IVec S16 32) a x).toNat < S88320.size a)
theorem k1_idx779_inb : ∀ (v820 : IVec S16 32) (k1_hw779 : k1_chk779 v820), ∀ a x, ((![v820] : Fin 1 → IVec S16 32) a x).toNat < S88320.size a := fun v820 k1_hw779 => k1_hw779

def k1_chk780 (v824 : IVec S16 32) : Prop :=
  (∀ a x, ((![v824] : Fin 1 → IVec S16 32) a x).toNat < S88320.size a)
theorem k1_idx780_inb : ∀ (v824 : IVec S16 32) (k1_hw780 : k1_chk780 v824), ∀ a x, ((![v824] : Fin 1 → IVec S16 32) a x).toNat < S88320.size a := fun v824 k1_hw780 => k1_hw780

def k1_chk781 (v828 : IVec S16 32) : Prop :=
  (∀ a x, ((![v828] : Fin 1 → IVec S16 32) a x).toNat < S88320.size a)
theorem k1_idx781_inb : ∀ (v828 : IVec S16 32) (k1_hw781 : k1_chk781 v828), ∀ a x, ((![v828] : Fin 1 → IVec S16 32) a x).toNat < S88320.size a := fun v828 k1_hw781 => k1_hw781

def k1_chk782 (v832 : IVec S16 32) : Prop :=
  (∀ a x, ((![v832] : Fin 1 → IVec S16 32) a x).toNat < S88320.size a)
theorem k1_idx782_inb : ∀ (v832 : IVec S16 32) (k1_hw782 : k1_chk782 v832), ∀ a x, ((![v832] : Fin 1 → IVec S16 32) a x).toNat < S88320.size a := fun v832 k1_hw782 => k1_hw782

def k1_chk783 (v836 : IVec S16 32) : Prop :=
  (∀ a x, ((![v836] : Fin 1 → IVec S16 32) a x).toNat < S88320.size a)
theorem k1_idx783_inb : ∀ (v836 : IVec S16 32) (k1_hw783 : k1_chk783 v836), ∀ a x, ((![v836] : Fin 1 → IVec S16 32) a x).toNat < S88320.size a := fun v836 k1_hw783 => k1_hw783

def k1_chk784 (v840 : IVec S16 32) : Prop :=
  (∀ a x, ((![v840] : Fin 1 → IVec S16 32) a x).toNat < S88320.size a)
theorem k1_idx784_inb : ∀ (v840 : IVec S16 32) (k1_hw784 : k1_chk784 v840), ∀ a x, ((![v840] : Fin 1 → IVec S16 32) a x).toNat < S88320.size a := fun v840 k1_hw784 => k1_hw784
def k1_off836 (i : grid1.Coords) : Fin 4 → Nat :=
  let c2_i32_626 : BitVec 32 := 2#32
  let c8_i32_627 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_628 : BitVec 32 := 0#32
  ![2, 8, v2.toNat, 0]
@[reducible] def k1_t51_loop : Scf.Loop 32 :=
  let c0_i32_635 : BitVec 32 := 0#32
  let c32_i32_636 : BitVec 32 := 32#32
  let v459 : BitVec 32 := Scalar.addi c0_i32_635 c32_i32_636
  let c1_i32_637 : BitVec 32 := 1#32
  ⟨c0_i32_635, v459, c1_i32_637⟩
def k1_off837 (k1_t51 : Fin k1_t51_loop.trips) : Fin 2 → Nat :=
  let c0_i32_1152 : BitVec 32 := 0#32
  let v778 : Index := Scalar.indexCast c0_i32_1152
  let c0_i32_635 : BitVec 32 := 0#32
  let c1_i32_637 : BitVec 32 := 1#32
  let arg9 : BitVec 32 := Scf.iv c0_i32_635 c1_i32_637 k1_t51
  let c16_i32_1151 : BitVec 32 := 16#32
  let v777 : BitVec 32 := Scalar.muli arg9 c16_i32_1151
  let v779 : Index := Scalar.indexCast v777
  ![0, v779.toNat]
def k1_off838 (k1_t51 : Fin k1_t51_loop.trips) : Fin 2 → Nat :=
  let c1_i32_1154 : BitVec 32 := 1#32
  let v782 : Index := Scalar.indexCast c1_i32_1154
  let c0_i32_635 : BitVec 32 := 0#32
  let c1_i32_637 : BitVec 32 := 1#32
  let arg9 : BitVec 32 := Scf.iv c0_i32_635 c1_i32_637 k1_t51
  let c16_i32_1153 : BitVec 32 := 16#32
  let v781 : BitVec 32 := Scalar.muli arg9 c16_i32_1153
  let v783 : Index := Scalar.indexCast v781
  ![1, v783.toNat]
def k1_off839 (k1_t51 : Fin k1_t51_loop.trips) : Fin 2 → Nat :=
  let c2_i32_1156 : BitVec 32 := 2#32
  let v786 : Index := Scalar.indexCast c2_i32_1156
  let c0_i32_635 : BitVec 32 := 0#32
  let c1_i32_637 : BitVec 32 := 1#32
  let arg9 : BitVec 32 := Scf.iv c0_i32_635 c1_i32_637 k1_t51
  let c16_i32_1155 : BitVec 32 := 16#32
  let v785 : BitVec 32 := Scalar.muli arg9 c16_i32_1155
  let v787 : Index := Scalar.indexCast v785
  ![2, v787.toNat]
def k1_off840 (k1_t51 : Fin k1_t51_loop.trips) : Fin 2 → Nat :=
  let c3_i32_1158 : BitVec 32 := 3#32
  let v790 : Index := Scalar.indexCast c3_i32_1158
  let c0_i32_635 : BitVec 32 := 0#32
  let c1_i32_637 : BitVec 32 := 1#32
  let arg9 : BitVec 32 := Scf.iv c0_i32_635 c1_i32_637 k1_t51
  let c16_i32_1157 : BitVec 32 := 16#32
  let v789 : BitVec 32 := Scalar.muli arg9 c16_i32_1157
  let v791 : Index := Scalar.indexCast v789
  ![3, v791.toNat]
def k1_off841 (k1_t51 : Fin k1_t51_loop.trips) : Fin 2 → Nat :=
  let c4_i32_1160 : BitVec 32 := 4#32
  let v794 : Index := Scalar.indexCast c4_i32_1160
  let c0_i32_635 : BitVec 32 := 0#32
  let c1_i32_637 : BitVec 32 := 1#32
  let arg9 : BitVec 32 := Scf.iv c0_i32_635 c1_i32_637 k1_t51
  let c16_i32_1159 : BitVec 32 := 16#32
  let v793 : BitVec 32 := Scalar.muli arg9 c16_i32_1159
  let v795 : Index := Scalar.indexCast v793
  ![4, v795.toNat]
def k1_off842 (k1_t51 : Fin k1_t51_loop.trips) : Fin 2 → Nat :=
  let c5_i32_1162 : BitVec 32 := 5#32
  let v798 : Index := Scalar.indexCast c5_i32_1162
  let c0_i32_635 : BitVec 32 := 0#32
  let c1_i32_637 : BitVec 32 := 1#32
  let arg9 : BitVec 32 := Scf.iv c0_i32_635 c1_i32_637 k1_t51
  let c16_i32_1161 : BitVec 32 := 16#32
  let v797 : BitVec 32 := Scalar.muli arg9 c16_i32_1161
  let v799 : Index := Scalar.indexCast v797
  ![5, v799.toNat]
def k1_off843 (k1_t51 : Fin k1_t51_loop.trips) : Fin 2 → Nat :=
  let c6_i32_1164 : BitVec 32 := 6#32
  let v802 : Index := Scalar.indexCast c6_i32_1164
  let c0_i32_635 : BitVec 32 := 0#32
  let c1_i32_637 : BitVec 32 := 1#32
  let arg9 : BitVec 32 := Scf.iv c0_i32_635 c1_i32_637 k1_t51
  let c16_i32_1163 : BitVec 32 := 16#32
  let v801 : BitVec 32 := Scalar.muli arg9 c16_i32_1163
  let v803 : Index := Scalar.indexCast v801
  ![6, v803.toNat]
def k1_off844 (k1_t51 : Fin k1_t51_loop.trips) : Fin 2 → Nat :=
  let c7_i32_1166 : BitVec 32 := 7#32
  let v806 : Index := Scalar.indexCast c7_i32_1166
  let c0_i32_635 : BitVec 32 := 0#32
  let c1_i32_637 : BitVec 32 := 1#32
  let arg9 : BitVec 32 := Scf.iv c0_i32_635 c1_i32_637 k1_t51
  let c16_i32_1165 : BitVec 32 := 16#32
  let v805 : BitVec 32 := Scalar.muli arg9 c16_i32_1165
  let v807 : Index := Scalar.indexCast v805
  ![7, v807.toNat]
def k1_off845 (k1_t51 : Fin k1_t51_loop.trips) : Fin 2 → Nat :=
  let c8_i32_1168 : BitVec 32 := 8#32
  let v810 : Index := Scalar.indexCast c8_i32_1168
  let c0_i32_635 : BitVec 32 := 0#32
  let c1_i32_637 : BitVec 32 := 1#32
  let arg9 : BitVec 32 := Scf.iv c0_i32_635 c1_i32_637 k1_t51
  let c16_i32_1167 : BitVec 32 := 16#32
  let v809 : BitVec 32 := Scalar.muli arg9 c16_i32_1167
  let v811 : Index := Scalar.indexCast v809
  ![8, v811.toNat]
def k1_off846 (k1_t51 : Fin k1_t51_loop.trips) : Fin 2 → Nat :=
  let c9_i32_1170 : BitVec 32 := 9#32
  let v814 : Index := Scalar.indexCast c9_i32_1170
  let c0_i32_635 : BitVec 32 := 0#32
  let c1_i32_637 : BitVec 32 := 1#32
  let arg9 : BitVec 32 := Scf.iv c0_i32_635 c1_i32_637 k1_t51
  let c16_i32_1169 : BitVec 32 := 16#32
  let v813 : BitVec 32 := Scalar.muli arg9 c16_i32_1169
  let v815 : Index := Scalar.indexCast v813
  ![9, v815.toNat]
def k1_off847 (k1_t51 : Fin k1_t51_loop.trips) : Fin 2 → Nat :=
  let c10_i32_1172 : BitVec 32 := 10#32
  let v818 : Index := Scalar.indexCast c10_i32_1172
  let c0_i32_635 : BitVec 32 := 0#32
  let c1_i32_637 : BitVec 32 := 1#32
  let arg9 : BitVec 32 := Scf.iv c0_i32_635 c1_i32_637 k1_t51
  let c16_i32_1171 : BitVec 32 := 16#32
  let v817 : BitVec 32 := Scalar.muli arg9 c16_i32_1171
  let v819 : Index := Scalar.indexCast v817
  ![10, v819.toNat]
def k1_off848 (k1_t51 : Fin k1_t51_loop.trips) : Fin 2 → Nat :=
  let c11_i32_1174 : BitVec 32 := 11#32
  let v822 : Index := Scalar.indexCast c11_i32_1174
  let c0_i32_635 : BitVec 32 := 0#32
  let c1_i32_637 : BitVec 32 := 1#32
  let arg9 : BitVec 32 := Scf.iv c0_i32_635 c1_i32_637 k1_t51
  let c16_i32_1173 : BitVec 32 := 16#32
  let v821 : BitVec 32 := Scalar.muli arg9 c16_i32_1173
  let v823 : Index := Scalar.indexCast v821
  ![11, v823.toNat]
def k1_off849 (k1_t51 : Fin k1_t51_loop.trips) : Fin 2 → Nat :=
  let c12_i32_1176 : BitVec 32 := 12#32
  let v826 : Index := Scalar.indexCast c12_i32_1176
  let c0_i32_635 : BitVec 32 := 0#32
  let c1_i32_637 : BitVec 32 := 1#32
  let arg9 : BitVec 32 := Scf.iv c0_i32_635 c1_i32_637 k1_t51
  let c16_i32_1175 : BitVec 32 := 16#32
  let v825 : BitVec 32 := Scalar.muli arg9 c16_i32_1175
  let v827 : Index := Scalar.indexCast v825
  ![12, v827.toNat]
def k1_off850 (k1_t51 : Fin k1_t51_loop.trips) : Fin 2 → Nat :=
  let c13_i32_1178 : BitVec 32 := 13#32
  let v830 : Index := Scalar.indexCast c13_i32_1178
  let c0_i32_635 : BitVec 32 := 0#32
  let c1_i32_637 : BitVec 32 := 1#32
  let arg9 : BitVec 32 := Scf.iv c0_i32_635 c1_i32_637 k1_t51
  let c16_i32_1177 : BitVec 32 := 16#32
  let v829 : BitVec 32 := Scalar.muli arg9 c16_i32_1177
  let v831 : Index := Scalar.indexCast v829
  ![13, v831.toNat]
def k1_off851 (k1_t51 : Fin k1_t51_loop.trips) : Fin 2 → Nat :=
  let c14_i32_1180 : BitVec 32 := 14#32
  let v834 : Index := Scalar.indexCast c14_i32_1180
  let c0_i32_635 : BitVec 32 := 0#32
  let c1_i32_637 : BitVec 32 := 1#32
  let arg9 : BitVec 32 := Scf.iv c0_i32_635 c1_i32_637 k1_t51
  let c16_i32_1179 : BitVec 32 := 16#32
  let v833 : BitVec 32 := Scalar.muli arg9 c16_i32_1179
  let v835 : Index := Scalar.indexCast v833
  ![14, v835.toNat]
def k1_off852 (k1_t51 : Fin k1_t51_loop.trips) : Fin 2 → Nat :=
  let c15_i32_1182 : BitVec 32 := 15#32
  let v838 : Index := Scalar.indexCast c15_i32_1182
  let c0_i32_635 : BitVec 32 := 0#32
  let c1_i32_637 : BitVec 32 := 1#32
  let arg9 : BitVec 32 := Scf.iv c0_i32_635 c1_i32_637 k1_t51
  let c16_i32_1181 : BitVec 32 := 16#32
  let v837 : BitVec 32 := Scalar.muli arg9 c16_i32_1181
  let v839 : Index := Scalar.indexCast v837
  ![15, v839.toNat]

def k1_chk785 (v780 : IVec S16 32) : Prop :=
  (∀ a x, ((![v780] : Fin 1 → IVec S16 32) a x).toNat < S88320.size a)
theorem k1_idx785_inb : ∀ (v780 : IVec S16 32) (k1_hw785 : k1_chk785 v780), ∀ a x, ((![v780] : Fin 1 → IVec S16 32) a x).toNat < S88320.size a := fun v780 k1_hw785 => k1_hw785

def k1_chk786 (v784 : IVec S16 32) : Prop :=
  (∀ a x, ((![v784] : Fin 1 → IVec S16 32) a x).toNat < S88320.size a)
theorem k1_idx786_inb : ∀ (v784 : IVec S16 32) (k1_hw786 : k1_chk786 v784), ∀ a x, ((![v784] : Fin 1 → IVec S16 32) a x).toNat < S88320.size a := fun v784 k1_hw786 => k1_hw786

def k1_chk787 (v788 : IVec S16 32) : Prop :=
  (∀ a x, ((![v788] : Fin 1 → IVec S16 32) a x).toNat < S88320.size a)
theorem k1_idx787_inb : ∀ (v788 : IVec S16 32) (k1_hw787 : k1_chk787 v788), ∀ a x, ((![v788] : Fin 1 → IVec S16 32) a x).toNat < S88320.size a := fun v788 k1_hw787 => k1_hw787

def k1_chk788 (v792 : IVec S16 32) : Prop :=
  (∀ a x, ((![v792] : Fin 1 → IVec S16 32) a x).toNat < S88320.size a)
theorem k1_idx788_inb : ∀ (v792 : IVec S16 32) (k1_hw788 : k1_chk788 v792), ∀ a x, ((![v792] : Fin 1 → IVec S16 32) a x).toNat < S88320.size a := fun v792 k1_hw788 => k1_hw788

def k1_chk789 (v796 : IVec S16 32) : Prop :=
  (∀ a x, ((![v796] : Fin 1 → IVec S16 32) a x).toNat < S88320.size a)
theorem k1_idx789_inb : ∀ (v796 : IVec S16 32) (k1_hw789 : k1_chk789 v796), ∀ a x, ((![v796] : Fin 1 → IVec S16 32) a x).toNat < S88320.size a := fun v796 k1_hw789 => k1_hw789

def k1_chk790 (v800 : IVec S16 32) : Prop :=
  (∀ a x, ((![v800] : Fin 1 → IVec S16 32) a x).toNat < S88320.size a)
theorem k1_idx790_inb : ∀ (v800 : IVec S16 32) (k1_hw790 : k1_chk790 v800), ∀ a x, ((![v800] : Fin 1 → IVec S16 32) a x).toNat < S88320.size a := fun v800 k1_hw790 => k1_hw790

def k1_chk791 (v804 : IVec S16 32) : Prop :=
  (∀ a x, ((![v804] : Fin 1 → IVec S16 32) a x).toNat < S88320.size a)
theorem k1_idx791_inb : ∀ (v804 : IVec S16 32) (k1_hw791 : k1_chk791 v804), ∀ a x, ((![v804] : Fin 1 → IVec S16 32) a x).toNat < S88320.size a := fun v804 k1_hw791 => k1_hw791

def k1_chk792 (v808 : IVec S16 32) : Prop :=
  (∀ a x, ((![v808] : Fin 1 → IVec S16 32) a x).toNat < S88320.size a)
theorem k1_idx792_inb : ∀ (v808 : IVec S16 32) (k1_hw792 : k1_chk792 v808), ∀ a x, ((![v808] : Fin 1 → IVec S16 32) a x).toNat < S88320.size a := fun v808 k1_hw792 => k1_hw792

def k1_chk793 (v812 : IVec S16 32) : Prop :=
  (∀ a x, ((![v812] : Fin 1 → IVec S16 32) a x).toNat < S88320.size a)
theorem k1_idx793_inb : ∀ (v812 : IVec S16 32) (k1_hw793 : k1_chk793 v812), ∀ a x, ((![v812] : Fin 1 → IVec S16 32) a x).toNat < S88320.size a := fun v812 k1_hw793 => k1_hw793

def k1_chk794 (v816 : IVec S16 32) : Prop :=
  (∀ a x, ((![v816] : Fin 1 → IVec S16 32) a x).toNat < S88320.size a)
theorem k1_idx794_inb : ∀ (v816 : IVec S16 32) (k1_hw794 : k1_chk794 v816), ∀ a x, ((![v816] : Fin 1 → IVec S16 32) a x).toNat < S88320.size a := fun v816 k1_hw794 => k1_hw794

def k1_chk795 (v820 : IVec S16 32) : Prop :=
  (∀ a x, ((![v820] : Fin 1 → IVec S16 32) a x).toNat < S88320.size a)
theorem k1_idx795_inb : ∀ (v820 : IVec S16 32) (k1_hw795 : k1_chk795 v820), ∀ a x, ((![v820] : Fin 1 → IVec S16 32) a x).toNat < S88320.size a := fun v820 k1_hw795 => k1_hw795

def k1_chk796 (v824 : IVec S16 32) : Prop :=
  (∀ a x, ((![v824] : Fin 1 → IVec S16 32) a x).toNat < S88320.size a)
theorem k1_idx796_inb : ∀ (v824 : IVec S16 32) (k1_hw796 : k1_chk796 v824), ∀ a x, ((![v824] : Fin 1 → IVec S16 32) a x).toNat < S88320.size a := fun v824 k1_hw796 => k1_hw796

def k1_chk797 (v828 : IVec S16 32) : Prop :=
  (∀ a x, ((![v828] : Fin 1 → IVec S16 32) a x).toNat < S88320.size a)
theorem k1_idx797_inb : ∀ (v828 : IVec S16 32) (k1_hw797 : k1_chk797 v828), ∀ a x, ((![v828] : Fin 1 → IVec S16 32) a x).toNat < S88320.size a := fun v828 k1_hw797 => k1_hw797

def k1_chk798 (v832 : IVec S16 32) : Prop :=
  (∀ a x, ((![v832] : Fin 1 → IVec S16 32) a x).toNat < S88320.size a)
theorem k1_idx798_inb : ∀ (v832 : IVec S16 32) (k1_hw798 : k1_chk798 v832), ∀ a x, ((![v832] : Fin 1 → IVec S16 32) a x).toNat < S88320.size a := fun v832 k1_hw798 => k1_hw798

def k1_chk799 (v836 : IVec S16 32) : Prop :=
  (∀ a x, ((![v836] : Fin 1 → IVec S16 32) a x).toNat < S88320.size a)
theorem k1_idx799_inb : ∀ (v836 : IVec S16 32) (k1_hw799 : k1_chk799 v836), ∀ a x, ((![v836] : Fin 1 → IVec S16 32) a x).toNat < S88320.size a := fun v836 k1_hw799 => k1_hw799

def k1_chk800 (v840 : IVec S16 32) : Prop :=
  (∀ a x, ((![v840] : Fin 1 → IVec S16 32) a x).toNat < S88320.size a)
theorem k1_idx800_inb : ∀ (v840 : IVec S16 32) (k1_hw800 : k1_chk800 v840), ∀ a x, ((![v840] : Fin 1 → IVec S16 32) a x).toNat < S88320.size a := fun v840 k1_hw800 => k1_hw800
def k1_off853 (i : grid1.Coords) : Fin 4 → Nat :=
  let c2_i32_639 : BitVec 32 := 2#32
  let c9_i32_640 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_641 : BitVec 32 := 0#32
  ![2, 9, v2.toNat, 0]
@[reducible] def k1_t52_loop : Scf.Loop 32 :=
  let c0_i32_648 : BitVec 32 := 0#32
  let c32_i32_649 : BitVec 32 := 32#32
  let v468 : BitVec 32 := Scalar.addi c0_i32_648 c32_i32_649
  let c1_i32_650 : BitVec 32 := 1#32
  ⟨c0_i32_648, v468, c1_i32_650⟩
def k1_off854 (k1_t52 : Fin k1_t52_loop.trips) : Fin 2 → Nat :=
  let c0_i32_1152 : BitVec 32 := 0#32
  let v778 : Index := Scalar.indexCast c0_i32_1152
  let c0_i32_648 : BitVec 32 := 0#32
  let c1_i32_650 : BitVec 32 := 1#32
  let arg9 : BitVec 32 := Scf.iv c0_i32_648 c1_i32_650 k1_t52
  let c16_i32_1151 : BitVec 32 := 16#32
  let v777 : BitVec 32 := Scalar.muli arg9 c16_i32_1151
  let v779 : Index := Scalar.indexCast v777
  ![0, v779.toNat]
def k1_off855 (k1_t52 : Fin k1_t52_loop.trips) : Fin 2 → Nat :=
  let c1_i32_1154 : BitVec 32 := 1#32
  let v782 : Index := Scalar.indexCast c1_i32_1154
  let c0_i32_648 : BitVec 32 := 0#32
  let c1_i32_650 : BitVec 32 := 1#32
  let arg9 : BitVec 32 := Scf.iv c0_i32_648 c1_i32_650 k1_t52
  let c16_i32_1153 : BitVec 32 := 16#32
  let v781 : BitVec 32 := Scalar.muli arg9 c16_i32_1153
  let v783 : Index := Scalar.indexCast v781
  ![1, v783.toNat]
def k1_off856 (k1_t52 : Fin k1_t52_loop.trips) : Fin 2 → Nat :=
  let c2_i32_1156 : BitVec 32 := 2#32
  let v786 : Index := Scalar.indexCast c2_i32_1156
  let c0_i32_648 : BitVec 32 := 0#32
  let c1_i32_650 : BitVec 32 := 1#32
  let arg9 : BitVec 32 := Scf.iv c0_i32_648 c1_i32_650 k1_t52
  let c16_i32_1155 : BitVec 32 := 16#32
  let v785 : BitVec 32 := Scalar.muli arg9 c16_i32_1155
  let v787 : Index := Scalar.indexCast v785
  ![2, v787.toNat]
def k1_off857 (k1_t52 : Fin k1_t52_loop.trips) : Fin 2 → Nat :=
  let c3_i32_1158 : BitVec 32 := 3#32
  let v790 : Index := Scalar.indexCast c3_i32_1158
  let c0_i32_648 : BitVec 32 := 0#32
  let c1_i32_650 : BitVec 32 := 1#32
  let arg9 : BitVec 32 := Scf.iv c0_i32_648 c1_i32_650 k1_t52
  let c16_i32_1157 : BitVec 32 := 16#32
  let v789 : BitVec 32 := Scalar.muli arg9 c16_i32_1157
  let v791 : Index := Scalar.indexCast v789
  ![3, v791.toNat]
def k1_off858 (k1_t52 : Fin k1_t52_loop.trips) : Fin 2 → Nat :=
  let c4_i32_1160 : BitVec 32 := 4#32
  let v794 : Index := Scalar.indexCast c4_i32_1160
  let c0_i32_648 : BitVec 32 := 0#32
  let c1_i32_650 : BitVec 32 := 1#32
  let arg9 : BitVec 32 := Scf.iv c0_i32_648 c1_i32_650 k1_t52
  let c16_i32_1159 : BitVec 32 := 16#32
  let v793 : BitVec 32 := Scalar.muli arg9 c16_i32_1159
  let v795 : Index := Scalar.indexCast v793
  ![4, v795.toNat]
def k1_off859 (k1_t52 : Fin k1_t52_loop.trips) : Fin 2 → Nat :=
  let c5_i32_1162 : BitVec 32 := 5#32
  let v798 : Index := Scalar.indexCast c5_i32_1162
  let c0_i32_648 : BitVec 32 := 0#32
  let c1_i32_650 : BitVec 32 := 1#32
  let arg9 : BitVec 32 := Scf.iv c0_i32_648 c1_i32_650 k1_t52
  let c16_i32_1161 : BitVec 32 := 16#32
  let v797 : BitVec 32 := Scalar.muli arg9 c16_i32_1161
  let v799 : Index := Scalar.indexCast v797
  ![5, v799.toNat]
def k1_off860 (k1_t52 : Fin k1_t52_loop.trips) : Fin 2 → Nat :=
  let c6_i32_1164 : BitVec 32 := 6#32
  let v802 : Index := Scalar.indexCast c6_i32_1164
  let c0_i32_648 : BitVec 32 := 0#32
  let c1_i32_650 : BitVec 32 := 1#32
  let arg9 : BitVec 32 := Scf.iv c0_i32_648 c1_i32_650 k1_t52
  let c16_i32_1163 : BitVec 32 := 16#32
  let v801 : BitVec 32 := Scalar.muli arg9 c16_i32_1163
  let v803 : Index := Scalar.indexCast v801
  ![6, v803.toNat]
def k1_off861 (k1_t52 : Fin k1_t52_loop.trips) : Fin 2 → Nat :=
  let c7_i32_1166 : BitVec 32 := 7#32
  let v806 : Index := Scalar.indexCast c7_i32_1166
  let c0_i32_648 : BitVec 32 := 0#32
  let c1_i32_650 : BitVec 32 := 1#32
  let arg9 : BitVec 32 := Scf.iv c0_i32_648 c1_i32_650 k1_t52
  let c16_i32_1165 : BitVec 32 := 16#32
  let v805 : BitVec 32 := Scalar.muli arg9 c16_i32_1165
  let v807 : Index := Scalar.indexCast v805
  ![7, v807.toNat]
def k1_off862 (k1_t52 : Fin k1_t52_loop.trips) : Fin 2 → Nat :=
  let c8_i32_1168 : BitVec 32 := 8#32
  let v810 : Index := Scalar.indexCast c8_i32_1168
  let c0_i32_648 : BitVec 32 := 0#32
  let c1_i32_650 : BitVec 32 := 1#32
  let arg9 : BitVec 32 := Scf.iv c0_i32_648 c1_i32_650 k1_t52
  let c16_i32_1167 : BitVec 32 := 16#32
  let v809 : BitVec 32 := Scalar.muli arg9 c16_i32_1167
  let v811 : Index := Scalar.indexCast v809
  ![8, v811.toNat]
def k1_off863 (k1_t52 : Fin k1_t52_loop.trips) : Fin 2 → Nat :=
  let c9_i32_1170 : BitVec 32 := 9#32
  let v814 : Index := Scalar.indexCast c9_i32_1170
  let c0_i32_648 : BitVec 32 := 0#32
  let c1_i32_650 : BitVec 32 := 1#32
  let arg9 : BitVec 32 := Scf.iv c0_i32_648 c1_i32_650 k1_t52
  let c16_i32_1169 : BitVec 32 := 16#32
  let v813 : BitVec 32 := Scalar.muli arg9 c16_i32_1169
  let v815 : Index := Scalar.indexCast v813
  ![9, v815.toNat]
def k1_off864 (k1_t52 : Fin k1_t52_loop.trips) : Fin 2 → Nat :=
  let c10_i32_1172 : BitVec 32 := 10#32
  let v818 : Index := Scalar.indexCast c10_i32_1172
  let c0_i32_648 : BitVec 32 := 0#32
  let c1_i32_650 : BitVec 32 := 1#32
  let arg9 : BitVec 32 := Scf.iv c0_i32_648 c1_i32_650 k1_t52
  let c16_i32_1171 : BitVec 32 := 16#32
  let v817 : BitVec 32 := Scalar.muli arg9 c16_i32_1171
  let v819 : Index := Scalar.indexCast v817
  ![10, v819.toNat]
def k1_off865 (k1_t52 : Fin k1_t52_loop.trips) : Fin 2 → Nat :=
  let c11_i32_1174 : BitVec 32 := 11#32
  let v822 : Index := Scalar.indexCast c11_i32_1174
  let c0_i32_648 : BitVec 32 := 0#32
  let c1_i32_650 : BitVec 32 := 1#32
  let arg9 : BitVec 32 := Scf.iv c0_i32_648 c1_i32_650 k1_t52
  let c16_i32_1173 : BitVec 32 := 16#32
  let v821 : BitVec 32 := Scalar.muli arg9 c16_i32_1173
  let v823 : Index := Scalar.indexCast v821
  ![11, v823.toNat]
def k1_off866 (k1_t52 : Fin k1_t52_loop.trips) : Fin 2 → Nat :=
  let c12_i32_1176 : BitVec 32 := 12#32
  let v826 : Index := Scalar.indexCast c12_i32_1176
  let c0_i32_648 : BitVec 32 := 0#32
  let c1_i32_650 : BitVec 32 := 1#32
  let arg9 : BitVec 32 := Scf.iv c0_i32_648 c1_i32_650 k1_t52
  let c16_i32_1175 : BitVec 32 := 16#32
  let v825 : BitVec 32 := Scalar.muli arg9 c16_i32_1175
  let v827 : Index := Scalar.indexCast v825
  ![12, v827.toNat]
def k1_off867 (k1_t52 : Fin k1_t52_loop.trips) : Fin 2 → Nat :=
  let c13_i32_1178 : BitVec 32 := 13#32
  let v830 : Index := Scalar.indexCast c13_i32_1178
  let c0_i32_648 : BitVec 32 := 0#32
  let c1_i32_650 : BitVec 32 := 1#32
  let arg9 : BitVec 32 := Scf.iv c0_i32_648 c1_i32_650 k1_t52
  let c16_i32_1177 : BitVec 32 := 16#32
  let v829 : BitVec 32 := Scalar.muli arg9 c16_i32_1177
  let v831 : Index := Scalar.indexCast v829
  ![13, v831.toNat]
def k1_off868 (k1_t52 : Fin k1_t52_loop.trips) : Fin 2 → Nat :=
  let c14_i32_1180 : BitVec 32 := 14#32
  let v834 : Index := Scalar.indexCast c14_i32_1180
  let c0_i32_648 : BitVec 32 := 0#32
  let c1_i32_650 : BitVec 32 := 1#32
  let arg9 : BitVec 32 := Scf.iv c0_i32_648 c1_i32_650 k1_t52
  let c16_i32_1179 : BitVec 32 := 16#32
  let v833 : BitVec 32 := Scalar.muli arg9 c16_i32_1179
  let v835 : Index := Scalar.indexCast v833
  ![14, v835.toNat]
def k1_off869 (k1_t52 : Fin k1_t52_loop.trips) : Fin 2 → Nat :=
  let c15_i32_1182 : BitVec 32 := 15#32
  let v838 : Index := Scalar.indexCast c15_i32_1182
  let c0_i32_648 : BitVec 32 := 0#32
  let c1_i32_650 : BitVec 32 := 1#32
  let arg9 : BitVec 32 := Scf.iv c0_i32_648 c1_i32_650 k1_t52
  let c16_i32_1181 : BitVec 32 := 16#32
  let v837 : BitVec 32 := Scalar.muli arg9 c16_i32_1181
  let v839 : Index := Scalar.indexCast v837
  ![15, v839.toNat]

def k1_chk801 (v780 : IVec S16 32) : Prop :=
  (∀ a x, ((![v780] : Fin 1 → IVec S16 32) a x).toNat < S88320.size a)
theorem k1_idx801_inb : ∀ (v780 : IVec S16 32) (k1_hw801 : k1_chk801 v780), ∀ a x, ((![v780] : Fin 1 → IVec S16 32) a x).toNat < S88320.size a := fun v780 k1_hw801 => k1_hw801

def k1_chk802 (v784 : IVec S16 32) : Prop :=
  (∀ a x, ((![v784] : Fin 1 → IVec S16 32) a x).toNat < S88320.size a)
theorem k1_idx802_inb : ∀ (v784 : IVec S16 32) (k1_hw802 : k1_chk802 v784), ∀ a x, ((![v784] : Fin 1 → IVec S16 32) a x).toNat < S88320.size a := fun v784 k1_hw802 => k1_hw802

def k1_chk803 (v788 : IVec S16 32) : Prop :=
  (∀ a x, ((![v788] : Fin 1 → IVec S16 32) a x).toNat < S88320.size a)
theorem k1_idx803_inb : ∀ (v788 : IVec S16 32) (k1_hw803 : k1_chk803 v788), ∀ a x, ((![v788] : Fin 1 → IVec S16 32) a x).toNat < S88320.size a := fun v788 k1_hw803 => k1_hw803

def k1_chk804 (v792 : IVec S16 32) : Prop :=
  (∀ a x, ((![v792] : Fin 1 → IVec S16 32) a x).toNat < S88320.size a)
theorem k1_idx804_inb : ∀ (v792 : IVec S16 32) (k1_hw804 : k1_chk804 v792), ∀ a x, ((![v792] : Fin 1 → IVec S16 32) a x).toNat < S88320.size a := fun v792 k1_hw804 => k1_hw804

def k1_chk805 (v796 : IVec S16 32) : Prop :=
  (∀ a x, ((![v796] : Fin 1 → IVec S16 32) a x).toNat < S88320.size a)
theorem k1_idx805_inb : ∀ (v796 : IVec S16 32) (k1_hw805 : k1_chk805 v796), ∀ a x, ((![v796] : Fin 1 → IVec S16 32) a x).toNat < S88320.size a := fun v796 k1_hw805 => k1_hw805

def k1_chk806 (v800 : IVec S16 32) : Prop :=
  (∀ a x, ((![v800] : Fin 1 → IVec S16 32) a x).toNat < S88320.size a)
theorem k1_idx806_inb : ∀ (v800 : IVec S16 32) (k1_hw806 : k1_chk806 v800), ∀ a x, ((![v800] : Fin 1 → IVec S16 32) a x).toNat < S88320.size a := fun v800 k1_hw806 => k1_hw806

def k1_chk807 (v804 : IVec S16 32) : Prop :=
  (∀ a x, ((![v804] : Fin 1 → IVec S16 32) a x).toNat < S88320.size a)
theorem k1_idx807_inb : ∀ (v804 : IVec S16 32) (k1_hw807 : k1_chk807 v804), ∀ a x, ((![v804] : Fin 1 → IVec S16 32) a x).toNat < S88320.size a := fun v804 k1_hw807 => k1_hw807

def k1_chk808 (v808 : IVec S16 32) : Prop :=
  (∀ a x, ((![v808] : Fin 1 → IVec S16 32) a x).toNat < S88320.size a)
theorem k1_idx808_inb : ∀ (v808 : IVec S16 32) (k1_hw808 : k1_chk808 v808), ∀ a x, ((![v808] : Fin 1 → IVec S16 32) a x).toNat < S88320.size a := fun v808 k1_hw808 => k1_hw808

def k1_chk809 (v812 : IVec S16 32) : Prop :=
  (∀ a x, ((![v812] : Fin 1 → IVec S16 32) a x).toNat < S88320.size a)
theorem k1_idx809_inb : ∀ (v812 : IVec S16 32) (k1_hw809 : k1_chk809 v812), ∀ a x, ((![v812] : Fin 1 → IVec S16 32) a x).toNat < S88320.size a := fun v812 k1_hw809 => k1_hw809

def k1_chk810 (v816 : IVec S16 32) : Prop :=
  (∀ a x, ((![v816] : Fin 1 → IVec S16 32) a x).toNat < S88320.size a)
theorem k1_idx810_inb : ∀ (v816 : IVec S16 32) (k1_hw810 : k1_chk810 v816), ∀ a x, ((![v816] : Fin 1 → IVec S16 32) a x).toNat < S88320.size a := fun v816 k1_hw810 => k1_hw810

def k1_chk811 (v820 : IVec S16 32) : Prop :=
  (∀ a x, ((![v820] : Fin 1 → IVec S16 32) a x).toNat < S88320.size a)
theorem k1_idx811_inb : ∀ (v820 : IVec S16 32) (k1_hw811 : k1_chk811 v820), ∀ a x, ((![v820] : Fin 1 → IVec S16 32) a x).toNat < S88320.size a := fun v820 k1_hw811 => k1_hw811

def k1_chk812 (v824 : IVec S16 32) : Prop :=
  (∀ a x, ((![v824] : Fin 1 → IVec S16 32) a x).toNat < S88320.size a)
theorem k1_idx812_inb : ∀ (v824 : IVec S16 32) (k1_hw812 : k1_chk812 v824), ∀ a x, ((![v824] : Fin 1 → IVec S16 32) a x).toNat < S88320.size a := fun v824 k1_hw812 => k1_hw812

def k1_chk813 (v828 : IVec S16 32) : Prop :=
  (∀ a x, ((![v828] : Fin 1 → IVec S16 32) a x).toNat < S88320.size a)
theorem k1_idx813_inb : ∀ (v828 : IVec S16 32) (k1_hw813 : k1_chk813 v828), ∀ a x, ((![v828] : Fin 1 → IVec S16 32) a x).toNat < S88320.size a := fun v828 k1_hw813 => k1_hw813

def k1_chk814 (v832 : IVec S16 32) : Prop :=
  (∀ a x, ((![v832] : Fin 1 → IVec S16 32) a x).toNat < S88320.size a)
theorem k1_idx814_inb : ∀ (v832 : IVec S16 32) (k1_hw814 : k1_chk814 v832), ∀ a x, ((![v832] : Fin 1 → IVec S16 32) a x).toNat < S88320.size a := fun v832 k1_hw814 => k1_hw814

def k1_chk815 (v836 : IVec S16 32) : Prop :=
  (∀ a x, ((![v836] : Fin 1 → IVec S16 32) a x).toNat < S88320.size a)
theorem k1_idx815_inb : ∀ (v836 : IVec S16 32) (k1_hw815 : k1_chk815 v836), ∀ a x, ((![v836] : Fin 1 → IVec S16 32) a x).toNat < S88320.size a := fun v836 k1_hw815 => k1_hw815

def k1_chk816 (v840 : IVec S16 32) : Prop :=
  (∀ a x, ((![v840] : Fin 1 → IVec S16 32) a x).toNat < S88320.size a)
theorem k1_idx816_inb : ∀ (v840 : IVec S16 32) (k1_hw816 : k1_chk816 v840), ∀ a x, ((![v840] : Fin 1 → IVec S16 32) a x).toNat < S88320.size a := fun v840 k1_hw816 => k1_hw816
def k1_off870 (i : grid1.Coords) : Fin 4 → Nat :=
  let c2_i32_652 : BitVec 32 := 2#32
  let c10_i32_653 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_654 : BitVec 32 := 0#32
  ![2, 10, v2.toNat, 0]
@[reducible] def k1_t53_loop : Scf.Loop 32 :=
  let c0_i32_661 : BitVec 32 := 0#32
  let c32_i32_662 : BitVec 32 := 32#32
  let v477 : BitVec 32 := Scalar.addi c0_i32_661 c32_i32_662
  let c1_i32_663 : BitVec 32 := 1#32
  ⟨c0_i32_661, v477, c1_i32_663⟩
def k1_off871 (k1_t53 : Fin k1_t53_loop.trips) : Fin 2 → Nat :=
  let c0_i32_1152 : BitVec 32 := 0#32
  let v778 : Index := Scalar.indexCast c0_i32_1152
  let c0_i32_661 : BitVec 32 := 0#32
  let c1_i32_663 : BitVec 32 := 1#32
  let arg9 : BitVec 32 := Scf.iv c0_i32_661 c1_i32_663 k1_t53
  let c16_i32_1151 : BitVec 32 := 16#32
  let v777 : BitVec 32 := Scalar.muli arg9 c16_i32_1151
  let v779 : Index := Scalar.indexCast v777
  ![0, v779.toNat]
def k1_off872 (k1_t53 : Fin k1_t53_loop.trips) : Fin 2 → Nat :=
  let c1_i32_1154 : BitVec 32 := 1#32
  let v782 : Index := Scalar.indexCast c1_i32_1154
  let c0_i32_661 : BitVec 32 := 0#32
  let c1_i32_663 : BitVec 32 := 1#32
  let arg9 : BitVec 32 := Scf.iv c0_i32_661 c1_i32_663 k1_t53
  let c16_i32_1153 : BitVec 32 := 16#32
  let v781 : BitVec 32 := Scalar.muli arg9 c16_i32_1153
  let v783 : Index := Scalar.indexCast v781
  ![1, v783.toNat]
def k1_off873 (k1_t53 : Fin k1_t53_loop.trips) : Fin 2 → Nat :=
  let c2_i32_1156 : BitVec 32 := 2#32
  let v786 : Index := Scalar.indexCast c2_i32_1156
  let c0_i32_661 : BitVec 32 := 0#32
  let c1_i32_663 : BitVec 32 := 1#32
  let arg9 : BitVec 32 := Scf.iv c0_i32_661 c1_i32_663 k1_t53
  let c16_i32_1155 : BitVec 32 := 16#32
  let v785 : BitVec 32 := Scalar.muli arg9 c16_i32_1155
  let v787 : Index := Scalar.indexCast v785
  ![2, v787.toNat]
def k1_off874 (k1_t53 : Fin k1_t53_loop.trips) : Fin 2 → Nat :=
  let c3_i32_1158 : BitVec 32 := 3#32
  let v790 : Index := Scalar.indexCast c3_i32_1158
  let c0_i32_661 : BitVec 32 := 0#32
  let c1_i32_663 : BitVec 32 := 1#32
  let arg9 : BitVec 32 := Scf.iv c0_i32_661 c1_i32_663 k1_t53
  let c16_i32_1157 : BitVec 32 := 16#32
  let v789 : BitVec 32 := Scalar.muli arg9 c16_i32_1157
  let v791 : Index := Scalar.indexCast v789
  ![3, v791.toNat]
def k1_off875 (k1_t53 : Fin k1_t53_loop.trips) : Fin 2 → Nat :=
  let c4_i32_1160 : BitVec 32 := 4#32
  let v794 : Index := Scalar.indexCast c4_i32_1160
  let c0_i32_661 : BitVec 32 := 0#32
  let c1_i32_663 : BitVec 32 := 1#32
  let arg9 : BitVec 32 := Scf.iv c0_i32_661 c1_i32_663 k1_t53
  let c16_i32_1159 : BitVec 32 := 16#32
  let v793 : BitVec 32 := Scalar.muli arg9 c16_i32_1159
  let v795 : Index := Scalar.indexCast v793
  ![4, v795.toNat]
def k1_off876 (k1_t53 : Fin k1_t53_loop.trips) : Fin 2 → Nat :=
  let c5_i32_1162 : BitVec 32 := 5#32
  let v798 : Index := Scalar.indexCast c5_i32_1162
  let c0_i32_661 : BitVec 32 := 0#32
  let c1_i32_663 : BitVec 32 := 1#32
  let arg9 : BitVec 32 := Scf.iv c0_i32_661 c1_i32_663 k1_t53
  let c16_i32_1161 : BitVec 32 := 16#32
  let v797 : BitVec 32 := Scalar.muli arg9 c16_i32_1161
  let v799 : Index := Scalar.indexCast v797
  ![5, v799.toNat]
def k1_off877 (k1_t53 : Fin k1_t53_loop.trips) : Fin 2 → Nat :=
  let c6_i32_1164 : BitVec 32 := 6#32
  let v802 : Index := Scalar.indexCast c6_i32_1164
  let c0_i32_661 : BitVec 32 := 0#32
  let c1_i32_663 : BitVec 32 := 1#32
  let arg9 : BitVec 32 := Scf.iv c0_i32_661 c1_i32_663 k1_t53
  let c16_i32_1163 : BitVec 32 := 16#32
  let v801 : BitVec 32 := Scalar.muli arg9 c16_i32_1163
  let v803 : Index := Scalar.indexCast v801
  ![6, v803.toNat]
def k1_off878 (k1_t53 : Fin k1_t53_loop.trips) : Fin 2 → Nat :=
  let c7_i32_1166 : BitVec 32 := 7#32
  let v806 : Index := Scalar.indexCast c7_i32_1166
  let c0_i32_661 : BitVec 32 := 0#32
  let c1_i32_663 : BitVec 32 := 1#32
  let arg9 : BitVec 32 := Scf.iv c0_i32_661 c1_i32_663 k1_t53
  let c16_i32_1165 : BitVec 32 := 16#32
  let v805 : BitVec 32 := Scalar.muli arg9 c16_i32_1165
  let v807 : Index := Scalar.indexCast v805
  ![7, v807.toNat]
def k1_off879 (k1_t53 : Fin k1_t53_loop.trips) : Fin 2 → Nat :=
  let c8_i32_1168 : BitVec 32 := 8#32
  let v810 : Index := Scalar.indexCast c8_i32_1168
  let c0_i32_661 : BitVec 32 := 0#32
  let c1_i32_663 : BitVec 32 := 1#32
  let arg9 : BitVec 32 := Scf.iv c0_i32_661 c1_i32_663 k1_t53
  let c16_i32_1167 : BitVec 32 := 16#32
  let v809 : BitVec 32 := Scalar.muli arg9 c16_i32_1167
  let v811 : Index := Scalar.indexCast v809
  ![8, v811.toNat]
def k1_off880 (k1_t53 : Fin k1_t53_loop.trips) : Fin 2 → Nat :=
  let c9_i32_1170 : BitVec 32 := 9#32
  let v814 : Index := Scalar.indexCast c9_i32_1170
  let c0_i32_661 : BitVec 32 := 0#32
  let c1_i32_663 : BitVec 32 := 1#32
  let arg9 : BitVec 32 := Scf.iv c0_i32_661 c1_i32_663 k1_t53
  let c16_i32_1169 : BitVec 32 := 16#32
  let v813 : BitVec 32 := Scalar.muli arg9 c16_i32_1169
  let v815 : Index := Scalar.indexCast v813
  ![9, v815.toNat]
def k1_off881 (k1_t53 : Fin k1_t53_loop.trips) : Fin 2 → Nat :=
  let c10_i32_1172 : BitVec 32 := 10#32
  let v818 : Index := Scalar.indexCast c10_i32_1172
  let c0_i32_661 : BitVec 32 := 0#32
  let c1_i32_663 : BitVec 32 := 1#32
  let arg9 : BitVec 32 := Scf.iv c0_i32_661 c1_i32_663 k1_t53
  let c16_i32_1171 : BitVec 32 := 16#32
  let v817 : BitVec 32 := Scalar.muli arg9 c16_i32_1171
  let v819 : Index := Scalar.indexCast v817
  ![10, v819.toNat]
def k1_off882 (k1_t53 : Fin k1_t53_loop.trips) : Fin 2 → Nat :=
  let c11_i32_1174 : BitVec 32 := 11#32
  let v822 : Index := Scalar.indexCast c11_i32_1174
  let c0_i32_661 : BitVec 32 := 0#32
  let c1_i32_663 : BitVec 32 := 1#32
  let arg9 : BitVec 32 := Scf.iv c0_i32_661 c1_i32_663 k1_t53
  let c16_i32_1173 : BitVec 32 := 16#32
  let v821 : BitVec 32 := Scalar.muli arg9 c16_i32_1173
  let v823 : Index := Scalar.indexCast v821
  ![11, v823.toNat]
def k1_off883 (k1_t53 : Fin k1_t53_loop.trips) : Fin 2 → Nat :=
  let c12_i32_1176 : BitVec 32 := 12#32
  let v826 : Index := Scalar.indexCast c12_i32_1176
  let c0_i32_661 : BitVec 32 := 0#32
  let c1_i32_663 : BitVec 32 := 1#32
  let arg9 : BitVec 32 := Scf.iv c0_i32_661 c1_i32_663 k1_t53
  let c16_i32_1175 : BitVec 32 := 16#32
  let v825 : BitVec 32 := Scalar.muli arg9 c16_i32_1175
  let v827 : Index := Scalar.indexCast v825
  ![12, v827.toNat]
def k1_off884 (k1_t53 : Fin k1_t53_loop.trips) : Fin 2 → Nat :=
  let c13_i32_1178 : BitVec 32 := 13#32
  let v830 : Index := Scalar.indexCast c13_i32_1178
  let c0_i32_661 : BitVec 32 := 0#32
  let c1_i32_663 : BitVec 32 := 1#32
  let arg9 : BitVec 32 := Scf.iv c0_i32_661 c1_i32_663 k1_t53
  let c16_i32_1177 : BitVec 32 := 16#32
  let v829 : BitVec 32 := Scalar.muli arg9 c16_i32_1177
  let v831 : Index := Scalar.indexCast v829
  ![13, v831.toNat]
def k1_off885 (k1_t53 : Fin k1_t53_loop.trips) : Fin 2 → Nat :=
  let c14_i32_1180 : BitVec 32 := 14#32
  let v834 : Index := Scalar.indexCast c14_i32_1180
  let c0_i32_661 : BitVec 32 := 0#32
  let c1_i32_663 : BitVec 32 := 1#32
  let arg9 : BitVec 32 := Scf.iv c0_i32_661 c1_i32_663 k1_t53
  let c16_i32_1179 : BitVec 32 := 16#32
  let v833 : BitVec 32 := Scalar.muli arg9 c16_i32_1179
  let v835 : Index := Scalar.indexCast v833
  ![14, v835.toNat]
def k1_off886 (k1_t53 : Fin k1_t53_loop.trips) : Fin 2 → Nat :=
  let c15_i32_1182 : BitVec 32 := 15#32
  let v838 : Index := Scalar.indexCast c15_i32_1182
  let c0_i32_661 : BitVec 32 := 0#32
  let c1_i32_663 : BitVec 32 := 1#32
  let arg9 : BitVec 32 := Scf.iv c0_i32_661 c1_i32_663 k1_t53
  let c16_i32_1181 : BitVec 32 := 16#32
  let v837 : BitVec 32 := Scalar.muli arg9 c16_i32_1181
  let v839 : Index := Scalar.indexCast v837
  ![15, v839.toNat]

def k1_chk817 (v780 : IVec S16 32) : Prop :=
  (∀ a x, ((![v780] : Fin 1 → IVec S16 32) a x).toNat < S88320.size a)
theorem k1_idx817_inb : ∀ (v780 : IVec S16 32) (k1_hw817 : k1_chk817 v780), ∀ a x, ((![v780] : Fin 1 → IVec S16 32) a x).toNat < S88320.size a := fun v780 k1_hw817 => k1_hw817

def k1_chk818 (v784 : IVec S16 32) : Prop :=
  (∀ a x, ((![v784] : Fin 1 → IVec S16 32) a x).toNat < S88320.size a)
theorem k1_idx818_inb : ∀ (v784 : IVec S16 32) (k1_hw818 : k1_chk818 v784), ∀ a x, ((![v784] : Fin 1 → IVec S16 32) a x).toNat < S88320.size a := fun v784 k1_hw818 => k1_hw818

def k1_chk819 (v788 : IVec S16 32) : Prop :=
  (∀ a x, ((![v788] : Fin 1 → IVec S16 32) a x).toNat < S88320.size a)
theorem k1_idx819_inb : ∀ (v788 : IVec S16 32) (k1_hw819 : k1_chk819 v788), ∀ a x, ((![v788] : Fin 1 → IVec S16 32) a x).toNat < S88320.size a := fun v788 k1_hw819 => k1_hw819

def k1_chk820 (v792 : IVec S16 32) : Prop :=
  (∀ a x, ((![v792] : Fin 1 → IVec S16 32) a x).toNat < S88320.size a)
theorem k1_idx820_inb : ∀ (v792 : IVec S16 32) (k1_hw820 : k1_chk820 v792), ∀ a x, ((![v792] : Fin 1 → IVec S16 32) a x).toNat < S88320.size a := fun v792 k1_hw820 => k1_hw820

def k1_chk821 (v796 : IVec S16 32) : Prop :=
  (∀ a x, ((![v796] : Fin 1 → IVec S16 32) a x).toNat < S88320.size a)
theorem k1_idx821_inb : ∀ (v796 : IVec S16 32) (k1_hw821 : k1_chk821 v796), ∀ a x, ((![v796] : Fin 1 → IVec S16 32) a x).toNat < S88320.size a := fun v796 k1_hw821 => k1_hw821

def k1_chk822 (v800 : IVec S16 32) : Prop :=
  (∀ a x, ((![v800] : Fin 1 → IVec S16 32) a x).toNat < S88320.size a)
theorem k1_idx822_inb : ∀ (v800 : IVec S16 32) (k1_hw822 : k1_chk822 v800), ∀ a x, ((![v800] : Fin 1 → IVec S16 32) a x).toNat < S88320.size a := fun v800 k1_hw822 => k1_hw822

def k1_chk823 (v804 : IVec S16 32) : Prop :=
  (∀ a x, ((![v804] : Fin 1 → IVec S16 32) a x).toNat < S88320.size a)
theorem k1_idx823_inb : ∀ (v804 : IVec S16 32) (k1_hw823 : k1_chk823 v804), ∀ a x, ((![v804] : Fin 1 → IVec S16 32) a x).toNat < S88320.size a := fun v804 k1_hw823 => k1_hw823

def k1_chk824 (v808 : IVec S16 32) : Prop :=
  (∀ a x, ((![v808] : Fin 1 → IVec S16 32) a x).toNat < S88320.size a)
theorem k1_idx824_inb : ∀ (v808 : IVec S16 32) (k1_hw824 : k1_chk824 v808), ∀ a x, ((![v808] : Fin 1 → IVec S16 32) a x).toNat < S88320.size a := fun v808 k1_hw824 => k1_hw824

def k1_chk825 (v812 : IVec S16 32) : Prop :=
  (∀ a x, ((![v812] : Fin 1 → IVec S16 32) a x).toNat < S88320.size a)
theorem k1_idx825_inb : ∀ (v812 : IVec S16 32) (k1_hw825 : k1_chk825 v812), ∀ a x, ((![v812] : Fin 1 → IVec S16 32) a x).toNat < S88320.size a := fun v812 k1_hw825 => k1_hw825

def k1_chk826 (v816 : IVec S16 32) : Prop :=
  (∀ a x, ((![v816] : Fin 1 → IVec S16 32) a x).toNat < S88320.size a)
theorem k1_idx826_inb : ∀ (v816 : IVec S16 32) (k1_hw826 : k1_chk826 v816), ∀ a x, ((![v816] : Fin 1 → IVec S16 32) a x).toNat < S88320.size a := fun v816 k1_hw826 => k1_hw826

def k1_chk827 (v820 : IVec S16 32) : Prop :=
  (∀ a x, ((![v820] : Fin 1 → IVec S16 32) a x).toNat < S88320.size a)
theorem k1_idx827_inb : ∀ (v820 : IVec S16 32) (k1_hw827 : k1_chk827 v820), ∀ a x, ((![v820] : Fin 1 → IVec S16 32) a x).toNat < S88320.size a := fun v820 k1_hw827 => k1_hw827

def k1_chk828 (v824 : IVec S16 32) : Prop :=
  (∀ a x, ((![v824] : Fin 1 → IVec S16 32) a x).toNat < S88320.size a)
theorem k1_idx828_inb : ∀ (v824 : IVec S16 32) (k1_hw828 : k1_chk828 v824), ∀ a x, ((![v824] : Fin 1 → IVec S16 32) a x).toNat < S88320.size a := fun v824 k1_hw828 => k1_hw828

def k1_chk829 (v828 : IVec S16 32) : Prop :=
  (∀ a x, ((![v828] : Fin 1 → IVec S16 32) a x).toNat < S88320.size a)
theorem k1_idx829_inb : ∀ (v828 : IVec S16 32) (k1_hw829 : k1_chk829 v828), ∀ a x, ((![v828] : Fin 1 → IVec S16 32) a x).toNat < S88320.size a := fun v828 k1_hw829 => k1_hw829

def k1_chk830 (v832 : IVec S16 32) : Prop :=
  (∀ a x, ((![v832] : Fin 1 → IVec S16 32) a x).toNat < S88320.size a)
theorem k1_idx830_inb : ∀ (v832 : IVec S16 32) (k1_hw830 : k1_chk830 v832), ∀ a x, ((![v832] : Fin 1 → IVec S16 32) a x).toNat < S88320.size a := fun v832 k1_hw830 => k1_hw830

def k1_chk831 (v836 : IVec S16 32) : Prop :=
  (∀ a x, ((![v836] : Fin 1 → IVec S16 32) a x).toNat < S88320.size a)
theorem k1_idx831_inb : ∀ (v836 : IVec S16 32) (k1_hw831 : k1_chk831 v836), ∀ a x, ((![v836] : Fin 1 → IVec S16 32) a x).toNat < S88320.size a := fun v836 k1_hw831 => k1_hw831

def k1_chk832 (v840 : IVec S16 32) : Prop :=
  (∀ a x, ((![v840] : Fin 1 → IVec S16 32) a x).toNat < S88320.size a)
theorem k1_idx832_inb : ∀ (v840 : IVec S16 32) (k1_hw832 : k1_chk832 v840), ∀ a x, ((![v840] : Fin 1 → IVec S16 32) a x).toNat < S88320.size a := fun v840 k1_hw832 => k1_hw832
def k1_off887 (i : grid1.Coords) : Fin 4 → Nat :=
  let c2_i32_665 : BitVec 32 := 2#32
  let c11_i32_666 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_667 : BitVec 32 := 0#32
  ![2, 11, v2.toNat, 0]
@[reducible] def k1_t54_loop : Scf.Loop 32 :=
  let c0_i32_674 : BitVec 32 := 0#32
  let c32_i32_675 : BitVec 32 := 32#32
  let v486 : BitVec 32 := Scalar.addi c0_i32_674 c32_i32_675
  let c1_i32_676 : BitVec 32 := 1#32
  ⟨c0_i32_674, v486, c1_i32_676⟩
def k1_off888 (k1_t54 : Fin k1_t54_loop.trips) : Fin 2 → Nat :=
  let c0_i32_1152 : BitVec 32 := 0#32
  let v778 : Index := Scalar.indexCast c0_i32_1152
  let c0_i32_674 : BitVec 32 := 0#32
  let c1_i32_676 : BitVec 32 := 1#32
  let arg9 : BitVec 32 := Scf.iv c0_i32_674 c1_i32_676 k1_t54
  let c16_i32_1151 : BitVec 32 := 16#32
  let v777 : BitVec 32 := Scalar.muli arg9 c16_i32_1151
  let v779 : Index := Scalar.indexCast v777
  ![0, v779.toNat]
def k1_off889 (k1_t54 : Fin k1_t54_loop.trips) : Fin 2 → Nat :=
  let c1_i32_1154 : BitVec 32 := 1#32
  let v782 : Index := Scalar.indexCast c1_i32_1154
  let c0_i32_674 : BitVec 32 := 0#32
  let c1_i32_676 : BitVec 32 := 1#32
  let arg9 : BitVec 32 := Scf.iv c0_i32_674 c1_i32_676 k1_t54
  let c16_i32_1153 : BitVec 32 := 16#32
  let v781 : BitVec 32 := Scalar.muli arg9 c16_i32_1153
  let v783 : Index := Scalar.indexCast v781
  ![1, v783.toNat]
def k1_off890 (k1_t54 : Fin k1_t54_loop.trips) : Fin 2 → Nat :=
  let c2_i32_1156 : BitVec 32 := 2#32
  let v786 : Index := Scalar.indexCast c2_i32_1156
  let c0_i32_674 : BitVec 32 := 0#32
  let c1_i32_676 : BitVec 32 := 1#32
  let arg9 : BitVec 32 := Scf.iv c0_i32_674 c1_i32_676 k1_t54
  let c16_i32_1155 : BitVec 32 := 16#32
  let v785 : BitVec 32 := Scalar.muli arg9 c16_i32_1155
  let v787 : Index := Scalar.indexCast v785
  ![2, v787.toNat]
def k1_off891 (k1_t54 : Fin k1_t54_loop.trips) : Fin 2 → Nat :=
  let c3_i32_1158 : BitVec 32 := 3#32
  let v790 : Index := Scalar.indexCast c3_i32_1158
  let c0_i32_674 : BitVec 32 := 0#32
  let c1_i32_676 : BitVec 32 := 1#32
  let arg9 : BitVec 32 := Scf.iv c0_i32_674 c1_i32_676 k1_t54
  let c16_i32_1157 : BitVec 32 := 16#32
  let v789 : BitVec 32 := Scalar.muli arg9 c16_i32_1157
  let v791 : Index := Scalar.indexCast v789
  ![3, v791.toNat]
def k1_off892 (k1_t54 : Fin k1_t54_loop.trips) : Fin 2 → Nat :=
  let c4_i32_1160 : BitVec 32 := 4#32
  let v794 : Index := Scalar.indexCast c4_i32_1160
  let c0_i32_674 : BitVec 32 := 0#32
  let c1_i32_676 : BitVec 32 := 1#32
  let arg9 : BitVec 32 := Scf.iv c0_i32_674 c1_i32_676 k1_t54
  let c16_i32_1159 : BitVec 32 := 16#32
  let v793 : BitVec 32 := Scalar.muli arg9 c16_i32_1159
  let v795 : Index := Scalar.indexCast v793
  ![4, v795.toNat]
def k1_off893 (k1_t54 : Fin k1_t54_loop.trips) : Fin 2 → Nat :=
  let c5_i32_1162 : BitVec 32 := 5#32
  let v798 : Index := Scalar.indexCast c5_i32_1162
  let c0_i32_674 : BitVec 32 := 0#32
  let c1_i32_676 : BitVec 32 := 1#32
  let arg9 : BitVec 32 := Scf.iv c0_i32_674 c1_i32_676 k1_t54
  let c16_i32_1161 : BitVec 32 := 16#32
  let v797 : BitVec 32 := Scalar.muli arg9 c16_i32_1161
  let v799 : Index := Scalar.indexCast v797
  ![5, v799.toNat]
def k1_off894 (k1_t54 : Fin k1_t54_loop.trips) : Fin 2 → Nat :=
  let c6_i32_1164 : BitVec 32 := 6#32
  let v802 : Index := Scalar.indexCast c6_i32_1164
  let c0_i32_674 : BitVec 32 := 0#32
  let c1_i32_676 : BitVec 32 := 1#32
  let arg9 : BitVec 32 := Scf.iv c0_i32_674 c1_i32_676 k1_t54
  let c16_i32_1163 : BitVec 32 := 16#32
  let v801 : BitVec 32 := Scalar.muli arg9 c16_i32_1163
  let v803 : Index := Scalar.indexCast v801
  ![6, v803.toNat]
def k1_off895 (k1_t54 : Fin k1_t54_loop.trips) : Fin 2 → Nat :=
  let c7_i32_1166 : BitVec 32 := 7#32
  let v806 : Index := Scalar.indexCast c7_i32_1166
  let c0_i32_674 : BitVec 32 := 0#32
  let c1_i32_676 : BitVec 32 := 1#32
  let arg9 : BitVec 32 := Scf.iv c0_i32_674 c1_i32_676 k1_t54
  let c16_i32_1165 : BitVec 32 := 16#32
  let v805 : BitVec 32 := Scalar.muli arg9 c16_i32_1165
  let v807 : Index := Scalar.indexCast v805
  ![7, v807.toNat]
def k1_off896 (k1_t54 : Fin k1_t54_loop.trips) : Fin 2 → Nat :=
  let c8_i32_1168 : BitVec 32 := 8#32
  let v810 : Index := Scalar.indexCast c8_i32_1168
  let c0_i32_674 : BitVec 32 := 0#32
  let c1_i32_676 : BitVec 32 := 1#32
  let arg9 : BitVec 32 := Scf.iv c0_i32_674 c1_i32_676 k1_t54
  let c16_i32_1167 : BitVec 32 := 16#32
  let v809 : BitVec 32 := Scalar.muli arg9 c16_i32_1167
  let v811 : Index := Scalar.indexCast v809
  ![8, v811.toNat]
def k1_off897 (k1_t54 : Fin k1_t54_loop.trips) : Fin 2 → Nat :=
  let c9_i32_1170 : BitVec 32 := 9#32
  let v814 : Index := Scalar.indexCast c9_i32_1170
  let c0_i32_674 : BitVec 32 := 0#32
  let c1_i32_676 : BitVec 32 := 1#32
  let arg9 : BitVec 32 := Scf.iv c0_i32_674 c1_i32_676 k1_t54
  let c16_i32_1169 : BitVec 32 := 16#32
  let v813 : BitVec 32 := Scalar.muli arg9 c16_i32_1169
  let v815 : Index := Scalar.indexCast v813
  ![9, v815.toNat]
def k1_off898 (k1_t54 : Fin k1_t54_loop.trips) : Fin 2 → Nat :=
  let c10_i32_1172 : BitVec 32 := 10#32
  let v818 : Index := Scalar.indexCast c10_i32_1172
  let c0_i32_674 : BitVec 32 := 0#32
  let c1_i32_676 : BitVec 32 := 1#32
  let arg9 : BitVec 32 := Scf.iv c0_i32_674 c1_i32_676 k1_t54
  let c16_i32_1171 : BitVec 32 := 16#32
  let v817 : BitVec 32 := Scalar.muli arg9 c16_i32_1171
  let v819 : Index := Scalar.indexCast v817
  ![10, v819.toNat]
def k1_off899 (k1_t54 : Fin k1_t54_loop.trips) : Fin 2 → Nat :=
  let c11_i32_1174 : BitVec 32 := 11#32
  let v822 : Index := Scalar.indexCast c11_i32_1174
  let c0_i32_674 : BitVec 32 := 0#32
  let c1_i32_676 : BitVec 32 := 1#32
  let arg9 : BitVec 32 := Scf.iv c0_i32_674 c1_i32_676 k1_t54
  let c16_i32_1173 : BitVec 32 := 16#32
  let v821 : BitVec 32 := Scalar.muli arg9 c16_i32_1173
  let v823 : Index := Scalar.indexCast v821
  ![11, v823.toNat]
def k1_off900 (k1_t54 : Fin k1_t54_loop.trips) : Fin 2 → Nat :=
  let c12_i32_1176 : BitVec 32 := 12#32
  let v826 : Index := Scalar.indexCast c12_i32_1176
  let c0_i32_674 : BitVec 32 := 0#32
  let c1_i32_676 : BitVec 32 := 1#32
  let arg9 : BitVec 32 := Scf.iv c0_i32_674 c1_i32_676 k1_t54
  let c16_i32_1175 : BitVec 32 := 16#32
  let v825 : BitVec 32 := Scalar.muli arg9 c16_i32_1175
  let v827 : Index := Scalar.indexCast v825
  ![12, v827.toNat]
def k1_off901 (k1_t54 : Fin k1_t54_loop.trips) : Fin 2 → Nat :=
  let c13_i32_1178 : BitVec 32 := 13#32
  let v830 : Index := Scalar.indexCast c13_i32_1178
  let c0_i32_674 : BitVec 32 := 0#32
  let c1_i32_676 : BitVec 32 := 1#32
  let arg9 : BitVec 32 := Scf.iv c0_i32_674 c1_i32_676 k1_t54
  let c16_i32_1177 : BitVec 32 := 16#32
  let v829 : BitVec 32 := Scalar.muli arg9 c16_i32_1177
  let v831 : Index := Scalar.indexCast v829
  ![13, v831.toNat]
def k1_off902 (k1_t54 : Fin k1_t54_loop.trips) : Fin 2 → Nat :=
  let c14_i32_1180 : BitVec 32 := 14#32
  let v834 : Index := Scalar.indexCast c14_i32_1180
  let c0_i32_674 : BitVec 32 := 0#32
  let c1_i32_676 : BitVec 32 := 1#32
  let arg9 : BitVec 32 := Scf.iv c0_i32_674 c1_i32_676 k1_t54
  let c16_i32_1179 : BitVec 32 := 16#32
  let v833 : BitVec 32 := Scalar.muli arg9 c16_i32_1179
  let v835 : Index := Scalar.indexCast v833
  ![14, v835.toNat]
def k1_off903 (k1_t54 : Fin k1_t54_loop.trips) : Fin 2 → Nat :=
  let c15_i32_1182 : BitVec 32 := 15#32
  let v838 : Index := Scalar.indexCast c15_i32_1182
  let c0_i32_674 : BitVec 32 := 0#32
  let c1_i32_676 : BitVec 32 := 1#32
  let arg9 : BitVec 32 := Scf.iv c0_i32_674 c1_i32_676 k1_t54
  let c16_i32_1181 : BitVec 32 := 16#32
  let v837 : BitVec 32 := Scalar.muli arg9 c16_i32_1181
  let v839 : Index := Scalar.indexCast v837
  ![15, v839.toNat]

def k1_chk833 (v780 : IVec S16 32) : Prop :=
  (∀ a x, ((![v780] : Fin 1 → IVec S16 32) a x).toNat < S88320.size a)
theorem k1_idx833_inb : ∀ (v780 : IVec S16 32) (k1_hw833 : k1_chk833 v780), ∀ a x, ((![v780] : Fin 1 → IVec S16 32) a x).toNat < S88320.size a := fun v780 k1_hw833 => k1_hw833

def k1_chk834 (v784 : IVec S16 32) : Prop :=
  (∀ a x, ((![v784] : Fin 1 → IVec S16 32) a x).toNat < S88320.size a)
theorem k1_idx834_inb : ∀ (v784 : IVec S16 32) (k1_hw834 : k1_chk834 v784), ∀ a x, ((![v784] : Fin 1 → IVec S16 32) a x).toNat < S88320.size a := fun v784 k1_hw834 => k1_hw834

def k1_chk835 (v788 : IVec S16 32) : Prop :=
  (∀ a x, ((![v788] : Fin 1 → IVec S16 32) a x).toNat < S88320.size a)
theorem k1_idx835_inb : ∀ (v788 : IVec S16 32) (k1_hw835 : k1_chk835 v788), ∀ a x, ((![v788] : Fin 1 → IVec S16 32) a x).toNat < S88320.size a := fun v788 k1_hw835 => k1_hw835

def k1_chk836 (v792 : IVec S16 32) : Prop :=
  (∀ a x, ((![v792] : Fin 1 → IVec S16 32) a x).toNat < S88320.size a)
theorem k1_idx836_inb : ∀ (v792 : IVec S16 32) (k1_hw836 : k1_chk836 v792), ∀ a x, ((![v792] : Fin 1 → IVec S16 32) a x).toNat < S88320.size a := fun v792 k1_hw836 => k1_hw836

def k1_chk837 (v796 : IVec S16 32) : Prop :=
  (∀ a x, ((![v796] : Fin 1 → IVec S16 32) a x).toNat < S88320.size a)
theorem k1_idx837_inb : ∀ (v796 : IVec S16 32) (k1_hw837 : k1_chk837 v796), ∀ a x, ((![v796] : Fin 1 → IVec S16 32) a x).toNat < S88320.size a := fun v796 k1_hw837 => k1_hw837

def k1_chk838 (v800 : IVec S16 32) : Prop :=
  (∀ a x, ((![v800] : Fin 1 → IVec S16 32) a x).toNat < S88320.size a)
theorem k1_idx838_inb : ∀ (v800 : IVec S16 32) (k1_hw838 : k1_chk838 v800), ∀ a x, ((![v800] : Fin 1 → IVec S16 32) a x).toNat < S88320.size a := fun v800 k1_hw838 => k1_hw838

def k1_chk839 (v804 : IVec S16 32) : Prop :=
  (∀ a x, ((![v804] : Fin 1 → IVec S16 32) a x).toNat < S88320.size a)
theorem k1_idx839_inb : ∀ (v804 : IVec S16 32) (k1_hw839 : k1_chk839 v804), ∀ a x, ((![v804] : Fin 1 → IVec S16 32) a x).toNat < S88320.size a := fun v804 k1_hw839 => k1_hw839

def k1_chk840 (v808 : IVec S16 32) : Prop :=
  (∀ a x, ((![v808] : Fin 1 → IVec S16 32) a x).toNat < S88320.size a)
theorem k1_idx840_inb : ∀ (v808 : IVec S16 32) (k1_hw840 : k1_chk840 v808), ∀ a x, ((![v808] : Fin 1 → IVec S16 32) a x).toNat < S88320.size a := fun v808 k1_hw840 => k1_hw840

def k1_chk841 (v812 : IVec S16 32) : Prop :=
  (∀ a x, ((![v812] : Fin 1 → IVec S16 32) a x).toNat < S88320.size a)
theorem k1_idx841_inb : ∀ (v812 : IVec S16 32) (k1_hw841 : k1_chk841 v812), ∀ a x, ((![v812] : Fin 1 → IVec S16 32) a x).toNat < S88320.size a := fun v812 k1_hw841 => k1_hw841

def k1_chk842 (v816 : IVec S16 32) : Prop :=
  (∀ a x, ((![v816] : Fin 1 → IVec S16 32) a x).toNat < S88320.size a)
theorem k1_idx842_inb : ∀ (v816 : IVec S16 32) (k1_hw842 : k1_chk842 v816), ∀ a x, ((![v816] : Fin 1 → IVec S16 32) a x).toNat < S88320.size a := fun v816 k1_hw842 => k1_hw842

def k1_chk843 (v820 : IVec S16 32) : Prop :=
  (∀ a x, ((![v820] : Fin 1 → IVec S16 32) a x).toNat < S88320.size a)
theorem k1_idx843_inb : ∀ (v820 : IVec S16 32) (k1_hw843 : k1_chk843 v820), ∀ a x, ((![v820] : Fin 1 → IVec S16 32) a x).toNat < S88320.size a := fun v820 k1_hw843 => k1_hw843

def k1_chk844 (v824 : IVec S16 32) : Prop :=
  (∀ a x, ((![v824] : Fin 1 → IVec S16 32) a x).toNat < S88320.size a)
theorem k1_idx844_inb : ∀ (v824 : IVec S16 32) (k1_hw844 : k1_chk844 v824), ∀ a x, ((![v824] : Fin 1 → IVec S16 32) a x).toNat < S88320.size a := fun v824 k1_hw844 => k1_hw844

def k1_chk845 (v828 : IVec S16 32) : Prop :=
  (∀ a x, ((![v828] : Fin 1 → IVec S16 32) a x).toNat < S88320.size a)
theorem k1_idx845_inb : ∀ (v828 : IVec S16 32) (k1_hw845 : k1_chk845 v828), ∀ a x, ((![v828] : Fin 1 → IVec S16 32) a x).toNat < S88320.size a := fun v828 k1_hw845 => k1_hw845

def k1_chk846 (v832 : IVec S16 32) : Prop :=
  (∀ a x, ((![v832] : Fin 1 → IVec S16 32) a x).toNat < S88320.size a)
theorem k1_idx846_inb : ∀ (v832 : IVec S16 32) (k1_hw846 : k1_chk846 v832), ∀ a x, ((![v832] : Fin 1 → IVec S16 32) a x).toNat < S88320.size a := fun v832 k1_hw846 => k1_hw846

def k1_chk847 (v836 : IVec S16 32) : Prop :=
  (∀ a x, ((![v836] : Fin 1 → IVec S16 32) a x).toNat < S88320.size a)
theorem k1_idx847_inb : ∀ (v836 : IVec S16 32) (k1_hw847 : k1_chk847 v836), ∀ a x, ((![v836] : Fin 1 → IVec S16 32) a x).toNat < S88320.size a := fun v836 k1_hw847 => k1_hw847

def k1_chk848 (v840 : IVec S16 32) : Prop :=
  (∀ a x, ((![v840] : Fin 1 → IVec S16 32) a x).toNat < S88320.size a)
theorem k1_idx848_inb : ∀ (v840 : IVec S16 32) (k1_hw848 : k1_chk848 v840), ∀ a x, ((![v840] : Fin 1 → IVec S16 32) a x).toNat < S88320.size a := fun v840 k1_hw848 => k1_hw848
def k1_off904 (i : grid1.Coords) : Fin 4 → Nat :=
  let c2_i32_678 : BitVec 32 := 2#32
  let c12_i32_679 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_680 : BitVec 32 := 0#32
  ![2, 12, v2.toNat, 0]
@[reducible] def k1_t55_loop : Scf.Loop 32 :=
  let c0_i32_687 : BitVec 32 := 0#32
  let c32_i32_688 : BitVec 32 := 32#32
  let v495 : BitVec 32 := Scalar.addi c0_i32_687 c32_i32_688
  let c1_i32_689 : BitVec 32 := 1#32
  ⟨c0_i32_687, v495, c1_i32_689⟩
def k1_off905 (k1_t55 : Fin k1_t55_loop.trips) : Fin 2 → Nat :=
  let c0_i32_1152 : BitVec 32 := 0#32
  let v778 : Index := Scalar.indexCast c0_i32_1152
  let c0_i32_687 : BitVec 32 := 0#32
  let c1_i32_689 : BitVec 32 := 1#32
  let arg9 : BitVec 32 := Scf.iv c0_i32_687 c1_i32_689 k1_t55
  let c16_i32_1151 : BitVec 32 := 16#32
  let v777 : BitVec 32 := Scalar.muli arg9 c16_i32_1151
  let v779 : Index := Scalar.indexCast v777
  ![0, v779.toNat]
def k1_off906 (k1_t55 : Fin k1_t55_loop.trips) : Fin 2 → Nat :=
  let c1_i32_1154 : BitVec 32 := 1#32
  let v782 : Index := Scalar.indexCast c1_i32_1154
  let c0_i32_687 : BitVec 32 := 0#32
  let c1_i32_689 : BitVec 32 := 1#32
  let arg9 : BitVec 32 := Scf.iv c0_i32_687 c1_i32_689 k1_t55
  let c16_i32_1153 : BitVec 32 := 16#32
  let v781 : BitVec 32 := Scalar.muli arg9 c16_i32_1153
  let v783 : Index := Scalar.indexCast v781
  ![1, v783.toNat]
def k1_off907 (k1_t55 : Fin k1_t55_loop.trips) : Fin 2 → Nat :=
  let c2_i32_1156 : BitVec 32 := 2#32
  let v786 : Index := Scalar.indexCast c2_i32_1156
  let c0_i32_687 : BitVec 32 := 0#32
  let c1_i32_689 : BitVec 32 := 1#32
  let arg9 : BitVec 32 := Scf.iv c0_i32_687 c1_i32_689 k1_t55
  let c16_i32_1155 : BitVec 32 := 16#32
  let v785 : BitVec 32 := Scalar.muli arg9 c16_i32_1155
  let v787 : Index := Scalar.indexCast v785
  ![2, v787.toNat]
def k1_off908 (k1_t55 : Fin k1_t55_loop.trips) : Fin 2 → Nat :=
  let c3_i32_1158 : BitVec 32 := 3#32
  let v790 : Index := Scalar.indexCast c3_i32_1158
  let c0_i32_687 : BitVec 32 := 0#32
  let c1_i32_689 : BitVec 32 := 1#32
  let arg9 : BitVec 32 := Scf.iv c0_i32_687 c1_i32_689 k1_t55
  let c16_i32_1157 : BitVec 32 := 16#32
  let v789 : BitVec 32 := Scalar.muli arg9 c16_i32_1157
  let v791 : Index := Scalar.indexCast v789
  ![3, v791.toNat]
def k1_off909 (k1_t55 : Fin k1_t55_loop.trips) : Fin 2 → Nat :=
  let c4_i32_1160 : BitVec 32 := 4#32
  let v794 : Index := Scalar.indexCast c4_i32_1160
  let c0_i32_687 : BitVec 32 := 0#32
  let c1_i32_689 : BitVec 32 := 1#32
  let arg9 : BitVec 32 := Scf.iv c0_i32_687 c1_i32_689 k1_t55
  let c16_i32_1159 : BitVec 32 := 16#32
  let v793 : BitVec 32 := Scalar.muli arg9 c16_i32_1159
  let v795 : Index := Scalar.indexCast v793
  ![4, v795.toNat]
def k1_off910 (k1_t55 : Fin k1_t55_loop.trips) : Fin 2 → Nat :=
  let c5_i32_1162 : BitVec 32 := 5#32
  let v798 : Index := Scalar.indexCast c5_i32_1162
  let c0_i32_687 : BitVec 32 := 0#32
  let c1_i32_689 : BitVec 32 := 1#32
  let arg9 : BitVec 32 := Scf.iv c0_i32_687 c1_i32_689 k1_t55
  let c16_i32_1161 : BitVec 32 := 16#32
  let v797 : BitVec 32 := Scalar.muli arg9 c16_i32_1161
  let v799 : Index := Scalar.indexCast v797
  ![5, v799.toNat]
def k1_off911 (k1_t55 : Fin k1_t55_loop.trips) : Fin 2 → Nat :=
  let c6_i32_1164 : BitVec 32 := 6#32
  let v802 : Index := Scalar.indexCast c6_i32_1164
  let c0_i32_687 : BitVec 32 := 0#32
  let c1_i32_689 : BitVec 32 := 1#32
  let arg9 : BitVec 32 := Scf.iv c0_i32_687 c1_i32_689 k1_t55
  let c16_i32_1163 : BitVec 32 := 16#32
  let v801 : BitVec 32 := Scalar.muli arg9 c16_i32_1163
  let v803 : Index := Scalar.indexCast v801
  ![6, v803.toNat]
def k1_off912 (k1_t55 : Fin k1_t55_loop.trips) : Fin 2 → Nat :=
  let c7_i32_1166 : BitVec 32 := 7#32
  let v806 : Index := Scalar.indexCast c7_i32_1166
  let c0_i32_687 : BitVec 32 := 0#32
  let c1_i32_689 : BitVec 32 := 1#32
  let arg9 : BitVec 32 := Scf.iv c0_i32_687 c1_i32_689 k1_t55
  let c16_i32_1165 : BitVec 32 := 16#32
  let v805 : BitVec 32 := Scalar.muli arg9 c16_i32_1165
  let v807 : Index := Scalar.indexCast v805
  ![7, v807.toNat]
def k1_off913 (k1_t55 : Fin k1_t55_loop.trips) : Fin 2 → Nat :=
  let c8_i32_1168 : BitVec 32 := 8#32
  let v810 : Index := Scalar.indexCast c8_i32_1168
  let c0_i32_687 : BitVec 32 := 0#32
  let c1_i32_689 : BitVec 32 := 1#32
  let arg9 : BitVec 32 := Scf.iv c0_i32_687 c1_i32_689 k1_t55
  let c16_i32_1167 : BitVec 32 := 16#32
  let v809 : BitVec 32 := Scalar.muli arg9 c16_i32_1167
  let v811 : Index := Scalar.indexCast v809
  ![8, v811.toNat]
def k1_off914 (k1_t55 : Fin k1_t55_loop.trips) : Fin 2 → Nat :=
  let c9_i32_1170 : BitVec 32 := 9#32
  let v814 : Index := Scalar.indexCast c9_i32_1170
  let c0_i32_687 : BitVec 32 := 0#32
  let c1_i32_689 : BitVec 32 := 1#32
  let arg9 : BitVec 32 := Scf.iv c0_i32_687 c1_i32_689 k1_t55
  let c16_i32_1169 : BitVec 32 := 16#32
  let v813 : BitVec 32 := Scalar.muli arg9 c16_i32_1169
  let v815 : Index := Scalar.indexCast v813
  ![9, v815.toNat]
def k1_off915 (k1_t55 : Fin k1_t55_loop.trips) : Fin 2 → Nat :=
  let c10_i32_1172 : BitVec 32 := 10#32
  let v818 : Index := Scalar.indexCast c10_i32_1172
  let c0_i32_687 : BitVec 32 := 0#32
  let c1_i32_689 : BitVec 32 := 1#32
  let arg9 : BitVec 32 := Scf.iv c0_i32_687 c1_i32_689 k1_t55
  let c16_i32_1171 : BitVec 32 := 16#32
  let v817 : BitVec 32 := Scalar.muli arg9 c16_i32_1171
  let v819 : Index := Scalar.indexCast v817
  ![10, v819.toNat]
def k1_off916 (k1_t55 : Fin k1_t55_loop.trips) : Fin 2 → Nat :=
  let c11_i32_1174 : BitVec 32 := 11#32
  let v822 : Index := Scalar.indexCast c11_i32_1174
  let c0_i32_687 : BitVec 32 := 0#32
  let c1_i32_689 : BitVec 32 := 1#32
  let arg9 : BitVec 32 := Scf.iv c0_i32_687 c1_i32_689 k1_t55
  let c16_i32_1173 : BitVec 32 := 16#32
  let v821 : BitVec 32 := Scalar.muli arg9 c16_i32_1173
  let v823 : Index := Scalar.indexCast v821
  ![11, v823.toNat]
def k1_off917 (k1_t55 : Fin k1_t55_loop.trips) : Fin 2 → Nat :=
  let c12_i32_1176 : BitVec 32 := 12#32
  let v826 : Index := Scalar.indexCast c12_i32_1176
  let c0_i32_687 : BitVec 32 := 0#32
  let c1_i32_689 : BitVec 32 := 1#32
  let arg9 : BitVec 32 := Scf.iv c0_i32_687 c1_i32_689 k1_t55
  let c16_i32_1175 : BitVec 32 := 16#32
  let v825 : BitVec 32 := Scalar.muli arg9 c16_i32_1175
  let v827 : Index := Scalar.indexCast v825
  ![12, v827.toNat]
def k1_off918 (k1_t55 : Fin k1_t55_loop.trips) : Fin 2 → Nat :=
  let c13_i32_1178 : BitVec 32 := 13#32
  let v830 : Index := Scalar.indexCast c13_i32_1178
  let c0_i32_687 : BitVec 32 := 0#32
  let c1_i32_689 : BitVec 32 := 1#32
  let arg9 : BitVec 32 := Scf.iv c0_i32_687 c1_i32_689 k1_t55
  let c16_i32_1177 : BitVec 32 := 16#32
  let v829 : BitVec 32 := Scalar.muli arg9 c16_i32_1177
  let v831 : Index := Scalar.indexCast v829
  ![13, v831.toNat]
def k1_off919 (k1_t55 : Fin k1_t55_loop.trips) : Fin 2 → Nat :=
  let c14_i32_1180 : BitVec 32 := 14#32
  let v834 : Index := Scalar.indexCast c14_i32_1180
  let c0_i32_687 : BitVec 32 := 0#32
  let c1_i32_689 : BitVec 32 := 1#32
  let arg9 : BitVec 32 := Scf.iv c0_i32_687 c1_i32_689 k1_t55
  let c16_i32_1179 : BitVec 32 := 16#32
  let v833 : BitVec 32 := Scalar.muli arg9 c16_i32_1179
  let v835 : Index := Scalar.indexCast v833
  ![14, v835.toNat]
def k1_off920 (k1_t55 : Fin k1_t55_loop.trips) : Fin 2 → Nat :=
  let c15_i32_1182 : BitVec 32 := 15#32
  let v838 : Index := Scalar.indexCast c15_i32_1182
  let c0_i32_687 : BitVec 32 := 0#32
  let c1_i32_689 : BitVec 32 := 1#32
  let arg9 : BitVec 32 := Scf.iv c0_i32_687 c1_i32_689 k1_t55
  let c16_i32_1181 : BitVec 32 := 16#32
  let v837 : BitVec 32 := Scalar.muli arg9 c16_i32_1181
  let v839 : Index := Scalar.indexCast v837
  ![15, v839.toNat]

def k1_chk849 (v780 : IVec S16 32) : Prop :=
  (∀ a x, ((![v780] : Fin 1 → IVec S16 32) a x).toNat < S88320.size a)
theorem k1_idx849_inb : ∀ (v780 : IVec S16 32) (k1_hw849 : k1_chk849 v780), ∀ a x, ((![v780] : Fin 1 → IVec S16 32) a x).toNat < S88320.size a := fun v780 k1_hw849 => k1_hw849

def k1_chk850 (v784 : IVec S16 32) : Prop :=
  (∀ a x, ((![v784] : Fin 1 → IVec S16 32) a x).toNat < S88320.size a)
theorem k1_idx850_inb : ∀ (v784 : IVec S16 32) (k1_hw850 : k1_chk850 v784), ∀ a x, ((![v784] : Fin 1 → IVec S16 32) a x).toNat < S88320.size a := fun v784 k1_hw850 => k1_hw850

def k1_chk851 (v788 : IVec S16 32) : Prop :=
  (∀ a x, ((![v788] : Fin 1 → IVec S16 32) a x).toNat < S88320.size a)
theorem k1_idx851_inb : ∀ (v788 : IVec S16 32) (k1_hw851 : k1_chk851 v788), ∀ a x, ((![v788] : Fin 1 → IVec S16 32) a x).toNat < S88320.size a := fun v788 k1_hw851 => k1_hw851

def k1_chk852 (v792 : IVec S16 32) : Prop :=
  (∀ a x, ((![v792] : Fin 1 → IVec S16 32) a x).toNat < S88320.size a)
theorem k1_idx852_inb : ∀ (v792 : IVec S16 32) (k1_hw852 : k1_chk852 v792), ∀ a x, ((![v792] : Fin 1 → IVec S16 32) a x).toNat < S88320.size a := fun v792 k1_hw852 => k1_hw852

def k1_chk853 (v796 : IVec S16 32) : Prop :=
  (∀ a x, ((![v796] : Fin 1 → IVec S16 32) a x).toNat < S88320.size a)
theorem k1_idx853_inb : ∀ (v796 : IVec S16 32) (k1_hw853 : k1_chk853 v796), ∀ a x, ((![v796] : Fin 1 → IVec S16 32) a x).toNat < S88320.size a := fun v796 k1_hw853 => k1_hw853

def k1_chk854 (v800 : IVec S16 32) : Prop :=
  (∀ a x, ((![v800] : Fin 1 → IVec S16 32) a x).toNat < S88320.size a)
theorem k1_idx854_inb : ∀ (v800 : IVec S16 32) (k1_hw854 : k1_chk854 v800), ∀ a x, ((![v800] : Fin 1 → IVec S16 32) a x).toNat < S88320.size a := fun v800 k1_hw854 => k1_hw854

def k1_chk855 (v804 : IVec S16 32) : Prop :=
  (∀ a x, ((![v804] : Fin 1 → IVec S16 32) a x).toNat < S88320.size a)
theorem k1_idx855_inb : ∀ (v804 : IVec S16 32) (k1_hw855 : k1_chk855 v804), ∀ a x, ((![v804] : Fin 1 → IVec S16 32) a x).toNat < S88320.size a := fun v804 k1_hw855 => k1_hw855

def k1_chk856 (v808 : IVec S16 32) : Prop :=
  (∀ a x, ((![v808] : Fin 1 → IVec S16 32) a x).toNat < S88320.size a)
theorem k1_idx856_inb : ∀ (v808 : IVec S16 32) (k1_hw856 : k1_chk856 v808), ∀ a x, ((![v808] : Fin 1 → IVec S16 32) a x).toNat < S88320.size a := fun v808 k1_hw856 => k1_hw856

def k1_chk857 (v812 : IVec S16 32) : Prop :=
  (∀ a x, ((![v812] : Fin 1 → IVec S16 32) a x).toNat < S88320.size a)
theorem k1_idx857_inb : ∀ (v812 : IVec S16 32) (k1_hw857 : k1_chk857 v812), ∀ a x, ((![v812] : Fin 1 → IVec S16 32) a x).toNat < S88320.size a := fun v812 k1_hw857 => k1_hw857

def k1_chk858 (v816 : IVec S16 32) : Prop :=
  (∀ a x, ((![v816] : Fin 1 → IVec S16 32) a x).toNat < S88320.size a)
theorem k1_idx858_inb : ∀ (v816 : IVec S16 32) (k1_hw858 : k1_chk858 v816), ∀ a x, ((![v816] : Fin 1 → IVec S16 32) a x).toNat < S88320.size a := fun v816 k1_hw858 => k1_hw858

def k1_chk859 (v820 : IVec S16 32) : Prop :=
  (∀ a x, ((![v820] : Fin 1 → IVec S16 32) a x).toNat < S88320.size a)
theorem k1_idx859_inb : ∀ (v820 : IVec S16 32) (k1_hw859 : k1_chk859 v820), ∀ a x, ((![v820] : Fin 1 → IVec S16 32) a x).toNat < S88320.size a := fun v820 k1_hw859 => k1_hw859

def k1_chk860 (v824 : IVec S16 32) : Prop :=
  (∀ a x, ((![v824] : Fin 1 → IVec S16 32) a x).toNat < S88320.size a)
theorem k1_idx860_inb : ∀ (v824 : IVec S16 32) (k1_hw860 : k1_chk860 v824), ∀ a x, ((![v824] : Fin 1 → IVec S16 32) a x).toNat < S88320.size a := fun v824 k1_hw860 => k1_hw860

def k1_chk861 (v828 : IVec S16 32) : Prop :=
  (∀ a x, ((![v828] : Fin 1 → IVec S16 32) a x).toNat < S88320.size a)
theorem k1_idx861_inb : ∀ (v828 : IVec S16 32) (k1_hw861 : k1_chk861 v828), ∀ a x, ((![v828] : Fin 1 → IVec S16 32) a x).toNat < S88320.size a := fun v828 k1_hw861 => k1_hw861

def k1_chk862 (v832 : IVec S16 32) : Prop :=
  (∀ a x, ((![v832] : Fin 1 → IVec S16 32) a x).toNat < S88320.size a)
theorem k1_idx862_inb : ∀ (v832 : IVec S16 32) (k1_hw862 : k1_chk862 v832), ∀ a x, ((![v832] : Fin 1 → IVec S16 32) a x).toNat < S88320.size a := fun v832 k1_hw862 => k1_hw862

def k1_chk863 (v836 : IVec S16 32) : Prop :=
  (∀ a x, ((![v836] : Fin 1 → IVec S16 32) a x).toNat < S88320.size a)
theorem k1_idx863_inb : ∀ (v836 : IVec S16 32) (k1_hw863 : k1_chk863 v836), ∀ a x, ((![v836] : Fin 1 → IVec S16 32) a x).toNat < S88320.size a := fun v836 k1_hw863 => k1_hw863

def k1_chk864 (v840 : IVec S16 32) : Prop :=
  (∀ a x, ((![v840] : Fin 1 → IVec S16 32) a x).toNat < S88320.size a)
theorem k1_idx864_inb : ∀ (v840 : IVec S16 32) (k1_hw864 : k1_chk864 v840), ∀ a x, ((![v840] : Fin 1 → IVec S16 32) a x).toNat < S88320.size a := fun v840 k1_hw864 => k1_hw864
def k1_off921 (i : grid1.Coords) : Fin 4 → Nat :=
  let c2_i32_691 : BitVec 32 := 2#32
  let c13_i32_692 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_693 : BitVec 32 := 0#32
  ![2, 13, v2.toNat, 0]
@[reducible] def k1_t56_loop : Scf.Loop 32 :=
  let c0_i32_700 : BitVec 32 := 0#32
  let c32_i32_701 : BitVec 32 := 32#32
  let v504 : BitVec 32 := Scalar.addi c0_i32_700 c32_i32_701
  let c1_i32_702 : BitVec 32 := 1#32
  ⟨c0_i32_700, v504, c1_i32_702⟩
def k1_off922 (k1_t56 : Fin k1_t56_loop.trips) : Fin 2 → Nat :=
  let c0_i32_1152 : BitVec 32 := 0#32
  let v778 : Index := Scalar.indexCast c0_i32_1152
  let c0_i32_700 : BitVec 32 := 0#32
  let c1_i32_702 : BitVec 32 := 1#32
  let arg9 : BitVec 32 := Scf.iv c0_i32_700 c1_i32_702 k1_t56
  let c16_i32_1151 : BitVec 32 := 16#32
  let v777 : BitVec 32 := Scalar.muli arg9 c16_i32_1151
  let v779 : Index := Scalar.indexCast v777
  ![0, v779.toNat]
def k1_off923 (k1_t56 : Fin k1_t56_loop.trips) : Fin 2 → Nat :=
  let c1_i32_1154 : BitVec 32 := 1#32
  let v782 : Index := Scalar.indexCast c1_i32_1154
  let c0_i32_700 : BitVec 32 := 0#32
  let c1_i32_702 : BitVec 32 := 1#32
  let arg9 : BitVec 32 := Scf.iv c0_i32_700 c1_i32_702 k1_t56
  let c16_i32_1153 : BitVec 32 := 16#32
  let v781 : BitVec 32 := Scalar.muli arg9 c16_i32_1153
  let v783 : Index := Scalar.indexCast v781
  ![1, v783.toNat]
def k1_off924 (k1_t56 : Fin k1_t56_loop.trips) : Fin 2 → Nat :=
  let c2_i32_1156 : BitVec 32 := 2#32
  let v786 : Index := Scalar.indexCast c2_i32_1156
  let c0_i32_700 : BitVec 32 := 0#32
  let c1_i32_702 : BitVec 32 := 1#32
  let arg9 : BitVec 32 := Scf.iv c0_i32_700 c1_i32_702 k1_t56
  let c16_i32_1155 : BitVec 32 := 16#32
  let v785 : BitVec 32 := Scalar.muli arg9 c16_i32_1155
  let v787 : Index := Scalar.indexCast v785
  ![2, v787.toNat]
def k1_off925 (k1_t56 : Fin k1_t56_loop.trips) : Fin 2 → Nat :=
  let c3_i32_1158 : BitVec 32 := 3#32
  let v790 : Index := Scalar.indexCast c3_i32_1158
  let c0_i32_700 : BitVec 32 := 0#32
  let c1_i32_702 : BitVec 32 := 1#32
  let arg9 : BitVec 32 := Scf.iv c0_i32_700 c1_i32_702 k1_t56
  let c16_i32_1157 : BitVec 32 := 16#32
  let v789 : BitVec 32 := Scalar.muli arg9 c16_i32_1157
  let v791 : Index := Scalar.indexCast v789
  ![3, v791.toNat]
def k1_off926 (k1_t56 : Fin k1_t56_loop.trips) : Fin 2 → Nat :=
  let c4_i32_1160 : BitVec 32 := 4#32
  let v794 : Index := Scalar.indexCast c4_i32_1160
  let c0_i32_700 : BitVec 32 := 0#32
  let c1_i32_702 : BitVec 32 := 1#32
  let arg9 : BitVec 32 := Scf.iv c0_i32_700 c1_i32_702 k1_t56
  let c16_i32_1159 : BitVec 32 := 16#32
  let v793 : BitVec 32 := Scalar.muli arg9 c16_i32_1159
  let v795 : Index := Scalar.indexCast v793
  ![4, v795.toNat]
def k1_off927 (k1_t56 : Fin k1_t56_loop.trips) : Fin 2 → Nat :=
  let c5_i32_1162 : BitVec 32 := 5#32
  let v798 : Index := Scalar.indexCast c5_i32_1162
  let c0_i32_700 : BitVec 32 := 0#32
  let c1_i32_702 : BitVec 32 := 1#32
  let arg9 : BitVec 32 := Scf.iv c0_i32_700 c1_i32_702 k1_t56
  let c16_i32_1161 : BitVec 32 := 16#32
  let v797 : BitVec 32 := Scalar.muli arg9 c16_i32_1161
  let v799 : Index := Scalar.indexCast v797
  ![5, v799.toNat]
def k1_off928 (k1_t56 : Fin k1_t56_loop.trips) : Fin 2 → Nat :=
  let c6_i32_1164 : BitVec 32 := 6#32
  let v802 : Index := Scalar.indexCast c6_i32_1164
  let c0_i32_700 : BitVec 32 := 0#32
  let c1_i32_702 : BitVec 32 := 1#32
  let arg9 : BitVec 32 := Scf.iv c0_i32_700 c1_i32_702 k1_t56
  let c16_i32_1163 : BitVec 32 := 16#32
  let v801 : BitVec 32 := Scalar.muli arg9 c16_i32_1163
  let v803 : Index := Scalar.indexCast v801
  ![6, v803.toNat]
def k1_off929 (k1_t56 : Fin k1_t56_loop.trips) : Fin 2 → Nat :=
  let c7_i32_1166 : BitVec 32 := 7#32
  let v806 : Index := Scalar.indexCast c7_i32_1166
  let c0_i32_700 : BitVec 32 := 0#32
  let c1_i32_702 : BitVec 32 := 1#32
  let arg9 : BitVec 32 := Scf.iv c0_i32_700 c1_i32_702 k1_t56
  let c16_i32_1165 : BitVec 32 := 16#32
  let v805 : BitVec 32 := Scalar.muli arg9 c16_i32_1165
  let v807 : Index := Scalar.indexCast v805
  ![7, v807.toNat]
def k1_off930 (k1_t56 : Fin k1_t56_loop.trips) : Fin 2 → Nat :=
  let c8_i32_1168 : BitVec 32 := 8#32
  let v810 : Index := Scalar.indexCast c8_i32_1168
  let c0_i32_700 : BitVec 32 := 0#32
  let c1_i32_702 : BitVec 32 := 1#32
  let arg9 : BitVec 32 := Scf.iv c0_i32_700 c1_i32_702 k1_t56
  let c16_i32_1167 : BitVec 32 := 16#32
  let v809 : BitVec 32 := Scalar.muli arg9 c16_i32_1167
  let v811 : Index := Scalar.indexCast v809
  ![8, v811.toNat]
def k1_off931 (k1_t56 : Fin k1_t56_loop.trips) : Fin 2 → Nat :=
  let c9_i32_1170 : BitVec 32 := 9#32
  let v814 : Index := Scalar.indexCast c9_i32_1170
  let c0_i32_700 : BitVec 32 := 0#32
  let c1_i32_702 : BitVec 32 := 1#32
  let arg9 : BitVec 32 := Scf.iv c0_i32_700 c1_i32_702 k1_t56
  let c16_i32_1169 : BitVec 32 := 16#32
  let v813 : BitVec 32 := Scalar.muli arg9 c16_i32_1169
  let v815 : Index := Scalar.indexCast v813
  ![9, v815.toNat]
def k1_off932 (k1_t56 : Fin k1_t56_loop.trips) : Fin 2 → Nat :=
  let c10_i32_1172 : BitVec 32 := 10#32
  let v818 : Index := Scalar.indexCast c10_i32_1172
  let c0_i32_700 : BitVec 32 := 0#32
  let c1_i32_702 : BitVec 32 := 1#32
  let arg9 : BitVec 32 := Scf.iv c0_i32_700 c1_i32_702 k1_t56
  let c16_i32_1171 : BitVec 32 := 16#32
  let v817 : BitVec 32 := Scalar.muli arg9 c16_i32_1171
  let v819 : Index := Scalar.indexCast v817
  ![10, v819.toNat]
def k1_off933 (k1_t56 : Fin k1_t56_loop.trips) : Fin 2 → Nat :=
  let c11_i32_1174 : BitVec 32 := 11#32
  let v822 : Index := Scalar.indexCast c11_i32_1174
  let c0_i32_700 : BitVec 32 := 0#32
  let c1_i32_702 : BitVec 32 := 1#32
  let arg9 : BitVec 32 := Scf.iv c0_i32_700 c1_i32_702 k1_t56
  let c16_i32_1173 : BitVec 32 := 16#32
  let v821 : BitVec 32 := Scalar.muli arg9 c16_i32_1173
  let v823 : Index := Scalar.indexCast v821
  ![11, v823.toNat]
def k1_off934 (k1_t56 : Fin k1_t56_loop.trips) : Fin 2 → Nat :=
  let c12_i32_1176 : BitVec 32 := 12#32
  let v826 : Index := Scalar.indexCast c12_i32_1176
  let c0_i32_700 : BitVec 32 := 0#32
  let c1_i32_702 : BitVec 32 := 1#32
  let arg9 : BitVec 32 := Scf.iv c0_i32_700 c1_i32_702 k1_t56
  let c16_i32_1175 : BitVec 32 := 16#32
  let v825 : BitVec 32 := Scalar.muli arg9 c16_i32_1175
  let v827 : Index := Scalar.indexCast v825
  ![12, v827.toNat]
def k1_off935 (k1_t56 : Fin k1_t56_loop.trips) : Fin 2 → Nat :=
  let c13_i32_1178 : BitVec 32 := 13#32
  let v830 : Index := Scalar.indexCast c13_i32_1178
  let c0_i32_700 : BitVec 32 := 0#32
  let c1_i32_702 : BitVec 32 := 1#32
  let arg9 : BitVec 32 := Scf.iv c0_i32_700 c1_i32_702 k1_t56
  let c16_i32_1177 : BitVec 32 := 16#32
  let v829 : BitVec 32 := Scalar.muli arg9 c16_i32_1177
  let v831 : Index := Scalar.indexCast v829
  ![13, v831.toNat]
def k1_off936 (k1_t56 : Fin k1_t56_loop.trips) : Fin 2 → Nat :=
  let c14_i32_1180 : BitVec 32 := 14#32
  let v834 : Index := Scalar.indexCast c14_i32_1180
  let c0_i32_700 : BitVec 32 := 0#32
  let c1_i32_702 : BitVec 32 := 1#32
  let arg9 : BitVec 32 := Scf.iv c0_i32_700 c1_i32_702 k1_t56
  let c16_i32_1179 : BitVec 32 := 16#32
  let v833 : BitVec 32 := Scalar.muli arg9 c16_i32_1179
  let v835 : Index := Scalar.indexCast v833
  ![14, v835.toNat]
def k1_off937 (k1_t56 : Fin k1_t56_loop.trips) : Fin 2 → Nat :=
  let c15_i32_1182 : BitVec 32 := 15#32
  let v838 : Index := Scalar.indexCast c15_i32_1182
  let c0_i32_700 : BitVec 32 := 0#32
  let c1_i32_702 : BitVec 32 := 1#32
  let arg9 : BitVec 32 := Scf.iv c0_i32_700 c1_i32_702 k1_t56
  let c16_i32_1181 : BitVec 32 := 16#32
  let v837 : BitVec 32 := Scalar.muli arg9 c16_i32_1181
  let v839 : Index := Scalar.indexCast v837
  ![15, v839.toNat]

def k1_chk865 (v780 : IVec S16 32) : Prop :=
  (∀ a x, ((![v780] : Fin 1 → IVec S16 32) a x).toNat < S88320.size a)
theorem k1_idx865_inb : ∀ (v780 : IVec S16 32) (k1_hw865 : k1_chk865 v780), ∀ a x, ((![v780] : Fin 1 → IVec S16 32) a x).toNat < S88320.size a := fun v780 k1_hw865 => k1_hw865

def k1_chk866 (v784 : IVec S16 32) : Prop :=
  (∀ a x, ((![v784] : Fin 1 → IVec S16 32) a x).toNat < S88320.size a)
theorem k1_idx866_inb : ∀ (v784 : IVec S16 32) (k1_hw866 : k1_chk866 v784), ∀ a x, ((![v784] : Fin 1 → IVec S16 32) a x).toNat < S88320.size a := fun v784 k1_hw866 => k1_hw866

def k1_chk867 (v788 : IVec S16 32) : Prop :=
  (∀ a x, ((![v788] : Fin 1 → IVec S16 32) a x).toNat < S88320.size a)
theorem k1_idx867_inb : ∀ (v788 : IVec S16 32) (k1_hw867 : k1_chk867 v788), ∀ a x, ((![v788] : Fin 1 → IVec S16 32) a x).toNat < S88320.size a := fun v788 k1_hw867 => k1_hw867

def k1_chk868 (v792 : IVec S16 32) : Prop :=
  (∀ a x, ((![v792] : Fin 1 → IVec S16 32) a x).toNat < S88320.size a)
theorem k1_idx868_inb : ∀ (v792 : IVec S16 32) (k1_hw868 : k1_chk868 v792), ∀ a x, ((![v792] : Fin 1 → IVec S16 32) a x).toNat < S88320.size a := fun v792 k1_hw868 => k1_hw868

def k1_chk869 (v796 : IVec S16 32) : Prop :=
  (∀ a x, ((![v796] : Fin 1 → IVec S16 32) a x).toNat < S88320.size a)
theorem k1_idx869_inb : ∀ (v796 : IVec S16 32) (k1_hw869 : k1_chk869 v796), ∀ a x, ((![v796] : Fin 1 → IVec S16 32) a x).toNat < S88320.size a := fun v796 k1_hw869 => k1_hw869

def k1_chk870 (v800 : IVec S16 32) : Prop :=
  (∀ a x, ((![v800] : Fin 1 → IVec S16 32) a x).toNat < S88320.size a)
theorem k1_idx870_inb : ∀ (v800 : IVec S16 32) (k1_hw870 : k1_chk870 v800), ∀ a x, ((![v800] : Fin 1 → IVec S16 32) a x).toNat < S88320.size a := fun v800 k1_hw870 => k1_hw870

def k1_chk871 (v804 : IVec S16 32) : Prop :=
  (∀ a x, ((![v804] : Fin 1 → IVec S16 32) a x).toNat < S88320.size a)
theorem k1_idx871_inb : ∀ (v804 : IVec S16 32) (k1_hw871 : k1_chk871 v804), ∀ a x, ((![v804] : Fin 1 → IVec S16 32) a x).toNat < S88320.size a := fun v804 k1_hw871 => k1_hw871

def k1_chk872 (v808 : IVec S16 32) : Prop :=
  (∀ a x, ((![v808] : Fin 1 → IVec S16 32) a x).toNat < S88320.size a)
theorem k1_idx872_inb : ∀ (v808 : IVec S16 32) (k1_hw872 : k1_chk872 v808), ∀ a x, ((![v808] : Fin 1 → IVec S16 32) a x).toNat < S88320.size a := fun v808 k1_hw872 => k1_hw872

def k1_chk873 (v812 : IVec S16 32) : Prop :=
  (∀ a x, ((![v812] : Fin 1 → IVec S16 32) a x).toNat < S88320.size a)
theorem k1_idx873_inb : ∀ (v812 : IVec S16 32) (k1_hw873 : k1_chk873 v812), ∀ a x, ((![v812] : Fin 1 → IVec S16 32) a x).toNat < S88320.size a := fun v812 k1_hw873 => k1_hw873

def k1_chk874 (v816 : IVec S16 32) : Prop :=
  (∀ a x, ((![v816] : Fin 1 → IVec S16 32) a x).toNat < S88320.size a)
theorem k1_idx874_inb : ∀ (v816 : IVec S16 32) (k1_hw874 : k1_chk874 v816), ∀ a x, ((![v816] : Fin 1 → IVec S16 32) a x).toNat < S88320.size a := fun v816 k1_hw874 => k1_hw874

def k1_chk875 (v820 : IVec S16 32) : Prop :=
  (∀ a x, ((![v820] : Fin 1 → IVec S16 32) a x).toNat < S88320.size a)
theorem k1_idx875_inb : ∀ (v820 : IVec S16 32) (k1_hw875 : k1_chk875 v820), ∀ a x, ((![v820] : Fin 1 → IVec S16 32) a x).toNat < S88320.size a := fun v820 k1_hw875 => k1_hw875

def k1_chk876 (v824 : IVec S16 32) : Prop :=
  (∀ a x, ((![v824] : Fin 1 → IVec S16 32) a x).toNat < S88320.size a)
theorem k1_idx876_inb : ∀ (v824 : IVec S16 32) (k1_hw876 : k1_chk876 v824), ∀ a x, ((![v824] : Fin 1 → IVec S16 32) a x).toNat < S88320.size a := fun v824 k1_hw876 => k1_hw876

def k1_chk877 (v828 : IVec S16 32) : Prop :=
  (∀ a x, ((![v828] : Fin 1 → IVec S16 32) a x).toNat < S88320.size a)
theorem k1_idx877_inb : ∀ (v828 : IVec S16 32) (k1_hw877 : k1_chk877 v828), ∀ a x, ((![v828] : Fin 1 → IVec S16 32) a x).toNat < S88320.size a := fun v828 k1_hw877 => k1_hw877

def k1_chk878 (v832 : IVec S16 32) : Prop :=
  (∀ a x, ((![v832] : Fin 1 → IVec S16 32) a x).toNat < S88320.size a)
theorem k1_idx878_inb : ∀ (v832 : IVec S16 32) (k1_hw878 : k1_chk878 v832), ∀ a x, ((![v832] : Fin 1 → IVec S16 32) a x).toNat < S88320.size a := fun v832 k1_hw878 => k1_hw878

def k1_chk879 (v836 : IVec S16 32) : Prop :=
  (∀ a x, ((![v836] : Fin 1 → IVec S16 32) a x).toNat < S88320.size a)
theorem k1_idx879_inb : ∀ (v836 : IVec S16 32) (k1_hw879 : k1_chk879 v836), ∀ a x, ((![v836] : Fin 1 → IVec S16 32) a x).toNat < S88320.size a := fun v836 k1_hw879 => k1_hw879

def k1_chk880 (v840 : IVec S16 32) : Prop :=
  (∀ a x, ((![v840] : Fin 1 → IVec S16 32) a x).toNat < S88320.size a)
theorem k1_idx880_inb : ∀ (v840 : IVec S16 32) (k1_hw880 : k1_chk880 v840), ∀ a x, ((![v840] : Fin 1 → IVec S16 32) a x).toNat < S88320.size a := fun v840 k1_hw880 => k1_hw880
def k1_off938 (i : grid1.Coords) : Fin 4 → Nat :=
  let c2_i32_704 : BitVec 32 := 2#32
  let c14_i32_705 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_706 : BitVec 32 := 0#32
  ![2, 14, v2.toNat, 0]
@[reducible] def k1_t57_loop : Scf.Loop 32 :=
  let c0_i32_713 : BitVec 32 := 0#32
  let c32_i32_714 : BitVec 32 := 32#32
  let v513 : BitVec 32 := Scalar.addi c0_i32_713 c32_i32_714
  let c1_i32_715 : BitVec 32 := 1#32
  ⟨c0_i32_713, v513, c1_i32_715⟩
def k1_off939 (k1_t57 : Fin k1_t57_loop.trips) : Fin 2 → Nat :=
  let c0_i32_1152 : BitVec 32 := 0#32
  let v778 : Index := Scalar.indexCast c0_i32_1152
  let c0_i32_713 : BitVec 32 := 0#32
  let c1_i32_715 : BitVec 32 := 1#32
  let arg9 : BitVec 32 := Scf.iv c0_i32_713 c1_i32_715 k1_t57
  let c16_i32_1151 : BitVec 32 := 16#32
  let v777 : BitVec 32 := Scalar.muli arg9 c16_i32_1151
  let v779 : Index := Scalar.indexCast v777
  ![0, v779.toNat]
def k1_off940 (k1_t57 : Fin k1_t57_loop.trips) : Fin 2 → Nat :=
  let c1_i32_1154 : BitVec 32 := 1#32
  let v782 : Index := Scalar.indexCast c1_i32_1154
  let c0_i32_713 : BitVec 32 := 0#32
  let c1_i32_715 : BitVec 32 := 1#32
  let arg9 : BitVec 32 := Scf.iv c0_i32_713 c1_i32_715 k1_t57
  let c16_i32_1153 : BitVec 32 := 16#32
  let v781 : BitVec 32 := Scalar.muli arg9 c16_i32_1153
  let v783 : Index := Scalar.indexCast v781
  ![1, v783.toNat]
def k1_off941 (k1_t57 : Fin k1_t57_loop.trips) : Fin 2 → Nat :=
  let c2_i32_1156 : BitVec 32 := 2#32
  let v786 : Index := Scalar.indexCast c2_i32_1156
  let c0_i32_713 : BitVec 32 := 0#32
  let c1_i32_715 : BitVec 32 := 1#32
  let arg9 : BitVec 32 := Scf.iv c0_i32_713 c1_i32_715 k1_t57
  let c16_i32_1155 : BitVec 32 := 16#32
  let v785 : BitVec 32 := Scalar.muli arg9 c16_i32_1155
  let v787 : Index := Scalar.indexCast v785
  ![2, v787.toNat]
def k1_off942 (k1_t57 : Fin k1_t57_loop.trips) : Fin 2 → Nat :=
  let c3_i32_1158 : BitVec 32 := 3#32
  let v790 : Index := Scalar.indexCast c3_i32_1158
  let c0_i32_713 : BitVec 32 := 0#32
  let c1_i32_715 : BitVec 32 := 1#32
  let arg9 : BitVec 32 := Scf.iv c0_i32_713 c1_i32_715 k1_t57
  let c16_i32_1157 : BitVec 32 := 16#32
  let v789 : BitVec 32 := Scalar.muli arg9 c16_i32_1157
  let v791 : Index := Scalar.indexCast v789
  ![3, v791.toNat]
def k1_off943 (k1_t57 : Fin k1_t57_loop.trips) : Fin 2 → Nat :=
  let c4_i32_1160 : BitVec 32 := 4#32
  let v794 : Index := Scalar.indexCast c4_i32_1160
  let c0_i32_713 : BitVec 32 := 0#32
  let c1_i32_715 : BitVec 32 := 1#32
  let arg9 : BitVec 32 := Scf.iv c0_i32_713 c1_i32_715 k1_t57
  let c16_i32_1159 : BitVec 32 := 16#32
  let v793 : BitVec 32 := Scalar.muli arg9 c16_i32_1159
  let v795 : Index := Scalar.indexCast v793
  ![4, v795.toNat]
def k1_off944 (k1_t57 : Fin k1_t57_loop.trips) : Fin 2 → Nat :=
  let c5_i32_1162 : BitVec 32 := 5#32
  let v798 : Index := Scalar.indexCast c5_i32_1162
  let c0_i32_713 : BitVec 32 := 0#32
  let c1_i32_715 : BitVec 32 := 1#32
  let arg9 : BitVec 32 := Scf.iv c0_i32_713 c1_i32_715 k1_t57
  let c16_i32_1161 : BitVec 32 := 16#32
  let v797 : BitVec 32 := Scalar.muli arg9 c16_i32_1161
  let v799 : Index := Scalar.indexCast v797
  ![5, v799.toNat]
def k1_off945 (k1_t57 : Fin k1_t57_loop.trips) : Fin 2 → Nat :=
  let c6_i32_1164 : BitVec 32 := 6#32
  let v802 : Index := Scalar.indexCast c6_i32_1164
  let c0_i32_713 : BitVec 32 := 0#32
  let c1_i32_715 : BitVec 32 := 1#32
  let arg9 : BitVec 32 := Scf.iv c0_i32_713 c1_i32_715 k1_t57
  let c16_i32_1163 : BitVec 32 := 16#32
  let v801 : BitVec 32 := Scalar.muli arg9 c16_i32_1163
  let v803 : Index := Scalar.indexCast v801
  ![6, v803.toNat]
def k1_off946 (k1_t57 : Fin k1_t57_loop.trips) : Fin 2 → Nat :=
  let c7_i32_1166 : BitVec 32 := 7#32
  let v806 : Index := Scalar.indexCast c7_i32_1166
  let c0_i32_713 : BitVec 32 := 0#32
  let c1_i32_715 : BitVec 32 := 1#32
  let arg9 : BitVec 32 := Scf.iv c0_i32_713 c1_i32_715 k1_t57
  let c16_i32_1165 : BitVec 32 := 16#32
  let v805 : BitVec 32 := Scalar.muli arg9 c16_i32_1165
  let v807 : Index := Scalar.indexCast v805
  ![7, v807.toNat]
def k1_off947 (k1_t57 : Fin k1_t57_loop.trips) : Fin 2 → Nat :=
  let c8_i32_1168 : BitVec 32 := 8#32
  let v810 : Index := Scalar.indexCast c8_i32_1168
  let c0_i32_713 : BitVec 32 := 0#32
  let c1_i32_715 : BitVec 32 := 1#32
  let arg9 : BitVec 32 := Scf.iv c0_i32_713 c1_i32_715 k1_t57
  let c16_i32_1167 : BitVec 32 := 16#32
  let v809 : BitVec 32 := Scalar.muli arg9 c16_i32_1167
  let v811 : Index := Scalar.indexCast v809
  ![8, v811.toNat]
def k1_off948 (k1_t57 : Fin k1_t57_loop.trips) : Fin 2 → Nat :=
  let c9_i32_1170 : BitVec 32 := 9#32
  let v814 : Index := Scalar.indexCast c9_i32_1170
  let c0_i32_713 : BitVec 32 := 0#32
  let c1_i32_715 : BitVec 32 := 1#32
  let arg9 : BitVec 32 := Scf.iv c0_i32_713 c1_i32_715 k1_t57
  let c16_i32_1169 : BitVec 32 := 16#32
  let v813 : BitVec 32 := Scalar.muli arg9 c16_i32_1169
  let v815 : Index := Scalar.indexCast v813
  ![9, v815.toNat]
def k1_off949 (k1_t57 : Fin k1_t57_loop.trips) : Fin 2 → Nat :=
  let c10_i32_1172 : BitVec 32 := 10#32
  let v818 : Index := Scalar.indexCast c10_i32_1172
  let c0_i32_713 : BitVec 32 := 0#32
  let c1_i32_715 : BitVec 32 := 1#32
  let arg9 : BitVec 32 := Scf.iv c0_i32_713 c1_i32_715 k1_t57
  let c16_i32_1171 : BitVec 32 := 16#32
  let v817 : BitVec 32 := Scalar.muli arg9 c16_i32_1171
  let v819 : Index := Scalar.indexCast v817
  ![10, v819.toNat]
def k1_off950 (k1_t57 : Fin k1_t57_loop.trips) : Fin 2 → Nat :=
  let c11_i32_1174 : BitVec 32 := 11#32
  let v822 : Index := Scalar.indexCast c11_i32_1174
  let c0_i32_713 : BitVec 32 := 0#32
  let c1_i32_715 : BitVec 32 := 1#32
  let arg9 : BitVec 32 := Scf.iv c0_i32_713 c1_i32_715 k1_t57
  let c16_i32_1173 : BitVec 32 := 16#32
  let v821 : BitVec 32 := Scalar.muli arg9 c16_i32_1173
  let v823 : Index := Scalar.indexCast v821
  ![11, v823.toNat]
def k1_off951 (k1_t57 : Fin k1_t57_loop.trips) : Fin 2 → Nat :=
  let c12_i32_1176 : BitVec 32 := 12#32
  let v826 : Index := Scalar.indexCast c12_i32_1176
  let c0_i32_713 : BitVec 32 := 0#32
  let c1_i32_715 : BitVec 32 := 1#32
  let arg9 : BitVec 32 := Scf.iv c0_i32_713 c1_i32_715 k1_t57
  let c16_i32_1175 : BitVec 32 := 16#32
  let v825 : BitVec 32 := Scalar.muli arg9 c16_i32_1175
  let v827 : Index := Scalar.indexCast v825
  ![12, v827.toNat]
def k1_off952 (k1_t57 : Fin k1_t57_loop.trips) : Fin 2 → Nat :=
  let c13_i32_1178 : BitVec 32 := 13#32
  let v830 : Index := Scalar.indexCast c13_i32_1178
  let c0_i32_713 : BitVec 32 := 0#32
  let c1_i32_715 : BitVec 32 := 1#32
  let arg9 : BitVec 32 := Scf.iv c0_i32_713 c1_i32_715 k1_t57
  let c16_i32_1177 : BitVec 32 := 16#32
  let v829 : BitVec 32 := Scalar.muli arg9 c16_i32_1177
  let v831 : Index := Scalar.indexCast v829
  ![13, v831.toNat]
def k1_off953 (k1_t57 : Fin k1_t57_loop.trips) : Fin 2 → Nat :=
  let c14_i32_1180 : BitVec 32 := 14#32
  let v834 : Index := Scalar.indexCast c14_i32_1180
  let c0_i32_713 : BitVec 32 := 0#32
  let c1_i32_715 : BitVec 32 := 1#32
  let arg9 : BitVec 32 := Scf.iv c0_i32_713 c1_i32_715 k1_t57
  let c16_i32_1179 : BitVec 32 := 16#32
  let v833 : BitVec 32 := Scalar.muli arg9 c16_i32_1179
  let v835 : Index := Scalar.indexCast v833
  ![14, v835.toNat]
def k1_off954 (k1_t57 : Fin k1_t57_loop.trips) : Fin 2 → Nat :=
  let c15_i32_1182 : BitVec 32 := 15#32
  let v838 : Index := Scalar.indexCast c15_i32_1182
  let c0_i32_713 : BitVec 32 := 0#32
  let c1_i32_715 : BitVec 32 := 1#32
  let arg9 : BitVec 32 := Scf.iv c0_i32_713 c1_i32_715 k1_t57
  let c16_i32_1181 : BitVec 32 := 16#32
  let v837 : BitVec 32 := Scalar.muli arg9 c16_i32_1181
  let v839 : Index := Scalar.indexCast v837
  ![15, v839.toNat]

def k1_chk881 (v780 : IVec S16 32) : Prop :=
  (∀ a x, ((![v780] : Fin 1 → IVec S16 32) a x).toNat < S88320.size a)
theorem k1_idx881_inb : ∀ (v780 : IVec S16 32) (k1_hw881 : k1_chk881 v780), ∀ a x, ((![v780] : Fin 1 → IVec S16 32) a x).toNat < S88320.size a := fun v780 k1_hw881 => k1_hw881

def k1_chk882 (v784 : IVec S16 32) : Prop :=
  (∀ a x, ((![v784] : Fin 1 → IVec S16 32) a x).toNat < S88320.size a)
theorem k1_idx882_inb : ∀ (v784 : IVec S16 32) (k1_hw882 : k1_chk882 v784), ∀ a x, ((![v784] : Fin 1 → IVec S16 32) a x).toNat < S88320.size a := fun v784 k1_hw882 => k1_hw882

def k1_chk883 (v788 : IVec S16 32) : Prop :=
  (∀ a x, ((![v788] : Fin 1 → IVec S16 32) a x).toNat < S88320.size a)
theorem k1_idx883_inb : ∀ (v788 : IVec S16 32) (k1_hw883 : k1_chk883 v788), ∀ a x, ((![v788] : Fin 1 → IVec S16 32) a x).toNat < S88320.size a := fun v788 k1_hw883 => k1_hw883

def k1_chk884 (v792 : IVec S16 32) : Prop :=
  (∀ a x, ((![v792] : Fin 1 → IVec S16 32) a x).toNat < S88320.size a)
theorem k1_idx884_inb : ∀ (v792 : IVec S16 32) (k1_hw884 : k1_chk884 v792), ∀ a x, ((![v792] : Fin 1 → IVec S16 32) a x).toNat < S88320.size a := fun v792 k1_hw884 => k1_hw884

def k1_chk885 (v796 : IVec S16 32) : Prop :=
  (∀ a x, ((![v796] : Fin 1 → IVec S16 32) a x).toNat < S88320.size a)
theorem k1_idx885_inb : ∀ (v796 : IVec S16 32) (k1_hw885 : k1_chk885 v796), ∀ a x, ((![v796] : Fin 1 → IVec S16 32) a x).toNat < S88320.size a := fun v796 k1_hw885 => k1_hw885

def k1_chk886 (v800 : IVec S16 32) : Prop :=
  (∀ a x, ((![v800] : Fin 1 → IVec S16 32) a x).toNat < S88320.size a)
theorem k1_idx886_inb : ∀ (v800 : IVec S16 32) (k1_hw886 : k1_chk886 v800), ∀ a x, ((![v800] : Fin 1 → IVec S16 32) a x).toNat < S88320.size a := fun v800 k1_hw886 => k1_hw886

def k1_chk887 (v804 : IVec S16 32) : Prop :=
  (∀ a x, ((![v804] : Fin 1 → IVec S16 32) a x).toNat < S88320.size a)
theorem k1_idx887_inb : ∀ (v804 : IVec S16 32) (k1_hw887 : k1_chk887 v804), ∀ a x, ((![v804] : Fin 1 → IVec S16 32) a x).toNat < S88320.size a := fun v804 k1_hw887 => k1_hw887

def k1_chk888 (v808 : IVec S16 32) : Prop :=
  (∀ a x, ((![v808] : Fin 1 → IVec S16 32) a x).toNat < S88320.size a)
theorem k1_idx888_inb : ∀ (v808 : IVec S16 32) (k1_hw888 : k1_chk888 v808), ∀ a x, ((![v808] : Fin 1 → IVec S16 32) a x).toNat < S88320.size a := fun v808 k1_hw888 => k1_hw888

def k1_chk889 (v812 : IVec S16 32) : Prop :=
  (∀ a x, ((![v812] : Fin 1 → IVec S16 32) a x).toNat < S88320.size a)
theorem k1_idx889_inb : ∀ (v812 : IVec S16 32) (k1_hw889 : k1_chk889 v812), ∀ a x, ((![v812] : Fin 1 → IVec S16 32) a x).toNat < S88320.size a := fun v812 k1_hw889 => k1_hw889

def k1_chk890 (v816 : IVec S16 32) : Prop :=
  (∀ a x, ((![v816] : Fin 1 → IVec S16 32) a x).toNat < S88320.size a)
theorem k1_idx890_inb : ∀ (v816 : IVec S16 32) (k1_hw890 : k1_chk890 v816), ∀ a x, ((![v816] : Fin 1 → IVec S16 32) a x).toNat < S88320.size a := fun v816 k1_hw890 => k1_hw890

def k1_chk891 (v820 : IVec S16 32) : Prop :=
  (∀ a x, ((![v820] : Fin 1 → IVec S16 32) a x).toNat < S88320.size a)
theorem k1_idx891_inb : ∀ (v820 : IVec S16 32) (k1_hw891 : k1_chk891 v820), ∀ a x, ((![v820] : Fin 1 → IVec S16 32) a x).toNat < S88320.size a := fun v820 k1_hw891 => k1_hw891

def k1_chk892 (v824 : IVec S16 32) : Prop :=
  (∀ a x, ((![v824] : Fin 1 → IVec S16 32) a x).toNat < S88320.size a)
theorem k1_idx892_inb : ∀ (v824 : IVec S16 32) (k1_hw892 : k1_chk892 v824), ∀ a x, ((![v824] : Fin 1 → IVec S16 32) a x).toNat < S88320.size a := fun v824 k1_hw892 => k1_hw892

def k1_chk893 (v828 : IVec S16 32) : Prop :=
  (∀ a x, ((![v828] : Fin 1 → IVec S16 32) a x).toNat < S88320.size a)
theorem k1_idx893_inb : ∀ (v828 : IVec S16 32) (k1_hw893 : k1_chk893 v828), ∀ a x, ((![v828] : Fin 1 → IVec S16 32) a x).toNat < S88320.size a := fun v828 k1_hw893 => k1_hw893

def k1_chk894 (v832 : IVec S16 32) : Prop :=
  (∀ a x, ((![v832] : Fin 1 → IVec S16 32) a x).toNat < S88320.size a)
theorem k1_idx894_inb : ∀ (v832 : IVec S16 32) (k1_hw894 : k1_chk894 v832), ∀ a x, ((![v832] : Fin 1 → IVec S16 32) a x).toNat < S88320.size a := fun v832 k1_hw894 => k1_hw894

def k1_chk895 (v836 : IVec S16 32) : Prop :=
  (∀ a x, ((![v836] : Fin 1 → IVec S16 32) a x).toNat < S88320.size a)
theorem k1_idx895_inb : ∀ (v836 : IVec S16 32) (k1_hw895 : k1_chk895 v836), ∀ a x, ((![v836] : Fin 1 → IVec S16 32) a x).toNat < S88320.size a := fun v836 k1_hw895 => k1_hw895

def k1_chk896 (v840 : IVec S16 32) : Prop :=
  (∀ a x, ((![v840] : Fin 1 → IVec S16 32) a x).toNat < S88320.size a)
theorem k1_idx896_inb : ∀ (v840 : IVec S16 32) (k1_hw896 : k1_chk896 v840), ∀ a x, ((![v840] : Fin 1 → IVec S16 32) a x).toNat < S88320.size a := fun v840 k1_hw896 => k1_hw896
def k1_off955 (i : grid1.Coords) : Fin 4 → Nat :=
  let c2_i32_717 : BitVec 32 := 2#32
  let c15_i32_718 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_719 : BitVec 32 := 0#32
  ![2, 15, v2.toNat, 0]
@[reducible] def k1_t58_loop : Scf.Loop 32 :=
  let c0_i32_726 : BitVec 32 := 0#32
  let c32_i32_727 : BitVec 32 := 32#32
  let v522 : BitVec 32 := Scalar.addi c0_i32_726 c32_i32_727
  let c1_i32_728 : BitVec 32 := 1#32
  ⟨c0_i32_726, v522, c1_i32_728⟩
def k1_off956 (k1_t58 : Fin k1_t58_loop.trips) : Fin 2 → Nat :=
  let c0_i32_1152 : BitVec 32 := 0#32
  let v778 : Index := Scalar.indexCast c0_i32_1152
  let c0_i32_726 : BitVec 32 := 0#32
  let c1_i32_728 : BitVec 32 := 1#32
  let arg9 : BitVec 32 := Scf.iv c0_i32_726 c1_i32_728 k1_t58
  let c16_i32_1151 : BitVec 32 := 16#32
  let v777 : BitVec 32 := Scalar.muli arg9 c16_i32_1151
  let v779 : Index := Scalar.indexCast v777
  ![0, v779.toNat]
def k1_off957 (k1_t58 : Fin k1_t58_loop.trips) : Fin 2 → Nat :=
  let c1_i32_1154 : BitVec 32 := 1#32
  let v782 : Index := Scalar.indexCast c1_i32_1154
  let c0_i32_726 : BitVec 32 := 0#32
  let c1_i32_728 : BitVec 32 := 1#32
  let arg9 : BitVec 32 := Scf.iv c0_i32_726 c1_i32_728 k1_t58
  let c16_i32_1153 : BitVec 32 := 16#32
  let v781 : BitVec 32 := Scalar.muli arg9 c16_i32_1153
  let v783 : Index := Scalar.indexCast v781
  ![1, v783.toNat]
def k1_off958 (k1_t58 : Fin k1_t58_loop.trips) : Fin 2 → Nat :=
  let c2_i32_1156 : BitVec 32 := 2#32
  let v786 : Index := Scalar.indexCast c2_i32_1156
  let c0_i32_726 : BitVec 32 := 0#32
  let c1_i32_728 : BitVec 32 := 1#32
  let arg9 : BitVec 32 := Scf.iv c0_i32_726 c1_i32_728 k1_t58
  let c16_i32_1155 : BitVec 32 := 16#32
  let v785 : BitVec 32 := Scalar.muli arg9 c16_i32_1155
  let v787 : Index := Scalar.indexCast v785
  ![2, v787.toNat]
def k1_off959 (k1_t58 : Fin k1_t58_loop.trips) : Fin 2 → Nat :=
  let c3_i32_1158 : BitVec 32 := 3#32
  let v790 : Index := Scalar.indexCast c3_i32_1158
  let c0_i32_726 : BitVec 32 := 0#32
  let c1_i32_728 : BitVec 32 := 1#32
  let arg9 : BitVec 32 := Scf.iv c0_i32_726 c1_i32_728 k1_t58
  let c16_i32_1157 : BitVec 32 := 16#32
  let v789 : BitVec 32 := Scalar.muli arg9 c16_i32_1157
  let v791 : Index := Scalar.indexCast v789
  ![3, v791.toNat]
def k1_off960 (k1_t58 : Fin k1_t58_loop.trips) : Fin 2 → Nat :=
  let c4_i32_1160 : BitVec 32 := 4#32
  let v794 : Index := Scalar.indexCast c4_i32_1160
  let c0_i32_726 : BitVec 32 := 0#32
  let c1_i32_728 : BitVec 32 := 1#32
  let arg9 : BitVec 32 := Scf.iv c0_i32_726 c1_i32_728 k1_t58
  let c16_i32_1159 : BitVec 32 := 16#32
  let v793 : BitVec 32 := Scalar.muli arg9 c16_i32_1159
  let v795 : Index := Scalar.indexCast v793
  ![4, v795.toNat]
def k1_off961 (k1_t58 : Fin k1_t58_loop.trips) : Fin 2 → Nat :=
  let c5_i32_1162 : BitVec 32 := 5#32
  let v798 : Index := Scalar.indexCast c5_i32_1162
  let c0_i32_726 : BitVec 32 := 0#32
  let c1_i32_728 : BitVec 32 := 1#32
  let arg9 : BitVec 32 := Scf.iv c0_i32_726 c1_i32_728 k1_t58
  let c16_i32_1161 : BitVec 32 := 16#32
  let v797 : BitVec 32 := Scalar.muli arg9 c16_i32_1161
  let v799 : Index := Scalar.indexCast v797
  ![5, v799.toNat]
def k1_off962 (k1_t58 : Fin k1_t58_loop.trips) : Fin 2 → Nat :=
  let c6_i32_1164 : BitVec 32 := 6#32
  let v802 : Index := Scalar.indexCast c6_i32_1164
  let c0_i32_726 : BitVec 32 := 0#32
  let c1_i32_728 : BitVec 32 := 1#32
  let arg9 : BitVec 32 := Scf.iv c0_i32_726 c1_i32_728 k1_t58
  let c16_i32_1163 : BitVec 32 := 16#32
  let v801 : BitVec 32 := Scalar.muli arg9 c16_i32_1163
  let v803 : Index := Scalar.indexCast v801
  ![6, v803.toNat]
def k1_off963 (k1_t58 : Fin k1_t58_loop.trips) : Fin 2 → Nat :=
  let c7_i32_1166 : BitVec 32 := 7#32
  let v806 : Index := Scalar.indexCast c7_i32_1166
  let c0_i32_726 : BitVec 32 := 0#32
  let c1_i32_728 : BitVec 32 := 1#32
  let arg9 : BitVec 32 := Scf.iv c0_i32_726 c1_i32_728 k1_t58
  let c16_i32_1165 : BitVec 32 := 16#32
  let v805 : BitVec 32 := Scalar.muli arg9 c16_i32_1165
  let v807 : Index := Scalar.indexCast v805
  ![7, v807.toNat]
def k1_off964 (k1_t58 : Fin k1_t58_loop.trips) : Fin 2 → Nat :=
  let c8_i32_1168 : BitVec 32 := 8#32
  let v810 : Index := Scalar.indexCast c8_i32_1168
  let c0_i32_726 : BitVec 32 := 0#32
  let c1_i32_728 : BitVec 32 := 1#32
  let arg9 : BitVec 32 := Scf.iv c0_i32_726 c1_i32_728 k1_t58
  let c16_i32_1167 : BitVec 32 := 16#32
  let v809 : BitVec 32 := Scalar.muli arg9 c16_i32_1167
  let v811 : Index := Scalar.indexCast v809
  ![8, v811.toNat]
def k1_off965 (k1_t58 : Fin k1_t58_loop.trips) : Fin 2 → Nat :=
  let c9_i32_1170 : BitVec 32 := 9#32
  let v814 : Index := Scalar.indexCast c9_i32_1170
  let c0_i32_726 : BitVec 32 := 0#32
  let c1_i32_728 : BitVec 32 := 1#32
  let arg9 : BitVec 32 := Scf.iv c0_i32_726 c1_i32_728 k1_t58
  let c16_i32_1169 : BitVec 32 := 16#32
  let v813 : BitVec 32 := Scalar.muli arg9 c16_i32_1169
  let v815 : Index := Scalar.indexCast v813
  ![9, v815.toNat]
def k1_off966 (k1_t58 : Fin k1_t58_loop.trips) : Fin 2 → Nat :=
  let c10_i32_1172 : BitVec 32 := 10#32
  let v818 : Index := Scalar.indexCast c10_i32_1172
  let c0_i32_726 : BitVec 32 := 0#32
  let c1_i32_728 : BitVec 32 := 1#32
  let arg9 : BitVec 32 := Scf.iv c0_i32_726 c1_i32_728 k1_t58
  let c16_i32_1171 : BitVec 32 := 16#32
  let v817 : BitVec 32 := Scalar.muli arg9 c16_i32_1171
  let v819 : Index := Scalar.indexCast v817
  ![10, v819.toNat]
def k1_off967 (k1_t58 : Fin k1_t58_loop.trips) : Fin 2 → Nat :=
  let c11_i32_1174 : BitVec 32 := 11#32
  let v822 : Index := Scalar.indexCast c11_i32_1174
  let c0_i32_726 : BitVec 32 := 0#32
  let c1_i32_728 : BitVec 32 := 1#32
  let arg9 : BitVec 32 := Scf.iv c0_i32_726 c1_i32_728 k1_t58
  let c16_i32_1173 : BitVec 32 := 16#32
  let v821 : BitVec 32 := Scalar.muli arg9 c16_i32_1173
  let v823 : Index := Scalar.indexCast v821
  ![11, v823.toNat]
def k1_off968 (k1_t58 : Fin k1_t58_loop.trips) : Fin 2 → Nat :=
  let c12_i32_1176 : BitVec 32 := 12#32
  let v826 : Index := Scalar.indexCast c12_i32_1176
  let c0_i32_726 : BitVec 32 := 0#32
  let c1_i32_728 : BitVec 32 := 1#32
  let arg9 : BitVec 32 := Scf.iv c0_i32_726 c1_i32_728 k1_t58
  let c16_i32_1175 : BitVec 32 := 16#32
  let v825 : BitVec 32 := Scalar.muli arg9 c16_i32_1175
  let v827 : Index := Scalar.indexCast v825
  ![12, v827.toNat]
def k1_off969 (k1_t58 : Fin k1_t58_loop.trips) : Fin 2 → Nat :=
  let c13_i32_1178 : BitVec 32 := 13#32
  let v830 : Index := Scalar.indexCast c13_i32_1178
  let c0_i32_726 : BitVec 32 := 0#32
  let c1_i32_728 : BitVec 32 := 1#32
  let arg9 : BitVec 32 := Scf.iv c0_i32_726 c1_i32_728 k1_t58
  let c16_i32_1177 : BitVec 32 := 16#32
  let v829 : BitVec 32 := Scalar.muli arg9 c16_i32_1177
  let v831 : Index := Scalar.indexCast v829
  ![13, v831.toNat]
def k1_off970 (k1_t58 : Fin k1_t58_loop.trips) : Fin 2 → Nat :=
  let c14_i32_1180 : BitVec 32 := 14#32
  let v834 : Index := Scalar.indexCast c14_i32_1180
  let c0_i32_726 : BitVec 32 := 0#32
  let c1_i32_728 : BitVec 32 := 1#32
  let arg9 : BitVec 32 := Scf.iv c0_i32_726 c1_i32_728 k1_t58
  let c16_i32_1179 : BitVec 32 := 16#32
  let v833 : BitVec 32 := Scalar.muli arg9 c16_i32_1179
  let v835 : Index := Scalar.indexCast v833
  ![14, v835.toNat]
def k1_off971 (k1_t58 : Fin k1_t58_loop.trips) : Fin 2 → Nat :=
  let c15_i32_1182 : BitVec 32 := 15#32
  let v838 : Index := Scalar.indexCast c15_i32_1182
  let c0_i32_726 : BitVec 32 := 0#32
  let c1_i32_728 : BitVec 32 := 1#32
  let arg9 : BitVec 32 := Scf.iv c0_i32_726 c1_i32_728 k1_t58
  let c16_i32_1181 : BitVec 32 := 16#32
  let v837 : BitVec 32 := Scalar.muli arg9 c16_i32_1181
  let v839 : Index := Scalar.indexCast v837
  ![15, v839.toNat]

def k1_chk897 (v780 : IVec S16 32) : Prop :=
  (∀ a x, ((![v780] : Fin 1 → IVec S16 32) a x).toNat < S88320.size a)
theorem k1_idx897_inb : ∀ (v780 : IVec S16 32) (k1_hw897 : k1_chk897 v780), ∀ a x, ((![v780] : Fin 1 → IVec S16 32) a x).toNat < S88320.size a := fun v780 k1_hw897 => k1_hw897

def k1_chk898 (v784 : IVec S16 32) : Prop :=
  (∀ a x, ((![v784] : Fin 1 → IVec S16 32) a x).toNat < S88320.size a)
theorem k1_idx898_inb : ∀ (v784 : IVec S16 32) (k1_hw898 : k1_chk898 v784), ∀ a x, ((![v784] : Fin 1 → IVec S16 32) a x).toNat < S88320.size a := fun v784 k1_hw898 => k1_hw898

def k1_chk899 (v788 : IVec S16 32) : Prop :=
  (∀ a x, ((![v788] : Fin 1 → IVec S16 32) a x).toNat < S88320.size a)
theorem k1_idx899_inb : ∀ (v788 : IVec S16 32) (k1_hw899 : k1_chk899 v788), ∀ a x, ((![v788] : Fin 1 → IVec S16 32) a x).toNat < S88320.size a := fun v788 k1_hw899 => k1_hw899

def k1_chk900 (v792 : IVec S16 32) : Prop :=
  (∀ a x, ((![v792] : Fin 1 → IVec S16 32) a x).toNat < S88320.size a)
theorem k1_idx900_inb : ∀ (v792 : IVec S16 32) (k1_hw900 : k1_chk900 v792), ∀ a x, ((![v792] : Fin 1 → IVec S16 32) a x).toNat < S88320.size a := fun v792 k1_hw900 => k1_hw900

def k1_chk901 (v796 : IVec S16 32) : Prop :=
  (∀ a x, ((![v796] : Fin 1 → IVec S16 32) a x).toNat < S88320.size a)
theorem k1_idx901_inb : ∀ (v796 : IVec S16 32) (k1_hw901 : k1_chk901 v796), ∀ a x, ((![v796] : Fin 1 → IVec S16 32) a x).toNat < S88320.size a := fun v796 k1_hw901 => k1_hw901

def k1_chk902 (v800 : IVec S16 32) : Prop :=
  (∀ a x, ((![v800] : Fin 1 → IVec S16 32) a x).toNat < S88320.size a)
theorem k1_idx902_inb : ∀ (v800 : IVec S16 32) (k1_hw902 : k1_chk902 v800), ∀ a x, ((![v800] : Fin 1 → IVec S16 32) a x).toNat < S88320.size a := fun v800 k1_hw902 => k1_hw902

def k1_chk903 (v804 : IVec S16 32) : Prop :=
  (∀ a x, ((![v804] : Fin 1 → IVec S16 32) a x).toNat < S88320.size a)
theorem k1_idx903_inb : ∀ (v804 : IVec S16 32) (k1_hw903 : k1_chk903 v804), ∀ a x, ((![v804] : Fin 1 → IVec S16 32) a x).toNat < S88320.size a := fun v804 k1_hw903 => k1_hw903

def k1_chk904 (v808 : IVec S16 32) : Prop :=
  (∀ a x, ((![v808] : Fin 1 → IVec S16 32) a x).toNat < S88320.size a)
theorem k1_idx904_inb : ∀ (v808 : IVec S16 32) (k1_hw904 : k1_chk904 v808), ∀ a x, ((![v808] : Fin 1 → IVec S16 32) a x).toNat < S88320.size a := fun v808 k1_hw904 => k1_hw904

def k1_chk905 (v812 : IVec S16 32) : Prop :=
  (∀ a x, ((![v812] : Fin 1 → IVec S16 32) a x).toNat < S88320.size a)
theorem k1_idx905_inb : ∀ (v812 : IVec S16 32) (k1_hw905 : k1_chk905 v812), ∀ a x, ((![v812] : Fin 1 → IVec S16 32) a x).toNat < S88320.size a := fun v812 k1_hw905 => k1_hw905

def k1_chk906 (v816 : IVec S16 32) : Prop :=
  (∀ a x, ((![v816] : Fin 1 → IVec S16 32) a x).toNat < S88320.size a)
theorem k1_idx906_inb : ∀ (v816 : IVec S16 32) (k1_hw906 : k1_chk906 v816), ∀ a x, ((![v816] : Fin 1 → IVec S16 32) a x).toNat < S88320.size a := fun v816 k1_hw906 => k1_hw906

def k1_chk907 (v820 : IVec S16 32) : Prop :=
  (∀ a x, ((![v820] : Fin 1 → IVec S16 32) a x).toNat < S88320.size a)
theorem k1_idx907_inb : ∀ (v820 : IVec S16 32) (k1_hw907 : k1_chk907 v820), ∀ a x, ((![v820] : Fin 1 → IVec S16 32) a x).toNat < S88320.size a := fun v820 k1_hw907 => k1_hw907

def k1_chk908 (v824 : IVec S16 32) : Prop :=
  (∀ a x, ((![v824] : Fin 1 → IVec S16 32) a x).toNat < S88320.size a)
theorem k1_idx908_inb : ∀ (v824 : IVec S16 32) (k1_hw908 : k1_chk908 v824), ∀ a x, ((![v824] : Fin 1 → IVec S16 32) a x).toNat < S88320.size a := fun v824 k1_hw908 => k1_hw908

def k1_chk909 (v828 : IVec S16 32) : Prop :=
  (∀ a x, ((![v828] : Fin 1 → IVec S16 32) a x).toNat < S88320.size a)
theorem k1_idx909_inb : ∀ (v828 : IVec S16 32) (k1_hw909 : k1_chk909 v828), ∀ a x, ((![v828] : Fin 1 → IVec S16 32) a x).toNat < S88320.size a := fun v828 k1_hw909 => k1_hw909

def k1_chk910 (v832 : IVec S16 32) : Prop :=
  (∀ a x, ((![v832] : Fin 1 → IVec S16 32) a x).toNat < S88320.size a)
theorem k1_idx910_inb : ∀ (v832 : IVec S16 32) (k1_hw910 : k1_chk910 v832), ∀ a x, ((![v832] : Fin 1 → IVec S16 32) a x).toNat < S88320.size a := fun v832 k1_hw910 => k1_hw910

def k1_chk911 (v836 : IVec S16 32) : Prop :=
  (∀ a x, ((![v836] : Fin 1 → IVec S16 32) a x).toNat < S88320.size a)
theorem k1_idx911_inb : ∀ (v836 : IVec S16 32) (k1_hw911 : k1_chk911 v836), ∀ a x, ((![v836] : Fin 1 → IVec S16 32) a x).toNat < S88320.size a := fun v836 k1_hw911 => k1_hw911

def k1_chk912 (v840 : IVec S16 32) : Prop :=
  (∀ a x, ((![v840] : Fin 1 → IVec S16 32) a x).toNat < S88320.size a)
theorem k1_idx912_inb : ∀ (v840 : IVec S16 32) (k1_hw912 : k1_chk912 v840), ∀ a x, ((![v840] : Fin 1 → IVec S16 32) a x).toNat < S88320.size a := fun v840 k1_hw912 => k1_hw912
def k1_off972 (i : grid1.Coords) : Fin 4 → Nat :=
  let c2_i32_730 : BitVec 32 := 2#32
  let c16_i32_731 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_732 : BitVec 32 := 0#32
  ![2, 16, v2.toNat, 0]
@[reducible] def k1_t59_loop : Scf.Loop 32 :=
  let c0_i32_739 : BitVec 32 := 0#32
  let c32_i32_740 : BitVec 32 := 32#32
  let v531 : BitVec 32 := Scalar.addi c0_i32_739 c32_i32_740
  let c1_i32_741 : BitVec 32 := 1#32
  ⟨c0_i32_739, v531, c1_i32_741⟩
def k1_off973 (k1_t59 : Fin k1_t59_loop.trips) : Fin 2 → Nat :=
  let c0_i32_1152 : BitVec 32 := 0#32
  let v778 : Index := Scalar.indexCast c0_i32_1152
  let c0_i32_739 : BitVec 32 := 0#32
  let c1_i32_741 : BitVec 32 := 1#32
  let arg9 : BitVec 32 := Scf.iv c0_i32_739 c1_i32_741 k1_t59
  let c16_i32_1151 : BitVec 32 := 16#32
  let v777 : BitVec 32 := Scalar.muli arg9 c16_i32_1151
  let v779 : Index := Scalar.indexCast v777
  ![0, v779.toNat]
def k1_off974 (k1_t59 : Fin k1_t59_loop.trips) : Fin 2 → Nat :=
  let c1_i32_1154 : BitVec 32 := 1#32
  let v782 : Index := Scalar.indexCast c1_i32_1154
  let c0_i32_739 : BitVec 32 := 0#32
  let c1_i32_741 : BitVec 32 := 1#32
  let arg9 : BitVec 32 := Scf.iv c0_i32_739 c1_i32_741 k1_t59
  let c16_i32_1153 : BitVec 32 := 16#32
  let v781 : BitVec 32 := Scalar.muli arg9 c16_i32_1153
  let v783 : Index := Scalar.indexCast v781
  ![1, v783.toNat]
def k1_off975 (k1_t59 : Fin k1_t59_loop.trips) : Fin 2 → Nat :=
  let c2_i32_1156 : BitVec 32 := 2#32
  let v786 : Index := Scalar.indexCast c2_i32_1156
  let c0_i32_739 : BitVec 32 := 0#32
  let c1_i32_741 : BitVec 32 := 1#32
  let arg9 : BitVec 32 := Scf.iv c0_i32_739 c1_i32_741 k1_t59
  let c16_i32_1155 : BitVec 32 := 16#32
  let v785 : BitVec 32 := Scalar.muli arg9 c16_i32_1155
  let v787 : Index := Scalar.indexCast v785
  ![2, v787.toNat]
def k1_off976 (k1_t59 : Fin k1_t59_loop.trips) : Fin 2 → Nat :=
  let c3_i32_1158 : BitVec 32 := 3#32
  let v790 : Index := Scalar.indexCast c3_i32_1158
  let c0_i32_739 : BitVec 32 := 0#32
  let c1_i32_741 : BitVec 32 := 1#32
  let arg9 : BitVec 32 := Scf.iv c0_i32_739 c1_i32_741 k1_t59
  let c16_i32_1157 : BitVec 32 := 16#32
  let v789 : BitVec 32 := Scalar.muli arg9 c16_i32_1157
  let v791 : Index := Scalar.indexCast v789
  ![3, v791.toNat]
def k1_off977 (k1_t59 : Fin k1_t59_loop.trips) : Fin 2 → Nat :=
  let c4_i32_1160 : BitVec 32 := 4#32
  let v794 : Index := Scalar.indexCast c4_i32_1160
  let c0_i32_739 : BitVec 32 := 0#32
  let c1_i32_741 : BitVec 32 := 1#32
  let arg9 : BitVec 32 := Scf.iv c0_i32_739 c1_i32_741 k1_t59
  let c16_i32_1159 : BitVec 32 := 16#32
  let v793 : BitVec 32 := Scalar.muli arg9 c16_i32_1159
  let v795 : Index := Scalar.indexCast v793
  ![4, v795.toNat]
def k1_off978 (k1_t59 : Fin k1_t59_loop.trips) : Fin 2 → Nat :=
  let c5_i32_1162 : BitVec 32 := 5#32
  let v798 : Index := Scalar.indexCast c5_i32_1162
  let c0_i32_739 : BitVec 32 := 0#32
  let c1_i32_741 : BitVec 32 := 1#32
  let arg9 : BitVec 32 := Scf.iv c0_i32_739 c1_i32_741 k1_t59
  let c16_i32_1161 : BitVec 32 := 16#32
  let v797 : BitVec 32 := Scalar.muli arg9 c16_i32_1161
  let v799 : Index := Scalar.indexCast v797
  ![5, v799.toNat]
def k1_off979 (k1_t59 : Fin k1_t59_loop.trips) : Fin 2 → Nat :=
  let c6_i32_1164 : BitVec 32 := 6#32
  let v802 : Index := Scalar.indexCast c6_i32_1164
  let c0_i32_739 : BitVec 32 := 0#32
  let c1_i32_741 : BitVec 32 := 1#32
  let arg9 : BitVec 32 := Scf.iv c0_i32_739 c1_i32_741 k1_t59
  let c16_i32_1163 : BitVec 32 := 16#32
  let v801 : BitVec 32 := Scalar.muli arg9 c16_i32_1163
  let v803 : Index := Scalar.indexCast v801
  ![6, v803.toNat]
def k1_off980 (k1_t59 : Fin k1_t59_loop.trips) : Fin 2 → Nat :=
  let c7_i32_1166 : BitVec 32 := 7#32
  let v806 : Index := Scalar.indexCast c7_i32_1166
  let c0_i32_739 : BitVec 32 := 0#32
  let c1_i32_741 : BitVec 32 := 1#32
  let arg9 : BitVec 32 := Scf.iv c0_i32_739 c1_i32_741 k1_t59
  let c16_i32_1165 : BitVec 32 := 16#32
  let v805 : BitVec 32 := Scalar.muli arg9 c16_i32_1165
  let v807 : Index := Scalar.indexCast v805
  ![7, v807.toNat]
def k1_off981 (k1_t59 : Fin k1_t59_loop.trips) : Fin 2 → Nat :=
  let c8_i32_1168 : BitVec 32 := 8#32
  let v810 : Index := Scalar.indexCast c8_i32_1168
  let c0_i32_739 : BitVec 32 := 0#32
  let c1_i32_741 : BitVec 32 := 1#32
  let arg9 : BitVec 32 := Scf.iv c0_i32_739 c1_i32_741 k1_t59
  let c16_i32_1167 : BitVec 32 := 16#32
  let v809 : BitVec 32 := Scalar.muli arg9 c16_i32_1167
  let v811 : Index := Scalar.indexCast v809
  ![8, v811.toNat]
def k1_off982 (k1_t59 : Fin k1_t59_loop.trips) : Fin 2 → Nat :=
  let c9_i32_1170 : BitVec 32 := 9#32
  let v814 : Index := Scalar.indexCast c9_i32_1170
  let c0_i32_739 : BitVec 32 := 0#32
  let c1_i32_741 : BitVec 32 := 1#32
  let arg9 : BitVec 32 := Scf.iv c0_i32_739 c1_i32_741 k1_t59
  let c16_i32_1169 : BitVec 32 := 16#32
  let v813 : BitVec 32 := Scalar.muli arg9 c16_i32_1169
  let v815 : Index := Scalar.indexCast v813
  ![9, v815.toNat]
def k1_off983 (k1_t59 : Fin k1_t59_loop.trips) : Fin 2 → Nat :=
  let c10_i32_1172 : BitVec 32 := 10#32
  let v818 : Index := Scalar.indexCast c10_i32_1172
  let c0_i32_739 : BitVec 32 := 0#32
  let c1_i32_741 : BitVec 32 := 1#32
  let arg9 : BitVec 32 := Scf.iv c0_i32_739 c1_i32_741 k1_t59
  let c16_i32_1171 : BitVec 32 := 16#32
  let v817 : BitVec 32 := Scalar.muli arg9 c16_i32_1171
  let v819 : Index := Scalar.indexCast v817
  ![10, v819.toNat]
def k1_off984 (k1_t59 : Fin k1_t59_loop.trips) : Fin 2 → Nat :=
  let c11_i32_1174 : BitVec 32 := 11#32
  let v822 : Index := Scalar.indexCast c11_i32_1174
  let c0_i32_739 : BitVec 32 := 0#32
  let c1_i32_741 : BitVec 32 := 1#32
  let arg9 : BitVec 32 := Scf.iv c0_i32_739 c1_i32_741 k1_t59
  let c16_i32_1173 : BitVec 32 := 16#32
  let v821 : BitVec 32 := Scalar.muli arg9 c16_i32_1173
  let v823 : Index := Scalar.indexCast v821
  ![11, v823.toNat]
def k1_off985 (k1_t59 : Fin k1_t59_loop.trips) : Fin 2 → Nat :=
  let c12_i32_1176 : BitVec 32 := 12#32
  let v826 : Index := Scalar.indexCast c12_i32_1176
  let c0_i32_739 : BitVec 32 := 0#32
  let c1_i32_741 : BitVec 32 := 1#32
  let arg9 : BitVec 32 := Scf.iv c0_i32_739 c1_i32_741 k1_t59
  let c16_i32_1175 : BitVec 32 := 16#32
  let v825 : BitVec 32 := Scalar.muli arg9 c16_i32_1175
  let v827 : Index := Scalar.indexCast v825
  ![12, v827.toNat]
def k1_off986 (k1_t59 : Fin k1_t59_loop.trips) : Fin 2 → Nat :=
  let c13_i32_1178 : BitVec 32 := 13#32
  let v830 : Index := Scalar.indexCast c13_i32_1178
  let c0_i32_739 : BitVec 32 := 0#32
  let c1_i32_741 : BitVec 32 := 1#32
  let arg9 : BitVec 32 := Scf.iv c0_i32_739 c1_i32_741 k1_t59
  let c16_i32_1177 : BitVec 32 := 16#32
  let v829 : BitVec 32 := Scalar.muli arg9 c16_i32_1177
  let v831 : Index := Scalar.indexCast v829
  ![13, v831.toNat]
def k1_off987 (k1_t59 : Fin k1_t59_loop.trips) : Fin 2 → Nat :=
  let c14_i32_1180 : BitVec 32 := 14#32
  let v834 : Index := Scalar.indexCast c14_i32_1180
  let c0_i32_739 : BitVec 32 := 0#32
  let c1_i32_741 : BitVec 32 := 1#32
  let arg9 : BitVec 32 := Scf.iv c0_i32_739 c1_i32_741 k1_t59
  let c16_i32_1179 : BitVec 32 := 16#32
  let v833 : BitVec 32 := Scalar.muli arg9 c16_i32_1179
  let v835 : Index := Scalar.indexCast v833
  ![14, v835.toNat]
def k1_off988 (k1_t59 : Fin k1_t59_loop.trips) : Fin 2 → Nat :=
  let c15_i32_1182 : BitVec 32 := 15#32
  let v838 : Index := Scalar.indexCast c15_i32_1182
  let c0_i32_739 : BitVec 32 := 0#32
  let c1_i32_741 : BitVec 32 := 1#32
  let arg9 : BitVec 32 := Scf.iv c0_i32_739 c1_i32_741 k1_t59
  let c16_i32_1181 : BitVec 32 := 16#32
  let v837 : BitVec 32 := Scalar.muli arg9 c16_i32_1181
  let v839 : Index := Scalar.indexCast v837
  ![15, v839.toNat]

def k1_chk913 (v780 : IVec S16 32) : Prop :=
  (∀ a x, ((![v780] : Fin 1 → IVec S16 32) a x).toNat < S88320.size a)
theorem k1_idx913_inb : ∀ (v780 : IVec S16 32) (k1_hw913 : k1_chk913 v780), ∀ a x, ((![v780] : Fin 1 → IVec S16 32) a x).toNat < S88320.size a := fun v780 k1_hw913 => k1_hw913

def k1_chk914 (v784 : IVec S16 32) : Prop :=
  (∀ a x, ((![v784] : Fin 1 → IVec S16 32) a x).toNat < S88320.size a)
theorem k1_idx914_inb : ∀ (v784 : IVec S16 32) (k1_hw914 : k1_chk914 v784), ∀ a x, ((![v784] : Fin 1 → IVec S16 32) a x).toNat < S88320.size a := fun v784 k1_hw914 => k1_hw914

def k1_chk915 (v788 : IVec S16 32) : Prop :=
  (∀ a x, ((![v788] : Fin 1 → IVec S16 32) a x).toNat < S88320.size a)
theorem k1_idx915_inb : ∀ (v788 : IVec S16 32) (k1_hw915 : k1_chk915 v788), ∀ a x, ((![v788] : Fin 1 → IVec S16 32) a x).toNat < S88320.size a := fun v788 k1_hw915 => k1_hw915

def k1_chk916 (v792 : IVec S16 32) : Prop :=
  (∀ a x, ((![v792] : Fin 1 → IVec S16 32) a x).toNat < S88320.size a)
theorem k1_idx916_inb : ∀ (v792 : IVec S16 32) (k1_hw916 : k1_chk916 v792), ∀ a x, ((![v792] : Fin 1 → IVec S16 32) a x).toNat < S88320.size a := fun v792 k1_hw916 => k1_hw916

def k1_chk917 (v796 : IVec S16 32) : Prop :=
  (∀ a x, ((![v796] : Fin 1 → IVec S16 32) a x).toNat < S88320.size a)
theorem k1_idx917_inb : ∀ (v796 : IVec S16 32) (k1_hw917 : k1_chk917 v796), ∀ a x, ((![v796] : Fin 1 → IVec S16 32) a x).toNat < S88320.size a := fun v796 k1_hw917 => k1_hw917

def k1_chk918 (v800 : IVec S16 32) : Prop :=
  (∀ a x, ((![v800] : Fin 1 → IVec S16 32) a x).toNat < S88320.size a)
theorem k1_idx918_inb : ∀ (v800 : IVec S16 32) (k1_hw918 : k1_chk918 v800), ∀ a x, ((![v800] : Fin 1 → IVec S16 32) a x).toNat < S88320.size a := fun v800 k1_hw918 => k1_hw918

def k1_chk919 (v804 : IVec S16 32) : Prop :=
  (∀ a x, ((![v804] : Fin 1 → IVec S16 32) a x).toNat < S88320.size a)
theorem k1_idx919_inb : ∀ (v804 : IVec S16 32) (k1_hw919 : k1_chk919 v804), ∀ a x, ((![v804] : Fin 1 → IVec S16 32) a x).toNat < S88320.size a := fun v804 k1_hw919 => k1_hw919

def k1_chk920 (v808 : IVec S16 32) : Prop :=
  (∀ a x, ((![v808] : Fin 1 → IVec S16 32) a x).toNat < S88320.size a)
theorem k1_idx920_inb : ∀ (v808 : IVec S16 32) (k1_hw920 : k1_chk920 v808), ∀ a x, ((![v808] : Fin 1 → IVec S16 32) a x).toNat < S88320.size a := fun v808 k1_hw920 => k1_hw920

def k1_chk921 (v812 : IVec S16 32) : Prop :=
  (∀ a x, ((![v812] : Fin 1 → IVec S16 32) a x).toNat < S88320.size a)
theorem k1_idx921_inb : ∀ (v812 : IVec S16 32) (k1_hw921 : k1_chk921 v812), ∀ a x, ((![v812] : Fin 1 → IVec S16 32) a x).toNat < S88320.size a := fun v812 k1_hw921 => k1_hw921

def k1_chk922 (v816 : IVec S16 32) : Prop :=
  (∀ a x, ((![v816] : Fin 1 → IVec S16 32) a x).toNat < S88320.size a)
theorem k1_idx922_inb : ∀ (v816 : IVec S16 32) (k1_hw922 : k1_chk922 v816), ∀ a x, ((![v816] : Fin 1 → IVec S16 32) a x).toNat < S88320.size a := fun v816 k1_hw922 => k1_hw922

def k1_chk923 (v820 : IVec S16 32) : Prop :=
  (∀ a x, ((![v820] : Fin 1 → IVec S16 32) a x).toNat < S88320.size a)
theorem k1_idx923_inb : ∀ (v820 : IVec S16 32) (k1_hw923 : k1_chk923 v820), ∀ a x, ((![v820] : Fin 1 → IVec S16 32) a x).toNat < S88320.size a := fun v820 k1_hw923 => k1_hw923

def k1_chk924 (v824 : IVec S16 32) : Prop :=
  (∀ a x, ((![v824] : Fin 1 → IVec S16 32) a x).toNat < S88320.size a)
theorem k1_idx924_inb : ∀ (v824 : IVec S16 32) (k1_hw924 : k1_chk924 v824), ∀ a x, ((![v824] : Fin 1 → IVec S16 32) a x).toNat < S88320.size a := fun v824 k1_hw924 => k1_hw924

def k1_chk925 (v828 : IVec S16 32) : Prop :=
  (∀ a x, ((![v828] : Fin 1 → IVec S16 32) a x).toNat < S88320.size a)
theorem k1_idx925_inb : ∀ (v828 : IVec S16 32) (k1_hw925 : k1_chk925 v828), ∀ a x, ((![v828] : Fin 1 → IVec S16 32) a x).toNat < S88320.size a := fun v828 k1_hw925 => k1_hw925

def k1_chk926 (v832 : IVec S16 32) : Prop :=
  (∀ a x, ((![v832] : Fin 1 → IVec S16 32) a x).toNat < S88320.size a)
theorem k1_idx926_inb : ∀ (v832 : IVec S16 32) (k1_hw926 : k1_chk926 v832), ∀ a x, ((![v832] : Fin 1 → IVec S16 32) a x).toNat < S88320.size a := fun v832 k1_hw926 => k1_hw926

def k1_chk927 (v836 : IVec S16 32) : Prop :=
  (∀ a x, ((![v836] : Fin 1 → IVec S16 32) a x).toNat < S88320.size a)
theorem k1_idx927_inb : ∀ (v836 : IVec S16 32) (k1_hw927 : k1_chk927 v836), ∀ a x, ((![v836] : Fin 1 → IVec S16 32) a x).toNat < S88320.size a := fun v836 k1_hw927 => k1_hw927

def k1_chk928 (v840 : IVec S16 32) : Prop :=
  (∀ a x, ((![v840] : Fin 1 → IVec S16 32) a x).toNat < S88320.size a)
theorem k1_idx928_inb : ∀ (v840 : IVec S16 32) (k1_hw928 : k1_chk928 v840), ∀ a x, ((![v840] : Fin 1 → IVec S16 32) a x).toNat < S88320.size a := fun v840 k1_hw928 => k1_hw928
def k1_off989 (i : grid1.Coords) : Fin 4 → Nat :=
  let c2_i32_743 : BitVec 32 := 2#32
  let c17_i32_744 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_745 : BitVec 32 := 0#32
  ![2, 17, v2.toNat, 0]
@[reducible] def k1_t60_loop : Scf.Loop 32 :=
  let c0_i32_752 : BitVec 32 := 0#32
  let c32_i32_753 : BitVec 32 := 32#32
  let v540 : BitVec 32 := Scalar.addi c0_i32_752 c32_i32_753
  let c1_i32_754 : BitVec 32 := 1#32
  ⟨c0_i32_752, v540, c1_i32_754⟩
def k1_off990 (k1_t60 : Fin k1_t60_loop.trips) : Fin 2 → Nat :=
  let c0_i32_1152 : BitVec 32 := 0#32
  let v778 : Index := Scalar.indexCast c0_i32_1152
  let c0_i32_752 : BitVec 32 := 0#32
  let c1_i32_754 : BitVec 32 := 1#32
  let arg9 : BitVec 32 := Scf.iv c0_i32_752 c1_i32_754 k1_t60
  let c16_i32_1151 : BitVec 32 := 16#32
  let v777 : BitVec 32 := Scalar.muli arg9 c16_i32_1151
  let v779 : Index := Scalar.indexCast v777
  ![0, v779.toNat]
def k1_off991 (k1_t60 : Fin k1_t60_loop.trips) : Fin 2 → Nat :=
  let c1_i32_1154 : BitVec 32 := 1#32
  let v782 : Index := Scalar.indexCast c1_i32_1154
  let c0_i32_752 : BitVec 32 := 0#32
  let c1_i32_754 : BitVec 32 := 1#32
  let arg9 : BitVec 32 := Scf.iv c0_i32_752 c1_i32_754 k1_t60
  let c16_i32_1153 : BitVec 32 := 16#32
  let v781 : BitVec 32 := Scalar.muli arg9 c16_i32_1153
  let v783 : Index := Scalar.indexCast v781
  ![1, v783.toNat]
def k1_off992 (k1_t60 : Fin k1_t60_loop.trips) : Fin 2 → Nat :=
  let c2_i32_1156 : BitVec 32 := 2#32
  let v786 : Index := Scalar.indexCast c2_i32_1156
  let c0_i32_752 : BitVec 32 := 0#32
  let c1_i32_754 : BitVec 32 := 1#32
  let arg9 : BitVec 32 := Scf.iv c0_i32_752 c1_i32_754 k1_t60
  let c16_i32_1155 : BitVec 32 := 16#32
  let v785 : BitVec 32 := Scalar.muli arg9 c16_i32_1155
  let v787 : Index := Scalar.indexCast v785
  ![2, v787.toNat]
def k1_off993 (k1_t60 : Fin k1_t60_loop.trips) : Fin 2 → Nat :=
  let c3_i32_1158 : BitVec 32 := 3#32
  let v790 : Index := Scalar.indexCast c3_i32_1158
  let c0_i32_752 : BitVec 32 := 0#32
  let c1_i32_754 : BitVec 32 := 1#32
  let arg9 : BitVec 32 := Scf.iv c0_i32_752 c1_i32_754 k1_t60
  let c16_i32_1157 : BitVec 32 := 16#32
  let v789 : BitVec 32 := Scalar.muli arg9 c16_i32_1157
  let v791 : Index := Scalar.indexCast v789
  ![3, v791.toNat]
def k1_off994 (k1_t60 : Fin k1_t60_loop.trips) : Fin 2 → Nat :=
  let c4_i32_1160 : BitVec 32 := 4#32
  let v794 : Index := Scalar.indexCast c4_i32_1160
  let c0_i32_752 : BitVec 32 := 0#32
  let c1_i32_754 : BitVec 32 := 1#32
  let arg9 : BitVec 32 := Scf.iv c0_i32_752 c1_i32_754 k1_t60
  let c16_i32_1159 : BitVec 32 := 16#32
  let v793 : BitVec 32 := Scalar.muli arg9 c16_i32_1159
  let v795 : Index := Scalar.indexCast v793
  ![4, v795.toNat]
def k1_off995 (k1_t60 : Fin k1_t60_loop.trips) : Fin 2 → Nat :=
  let c5_i32_1162 : BitVec 32 := 5#32
  let v798 : Index := Scalar.indexCast c5_i32_1162
  let c0_i32_752 : BitVec 32 := 0#32
  let c1_i32_754 : BitVec 32 := 1#32
  let arg9 : BitVec 32 := Scf.iv c0_i32_752 c1_i32_754 k1_t60
  let c16_i32_1161 : BitVec 32 := 16#32
  let v797 : BitVec 32 := Scalar.muli arg9 c16_i32_1161
  let v799 : Index := Scalar.indexCast v797
  ![5, v799.toNat]
def k1_off996 (k1_t60 : Fin k1_t60_loop.trips) : Fin 2 → Nat :=
  let c6_i32_1164 : BitVec 32 := 6#32
  let v802 : Index := Scalar.indexCast c6_i32_1164
  let c0_i32_752 : BitVec 32 := 0#32
  let c1_i32_754 : BitVec 32 := 1#32
  let arg9 : BitVec 32 := Scf.iv c0_i32_752 c1_i32_754 k1_t60
  let c16_i32_1163 : BitVec 32 := 16#32
  let v801 : BitVec 32 := Scalar.muli arg9 c16_i32_1163
  let v803 : Index := Scalar.indexCast v801
  ![6, v803.toNat]
def k1_off997 (k1_t60 : Fin k1_t60_loop.trips) : Fin 2 → Nat :=
  let c7_i32_1166 : BitVec 32 := 7#32
  let v806 : Index := Scalar.indexCast c7_i32_1166
  let c0_i32_752 : BitVec 32 := 0#32
  let c1_i32_754 : BitVec 32 := 1#32
  let arg9 : BitVec 32 := Scf.iv c0_i32_752 c1_i32_754 k1_t60
  let c16_i32_1165 : BitVec 32 := 16#32
  let v805 : BitVec 32 := Scalar.muli arg9 c16_i32_1165
  let v807 : Index := Scalar.indexCast v805
  ![7, v807.toNat]
def k1_off998 (k1_t60 : Fin k1_t60_loop.trips) : Fin 2 → Nat :=
  let c8_i32_1168 : BitVec 32 := 8#32
  let v810 : Index := Scalar.indexCast c8_i32_1168
  let c0_i32_752 : BitVec 32 := 0#32
  let c1_i32_754 : BitVec 32 := 1#32
  let arg9 : BitVec 32 := Scf.iv c0_i32_752 c1_i32_754 k1_t60
  let c16_i32_1167 : BitVec 32 := 16#32
  let v809 : BitVec 32 := Scalar.muli arg9 c16_i32_1167
  let v811 : Index := Scalar.indexCast v809
  ![8, v811.toNat]
def k1_off999 (k1_t60 : Fin k1_t60_loop.trips) : Fin 2 → Nat :=
  let c9_i32_1170 : BitVec 32 := 9#32
  let v814 : Index := Scalar.indexCast c9_i32_1170
  let c0_i32_752 : BitVec 32 := 0#32
  let c1_i32_754 : BitVec 32 := 1#32
  let arg9 : BitVec 32 := Scf.iv c0_i32_752 c1_i32_754 k1_t60
  let c16_i32_1169 : BitVec 32 := 16#32
  let v813 : BitVec 32 := Scalar.muli arg9 c16_i32_1169
  let v815 : Index := Scalar.indexCast v813
  ![9, v815.toNat]
def k1_off1000 (k1_t60 : Fin k1_t60_loop.trips) : Fin 2 → Nat :=
  let c10_i32_1172 : BitVec 32 := 10#32
  let v818 : Index := Scalar.indexCast c10_i32_1172
  let c0_i32_752 : BitVec 32 := 0#32
  let c1_i32_754 : BitVec 32 := 1#32
  let arg9 : BitVec 32 := Scf.iv c0_i32_752 c1_i32_754 k1_t60
  let c16_i32_1171 : BitVec 32 := 16#32
  let v817 : BitVec 32 := Scalar.muli arg9 c16_i32_1171
  let v819 : Index := Scalar.indexCast v817
  ![10, v819.toNat]
def k1_off1001 (k1_t60 : Fin k1_t60_loop.trips) : Fin 2 → Nat :=
  let c11_i32_1174 : BitVec 32 := 11#32
  let v822 : Index := Scalar.indexCast c11_i32_1174
  let c0_i32_752 : BitVec 32 := 0#32
  let c1_i32_754 : BitVec 32 := 1#32
  let arg9 : BitVec 32 := Scf.iv c0_i32_752 c1_i32_754 k1_t60
  let c16_i32_1173 : BitVec 32 := 16#32
  let v821 : BitVec 32 := Scalar.muli arg9 c16_i32_1173
  let v823 : Index := Scalar.indexCast v821
  ![11, v823.toNat]
def k1_off1002 (k1_t60 : Fin k1_t60_loop.trips) : Fin 2 → Nat :=
  let c12_i32_1176 : BitVec 32 := 12#32
  let v826 : Index := Scalar.indexCast c12_i32_1176
  let c0_i32_752 : BitVec 32 := 0#32
  let c1_i32_754 : BitVec 32 := 1#32
  let arg9 : BitVec 32 := Scf.iv c0_i32_752 c1_i32_754 k1_t60
  let c16_i32_1175 : BitVec 32 := 16#32
  let v825 : BitVec 32 := Scalar.muli arg9 c16_i32_1175
  let v827 : Index := Scalar.indexCast v825
  ![12, v827.toNat]
def k1_off1003 (k1_t60 : Fin k1_t60_loop.trips) : Fin 2 → Nat :=
  let c13_i32_1178 : BitVec 32 := 13#32
  let v830 : Index := Scalar.indexCast c13_i32_1178
  let c0_i32_752 : BitVec 32 := 0#32
  let c1_i32_754 : BitVec 32 := 1#32
  let arg9 : BitVec 32 := Scf.iv c0_i32_752 c1_i32_754 k1_t60
  let c16_i32_1177 : BitVec 32 := 16#32
  let v829 : BitVec 32 := Scalar.muli arg9 c16_i32_1177
  let v831 : Index := Scalar.indexCast v829
  ![13, v831.toNat]
def k1_off1004 (k1_t60 : Fin k1_t60_loop.trips) : Fin 2 → Nat :=
  let c14_i32_1180 : BitVec 32 := 14#32
  let v834 : Index := Scalar.indexCast c14_i32_1180
  let c0_i32_752 : BitVec 32 := 0#32
  let c1_i32_754 : BitVec 32 := 1#32
  let arg9 : BitVec 32 := Scf.iv c0_i32_752 c1_i32_754 k1_t60
  let c16_i32_1179 : BitVec 32 := 16#32
  let v833 : BitVec 32 := Scalar.muli arg9 c16_i32_1179
  let v835 : Index := Scalar.indexCast v833
  ![14, v835.toNat]
def k1_off1005 (k1_t60 : Fin k1_t60_loop.trips) : Fin 2 → Nat :=
  let c15_i32_1182 : BitVec 32 := 15#32
  let v838 : Index := Scalar.indexCast c15_i32_1182
  let c0_i32_752 : BitVec 32 := 0#32
  let c1_i32_754 : BitVec 32 := 1#32
  let arg9 : BitVec 32 := Scf.iv c0_i32_752 c1_i32_754 k1_t60
  let c16_i32_1181 : BitVec 32 := 16#32
  let v837 : BitVec 32 := Scalar.muli arg9 c16_i32_1181
  let v839 : Index := Scalar.indexCast v837
  ![15, v839.toNat]

def k1_chk929 (v780 : IVec S16 32) : Prop :=
  (∀ a x, ((![v780] : Fin 1 → IVec S16 32) a x).toNat < S88320.size a)
theorem k1_idx929_inb : ∀ (v780 : IVec S16 32) (k1_hw929 : k1_chk929 v780), ∀ a x, ((![v780] : Fin 1 → IVec S16 32) a x).toNat < S88320.size a := fun v780 k1_hw929 => k1_hw929

def k1_chk930 (v784 : IVec S16 32) : Prop :=
  (∀ a x, ((![v784] : Fin 1 → IVec S16 32) a x).toNat < S88320.size a)
theorem k1_idx930_inb : ∀ (v784 : IVec S16 32) (k1_hw930 : k1_chk930 v784), ∀ a x, ((![v784] : Fin 1 → IVec S16 32) a x).toNat < S88320.size a := fun v784 k1_hw930 => k1_hw930

def k1_chk931 (v788 : IVec S16 32) : Prop :=
  (∀ a x, ((![v788] : Fin 1 → IVec S16 32) a x).toNat < S88320.size a)
theorem k1_idx931_inb : ∀ (v788 : IVec S16 32) (k1_hw931 : k1_chk931 v788), ∀ a x, ((![v788] : Fin 1 → IVec S16 32) a x).toNat < S88320.size a := fun v788 k1_hw931 => k1_hw931

def k1_chk932 (v792 : IVec S16 32) : Prop :=
  (∀ a x, ((![v792] : Fin 1 → IVec S16 32) a x).toNat < S88320.size a)
theorem k1_idx932_inb : ∀ (v792 : IVec S16 32) (k1_hw932 : k1_chk932 v792), ∀ a x, ((![v792] : Fin 1 → IVec S16 32) a x).toNat < S88320.size a := fun v792 k1_hw932 => k1_hw932

def k1_chk933 (v796 : IVec S16 32) : Prop :=
  (∀ a x, ((![v796] : Fin 1 → IVec S16 32) a x).toNat < S88320.size a)
theorem k1_idx933_inb : ∀ (v796 : IVec S16 32) (k1_hw933 : k1_chk933 v796), ∀ a x, ((![v796] : Fin 1 → IVec S16 32) a x).toNat < S88320.size a := fun v796 k1_hw933 => k1_hw933

def k1_chk934 (v800 : IVec S16 32) : Prop :=
  (∀ a x, ((![v800] : Fin 1 → IVec S16 32) a x).toNat < S88320.size a)
theorem k1_idx934_inb : ∀ (v800 : IVec S16 32) (k1_hw934 : k1_chk934 v800), ∀ a x, ((![v800] : Fin 1 → IVec S16 32) a x).toNat < S88320.size a := fun v800 k1_hw934 => k1_hw934

def k1_chk935 (v804 : IVec S16 32) : Prop :=
  (∀ a x, ((![v804] : Fin 1 → IVec S16 32) a x).toNat < S88320.size a)
theorem k1_idx935_inb : ∀ (v804 : IVec S16 32) (k1_hw935 : k1_chk935 v804), ∀ a x, ((![v804] : Fin 1 → IVec S16 32) a x).toNat < S88320.size a := fun v804 k1_hw935 => k1_hw935

def k1_chk936 (v808 : IVec S16 32) : Prop :=
  (∀ a x, ((![v808] : Fin 1 → IVec S16 32) a x).toNat < S88320.size a)
theorem k1_idx936_inb : ∀ (v808 : IVec S16 32) (k1_hw936 : k1_chk936 v808), ∀ a x, ((![v808] : Fin 1 → IVec S16 32) a x).toNat < S88320.size a := fun v808 k1_hw936 => k1_hw936

def k1_chk937 (v812 : IVec S16 32) : Prop :=
  (∀ a x, ((![v812] : Fin 1 → IVec S16 32) a x).toNat < S88320.size a)
theorem k1_idx937_inb : ∀ (v812 : IVec S16 32) (k1_hw937 : k1_chk937 v812), ∀ a x, ((![v812] : Fin 1 → IVec S16 32) a x).toNat < S88320.size a := fun v812 k1_hw937 => k1_hw937

def k1_chk938 (v816 : IVec S16 32) : Prop :=
  (∀ a x, ((![v816] : Fin 1 → IVec S16 32) a x).toNat < S88320.size a)
theorem k1_idx938_inb : ∀ (v816 : IVec S16 32) (k1_hw938 : k1_chk938 v816), ∀ a x, ((![v816] : Fin 1 → IVec S16 32) a x).toNat < S88320.size a := fun v816 k1_hw938 => k1_hw938

def k1_chk939 (v820 : IVec S16 32) : Prop :=
  (∀ a x, ((![v820] : Fin 1 → IVec S16 32) a x).toNat < S88320.size a)
theorem k1_idx939_inb : ∀ (v820 : IVec S16 32) (k1_hw939 : k1_chk939 v820), ∀ a x, ((![v820] : Fin 1 → IVec S16 32) a x).toNat < S88320.size a := fun v820 k1_hw939 => k1_hw939

def k1_chk940 (v824 : IVec S16 32) : Prop :=
  (∀ a x, ((![v824] : Fin 1 → IVec S16 32) a x).toNat < S88320.size a)
theorem k1_idx940_inb : ∀ (v824 : IVec S16 32) (k1_hw940 : k1_chk940 v824), ∀ a x, ((![v824] : Fin 1 → IVec S16 32) a x).toNat < S88320.size a := fun v824 k1_hw940 => k1_hw940

def k1_chk941 (v828 : IVec S16 32) : Prop :=
  (∀ a x, ((![v828] : Fin 1 → IVec S16 32) a x).toNat < S88320.size a)
theorem k1_idx941_inb : ∀ (v828 : IVec S16 32) (k1_hw941 : k1_chk941 v828), ∀ a x, ((![v828] : Fin 1 → IVec S16 32) a x).toNat < S88320.size a := fun v828 k1_hw941 => k1_hw941

def k1_chk942 (v832 : IVec S16 32) : Prop :=
  (∀ a x, ((![v832] : Fin 1 → IVec S16 32) a x).toNat < S88320.size a)
theorem k1_idx942_inb : ∀ (v832 : IVec S16 32) (k1_hw942 : k1_chk942 v832), ∀ a x, ((![v832] : Fin 1 → IVec S16 32) a x).toNat < S88320.size a := fun v832 k1_hw942 => k1_hw942

def k1_chk943 (v836 : IVec S16 32) : Prop :=
  (∀ a x, ((![v836] : Fin 1 → IVec S16 32) a x).toNat < S88320.size a)
theorem k1_idx943_inb : ∀ (v836 : IVec S16 32) (k1_hw943 : k1_chk943 v836), ∀ a x, ((![v836] : Fin 1 → IVec S16 32) a x).toNat < S88320.size a := fun v836 k1_hw943 => k1_hw943

def k1_chk944 (v840 : IVec S16 32) : Prop :=
  (∀ a x, ((![v840] : Fin 1 → IVec S16 32) a x).toNat < S88320.size a)
theorem k1_idx944_inb : ∀ (v840 : IVec S16 32) (k1_hw944 : k1_chk944 v840), ∀ a x, ((![v840] : Fin 1 → IVec S16 32) a x).toNat < S88320.size a := fun v840 k1_hw944 => k1_hw944
def k1_off1006 (i : grid1.Coords) : Fin 4 → Nat :=
  let c2_i32_756 : BitVec 32 := 2#32
  let c18_i32_757 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_758 : BitVec 32 := 0#32
  ![2, 18, v2.toNat, 0]
@[reducible] def k1_t61_loop : Scf.Loop 32 :=
  let c0_i32_765 : BitVec 32 := 0#32
  let c32_i32_766 : BitVec 32 := 32#32
  let v549 : BitVec 32 := Scalar.addi c0_i32_765 c32_i32_766
  let c1_i32_767 : BitVec 32 := 1#32
  ⟨c0_i32_765, v549, c1_i32_767⟩
def k1_off1007 (k1_t61 : Fin k1_t61_loop.trips) : Fin 2 → Nat :=
  let c0_i32_1152 : BitVec 32 := 0#32
  let v778 : Index := Scalar.indexCast c0_i32_1152
  let c0_i32_765 : BitVec 32 := 0#32
  let c1_i32_767 : BitVec 32 := 1#32
  let arg9 : BitVec 32 := Scf.iv c0_i32_765 c1_i32_767 k1_t61
  let c16_i32_1151 : BitVec 32 := 16#32
  let v777 : BitVec 32 := Scalar.muli arg9 c16_i32_1151
  let v779 : Index := Scalar.indexCast v777
  ![0, v779.toNat]
def k1_off1008 (k1_t61 : Fin k1_t61_loop.trips) : Fin 2 → Nat :=
  let c1_i32_1154 : BitVec 32 := 1#32
  let v782 : Index := Scalar.indexCast c1_i32_1154
  let c0_i32_765 : BitVec 32 := 0#32
  let c1_i32_767 : BitVec 32 := 1#32
  let arg9 : BitVec 32 := Scf.iv c0_i32_765 c1_i32_767 k1_t61
  let c16_i32_1153 : BitVec 32 := 16#32
  let v781 : BitVec 32 := Scalar.muli arg9 c16_i32_1153
  let v783 : Index := Scalar.indexCast v781
  ![1, v783.toNat]
def k1_off1009 (k1_t61 : Fin k1_t61_loop.trips) : Fin 2 → Nat :=
  let c2_i32_1156 : BitVec 32 := 2#32
  let v786 : Index := Scalar.indexCast c2_i32_1156
  let c0_i32_765 : BitVec 32 := 0#32
  let c1_i32_767 : BitVec 32 := 1#32
  let arg9 : BitVec 32 := Scf.iv c0_i32_765 c1_i32_767 k1_t61
  let c16_i32_1155 : BitVec 32 := 16#32
  let v785 : BitVec 32 := Scalar.muli arg9 c16_i32_1155
  let v787 : Index := Scalar.indexCast v785
  ![2, v787.toNat]
def k1_off1010 (k1_t61 : Fin k1_t61_loop.trips) : Fin 2 → Nat :=
  let c3_i32_1158 : BitVec 32 := 3#32
  let v790 : Index := Scalar.indexCast c3_i32_1158
  let c0_i32_765 : BitVec 32 := 0#32
  let c1_i32_767 : BitVec 32 := 1#32
  let arg9 : BitVec 32 := Scf.iv c0_i32_765 c1_i32_767 k1_t61
  let c16_i32_1157 : BitVec 32 := 16#32
  let v789 : BitVec 32 := Scalar.muli arg9 c16_i32_1157
  let v791 : Index := Scalar.indexCast v789
  ![3, v791.toNat]
def k1_off1011 (k1_t61 : Fin k1_t61_loop.trips) : Fin 2 → Nat :=
  let c4_i32_1160 : BitVec 32 := 4#32
  let v794 : Index := Scalar.indexCast c4_i32_1160
  let c0_i32_765 : BitVec 32 := 0#32
  let c1_i32_767 : BitVec 32 := 1#32
  let arg9 : BitVec 32 := Scf.iv c0_i32_765 c1_i32_767 k1_t61
  let c16_i32_1159 : BitVec 32 := 16#32
  let v793 : BitVec 32 := Scalar.muli arg9 c16_i32_1159
  let v795 : Index := Scalar.indexCast v793
  ![4, v795.toNat]
def k1_off1012 (k1_t61 : Fin k1_t61_loop.trips) : Fin 2 → Nat :=
  let c5_i32_1162 : BitVec 32 := 5#32
  let v798 : Index := Scalar.indexCast c5_i32_1162
  let c0_i32_765 : BitVec 32 := 0#32
  let c1_i32_767 : BitVec 32 := 1#32
  let arg9 : BitVec 32 := Scf.iv c0_i32_765 c1_i32_767 k1_t61
  let c16_i32_1161 : BitVec 32 := 16#32
  let v797 : BitVec 32 := Scalar.muli arg9 c16_i32_1161
  let v799 : Index := Scalar.indexCast v797
  ![5, v799.toNat]
def k1_off1013 (k1_t61 : Fin k1_t61_loop.trips) : Fin 2 → Nat :=
  let c6_i32_1164 : BitVec 32 := 6#32
  let v802 : Index := Scalar.indexCast c6_i32_1164
  let c0_i32_765 : BitVec 32 := 0#32
  let c1_i32_767 : BitVec 32 := 1#32
  let arg9 : BitVec 32 := Scf.iv c0_i32_765 c1_i32_767 k1_t61
  let c16_i32_1163 : BitVec 32 := 16#32
  let v801 : BitVec 32 := Scalar.muli arg9 c16_i32_1163
  let v803 : Index := Scalar.indexCast v801
  ![6, v803.toNat]
def k1_off1014 (k1_t61 : Fin k1_t61_loop.trips) : Fin 2 → Nat :=
  let c7_i32_1166 : BitVec 32 := 7#32
  let v806 : Index := Scalar.indexCast c7_i32_1166
  let c0_i32_765 : BitVec 32 := 0#32
  let c1_i32_767 : BitVec 32 := 1#32
  let arg9 : BitVec 32 := Scf.iv c0_i32_765 c1_i32_767 k1_t61
  let c16_i32_1165 : BitVec 32 := 16#32
  let v805 : BitVec 32 := Scalar.muli arg9 c16_i32_1165
  let v807 : Index := Scalar.indexCast v805
  ![7, v807.toNat]
def k1_off1015 (k1_t61 : Fin k1_t61_loop.trips) : Fin 2 → Nat :=
  let c8_i32_1168 : BitVec 32 := 8#32
  let v810 : Index := Scalar.indexCast c8_i32_1168
  let c0_i32_765 : BitVec 32 := 0#32
  let c1_i32_767 : BitVec 32 := 1#32
  let arg9 : BitVec 32 := Scf.iv c0_i32_765 c1_i32_767 k1_t61
  let c16_i32_1167 : BitVec 32 := 16#32
  let v809 : BitVec 32 := Scalar.muli arg9 c16_i32_1167
  let v811 : Index := Scalar.indexCast v809
  ![8, v811.toNat]
def k1_off1016 (k1_t61 : Fin k1_t61_loop.trips) : Fin 2 → Nat :=
  let c9_i32_1170 : BitVec 32 := 9#32
  let v814 : Index := Scalar.indexCast c9_i32_1170
  let c0_i32_765 : BitVec 32 := 0#32
  let c1_i32_767 : BitVec 32 := 1#32
  let arg9 : BitVec 32 := Scf.iv c0_i32_765 c1_i32_767 k1_t61
  let c16_i32_1169 : BitVec 32 := 16#32
  let v813 : BitVec 32 := Scalar.muli arg9 c16_i32_1169
  let v815 : Index := Scalar.indexCast v813
  ![9, v815.toNat]
def k1_off1017 (k1_t61 : Fin k1_t61_loop.trips) : Fin 2 → Nat :=
  let c10_i32_1172 : BitVec 32 := 10#32
  let v818 : Index := Scalar.indexCast c10_i32_1172
  let c0_i32_765 : BitVec 32 := 0#32
  let c1_i32_767 : BitVec 32 := 1#32
  let arg9 : BitVec 32 := Scf.iv c0_i32_765 c1_i32_767 k1_t61
  let c16_i32_1171 : BitVec 32 := 16#32
  let v817 : BitVec 32 := Scalar.muli arg9 c16_i32_1171
  let v819 : Index := Scalar.indexCast v817
  ![10, v819.toNat]
def k1_off1018 (k1_t61 : Fin k1_t61_loop.trips) : Fin 2 → Nat :=
  let c11_i32_1174 : BitVec 32 := 11#32
  let v822 : Index := Scalar.indexCast c11_i32_1174
  let c0_i32_765 : BitVec 32 := 0#32
  let c1_i32_767 : BitVec 32 := 1#32
  let arg9 : BitVec 32 := Scf.iv c0_i32_765 c1_i32_767 k1_t61
  let c16_i32_1173 : BitVec 32 := 16#32
  let v821 : BitVec 32 := Scalar.muli arg9 c16_i32_1173
  let v823 : Index := Scalar.indexCast v821
  ![11, v823.toNat]
def k1_off1019 (k1_t61 : Fin k1_t61_loop.trips) : Fin 2 → Nat :=
  let c12_i32_1176 : BitVec 32 := 12#32
  let v826 : Index := Scalar.indexCast c12_i32_1176
  let c0_i32_765 : BitVec 32 := 0#32
  let c1_i32_767 : BitVec 32 := 1#32
  let arg9 : BitVec 32 := Scf.iv c0_i32_765 c1_i32_767 k1_t61
  let c16_i32_1175 : BitVec 32 := 16#32
  let v825 : BitVec 32 := Scalar.muli arg9 c16_i32_1175
  let v827 : Index := Scalar.indexCast v825
  ![12, v827.toNat]
def k1_off1020 (k1_t61 : Fin k1_t61_loop.trips) : Fin 2 → Nat :=
  let c13_i32_1178 : BitVec 32 := 13#32
  let v830 : Index := Scalar.indexCast c13_i32_1178
  let c0_i32_765 : BitVec 32 := 0#32
  let c1_i32_767 : BitVec 32 := 1#32
  let arg9 : BitVec 32 := Scf.iv c0_i32_765 c1_i32_767 k1_t61
  let c16_i32_1177 : BitVec 32 := 16#32
  let v829 : BitVec 32 := Scalar.muli arg9 c16_i32_1177
  let v831 : Index := Scalar.indexCast v829
  ![13, v831.toNat]
def k1_off1021 (k1_t61 : Fin k1_t61_loop.trips) : Fin 2 → Nat :=
  let c14_i32_1180 : BitVec 32 := 14#32
  let v834 : Index := Scalar.indexCast c14_i32_1180
  let c0_i32_765 : BitVec 32 := 0#32
  let c1_i32_767 : BitVec 32 := 1#32
  let arg9 : BitVec 32 := Scf.iv c0_i32_765 c1_i32_767 k1_t61
  let c16_i32_1179 : BitVec 32 := 16#32
  let v833 : BitVec 32 := Scalar.muli arg9 c16_i32_1179
  let v835 : Index := Scalar.indexCast v833
  ![14, v835.toNat]
def k1_off1022 (k1_t61 : Fin k1_t61_loop.trips) : Fin 2 → Nat :=
  let c15_i32_1182 : BitVec 32 := 15#32
  let v838 : Index := Scalar.indexCast c15_i32_1182
  let c0_i32_765 : BitVec 32 := 0#32
  let c1_i32_767 : BitVec 32 := 1#32
  let arg9 : BitVec 32 := Scf.iv c0_i32_765 c1_i32_767 k1_t61
  let c16_i32_1181 : BitVec 32 := 16#32
  let v837 : BitVec 32 := Scalar.muli arg9 c16_i32_1181
  let v839 : Index := Scalar.indexCast v837
  ![15, v839.toNat]

def k1_chk945 (v780 : IVec S16 32) : Prop :=
  (∀ a x, ((![v780] : Fin 1 → IVec S16 32) a x).toNat < S88320.size a)
theorem k1_idx945_inb : ∀ (v780 : IVec S16 32) (k1_hw945 : k1_chk945 v780), ∀ a x, ((![v780] : Fin 1 → IVec S16 32) a x).toNat < S88320.size a := fun v780 k1_hw945 => k1_hw945

def k1_chk946 (v784 : IVec S16 32) : Prop :=
  (∀ a x, ((![v784] : Fin 1 → IVec S16 32) a x).toNat < S88320.size a)
theorem k1_idx946_inb : ∀ (v784 : IVec S16 32) (k1_hw946 : k1_chk946 v784), ∀ a x, ((![v784] : Fin 1 → IVec S16 32) a x).toNat < S88320.size a := fun v784 k1_hw946 => k1_hw946

def k1_chk947 (v788 : IVec S16 32) : Prop :=
  (∀ a x, ((![v788] : Fin 1 → IVec S16 32) a x).toNat < S88320.size a)
theorem k1_idx947_inb : ∀ (v788 : IVec S16 32) (k1_hw947 : k1_chk947 v788), ∀ a x, ((![v788] : Fin 1 → IVec S16 32) a x).toNat < S88320.size a := fun v788 k1_hw947 => k1_hw947

def k1_chk948 (v792 : IVec S16 32) : Prop :=
  (∀ a x, ((![v792] : Fin 1 → IVec S16 32) a x).toNat < S88320.size a)
theorem k1_idx948_inb : ∀ (v792 : IVec S16 32) (k1_hw948 : k1_chk948 v792), ∀ a x, ((![v792] : Fin 1 → IVec S16 32) a x).toNat < S88320.size a := fun v792 k1_hw948 => k1_hw948

def k1_chk949 (v796 : IVec S16 32) : Prop :=
  (∀ a x, ((![v796] : Fin 1 → IVec S16 32) a x).toNat < S88320.size a)
theorem k1_idx949_inb : ∀ (v796 : IVec S16 32) (k1_hw949 : k1_chk949 v796), ∀ a x, ((![v796] : Fin 1 → IVec S16 32) a x).toNat < S88320.size a := fun v796 k1_hw949 => k1_hw949

def k1_chk950 (v800 : IVec S16 32) : Prop :=
  (∀ a x, ((![v800] : Fin 1 → IVec S16 32) a x).toNat < S88320.size a)
theorem k1_idx950_inb : ∀ (v800 : IVec S16 32) (k1_hw950 : k1_chk950 v800), ∀ a x, ((![v800] : Fin 1 → IVec S16 32) a x).toNat < S88320.size a := fun v800 k1_hw950 => k1_hw950

def k1_chk951 (v804 : IVec S16 32) : Prop :=
  (∀ a x, ((![v804] : Fin 1 → IVec S16 32) a x).toNat < S88320.size a)
theorem k1_idx951_inb : ∀ (v804 : IVec S16 32) (k1_hw951 : k1_chk951 v804), ∀ a x, ((![v804] : Fin 1 → IVec S16 32) a x).toNat < S88320.size a := fun v804 k1_hw951 => k1_hw951

def k1_chk952 (v808 : IVec S16 32) : Prop :=
  (∀ a x, ((![v808] : Fin 1 → IVec S16 32) a x).toNat < S88320.size a)
theorem k1_idx952_inb : ∀ (v808 : IVec S16 32) (k1_hw952 : k1_chk952 v808), ∀ a x, ((![v808] : Fin 1 → IVec S16 32) a x).toNat < S88320.size a := fun v808 k1_hw952 => k1_hw952

def k1_chk953 (v812 : IVec S16 32) : Prop :=
  (∀ a x, ((![v812] : Fin 1 → IVec S16 32) a x).toNat < S88320.size a)
theorem k1_idx953_inb : ∀ (v812 : IVec S16 32) (k1_hw953 : k1_chk953 v812), ∀ a x, ((![v812] : Fin 1 → IVec S16 32) a x).toNat < S88320.size a := fun v812 k1_hw953 => k1_hw953

def k1_chk954 (v816 : IVec S16 32) : Prop :=
  (∀ a x, ((![v816] : Fin 1 → IVec S16 32) a x).toNat < S88320.size a)
theorem k1_idx954_inb : ∀ (v816 : IVec S16 32) (k1_hw954 : k1_chk954 v816), ∀ a x, ((![v816] : Fin 1 → IVec S16 32) a x).toNat < S88320.size a := fun v816 k1_hw954 => k1_hw954

def k1_chk955 (v820 : IVec S16 32) : Prop :=
  (∀ a x, ((![v820] : Fin 1 → IVec S16 32) a x).toNat < S88320.size a)
theorem k1_idx955_inb : ∀ (v820 : IVec S16 32) (k1_hw955 : k1_chk955 v820), ∀ a x, ((![v820] : Fin 1 → IVec S16 32) a x).toNat < S88320.size a := fun v820 k1_hw955 => k1_hw955

def k1_chk956 (v824 : IVec S16 32) : Prop :=
  (∀ a x, ((![v824] : Fin 1 → IVec S16 32) a x).toNat < S88320.size a)
theorem k1_idx956_inb : ∀ (v824 : IVec S16 32) (k1_hw956 : k1_chk956 v824), ∀ a x, ((![v824] : Fin 1 → IVec S16 32) a x).toNat < S88320.size a := fun v824 k1_hw956 => k1_hw956

def k1_chk957 (v828 : IVec S16 32) : Prop :=
  (∀ a x, ((![v828] : Fin 1 → IVec S16 32) a x).toNat < S88320.size a)
theorem k1_idx957_inb : ∀ (v828 : IVec S16 32) (k1_hw957 : k1_chk957 v828), ∀ a x, ((![v828] : Fin 1 → IVec S16 32) a x).toNat < S88320.size a := fun v828 k1_hw957 => k1_hw957

def k1_chk958 (v832 : IVec S16 32) : Prop :=
  (∀ a x, ((![v832] : Fin 1 → IVec S16 32) a x).toNat < S88320.size a)
theorem k1_idx958_inb : ∀ (v832 : IVec S16 32) (k1_hw958 : k1_chk958 v832), ∀ a x, ((![v832] : Fin 1 → IVec S16 32) a x).toNat < S88320.size a := fun v832 k1_hw958 => k1_hw958

def k1_chk959 (v836 : IVec S16 32) : Prop :=
  (∀ a x, ((![v836] : Fin 1 → IVec S16 32) a x).toNat < S88320.size a)
theorem k1_idx959_inb : ∀ (v836 : IVec S16 32) (k1_hw959 : k1_chk959 v836), ∀ a x, ((![v836] : Fin 1 → IVec S16 32) a x).toNat < S88320.size a := fun v836 k1_hw959 => k1_hw959

def k1_chk960 (v840 : IVec S16 32) : Prop :=
  (∀ a x, ((![v840] : Fin 1 → IVec S16 32) a x).toNat < S88320.size a)
theorem k1_idx960_inb : ∀ (v840 : IVec S16 32) (k1_hw960 : k1_chk960 v840), ∀ a x, ((![v840] : Fin 1 → IVec S16 32) a x).toNat < S88320.size a := fun v840 k1_hw960 => k1_hw960
def k1_off1023 (i : grid1.Coords) : Fin 4 → Nat :=
  let c2_i32_769 : BitVec 32 := 2#32
  let c19_i32_770 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_771 : BitVec 32 := 0#32
  ![2, 19, v2.toNat, 0]
@[reducible] def k1_t62_loop : Scf.Loop 32 :=
  let c0_i32_778 : BitVec 32 := 0#32
  let c32_i32_779 : BitVec 32 := 32#32
  let v558 : BitVec 32 := Scalar.addi c0_i32_778 c32_i32_779
  let c1_i32_780 : BitVec 32 := 1#32
  ⟨c0_i32_778, v558, c1_i32_780⟩
def k1_off1024 (k1_t62 : Fin k1_t62_loop.trips) : Fin 2 → Nat :=
  let c0_i32_1152 : BitVec 32 := 0#32
  let v778 : Index := Scalar.indexCast c0_i32_1152
  let c0_i32_778 : BitVec 32 := 0#32
  let c1_i32_780 : BitVec 32 := 1#32
  let arg9 : BitVec 32 := Scf.iv c0_i32_778 c1_i32_780 k1_t62
  let c16_i32_1151 : BitVec 32 := 16#32
  let v777 : BitVec 32 := Scalar.muli arg9 c16_i32_1151
  let v779 : Index := Scalar.indexCast v777
  ![0, v779.toNat]
def k1_off1025 (k1_t62 : Fin k1_t62_loop.trips) : Fin 2 → Nat :=
  let c1_i32_1154 : BitVec 32 := 1#32
  let v782 : Index := Scalar.indexCast c1_i32_1154
  let c0_i32_778 : BitVec 32 := 0#32
  let c1_i32_780 : BitVec 32 := 1#32
  let arg9 : BitVec 32 := Scf.iv c0_i32_778 c1_i32_780 k1_t62
  let c16_i32_1153 : BitVec 32 := 16#32
  let v781 : BitVec 32 := Scalar.muli arg9 c16_i32_1153
  let v783 : Index := Scalar.indexCast v781
  ![1, v783.toNat]
def k1_off1026 (k1_t62 : Fin k1_t62_loop.trips) : Fin 2 → Nat :=
  let c2_i32_1156 : BitVec 32 := 2#32
  let v786 : Index := Scalar.indexCast c2_i32_1156
  let c0_i32_778 : BitVec 32 := 0#32
  let c1_i32_780 : BitVec 32 := 1#32
  let arg9 : BitVec 32 := Scf.iv c0_i32_778 c1_i32_780 k1_t62
  let c16_i32_1155 : BitVec 32 := 16#32
  let v785 : BitVec 32 := Scalar.muli arg9 c16_i32_1155
  let v787 : Index := Scalar.indexCast v785
  ![2, v787.toNat]
def k1_off1027 (k1_t62 : Fin k1_t62_loop.trips) : Fin 2 → Nat :=
  let c3_i32_1158 : BitVec 32 := 3#32
  let v790 : Index := Scalar.indexCast c3_i32_1158
  let c0_i32_778 : BitVec 32 := 0#32
  let c1_i32_780 : BitVec 32 := 1#32
  let arg9 : BitVec 32 := Scf.iv c0_i32_778 c1_i32_780 k1_t62
  let c16_i32_1157 : BitVec 32 := 16#32
  let v789 : BitVec 32 := Scalar.muli arg9 c16_i32_1157
  let v791 : Index := Scalar.indexCast v789
  ![3, v791.toNat]
def k1_off1028 (k1_t62 : Fin k1_t62_loop.trips) : Fin 2 → Nat :=
  let c4_i32_1160 : BitVec 32 := 4#32
  let v794 : Index := Scalar.indexCast c4_i32_1160
  let c0_i32_778 : BitVec 32 := 0#32
  let c1_i32_780 : BitVec 32 := 1#32
  let arg9 : BitVec 32 := Scf.iv c0_i32_778 c1_i32_780 k1_t62
  let c16_i32_1159 : BitVec 32 := 16#32
  let v793 : BitVec 32 := Scalar.muli arg9 c16_i32_1159
  let v795 : Index := Scalar.indexCast v793
  ![4, v795.toNat]
def k1_off1029 (k1_t62 : Fin k1_t62_loop.trips) : Fin 2 → Nat :=
  let c5_i32_1162 : BitVec 32 := 5#32
  let v798 : Index := Scalar.indexCast c5_i32_1162
  let c0_i32_778 : BitVec 32 := 0#32
  let c1_i32_780 : BitVec 32 := 1#32
  let arg9 : BitVec 32 := Scf.iv c0_i32_778 c1_i32_780 k1_t62
  let c16_i32_1161 : BitVec 32 := 16#32
  let v797 : BitVec 32 := Scalar.muli arg9 c16_i32_1161
  let v799 : Index := Scalar.indexCast v797
  ![5, v799.toNat]
def k1_off1030 (k1_t62 : Fin k1_t62_loop.trips) : Fin 2 → Nat :=
  let c6_i32_1164 : BitVec 32 := 6#32
  let v802 : Index := Scalar.indexCast c6_i32_1164
  let c0_i32_778 : BitVec 32 := 0#32
  let c1_i32_780 : BitVec 32 := 1#32
  let arg9 : BitVec 32 := Scf.iv c0_i32_778 c1_i32_780 k1_t62
  let c16_i32_1163 : BitVec 32 := 16#32
  let v801 : BitVec 32 := Scalar.muli arg9 c16_i32_1163
  let v803 : Index := Scalar.indexCast v801
  ![6, v803.toNat]
def k1_off1031 (k1_t62 : Fin k1_t62_loop.trips) : Fin 2 → Nat :=
  let c7_i32_1166 : BitVec 32 := 7#32
  let v806 : Index := Scalar.indexCast c7_i32_1166
  let c0_i32_778 : BitVec 32 := 0#32
  let c1_i32_780 : BitVec 32 := 1#32
  let arg9 : BitVec 32 := Scf.iv c0_i32_778 c1_i32_780 k1_t62
  let c16_i32_1165 : BitVec 32 := 16#32
  let v805 : BitVec 32 := Scalar.muli arg9 c16_i32_1165
  let v807 : Index := Scalar.indexCast v805
  ![7, v807.toNat]
def k1_off1032 (k1_t62 : Fin k1_t62_loop.trips) : Fin 2 → Nat :=
  let c8_i32_1168 : BitVec 32 := 8#32
  let v810 : Index := Scalar.indexCast c8_i32_1168
  let c0_i32_778 : BitVec 32 := 0#32
  let c1_i32_780 : BitVec 32 := 1#32
  let arg9 : BitVec 32 := Scf.iv c0_i32_778 c1_i32_780 k1_t62
  let c16_i32_1167 : BitVec 32 := 16#32
  let v809 : BitVec 32 := Scalar.muli arg9 c16_i32_1167
  let v811 : Index := Scalar.indexCast v809
  ![8, v811.toNat]
def k1_off1033 (k1_t62 : Fin k1_t62_loop.trips) : Fin 2 → Nat :=
  let c9_i32_1170 : BitVec 32 := 9#32
  let v814 : Index := Scalar.indexCast c9_i32_1170
  let c0_i32_778 : BitVec 32 := 0#32
  let c1_i32_780 : BitVec 32 := 1#32
  let arg9 : BitVec 32 := Scf.iv c0_i32_778 c1_i32_780 k1_t62
  let c16_i32_1169 : BitVec 32 := 16#32
  let v813 : BitVec 32 := Scalar.muli arg9 c16_i32_1169
  let v815 : Index := Scalar.indexCast v813
  ![9, v815.toNat]
def k1_off1034 (k1_t62 : Fin k1_t62_loop.trips) : Fin 2 → Nat :=
  let c10_i32_1172 : BitVec 32 := 10#32
  let v818 : Index := Scalar.indexCast c10_i32_1172
  let c0_i32_778 : BitVec 32 := 0#32
  let c1_i32_780 : BitVec 32 := 1#32
  let arg9 : BitVec 32 := Scf.iv c0_i32_778 c1_i32_780 k1_t62
  let c16_i32_1171 : BitVec 32 := 16#32
  let v817 : BitVec 32 := Scalar.muli arg9 c16_i32_1171
  let v819 : Index := Scalar.indexCast v817
  ![10, v819.toNat]
def k1_off1035 (k1_t62 : Fin k1_t62_loop.trips) : Fin 2 → Nat :=
  let c11_i32_1174 : BitVec 32 := 11#32
  let v822 : Index := Scalar.indexCast c11_i32_1174
  let c0_i32_778 : BitVec 32 := 0#32
  let c1_i32_780 : BitVec 32 := 1#32
  let arg9 : BitVec 32 := Scf.iv c0_i32_778 c1_i32_780 k1_t62
  let c16_i32_1173 : BitVec 32 := 16#32
  let v821 : BitVec 32 := Scalar.muli arg9 c16_i32_1173
  let v823 : Index := Scalar.indexCast v821
  ![11, v823.toNat]
def k1_off1036 (k1_t62 : Fin k1_t62_loop.trips) : Fin 2 → Nat :=
  let c12_i32_1176 : BitVec 32 := 12#32
  let v826 : Index := Scalar.indexCast c12_i32_1176
  let c0_i32_778 : BitVec 32 := 0#32
  let c1_i32_780 : BitVec 32 := 1#32
  let arg9 : BitVec 32 := Scf.iv c0_i32_778 c1_i32_780 k1_t62
  let c16_i32_1175 : BitVec 32 := 16#32
  let v825 : BitVec 32 := Scalar.muli arg9 c16_i32_1175
  let v827 : Index := Scalar.indexCast v825
  ![12, v827.toNat]
def k1_off1037 (k1_t62 : Fin k1_t62_loop.trips) : Fin 2 → Nat :=
  let c13_i32_1178 : BitVec 32 := 13#32
  let v830 : Index := Scalar.indexCast c13_i32_1178
  let c0_i32_778 : BitVec 32 := 0#32
  let c1_i32_780 : BitVec 32 := 1#32
  let arg9 : BitVec 32 := Scf.iv c0_i32_778 c1_i32_780 k1_t62
  let c16_i32_1177 : BitVec 32 := 16#32
  let v829 : BitVec 32 := Scalar.muli arg9 c16_i32_1177
  let v831 : Index := Scalar.indexCast v829
  ![13, v831.toNat]
def k1_off1038 (k1_t62 : Fin k1_t62_loop.trips) : Fin 2 → Nat :=
  let c14_i32_1180 : BitVec 32 := 14#32
  let v834 : Index := Scalar.indexCast c14_i32_1180
  let c0_i32_778 : BitVec 32 := 0#32
  let c1_i32_780 : BitVec 32 := 1#32
  let arg9 : BitVec 32 := Scf.iv c0_i32_778 c1_i32_780 k1_t62
  let c16_i32_1179 : BitVec 32 := 16#32
  let v833 : BitVec 32 := Scalar.muli arg9 c16_i32_1179
  let v835 : Index := Scalar.indexCast v833
  ![14, v835.toNat]
def k1_off1039 (k1_t62 : Fin k1_t62_loop.trips) : Fin 2 → Nat :=
  let c15_i32_1182 : BitVec 32 := 15#32
  let v838 : Index := Scalar.indexCast c15_i32_1182
  let c0_i32_778 : BitVec 32 := 0#32
  let c1_i32_780 : BitVec 32 := 1#32
  let arg9 : BitVec 32 := Scf.iv c0_i32_778 c1_i32_780 k1_t62
  let c16_i32_1181 : BitVec 32 := 16#32
  let v837 : BitVec 32 := Scalar.muli arg9 c16_i32_1181
  let v839 : Index := Scalar.indexCast v837
  ![15, v839.toNat]

def k1_chk961 (v780 : IVec S16 32) : Prop :=
  (∀ a x, ((![v780] : Fin 1 → IVec S16 32) a x).toNat < S88320.size a)
theorem k1_idx961_inb : ∀ (v780 : IVec S16 32) (k1_hw961 : k1_chk961 v780), ∀ a x, ((![v780] : Fin 1 → IVec S16 32) a x).toNat < S88320.size a := fun v780 k1_hw961 => k1_hw961

def k1_chk962 (v784 : IVec S16 32) : Prop :=
  (∀ a x, ((![v784] : Fin 1 → IVec S16 32) a x).toNat < S88320.size a)
theorem k1_idx962_inb : ∀ (v784 : IVec S16 32) (k1_hw962 : k1_chk962 v784), ∀ a x, ((![v784] : Fin 1 → IVec S16 32) a x).toNat < S88320.size a := fun v784 k1_hw962 => k1_hw962

def k1_chk963 (v788 : IVec S16 32) : Prop :=
  (∀ a x, ((![v788] : Fin 1 → IVec S16 32) a x).toNat < S88320.size a)
theorem k1_idx963_inb : ∀ (v788 : IVec S16 32) (k1_hw963 : k1_chk963 v788), ∀ a x, ((![v788] : Fin 1 → IVec S16 32) a x).toNat < S88320.size a := fun v788 k1_hw963 => k1_hw963

def k1_chk964 (v792 : IVec S16 32) : Prop :=
  (∀ a x, ((![v792] : Fin 1 → IVec S16 32) a x).toNat < S88320.size a)
theorem k1_idx964_inb : ∀ (v792 : IVec S16 32) (k1_hw964 : k1_chk964 v792), ∀ a x, ((![v792] : Fin 1 → IVec S16 32) a x).toNat < S88320.size a := fun v792 k1_hw964 => k1_hw964

def k1_chk965 (v796 : IVec S16 32) : Prop :=
  (∀ a x, ((![v796] : Fin 1 → IVec S16 32) a x).toNat < S88320.size a)
theorem k1_idx965_inb : ∀ (v796 : IVec S16 32) (k1_hw965 : k1_chk965 v796), ∀ a x, ((![v796] : Fin 1 → IVec S16 32) a x).toNat < S88320.size a := fun v796 k1_hw965 => k1_hw965

def k1_chk966 (v800 : IVec S16 32) : Prop :=
  (∀ a x, ((![v800] : Fin 1 → IVec S16 32) a x).toNat < S88320.size a)
theorem k1_idx966_inb : ∀ (v800 : IVec S16 32) (k1_hw966 : k1_chk966 v800), ∀ a x, ((![v800] : Fin 1 → IVec S16 32) a x).toNat < S88320.size a := fun v800 k1_hw966 => k1_hw966

def k1_chk967 (v804 : IVec S16 32) : Prop :=
  (∀ a x, ((![v804] : Fin 1 → IVec S16 32) a x).toNat < S88320.size a)
theorem k1_idx967_inb : ∀ (v804 : IVec S16 32) (k1_hw967 : k1_chk967 v804), ∀ a x, ((![v804] : Fin 1 → IVec S16 32) a x).toNat < S88320.size a := fun v804 k1_hw967 => k1_hw967

def k1_chk968 (v808 : IVec S16 32) : Prop :=
  (∀ a x, ((![v808] : Fin 1 → IVec S16 32) a x).toNat < S88320.size a)
theorem k1_idx968_inb : ∀ (v808 : IVec S16 32) (k1_hw968 : k1_chk968 v808), ∀ a x, ((![v808] : Fin 1 → IVec S16 32) a x).toNat < S88320.size a := fun v808 k1_hw968 => k1_hw968

def k1_chk969 (v812 : IVec S16 32) : Prop :=
  (∀ a x, ((![v812] : Fin 1 → IVec S16 32) a x).toNat < S88320.size a)
theorem k1_idx969_inb : ∀ (v812 : IVec S16 32) (k1_hw969 : k1_chk969 v812), ∀ a x, ((![v812] : Fin 1 → IVec S16 32) a x).toNat < S88320.size a := fun v812 k1_hw969 => k1_hw969

def k1_chk970 (v816 : IVec S16 32) : Prop :=
  (∀ a x, ((![v816] : Fin 1 → IVec S16 32) a x).toNat < S88320.size a)
theorem k1_idx970_inb : ∀ (v816 : IVec S16 32) (k1_hw970 : k1_chk970 v816), ∀ a x, ((![v816] : Fin 1 → IVec S16 32) a x).toNat < S88320.size a := fun v816 k1_hw970 => k1_hw970

def k1_chk971 (v820 : IVec S16 32) : Prop :=
  (∀ a x, ((![v820] : Fin 1 → IVec S16 32) a x).toNat < S88320.size a)
theorem k1_idx971_inb : ∀ (v820 : IVec S16 32) (k1_hw971 : k1_chk971 v820), ∀ a x, ((![v820] : Fin 1 → IVec S16 32) a x).toNat < S88320.size a := fun v820 k1_hw971 => k1_hw971

def k1_chk972 (v824 : IVec S16 32) : Prop :=
  (∀ a x, ((![v824] : Fin 1 → IVec S16 32) a x).toNat < S88320.size a)
theorem k1_idx972_inb : ∀ (v824 : IVec S16 32) (k1_hw972 : k1_chk972 v824), ∀ a x, ((![v824] : Fin 1 → IVec S16 32) a x).toNat < S88320.size a := fun v824 k1_hw972 => k1_hw972

def k1_chk973 (v828 : IVec S16 32) : Prop :=
  (∀ a x, ((![v828] : Fin 1 → IVec S16 32) a x).toNat < S88320.size a)
theorem k1_idx973_inb : ∀ (v828 : IVec S16 32) (k1_hw973 : k1_chk973 v828), ∀ a x, ((![v828] : Fin 1 → IVec S16 32) a x).toNat < S88320.size a := fun v828 k1_hw973 => k1_hw973

def k1_chk974 (v832 : IVec S16 32) : Prop :=
  (∀ a x, ((![v832] : Fin 1 → IVec S16 32) a x).toNat < S88320.size a)
theorem k1_idx974_inb : ∀ (v832 : IVec S16 32) (k1_hw974 : k1_chk974 v832), ∀ a x, ((![v832] : Fin 1 → IVec S16 32) a x).toNat < S88320.size a := fun v832 k1_hw974 => k1_hw974

def k1_chk975 (v836 : IVec S16 32) : Prop :=
  (∀ a x, ((![v836] : Fin 1 → IVec S16 32) a x).toNat < S88320.size a)
theorem k1_idx975_inb : ∀ (v836 : IVec S16 32) (k1_hw975 : k1_chk975 v836), ∀ a x, ((![v836] : Fin 1 → IVec S16 32) a x).toNat < S88320.size a := fun v836 k1_hw975 => k1_hw975

def k1_chk976 (v840 : IVec S16 32) : Prop :=
  (∀ a x, ((![v840] : Fin 1 → IVec S16 32) a x).toNat < S88320.size a)
theorem k1_idx976_inb : ∀ (v840 : IVec S16 32) (k1_hw976 : k1_chk976 v840), ∀ a x, ((![v840] : Fin 1 → IVec S16 32) a x).toNat < S88320.size a := fun v840 k1_hw976 => k1_hw976
def k1_off1040 (i : grid1.Coords) : Fin 4 → Nat :=
  let c2_i32_782 : BitVec 32 := 2#32
  let c20_i32_783 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_784 : BitVec 32 := 0#32
  ![2, 20, v2.toNat, 0]
@[reducible] def k1_t63_loop : Scf.Loop 32 :=
  let c0_i32_791 : BitVec 32 := 0#32
  let c32_i32_792 : BitVec 32 := 32#32
  let v567 : BitVec 32 := Scalar.addi c0_i32_791 c32_i32_792
  let c1_i32_793 : BitVec 32 := 1#32
  ⟨c0_i32_791, v567, c1_i32_793⟩
def k1_off1041 (k1_t63 : Fin k1_t63_loop.trips) : Fin 2 → Nat :=
  let c0_i32_1152 : BitVec 32 := 0#32
  let v778 : Index := Scalar.indexCast c0_i32_1152
  let c0_i32_791 : BitVec 32 := 0#32
  let c1_i32_793 : BitVec 32 := 1#32
  let arg9 : BitVec 32 := Scf.iv c0_i32_791 c1_i32_793 k1_t63
  let c16_i32_1151 : BitVec 32 := 16#32
  let v777 : BitVec 32 := Scalar.muli arg9 c16_i32_1151
  let v779 : Index := Scalar.indexCast v777
  ![0, v779.toNat]
def k1_off1042 (k1_t63 : Fin k1_t63_loop.trips) : Fin 2 → Nat :=
  let c1_i32_1154 : BitVec 32 := 1#32
  let v782 : Index := Scalar.indexCast c1_i32_1154
  let c0_i32_791 : BitVec 32 := 0#32
  let c1_i32_793 : BitVec 32 := 1#32
  let arg9 : BitVec 32 := Scf.iv c0_i32_791 c1_i32_793 k1_t63
  let c16_i32_1153 : BitVec 32 := 16#32
  let v781 : BitVec 32 := Scalar.muli arg9 c16_i32_1153
  let v783 : Index := Scalar.indexCast v781
  ![1, v783.toNat]
def k1_off1043 (k1_t63 : Fin k1_t63_loop.trips) : Fin 2 → Nat :=
  let c2_i32_1156 : BitVec 32 := 2#32
  let v786 : Index := Scalar.indexCast c2_i32_1156
  let c0_i32_791 : BitVec 32 := 0#32
  let c1_i32_793 : BitVec 32 := 1#32
  let arg9 : BitVec 32 := Scf.iv c0_i32_791 c1_i32_793 k1_t63
  let c16_i32_1155 : BitVec 32 := 16#32
  let v785 : BitVec 32 := Scalar.muli arg9 c16_i32_1155
  let v787 : Index := Scalar.indexCast v785
  ![2, v787.toNat]
def k1_off1044 (k1_t63 : Fin k1_t63_loop.trips) : Fin 2 → Nat :=
  let c3_i32_1158 : BitVec 32 := 3#32
  let v790 : Index := Scalar.indexCast c3_i32_1158
  let c0_i32_791 : BitVec 32 := 0#32
  let c1_i32_793 : BitVec 32 := 1#32
  let arg9 : BitVec 32 := Scf.iv c0_i32_791 c1_i32_793 k1_t63
  let c16_i32_1157 : BitVec 32 := 16#32
  let v789 : BitVec 32 := Scalar.muli arg9 c16_i32_1157
  let v791 : Index := Scalar.indexCast v789
  ![3, v791.toNat]
def k1_off1045 (k1_t63 : Fin k1_t63_loop.trips) : Fin 2 → Nat :=
  let c4_i32_1160 : BitVec 32 := 4#32
  let v794 : Index := Scalar.indexCast c4_i32_1160
  let c0_i32_791 : BitVec 32 := 0#32
  let c1_i32_793 : BitVec 32 := 1#32
  let arg9 : BitVec 32 := Scf.iv c0_i32_791 c1_i32_793 k1_t63
  let c16_i32_1159 : BitVec 32 := 16#32
  let v793 : BitVec 32 := Scalar.muli arg9 c16_i32_1159
  let v795 : Index := Scalar.indexCast v793
  ![4, v795.toNat]
def k1_off1046 (k1_t63 : Fin k1_t63_loop.trips) : Fin 2 → Nat :=
  let c5_i32_1162 : BitVec 32 := 5#32
  let v798 : Index := Scalar.indexCast c5_i32_1162
  let c0_i32_791 : BitVec 32 := 0#32
  let c1_i32_793 : BitVec 32 := 1#32
  let arg9 : BitVec 32 := Scf.iv c0_i32_791 c1_i32_793 k1_t63
  let c16_i32_1161 : BitVec 32 := 16#32
  let v797 : BitVec 32 := Scalar.muli arg9 c16_i32_1161
  let v799 : Index := Scalar.indexCast v797
  ![5, v799.toNat]
def k1_off1047 (k1_t63 : Fin k1_t63_loop.trips) : Fin 2 → Nat :=
  let c6_i32_1164 : BitVec 32 := 6#32
  let v802 : Index := Scalar.indexCast c6_i32_1164
  let c0_i32_791 : BitVec 32 := 0#32
  let c1_i32_793 : BitVec 32 := 1#32
  let arg9 : BitVec 32 := Scf.iv c0_i32_791 c1_i32_793 k1_t63
  let c16_i32_1163 : BitVec 32 := 16#32
  let v801 : BitVec 32 := Scalar.muli arg9 c16_i32_1163
  let v803 : Index := Scalar.indexCast v801
  ![6, v803.toNat]
def k1_off1048 (k1_t63 : Fin k1_t63_loop.trips) : Fin 2 → Nat :=
  let c7_i32_1166 : BitVec 32 := 7#32
  let v806 : Index := Scalar.indexCast c7_i32_1166
  let c0_i32_791 : BitVec 32 := 0#32
  let c1_i32_793 : BitVec 32 := 1#32
  let arg9 : BitVec 32 := Scf.iv c0_i32_791 c1_i32_793 k1_t63
  let c16_i32_1165 : BitVec 32 := 16#32
  let v805 : BitVec 32 := Scalar.muli arg9 c16_i32_1165
  let v807 : Index := Scalar.indexCast v805
  ![7, v807.toNat]
def k1_off1049 (k1_t63 : Fin k1_t63_loop.trips) : Fin 2 → Nat :=
  let c8_i32_1168 : BitVec 32 := 8#32
  let v810 : Index := Scalar.indexCast c8_i32_1168
  let c0_i32_791 : BitVec 32 := 0#32
  let c1_i32_793 : BitVec 32 := 1#32
  let arg9 : BitVec 32 := Scf.iv c0_i32_791 c1_i32_793 k1_t63
  let c16_i32_1167 : BitVec 32 := 16#32
  let v809 : BitVec 32 := Scalar.muli arg9 c16_i32_1167
  let v811 : Index := Scalar.indexCast v809
  ![8, v811.toNat]
def k1_off1050 (k1_t63 : Fin k1_t63_loop.trips) : Fin 2 → Nat :=
  let c9_i32_1170 : BitVec 32 := 9#32
  let v814 : Index := Scalar.indexCast c9_i32_1170
  let c0_i32_791 : BitVec 32 := 0#32
  let c1_i32_793 : BitVec 32 := 1#32
  let arg9 : BitVec 32 := Scf.iv c0_i32_791 c1_i32_793 k1_t63
  let c16_i32_1169 : BitVec 32 := 16#32
  let v813 : BitVec 32 := Scalar.muli arg9 c16_i32_1169
  let v815 : Index := Scalar.indexCast v813
  ![9, v815.toNat]
def k1_off1051 (k1_t63 : Fin k1_t63_loop.trips) : Fin 2 → Nat :=
  let c10_i32_1172 : BitVec 32 := 10#32
  let v818 : Index := Scalar.indexCast c10_i32_1172
  let c0_i32_791 : BitVec 32 := 0#32
  let c1_i32_793 : BitVec 32 := 1#32
  let arg9 : BitVec 32 := Scf.iv c0_i32_791 c1_i32_793 k1_t63
  let c16_i32_1171 : BitVec 32 := 16#32
  let v817 : BitVec 32 := Scalar.muli arg9 c16_i32_1171
  let v819 : Index := Scalar.indexCast v817
  ![10, v819.toNat]
def k1_off1052 (k1_t63 : Fin k1_t63_loop.trips) : Fin 2 → Nat :=
  let c11_i32_1174 : BitVec 32 := 11#32
  let v822 : Index := Scalar.indexCast c11_i32_1174
  let c0_i32_791 : BitVec 32 := 0#32
  let c1_i32_793 : BitVec 32 := 1#32
  let arg9 : BitVec 32 := Scf.iv c0_i32_791 c1_i32_793 k1_t63
  let c16_i32_1173 : BitVec 32 := 16#32
  let v821 : BitVec 32 := Scalar.muli arg9 c16_i32_1173
  let v823 : Index := Scalar.indexCast v821
  ![11, v823.toNat]
def k1_off1053 (k1_t63 : Fin k1_t63_loop.trips) : Fin 2 → Nat :=
  let c12_i32_1176 : BitVec 32 := 12#32
  let v826 : Index := Scalar.indexCast c12_i32_1176
  let c0_i32_791 : BitVec 32 := 0#32
  let c1_i32_793 : BitVec 32 := 1#32
  let arg9 : BitVec 32 := Scf.iv c0_i32_791 c1_i32_793 k1_t63
  let c16_i32_1175 : BitVec 32 := 16#32
  let v825 : BitVec 32 := Scalar.muli arg9 c16_i32_1175
  let v827 : Index := Scalar.indexCast v825
  ![12, v827.toNat]
def k1_off1054 (k1_t63 : Fin k1_t63_loop.trips) : Fin 2 → Nat :=
  let c13_i32_1178 : BitVec 32 := 13#32
  let v830 : Index := Scalar.indexCast c13_i32_1178
  let c0_i32_791 : BitVec 32 := 0#32
  let c1_i32_793 : BitVec 32 := 1#32
  let arg9 : BitVec 32 := Scf.iv c0_i32_791 c1_i32_793 k1_t63
  let c16_i32_1177 : BitVec 32 := 16#32
  let v829 : BitVec 32 := Scalar.muli arg9 c16_i32_1177
  let v831 : Index := Scalar.indexCast v829
  ![13, v831.toNat]
def k1_off1055 (k1_t63 : Fin k1_t63_loop.trips) : Fin 2 → Nat :=
  let c14_i32_1180 : BitVec 32 := 14#32
  let v834 : Index := Scalar.indexCast c14_i32_1180
  let c0_i32_791 : BitVec 32 := 0#32
  let c1_i32_793 : BitVec 32 := 1#32
  let arg9 : BitVec 32 := Scf.iv c0_i32_791 c1_i32_793 k1_t63
  let c16_i32_1179 : BitVec 32 := 16#32
  let v833 : BitVec 32 := Scalar.muli arg9 c16_i32_1179
  let v835 : Index := Scalar.indexCast v833
  ![14, v835.toNat]
def k1_off1056 (k1_t63 : Fin k1_t63_loop.trips) : Fin 2 → Nat :=
  let c15_i32_1182 : BitVec 32 := 15#32
  let v838 : Index := Scalar.indexCast c15_i32_1182
  let c0_i32_791 : BitVec 32 := 0#32
  let c1_i32_793 : BitVec 32 := 1#32
  let arg9 : BitVec 32 := Scf.iv c0_i32_791 c1_i32_793 k1_t63
  let c16_i32_1181 : BitVec 32 := 16#32
  let v837 : BitVec 32 := Scalar.muli arg9 c16_i32_1181
  let v839 : Index := Scalar.indexCast v837
  ![15, v839.toNat]

def k1_chk977 (v780 : IVec S16 32) : Prop :=
  (∀ a x, ((![v780] : Fin 1 → IVec S16 32) a x).toNat < S88320.size a)
theorem k1_idx977_inb : ∀ (v780 : IVec S16 32) (k1_hw977 : k1_chk977 v780), ∀ a x, ((![v780] : Fin 1 → IVec S16 32) a x).toNat < S88320.size a := fun v780 k1_hw977 => k1_hw977

def k1_chk978 (v784 : IVec S16 32) : Prop :=
  (∀ a x, ((![v784] : Fin 1 → IVec S16 32) a x).toNat < S88320.size a)
theorem k1_idx978_inb : ∀ (v784 : IVec S16 32) (k1_hw978 : k1_chk978 v784), ∀ a x, ((![v784] : Fin 1 → IVec S16 32) a x).toNat < S88320.size a := fun v784 k1_hw978 => k1_hw978

def k1_chk979 (v788 : IVec S16 32) : Prop :=
  (∀ a x, ((![v788] : Fin 1 → IVec S16 32) a x).toNat < S88320.size a)
theorem k1_idx979_inb : ∀ (v788 : IVec S16 32) (k1_hw979 : k1_chk979 v788), ∀ a x, ((![v788] : Fin 1 → IVec S16 32) a x).toNat < S88320.size a := fun v788 k1_hw979 => k1_hw979

def k1_chk980 (v792 : IVec S16 32) : Prop :=
  (∀ a x, ((![v792] : Fin 1 → IVec S16 32) a x).toNat < S88320.size a)
theorem k1_idx980_inb : ∀ (v792 : IVec S16 32) (k1_hw980 : k1_chk980 v792), ∀ a x, ((![v792] : Fin 1 → IVec S16 32) a x).toNat < S88320.size a := fun v792 k1_hw980 => k1_hw980

def k1_chk981 (v796 : IVec S16 32) : Prop :=
  (∀ a x, ((![v796] : Fin 1 → IVec S16 32) a x).toNat < S88320.size a)
theorem k1_idx981_inb : ∀ (v796 : IVec S16 32) (k1_hw981 : k1_chk981 v796), ∀ a x, ((![v796] : Fin 1 → IVec S16 32) a x).toNat < S88320.size a := fun v796 k1_hw981 => k1_hw981

def k1_chk982 (v800 : IVec S16 32) : Prop :=
  (∀ a x, ((![v800] : Fin 1 → IVec S16 32) a x).toNat < S88320.size a)
theorem k1_idx982_inb : ∀ (v800 : IVec S16 32) (k1_hw982 : k1_chk982 v800), ∀ a x, ((![v800] : Fin 1 → IVec S16 32) a x).toNat < S88320.size a := fun v800 k1_hw982 => k1_hw982

def k1_chk983 (v804 : IVec S16 32) : Prop :=
  (∀ a x, ((![v804] : Fin 1 → IVec S16 32) a x).toNat < S88320.size a)
theorem k1_idx983_inb : ∀ (v804 : IVec S16 32) (k1_hw983 : k1_chk983 v804), ∀ a x, ((![v804] : Fin 1 → IVec S16 32) a x).toNat < S88320.size a := fun v804 k1_hw983 => k1_hw983

def k1_chk984 (v808 : IVec S16 32) : Prop :=
  (∀ a x, ((![v808] : Fin 1 → IVec S16 32) a x).toNat < S88320.size a)
theorem k1_idx984_inb : ∀ (v808 : IVec S16 32) (k1_hw984 : k1_chk984 v808), ∀ a x, ((![v808] : Fin 1 → IVec S16 32) a x).toNat < S88320.size a := fun v808 k1_hw984 => k1_hw984

def k1_chk985 (v812 : IVec S16 32) : Prop :=
  (∀ a x, ((![v812] : Fin 1 → IVec S16 32) a x).toNat < S88320.size a)
theorem k1_idx985_inb : ∀ (v812 : IVec S16 32) (k1_hw985 : k1_chk985 v812), ∀ a x, ((![v812] : Fin 1 → IVec S16 32) a x).toNat < S88320.size a := fun v812 k1_hw985 => k1_hw985

def k1_chk986 (v816 : IVec S16 32) : Prop :=
  (∀ a x, ((![v816] : Fin 1 → IVec S16 32) a x).toNat < S88320.size a)
theorem k1_idx986_inb : ∀ (v816 : IVec S16 32) (k1_hw986 : k1_chk986 v816), ∀ a x, ((![v816] : Fin 1 → IVec S16 32) a x).toNat < S88320.size a := fun v816 k1_hw986 => k1_hw986

def k1_chk987 (v820 : IVec S16 32) : Prop :=
  (∀ a x, ((![v820] : Fin 1 → IVec S16 32) a x).toNat < S88320.size a)
theorem k1_idx987_inb : ∀ (v820 : IVec S16 32) (k1_hw987 : k1_chk987 v820), ∀ a x, ((![v820] : Fin 1 → IVec S16 32) a x).toNat < S88320.size a := fun v820 k1_hw987 => k1_hw987

def k1_chk988 (v824 : IVec S16 32) : Prop :=
  (∀ a x, ((![v824] : Fin 1 → IVec S16 32) a x).toNat < S88320.size a)
theorem k1_idx988_inb : ∀ (v824 : IVec S16 32) (k1_hw988 : k1_chk988 v824), ∀ a x, ((![v824] : Fin 1 → IVec S16 32) a x).toNat < S88320.size a := fun v824 k1_hw988 => k1_hw988

def k1_chk989 (v828 : IVec S16 32) : Prop :=
  (∀ a x, ((![v828] : Fin 1 → IVec S16 32) a x).toNat < S88320.size a)
theorem k1_idx989_inb : ∀ (v828 : IVec S16 32) (k1_hw989 : k1_chk989 v828), ∀ a x, ((![v828] : Fin 1 → IVec S16 32) a x).toNat < S88320.size a := fun v828 k1_hw989 => k1_hw989

def k1_chk990 (v832 : IVec S16 32) : Prop :=
  (∀ a x, ((![v832] : Fin 1 → IVec S16 32) a x).toNat < S88320.size a)
theorem k1_idx990_inb : ∀ (v832 : IVec S16 32) (k1_hw990 : k1_chk990 v832), ∀ a x, ((![v832] : Fin 1 → IVec S16 32) a x).toNat < S88320.size a := fun v832 k1_hw990 => k1_hw990

def k1_chk991 (v836 : IVec S16 32) : Prop :=
  (∀ a x, ((![v836] : Fin 1 → IVec S16 32) a x).toNat < S88320.size a)
theorem k1_idx991_inb : ∀ (v836 : IVec S16 32) (k1_hw991 : k1_chk991 v836), ∀ a x, ((![v836] : Fin 1 → IVec S16 32) a x).toNat < S88320.size a := fun v836 k1_hw991 => k1_hw991

def k1_chk992 (v840 : IVec S16 32) : Prop :=
  (∀ a x, ((![v840] : Fin 1 → IVec S16 32) a x).toNat < S88320.size a)
theorem k1_idx992_inb : ∀ (v840 : IVec S16 32) (k1_hw992 : k1_chk992 v840), ∀ a x, ((![v840] : Fin 1 → IVec S16 32) a x).toNat < S88320.size a := fun v840 k1_hw992 => k1_hw992
def k1_off1057 (i : grid1.Coords) : Fin 4 → Nat :=
  let c3_i32_795 : BitVec 32 := 3#32
  let c0_i32_796 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_797 : BitVec 32 := 0#32
  ![3, 0, v2.toNat, 0]
@[reducible] def k1_t64_loop : Scf.Loop 32 :=
  let c0_i32_804 : BitVec 32 := 0#32
  let c32_i32_805 : BitVec 32 := 32#32
  let v576 : BitVec 32 := Scalar.addi c0_i32_804 c32_i32_805
  let c1_i32_806 : BitVec 32 := 1#32
  ⟨c0_i32_804, v576, c1_i32_806⟩
def k1_off1058 (k1_t64 : Fin k1_t64_loop.trips) : Fin 2 → Nat :=
  let c0_i32_1152 : BitVec 32 := 0#32
  let v778 : Index := Scalar.indexCast c0_i32_1152
  let c0_i32_804 : BitVec 32 := 0#32
  let c1_i32_806 : BitVec 32 := 1#32
  let arg9 : BitVec 32 := Scf.iv c0_i32_804 c1_i32_806 k1_t64
  let c16_i32_1151 : BitVec 32 := 16#32
  let v777 : BitVec 32 := Scalar.muli arg9 c16_i32_1151
  let v779 : Index := Scalar.indexCast v777
  ![0, v779.toNat]
def k1_off1059 (k1_t64 : Fin k1_t64_loop.trips) : Fin 2 → Nat :=
  let c1_i32_1154 : BitVec 32 := 1#32
  let v782 : Index := Scalar.indexCast c1_i32_1154
  let c0_i32_804 : BitVec 32 := 0#32
  let c1_i32_806 : BitVec 32 := 1#32
  let arg9 : BitVec 32 := Scf.iv c0_i32_804 c1_i32_806 k1_t64
  let c16_i32_1153 : BitVec 32 := 16#32
  let v781 : BitVec 32 := Scalar.muli arg9 c16_i32_1153
  let v783 : Index := Scalar.indexCast v781
  ![1, v783.toNat]
def k1_off1060 (k1_t64 : Fin k1_t64_loop.trips) : Fin 2 → Nat :=
  let c2_i32_1156 : BitVec 32 := 2#32
  let v786 : Index := Scalar.indexCast c2_i32_1156
  let c0_i32_804 : BitVec 32 := 0#32
  let c1_i32_806 : BitVec 32 := 1#32
  let arg9 : BitVec 32 := Scf.iv c0_i32_804 c1_i32_806 k1_t64
  let c16_i32_1155 : BitVec 32 := 16#32
  let v785 : BitVec 32 := Scalar.muli arg9 c16_i32_1155
  let v787 : Index := Scalar.indexCast v785
  ![2, v787.toNat]
def k1_off1061 (k1_t64 : Fin k1_t64_loop.trips) : Fin 2 → Nat :=
  let c3_i32_1158 : BitVec 32 := 3#32
  let v790 : Index := Scalar.indexCast c3_i32_1158
  let c0_i32_804 : BitVec 32 := 0#32
  let c1_i32_806 : BitVec 32 := 1#32
  let arg9 : BitVec 32 := Scf.iv c0_i32_804 c1_i32_806 k1_t64
  let c16_i32_1157 : BitVec 32 := 16#32
  let v789 : BitVec 32 := Scalar.muli arg9 c16_i32_1157
  let v791 : Index := Scalar.indexCast v789
  ![3, v791.toNat]
def k1_off1062 (k1_t64 : Fin k1_t64_loop.trips) : Fin 2 → Nat :=
  let c4_i32_1160 : BitVec 32 := 4#32
  let v794 : Index := Scalar.indexCast c4_i32_1160
  let c0_i32_804 : BitVec 32 := 0#32
  let c1_i32_806 : BitVec 32 := 1#32
  let arg9 : BitVec 32 := Scf.iv c0_i32_804 c1_i32_806 k1_t64
  let c16_i32_1159 : BitVec 32 := 16#32
  let v793 : BitVec 32 := Scalar.muli arg9 c16_i32_1159
  let v795 : Index := Scalar.indexCast v793
  ![4, v795.toNat]
def k1_off1063 (k1_t64 : Fin k1_t64_loop.trips) : Fin 2 → Nat :=
  let c5_i32_1162 : BitVec 32 := 5#32
  let v798 : Index := Scalar.indexCast c5_i32_1162
  let c0_i32_804 : BitVec 32 := 0#32
  let c1_i32_806 : BitVec 32 := 1#32
  let arg9 : BitVec 32 := Scf.iv c0_i32_804 c1_i32_806 k1_t64
  let c16_i32_1161 : BitVec 32 := 16#32
  let v797 : BitVec 32 := Scalar.muli arg9 c16_i32_1161
  let v799 : Index := Scalar.indexCast v797
  ![5, v799.toNat]
def k1_off1064 (k1_t64 : Fin k1_t64_loop.trips) : Fin 2 → Nat :=
  let c6_i32_1164 : BitVec 32 := 6#32
  let v802 : Index := Scalar.indexCast c6_i32_1164
  let c0_i32_804 : BitVec 32 := 0#32
  let c1_i32_806 : BitVec 32 := 1#32
  let arg9 : BitVec 32 := Scf.iv c0_i32_804 c1_i32_806 k1_t64
  let c16_i32_1163 : BitVec 32 := 16#32
  let v801 : BitVec 32 := Scalar.muli arg9 c16_i32_1163
  let v803 : Index := Scalar.indexCast v801
  ![6, v803.toNat]
def k1_off1065 (k1_t64 : Fin k1_t64_loop.trips) : Fin 2 → Nat :=
  let c7_i32_1166 : BitVec 32 := 7#32
  let v806 : Index := Scalar.indexCast c7_i32_1166
  let c0_i32_804 : BitVec 32 := 0#32
  let c1_i32_806 : BitVec 32 := 1#32
  let arg9 : BitVec 32 := Scf.iv c0_i32_804 c1_i32_806 k1_t64
  let c16_i32_1165 : BitVec 32 := 16#32
  let v805 : BitVec 32 := Scalar.muli arg9 c16_i32_1165
  let v807 : Index := Scalar.indexCast v805
  ![7, v807.toNat]
def k1_off1066 (k1_t64 : Fin k1_t64_loop.trips) : Fin 2 → Nat :=
  let c8_i32_1168 : BitVec 32 := 8#32
  let v810 : Index := Scalar.indexCast c8_i32_1168
  let c0_i32_804 : BitVec 32 := 0#32
  let c1_i32_806 : BitVec 32 := 1#32
  let arg9 : BitVec 32 := Scf.iv c0_i32_804 c1_i32_806 k1_t64
  let c16_i32_1167 : BitVec 32 := 16#32
  let v809 : BitVec 32 := Scalar.muli arg9 c16_i32_1167
  let v811 : Index := Scalar.indexCast v809
  ![8, v811.toNat]
def k1_off1067 (k1_t64 : Fin k1_t64_loop.trips) : Fin 2 → Nat :=
  let c9_i32_1170 : BitVec 32 := 9#32
  let v814 : Index := Scalar.indexCast c9_i32_1170
  let c0_i32_804 : BitVec 32 := 0#32
  let c1_i32_806 : BitVec 32 := 1#32
  let arg9 : BitVec 32 := Scf.iv c0_i32_804 c1_i32_806 k1_t64
  let c16_i32_1169 : BitVec 32 := 16#32
  let v813 : BitVec 32 := Scalar.muli arg9 c16_i32_1169
  let v815 : Index := Scalar.indexCast v813
  ![9, v815.toNat]
def k1_off1068 (k1_t64 : Fin k1_t64_loop.trips) : Fin 2 → Nat :=
  let c10_i32_1172 : BitVec 32 := 10#32
  let v818 : Index := Scalar.indexCast c10_i32_1172
  let c0_i32_804 : BitVec 32 := 0#32
  let c1_i32_806 : BitVec 32 := 1#32
  let arg9 : BitVec 32 := Scf.iv c0_i32_804 c1_i32_806 k1_t64
  let c16_i32_1171 : BitVec 32 := 16#32
  let v817 : BitVec 32 := Scalar.muli arg9 c16_i32_1171
  let v819 : Index := Scalar.indexCast v817
  ![10, v819.toNat]
def k1_off1069 (k1_t64 : Fin k1_t64_loop.trips) : Fin 2 → Nat :=
  let c11_i32_1174 : BitVec 32 := 11#32
  let v822 : Index := Scalar.indexCast c11_i32_1174
  let c0_i32_804 : BitVec 32 := 0#32
  let c1_i32_806 : BitVec 32 := 1#32
  let arg9 : BitVec 32 := Scf.iv c0_i32_804 c1_i32_806 k1_t64
  let c16_i32_1173 : BitVec 32 := 16#32
  let v821 : BitVec 32 := Scalar.muli arg9 c16_i32_1173
  let v823 : Index := Scalar.indexCast v821
  ![11, v823.toNat]
def k1_off1070 (k1_t64 : Fin k1_t64_loop.trips) : Fin 2 → Nat :=
  let c12_i32_1176 : BitVec 32 := 12#32
  let v826 : Index := Scalar.indexCast c12_i32_1176
  let c0_i32_804 : BitVec 32 := 0#32
  let c1_i32_806 : BitVec 32 := 1#32
  let arg9 : BitVec 32 := Scf.iv c0_i32_804 c1_i32_806 k1_t64
  let c16_i32_1175 : BitVec 32 := 16#32
  let v825 : BitVec 32 := Scalar.muli arg9 c16_i32_1175
  let v827 : Index := Scalar.indexCast v825
  ![12, v827.toNat]
def k1_off1071 (k1_t64 : Fin k1_t64_loop.trips) : Fin 2 → Nat :=
  let c13_i32_1178 : BitVec 32 := 13#32
  let v830 : Index := Scalar.indexCast c13_i32_1178
  let c0_i32_804 : BitVec 32 := 0#32
  let c1_i32_806 : BitVec 32 := 1#32
  let arg9 : BitVec 32 := Scf.iv c0_i32_804 c1_i32_806 k1_t64
  let c16_i32_1177 : BitVec 32 := 16#32
  let v829 : BitVec 32 := Scalar.muli arg9 c16_i32_1177
  let v831 : Index := Scalar.indexCast v829
  ![13, v831.toNat]
def k1_off1072 (k1_t64 : Fin k1_t64_loop.trips) : Fin 2 → Nat :=
  let c14_i32_1180 : BitVec 32 := 14#32
  let v834 : Index := Scalar.indexCast c14_i32_1180
  let c0_i32_804 : BitVec 32 := 0#32
  let c1_i32_806 : BitVec 32 := 1#32
  let arg9 : BitVec 32 := Scf.iv c0_i32_804 c1_i32_806 k1_t64
  let c16_i32_1179 : BitVec 32 := 16#32
  let v833 : BitVec 32 := Scalar.muli arg9 c16_i32_1179
  let v835 : Index := Scalar.indexCast v833
  ![14, v835.toNat]
def k1_off1073 (k1_t64 : Fin k1_t64_loop.trips) : Fin 2 → Nat :=
  let c15_i32_1182 : BitVec 32 := 15#32
  let v838 : Index := Scalar.indexCast c15_i32_1182
  let c0_i32_804 : BitVec 32 := 0#32
  let c1_i32_806 : BitVec 32 := 1#32
  let arg9 : BitVec 32 := Scf.iv c0_i32_804 c1_i32_806 k1_t64
  let c16_i32_1181 : BitVec 32 := 16#32
  let v837 : BitVec 32 := Scalar.muli arg9 c16_i32_1181
  let v839 : Index := Scalar.indexCast v837
  ![15, v839.toNat]

def k1_chk993 (v780 : IVec S16 32) : Prop :=
  (∀ a x, ((![v780] : Fin 1 → IVec S16 32) a x).toNat < S88320.size a)
theorem k1_idx993_inb : ∀ (v780 : IVec S16 32) (k1_hw993 : k1_chk993 v780), ∀ a x, ((![v780] : Fin 1 → IVec S16 32) a x).toNat < S88320.size a := fun v780 k1_hw993 => k1_hw993

def k1_chk994 (v784 : IVec S16 32) : Prop :=
  (∀ a x, ((![v784] : Fin 1 → IVec S16 32) a x).toNat < S88320.size a)
theorem k1_idx994_inb : ∀ (v784 : IVec S16 32) (k1_hw994 : k1_chk994 v784), ∀ a x, ((![v784] : Fin 1 → IVec S16 32) a x).toNat < S88320.size a := fun v784 k1_hw994 => k1_hw994

def k1_chk995 (v788 : IVec S16 32) : Prop :=
  (∀ a x, ((![v788] : Fin 1 → IVec S16 32) a x).toNat < S88320.size a)
theorem k1_idx995_inb : ∀ (v788 : IVec S16 32) (k1_hw995 : k1_chk995 v788), ∀ a x, ((![v788] : Fin 1 → IVec S16 32) a x).toNat < S88320.size a := fun v788 k1_hw995 => k1_hw995

def k1_chk996 (v792 : IVec S16 32) : Prop :=
  (∀ a x, ((![v792] : Fin 1 → IVec S16 32) a x).toNat < S88320.size a)
theorem k1_idx996_inb : ∀ (v792 : IVec S16 32) (k1_hw996 : k1_chk996 v792), ∀ a x, ((![v792] : Fin 1 → IVec S16 32) a x).toNat < S88320.size a := fun v792 k1_hw996 => k1_hw996

def k1_chk997 (v796 : IVec S16 32) : Prop :=
  (∀ a x, ((![v796] : Fin 1 → IVec S16 32) a x).toNat < S88320.size a)
theorem k1_idx997_inb : ∀ (v796 : IVec S16 32) (k1_hw997 : k1_chk997 v796), ∀ a x, ((![v796] : Fin 1 → IVec S16 32) a x).toNat < S88320.size a := fun v796 k1_hw997 => k1_hw997

def k1_chk998 (v800 : IVec S16 32) : Prop :=
  (∀ a x, ((![v800] : Fin 1 → IVec S16 32) a x).toNat < S88320.size a)
theorem k1_idx998_inb : ∀ (v800 : IVec S16 32) (k1_hw998 : k1_chk998 v800), ∀ a x, ((![v800] : Fin 1 → IVec S16 32) a x).toNat < S88320.size a := fun v800 k1_hw998 => k1_hw998

variable {F : FTy → Type} [FloatOps F]

def k1_chk999 (v804 : IVec S16 32) : Prop :=
  (∀ a x, ((![v804] : Fin 1 → IVec S16 32) a x).toNat < S88320.size a)
theorem k1_idx999_inb : ∀ (v804 : IVec S16 32) (k1_hw999 : k1_chk999 v804), ∀ a x, ((![v804] : Fin 1 → IVec S16 32) a x).toNat < S88320.size a := fun v804 k1_hw999 => k1_hw999

def k1_chk1000 (v808 : IVec S16 32) : Prop :=
  (∀ a x, ((![v808] : Fin 1 → IVec S16 32) a x).toNat < S88320.size a)
theorem k1_idx1000_inb : ∀ (v808 : IVec S16 32) (k1_hw1000 : k1_chk1000 v808), ∀ a x, ((![v808] : Fin 1 → IVec S16 32) a x).toNat < S88320.size a := fun v808 k1_hw1000 => k1_hw1000

def k1_chk1001 (v812 : IVec S16 32) : Prop :=
  (∀ a x, ((![v812] : Fin 1 → IVec S16 32) a x).toNat < S88320.size a)
theorem k1_idx1001_inb : ∀ (v812 : IVec S16 32) (k1_hw1001 : k1_chk1001 v812), ∀ a x, ((![v812] : Fin 1 → IVec S16 32) a x).toNat < S88320.size a := fun v812 k1_hw1001 => k1_hw1001

def k1_chk1002 (v816 : IVec S16 32) : Prop :=
  (∀ a x, ((![v816] : Fin 1 → IVec S16 32) a x).toNat < S88320.size a)
theorem k1_idx1002_inb : ∀ (v816 : IVec S16 32) (k1_hw1002 : k1_chk1002 v816), ∀ a x, ((![v816] : Fin 1 → IVec S16 32) a x).toNat < S88320.size a := fun v816 k1_hw1002 => k1_hw1002

def k1_chk1003 (v820 : IVec S16 32) : Prop :=
  (∀ a x, ((![v820] : Fin 1 → IVec S16 32) a x).toNat < S88320.size a)
theorem k1_idx1003_inb : ∀ (v820 : IVec S16 32) (k1_hw1003 : k1_chk1003 v820), ∀ a x, ((![v820] : Fin 1 → IVec S16 32) a x).toNat < S88320.size a := fun v820 k1_hw1003 => k1_hw1003

def k1_chk1004 (v824 : IVec S16 32) : Prop :=
  (∀ a x, ((![v824] : Fin 1 → IVec S16 32) a x).toNat < S88320.size a)
theorem k1_idx1004_inb : ∀ (v824 : IVec S16 32) (k1_hw1004 : k1_chk1004 v824), ∀ a x, ((![v824] : Fin 1 → IVec S16 32) a x).toNat < S88320.size a := fun v824 k1_hw1004 => k1_hw1004

def k1_chk1005 (v828 : IVec S16 32) : Prop :=
  (∀ a x, ((![v828] : Fin 1 → IVec S16 32) a x).toNat < S88320.size a)
theorem k1_idx1005_inb : ∀ (v828 : IVec S16 32) (k1_hw1005 : k1_chk1005 v828), ∀ a x, ((![v828] : Fin 1 → IVec S16 32) a x).toNat < S88320.size a := fun v828 k1_hw1005 => k1_hw1005

def k1_chk1006 (v832 : IVec S16 32) : Prop :=
  (∀ a x, ((![v832] : Fin 1 → IVec S16 32) a x).toNat < S88320.size a)
theorem k1_idx1006_inb : ∀ (v832 : IVec S16 32) (k1_hw1006 : k1_chk1006 v832), ∀ a x, ((![v832] : Fin 1 → IVec S16 32) a x).toNat < S88320.size a := fun v832 k1_hw1006 => k1_hw1006

def k1_chk1007 (v836 : IVec S16 32) : Prop :=
  (∀ a x, ((![v836] : Fin 1 → IVec S16 32) a x).toNat < S88320.size a)
theorem k1_idx1007_inb : ∀ (v836 : IVec S16 32) (k1_hw1007 : k1_chk1007 v836), ∀ a x, ((![v836] : Fin 1 → IVec S16 32) a x).toNat < S88320.size a := fun v836 k1_hw1007 => k1_hw1007

def k1_chk1008 (v840 : IVec S16 32) : Prop :=
  (∀ a x, ((![v840] : Fin 1 → IVec S16 32) a x).toNat < S88320.size a)
theorem k1_idx1008_inb : ∀ (v840 : IVec S16 32) (k1_hw1008 : k1_chk1008 v840), ∀ a x, ((![v840] : Fin 1 → IVec S16 32) a x).toNat < S88320.size a := fun v840 k1_hw1008 => k1_hw1008
def k1_off1074 (i : grid1.Coords) : Fin 4 → Nat :=
  let c3_i32_808 : BitVec 32 := 3#32
  let c1_i32_809 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_810 : BitVec 32 := 0#32
  ![3, 1, v2.toNat, 0]
@[reducible] def k1_t65_loop : Scf.Loop 32 :=
  let c0_i32_817 : BitVec 32 := 0#32
  let c32_i32_818 : BitVec 32 := 32#32
  let v585 : BitVec 32 := Scalar.addi c0_i32_817 c32_i32_818
  let c1_i32_819 : BitVec 32 := 1#32
  ⟨c0_i32_817, v585, c1_i32_819⟩
def k1_off1075 (k1_t65 : Fin k1_t65_loop.trips) : Fin 2 → Nat :=
  let c0_i32_1152 : BitVec 32 := 0#32
  let v778 : Index := Scalar.indexCast c0_i32_1152
  let c0_i32_817 : BitVec 32 := 0#32
  let c1_i32_819 : BitVec 32 := 1#32
  let arg9 : BitVec 32 := Scf.iv c0_i32_817 c1_i32_819 k1_t65
  let c16_i32_1151 : BitVec 32 := 16#32
  let v777 : BitVec 32 := Scalar.muli arg9 c16_i32_1151
  let v779 : Index := Scalar.indexCast v777
  ![0, v779.toNat]
def k1_off1076 (k1_t65 : Fin k1_t65_loop.trips) : Fin 2 → Nat :=
  let c1_i32_1154 : BitVec 32 := 1#32
  let v782 : Index := Scalar.indexCast c1_i32_1154
  let c0_i32_817 : BitVec 32 := 0#32
  let c1_i32_819 : BitVec 32 := 1#32
  let arg9 : BitVec 32 := Scf.iv c0_i32_817 c1_i32_819 k1_t65
  let c16_i32_1153 : BitVec 32 := 16#32
  let v781 : BitVec 32 := Scalar.muli arg9 c16_i32_1153
  let v783 : Index := Scalar.indexCast v781
  ![1, v783.toNat]
def k1_off1077 (k1_t65 : Fin k1_t65_loop.trips) : Fin 2 → Nat :=
  let c2_i32_1156 : BitVec 32 := 2#32
  let v786 : Index := Scalar.indexCast c2_i32_1156
  let c0_i32_817 : BitVec 32 := 0#32
  let c1_i32_819 : BitVec 32 := 1#32
  let arg9 : BitVec 32 := Scf.iv c0_i32_817 c1_i32_819 k1_t65
  let c16_i32_1155 : BitVec 32 := 16#32
  let v785 : BitVec 32 := Scalar.muli arg9 c16_i32_1155
  let v787 : Index := Scalar.indexCast v785
  ![2, v787.toNat]
def k1_off1078 (k1_t65 : Fin k1_t65_loop.trips) : Fin 2 → Nat :=
  let c3_i32_1158 : BitVec 32 := 3#32
  let v790 : Index := Scalar.indexCast c3_i32_1158
  let c0_i32_817 : BitVec 32 := 0#32
  let c1_i32_819 : BitVec 32 := 1#32
  let arg9 : BitVec 32 := Scf.iv c0_i32_817 c1_i32_819 k1_t65
  let c16_i32_1157 : BitVec 32 := 16#32
  let v789 : BitVec 32 := Scalar.muli arg9 c16_i32_1157
  let v791 : Index := Scalar.indexCast v789
  ![3, v791.toNat]
def k1_off1079 (k1_t65 : Fin k1_t65_loop.trips) : Fin 2 → Nat :=
  let c4_i32_1160 : BitVec 32 := 4#32
  let v794 : Index := Scalar.indexCast c4_i32_1160
  let c0_i32_817 : BitVec 32 := 0#32
  let c1_i32_819 : BitVec 32 := 1#32
  let arg9 : BitVec 32 := Scf.iv c0_i32_817 c1_i32_819 k1_t65
  let c16_i32_1159 : BitVec 32 := 16#32
  let v793 : BitVec 32 := Scalar.muli arg9 c16_i32_1159
  let v795 : Index := Scalar.indexCast v793
  ![4, v795.toNat]
def k1_off1080 (k1_t65 : Fin k1_t65_loop.trips) : Fin 2 → Nat :=
  let c5_i32_1162 : BitVec 32 := 5#32
  let v798 : Index := Scalar.indexCast c5_i32_1162
  let c0_i32_817 : BitVec 32 := 0#32
  let c1_i32_819 : BitVec 32 := 1#32
  let arg9 : BitVec 32 := Scf.iv c0_i32_817 c1_i32_819 k1_t65
  let c16_i32_1161 : BitVec 32 := 16#32
  let v797 : BitVec 32 := Scalar.muli arg9 c16_i32_1161
  let v799 : Index := Scalar.indexCast v797
  ![5, v799.toNat]
def k1_off1081 (k1_t65 : Fin k1_t65_loop.trips) : Fin 2 → Nat :=
  let c6_i32_1164 : BitVec 32 := 6#32
  let v802 : Index := Scalar.indexCast c6_i32_1164
  let c0_i32_817 : BitVec 32 := 0#32
  let c1_i32_819 : BitVec 32 := 1#32
  let arg9 : BitVec 32 := Scf.iv c0_i32_817 c1_i32_819 k1_t65
  let c16_i32_1163 : BitVec 32 := 16#32
  let v801 : BitVec 32 := Scalar.muli arg9 c16_i32_1163
  let v803 : Index := Scalar.indexCast v801
  ![6, v803.toNat]
def k1_off1082 (k1_t65 : Fin k1_t65_loop.trips) : Fin 2 → Nat :=
  let c7_i32_1166 : BitVec 32 := 7#32
  let v806 : Index := Scalar.indexCast c7_i32_1166
  let c0_i32_817 : BitVec 32 := 0#32
  let c1_i32_819 : BitVec 32 := 1#32
  let arg9 : BitVec 32 := Scf.iv c0_i32_817 c1_i32_819 k1_t65
  let c16_i32_1165 : BitVec 32 := 16#32
  let v805 : BitVec 32 := Scalar.muli arg9 c16_i32_1165
  let v807 : Index := Scalar.indexCast v805
  ![7, v807.toNat]
def k1_off1083 (k1_t65 : Fin k1_t65_loop.trips) : Fin 2 → Nat :=
  let c8_i32_1168 : BitVec 32 := 8#32
  let v810 : Index := Scalar.indexCast c8_i32_1168
  let c0_i32_817 : BitVec 32 := 0#32
  let c1_i32_819 : BitVec 32 := 1#32
  let arg9 : BitVec 32 := Scf.iv c0_i32_817 c1_i32_819 k1_t65
  let c16_i32_1167 : BitVec 32 := 16#32
  let v809 : BitVec 32 := Scalar.muli arg9 c16_i32_1167
  let v811 : Index := Scalar.indexCast v809
  ![8, v811.toNat]
def k1_off1084 (k1_t65 : Fin k1_t65_loop.trips) : Fin 2 → Nat :=
  let c9_i32_1170 : BitVec 32 := 9#32
  let v814 : Index := Scalar.indexCast c9_i32_1170
  let c0_i32_817 : BitVec 32 := 0#32
  let c1_i32_819 : BitVec 32 := 1#32
  let arg9 : BitVec 32 := Scf.iv c0_i32_817 c1_i32_819 k1_t65
  let c16_i32_1169 : BitVec 32 := 16#32
  let v813 : BitVec 32 := Scalar.muli arg9 c16_i32_1169
  let v815 : Index := Scalar.indexCast v813
  ![9, v815.toNat]
def k1_off1085 (k1_t65 : Fin k1_t65_loop.trips) : Fin 2 → Nat :=
  let c10_i32_1172 : BitVec 32 := 10#32
  let v818 : Index := Scalar.indexCast c10_i32_1172
  let c0_i32_817 : BitVec 32 := 0#32
  let c1_i32_819 : BitVec 32 := 1#32
  let arg9 : BitVec 32 := Scf.iv c0_i32_817 c1_i32_819 k1_t65
  let c16_i32_1171 : BitVec 32 := 16#32
  let v817 : BitVec 32 := Scalar.muli arg9 c16_i32_1171
  let v819 : Index := Scalar.indexCast v817
  ![10, v819.toNat]
def k1_off1086 (k1_t65 : Fin k1_t65_loop.trips) : Fin 2 → Nat :=
  let c11_i32_1174 : BitVec 32 := 11#32
  let v822 : Index := Scalar.indexCast c11_i32_1174
  let c0_i32_817 : BitVec 32 := 0#32
  let c1_i32_819 : BitVec 32 := 1#32
  let arg9 : BitVec 32 := Scf.iv c0_i32_817 c1_i32_819 k1_t65
  let c16_i32_1173 : BitVec 32 := 16#32
  let v821 : BitVec 32 := Scalar.muli arg9 c16_i32_1173
  let v823 : Index := Scalar.indexCast v821
  ![11, v823.toNat]
def k1_off1087 (k1_t65 : Fin k1_t65_loop.trips) : Fin 2 → Nat :=
  let c12_i32_1176 : BitVec 32 := 12#32
  let v826 : Index := Scalar.indexCast c12_i32_1176
  let c0_i32_817 : BitVec 32 := 0#32
  let c1_i32_819 : BitVec 32 := 1#32
  let arg9 : BitVec 32 := Scf.iv c0_i32_817 c1_i32_819 k1_t65
  let c16_i32_1175 : BitVec 32 := 16#32
  let v825 : BitVec 32 := Scalar.muli arg9 c16_i32_1175
  let v827 : Index := Scalar.indexCast v825
  ![12, v827.toNat]
def k1_off1088 (k1_t65 : Fin k1_t65_loop.trips) : Fin 2 → Nat :=
  let c13_i32_1178 : BitVec 32 := 13#32
  let v830 : Index := Scalar.indexCast c13_i32_1178
  let c0_i32_817 : BitVec 32 := 0#32
  let c1_i32_819 : BitVec 32 := 1#32
  let arg9 : BitVec 32 := Scf.iv c0_i32_817 c1_i32_819 k1_t65
  let c16_i32_1177 : BitVec 32 := 16#32
  let v829 : BitVec 32 := Scalar.muli arg9 c16_i32_1177
  let v831 : Index := Scalar.indexCast v829
  ![13, v831.toNat]
def k1_off1089 (k1_t65 : Fin k1_t65_loop.trips) : Fin 2 → Nat :=
  let c14_i32_1180 : BitVec 32 := 14#32
  let v834 : Index := Scalar.indexCast c14_i32_1180
  let c0_i32_817 : BitVec 32 := 0#32
  let c1_i32_819 : BitVec 32 := 1#32
  let arg9 : BitVec 32 := Scf.iv c0_i32_817 c1_i32_819 k1_t65
  let c16_i32_1179 : BitVec 32 := 16#32
  let v833 : BitVec 32 := Scalar.muli arg9 c16_i32_1179
  let v835 : Index := Scalar.indexCast v833
  ![14, v835.toNat]
def k1_off1090 (k1_t65 : Fin k1_t65_loop.trips) : Fin 2 → Nat :=
  let c15_i32_1182 : BitVec 32 := 15#32
  let v838 : Index := Scalar.indexCast c15_i32_1182
  let c0_i32_817 : BitVec 32 := 0#32
  let c1_i32_819 : BitVec 32 := 1#32
  let arg9 : BitVec 32 := Scf.iv c0_i32_817 c1_i32_819 k1_t65
  let c16_i32_1181 : BitVec 32 := 16#32
  let v837 : BitVec 32 := Scalar.muli arg9 c16_i32_1181
  let v839 : Index := Scalar.indexCast v837
  ![15, v839.toNat]

def k1_chk1009 (v780 : IVec S16 32) : Prop :=
  (∀ a x, ((![v780] : Fin 1 → IVec S16 32) a x).toNat < S88320.size a)
theorem k1_idx1009_inb : ∀ (v780 : IVec S16 32) (k1_hw1009 : k1_chk1009 v780), ∀ a x, ((![v780] : Fin 1 → IVec S16 32) a x).toNat < S88320.size a := fun v780 k1_hw1009 => k1_hw1009

def k1_chk1010 (v784 : IVec S16 32) : Prop :=
  (∀ a x, ((![v784] : Fin 1 → IVec S16 32) a x).toNat < S88320.size a)
theorem k1_idx1010_inb : ∀ (v784 : IVec S16 32) (k1_hw1010 : k1_chk1010 v784), ∀ a x, ((![v784] : Fin 1 → IVec S16 32) a x).toNat < S88320.size a := fun v784 k1_hw1010 => k1_hw1010

def k1_chk1011 (v788 : IVec S16 32) : Prop :=
  (∀ a x, ((![v788] : Fin 1 → IVec S16 32) a x).toNat < S88320.size a)
theorem k1_idx1011_inb : ∀ (v788 : IVec S16 32) (k1_hw1011 : k1_chk1011 v788), ∀ a x, ((![v788] : Fin 1 → IVec S16 32) a x).toNat < S88320.size a := fun v788 k1_hw1011 => k1_hw1011

def k1_chk1012 (v792 : IVec S16 32) : Prop :=
  (∀ a x, ((![v792] : Fin 1 → IVec S16 32) a x).toNat < S88320.size a)
theorem k1_idx1012_inb : ∀ (v792 : IVec S16 32) (k1_hw1012 : k1_chk1012 v792), ∀ a x, ((![v792] : Fin 1 → IVec S16 32) a x).toNat < S88320.size a := fun v792 k1_hw1012 => k1_hw1012

def k1_chk1013 (v796 : IVec S16 32) : Prop :=
  (∀ a x, ((![v796] : Fin 1 → IVec S16 32) a x).toNat < S88320.size a)
theorem k1_idx1013_inb : ∀ (v796 : IVec S16 32) (k1_hw1013 : k1_chk1013 v796), ∀ a x, ((![v796] : Fin 1 → IVec S16 32) a x).toNat < S88320.size a := fun v796 k1_hw1013 => k1_hw1013

def k1_chk1014 (v800 : IVec S16 32) : Prop :=
  (∀ a x, ((![v800] : Fin 1 → IVec S16 32) a x).toNat < S88320.size a)
theorem k1_idx1014_inb : ∀ (v800 : IVec S16 32) (k1_hw1014 : k1_chk1014 v800), ∀ a x, ((![v800] : Fin 1 → IVec S16 32) a x).toNat < S88320.size a := fun v800 k1_hw1014 => k1_hw1014

def k1_chk1015 (v804 : IVec S16 32) : Prop :=
  (∀ a x, ((![v804] : Fin 1 → IVec S16 32) a x).toNat < S88320.size a)
theorem k1_idx1015_inb : ∀ (v804 : IVec S16 32) (k1_hw1015 : k1_chk1015 v804), ∀ a x, ((![v804] : Fin 1 → IVec S16 32) a x).toNat < S88320.size a := fun v804 k1_hw1015 => k1_hw1015

def k1_chk1016 (v808 : IVec S16 32) : Prop :=
  (∀ a x, ((![v808] : Fin 1 → IVec S16 32) a x).toNat < S88320.size a)
theorem k1_idx1016_inb : ∀ (v808 : IVec S16 32) (k1_hw1016 : k1_chk1016 v808), ∀ a x, ((![v808] : Fin 1 → IVec S16 32) a x).toNat < S88320.size a := fun v808 k1_hw1016 => k1_hw1016

def k1_chk1017 (v812 : IVec S16 32) : Prop :=
  (∀ a x, ((![v812] : Fin 1 → IVec S16 32) a x).toNat < S88320.size a)
theorem k1_idx1017_inb : ∀ (v812 : IVec S16 32) (k1_hw1017 : k1_chk1017 v812), ∀ a x, ((![v812] : Fin 1 → IVec S16 32) a x).toNat < S88320.size a := fun v812 k1_hw1017 => k1_hw1017

def k1_chk1018 (v816 : IVec S16 32) : Prop :=
  (∀ a x, ((![v816] : Fin 1 → IVec S16 32) a x).toNat < S88320.size a)
theorem k1_idx1018_inb : ∀ (v816 : IVec S16 32) (k1_hw1018 : k1_chk1018 v816), ∀ a x, ((![v816] : Fin 1 → IVec S16 32) a x).toNat < S88320.size a := fun v816 k1_hw1018 => k1_hw1018

def k1_chk1019 (v820 : IVec S16 32) : Prop :=
  (∀ a x, ((![v820] : Fin 1 → IVec S16 32) a x).toNat < S88320.size a)
theorem k1_idx1019_inb : ∀ (v820 : IVec S16 32) (k1_hw1019 : k1_chk1019 v820), ∀ a x, ((![v820] : Fin 1 → IVec S16 32) a x).toNat < S88320.size a := fun v820 k1_hw1019 => k1_hw1019

def k1_chk1020 (v824 : IVec S16 32) : Prop :=
  (∀ a x, ((![v824] : Fin 1 → IVec S16 32) a x).toNat < S88320.size a)
theorem k1_idx1020_inb : ∀ (v824 : IVec S16 32) (k1_hw1020 : k1_chk1020 v824), ∀ a x, ((![v824] : Fin 1 → IVec S16 32) a x).toNat < S88320.size a := fun v824 k1_hw1020 => k1_hw1020

def k1_chk1021 (v828 : IVec S16 32) : Prop :=
  (∀ a x, ((![v828] : Fin 1 → IVec S16 32) a x).toNat < S88320.size a)
theorem k1_idx1021_inb : ∀ (v828 : IVec S16 32) (k1_hw1021 : k1_chk1021 v828), ∀ a x, ((![v828] : Fin 1 → IVec S16 32) a x).toNat < S88320.size a := fun v828 k1_hw1021 => k1_hw1021

def k1_chk1022 (v832 : IVec S16 32) : Prop :=
  (∀ a x, ((![v832] : Fin 1 → IVec S16 32) a x).toNat < S88320.size a)
theorem k1_idx1022_inb : ∀ (v832 : IVec S16 32) (k1_hw1022 : k1_chk1022 v832), ∀ a x, ((![v832] : Fin 1 → IVec S16 32) a x).toNat < S88320.size a := fun v832 k1_hw1022 => k1_hw1022

def k1_chk1023 (v836 : IVec S16 32) : Prop :=
  (∀ a x, ((![v836] : Fin 1 → IVec S16 32) a x).toNat < S88320.size a)
theorem k1_idx1023_inb : ∀ (v836 : IVec S16 32) (k1_hw1023 : k1_chk1023 v836), ∀ a x, ((![v836] : Fin 1 → IVec S16 32) a x).toNat < S88320.size a := fun v836 k1_hw1023 => k1_hw1023

def k1_chk1024 (v840 : IVec S16 32) : Prop :=
  (∀ a x, ((![v840] : Fin 1 → IVec S16 32) a x).toNat < S88320.size a)
theorem k1_idx1024_inb : ∀ (v840 : IVec S16 32) (k1_hw1024 : k1_chk1024 v840), ∀ a x, ((![v840] : Fin 1 → IVec S16 32) a x).toNat < S88320.size a := fun v840 k1_hw1024 => k1_hw1024
def k1_off1091 (i : grid1.Coords) : Fin 4 → Nat :=
  let c3_i32_821 : BitVec 32 := 3#32
  let c2_i32_822 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_823 : BitVec 32 := 0#32
  ![3, 2, v2.toNat, 0]
@[reducible] def k1_t66_loop : Scf.Loop 32 :=
  let c0_i32_830 : BitVec 32 := 0#32
  let c32_i32_831 : BitVec 32 := 32#32
  let v594 : BitVec 32 := Scalar.addi c0_i32_830 c32_i32_831
  let c1_i32_832 : BitVec 32 := 1#32
  ⟨c0_i32_830, v594, c1_i32_832⟩
def k1_off1092 (k1_t66 : Fin k1_t66_loop.trips) : Fin 2 → Nat :=
  let c0_i32_1152 : BitVec 32 := 0#32
  let v778 : Index := Scalar.indexCast c0_i32_1152
  let c0_i32_830 : BitVec 32 := 0#32
  let c1_i32_832 : BitVec 32 := 1#32
  let arg9 : BitVec 32 := Scf.iv c0_i32_830 c1_i32_832 k1_t66
  let c16_i32_1151 : BitVec 32 := 16#32
  let v777 : BitVec 32 := Scalar.muli arg9 c16_i32_1151
  let v779 : Index := Scalar.indexCast v777
  ![0, v779.toNat]
def k1_off1093 (k1_t66 : Fin k1_t66_loop.trips) : Fin 2 → Nat :=
  let c1_i32_1154 : BitVec 32 := 1#32
  let v782 : Index := Scalar.indexCast c1_i32_1154
  let c0_i32_830 : BitVec 32 := 0#32
  let c1_i32_832 : BitVec 32 := 1#32
  let arg9 : BitVec 32 := Scf.iv c0_i32_830 c1_i32_832 k1_t66
  let c16_i32_1153 : BitVec 32 := 16#32
  let v781 : BitVec 32 := Scalar.muli arg9 c16_i32_1153
  let v783 : Index := Scalar.indexCast v781
  ![1, v783.toNat]
def k1_off1094 (k1_t66 : Fin k1_t66_loop.trips) : Fin 2 → Nat :=
  let c2_i32_1156 : BitVec 32 := 2#32
  let v786 : Index := Scalar.indexCast c2_i32_1156
  let c0_i32_830 : BitVec 32 := 0#32
  let c1_i32_832 : BitVec 32 := 1#32
  let arg9 : BitVec 32 := Scf.iv c0_i32_830 c1_i32_832 k1_t66
  let c16_i32_1155 : BitVec 32 := 16#32
  let v785 : BitVec 32 := Scalar.muli arg9 c16_i32_1155
  let v787 : Index := Scalar.indexCast v785
  ![2, v787.toNat]
def k1_off1095 (k1_t66 : Fin k1_t66_loop.trips) : Fin 2 → Nat :=
  let c3_i32_1158 : BitVec 32 := 3#32
  let v790 : Index := Scalar.indexCast c3_i32_1158
  let c0_i32_830 : BitVec 32 := 0#32
  let c1_i32_832 : BitVec 32 := 1#32
  let arg9 : BitVec 32 := Scf.iv c0_i32_830 c1_i32_832 k1_t66
  let c16_i32_1157 : BitVec 32 := 16#32
  let v789 : BitVec 32 := Scalar.muli arg9 c16_i32_1157
  let v791 : Index := Scalar.indexCast v789
  ![3, v791.toNat]
def k1_off1096 (k1_t66 : Fin k1_t66_loop.trips) : Fin 2 → Nat :=
  let c4_i32_1160 : BitVec 32 := 4#32
  let v794 : Index := Scalar.indexCast c4_i32_1160
  let c0_i32_830 : BitVec 32 := 0#32
  let c1_i32_832 : BitVec 32 := 1#32
  let arg9 : BitVec 32 := Scf.iv c0_i32_830 c1_i32_832 k1_t66
  let c16_i32_1159 : BitVec 32 := 16#32
  let v793 : BitVec 32 := Scalar.muli arg9 c16_i32_1159
  let v795 : Index := Scalar.indexCast v793
  ![4, v795.toNat]
def k1_off1097 (k1_t66 : Fin k1_t66_loop.trips) : Fin 2 → Nat :=
  let c5_i32_1162 : BitVec 32 := 5#32
  let v798 : Index := Scalar.indexCast c5_i32_1162
  let c0_i32_830 : BitVec 32 := 0#32
  let c1_i32_832 : BitVec 32 := 1#32
  let arg9 : BitVec 32 := Scf.iv c0_i32_830 c1_i32_832 k1_t66
  let c16_i32_1161 : BitVec 32 := 16#32
  let v797 : BitVec 32 := Scalar.muli arg9 c16_i32_1161
  let v799 : Index := Scalar.indexCast v797
  ![5, v799.toNat]
def k1_off1098 (k1_t66 : Fin k1_t66_loop.trips) : Fin 2 → Nat :=
  let c6_i32_1164 : BitVec 32 := 6#32
  let v802 : Index := Scalar.indexCast c6_i32_1164
  let c0_i32_830 : BitVec 32 := 0#32
  let c1_i32_832 : BitVec 32 := 1#32
  let arg9 : BitVec 32 := Scf.iv c0_i32_830 c1_i32_832 k1_t66
  let c16_i32_1163 : BitVec 32 := 16#32
  let v801 : BitVec 32 := Scalar.muli arg9 c16_i32_1163
  let v803 : Index := Scalar.indexCast v801
  ![6, v803.toNat]
def k1_off1099 (k1_t66 : Fin k1_t66_loop.trips) : Fin 2 → Nat :=
  let c7_i32_1166 : BitVec 32 := 7#32
  let v806 : Index := Scalar.indexCast c7_i32_1166
  let c0_i32_830 : BitVec 32 := 0#32
  let c1_i32_832 : BitVec 32 := 1#32
  let arg9 : BitVec 32 := Scf.iv c0_i32_830 c1_i32_832 k1_t66
  let c16_i32_1165 : BitVec 32 := 16#32
  let v805 : BitVec 32 := Scalar.muli arg9 c16_i32_1165
  let v807 : Index := Scalar.indexCast v805
  ![7, v807.toNat]
def k1_off1100 (k1_t66 : Fin k1_t66_loop.trips) : Fin 2 → Nat :=
  let c8_i32_1168 : BitVec 32 := 8#32
  let v810 : Index := Scalar.indexCast c8_i32_1168
  let c0_i32_830 : BitVec 32 := 0#32
  let c1_i32_832 : BitVec 32 := 1#32
  let arg9 : BitVec 32 := Scf.iv c0_i32_830 c1_i32_832 k1_t66
  let c16_i32_1167 : BitVec 32 := 16#32
  let v809 : BitVec 32 := Scalar.muli arg9 c16_i32_1167
  let v811 : Index := Scalar.indexCast v809
  ![8, v811.toNat]
def k1_off1101 (k1_t66 : Fin k1_t66_loop.trips) : Fin 2 → Nat :=
  let c9_i32_1170 : BitVec 32 := 9#32
  let v814 : Index := Scalar.indexCast c9_i32_1170
  let c0_i32_830 : BitVec 32 := 0#32
  let c1_i32_832 : BitVec 32 := 1#32
  let arg9 : BitVec 32 := Scf.iv c0_i32_830 c1_i32_832 k1_t66
  let c16_i32_1169 : BitVec 32 := 16#32
  let v813 : BitVec 32 := Scalar.muli arg9 c16_i32_1169
  let v815 : Index := Scalar.indexCast v813
  ![9, v815.toNat]
def k1_off1102 (k1_t66 : Fin k1_t66_loop.trips) : Fin 2 → Nat :=
  let c10_i32_1172 : BitVec 32 := 10#32
  let v818 : Index := Scalar.indexCast c10_i32_1172
  let c0_i32_830 : BitVec 32 := 0#32
  let c1_i32_832 : BitVec 32 := 1#32
  let arg9 : BitVec 32 := Scf.iv c0_i32_830 c1_i32_832 k1_t66
  let c16_i32_1171 : BitVec 32 := 16#32
  let v817 : BitVec 32 := Scalar.muli arg9 c16_i32_1171
  let v819 : Index := Scalar.indexCast v817
  ![10, v819.toNat]
def k1_off1103 (k1_t66 : Fin k1_t66_loop.trips) : Fin 2 → Nat :=
  let c11_i32_1174 : BitVec 32 := 11#32
  let v822 : Index := Scalar.indexCast c11_i32_1174
  let c0_i32_830 : BitVec 32 := 0#32
  let c1_i32_832 : BitVec 32 := 1#32
  let arg9 : BitVec 32 := Scf.iv c0_i32_830 c1_i32_832 k1_t66
  let c16_i32_1173 : BitVec 32 := 16#32
  let v821 : BitVec 32 := Scalar.muli arg9 c16_i32_1173
  let v823 : Index := Scalar.indexCast v821
  ![11, v823.toNat]
def k1_off1104 (k1_t66 : Fin k1_t66_loop.trips) : Fin 2 → Nat :=
  let c12_i32_1176 : BitVec 32 := 12#32
  let v826 : Index := Scalar.indexCast c12_i32_1176
  let c0_i32_830 : BitVec 32 := 0#32
  let c1_i32_832 : BitVec 32 := 1#32
  let arg9 : BitVec 32 := Scf.iv c0_i32_830 c1_i32_832 k1_t66
  let c16_i32_1175 : BitVec 32 := 16#32
  let v825 : BitVec 32 := Scalar.muli arg9 c16_i32_1175
  let v827 : Index := Scalar.indexCast v825
  ![12, v827.toNat]
def k1_off1105 (k1_t66 : Fin k1_t66_loop.trips) : Fin 2 → Nat :=
  let c13_i32_1178 : BitVec 32 := 13#32
  let v830 : Index := Scalar.indexCast c13_i32_1178
  let c0_i32_830 : BitVec 32 := 0#32
  let c1_i32_832 : BitVec 32 := 1#32
  let arg9 : BitVec 32 := Scf.iv c0_i32_830 c1_i32_832 k1_t66
  let c16_i32_1177 : BitVec 32 := 16#32
  let v829 : BitVec 32 := Scalar.muli arg9 c16_i32_1177
  let v831 : Index := Scalar.indexCast v829
  ![13, v831.toNat]
def k1_off1106 (k1_t66 : Fin k1_t66_loop.trips) : Fin 2 → Nat :=
  let c14_i32_1180 : BitVec 32 := 14#32
  let v834 : Index := Scalar.indexCast c14_i32_1180
  let c0_i32_830 : BitVec 32 := 0#32
  let c1_i32_832 : BitVec 32 := 1#32
  let arg9 : BitVec 32 := Scf.iv c0_i32_830 c1_i32_832 k1_t66
  let c16_i32_1179 : BitVec 32 := 16#32
  let v833 : BitVec 32 := Scalar.muli arg9 c16_i32_1179
  let v835 : Index := Scalar.indexCast v833
  ![14, v835.toNat]
def k1_off1107 (k1_t66 : Fin k1_t66_loop.trips) : Fin 2 → Nat :=
  let c15_i32_1182 : BitVec 32 := 15#32
  let v838 : Index := Scalar.indexCast c15_i32_1182
  let c0_i32_830 : BitVec 32 := 0#32
  let c1_i32_832 : BitVec 32 := 1#32
  let arg9 : BitVec 32 := Scf.iv c0_i32_830 c1_i32_832 k1_t66
  let c16_i32_1181 : BitVec 32 := 16#32
  let v837 : BitVec 32 := Scalar.muli arg9 c16_i32_1181
  let v839 : Index := Scalar.indexCast v837
  ![15, v839.toNat]

def k1_chk1025 (v780 : IVec S16 32) : Prop :=
  (∀ a x, ((![v780] : Fin 1 → IVec S16 32) a x).toNat < S88320.size a)
theorem k1_idx1025_inb : ∀ (v780 : IVec S16 32) (k1_hw1025 : k1_chk1025 v780), ∀ a x, ((![v780] : Fin 1 → IVec S16 32) a x).toNat < S88320.size a := fun v780 k1_hw1025 => k1_hw1025

def k1_chk1026 (v784 : IVec S16 32) : Prop :=
  (∀ a x, ((![v784] : Fin 1 → IVec S16 32) a x).toNat < S88320.size a)
theorem k1_idx1026_inb : ∀ (v784 : IVec S16 32) (k1_hw1026 : k1_chk1026 v784), ∀ a x, ((![v784] : Fin 1 → IVec S16 32) a x).toNat < S88320.size a := fun v784 k1_hw1026 => k1_hw1026

def k1_chk1027 (v788 : IVec S16 32) : Prop :=
  (∀ a x, ((![v788] : Fin 1 → IVec S16 32) a x).toNat < S88320.size a)
theorem k1_idx1027_inb : ∀ (v788 : IVec S16 32) (k1_hw1027 : k1_chk1027 v788), ∀ a x, ((![v788] : Fin 1 → IVec S16 32) a x).toNat < S88320.size a := fun v788 k1_hw1027 => k1_hw1027

def k1_chk1028 (v792 : IVec S16 32) : Prop :=
  (∀ a x, ((![v792] : Fin 1 → IVec S16 32) a x).toNat < S88320.size a)
theorem k1_idx1028_inb : ∀ (v792 : IVec S16 32) (k1_hw1028 : k1_chk1028 v792), ∀ a x, ((![v792] : Fin 1 → IVec S16 32) a x).toNat < S88320.size a := fun v792 k1_hw1028 => k1_hw1028

def k1_chk1029 (v796 : IVec S16 32) : Prop :=
  (∀ a x, ((![v796] : Fin 1 → IVec S16 32) a x).toNat < S88320.size a)
theorem k1_idx1029_inb : ∀ (v796 : IVec S16 32) (k1_hw1029 : k1_chk1029 v796), ∀ a x, ((![v796] : Fin 1 → IVec S16 32) a x).toNat < S88320.size a := fun v796 k1_hw1029 => k1_hw1029

def k1_chk1030 (v800 : IVec S16 32) : Prop :=
  (∀ a x, ((![v800] : Fin 1 → IVec S16 32) a x).toNat < S88320.size a)
theorem k1_idx1030_inb : ∀ (v800 : IVec S16 32) (k1_hw1030 : k1_chk1030 v800), ∀ a x, ((![v800] : Fin 1 → IVec S16 32) a x).toNat < S88320.size a := fun v800 k1_hw1030 => k1_hw1030

def k1_chk1031 (v804 : IVec S16 32) : Prop :=
  (∀ a x, ((![v804] : Fin 1 → IVec S16 32) a x).toNat < S88320.size a)
theorem k1_idx1031_inb : ∀ (v804 : IVec S16 32) (k1_hw1031 : k1_chk1031 v804), ∀ a x, ((![v804] : Fin 1 → IVec S16 32) a x).toNat < S88320.size a := fun v804 k1_hw1031 => k1_hw1031

def k1_chk1032 (v808 : IVec S16 32) : Prop :=
  (∀ a x, ((![v808] : Fin 1 → IVec S16 32) a x).toNat < S88320.size a)
theorem k1_idx1032_inb : ∀ (v808 : IVec S16 32) (k1_hw1032 : k1_chk1032 v808), ∀ a x, ((![v808] : Fin 1 → IVec S16 32) a x).toNat < S88320.size a := fun v808 k1_hw1032 => k1_hw1032

def k1_chk1033 (v812 : IVec S16 32) : Prop :=
  (∀ a x, ((![v812] : Fin 1 → IVec S16 32) a x).toNat < S88320.size a)
theorem k1_idx1033_inb : ∀ (v812 : IVec S16 32) (k1_hw1033 : k1_chk1033 v812), ∀ a x, ((![v812] : Fin 1 → IVec S16 32) a x).toNat < S88320.size a := fun v812 k1_hw1033 => k1_hw1033

def k1_chk1034 (v816 : IVec S16 32) : Prop :=
  (∀ a x, ((![v816] : Fin 1 → IVec S16 32) a x).toNat < S88320.size a)
theorem k1_idx1034_inb : ∀ (v816 : IVec S16 32) (k1_hw1034 : k1_chk1034 v816), ∀ a x, ((![v816] : Fin 1 → IVec S16 32) a x).toNat < S88320.size a := fun v816 k1_hw1034 => k1_hw1034

def k1_chk1035 (v820 : IVec S16 32) : Prop :=
  (∀ a x, ((![v820] : Fin 1 → IVec S16 32) a x).toNat < S88320.size a)
theorem k1_idx1035_inb : ∀ (v820 : IVec S16 32) (k1_hw1035 : k1_chk1035 v820), ∀ a x, ((![v820] : Fin 1 → IVec S16 32) a x).toNat < S88320.size a := fun v820 k1_hw1035 => k1_hw1035

def k1_chk1036 (v824 : IVec S16 32) : Prop :=
  (∀ a x, ((![v824] : Fin 1 → IVec S16 32) a x).toNat < S88320.size a)
theorem k1_idx1036_inb : ∀ (v824 : IVec S16 32) (k1_hw1036 : k1_chk1036 v824), ∀ a x, ((![v824] : Fin 1 → IVec S16 32) a x).toNat < S88320.size a := fun v824 k1_hw1036 => k1_hw1036

def k1_chk1037 (v828 : IVec S16 32) : Prop :=
  (∀ a x, ((![v828] : Fin 1 → IVec S16 32) a x).toNat < S88320.size a)
theorem k1_idx1037_inb : ∀ (v828 : IVec S16 32) (k1_hw1037 : k1_chk1037 v828), ∀ a x, ((![v828] : Fin 1 → IVec S16 32) a x).toNat < S88320.size a := fun v828 k1_hw1037 => k1_hw1037

def k1_chk1038 (v832 : IVec S16 32) : Prop :=
  (∀ a x, ((![v832] : Fin 1 → IVec S16 32) a x).toNat < S88320.size a)
theorem k1_idx1038_inb : ∀ (v832 : IVec S16 32) (k1_hw1038 : k1_chk1038 v832), ∀ a x, ((![v832] : Fin 1 → IVec S16 32) a x).toNat < S88320.size a := fun v832 k1_hw1038 => k1_hw1038

def k1_chk1039 (v836 : IVec S16 32) : Prop :=
  (∀ a x, ((![v836] : Fin 1 → IVec S16 32) a x).toNat < S88320.size a)
theorem k1_idx1039_inb : ∀ (v836 : IVec S16 32) (k1_hw1039 : k1_chk1039 v836), ∀ a x, ((![v836] : Fin 1 → IVec S16 32) a x).toNat < S88320.size a := fun v836 k1_hw1039 => k1_hw1039

def k1_chk1040 (v840 : IVec S16 32) : Prop :=
  (∀ a x, ((![v840] : Fin 1 → IVec S16 32) a x).toNat < S88320.size a)
theorem k1_idx1040_inb : ∀ (v840 : IVec S16 32) (k1_hw1040 : k1_chk1040 v840), ∀ a x, ((![v840] : Fin 1 → IVec S16 32) a x).toNat < S88320.size a := fun v840 k1_hw1040 => k1_hw1040
def k1_off1108 (i : grid1.Coords) : Fin 4 → Nat :=
  let c3_i32_834 : BitVec 32 := 3#32
  let c3_i32_835 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_836 : BitVec 32 := 0#32
  ![3, 3, v2.toNat, 0]
@[reducible] def k1_t67_loop : Scf.Loop 32 :=
  let c0_i32_843 : BitVec 32 := 0#32
  let c32_i32_844 : BitVec 32 := 32#32
  let v603 : BitVec 32 := Scalar.addi c0_i32_843 c32_i32_844
  let c1_i32_845 : BitVec 32 := 1#32
  ⟨c0_i32_843, v603, c1_i32_845⟩
def k1_off1109 (k1_t67 : Fin k1_t67_loop.trips) : Fin 2 → Nat :=
  let c0_i32_1152 : BitVec 32 := 0#32
  let v778 : Index := Scalar.indexCast c0_i32_1152
  let c0_i32_843 : BitVec 32 := 0#32
  let c1_i32_845 : BitVec 32 := 1#32
  let arg9 : BitVec 32 := Scf.iv c0_i32_843 c1_i32_845 k1_t67
  let c16_i32_1151 : BitVec 32 := 16#32
  let v777 : BitVec 32 := Scalar.muli arg9 c16_i32_1151
  let v779 : Index := Scalar.indexCast v777
  ![0, v779.toNat]
def k1_off1110 (k1_t67 : Fin k1_t67_loop.trips) : Fin 2 → Nat :=
  let c1_i32_1154 : BitVec 32 := 1#32
  let v782 : Index := Scalar.indexCast c1_i32_1154
  let c0_i32_843 : BitVec 32 := 0#32
  let c1_i32_845 : BitVec 32 := 1#32
  let arg9 : BitVec 32 := Scf.iv c0_i32_843 c1_i32_845 k1_t67
  let c16_i32_1153 : BitVec 32 := 16#32
  let v781 : BitVec 32 := Scalar.muli arg9 c16_i32_1153
  let v783 : Index := Scalar.indexCast v781
  ![1, v783.toNat]
def k1_off1111 (k1_t67 : Fin k1_t67_loop.trips) : Fin 2 → Nat :=
  let c2_i32_1156 : BitVec 32 := 2#32
  let v786 : Index := Scalar.indexCast c2_i32_1156
  let c0_i32_843 : BitVec 32 := 0#32
  let c1_i32_845 : BitVec 32 := 1#32
  let arg9 : BitVec 32 := Scf.iv c0_i32_843 c1_i32_845 k1_t67
  let c16_i32_1155 : BitVec 32 := 16#32
  let v785 : BitVec 32 := Scalar.muli arg9 c16_i32_1155
  let v787 : Index := Scalar.indexCast v785
  ![2, v787.toNat]
def k1_off1112 (k1_t67 : Fin k1_t67_loop.trips) : Fin 2 → Nat :=
  let c3_i32_1158 : BitVec 32 := 3#32
  let v790 : Index := Scalar.indexCast c3_i32_1158
  let c0_i32_843 : BitVec 32 := 0#32
  let c1_i32_845 : BitVec 32 := 1#32
  let arg9 : BitVec 32 := Scf.iv c0_i32_843 c1_i32_845 k1_t67
  let c16_i32_1157 : BitVec 32 := 16#32
  let v789 : BitVec 32 := Scalar.muli arg9 c16_i32_1157
  let v791 : Index := Scalar.indexCast v789
  ![3, v791.toNat]
def k1_off1113 (k1_t67 : Fin k1_t67_loop.trips) : Fin 2 → Nat :=
  let c4_i32_1160 : BitVec 32 := 4#32
  let v794 : Index := Scalar.indexCast c4_i32_1160
  let c0_i32_843 : BitVec 32 := 0#32
  let c1_i32_845 : BitVec 32 := 1#32
  let arg9 : BitVec 32 := Scf.iv c0_i32_843 c1_i32_845 k1_t67
  let c16_i32_1159 : BitVec 32 := 16#32
  let v793 : BitVec 32 := Scalar.muli arg9 c16_i32_1159
  let v795 : Index := Scalar.indexCast v793
  ![4, v795.toNat]
def k1_off1114 (k1_t67 : Fin k1_t67_loop.trips) : Fin 2 → Nat :=
  let c5_i32_1162 : BitVec 32 := 5#32
  let v798 : Index := Scalar.indexCast c5_i32_1162
  let c0_i32_843 : BitVec 32 := 0#32
  let c1_i32_845 : BitVec 32 := 1#32
  let arg9 : BitVec 32 := Scf.iv c0_i32_843 c1_i32_845 k1_t67
  let c16_i32_1161 : BitVec 32 := 16#32
  let v797 : BitVec 32 := Scalar.muli arg9 c16_i32_1161
  let v799 : Index := Scalar.indexCast v797
  ![5, v799.toNat]
def k1_off1115 (k1_t67 : Fin k1_t67_loop.trips) : Fin 2 → Nat :=
  let c6_i32_1164 : BitVec 32 := 6#32
  let v802 : Index := Scalar.indexCast c6_i32_1164
  let c0_i32_843 : BitVec 32 := 0#32
  let c1_i32_845 : BitVec 32 := 1#32
  let arg9 : BitVec 32 := Scf.iv c0_i32_843 c1_i32_845 k1_t67
  let c16_i32_1163 : BitVec 32 := 16#32
  let v801 : BitVec 32 := Scalar.muli arg9 c16_i32_1163
  let v803 : Index := Scalar.indexCast v801
  ![6, v803.toNat]
def k1_off1116 (k1_t67 : Fin k1_t67_loop.trips) : Fin 2 → Nat :=
  let c7_i32_1166 : BitVec 32 := 7#32
  let v806 : Index := Scalar.indexCast c7_i32_1166
  let c0_i32_843 : BitVec 32 := 0#32
  let c1_i32_845 : BitVec 32 := 1#32
  let arg9 : BitVec 32 := Scf.iv c0_i32_843 c1_i32_845 k1_t67
  let c16_i32_1165 : BitVec 32 := 16#32
  let v805 : BitVec 32 := Scalar.muli arg9 c16_i32_1165
  let v807 : Index := Scalar.indexCast v805
  ![7, v807.toNat]
def k1_off1117 (k1_t67 : Fin k1_t67_loop.trips) : Fin 2 → Nat :=
  let c8_i32_1168 : BitVec 32 := 8#32
  let v810 : Index := Scalar.indexCast c8_i32_1168
  let c0_i32_843 : BitVec 32 := 0#32
  let c1_i32_845 : BitVec 32 := 1#32
  let arg9 : BitVec 32 := Scf.iv c0_i32_843 c1_i32_845 k1_t67
  let c16_i32_1167 : BitVec 32 := 16#32
  let v809 : BitVec 32 := Scalar.muli arg9 c16_i32_1167
  let v811 : Index := Scalar.indexCast v809
  ![8, v811.toNat]
def k1_off1118 (k1_t67 : Fin k1_t67_loop.trips) : Fin 2 → Nat :=
  let c9_i32_1170 : BitVec 32 := 9#32
  let v814 : Index := Scalar.indexCast c9_i32_1170
  let c0_i32_843 : BitVec 32 := 0#32
  let c1_i32_845 : BitVec 32 := 1#32
  let arg9 : BitVec 32 := Scf.iv c0_i32_843 c1_i32_845 k1_t67
  let c16_i32_1169 : BitVec 32 := 16#32
  let v813 : BitVec 32 := Scalar.muli arg9 c16_i32_1169
  let v815 : Index := Scalar.indexCast v813
  ![9, v815.toNat]
def k1_off1119 (k1_t67 : Fin k1_t67_loop.trips) : Fin 2 → Nat :=
  let c10_i32_1172 : BitVec 32 := 10#32
  let v818 : Index := Scalar.indexCast c10_i32_1172
  let c0_i32_843 : BitVec 32 := 0#32
  let c1_i32_845 : BitVec 32 := 1#32
  let arg9 : BitVec 32 := Scf.iv c0_i32_843 c1_i32_845 k1_t67
  let c16_i32_1171 : BitVec 32 := 16#32
  let v817 : BitVec 32 := Scalar.muli arg9 c16_i32_1171
  let v819 : Index := Scalar.indexCast v817
  ![10, v819.toNat]
def k1_off1120 (k1_t67 : Fin k1_t67_loop.trips) : Fin 2 → Nat :=
  let c11_i32_1174 : BitVec 32 := 11#32
  let v822 : Index := Scalar.indexCast c11_i32_1174
  let c0_i32_843 : BitVec 32 := 0#32
  let c1_i32_845 : BitVec 32 := 1#32
  let arg9 : BitVec 32 := Scf.iv c0_i32_843 c1_i32_845 k1_t67
  let c16_i32_1173 : BitVec 32 := 16#32
  let v821 : BitVec 32 := Scalar.muli arg9 c16_i32_1173
  let v823 : Index := Scalar.indexCast v821
  ![11, v823.toNat]
def k1_off1121 (k1_t67 : Fin k1_t67_loop.trips) : Fin 2 → Nat :=
  let c12_i32_1176 : BitVec 32 := 12#32
  let v826 : Index := Scalar.indexCast c12_i32_1176
  let c0_i32_843 : BitVec 32 := 0#32
  let c1_i32_845 : BitVec 32 := 1#32
  let arg9 : BitVec 32 := Scf.iv c0_i32_843 c1_i32_845 k1_t67
  let c16_i32_1175 : BitVec 32 := 16#32
  let v825 : BitVec 32 := Scalar.muli arg9 c16_i32_1175
  let v827 : Index := Scalar.indexCast v825
  ![12, v827.toNat]
def k1_off1122 (k1_t67 : Fin k1_t67_loop.trips) : Fin 2 → Nat :=
  let c13_i32_1178 : BitVec 32 := 13#32
  let v830 : Index := Scalar.indexCast c13_i32_1178
  let c0_i32_843 : BitVec 32 := 0#32
  let c1_i32_845 : BitVec 32 := 1#32
  let arg9 : BitVec 32 := Scf.iv c0_i32_843 c1_i32_845 k1_t67
  let c16_i32_1177 : BitVec 32 := 16#32
  let v829 : BitVec 32 := Scalar.muli arg9 c16_i32_1177
  let v831 : Index := Scalar.indexCast v829
  ![13, v831.toNat]
def k1_off1123 (k1_t67 : Fin k1_t67_loop.trips) : Fin 2 → Nat :=
  let c14_i32_1180 : BitVec 32 := 14#32
  let v834 : Index := Scalar.indexCast c14_i32_1180
  let c0_i32_843 : BitVec 32 := 0#32
  let c1_i32_845 : BitVec 32 := 1#32
  let arg9 : BitVec 32 := Scf.iv c0_i32_843 c1_i32_845 k1_t67
  let c16_i32_1179 : BitVec 32 := 16#32
  let v833 : BitVec 32 := Scalar.muli arg9 c16_i32_1179
  let v835 : Index := Scalar.indexCast v833
  ![14, v835.toNat]
def k1_off1124 (k1_t67 : Fin k1_t67_loop.trips) : Fin 2 → Nat :=
  let c15_i32_1182 : BitVec 32 := 15#32
  let v838 : Index := Scalar.indexCast c15_i32_1182
  let c0_i32_843 : BitVec 32 := 0#32
  let c1_i32_845 : BitVec 32 := 1#32
  let arg9 : BitVec 32 := Scf.iv c0_i32_843 c1_i32_845 k1_t67
  let c16_i32_1181 : BitVec 32 := 16#32
  let v837 : BitVec 32 := Scalar.muli arg9 c16_i32_1181
  let v839 : Index := Scalar.indexCast v837
  ![15, v839.toNat]

def k1_chk1041 (v780 : IVec S16 32) : Prop :=
  (∀ a x, ((![v780] : Fin 1 → IVec S16 32) a x).toNat < S88320.size a)
theorem k1_idx1041_inb : ∀ (v780 : IVec S16 32) (k1_hw1041 : k1_chk1041 v780), ∀ a x, ((![v780] : Fin 1 → IVec S16 32) a x).toNat < S88320.size a := fun v780 k1_hw1041 => k1_hw1041

def k1_chk1042 (v784 : IVec S16 32) : Prop :=
  (∀ a x, ((![v784] : Fin 1 → IVec S16 32) a x).toNat < S88320.size a)
theorem k1_idx1042_inb : ∀ (v784 : IVec S16 32) (k1_hw1042 : k1_chk1042 v784), ∀ a x, ((![v784] : Fin 1 → IVec S16 32) a x).toNat < S88320.size a := fun v784 k1_hw1042 => k1_hw1042

def k1_chk1043 (v788 : IVec S16 32) : Prop :=
  (∀ a x, ((![v788] : Fin 1 → IVec S16 32) a x).toNat < S88320.size a)
theorem k1_idx1043_inb : ∀ (v788 : IVec S16 32) (k1_hw1043 : k1_chk1043 v788), ∀ a x, ((![v788] : Fin 1 → IVec S16 32) a x).toNat < S88320.size a := fun v788 k1_hw1043 => k1_hw1043

def k1_chk1044 (v792 : IVec S16 32) : Prop :=
  (∀ a x, ((![v792] : Fin 1 → IVec S16 32) a x).toNat < S88320.size a)
theorem k1_idx1044_inb : ∀ (v792 : IVec S16 32) (k1_hw1044 : k1_chk1044 v792), ∀ a x, ((![v792] : Fin 1 → IVec S16 32) a x).toNat < S88320.size a := fun v792 k1_hw1044 => k1_hw1044

def k1_chk1045 (v796 : IVec S16 32) : Prop :=
  (∀ a x, ((![v796] : Fin 1 → IVec S16 32) a x).toNat < S88320.size a)
theorem k1_idx1045_inb : ∀ (v796 : IVec S16 32) (k1_hw1045 : k1_chk1045 v796), ∀ a x, ((![v796] : Fin 1 → IVec S16 32) a x).toNat < S88320.size a := fun v796 k1_hw1045 => k1_hw1045

def k1_chk1046 (v800 : IVec S16 32) : Prop :=
  (∀ a x, ((![v800] : Fin 1 → IVec S16 32) a x).toNat < S88320.size a)
theorem k1_idx1046_inb : ∀ (v800 : IVec S16 32) (k1_hw1046 : k1_chk1046 v800), ∀ a x, ((![v800] : Fin 1 → IVec S16 32) a x).toNat < S88320.size a := fun v800 k1_hw1046 => k1_hw1046

def k1_chk1047 (v804 : IVec S16 32) : Prop :=
  (∀ a x, ((![v804] : Fin 1 → IVec S16 32) a x).toNat < S88320.size a)
theorem k1_idx1047_inb : ∀ (v804 : IVec S16 32) (k1_hw1047 : k1_chk1047 v804), ∀ a x, ((![v804] : Fin 1 → IVec S16 32) a x).toNat < S88320.size a := fun v804 k1_hw1047 => k1_hw1047

def k1_chk1048 (v808 : IVec S16 32) : Prop :=
  (∀ a x, ((![v808] : Fin 1 → IVec S16 32) a x).toNat < S88320.size a)
theorem k1_idx1048_inb : ∀ (v808 : IVec S16 32) (k1_hw1048 : k1_chk1048 v808), ∀ a x, ((![v808] : Fin 1 → IVec S16 32) a x).toNat < S88320.size a := fun v808 k1_hw1048 => k1_hw1048

def k1_chk1049 (v812 : IVec S16 32) : Prop :=
  (∀ a x, ((![v812] : Fin 1 → IVec S16 32) a x).toNat < S88320.size a)
theorem k1_idx1049_inb : ∀ (v812 : IVec S16 32) (k1_hw1049 : k1_chk1049 v812), ∀ a x, ((![v812] : Fin 1 → IVec S16 32) a x).toNat < S88320.size a := fun v812 k1_hw1049 => k1_hw1049

def k1_chk1050 (v816 : IVec S16 32) : Prop :=
  (∀ a x, ((![v816] : Fin 1 → IVec S16 32) a x).toNat < S88320.size a)
theorem k1_idx1050_inb : ∀ (v816 : IVec S16 32) (k1_hw1050 : k1_chk1050 v816), ∀ a x, ((![v816] : Fin 1 → IVec S16 32) a x).toNat < S88320.size a := fun v816 k1_hw1050 => k1_hw1050

def k1_chk1051 (v820 : IVec S16 32) : Prop :=
  (∀ a x, ((![v820] : Fin 1 → IVec S16 32) a x).toNat < S88320.size a)
theorem k1_idx1051_inb : ∀ (v820 : IVec S16 32) (k1_hw1051 : k1_chk1051 v820), ∀ a x, ((![v820] : Fin 1 → IVec S16 32) a x).toNat < S88320.size a := fun v820 k1_hw1051 => k1_hw1051

def k1_chk1052 (v824 : IVec S16 32) : Prop :=
  (∀ a x, ((![v824] : Fin 1 → IVec S16 32) a x).toNat < S88320.size a)
theorem k1_idx1052_inb : ∀ (v824 : IVec S16 32) (k1_hw1052 : k1_chk1052 v824), ∀ a x, ((![v824] : Fin 1 → IVec S16 32) a x).toNat < S88320.size a := fun v824 k1_hw1052 => k1_hw1052

def k1_chk1053 (v828 : IVec S16 32) : Prop :=
  (∀ a x, ((![v828] : Fin 1 → IVec S16 32) a x).toNat < S88320.size a)
theorem k1_idx1053_inb : ∀ (v828 : IVec S16 32) (k1_hw1053 : k1_chk1053 v828), ∀ a x, ((![v828] : Fin 1 → IVec S16 32) a x).toNat < S88320.size a := fun v828 k1_hw1053 => k1_hw1053

def k1_chk1054 (v832 : IVec S16 32) : Prop :=
  (∀ a x, ((![v832] : Fin 1 → IVec S16 32) a x).toNat < S88320.size a)
theorem k1_idx1054_inb : ∀ (v832 : IVec S16 32) (k1_hw1054 : k1_chk1054 v832), ∀ a x, ((![v832] : Fin 1 → IVec S16 32) a x).toNat < S88320.size a := fun v832 k1_hw1054 => k1_hw1054

def k1_chk1055 (v836 : IVec S16 32) : Prop :=
  (∀ a x, ((![v836] : Fin 1 → IVec S16 32) a x).toNat < S88320.size a)
theorem k1_idx1055_inb : ∀ (v836 : IVec S16 32) (k1_hw1055 : k1_chk1055 v836), ∀ a x, ((![v836] : Fin 1 → IVec S16 32) a x).toNat < S88320.size a := fun v836 k1_hw1055 => k1_hw1055

def k1_chk1056 (v840 : IVec S16 32) : Prop :=
  (∀ a x, ((![v840] : Fin 1 → IVec S16 32) a x).toNat < S88320.size a)
theorem k1_idx1056_inb : ∀ (v840 : IVec S16 32) (k1_hw1056 : k1_chk1056 v840), ∀ a x, ((![v840] : Fin 1 → IVec S16 32) a x).toNat < S88320.size a := fun v840 k1_hw1056 => k1_hw1056
def k1_off1125 (i : grid1.Coords) : Fin 4 → Nat :=
  let c3_i32_847 : BitVec 32 := 3#32
  let c4_i32_848 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_849 : BitVec 32 := 0#32
  ![3, 4, v2.toNat, 0]
@[reducible] def k1_t68_loop : Scf.Loop 32 :=
  let c0_i32_856 : BitVec 32 := 0#32
  let c32_i32_857 : BitVec 32 := 32#32
  let v612 : BitVec 32 := Scalar.addi c0_i32_856 c32_i32_857
  let c1_i32_858 : BitVec 32 := 1#32
  ⟨c0_i32_856, v612, c1_i32_858⟩
def k1_off1126 (k1_t68 : Fin k1_t68_loop.trips) : Fin 2 → Nat :=
  let c0_i32_1152 : BitVec 32 := 0#32
  let v778 : Index := Scalar.indexCast c0_i32_1152
  let c0_i32_856 : BitVec 32 := 0#32
  let c1_i32_858 : BitVec 32 := 1#32
  let arg9 : BitVec 32 := Scf.iv c0_i32_856 c1_i32_858 k1_t68
  let c16_i32_1151 : BitVec 32 := 16#32
  let v777 : BitVec 32 := Scalar.muli arg9 c16_i32_1151
  let v779 : Index := Scalar.indexCast v777
  ![0, v779.toNat]
def k1_off1127 (k1_t68 : Fin k1_t68_loop.trips) : Fin 2 → Nat :=
  let c1_i32_1154 : BitVec 32 := 1#32
  let v782 : Index := Scalar.indexCast c1_i32_1154
  let c0_i32_856 : BitVec 32 := 0#32
  let c1_i32_858 : BitVec 32 := 1#32
  let arg9 : BitVec 32 := Scf.iv c0_i32_856 c1_i32_858 k1_t68
  let c16_i32_1153 : BitVec 32 := 16#32
  let v781 : BitVec 32 := Scalar.muli arg9 c16_i32_1153
  let v783 : Index := Scalar.indexCast v781
  ![1, v783.toNat]
def k1_off1128 (k1_t68 : Fin k1_t68_loop.trips) : Fin 2 → Nat :=
  let c2_i32_1156 : BitVec 32 := 2#32
  let v786 : Index := Scalar.indexCast c2_i32_1156
  let c0_i32_856 : BitVec 32 := 0#32
  let c1_i32_858 : BitVec 32 := 1#32
  let arg9 : BitVec 32 := Scf.iv c0_i32_856 c1_i32_858 k1_t68
  let c16_i32_1155 : BitVec 32 := 16#32
  let v785 : BitVec 32 := Scalar.muli arg9 c16_i32_1155
  let v787 : Index := Scalar.indexCast v785
  ![2, v787.toNat]
def k1_off1129 (k1_t68 : Fin k1_t68_loop.trips) : Fin 2 → Nat :=
  let c3_i32_1158 : BitVec 32 := 3#32
  let v790 : Index := Scalar.indexCast c3_i32_1158
  let c0_i32_856 : BitVec 32 := 0#32
  let c1_i32_858 : BitVec 32 := 1#32
  let arg9 : BitVec 32 := Scf.iv c0_i32_856 c1_i32_858 k1_t68
  let c16_i32_1157 : BitVec 32 := 16#32
  let v789 : BitVec 32 := Scalar.muli arg9 c16_i32_1157
  let v791 : Index := Scalar.indexCast v789
  ![3, v791.toNat]
def k1_off1130 (k1_t68 : Fin k1_t68_loop.trips) : Fin 2 → Nat :=
  let c4_i32_1160 : BitVec 32 := 4#32
  let v794 : Index := Scalar.indexCast c4_i32_1160
  let c0_i32_856 : BitVec 32 := 0#32
  let c1_i32_858 : BitVec 32 := 1#32
  let arg9 : BitVec 32 := Scf.iv c0_i32_856 c1_i32_858 k1_t68
  let c16_i32_1159 : BitVec 32 := 16#32
  let v793 : BitVec 32 := Scalar.muli arg9 c16_i32_1159
  let v795 : Index := Scalar.indexCast v793
  ![4, v795.toNat]
def k1_off1131 (k1_t68 : Fin k1_t68_loop.trips) : Fin 2 → Nat :=
  let c5_i32_1162 : BitVec 32 := 5#32
  let v798 : Index := Scalar.indexCast c5_i32_1162
  let c0_i32_856 : BitVec 32 := 0#32
  let c1_i32_858 : BitVec 32 := 1#32
  let arg9 : BitVec 32 := Scf.iv c0_i32_856 c1_i32_858 k1_t68
  let c16_i32_1161 : BitVec 32 := 16#32
  let v797 : BitVec 32 := Scalar.muli arg9 c16_i32_1161
  let v799 : Index := Scalar.indexCast v797
  ![5, v799.toNat]
def k1_off1132 (k1_t68 : Fin k1_t68_loop.trips) : Fin 2 → Nat :=
  let c6_i32_1164 : BitVec 32 := 6#32
  let v802 : Index := Scalar.indexCast c6_i32_1164
  let c0_i32_856 : BitVec 32 := 0#32
  let c1_i32_858 : BitVec 32 := 1#32
  let arg9 : BitVec 32 := Scf.iv c0_i32_856 c1_i32_858 k1_t68
  let c16_i32_1163 : BitVec 32 := 16#32
  let v801 : BitVec 32 := Scalar.muli arg9 c16_i32_1163
  let v803 : Index := Scalar.indexCast v801
  ![6, v803.toNat]
def k1_off1133 (k1_t68 : Fin k1_t68_loop.trips) : Fin 2 → Nat :=
  let c7_i32_1166 : BitVec 32 := 7#32
  let v806 : Index := Scalar.indexCast c7_i32_1166
  let c0_i32_856 : BitVec 32 := 0#32
  let c1_i32_858 : BitVec 32 := 1#32
  let arg9 : BitVec 32 := Scf.iv c0_i32_856 c1_i32_858 k1_t68
  let c16_i32_1165 : BitVec 32 := 16#32
  let v805 : BitVec 32 := Scalar.muli arg9 c16_i32_1165
  let v807 : Index := Scalar.indexCast v805
  ![7, v807.toNat]
def k1_off1134 (k1_t68 : Fin k1_t68_loop.trips) : Fin 2 → Nat :=
  let c8_i32_1168 : BitVec 32 := 8#32
  let v810 : Index := Scalar.indexCast c8_i32_1168
  let c0_i32_856 : BitVec 32 := 0#32
  let c1_i32_858 : BitVec 32 := 1#32
  let arg9 : BitVec 32 := Scf.iv c0_i32_856 c1_i32_858 k1_t68
  let c16_i32_1167 : BitVec 32 := 16#32
  let v809 : BitVec 32 := Scalar.muli arg9 c16_i32_1167
  let v811 : Index := Scalar.indexCast v809
  ![8, v811.toNat]
def k1_off1135 (k1_t68 : Fin k1_t68_loop.trips) : Fin 2 → Nat :=
  let c9_i32_1170 : BitVec 32 := 9#32
  let v814 : Index := Scalar.indexCast c9_i32_1170
  let c0_i32_856 : BitVec 32 := 0#32
  let c1_i32_858 : BitVec 32 := 1#32
  let arg9 : BitVec 32 := Scf.iv c0_i32_856 c1_i32_858 k1_t68
  let c16_i32_1169 : BitVec 32 := 16#32
  let v813 : BitVec 32 := Scalar.muli arg9 c16_i32_1169
  let v815 : Index := Scalar.indexCast v813
  ![9, v815.toNat]
def k1_off1136 (k1_t68 : Fin k1_t68_loop.trips) : Fin 2 → Nat :=
  let c10_i32_1172 : BitVec 32 := 10#32
  let v818 : Index := Scalar.indexCast c10_i32_1172
  let c0_i32_856 : BitVec 32 := 0#32
  let c1_i32_858 : BitVec 32 := 1#32
  let arg9 : BitVec 32 := Scf.iv c0_i32_856 c1_i32_858 k1_t68
  let c16_i32_1171 : BitVec 32 := 16#32
  let v817 : BitVec 32 := Scalar.muli arg9 c16_i32_1171
  let v819 : Index := Scalar.indexCast v817
  ![10, v819.toNat]
def k1_off1137 (k1_t68 : Fin k1_t68_loop.trips) : Fin 2 → Nat :=
  let c11_i32_1174 : BitVec 32 := 11#32
  let v822 : Index := Scalar.indexCast c11_i32_1174
  let c0_i32_856 : BitVec 32 := 0#32
  let c1_i32_858 : BitVec 32 := 1#32
  let arg9 : BitVec 32 := Scf.iv c0_i32_856 c1_i32_858 k1_t68
  let c16_i32_1173 : BitVec 32 := 16#32
  let v821 : BitVec 32 := Scalar.muli arg9 c16_i32_1173
  let v823 : Index := Scalar.indexCast v821
  ![11, v823.toNat]
def k1_off1138 (k1_t68 : Fin k1_t68_loop.trips) : Fin 2 → Nat :=
  let c12_i32_1176 : BitVec 32 := 12#32
  let v826 : Index := Scalar.indexCast c12_i32_1176
  let c0_i32_856 : BitVec 32 := 0#32
  let c1_i32_858 : BitVec 32 := 1#32
  let arg9 : BitVec 32 := Scf.iv c0_i32_856 c1_i32_858 k1_t68
  let c16_i32_1175 : BitVec 32 := 16#32
  let v825 : BitVec 32 := Scalar.muli arg9 c16_i32_1175
  let v827 : Index := Scalar.indexCast v825
  ![12, v827.toNat]
def k1_off1139 (k1_t68 : Fin k1_t68_loop.trips) : Fin 2 → Nat :=
  let c13_i32_1178 : BitVec 32 := 13#32
  let v830 : Index := Scalar.indexCast c13_i32_1178
  let c0_i32_856 : BitVec 32 := 0#32
  let c1_i32_858 : BitVec 32 := 1#32
  let arg9 : BitVec 32 := Scf.iv c0_i32_856 c1_i32_858 k1_t68
  let c16_i32_1177 : BitVec 32 := 16#32
  let v829 : BitVec 32 := Scalar.muli arg9 c16_i32_1177
  let v831 : Index := Scalar.indexCast v829
  ![13, v831.toNat]
def k1_off1140 (k1_t68 : Fin k1_t68_loop.trips) : Fin 2 → Nat :=
  let c14_i32_1180 : BitVec 32 := 14#32
  let v834 : Index := Scalar.indexCast c14_i32_1180
  let c0_i32_856 : BitVec 32 := 0#32
  let c1_i32_858 : BitVec 32 := 1#32
  let arg9 : BitVec 32 := Scf.iv c0_i32_856 c1_i32_858 k1_t68
  let c16_i32_1179 : BitVec 32 := 16#32
  let v833 : BitVec 32 := Scalar.muli arg9 c16_i32_1179
  let v835 : Index := Scalar.indexCast v833
  ![14, v835.toNat]
def k1_off1141 (k1_t68 : Fin k1_t68_loop.trips) : Fin 2 → Nat :=
  let c15_i32_1182 : BitVec 32 := 15#32
  let v838 : Index := Scalar.indexCast c15_i32_1182
  let c0_i32_856 : BitVec 32 := 0#32
  let c1_i32_858 : BitVec 32 := 1#32
  let arg9 : BitVec 32 := Scf.iv c0_i32_856 c1_i32_858 k1_t68
  let c16_i32_1181 : BitVec 32 := 16#32
  let v837 : BitVec 32 := Scalar.muli arg9 c16_i32_1181
  let v839 : Index := Scalar.indexCast v837
  ![15, v839.toNat]

def k1_chk1057 (v780 : IVec S16 32) : Prop :=
  (∀ a x, ((![v780] : Fin 1 → IVec S16 32) a x).toNat < S88320.size a)
theorem k1_idx1057_inb : ∀ (v780 : IVec S16 32) (k1_hw1057 : k1_chk1057 v780), ∀ a x, ((![v780] : Fin 1 → IVec S16 32) a x).toNat < S88320.size a := fun v780 k1_hw1057 => k1_hw1057

def k1_chk1058 (v784 : IVec S16 32) : Prop :=
  (∀ a x, ((![v784] : Fin 1 → IVec S16 32) a x).toNat < S88320.size a)
theorem k1_idx1058_inb : ∀ (v784 : IVec S16 32) (k1_hw1058 : k1_chk1058 v784), ∀ a x, ((![v784] : Fin 1 → IVec S16 32) a x).toNat < S88320.size a := fun v784 k1_hw1058 => k1_hw1058

def k1_chk1059 (v788 : IVec S16 32) : Prop :=
  (∀ a x, ((![v788] : Fin 1 → IVec S16 32) a x).toNat < S88320.size a)
theorem k1_idx1059_inb : ∀ (v788 : IVec S16 32) (k1_hw1059 : k1_chk1059 v788), ∀ a x, ((![v788] : Fin 1 → IVec S16 32) a x).toNat < S88320.size a := fun v788 k1_hw1059 => k1_hw1059

def k1_chk1060 (v792 : IVec S16 32) : Prop :=
  (∀ a x, ((![v792] : Fin 1 → IVec S16 32) a x).toNat < S88320.size a)
theorem k1_idx1060_inb : ∀ (v792 : IVec S16 32) (k1_hw1060 : k1_chk1060 v792), ∀ a x, ((![v792] : Fin 1 → IVec S16 32) a x).toNat < S88320.size a := fun v792 k1_hw1060 => k1_hw1060

def k1_chk1061 (v796 : IVec S16 32) : Prop :=
  (∀ a x, ((![v796] : Fin 1 → IVec S16 32) a x).toNat < S88320.size a)
theorem k1_idx1061_inb : ∀ (v796 : IVec S16 32) (k1_hw1061 : k1_chk1061 v796), ∀ a x, ((![v796] : Fin 1 → IVec S16 32) a x).toNat < S88320.size a := fun v796 k1_hw1061 => k1_hw1061

def k1_chk1062 (v800 : IVec S16 32) : Prop :=
  (∀ a x, ((![v800] : Fin 1 → IVec S16 32) a x).toNat < S88320.size a)
theorem k1_idx1062_inb : ∀ (v800 : IVec S16 32) (k1_hw1062 : k1_chk1062 v800), ∀ a x, ((![v800] : Fin 1 → IVec S16 32) a x).toNat < S88320.size a := fun v800 k1_hw1062 => k1_hw1062

def k1_chk1063 (v804 : IVec S16 32) : Prop :=
  (∀ a x, ((![v804] : Fin 1 → IVec S16 32) a x).toNat < S88320.size a)
theorem k1_idx1063_inb : ∀ (v804 : IVec S16 32) (k1_hw1063 : k1_chk1063 v804), ∀ a x, ((![v804] : Fin 1 → IVec S16 32) a x).toNat < S88320.size a := fun v804 k1_hw1063 => k1_hw1063

def k1_chk1064 (v808 : IVec S16 32) : Prop :=
  (∀ a x, ((![v808] : Fin 1 → IVec S16 32) a x).toNat < S88320.size a)
theorem k1_idx1064_inb : ∀ (v808 : IVec S16 32) (k1_hw1064 : k1_chk1064 v808), ∀ a x, ((![v808] : Fin 1 → IVec S16 32) a x).toNat < S88320.size a := fun v808 k1_hw1064 => k1_hw1064

def k1_chk1065 (v812 : IVec S16 32) : Prop :=
  (∀ a x, ((![v812] : Fin 1 → IVec S16 32) a x).toNat < S88320.size a)
theorem k1_idx1065_inb : ∀ (v812 : IVec S16 32) (k1_hw1065 : k1_chk1065 v812), ∀ a x, ((![v812] : Fin 1 → IVec S16 32) a x).toNat < S88320.size a := fun v812 k1_hw1065 => k1_hw1065

def k1_chk1066 (v816 : IVec S16 32) : Prop :=
  (∀ a x, ((![v816] : Fin 1 → IVec S16 32) a x).toNat < S88320.size a)
theorem k1_idx1066_inb : ∀ (v816 : IVec S16 32) (k1_hw1066 : k1_chk1066 v816), ∀ a x, ((![v816] : Fin 1 → IVec S16 32) a x).toNat < S88320.size a := fun v816 k1_hw1066 => k1_hw1066

def k1_chk1067 (v820 : IVec S16 32) : Prop :=
  (∀ a x, ((![v820] : Fin 1 → IVec S16 32) a x).toNat < S88320.size a)
theorem k1_idx1067_inb : ∀ (v820 : IVec S16 32) (k1_hw1067 : k1_chk1067 v820), ∀ a x, ((![v820] : Fin 1 → IVec S16 32) a x).toNat < S88320.size a := fun v820 k1_hw1067 => k1_hw1067

def k1_chk1068 (v824 : IVec S16 32) : Prop :=
  (∀ a x, ((![v824] : Fin 1 → IVec S16 32) a x).toNat < S88320.size a)
theorem k1_idx1068_inb : ∀ (v824 : IVec S16 32) (k1_hw1068 : k1_chk1068 v824), ∀ a x, ((![v824] : Fin 1 → IVec S16 32) a x).toNat < S88320.size a := fun v824 k1_hw1068 => k1_hw1068

def k1_chk1069 (v828 : IVec S16 32) : Prop :=
  (∀ a x, ((![v828] : Fin 1 → IVec S16 32) a x).toNat < S88320.size a)
theorem k1_idx1069_inb : ∀ (v828 : IVec S16 32) (k1_hw1069 : k1_chk1069 v828), ∀ a x, ((![v828] : Fin 1 → IVec S16 32) a x).toNat < S88320.size a := fun v828 k1_hw1069 => k1_hw1069

def k1_chk1070 (v832 : IVec S16 32) : Prop :=
  (∀ a x, ((![v832] : Fin 1 → IVec S16 32) a x).toNat < S88320.size a)
theorem k1_idx1070_inb : ∀ (v832 : IVec S16 32) (k1_hw1070 : k1_chk1070 v832), ∀ a x, ((![v832] : Fin 1 → IVec S16 32) a x).toNat < S88320.size a := fun v832 k1_hw1070 => k1_hw1070

def k1_chk1071 (v836 : IVec S16 32) : Prop :=
  (∀ a x, ((![v836] : Fin 1 → IVec S16 32) a x).toNat < S88320.size a)
theorem k1_idx1071_inb : ∀ (v836 : IVec S16 32) (k1_hw1071 : k1_chk1071 v836), ∀ a x, ((![v836] : Fin 1 → IVec S16 32) a x).toNat < S88320.size a := fun v836 k1_hw1071 => k1_hw1071

def k1_chk1072 (v840 : IVec S16 32) : Prop :=
  (∀ a x, ((![v840] : Fin 1 → IVec S16 32) a x).toNat < S88320.size a)
theorem k1_idx1072_inb : ∀ (v840 : IVec S16 32) (k1_hw1072 : k1_chk1072 v840), ∀ a x, ((![v840] : Fin 1 → IVec S16 32) a x).toNat < S88320.size a := fun v840 k1_hw1072 => k1_hw1072
def k1_off1142 (i : grid1.Coords) : Fin 4 → Nat :=
  let c3_i32_860 : BitVec 32 := 3#32
  let c5_i32_861 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_862 : BitVec 32 := 0#32
  ![3, 5, v2.toNat, 0]
@[reducible] def k1_t69_loop : Scf.Loop 32 :=
  let c0_i32_869 : BitVec 32 := 0#32
  let c32_i32_870 : BitVec 32 := 32#32
  let v621 : BitVec 32 := Scalar.addi c0_i32_869 c32_i32_870
  let c1_i32_871 : BitVec 32 := 1#32
  ⟨c0_i32_869, v621, c1_i32_871⟩
def k1_off1143 (k1_t69 : Fin k1_t69_loop.trips) : Fin 2 → Nat :=
  let c0_i32_1152 : BitVec 32 := 0#32
  let v778 : Index := Scalar.indexCast c0_i32_1152
  let c0_i32_869 : BitVec 32 := 0#32
  let c1_i32_871 : BitVec 32 := 1#32
  let arg9 : BitVec 32 := Scf.iv c0_i32_869 c1_i32_871 k1_t69
  let c16_i32_1151 : BitVec 32 := 16#32
  let v777 : BitVec 32 := Scalar.muli arg9 c16_i32_1151
  let v779 : Index := Scalar.indexCast v777
  ![0, v779.toNat]
def k1_off1144 (k1_t69 : Fin k1_t69_loop.trips) : Fin 2 → Nat :=
  let c1_i32_1154 : BitVec 32 := 1#32
  let v782 : Index := Scalar.indexCast c1_i32_1154
  let c0_i32_869 : BitVec 32 := 0#32
  let c1_i32_871 : BitVec 32 := 1#32
  let arg9 : BitVec 32 := Scf.iv c0_i32_869 c1_i32_871 k1_t69
  let c16_i32_1153 : BitVec 32 := 16#32
  let v781 : BitVec 32 := Scalar.muli arg9 c16_i32_1153
  let v783 : Index := Scalar.indexCast v781
  ![1, v783.toNat]
def k1_off1145 (k1_t69 : Fin k1_t69_loop.trips) : Fin 2 → Nat :=
  let c2_i32_1156 : BitVec 32 := 2#32
  let v786 : Index := Scalar.indexCast c2_i32_1156
  let c0_i32_869 : BitVec 32 := 0#32
  let c1_i32_871 : BitVec 32 := 1#32
  let arg9 : BitVec 32 := Scf.iv c0_i32_869 c1_i32_871 k1_t69
  let c16_i32_1155 : BitVec 32 := 16#32
  let v785 : BitVec 32 := Scalar.muli arg9 c16_i32_1155
  let v787 : Index := Scalar.indexCast v785
  ![2, v787.toNat]
def k1_off1146 (k1_t69 : Fin k1_t69_loop.trips) : Fin 2 → Nat :=
  let c3_i32_1158 : BitVec 32 := 3#32
  let v790 : Index := Scalar.indexCast c3_i32_1158
  let c0_i32_869 : BitVec 32 := 0#32
  let c1_i32_871 : BitVec 32 := 1#32
  let arg9 : BitVec 32 := Scf.iv c0_i32_869 c1_i32_871 k1_t69
  let c16_i32_1157 : BitVec 32 := 16#32
  let v789 : BitVec 32 := Scalar.muli arg9 c16_i32_1157
  let v791 : Index := Scalar.indexCast v789
  ![3, v791.toNat]
def k1_off1147 (k1_t69 : Fin k1_t69_loop.trips) : Fin 2 → Nat :=
  let c4_i32_1160 : BitVec 32 := 4#32
  let v794 : Index := Scalar.indexCast c4_i32_1160
  let c0_i32_869 : BitVec 32 := 0#32
  let c1_i32_871 : BitVec 32 := 1#32
  let arg9 : BitVec 32 := Scf.iv c0_i32_869 c1_i32_871 k1_t69
  let c16_i32_1159 : BitVec 32 := 16#32
  let v793 : BitVec 32 := Scalar.muli arg9 c16_i32_1159
  let v795 : Index := Scalar.indexCast v793
  ![4, v795.toNat]
def k1_off1148 (k1_t69 : Fin k1_t69_loop.trips) : Fin 2 → Nat :=
  let c5_i32_1162 : BitVec 32 := 5#32
  let v798 : Index := Scalar.indexCast c5_i32_1162
  let c0_i32_869 : BitVec 32 := 0#32
  let c1_i32_871 : BitVec 32 := 1#32
  let arg9 : BitVec 32 := Scf.iv c0_i32_869 c1_i32_871 k1_t69
  let c16_i32_1161 : BitVec 32 := 16#32
  let v797 : BitVec 32 := Scalar.muli arg9 c16_i32_1161
  let v799 : Index := Scalar.indexCast v797
  ![5, v799.toNat]
def k1_off1149 (k1_t69 : Fin k1_t69_loop.trips) : Fin 2 → Nat :=
  let c6_i32_1164 : BitVec 32 := 6#32
  let v802 : Index := Scalar.indexCast c6_i32_1164
  let c0_i32_869 : BitVec 32 := 0#32
  let c1_i32_871 : BitVec 32 := 1#32
  let arg9 : BitVec 32 := Scf.iv c0_i32_869 c1_i32_871 k1_t69
  let c16_i32_1163 : BitVec 32 := 16#32
  let v801 : BitVec 32 := Scalar.muli arg9 c16_i32_1163
  let v803 : Index := Scalar.indexCast v801
  ![6, v803.toNat]
def k1_off1150 (k1_t69 : Fin k1_t69_loop.trips) : Fin 2 → Nat :=
  let c7_i32_1166 : BitVec 32 := 7#32
  let v806 : Index := Scalar.indexCast c7_i32_1166
  let c0_i32_869 : BitVec 32 := 0#32
  let c1_i32_871 : BitVec 32 := 1#32
  let arg9 : BitVec 32 := Scf.iv c0_i32_869 c1_i32_871 k1_t69
  let c16_i32_1165 : BitVec 32 := 16#32
  let v805 : BitVec 32 := Scalar.muli arg9 c16_i32_1165
  let v807 : Index := Scalar.indexCast v805
  ![7, v807.toNat]
def k1_off1151 (k1_t69 : Fin k1_t69_loop.trips) : Fin 2 → Nat :=
  let c8_i32_1168 : BitVec 32 := 8#32
  let v810 : Index := Scalar.indexCast c8_i32_1168
  let c0_i32_869 : BitVec 32 := 0#32
  let c1_i32_871 : BitVec 32 := 1#32
  let arg9 : BitVec 32 := Scf.iv c0_i32_869 c1_i32_871 k1_t69
  let c16_i32_1167 : BitVec 32 := 16#32
  let v809 : BitVec 32 := Scalar.muli arg9 c16_i32_1167
  let v811 : Index := Scalar.indexCast v809
  ![8, v811.toNat]
def k1_off1152 (k1_t69 : Fin k1_t69_loop.trips) : Fin 2 → Nat :=
  let c9_i32_1170 : BitVec 32 := 9#32
  let v814 : Index := Scalar.indexCast c9_i32_1170
  let c0_i32_869 : BitVec 32 := 0#32
  let c1_i32_871 : BitVec 32 := 1#32
  let arg9 : BitVec 32 := Scf.iv c0_i32_869 c1_i32_871 k1_t69
  let c16_i32_1169 : BitVec 32 := 16#32
  let v813 : BitVec 32 := Scalar.muli arg9 c16_i32_1169
  let v815 : Index := Scalar.indexCast v813
  ![9, v815.toNat]
def k1_off1153 (k1_t69 : Fin k1_t69_loop.trips) : Fin 2 → Nat :=
  let c10_i32_1172 : BitVec 32 := 10#32
  let v818 : Index := Scalar.indexCast c10_i32_1172
  let c0_i32_869 : BitVec 32 := 0#32
  let c1_i32_871 : BitVec 32 := 1#32
  let arg9 : BitVec 32 := Scf.iv c0_i32_869 c1_i32_871 k1_t69
  let c16_i32_1171 : BitVec 32 := 16#32
  let v817 : BitVec 32 := Scalar.muli arg9 c16_i32_1171
  let v819 : Index := Scalar.indexCast v817
  ![10, v819.toNat]
def k1_off1154 (k1_t69 : Fin k1_t69_loop.trips) : Fin 2 → Nat :=
  let c11_i32_1174 : BitVec 32 := 11#32
  let v822 : Index := Scalar.indexCast c11_i32_1174
  let c0_i32_869 : BitVec 32 := 0#32
  let c1_i32_871 : BitVec 32 := 1#32
  let arg9 : BitVec 32 := Scf.iv c0_i32_869 c1_i32_871 k1_t69
  let c16_i32_1173 : BitVec 32 := 16#32
  let v821 : BitVec 32 := Scalar.muli arg9 c16_i32_1173
  let v823 : Index := Scalar.indexCast v821
  ![11, v823.toNat]
def k1_off1155 (k1_t69 : Fin k1_t69_loop.trips) : Fin 2 → Nat :=
  let c12_i32_1176 : BitVec 32 := 12#32
  let v826 : Index := Scalar.indexCast c12_i32_1176
  let c0_i32_869 : BitVec 32 := 0#32
  let c1_i32_871 : BitVec 32 := 1#32
  let arg9 : BitVec 32 := Scf.iv c0_i32_869 c1_i32_871 k1_t69
  let c16_i32_1175 : BitVec 32 := 16#32
  let v825 : BitVec 32 := Scalar.muli arg9 c16_i32_1175
  let v827 : Index := Scalar.indexCast v825
  ![12, v827.toNat]
def k1_off1156 (k1_t69 : Fin k1_t69_loop.trips) : Fin 2 → Nat :=
  let c13_i32_1178 : BitVec 32 := 13#32
  let v830 : Index := Scalar.indexCast c13_i32_1178
  let c0_i32_869 : BitVec 32 := 0#32
  let c1_i32_871 : BitVec 32 := 1#32
  let arg9 : BitVec 32 := Scf.iv c0_i32_869 c1_i32_871 k1_t69
  let c16_i32_1177 : BitVec 32 := 16#32
  let v829 : BitVec 32 := Scalar.muli arg9 c16_i32_1177
  let v831 : Index := Scalar.indexCast v829
  ![13, v831.toNat]
def k1_off1157 (k1_t69 : Fin k1_t69_loop.trips) : Fin 2 → Nat :=
  let c14_i32_1180 : BitVec 32 := 14#32
  let v834 : Index := Scalar.indexCast c14_i32_1180
  let c0_i32_869 : BitVec 32 := 0#32
  let c1_i32_871 : BitVec 32 := 1#32
  let arg9 : BitVec 32 := Scf.iv c0_i32_869 c1_i32_871 k1_t69
  let c16_i32_1179 : BitVec 32 := 16#32
  let v833 : BitVec 32 := Scalar.muli arg9 c16_i32_1179
  let v835 : Index := Scalar.indexCast v833
  ![14, v835.toNat]
def k1_off1158 (k1_t69 : Fin k1_t69_loop.trips) : Fin 2 → Nat :=
  let c15_i32_1182 : BitVec 32 := 15#32
  let v838 : Index := Scalar.indexCast c15_i32_1182
  let c0_i32_869 : BitVec 32 := 0#32
  let c1_i32_871 : BitVec 32 := 1#32
  let arg9 : BitVec 32 := Scf.iv c0_i32_869 c1_i32_871 k1_t69
  let c16_i32_1181 : BitVec 32 := 16#32
  let v837 : BitVec 32 := Scalar.muli arg9 c16_i32_1181
  let v839 : Index := Scalar.indexCast v837
  ![15, v839.toNat]

def k1_chk1073 (v780 : IVec S16 32) : Prop :=
  (∀ a x, ((![v780] : Fin 1 → IVec S16 32) a x).toNat < S88320.size a)
theorem k1_idx1073_inb : ∀ (v780 : IVec S16 32) (k1_hw1073 : k1_chk1073 v780), ∀ a x, ((![v780] : Fin 1 → IVec S16 32) a x).toNat < S88320.size a := fun v780 k1_hw1073 => k1_hw1073

def k1_chk1074 (v784 : IVec S16 32) : Prop :=
  (∀ a x, ((![v784] : Fin 1 → IVec S16 32) a x).toNat < S88320.size a)
theorem k1_idx1074_inb : ∀ (v784 : IVec S16 32) (k1_hw1074 : k1_chk1074 v784), ∀ a x, ((![v784] : Fin 1 → IVec S16 32) a x).toNat < S88320.size a := fun v784 k1_hw1074 => k1_hw1074

def k1_chk1075 (v788 : IVec S16 32) : Prop :=
  (∀ a x, ((![v788] : Fin 1 → IVec S16 32) a x).toNat < S88320.size a)
theorem k1_idx1075_inb : ∀ (v788 : IVec S16 32) (k1_hw1075 : k1_chk1075 v788), ∀ a x, ((![v788] : Fin 1 → IVec S16 32) a x).toNat < S88320.size a := fun v788 k1_hw1075 => k1_hw1075

def k1_chk1076 (v792 : IVec S16 32) : Prop :=
  (∀ a x, ((![v792] : Fin 1 → IVec S16 32) a x).toNat < S88320.size a)
theorem k1_idx1076_inb : ∀ (v792 : IVec S16 32) (k1_hw1076 : k1_chk1076 v792), ∀ a x, ((![v792] : Fin 1 → IVec S16 32) a x).toNat < S88320.size a := fun v792 k1_hw1076 => k1_hw1076

def k1_chk1077 (v796 : IVec S16 32) : Prop :=
  (∀ a x, ((![v796] : Fin 1 → IVec S16 32) a x).toNat < S88320.size a)
theorem k1_idx1077_inb : ∀ (v796 : IVec S16 32) (k1_hw1077 : k1_chk1077 v796), ∀ a x, ((![v796] : Fin 1 → IVec S16 32) a x).toNat < S88320.size a := fun v796 k1_hw1077 => k1_hw1077

def k1_chk1078 (v800 : IVec S16 32) : Prop :=
  (∀ a x, ((![v800] : Fin 1 → IVec S16 32) a x).toNat < S88320.size a)
theorem k1_idx1078_inb : ∀ (v800 : IVec S16 32) (k1_hw1078 : k1_chk1078 v800), ∀ a x, ((![v800] : Fin 1 → IVec S16 32) a x).toNat < S88320.size a := fun v800 k1_hw1078 => k1_hw1078

def k1_chk1079 (v804 : IVec S16 32) : Prop :=
  (∀ a x, ((![v804] : Fin 1 → IVec S16 32) a x).toNat < S88320.size a)
theorem k1_idx1079_inb : ∀ (v804 : IVec S16 32) (k1_hw1079 : k1_chk1079 v804), ∀ a x, ((![v804] : Fin 1 → IVec S16 32) a x).toNat < S88320.size a := fun v804 k1_hw1079 => k1_hw1079

def k1_chk1080 (v808 : IVec S16 32) : Prop :=
  (∀ a x, ((![v808] : Fin 1 → IVec S16 32) a x).toNat < S88320.size a)
theorem k1_idx1080_inb : ∀ (v808 : IVec S16 32) (k1_hw1080 : k1_chk1080 v808), ∀ a x, ((![v808] : Fin 1 → IVec S16 32) a x).toNat < S88320.size a := fun v808 k1_hw1080 => k1_hw1080

def k1_chk1081 (v812 : IVec S16 32) : Prop :=
  (∀ a x, ((![v812] : Fin 1 → IVec S16 32) a x).toNat < S88320.size a)
theorem k1_idx1081_inb : ∀ (v812 : IVec S16 32) (k1_hw1081 : k1_chk1081 v812), ∀ a x, ((![v812] : Fin 1 → IVec S16 32) a x).toNat < S88320.size a := fun v812 k1_hw1081 => k1_hw1081

def k1_chk1082 (v816 : IVec S16 32) : Prop :=
  (∀ a x, ((![v816] : Fin 1 → IVec S16 32) a x).toNat < S88320.size a)
theorem k1_idx1082_inb : ∀ (v816 : IVec S16 32) (k1_hw1082 : k1_chk1082 v816), ∀ a x, ((![v816] : Fin 1 → IVec S16 32) a x).toNat < S88320.size a := fun v816 k1_hw1082 => k1_hw1082

def k1_chk1083 (v820 : IVec S16 32) : Prop :=
  (∀ a x, ((![v820] : Fin 1 → IVec S16 32) a x).toNat < S88320.size a)
theorem k1_idx1083_inb : ∀ (v820 : IVec S16 32) (k1_hw1083 : k1_chk1083 v820), ∀ a x, ((![v820] : Fin 1 → IVec S16 32) a x).toNat < S88320.size a := fun v820 k1_hw1083 => k1_hw1083

def k1_chk1084 (v824 : IVec S16 32) : Prop :=
  (∀ a x, ((![v824] : Fin 1 → IVec S16 32) a x).toNat < S88320.size a)
theorem k1_idx1084_inb : ∀ (v824 : IVec S16 32) (k1_hw1084 : k1_chk1084 v824), ∀ a x, ((![v824] : Fin 1 → IVec S16 32) a x).toNat < S88320.size a := fun v824 k1_hw1084 => k1_hw1084

def k1_chk1085 (v828 : IVec S16 32) : Prop :=
  (∀ a x, ((![v828] : Fin 1 → IVec S16 32) a x).toNat < S88320.size a)
theorem k1_idx1085_inb : ∀ (v828 : IVec S16 32) (k1_hw1085 : k1_chk1085 v828), ∀ a x, ((![v828] : Fin 1 → IVec S16 32) a x).toNat < S88320.size a := fun v828 k1_hw1085 => k1_hw1085

def k1_chk1086 (v832 : IVec S16 32) : Prop :=
  (∀ a x, ((![v832] : Fin 1 → IVec S16 32) a x).toNat < S88320.size a)
theorem k1_idx1086_inb : ∀ (v832 : IVec S16 32) (k1_hw1086 : k1_chk1086 v832), ∀ a x, ((![v832] : Fin 1 → IVec S16 32) a x).toNat < S88320.size a := fun v832 k1_hw1086 => k1_hw1086

def k1_chk1087 (v836 : IVec S16 32) : Prop :=
  (∀ a x, ((![v836] : Fin 1 → IVec S16 32) a x).toNat < S88320.size a)
theorem k1_idx1087_inb : ∀ (v836 : IVec S16 32) (k1_hw1087 : k1_chk1087 v836), ∀ a x, ((![v836] : Fin 1 → IVec S16 32) a x).toNat < S88320.size a := fun v836 k1_hw1087 => k1_hw1087

def k1_chk1088 (v840 : IVec S16 32) : Prop :=
  (∀ a x, ((![v840] : Fin 1 → IVec S16 32) a x).toNat < S88320.size a)
theorem k1_idx1088_inb : ∀ (v840 : IVec S16 32) (k1_hw1088 : k1_chk1088 v840), ∀ a x, ((![v840] : Fin 1 → IVec S16 32) a x).toNat < S88320.size a := fun v840 k1_hw1088 => k1_hw1088
def k1_off1159 (i : grid1.Coords) : Fin 4 → Nat :=
  let c3_i32_873 : BitVec 32 := 3#32
  let c6_i32_874 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_875 : BitVec 32 := 0#32
  ![3, 6, v2.toNat, 0]
@[reducible] def k1_t70_loop : Scf.Loop 32 :=
  let c0_i32_882 : BitVec 32 := 0#32
  let c32_i32_883 : BitVec 32 := 32#32
  let v630 : BitVec 32 := Scalar.addi c0_i32_882 c32_i32_883
  let c1_i32_884 : BitVec 32 := 1#32
  ⟨c0_i32_882, v630, c1_i32_884⟩
def k1_off1160 (k1_t70 : Fin k1_t70_loop.trips) : Fin 2 → Nat :=
  let c0_i32_1152 : BitVec 32 := 0#32
  let v778 : Index := Scalar.indexCast c0_i32_1152
  let c0_i32_882 : BitVec 32 := 0#32
  let c1_i32_884 : BitVec 32 := 1#32
  let arg9 : BitVec 32 := Scf.iv c0_i32_882 c1_i32_884 k1_t70
  let c16_i32_1151 : BitVec 32 := 16#32
  let v777 : BitVec 32 := Scalar.muli arg9 c16_i32_1151
  let v779 : Index := Scalar.indexCast v777
  ![0, v779.toNat]
def k1_off1161 (k1_t70 : Fin k1_t70_loop.trips) : Fin 2 → Nat :=
  let c1_i32_1154 : BitVec 32 := 1#32
  let v782 : Index := Scalar.indexCast c1_i32_1154
  let c0_i32_882 : BitVec 32 := 0#32
  let c1_i32_884 : BitVec 32 := 1#32
  let arg9 : BitVec 32 := Scf.iv c0_i32_882 c1_i32_884 k1_t70
  let c16_i32_1153 : BitVec 32 := 16#32
  let v781 : BitVec 32 := Scalar.muli arg9 c16_i32_1153
  let v783 : Index := Scalar.indexCast v781
  ![1, v783.toNat]
def k1_off1162 (k1_t70 : Fin k1_t70_loop.trips) : Fin 2 → Nat :=
  let c2_i32_1156 : BitVec 32 := 2#32
  let v786 : Index := Scalar.indexCast c2_i32_1156
  let c0_i32_882 : BitVec 32 := 0#32
  let c1_i32_884 : BitVec 32 := 1#32
  let arg9 : BitVec 32 := Scf.iv c0_i32_882 c1_i32_884 k1_t70
  let c16_i32_1155 : BitVec 32 := 16#32
  let v785 : BitVec 32 := Scalar.muli arg9 c16_i32_1155
  let v787 : Index := Scalar.indexCast v785
  ![2, v787.toNat]
def k1_off1163 (k1_t70 : Fin k1_t70_loop.trips) : Fin 2 → Nat :=
  let c3_i32_1158 : BitVec 32 := 3#32
  let v790 : Index := Scalar.indexCast c3_i32_1158
  let c0_i32_882 : BitVec 32 := 0#32
  let c1_i32_884 : BitVec 32 := 1#32
  let arg9 : BitVec 32 := Scf.iv c0_i32_882 c1_i32_884 k1_t70
  let c16_i32_1157 : BitVec 32 := 16#32
  let v789 : BitVec 32 := Scalar.muli arg9 c16_i32_1157
  let v791 : Index := Scalar.indexCast v789
  ![3, v791.toNat]
def k1_off1164 (k1_t70 : Fin k1_t70_loop.trips) : Fin 2 → Nat :=
  let c4_i32_1160 : BitVec 32 := 4#32
  let v794 : Index := Scalar.indexCast c4_i32_1160
  let c0_i32_882 : BitVec 32 := 0#32
  let c1_i32_884 : BitVec 32 := 1#32
  let arg9 : BitVec 32 := Scf.iv c0_i32_882 c1_i32_884 k1_t70
  let c16_i32_1159 : BitVec 32 := 16#32
  let v793 : BitVec 32 := Scalar.muli arg9 c16_i32_1159
  let v795 : Index := Scalar.indexCast v793
  ![4, v795.toNat]
def k1_off1165 (k1_t70 : Fin k1_t70_loop.trips) : Fin 2 → Nat :=
  let c5_i32_1162 : BitVec 32 := 5#32
  let v798 : Index := Scalar.indexCast c5_i32_1162
  let c0_i32_882 : BitVec 32 := 0#32
  let c1_i32_884 : BitVec 32 := 1#32
  let arg9 : BitVec 32 := Scf.iv c0_i32_882 c1_i32_884 k1_t70
  let c16_i32_1161 : BitVec 32 := 16#32
  let v797 : BitVec 32 := Scalar.muli arg9 c16_i32_1161
  let v799 : Index := Scalar.indexCast v797
  ![5, v799.toNat]
def k1_off1166 (k1_t70 : Fin k1_t70_loop.trips) : Fin 2 → Nat :=
  let c6_i32_1164 : BitVec 32 := 6#32
  let v802 : Index := Scalar.indexCast c6_i32_1164
  let c0_i32_882 : BitVec 32 := 0#32
  let c1_i32_884 : BitVec 32 := 1#32
  let arg9 : BitVec 32 := Scf.iv c0_i32_882 c1_i32_884 k1_t70
  let c16_i32_1163 : BitVec 32 := 16#32
  let v801 : BitVec 32 := Scalar.muli arg9 c16_i32_1163
  let v803 : Index := Scalar.indexCast v801
  ![6, v803.toNat]
def k1_off1167 (k1_t70 : Fin k1_t70_loop.trips) : Fin 2 → Nat :=
  let c7_i32_1166 : BitVec 32 := 7#32
  let v806 : Index := Scalar.indexCast c7_i32_1166
  let c0_i32_882 : BitVec 32 := 0#32
  let c1_i32_884 : BitVec 32 := 1#32
  let arg9 : BitVec 32 := Scf.iv c0_i32_882 c1_i32_884 k1_t70
  let c16_i32_1165 : BitVec 32 := 16#32
  let v805 : BitVec 32 := Scalar.muli arg9 c16_i32_1165
  let v807 : Index := Scalar.indexCast v805
  ![7, v807.toNat]
def k1_off1168 (k1_t70 : Fin k1_t70_loop.trips) : Fin 2 → Nat :=
  let c8_i32_1168 : BitVec 32 := 8#32
  let v810 : Index := Scalar.indexCast c8_i32_1168
  let c0_i32_882 : BitVec 32 := 0#32
  let c1_i32_884 : BitVec 32 := 1#32
  let arg9 : BitVec 32 := Scf.iv c0_i32_882 c1_i32_884 k1_t70
  let c16_i32_1167 : BitVec 32 := 16#32
  let v809 : BitVec 32 := Scalar.muli arg9 c16_i32_1167
  let v811 : Index := Scalar.indexCast v809
  ![8, v811.toNat]
def k1_off1169 (k1_t70 : Fin k1_t70_loop.trips) : Fin 2 → Nat :=
  let c9_i32_1170 : BitVec 32 := 9#32
  let v814 : Index := Scalar.indexCast c9_i32_1170
  let c0_i32_882 : BitVec 32 := 0#32
  let c1_i32_884 : BitVec 32 := 1#32
  let arg9 : BitVec 32 := Scf.iv c0_i32_882 c1_i32_884 k1_t70
  let c16_i32_1169 : BitVec 32 := 16#32
  let v813 : BitVec 32 := Scalar.muli arg9 c16_i32_1169
  let v815 : Index := Scalar.indexCast v813
  ![9, v815.toNat]
def k1_off1170 (k1_t70 : Fin k1_t70_loop.trips) : Fin 2 → Nat :=
  let c10_i32_1172 : BitVec 32 := 10#32
  let v818 : Index := Scalar.indexCast c10_i32_1172
  let c0_i32_882 : BitVec 32 := 0#32
  let c1_i32_884 : BitVec 32 := 1#32
  let arg9 : BitVec 32 := Scf.iv c0_i32_882 c1_i32_884 k1_t70
  let c16_i32_1171 : BitVec 32 := 16#32
  let v817 : BitVec 32 := Scalar.muli arg9 c16_i32_1171
  let v819 : Index := Scalar.indexCast v817
  ![10, v819.toNat]
def k1_off1171 (k1_t70 : Fin k1_t70_loop.trips) : Fin 2 → Nat :=
  let c11_i32_1174 : BitVec 32 := 11#32
  let v822 : Index := Scalar.indexCast c11_i32_1174
  let c0_i32_882 : BitVec 32 := 0#32
  let c1_i32_884 : BitVec 32 := 1#32
  let arg9 : BitVec 32 := Scf.iv c0_i32_882 c1_i32_884 k1_t70
  let c16_i32_1173 : BitVec 32 := 16#32
  let v821 : BitVec 32 := Scalar.muli arg9 c16_i32_1173
  let v823 : Index := Scalar.indexCast v821
  ![11, v823.toNat]
def k1_off1172 (k1_t70 : Fin k1_t70_loop.trips) : Fin 2 → Nat :=
  let c12_i32_1176 : BitVec 32 := 12#32
  let v826 : Index := Scalar.indexCast c12_i32_1176
  let c0_i32_882 : BitVec 32 := 0#32
  let c1_i32_884 : BitVec 32 := 1#32
  let arg9 : BitVec 32 := Scf.iv c0_i32_882 c1_i32_884 k1_t70
  let c16_i32_1175 : BitVec 32 := 16#32
  let v825 : BitVec 32 := Scalar.muli arg9 c16_i32_1175
  let v827 : Index := Scalar.indexCast v825
  ![12, v827.toNat]
def k1_off1173 (k1_t70 : Fin k1_t70_loop.trips) : Fin 2 → Nat :=
  let c13_i32_1178 : BitVec 32 := 13#32
  let v830 : Index := Scalar.indexCast c13_i32_1178
  let c0_i32_882 : BitVec 32 := 0#32
  let c1_i32_884 : BitVec 32 := 1#32
  let arg9 : BitVec 32 := Scf.iv c0_i32_882 c1_i32_884 k1_t70
  let c16_i32_1177 : BitVec 32 := 16#32
  let v829 : BitVec 32 := Scalar.muli arg9 c16_i32_1177
  let v831 : Index := Scalar.indexCast v829
  ![13, v831.toNat]
def k1_off1174 (k1_t70 : Fin k1_t70_loop.trips) : Fin 2 → Nat :=
  let c14_i32_1180 : BitVec 32 := 14#32
  let v834 : Index := Scalar.indexCast c14_i32_1180
  let c0_i32_882 : BitVec 32 := 0#32
  let c1_i32_884 : BitVec 32 := 1#32
  let arg9 : BitVec 32 := Scf.iv c0_i32_882 c1_i32_884 k1_t70
  let c16_i32_1179 : BitVec 32 := 16#32
  let v833 : BitVec 32 := Scalar.muli arg9 c16_i32_1179
  let v835 : Index := Scalar.indexCast v833
  ![14, v835.toNat]
def k1_off1175 (k1_t70 : Fin k1_t70_loop.trips) : Fin 2 → Nat :=
  let c15_i32_1182 : BitVec 32 := 15#32
  let v838 : Index := Scalar.indexCast c15_i32_1182
  let c0_i32_882 : BitVec 32 := 0#32
  let c1_i32_884 : BitVec 32 := 1#32
  let arg9 : BitVec 32 := Scf.iv c0_i32_882 c1_i32_884 k1_t70
  let c16_i32_1181 : BitVec 32 := 16#32
  let v837 : BitVec 32 := Scalar.muli arg9 c16_i32_1181
  let v839 : Index := Scalar.indexCast v837
  ![15, v839.toNat]

def k1_chk1089 (v780 : IVec S16 32) : Prop :=
  (∀ a x, ((![v780] : Fin 1 → IVec S16 32) a x).toNat < S88320.size a)
theorem k1_idx1089_inb : ∀ (v780 : IVec S16 32) (k1_hw1089 : k1_chk1089 v780), ∀ a x, ((![v780] : Fin 1 → IVec S16 32) a x).toNat < S88320.size a := fun v780 k1_hw1089 => k1_hw1089

def k1_chk1090 (v784 : IVec S16 32) : Prop :=
  (∀ a x, ((![v784] : Fin 1 → IVec S16 32) a x).toNat < S88320.size a)
theorem k1_idx1090_inb : ∀ (v784 : IVec S16 32) (k1_hw1090 : k1_chk1090 v784), ∀ a x, ((![v784] : Fin 1 → IVec S16 32) a x).toNat < S88320.size a := fun v784 k1_hw1090 => k1_hw1090

def k1_chk1091 (v788 : IVec S16 32) : Prop :=
  (∀ a x, ((![v788] : Fin 1 → IVec S16 32) a x).toNat < S88320.size a)
theorem k1_idx1091_inb : ∀ (v788 : IVec S16 32) (k1_hw1091 : k1_chk1091 v788), ∀ a x, ((![v788] : Fin 1 → IVec S16 32) a x).toNat < S88320.size a := fun v788 k1_hw1091 => k1_hw1091

def k1_chk1092 (v792 : IVec S16 32) : Prop :=
  (∀ a x, ((![v792] : Fin 1 → IVec S16 32) a x).toNat < S88320.size a)
theorem k1_idx1092_inb : ∀ (v792 : IVec S16 32) (k1_hw1092 : k1_chk1092 v792), ∀ a x, ((![v792] : Fin 1 → IVec S16 32) a x).toNat < S88320.size a := fun v792 k1_hw1092 => k1_hw1092

def k1_chk1093 (v796 : IVec S16 32) : Prop :=
  (∀ a x, ((![v796] : Fin 1 → IVec S16 32) a x).toNat < S88320.size a)
theorem k1_idx1093_inb : ∀ (v796 : IVec S16 32) (k1_hw1093 : k1_chk1093 v796), ∀ a x, ((![v796] : Fin 1 → IVec S16 32) a x).toNat < S88320.size a := fun v796 k1_hw1093 => k1_hw1093

def k1_chk1094 (v800 : IVec S16 32) : Prop :=
  (∀ a x, ((![v800] : Fin 1 → IVec S16 32) a x).toNat < S88320.size a)
theorem k1_idx1094_inb : ∀ (v800 : IVec S16 32) (k1_hw1094 : k1_chk1094 v800), ∀ a x, ((![v800] : Fin 1 → IVec S16 32) a x).toNat < S88320.size a := fun v800 k1_hw1094 => k1_hw1094

def k1_chk1095 (v804 : IVec S16 32) : Prop :=
  (∀ a x, ((![v804] : Fin 1 → IVec S16 32) a x).toNat < S88320.size a)
theorem k1_idx1095_inb : ∀ (v804 : IVec S16 32) (k1_hw1095 : k1_chk1095 v804), ∀ a x, ((![v804] : Fin 1 → IVec S16 32) a x).toNat < S88320.size a := fun v804 k1_hw1095 => k1_hw1095

def k1_chk1096 (v808 : IVec S16 32) : Prop :=
  (∀ a x, ((![v808] : Fin 1 → IVec S16 32) a x).toNat < S88320.size a)
theorem k1_idx1096_inb : ∀ (v808 : IVec S16 32) (k1_hw1096 : k1_chk1096 v808), ∀ a x, ((![v808] : Fin 1 → IVec S16 32) a x).toNat < S88320.size a := fun v808 k1_hw1096 => k1_hw1096

def k1_chk1097 (v812 : IVec S16 32) : Prop :=
  (∀ a x, ((![v812] : Fin 1 → IVec S16 32) a x).toNat < S88320.size a)
theorem k1_idx1097_inb : ∀ (v812 : IVec S16 32) (k1_hw1097 : k1_chk1097 v812), ∀ a x, ((![v812] : Fin 1 → IVec S16 32) a x).toNat < S88320.size a := fun v812 k1_hw1097 => k1_hw1097

def k1_chk1098 (v816 : IVec S16 32) : Prop :=
  (∀ a x, ((![v816] : Fin 1 → IVec S16 32) a x).toNat < S88320.size a)
theorem k1_idx1098_inb : ∀ (v816 : IVec S16 32) (k1_hw1098 : k1_chk1098 v816), ∀ a x, ((![v816] : Fin 1 → IVec S16 32) a x).toNat < S88320.size a := fun v816 k1_hw1098 => k1_hw1098

def k1_chk1099 (v820 : IVec S16 32) : Prop :=
  (∀ a x, ((![v820] : Fin 1 → IVec S16 32) a x).toNat < S88320.size a)
theorem k1_idx1099_inb : ∀ (v820 : IVec S16 32) (k1_hw1099 : k1_chk1099 v820), ∀ a x, ((![v820] : Fin 1 → IVec S16 32) a x).toNat < S88320.size a := fun v820 k1_hw1099 => k1_hw1099

def k1_chk1100 (v824 : IVec S16 32) : Prop :=
  (∀ a x, ((![v824] : Fin 1 → IVec S16 32) a x).toNat < S88320.size a)
theorem k1_idx1100_inb : ∀ (v824 : IVec S16 32) (k1_hw1100 : k1_chk1100 v824), ∀ a x, ((![v824] : Fin 1 → IVec S16 32) a x).toNat < S88320.size a := fun v824 k1_hw1100 => k1_hw1100

def k1_chk1101 (v828 : IVec S16 32) : Prop :=
  (∀ a x, ((![v828] : Fin 1 → IVec S16 32) a x).toNat < S88320.size a)
theorem k1_idx1101_inb : ∀ (v828 : IVec S16 32) (k1_hw1101 : k1_chk1101 v828), ∀ a x, ((![v828] : Fin 1 → IVec S16 32) a x).toNat < S88320.size a := fun v828 k1_hw1101 => k1_hw1101

def k1_chk1102 (v832 : IVec S16 32) : Prop :=
  (∀ a x, ((![v832] : Fin 1 → IVec S16 32) a x).toNat < S88320.size a)
theorem k1_idx1102_inb : ∀ (v832 : IVec S16 32) (k1_hw1102 : k1_chk1102 v832), ∀ a x, ((![v832] : Fin 1 → IVec S16 32) a x).toNat < S88320.size a := fun v832 k1_hw1102 => k1_hw1102

def k1_chk1103 (v836 : IVec S16 32) : Prop :=
  (∀ a x, ((![v836] : Fin 1 → IVec S16 32) a x).toNat < S88320.size a)
theorem k1_idx1103_inb : ∀ (v836 : IVec S16 32) (k1_hw1103 : k1_chk1103 v836), ∀ a x, ((![v836] : Fin 1 → IVec S16 32) a x).toNat < S88320.size a := fun v836 k1_hw1103 => k1_hw1103

def k1_chk1104 (v840 : IVec S16 32) : Prop :=
  (∀ a x, ((![v840] : Fin 1 → IVec S16 32) a x).toNat < S88320.size a)
theorem k1_idx1104_inb : ∀ (v840 : IVec S16 32) (k1_hw1104 : k1_chk1104 v840), ∀ a x, ((![v840] : Fin 1 → IVec S16 32) a x).toNat < S88320.size a := fun v840 k1_hw1104 => k1_hw1104
def k1_off1176 (i : grid1.Coords) : Fin 4 → Nat :=
  let c3_i32_886 : BitVec 32 := 3#32
  let c7_i32_887 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_888 : BitVec 32 := 0#32
  ![3, 7, v2.toNat, 0]
@[reducible] def k1_t71_loop : Scf.Loop 32 :=
  let c0_i32_895 : BitVec 32 := 0#32
  let c32_i32_896 : BitVec 32 := 32#32
  let v639 : BitVec 32 := Scalar.addi c0_i32_895 c32_i32_896
  let c1_i32_897 : BitVec 32 := 1#32
  ⟨c0_i32_895, v639, c1_i32_897⟩
def k1_off1177 (k1_t71 : Fin k1_t71_loop.trips) : Fin 2 → Nat :=
  let c0_i32_1152 : BitVec 32 := 0#32
  let v778 : Index := Scalar.indexCast c0_i32_1152
  let c0_i32_895 : BitVec 32 := 0#32
  let c1_i32_897 : BitVec 32 := 1#32
  let arg9 : BitVec 32 := Scf.iv c0_i32_895 c1_i32_897 k1_t71
  let c16_i32_1151 : BitVec 32 := 16#32
  let v777 : BitVec 32 := Scalar.muli arg9 c16_i32_1151
  let v779 : Index := Scalar.indexCast v777
  ![0, v779.toNat]
def k1_off1178 (k1_t71 : Fin k1_t71_loop.trips) : Fin 2 → Nat :=
  let c1_i32_1154 : BitVec 32 := 1#32
  let v782 : Index := Scalar.indexCast c1_i32_1154
  let c0_i32_895 : BitVec 32 := 0#32
  let c1_i32_897 : BitVec 32 := 1#32
  let arg9 : BitVec 32 := Scf.iv c0_i32_895 c1_i32_897 k1_t71
  let c16_i32_1153 : BitVec 32 := 16#32
  let v781 : BitVec 32 := Scalar.muli arg9 c16_i32_1153
  let v783 : Index := Scalar.indexCast v781
  ![1, v783.toNat]
def k1_off1179 (k1_t71 : Fin k1_t71_loop.trips) : Fin 2 → Nat :=
  let c2_i32_1156 : BitVec 32 := 2#32
  let v786 : Index := Scalar.indexCast c2_i32_1156
  let c0_i32_895 : BitVec 32 := 0#32
  let c1_i32_897 : BitVec 32 := 1#32
  let arg9 : BitVec 32 := Scf.iv c0_i32_895 c1_i32_897 k1_t71
  let c16_i32_1155 : BitVec 32 := 16#32
  let v785 : BitVec 32 := Scalar.muli arg9 c16_i32_1155
  let v787 : Index := Scalar.indexCast v785
  ![2, v787.toNat]
def k1_off1180 (k1_t71 : Fin k1_t71_loop.trips) : Fin 2 → Nat :=
  let c3_i32_1158 : BitVec 32 := 3#32
  let v790 : Index := Scalar.indexCast c3_i32_1158
  let c0_i32_895 : BitVec 32 := 0#32
  let c1_i32_897 : BitVec 32 := 1#32
  let arg9 : BitVec 32 := Scf.iv c0_i32_895 c1_i32_897 k1_t71
  let c16_i32_1157 : BitVec 32 := 16#32
  let v789 : BitVec 32 := Scalar.muli arg9 c16_i32_1157
  let v791 : Index := Scalar.indexCast v789
  ![3, v791.toNat]
def k1_off1181 (k1_t71 : Fin k1_t71_loop.trips) : Fin 2 → Nat :=
  let c4_i32_1160 : BitVec 32 := 4#32
  let v794 : Index := Scalar.indexCast c4_i32_1160
  let c0_i32_895 : BitVec 32 := 0#32
  let c1_i32_897 : BitVec 32 := 1#32
  let arg9 : BitVec 32 := Scf.iv c0_i32_895 c1_i32_897 k1_t71
  let c16_i32_1159 : BitVec 32 := 16#32
  let v793 : BitVec 32 := Scalar.muli arg9 c16_i32_1159
  let v795 : Index := Scalar.indexCast v793
  ![4, v795.toNat]
def k1_off1182 (k1_t71 : Fin k1_t71_loop.trips) : Fin 2 → Nat :=
  let c5_i32_1162 : BitVec 32 := 5#32
  let v798 : Index := Scalar.indexCast c5_i32_1162
  let c0_i32_895 : BitVec 32 := 0#32
  let c1_i32_897 : BitVec 32 := 1#32
  let arg9 : BitVec 32 := Scf.iv c0_i32_895 c1_i32_897 k1_t71
  let c16_i32_1161 : BitVec 32 := 16#32
  let v797 : BitVec 32 := Scalar.muli arg9 c16_i32_1161
  let v799 : Index := Scalar.indexCast v797
  ![5, v799.toNat]
def k1_off1183 (k1_t71 : Fin k1_t71_loop.trips) : Fin 2 → Nat :=
  let c6_i32_1164 : BitVec 32 := 6#32
  let v802 : Index := Scalar.indexCast c6_i32_1164
  let c0_i32_895 : BitVec 32 := 0#32
  let c1_i32_897 : BitVec 32 := 1#32
  let arg9 : BitVec 32 := Scf.iv c0_i32_895 c1_i32_897 k1_t71
  let c16_i32_1163 : BitVec 32 := 16#32
  let v801 : BitVec 32 := Scalar.muli arg9 c16_i32_1163
  let v803 : Index := Scalar.indexCast v801
  ![6, v803.toNat]
def k1_off1184 (k1_t71 : Fin k1_t71_loop.trips) : Fin 2 → Nat :=
  let c7_i32_1166 : BitVec 32 := 7#32
  let v806 : Index := Scalar.indexCast c7_i32_1166
  let c0_i32_895 : BitVec 32 := 0#32
  let c1_i32_897 : BitVec 32 := 1#32
  let arg9 : BitVec 32 := Scf.iv c0_i32_895 c1_i32_897 k1_t71
  let c16_i32_1165 : BitVec 32 := 16#32
  let v805 : BitVec 32 := Scalar.muli arg9 c16_i32_1165
  let v807 : Index := Scalar.indexCast v805
  ![7, v807.toNat]
def k1_off1185 (k1_t71 : Fin k1_t71_loop.trips) : Fin 2 → Nat :=
  let c8_i32_1168 : BitVec 32 := 8#32
  let v810 : Index := Scalar.indexCast c8_i32_1168
  let c0_i32_895 : BitVec 32 := 0#32
  let c1_i32_897 : BitVec 32 := 1#32
  let arg9 : BitVec 32 := Scf.iv c0_i32_895 c1_i32_897 k1_t71
  let c16_i32_1167 : BitVec 32 := 16#32
  let v809 : BitVec 32 := Scalar.muli arg9 c16_i32_1167
  let v811 : Index := Scalar.indexCast v809
  ![8, v811.toNat]
def k1_off1186 (k1_t71 : Fin k1_t71_loop.trips) : Fin 2 → Nat :=
  let c9_i32_1170 : BitVec 32 := 9#32
  let v814 : Index := Scalar.indexCast c9_i32_1170
  let c0_i32_895 : BitVec 32 := 0#32
  let c1_i32_897 : BitVec 32 := 1#32
  let arg9 : BitVec 32 := Scf.iv c0_i32_895 c1_i32_897 k1_t71
  let c16_i32_1169 : BitVec 32 := 16#32
  let v813 : BitVec 32 := Scalar.muli arg9 c16_i32_1169
  let v815 : Index := Scalar.indexCast v813
  ![9, v815.toNat]
def k1_off1187 (k1_t71 : Fin k1_t71_loop.trips) : Fin 2 → Nat :=
  let c10_i32_1172 : BitVec 32 := 10#32
  let v818 : Index := Scalar.indexCast c10_i32_1172
  let c0_i32_895 : BitVec 32 := 0#32
  let c1_i32_897 : BitVec 32 := 1#32
  let arg9 : BitVec 32 := Scf.iv c0_i32_895 c1_i32_897 k1_t71
  let c16_i32_1171 : BitVec 32 := 16#32
  let v817 : BitVec 32 := Scalar.muli arg9 c16_i32_1171
  let v819 : Index := Scalar.indexCast v817
  ![10, v819.toNat]
def k1_off1188 (k1_t71 : Fin k1_t71_loop.trips) : Fin 2 → Nat :=
  let c11_i32_1174 : BitVec 32 := 11#32
  let v822 : Index := Scalar.indexCast c11_i32_1174
  let c0_i32_895 : BitVec 32 := 0#32
  let c1_i32_897 : BitVec 32 := 1#32
  let arg9 : BitVec 32 := Scf.iv c0_i32_895 c1_i32_897 k1_t71
  let c16_i32_1173 : BitVec 32 := 16#32
  let v821 : BitVec 32 := Scalar.muli arg9 c16_i32_1173
  let v823 : Index := Scalar.indexCast v821
  ![11, v823.toNat]
def k1_off1189 (k1_t71 : Fin k1_t71_loop.trips) : Fin 2 → Nat :=
  let c12_i32_1176 : BitVec 32 := 12#32
  let v826 : Index := Scalar.indexCast c12_i32_1176
  let c0_i32_895 : BitVec 32 := 0#32
  let c1_i32_897 : BitVec 32 := 1#32
  let arg9 : BitVec 32 := Scf.iv c0_i32_895 c1_i32_897 k1_t71
  let c16_i32_1175 : BitVec 32 := 16#32
  let v825 : BitVec 32 := Scalar.muli arg9 c16_i32_1175
  let v827 : Index := Scalar.indexCast v825
  ![12, v827.toNat]
def k1_off1190 (k1_t71 : Fin k1_t71_loop.trips) : Fin 2 → Nat :=
  let c13_i32_1178 : BitVec 32 := 13#32
  let v830 : Index := Scalar.indexCast c13_i32_1178
  let c0_i32_895 : BitVec 32 := 0#32
  let c1_i32_897 : BitVec 32 := 1#32
  let arg9 : BitVec 32 := Scf.iv c0_i32_895 c1_i32_897 k1_t71
  let c16_i32_1177 : BitVec 32 := 16#32
  let v829 : BitVec 32 := Scalar.muli arg9 c16_i32_1177
  let v831 : Index := Scalar.indexCast v829
  ![13, v831.toNat]
def k1_off1191 (k1_t71 : Fin k1_t71_loop.trips) : Fin 2 → Nat :=
  let c14_i32_1180 : BitVec 32 := 14#32
  let v834 : Index := Scalar.indexCast c14_i32_1180
  let c0_i32_895 : BitVec 32 := 0#32
  let c1_i32_897 : BitVec 32 := 1#32
  let arg9 : BitVec 32 := Scf.iv c0_i32_895 c1_i32_897 k1_t71
  let c16_i32_1179 : BitVec 32 := 16#32
  let v833 : BitVec 32 := Scalar.muli arg9 c16_i32_1179
  let v835 : Index := Scalar.indexCast v833
  ![14, v835.toNat]
def k1_off1192 (k1_t71 : Fin k1_t71_loop.trips) : Fin 2 → Nat :=
  let c15_i32_1182 : BitVec 32 := 15#32
  let v838 : Index := Scalar.indexCast c15_i32_1182
  let c0_i32_895 : BitVec 32 := 0#32
  let c1_i32_897 : BitVec 32 := 1#32
  let arg9 : BitVec 32 := Scf.iv c0_i32_895 c1_i32_897 k1_t71
  let c16_i32_1181 : BitVec 32 := 16#32
  let v837 : BitVec 32 := Scalar.muli arg9 c16_i32_1181
  let v839 : Index := Scalar.indexCast v837
  ![15, v839.toNat]

def k1_chk1105 (v780 : IVec S16 32) : Prop :=
  (∀ a x, ((![v780] : Fin 1 → IVec S16 32) a x).toNat < S88320.size a)
theorem k1_idx1105_inb : ∀ (v780 : IVec S16 32) (k1_hw1105 : k1_chk1105 v780), ∀ a x, ((![v780] : Fin 1 → IVec S16 32) a x).toNat < S88320.size a := fun v780 k1_hw1105 => k1_hw1105

def k1_chk1106 (v784 : IVec S16 32) : Prop :=
  (∀ a x, ((![v784] : Fin 1 → IVec S16 32) a x).toNat < S88320.size a)
theorem k1_idx1106_inb : ∀ (v784 : IVec S16 32) (k1_hw1106 : k1_chk1106 v784), ∀ a x, ((![v784] : Fin 1 → IVec S16 32) a x).toNat < S88320.size a := fun v784 k1_hw1106 => k1_hw1106

def k1_chk1107 (v788 : IVec S16 32) : Prop :=
  (∀ a x, ((![v788] : Fin 1 → IVec S16 32) a x).toNat < S88320.size a)
theorem k1_idx1107_inb : ∀ (v788 : IVec S16 32) (k1_hw1107 : k1_chk1107 v788), ∀ a x, ((![v788] : Fin 1 → IVec S16 32) a x).toNat < S88320.size a := fun v788 k1_hw1107 => k1_hw1107

def k1_chk1108 (v792 : IVec S16 32) : Prop :=
  (∀ a x, ((![v792] : Fin 1 → IVec S16 32) a x).toNat < S88320.size a)
theorem k1_idx1108_inb : ∀ (v792 : IVec S16 32) (k1_hw1108 : k1_chk1108 v792), ∀ a x, ((![v792] : Fin 1 → IVec S16 32) a x).toNat < S88320.size a := fun v792 k1_hw1108 => k1_hw1108

def k1_chk1109 (v796 : IVec S16 32) : Prop :=
  (∀ a x, ((![v796] : Fin 1 → IVec S16 32) a x).toNat < S88320.size a)
theorem k1_idx1109_inb : ∀ (v796 : IVec S16 32) (k1_hw1109 : k1_chk1109 v796), ∀ a x, ((![v796] : Fin 1 → IVec S16 32) a x).toNat < S88320.size a := fun v796 k1_hw1109 => k1_hw1109

def k1_chk1110 (v800 : IVec S16 32) : Prop :=
  (∀ a x, ((![v800] : Fin 1 → IVec S16 32) a x).toNat < S88320.size a)
theorem k1_idx1110_inb : ∀ (v800 : IVec S16 32) (k1_hw1110 : k1_chk1110 v800), ∀ a x, ((![v800] : Fin 1 → IVec S16 32) a x).toNat < S88320.size a := fun v800 k1_hw1110 => k1_hw1110

def k1_chk1111 (v804 : IVec S16 32) : Prop :=
  (∀ a x, ((![v804] : Fin 1 → IVec S16 32) a x).toNat < S88320.size a)
theorem k1_idx1111_inb : ∀ (v804 : IVec S16 32) (k1_hw1111 : k1_chk1111 v804), ∀ a x, ((![v804] : Fin 1 → IVec S16 32) a x).toNat < S88320.size a := fun v804 k1_hw1111 => k1_hw1111

def k1_chk1112 (v808 : IVec S16 32) : Prop :=
  (∀ a x, ((![v808] : Fin 1 → IVec S16 32) a x).toNat < S88320.size a)
theorem k1_idx1112_inb : ∀ (v808 : IVec S16 32) (k1_hw1112 : k1_chk1112 v808), ∀ a x, ((![v808] : Fin 1 → IVec S16 32) a x).toNat < S88320.size a := fun v808 k1_hw1112 => k1_hw1112

def k1_chk1113 (v812 : IVec S16 32) : Prop :=
  (∀ a x, ((![v812] : Fin 1 → IVec S16 32) a x).toNat < S88320.size a)
theorem k1_idx1113_inb : ∀ (v812 : IVec S16 32) (k1_hw1113 : k1_chk1113 v812), ∀ a x, ((![v812] : Fin 1 → IVec S16 32) a x).toNat < S88320.size a := fun v812 k1_hw1113 => k1_hw1113

def k1_chk1114 (v816 : IVec S16 32) : Prop :=
  (∀ a x, ((![v816] : Fin 1 → IVec S16 32) a x).toNat < S88320.size a)
theorem k1_idx1114_inb : ∀ (v816 : IVec S16 32) (k1_hw1114 : k1_chk1114 v816), ∀ a x, ((![v816] : Fin 1 → IVec S16 32) a x).toNat < S88320.size a := fun v816 k1_hw1114 => k1_hw1114

def k1_chk1115 (v820 : IVec S16 32) : Prop :=
  (∀ a x, ((![v820] : Fin 1 → IVec S16 32) a x).toNat < S88320.size a)
theorem k1_idx1115_inb : ∀ (v820 : IVec S16 32) (k1_hw1115 : k1_chk1115 v820), ∀ a x, ((![v820] : Fin 1 → IVec S16 32) a x).toNat < S88320.size a := fun v820 k1_hw1115 => k1_hw1115

def k1_chk1116 (v824 : IVec S16 32) : Prop :=
  (∀ a x, ((![v824] : Fin 1 → IVec S16 32) a x).toNat < S88320.size a)
theorem k1_idx1116_inb : ∀ (v824 : IVec S16 32) (k1_hw1116 : k1_chk1116 v824), ∀ a x, ((![v824] : Fin 1 → IVec S16 32) a x).toNat < S88320.size a := fun v824 k1_hw1116 => k1_hw1116

def k1_chk1117 (v828 : IVec S16 32) : Prop :=
  (∀ a x, ((![v828] : Fin 1 → IVec S16 32) a x).toNat < S88320.size a)
theorem k1_idx1117_inb : ∀ (v828 : IVec S16 32) (k1_hw1117 : k1_chk1117 v828), ∀ a x, ((![v828] : Fin 1 → IVec S16 32) a x).toNat < S88320.size a := fun v828 k1_hw1117 => k1_hw1117

def k1_chk1118 (v832 : IVec S16 32) : Prop :=
  (∀ a x, ((![v832] : Fin 1 → IVec S16 32) a x).toNat < S88320.size a)
theorem k1_idx1118_inb : ∀ (v832 : IVec S16 32) (k1_hw1118 : k1_chk1118 v832), ∀ a x, ((![v832] : Fin 1 → IVec S16 32) a x).toNat < S88320.size a := fun v832 k1_hw1118 => k1_hw1118

def k1_chk1119 (v836 : IVec S16 32) : Prop :=
  (∀ a x, ((![v836] : Fin 1 → IVec S16 32) a x).toNat < S88320.size a)
theorem k1_idx1119_inb : ∀ (v836 : IVec S16 32) (k1_hw1119 : k1_chk1119 v836), ∀ a x, ((![v836] : Fin 1 → IVec S16 32) a x).toNat < S88320.size a := fun v836 k1_hw1119 => k1_hw1119

def k1_chk1120 (v840 : IVec S16 32) : Prop :=
  (∀ a x, ((![v840] : Fin 1 → IVec S16 32) a x).toNat < S88320.size a)
theorem k1_idx1120_inb : ∀ (v840 : IVec S16 32) (k1_hw1120 : k1_chk1120 v840), ∀ a x, ((![v840] : Fin 1 → IVec S16 32) a x).toNat < S88320.size a := fun v840 k1_hw1120 => k1_hw1120
def k1_off1193 (i : grid1.Coords) : Fin 4 → Nat :=
  let c3_i32_899 : BitVec 32 := 3#32
  let c8_i32_900 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_901 : BitVec 32 := 0#32
  ![3, 8, v2.toNat, 0]
@[reducible] def k1_t72_loop : Scf.Loop 32 :=
  let c0_i32_908 : BitVec 32 := 0#32
  let c32_i32_909 : BitVec 32 := 32#32
  let v648 : BitVec 32 := Scalar.addi c0_i32_908 c32_i32_909
  let c1_i32_910 : BitVec 32 := 1#32
  ⟨c0_i32_908, v648, c1_i32_910⟩
def k1_off1194 (k1_t72 : Fin k1_t72_loop.trips) : Fin 2 → Nat :=
  let c0_i32_1152 : BitVec 32 := 0#32
  let v778 : Index := Scalar.indexCast c0_i32_1152
  let c0_i32_908 : BitVec 32 := 0#32
  let c1_i32_910 : BitVec 32 := 1#32
  let arg9 : BitVec 32 := Scf.iv c0_i32_908 c1_i32_910 k1_t72
  let c16_i32_1151 : BitVec 32 := 16#32
  let v777 : BitVec 32 := Scalar.muli arg9 c16_i32_1151
  let v779 : Index := Scalar.indexCast v777
  ![0, v779.toNat]
def k1_off1195 (k1_t72 : Fin k1_t72_loop.trips) : Fin 2 → Nat :=
  let c1_i32_1154 : BitVec 32 := 1#32
  let v782 : Index := Scalar.indexCast c1_i32_1154
  let c0_i32_908 : BitVec 32 := 0#32
  let c1_i32_910 : BitVec 32 := 1#32
  let arg9 : BitVec 32 := Scf.iv c0_i32_908 c1_i32_910 k1_t72
  let c16_i32_1153 : BitVec 32 := 16#32
  let v781 : BitVec 32 := Scalar.muli arg9 c16_i32_1153
  let v783 : Index := Scalar.indexCast v781
  ![1, v783.toNat]
def k1_off1196 (k1_t72 : Fin k1_t72_loop.trips) : Fin 2 → Nat :=
  let c2_i32_1156 : BitVec 32 := 2#32
  let v786 : Index := Scalar.indexCast c2_i32_1156
  let c0_i32_908 : BitVec 32 := 0#32
  let c1_i32_910 : BitVec 32 := 1#32
  let arg9 : BitVec 32 := Scf.iv c0_i32_908 c1_i32_910 k1_t72
  let c16_i32_1155 : BitVec 32 := 16#32
  let v785 : BitVec 32 := Scalar.muli arg9 c16_i32_1155
  let v787 : Index := Scalar.indexCast v785
  ![2, v787.toNat]
def k1_off1197 (k1_t72 : Fin k1_t72_loop.trips) : Fin 2 → Nat :=
  let c3_i32_1158 : BitVec 32 := 3#32
  let v790 : Index := Scalar.indexCast c3_i32_1158
  let c0_i32_908 : BitVec 32 := 0#32
  let c1_i32_910 : BitVec 32 := 1#32
  let arg9 : BitVec 32 := Scf.iv c0_i32_908 c1_i32_910 k1_t72
  let c16_i32_1157 : BitVec 32 := 16#32
  let v789 : BitVec 32 := Scalar.muli arg9 c16_i32_1157
  let v791 : Index := Scalar.indexCast v789
  ![3, v791.toNat]
def k1_off1198 (k1_t72 : Fin k1_t72_loop.trips) : Fin 2 → Nat :=
  let c4_i32_1160 : BitVec 32 := 4#32
  let v794 : Index := Scalar.indexCast c4_i32_1160
  let c0_i32_908 : BitVec 32 := 0#32
  let c1_i32_910 : BitVec 32 := 1#32
  let arg9 : BitVec 32 := Scf.iv c0_i32_908 c1_i32_910 k1_t72
  let c16_i32_1159 : BitVec 32 := 16#32
  let v793 : BitVec 32 := Scalar.muli arg9 c16_i32_1159
  let v795 : Index := Scalar.indexCast v793
  ![4, v795.toNat]
def k1_off1199 (k1_t72 : Fin k1_t72_loop.trips) : Fin 2 → Nat :=
  let c5_i32_1162 : BitVec 32 := 5#32
  let v798 : Index := Scalar.indexCast c5_i32_1162
  let c0_i32_908 : BitVec 32 := 0#32
  let c1_i32_910 : BitVec 32 := 1#32
  let arg9 : BitVec 32 := Scf.iv c0_i32_908 c1_i32_910 k1_t72
  let c16_i32_1161 : BitVec 32 := 16#32
  let v797 : BitVec 32 := Scalar.muli arg9 c16_i32_1161
  let v799 : Index := Scalar.indexCast v797
  ![5, v799.toNat]
def k1_off1200 (k1_t72 : Fin k1_t72_loop.trips) : Fin 2 → Nat :=
  let c6_i32_1164 : BitVec 32 := 6#32
  let v802 : Index := Scalar.indexCast c6_i32_1164
  let c0_i32_908 : BitVec 32 := 0#32
  let c1_i32_910 : BitVec 32 := 1#32
  let arg9 : BitVec 32 := Scf.iv c0_i32_908 c1_i32_910 k1_t72
  let c16_i32_1163 : BitVec 32 := 16#32
  let v801 : BitVec 32 := Scalar.muli arg9 c16_i32_1163
  let v803 : Index := Scalar.indexCast v801
  ![6, v803.toNat]
def k1_off1201 (k1_t72 : Fin k1_t72_loop.trips) : Fin 2 → Nat :=
  let c7_i32_1166 : BitVec 32 := 7#32
  let v806 : Index := Scalar.indexCast c7_i32_1166
  let c0_i32_908 : BitVec 32 := 0#32
  let c1_i32_910 : BitVec 32 := 1#32
  let arg9 : BitVec 32 := Scf.iv c0_i32_908 c1_i32_910 k1_t72
  let c16_i32_1165 : BitVec 32 := 16#32
  let v805 : BitVec 32 := Scalar.muli arg9 c16_i32_1165
  let v807 : Index := Scalar.indexCast v805
  ![7, v807.toNat]
def k1_off1202 (k1_t72 : Fin k1_t72_loop.trips) : Fin 2 → Nat :=
  let c8_i32_1168 : BitVec 32 := 8#32
  let v810 : Index := Scalar.indexCast c8_i32_1168
  let c0_i32_908 : BitVec 32 := 0#32
  let c1_i32_910 : BitVec 32 := 1#32
  let arg9 : BitVec 32 := Scf.iv c0_i32_908 c1_i32_910 k1_t72
  let c16_i32_1167 : BitVec 32 := 16#32
  let v809 : BitVec 32 := Scalar.muli arg9 c16_i32_1167
  let v811 : Index := Scalar.indexCast v809
  ![8, v811.toNat]
def k1_off1203 (k1_t72 : Fin k1_t72_loop.trips) : Fin 2 → Nat :=
  let c9_i32_1170 : BitVec 32 := 9#32
  let v814 : Index := Scalar.indexCast c9_i32_1170
  let c0_i32_908 : BitVec 32 := 0#32
  let c1_i32_910 : BitVec 32 := 1#32
  let arg9 : BitVec 32 := Scf.iv c0_i32_908 c1_i32_910 k1_t72
  let c16_i32_1169 : BitVec 32 := 16#32
  let v813 : BitVec 32 := Scalar.muli arg9 c16_i32_1169
  let v815 : Index := Scalar.indexCast v813
  ![9, v815.toNat]
def k1_off1204 (k1_t72 : Fin k1_t72_loop.trips) : Fin 2 → Nat :=
  let c10_i32_1172 : BitVec 32 := 10#32
  let v818 : Index := Scalar.indexCast c10_i32_1172
  let c0_i32_908 : BitVec 32 := 0#32
  let c1_i32_910 : BitVec 32 := 1#32
  let arg9 : BitVec 32 := Scf.iv c0_i32_908 c1_i32_910 k1_t72
  let c16_i32_1171 : BitVec 32 := 16#32
  let v817 : BitVec 32 := Scalar.muli arg9 c16_i32_1171
  let v819 : Index := Scalar.indexCast v817
  ![10, v819.toNat]
def k1_off1205 (k1_t72 : Fin k1_t72_loop.trips) : Fin 2 → Nat :=
  let c11_i32_1174 : BitVec 32 := 11#32
  let v822 : Index := Scalar.indexCast c11_i32_1174
  let c0_i32_908 : BitVec 32 := 0#32
  let c1_i32_910 : BitVec 32 := 1#32
  let arg9 : BitVec 32 := Scf.iv c0_i32_908 c1_i32_910 k1_t72
  let c16_i32_1173 : BitVec 32 := 16#32
  let v821 : BitVec 32 := Scalar.muli arg9 c16_i32_1173
  let v823 : Index := Scalar.indexCast v821
  ![11, v823.toNat]
def k1_off1206 (k1_t72 : Fin k1_t72_loop.trips) : Fin 2 → Nat :=
  let c12_i32_1176 : BitVec 32 := 12#32
  let v826 : Index := Scalar.indexCast c12_i32_1176
  let c0_i32_908 : BitVec 32 := 0#32
  let c1_i32_910 : BitVec 32 := 1#32
  let arg9 : BitVec 32 := Scf.iv c0_i32_908 c1_i32_910 k1_t72
  let c16_i32_1175 : BitVec 32 := 16#32
  let v825 : BitVec 32 := Scalar.muli arg9 c16_i32_1175
  let v827 : Index := Scalar.indexCast v825
  ![12, v827.toNat]
def k1_off1207 (k1_t72 : Fin k1_t72_loop.trips) : Fin 2 → Nat :=
  let c13_i32_1178 : BitVec 32 := 13#32
  let v830 : Index := Scalar.indexCast c13_i32_1178
  let c0_i32_908 : BitVec 32 := 0#32
  let c1_i32_910 : BitVec 32 := 1#32
  let arg9 : BitVec 32 := Scf.iv c0_i32_908 c1_i32_910 k1_t72
  let c16_i32_1177 : BitVec 32 := 16#32
  let v829 : BitVec 32 := Scalar.muli arg9 c16_i32_1177
  let v831 : Index := Scalar.indexCast v829
  ![13, v831.toNat]
def k1_off1208 (k1_t72 : Fin k1_t72_loop.trips) : Fin 2 → Nat :=
  let c14_i32_1180 : BitVec 32 := 14#32
  let v834 : Index := Scalar.indexCast c14_i32_1180
  let c0_i32_908 : BitVec 32 := 0#32
  let c1_i32_910 : BitVec 32 := 1#32
  let arg9 : BitVec 32 := Scf.iv c0_i32_908 c1_i32_910 k1_t72
  let c16_i32_1179 : BitVec 32 := 16#32
  let v833 : BitVec 32 := Scalar.muli arg9 c16_i32_1179
  let v835 : Index := Scalar.indexCast v833
  ![14, v835.toNat]
def k1_off1209 (k1_t72 : Fin k1_t72_loop.trips) : Fin 2 → Nat :=
  let c15_i32_1182 : BitVec 32 := 15#32
  let v838 : Index := Scalar.indexCast c15_i32_1182
  let c0_i32_908 : BitVec 32 := 0#32
  let c1_i32_910 : BitVec 32 := 1#32
  let arg9 : BitVec 32 := Scf.iv c0_i32_908 c1_i32_910 k1_t72
  let c16_i32_1181 : BitVec 32 := 16#32
  let v837 : BitVec 32 := Scalar.muli arg9 c16_i32_1181
  let v839 : Index := Scalar.indexCast v837
  ![15, v839.toNat]

def k1_chk1121 (v780 : IVec S16 32) : Prop :=
  (∀ a x, ((![v780] : Fin 1 → IVec S16 32) a x).toNat < S88320.size a)
theorem k1_idx1121_inb : ∀ (v780 : IVec S16 32) (k1_hw1121 : k1_chk1121 v780), ∀ a x, ((![v780] : Fin 1 → IVec S16 32) a x).toNat < S88320.size a := fun v780 k1_hw1121 => k1_hw1121

def k1_chk1122 (v784 : IVec S16 32) : Prop :=
  (∀ a x, ((![v784] : Fin 1 → IVec S16 32) a x).toNat < S88320.size a)
theorem k1_idx1122_inb : ∀ (v784 : IVec S16 32) (k1_hw1122 : k1_chk1122 v784), ∀ a x, ((![v784] : Fin 1 → IVec S16 32) a x).toNat < S88320.size a := fun v784 k1_hw1122 => k1_hw1122

def k1_chk1123 (v788 : IVec S16 32) : Prop :=
  (∀ a x, ((![v788] : Fin 1 → IVec S16 32) a x).toNat < S88320.size a)
theorem k1_idx1123_inb : ∀ (v788 : IVec S16 32) (k1_hw1123 : k1_chk1123 v788), ∀ a x, ((![v788] : Fin 1 → IVec S16 32) a x).toNat < S88320.size a := fun v788 k1_hw1123 => k1_hw1123

def k1_chk1124 (v792 : IVec S16 32) : Prop :=
  (∀ a x, ((![v792] : Fin 1 → IVec S16 32) a x).toNat < S88320.size a)
theorem k1_idx1124_inb : ∀ (v792 : IVec S16 32) (k1_hw1124 : k1_chk1124 v792), ∀ a x, ((![v792] : Fin 1 → IVec S16 32) a x).toNat < S88320.size a := fun v792 k1_hw1124 => k1_hw1124

def k1_chk1125 (v796 : IVec S16 32) : Prop :=
  (∀ a x, ((![v796] : Fin 1 → IVec S16 32) a x).toNat < S88320.size a)
theorem k1_idx1125_inb : ∀ (v796 : IVec S16 32) (k1_hw1125 : k1_chk1125 v796), ∀ a x, ((![v796] : Fin 1 → IVec S16 32) a x).toNat < S88320.size a := fun v796 k1_hw1125 => k1_hw1125

def k1_chk1126 (v800 : IVec S16 32) : Prop :=
  (∀ a x, ((![v800] : Fin 1 → IVec S16 32) a x).toNat < S88320.size a)
theorem k1_idx1126_inb : ∀ (v800 : IVec S16 32) (k1_hw1126 : k1_chk1126 v800), ∀ a x, ((![v800] : Fin 1 → IVec S16 32) a x).toNat < S88320.size a := fun v800 k1_hw1126 => k1_hw1126

def k1_chk1127 (v804 : IVec S16 32) : Prop :=
  (∀ a x, ((![v804] : Fin 1 → IVec S16 32) a x).toNat < S88320.size a)
theorem k1_idx1127_inb : ∀ (v804 : IVec S16 32) (k1_hw1127 : k1_chk1127 v804), ∀ a x, ((![v804] : Fin 1 → IVec S16 32) a x).toNat < S88320.size a := fun v804 k1_hw1127 => k1_hw1127

def k1_chk1128 (v808 : IVec S16 32) : Prop :=
  (∀ a x, ((![v808] : Fin 1 → IVec S16 32) a x).toNat < S88320.size a)
theorem k1_idx1128_inb : ∀ (v808 : IVec S16 32) (k1_hw1128 : k1_chk1128 v808), ∀ a x, ((![v808] : Fin 1 → IVec S16 32) a x).toNat < S88320.size a := fun v808 k1_hw1128 => k1_hw1128

def k1_chk1129 (v812 : IVec S16 32) : Prop :=
  (∀ a x, ((![v812] : Fin 1 → IVec S16 32) a x).toNat < S88320.size a)
theorem k1_idx1129_inb : ∀ (v812 : IVec S16 32) (k1_hw1129 : k1_chk1129 v812), ∀ a x, ((![v812] : Fin 1 → IVec S16 32) a x).toNat < S88320.size a := fun v812 k1_hw1129 => k1_hw1129

def k1_chk1130 (v816 : IVec S16 32) : Prop :=
  (∀ a x, ((![v816] : Fin 1 → IVec S16 32) a x).toNat < S88320.size a)
theorem k1_idx1130_inb : ∀ (v816 : IVec S16 32) (k1_hw1130 : k1_chk1130 v816), ∀ a x, ((![v816] : Fin 1 → IVec S16 32) a x).toNat < S88320.size a := fun v816 k1_hw1130 => k1_hw1130

def k1_chk1131 (v820 : IVec S16 32) : Prop :=
  (∀ a x, ((![v820] : Fin 1 → IVec S16 32) a x).toNat < S88320.size a)
theorem k1_idx1131_inb : ∀ (v820 : IVec S16 32) (k1_hw1131 : k1_chk1131 v820), ∀ a x, ((![v820] : Fin 1 → IVec S16 32) a x).toNat < S88320.size a := fun v820 k1_hw1131 => k1_hw1131

def k1_chk1132 (v824 : IVec S16 32) : Prop :=
  (∀ a x, ((![v824] : Fin 1 → IVec S16 32) a x).toNat < S88320.size a)
theorem k1_idx1132_inb : ∀ (v824 : IVec S16 32) (k1_hw1132 : k1_chk1132 v824), ∀ a x, ((![v824] : Fin 1 → IVec S16 32) a x).toNat < S88320.size a := fun v824 k1_hw1132 => k1_hw1132

def k1_chk1133 (v828 : IVec S16 32) : Prop :=
  (∀ a x, ((![v828] : Fin 1 → IVec S16 32) a x).toNat < S88320.size a)
theorem k1_idx1133_inb : ∀ (v828 : IVec S16 32) (k1_hw1133 : k1_chk1133 v828), ∀ a x, ((![v828] : Fin 1 → IVec S16 32) a x).toNat < S88320.size a := fun v828 k1_hw1133 => k1_hw1133

def k1_chk1134 (v832 : IVec S16 32) : Prop :=
  (∀ a x, ((![v832] : Fin 1 → IVec S16 32) a x).toNat < S88320.size a)
theorem k1_idx1134_inb : ∀ (v832 : IVec S16 32) (k1_hw1134 : k1_chk1134 v832), ∀ a x, ((![v832] : Fin 1 → IVec S16 32) a x).toNat < S88320.size a := fun v832 k1_hw1134 => k1_hw1134

def k1_chk1135 (v836 : IVec S16 32) : Prop :=
  (∀ a x, ((![v836] : Fin 1 → IVec S16 32) a x).toNat < S88320.size a)
theorem k1_idx1135_inb : ∀ (v836 : IVec S16 32) (k1_hw1135 : k1_chk1135 v836), ∀ a x, ((![v836] : Fin 1 → IVec S16 32) a x).toNat < S88320.size a := fun v836 k1_hw1135 => k1_hw1135

def k1_chk1136 (v840 : IVec S16 32) : Prop :=
  (∀ a x, ((![v840] : Fin 1 → IVec S16 32) a x).toNat < S88320.size a)
theorem k1_idx1136_inb : ∀ (v840 : IVec S16 32) (k1_hw1136 : k1_chk1136 v840), ∀ a x, ((![v840] : Fin 1 → IVec S16 32) a x).toNat < S88320.size a := fun v840 k1_hw1136 => k1_hw1136
def k1_off1210 (i : grid1.Coords) : Fin 4 → Nat :=
  let c3_i32_912 : BitVec 32 := 3#32
  let c9_i32_913 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_914 : BitVec 32 := 0#32
  ![3, 9, v2.toNat, 0]
@[reducible] def k1_t73_loop : Scf.Loop 32 :=
  let c0_i32_921 : BitVec 32 := 0#32
  let c32_i32_922 : BitVec 32 := 32#32
  let v657 : BitVec 32 := Scalar.addi c0_i32_921 c32_i32_922
  let c1_i32_923 : BitVec 32 := 1#32
  ⟨c0_i32_921, v657, c1_i32_923⟩
def k1_off1211 (k1_t73 : Fin k1_t73_loop.trips) : Fin 2 → Nat :=
  let c0_i32_1152 : BitVec 32 := 0#32
  let v778 : Index := Scalar.indexCast c0_i32_1152
  let c0_i32_921 : BitVec 32 := 0#32
  let c1_i32_923 : BitVec 32 := 1#32
  let arg9 : BitVec 32 := Scf.iv c0_i32_921 c1_i32_923 k1_t73
  let c16_i32_1151 : BitVec 32 := 16#32
  let v777 : BitVec 32 := Scalar.muli arg9 c16_i32_1151
  let v779 : Index := Scalar.indexCast v777
  ![0, v779.toNat]
def k1_off1212 (k1_t73 : Fin k1_t73_loop.trips) : Fin 2 → Nat :=
  let c1_i32_1154 : BitVec 32 := 1#32
  let v782 : Index := Scalar.indexCast c1_i32_1154
  let c0_i32_921 : BitVec 32 := 0#32
  let c1_i32_923 : BitVec 32 := 1#32
  let arg9 : BitVec 32 := Scf.iv c0_i32_921 c1_i32_923 k1_t73
  let c16_i32_1153 : BitVec 32 := 16#32
  let v781 : BitVec 32 := Scalar.muli arg9 c16_i32_1153
  let v783 : Index := Scalar.indexCast v781
  ![1, v783.toNat]
def k1_off1213 (k1_t73 : Fin k1_t73_loop.trips) : Fin 2 → Nat :=
  let c2_i32_1156 : BitVec 32 := 2#32
  let v786 : Index := Scalar.indexCast c2_i32_1156
  let c0_i32_921 : BitVec 32 := 0#32
  let c1_i32_923 : BitVec 32 := 1#32
  let arg9 : BitVec 32 := Scf.iv c0_i32_921 c1_i32_923 k1_t73
  let c16_i32_1155 : BitVec 32 := 16#32
  let v785 : BitVec 32 := Scalar.muli arg9 c16_i32_1155
  let v787 : Index := Scalar.indexCast v785
  ![2, v787.toNat]
def k1_off1214 (k1_t73 : Fin k1_t73_loop.trips) : Fin 2 → Nat :=
  let c3_i32_1158 : BitVec 32 := 3#32
  let v790 : Index := Scalar.indexCast c3_i32_1158
  let c0_i32_921 : BitVec 32 := 0#32
  let c1_i32_923 : BitVec 32 := 1#32
  let arg9 : BitVec 32 := Scf.iv c0_i32_921 c1_i32_923 k1_t73
  let c16_i32_1157 : BitVec 32 := 16#32
  let v789 : BitVec 32 := Scalar.muli arg9 c16_i32_1157
  let v791 : Index := Scalar.indexCast v789
  ![3, v791.toNat]
def k1_off1215 (k1_t73 : Fin k1_t73_loop.trips) : Fin 2 → Nat :=
  let c4_i32_1160 : BitVec 32 := 4#32
  let v794 : Index := Scalar.indexCast c4_i32_1160
  let c0_i32_921 : BitVec 32 := 0#32
  let c1_i32_923 : BitVec 32 := 1#32
  let arg9 : BitVec 32 := Scf.iv c0_i32_921 c1_i32_923 k1_t73
  let c16_i32_1159 : BitVec 32 := 16#32
  let v793 : BitVec 32 := Scalar.muli arg9 c16_i32_1159
  let v795 : Index := Scalar.indexCast v793
  ![4, v795.toNat]
def k1_off1216 (k1_t73 : Fin k1_t73_loop.trips) : Fin 2 → Nat :=
  let c5_i32_1162 : BitVec 32 := 5#32
  let v798 : Index := Scalar.indexCast c5_i32_1162
  let c0_i32_921 : BitVec 32 := 0#32
  let c1_i32_923 : BitVec 32 := 1#32
  let arg9 : BitVec 32 := Scf.iv c0_i32_921 c1_i32_923 k1_t73
  let c16_i32_1161 : BitVec 32 := 16#32
  let v797 : BitVec 32 := Scalar.muli arg9 c16_i32_1161
  let v799 : Index := Scalar.indexCast v797
  ![5, v799.toNat]
def k1_off1217 (k1_t73 : Fin k1_t73_loop.trips) : Fin 2 → Nat :=
  let c6_i32_1164 : BitVec 32 := 6#32
  let v802 : Index := Scalar.indexCast c6_i32_1164
  let c0_i32_921 : BitVec 32 := 0#32
  let c1_i32_923 : BitVec 32 := 1#32
  let arg9 : BitVec 32 := Scf.iv c0_i32_921 c1_i32_923 k1_t73
  let c16_i32_1163 : BitVec 32 := 16#32
  let v801 : BitVec 32 := Scalar.muli arg9 c16_i32_1163
  let v803 : Index := Scalar.indexCast v801
  ![6, v803.toNat]
def k1_off1218 (k1_t73 : Fin k1_t73_loop.trips) : Fin 2 → Nat :=
  let c7_i32_1166 : BitVec 32 := 7#32
  let v806 : Index := Scalar.indexCast c7_i32_1166
  let c0_i32_921 : BitVec 32 := 0#32
  let c1_i32_923 : BitVec 32 := 1#32
  let arg9 : BitVec 32 := Scf.iv c0_i32_921 c1_i32_923 k1_t73
  let c16_i32_1165 : BitVec 32 := 16#32
  let v805 : BitVec 32 := Scalar.muli arg9 c16_i32_1165
  let v807 : Index := Scalar.indexCast v805
  ![7, v807.toNat]
def k1_off1219 (k1_t73 : Fin k1_t73_loop.trips) : Fin 2 → Nat :=
  let c8_i32_1168 : BitVec 32 := 8#32
  let v810 : Index := Scalar.indexCast c8_i32_1168
  let c0_i32_921 : BitVec 32 := 0#32
  let c1_i32_923 : BitVec 32 := 1#32
  let arg9 : BitVec 32 := Scf.iv c0_i32_921 c1_i32_923 k1_t73
  let c16_i32_1167 : BitVec 32 := 16#32
  let v809 : BitVec 32 := Scalar.muli arg9 c16_i32_1167
  let v811 : Index := Scalar.indexCast v809
  ![8, v811.toNat]
def k1_off1220 (k1_t73 : Fin k1_t73_loop.trips) : Fin 2 → Nat :=
  let c9_i32_1170 : BitVec 32 := 9#32
  let v814 : Index := Scalar.indexCast c9_i32_1170
  let c0_i32_921 : BitVec 32 := 0#32
  let c1_i32_923 : BitVec 32 := 1#32
  let arg9 : BitVec 32 := Scf.iv c0_i32_921 c1_i32_923 k1_t73
  let c16_i32_1169 : BitVec 32 := 16#32
  let v813 : BitVec 32 := Scalar.muli arg9 c16_i32_1169
  let v815 : Index := Scalar.indexCast v813
  ![9, v815.toNat]
def k1_off1221 (k1_t73 : Fin k1_t73_loop.trips) : Fin 2 → Nat :=
  let c10_i32_1172 : BitVec 32 := 10#32
  let v818 : Index := Scalar.indexCast c10_i32_1172
  let c0_i32_921 : BitVec 32 := 0#32
  let c1_i32_923 : BitVec 32 := 1#32
  let arg9 : BitVec 32 := Scf.iv c0_i32_921 c1_i32_923 k1_t73
  let c16_i32_1171 : BitVec 32 := 16#32
  let v817 : BitVec 32 := Scalar.muli arg9 c16_i32_1171
  let v819 : Index := Scalar.indexCast v817
  ![10, v819.toNat]
def k1_off1222 (k1_t73 : Fin k1_t73_loop.trips) : Fin 2 → Nat :=
  let c11_i32_1174 : BitVec 32 := 11#32
  let v822 : Index := Scalar.indexCast c11_i32_1174
  let c0_i32_921 : BitVec 32 := 0#32
  let c1_i32_923 : BitVec 32 := 1#32
  let arg9 : BitVec 32 := Scf.iv c0_i32_921 c1_i32_923 k1_t73
  let c16_i32_1173 : BitVec 32 := 16#32
  let v821 : BitVec 32 := Scalar.muli arg9 c16_i32_1173
  let v823 : Index := Scalar.indexCast v821
  ![11, v823.toNat]
def k1_off1223 (k1_t73 : Fin k1_t73_loop.trips) : Fin 2 → Nat :=
  let c12_i32_1176 : BitVec 32 := 12#32
  let v826 : Index := Scalar.indexCast c12_i32_1176
  let c0_i32_921 : BitVec 32 := 0#32
  let c1_i32_923 : BitVec 32 := 1#32
  let arg9 : BitVec 32 := Scf.iv c0_i32_921 c1_i32_923 k1_t73
  let c16_i32_1175 : BitVec 32 := 16#32
  let v825 : BitVec 32 := Scalar.muli arg9 c16_i32_1175
  let v827 : Index := Scalar.indexCast v825
  ![12, v827.toNat]
def k1_off1224 (k1_t73 : Fin k1_t73_loop.trips) : Fin 2 → Nat :=
  let c13_i32_1178 : BitVec 32 := 13#32
  let v830 : Index := Scalar.indexCast c13_i32_1178
  let c0_i32_921 : BitVec 32 := 0#32
  let c1_i32_923 : BitVec 32 := 1#32
  let arg9 : BitVec 32 := Scf.iv c0_i32_921 c1_i32_923 k1_t73
  let c16_i32_1177 : BitVec 32 := 16#32
  let v829 : BitVec 32 := Scalar.muli arg9 c16_i32_1177
  let v831 : Index := Scalar.indexCast v829
  ![13, v831.toNat]
def k1_off1225 (k1_t73 : Fin k1_t73_loop.trips) : Fin 2 → Nat :=
  let c14_i32_1180 : BitVec 32 := 14#32
  let v834 : Index := Scalar.indexCast c14_i32_1180
  let c0_i32_921 : BitVec 32 := 0#32
  let c1_i32_923 : BitVec 32 := 1#32
  let arg9 : BitVec 32 := Scf.iv c0_i32_921 c1_i32_923 k1_t73
  let c16_i32_1179 : BitVec 32 := 16#32
  let v833 : BitVec 32 := Scalar.muli arg9 c16_i32_1179
  let v835 : Index := Scalar.indexCast v833
  ![14, v835.toNat]
def k1_off1226 (k1_t73 : Fin k1_t73_loop.trips) : Fin 2 → Nat :=
  let c15_i32_1182 : BitVec 32 := 15#32
  let v838 : Index := Scalar.indexCast c15_i32_1182
  let c0_i32_921 : BitVec 32 := 0#32
  let c1_i32_923 : BitVec 32 := 1#32
  let arg9 : BitVec 32 := Scf.iv c0_i32_921 c1_i32_923 k1_t73
  let c16_i32_1181 : BitVec 32 := 16#32
  let v837 : BitVec 32 := Scalar.muli arg9 c16_i32_1181
  let v839 : Index := Scalar.indexCast v837
  ![15, v839.toNat]

def k1_chk1137 (v780 : IVec S16 32) : Prop :=
  (∀ a x, ((![v780] : Fin 1 → IVec S16 32) a x).toNat < S88320.size a)
theorem k1_idx1137_inb : ∀ (v780 : IVec S16 32) (k1_hw1137 : k1_chk1137 v780), ∀ a x, ((![v780] : Fin 1 → IVec S16 32) a x).toNat < S88320.size a := fun v780 k1_hw1137 => k1_hw1137

def k1_chk1138 (v784 : IVec S16 32) : Prop :=
  (∀ a x, ((![v784] : Fin 1 → IVec S16 32) a x).toNat < S88320.size a)
theorem k1_idx1138_inb : ∀ (v784 : IVec S16 32) (k1_hw1138 : k1_chk1138 v784), ∀ a x, ((![v784] : Fin 1 → IVec S16 32) a x).toNat < S88320.size a := fun v784 k1_hw1138 => k1_hw1138

def k1_chk1139 (v788 : IVec S16 32) : Prop :=
  (∀ a x, ((![v788] : Fin 1 → IVec S16 32) a x).toNat < S88320.size a)
theorem k1_idx1139_inb : ∀ (v788 : IVec S16 32) (k1_hw1139 : k1_chk1139 v788), ∀ a x, ((![v788] : Fin 1 → IVec S16 32) a x).toNat < S88320.size a := fun v788 k1_hw1139 => k1_hw1139

def k1_chk1140 (v792 : IVec S16 32) : Prop :=
  (∀ a x, ((![v792] : Fin 1 → IVec S16 32) a x).toNat < S88320.size a)
theorem k1_idx1140_inb : ∀ (v792 : IVec S16 32) (k1_hw1140 : k1_chk1140 v792), ∀ a x, ((![v792] : Fin 1 → IVec S16 32) a x).toNat < S88320.size a := fun v792 k1_hw1140 => k1_hw1140

def k1_chk1141 (v796 : IVec S16 32) : Prop :=
  (∀ a x, ((![v796] : Fin 1 → IVec S16 32) a x).toNat < S88320.size a)
theorem k1_idx1141_inb : ∀ (v796 : IVec S16 32) (k1_hw1141 : k1_chk1141 v796), ∀ a x, ((![v796] : Fin 1 → IVec S16 32) a x).toNat < S88320.size a := fun v796 k1_hw1141 => k1_hw1141

def k1_chk1142 (v800 : IVec S16 32) : Prop :=
  (∀ a x, ((![v800] : Fin 1 → IVec S16 32) a x).toNat < S88320.size a)
theorem k1_idx1142_inb : ∀ (v800 : IVec S16 32) (k1_hw1142 : k1_chk1142 v800), ∀ a x, ((![v800] : Fin 1 → IVec S16 32) a x).toNat < S88320.size a := fun v800 k1_hw1142 => k1_hw1142

def k1_chk1143 (v804 : IVec S16 32) : Prop :=
  (∀ a x, ((![v804] : Fin 1 → IVec S16 32) a x).toNat < S88320.size a)
theorem k1_idx1143_inb : ∀ (v804 : IVec S16 32) (k1_hw1143 : k1_chk1143 v804), ∀ a x, ((![v804] : Fin 1 → IVec S16 32) a x).toNat < S88320.size a := fun v804 k1_hw1143 => k1_hw1143

def k1_chk1144 (v808 : IVec S16 32) : Prop :=
  (∀ a x, ((![v808] : Fin 1 → IVec S16 32) a x).toNat < S88320.size a)
theorem k1_idx1144_inb : ∀ (v808 : IVec S16 32) (k1_hw1144 : k1_chk1144 v808), ∀ a x, ((![v808] : Fin 1 → IVec S16 32) a x).toNat < S88320.size a := fun v808 k1_hw1144 => k1_hw1144

def k1_chk1145 (v812 : IVec S16 32) : Prop :=
  (∀ a x, ((![v812] : Fin 1 → IVec S16 32) a x).toNat < S88320.size a)
theorem k1_idx1145_inb : ∀ (v812 : IVec S16 32) (k1_hw1145 : k1_chk1145 v812), ∀ a x, ((![v812] : Fin 1 → IVec S16 32) a x).toNat < S88320.size a := fun v812 k1_hw1145 => k1_hw1145

def k1_chk1146 (v816 : IVec S16 32) : Prop :=
  (∀ a x, ((![v816] : Fin 1 → IVec S16 32) a x).toNat < S88320.size a)
theorem k1_idx1146_inb : ∀ (v816 : IVec S16 32) (k1_hw1146 : k1_chk1146 v816), ∀ a x, ((![v816] : Fin 1 → IVec S16 32) a x).toNat < S88320.size a := fun v816 k1_hw1146 => k1_hw1146

def k1_chk1147 (v820 : IVec S16 32) : Prop :=
  (∀ a x, ((![v820] : Fin 1 → IVec S16 32) a x).toNat < S88320.size a)
theorem k1_idx1147_inb : ∀ (v820 : IVec S16 32) (k1_hw1147 : k1_chk1147 v820), ∀ a x, ((![v820] : Fin 1 → IVec S16 32) a x).toNat < S88320.size a := fun v820 k1_hw1147 => k1_hw1147

def k1_chk1148 (v824 : IVec S16 32) : Prop :=
  (∀ a x, ((![v824] : Fin 1 → IVec S16 32) a x).toNat < S88320.size a)
theorem k1_idx1148_inb : ∀ (v824 : IVec S16 32) (k1_hw1148 : k1_chk1148 v824), ∀ a x, ((![v824] : Fin 1 → IVec S16 32) a x).toNat < S88320.size a := fun v824 k1_hw1148 => k1_hw1148

def k1_chk1149 (v828 : IVec S16 32) : Prop :=
  (∀ a x, ((![v828] : Fin 1 → IVec S16 32) a x).toNat < S88320.size a)
theorem k1_idx1149_inb : ∀ (v828 : IVec S16 32) (k1_hw1149 : k1_chk1149 v828), ∀ a x, ((![v828] : Fin 1 → IVec S16 32) a x).toNat < S88320.size a := fun v828 k1_hw1149 => k1_hw1149

def k1_chk1150 (v832 : IVec S16 32) : Prop :=
  (∀ a x, ((![v832] : Fin 1 → IVec S16 32) a x).toNat < S88320.size a)
theorem k1_idx1150_inb : ∀ (v832 : IVec S16 32) (k1_hw1150 : k1_chk1150 v832), ∀ a x, ((![v832] : Fin 1 → IVec S16 32) a x).toNat < S88320.size a := fun v832 k1_hw1150 => k1_hw1150

def k1_chk1151 (v836 : IVec S16 32) : Prop :=
  (∀ a x, ((![v836] : Fin 1 → IVec S16 32) a x).toNat < S88320.size a)
theorem k1_idx1151_inb : ∀ (v836 : IVec S16 32) (k1_hw1151 : k1_chk1151 v836), ∀ a x, ((![v836] : Fin 1 → IVec S16 32) a x).toNat < S88320.size a := fun v836 k1_hw1151 => k1_hw1151

def k1_chk1152 (v840 : IVec S16 32) : Prop :=
  (∀ a x, ((![v840] : Fin 1 → IVec S16 32) a x).toNat < S88320.size a)
theorem k1_idx1152_inb : ∀ (v840 : IVec S16 32) (k1_hw1152 : k1_chk1152 v840), ∀ a x, ((![v840] : Fin 1 → IVec S16 32) a x).toNat < S88320.size a := fun v840 k1_hw1152 => k1_hw1152
def k1_off1227 (i : grid1.Coords) : Fin 4 → Nat :=
  let c3_i32_925 : BitVec 32 := 3#32
  let c10_i32_926 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_927 : BitVec 32 := 0#32
  ![3, 10, v2.toNat, 0]
@[reducible] def k1_t74_loop : Scf.Loop 32 :=
  let c0_i32_934 : BitVec 32 := 0#32
  let c32_i32_935 : BitVec 32 := 32#32
  let v666 : BitVec 32 := Scalar.addi c0_i32_934 c32_i32_935
  let c1_i32_936 : BitVec 32 := 1#32
  ⟨c0_i32_934, v666, c1_i32_936⟩
def k1_off1228 (k1_t74 : Fin k1_t74_loop.trips) : Fin 2 → Nat :=
  let c0_i32_1152 : BitVec 32 := 0#32
  let v778 : Index := Scalar.indexCast c0_i32_1152
  let c0_i32_934 : BitVec 32 := 0#32
  let c1_i32_936 : BitVec 32 := 1#32
  let arg9 : BitVec 32 := Scf.iv c0_i32_934 c1_i32_936 k1_t74
  let c16_i32_1151 : BitVec 32 := 16#32
  let v777 : BitVec 32 := Scalar.muli arg9 c16_i32_1151
  let v779 : Index := Scalar.indexCast v777
  ![0, v779.toNat]
def k1_off1229 (k1_t74 : Fin k1_t74_loop.trips) : Fin 2 → Nat :=
  let c1_i32_1154 : BitVec 32 := 1#32
  let v782 : Index := Scalar.indexCast c1_i32_1154
  let c0_i32_934 : BitVec 32 := 0#32
  let c1_i32_936 : BitVec 32 := 1#32
  let arg9 : BitVec 32 := Scf.iv c0_i32_934 c1_i32_936 k1_t74
  let c16_i32_1153 : BitVec 32 := 16#32
  let v781 : BitVec 32 := Scalar.muli arg9 c16_i32_1153
  let v783 : Index := Scalar.indexCast v781
  ![1, v783.toNat]
def k1_off1230 (k1_t74 : Fin k1_t74_loop.trips) : Fin 2 → Nat :=
  let c2_i32_1156 : BitVec 32 := 2#32
  let v786 : Index := Scalar.indexCast c2_i32_1156
  let c0_i32_934 : BitVec 32 := 0#32
  let c1_i32_936 : BitVec 32 := 1#32
  let arg9 : BitVec 32 := Scf.iv c0_i32_934 c1_i32_936 k1_t74
  let c16_i32_1155 : BitVec 32 := 16#32
  let v785 : BitVec 32 := Scalar.muli arg9 c16_i32_1155
  let v787 : Index := Scalar.indexCast v785
  ![2, v787.toNat]
def k1_off1231 (k1_t74 : Fin k1_t74_loop.trips) : Fin 2 → Nat :=
  let c3_i32_1158 : BitVec 32 := 3#32
  let v790 : Index := Scalar.indexCast c3_i32_1158
  let c0_i32_934 : BitVec 32 := 0#32
  let c1_i32_936 : BitVec 32 := 1#32
  let arg9 : BitVec 32 := Scf.iv c0_i32_934 c1_i32_936 k1_t74
  let c16_i32_1157 : BitVec 32 := 16#32
  let v789 : BitVec 32 := Scalar.muli arg9 c16_i32_1157
  let v791 : Index := Scalar.indexCast v789
  ![3, v791.toNat]
def k1_off1232 (k1_t74 : Fin k1_t74_loop.trips) : Fin 2 → Nat :=
  let c4_i32_1160 : BitVec 32 := 4#32
  let v794 : Index := Scalar.indexCast c4_i32_1160
  let c0_i32_934 : BitVec 32 := 0#32
  let c1_i32_936 : BitVec 32 := 1#32
  let arg9 : BitVec 32 := Scf.iv c0_i32_934 c1_i32_936 k1_t74
  let c16_i32_1159 : BitVec 32 := 16#32
  let v793 : BitVec 32 := Scalar.muli arg9 c16_i32_1159
  let v795 : Index := Scalar.indexCast v793
  ![4, v795.toNat]
def k1_off1233 (k1_t74 : Fin k1_t74_loop.trips) : Fin 2 → Nat :=
  let c5_i32_1162 : BitVec 32 := 5#32
  let v798 : Index := Scalar.indexCast c5_i32_1162
  let c0_i32_934 : BitVec 32 := 0#32
  let c1_i32_936 : BitVec 32 := 1#32
  let arg9 : BitVec 32 := Scf.iv c0_i32_934 c1_i32_936 k1_t74
  let c16_i32_1161 : BitVec 32 := 16#32
  let v797 : BitVec 32 := Scalar.muli arg9 c16_i32_1161
  let v799 : Index := Scalar.indexCast v797
  ![5, v799.toNat]
def k1_off1234 (k1_t74 : Fin k1_t74_loop.trips) : Fin 2 → Nat :=
  let c6_i32_1164 : BitVec 32 := 6#32
  let v802 : Index := Scalar.indexCast c6_i32_1164
  let c0_i32_934 : BitVec 32 := 0#32
  let c1_i32_936 : BitVec 32 := 1#32
  let arg9 : BitVec 32 := Scf.iv c0_i32_934 c1_i32_936 k1_t74
  let c16_i32_1163 : BitVec 32 := 16#32
  let v801 : BitVec 32 := Scalar.muli arg9 c16_i32_1163
  let v803 : Index := Scalar.indexCast v801
  ![6, v803.toNat]
def k1_off1235 (k1_t74 : Fin k1_t74_loop.trips) : Fin 2 → Nat :=
  let c7_i32_1166 : BitVec 32 := 7#32
  let v806 : Index := Scalar.indexCast c7_i32_1166
  let c0_i32_934 : BitVec 32 := 0#32
  let c1_i32_936 : BitVec 32 := 1#32
  let arg9 : BitVec 32 := Scf.iv c0_i32_934 c1_i32_936 k1_t74
  let c16_i32_1165 : BitVec 32 := 16#32
  let v805 : BitVec 32 := Scalar.muli arg9 c16_i32_1165
  let v807 : Index := Scalar.indexCast v805
  ![7, v807.toNat]
def k1_off1236 (k1_t74 : Fin k1_t74_loop.trips) : Fin 2 → Nat :=
  let c8_i32_1168 : BitVec 32 := 8#32
  let v810 : Index := Scalar.indexCast c8_i32_1168
  let c0_i32_934 : BitVec 32 := 0#32
  let c1_i32_936 : BitVec 32 := 1#32
  let arg9 : BitVec 32 := Scf.iv c0_i32_934 c1_i32_936 k1_t74
  let c16_i32_1167 : BitVec 32 := 16#32
  let v809 : BitVec 32 := Scalar.muli arg9 c16_i32_1167
  let v811 : Index := Scalar.indexCast v809
  ![8, v811.toNat]
def k1_off1237 (k1_t74 : Fin k1_t74_loop.trips) : Fin 2 → Nat :=
  let c9_i32_1170 : BitVec 32 := 9#32
  let v814 : Index := Scalar.indexCast c9_i32_1170
  let c0_i32_934 : BitVec 32 := 0#32
  let c1_i32_936 : BitVec 32 := 1#32
  let arg9 : BitVec 32 := Scf.iv c0_i32_934 c1_i32_936 k1_t74
  let c16_i32_1169 : BitVec 32 := 16#32
  let v813 : BitVec 32 := Scalar.muli arg9 c16_i32_1169
  let v815 : Index := Scalar.indexCast v813
  ![9, v815.toNat]
def k1_off1238 (k1_t74 : Fin k1_t74_loop.trips) : Fin 2 → Nat :=
  let c10_i32_1172 : BitVec 32 := 10#32
  let v818 : Index := Scalar.indexCast c10_i32_1172
  let c0_i32_934 : BitVec 32 := 0#32
  let c1_i32_936 : BitVec 32 := 1#32
  let arg9 : BitVec 32 := Scf.iv c0_i32_934 c1_i32_936 k1_t74
  let c16_i32_1171 : BitVec 32 := 16#32
  let v817 : BitVec 32 := Scalar.muli arg9 c16_i32_1171
  let v819 : Index := Scalar.indexCast v817
  ![10, v819.toNat]
def k1_off1239 (k1_t74 : Fin k1_t74_loop.trips) : Fin 2 → Nat :=
  let c11_i32_1174 : BitVec 32 := 11#32
  let v822 : Index := Scalar.indexCast c11_i32_1174
  let c0_i32_934 : BitVec 32 := 0#32
  let c1_i32_936 : BitVec 32 := 1#32
  let arg9 : BitVec 32 := Scf.iv c0_i32_934 c1_i32_936 k1_t74
  let c16_i32_1173 : BitVec 32 := 16#32
  let v821 : BitVec 32 := Scalar.muli arg9 c16_i32_1173
  let v823 : Index := Scalar.indexCast v821
  ![11, v823.toNat]
def k1_off1240 (k1_t74 : Fin k1_t74_loop.trips) : Fin 2 → Nat :=
  let c12_i32_1176 : BitVec 32 := 12#32
  let v826 : Index := Scalar.indexCast c12_i32_1176
  let c0_i32_934 : BitVec 32 := 0#32
  let c1_i32_936 : BitVec 32 := 1#32
  let arg9 : BitVec 32 := Scf.iv c0_i32_934 c1_i32_936 k1_t74
  let c16_i32_1175 : BitVec 32 := 16#32
  let v825 : BitVec 32 := Scalar.muli arg9 c16_i32_1175
  let v827 : Index := Scalar.indexCast v825
  ![12, v827.toNat]
def k1_off1241 (k1_t74 : Fin k1_t74_loop.trips) : Fin 2 → Nat :=
  let c13_i32_1178 : BitVec 32 := 13#32
  let v830 : Index := Scalar.indexCast c13_i32_1178
  let c0_i32_934 : BitVec 32 := 0#32
  let c1_i32_936 : BitVec 32 := 1#32
  let arg9 : BitVec 32 := Scf.iv c0_i32_934 c1_i32_936 k1_t74
  let c16_i32_1177 : BitVec 32 := 16#32
  let v829 : BitVec 32 := Scalar.muli arg9 c16_i32_1177
  let v831 : Index := Scalar.indexCast v829
  ![13, v831.toNat]
def k1_off1242 (k1_t74 : Fin k1_t74_loop.trips) : Fin 2 → Nat :=
  let c14_i32_1180 : BitVec 32 := 14#32
  let v834 : Index := Scalar.indexCast c14_i32_1180
  let c0_i32_934 : BitVec 32 := 0#32
  let c1_i32_936 : BitVec 32 := 1#32
  let arg9 : BitVec 32 := Scf.iv c0_i32_934 c1_i32_936 k1_t74
  let c16_i32_1179 : BitVec 32 := 16#32
  let v833 : BitVec 32 := Scalar.muli arg9 c16_i32_1179
  let v835 : Index := Scalar.indexCast v833
  ![14, v835.toNat]
def k1_off1243 (k1_t74 : Fin k1_t74_loop.trips) : Fin 2 → Nat :=
  let c15_i32_1182 : BitVec 32 := 15#32
  let v838 : Index := Scalar.indexCast c15_i32_1182
  let c0_i32_934 : BitVec 32 := 0#32
  let c1_i32_936 : BitVec 32 := 1#32
  let arg9 : BitVec 32 := Scf.iv c0_i32_934 c1_i32_936 k1_t74
  let c16_i32_1181 : BitVec 32 := 16#32
  let v837 : BitVec 32 := Scalar.muli arg9 c16_i32_1181
  let v839 : Index := Scalar.indexCast v837
  ![15, v839.toNat]

def k1_chk1153 (v780 : IVec S16 32) : Prop :=
  (∀ a x, ((![v780] : Fin 1 → IVec S16 32) a x).toNat < S88320.size a)
theorem k1_idx1153_inb : ∀ (v780 : IVec S16 32) (k1_hw1153 : k1_chk1153 v780), ∀ a x, ((![v780] : Fin 1 → IVec S16 32) a x).toNat < S88320.size a := fun v780 k1_hw1153 => k1_hw1153

def k1_chk1154 (v784 : IVec S16 32) : Prop :=
  (∀ a x, ((![v784] : Fin 1 → IVec S16 32) a x).toNat < S88320.size a)
theorem k1_idx1154_inb : ∀ (v784 : IVec S16 32) (k1_hw1154 : k1_chk1154 v784), ∀ a x, ((![v784] : Fin 1 → IVec S16 32) a x).toNat < S88320.size a := fun v784 k1_hw1154 => k1_hw1154

def k1_chk1155 (v788 : IVec S16 32) : Prop :=
  (∀ a x, ((![v788] : Fin 1 → IVec S16 32) a x).toNat < S88320.size a)
theorem k1_idx1155_inb : ∀ (v788 : IVec S16 32) (k1_hw1155 : k1_chk1155 v788), ∀ a x, ((![v788] : Fin 1 → IVec S16 32) a x).toNat < S88320.size a := fun v788 k1_hw1155 => k1_hw1155

def k1_chk1156 (v792 : IVec S16 32) : Prop :=
  (∀ a x, ((![v792] : Fin 1 → IVec S16 32) a x).toNat < S88320.size a)
theorem k1_idx1156_inb : ∀ (v792 : IVec S16 32) (k1_hw1156 : k1_chk1156 v792), ∀ a x, ((![v792] : Fin 1 → IVec S16 32) a x).toNat < S88320.size a := fun v792 k1_hw1156 => k1_hw1156

def k1_chk1157 (v796 : IVec S16 32) : Prop :=
  (∀ a x, ((![v796] : Fin 1 → IVec S16 32) a x).toNat < S88320.size a)
theorem k1_idx1157_inb : ∀ (v796 : IVec S16 32) (k1_hw1157 : k1_chk1157 v796), ∀ a x, ((![v796] : Fin 1 → IVec S16 32) a x).toNat < S88320.size a := fun v796 k1_hw1157 => k1_hw1157

def k1_chk1158 (v800 : IVec S16 32) : Prop :=
  (∀ a x, ((![v800] : Fin 1 → IVec S16 32) a x).toNat < S88320.size a)
theorem k1_idx1158_inb : ∀ (v800 : IVec S16 32) (k1_hw1158 : k1_chk1158 v800), ∀ a x, ((![v800] : Fin 1 → IVec S16 32) a x).toNat < S88320.size a := fun v800 k1_hw1158 => k1_hw1158

def k1_chk1159 (v804 : IVec S16 32) : Prop :=
  (∀ a x, ((![v804] : Fin 1 → IVec S16 32) a x).toNat < S88320.size a)
theorem k1_idx1159_inb : ∀ (v804 : IVec S16 32) (k1_hw1159 : k1_chk1159 v804), ∀ a x, ((![v804] : Fin 1 → IVec S16 32) a x).toNat < S88320.size a := fun v804 k1_hw1159 => k1_hw1159

def k1_chk1160 (v808 : IVec S16 32) : Prop :=
  (∀ a x, ((![v808] : Fin 1 → IVec S16 32) a x).toNat < S88320.size a)
theorem k1_idx1160_inb : ∀ (v808 : IVec S16 32) (k1_hw1160 : k1_chk1160 v808), ∀ a x, ((![v808] : Fin 1 → IVec S16 32) a x).toNat < S88320.size a := fun v808 k1_hw1160 => k1_hw1160

def k1_chk1161 (v812 : IVec S16 32) : Prop :=
  (∀ a x, ((![v812] : Fin 1 → IVec S16 32) a x).toNat < S88320.size a)
theorem k1_idx1161_inb : ∀ (v812 : IVec S16 32) (k1_hw1161 : k1_chk1161 v812), ∀ a x, ((![v812] : Fin 1 → IVec S16 32) a x).toNat < S88320.size a := fun v812 k1_hw1161 => k1_hw1161

def k1_chk1162 (v816 : IVec S16 32) : Prop :=
  (∀ a x, ((![v816] : Fin 1 → IVec S16 32) a x).toNat < S88320.size a)
theorem k1_idx1162_inb : ∀ (v816 : IVec S16 32) (k1_hw1162 : k1_chk1162 v816), ∀ a x, ((![v816] : Fin 1 → IVec S16 32) a x).toNat < S88320.size a := fun v816 k1_hw1162 => k1_hw1162

def k1_chk1163 (v820 : IVec S16 32) : Prop :=
  (∀ a x, ((![v820] : Fin 1 → IVec S16 32) a x).toNat < S88320.size a)
theorem k1_idx1163_inb : ∀ (v820 : IVec S16 32) (k1_hw1163 : k1_chk1163 v820), ∀ a x, ((![v820] : Fin 1 → IVec S16 32) a x).toNat < S88320.size a := fun v820 k1_hw1163 => k1_hw1163

def k1_chk1164 (v824 : IVec S16 32) : Prop :=
  (∀ a x, ((![v824] : Fin 1 → IVec S16 32) a x).toNat < S88320.size a)
theorem k1_idx1164_inb : ∀ (v824 : IVec S16 32) (k1_hw1164 : k1_chk1164 v824), ∀ a x, ((![v824] : Fin 1 → IVec S16 32) a x).toNat < S88320.size a := fun v824 k1_hw1164 => k1_hw1164

def k1_chk1165 (v828 : IVec S16 32) : Prop :=
  (∀ a x, ((![v828] : Fin 1 → IVec S16 32) a x).toNat < S88320.size a)
theorem k1_idx1165_inb : ∀ (v828 : IVec S16 32) (k1_hw1165 : k1_chk1165 v828), ∀ a x, ((![v828] : Fin 1 → IVec S16 32) a x).toNat < S88320.size a := fun v828 k1_hw1165 => k1_hw1165

def k1_chk1166 (v832 : IVec S16 32) : Prop :=
  (∀ a x, ((![v832] : Fin 1 → IVec S16 32) a x).toNat < S88320.size a)
theorem k1_idx1166_inb : ∀ (v832 : IVec S16 32) (k1_hw1166 : k1_chk1166 v832), ∀ a x, ((![v832] : Fin 1 → IVec S16 32) a x).toNat < S88320.size a := fun v832 k1_hw1166 => k1_hw1166

def k1_chk1167 (v836 : IVec S16 32) : Prop :=
  (∀ a x, ((![v836] : Fin 1 → IVec S16 32) a x).toNat < S88320.size a)
theorem k1_idx1167_inb : ∀ (v836 : IVec S16 32) (k1_hw1167 : k1_chk1167 v836), ∀ a x, ((![v836] : Fin 1 → IVec S16 32) a x).toNat < S88320.size a := fun v836 k1_hw1167 => k1_hw1167

def k1_chk1168 (v840 : IVec S16 32) : Prop :=
  (∀ a x, ((![v840] : Fin 1 → IVec S16 32) a x).toNat < S88320.size a)
theorem k1_idx1168_inb : ∀ (v840 : IVec S16 32) (k1_hw1168 : k1_chk1168 v840), ∀ a x, ((![v840] : Fin 1 → IVec S16 32) a x).toNat < S88320.size a := fun v840 k1_hw1168 => k1_hw1168
def k1_off1244 (i : grid1.Coords) : Fin 4 → Nat :=
  let c3_i32_938 : BitVec 32 := 3#32
  let c11_i32_939 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_940 : BitVec 32 := 0#32
  ![3, 11, v2.toNat, 0]
@[reducible] def k1_t75_loop : Scf.Loop 32 :=
  let c0_i32_947 : BitVec 32 := 0#32
  let c32_i32_948 : BitVec 32 := 32#32
  let v675 : BitVec 32 := Scalar.addi c0_i32_947 c32_i32_948
  let c1_i32_949 : BitVec 32 := 1#32
  ⟨c0_i32_947, v675, c1_i32_949⟩
def k1_off1245 (k1_t75 : Fin k1_t75_loop.trips) : Fin 2 → Nat :=
  let c0_i32_1152 : BitVec 32 := 0#32
  let v778 : Index := Scalar.indexCast c0_i32_1152
  let c0_i32_947 : BitVec 32 := 0#32
  let c1_i32_949 : BitVec 32 := 1#32
  let arg9 : BitVec 32 := Scf.iv c0_i32_947 c1_i32_949 k1_t75
  let c16_i32_1151 : BitVec 32 := 16#32
  let v777 : BitVec 32 := Scalar.muli arg9 c16_i32_1151
  let v779 : Index := Scalar.indexCast v777
  ![0, v779.toNat]
def k1_off1246 (k1_t75 : Fin k1_t75_loop.trips) : Fin 2 → Nat :=
  let c1_i32_1154 : BitVec 32 := 1#32
  let v782 : Index := Scalar.indexCast c1_i32_1154
  let c0_i32_947 : BitVec 32 := 0#32
  let c1_i32_949 : BitVec 32 := 1#32
  let arg9 : BitVec 32 := Scf.iv c0_i32_947 c1_i32_949 k1_t75
  let c16_i32_1153 : BitVec 32 := 16#32
  let v781 : BitVec 32 := Scalar.muli arg9 c16_i32_1153
  let v783 : Index := Scalar.indexCast v781
  ![1, v783.toNat]
def k1_off1247 (k1_t75 : Fin k1_t75_loop.trips) : Fin 2 → Nat :=
  let c2_i32_1156 : BitVec 32 := 2#32
  let v786 : Index := Scalar.indexCast c2_i32_1156
  let c0_i32_947 : BitVec 32 := 0#32
  let c1_i32_949 : BitVec 32 := 1#32
  let arg9 : BitVec 32 := Scf.iv c0_i32_947 c1_i32_949 k1_t75
  let c16_i32_1155 : BitVec 32 := 16#32
  let v785 : BitVec 32 := Scalar.muli arg9 c16_i32_1155
  let v787 : Index := Scalar.indexCast v785
  ![2, v787.toNat]
def k1_off1248 (k1_t75 : Fin k1_t75_loop.trips) : Fin 2 → Nat :=
  let c3_i32_1158 : BitVec 32 := 3#32
  let v790 : Index := Scalar.indexCast c3_i32_1158
  let c0_i32_947 : BitVec 32 := 0#32
  let c1_i32_949 : BitVec 32 := 1#32
  let arg9 : BitVec 32 := Scf.iv c0_i32_947 c1_i32_949 k1_t75
  let c16_i32_1157 : BitVec 32 := 16#32
  let v789 : BitVec 32 := Scalar.muli arg9 c16_i32_1157
  let v791 : Index := Scalar.indexCast v789
  ![3, v791.toNat]
def k1_off1249 (k1_t75 : Fin k1_t75_loop.trips) : Fin 2 → Nat :=
  let c4_i32_1160 : BitVec 32 := 4#32
  let v794 : Index := Scalar.indexCast c4_i32_1160
  let c0_i32_947 : BitVec 32 := 0#32
  let c1_i32_949 : BitVec 32 := 1#32
  let arg9 : BitVec 32 := Scf.iv c0_i32_947 c1_i32_949 k1_t75
  let c16_i32_1159 : BitVec 32 := 16#32
  let v793 : BitVec 32 := Scalar.muli arg9 c16_i32_1159
  let v795 : Index := Scalar.indexCast v793
  ![4, v795.toNat]
def k1_off1250 (k1_t75 : Fin k1_t75_loop.trips) : Fin 2 → Nat :=
  let c5_i32_1162 : BitVec 32 := 5#32
  let v798 : Index := Scalar.indexCast c5_i32_1162
  let c0_i32_947 : BitVec 32 := 0#32
  let c1_i32_949 : BitVec 32 := 1#32
  let arg9 : BitVec 32 := Scf.iv c0_i32_947 c1_i32_949 k1_t75
  let c16_i32_1161 : BitVec 32 := 16#32
  let v797 : BitVec 32 := Scalar.muli arg9 c16_i32_1161
  let v799 : Index := Scalar.indexCast v797
  ![5, v799.toNat]
def k1_off1251 (k1_t75 : Fin k1_t75_loop.trips) : Fin 2 → Nat :=
  let c6_i32_1164 : BitVec 32 := 6#32
  let v802 : Index := Scalar.indexCast c6_i32_1164
  let c0_i32_947 : BitVec 32 := 0#32
  let c1_i32_949 : BitVec 32 := 1#32
  let arg9 : BitVec 32 := Scf.iv c0_i32_947 c1_i32_949 k1_t75
  let c16_i32_1163 : BitVec 32 := 16#32
  let v801 : BitVec 32 := Scalar.muli arg9 c16_i32_1163
  let v803 : Index := Scalar.indexCast v801
  ![6, v803.toNat]
def k1_off1252 (k1_t75 : Fin k1_t75_loop.trips) : Fin 2 → Nat :=
  let c7_i32_1166 : BitVec 32 := 7#32
  let v806 : Index := Scalar.indexCast c7_i32_1166
  let c0_i32_947 : BitVec 32 := 0#32
  let c1_i32_949 : BitVec 32 := 1#32
  let arg9 : BitVec 32 := Scf.iv c0_i32_947 c1_i32_949 k1_t75
  let c16_i32_1165 : BitVec 32 := 16#32
  let v805 : BitVec 32 := Scalar.muli arg9 c16_i32_1165
  let v807 : Index := Scalar.indexCast v805
  ![7, v807.toNat]
def k1_off1253 (k1_t75 : Fin k1_t75_loop.trips) : Fin 2 → Nat :=
  let c8_i32_1168 : BitVec 32 := 8#32
  let v810 : Index := Scalar.indexCast c8_i32_1168
  let c0_i32_947 : BitVec 32 := 0#32
  let c1_i32_949 : BitVec 32 := 1#32
  let arg9 : BitVec 32 := Scf.iv c0_i32_947 c1_i32_949 k1_t75
  let c16_i32_1167 : BitVec 32 := 16#32
  let v809 : BitVec 32 := Scalar.muli arg9 c16_i32_1167
  let v811 : Index := Scalar.indexCast v809
  ![8, v811.toNat]
def k1_off1254 (k1_t75 : Fin k1_t75_loop.trips) : Fin 2 → Nat :=
  let c9_i32_1170 : BitVec 32 := 9#32
  let v814 : Index := Scalar.indexCast c9_i32_1170
  let c0_i32_947 : BitVec 32 := 0#32
  let c1_i32_949 : BitVec 32 := 1#32
  let arg9 : BitVec 32 := Scf.iv c0_i32_947 c1_i32_949 k1_t75
  let c16_i32_1169 : BitVec 32 := 16#32
  let v813 : BitVec 32 := Scalar.muli arg9 c16_i32_1169
  let v815 : Index := Scalar.indexCast v813
  ![9, v815.toNat]
def k1_off1255 (k1_t75 : Fin k1_t75_loop.trips) : Fin 2 → Nat :=
  let c10_i32_1172 : BitVec 32 := 10#32
  let v818 : Index := Scalar.indexCast c10_i32_1172
  let c0_i32_947 : BitVec 32 := 0#32
  let c1_i32_949 : BitVec 32 := 1#32
  let arg9 : BitVec 32 := Scf.iv c0_i32_947 c1_i32_949 k1_t75
  let c16_i32_1171 : BitVec 32 := 16#32
  let v817 : BitVec 32 := Scalar.muli arg9 c16_i32_1171
  let v819 : Index := Scalar.indexCast v817
  ![10, v819.toNat]
def k1_off1256 (k1_t75 : Fin k1_t75_loop.trips) : Fin 2 → Nat :=
  let c11_i32_1174 : BitVec 32 := 11#32
  let v822 : Index := Scalar.indexCast c11_i32_1174
  let c0_i32_947 : BitVec 32 := 0#32
  let c1_i32_949 : BitVec 32 := 1#32
  let arg9 : BitVec 32 := Scf.iv c0_i32_947 c1_i32_949 k1_t75
  let c16_i32_1173 : BitVec 32 := 16#32
  let v821 : BitVec 32 := Scalar.muli arg9 c16_i32_1173
  let v823 : Index := Scalar.indexCast v821
  ![11, v823.toNat]
def k1_off1257 (k1_t75 : Fin k1_t75_loop.trips) : Fin 2 → Nat :=
  let c12_i32_1176 : BitVec 32 := 12#32
  let v826 : Index := Scalar.indexCast c12_i32_1176
  let c0_i32_947 : BitVec 32 := 0#32
  let c1_i32_949 : BitVec 32 := 1#32
  let arg9 : BitVec 32 := Scf.iv c0_i32_947 c1_i32_949 k1_t75
  let c16_i32_1175 : BitVec 32 := 16#32
  let v825 : BitVec 32 := Scalar.muli arg9 c16_i32_1175
  let v827 : Index := Scalar.indexCast v825
  ![12, v827.toNat]
def k1_off1258 (k1_t75 : Fin k1_t75_loop.trips) : Fin 2 → Nat :=
  let c13_i32_1178 : BitVec 32 := 13#32
  let v830 : Index := Scalar.indexCast c13_i32_1178
  let c0_i32_947 : BitVec 32 := 0#32
  let c1_i32_949 : BitVec 32 := 1#32
  let arg9 : BitVec 32 := Scf.iv c0_i32_947 c1_i32_949 k1_t75
  let c16_i32_1177 : BitVec 32 := 16#32
  let v829 : BitVec 32 := Scalar.muli arg9 c16_i32_1177
  let v831 : Index := Scalar.indexCast v829
  ![13, v831.toNat]
def k1_off1259 (k1_t75 : Fin k1_t75_loop.trips) : Fin 2 → Nat :=
  let c14_i32_1180 : BitVec 32 := 14#32
  let v834 : Index := Scalar.indexCast c14_i32_1180
  let c0_i32_947 : BitVec 32 := 0#32
  let c1_i32_949 : BitVec 32 := 1#32
  let arg9 : BitVec 32 := Scf.iv c0_i32_947 c1_i32_949 k1_t75
  let c16_i32_1179 : BitVec 32 := 16#32
  let v833 : BitVec 32 := Scalar.muli arg9 c16_i32_1179
  let v835 : Index := Scalar.indexCast v833
  ![14, v835.toNat]
def k1_off1260 (k1_t75 : Fin k1_t75_loop.trips) : Fin 2 → Nat :=
  let c15_i32_1182 : BitVec 32 := 15#32
  let v838 : Index := Scalar.indexCast c15_i32_1182
  let c0_i32_947 : BitVec 32 := 0#32
  let c1_i32_949 : BitVec 32 := 1#32
  let arg9 : BitVec 32 := Scf.iv c0_i32_947 c1_i32_949 k1_t75
  let c16_i32_1181 : BitVec 32 := 16#32
  let v837 : BitVec 32 := Scalar.muli arg9 c16_i32_1181
  let v839 : Index := Scalar.indexCast v837
  ![15, v839.toNat]

def k1_chk1169 (v780 : IVec S16 32) : Prop :=
  (∀ a x, ((![v780] : Fin 1 → IVec S16 32) a x).toNat < S88320.size a)
theorem k1_idx1169_inb : ∀ (v780 : IVec S16 32) (k1_hw1169 : k1_chk1169 v780), ∀ a x, ((![v780] : Fin 1 → IVec S16 32) a x).toNat < S88320.size a := fun v780 k1_hw1169 => k1_hw1169

def k1_chk1170 (v784 : IVec S16 32) : Prop :=
  (∀ a x, ((![v784] : Fin 1 → IVec S16 32) a x).toNat < S88320.size a)
theorem k1_idx1170_inb : ∀ (v784 : IVec S16 32) (k1_hw1170 : k1_chk1170 v784), ∀ a x, ((![v784] : Fin 1 → IVec S16 32) a x).toNat < S88320.size a := fun v784 k1_hw1170 => k1_hw1170

def k1_chk1171 (v788 : IVec S16 32) : Prop :=
  (∀ a x, ((![v788] : Fin 1 → IVec S16 32) a x).toNat < S88320.size a)
theorem k1_idx1171_inb : ∀ (v788 : IVec S16 32) (k1_hw1171 : k1_chk1171 v788), ∀ a x, ((![v788] : Fin 1 → IVec S16 32) a x).toNat < S88320.size a := fun v788 k1_hw1171 => k1_hw1171

def k1_chk1172 (v792 : IVec S16 32) : Prop :=
  (∀ a x, ((![v792] : Fin 1 → IVec S16 32) a x).toNat < S88320.size a)
theorem k1_idx1172_inb : ∀ (v792 : IVec S16 32) (k1_hw1172 : k1_chk1172 v792), ∀ a x, ((![v792] : Fin 1 → IVec S16 32) a x).toNat < S88320.size a := fun v792 k1_hw1172 => k1_hw1172

def k1_chk1173 (v796 : IVec S16 32) : Prop :=
  (∀ a x, ((![v796] : Fin 1 → IVec S16 32) a x).toNat < S88320.size a)
theorem k1_idx1173_inb : ∀ (v796 : IVec S16 32) (k1_hw1173 : k1_chk1173 v796), ∀ a x, ((![v796] : Fin 1 → IVec S16 32) a x).toNat < S88320.size a := fun v796 k1_hw1173 => k1_hw1173

def k1_chk1174 (v800 : IVec S16 32) : Prop :=
  (∀ a x, ((![v800] : Fin 1 → IVec S16 32) a x).toNat < S88320.size a)
theorem k1_idx1174_inb : ∀ (v800 : IVec S16 32) (k1_hw1174 : k1_chk1174 v800), ∀ a x, ((![v800] : Fin 1 → IVec S16 32) a x).toNat < S88320.size a := fun v800 k1_hw1174 => k1_hw1174

def k1_chk1175 (v804 : IVec S16 32) : Prop :=
  (∀ a x, ((![v804] : Fin 1 → IVec S16 32) a x).toNat < S88320.size a)
theorem k1_idx1175_inb : ∀ (v804 : IVec S16 32) (k1_hw1175 : k1_chk1175 v804), ∀ a x, ((![v804] : Fin 1 → IVec S16 32) a x).toNat < S88320.size a := fun v804 k1_hw1175 => k1_hw1175

def k1_chk1176 (v808 : IVec S16 32) : Prop :=
  (∀ a x, ((![v808] : Fin 1 → IVec S16 32) a x).toNat < S88320.size a)
theorem k1_idx1176_inb : ∀ (v808 : IVec S16 32) (k1_hw1176 : k1_chk1176 v808), ∀ a x, ((![v808] : Fin 1 → IVec S16 32) a x).toNat < S88320.size a := fun v808 k1_hw1176 => k1_hw1176

def k1_chk1177 (v812 : IVec S16 32) : Prop :=
  (∀ a x, ((![v812] : Fin 1 → IVec S16 32) a x).toNat < S88320.size a)
theorem k1_idx1177_inb : ∀ (v812 : IVec S16 32) (k1_hw1177 : k1_chk1177 v812), ∀ a x, ((![v812] : Fin 1 → IVec S16 32) a x).toNat < S88320.size a := fun v812 k1_hw1177 => k1_hw1177

def k1_chk1178 (v816 : IVec S16 32) : Prop :=
  (∀ a x, ((![v816] : Fin 1 → IVec S16 32) a x).toNat < S88320.size a)
theorem k1_idx1178_inb : ∀ (v816 : IVec S16 32) (k1_hw1178 : k1_chk1178 v816), ∀ a x, ((![v816] : Fin 1 → IVec S16 32) a x).toNat < S88320.size a := fun v816 k1_hw1178 => k1_hw1178

def k1_chk1179 (v820 : IVec S16 32) : Prop :=
  (∀ a x, ((![v820] : Fin 1 → IVec S16 32) a x).toNat < S88320.size a)
theorem k1_idx1179_inb : ∀ (v820 : IVec S16 32) (k1_hw1179 : k1_chk1179 v820), ∀ a x, ((![v820] : Fin 1 → IVec S16 32) a x).toNat < S88320.size a := fun v820 k1_hw1179 => k1_hw1179

def k1_chk1180 (v824 : IVec S16 32) : Prop :=
  (∀ a x, ((![v824] : Fin 1 → IVec S16 32) a x).toNat < S88320.size a)
theorem k1_idx1180_inb : ∀ (v824 : IVec S16 32) (k1_hw1180 : k1_chk1180 v824), ∀ a x, ((![v824] : Fin 1 → IVec S16 32) a x).toNat < S88320.size a := fun v824 k1_hw1180 => k1_hw1180

def k1_chk1181 (v828 : IVec S16 32) : Prop :=
  (∀ a x, ((![v828] : Fin 1 → IVec S16 32) a x).toNat < S88320.size a)
theorem k1_idx1181_inb : ∀ (v828 : IVec S16 32) (k1_hw1181 : k1_chk1181 v828), ∀ a x, ((![v828] : Fin 1 → IVec S16 32) a x).toNat < S88320.size a := fun v828 k1_hw1181 => k1_hw1181

def k1_chk1182 (v832 : IVec S16 32) : Prop :=
  (∀ a x, ((![v832] : Fin 1 → IVec S16 32) a x).toNat < S88320.size a)
theorem k1_idx1182_inb : ∀ (v832 : IVec S16 32) (k1_hw1182 : k1_chk1182 v832), ∀ a x, ((![v832] : Fin 1 → IVec S16 32) a x).toNat < S88320.size a := fun v832 k1_hw1182 => k1_hw1182

def k1_chk1183 (v836 : IVec S16 32) : Prop :=
  (∀ a x, ((![v836] : Fin 1 → IVec S16 32) a x).toNat < S88320.size a)
theorem k1_idx1183_inb : ∀ (v836 : IVec S16 32) (k1_hw1183 : k1_chk1183 v836), ∀ a x, ((![v836] : Fin 1 → IVec S16 32) a x).toNat < S88320.size a := fun v836 k1_hw1183 => k1_hw1183

def k1_chk1184 (v840 : IVec S16 32) : Prop :=
  (∀ a x, ((![v840] : Fin 1 → IVec S16 32) a x).toNat < S88320.size a)
theorem k1_idx1184_inb : ∀ (v840 : IVec S16 32) (k1_hw1184 : k1_chk1184 v840), ∀ a x, ((![v840] : Fin 1 → IVec S16 32) a x).toNat < S88320.size a := fun v840 k1_hw1184 => k1_hw1184
def k1_off1261 (i : grid1.Coords) : Fin 4 → Nat :=
  let c3_i32_951 : BitVec 32 := 3#32
  let c12_i32_952 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_953 : BitVec 32 := 0#32
  ![3, 12, v2.toNat, 0]
@[reducible] def k1_t76_loop : Scf.Loop 32 :=
  let c0_i32_960 : BitVec 32 := 0#32
  let c32_i32_961 : BitVec 32 := 32#32
  let v684 : BitVec 32 := Scalar.addi c0_i32_960 c32_i32_961
  let c1_i32_962 : BitVec 32 := 1#32
  ⟨c0_i32_960, v684, c1_i32_962⟩
def k1_off1262 (k1_t76 : Fin k1_t76_loop.trips) : Fin 2 → Nat :=
  let c0_i32_1152 : BitVec 32 := 0#32
  let v778 : Index := Scalar.indexCast c0_i32_1152
  let c0_i32_960 : BitVec 32 := 0#32
  let c1_i32_962 : BitVec 32 := 1#32
  let arg9 : BitVec 32 := Scf.iv c0_i32_960 c1_i32_962 k1_t76
  let c16_i32_1151 : BitVec 32 := 16#32
  let v777 : BitVec 32 := Scalar.muli arg9 c16_i32_1151
  let v779 : Index := Scalar.indexCast v777
  ![0, v779.toNat]
def k1_off1263 (k1_t76 : Fin k1_t76_loop.trips) : Fin 2 → Nat :=
  let c1_i32_1154 : BitVec 32 := 1#32
  let v782 : Index := Scalar.indexCast c1_i32_1154
  let c0_i32_960 : BitVec 32 := 0#32
  let c1_i32_962 : BitVec 32 := 1#32
  let arg9 : BitVec 32 := Scf.iv c0_i32_960 c1_i32_962 k1_t76
  let c16_i32_1153 : BitVec 32 := 16#32
  let v781 : BitVec 32 := Scalar.muli arg9 c16_i32_1153
  let v783 : Index := Scalar.indexCast v781
  ![1, v783.toNat]
def k1_off1264 (k1_t76 : Fin k1_t76_loop.trips) : Fin 2 → Nat :=
  let c2_i32_1156 : BitVec 32 := 2#32
  let v786 : Index := Scalar.indexCast c2_i32_1156
  let c0_i32_960 : BitVec 32 := 0#32
  let c1_i32_962 : BitVec 32 := 1#32
  let arg9 : BitVec 32 := Scf.iv c0_i32_960 c1_i32_962 k1_t76
  let c16_i32_1155 : BitVec 32 := 16#32
  let v785 : BitVec 32 := Scalar.muli arg9 c16_i32_1155
  let v787 : Index := Scalar.indexCast v785
  ![2, v787.toNat]
def k1_off1265 (k1_t76 : Fin k1_t76_loop.trips) : Fin 2 → Nat :=
  let c3_i32_1158 : BitVec 32 := 3#32
  let v790 : Index := Scalar.indexCast c3_i32_1158
  let c0_i32_960 : BitVec 32 := 0#32
  let c1_i32_962 : BitVec 32 := 1#32
  let arg9 : BitVec 32 := Scf.iv c0_i32_960 c1_i32_962 k1_t76
  let c16_i32_1157 : BitVec 32 := 16#32
  let v789 : BitVec 32 := Scalar.muli arg9 c16_i32_1157
  let v791 : Index := Scalar.indexCast v789
  ![3, v791.toNat]
def k1_off1266 (k1_t76 : Fin k1_t76_loop.trips) : Fin 2 → Nat :=
  let c4_i32_1160 : BitVec 32 := 4#32
  let v794 : Index := Scalar.indexCast c4_i32_1160
  let c0_i32_960 : BitVec 32 := 0#32
  let c1_i32_962 : BitVec 32 := 1#32
  let arg9 : BitVec 32 := Scf.iv c0_i32_960 c1_i32_962 k1_t76
  let c16_i32_1159 : BitVec 32 := 16#32
  let v793 : BitVec 32 := Scalar.muli arg9 c16_i32_1159
  let v795 : Index := Scalar.indexCast v793
  ![4, v795.toNat]
def k1_off1267 (k1_t76 : Fin k1_t76_loop.trips) : Fin 2 → Nat :=
  let c5_i32_1162 : BitVec 32 := 5#32
  let v798 : Index := Scalar.indexCast c5_i32_1162
  let c0_i32_960 : BitVec 32 := 0#32
  let c1_i32_962 : BitVec 32 := 1#32
  let arg9 : BitVec 32 := Scf.iv c0_i32_960 c1_i32_962 k1_t76
  let c16_i32_1161 : BitVec 32 := 16#32
  let v797 : BitVec 32 := Scalar.muli arg9 c16_i32_1161
  let v799 : Index := Scalar.indexCast v797
  ![5, v799.toNat]
def k1_off1268 (k1_t76 : Fin k1_t76_loop.trips) : Fin 2 → Nat :=
  let c6_i32_1164 : BitVec 32 := 6#32
  let v802 : Index := Scalar.indexCast c6_i32_1164
  let c0_i32_960 : BitVec 32 := 0#32
  let c1_i32_962 : BitVec 32 := 1#32
  let arg9 : BitVec 32 := Scf.iv c0_i32_960 c1_i32_962 k1_t76
  let c16_i32_1163 : BitVec 32 := 16#32
  let v801 : BitVec 32 := Scalar.muli arg9 c16_i32_1163
  let v803 : Index := Scalar.indexCast v801
  ![6, v803.toNat]
def k1_off1269 (k1_t76 : Fin k1_t76_loop.trips) : Fin 2 → Nat :=
  let c7_i32_1166 : BitVec 32 := 7#32
  let v806 : Index := Scalar.indexCast c7_i32_1166
  let c0_i32_960 : BitVec 32 := 0#32
  let c1_i32_962 : BitVec 32 := 1#32
  let arg9 : BitVec 32 := Scf.iv c0_i32_960 c1_i32_962 k1_t76
  let c16_i32_1165 : BitVec 32 := 16#32
  let v805 : BitVec 32 := Scalar.muli arg9 c16_i32_1165
  let v807 : Index := Scalar.indexCast v805
  ![7, v807.toNat]
def k1_off1270 (k1_t76 : Fin k1_t76_loop.trips) : Fin 2 → Nat :=
  let c8_i32_1168 : BitVec 32 := 8#32
  let v810 : Index := Scalar.indexCast c8_i32_1168
  let c0_i32_960 : BitVec 32 := 0#32
  let c1_i32_962 : BitVec 32 := 1#32
  let arg9 : BitVec 32 := Scf.iv c0_i32_960 c1_i32_962 k1_t76
  let c16_i32_1167 : BitVec 32 := 16#32
  let v809 : BitVec 32 := Scalar.muli arg9 c16_i32_1167
  let v811 : Index := Scalar.indexCast v809
  ![8, v811.toNat]
def k1_off1271 (k1_t76 : Fin k1_t76_loop.trips) : Fin 2 → Nat :=
  let c9_i32_1170 : BitVec 32 := 9#32
  let v814 : Index := Scalar.indexCast c9_i32_1170
  let c0_i32_960 : BitVec 32 := 0#32
  let c1_i32_962 : BitVec 32 := 1#32
  let arg9 : BitVec 32 := Scf.iv c0_i32_960 c1_i32_962 k1_t76
  let c16_i32_1169 : BitVec 32 := 16#32
  let v813 : BitVec 32 := Scalar.muli arg9 c16_i32_1169
  let v815 : Index := Scalar.indexCast v813
  ![9, v815.toNat]
def k1_off1272 (k1_t76 : Fin k1_t76_loop.trips) : Fin 2 → Nat :=
  let c10_i32_1172 : BitVec 32 := 10#32
  let v818 : Index := Scalar.indexCast c10_i32_1172
  let c0_i32_960 : BitVec 32 := 0#32
  let c1_i32_962 : BitVec 32 := 1#32
  let arg9 : BitVec 32 := Scf.iv c0_i32_960 c1_i32_962 k1_t76
  let c16_i32_1171 : BitVec 32 := 16#32
  let v817 : BitVec 32 := Scalar.muli arg9 c16_i32_1171
  let v819 : Index := Scalar.indexCast v817
  ![10, v819.toNat]
def k1_off1273 (k1_t76 : Fin k1_t76_loop.trips) : Fin 2 → Nat :=
  let c11_i32_1174 : BitVec 32 := 11#32
  let v822 : Index := Scalar.indexCast c11_i32_1174
  let c0_i32_960 : BitVec 32 := 0#32
  let c1_i32_962 : BitVec 32 := 1#32
  let arg9 : BitVec 32 := Scf.iv c0_i32_960 c1_i32_962 k1_t76
  let c16_i32_1173 : BitVec 32 := 16#32
  let v821 : BitVec 32 := Scalar.muli arg9 c16_i32_1173
  let v823 : Index := Scalar.indexCast v821
  ![11, v823.toNat]
def k1_off1274 (k1_t76 : Fin k1_t76_loop.trips) : Fin 2 → Nat :=
  let c12_i32_1176 : BitVec 32 := 12#32
  let v826 : Index := Scalar.indexCast c12_i32_1176
  let c0_i32_960 : BitVec 32 := 0#32
  let c1_i32_962 : BitVec 32 := 1#32
  let arg9 : BitVec 32 := Scf.iv c0_i32_960 c1_i32_962 k1_t76
  let c16_i32_1175 : BitVec 32 := 16#32
  let v825 : BitVec 32 := Scalar.muli arg9 c16_i32_1175
  let v827 : Index := Scalar.indexCast v825
  ![12, v827.toNat]
def k1_off1275 (k1_t76 : Fin k1_t76_loop.trips) : Fin 2 → Nat :=
  let c13_i32_1178 : BitVec 32 := 13#32
  let v830 : Index := Scalar.indexCast c13_i32_1178
  let c0_i32_960 : BitVec 32 := 0#32
  let c1_i32_962 : BitVec 32 := 1#32
  let arg9 : BitVec 32 := Scf.iv c0_i32_960 c1_i32_962 k1_t76
  let c16_i32_1177 : BitVec 32 := 16#32
  let v829 : BitVec 32 := Scalar.muli arg9 c16_i32_1177
  let v831 : Index := Scalar.indexCast v829
  ![13, v831.toNat]
def k1_off1276 (k1_t76 : Fin k1_t76_loop.trips) : Fin 2 → Nat :=
  let c14_i32_1180 : BitVec 32 := 14#32
  let v834 : Index := Scalar.indexCast c14_i32_1180
  let c0_i32_960 : BitVec 32 := 0#32
  let c1_i32_962 : BitVec 32 := 1#32
  let arg9 : BitVec 32 := Scf.iv c0_i32_960 c1_i32_962 k1_t76
  let c16_i32_1179 : BitVec 32 := 16#32
  let v833 : BitVec 32 := Scalar.muli arg9 c16_i32_1179
  let v835 : Index := Scalar.indexCast v833
  ![14, v835.toNat]
def k1_off1277 (k1_t76 : Fin k1_t76_loop.trips) : Fin 2 → Nat :=
  let c15_i32_1182 : BitVec 32 := 15#32
  let v838 : Index := Scalar.indexCast c15_i32_1182
  let c0_i32_960 : BitVec 32 := 0#32
  let c1_i32_962 : BitVec 32 := 1#32
  let arg9 : BitVec 32 := Scf.iv c0_i32_960 c1_i32_962 k1_t76
  let c16_i32_1181 : BitVec 32 := 16#32
  let v837 : BitVec 32 := Scalar.muli arg9 c16_i32_1181
  let v839 : Index := Scalar.indexCast v837
  ![15, v839.toNat]

def k1_chk1185 (v780 : IVec S16 32) : Prop :=
  (∀ a x, ((![v780] : Fin 1 → IVec S16 32) a x).toNat < S88320.size a)
theorem k1_idx1185_inb : ∀ (v780 : IVec S16 32) (k1_hw1185 : k1_chk1185 v780), ∀ a x, ((![v780] : Fin 1 → IVec S16 32) a x).toNat < S88320.size a := fun v780 k1_hw1185 => k1_hw1185

def k1_chk1186 (v784 : IVec S16 32) : Prop :=
  (∀ a x, ((![v784] : Fin 1 → IVec S16 32) a x).toNat < S88320.size a)
theorem k1_idx1186_inb : ∀ (v784 : IVec S16 32) (k1_hw1186 : k1_chk1186 v784), ∀ a x, ((![v784] : Fin 1 → IVec S16 32) a x).toNat < S88320.size a := fun v784 k1_hw1186 => k1_hw1186

def k1_chk1187 (v788 : IVec S16 32) : Prop :=
  (∀ a x, ((![v788] : Fin 1 → IVec S16 32) a x).toNat < S88320.size a)
theorem k1_idx1187_inb : ∀ (v788 : IVec S16 32) (k1_hw1187 : k1_chk1187 v788), ∀ a x, ((![v788] : Fin 1 → IVec S16 32) a x).toNat < S88320.size a := fun v788 k1_hw1187 => k1_hw1187

def k1_chk1188 (v792 : IVec S16 32) : Prop :=
  (∀ a x, ((![v792] : Fin 1 → IVec S16 32) a x).toNat < S88320.size a)
theorem k1_idx1188_inb : ∀ (v792 : IVec S16 32) (k1_hw1188 : k1_chk1188 v792), ∀ a x, ((![v792] : Fin 1 → IVec S16 32) a x).toNat < S88320.size a := fun v792 k1_hw1188 => k1_hw1188

def k1_chk1189 (v796 : IVec S16 32) : Prop :=
  (∀ a x, ((![v796] : Fin 1 → IVec S16 32) a x).toNat < S88320.size a)
theorem k1_idx1189_inb : ∀ (v796 : IVec S16 32) (k1_hw1189 : k1_chk1189 v796), ∀ a x, ((![v796] : Fin 1 → IVec S16 32) a x).toNat < S88320.size a := fun v796 k1_hw1189 => k1_hw1189

def k1_chk1190 (v800 : IVec S16 32) : Prop :=
  (∀ a x, ((![v800] : Fin 1 → IVec S16 32) a x).toNat < S88320.size a)
theorem k1_idx1190_inb : ∀ (v800 : IVec S16 32) (k1_hw1190 : k1_chk1190 v800), ∀ a x, ((![v800] : Fin 1 → IVec S16 32) a x).toNat < S88320.size a := fun v800 k1_hw1190 => k1_hw1190

def k1_chk1191 (v804 : IVec S16 32) : Prop :=
  (∀ a x, ((![v804] : Fin 1 → IVec S16 32) a x).toNat < S88320.size a)
theorem k1_idx1191_inb : ∀ (v804 : IVec S16 32) (k1_hw1191 : k1_chk1191 v804), ∀ a x, ((![v804] : Fin 1 → IVec S16 32) a x).toNat < S88320.size a := fun v804 k1_hw1191 => k1_hw1191

def k1_chk1192 (v808 : IVec S16 32) : Prop :=
  (∀ a x, ((![v808] : Fin 1 → IVec S16 32) a x).toNat < S88320.size a)
theorem k1_idx1192_inb : ∀ (v808 : IVec S16 32) (k1_hw1192 : k1_chk1192 v808), ∀ a x, ((![v808] : Fin 1 → IVec S16 32) a x).toNat < S88320.size a := fun v808 k1_hw1192 => k1_hw1192

def k1_chk1193 (v812 : IVec S16 32) : Prop :=
  (∀ a x, ((![v812] : Fin 1 → IVec S16 32) a x).toNat < S88320.size a)
theorem k1_idx1193_inb : ∀ (v812 : IVec S16 32) (k1_hw1193 : k1_chk1193 v812), ∀ a x, ((![v812] : Fin 1 → IVec S16 32) a x).toNat < S88320.size a := fun v812 k1_hw1193 => k1_hw1193

def k1_chk1194 (v816 : IVec S16 32) : Prop :=
  (∀ a x, ((![v816] : Fin 1 → IVec S16 32) a x).toNat < S88320.size a)
theorem k1_idx1194_inb : ∀ (v816 : IVec S16 32) (k1_hw1194 : k1_chk1194 v816), ∀ a x, ((![v816] : Fin 1 → IVec S16 32) a x).toNat < S88320.size a := fun v816 k1_hw1194 => k1_hw1194

def k1_chk1195 (v820 : IVec S16 32) : Prop :=
  (∀ a x, ((![v820] : Fin 1 → IVec S16 32) a x).toNat < S88320.size a)
theorem k1_idx1195_inb : ∀ (v820 : IVec S16 32) (k1_hw1195 : k1_chk1195 v820), ∀ a x, ((![v820] : Fin 1 → IVec S16 32) a x).toNat < S88320.size a := fun v820 k1_hw1195 => k1_hw1195

def k1_chk1196 (v824 : IVec S16 32) : Prop :=
  (∀ a x, ((![v824] : Fin 1 → IVec S16 32) a x).toNat < S88320.size a)
theorem k1_idx1196_inb : ∀ (v824 : IVec S16 32) (k1_hw1196 : k1_chk1196 v824), ∀ a x, ((![v824] : Fin 1 → IVec S16 32) a x).toNat < S88320.size a := fun v824 k1_hw1196 => k1_hw1196

def k1_chk1197 (v828 : IVec S16 32) : Prop :=
  (∀ a x, ((![v828] : Fin 1 → IVec S16 32) a x).toNat < S88320.size a)
theorem k1_idx1197_inb : ∀ (v828 : IVec S16 32) (k1_hw1197 : k1_chk1197 v828), ∀ a x, ((![v828] : Fin 1 → IVec S16 32) a x).toNat < S88320.size a := fun v828 k1_hw1197 => k1_hw1197

def k1_chk1198 (v832 : IVec S16 32) : Prop :=
  (∀ a x, ((![v832] : Fin 1 → IVec S16 32) a x).toNat < S88320.size a)
theorem k1_idx1198_inb : ∀ (v832 : IVec S16 32) (k1_hw1198 : k1_chk1198 v832), ∀ a x, ((![v832] : Fin 1 → IVec S16 32) a x).toNat < S88320.size a := fun v832 k1_hw1198 => k1_hw1198

def k1_chk1199 (v836 : IVec S16 32) : Prop :=
  (∀ a x, ((![v836] : Fin 1 → IVec S16 32) a x).toNat < S88320.size a)
theorem k1_idx1199_inb : ∀ (v836 : IVec S16 32) (k1_hw1199 : k1_chk1199 v836), ∀ a x, ((![v836] : Fin 1 → IVec S16 32) a x).toNat < S88320.size a := fun v836 k1_hw1199 => k1_hw1199

def k1_chk1200 (v840 : IVec S16 32) : Prop :=
  (∀ a x, ((![v840] : Fin 1 → IVec S16 32) a x).toNat < S88320.size a)
theorem k1_idx1200_inb : ∀ (v840 : IVec S16 32) (k1_hw1200 : k1_chk1200 v840), ∀ a x, ((![v840] : Fin 1 → IVec S16 32) a x).toNat < S88320.size a := fun v840 k1_hw1200 => k1_hw1200
def k1_off1278 (i : grid1.Coords) : Fin 4 → Nat :=
  let c3_i32_964 : BitVec 32 := 3#32
  let c13_i32_965 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_966 : BitVec 32 := 0#32
  ![3, 13, v2.toNat, 0]
@[reducible] def k1_t77_loop : Scf.Loop 32 :=
  let c0_i32_973 : BitVec 32 := 0#32
  let c32_i32_974 : BitVec 32 := 32#32
  let v693 : BitVec 32 := Scalar.addi c0_i32_973 c32_i32_974
  let c1_i32_975 : BitVec 32 := 1#32
  ⟨c0_i32_973, v693, c1_i32_975⟩
def k1_off1279 (k1_t77 : Fin k1_t77_loop.trips) : Fin 2 → Nat :=
  let c0_i32_1152 : BitVec 32 := 0#32
  let v778 : Index := Scalar.indexCast c0_i32_1152
  let c0_i32_973 : BitVec 32 := 0#32
  let c1_i32_975 : BitVec 32 := 1#32
  let arg9 : BitVec 32 := Scf.iv c0_i32_973 c1_i32_975 k1_t77
  let c16_i32_1151 : BitVec 32 := 16#32
  let v777 : BitVec 32 := Scalar.muli arg9 c16_i32_1151
  let v779 : Index := Scalar.indexCast v777
  ![0, v779.toNat]
def k1_off1280 (k1_t77 : Fin k1_t77_loop.trips) : Fin 2 → Nat :=
  let c1_i32_1154 : BitVec 32 := 1#32
  let v782 : Index := Scalar.indexCast c1_i32_1154
  let c0_i32_973 : BitVec 32 := 0#32
  let c1_i32_975 : BitVec 32 := 1#32
  let arg9 : BitVec 32 := Scf.iv c0_i32_973 c1_i32_975 k1_t77
  let c16_i32_1153 : BitVec 32 := 16#32
  let v781 : BitVec 32 := Scalar.muli arg9 c16_i32_1153
  let v783 : Index := Scalar.indexCast v781
  ![1, v783.toNat]
def k1_off1281 (k1_t77 : Fin k1_t77_loop.trips) : Fin 2 → Nat :=
  let c2_i32_1156 : BitVec 32 := 2#32
  let v786 : Index := Scalar.indexCast c2_i32_1156
  let c0_i32_973 : BitVec 32 := 0#32
  let c1_i32_975 : BitVec 32 := 1#32
  let arg9 : BitVec 32 := Scf.iv c0_i32_973 c1_i32_975 k1_t77
  let c16_i32_1155 : BitVec 32 := 16#32
  let v785 : BitVec 32 := Scalar.muli arg9 c16_i32_1155
  let v787 : Index := Scalar.indexCast v785
  ![2, v787.toNat]
def k1_off1282 (k1_t77 : Fin k1_t77_loop.trips) : Fin 2 → Nat :=
  let c3_i32_1158 : BitVec 32 := 3#32
  let v790 : Index := Scalar.indexCast c3_i32_1158
  let c0_i32_973 : BitVec 32 := 0#32
  let c1_i32_975 : BitVec 32 := 1#32
  let arg9 : BitVec 32 := Scf.iv c0_i32_973 c1_i32_975 k1_t77
  let c16_i32_1157 : BitVec 32 := 16#32
  let v789 : BitVec 32 := Scalar.muli arg9 c16_i32_1157
  let v791 : Index := Scalar.indexCast v789
  ![3, v791.toNat]
def k1_off1283 (k1_t77 : Fin k1_t77_loop.trips) : Fin 2 → Nat :=
  let c4_i32_1160 : BitVec 32 := 4#32
  let v794 : Index := Scalar.indexCast c4_i32_1160
  let c0_i32_973 : BitVec 32 := 0#32
  let c1_i32_975 : BitVec 32 := 1#32
  let arg9 : BitVec 32 := Scf.iv c0_i32_973 c1_i32_975 k1_t77
  let c16_i32_1159 : BitVec 32 := 16#32
  let v793 : BitVec 32 := Scalar.muli arg9 c16_i32_1159
  let v795 : Index := Scalar.indexCast v793
  ![4, v795.toNat]
def k1_off1284 (k1_t77 : Fin k1_t77_loop.trips) : Fin 2 → Nat :=
  let c5_i32_1162 : BitVec 32 := 5#32
  let v798 : Index := Scalar.indexCast c5_i32_1162
  let c0_i32_973 : BitVec 32 := 0#32
  let c1_i32_975 : BitVec 32 := 1#32
  let arg9 : BitVec 32 := Scf.iv c0_i32_973 c1_i32_975 k1_t77
  let c16_i32_1161 : BitVec 32 := 16#32
  let v797 : BitVec 32 := Scalar.muli arg9 c16_i32_1161
  let v799 : Index := Scalar.indexCast v797
  ![5, v799.toNat]
def k1_off1285 (k1_t77 : Fin k1_t77_loop.trips) : Fin 2 → Nat :=
  let c6_i32_1164 : BitVec 32 := 6#32
  let v802 : Index := Scalar.indexCast c6_i32_1164
  let c0_i32_973 : BitVec 32 := 0#32
  let c1_i32_975 : BitVec 32 := 1#32
  let arg9 : BitVec 32 := Scf.iv c0_i32_973 c1_i32_975 k1_t77
  let c16_i32_1163 : BitVec 32 := 16#32
  let v801 : BitVec 32 := Scalar.muli arg9 c16_i32_1163
  let v803 : Index := Scalar.indexCast v801
  ![6, v803.toNat]
def k1_off1286 (k1_t77 : Fin k1_t77_loop.trips) : Fin 2 → Nat :=
  let c7_i32_1166 : BitVec 32 := 7#32
  let v806 : Index := Scalar.indexCast c7_i32_1166
  let c0_i32_973 : BitVec 32 := 0#32
  let c1_i32_975 : BitVec 32 := 1#32
  let arg9 : BitVec 32 := Scf.iv c0_i32_973 c1_i32_975 k1_t77
  let c16_i32_1165 : BitVec 32 := 16#32
  let v805 : BitVec 32 := Scalar.muli arg9 c16_i32_1165
  let v807 : Index := Scalar.indexCast v805
  ![7, v807.toNat]
def k1_off1287 (k1_t77 : Fin k1_t77_loop.trips) : Fin 2 → Nat :=
  let c8_i32_1168 : BitVec 32 := 8#32
  let v810 : Index := Scalar.indexCast c8_i32_1168
  let c0_i32_973 : BitVec 32 := 0#32
  let c1_i32_975 : BitVec 32 := 1#32
  let arg9 : BitVec 32 := Scf.iv c0_i32_973 c1_i32_975 k1_t77
  let c16_i32_1167 : BitVec 32 := 16#32
  let v809 : BitVec 32 := Scalar.muli arg9 c16_i32_1167
  let v811 : Index := Scalar.indexCast v809
  ![8, v811.toNat]
def k1_off1288 (k1_t77 : Fin k1_t77_loop.trips) : Fin 2 → Nat :=
  let c9_i32_1170 : BitVec 32 := 9#32
  let v814 : Index := Scalar.indexCast c9_i32_1170
  let c0_i32_973 : BitVec 32 := 0#32
  let c1_i32_975 : BitVec 32 := 1#32
  let arg9 : BitVec 32 := Scf.iv c0_i32_973 c1_i32_975 k1_t77
  let c16_i32_1169 : BitVec 32 := 16#32
  let v813 : BitVec 32 := Scalar.muli arg9 c16_i32_1169
  let v815 : Index := Scalar.indexCast v813
  ![9, v815.toNat]
def k1_off1289 (k1_t77 : Fin k1_t77_loop.trips) : Fin 2 → Nat :=
  let c10_i32_1172 : BitVec 32 := 10#32
  let v818 : Index := Scalar.indexCast c10_i32_1172
  let c0_i32_973 : BitVec 32 := 0#32
  let c1_i32_975 : BitVec 32 := 1#32
  let arg9 : BitVec 32 := Scf.iv c0_i32_973 c1_i32_975 k1_t77
  let c16_i32_1171 : BitVec 32 := 16#32
  let v817 : BitVec 32 := Scalar.muli arg9 c16_i32_1171
  let v819 : Index := Scalar.indexCast v817
  ![10, v819.toNat]
def k1_off1290 (k1_t77 : Fin k1_t77_loop.trips) : Fin 2 → Nat :=
  let c11_i32_1174 : BitVec 32 := 11#32
  let v822 : Index := Scalar.indexCast c11_i32_1174
  let c0_i32_973 : BitVec 32 := 0#32
  let c1_i32_975 : BitVec 32 := 1#32
  let arg9 : BitVec 32 := Scf.iv c0_i32_973 c1_i32_975 k1_t77
  let c16_i32_1173 : BitVec 32 := 16#32
  let v821 : BitVec 32 := Scalar.muli arg9 c16_i32_1173
  let v823 : Index := Scalar.indexCast v821
  ![11, v823.toNat]
def k1_off1291 (k1_t77 : Fin k1_t77_loop.trips) : Fin 2 → Nat :=
  let c12_i32_1176 : BitVec 32 := 12#32
  let v826 : Index := Scalar.indexCast c12_i32_1176
  let c0_i32_973 : BitVec 32 := 0#32
  let c1_i32_975 : BitVec 32 := 1#32
  let arg9 : BitVec 32 := Scf.iv c0_i32_973 c1_i32_975 k1_t77
  let c16_i32_1175 : BitVec 32 := 16#32
  let v825 : BitVec 32 := Scalar.muli arg9 c16_i32_1175
  let v827 : Index := Scalar.indexCast v825
  ![12, v827.toNat]
def k1_off1292 (k1_t77 : Fin k1_t77_loop.trips) : Fin 2 → Nat :=
  let c13_i32_1178 : BitVec 32 := 13#32
  let v830 : Index := Scalar.indexCast c13_i32_1178
  let c0_i32_973 : BitVec 32 := 0#32
  let c1_i32_975 : BitVec 32 := 1#32
  let arg9 : BitVec 32 := Scf.iv c0_i32_973 c1_i32_975 k1_t77
  let c16_i32_1177 : BitVec 32 := 16#32
  let v829 : BitVec 32 := Scalar.muli arg9 c16_i32_1177
  let v831 : Index := Scalar.indexCast v829
  ![13, v831.toNat]
def k1_off1293 (k1_t77 : Fin k1_t77_loop.trips) : Fin 2 → Nat :=
  let c14_i32_1180 : BitVec 32 := 14#32
  let v834 : Index := Scalar.indexCast c14_i32_1180
  let c0_i32_973 : BitVec 32 := 0#32
  let c1_i32_975 : BitVec 32 := 1#32
  let arg9 : BitVec 32 := Scf.iv c0_i32_973 c1_i32_975 k1_t77
  let c16_i32_1179 : BitVec 32 := 16#32
  let v833 : BitVec 32 := Scalar.muli arg9 c16_i32_1179
  let v835 : Index := Scalar.indexCast v833
  ![14, v835.toNat]
def k1_off1294 (k1_t77 : Fin k1_t77_loop.trips) : Fin 2 → Nat :=
  let c15_i32_1182 : BitVec 32 := 15#32
  let v838 : Index := Scalar.indexCast c15_i32_1182
  let c0_i32_973 : BitVec 32 := 0#32
  let c1_i32_975 : BitVec 32 := 1#32
  let arg9 : BitVec 32 := Scf.iv c0_i32_973 c1_i32_975 k1_t77
  let c16_i32_1181 : BitVec 32 := 16#32
  let v837 : BitVec 32 := Scalar.muli arg9 c16_i32_1181
  let v839 : Index := Scalar.indexCast v837
  ![15, v839.toNat]

def k1_chk1201 (v780 : IVec S16 32) : Prop :=
  (∀ a x, ((![v780] : Fin 1 → IVec S16 32) a x).toNat < S88320.size a)
theorem k1_idx1201_inb : ∀ (v780 : IVec S16 32) (k1_hw1201 : k1_chk1201 v780), ∀ a x, ((![v780] : Fin 1 → IVec S16 32) a x).toNat < S88320.size a := fun v780 k1_hw1201 => k1_hw1201

def k1_chk1202 (v784 : IVec S16 32) : Prop :=
  (∀ a x, ((![v784] : Fin 1 → IVec S16 32) a x).toNat < S88320.size a)
theorem k1_idx1202_inb : ∀ (v784 : IVec S16 32) (k1_hw1202 : k1_chk1202 v784), ∀ a x, ((![v784] : Fin 1 → IVec S16 32) a x).toNat < S88320.size a := fun v784 k1_hw1202 => k1_hw1202

def k1_chk1203 (v788 : IVec S16 32) : Prop :=
  (∀ a x, ((![v788] : Fin 1 → IVec S16 32) a x).toNat < S88320.size a)
theorem k1_idx1203_inb : ∀ (v788 : IVec S16 32) (k1_hw1203 : k1_chk1203 v788), ∀ a x, ((![v788] : Fin 1 → IVec S16 32) a x).toNat < S88320.size a := fun v788 k1_hw1203 => k1_hw1203

def k1_chk1204 (v792 : IVec S16 32) : Prop :=
  (∀ a x, ((![v792] : Fin 1 → IVec S16 32) a x).toNat < S88320.size a)
theorem k1_idx1204_inb : ∀ (v792 : IVec S16 32) (k1_hw1204 : k1_chk1204 v792), ∀ a x, ((![v792] : Fin 1 → IVec S16 32) a x).toNat < S88320.size a := fun v792 k1_hw1204 => k1_hw1204

def k1_chk1205 (v796 : IVec S16 32) : Prop :=
  (∀ a x, ((![v796] : Fin 1 → IVec S16 32) a x).toNat < S88320.size a)
theorem k1_idx1205_inb : ∀ (v796 : IVec S16 32) (k1_hw1205 : k1_chk1205 v796), ∀ a x, ((![v796] : Fin 1 → IVec S16 32) a x).toNat < S88320.size a := fun v796 k1_hw1205 => k1_hw1205

def k1_chk1206 (v800 : IVec S16 32) : Prop :=
  (∀ a x, ((![v800] : Fin 1 → IVec S16 32) a x).toNat < S88320.size a)
theorem k1_idx1206_inb : ∀ (v800 : IVec S16 32) (k1_hw1206 : k1_chk1206 v800), ∀ a x, ((![v800] : Fin 1 → IVec S16 32) a x).toNat < S88320.size a := fun v800 k1_hw1206 => k1_hw1206

def k1_chk1207 (v804 : IVec S16 32) : Prop :=
  (∀ a x, ((![v804] : Fin 1 → IVec S16 32) a x).toNat < S88320.size a)
theorem k1_idx1207_inb : ∀ (v804 : IVec S16 32) (k1_hw1207 : k1_chk1207 v804), ∀ a x, ((![v804] : Fin 1 → IVec S16 32) a x).toNat < S88320.size a := fun v804 k1_hw1207 => k1_hw1207

def k1_chk1208 (v808 : IVec S16 32) : Prop :=
  (∀ a x, ((![v808] : Fin 1 → IVec S16 32) a x).toNat < S88320.size a)
theorem k1_idx1208_inb : ∀ (v808 : IVec S16 32) (k1_hw1208 : k1_chk1208 v808), ∀ a x, ((![v808] : Fin 1 → IVec S16 32) a x).toNat < S88320.size a := fun v808 k1_hw1208 => k1_hw1208

def k1_chk1209 (v812 : IVec S16 32) : Prop :=
  (∀ a x, ((![v812] : Fin 1 → IVec S16 32) a x).toNat < S88320.size a)
theorem k1_idx1209_inb : ∀ (v812 : IVec S16 32) (k1_hw1209 : k1_chk1209 v812), ∀ a x, ((![v812] : Fin 1 → IVec S16 32) a x).toNat < S88320.size a := fun v812 k1_hw1209 => k1_hw1209

def k1_chk1210 (v816 : IVec S16 32) : Prop :=
  (∀ a x, ((![v816] : Fin 1 → IVec S16 32) a x).toNat < S88320.size a)
theorem k1_idx1210_inb : ∀ (v816 : IVec S16 32) (k1_hw1210 : k1_chk1210 v816), ∀ a x, ((![v816] : Fin 1 → IVec S16 32) a x).toNat < S88320.size a := fun v816 k1_hw1210 => k1_hw1210

def k1_chk1211 (v820 : IVec S16 32) : Prop :=
  (∀ a x, ((![v820] : Fin 1 → IVec S16 32) a x).toNat < S88320.size a)
theorem k1_idx1211_inb : ∀ (v820 : IVec S16 32) (k1_hw1211 : k1_chk1211 v820), ∀ a x, ((![v820] : Fin 1 → IVec S16 32) a x).toNat < S88320.size a := fun v820 k1_hw1211 => k1_hw1211

def k1_chk1212 (v824 : IVec S16 32) : Prop :=
  (∀ a x, ((![v824] : Fin 1 → IVec S16 32) a x).toNat < S88320.size a)
theorem k1_idx1212_inb : ∀ (v824 : IVec S16 32) (k1_hw1212 : k1_chk1212 v824), ∀ a x, ((![v824] : Fin 1 → IVec S16 32) a x).toNat < S88320.size a := fun v824 k1_hw1212 => k1_hw1212

def k1_chk1213 (v828 : IVec S16 32) : Prop :=
  (∀ a x, ((![v828] : Fin 1 → IVec S16 32) a x).toNat < S88320.size a)
theorem k1_idx1213_inb : ∀ (v828 : IVec S16 32) (k1_hw1213 : k1_chk1213 v828), ∀ a x, ((![v828] : Fin 1 → IVec S16 32) a x).toNat < S88320.size a := fun v828 k1_hw1213 => k1_hw1213

def k1_chk1214 (v832 : IVec S16 32) : Prop :=
  (∀ a x, ((![v832] : Fin 1 → IVec S16 32) a x).toNat < S88320.size a)
theorem k1_idx1214_inb : ∀ (v832 : IVec S16 32) (k1_hw1214 : k1_chk1214 v832), ∀ a x, ((![v832] : Fin 1 → IVec S16 32) a x).toNat < S88320.size a := fun v832 k1_hw1214 => k1_hw1214

def k1_chk1215 (v836 : IVec S16 32) : Prop :=
  (∀ a x, ((![v836] : Fin 1 → IVec S16 32) a x).toNat < S88320.size a)
theorem k1_idx1215_inb : ∀ (v836 : IVec S16 32) (k1_hw1215 : k1_chk1215 v836), ∀ a x, ((![v836] : Fin 1 → IVec S16 32) a x).toNat < S88320.size a := fun v836 k1_hw1215 => k1_hw1215

def k1_chk1216 (v840 : IVec S16 32) : Prop :=
  (∀ a x, ((![v840] : Fin 1 → IVec S16 32) a x).toNat < S88320.size a)
theorem k1_idx1216_inb : ∀ (v840 : IVec S16 32) (k1_hw1216 : k1_chk1216 v840), ∀ a x, ((![v840] : Fin 1 → IVec S16 32) a x).toNat < S88320.size a := fun v840 k1_hw1216 => k1_hw1216
def k1_off1295 (i : grid1.Coords) : Fin 4 → Nat :=
  let c3_i32_977 : BitVec 32 := 3#32
  let c14_i32_978 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_979 : BitVec 32 := 0#32
  ![3, 14, v2.toNat, 0]
@[reducible] def k1_t78_loop : Scf.Loop 32 :=
  let c0_i32_986 : BitVec 32 := 0#32
  let c32_i32_987 : BitVec 32 := 32#32
  let v702 : BitVec 32 := Scalar.addi c0_i32_986 c32_i32_987
  let c1_i32_988 : BitVec 32 := 1#32
  ⟨c0_i32_986, v702, c1_i32_988⟩
def k1_off1296 (k1_t78 : Fin k1_t78_loop.trips) : Fin 2 → Nat :=
  let c0_i32_1152 : BitVec 32 := 0#32
  let v778 : Index := Scalar.indexCast c0_i32_1152
  let c0_i32_986 : BitVec 32 := 0#32
  let c1_i32_988 : BitVec 32 := 1#32
  let arg9 : BitVec 32 := Scf.iv c0_i32_986 c1_i32_988 k1_t78
  let c16_i32_1151 : BitVec 32 := 16#32
  let v777 : BitVec 32 := Scalar.muli arg9 c16_i32_1151
  let v779 : Index := Scalar.indexCast v777
  ![0, v779.toNat]
def k1_off1297 (k1_t78 : Fin k1_t78_loop.trips) : Fin 2 → Nat :=
  let c1_i32_1154 : BitVec 32 := 1#32
  let v782 : Index := Scalar.indexCast c1_i32_1154
  let c0_i32_986 : BitVec 32 := 0#32
  let c1_i32_988 : BitVec 32 := 1#32
  let arg9 : BitVec 32 := Scf.iv c0_i32_986 c1_i32_988 k1_t78
  let c16_i32_1153 : BitVec 32 := 16#32
  let v781 : BitVec 32 := Scalar.muli arg9 c16_i32_1153
  let v783 : Index := Scalar.indexCast v781
  ![1, v783.toNat]
def k1_off1298 (k1_t78 : Fin k1_t78_loop.trips) : Fin 2 → Nat :=
  let c2_i32_1156 : BitVec 32 := 2#32
  let v786 : Index := Scalar.indexCast c2_i32_1156
  let c0_i32_986 : BitVec 32 := 0#32
  let c1_i32_988 : BitVec 32 := 1#32
  let arg9 : BitVec 32 := Scf.iv c0_i32_986 c1_i32_988 k1_t78
  let c16_i32_1155 : BitVec 32 := 16#32
  let v785 : BitVec 32 := Scalar.muli arg9 c16_i32_1155
  let v787 : Index := Scalar.indexCast v785
  ![2, v787.toNat]
def k1_off1299 (k1_t78 : Fin k1_t78_loop.trips) : Fin 2 → Nat :=
  let c3_i32_1158 : BitVec 32 := 3#32
  let v790 : Index := Scalar.indexCast c3_i32_1158
  let c0_i32_986 : BitVec 32 := 0#32
  let c1_i32_988 : BitVec 32 := 1#32
  let arg9 : BitVec 32 := Scf.iv c0_i32_986 c1_i32_988 k1_t78
  let c16_i32_1157 : BitVec 32 := 16#32
  let v789 : BitVec 32 := Scalar.muli arg9 c16_i32_1157
  let v791 : Index := Scalar.indexCast v789
  ![3, v791.toNat]
def k1_off1300 (k1_t78 : Fin k1_t78_loop.trips) : Fin 2 → Nat :=
  let c4_i32_1160 : BitVec 32 := 4#32
  let v794 : Index := Scalar.indexCast c4_i32_1160
  let c0_i32_986 : BitVec 32 := 0#32
  let c1_i32_988 : BitVec 32 := 1#32
  let arg9 : BitVec 32 := Scf.iv c0_i32_986 c1_i32_988 k1_t78
  let c16_i32_1159 : BitVec 32 := 16#32
  let v793 : BitVec 32 := Scalar.muli arg9 c16_i32_1159
  let v795 : Index := Scalar.indexCast v793
  ![4, v795.toNat]
def k1_off1301 (k1_t78 : Fin k1_t78_loop.trips) : Fin 2 → Nat :=
  let c5_i32_1162 : BitVec 32 := 5#32
  let v798 : Index := Scalar.indexCast c5_i32_1162
  let c0_i32_986 : BitVec 32 := 0#32
  let c1_i32_988 : BitVec 32 := 1#32
  let arg9 : BitVec 32 := Scf.iv c0_i32_986 c1_i32_988 k1_t78
  let c16_i32_1161 : BitVec 32 := 16#32
  let v797 : BitVec 32 := Scalar.muli arg9 c16_i32_1161
  let v799 : Index := Scalar.indexCast v797
  ![5, v799.toNat]
def k1_off1302 (k1_t78 : Fin k1_t78_loop.trips) : Fin 2 → Nat :=
  let c6_i32_1164 : BitVec 32 := 6#32
  let v802 : Index := Scalar.indexCast c6_i32_1164
  let c0_i32_986 : BitVec 32 := 0#32
  let c1_i32_988 : BitVec 32 := 1#32
  let arg9 : BitVec 32 := Scf.iv c0_i32_986 c1_i32_988 k1_t78
  let c16_i32_1163 : BitVec 32 := 16#32
  let v801 : BitVec 32 := Scalar.muli arg9 c16_i32_1163
  let v803 : Index := Scalar.indexCast v801
  ![6, v803.toNat]
def k1_off1303 (k1_t78 : Fin k1_t78_loop.trips) : Fin 2 → Nat :=
  let c7_i32_1166 : BitVec 32 := 7#32
  let v806 : Index := Scalar.indexCast c7_i32_1166
  let c0_i32_986 : BitVec 32 := 0#32
  let c1_i32_988 : BitVec 32 := 1#32
  let arg9 : BitVec 32 := Scf.iv c0_i32_986 c1_i32_988 k1_t78
  let c16_i32_1165 : BitVec 32 := 16#32
  let v805 : BitVec 32 := Scalar.muli arg9 c16_i32_1165
  let v807 : Index := Scalar.indexCast v805
  ![7, v807.toNat]
def k1_off1304 (k1_t78 : Fin k1_t78_loop.trips) : Fin 2 → Nat :=
  let c8_i32_1168 : BitVec 32 := 8#32
  let v810 : Index := Scalar.indexCast c8_i32_1168
  let c0_i32_986 : BitVec 32 := 0#32
  let c1_i32_988 : BitVec 32 := 1#32
  let arg9 : BitVec 32 := Scf.iv c0_i32_986 c1_i32_988 k1_t78
  let c16_i32_1167 : BitVec 32 := 16#32
  let v809 : BitVec 32 := Scalar.muli arg9 c16_i32_1167
  let v811 : Index := Scalar.indexCast v809
  ![8, v811.toNat]
def k1_off1305 (k1_t78 : Fin k1_t78_loop.trips) : Fin 2 → Nat :=
  let c9_i32_1170 : BitVec 32 := 9#32
  let v814 : Index := Scalar.indexCast c9_i32_1170
  let c0_i32_986 : BitVec 32 := 0#32
  let c1_i32_988 : BitVec 32 := 1#32
  let arg9 : BitVec 32 := Scf.iv c0_i32_986 c1_i32_988 k1_t78
  let c16_i32_1169 : BitVec 32 := 16#32
  let v813 : BitVec 32 := Scalar.muli arg9 c16_i32_1169
  let v815 : Index := Scalar.indexCast v813
  ![9, v815.toNat]
def k1_off1306 (k1_t78 : Fin k1_t78_loop.trips) : Fin 2 → Nat :=
  let c10_i32_1172 : BitVec 32 := 10#32
  let v818 : Index := Scalar.indexCast c10_i32_1172
  let c0_i32_986 : BitVec 32 := 0#32
  let c1_i32_988 : BitVec 32 := 1#32
  let arg9 : BitVec 32 := Scf.iv c0_i32_986 c1_i32_988 k1_t78
  let c16_i32_1171 : BitVec 32 := 16#32
  let v817 : BitVec 32 := Scalar.muli arg9 c16_i32_1171
  let v819 : Index := Scalar.indexCast v817
  ![10, v819.toNat]
def k1_off1307 (k1_t78 : Fin k1_t78_loop.trips) : Fin 2 → Nat :=
  let c11_i32_1174 : BitVec 32 := 11#32
  let v822 : Index := Scalar.indexCast c11_i32_1174
  let c0_i32_986 : BitVec 32 := 0#32
  let c1_i32_988 : BitVec 32 := 1#32
  let arg9 : BitVec 32 := Scf.iv c0_i32_986 c1_i32_988 k1_t78
  let c16_i32_1173 : BitVec 32 := 16#32
  let v821 : BitVec 32 := Scalar.muli arg9 c16_i32_1173
  let v823 : Index := Scalar.indexCast v821
  ![11, v823.toNat]
def k1_off1308 (k1_t78 : Fin k1_t78_loop.trips) : Fin 2 → Nat :=
  let c12_i32_1176 : BitVec 32 := 12#32
  let v826 : Index := Scalar.indexCast c12_i32_1176
  let c0_i32_986 : BitVec 32 := 0#32
  let c1_i32_988 : BitVec 32 := 1#32
  let arg9 : BitVec 32 := Scf.iv c0_i32_986 c1_i32_988 k1_t78
  let c16_i32_1175 : BitVec 32 := 16#32
  let v825 : BitVec 32 := Scalar.muli arg9 c16_i32_1175
  let v827 : Index := Scalar.indexCast v825
  ![12, v827.toNat]
def k1_off1309 (k1_t78 : Fin k1_t78_loop.trips) : Fin 2 → Nat :=
  let c13_i32_1178 : BitVec 32 := 13#32
  let v830 : Index := Scalar.indexCast c13_i32_1178
  let c0_i32_986 : BitVec 32 := 0#32
  let c1_i32_988 : BitVec 32 := 1#32
  let arg9 : BitVec 32 := Scf.iv c0_i32_986 c1_i32_988 k1_t78
  let c16_i32_1177 : BitVec 32 := 16#32
  let v829 : BitVec 32 := Scalar.muli arg9 c16_i32_1177
  let v831 : Index := Scalar.indexCast v829
  ![13, v831.toNat]
def k1_off1310 (k1_t78 : Fin k1_t78_loop.trips) : Fin 2 → Nat :=
  let c14_i32_1180 : BitVec 32 := 14#32
  let v834 : Index := Scalar.indexCast c14_i32_1180
  let c0_i32_986 : BitVec 32 := 0#32
  let c1_i32_988 : BitVec 32 := 1#32
  let arg9 : BitVec 32 := Scf.iv c0_i32_986 c1_i32_988 k1_t78
  let c16_i32_1179 : BitVec 32 := 16#32
  let v833 : BitVec 32 := Scalar.muli arg9 c16_i32_1179
  let v835 : Index := Scalar.indexCast v833
  ![14, v835.toNat]
def k1_off1311 (k1_t78 : Fin k1_t78_loop.trips) : Fin 2 → Nat :=
  let c15_i32_1182 : BitVec 32 := 15#32
  let v838 : Index := Scalar.indexCast c15_i32_1182
  let c0_i32_986 : BitVec 32 := 0#32
  let c1_i32_988 : BitVec 32 := 1#32
  let arg9 : BitVec 32 := Scf.iv c0_i32_986 c1_i32_988 k1_t78
  let c16_i32_1181 : BitVec 32 := 16#32
  let v837 : BitVec 32 := Scalar.muli arg9 c16_i32_1181
  let v839 : Index := Scalar.indexCast v837
  ![15, v839.toNat]

def k1_chk1217 (v780 : IVec S16 32) : Prop :=
  (∀ a x, ((![v780] : Fin 1 → IVec S16 32) a x).toNat < S88320.size a)
theorem k1_idx1217_inb : ∀ (v780 : IVec S16 32) (k1_hw1217 : k1_chk1217 v780), ∀ a x, ((![v780] : Fin 1 → IVec S16 32) a x).toNat < S88320.size a := fun v780 k1_hw1217 => k1_hw1217

def k1_chk1218 (v784 : IVec S16 32) : Prop :=
  (∀ a x, ((![v784] : Fin 1 → IVec S16 32) a x).toNat < S88320.size a)
theorem k1_idx1218_inb : ∀ (v784 : IVec S16 32) (k1_hw1218 : k1_chk1218 v784), ∀ a x, ((![v784] : Fin 1 → IVec S16 32) a x).toNat < S88320.size a := fun v784 k1_hw1218 => k1_hw1218

def k1_chk1219 (v788 : IVec S16 32) : Prop :=
  (∀ a x, ((![v788] : Fin 1 → IVec S16 32) a x).toNat < S88320.size a)
theorem k1_idx1219_inb : ∀ (v788 : IVec S16 32) (k1_hw1219 : k1_chk1219 v788), ∀ a x, ((![v788] : Fin 1 → IVec S16 32) a x).toNat < S88320.size a := fun v788 k1_hw1219 => k1_hw1219

def k1_chk1220 (v792 : IVec S16 32) : Prop :=
  (∀ a x, ((![v792] : Fin 1 → IVec S16 32) a x).toNat < S88320.size a)
theorem k1_idx1220_inb : ∀ (v792 : IVec S16 32) (k1_hw1220 : k1_chk1220 v792), ∀ a x, ((![v792] : Fin 1 → IVec S16 32) a x).toNat < S88320.size a := fun v792 k1_hw1220 => k1_hw1220

def k1_chk1221 (v796 : IVec S16 32) : Prop :=
  (∀ a x, ((![v796] : Fin 1 → IVec S16 32) a x).toNat < S88320.size a)
theorem k1_idx1221_inb : ∀ (v796 : IVec S16 32) (k1_hw1221 : k1_chk1221 v796), ∀ a x, ((![v796] : Fin 1 → IVec S16 32) a x).toNat < S88320.size a := fun v796 k1_hw1221 => k1_hw1221

def k1_chk1222 (v800 : IVec S16 32) : Prop :=
  (∀ a x, ((![v800] : Fin 1 → IVec S16 32) a x).toNat < S88320.size a)
theorem k1_idx1222_inb : ∀ (v800 : IVec S16 32) (k1_hw1222 : k1_chk1222 v800), ∀ a x, ((![v800] : Fin 1 → IVec S16 32) a x).toNat < S88320.size a := fun v800 k1_hw1222 => k1_hw1222

def k1_chk1223 (v804 : IVec S16 32) : Prop :=
  (∀ a x, ((![v804] : Fin 1 → IVec S16 32) a x).toNat < S88320.size a)
theorem k1_idx1223_inb : ∀ (v804 : IVec S16 32) (k1_hw1223 : k1_chk1223 v804), ∀ a x, ((![v804] : Fin 1 → IVec S16 32) a x).toNat < S88320.size a := fun v804 k1_hw1223 => k1_hw1223

def k1_chk1224 (v808 : IVec S16 32) : Prop :=
  (∀ a x, ((![v808] : Fin 1 → IVec S16 32) a x).toNat < S88320.size a)
theorem k1_idx1224_inb : ∀ (v808 : IVec S16 32) (k1_hw1224 : k1_chk1224 v808), ∀ a x, ((![v808] : Fin 1 → IVec S16 32) a x).toNat < S88320.size a := fun v808 k1_hw1224 => k1_hw1224

def k1_chk1225 (v812 : IVec S16 32) : Prop :=
  (∀ a x, ((![v812] : Fin 1 → IVec S16 32) a x).toNat < S88320.size a)
theorem k1_idx1225_inb : ∀ (v812 : IVec S16 32) (k1_hw1225 : k1_chk1225 v812), ∀ a x, ((![v812] : Fin 1 → IVec S16 32) a x).toNat < S88320.size a := fun v812 k1_hw1225 => k1_hw1225

def k1_chk1226 (v816 : IVec S16 32) : Prop :=
  (∀ a x, ((![v816] : Fin 1 → IVec S16 32) a x).toNat < S88320.size a)
theorem k1_idx1226_inb : ∀ (v816 : IVec S16 32) (k1_hw1226 : k1_chk1226 v816), ∀ a x, ((![v816] : Fin 1 → IVec S16 32) a x).toNat < S88320.size a := fun v816 k1_hw1226 => k1_hw1226

def k1_chk1227 (v820 : IVec S16 32) : Prop :=
  (∀ a x, ((![v820] : Fin 1 → IVec S16 32) a x).toNat < S88320.size a)
theorem k1_idx1227_inb : ∀ (v820 : IVec S16 32) (k1_hw1227 : k1_chk1227 v820), ∀ a x, ((![v820] : Fin 1 → IVec S16 32) a x).toNat < S88320.size a := fun v820 k1_hw1227 => k1_hw1227

def k1_chk1228 (v824 : IVec S16 32) : Prop :=
  (∀ a x, ((![v824] : Fin 1 → IVec S16 32) a x).toNat < S88320.size a)
theorem k1_idx1228_inb : ∀ (v824 : IVec S16 32) (k1_hw1228 : k1_chk1228 v824), ∀ a x, ((![v824] : Fin 1 → IVec S16 32) a x).toNat < S88320.size a := fun v824 k1_hw1228 => k1_hw1228

def k1_chk1229 (v828 : IVec S16 32) : Prop :=
  (∀ a x, ((![v828] : Fin 1 → IVec S16 32) a x).toNat < S88320.size a)
theorem k1_idx1229_inb : ∀ (v828 : IVec S16 32) (k1_hw1229 : k1_chk1229 v828), ∀ a x, ((![v828] : Fin 1 → IVec S16 32) a x).toNat < S88320.size a := fun v828 k1_hw1229 => k1_hw1229

def k1_chk1230 (v832 : IVec S16 32) : Prop :=
  (∀ a x, ((![v832] : Fin 1 → IVec S16 32) a x).toNat < S88320.size a)
theorem k1_idx1230_inb : ∀ (v832 : IVec S16 32) (k1_hw1230 : k1_chk1230 v832), ∀ a x, ((![v832] : Fin 1 → IVec S16 32) a x).toNat < S88320.size a := fun v832 k1_hw1230 => k1_hw1230

def k1_chk1231 (v836 : IVec S16 32) : Prop :=
  (∀ a x, ((![v836] : Fin 1 → IVec S16 32) a x).toNat < S88320.size a)
theorem k1_idx1231_inb : ∀ (v836 : IVec S16 32) (k1_hw1231 : k1_chk1231 v836), ∀ a x, ((![v836] : Fin 1 → IVec S16 32) a x).toNat < S88320.size a := fun v836 k1_hw1231 => k1_hw1231

def k1_chk1232 (v840 : IVec S16 32) : Prop :=
  (∀ a x, ((![v840] : Fin 1 → IVec S16 32) a x).toNat < S88320.size a)
theorem k1_idx1232_inb : ∀ (v840 : IVec S16 32) (k1_hw1232 : k1_chk1232 v840), ∀ a x, ((![v840] : Fin 1 → IVec S16 32) a x).toNat < S88320.size a := fun v840 k1_hw1232 => k1_hw1232
def k1_off1312 (i : grid1.Coords) : Fin 4 → Nat :=
  let c3_i32_990 : BitVec 32 := 3#32
  let c15_i32_991 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_992 : BitVec 32 := 0#32
  ![3, 15, v2.toNat, 0]
@[reducible] def k1_t79_loop : Scf.Loop 32 :=
  let c0_i32_999 : BitVec 32 := 0#32
  let c32_i32_1000 : BitVec 32 := 32#32
  let v711 : BitVec 32 := Scalar.addi c0_i32_999 c32_i32_1000
  let c1_i32_1001 : BitVec 32 := 1#32
  ⟨c0_i32_999, v711, c1_i32_1001⟩
def k1_off1313 (k1_t79 : Fin k1_t79_loop.trips) : Fin 2 → Nat :=
  let c0_i32_1152 : BitVec 32 := 0#32
  let v778 : Index := Scalar.indexCast c0_i32_1152
  let c0_i32_999 : BitVec 32 := 0#32
  let c1_i32_1001 : BitVec 32 := 1#32
  let arg9 : BitVec 32 := Scf.iv c0_i32_999 c1_i32_1001 k1_t79
  let c16_i32_1151 : BitVec 32 := 16#32
  let v777 : BitVec 32 := Scalar.muli arg9 c16_i32_1151
  let v779 : Index := Scalar.indexCast v777
  ![0, v779.toNat]
def k1_off1314 (k1_t79 : Fin k1_t79_loop.trips) : Fin 2 → Nat :=
  let c1_i32_1154 : BitVec 32 := 1#32
  let v782 : Index := Scalar.indexCast c1_i32_1154
  let c0_i32_999 : BitVec 32 := 0#32
  let c1_i32_1001 : BitVec 32 := 1#32
  let arg9 : BitVec 32 := Scf.iv c0_i32_999 c1_i32_1001 k1_t79
  let c16_i32_1153 : BitVec 32 := 16#32
  let v781 : BitVec 32 := Scalar.muli arg9 c16_i32_1153
  let v783 : Index := Scalar.indexCast v781
  ![1, v783.toNat]
def k1_off1315 (k1_t79 : Fin k1_t79_loop.trips) : Fin 2 → Nat :=
  let c2_i32_1156 : BitVec 32 := 2#32
  let v786 : Index := Scalar.indexCast c2_i32_1156
  let c0_i32_999 : BitVec 32 := 0#32
  let c1_i32_1001 : BitVec 32 := 1#32
  let arg9 : BitVec 32 := Scf.iv c0_i32_999 c1_i32_1001 k1_t79
  let c16_i32_1155 : BitVec 32 := 16#32
  let v785 : BitVec 32 := Scalar.muli arg9 c16_i32_1155
  let v787 : Index := Scalar.indexCast v785
  ![2, v787.toNat]
def k1_off1316 (k1_t79 : Fin k1_t79_loop.trips) : Fin 2 → Nat :=
  let c3_i32_1158 : BitVec 32 := 3#32
  let v790 : Index := Scalar.indexCast c3_i32_1158
  let c0_i32_999 : BitVec 32 := 0#32
  let c1_i32_1001 : BitVec 32 := 1#32
  let arg9 : BitVec 32 := Scf.iv c0_i32_999 c1_i32_1001 k1_t79
  let c16_i32_1157 : BitVec 32 := 16#32
  let v789 : BitVec 32 := Scalar.muli arg9 c16_i32_1157
  let v791 : Index := Scalar.indexCast v789
  ![3, v791.toNat]
def k1_off1317 (k1_t79 : Fin k1_t79_loop.trips) : Fin 2 → Nat :=
  let c4_i32_1160 : BitVec 32 := 4#32
  let v794 : Index := Scalar.indexCast c4_i32_1160
  let c0_i32_999 : BitVec 32 := 0#32
  let c1_i32_1001 : BitVec 32 := 1#32
  let arg9 : BitVec 32 := Scf.iv c0_i32_999 c1_i32_1001 k1_t79
  let c16_i32_1159 : BitVec 32 := 16#32
  let v793 : BitVec 32 := Scalar.muli arg9 c16_i32_1159
  let v795 : Index := Scalar.indexCast v793
  ![4, v795.toNat]
def k1_off1318 (k1_t79 : Fin k1_t79_loop.trips) : Fin 2 → Nat :=
  let c5_i32_1162 : BitVec 32 := 5#32
  let v798 : Index := Scalar.indexCast c5_i32_1162
  let c0_i32_999 : BitVec 32 := 0#32
  let c1_i32_1001 : BitVec 32 := 1#32
  let arg9 : BitVec 32 := Scf.iv c0_i32_999 c1_i32_1001 k1_t79
  let c16_i32_1161 : BitVec 32 := 16#32
  let v797 : BitVec 32 := Scalar.muli arg9 c16_i32_1161
  let v799 : Index := Scalar.indexCast v797
  ![5, v799.toNat]
def k1_off1319 (k1_t79 : Fin k1_t79_loop.trips) : Fin 2 → Nat :=
  let c6_i32_1164 : BitVec 32 := 6#32
  let v802 : Index := Scalar.indexCast c6_i32_1164
  let c0_i32_999 : BitVec 32 := 0#32
  let c1_i32_1001 : BitVec 32 := 1#32
  let arg9 : BitVec 32 := Scf.iv c0_i32_999 c1_i32_1001 k1_t79
  let c16_i32_1163 : BitVec 32 := 16#32
  let v801 : BitVec 32 := Scalar.muli arg9 c16_i32_1163
  let v803 : Index := Scalar.indexCast v801
  ![6, v803.toNat]
def k1_off1320 (k1_t79 : Fin k1_t79_loop.trips) : Fin 2 → Nat :=
  let c7_i32_1166 : BitVec 32 := 7#32
  let v806 : Index := Scalar.indexCast c7_i32_1166
  let c0_i32_999 : BitVec 32 := 0#32
  let c1_i32_1001 : BitVec 32 := 1#32
  let arg9 : BitVec 32 := Scf.iv c0_i32_999 c1_i32_1001 k1_t79
  let c16_i32_1165 : BitVec 32 := 16#32
  let v805 : BitVec 32 := Scalar.muli arg9 c16_i32_1165
  let v807 : Index := Scalar.indexCast v805
  ![7, v807.toNat]
def k1_off1321 (k1_t79 : Fin k1_t79_loop.trips) : Fin 2 → Nat :=
  let c8_i32_1168 : BitVec 32 := 8#32
  let v810 : Index := Scalar.indexCast c8_i32_1168
  let c0_i32_999 : BitVec 32 := 0#32
  let c1_i32_1001 : BitVec 32 := 1#32
  let arg9 : BitVec 32 := Scf.iv c0_i32_999 c1_i32_1001 k1_t79
  let c16_i32_1167 : BitVec 32 := 16#32
  let v809 : BitVec 32 := Scalar.muli arg9 c16_i32_1167
  let v811 : Index := Scalar.indexCast v809
  ![8, v811.toNat]
def k1_off1322 (k1_t79 : Fin k1_t79_loop.trips) : Fin 2 → Nat :=
  let c9_i32_1170 : BitVec 32 := 9#32
  let v814 : Index := Scalar.indexCast c9_i32_1170
  let c0_i32_999 : BitVec 32 := 0#32
  let c1_i32_1001 : BitVec 32 := 1#32
  let arg9 : BitVec 32 := Scf.iv c0_i32_999 c1_i32_1001 k1_t79
  let c16_i32_1169 : BitVec 32 := 16#32
  let v813 : BitVec 32 := Scalar.muli arg9 c16_i32_1169
  let v815 : Index := Scalar.indexCast v813
  ![9, v815.toNat]
def k1_off1323 (k1_t79 : Fin k1_t79_loop.trips) : Fin 2 → Nat :=
  let c10_i32_1172 : BitVec 32 := 10#32
  let v818 : Index := Scalar.indexCast c10_i32_1172
  let c0_i32_999 : BitVec 32 := 0#32
  let c1_i32_1001 : BitVec 32 := 1#32
  let arg9 : BitVec 32 := Scf.iv c0_i32_999 c1_i32_1001 k1_t79
  let c16_i32_1171 : BitVec 32 := 16#32
  let v817 : BitVec 32 := Scalar.muli arg9 c16_i32_1171
  let v819 : Index := Scalar.indexCast v817
  ![10, v819.toNat]
def k1_off1324 (k1_t79 : Fin k1_t79_loop.trips) : Fin 2 → Nat :=
  let c11_i32_1174 : BitVec 32 := 11#32
  let v822 : Index := Scalar.indexCast c11_i32_1174
  let c0_i32_999 : BitVec 32 := 0#32
  let c1_i32_1001 : BitVec 32 := 1#32
  let arg9 : BitVec 32 := Scf.iv c0_i32_999 c1_i32_1001 k1_t79
  let c16_i32_1173 : BitVec 32 := 16#32
  let v821 : BitVec 32 := Scalar.muli arg9 c16_i32_1173
  let v823 : Index := Scalar.indexCast v821
  ![11, v823.toNat]
def k1_off1325 (k1_t79 : Fin k1_t79_loop.trips) : Fin 2 → Nat :=
  let c12_i32_1176 : BitVec 32 := 12#32
  let v826 : Index := Scalar.indexCast c12_i32_1176
  let c0_i32_999 : BitVec 32 := 0#32
  let c1_i32_1001 : BitVec 32 := 1#32
  let arg9 : BitVec 32 := Scf.iv c0_i32_999 c1_i32_1001 k1_t79
  let c16_i32_1175 : BitVec 32 := 16#32
  let v825 : BitVec 32 := Scalar.muli arg9 c16_i32_1175
  let v827 : Index := Scalar.indexCast v825
  ![12, v827.toNat]
def k1_off1326 (k1_t79 : Fin k1_t79_loop.trips) : Fin 2 → Nat :=
  let c13_i32_1178 : BitVec 32 := 13#32
  let v830 : Index := Scalar.indexCast c13_i32_1178
  let c0_i32_999 : BitVec 32 := 0#32
  let c1_i32_1001 : BitVec 32 := 1#32
  let arg9 : BitVec 32 := Scf.iv c0_i32_999 c1_i32_1001 k1_t79
  let c16_i32_1177 : BitVec 32 := 16#32
  let v829 : BitVec 32 := Scalar.muli arg9 c16_i32_1177
  let v831 : Index := Scalar.indexCast v829
  ![13, v831.toNat]
def k1_off1327 (k1_t79 : Fin k1_t79_loop.trips) : Fin 2 → Nat :=
  let c14_i32_1180 : BitVec 32 := 14#32
  let v834 : Index := Scalar.indexCast c14_i32_1180
  let c0_i32_999 : BitVec 32 := 0#32
  let c1_i32_1001 : BitVec 32 := 1#32
  let arg9 : BitVec 32 := Scf.iv c0_i32_999 c1_i32_1001 k1_t79
  let c16_i32_1179 : BitVec 32 := 16#32
  let v833 : BitVec 32 := Scalar.muli arg9 c16_i32_1179
  let v835 : Index := Scalar.indexCast v833
  ![14, v835.toNat]
def k1_off1328 (k1_t79 : Fin k1_t79_loop.trips) : Fin 2 → Nat :=
  let c15_i32_1182 : BitVec 32 := 15#32
  let v838 : Index := Scalar.indexCast c15_i32_1182
  let c0_i32_999 : BitVec 32 := 0#32
  let c1_i32_1001 : BitVec 32 := 1#32
  let arg9 : BitVec 32 := Scf.iv c0_i32_999 c1_i32_1001 k1_t79
  let c16_i32_1181 : BitVec 32 := 16#32
  let v837 : BitVec 32 := Scalar.muli arg9 c16_i32_1181
  let v839 : Index := Scalar.indexCast v837
  ![15, v839.toNat]

def k1_chk1233 (v780 : IVec S16 32) : Prop :=
  (∀ a x, ((![v780] : Fin 1 → IVec S16 32) a x).toNat < S88320.size a)
theorem k1_idx1233_inb : ∀ (v780 : IVec S16 32) (k1_hw1233 : k1_chk1233 v780), ∀ a x, ((![v780] : Fin 1 → IVec S16 32) a x).toNat < S88320.size a := fun v780 k1_hw1233 => k1_hw1233

def k1_chk1234 (v784 : IVec S16 32) : Prop :=
  (∀ a x, ((![v784] : Fin 1 → IVec S16 32) a x).toNat < S88320.size a)
theorem k1_idx1234_inb : ∀ (v784 : IVec S16 32) (k1_hw1234 : k1_chk1234 v784), ∀ a x, ((![v784] : Fin 1 → IVec S16 32) a x).toNat < S88320.size a := fun v784 k1_hw1234 => k1_hw1234

def k1_chk1235 (v788 : IVec S16 32) : Prop :=
  (∀ a x, ((![v788] : Fin 1 → IVec S16 32) a x).toNat < S88320.size a)
theorem k1_idx1235_inb : ∀ (v788 : IVec S16 32) (k1_hw1235 : k1_chk1235 v788), ∀ a x, ((![v788] : Fin 1 → IVec S16 32) a x).toNat < S88320.size a := fun v788 k1_hw1235 => k1_hw1235

def k1_chk1236 (v792 : IVec S16 32) : Prop :=
  (∀ a x, ((![v792] : Fin 1 → IVec S16 32) a x).toNat < S88320.size a)
theorem k1_idx1236_inb : ∀ (v792 : IVec S16 32) (k1_hw1236 : k1_chk1236 v792), ∀ a x, ((![v792] : Fin 1 → IVec S16 32) a x).toNat < S88320.size a := fun v792 k1_hw1236 => k1_hw1236

def k1_chk1237 (v796 : IVec S16 32) : Prop :=
  (∀ a x, ((![v796] : Fin 1 → IVec S16 32) a x).toNat < S88320.size a)
theorem k1_idx1237_inb : ∀ (v796 : IVec S16 32) (k1_hw1237 : k1_chk1237 v796), ∀ a x, ((![v796] : Fin 1 → IVec S16 32) a x).toNat < S88320.size a := fun v796 k1_hw1237 => k1_hw1237

def k1_chk1238 (v800 : IVec S16 32) : Prop :=
  (∀ a x, ((![v800] : Fin 1 → IVec S16 32) a x).toNat < S88320.size a)
theorem k1_idx1238_inb : ∀ (v800 : IVec S16 32) (k1_hw1238 : k1_chk1238 v800), ∀ a x, ((![v800] : Fin 1 → IVec S16 32) a x).toNat < S88320.size a := fun v800 k1_hw1238 => k1_hw1238

def k1_chk1239 (v804 : IVec S16 32) : Prop :=
  (∀ a x, ((![v804] : Fin 1 → IVec S16 32) a x).toNat < S88320.size a)
theorem k1_idx1239_inb : ∀ (v804 : IVec S16 32) (k1_hw1239 : k1_chk1239 v804), ∀ a x, ((![v804] : Fin 1 → IVec S16 32) a x).toNat < S88320.size a := fun v804 k1_hw1239 => k1_hw1239

def k1_chk1240 (v808 : IVec S16 32) : Prop :=
  (∀ a x, ((![v808] : Fin 1 → IVec S16 32) a x).toNat < S88320.size a)
theorem k1_idx1240_inb : ∀ (v808 : IVec S16 32) (k1_hw1240 : k1_chk1240 v808), ∀ a x, ((![v808] : Fin 1 → IVec S16 32) a x).toNat < S88320.size a := fun v808 k1_hw1240 => k1_hw1240

def k1_chk1241 (v812 : IVec S16 32) : Prop :=
  (∀ a x, ((![v812] : Fin 1 → IVec S16 32) a x).toNat < S88320.size a)
theorem k1_idx1241_inb : ∀ (v812 : IVec S16 32) (k1_hw1241 : k1_chk1241 v812), ∀ a x, ((![v812] : Fin 1 → IVec S16 32) a x).toNat < S88320.size a := fun v812 k1_hw1241 => k1_hw1241

def k1_chk1242 (v816 : IVec S16 32) : Prop :=
  (∀ a x, ((![v816] : Fin 1 → IVec S16 32) a x).toNat < S88320.size a)
theorem k1_idx1242_inb : ∀ (v816 : IVec S16 32) (k1_hw1242 : k1_chk1242 v816), ∀ a x, ((![v816] : Fin 1 → IVec S16 32) a x).toNat < S88320.size a := fun v816 k1_hw1242 => k1_hw1242

def k1_chk1243 (v820 : IVec S16 32) : Prop :=
  (∀ a x, ((![v820] : Fin 1 → IVec S16 32) a x).toNat < S88320.size a)
theorem k1_idx1243_inb : ∀ (v820 : IVec S16 32) (k1_hw1243 : k1_chk1243 v820), ∀ a x, ((![v820] : Fin 1 → IVec S16 32) a x).toNat < S88320.size a := fun v820 k1_hw1243 => k1_hw1243

def k1_chk1244 (v824 : IVec S16 32) : Prop :=
  (∀ a x, ((![v824] : Fin 1 → IVec S16 32) a x).toNat < S88320.size a)
theorem k1_idx1244_inb : ∀ (v824 : IVec S16 32) (k1_hw1244 : k1_chk1244 v824), ∀ a x, ((![v824] : Fin 1 → IVec S16 32) a x).toNat < S88320.size a := fun v824 k1_hw1244 => k1_hw1244

def k1_chk1245 (v828 : IVec S16 32) : Prop :=
  (∀ a x, ((![v828] : Fin 1 → IVec S16 32) a x).toNat < S88320.size a)
theorem k1_idx1245_inb : ∀ (v828 : IVec S16 32) (k1_hw1245 : k1_chk1245 v828), ∀ a x, ((![v828] : Fin 1 → IVec S16 32) a x).toNat < S88320.size a := fun v828 k1_hw1245 => k1_hw1245

def k1_chk1246 (v832 : IVec S16 32) : Prop :=
  (∀ a x, ((![v832] : Fin 1 → IVec S16 32) a x).toNat < S88320.size a)
theorem k1_idx1246_inb : ∀ (v832 : IVec S16 32) (k1_hw1246 : k1_chk1246 v832), ∀ a x, ((![v832] : Fin 1 → IVec S16 32) a x).toNat < S88320.size a := fun v832 k1_hw1246 => k1_hw1246

def k1_chk1247 (v836 : IVec S16 32) : Prop :=
  (∀ a x, ((![v836] : Fin 1 → IVec S16 32) a x).toNat < S88320.size a)
theorem k1_idx1247_inb : ∀ (v836 : IVec S16 32) (k1_hw1247 : k1_chk1247 v836), ∀ a x, ((![v836] : Fin 1 → IVec S16 32) a x).toNat < S88320.size a := fun v836 k1_hw1247 => k1_hw1247

def k1_chk1248 (v840 : IVec S16 32) : Prop :=
  (∀ a x, ((![v840] : Fin 1 → IVec S16 32) a x).toNat < S88320.size a)
theorem k1_idx1248_inb : ∀ (v840 : IVec S16 32) (k1_hw1248 : k1_chk1248 v840), ∀ a x, ((![v840] : Fin 1 → IVec S16 32) a x).toNat < S88320.size a := fun v840 k1_hw1248 => k1_hw1248
def k1_off1329 (i : grid1.Coords) : Fin 4 → Nat :=
  let c3_i32_1003 : BitVec 32 := 3#32
  let c16_i32_1004 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1005 : BitVec 32 := 0#32
  ![3, 16, v2.toNat, 0]
@[reducible] def k1_t80_loop : Scf.Loop 32 :=
  let c0_i32_1012 : BitVec 32 := 0#32
  let c32_i32_1013 : BitVec 32 := 32#32
  let v720 : BitVec 32 := Scalar.addi c0_i32_1012 c32_i32_1013
  let c1_i32_1014 : BitVec 32 := 1#32
  ⟨c0_i32_1012, v720, c1_i32_1014⟩
def k1_off1330 (k1_t80 : Fin k1_t80_loop.trips) : Fin 2 → Nat :=
  let c0_i32_1152 : BitVec 32 := 0#32
  let v778 : Index := Scalar.indexCast c0_i32_1152
  let c0_i32_1012 : BitVec 32 := 0#32
  let c1_i32_1014 : BitVec 32 := 1#32
  let arg9 : BitVec 32 := Scf.iv c0_i32_1012 c1_i32_1014 k1_t80
  let c16_i32_1151 : BitVec 32 := 16#32
  let v777 : BitVec 32 := Scalar.muli arg9 c16_i32_1151
  let v779 : Index := Scalar.indexCast v777
  ![0, v779.toNat]
def k1_off1331 (k1_t80 : Fin k1_t80_loop.trips) : Fin 2 → Nat :=
  let c1_i32_1154 : BitVec 32 := 1#32
  let v782 : Index := Scalar.indexCast c1_i32_1154
  let c0_i32_1012 : BitVec 32 := 0#32
  let c1_i32_1014 : BitVec 32 := 1#32
  let arg9 : BitVec 32 := Scf.iv c0_i32_1012 c1_i32_1014 k1_t80
  let c16_i32_1153 : BitVec 32 := 16#32
  let v781 : BitVec 32 := Scalar.muli arg9 c16_i32_1153
  let v783 : Index := Scalar.indexCast v781
  ![1, v783.toNat]
def k1_off1332 (k1_t80 : Fin k1_t80_loop.trips) : Fin 2 → Nat :=
  let c2_i32_1156 : BitVec 32 := 2#32
  let v786 : Index := Scalar.indexCast c2_i32_1156
  let c0_i32_1012 : BitVec 32 := 0#32
  let c1_i32_1014 : BitVec 32 := 1#32
  let arg9 : BitVec 32 := Scf.iv c0_i32_1012 c1_i32_1014 k1_t80
  let c16_i32_1155 : BitVec 32 := 16#32
  let v785 : BitVec 32 := Scalar.muli arg9 c16_i32_1155
  let v787 : Index := Scalar.indexCast v785
  ![2, v787.toNat]
def k1_off1333 (k1_t80 : Fin k1_t80_loop.trips) : Fin 2 → Nat :=
  let c3_i32_1158 : BitVec 32 := 3#32
  let v790 : Index := Scalar.indexCast c3_i32_1158
  let c0_i32_1012 : BitVec 32 := 0#32
  let c1_i32_1014 : BitVec 32 := 1#32
  let arg9 : BitVec 32 := Scf.iv c0_i32_1012 c1_i32_1014 k1_t80
  let c16_i32_1157 : BitVec 32 := 16#32
  let v789 : BitVec 32 := Scalar.muli arg9 c16_i32_1157
  let v791 : Index := Scalar.indexCast v789
  ![3, v791.toNat]
def k1_off1334 (k1_t80 : Fin k1_t80_loop.trips) : Fin 2 → Nat :=
  let c4_i32_1160 : BitVec 32 := 4#32
  let v794 : Index := Scalar.indexCast c4_i32_1160
  let c0_i32_1012 : BitVec 32 := 0#32
  let c1_i32_1014 : BitVec 32 := 1#32
  let arg9 : BitVec 32 := Scf.iv c0_i32_1012 c1_i32_1014 k1_t80
  let c16_i32_1159 : BitVec 32 := 16#32
  let v793 : BitVec 32 := Scalar.muli arg9 c16_i32_1159
  let v795 : Index := Scalar.indexCast v793
  ![4, v795.toNat]
def k1_off1335 (k1_t80 : Fin k1_t80_loop.trips) : Fin 2 → Nat :=
  let c5_i32_1162 : BitVec 32 := 5#32
  let v798 : Index := Scalar.indexCast c5_i32_1162
  let c0_i32_1012 : BitVec 32 := 0#32
  let c1_i32_1014 : BitVec 32 := 1#32
  let arg9 : BitVec 32 := Scf.iv c0_i32_1012 c1_i32_1014 k1_t80
  let c16_i32_1161 : BitVec 32 := 16#32
  let v797 : BitVec 32 := Scalar.muli arg9 c16_i32_1161
  let v799 : Index := Scalar.indexCast v797
  ![5, v799.toNat]
def k1_off1336 (k1_t80 : Fin k1_t80_loop.trips) : Fin 2 → Nat :=
  let c6_i32_1164 : BitVec 32 := 6#32
  let v802 : Index := Scalar.indexCast c6_i32_1164
  let c0_i32_1012 : BitVec 32 := 0#32
  let c1_i32_1014 : BitVec 32 := 1#32
  let arg9 : BitVec 32 := Scf.iv c0_i32_1012 c1_i32_1014 k1_t80
  let c16_i32_1163 : BitVec 32 := 16#32
  let v801 : BitVec 32 := Scalar.muli arg9 c16_i32_1163
  let v803 : Index := Scalar.indexCast v801
  ![6, v803.toNat]
def k1_off1337 (k1_t80 : Fin k1_t80_loop.trips) : Fin 2 → Nat :=
  let c7_i32_1166 : BitVec 32 := 7#32
  let v806 : Index := Scalar.indexCast c7_i32_1166
  let c0_i32_1012 : BitVec 32 := 0#32
  let c1_i32_1014 : BitVec 32 := 1#32
  let arg9 : BitVec 32 := Scf.iv c0_i32_1012 c1_i32_1014 k1_t80
  let c16_i32_1165 : BitVec 32 := 16#32
  let v805 : BitVec 32 := Scalar.muli arg9 c16_i32_1165
  let v807 : Index := Scalar.indexCast v805
  ![7, v807.toNat]
def k1_off1338 (k1_t80 : Fin k1_t80_loop.trips) : Fin 2 → Nat :=
  let c8_i32_1168 : BitVec 32 := 8#32
  let v810 : Index := Scalar.indexCast c8_i32_1168
  let c0_i32_1012 : BitVec 32 := 0#32
  let c1_i32_1014 : BitVec 32 := 1#32
  let arg9 : BitVec 32 := Scf.iv c0_i32_1012 c1_i32_1014 k1_t80
  let c16_i32_1167 : BitVec 32 := 16#32
  let v809 : BitVec 32 := Scalar.muli arg9 c16_i32_1167
  let v811 : Index := Scalar.indexCast v809
  ![8, v811.toNat]
def k1_off1339 (k1_t80 : Fin k1_t80_loop.trips) : Fin 2 → Nat :=
  let c9_i32_1170 : BitVec 32 := 9#32
  let v814 : Index := Scalar.indexCast c9_i32_1170
  let c0_i32_1012 : BitVec 32 := 0#32
  let c1_i32_1014 : BitVec 32 := 1#32
  let arg9 : BitVec 32 := Scf.iv c0_i32_1012 c1_i32_1014 k1_t80
  let c16_i32_1169 : BitVec 32 := 16#32
  let v813 : BitVec 32 := Scalar.muli arg9 c16_i32_1169
  let v815 : Index := Scalar.indexCast v813
  ![9, v815.toNat]
def k1_off1340 (k1_t80 : Fin k1_t80_loop.trips) : Fin 2 → Nat :=
  let c10_i32_1172 : BitVec 32 := 10#32
  let v818 : Index := Scalar.indexCast c10_i32_1172
  let c0_i32_1012 : BitVec 32 := 0#32
  let c1_i32_1014 : BitVec 32 := 1#32
  let arg9 : BitVec 32 := Scf.iv c0_i32_1012 c1_i32_1014 k1_t80
  let c16_i32_1171 : BitVec 32 := 16#32
  let v817 : BitVec 32 := Scalar.muli arg9 c16_i32_1171
  let v819 : Index := Scalar.indexCast v817
  ![10, v819.toNat]
def k1_off1341 (k1_t80 : Fin k1_t80_loop.trips) : Fin 2 → Nat :=
  let c11_i32_1174 : BitVec 32 := 11#32
  let v822 : Index := Scalar.indexCast c11_i32_1174
  let c0_i32_1012 : BitVec 32 := 0#32
  let c1_i32_1014 : BitVec 32 := 1#32
  let arg9 : BitVec 32 := Scf.iv c0_i32_1012 c1_i32_1014 k1_t80
  let c16_i32_1173 : BitVec 32 := 16#32
  let v821 : BitVec 32 := Scalar.muli arg9 c16_i32_1173
  let v823 : Index := Scalar.indexCast v821
  ![11, v823.toNat]
def k1_off1342 (k1_t80 : Fin k1_t80_loop.trips) : Fin 2 → Nat :=
  let c12_i32_1176 : BitVec 32 := 12#32
  let v826 : Index := Scalar.indexCast c12_i32_1176
  let c0_i32_1012 : BitVec 32 := 0#32
  let c1_i32_1014 : BitVec 32 := 1#32
  let arg9 : BitVec 32 := Scf.iv c0_i32_1012 c1_i32_1014 k1_t80
  let c16_i32_1175 : BitVec 32 := 16#32
  let v825 : BitVec 32 := Scalar.muli arg9 c16_i32_1175
  let v827 : Index := Scalar.indexCast v825
  ![12, v827.toNat]
def k1_off1343 (k1_t80 : Fin k1_t80_loop.trips) : Fin 2 → Nat :=
  let c13_i32_1178 : BitVec 32 := 13#32
  let v830 : Index := Scalar.indexCast c13_i32_1178
  let c0_i32_1012 : BitVec 32 := 0#32
  let c1_i32_1014 : BitVec 32 := 1#32
  let arg9 : BitVec 32 := Scf.iv c0_i32_1012 c1_i32_1014 k1_t80
  let c16_i32_1177 : BitVec 32 := 16#32
  let v829 : BitVec 32 := Scalar.muli arg9 c16_i32_1177
  let v831 : Index := Scalar.indexCast v829
  ![13, v831.toNat]
def k1_off1344 (k1_t80 : Fin k1_t80_loop.trips) : Fin 2 → Nat :=
  let c14_i32_1180 : BitVec 32 := 14#32
  let v834 : Index := Scalar.indexCast c14_i32_1180
  let c0_i32_1012 : BitVec 32 := 0#32
  let c1_i32_1014 : BitVec 32 := 1#32
  let arg9 : BitVec 32 := Scf.iv c0_i32_1012 c1_i32_1014 k1_t80
  let c16_i32_1179 : BitVec 32 := 16#32
  let v833 : BitVec 32 := Scalar.muli arg9 c16_i32_1179
  let v835 : Index := Scalar.indexCast v833
  ![14, v835.toNat]
def k1_off1345 (k1_t80 : Fin k1_t80_loop.trips) : Fin 2 → Nat :=
  let c15_i32_1182 : BitVec 32 := 15#32
  let v838 : Index := Scalar.indexCast c15_i32_1182
  let c0_i32_1012 : BitVec 32 := 0#32
  let c1_i32_1014 : BitVec 32 := 1#32
  let arg9 : BitVec 32 := Scf.iv c0_i32_1012 c1_i32_1014 k1_t80
  let c16_i32_1181 : BitVec 32 := 16#32
  let v837 : BitVec 32 := Scalar.muli arg9 c16_i32_1181
  let v839 : Index := Scalar.indexCast v837
  ![15, v839.toNat]

def k1_chk1249 (v780 : IVec S16 32) : Prop :=
  (∀ a x, ((![v780] : Fin 1 → IVec S16 32) a x).toNat < S88320.size a)
theorem k1_idx1249_inb : ∀ (v780 : IVec S16 32) (k1_hw1249 : k1_chk1249 v780), ∀ a x, ((![v780] : Fin 1 → IVec S16 32) a x).toNat < S88320.size a := fun v780 k1_hw1249 => k1_hw1249

def k1_chk1250 (v784 : IVec S16 32) : Prop :=
  (∀ a x, ((![v784] : Fin 1 → IVec S16 32) a x).toNat < S88320.size a)
theorem k1_idx1250_inb : ∀ (v784 : IVec S16 32) (k1_hw1250 : k1_chk1250 v784), ∀ a x, ((![v784] : Fin 1 → IVec S16 32) a x).toNat < S88320.size a := fun v784 k1_hw1250 => k1_hw1250

def k1_chk1251 (v788 : IVec S16 32) : Prop :=
  (∀ a x, ((![v788] : Fin 1 → IVec S16 32) a x).toNat < S88320.size a)
theorem k1_idx1251_inb : ∀ (v788 : IVec S16 32) (k1_hw1251 : k1_chk1251 v788), ∀ a x, ((![v788] : Fin 1 → IVec S16 32) a x).toNat < S88320.size a := fun v788 k1_hw1251 => k1_hw1251

def k1_chk1252 (v792 : IVec S16 32) : Prop :=
  (∀ a x, ((![v792] : Fin 1 → IVec S16 32) a x).toNat < S88320.size a)
theorem k1_idx1252_inb : ∀ (v792 : IVec S16 32) (k1_hw1252 : k1_chk1252 v792), ∀ a x, ((![v792] : Fin 1 → IVec S16 32) a x).toNat < S88320.size a := fun v792 k1_hw1252 => k1_hw1252

def k1_chk1253 (v796 : IVec S16 32) : Prop :=
  (∀ a x, ((![v796] : Fin 1 → IVec S16 32) a x).toNat < S88320.size a)
theorem k1_idx1253_inb : ∀ (v796 : IVec S16 32) (k1_hw1253 : k1_chk1253 v796), ∀ a x, ((![v796] : Fin 1 → IVec S16 32) a x).toNat < S88320.size a := fun v796 k1_hw1253 => k1_hw1253

def k1_chk1254 (v800 : IVec S16 32) : Prop :=
  (∀ a x, ((![v800] : Fin 1 → IVec S16 32) a x).toNat < S88320.size a)
theorem k1_idx1254_inb : ∀ (v800 : IVec S16 32) (k1_hw1254 : k1_chk1254 v800), ∀ a x, ((![v800] : Fin 1 → IVec S16 32) a x).toNat < S88320.size a := fun v800 k1_hw1254 => k1_hw1254

def k1_chk1255 (v804 : IVec S16 32) : Prop :=
  (∀ a x, ((![v804] : Fin 1 → IVec S16 32) a x).toNat < S88320.size a)
theorem k1_idx1255_inb : ∀ (v804 : IVec S16 32) (k1_hw1255 : k1_chk1255 v804), ∀ a x, ((![v804] : Fin 1 → IVec S16 32) a x).toNat < S88320.size a := fun v804 k1_hw1255 => k1_hw1255

def k1_chk1256 (v808 : IVec S16 32) : Prop :=
  (∀ a x, ((![v808] : Fin 1 → IVec S16 32) a x).toNat < S88320.size a)
theorem k1_idx1256_inb : ∀ (v808 : IVec S16 32) (k1_hw1256 : k1_chk1256 v808), ∀ a x, ((![v808] : Fin 1 → IVec S16 32) a x).toNat < S88320.size a := fun v808 k1_hw1256 => k1_hw1256

def k1_chk1257 (v812 : IVec S16 32) : Prop :=
  (∀ a x, ((![v812] : Fin 1 → IVec S16 32) a x).toNat < S88320.size a)
theorem k1_idx1257_inb : ∀ (v812 : IVec S16 32) (k1_hw1257 : k1_chk1257 v812), ∀ a x, ((![v812] : Fin 1 → IVec S16 32) a x).toNat < S88320.size a := fun v812 k1_hw1257 => k1_hw1257

def k1_chk1258 (v816 : IVec S16 32) : Prop :=
  (∀ a x, ((![v816] : Fin 1 → IVec S16 32) a x).toNat < S88320.size a)
theorem k1_idx1258_inb : ∀ (v816 : IVec S16 32) (k1_hw1258 : k1_chk1258 v816), ∀ a x, ((![v816] : Fin 1 → IVec S16 32) a x).toNat < S88320.size a := fun v816 k1_hw1258 => k1_hw1258

def k1_chk1259 (v820 : IVec S16 32) : Prop :=
  (∀ a x, ((![v820] : Fin 1 → IVec S16 32) a x).toNat < S88320.size a)
theorem k1_idx1259_inb : ∀ (v820 : IVec S16 32) (k1_hw1259 : k1_chk1259 v820), ∀ a x, ((![v820] : Fin 1 → IVec S16 32) a x).toNat < S88320.size a := fun v820 k1_hw1259 => k1_hw1259

def k1_chk1260 (v824 : IVec S16 32) : Prop :=
  (∀ a x, ((![v824] : Fin 1 → IVec S16 32) a x).toNat < S88320.size a)
theorem k1_idx1260_inb : ∀ (v824 : IVec S16 32) (k1_hw1260 : k1_chk1260 v824), ∀ a x, ((![v824] : Fin 1 → IVec S16 32) a x).toNat < S88320.size a := fun v824 k1_hw1260 => k1_hw1260

def k1_chk1261 (v828 : IVec S16 32) : Prop :=
  (∀ a x, ((![v828] : Fin 1 → IVec S16 32) a x).toNat < S88320.size a)
theorem k1_idx1261_inb : ∀ (v828 : IVec S16 32) (k1_hw1261 : k1_chk1261 v828), ∀ a x, ((![v828] : Fin 1 → IVec S16 32) a x).toNat < S88320.size a := fun v828 k1_hw1261 => k1_hw1261

def k1_chk1262 (v832 : IVec S16 32) : Prop :=
  (∀ a x, ((![v832] : Fin 1 → IVec S16 32) a x).toNat < S88320.size a)
theorem k1_idx1262_inb : ∀ (v832 : IVec S16 32) (k1_hw1262 : k1_chk1262 v832), ∀ a x, ((![v832] : Fin 1 → IVec S16 32) a x).toNat < S88320.size a := fun v832 k1_hw1262 => k1_hw1262

def k1_chk1263 (v836 : IVec S16 32) : Prop :=
  (∀ a x, ((![v836] : Fin 1 → IVec S16 32) a x).toNat < S88320.size a)
theorem k1_idx1263_inb : ∀ (v836 : IVec S16 32) (k1_hw1263 : k1_chk1263 v836), ∀ a x, ((![v836] : Fin 1 → IVec S16 32) a x).toNat < S88320.size a := fun v836 k1_hw1263 => k1_hw1263

def k1_chk1264 (v840 : IVec S16 32) : Prop :=
  (∀ a x, ((![v840] : Fin 1 → IVec S16 32) a x).toNat < S88320.size a)
theorem k1_idx1264_inb : ∀ (v840 : IVec S16 32) (k1_hw1264 : k1_chk1264 v840), ∀ a x, ((![v840] : Fin 1 → IVec S16 32) a x).toNat < S88320.size a := fun v840 k1_hw1264 => k1_hw1264
def k1_off1346 (i : grid1.Coords) : Fin 4 → Nat :=
  let c3_i32_1016 : BitVec 32 := 3#32
  let c17_i32_1017 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1018 : BitVec 32 := 0#32
  ![3, 17, v2.toNat, 0]
@[reducible] def k1_t81_loop : Scf.Loop 32 :=
  let c0_i32_1025 : BitVec 32 := 0#32
  let c32_i32_1026 : BitVec 32 := 32#32
  let v729 : BitVec 32 := Scalar.addi c0_i32_1025 c32_i32_1026
  let c1_i32_1027 : BitVec 32 := 1#32
  ⟨c0_i32_1025, v729, c1_i32_1027⟩
def k1_off1347 (k1_t81 : Fin k1_t81_loop.trips) : Fin 2 → Nat :=
  let c0_i32_1152 : BitVec 32 := 0#32
  let v778 : Index := Scalar.indexCast c0_i32_1152
  let c0_i32_1025 : BitVec 32 := 0#32
  let c1_i32_1027 : BitVec 32 := 1#32
  let arg9 : BitVec 32 := Scf.iv c0_i32_1025 c1_i32_1027 k1_t81
  let c16_i32_1151 : BitVec 32 := 16#32
  let v777 : BitVec 32 := Scalar.muli arg9 c16_i32_1151
  let v779 : Index := Scalar.indexCast v777
  ![0, v779.toNat]
def k1_off1348 (k1_t81 : Fin k1_t81_loop.trips) : Fin 2 → Nat :=
  let c1_i32_1154 : BitVec 32 := 1#32
  let v782 : Index := Scalar.indexCast c1_i32_1154
  let c0_i32_1025 : BitVec 32 := 0#32
  let c1_i32_1027 : BitVec 32 := 1#32
  let arg9 : BitVec 32 := Scf.iv c0_i32_1025 c1_i32_1027 k1_t81
  let c16_i32_1153 : BitVec 32 := 16#32
  let v781 : BitVec 32 := Scalar.muli arg9 c16_i32_1153
  let v783 : Index := Scalar.indexCast v781
  ![1, v783.toNat]
def k1_off1349 (k1_t81 : Fin k1_t81_loop.trips) : Fin 2 → Nat :=
  let c2_i32_1156 : BitVec 32 := 2#32
  let v786 : Index := Scalar.indexCast c2_i32_1156
  let c0_i32_1025 : BitVec 32 := 0#32
  let c1_i32_1027 : BitVec 32 := 1#32
  let arg9 : BitVec 32 := Scf.iv c0_i32_1025 c1_i32_1027 k1_t81
  let c16_i32_1155 : BitVec 32 := 16#32
  let v785 : BitVec 32 := Scalar.muli arg9 c16_i32_1155
  let v787 : Index := Scalar.indexCast v785
  ![2, v787.toNat]
def k1_off1350 (k1_t81 : Fin k1_t81_loop.trips) : Fin 2 → Nat :=
  let c3_i32_1158 : BitVec 32 := 3#32
  let v790 : Index := Scalar.indexCast c3_i32_1158
  let c0_i32_1025 : BitVec 32 := 0#32
  let c1_i32_1027 : BitVec 32 := 1#32
  let arg9 : BitVec 32 := Scf.iv c0_i32_1025 c1_i32_1027 k1_t81
  let c16_i32_1157 : BitVec 32 := 16#32
  let v789 : BitVec 32 := Scalar.muli arg9 c16_i32_1157
  let v791 : Index := Scalar.indexCast v789
  ![3, v791.toNat]
def k1_off1351 (k1_t81 : Fin k1_t81_loop.trips) : Fin 2 → Nat :=
  let c4_i32_1160 : BitVec 32 := 4#32
  let v794 : Index := Scalar.indexCast c4_i32_1160
  let c0_i32_1025 : BitVec 32 := 0#32
  let c1_i32_1027 : BitVec 32 := 1#32
  let arg9 : BitVec 32 := Scf.iv c0_i32_1025 c1_i32_1027 k1_t81
  let c16_i32_1159 : BitVec 32 := 16#32
  let v793 : BitVec 32 := Scalar.muli arg9 c16_i32_1159
  let v795 : Index := Scalar.indexCast v793
  ![4, v795.toNat]
def k1_off1352 (k1_t81 : Fin k1_t81_loop.trips) : Fin 2 → Nat :=
  let c5_i32_1162 : BitVec 32 := 5#32
  let v798 : Index := Scalar.indexCast c5_i32_1162
  let c0_i32_1025 : BitVec 32 := 0#32
  let c1_i32_1027 : BitVec 32 := 1#32
  let arg9 : BitVec 32 := Scf.iv c0_i32_1025 c1_i32_1027 k1_t81
  let c16_i32_1161 : BitVec 32 := 16#32
  let v797 : BitVec 32 := Scalar.muli arg9 c16_i32_1161
  let v799 : Index := Scalar.indexCast v797
  ![5, v799.toNat]
def k1_off1353 (k1_t81 : Fin k1_t81_loop.trips) : Fin 2 → Nat :=
  let c6_i32_1164 : BitVec 32 := 6#32
  let v802 : Index := Scalar.indexCast c6_i32_1164
  let c0_i32_1025 : BitVec 32 := 0#32
  let c1_i32_1027 : BitVec 32 := 1#32
  let arg9 : BitVec 32 := Scf.iv c0_i32_1025 c1_i32_1027 k1_t81
  let c16_i32_1163 : BitVec 32 := 16#32
  let v801 : BitVec 32 := Scalar.muli arg9 c16_i32_1163
  let v803 : Index := Scalar.indexCast v801
  ![6, v803.toNat]
def k1_off1354 (k1_t81 : Fin k1_t81_loop.trips) : Fin 2 → Nat :=
  let c7_i32_1166 : BitVec 32 := 7#32
  let v806 : Index := Scalar.indexCast c7_i32_1166
  let c0_i32_1025 : BitVec 32 := 0#32
  let c1_i32_1027 : BitVec 32 := 1#32
  let arg9 : BitVec 32 := Scf.iv c0_i32_1025 c1_i32_1027 k1_t81
  let c16_i32_1165 : BitVec 32 := 16#32
  let v805 : BitVec 32 := Scalar.muli arg9 c16_i32_1165
  let v807 : Index := Scalar.indexCast v805
  ![7, v807.toNat]
def k1_off1355 (k1_t81 : Fin k1_t81_loop.trips) : Fin 2 → Nat :=
  let c8_i32_1168 : BitVec 32 := 8#32
  let v810 : Index := Scalar.indexCast c8_i32_1168
  let c0_i32_1025 : BitVec 32 := 0#32
  let c1_i32_1027 : BitVec 32 := 1#32
  let arg9 : BitVec 32 := Scf.iv c0_i32_1025 c1_i32_1027 k1_t81
  let c16_i32_1167 : BitVec 32 := 16#32
  let v809 : BitVec 32 := Scalar.muli arg9 c16_i32_1167
  let v811 : Index := Scalar.indexCast v809
  ![8, v811.toNat]
def k1_off1356 (k1_t81 : Fin k1_t81_loop.trips) : Fin 2 → Nat :=
  let c9_i32_1170 : BitVec 32 := 9#32
  let v814 : Index := Scalar.indexCast c9_i32_1170
  let c0_i32_1025 : BitVec 32 := 0#32
  let c1_i32_1027 : BitVec 32 := 1#32
  let arg9 : BitVec 32 := Scf.iv c0_i32_1025 c1_i32_1027 k1_t81
  let c16_i32_1169 : BitVec 32 := 16#32
  let v813 : BitVec 32 := Scalar.muli arg9 c16_i32_1169
  let v815 : Index := Scalar.indexCast v813
  ![9, v815.toNat]
def k1_off1357 (k1_t81 : Fin k1_t81_loop.trips) : Fin 2 → Nat :=
  let c10_i32_1172 : BitVec 32 := 10#32
  let v818 : Index := Scalar.indexCast c10_i32_1172
  let c0_i32_1025 : BitVec 32 := 0#32
  let c1_i32_1027 : BitVec 32 := 1#32
  let arg9 : BitVec 32 := Scf.iv c0_i32_1025 c1_i32_1027 k1_t81
  let c16_i32_1171 : BitVec 32 := 16#32
  let v817 : BitVec 32 := Scalar.muli arg9 c16_i32_1171
  let v819 : Index := Scalar.indexCast v817
  ![10, v819.toNat]
def k1_off1358 (k1_t81 : Fin k1_t81_loop.trips) : Fin 2 → Nat :=
  let c11_i32_1174 : BitVec 32 := 11#32
  let v822 : Index := Scalar.indexCast c11_i32_1174
  let c0_i32_1025 : BitVec 32 := 0#32
  let c1_i32_1027 : BitVec 32 := 1#32
  let arg9 : BitVec 32 := Scf.iv c0_i32_1025 c1_i32_1027 k1_t81
  let c16_i32_1173 : BitVec 32 := 16#32
  let v821 : BitVec 32 := Scalar.muli arg9 c16_i32_1173
  let v823 : Index := Scalar.indexCast v821
  ![11, v823.toNat]
def k1_off1359 (k1_t81 : Fin k1_t81_loop.trips) : Fin 2 → Nat :=
  let c12_i32_1176 : BitVec 32 := 12#32
  let v826 : Index := Scalar.indexCast c12_i32_1176
  let c0_i32_1025 : BitVec 32 := 0#32
  let c1_i32_1027 : BitVec 32 := 1#32
  let arg9 : BitVec 32 := Scf.iv c0_i32_1025 c1_i32_1027 k1_t81
  let c16_i32_1175 : BitVec 32 := 16#32
  let v825 : BitVec 32 := Scalar.muli arg9 c16_i32_1175
  let v827 : Index := Scalar.indexCast v825
  ![12, v827.toNat]
def k1_off1360 (k1_t81 : Fin k1_t81_loop.trips) : Fin 2 → Nat :=
  let c13_i32_1178 : BitVec 32 := 13#32
  let v830 : Index := Scalar.indexCast c13_i32_1178
  let c0_i32_1025 : BitVec 32 := 0#32
  let c1_i32_1027 : BitVec 32 := 1#32
  let arg9 : BitVec 32 := Scf.iv c0_i32_1025 c1_i32_1027 k1_t81
  let c16_i32_1177 : BitVec 32 := 16#32
  let v829 : BitVec 32 := Scalar.muli arg9 c16_i32_1177
  let v831 : Index := Scalar.indexCast v829
  ![13, v831.toNat]
def k1_off1361 (k1_t81 : Fin k1_t81_loop.trips) : Fin 2 → Nat :=
  let c14_i32_1180 : BitVec 32 := 14#32
  let v834 : Index := Scalar.indexCast c14_i32_1180
  let c0_i32_1025 : BitVec 32 := 0#32
  let c1_i32_1027 : BitVec 32 := 1#32
  let arg9 : BitVec 32 := Scf.iv c0_i32_1025 c1_i32_1027 k1_t81
  let c16_i32_1179 : BitVec 32 := 16#32
  let v833 : BitVec 32 := Scalar.muli arg9 c16_i32_1179
  let v835 : Index := Scalar.indexCast v833
  ![14, v835.toNat]
def k1_off1362 (k1_t81 : Fin k1_t81_loop.trips) : Fin 2 → Nat :=
  let c15_i32_1182 : BitVec 32 := 15#32
  let v838 : Index := Scalar.indexCast c15_i32_1182
  let c0_i32_1025 : BitVec 32 := 0#32
  let c1_i32_1027 : BitVec 32 := 1#32
  let arg9 : BitVec 32 := Scf.iv c0_i32_1025 c1_i32_1027 k1_t81
  let c16_i32_1181 : BitVec 32 := 16#32
  let v837 : BitVec 32 := Scalar.muli arg9 c16_i32_1181
  let v839 : Index := Scalar.indexCast v837
  ![15, v839.toNat]

def k1_chk1265 (v780 : IVec S16 32) : Prop :=
  (∀ a x, ((![v780] : Fin 1 → IVec S16 32) a x).toNat < S88320.size a)
theorem k1_idx1265_inb : ∀ (v780 : IVec S16 32) (k1_hw1265 : k1_chk1265 v780), ∀ a x, ((![v780] : Fin 1 → IVec S16 32) a x).toNat < S88320.size a := fun v780 k1_hw1265 => k1_hw1265

def k1_chk1266 (v784 : IVec S16 32) : Prop :=
  (∀ a x, ((![v784] : Fin 1 → IVec S16 32) a x).toNat < S88320.size a)
theorem k1_idx1266_inb : ∀ (v784 : IVec S16 32) (k1_hw1266 : k1_chk1266 v784), ∀ a x, ((![v784] : Fin 1 → IVec S16 32) a x).toNat < S88320.size a := fun v784 k1_hw1266 => k1_hw1266

def k1_chk1267 (v788 : IVec S16 32) : Prop :=
  (∀ a x, ((![v788] : Fin 1 → IVec S16 32) a x).toNat < S88320.size a)
theorem k1_idx1267_inb : ∀ (v788 : IVec S16 32) (k1_hw1267 : k1_chk1267 v788), ∀ a x, ((![v788] : Fin 1 → IVec S16 32) a x).toNat < S88320.size a := fun v788 k1_hw1267 => k1_hw1267

def k1_chk1268 (v792 : IVec S16 32) : Prop :=
  (∀ a x, ((![v792] : Fin 1 → IVec S16 32) a x).toNat < S88320.size a)
theorem k1_idx1268_inb : ∀ (v792 : IVec S16 32) (k1_hw1268 : k1_chk1268 v792), ∀ a x, ((![v792] : Fin 1 → IVec S16 32) a x).toNat < S88320.size a := fun v792 k1_hw1268 => k1_hw1268

def k1_chk1269 (v796 : IVec S16 32) : Prop :=
  (∀ a x, ((![v796] : Fin 1 → IVec S16 32) a x).toNat < S88320.size a)
theorem k1_idx1269_inb : ∀ (v796 : IVec S16 32) (k1_hw1269 : k1_chk1269 v796), ∀ a x, ((![v796] : Fin 1 → IVec S16 32) a x).toNat < S88320.size a := fun v796 k1_hw1269 => k1_hw1269

def k1_chk1270 (v800 : IVec S16 32) : Prop :=
  (∀ a x, ((![v800] : Fin 1 → IVec S16 32) a x).toNat < S88320.size a)
theorem k1_idx1270_inb : ∀ (v800 : IVec S16 32) (k1_hw1270 : k1_chk1270 v800), ∀ a x, ((![v800] : Fin 1 → IVec S16 32) a x).toNat < S88320.size a := fun v800 k1_hw1270 => k1_hw1270

def k1_chk1271 (v804 : IVec S16 32) : Prop :=
  (∀ a x, ((![v804] : Fin 1 → IVec S16 32) a x).toNat < S88320.size a)
theorem k1_idx1271_inb : ∀ (v804 : IVec S16 32) (k1_hw1271 : k1_chk1271 v804), ∀ a x, ((![v804] : Fin 1 → IVec S16 32) a x).toNat < S88320.size a := fun v804 k1_hw1271 => k1_hw1271

def k1_chk1272 (v808 : IVec S16 32) : Prop :=
  (∀ a x, ((![v808] : Fin 1 → IVec S16 32) a x).toNat < S88320.size a)
theorem k1_idx1272_inb : ∀ (v808 : IVec S16 32) (k1_hw1272 : k1_chk1272 v808), ∀ a x, ((![v808] : Fin 1 → IVec S16 32) a x).toNat < S88320.size a := fun v808 k1_hw1272 => k1_hw1272

def k1_chk1273 (v812 : IVec S16 32) : Prop :=
  (∀ a x, ((![v812] : Fin 1 → IVec S16 32) a x).toNat < S88320.size a)
theorem k1_idx1273_inb : ∀ (v812 : IVec S16 32) (k1_hw1273 : k1_chk1273 v812), ∀ a x, ((![v812] : Fin 1 → IVec S16 32) a x).toNat < S88320.size a := fun v812 k1_hw1273 => k1_hw1273

def k1_chk1274 (v816 : IVec S16 32) : Prop :=
  (∀ a x, ((![v816] : Fin 1 → IVec S16 32) a x).toNat < S88320.size a)
theorem k1_idx1274_inb : ∀ (v816 : IVec S16 32) (k1_hw1274 : k1_chk1274 v816), ∀ a x, ((![v816] : Fin 1 → IVec S16 32) a x).toNat < S88320.size a := fun v816 k1_hw1274 => k1_hw1274

def k1_chk1275 (v820 : IVec S16 32) : Prop :=
  (∀ a x, ((![v820] : Fin 1 → IVec S16 32) a x).toNat < S88320.size a)
theorem k1_idx1275_inb : ∀ (v820 : IVec S16 32) (k1_hw1275 : k1_chk1275 v820), ∀ a x, ((![v820] : Fin 1 → IVec S16 32) a x).toNat < S88320.size a := fun v820 k1_hw1275 => k1_hw1275

def k1_chk1276 (v824 : IVec S16 32) : Prop :=
  (∀ a x, ((![v824] : Fin 1 → IVec S16 32) a x).toNat < S88320.size a)
theorem k1_idx1276_inb : ∀ (v824 : IVec S16 32) (k1_hw1276 : k1_chk1276 v824), ∀ a x, ((![v824] : Fin 1 → IVec S16 32) a x).toNat < S88320.size a := fun v824 k1_hw1276 => k1_hw1276

def k1_chk1277 (v828 : IVec S16 32) : Prop :=
  (∀ a x, ((![v828] : Fin 1 → IVec S16 32) a x).toNat < S88320.size a)
theorem k1_idx1277_inb : ∀ (v828 : IVec S16 32) (k1_hw1277 : k1_chk1277 v828), ∀ a x, ((![v828] : Fin 1 → IVec S16 32) a x).toNat < S88320.size a := fun v828 k1_hw1277 => k1_hw1277

def k1_chk1278 (v832 : IVec S16 32) : Prop :=
  (∀ a x, ((![v832] : Fin 1 → IVec S16 32) a x).toNat < S88320.size a)
theorem k1_idx1278_inb : ∀ (v832 : IVec S16 32) (k1_hw1278 : k1_chk1278 v832), ∀ a x, ((![v832] : Fin 1 → IVec S16 32) a x).toNat < S88320.size a := fun v832 k1_hw1278 => k1_hw1278

def k1_chk1279 (v836 : IVec S16 32) : Prop :=
  (∀ a x, ((![v836] : Fin 1 → IVec S16 32) a x).toNat < S88320.size a)
theorem k1_idx1279_inb : ∀ (v836 : IVec S16 32) (k1_hw1279 : k1_chk1279 v836), ∀ a x, ((![v836] : Fin 1 → IVec S16 32) a x).toNat < S88320.size a := fun v836 k1_hw1279 => k1_hw1279

def k1_chk1280 (v840 : IVec S16 32) : Prop :=
  (∀ a x, ((![v840] : Fin 1 → IVec S16 32) a x).toNat < S88320.size a)
theorem k1_idx1280_inb : ∀ (v840 : IVec S16 32) (k1_hw1280 : k1_chk1280 v840), ∀ a x, ((![v840] : Fin 1 → IVec S16 32) a x).toNat < S88320.size a := fun v840 k1_hw1280 => k1_hw1280
def k1_off1363 (i : grid1.Coords) : Fin 4 → Nat :=
  let c3_i32_1029 : BitVec 32 := 3#32
  let c18_i32_1030 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1031 : BitVec 32 := 0#32
  ![3, 18, v2.toNat, 0]
@[reducible] def k1_t82_loop : Scf.Loop 32 :=
  let c0_i32_1038 : BitVec 32 := 0#32
  let c32_i32_1039 : BitVec 32 := 32#32
  let v738 : BitVec 32 := Scalar.addi c0_i32_1038 c32_i32_1039
  let c1_i32_1040 : BitVec 32 := 1#32
  ⟨c0_i32_1038, v738, c1_i32_1040⟩
def k1_off1364 (k1_t82 : Fin k1_t82_loop.trips) : Fin 2 → Nat :=
  let c0_i32_1152 : BitVec 32 := 0#32
  let v778 : Index := Scalar.indexCast c0_i32_1152
  let c0_i32_1038 : BitVec 32 := 0#32
  let c1_i32_1040 : BitVec 32 := 1#32
  let arg9 : BitVec 32 := Scf.iv c0_i32_1038 c1_i32_1040 k1_t82
  let c16_i32_1151 : BitVec 32 := 16#32
  let v777 : BitVec 32 := Scalar.muli arg9 c16_i32_1151
  let v779 : Index := Scalar.indexCast v777
  ![0, v779.toNat]
def k1_off1365 (k1_t82 : Fin k1_t82_loop.trips) : Fin 2 → Nat :=
  let c1_i32_1154 : BitVec 32 := 1#32
  let v782 : Index := Scalar.indexCast c1_i32_1154
  let c0_i32_1038 : BitVec 32 := 0#32
  let c1_i32_1040 : BitVec 32 := 1#32
  let arg9 : BitVec 32 := Scf.iv c0_i32_1038 c1_i32_1040 k1_t82
  let c16_i32_1153 : BitVec 32 := 16#32
  let v781 : BitVec 32 := Scalar.muli arg9 c16_i32_1153
  let v783 : Index := Scalar.indexCast v781
  ![1, v783.toNat]
def k1_off1366 (k1_t82 : Fin k1_t82_loop.trips) : Fin 2 → Nat :=
  let c2_i32_1156 : BitVec 32 := 2#32
  let v786 : Index := Scalar.indexCast c2_i32_1156
  let c0_i32_1038 : BitVec 32 := 0#32
  let c1_i32_1040 : BitVec 32 := 1#32
  let arg9 : BitVec 32 := Scf.iv c0_i32_1038 c1_i32_1040 k1_t82
  let c16_i32_1155 : BitVec 32 := 16#32
  let v785 : BitVec 32 := Scalar.muli arg9 c16_i32_1155
  let v787 : Index := Scalar.indexCast v785
  ![2, v787.toNat]
def k1_off1367 (k1_t82 : Fin k1_t82_loop.trips) : Fin 2 → Nat :=
  let c3_i32_1158 : BitVec 32 := 3#32
  let v790 : Index := Scalar.indexCast c3_i32_1158
  let c0_i32_1038 : BitVec 32 := 0#32
  let c1_i32_1040 : BitVec 32 := 1#32
  let arg9 : BitVec 32 := Scf.iv c0_i32_1038 c1_i32_1040 k1_t82
  let c16_i32_1157 : BitVec 32 := 16#32
  let v789 : BitVec 32 := Scalar.muli arg9 c16_i32_1157
  let v791 : Index := Scalar.indexCast v789
  ![3, v791.toNat]
def k1_off1368 (k1_t82 : Fin k1_t82_loop.trips) : Fin 2 → Nat :=
  let c4_i32_1160 : BitVec 32 := 4#32
  let v794 : Index := Scalar.indexCast c4_i32_1160
  let c0_i32_1038 : BitVec 32 := 0#32
  let c1_i32_1040 : BitVec 32 := 1#32
  let arg9 : BitVec 32 := Scf.iv c0_i32_1038 c1_i32_1040 k1_t82
  let c16_i32_1159 : BitVec 32 := 16#32
  let v793 : BitVec 32 := Scalar.muli arg9 c16_i32_1159
  let v795 : Index := Scalar.indexCast v793
  ![4, v795.toNat]
def k1_off1369 (k1_t82 : Fin k1_t82_loop.trips) : Fin 2 → Nat :=
  let c5_i32_1162 : BitVec 32 := 5#32
  let v798 : Index := Scalar.indexCast c5_i32_1162
  let c0_i32_1038 : BitVec 32 := 0#32
  let c1_i32_1040 : BitVec 32 := 1#32
  let arg9 : BitVec 32 := Scf.iv c0_i32_1038 c1_i32_1040 k1_t82
  let c16_i32_1161 : BitVec 32 := 16#32
  let v797 : BitVec 32 := Scalar.muli arg9 c16_i32_1161
  let v799 : Index := Scalar.indexCast v797
  ![5, v799.toNat]
def k1_off1370 (k1_t82 : Fin k1_t82_loop.trips) : Fin 2 → Nat :=
  let c6_i32_1164 : BitVec 32 := 6#32
  let v802 : Index := Scalar.indexCast c6_i32_1164
  let c0_i32_1038 : BitVec 32 := 0#32
  let c1_i32_1040 : BitVec 32 := 1#32
  let arg9 : BitVec 32 := Scf.iv c0_i32_1038 c1_i32_1040 k1_t82
  let c16_i32_1163 : BitVec 32 := 16#32
  let v801 : BitVec 32 := Scalar.muli arg9 c16_i32_1163
  let v803 : Index := Scalar.indexCast v801
  ![6, v803.toNat]
def k1_off1371 (k1_t82 : Fin k1_t82_loop.trips) : Fin 2 → Nat :=
  let c7_i32_1166 : BitVec 32 := 7#32
  let v806 : Index := Scalar.indexCast c7_i32_1166
  let c0_i32_1038 : BitVec 32 := 0#32
  let c1_i32_1040 : BitVec 32 := 1#32
  let arg9 : BitVec 32 := Scf.iv c0_i32_1038 c1_i32_1040 k1_t82
  let c16_i32_1165 : BitVec 32 := 16#32
  let v805 : BitVec 32 := Scalar.muli arg9 c16_i32_1165
  let v807 : Index := Scalar.indexCast v805
  ![7, v807.toNat]
def k1_off1372 (k1_t82 : Fin k1_t82_loop.trips) : Fin 2 → Nat :=
  let c8_i32_1168 : BitVec 32 := 8#32
  let v810 : Index := Scalar.indexCast c8_i32_1168
  let c0_i32_1038 : BitVec 32 := 0#32
  let c1_i32_1040 : BitVec 32 := 1#32
  let arg9 : BitVec 32 := Scf.iv c0_i32_1038 c1_i32_1040 k1_t82
  let c16_i32_1167 : BitVec 32 := 16#32
  let v809 : BitVec 32 := Scalar.muli arg9 c16_i32_1167
  let v811 : Index := Scalar.indexCast v809
  ![8, v811.toNat]
def k1_off1373 (k1_t82 : Fin k1_t82_loop.trips) : Fin 2 → Nat :=
  let c9_i32_1170 : BitVec 32 := 9#32
  let v814 : Index := Scalar.indexCast c9_i32_1170
  let c0_i32_1038 : BitVec 32 := 0#32
  let c1_i32_1040 : BitVec 32 := 1#32
  let arg9 : BitVec 32 := Scf.iv c0_i32_1038 c1_i32_1040 k1_t82
  let c16_i32_1169 : BitVec 32 := 16#32
  let v813 : BitVec 32 := Scalar.muli arg9 c16_i32_1169
  let v815 : Index := Scalar.indexCast v813
  ![9, v815.toNat]
def k1_off1374 (k1_t82 : Fin k1_t82_loop.trips) : Fin 2 → Nat :=
  let c10_i32_1172 : BitVec 32 := 10#32
  let v818 : Index := Scalar.indexCast c10_i32_1172
  let c0_i32_1038 : BitVec 32 := 0#32
  let c1_i32_1040 : BitVec 32 := 1#32
  let arg9 : BitVec 32 := Scf.iv c0_i32_1038 c1_i32_1040 k1_t82
  let c16_i32_1171 : BitVec 32 := 16#32
  let v817 : BitVec 32 := Scalar.muli arg9 c16_i32_1171
  let v819 : Index := Scalar.indexCast v817
  ![10, v819.toNat]
def k1_off1375 (k1_t82 : Fin k1_t82_loop.trips) : Fin 2 → Nat :=
  let c11_i32_1174 : BitVec 32 := 11#32
  let v822 : Index := Scalar.indexCast c11_i32_1174
  let c0_i32_1038 : BitVec 32 := 0#32
  let c1_i32_1040 : BitVec 32 := 1#32
  let arg9 : BitVec 32 := Scf.iv c0_i32_1038 c1_i32_1040 k1_t82
  let c16_i32_1173 : BitVec 32 := 16#32
  let v821 : BitVec 32 := Scalar.muli arg9 c16_i32_1173
  let v823 : Index := Scalar.indexCast v821
  ![11, v823.toNat]
def k1_off1376 (k1_t82 : Fin k1_t82_loop.trips) : Fin 2 → Nat :=
  let c12_i32_1176 : BitVec 32 := 12#32
  let v826 : Index := Scalar.indexCast c12_i32_1176
  let c0_i32_1038 : BitVec 32 := 0#32
  let c1_i32_1040 : BitVec 32 := 1#32
  let arg9 : BitVec 32 := Scf.iv c0_i32_1038 c1_i32_1040 k1_t82
  let c16_i32_1175 : BitVec 32 := 16#32
  let v825 : BitVec 32 := Scalar.muli arg9 c16_i32_1175
  let v827 : Index := Scalar.indexCast v825
  ![12, v827.toNat]
def k1_off1377 (k1_t82 : Fin k1_t82_loop.trips) : Fin 2 → Nat :=
  let c13_i32_1178 : BitVec 32 := 13#32
  let v830 : Index := Scalar.indexCast c13_i32_1178
  let c0_i32_1038 : BitVec 32 := 0#32
  let c1_i32_1040 : BitVec 32 := 1#32
  let arg9 : BitVec 32 := Scf.iv c0_i32_1038 c1_i32_1040 k1_t82
  let c16_i32_1177 : BitVec 32 := 16#32
  let v829 : BitVec 32 := Scalar.muli arg9 c16_i32_1177
  let v831 : Index := Scalar.indexCast v829
  ![13, v831.toNat]
def k1_off1378 (k1_t82 : Fin k1_t82_loop.trips) : Fin 2 → Nat :=
  let c14_i32_1180 : BitVec 32 := 14#32
  let v834 : Index := Scalar.indexCast c14_i32_1180
  let c0_i32_1038 : BitVec 32 := 0#32
  let c1_i32_1040 : BitVec 32 := 1#32
  let arg9 : BitVec 32 := Scf.iv c0_i32_1038 c1_i32_1040 k1_t82
  let c16_i32_1179 : BitVec 32 := 16#32
  let v833 : BitVec 32 := Scalar.muli arg9 c16_i32_1179
  let v835 : Index := Scalar.indexCast v833
  ![14, v835.toNat]
def k1_off1379 (k1_t82 : Fin k1_t82_loop.trips) : Fin 2 → Nat :=
  let c15_i32_1182 : BitVec 32 := 15#32
  let v838 : Index := Scalar.indexCast c15_i32_1182
  let c0_i32_1038 : BitVec 32 := 0#32
  let c1_i32_1040 : BitVec 32 := 1#32
  let arg9 : BitVec 32 := Scf.iv c0_i32_1038 c1_i32_1040 k1_t82
  let c16_i32_1181 : BitVec 32 := 16#32
  let v837 : BitVec 32 := Scalar.muli arg9 c16_i32_1181
  let v839 : Index := Scalar.indexCast v837
  ![15, v839.toNat]

def k1_chk1281 (v780 : IVec S16 32) : Prop :=
  (∀ a x, ((![v780] : Fin 1 → IVec S16 32) a x).toNat < S88320.size a)
theorem k1_idx1281_inb : ∀ (v780 : IVec S16 32) (k1_hw1281 : k1_chk1281 v780), ∀ a x, ((![v780] : Fin 1 → IVec S16 32) a x).toNat < S88320.size a := fun v780 k1_hw1281 => k1_hw1281

def k1_chk1282 (v784 : IVec S16 32) : Prop :=
  (∀ a x, ((![v784] : Fin 1 → IVec S16 32) a x).toNat < S88320.size a)
theorem k1_idx1282_inb : ∀ (v784 : IVec S16 32) (k1_hw1282 : k1_chk1282 v784), ∀ a x, ((![v784] : Fin 1 → IVec S16 32) a x).toNat < S88320.size a := fun v784 k1_hw1282 => k1_hw1282

def k1_chk1283 (v788 : IVec S16 32) : Prop :=
  (∀ a x, ((![v788] : Fin 1 → IVec S16 32) a x).toNat < S88320.size a)
theorem k1_idx1283_inb : ∀ (v788 : IVec S16 32) (k1_hw1283 : k1_chk1283 v788), ∀ a x, ((![v788] : Fin 1 → IVec S16 32) a x).toNat < S88320.size a := fun v788 k1_hw1283 => k1_hw1283

def k1_chk1284 (v792 : IVec S16 32) : Prop :=
  (∀ a x, ((![v792] : Fin 1 → IVec S16 32) a x).toNat < S88320.size a)
theorem k1_idx1284_inb : ∀ (v792 : IVec S16 32) (k1_hw1284 : k1_chk1284 v792), ∀ a x, ((![v792] : Fin 1 → IVec S16 32) a x).toNat < S88320.size a := fun v792 k1_hw1284 => k1_hw1284

def k1_chk1285 (v796 : IVec S16 32) : Prop :=
  (∀ a x, ((![v796] : Fin 1 → IVec S16 32) a x).toNat < S88320.size a)
theorem k1_idx1285_inb : ∀ (v796 : IVec S16 32) (k1_hw1285 : k1_chk1285 v796), ∀ a x, ((![v796] : Fin 1 → IVec S16 32) a x).toNat < S88320.size a := fun v796 k1_hw1285 => k1_hw1285

def k1_chk1286 (v800 : IVec S16 32) : Prop :=
  (∀ a x, ((![v800] : Fin 1 → IVec S16 32) a x).toNat < S88320.size a)
theorem k1_idx1286_inb : ∀ (v800 : IVec S16 32) (k1_hw1286 : k1_chk1286 v800), ∀ a x, ((![v800] : Fin 1 → IVec S16 32) a x).toNat < S88320.size a := fun v800 k1_hw1286 => k1_hw1286

def k1_chk1287 (v804 : IVec S16 32) : Prop :=
  (∀ a x, ((![v804] : Fin 1 → IVec S16 32) a x).toNat < S88320.size a)
theorem k1_idx1287_inb : ∀ (v804 : IVec S16 32) (k1_hw1287 : k1_chk1287 v804), ∀ a x, ((![v804] : Fin 1 → IVec S16 32) a x).toNat < S88320.size a := fun v804 k1_hw1287 => k1_hw1287

def k1_chk1288 (v808 : IVec S16 32) : Prop :=
  (∀ a x, ((![v808] : Fin 1 → IVec S16 32) a x).toNat < S88320.size a)
theorem k1_idx1288_inb : ∀ (v808 : IVec S16 32) (k1_hw1288 : k1_chk1288 v808), ∀ a x, ((![v808] : Fin 1 → IVec S16 32) a x).toNat < S88320.size a := fun v808 k1_hw1288 => k1_hw1288

def k1_chk1289 (v812 : IVec S16 32) : Prop :=
  (∀ a x, ((![v812] : Fin 1 → IVec S16 32) a x).toNat < S88320.size a)
theorem k1_idx1289_inb : ∀ (v812 : IVec S16 32) (k1_hw1289 : k1_chk1289 v812), ∀ a x, ((![v812] : Fin 1 → IVec S16 32) a x).toNat < S88320.size a := fun v812 k1_hw1289 => k1_hw1289

def k1_chk1290 (v816 : IVec S16 32) : Prop :=
  (∀ a x, ((![v816] : Fin 1 → IVec S16 32) a x).toNat < S88320.size a)
theorem k1_idx1290_inb : ∀ (v816 : IVec S16 32) (k1_hw1290 : k1_chk1290 v816), ∀ a x, ((![v816] : Fin 1 → IVec S16 32) a x).toNat < S88320.size a := fun v816 k1_hw1290 => k1_hw1290

def k1_chk1291 (v820 : IVec S16 32) : Prop :=
  (∀ a x, ((![v820] : Fin 1 → IVec S16 32) a x).toNat < S88320.size a)
theorem k1_idx1291_inb : ∀ (v820 : IVec S16 32) (k1_hw1291 : k1_chk1291 v820), ∀ a x, ((![v820] : Fin 1 → IVec S16 32) a x).toNat < S88320.size a := fun v820 k1_hw1291 => k1_hw1291

def k1_chk1292 (v824 : IVec S16 32) : Prop :=
  (∀ a x, ((![v824] : Fin 1 → IVec S16 32) a x).toNat < S88320.size a)
theorem k1_idx1292_inb : ∀ (v824 : IVec S16 32) (k1_hw1292 : k1_chk1292 v824), ∀ a x, ((![v824] : Fin 1 → IVec S16 32) a x).toNat < S88320.size a := fun v824 k1_hw1292 => k1_hw1292

def k1_chk1293 (v828 : IVec S16 32) : Prop :=
  (∀ a x, ((![v828] : Fin 1 → IVec S16 32) a x).toNat < S88320.size a)
theorem k1_idx1293_inb : ∀ (v828 : IVec S16 32) (k1_hw1293 : k1_chk1293 v828), ∀ a x, ((![v828] : Fin 1 → IVec S16 32) a x).toNat < S88320.size a := fun v828 k1_hw1293 => k1_hw1293

def k1_chk1294 (v832 : IVec S16 32) : Prop :=
  (∀ a x, ((![v832] : Fin 1 → IVec S16 32) a x).toNat < S88320.size a)
theorem k1_idx1294_inb : ∀ (v832 : IVec S16 32) (k1_hw1294 : k1_chk1294 v832), ∀ a x, ((![v832] : Fin 1 → IVec S16 32) a x).toNat < S88320.size a := fun v832 k1_hw1294 => k1_hw1294

def k1_chk1295 (v836 : IVec S16 32) : Prop :=
  (∀ a x, ((![v836] : Fin 1 → IVec S16 32) a x).toNat < S88320.size a)
theorem k1_idx1295_inb : ∀ (v836 : IVec S16 32) (k1_hw1295 : k1_chk1295 v836), ∀ a x, ((![v836] : Fin 1 → IVec S16 32) a x).toNat < S88320.size a := fun v836 k1_hw1295 => k1_hw1295

def k1_chk1296 (v840 : IVec S16 32) : Prop :=
  (∀ a x, ((![v840] : Fin 1 → IVec S16 32) a x).toNat < S88320.size a)
theorem k1_idx1296_inb : ∀ (v840 : IVec S16 32) (k1_hw1296 : k1_chk1296 v840), ∀ a x, ((![v840] : Fin 1 → IVec S16 32) a x).toNat < S88320.size a := fun v840 k1_hw1296 => k1_hw1296
def k1_off1380 (i : grid1.Coords) : Fin 4 → Nat :=
  let c3_i32_1042 : BitVec 32 := 3#32
  let c19_i32_1043 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1044 : BitVec 32 := 0#32
  ![3, 19, v2.toNat, 0]
@[reducible] def k1_t83_loop : Scf.Loop 32 :=
  let c0_i32_1051 : BitVec 32 := 0#32
  let c32_i32_1052 : BitVec 32 := 32#32
  let v747 : BitVec 32 := Scalar.addi c0_i32_1051 c32_i32_1052
  let c1_i32_1053 : BitVec 32 := 1#32
  ⟨c0_i32_1051, v747, c1_i32_1053⟩
def k1_off1381 (k1_t83 : Fin k1_t83_loop.trips) : Fin 2 → Nat :=
  let c0_i32_1152 : BitVec 32 := 0#32
  let v778 : Index := Scalar.indexCast c0_i32_1152
  let c0_i32_1051 : BitVec 32 := 0#32
  let c1_i32_1053 : BitVec 32 := 1#32
  let arg9 : BitVec 32 := Scf.iv c0_i32_1051 c1_i32_1053 k1_t83
  let c16_i32_1151 : BitVec 32 := 16#32
  let v777 : BitVec 32 := Scalar.muli arg9 c16_i32_1151
  let v779 : Index := Scalar.indexCast v777
  ![0, v779.toNat]
def k1_off1382 (k1_t83 : Fin k1_t83_loop.trips) : Fin 2 → Nat :=
  let c1_i32_1154 : BitVec 32 := 1#32
  let v782 : Index := Scalar.indexCast c1_i32_1154
  let c0_i32_1051 : BitVec 32 := 0#32
  let c1_i32_1053 : BitVec 32 := 1#32
  let arg9 : BitVec 32 := Scf.iv c0_i32_1051 c1_i32_1053 k1_t83
  let c16_i32_1153 : BitVec 32 := 16#32
  let v781 : BitVec 32 := Scalar.muli arg9 c16_i32_1153
  let v783 : Index := Scalar.indexCast v781
  ![1, v783.toNat]
def k1_off1383 (k1_t83 : Fin k1_t83_loop.trips) : Fin 2 → Nat :=
  let c2_i32_1156 : BitVec 32 := 2#32
  let v786 : Index := Scalar.indexCast c2_i32_1156
  let c0_i32_1051 : BitVec 32 := 0#32
  let c1_i32_1053 : BitVec 32 := 1#32
  let arg9 : BitVec 32 := Scf.iv c0_i32_1051 c1_i32_1053 k1_t83
  let c16_i32_1155 : BitVec 32 := 16#32
  let v785 : BitVec 32 := Scalar.muli arg9 c16_i32_1155
  let v787 : Index := Scalar.indexCast v785
  ![2, v787.toNat]
def k1_off1384 (k1_t83 : Fin k1_t83_loop.trips) : Fin 2 → Nat :=
  let c3_i32_1158 : BitVec 32 := 3#32
  let v790 : Index := Scalar.indexCast c3_i32_1158
  let c0_i32_1051 : BitVec 32 := 0#32
  let c1_i32_1053 : BitVec 32 := 1#32
  let arg9 : BitVec 32 := Scf.iv c0_i32_1051 c1_i32_1053 k1_t83
  let c16_i32_1157 : BitVec 32 := 16#32
  let v789 : BitVec 32 := Scalar.muli arg9 c16_i32_1157
  let v791 : Index := Scalar.indexCast v789
  ![3, v791.toNat]
def k1_off1385 (k1_t83 : Fin k1_t83_loop.trips) : Fin 2 → Nat :=
  let c4_i32_1160 : BitVec 32 := 4#32
  let v794 : Index := Scalar.indexCast c4_i32_1160
  let c0_i32_1051 : BitVec 32 := 0#32
  let c1_i32_1053 : BitVec 32 := 1#32
  let arg9 : BitVec 32 := Scf.iv c0_i32_1051 c1_i32_1053 k1_t83
  let c16_i32_1159 : BitVec 32 := 16#32
  let v793 : BitVec 32 := Scalar.muli arg9 c16_i32_1159
  let v795 : Index := Scalar.indexCast v793
  ![4, v795.toNat]
def k1_off1386 (k1_t83 : Fin k1_t83_loop.trips) : Fin 2 → Nat :=
  let c5_i32_1162 : BitVec 32 := 5#32
  let v798 : Index := Scalar.indexCast c5_i32_1162
  let c0_i32_1051 : BitVec 32 := 0#32
  let c1_i32_1053 : BitVec 32 := 1#32
  let arg9 : BitVec 32 := Scf.iv c0_i32_1051 c1_i32_1053 k1_t83
  let c16_i32_1161 : BitVec 32 := 16#32
  let v797 : BitVec 32 := Scalar.muli arg9 c16_i32_1161
  let v799 : Index := Scalar.indexCast v797
  ![5, v799.toNat]
def k1_off1387 (k1_t83 : Fin k1_t83_loop.trips) : Fin 2 → Nat :=
  let c6_i32_1164 : BitVec 32 := 6#32
  let v802 : Index := Scalar.indexCast c6_i32_1164
  let c0_i32_1051 : BitVec 32 := 0#32
  let c1_i32_1053 : BitVec 32 := 1#32
  let arg9 : BitVec 32 := Scf.iv c0_i32_1051 c1_i32_1053 k1_t83
  let c16_i32_1163 : BitVec 32 := 16#32
  let v801 : BitVec 32 := Scalar.muli arg9 c16_i32_1163
  let v803 : Index := Scalar.indexCast v801
  ![6, v803.toNat]
def k1_off1388 (k1_t83 : Fin k1_t83_loop.trips) : Fin 2 → Nat :=
  let c7_i32_1166 : BitVec 32 := 7#32
  let v806 : Index := Scalar.indexCast c7_i32_1166
  let c0_i32_1051 : BitVec 32 := 0#32
  let c1_i32_1053 : BitVec 32 := 1#32
  let arg9 : BitVec 32 := Scf.iv c0_i32_1051 c1_i32_1053 k1_t83
  let c16_i32_1165 : BitVec 32 := 16#32
  let v805 : BitVec 32 := Scalar.muli arg9 c16_i32_1165
  let v807 : Index := Scalar.indexCast v805
  ![7, v807.toNat]
def k1_off1389 (k1_t83 : Fin k1_t83_loop.trips) : Fin 2 → Nat :=
  let c8_i32_1168 : BitVec 32 := 8#32
  let v810 : Index := Scalar.indexCast c8_i32_1168
  let c0_i32_1051 : BitVec 32 := 0#32
  let c1_i32_1053 : BitVec 32 := 1#32
  let arg9 : BitVec 32 := Scf.iv c0_i32_1051 c1_i32_1053 k1_t83
  let c16_i32_1167 : BitVec 32 := 16#32
  let v809 : BitVec 32 := Scalar.muli arg9 c16_i32_1167
  let v811 : Index := Scalar.indexCast v809
  ![8, v811.toNat]
def k1_off1390 (k1_t83 : Fin k1_t83_loop.trips) : Fin 2 → Nat :=
  let c9_i32_1170 : BitVec 32 := 9#32
  let v814 : Index := Scalar.indexCast c9_i32_1170
  let c0_i32_1051 : BitVec 32 := 0#32
  let c1_i32_1053 : BitVec 32 := 1#32
  let arg9 : BitVec 32 := Scf.iv c0_i32_1051 c1_i32_1053 k1_t83
  let c16_i32_1169 : BitVec 32 := 16#32
  let v813 : BitVec 32 := Scalar.muli arg9 c16_i32_1169
  let v815 : Index := Scalar.indexCast v813
  ![9, v815.toNat]
def k1_off1391 (k1_t83 : Fin k1_t83_loop.trips) : Fin 2 → Nat :=
  let c10_i32_1172 : BitVec 32 := 10#32
  let v818 : Index := Scalar.indexCast c10_i32_1172
  let c0_i32_1051 : BitVec 32 := 0#32
  let c1_i32_1053 : BitVec 32 := 1#32
  let arg9 : BitVec 32 := Scf.iv c0_i32_1051 c1_i32_1053 k1_t83
  let c16_i32_1171 : BitVec 32 := 16#32
  let v817 : BitVec 32 := Scalar.muli arg9 c16_i32_1171
  let v819 : Index := Scalar.indexCast v817
  ![10, v819.toNat]
def k1_off1392 (k1_t83 : Fin k1_t83_loop.trips) : Fin 2 → Nat :=
  let c11_i32_1174 : BitVec 32 := 11#32
  let v822 : Index := Scalar.indexCast c11_i32_1174
  let c0_i32_1051 : BitVec 32 := 0#32
  let c1_i32_1053 : BitVec 32 := 1#32
  let arg9 : BitVec 32 := Scf.iv c0_i32_1051 c1_i32_1053 k1_t83
  let c16_i32_1173 : BitVec 32 := 16#32
  let v821 : BitVec 32 := Scalar.muli arg9 c16_i32_1173
  let v823 : Index := Scalar.indexCast v821
  ![11, v823.toNat]
def k1_off1393 (k1_t83 : Fin k1_t83_loop.trips) : Fin 2 → Nat :=
  let c12_i32_1176 : BitVec 32 := 12#32
  let v826 : Index := Scalar.indexCast c12_i32_1176
  let c0_i32_1051 : BitVec 32 := 0#32
  let c1_i32_1053 : BitVec 32 := 1#32
  let arg9 : BitVec 32 := Scf.iv c0_i32_1051 c1_i32_1053 k1_t83
  let c16_i32_1175 : BitVec 32 := 16#32
  let v825 : BitVec 32 := Scalar.muli arg9 c16_i32_1175
  let v827 : Index := Scalar.indexCast v825
  ![12, v827.toNat]
def k1_off1394 (k1_t83 : Fin k1_t83_loop.trips) : Fin 2 → Nat :=
  let c13_i32_1178 : BitVec 32 := 13#32
  let v830 : Index := Scalar.indexCast c13_i32_1178
  let c0_i32_1051 : BitVec 32 := 0#32
  let c1_i32_1053 : BitVec 32 := 1#32
  let arg9 : BitVec 32 := Scf.iv c0_i32_1051 c1_i32_1053 k1_t83
  let c16_i32_1177 : BitVec 32 := 16#32
  let v829 : BitVec 32 := Scalar.muli arg9 c16_i32_1177
  let v831 : Index := Scalar.indexCast v829
  ![13, v831.toNat]
def k1_off1395 (k1_t83 : Fin k1_t83_loop.trips) : Fin 2 → Nat :=
  let c14_i32_1180 : BitVec 32 := 14#32
  let v834 : Index := Scalar.indexCast c14_i32_1180
  let c0_i32_1051 : BitVec 32 := 0#32
  let c1_i32_1053 : BitVec 32 := 1#32
  let arg9 : BitVec 32 := Scf.iv c0_i32_1051 c1_i32_1053 k1_t83
  let c16_i32_1179 : BitVec 32 := 16#32
  let v833 : BitVec 32 := Scalar.muli arg9 c16_i32_1179
  let v835 : Index := Scalar.indexCast v833
  ![14, v835.toNat]
def k1_off1396 (k1_t83 : Fin k1_t83_loop.trips) : Fin 2 → Nat :=
  let c15_i32_1182 : BitVec 32 := 15#32
  let v838 : Index := Scalar.indexCast c15_i32_1182
  let c0_i32_1051 : BitVec 32 := 0#32
  let c1_i32_1053 : BitVec 32 := 1#32
  let arg9 : BitVec 32 := Scf.iv c0_i32_1051 c1_i32_1053 k1_t83
  let c16_i32_1181 : BitVec 32 := 16#32
  let v837 : BitVec 32 := Scalar.muli arg9 c16_i32_1181
  let v839 : Index := Scalar.indexCast v837
  ![15, v839.toNat]

def k1_chk1297 (v780 : IVec S16 32) : Prop :=
  (∀ a x, ((![v780] : Fin 1 → IVec S16 32) a x).toNat < S88320.size a)
theorem k1_idx1297_inb : ∀ (v780 : IVec S16 32) (k1_hw1297 : k1_chk1297 v780), ∀ a x, ((![v780] : Fin 1 → IVec S16 32) a x).toNat < S88320.size a := fun v780 k1_hw1297 => k1_hw1297

def k1_chk1298 (v784 : IVec S16 32) : Prop :=
  (∀ a x, ((![v784] : Fin 1 → IVec S16 32) a x).toNat < S88320.size a)
theorem k1_idx1298_inb : ∀ (v784 : IVec S16 32) (k1_hw1298 : k1_chk1298 v784), ∀ a x, ((![v784] : Fin 1 → IVec S16 32) a x).toNat < S88320.size a := fun v784 k1_hw1298 => k1_hw1298

def k1_chk1299 (v788 : IVec S16 32) : Prop :=
  (∀ a x, ((![v788] : Fin 1 → IVec S16 32) a x).toNat < S88320.size a)
theorem k1_idx1299_inb : ∀ (v788 : IVec S16 32) (k1_hw1299 : k1_chk1299 v788), ∀ a x, ((![v788] : Fin 1 → IVec S16 32) a x).toNat < S88320.size a := fun v788 k1_hw1299 => k1_hw1299

def k1_chk1300 (v792 : IVec S16 32) : Prop :=
  (∀ a x, ((![v792] : Fin 1 → IVec S16 32) a x).toNat < S88320.size a)
theorem k1_idx1300_inb : ∀ (v792 : IVec S16 32) (k1_hw1300 : k1_chk1300 v792), ∀ a x, ((![v792] : Fin 1 → IVec S16 32) a x).toNat < S88320.size a := fun v792 k1_hw1300 => k1_hw1300

def k1_chk1301 (v796 : IVec S16 32) : Prop :=
  (∀ a x, ((![v796] : Fin 1 → IVec S16 32) a x).toNat < S88320.size a)
theorem k1_idx1301_inb : ∀ (v796 : IVec S16 32) (k1_hw1301 : k1_chk1301 v796), ∀ a x, ((![v796] : Fin 1 → IVec S16 32) a x).toNat < S88320.size a := fun v796 k1_hw1301 => k1_hw1301

def k1_chk1302 (v800 : IVec S16 32) : Prop :=
  (∀ a x, ((![v800] : Fin 1 → IVec S16 32) a x).toNat < S88320.size a)
theorem k1_idx1302_inb : ∀ (v800 : IVec S16 32) (k1_hw1302 : k1_chk1302 v800), ∀ a x, ((![v800] : Fin 1 → IVec S16 32) a x).toNat < S88320.size a := fun v800 k1_hw1302 => k1_hw1302

def k1_chk1303 (v804 : IVec S16 32) : Prop :=
  (∀ a x, ((![v804] : Fin 1 → IVec S16 32) a x).toNat < S88320.size a)
theorem k1_idx1303_inb : ∀ (v804 : IVec S16 32) (k1_hw1303 : k1_chk1303 v804), ∀ a x, ((![v804] : Fin 1 → IVec S16 32) a x).toNat < S88320.size a := fun v804 k1_hw1303 => k1_hw1303

def k1_chk1304 (v808 : IVec S16 32) : Prop :=
  (∀ a x, ((![v808] : Fin 1 → IVec S16 32) a x).toNat < S88320.size a)
theorem k1_idx1304_inb : ∀ (v808 : IVec S16 32) (k1_hw1304 : k1_chk1304 v808), ∀ a x, ((![v808] : Fin 1 → IVec S16 32) a x).toNat < S88320.size a := fun v808 k1_hw1304 => k1_hw1304

def k1_chk1305 (v812 : IVec S16 32) : Prop :=
  (∀ a x, ((![v812] : Fin 1 → IVec S16 32) a x).toNat < S88320.size a)
theorem k1_idx1305_inb : ∀ (v812 : IVec S16 32) (k1_hw1305 : k1_chk1305 v812), ∀ a x, ((![v812] : Fin 1 → IVec S16 32) a x).toNat < S88320.size a := fun v812 k1_hw1305 => k1_hw1305

def k1_chk1306 (v816 : IVec S16 32) : Prop :=
  (∀ a x, ((![v816] : Fin 1 → IVec S16 32) a x).toNat < S88320.size a)
theorem k1_idx1306_inb : ∀ (v816 : IVec S16 32) (k1_hw1306 : k1_chk1306 v816), ∀ a x, ((![v816] : Fin 1 → IVec S16 32) a x).toNat < S88320.size a := fun v816 k1_hw1306 => k1_hw1306

def k1_chk1307 (v820 : IVec S16 32) : Prop :=
  (∀ a x, ((![v820] : Fin 1 → IVec S16 32) a x).toNat < S88320.size a)
theorem k1_idx1307_inb : ∀ (v820 : IVec S16 32) (k1_hw1307 : k1_chk1307 v820), ∀ a x, ((![v820] : Fin 1 → IVec S16 32) a x).toNat < S88320.size a := fun v820 k1_hw1307 => k1_hw1307

def k1_chk1308 (v824 : IVec S16 32) : Prop :=
  (∀ a x, ((![v824] : Fin 1 → IVec S16 32) a x).toNat < S88320.size a)
theorem k1_idx1308_inb : ∀ (v824 : IVec S16 32) (k1_hw1308 : k1_chk1308 v824), ∀ a x, ((![v824] : Fin 1 → IVec S16 32) a x).toNat < S88320.size a := fun v824 k1_hw1308 => k1_hw1308

def k1_chk1309 (v828 : IVec S16 32) : Prop :=
  (∀ a x, ((![v828] : Fin 1 → IVec S16 32) a x).toNat < S88320.size a)
theorem k1_idx1309_inb : ∀ (v828 : IVec S16 32) (k1_hw1309 : k1_chk1309 v828), ∀ a x, ((![v828] : Fin 1 → IVec S16 32) a x).toNat < S88320.size a := fun v828 k1_hw1309 => k1_hw1309

def k1_chk1310 (v832 : IVec S16 32) : Prop :=
  (∀ a x, ((![v832] : Fin 1 → IVec S16 32) a x).toNat < S88320.size a)
theorem k1_idx1310_inb : ∀ (v832 : IVec S16 32) (k1_hw1310 : k1_chk1310 v832), ∀ a x, ((![v832] : Fin 1 → IVec S16 32) a x).toNat < S88320.size a := fun v832 k1_hw1310 => k1_hw1310

def k1_chk1311 (v836 : IVec S16 32) : Prop :=
  (∀ a x, ((![v836] : Fin 1 → IVec S16 32) a x).toNat < S88320.size a)
theorem k1_idx1311_inb : ∀ (v836 : IVec S16 32) (k1_hw1311 : k1_chk1311 v836), ∀ a x, ((![v836] : Fin 1 → IVec S16 32) a x).toNat < S88320.size a := fun v836 k1_hw1311 => k1_hw1311

def k1_chk1312 (v840 : IVec S16 32) : Prop :=
  (∀ a x, ((![v840] : Fin 1 → IVec S16 32) a x).toNat < S88320.size a)
theorem k1_idx1312_inb : ∀ (v840 : IVec S16 32) (k1_hw1312 : k1_chk1312 v840), ∀ a x, ((![v840] : Fin 1 → IVec S16 32) a x).toNat < S88320.size a := fun v840 k1_hw1312 => k1_hw1312
def k1_off1397 (i : grid1.Coords) : Fin 4 → Nat :=
  let c3_i32_1055 : BitVec 32 := 3#32
  let c20_i32_1056 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_1057 : BitVec 32 := 0#32
  ![3, 20, v2.toNat, 0]
@[reducible] def k1_t84_loop : Scf.Loop 32 :=
  let c0_i32_1064 : BitVec 32 := 0#32
  let c32_i32_1065 : BitVec 32 := 32#32
  let v756 : BitVec 32 := Scalar.addi c0_i32_1064 c32_i32_1065
  let c1_i32_1066 : BitVec 32 := 1#32
  ⟨c0_i32_1064, v756, c1_i32_1066⟩
def k1_off1398 (k1_t84 : Fin k1_t84_loop.trips) : Fin 2 → Nat :=
  let c0_i32_1152 : BitVec 32 := 0#32
  let v778 : Index := Scalar.indexCast c0_i32_1152
  let c0_i32_1064 : BitVec 32 := 0#32
  let c1_i32_1066 : BitVec 32 := 1#32
  let arg9 : BitVec 32 := Scf.iv c0_i32_1064 c1_i32_1066 k1_t84
  let c16_i32_1151 : BitVec 32 := 16#32
  let v777 : BitVec 32 := Scalar.muli arg9 c16_i32_1151
  let v779 : Index := Scalar.indexCast v777
  ![0, v779.toNat]
def k1_off1399 (k1_t84 : Fin k1_t84_loop.trips) : Fin 2 → Nat :=
  let c1_i32_1154 : BitVec 32 := 1#32
  let v782 : Index := Scalar.indexCast c1_i32_1154
  let c0_i32_1064 : BitVec 32 := 0#32
  let c1_i32_1066 : BitVec 32 := 1#32
  let arg9 : BitVec 32 := Scf.iv c0_i32_1064 c1_i32_1066 k1_t84
  let c16_i32_1153 : BitVec 32 := 16#32
  let v781 : BitVec 32 := Scalar.muli arg9 c16_i32_1153
  let v783 : Index := Scalar.indexCast v781
  ![1, v783.toNat]
def k1_off1400 (k1_t84 : Fin k1_t84_loop.trips) : Fin 2 → Nat :=
  let c2_i32_1156 : BitVec 32 := 2#32
  let v786 : Index := Scalar.indexCast c2_i32_1156
  let c0_i32_1064 : BitVec 32 := 0#32
  let c1_i32_1066 : BitVec 32 := 1#32
  let arg9 : BitVec 32 := Scf.iv c0_i32_1064 c1_i32_1066 k1_t84
  let c16_i32_1155 : BitVec 32 := 16#32
  let v785 : BitVec 32 := Scalar.muli arg9 c16_i32_1155
  let v787 : Index := Scalar.indexCast v785
  ![2, v787.toNat]
def k1_off1401 (k1_t84 : Fin k1_t84_loop.trips) : Fin 2 → Nat :=
  let c3_i32_1158 : BitVec 32 := 3#32
  let v790 : Index := Scalar.indexCast c3_i32_1158
  let c0_i32_1064 : BitVec 32 := 0#32
  let c1_i32_1066 : BitVec 32 := 1#32
  let arg9 : BitVec 32 := Scf.iv c0_i32_1064 c1_i32_1066 k1_t84
  let c16_i32_1157 : BitVec 32 := 16#32
  let v789 : BitVec 32 := Scalar.muli arg9 c16_i32_1157
  let v791 : Index := Scalar.indexCast v789
  ![3, v791.toNat]
def k1_off1402 (k1_t84 : Fin k1_t84_loop.trips) : Fin 2 → Nat :=
  let c4_i32_1160 : BitVec 32 := 4#32
  let v794 : Index := Scalar.indexCast c4_i32_1160
  let c0_i32_1064 : BitVec 32 := 0#32
  let c1_i32_1066 : BitVec 32 := 1#32
  let arg9 : BitVec 32 := Scf.iv c0_i32_1064 c1_i32_1066 k1_t84
  let c16_i32_1159 : BitVec 32 := 16#32
  let v793 : BitVec 32 := Scalar.muli arg9 c16_i32_1159
  let v795 : Index := Scalar.indexCast v793
  ![4, v795.toNat]
def k1_off1403 (k1_t84 : Fin k1_t84_loop.trips) : Fin 2 → Nat :=
  let c5_i32_1162 : BitVec 32 := 5#32
  let v798 : Index := Scalar.indexCast c5_i32_1162
  let c0_i32_1064 : BitVec 32 := 0#32
  let c1_i32_1066 : BitVec 32 := 1#32
  let arg9 : BitVec 32 := Scf.iv c0_i32_1064 c1_i32_1066 k1_t84
  let c16_i32_1161 : BitVec 32 := 16#32
  let v797 : BitVec 32 := Scalar.muli arg9 c16_i32_1161
  let v799 : Index := Scalar.indexCast v797
  ![5, v799.toNat]
def k1_off1404 (k1_t84 : Fin k1_t84_loop.trips) : Fin 2 → Nat :=
  let c6_i32_1164 : BitVec 32 := 6#32
  let v802 : Index := Scalar.indexCast c6_i32_1164
  let c0_i32_1064 : BitVec 32 := 0#32
  let c1_i32_1066 : BitVec 32 := 1#32
  let arg9 : BitVec 32 := Scf.iv c0_i32_1064 c1_i32_1066 k1_t84
  let c16_i32_1163 : BitVec 32 := 16#32
  let v801 : BitVec 32 := Scalar.muli arg9 c16_i32_1163
  let v803 : Index := Scalar.indexCast v801
  ![6, v803.toNat]
def k1_off1405 (k1_t84 : Fin k1_t84_loop.trips) : Fin 2 → Nat :=
  let c7_i32_1166 : BitVec 32 := 7#32
  let v806 : Index := Scalar.indexCast c7_i32_1166
  let c0_i32_1064 : BitVec 32 := 0#32
  let c1_i32_1066 : BitVec 32 := 1#32
  let arg9 : BitVec 32 := Scf.iv c0_i32_1064 c1_i32_1066 k1_t84
  let c16_i32_1165 : BitVec 32 := 16#32
  let v805 : BitVec 32 := Scalar.muli arg9 c16_i32_1165
  let v807 : Index := Scalar.indexCast v805
  ![7, v807.toNat]
def k1_off1406 (k1_t84 : Fin k1_t84_loop.trips) : Fin 2 → Nat :=
  let c8_i32_1168 : BitVec 32 := 8#32
  let v810 : Index := Scalar.indexCast c8_i32_1168
  let c0_i32_1064 : BitVec 32 := 0#32
  let c1_i32_1066 : BitVec 32 := 1#32
  let arg9 : BitVec 32 := Scf.iv c0_i32_1064 c1_i32_1066 k1_t84
  let c16_i32_1167 : BitVec 32 := 16#32
  let v809 : BitVec 32 := Scalar.muli arg9 c16_i32_1167
  let v811 : Index := Scalar.indexCast v809
  ![8, v811.toNat]
def k1_off1407 (k1_t84 : Fin k1_t84_loop.trips) : Fin 2 → Nat :=
  let c9_i32_1170 : BitVec 32 := 9#32
  let v814 : Index := Scalar.indexCast c9_i32_1170
  let c0_i32_1064 : BitVec 32 := 0#32
  let c1_i32_1066 : BitVec 32 := 1#32
  let arg9 : BitVec 32 := Scf.iv c0_i32_1064 c1_i32_1066 k1_t84
  let c16_i32_1169 : BitVec 32 := 16#32
  let v813 : BitVec 32 := Scalar.muli arg9 c16_i32_1169
  let v815 : Index := Scalar.indexCast v813
  ![9, v815.toNat]
def k1_off1408 (k1_t84 : Fin k1_t84_loop.trips) : Fin 2 → Nat :=
  let c10_i32_1172 : BitVec 32 := 10#32
  let v818 : Index := Scalar.indexCast c10_i32_1172
  let c0_i32_1064 : BitVec 32 := 0#32
  let c1_i32_1066 : BitVec 32 := 1#32
  let arg9 : BitVec 32 := Scf.iv c0_i32_1064 c1_i32_1066 k1_t84
  let c16_i32_1171 : BitVec 32 := 16#32
  let v817 : BitVec 32 := Scalar.muli arg9 c16_i32_1171
  let v819 : Index := Scalar.indexCast v817
  ![10, v819.toNat]
def k1_off1409 (k1_t84 : Fin k1_t84_loop.trips) : Fin 2 → Nat :=
  let c11_i32_1174 : BitVec 32 := 11#32
  let v822 : Index := Scalar.indexCast c11_i32_1174
  let c0_i32_1064 : BitVec 32 := 0#32
  let c1_i32_1066 : BitVec 32 := 1#32
  let arg9 : BitVec 32 := Scf.iv c0_i32_1064 c1_i32_1066 k1_t84
  let c16_i32_1173 : BitVec 32 := 16#32
  let v821 : BitVec 32 := Scalar.muli arg9 c16_i32_1173
  let v823 : Index := Scalar.indexCast v821
  ![11, v823.toNat]
def k1_off1410 (k1_t84 : Fin k1_t84_loop.trips) : Fin 2 → Nat :=
  let c12_i32_1176 : BitVec 32 := 12#32
  let v826 : Index := Scalar.indexCast c12_i32_1176
  let c0_i32_1064 : BitVec 32 := 0#32
  let c1_i32_1066 : BitVec 32 := 1#32
  let arg9 : BitVec 32 := Scf.iv c0_i32_1064 c1_i32_1066 k1_t84
  let c16_i32_1175 : BitVec 32 := 16#32
  let v825 : BitVec 32 := Scalar.muli arg9 c16_i32_1175
  let v827 : Index := Scalar.indexCast v825
  ![12, v827.toNat]
def k1_off1411 (k1_t84 : Fin k1_t84_loop.trips) : Fin 2 → Nat :=
  let c13_i32_1178 : BitVec 32 := 13#32
  let v830 : Index := Scalar.indexCast c13_i32_1178
  let c0_i32_1064 : BitVec 32 := 0#32
  let c1_i32_1066 : BitVec 32 := 1#32
  let arg9 : BitVec 32 := Scf.iv c0_i32_1064 c1_i32_1066 k1_t84
  let c16_i32_1177 : BitVec 32 := 16#32
  let v829 : BitVec 32 := Scalar.muli arg9 c16_i32_1177
  let v831 : Index := Scalar.indexCast v829
  ![13, v831.toNat]
def k1_off1412 (k1_t84 : Fin k1_t84_loop.trips) : Fin 2 → Nat :=
  let c14_i32_1180 : BitVec 32 := 14#32
  let v834 : Index := Scalar.indexCast c14_i32_1180
  let c0_i32_1064 : BitVec 32 := 0#32
  let c1_i32_1066 : BitVec 32 := 1#32
  let arg9 : BitVec 32 := Scf.iv c0_i32_1064 c1_i32_1066 k1_t84
  let c16_i32_1179 : BitVec 32 := 16#32
  let v833 : BitVec 32 := Scalar.muli arg9 c16_i32_1179
  let v835 : Index := Scalar.indexCast v833
  ![14, v835.toNat]
def k1_off1413 (k1_t84 : Fin k1_t84_loop.trips) : Fin 2 → Nat :=
  let c15_i32_1182 : BitVec 32 := 15#32
  let v838 : Index := Scalar.indexCast c15_i32_1182
  let c0_i32_1064 : BitVec 32 := 0#32
  let c1_i32_1066 : BitVec 32 := 1#32
  let arg9 : BitVec 32 := Scf.iv c0_i32_1064 c1_i32_1066 k1_t84
  let c16_i32_1181 : BitVec 32 := 16#32
  let v837 : BitVec 32 := Scalar.muli arg9 c16_i32_1181
  let v839 : Index := Scalar.indexCast v837
  ![15, v839.toNat]

def k1_chk1313 (v780 : IVec S16 32) : Prop :=
  (∀ a x, ((![v780] : Fin 1 → IVec S16 32) a x).toNat < S88320.size a)
theorem k1_idx1313_inb : ∀ (v780 : IVec S16 32) (k1_hw1313 : k1_chk1313 v780), ∀ a x, ((![v780] : Fin 1 → IVec S16 32) a x).toNat < S88320.size a := fun v780 k1_hw1313 => k1_hw1313

def k1_chk1314 (v784 : IVec S16 32) : Prop :=
  (∀ a x, ((![v784] : Fin 1 → IVec S16 32) a x).toNat < S88320.size a)
theorem k1_idx1314_inb : ∀ (v784 : IVec S16 32) (k1_hw1314 : k1_chk1314 v784), ∀ a x, ((![v784] : Fin 1 → IVec S16 32) a x).toNat < S88320.size a := fun v784 k1_hw1314 => k1_hw1314

def k1_chk1315 (v788 : IVec S16 32) : Prop :=
  (∀ a x, ((![v788] : Fin 1 → IVec S16 32) a x).toNat < S88320.size a)
theorem k1_idx1315_inb : ∀ (v788 : IVec S16 32) (k1_hw1315 : k1_chk1315 v788), ∀ a x, ((![v788] : Fin 1 → IVec S16 32) a x).toNat < S88320.size a := fun v788 k1_hw1315 => k1_hw1315

def k1_chk1316 (v792 : IVec S16 32) : Prop :=
  (∀ a x, ((![v792] : Fin 1 → IVec S16 32) a x).toNat < S88320.size a)
theorem k1_idx1316_inb : ∀ (v792 : IVec S16 32) (k1_hw1316 : k1_chk1316 v792), ∀ a x, ((![v792] : Fin 1 → IVec S16 32) a x).toNat < S88320.size a := fun v792 k1_hw1316 => k1_hw1316

def k1_chk1317 (v796 : IVec S16 32) : Prop :=
  (∀ a x, ((![v796] : Fin 1 → IVec S16 32) a x).toNat < S88320.size a)
theorem k1_idx1317_inb : ∀ (v796 : IVec S16 32) (k1_hw1317 : k1_chk1317 v796), ∀ a x, ((![v796] : Fin 1 → IVec S16 32) a x).toNat < S88320.size a := fun v796 k1_hw1317 => k1_hw1317

def k1_chk1318 (v800 : IVec S16 32) : Prop :=
  (∀ a x, ((![v800] : Fin 1 → IVec S16 32) a x).toNat < S88320.size a)
theorem k1_idx1318_inb : ∀ (v800 : IVec S16 32) (k1_hw1318 : k1_chk1318 v800), ∀ a x, ((![v800] : Fin 1 → IVec S16 32) a x).toNat < S88320.size a := fun v800 k1_hw1318 => k1_hw1318

def k1_chk1319 (v804 : IVec S16 32) : Prop :=
  (∀ a x, ((![v804] : Fin 1 → IVec S16 32) a x).toNat < S88320.size a)
theorem k1_idx1319_inb : ∀ (v804 : IVec S16 32) (k1_hw1319 : k1_chk1319 v804), ∀ a x, ((![v804] : Fin 1 → IVec S16 32) a x).toNat < S88320.size a := fun v804 k1_hw1319 => k1_hw1319

def k1_chk1320 (v808 : IVec S16 32) : Prop :=
  (∀ a x, ((![v808] : Fin 1 → IVec S16 32) a x).toNat < S88320.size a)
theorem k1_idx1320_inb : ∀ (v808 : IVec S16 32) (k1_hw1320 : k1_chk1320 v808), ∀ a x, ((![v808] : Fin 1 → IVec S16 32) a x).toNat < S88320.size a := fun v808 k1_hw1320 => k1_hw1320

def k1_chk1321 (v812 : IVec S16 32) : Prop :=
  (∀ a x, ((![v812] : Fin 1 → IVec S16 32) a x).toNat < S88320.size a)
theorem k1_idx1321_inb : ∀ (v812 : IVec S16 32) (k1_hw1321 : k1_chk1321 v812), ∀ a x, ((![v812] : Fin 1 → IVec S16 32) a x).toNat < S88320.size a := fun v812 k1_hw1321 => k1_hw1321

def k1_chk1322 (v816 : IVec S16 32) : Prop :=
  (∀ a x, ((![v816] : Fin 1 → IVec S16 32) a x).toNat < S88320.size a)
theorem k1_idx1322_inb : ∀ (v816 : IVec S16 32) (k1_hw1322 : k1_chk1322 v816), ∀ a x, ((![v816] : Fin 1 → IVec S16 32) a x).toNat < S88320.size a := fun v816 k1_hw1322 => k1_hw1322

def k1_chk1323 (v820 : IVec S16 32) : Prop :=
  (∀ a x, ((![v820] : Fin 1 → IVec S16 32) a x).toNat < S88320.size a)
theorem k1_idx1323_inb : ∀ (v820 : IVec S16 32) (k1_hw1323 : k1_chk1323 v820), ∀ a x, ((![v820] : Fin 1 → IVec S16 32) a x).toNat < S88320.size a := fun v820 k1_hw1323 => k1_hw1323

def k1_chk1324 (v824 : IVec S16 32) : Prop :=
  (∀ a x, ((![v824] : Fin 1 → IVec S16 32) a x).toNat < S88320.size a)
theorem k1_idx1324_inb : ∀ (v824 : IVec S16 32) (k1_hw1324 : k1_chk1324 v824), ∀ a x, ((![v824] : Fin 1 → IVec S16 32) a x).toNat < S88320.size a := fun v824 k1_hw1324 => k1_hw1324

def k1_chk1325 (v828 : IVec S16 32) : Prop :=
  (∀ a x, ((![v828] : Fin 1 → IVec S16 32) a x).toNat < S88320.size a)
theorem k1_idx1325_inb : ∀ (v828 : IVec S16 32) (k1_hw1325 : k1_chk1325 v828), ∀ a x, ((![v828] : Fin 1 → IVec S16 32) a x).toNat < S88320.size a := fun v828 k1_hw1325 => k1_hw1325

def k1_chk1326 (v832 : IVec S16 32) : Prop :=
  (∀ a x, ((![v832] : Fin 1 → IVec S16 32) a x).toNat < S88320.size a)
theorem k1_idx1326_inb : ∀ (v832 : IVec S16 32) (k1_hw1326 : k1_chk1326 v832), ∀ a x, ((![v832] : Fin 1 → IVec S16 32) a x).toNat < S88320.size a := fun v832 k1_hw1326 => k1_hw1326

def k1_chk1327 (v836 : IVec S16 32) : Prop :=
  (∀ a x, ((![v836] : Fin 1 → IVec S16 32) a x).toNat < S88320.size a)
theorem k1_idx1327_inb : ∀ (v836 : IVec S16 32) (k1_hw1327 : k1_chk1327 v836), ∀ a x, ((![v836] : Fin 1 → IVec S16 32) a x).toNat < S88320.size a := fun v836 k1_hw1327 => k1_hw1327

def k1_chk1328 (v840 : IVec S16 32) : Prop :=
  (∀ a x, ((![v840] : Fin 1 → IVec S16 32) a x).toNat < S88320.size a)
theorem k1_idx1328_inb : ∀ (v840 : IVec S16 32) (k1_hw1328 : k1_chk1328 v840), ∀ a x, ((![v840] : Fin 1 → IVec S16 32) a x).toNat < S88320.size a := fun v840 k1_hw1328 => k1_hw1328
@[reducible] def k1_t85_loop : Scf.Loop 32 :=
  let c0_i32_1073 : BitVec 32 := 0#32
  let c32_i32_1074 : BitVec 32 := 32#32
  let v761 : BitVec 32 := Scalar.addi c0_i32_1073 c32_i32_1074
  let c1_i32_1075 : BitVec 32 := 1#32
  ⟨c0_i32_1073, v761, c1_i32_1075⟩
def k1_off1414 (k1_t85 : Fin k1_t85_loop.trips) : Fin 2 → Nat :=
  let c0_i32_1152 : BitVec 32 := 0#32
  let v778 : Index := Scalar.indexCast c0_i32_1152
  let c0_i32_1073 : BitVec 32 := 0#32
  let c1_i32_1075 : BitVec 32 := 1#32
  let arg9 : BitVec 32 := Scf.iv c0_i32_1073 c1_i32_1075 k1_t85
  let c16_i32_1151 : BitVec 32 := 16#32
  let v777 : BitVec 32 := Scalar.muli arg9 c16_i32_1151
  let v779 : Index := Scalar.indexCast v777
  ![0, v779.toNat]
def k1_off1415 (k1_t85 : Fin k1_t85_loop.trips) : Fin 2 → Nat :=
  let c1_i32_1154 : BitVec 32 := 1#32
  let v782 : Index := Scalar.indexCast c1_i32_1154
  let c0_i32_1073 : BitVec 32 := 0#32
  let c1_i32_1075 : BitVec 32 := 1#32
  let arg9 : BitVec 32 := Scf.iv c0_i32_1073 c1_i32_1075 k1_t85
  let c16_i32_1153 : BitVec 32 := 16#32
  let v781 : BitVec 32 := Scalar.muli arg9 c16_i32_1153
  let v783 : Index := Scalar.indexCast v781
  ![1, v783.toNat]
def k1_off1416 (k1_t85 : Fin k1_t85_loop.trips) : Fin 2 → Nat :=
  let c2_i32_1156 : BitVec 32 := 2#32
  let v786 : Index := Scalar.indexCast c2_i32_1156
  let c0_i32_1073 : BitVec 32 := 0#32
  let c1_i32_1075 : BitVec 32 := 1#32
  let arg9 : BitVec 32 := Scf.iv c0_i32_1073 c1_i32_1075 k1_t85
  let c16_i32_1155 : BitVec 32 := 16#32
  let v785 : BitVec 32 := Scalar.muli arg9 c16_i32_1155
  let v787 : Index := Scalar.indexCast v785
  ![2, v787.toNat]
def k1_off1417 (k1_t85 : Fin k1_t85_loop.trips) : Fin 2 → Nat :=
  let c3_i32_1158 : BitVec 32 := 3#32
  let v790 : Index := Scalar.indexCast c3_i32_1158
  let c0_i32_1073 : BitVec 32 := 0#32
  let c1_i32_1075 : BitVec 32 := 1#32
  let arg9 : BitVec 32 := Scf.iv c0_i32_1073 c1_i32_1075 k1_t85
  let c16_i32_1157 : BitVec 32 := 16#32
  let v789 : BitVec 32 := Scalar.muli arg9 c16_i32_1157
  let v791 : Index := Scalar.indexCast v789
  ![3, v791.toNat]
def k1_off1418 (k1_t85 : Fin k1_t85_loop.trips) : Fin 2 → Nat :=
  let c4_i32_1160 : BitVec 32 := 4#32
  let v794 : Index := Scalar.indexCast c4_i32_1160
  let c0_i32_1073 : BitVec 32 := 0#32
  let c1_i32_1075 : BitVec 32 := 1#32
  let arg9 : BitVec 32 := Scf.iv c0_i32_1073 c1_i32_1075 k1_t85
  let c16_i32_1159 : BitVec 32 := 16#32
  let v793 : BitVec 32 := Scalar.muli arg9 c16_i32_1159
  let v795 : Index := Scalar.indexCast v793
  ![4, v795.toNat]
def k1_off1419 (k1_t85 : Fin k1_t85_loop.trips) : Fin 2 → Nat :=
  let c5_i32_1162 : BitVec 32 := 5#32
  let v798 : Index := Scalar.indexCast c5_i32_1162
  let c0_i32_1073 : BitVec 32 := 0#32
  let c1_i32_1075 : BitVec 32 := 1#32
  let arg9 : BitVec 32 := Scf.iv c0_i32_1073 c1_i32_1075 k1_t85
  let c16_i32_1161 : BitVec 32 := 16#32
  let v797 : BitVec 32 := Scalar.muli arg9 c16_i32_1161
  let v799 : Index := Scalar.indexCast v797
  ![5, v799.toNat]
def k1_off1420 (k1_t85 : Fin k1_t85_loop.trips) : Fin 2 → Nat :=
  let c6_i32_1164 : BitVec 32 := 6#32
  let v802 : Index := Scalar.indexCast c6_i32_1164
  let c0_i32_1073 : BitVec 32 := 0#32
  let c1_i32_1075 : BitVec 32 := 1#32
  let arg9 : BitVec 32 := Scf.iv c0_i32_1073 c1_i32_1075 k1_t85
  let c16_i32_1163 : BitVec 32 := 16#32
  let v801 : BitVec 32 := Scalar.muli arg9 c16_i32_1163
  let v803 : Index := Scalar.indexCast v801
  ![6, v803.toNat]
def k1_off1421 (k1_t85 : Fin k1_t85_loop.trips) : Fin 2 → Nat :=
  let c7_i32_1166 : BitVec 32 := 7#32
  let v806 : Index := Scalar.indexCast c7_i32_1166
  let c0_i32_1073 : BitVec 32 := 0#32
  let c1_i32_1075 : BitVec 32 := 1#32
  let arg9 : BitVec 32 := Scf.iv c0_i32_1073 c1_i32_1075 k1_t85
  let c16_i32_1165 : BitVec 32 := 16#32
  let v805 : BitVec 32 := Scalar.muli arg9 c16_i32_1165
  let v807 : Index := Scalar.indexCast v805
  ![7, v807.toNat]
def k1_off1422 (k1_t85 : Fin k1_t85_loop.trips) : Fin 2 → Nat :=
  let c8_i32_1168 : BitVec 32 := 8#32
  let v810 : Index := Scalar.indexCast c8_i32_1168
  let c0_i32_1073 : BitVec 32 := 0#32
  let c1_i32_1075 : BitVec 32 := 1#32
  let arg9 : BitVec 32 := Scf.iv c0_i32_1073 c1_i32_1075 k1_t85
  let c16_i32_1167 : BitVec 32 := 16#32
  let v809 : BitVec 32 := Scalar.muli arg9 c16_i32_1167
  let v811 : Index := Scalar.indexCast v809
  ![8, v811.toNat]
def k1_off1423 (k1_t85 : Fin k1_t85_loop.trips) : Fin 2 → Nat :=
  let c9_i32_1170 : BitVec 32 := 9#32
  let v814 : Index := Scalar.indexCast c9_i32_1170
  let c0_i32_1073 : BitVec 32 := 0#32
  let c1_i32_1075 : BitVec 32 := 1#32
  let arg9 : BitVec 32 := Scf.iv c0_i32_1073 c1_i32_1075 k1_t85
  let c16_i32_1169 : BitVec 32 := 16#32
  let v813 : BitVec 32 := Scalar.muli arg9 c16_i32_1169
  let v815 : Index := Scalar.indexCast v813
  ![9, v815.toNat]
def k1_off1424 (k1_t85 : Fin k1_t85_loop.trips) : Fin 2 → Nat :=
  let c10_i32_1172 : BitVec 32 := 10#32
  let v818 : Index := Scalar.indexCast c10_i32_1172
  let c0_i32_1073 : BitVec 32 := 0#32
  let c1_i32_1075 : BitVec 32 := 1#32
  let arg9 : BitVec 32 := Scf.iv c0_i32_1073 c1_i32_1075 k1_t85
  let c16_i32_1171 : BitVec 32 := 16#32
  let v817 : BitVec 32 := Scalar.muli arg9 c16_i32_1171
  let v819 : Index := Scalar.indexCast v817
  ![10, v819.toNat]
def k1_off1425 (k1_t85 : Fin k1_t85_loop.trips) : Fin 2 → Nat :=
  let c11_i32_1174 : BitVec 32 := 11#32
  let v822 : Index := Scalar.indexCast c11_i32_1174
  let c0_i32_1073 : BitVec 32 := 0#32
  let c1_i32_1075 : BitVec 32 := 1#32
  let arg9 : BitVec 32 := Scf.iv c0_i32_1073 c1_i32_1075 k1_t85
  let c16_i32_1173 : BitVec 32 := 16#32
  let v821 : BitVec 32 := Scalar.muli arg9 c16_i32_1173
  let v823 : Index := Scalar.indexCast v821
  ![11, v823.toNat]
def k1_off1426 (k1_t85 : Fin k1_t85_loop.trips) : Fin 2 → Nat :=
  let c12_i32_1176 : BitVec 32 := 12#32
  let v826 : Index := Scalar.indexCast c12_i32_1176
  let c0_i32_1073 : BitVec 32 := 0#32
  let c1_i32_1075 : BitVec 32 := 1#32
  let arg9 : BitVec 32 := Scf.iv c0_i32_1073 c1_i32_1075 k1_t85
  let c16_i32_1175 : BitVec 32 := 16#32
  let v825 : BitVec 32 := Scalar.muli arg9 c16_i32_1175
  let v827 : Index := Scalar.indexCast v825
  ![12, v827.toNat]
def k1_off1427 (k1_t85 : Fin k1_t85_loop.trips) : Fin 2 → Nat :=
  let c13_i32_1178 : BitVec 32 := 13#32
  let v830 : Index := Scalar.indexCast c13_i32_1178
  let c0_i32_1073 : BitVec 32 := 0#32
  let c1_i32_1075 : BitVec 32 := 1#32
  let arg9 : BitVec 32 := Scf.iv c0_i32_1073 c1_i32_1075 k1_t85
  let c16_i32_1177 : BitVec 32 := 16#32
  let v829 : BitVec 32 := Scalar.muli arg9 c16_i32_1177
  let v831 : Index := Scalar.indexCast v829
  ![13, v831.toNat]
def k1_off1428 (k1_t85 : Fin k1_t85_loop.trips) : Fin 2 → Nat :=
  let c14_i32_1180 : BitVec 32 := 14#32
  let v834 : Index := Scalar.indexCast c14_i32_1180
  let c0_i32_1073 : BitVec 32 := 0#32
  let c1_i32_1075 : BitVec 32 := 1#32
  let arg9 : BitVec 32 := Scf.iv c0_i32_1073 c1_i32_1075 k1_t85
  let c16_i32_1179 : BitVec 32 := 16#32
  let v833 : BitVec 32 := Scalar.muli arg9 c16_i32_1179
  let v835 : Index := Scalar.indexCast v833
  ![14, v835.toNat]
def k1_off1429 (k1_t85 : Fin k1_t85_loop.trips) : Fin 2 → Nat :=
  let c15_i32_1182 : BitVec 32 := 15#32
  let v838 : Index := Scalar.indexCast c15_i32_1182
  let c0_i32_1073 : BitVec 32 := 0#32
  let c1_i32_1075 : BitVec 32 := 1#32
  let arg9 : BitVec 32 := Scf.iv c0_i32_1073 c1_i32_1075 k1_t85
  let c16_i32_1181 : BitVec 32 := 16#32
  let v837 : BitVec 32 := Scalar.muli arg9 c16_i32_1181
  let v839 : Index := Scalar.indexCast v837
  ![15, v839.toNat]

def k1_chk1329 (v780 : IVec S16 32) : Prop :=
  (∀ a x, ((![v780] : Fin 1 → IVec S16 32) a x).toNat < S88320.size a)
theorem k1_idx1329_inb : ∀ (v780 : IVec S16 32) (k1_hw1329 : k1_chk1329 v780), ∀ a x, ((![v780] : Fin 1 → IVec S16 32) a x).toNat < S88320.size a := fun v780 k1_hw1329 => k1_hw1329

def k1_chk1330 (v784 : IVec S16 32) : Prop :=
  (∀ a x, ((![v784] : Fin 1 → IVec S16 32) a x).toNat < S88320.size a)
theorem k1_idx1330_inb : ∀ (v784 : IVec S16 32) (k1_hw1330 : k1_chk1330 v784), ∀ a x, ((![v784] : Fin 1 → IVec S16 32) a x).toNat < S88320.size a := fun v784 k1_hw1330 => k1_hw1330

def k1_chk1331 (v788 : IVec S16 32) : Prop :=
  (∀ a x, ((![v788] : Fin 1 → IVec S16 32) a x).toNat < S88320.size a)
theorem k1_idx1331_inb : ∀ (v788 : IVec S16 32) (k1_hw1331 : k1_chk1331 v788), ∀ a x, ((![v788] : Fin 1 → IVec S16 32) a x).toNat < S88320.size a := fun v788 k1_hw1331 => k1_hw1331

def k1_chk1332 (v792 : IVec S16 32) : Prop :=
  (∀ a x, ((![v792] : Fin 1 → IVec S16 32) a x).toNat < S88320.size a)
theorem k1_idx1332_inb : ∀ (v792 : IVec S16 32) (k1_hw1332 : k1_chk1332 v792), ∀ a x, ((![v792] : Fin 1 → IVec S16 32) a x).toNat < S88320.size a := fun v792 k1_hw1332 => k1_hw1332

def k1_chk1333 (v796 : IVec S16 32) : Prop :=
  (∀ a x, ((![v796] : Fin 1 → IVec S16 32) a x).toNat < S88320.size a)
theorem k1_idx1333_inb : ∀ (v796 : IVec S16 32) (k1_hw1333 : k1_chk1333 v796), ∀ a x, ((![v796] : Fin 1 → IVec S16 32) a x).toNat < S88320.size a := fun v796 k1_hw1333 => k1_hw1333

def k1_chk1334 (v800 : IVec S16 32) : Prop :=
  (∀ a x, ((![v800] : Fin 1 → IVec S16 32) a x).toNat < S88320.size a)
theorem k1_idx1334_inb : ∀ (v800 : IVec S16 32) (k1_hw1334 : k1_chk1334 v800), ∀ a x, ((![v800] : Fin 1 → IVec S16 32) a x).toNat < S88320.size a := fun v800 k1_hw1334 => k1_hw1334

def k1_chk1335 (v804 : IVec S16 32) : Prop :=
  (∀ a x, ((![v804] : Fin 1 → IVec S16 32) a x).toNat < S88320.size a)
theorem k1_idx1335_inb : ∀ (v804 : IVec S16 32) (k1_hw1335 : k1_chk1335 v804), ∀ a x, ((![v804] : Fin 1 → IVec S16 32) a x).toNat < S88320.size a := fun v804 k1_hw1335 => k1_hw1335

def k1_chk1336 (v808 : IVec S16 32) : Prop :=
  (∀ a x, ((![v808] : Fin 1 → IVec S16 32) a x).toNat < S88320.size a)
theorem k1_idx1336_inb : ∀ (v808 : IVec S16 32) (k1_hw1336 : k1_chk1336 v808), ∀ a x, ((![v808] : Fin 1 → IVec S16 32) a x).toNat < S88320.size a := fun v808 k1_hw1336 => k1_hw1336

def k1_chk1337 (v812 : IVec S16 32) : Prop :=
  (∀ a x, ((![v812] : Fin 1 → IVec S16 32) a x).toNat < S88320.size a)
theorem k1_idx1337_inb : ∀ (v812 : IVec S16 32) (k1_hw1337 : k1_chk1337 v812), ∀ a x, ((![v812] : Fin 1 → IVec S16 32) a x).toNat < S88320.size a := fun v812 k1_hw1337 => k1_hw1337

def k1_chk1338 (v816 : IVec S16 32) : Prop :=
  (∀ a x, ((![v816] : Fin 1 → IVec S16 32) a x).toNat < S88320.size a)
theorem k1_idx1338_inb : ∀ (v816 : IVec S16 32) (k1_hw1338 : k1_chk1338 v816), ∀ a x, ((![v816] : Fin 1 → IVec S16 32) a x).toNat < S88320.size a := fun v816 k1_hw1338 => k1_hw1338

def k1_chk1339 (v820 : IVec S16 32) : Prop :=
  (∀ a x, ((![v820] : Fin 1 → IVec S16 32) a x).toNat < S88320.size a)
theorem k1_idx1339_inb : ∀ (v820 : IVec S16 32) (k1_hw1339 : k1_chk1339 v820), ∀ a x, ((![v820] : Fin 1 → IVec S16 32) a x).toNat < S88320.size a := fun v820 k1_hw1339 => k1_hw1339

def k1_chk1340 (v824 : IVec S16 32) : Prop :=
  (∀ a x, ((![v824] : Fin 1 → IVec S16 32) a x).toNat < S88320.size a)
theorem k1_idx1340_inb : ∀ (v824 : IVec S16 32) (k1_hw1340 : k1_chk1340 v824), ∀ a x, ((![v824] : Fin 1 → IVec S16 32) a x).toNat < S88320.size a := fun v824 k1_hw1340 => k1_hw1340

def k1_chk1341 (v828 : IVec S16 32) : Prop :=
  (∀ a x, ((![v828] : Fin 1 → IVec S16 32) a x).toNat < S88320.size a)
theorem k1_idx1341_inb : ∀ (v828 : IVec S16 32) (k1_hw1341 : k1_chk1341 v828), ∀ a x, ((![v828] : Fin 1 → IVec S16 32) a x).toNat < S88320.size a := fun v828 k1_hw1341 => k1_hw1341

def k1_chk1342 (v832 : IVec S16 32) : Prop :=
  (∀ a x, ((![v832] : Fin 1 → IVec S16 32) a x).toNat < S88320.size a)
theorem k1_idx1342_inb : ∀ (v832 : IVec S16 32) (k1_hw1342 : k1_chk1342 v832), ∀ a x, ((![v832] : Fin 1 → IVec S16 32) a x).toNat < S88320.size a := fun v832 k1_hw1342 => k1_hw1342

def k1_chk1343 (v836 : IVec S16 32) : Prop :=
  (∀ a x, ((![v836] : Fin 1 → IVec S16 32) a x).toNat < S88320.size a)
theorem k1_idx1343_inb : ∀ (v836 : IVec S16 32) (k1_hw1343 : k1_chk1343 v836), ∀ a x, ((![v836] : Fin 1 → IVec S16 32) a x).toNat < S88320.size a := fun v836 k1_hw1343 => k1_hw1343

def k1_chk1344 (v840 : IVec S16 32) : Prop :=
  (∀ a x, ((![v840] : Fin 1 → IVec S16 32) a x).toNat < S88320.size a)
theorem k1_idx1344_inb : ∀ (v840 : IVec S16 32) (k1_hw1344 : k1_chk1344 v840), ∀ a x, ((![v840] : Fin 1 → IVec S16 32) a x).toNat < S88320.size a := fun v840 k1_hw1344 => k1_hw1344
@[reducible] def k1_t86_loop : Scf.Loop 32 :=
  let c0_i32_1078 : BitVec 32 := 0#32
  let c345_i32 : BitVec 32 := 345#32
  let v762 : BitVec 32 := Scalar.addi c0_i32_1078 c345_i32
  let c1_i32_1079 : BitVec 32 := 1#32
  ⟨c0_i32_1078, v762, c1_i32_1079⟩
def k1_off1430 (k1_t86 : Fin k1_t86_loop.trips) : Fin 1 → Nat :=
  let c0_i32_1078 : BitVec 32 := 0#32
  let c1_i32_1079 : BitVec 32 := 1#32
  let arg9 : BitVec 32 := Scf.iv c0_i32_1078 c1_i32_1079 k1_t86
  let c16_i32_1151 : BitVec 32 := 16#32
  let v777 : BitVec 32 := Scalar.muli arg9 c16_i32_1151
  let v778 : Index := Scalar.indexCast v777
  ![v778.toNat]
def k1_off1431 (k1_t86 : Fin k1_t86_loop.trips) : Fin 1 → Nat :=
  let c0_i32_1078 : BitVec 32 := 0#32
  let c1_i32_1079 : BitVec 32 := 1#32
  let arg9 : BitVec 32 := Scf.iv c0_i32_1078 c1_i32_1079 k1_t86
  let c16_i32_1152 : BitVec 32 := 16#32
  let v780 : BitVec 32 := Scalar.muli arg9 c16_i32_1152
  let c5519_i32 : BitVec 32 := 5519#32
  let v781 : BitVec 32 := Scalar.addi v780 c5519_i32
  let v782 : Index := Scalar.indexCast v781
  ![v782.toNat]
@[reducible] def k1_t87_loop : Scf.Loop 32 :=
  let c0_i32_1082 : BitVec 32 := 0#32
  let c345_i32_1083 : BitVec 32 := 345#32
  let v763 : BitVec 32 := Scalar.addi c0_i32_1082 c345_i32_1083
  let c1_i32_1084 : BitVec 32 := 1#32
  ⟨c0_i32_1082, v763, c1_i32_1084⟩
def k1_off1432 (k1_t87 : Fin k1_t87_loop.trips) : Fin 1 → Nat :=
  let c0_i32_1082 : BitVec 32 := 0#32
  let c1_i32_1084 : BitVec 32 := 1#32
  let arg9 : BitVec 32 := Scf.iv c0_i32_1082 c1_i32_1084 k1_t87
  let c16_i32_1151 : BitVec 32 := 16#32
  let v777 : BitVec 32 := Scalar.muli arg9 c16_i32_1151
  let v778 : Index := Scalar.indexCast v777
  ![v778.toNat]
def k1_off1433 (k1_t87 : Fin k1_t87_loop.trips) : Fin 1 → Nat :=
  let c0_i32_1082 : BitVec 32 := 0#32
  let c1_i32_1084 : BitVec 32 := 1#32
  let arg9 : BitVec 32 := Scf.iv c0_i32_1082 c1_i32_1084 k1_t87
  let c16_i32_1152 : BitVec 32 := 16#32
  let v780 : BitVec 32 := Scalar.muli arg9 c16_i32_1152
  let c11038_i32 : BitVec 32 := 11038#32
  let v781 : BitVec 32 := Scalar.addi v780 c11038_i32
  let v782 : Index := Scalar.indexCast v781
  ![v782.toNat]
@[reducible] def k1_t88_loop : Scf.Loop 32 :=
  let c0_i32_1087 : BitVec 32 := 0#32
  let c345_i32_1088 : BitVec 32 := 345#32
  let v764 : BitVec 32 := Scalar.addi c0_i32_1087 c345_i32_1088
  let c1_i32_1089 : BitVec 32 := 1#32
  ⟨c0_i32_1087, v764, c1_i32_1089⟩
def k1_off1434 (k1_t88 : Fin k1_t88_loop.trips) : Fin 1 → Nat :=
  let c0_i32_1087 : BitVec 32 := 0#32
  let c1_i32_1089 : BitVec 32 := 1#32
  let arg9 : BitVec 32 := Scf.iv c0_i32_1087 c1_i32_1089 k1_t88
  let c16_i32_1151 : BitVec 32 := 16#32
  let v777 : BitVec 32 := Scalar.muli arg9 c16_i32_1151
  let v778 : Index := Scalar.indexCast v777
  ![v778.toNat]
def k1_off1435 (k1_t88 : Fin k1_t88_loop.trips) : Fin 1 → Nat :=
  let c0_i32_1087 : BitVec 32 := 0#32
  let c1_i32_1089 : BitVec 32 := 1#32
  let arg9 : BitVec 32 := Scf.iv c0_i32_1087 c1_i32_1089 k1_t88
  let c16_i32_1152 : BitVec 32 := 16#32
  let v780 : BitVec 32 := Scalar.muli arg9 c16_i32_1152
  let c16557_i32 : BitVec 32 := 16557#32
  let v781 : BitVec 32 := Scalar.addi v780 c16557_i32
  let v782 : Index := Scalar.indexCast v781
  ![v782.toNat]
@[reducible] def k1_t89_loop : Scf.Loop 32 :=
  let c0_i32_1092 : BitVec 32 := 0#32
  let c345_i32_1093 : BitVec 32 := 345#32
  let v765 : BitVec 32 := Scalar.addi c0_i32_1092 c345_i32_1093
  let c1_i32_1094 : BitVec 32 := 1#32
  ⟨c0_i32_1092, v765, c1_i32_1094⟩
def k1_off1436 (k1_t89 : Fin k1_t89_loop.trips) : Fin 1 → Nat :=
  let c0_i32_1092 : BitVec 32 := 0#32
  let c1_i32_1094 : BitVec 32 := 1#32
  let arg9 : BitVec 32 := Scf.iv c0_i32_1092 c1_i32_1094 k1_t89
  let c16_i32_1151 : BitVec 32 := 16#32
  let v777 : BitVec 32 := Scalar.muli arg9 c16_i32_1151
  let v778 : Index := Scalar.indexCast v777
  ![v778.toNat]
def k1_off1437 (k1_t89 : Fin k1_t89_loop.trips) : Fin 1 → Nat :=
  let c0_i32_1092 : BitVec 32 := 0#32
  let c1_i32_1094 : BitVec 32 := 1#32
  let arg9 : BitVec 32 := Scf.iv c0_i32_1092 c1_i32_1094 k1_t89
  let c16_i32_1152 : BitVec 32 := 16#32
  let v780 : BitVec 32 := Scalar.muli arg9 c16_i32_1152
  let c22076_i32 : BitVec 32 := 22076#32
  let v781 : BitVec 32 := Scalar.addi v780 c22076_i32
  let v782 : Index := Scalar.indexCast v781
  ![v782.toNat]
@[reducible] def k1_t90_loop : Scf.Loop 32 :=
  let c0_i32_1097 : BitVec 32 := 0#32
  let c345_i32_1098 : BitVec 32 := 345#32
  let v766 : BitVec 32 := Scalar.addi c0_i32_1097 c345_i32_1098
  let c1_i32_1099 : BitVec 32 := 1#32
  ⟨c0_i32_1097, v766, c1_i32_1099⟩
def k1_off1438 (k1_t90 : Fin k1_t90_loop.trips) : Fin 1 → Nat :=
  let c0_i32_1097 : BitVec 32 := 0#32
  let c1_i32_1099 : BitVec 32 := 1#32
  let arg9 : BitVec 32 := Scf.iv c0_i32_1097 c1_i32_1099 k1_t90
  let c16_i32_1151 : BitVec 32 := 16#32
  let v777 : BitVec 32 := Scalar.muli arg9 c16_i32_1151
  let v778 : Index := Scalar.indexCast v777
  ![v778.toNat]
def k1_off1439 (k1_t90 : Fin k1_t90_loop.trips) : Fin 1 → Nat :=
  let c0_i32_1097 : BitVec 32 := 0#32
  let c1_i32_1099 : BitVec 32 := 1#32
  let arg9 : BitVec 32 := Scf.iv c0_i32_1097 c1_i32_1099 k1_t90
  let c16_i32_1152 : BitVec 32 := 16#32
  let v780 : BitVec 32 := Scalar.muli arg9 c16_i32_1152
  let c27595_i32 : BitVec 32 := 27595#32
  let v781 : BitVec 32 := Scalar.addi v780 c27595_i32
  let v782 : Index := Scalar.indexCast v781
  ![v782.toNat]
@[reducible] def k1_t91_loop : Scf.Loop 32 :=
  let c0_i32_1102 : BitVec 32 := 0#32
  let c345_i32_1103 : BitVec 32 := 345#32
  let v767 : BitVec 32 := Scalar.addi c0_i32_1102 c345_i32_1103
  let c1_i32_1104 : BitVec 32 := 1#32
  ⟨c0_i32_1102, v767, c1_i32_1104⟩
def k1_off1440 (k1_t91 : Fin k1_t91_loop.trips) : Fin 1 → Nat :=
  let c0_i32_1102 : BitVec 32 := 0#32
  let c1_i32_1104 : BitVec 32 := 1#32
  let arg9 : BitVec 32 := Scf.iv c0_i32_1102 c1_i32_1104 k1_t91
  let c16_i32_1151 : BitVec 32 := 16#32
  let v777 : BitVec 32 := Scalar.muli arg9 c16_i32_1151
  let v778 : Index := Scalar.indexCast v777
  ![v778.toNat]
def k1_off1441 (k1_t91 : Fin k1_t91_loop.trips) : Fin 1 → Nat :=
  let c0_i32_1102 : BitVec 32 := 0#32
  let c1_i32_1104 : BitVec 32 := 1#32
  let arg9 : BitVec 32 := Scf.iv c0_i32_1102 c1_i32_1104 k1_t91
  let c16_i32_1152 : BitVec 32 := 16#32
  let v780 : BitVec 32 := Scalar.muli arg9 c16_i32_1152
  let c33114_i32 : BitVec 32 := 33114#32
  let v781 : BitVec 32 := Scalar.addi v780 c33114_i32
  let v782 : Index := Scalar.indexCast v781
  ![v782.toNat]
@[reducible] def k1_t92_loop : Scf.Loop 32 :=
  let c0_i32_1107 : BitVec 32 := 0#32
  let c345_i32_1108 : BitVec 32 := 345#32
  let v768 : BitVec 32 := Scalar.addi c0_i32_1107 c345_i32_1108
  let c1_i32_1109 : BitVec 32 := 1#32
  ⟨c0_i32_1107, v768, c1_i32_1109⟩
def k1_off1442 (k1_t92 : Fin k1_t92_loop.trips) : Fin 1 → Nat :=
  let c0_i32_1107 : BitVec 32 := 0#32
  let c1_i32_1109 : BitVec 32 := 1#32
  let arg9 : BitVec 32 := Scf.iv c0_i32_1107 c1_i32_1109 k1_t92
  let c16_i32_1151 : BitVec 32 := 16#32
  let v777 : BitVec 32 := Scalar.muli arg9 c16_i32_1151
  let v778 : Index := Scalar.indexCast v777
  ![v778.toNat]
def k1_off1443 (k1_t92 : Fin k1_t92_loop.trips) : Fin 1 → Nat :=
  let c0_i32_1107 : BitVec 32 := 0#32
  let c1_i32_1109 : BitVec 32 := 1#32
  let arg9 : BitVec 32 := Scf.iv c0_i32_1107 c1_i32_1109 k1_t92
  let c16_i32_1152 : BitVec 32 := 16#32
  let v780 : BitVec 32 := Scalar.muli arg9 c16_i32_1152
  let c38633_i32 : BitVec 32 := 38633#32
  let v781 : BitVec 32 := Scalar.addi v780 c38633_i32
  let v782 : Index := Scalar.indexCast v781
  ![v782.toNat]
@[reducible] def k1_t93_loop : Scf.Loop 32 :=
  let c0_i32_1112 : BitVec 32 := 0#32
  let c345_i32_1113 : BitVec 32 := 345#32
  let v769 : BitVec 32 := Scalar.addi c0_i32_1112 c345_i32_1113
  let c1_i32_1114 : BitVec 32 := 1#32
  ⟨c0_i32_1112, v769, c1_i32_1114⟩
def k1_off1444 (k1_t93 : Fin k1_t93_loop.trips) : Fin 1 → Nat :=
  let c0_i32_1112 : BitVec 32 := 0#32
  let c1_i32_1114 : BitVec 32 := 1#32
  let arg9 : BitVec 32 := Scf.iv c0_i32_1112 c1_i32_1114 k1_t93
  let c16_i32_1151 : BitVec 32 := 16#32
  let v777 : BitVec 32 := Scalar.muli arg9 c16_i32_1151
  let v778 : Index := Scalar.indexCast v777
  ![v778.toNat]
def k1_off1445 (k1_t93 : Fin k1_t93_loop.trips) : Fin 1 → Nat :=
  let c0_i32_1112 : BitVec 32 := 0#32
  let c1_i32_1114 : BitVec 32 := 1#32
  let arg9 : BitVec 32 := Scf.iv c0_i32_1112 c1_i32_1114 k1_t93
  let c16_i32_1152 : BitVec 32 := 16#32
  let v780 : BitVec 32 := Scalar.muli arg9 c16_i32_1152
  let c44152_i32 : BitVec 32 := 44152#32
  let v781 : BitVec 32 := Scalar.addi v780 c44152_i32
  let v782 : Index := Scalar.indexCast v781
  ![v782.toNat]
@[reducible] def k1_t94_loop : Scf.Loop 32 :=
  let c0_i32_1117 : BitVec 32 := 0#32
  let c345_i32_1118 : BitVec 32 := 345#32
  let v770 : BitVec 32 := Scalar.addi c0_i32_1117 c345_i32_1118
  let c1_i32_1119 : BitVec 32 := 1#32
  ⟨c0_i32_1117, v770, c1_i32_1119⟩
def k1_off1446 (k1_t94 : Fin k1_t94_loop.trips) : Fin 1 → Nat :=
  let c0_i32_1117 : BitVec 32 := 0#32
  let c1_i32_1119 : BitVec 32 := 1#32
  let arg9 : BitVec 32 := Scf.iv c0_i32_1117 c1_i32_1119 k1_t94
  let c16_i32_1151 : BitVec 32 := 16#32
  let v777 : BitVec 32 := Scalar.muli arg9 c16_i32_1151
  let v778 : Index := Scalar.indexCast v777
  ![v778.toNat]
def k1_off1447 (k1_t94 : Fin k1_t94_loop.trips) : Fin 1 → Nat :=
  let c0_i32_1117 : BitVec 32 := 0#32
  let c1_i32_1119 : BitVec 32 := 1#32
  let arg9 : BitVec 32 := Scf.iv c0_i32_1117 c1_i32_1119 k1_t94
  let c16_i32_1152 : BitVec 32 := 16#32
  let v780 : BitVec 32 := Scalar.muli arg9 c16_i32_1152
  let c49671_i32 : BitVec 32 := 49671#32
  let v781 : BitVec 32 := Scalar.addi v780 c49671_i32
  let v782 : Index := Scalar.indexCast v781
  ![v782.toNat]
@[reducible] def k1_t95_loop : Scf.Loop 32 :=
  let c0_i32_1122 : BitVec 32 := 0#32
  let c345_i32_1123 : BitVec 32 := 345#32
  let v771 : BitVec 32 := Scalar.addi c0_i32_1122 c345_i32_1123
  let c1_i32_1124 : BitVec 32 := 1#32
  ⟨c0_i32_1122, v771, c1_i32_1124⟩
def k1_off1448 (k1_t95 : Fin k1_t95_loop.trips) : Fin 1 → Nat :=
  let c0_i32_1122 : BitVec 32 := 0#32
  let c1_i32_1124 : BitVec 32 := 1#32
  let arg9 : BitVec 32 := Scf.iv c0_i32_1122 c1_i32_1124 k1_t95
  let c16_i32_1151 : BitVec 32 := 16#32
  let v777 : BitVec 32 := Scalar.muli arg9 c16_i32_1151
  let v778 : Index := Scalar.indexCast v777
  ![v778.toNat]
def k1_off1449 (k1_t95 : Fin k1_t95_loop.trips) : Fin 1 → Nat :=
  let c0_i32_1122 : BitVec 32 := 0#32
  let c1_i32_1124 : BitVec 32 := 1#32
  let arg9 : BitVec 32 := Scf.iv c0_i32_1122 c1_i32_1124 k1_t95
  let c16_i32_1152 : BitVec 32 := 16#32
  let v780 : BitVec 32 := Scalar.muli arg9 c16_i32_1152
  let c55190_i32 : BitVec 32 := 55190#32
  let v781 : BitVec 32 := Scalar.addi v780 c55190_i32
  let v782 : Index := Scalar.indexCast v781
  ![v782.toNat]
@[reducible] def k1_t96_loop : Scf.Loop 32 :=
  let c0_i32_1127 : BitVec 32 := 0#32
  let c345_i32_1128 : BitVec 32 := 345#32
  let v772 : BitVec 32 := Scalar.addi c0_i32_1127 c345_i32_1128
  let c1_i32_1129 : BitVec 32 := 1#32
  ⟨c0_i32_1127, v772, c1_i32_1129⟩
def k1_off1450 (k1_t96 : Fin k1_t96_loop.trips) : Fin 1 → Nat :=
  let c0_i32_1127 : BitVec 32 := 0#32
  let c1_i32_1129 : BitVec 32 := 1#32
  let arg9 : BitVec 32 := Scf.iv c0_i32_1127 c1_i32_1129 k1_t96
  let c16_i32_1151 : BitVec 32 := 16#32
  let v777 : BitVec 32 := Scalar.muli arg9 c16_i32_1151
  let v778 : Index := Scalar.indexCast v777
  ![v778.toNat]
def k1_off1451 (k1_t96 : Fin k1_t96_loop.trips) : Fin 1 → Nat :=
  let c0_i32_1127 : BitVec 32 := 0#32
  let c1_i32_1129 : BitVec 32 := 1#32
  let arg9 : BitVec 32 := Scf.iv c0_i32_1127 c1_i32_1129 k1_t96
  let c16_i32_1152 : BitVec 32 := 16#32
  let v780 : BitVec 32 := Scalar.muli arg9 c16_i32_1152
  let c60709_i32 : BitVec 32 := 60709#32
  let v781 : BitVec 32 := Scalar.addi v780 c60709_i32
  let v782 : Index := Scalar.indexCast v781
  ![v782.toNat]
@[reducible] def k1_t97_loop : Scf.Loop 32 :=
  let c0_i32_1132 : BitVec 32 := 0#32
  let c345_i32_1133 : BitVec 32 := 345#32
  let v773 : BitVec 32 := Scalar.addi c0_i32_1132 c345_i32_1133
  let c1_i32_1134 : BitVec 32 := 1#32
  ⟨c0_i32_1132, v773, c1_i32_1134⟩
def k1_off1452 (k1_t97 : Fin k1_t97_loop.trips) : Fin 1 → Nat :=
  let c0_i32_1132 : BitVec 32 := 0#32
  let c1_i32_1134 : BitVec 32 := 1#32
  let arg9 : BitVec 32 := Scf.iv c0_i32_1132 c1_i32_1134 k1_t97
  let c16_i32_1151 : BitVec 32 := 16#32
  let v777 : BitVec 32 := Scalar.muli arg9 c16_i32_1151
  let v778 : Index := Scalar.indexCast v777
  ![v778.toNat]
def k1_off1453 (k1_t97 : Fin k1_t97_loop.trips) : Fin 1 → Nat :=
  let c0_i32_1132 : BitVec 32 := 0#32
  let c1_i32_1134 : BitVec 32 := 1#32
  let arg9 : BitVec 32 := Scf.iv c0_i32_1132 c1_i32_1134 k1_t97
  let c16_i32_1152 : BitVec 32 := 16#32
  let v780 : BitVec 32 := Scalar.muli arg9 c16_i32_1152
  let c66228_i32 : BitVec 32 := 66228#32
  let v781 : BitVec 32 := Scalar.addi v780 c66228_i32
  let v782 : Index := Scalar.indexCast v781
  ![v782.toNat]
@[reducible] def k1_t98_loop : Scf.Loop 32 :=
  let c0_i32_1137 : BitVec 32 := 0#32
  let c345_i32_1138 : BitVec 32 := 345#32
  let v774 : BitVec 32 := Scalar.addi c0_i32_1137 c345_i32_1138
  let c1_i32_1139 : BitVec 32 := 1#32
  ⟨c0_i32_1137, v774, c1_i32_1139⟩
def k1_off1454 (k1_t98 : Fin k1_t98_loop.trips) : Fin 1 → Nat :=
  let c0_i32_1137 : BitVec 32 := 0#32
  let c1_i32_1139 : BitVec 32 := 1#32
  let arg9 : BitVec 32 := Scf.iv c0_i32_1137 c1_i32_1139 k1_t98
  let c16_i32_1151 : BitVec 32 := 16#32
  let v777 : BitVec 32 := Scalar.muli arg9 c16_i32_1151
  let v778 : Index := Scalar.indexCast v777
  ![v778.toNat]
def k1_off1455 (k1_t98 : Fin k1_t98_loop.trips) : Fin 1 → Nat :=
  let c0_i32_1137 : BitVec 32 := 0#32
  let c1_i32_1139 : BitVec 32 := 1#32
  let arg9 : BitVec 32 := Scf.iv c0_i32_1137 c1_i32_1139 k1_t98
  let c16_i32_1152 : BitVec 32 := 16#32
  let v780 : BitVec 32 := Scalar.muli arg9 c16_i32_1152
  let c71747_i32 : BitVec 32 := 71747#32
  let v781 : BitVec 32 := Scalar.addi v780 c71747_i32
  let v782 : Index := Scalar.indexCast v781
  ![v782.toNat]
@[reducible] def k1_t99_loop : Scf.Loop 32 :=
  let c0_i32_1142 : BitVec 32 := 0#32
  let c345_i32_1143 : BitVec 32 := 345#32
  let v775 : BitVec 32 := Scalar.addi c0_i32_1142 c345_i32_1143
  let c1_i32_1144 : BitVec 32 := 1#32
  ⟨c0_i32_1142, v775, c1_i32_1144⟩
def k1_off1456 (k1_t99 : Fin k1_t99_loop.trips) : Fin 1 → Nat :=
  let c0_i32_1142 : BitVec 32 := 0#32
  let c1_i32_1144 : BitVec 32 := 1#32
  let arg9 : BitVec 32 := Scf.iv c0_i32_1142 c1_i32_1144 k1_t99
  let c16_i32_1151 : BitVec 32 := 16#32
  let v777 : BitVec 32 := Scalar.muli arg9 c16_i32_1151
  let v778 : Index := Scalar.indexCast v777
  ![v778.toNat]
def k1_off1457 (k1_t99 : Fin k1_t99_loop.trips) : Fin 1 → Nat :=
  let c0_i32_1142 : BitVec 32 := 0#32
  let c1_i32_1144 : BitVec 32 := 1#32
  let arg9 : BitVec 32 := Scf.iv c0_i32_1142 c1_i32_1144 k1_t99
  let c16_i32_1152 : BitVec 32 := 16#32
  let v780 : BitVec 32 := Scalar.muli arg9 c16_i32_1152
  let c77266_i32 : BitVec 32 := 77266#32
  let v781 : BitVec 32 := Scalar.addi v780 c77266_i32
  let v782 : Index := Scalar.indexCast v781
  ![v782.toNat]
@[reducible] def k1_t100_loop : Scf.Loop 32 :=
  let c0_i32_1147 : BitVec 32 := 0#32
  let c345_i32_1148 : BitVec 32 := 345#32
  let v776 : BitVec 32 := Scalar.addi c0_i32_1147 c345_i32_1148
  let c1_i32_1149 : BitVec 32 := 1#32
  ⟨c0_i32_1147, v776, c1_i32_1149⟩
def k1_off1458 (k1_t100 : Fin k1_t100_loop.trips) : Fin 1 → Nat :=
  let c0_i32_1147 : BitVec 32 := 0#32
  let c1_i32_1149 : BitVec 32 := 1#32
  let arg9 : BitVec 32 := Scf.iv c0_i32_1147 c1_i32_1149 k1_t100
  let c16_i32_1151 : BitVec 32 := 16#32
  let v777 : BitVec 32 := Scalar.muli arg9 c16_i32_1151
  let v778 : Index := Scalar.indexCast v777
  ![v778.toNat]
def k1_off1459 (k1_t100 : Fin k1_t100_loop.trips) : Fin 1 → Nat :=
  let c0_i32_1147 : BitVec 32 := 0#32
  let c1_i32_1149 : BitVec 32 := 1#32
  let arg9 : BitVec 32 := Scf.iv c0_i32_1147 c1_i32_1149 k1_t100
  let c16_i32_1152 : BitVec 32 := 16#32
  let v780 : BitVec 32 := Scalar.muli arg9 c16_i32_1152
  let c82785_i32 : BitVec 32 := 82785#32
  let v781 : BitVec 32 := Scalar.addi v780 c82785_i32
  let v782 : Index := Scalar.indexCast v781
  ![v782.toNat]
def k1_off1460 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1152_r0 : BitVec 32 := 0#32
  ![v1.toNat, 0]
abbrev grid2 : Pipeline.Grid := .none

abbrev stage2_0 : Fin 1 → Memref sig .tc .vmem S32x42x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x21x512x512 : Shape := ⟨4, ![4, 21, 512, 512]⟩
abbrev S4x512x512 : Shape := ⟨3, ![4, 512, 512]⟩
abbrev S_ : Shape := ⟨0, ![]⟩
abbrev S4x1x512x512 : Shape := ⟨4, ![4, 1, 512, 512]⟩
abbrev S21x4x512x512 : Shape := ⟨4, ![21, 4, 512, 512]⟩
abbrev S21x1048576 : Shape := ⟨2, ![21, 1048576]⟩
abbrev S1x1048576 : Shape := ⟨2, ![1, 1048576]⟩
abbrev S21 : Shape := ⟨1, ![21]⟩
abbrev S21x1 : Shape := ⟨2, ![21, 1]⟩
abbrev S21x1048576x1 : Shape := ⟨3, ![21, 1048576, 1]⟩
abbrev S1 : Shape := ⟨1, ![1]⟩
abbrev S1x1x1 : Shape := ⟨3, ![1, 1, 1]⟩
abbrev S21x1048575 : Shape := ⟨2, ![21, 1048575]⟩

abbrev nBuf : Space → Nat
  | .hbm => 136
  | .vmem => 0
  | .smem => 0
  | _ => 0

abbrev hbmTy0_0 (i : Nat) : BufTy := match i % 128 with
  | 0 => ⟨S4x21x512x512, .f32⟩
  | 1 => ⟨S4x512x512, .i32⟩
  | 2 => ⟨S_, .f32⟩
  | 3 => ⟨S4x512x512, .f32⟩
  | 4 => ⟨S_, .f32⟩
  | 5 => ⟨S4x512x512, .f32⟩
  | 6 => ⟨S4x512x512, .f32⟩
  | 7 => ⟨S4x1x512x512, .f32⟩
  | 8 => ⟨S4x21x512x512, .f32⟩
  | 9 => ⟨S4x21x512x512, .f32⟩
  | 10 => ⟨S4x21x512x512, .f32⟩
  | 11 => ⟨S_, .f32⟩
  | 12 => ⟨S4x512x512, .f32⟩
  | 13 => ⟨S4x1x512x512, .f32⟩
  | 14 => ⟨S4x21x512x512, .f32⟩
  | 15 => ⟨S4x21x512x512, .f32⟩
  | 16 => ⟨S21x4x512x512, .f32⟩
  | 17 => ⟨S21x1048576, .f32⟩
  | 18 => ⟨S1x1048576, .i32⟩
  | 19 => ⟨S21, .i32⟩
  | 20 => ⟨S21x1, .i32⟩
  | 21 => ⟨S21x1048576, .i32⟩
  | 22 => ⟨S21x1048576, .i32⟩
  | 23 => ⟨S21x1048576, .i1⟩
  | 24 => ⟨S21x1048576, .f32⟩
  | 25 => ⟨S21x1048576, .f32⟩
  | 26 => ⟨S21x1048576, .f32⟩
  | 27 => ⟨S_, .f32⟩
  | 28 => ⟨S21x1048576, .f32⟩
  | 29 => ⟨S21x1048576, .f32⟩
  | 30 => ⟨S21x1048576, .i32⟩
  | 31 => ⟨S_, .i32⟩
  | 32 => ⟨S_, .i32⟩
  | 33 => ⟨S_, .i32⟩
  | 34 => ⟨S21x1048576, .i32⟩
  | 35 => ⟨S21x1048576, .i32⟩
  | 36 => ⟨S_, .i32⟩
  | 37 => ⟨S21x1048576, .i32⟩
  | 38 => ⟨S21x1048576, .i32⟩
  | 39 => ⟨S21x1048576, .f32⟩
  | 40 => ⟨S_, .f32⟩
  | 41 => ⟨S21x1048576, .f32⟩
  | 42 => ⟨S21x1048576, .f32⟩
  | 43 => ⟨S_, .f32⟩
  | 44 => ⟨S21x1048576, .f32⟩
  | 45 => ⟨S21x1048576, .f32⟩
  | 46 => ⟨S21x1048576, .f32⟩
  | 47 => ⟨S21x1048576, .i32⟩
  | 48 => ⟨S21x1048576, .f32⟩
  | 49 => ⟨S21x1048576, .i32⟩
  | 50 => ⟨S_, .i32⟩
  | 51 => ⟨S21x1048576, .i32⟩
  | 52 => ⟨S21x1048576, .i1⟩
  | 53 => ⟨S_, .i32⟩
  | 54 => ⟨S21x1048576, .i32⟩
  | 55 => ⟨S21x1048576, .i32⟩
  | 56 => ⟨S21x1048576, .i32⟩
  | 57 => ⟨S21x1048576x1, .i32⟩
  | 58 => ⟨S1, .i32⟩
  | 59 => ⟨S_, .i32⟩
  | 60 => ⟨S21x1048576x1, .i32⟩
  | 61 => ⟨S21x1048576x1, .i1⟩
  | 62 => ⟨S1x1x1, .i32⟩
  | 63 => ⟨S21x1048576x1, .i32⟩
  | 64 => ⟨S21x1048576x1, .i1⟩
  | 65 => ⟨S21x1048576x1, .i1⟩
  | 66 => ⟨S_, .i1⟩
  | 67 => ⟨S21x1048576, .i1⟩
  | 68 => ⟨S21x1048576, .f32⟩
  | 69 => ⟨S_, .f32⟩
  | 70 => ⟨S21x1048576, .f32⟩
  | 71 => ⟨S21x1048576, .f32⟩
  | 72 => ⟨S_, .i32⟩
  | 73 => ⟨S21x1048576, .i32⟩
  | 74 => ⟨S21x1048576, .i1⟩
  | 75 => ⟨S_, .i32⟩
  | 76 => ⟨S21x1048576, .i32⟩
  | 77 => ⟨S21x1048576, .i32⟩
  | 78 => ⟨S21x1048576, .i32⟩
  | 79 => ⟨S21x1048576x1, .i32⟩
  | 80 => ⟨S1, .i32⟩
  | 81 => ⟨S_, .i32⟩
  | 82 => ⟨S21x1048576x1, .i32⟩
  | 83 => ⟨S21x1048576x1, .i1⟩
  | 84 => ⟨S1x1x1, .i32⟩
  | 85 => ⟨S21x1048576x1, .i32⟩
  | 86 => ⟨S21x1048576x1, .i1⟩
  | 87 => ⟨S21x1048576x1, .i1⟩
  | 88 => ⟨S_, .i1⟩
  | 89 => ⟨S21x1048576, .i1⟩
  | 90 => ⟨S21x1048576, .f32⟩
  | 91 => ⟨S_, .f32⟩
  | 92 => ⟨S21x1048576, .f32⟩
  | 93 => ⟨S21x1048576, .f32⟩
  | 94 => ⟨S_, .f32⟩
  | 95 => ⟨S21, .f32⟩
  | 96 => ⟨S21x1, .f32⟩
  | 97 => ⟨S_, .f32⟩
  | 98 => ⟨S_, .f32⟩
  | 99 => ⟨S21x1048576, .f32⟩
  | 100 => ⟨S21x1048576, .f32⟩
  | 101 => ⟨S21x1048576, .f32⟩
  | 102 => ⟨S_, .f32⟩
  | 103 => ⟨S21x1048576, .f32⟩
  | 104 => ⟨S21x1048576, .f32⟩
  | 105 => ⟨S_, .f32⟩
  | 106 => ⟨S_, .f32⟩
  | 107 => ⟨S21x1048576, .f32⟩
  | 108 => ⟨S21x1048576, .f32⟩
  | 109 => ⟨S21x1048576, .f32⟩
  | 110 => ⟨S21x1048576, .f32⟩
  | 111 => ⟨S_, .f32⟩
  | 112 => ⟨S21x1048576, .f32⟩
  | 113 => ⟨S21x1048576, .f32⟩
  | 114 => ⟨S21x1, .f32⟩
  | 115 => ⟨S21x1048575, .f32⟩
  | 116 => ⟨S21x1048575, .f32⟩
  | 117 => ⟨S21x1048575, .f32⟩
  | 118 => ⟨S21x1048576, .f32⟩
  | 119 => ⟨S21x1048576, .f32⟩
  | 120 => ⟨S_, .f32⟩
  | 121 => ⟨S21, .f32⟩
  | 122 => ⟨S_, .f32⟩
  | 123 => ⟨S21, .f32⟩
  | 124 => ⟨S_, .f32⟩
  | 125 => ⟨S21, .f32⟩
  | 126 => ⟨S21, .i1⟩
  | 127 => ⟨S21, .f32⟩
  | _ => ⟨S4x21x512x512, .f32⟩

abbrev hbmTy0_1 (i : Nat) : BufTy := match i % 128 with
  | 0 => ⟨S21, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S4x21x512x512, .f32⟩

abbrev hbmTy (i : Nat) : BufTy := match i / 128 with
  | 0 => hbmTy0_0 i
  | 1 => hbmTy0_1 i
  | _ => ⟨S4x21x512x512, .f32⟩

abbrev bufTy : (tb : Table) → Fin (tcTables nBuf tb) → BufTy
  | .hbm, ⟨i, _⟩ => hbmTy i
  | _, _ => ⟨S4x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_v0 : Ref sig .tc := ⟨.hbm, 47, rfl⟩
abbrev main_call1_v1_0 : Ref sig .tc := ⟨.hbm, 48, rfl⟩
abbrev main_v32 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v33 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v34 : Ref sig .tc := ⟨.hbm, 93, rfl⟩
abbrev main_cst_6 : Ref sig .tc := ⟨.hbm, 94, rfl⟩
abbrev main_v35 : Ref sig .tc := ⟨.hbm, 95, rfl⟩
abbrev main_v36 : Ref sig .tc := ⟨.hbm, 96, rfl⟩
abbrev main_call4_call0_cst : Ref sig .tc := ⟨.hbm, 97, rfl⟩
abbrev main_call4_call0_v0 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_v41 : Ref sig .tc := ⟨.hbm, 104, rfl⟩
abbrev main_call5_call0_cst : Ref sig .tc := ⟨.hbm, 105, rfl⟩
abbrev main_call5_call0_v0 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_9 : Ref sig .tc := ⟨.hbm, 120, rfl⟩
abbrev main_v54 : Ref sig .tc := ⟨.hbm, 121, rfl⟩
abbrev main_cst_10 : Ref sig .tc := ⟨.hbm, 122, rfl⟩
abbrev main_v55 : Ref sig .tc := ⟨.hbm, 123, rfl⟩
abbrev main_cst_11 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_cst_12 : Ref sig .tc := ⟨.hbm, 129, rfl⟩
abbrev main_v60 : Ref sig .tc := ⟨.hbm, 130, rfl⟩
abbrev main_cst_13 : Ref sig .tc := ⟨.hbm, 131, rfl⟩
abbrev main_v61 : Ref sig .tc := ⟨.hbm, 132, rfl⟩
abbrev main_cst_14 : Ref sig .tc := ⟨.hbm, 133, rfl⟩
abbrev main_v62 : Ref sig .tc := ⟨.hbm, 134, rfl⟩
abbrev main_v63 : Ref sig .tc := ⟨.hbm, 135, rfl⟩

abbrev nD : Nat := 1
abbrev τ : Topo := Topo.v7x

variable {F : FTy → Type} [FloatOps F]
-- ==== Proof.Setup.lean ====
/-
  The launch's vocabulary: the program as the launch theorem sees it, and the resource algebra (the handshakes'
  rounds, the TensorCore pipelines' rounds, the counters of the tiles' own copies).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds Idealize.ShloMosaic.Transfers

variable {F : FTy → Type}

/-- The labels of the TensorCore's pipelines over the kernel bodies. -/
abbrev ΛP : Labels := Pipeline.Sig Λ₀ (Fin 2) fun p => (pcfgs (F := F) p).Adm
/-- The SparseCore launch. -/
abbrev K : SparseCore.Cfg τ sig (ΛP (F := F)) 1 := sc (F := F)
/-- The body table below the launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores and shared buffers are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
/-- The kernel's ghost state: the handshakes' rounds, the pipelines' rounds, the copies' counters. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb
/-- The copies' counters. -/
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Proof
-- ==== Proof.Whole.lean ====
/-
  Loads and stores of a whole staging buffer, and the two TensorCore kernels run on whole staging buffers: what
  each leaves in its result's buffer, as a function of what its operands' buffers hold.
-/
module

public import proofs.«01_k».proof.Proof.Setup
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI Idealize.SL.Sem Idealize.SL.ProofMode
open Idealize.SL.BI.BIBase Idealize.SL.BI.Laws
open scoped Idealize.SL.BI

variable {F : FTy → Type} [FloatOps F]

local notation "𝕄" => MT nD τ sig (HIx 1) (Elt F) ℕ UU ℕ

/-- A program of the TensorCore of device `c` meets `Q`. -/
abbrev tcwp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules

variable (c : Dev nD) {sp : CoreSpace} {S : Shape} {e : EltTy} (M : Memref sig .tc sp S e)

theorem emb_unit_zero (o : Fin S.rank → ℕ) (ho : ∀ a, o a = 0) (h : ∀ a, o a + S.size a ≤ S.size a) (x : S.Idx) :
    (Rect.unit (s := S) o S.size h).emb x = x := by
  funext a; apply Fin.ext
  show o a + 1 * (x a).val = (x a).val
  rw [ho a]; omega

/-- A load of the whole of `M` reads what `M` holds. -/
theorem load_whole (o : Fin S.rank → ℕ) (ho : ∀ a, o a = 0) (h : ∀ a, o a + S.size a ≤ S.size a)
    {hl : M.view.LoadsAt (Rect.unit (s := S) o S.size h).toLoadRect} (q : PosShare TreeShare) (X : S.Idx → Elt F e)
    {α : Type} {Q : α → sProp 𝕄} (k : (S.Idx → Elt F e) → Prog (TpuEff nD τ sig (Elt F) Λ₀ .tc) α) :
    owns (c : Thread nD τ) M q X
      ⊢ iprop((owns (c : Thread nD τ) M q X -∗ tcwp c (k X) Q)
        -∗ tcwp c (.op (.load M (Rect.unit (s := S) o S.size h).toLoadRect hl) k) Q) := by
  unfold owns
  iintro ⟨%f, %hf, Hf⟩ Hk
  iapply (wp_load 𝒱₀ (c : Thread nD τ) none Set.univ (m := M) (S := M.view.set) (View.setOn_subset_set _ _)) $$ Hf
  iintro Hf
  have hx : M.view.readAt (Elt F) (Rect.unit (s := S) o S.size h).toLoadRect f = X := by
    subst hf; funext x
    exact congrArg (M.view.read (Elt F) f) (emb_unit_zero o ho h x)
  rw [hx]
  iapply Hk
  iexists f; isplitr
  · ipureintro; exact hf
  · iexact Hf

/-- A store of the whole of `M` leaves it holding what was stored. -/
theorem store_whole (o : Fin S.rank → ℕ) (ho : ∀ a, o a = 0) (h : ∀ a, o a + S.size a ≤ S.size a) (w : S.Idx → Elt F e)
    {hx : (M.access (Rect.unit (s := S) o S.size h)).Stores Finset.univ} {hm : Finset.univ = Finset.univ ∨ ∀ a, (Rect.unit (s := S) o S.size h).stride a = 1}
    (X : S.Idx → Elt F e) {α : Type} {Q : α → sProp 𝕄} (k : PUnit → Prog (TpuEff nD τ sig (Elt F) Λ₀ .tc) α) :
    owns (c : Thread nD τ) M fullShare X
      ⊢ iprop((owns (c : Thread nD τ) M fullShare w -∗ tcwp c (k ⟨⟩) Q)
        -∗ tcwp c (.op (.store M (Rect.unit (s := S) o S.size h) w Finset.univ hx hm) k) Q) := by
  unfold owns
  iintro ⟨%f, %hf, Hf⟩ Hk
  iapply (wp_store_writes₀ 𝒱₀ (c : Thread nD τ) none Set.univ (m := M) (r := Rect.unit (s := S) o S.size h) (w := w) (S := M.view.set) (f := f)
    (by rw [View.set_slice]; exact View.setOn_subset_set _ _)) $$ Hf
  iintro Hf
  iapply Hk
  iexists _; isplitr; swap
  · iexact Hf
  · ipureintro
    funext x
    refine (congrArg (M.view.read (Elt F) _) (emb_unit_zero o ho h x).symm).trans ?_
    exact View.read_writes_cons_emb M.view f (Rect.unit (s := S) o S.size h) w [] x

end Rules

/-- The block of word indices that the preparing kernel computes from a block of scores and a block of labels. -/
def prepBlock (v0 : Vec F S1x21x128x512 .f32) (v7 : Vec F S1x128x512 .i32) : Vec F S1x21x128x512 .i32 :=
  k0_pay1 (k0_pay3 v0 v7) (k0_pay4 v7) (Scalar.select (Scalar.cmpi .eq 16#32 0#32) 1#32 16#32) k0_pay5 k0_pay6 k0_pay7
    (Scalar.cmpi .slt (Scalar.select (Scalar.cmpi .eq 16#32 0#32) 1#32 16#32) 0#32)

/-- The preparing kernel, on staging buffers. -/
theorem prep_ok (c : Dev nD) (i : grid0.Coords) (a2 : Memref sig .tc .vmem S1x21x128x512 .f32) (h2 : a2.IsWhole)
    (a3 : Memref sig .tc .vmem S1x128x512 .i32) (h3 : a3.IsWhole) (a4 : Memref sig .tc .vmem S1x21x128x512 .i32) (h4 : a4.IsWhole)
    (X0 : Vec F S1x21x128x512 .f32) (X1 : Vec F S1x128x512 .i32) (X2 : Vec F S1x21x128x512 .i32) (R : sProp 𝕄) :
    iprop(owns (c : Thread nD τ) a2 fullShare X0 ∗ owns (c : Thread nD τ) a3 fullShare X1 ∗ owns (c : Thread nD τ) a4 fullShare X2 ∗ R)
      ⊢ tcwp c (cc0__prep_body i a2 h2 a3 h3 a4 h4) fun _ =>
        iprop(owns (c : Thread nD τ) a2 fullShare X0 ∗ owns (c : Thread nD τ) a3 fullShare X1 ∗ owns (c : Thread nD τ) a4 fullShare (prepBlock X0 X1) ∗ R) := by
  rw [cc0__prep_body_eq_skeleton]
  unfold cc0__prep_body_skel
  rw [k0_part1_eq_skeleton]
  unfold k0_part1_skel
  simp only [Prog.lift, Prog.bind_op, Prog.bind_ret, Prog.pure_eq_ret]
  iintro ⟨H0, H1, H2, HR⟩
  iapply (load_whole c a2 ![0, 0, 0, 0] (by decide) inb_S1x21x128x512_S1x21x128x512_0_0_0_0 fullShare X0 _) $$ H0
  iintro H0
  iapply (load_whole c a3 ![0, 0, 0] (by decide) inb_S1x128x512_S1x128x512_0_0_0 fullShare X1 _) $$ H1
  iintro H1
  iapply (load_whole c a4 ![0, 0, 0, 0] (by decide) inb_S1x21x128x512_S1x21x128x512_0_0_0_0 fullShare X2 _) $$ H2
  iintro H2
  iapply (store_whole c a4 ![0, 0, 0, 0] (by decide) inb_S1x21x128x512_S1x21x128x512_0_0_0_0 (prepBlock X0 X1) X2 _) $$ H2
  iintro H2
  unfold tcwp; rw [wp_ret]
  imodintro
  isplitl [H0]; · iexact H0
  isplitl [H1]; · iexact H1
  isplitl [H2]; · iexact H2
  iexact HR

/-- The loss kernel, on staging buffers. -/
theorem loss_ok (c : Dev nD) (a0 : Memref sig .tc .vmem S32x42x128 .f32) (h0 : a0.IsWhole) (a1 : Memref sig .tc .vmem S1x1 .f32) (h1 : a1.IsWhole)
    (X0 : Vec F S32x42x128 .f32) (X1 : Vec F S1x1 .f32) (R : sProp 𝕄) :
    iprop(owns (c : Thread nD τ) a0 fullShare X0 ∗ owns (c : Thread nD τ) a1 fullShare X1 ∗ R)
      ⊢ tcwp c (cc2__loss_body a0 h0 a1 h1) fun _ =>
        iprop(owns (c : Thread nD τ) a0 fullShare X0 ∗ owns (c : Thread nD τ) a1 fullShare (k2_pay1 X0) ∗ R) := by
  rw [cc2__loss_body_eq_skeleton]
  unfold cc2__loss_body_skel
  rw [k2_part1_eq_skeleton]
  unfold k2_part1_skel
  simp only [Prog.lift, Prog.bind_op, Prog.bind_ret, Prog.pure_eq_ret]
  iintro ⟨H0, H1, HR⟩
  iapply (load_whole c a0 ![0, 0, 0] (by decide) inb_S32x42x128_S32x42x128_0_0_0 fullShare X0 _) $$ H0
  iintro H0
  iapply (load_whole c a1 ![0, 0] (by decide) inb_S1x1_S1x1_0_0 fullShare X1 _) $$ H1
  iintro H1
  iapply (store_whole c a1 ![0, 0] (by decide) inb_S1x1_S1x1_0_0 (k2_pay1 X0) X1 _) $$ H1
  iintro H1
  unfold tcwp; rw [wp_ret]
  imodintro
  isplitl [H0]; · iexact H0
  isplitl [H1]; · iexact H1
  iexact HR

end Cert.Proof
-- ==== Proof.Regions.lean ====
/-
  The two TensorCore kernels as regions of the launch: each is entered from the TensorCore's unscoped buffers at
  some contents, with what it owes the SparseCore calls, and left with its result's array changed.
-/
module

public import proofs.«01_k».proof.Proof.Whole
public import Idealize.ShloMosaic.Lib.Pipeline.RegionsLoop

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation BodyObligationLoose cellOf)

variable {F : FTy → Type} [FloatOps F]

local notation "𝕄" => MT nD τ sig (HIx 1) (Elt F) ℕ UU ℕ

/-- The contents of the TensorCore's buffers. -/
abbrev Conts (F : FTy → Type) : Type := (c : Dev nD) → (b : Ref sig .tc) → Buf (Elt F) ((c : Thread nD τ).loc b)

/-- No pipeline prefetches a table. -/
abbrev adm : (p : Fin 2) → (pcfgs (F := F) p).Adm := fun p => (cfgs p).toPCfg_adm

/-- Proof data of both pipelines. -/
abbrev Data (F : FTy → Type) [FloatOps F] : Type :=
  (p : Fin 2) → (c : Dev nD) → Dat τ (Elt F) (HIx 1) ℕ UU ℕ (Pipeline.pin (pcfgs (F := F)) adm p) c

/-- What the TensorCore owes before SparseCore call `n`. -/
abbrev due (c : Dev nD) (n : ℕ) : CellTallies nD τ sig (HIx 1) := (K (F := F)).Otc c n

/-- The waits recorded before SparseCore call `n`. -/
abbrev waited (c : Dev nD) (n : ℕ) : Set (SemLoc sig × HIx 1) := {x | (K (F := F)).lev (T c, x.1) x.2 ≤ 8 * SparseCore.Cfg.Blocks.fst (Q := 1) (N := 1) n}

/-- The TensorCore's debts before SparseCore call `n`. -/
abbrev debts (c : Dev nD) (n : ℕ) : sProp 𝕄 :=
  iprop(∃ W, ⌜(K (F := F)).WBelow (T c) W (8 * SparseCore.Cfg.Blocks.fst (Q := 1) (N := 1) n)⌝ ∗ owes (T c) (due (F := F) c n) W)

set_option backward.isDefEq.respectTransparency.types false in
/-- A region of the launch before SparseCore call `n`: pipeline `p`, whose proof data `pd` keep the scoped buffers that
    it does not stage as its invariant and leave the debts alone, takes the unscoped buffers from `V` to `V'`. -/
def seg (pd : Data F) (p : Fin 2) (n : ℕ) (V V' : Conts F)
    (win : Pipeline.WinFacts (Pipeline.pin (pcfgs (F := F)) adm p).spec)
    (bp : ∀ w : Fin (pcfgs (F := F) p).W, 0 < ((pcfgs (F := F) p).spec w).block.numel)
    (aw : ∀ w, ((Pipeline.pin (pcfgs (F := F)) adm p).spec w).arr.IsWhole)
    (sw : ∀ (w : Fin (pcfgs (F := F) p).W) (s : Fin ((pcfgs (F := F) p).spec w).nbuf), (((pcfgs (F := F) p).spec w).stage s).IsWhole)
    (hbody : ∀ c, BodyObligationLoose (pd p c) defs₀ 𝒱₀ none Set.univ)
    (hpre : ∀ c, (BI.emp : sProp 𝕄) ⊢ Pipeline.prefHeld (pcfgs (F := F) p).pre c (fun _ => fullShare) (adm (F := F) p).1)
    (hA : ∀ c w, (pd p c).A w = V c (Pipeline.arrRef (Pipeline.pin (pcfgs (F := F)) adm p).spec w))
    (hq : ∀ c w, (pd p c).q w = fullShare)
    (hΦ : ∀ c t, (pd p c).Φ t = Pipeline.scopedRest (pcfgs (F := F) p).spec c)
    (ho : ∀ c t, (pd p c).owed t = due (F := F) c n)
    (hr : ∀ c t, (pd p c).recorded t = waited (F := F) c n)
    (hF : ∀ c w, (pd p c).arrAt w (Pipeline.pin (pcfgs (F := F)) adm p).N = V' c (Pipeline.arrRef (Pipeline.pin (pcfgs (F := F)) adm p).spec w))
    (hrest : ∀ c b, b ∉ Finset.univ.image (Pipeline.arrRef (Pipeline.pin (pcfgs (F := F)) adm p).spec) → V' c b = V c b) :
    Pipeline.RegionSeg (pcfgs (F := F)) adm pd none defs₀ 𝒱₀ (K (F := F)).L (K (F := F)).lev p where
  win := win.to₀
  block_pos := bp
  stage_whole := sw
  K := PEmpty
  osem k := k.elim
  ho := Pipeline.OwnSemFacts.none _
  hbody := hbody
  hwaits c := Pipeline.cellsWaits_of_cut (Pipeline.pin (pcfgs (F := F)) adm) pd none p c 0 (due (F := F) c n) (ho c)
    (fun _ _ => Finset.mem_univ _) (fun _ _ => le_rfl) fun g i h =>
      ⟨Finset.mem_univ _, lt_of_lt_of_le (Nat.succ_pos _) ((K (F := F)).lev_of_Otc_pos h)⟩
  pre c := iprop(unscopedBufs c (V c) ∗ debts c n)
  post c := iprop(unscopedBufs c (V' c) ∗ debts c n)
  X _ := BI.emp
  Y _ := BI.emp
  Z c := Pipeline.unscopedRest (pcfgs (F := F) p).spec c (V c)
  hentry c := by
    rw [Pipeline.ownSems0_none]
    have hsplit := Pipeline.arrays_of_unscopedBufs (p := p) (pcfgs (F := F)) adm pd win aw c
      ((pd p c).share_full (hq c)) (V c) (hA c)
    iintro ⟨⟨Hub, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin Pipeline.Dat.bound
      rw [ho c, hr c]
      icases HO with ⟨%W, %hW, HO⟩; iexists W; isplitr
      · ipureintro; exact fun x hx => Or.inl (hW x hx)
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) win aw c
      pd ((pd p c).share_full (hq c)) (V c) (V' c) ((pd p c).arrAt · (Pipeline.pin (pcfgs (F := F)) adm p).N) (hF c) (hrest c)
    iintro ⟨Ha, HO, -, Hrest⟩
    imodintro
    isplitl [Ha Hrest]
    · iapply hjoin; isplitl [Ha] <;> iassumption
    unfold Pipeline.Dat.owesAt Pipeline.owesWithin Pipeline.Dat.bound
    rw [ho c, hr c]
    icases HO with ⟨%W, %hW, HO⟩; iexists W; isplitr
    · ipureintro
      intro x hx
      rcases hW hx with h | h
      · exact h
      · obtain ⟨w, k, rfl⟩ := h
        exact Nat.zero_le _
    iexact HO

end Cert.Proof
-- ==== Proof.Prep.lean ====
/-
  The preparing kernel as a region of the launch: from scores and labels it leaves the array of word indices.
-/
module

public import proofs.«01_k».proof.Proof.Regions
public import Idealize.ShloMosaic.Lib.Pipeline.ValueKit

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation BodyObligationLoose cellOf)

variable {F : FTy → Type} [FloatOps F]

local notation "𝕄" => MT nD τ sig (HIx 1) (Elt F) ℕ UU ℕ

/-- Proof data of a pipeline that a region does not run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (W : Conts F)

/-- The block of scores that point `t` reads. -/
abbrev scoreBlk (c : Dev nD) (t : Fin cfg0.N) : Vec F S1x21x128x512 .f32 := ((cfg0.win 0).blk t).view.read (Elt F) (W c main_arg0)
/-- The block of labels that point `t` reads. -/
abbrev labelBlk (c : Dev nD) (t : Fin cfg0.N) : Vec F S1x128x512 .i32 := ((cfg0.win 1).blk t).view.read (Elt F) (W c main_arg1)

/-- The proof data of the preparing kernel, entered with the buffers at `W`. -/
def prepDat (c : Dev nD) : Dat τ (Elt F) (HIx 1) ℕ UU ℕ cfg0 c where
  A w := W c (Pipeline.arrRef spec0 w)
  after w t := match w with
    | ⟨0, _⟩ => scoreBlk W c t
    | ⟨1, _⟩ => labelBlk W c t
    | ⟨2, _⟩ => prepBlock (scoreBlk W c t) (labelBlk W c t)
  Φ _ := Pipeline.scopedRest spec0 c
  q _ := fullShare
  owed _ := due (F := F) c 0
  recorded _ := waited (F := F) c 0

def prepData : Data F
  | ⟨0, _⟩ => fun c => prepDat W c
  | ⟨1, _⟩ => fun c => junkDat c

theorem prep_before0 (c : Dev nD) (t : Fin cfg0.N) (d : (cfg0.win 0).block.Idx → Elt F (cfg0.win 0).elt) : (prepDat W c).before 0 t d = scoreBlk W c t := by
  unfold Dat.before; rw [if_pos (fetch0_0 t)]; rfl

theorem prep_before1 (c : Dev nD) (t : Fin cfg0.N) (d : (cfg0.win 1).block.Idx → Elt F (cfg0.win 1).elt) : (prepDat W c).before 1 t d = labelBlk W c t := by
  unfold Dat.before; rw [if_pos (fetch0_1 t)]; rfl

theorem prep_post (c : Dev nD) (t : Fin cfg0.N) :
    iprop(owns (c : Thread nD τ) (st0_0 t) fullShare (scoreBlk W c t) ∗ owns (c : Thread nD τ) (st0_1 t) fullShare (labelBlk W c t)
        ∗ owns (c : Thread nD τ) (st0_2 t) fullShare (prepBlock (scoreBlk W c t) (labelBlk W c t)) ∗ Pipeline.scopedRest spec0 c ∗ (prepDat W c).owesAt none t.castSucc)
      ⊢ (iprop(Pipeline.scopedRest spec0 c ∗ (prepDat W c).owesAt none t.castSucc ∗ owns (c : Thread nD τ) (st0_0 t) fullShare ((prepDat W c).after 0 t)
        ∗ owns (c : Thread nD τ) (st0_1 t) fullShare ((prepDat W c).after 1 t) ∗ owns (c : Thread nD τ) (st0_2 t) fullShare ((prepDat W c).after 2 t)) : sProp 𝕄) := by
  iintro ⟨H0, H1, H2, HΦ, HO⟩
  isplitl [HΦ]; · iexact HΦ
  isplitl [HO]; · iexact HO
  isplitl [H0]; · iexact H0
  isplitl [H1]; · iexact H1
  iexact H2

theorem prep_body (c : Dev nD) : BodyObligation (prepDat W c) (defs₀ (F := F)) 𝒱₀ none Set.univ := fun t => by
  rw [bigSep_W0, bigSep_W0]
  rw [show (prepDat W c).Φ t.castSucc = Pipeline.scopedRest spec0 c from rfl, show (prepDat W c).Φ t.succ = Pipeline.scopedRest spec0 c from rfl,
    show (prepDat W c).owesAt none t.succ = (prepDat W c).owesAt none t.castSucc from rfl]
  iintro ⟨HΦ, Howes, ⟨%d0, H0⟩, ⟨%d1, H1⟩, ⟨%d2, H2⟩⟩
  rw [prep_before0, prep_before1]
  iapply (BIBase.Entails.trans (prep_ok c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (scoreBlk W c t) (labelBlk W c t) ((prepDat W c).before 2 t d2)
    iprop(Pipeline.scopedRest spec0 c ∗ (prepDat W c).owesAt none t.castSucc)) (wp_mono frame _ _ fun _ => prep_post W c t))
  isplitl [H0]; · iexact H0
  isplitl [H1]; · iexact H1
  isplitl [H2]; · iexact H2
  isplitl [HΦ]; · iexact HΦ
  iexact Howes

/-- Where an element of the block of scores around index `j` lies. -/
def scoreAt (j : S4x21x512x512.Idx) (y : S1x21x128x512.Idx) : S4x21x512x512.Idx
  | 0 => ⟨(j 0).val, (j 0).isLt⟩
  | 1 => ⟨(y 1).val, (y 1).isLt⟩
  | 2 => ⟨(j 2).val / 128 * 128 + (y 2).val, by
      have h : (j 2).val < 512 := (j 2).isLt; have h' : (y 2).val < 128 := (y 2).isLt; show _ < 512; omega⟩
  | 3 => ⟨(y 3).val, (y 3).isLt⟩

/-- Where an element of the block of labels around index `j` lies. -/
def labelAt (j : S4x21x512x512.Idx) (y : S1x128x512.Idx) : S4x512x512.Idx
  | 0 => ⟨(j 0).val, (j 0).isLt⟩
  | 1 => ⟨(j 2).val / 128 * 128 + (y 1).val, by
      have h : (j 2).val < 512 := (j 2).isLt; have h' : (y 1).val < 128 := (y 1).isLt; show _ < 512; omega⟩
  | 2 => ⟨(y 2).val, (y 2).isLt⟩

/-- Where index `j` lies in its block. -/
def inBlk (j : S4x21x512x512.Idx) : S1x21x128x512.Idx
  | 0 => ⟨0, by decide⟩
  | 1 => ⟨(j 1).val, (j 1).isLt⟩
  | 2 => ⟨(j 2).val % 128, Nat.mod_lt _ (by decide)⟩
  | 3 => ⟨(j 3).val, (j 3).isLt⟩

/-- The array of word indices of scores `X0` and labels `X1`. -/
def idxArr (X0 : Vec F S4x21x512x512 .f32) (X1 : Vec F S4x512x512 .i32) : Vec F S4x21x512x512 .i32 := fun j =>
  prepBlock (fun y => X0 (scoreAt j y)) (fun y => X1 (labelAt j y)) (inBlk j)

theorem emb0_2 (t : Fin cfg0.N) (y : S1x21x128x512.Idx) (a : Fin 4) :
    ((show S4x21x512x512.Idx from ((cfg0.win 2).blk t).view.emb y) a).val = cc0_transform_2 (grid0.coords t) a * S1x21x128x512.size a + (y a).val :=
  Pipeline.Window.rect_emb_val (cfg0.win 2) t y a

theorem emb0_0 (t : Fin cfg0.N) (y : S1x21x128x512.Idx) (a : Fin 4) :
    ((show S4x21x512x512.Idx from ((cfg0.win 0).blk t).view.emb y) a).val = cc0_transform_0 (grid0.coords t) a * S1x21x128x512.size a + (y a).val :=
  Pipeline.Window.rect_emb_val (cfg0.win 0) t y a

theorem emb0_1 (t : Fin cfg0.N) (y : S1x128x512.Idx) (a : Fin 3) :
    ((show S4x512x512.Idx from ((cfg0.win 1).blk t).view.emb y) a).val = cc0_transform_1 (grid0.coords t) a * S1x128x512.size a + (y a).val :=
  Pipeline.Window.rect_emb_val (cfg0.win 1) t y a

theorem small_toNat (n : ℕ) (h : n < 4) : (BitVec.ofNat 32 n).toNat = n := by
  rw [BitVec.toNat_ofNat]; exact Nat.mod_eq_of_lt (by omega)

theorem scoreBlk_eq (c : Dev nD) (t : Fin cfg0.N) (j : S4x21x512x512.Idx) (j0 : (j 0).val = (grid0.coords t 0).val)
    (j2 : (j 2).val / 128 = (grid0.coords t 1).val) : scoreBlk W c t = fun y => W c main_arg0 (scoreAt j y) := by
  funext y
  refine congrArg (W c main_arg0) (funext fun a => Fin.ext ?_)
  refine (emb0_0 t y a).trans ?_
  have t0 : (BitVec.ofNat 32 (grid0.coords t 0).val).toNat = (grid0.coords t 0).val := small_toNat _ (grid0.coords t 0).isLt
  have t1 : (BitVec.ofNat 32 (grid0.coords t 1).val).toNat = (grid0.coords t 1).val := small_toNat _ (grid0.coords t 1).isLt
  match a with
  | 0 => have hy : (y 0).val < 1 := (y 0).isLt
         change (BitVec.ofNat 32 (grid0.coords t 0).val).toNat * 1 + _ = (j 0).val; rw [t0, j0]; omega
  | 1 => change 0 * 21 + _ = (y 1).val; omega
  | 2 => change (BitVec.ofNat 32 (grid0.coords t 1).val).toNat * 128 + (y 2).val = (j 2).val / 128 * 128 + (y 2).val; rw [t1, j2]
  | 3 => change 0 * 512 + _ = (y 3).val; omega

theorem labelBlk_eq (c : Dev nD) (t : Fin cfg0.N) (j : S4x21x512x512.Idx) (j0 : (j 0).val = (grid0.coords t 0).val)
    (j2 : (j 2).val / 128 = (grid0.coords t 1).val) : labelBlk W c t = fun y => W c main_arg1 (labelAt j y) := by
  funext y
  refine congrArg (W c main_arg1) (funext fun a => Fin.ext ?_)
  refine (emb0_1 t y a).trans ?_
  have t0 : (BitVec.ofNat 32 (grid0.coords t 0).val).toNat = (grid0.coords t 0).val := small_toNat _ (grid0.coords t 0).isLt
  have t1 : (BitVec.ofNat 32 (grid0.coords t 1).val).toNat = (grid0.coords t 1).val := small_toNat _ (grid0.coords t 1).isLt
  match a with
  | 0 => have hy : (y 0).val < 1 := (y 0).isLt
         change (BitVec.ofNat 32 (grid0.coords t 0).val).toNat * 1 + _ = (j 0).val; rw [t0, j0]; omega
  | 1 => change (BitVec.ofNat 32 (grid0.coords t 1).val).toNat * 128 + (y 1).val = (j 2).val / 128 * 128 + (y 1).val; rw [t1, j2]
  | 2 => change 0 * 512 + _ = (y 2).val; omega

theorem prep_blk (c : Dev nD) (t : Fin cfg0.N) (y : S1x21x128x512.Idx) (j : S4x21x512x512.Idx)
    (e : ∀ a, (j a).val = cc0_transform_2 (grid0.coords t) a * S1x21x128x512.size a + (y a).val) :
    prepBlock (scoreBlk W c t) (labelBlk W c t) y = idxArr (W c main_arg0) (W c main_arg1) j := by
  have t0 : (BitVec.ofNat 32 (grid0.coords t 0).val).toNat = (grid0.coords t 0).val := small_toNat _ (grid0.coords t 0).isLt
  have t1 : (BitVec.ofNat 32 (grid0.coords t 1).val).toNat = (grid0.coords t 1).val := small_toNat _ (grid0.coords t 1).isLt
  have y0 : (y 0).val < 1 := (y 0).isLt
  have y2 : (y 2).val < 128 := (y 2).isLt
  have j0 : (j 0).val = (BitVec.ofNat 32 (grid0.coords t 0).val).toNat * 1 + (y 0).val := e 0
  have j1 : (j 1).val = 0 * 21 + (y 1).val := e 1
  have j2 : (j 2).val = (BitVec.ofNat 32 (grid0.coords t 1).val).toNat * 128 + (y 2).val := e 2
  have j3 : (j 3).val = 0 * 512 + (y 3).val := e 3
  rw [t0] at j0
  rw [t1] at j2
  rw [scoreBlk_eq W c t j (by omega) (by omega), labelBlk_eq W c t j (by omega) (by omega)]
  unfold idxArr
  refine congrArg _ (funext fun a => Fin.ext ?_)
  match a with
  | 0 => change (y 0).val = 0; omega
  | 1 => change (y 1).val = (j 1).val; omega
  | 2 => change (y 2).val = (j 2).val % 128; omega
  | 3 => change (y 3).val = (j 3).val; omega

theorem prep_arr (c : Dev nD) : (prepDat W c).arrAt 2 cfg0.N = idxArr (W c main_arg0) (W c main_arg1) :=
  (prepDat W c).arrAt_eq_of_covers 2 _ (by decide +kernel) fun t _ y => prep_blk W c t y _ (emb0_2 t y)

theorem pre_emp (p : Fin 2) (c : Dev nD) : (BI.emp : sProp 𝕄) ⊢ Pipeline.prefHeld (pcfgs (F := F) p).pre c (fun _ => fullShare) (adm (F := F) p).1 := by
  unfold Pipeline.prefHeld
  match p with
  | 0 => rw [show (Finset.univ : Finset (Fin 0)) = ∅ from rfl, BI.bigSep_empty]
  | 1 => rw [show (Finset.univ : Finset (Fin 0)) = ∅ from rfl, BI.bigSep_empty]

end Cert.Proof
-- ==== Proof.Segs.lean ====
/-
  The two TensorCore kernels' regions.
-/
module

public import proofs.«01_k».proof.Proof.Prep
public import Idealize.ShloMosaic.Lib.Pipeline.ValueKit

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation BodyObligationLoose cellOf)

variable {F : FTy → Type} [FloatOps F]

local notation "𝕄" => MT nD τ sig (HIx 1) (Elt F) ℕ UU ℕ

variable (W W' : Conts F)

set_option maxHeartbeats 1000000 in
set_option backward.isDefEq.respectTransparency.types false in
/-- The preparing kernel's region, which leaves the buffers at `W'`. -/
def prepSeg (h0 : ∀ c, W' c main_v0 = idxArr (W c main_arg0) (W c main_arg1)) (hne : ∀ c b, b ≠ main_v0 → W' c b = W c b) :
    Pipeline.RegionSeg (pcfgs (F := F)) adm (prepData W) none defs₀ 𝒱₀ (K (F := F)).L (K (F := F)).lev 0 :=
  seg (prepData W) 0 0 W W' launch0.win launch0.block_pos launch0.arr_whole launch0.stage_whole
    (fun c => (prep_body W c).loose) (pre_emp 0) (fun c w => rfl) (fun c w => rfl) (fun c t => rfl) (fun c t => rfl) (fun c t => rfl)
    (fun c w => by
      fin_cases w
      · exact ((prepDat W c).arrAt_in 0 rfl _).trans (hne c main_arg0 (by decide)).symm
      · exact ((prepDat W c).arrAt_in 1 rfl _).trans (hne c main_arg1 (by decide)).symm
      · exact (prep_arr W c).trans (h0 c).symm)
    (fun c b hb => hne c b fun h => hb (h ▸ Finset.mem_image.mpr ⟨2, Finset.mem_univ _, rfl⟩))

/-- The sums of all tiles' histograms that the loss kernel reads. -/
abbrev histBlk (c : Dev nD) (t : Fin cfg2.N) : Vec F S32x42x128 .f32 := ((cfg2.win 0).blk t).view.read (Elt F) (W c main_v3)

/-- The proof data of the loss kernel, entered with the buffers at `W`. -/
def lossDat (c : Dev nD) : Dat τ (Elt F) (HIx 1) ℕ UU ℕ cfg2 c where
  A w := W c (Pipeline.arrRef spec2 w)
  after w t := match w with
    | ⟨0, _⟩ => histBlk W c t
    | ⟨1, _⟩ => k2_pay1 (histBlk W c t)
  Φ _ := Pipeline.scopedRest spec2 c
  q _ := fullShare
  owed _ := due (F := F) c 1
  recorded _ := waited (F := F) c 1

def lossData : Data F
  | ⟨0, _⟩ => fun c => junkDat c
  | ⟨1, _⟩ => fun c => lossDat W c

theorem loss_before0 (c : Dev nD) (t : Fin cfg2.N) (d : (cfg2.win 0).block.Idx → Elt F (cfg2.win 0).elt) : (lossDat W c).before 0 t d = histBlk W c t := by
  unfold Dat.before; rw [if_pos (fetch2_0 t)]; rfl

theorem loss_post (c : Dev nD) (t : Fin cfg2.N) :
    iprop(owns (c : Thread nD τ) (st2_0 t) fullShare (histBlk W c t) ∗ owns (c : Thread nD τ) (st2_1 t) fullShare (k2_pay1 (histBlk W c t))
        ∗ Pipeline.scopedRest spec2 c ∗ (lossDat W c).owesAt none t.castSucc)
      ⊢ (iprop(Pipeline.scopedRest spec2 c ∗ (lossDat W c).owesAt none t.castSucc ∗ owns (c : Thread nD τ) (st2_0 t) fullShare ((lossDat W c).after 0 t)
        ∗ owns (c : Thread nD τ) (st2_1 t) fullShare ((lossDat W c).after 1 t)) : sProp 𝕄) := by
  iintro ⟨H0, H1, HΦ, HO⟩
  isplitl [HΦ]; · iexact HΦ
  isplitl [HO]; · iexact HO
  isplitl [H0]; · iexact H0
  iexact H1

theorem loss_body (c : Dev nD) : BodyObligation (lossDat W c) (defs₀ (F := F)) 𝒱₀ none Set.univ := fun t => by
  rw [bigSep_W2, bigSep_W2]
  rw [show (lossDat W c).Φ t.castSucc = Pipeline.scopedRest spec2 c from rfl, show (lossDat W c).Φ t.succ = Pipeline.scopedRest spec2 c from rfl,
    show (lossDat W c).owesAt none t.succ = (lossDat W c).owesAt none t.castSucc from rfl]
  iintro ⟨HΦ, Howes, ⟨%d0, H0⟩, ⟨%d1, H1⟩⟩
  rw [loss_before0]
  iapply (BIBase.Entails.trans (loss_ok c (st2_0 t) (hstage2_0 0) (st2_1 t) (hstage2_1 0) (histBlk W c t) ((lossDat W c).before 1 t d1)
    iprop(Pipeline.scopedRest spec2 c ∗ (lossDat W c).owesAt none t.castSucc)) (wp_mono frame _ _ fun _ => loss_post W c t))
  isplitl [H0]; · iexact H0
  isplitl [H1]; · iexact H1
  isplitl [HΦ]; · iexact HΦ
  iexact Howes

theorem histBlk_eq (c : Dev nD) (t : Fin cfg2.N) : histBlk W c t = W c main_v3 := by
  funext y
  refine congrArg (W c main_v3) (funext fun a => Fin.ext ?_)
  refine Pipeline.Window.rect_emb_val_of_index_zero (cfg2.win 0) t a ?_ y
  obtain rfl := fin_N2 t
  revert a; decide +kernel

theorem emb2_1 (t : Fin cfg2.N) (y : S1x1.Idx) : (show S1x1.Idx from ((cfg2.win 1).blk t).view.emb y) = y := by
  funext a; apply Fin.ext
  refine Pipeline.Window.rect_emb_val_of_index_zero (cfg2.win 1) t a ?_ y
  obtain rfl := fin_N2 t
  revert a; decide +kernel

theorem loss_arr (c : Dev nD) : (lossDat W c).arrAt 1 cfg2.N = k2_pay1 (F := F) (W c main_v3) :=
  (lossDat W c).arrAt_eq_of_covers 1 _ (by decide +kernel) fun t _ y => by
    show k2_pay1 (histBlk W c t) y = k2_pay1 (F := F) (W c main_v3) (show S1x1.Idx from ((cfg2.win 1).blk t).view.emb y)
    rw [emb2_1, histBlk_eq]

set_option maxHeartbeats 1000000 in
set_option backward.isDefEq.respectTransparency.types false in
/-- The loss kernel's region, which leaves the buffers at `W'`. -/
def lossSeg (h0 : ∀ c, W' c main_v4 = k2_pay1 (F := F) (W c main_v3)) (hne : ∀ c b, b ≠ main_v4 → W' c b = W c b) :
    Pipeline.RegionSeg (pcfgs (F := F)) adm (lossData W) none defs₀ 𝒱₀ (K (F := F)).L (K (F := F)).lev 1 :=
  seg (lossData W) 1 1 W W' launch2.win launch2.block_pos launch2.arr_whole launch2.stage_whole
    (fun c => (loss_body W c).loose) (pre_emp 1) (fun c w => rfl) (fun c w => rfl) (fun c t => rfl) (fun c t => rfl) (fun c t => rfl)
    (fun c w => by
      fin_cases w
      · exact ((lossDat W c).arrAt_in 0 rfl _).trans (hne c main_v3 (by decide)).symm
      · exact (loss_arr W c).trans (h0 c).symm)
    (fun c b hb => hne c b fun h => hb (h ▸ Finset.mem_image.mpr ⟨1, Finset.mem_univ _, rfl⟩))

end Cert.Proof
-- ==== Proof.Ops.lean ====
/-
  The histogram kernel's program as a short list of steps: clear the histogram, start a copy, wait for a
  copy, count a chunk, fold a lane block.  One canonical trip serves the 84 counting loops, one canonical
  trip the 15 folding loops; each printed part of the kernel is the run of its list of steps.
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- What the kernel does, step by step. -/
inductive Op where
  /-- every word of the histogram is set to zero -/
  | zero
  /-- the copy of chunk `n` into its buffer is started -/
  | enq (n : Fin 84)
  /-- the copy of chunk `n` is waited for -/
  | wait (n : Fin 84)
  /-- chunk `n` is counted into the histogram -/
  | loop (n : Fin 84)
  /-- lane block `b` of the histogram is added to block 0 -/
  | fold (b : Fin 16)

/-- The number of the tile at grid point `i`. -/
def tileNo (i : grid1.Coords) : BitVec 32 := Scalar.addi (Scalar.muli (BitVec.ofNat 32 (i 1).val) 2#32) (BitVec.ofNat 32 (i 0).val)

/-- Where the tile's rows of chunk `n` start in the index array. -/
def chunkOff (n : Fin 84) (i : grid1.Coords) : Fin 4 → ℕ := ![n.val / 21, n.val % 21, (Scalar.muli (tileNo i) 16#32).toNat, 0]

theorem chunkOff_inb : ∀ (n : Fin 84) (i : grid1.Coords), ∀ a, chunkOff n i a + S1x1x16x512.size a ≤ S4x21x512x512.size a := by decide +kernel

/-- Where trip `k` reads row `r` of a chunk. -/
def rowOff (r : Fin 16) (k : Fin k1_t2_loop.trips) : Fin 2 → ℕ :=
  ![(Scalar.indexCast (BitVec.ofNat 32 r.val)).toNat, (Scalar.indexCast (Scalar.muli (Scf.iv 0#32 1#32 k) 16#32)).toNat]

theorem rowOff_inb : ∀ (r : Fin 16) (k : Fin k1_t2_loop.trips), ∀ a, rowOff r k a + S1x16.size a ≤ S16x512.size a := by decide +kernel

/-- Where trip `k` of folding block `b` reads the block. -/
def foldOff (b : Fin 16) (k : Fin k1_t86_loop.trips) : Fin 1 → ℕ :=
  ![(Scalar.indexCast (Scalar.addi (Scalar.muli (Scf.iv 0#32 1#32 k) 16#32) (BitVec.ofNat 32 (b.val * 5519)))).toNat]

theorem foldOff_inb : ∀ (b : Fin 16) (k : Fin k1_t86_loop.trips), ∀ a, foldOff b k a + S16.size a ≤ S88320.size a := by decide +kernel

section Prog

variable (i : grid1.Coords) (arg2 : Memref sig .scVector .hbm S4x21x512x512 .i32) (harg2 : arg2.IsWhole)
  (arg3 : Memref sig .scVector .hbm S32x5504 .f32) (harg3 : arg3.IsWhole) (arg4 : Memref sig .scVector .vmem S16x512 .i32) (harg4 : arg4.IsWhole)
  (arg5 : Memref sig .scVector .vmem S16x512 .i32) (harg5 : arg5.IsWhole) (arg6 : Memref sig .scVector .vmem S88320 .f32) (harg6 : arg6.IsWhole)
  (arg7 arg8 v777_r0 : DmaSems sig S_)

/-- A program of the tile at grid point `i`. -/
abbrev TileProg (F : FTy → Type) (i : grid1.Coords) (α : Type) : Type 1 :=
  Prog (TpuEff nD τ sig (Elt F) Λ₀ (.scVector ((i 0).castLE hcore1) ((i 1).castLE hsub1))) α

/-- The words of a row that trip `k` reads, all of them naming an element of the histogram. -/
abbrev Row (F : FTy → Type) : Type := {v : Vec F S16 .i32 // k1_chk1 v}

/-- Reading the sixteen words of row `r` that trip `k` counts. -/
def readRow (B : Memref sig .scVector .vmem S16x512 .i32) (k : Fin k1_t2_loop.trips) (r : Fin 16) : TileProg F i (Row F) :=
  .op (.load B (Rect.unit (s := S16x512) (rowOff r k) S1x16.size (rowOff_inb r k)).toLoadRect (View.loadsAt_vmem h_S1x16)) fun ld =>
    .op (TpuEff.assume (k1_chk1 (shapeCast S16 ld shapeCasts_S1x16_S16)) (k1_chk1.dec _)) fun h =>
      .ret ⟨shapeCast S16 ld shapeCasts_S1x16_S16, h.down⟩

/-- Adding one at the elements that each row of `vs` names. -/
def bumpRows (v4 : FVec F S16 .f32) : List (Row F) → TileProg F i Unit
  | [] => pure ⟨⟩
  | v :: vs => SparseCore.vectorStoreIdx arg6 ![v.1] v4 (fun _ => 1#1) true (k1_idx1_inb v.1 v.2) (View.stores_vmem_bits_univ h_S88320 rfl) >>= fun _ =>
      bumpRows v4 vs

/-- Reading the rows `rs`, then counting them after the rows `vs` read before. -/
def readRows (B : Memref sig .scVector .vmem S16x512 .i32) (v4 : FVec F S16 .f32) (k : Fin k1_t2_loop.trips) : List (Fin 16) → List (Row F) → TileProg F i Unit
  | [], vs => bumpRows i arg6 v4 vs
  | r :: rs, vs => readRow i B k r >>= fun v => readRows B v4 k rs (vs ++ [v])

/-- The rows of a chunk, in the order they are read. -/
abbrev rows : List (Fin 16) := [0, 1, 2, 3, 4, 5, 6, 7, 8, 9, 10, 11, 12, 13, 14, 15]

/-- Trip `k` of counting the chunk in buffer `B`. -/
def trip (B : Memref sig .scVector .vmem S16x512 .i32) (v4 : FVec F S16 .f32) (k : Fin k1_t2_loop.trips) (_ : Unit) : TileProg F i Unit :=
  readRows i arg6 B v4 k rows []

/-- Trip `k` of folding lane block `b`. -/
def foldTrip (b : Fin 16) (k : Fin k1_t86_loop.trips) (_ : Unit) : TileProg F i Unit :=
  .op (.load arg6 (Rect.unit (s := S88320) (k1_off1430 k) S16.size (k1_off1430_inb k)).toLoadRect (View.loadsAt_vmem h_S16)) fun x =>
    .op (.load arg6 (Rect.unit (s := S88320) (foldOff b k) S16.size (foldOff_inb b k)).toLoadRect (View.loadsAt_vmem h_S16)) fun y =>
      .op (.load arg6 (Rect.unit (s := S88320) (k1_off1430 k) S16.size (k1_off1430_inb k)).toLoadRect (View.loadsAt_vmem h_S16)) fun _ =>
        .op (.store arg6 (Rect.unit (s := S88320) (k1_off1430 k) S16.size (k1_off1430_inb k)) (k1_pay87 x y) Finset.univ
          (View.stores_vmem_bits_univ h_S16 rfl) (.inl rfl)) fun _ => .ret ⟨⟩

/-- Chunk `n` of the index array, as the copy names it. -/
def chunk (n : Fin 84) : Memref sig .scVector .hbm S16x512 .i32 :=
  (arg2.slice (Rect.unit (s := S4x21x512x512) (chunkOff n i) S1x1x16x512.size (chunkOff_inb n i)) (fun _ => rfl)).squeeze S16x512
    squeezes_S1x1x16x512_S16x512

/-- Starting the copy of chunk `n` into `B`. -/
def enqChunk (B : Memref sig .scVector .vmem S16x512 .i32) (hB : B.IsWhole) (sem : DmaSems sig S_) (n : Fin 84) : TileProg F i PUnit :=
  Prog.lift (.enqueueDma (chunk i arg2 n) (.here B) (.dma sem.sem) ((View.wordExact_bits rfl).reshape _ _) hB.wordExact ⟨Or.inl rfl, trivial⟩)

/-- Waiting for the copy of chunk `n` into `B`. -/
def waitChunk (B : Memref sig .scVector .vmem S16x512 .i32) (hB : B.IsWhole) (sem : DmaSems sig S_) (n : Fin 84) : TileProg F i PUnit :=
  Prog.lift (.waitDma2 sem.sem (chunk i arg2 n) B ((View.wordExact_bits rfl).reshape _ _) hB.wordExact)

/-- One step's program. -/
def step (v4 : FVec F S16 .f32) : Op → TileProg F i Unit
  | .zero => Scf.Loop.for k1_t1_loop k1_t1_ok ⟨⟩ (k1_t1_body i arg2 harg2 arg3 harg3 arg4 harg4 arg5 harg5 arg6 harg6 arg7 arg8 v777_r0)
  | .enq n => match n.val % 2 with
    | 0 => enqChunk i arg2 arg4 harg4 arg7 n
    | _ => enqChunk i arg2 arg5 harg5 arg8 n
  | .wait n => match n.val % 2 with
    | 0 => waitChunk i arg2 arg4 harg4 arg7 n
    | _ => waitChunk i arg2 arg5 harg5 arg8 n
  | .loop n => match n.val % 2 with
    | 0 => Scf.Loop.for k1_t2_loop k1_t2_ok ⟨⟩ (trip i arg6 arg4 v4)
    | _ => Scf.Loop.for k1_t2_loop k1_t2_ok ⟨⟩ (trip i arg6 arg5 v4)
  | .fold b => Scf.Loop.for k1_t86_loop k1_t86_ok ⟨⟩ (foldTrip i arg6 b)

/-- The steps of a list in turn, then `p`. -/
def run {α : Type} (v4 : FVec F S16 .f32) : List Op → TileProg F i α → TileProg F i α
  | [], p => p
  | o :: os, p => step i arg2 harg2 arg3 harg3 arg4 harg4 arg5 harg5 arg6 harg6 arg7 arg8 v777_r0 v4 o >>= fun _ => run v4 os p

theorem run_bind {α β : Type} (v4 : FVec F S16 .f32) (os : List Op) (p : TileProg F i α) (k : α → TileProg F i β) :
    (run i arg2 harg2 arg3 harg3 arg4 harg4 arg5 harg5 arg6 harg6 arg7 arg8 v777_r0 v4 os p >>= k)
      = run i arg2 harg2 arg3 harg3 arg4 harg4 arg5 harg5 arg6 harg6 arg7 arg8 v777_r0 v4 os (p >>= k) := by
  induction os with
  | nil => rfl
  | cons o os ih => simp only [run, Prog.bind_assoc, ih]

theorem run_run {α : Type} (v4 : FVec F S16 .f32) (os os' : List Op) (p : TileProg F i α) :
    run i arg2 harg2 arg3 harg3 arg4 harg4 arg5 harg5 arg6 harg6 arg7 arg8 v777_r0 v4 os
        (run i arg2 harg2 arg3 harg3 arg4 harg4 arg5 harg5 arg6 harg6 arg7 arg8 v777_r0 v4 os' p)
      = run i arg2 harg2 arg3 harg3 arg4 harg4 arg5 harg5 arg6 harg6 arg7 arg8 v777_r0 v4 (os ++ os') p := by
  induction os with
  | nil => rfl
  | cons o os ih => simp only [run, List.cons_append, ih]

end Prog

end Cert.Proof
-- ==== Proof.Values.lean ====
/-
  What a tile of the histogram kernel computes, over any float values: the histogram after each step as a
  function of the index array.
-/
module

public import proofs.«01_k».proof.Proof.Ops

@[expose] public section

noncomputable section

namespace Cert.Proof

open Cert.KernelIdeal Cert.KernelIdeal.Gen
open Idealize.ShloMosaic

variable {F : FTy → Type} [FloatOps F]

/-- A histogram's contents. -/
abbrev Hist (F : FTy → Type) : Type := Vec F S88320 .f32

/-- The float one. -/
def one : F .f32 := Scalar.ofBits .f32 0x3F800000#32

/-- One more at element `t`. -/
def bump (f : Hist F) (t : ℕ) : Hist F := fun j => if (j 0).val = t then Elt.idxAdd .f32 (f j) (one (F := F)) else f j

/-- The sixteen elements that `v` names each get one more, lane after lane. -/
def countRow (f : Hist F) (v : Vec F S16 .i32) : Hist F :=
  (List.finRange 16).foldl (fun g l => bump g (v (Shape.ofLane (d := S16.size) l)).toNat) f

/-- The indexed store of ones, added, counts the row. -/
theorem storeIdx_eq (f : Hist F) (v : Vec F S16 .i32) (h : ∀ a x, ((![v] : Fin 1 → IVec S16 32) a x).toNat < S88320.size a) :
    storeIdx f ![v] (k1_pay86 (F := F)) (fun _ => 1#1) true h = countRow f v := by
  unfold storeIdx countRow
  show List.foldl _ f (List.finRange 16) = _
  congr 1
  funext g l j
  have h1 : ∀ a, ((idxAt (s := S88320) ![v] h (Shape.ofLane (d := S16.size) l)) a).val = (v (Shape.ofLane (d := S16.size) l)).toNat := by
    intro a; obtain rfl : a = 0 := Subsingleton.elim _ _; rfl
  by_cases e : (j 0).val = (v (Shape.ofLane (d := S16.size) l)).toNat
  · have hj : idxAt (s := S88320) ![v] h (Shape.ofLane (d := S16.size) l) = j := by
      funext a; apply Fin.ext; rw [h1 a]; obtain rfl : a = 0 := Subsingleton.elim _ _; exact e.symm
    have hb : bump g (v (Shape.ofLane (d := S16.size) l)).toNat j = Elt.idxAdd .f32 (g j) (one (F := F)) := if_pos e
    rw [hb]
    refine Eq.trans (if_pos (c := ∀ a, (j a).val = (idxAt (s := S88320) ![v] h (Shape.ofLane (d := S16.size) l) a).val) (fun a => by rw [hj])) ?_
    rw [hj]; rfl
  · have hb : bump g (v (Shape.ofLane (d := S16.size) l)).toNat j = g j := if_neg e
    rw [hb]
    exact if_neg (c := ∀ a, (j a).val = (idxAt (s := S88320) ![v] h (Shape.ofLane (d := S16.size) l) a).val) (fun hh => e ((hh 0).trans (h1 0)))

/-- The words of row `r` of a chunk that trip `k` counts. -/
def rowOf (B : Vec F S16x512 .i32) (k : Fin k1_t2_loop.trips) (r : Fin 16) : Vec F S16 .i32 :=
  shapeCast S16 (fun x => B ((Rect.unit (s := S16x512) (rowOff r k) S1x16.size (rowOff_inb r k)).toLoadRect.idx x)) shapeCasts_S1x16_S16

/-- The histogram after trip `k` over a chunk. -/
def tripHist (B : Vec F S16x512 .i32) (k : Fin k1_t2_loop.trips) (f : Hist F) : Hist F :=
  rows.foldl (fun g r => countRow g (rowOf B k r)) f

/-- The histogram after `n` trips over a chunk. -/
def tripsHist (B : Vec F S16x512 .i32) (f : Hist F) : ℕ → Hist F
  | 0 => f
  | n + 1 => if h : n < k1_t2_loop.trips then tripHist B ⟨n, h⟩ (tripsHist B f n) else tripsHist B f n

/-- Chunk `n` of the tile at `i`, of the index array `G`. -/
def chunkVals (i : grid1.Coords) (G : Vec F S4x21x512x512 .i32) (n : Fin 84) : Vec F S16x512 .i32 :=
  (chunk i (Memref.whole main_v0_scv) n).view.read (Elt F) G

/-- The histogram after the first `n` chunks. -/
def chunksHist (i : grid1.Coords) (G : Vec F S4x21x512x512 .i32) : ℕ → Hist F
  | 0 => fun _ => Scalar.ofBits .f32 0x00000000#32
  | n + 1 => if h : n < 84 then tripsHist (chunkVals i G ⟨n, h⟩) (chunksHist i G n) k1_t2_loop.trips else chunksHist i G n

/-- The sixteen elements of the histogram that start at `o`. -/
def lanes (f : Hist F) (o : Fin 1 → ℕ) (h : ∀ a, o a + S16.size a ≤ S88320.size a) : Vec F S16 .f32 :=
  fun x => f ((Rect.unit (s := S88320) o S16.size h).toLoadRect.idx x)

/-- The histogram after trip `k` of folding lane block `b`. -/
def foldHist (b : Fin 16) (k : Fin k1_t86_loop.trips) (f : Hist F) : Hist F :=
  ((Memref.whole cc1_scratch2 : Memref sig .scVector .vmem S88320 .f32).access (Rect.unit (s := S88320) (k1_off1430 k) S16.size (k1_off1430_inb k))).write (Elt F) f
    (k1_pay87 (lanes f (k1_off1430 k) (k1_off1430_inb k)) (lanes f (foldOff b k) (foldOff_inb b k))) Finset.univ

/-- The histogram after `n` trips of folding lane block `b`. -/
def foldsHist (b : Fin 16) (f : Hist F) : ℕ → Hist F
  | 0 => f
  | n + 1 => if h : n < k1_t86_loop.trips then foldHist b ⟨n, h⟩ (foldsHist b f n) else foldsHist b f n

/-- The histogram after lane blocks 1 to `n` have been folded. -/
def blocksHist (i : grid1.Coords) (G : Vec F S4x21x512x512 .i32) : ℕ → Hist F
  | 0 => chunksHist i G 84
  | n + 1 => if h : n + 1 < 16 then foldsHist ⟨n + 1, h⟩ (blocksHist i G n) k1_t86_loop.trips else blocksHist i G n

/-- The histogram after `n` steps of counting and folding. -/
def histAt (i : grid1.Coords) (G : Vec F S4x21x512x512 .i32) (n : ℕ) : Hist F :=
  if n ≤ 84 then chunksHist i G n else blocksHist i G (n - 84)

theorem histAt_zero (i : grid1.Coords) (G : Vec F S4x21x512x512 .i32) : histAt i G 0 = fun _ => Scalar.ofBits .f32 0x00000000#32 := rfl

theorem histAt_chunk (i : grid1.Coords) (G : Vec F S4x21x512x512 .i32) (n : Fin 84) :
    histAt i G (n.val + 1) = tripsHist (chunkVals i G n) (histAt i G n.val) k1_t2_loop.trips := by
  unfold histAt
  rw [if_pos (by omega), if_pos (by omega), chunksHist, dif_pos n.isLt]

theorem histAt_fold (i : grid1.Coords) (G : Vec F S4x21x512x512 .i32) (b : ℕ) (h : b + 1 < 16) :
    histAt i G (84 + (b + 1)) = foldsHist ⟨b + 1, h⟩ (histAt i G (84 + b)) k1_t86_loop.trips := by
  have e : histAt i G (84 + b) = blocksHist i G b := by
    unfold histAt
    by_cases hb : b = 0
    · subst hb; rfl
    · rw [if_neg (by omega), Nat.add_sub_cancel_left]
  rw [e]; unfold histAt
  rw [if_neg (by omega), Nat.add_sub_cancel_left, blocksHist, dif_pos h]

end Cert.Proof
-- ==== Proof.Tile.lean ====
/-
  One tile of the histogram kernel, run once at a symbolic tile: what each step takes and leaves, with the
  values carried.
-/
module

public import proofs.«01_k».proof.Proof.Setup
public import proofs.«01_k».proof.Proof.Values

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The index array, the array of histograms and the tile's histogram, as the tile names them. -/
abbrev gV : Memref sig .scVector .hbm S4x21x512x512 .i32 := Memref.whole main_v0_scv
abbrev oV : Memref sig .scVector .hbm S32x5504 .f32 := Memref.whole main_v1_scv
abbrev hV : Memref sig .scVector .vmem S88320 .f32 := Memref.whole cc1_scratch2

section Tile

variable (d : Dev nD) (i : grid1.Coords) (G : Vec F S4x21x512x512 .i32)

/-- The tile's thread. -/
abbrev thr : Thread nD τ := V d ((i 0).castLE hcore1) ((i 1).castLE hsub1)

/-- The whole index array at a share, as the tile addresses it. -/
abbrev gPts (q : PosShare TreeShare) : sProp 𝕄 := (gV).view.loc (thr d i) ↦{q} G

/-- The elements of the index array that chunk `n` names, at a share. -/
abbrev chunkPts (n : Fin 84) (q : PosShare TreeShare) : sProp 𝕄 :=
  (chunk i gV n).view.loc (thr d i) ↦[(chunk i gV n).view.set]{q} G

/-- The index array is a chunk of it and the rest. -/
theorem gPts_split (n : Fin 84) (q : PosShare TreeShare) :
    gPts d i G q ⊣⊢ iprop(chunkPts d i G n q ∗ (gV).view.loc (thr d i) ↦[Finset.univ \ (chunk i gV n).view.set]{q} G) :=
  pointsTo_split_subset (Finset.subset_univ _)

/-- What a chunk buffer is doing: nothing, receiving a chunk, or holding it. -/
inductive Slot where
  | idle
  | flight (n : Fin 84)
  | full (n : Fin 84)
  deriving DecidableEq

variable (M : Memref sig .scVector .vmem S16x512 .i32) (sem : DmaSems sig S_) (q : PosShare TreeShare)

/-- A buffer that reads as `B`. -/
def bufPts (B : Vec F S16x512 .i32) : sProp 𝕄 :=
  iprop(∃ f, ⌜M.view.read (Elt F) f = B⌝ ∗ M.view.loc (thr d i) ↦[M.view.set]{fullShare} f)

/-- A chunk buffer, its semaphore and its share of the index array, in each state. -/
def bufRes : Slot → sProp 𝕄
  | .idle => iprop((∃ f, M.view.loc (thr d i) ↦[M.view.set]{fullShare} f) ∗ semVal (thr d i, .dma sem.sem) 0 ∗ gPts d i G q)
  | .flight n => iprop((∃ fd, Flight EC (thr d i) (.dma sem.sem) none M.view.dmaCredit
      iprop((M.view.loc (thr d i) ↦[M.view.set]{fullShare} M.view.write (Elt F) fd (chunkVals i G n) Finset.univ) ∗ chunkPts d i G n q))
      ∗ (gV).view.loc (thr d i) ↦[Finset.univ \ (chunk i gV n).view.set]{q} G)
  | .full n => iprop(bufPts d i M (chunkVals i G n) ∗ semVal (thr d i, .dma sem.sem) 0 ∗ gPts d i G q)

/-- A tile's weakest precondition. -/
abbrev twp {α : Type} (p : TileProg F i α) (Q : α → sProp 𝕄) : sProp 𝕄 :=
  wp frame (wpE (defs₀ (F := F)) 𝒱₀ (thr d i) none) Set.univ p Q

/-- A buffer that is not receiving can start to receive. -/
theorem enq_idle (n : Fin 84) (hM : M.IsWhole) (R : sProp 𝕄) :
    iprop(bufRes d i G M sem q .idle ∗ R) ⊢ twp d i (enqChunk (F := F) i gV M hM sem n) fun _ => iprop(bufRes d i G M sem q (.flight n) ∗ R) := by
  unfold bufRes enqChunk twp
  iintro ⟨⟨⟨%fd, Hd⟩, Hsem, Hg⟩, HR⟩
  ihave Hg' := (gPts_split d i G n q).1 $$ Hg
  icases Hg' with ⟨Hc, Hrest⟩
  iapply (wp_dmaLocal EC 𝒱₀ (thr d i) none (src := chunk i gV n) (dst := M) (sm := .dma sem.sem) (q := q) (fs := G) (fd := fd) (Sd := M.view.set)
    none M.view.dmaCredit rfl (View.dmaCredit_pos _ (by decide)) (Finset.Subset.refl _)) $$ [Hc Hd Hsem]
  · isplitl [Hc]; · iexact Hc
    isplitl [Hd]; · iexact Hd
    iexact Hsem
  iintro HF
  rw [wp_ret]; imodintro
  isplitr [HR]
  · isplitl [HF]
    · iexists fd; iexact HF
    · iexact Hrest
  · iexact HR

theorem bufRes_full_idle (n : Fin 84) : bufRes d i G M sem q (.full n) ⊢ bufRes d i G M sem q .idle := by
  unfold bufRes bufPts
  iintro ⟨⟨%f, %hf, Hf⟩, Hs, Hg⟩
  isplitl [Hf]
  · iexists f; iexact Hf
  isplitl [Hs]; · iexact Hs
  iexact Hg

/-- What the tile owes, the pairs it has waited at since `W` being its own. -/
def owing (O : CellTallies nD τ sig (HIx 1)) (W : Waits sig (HIx 1)) : sProp 𝕄 :=
  iprop(∃ W', ⌜∀ p ∈ W', p ∈ W ∨ p.2 = none⌝ ∗ owes (thr d i) O W')

/-- Waiting for a chunk leaves the buffer holding it. -/
theorem wait_ok (n : Fin 84) (hM : M.IsWhole) (O : CellTallies nD τ sig (HIx 1)) (W : Waits sig (HIx 1)) (R : sProp 𝕄) :
    iprop(bufRes d i G M sem q (.flight n) ∗ MayWaits (thr d i) none O ∗ owing d i O W ∗ R)
      ⊢ twp d i (waitChunk (F := F) i gV M hM sem n) fun _ => iprop(bufRes d i G M sem q (.full n) ∗ owing d i O W ∗ R) := by
  unfold bufRes waitChunk twp owing
  iintro ⟨⟨⟨%fd, HF⟩, Hrest⟩, #Hmw, ⟨%W', %hW', HO⟩, HR⟩
  iapply (wp_waitLocalO EC 𝒱₀ (thr d i) none none (sem := sem.sem) (srcw := chunk i gV n) (dstw := M) (N := M.view.dmaCredit) rfl (O := O) (W := W')) $$ [HF HO]
  · isplitl [HF]; · iexact HF
    isplitl [HO]; · iexact HO
    iapply (MayWaits.elim (SemLoc.dma sem.sem)); iexact Hmw
  iintro ⟨⟨Hd, Hc⟩, Hsem, HO⟩
  rw [wp_ret]; imodintro
  isplitl [Hd Hc Hrest Hsem]
  · isplitl [Hd]
    · unfold bufPts
      iexists _; isplitr
      · ipureintro; exact View.read_write_univ fd (chunkVals i G n)
      iexact Hd
    isplitl [Hsem]; · iexact Hsem
    iapply (gPts_split d i G n q).2
    isplitl [Hc]; · iexact Hc
    iexact Hrest
  isplitl [HO]
  · iexists _; isplitr
    rotate_left
    · iexact HO
    · ipureintro; intro p hp
      rcases Finset.mem_insert.mp hp with rfl | hp
      · exact .inr rfl
      · exact hW' p hp
  · iexact HR

/-- The tile's histogram. -/
abbrev hPts (f : Hist F) : sProp 𝕄 := (hV).view.loc (thr d i) ↦{fullShare} f

theorem hPts_access (f : Hist F) :
    (((hV).access (.whole S88320)).loc (thr d i) ↦[((hV).access (.whole S88320)).set]{fullShare} f : sProp 𝕄) = hPts d i f := by
  rw [show ((hV).access (.whole S88320)).set = Finset.univ from Memref.set_access_whole (cc1_scratch2 : Ref sig .scVector)]

theorem hV_read (f : Hist F) : ((hV).access (.whole S88320)).read (Elt F) f = f := by
  funext x
  show f ((Rect.whole S88320).toLoadRect.idx x) = f x
  congr 1; funext a; apply Fin.ext
  rw [LoadRect.idx_apply]; simp [Rect.whole, Rect.unit]

theorem hV_write (f w : Hist F) : ((hV).access (.whole S88320)).write (Elt F) f w Finset.univ = w := by
  rw [← hV_read (F := F) (((hV).access (.whole S88320)).write (Elt F) f w Finset.univ)]
  exact View.read_write_univ _ _

/-- Counting the rows `vs`. -/
theorem bumpRows_ok (vs : List (Row F)) (g : Hist F) (R : sProp 𝕄) :
    iprop(hPts d i g ∗ R) ⊢ twp d i (bumpRows i hV (k1_pay86 (F := F)) vs) fun _ => iprop(hPts d i ((vs.map Subtype.val).foldl countRow g) ∗ R) := by
  induction vs generalizing g with
  | nil =>
    unfold bumpRows twp
    rw [Prog.pure_eq_ret, wp_ret]
    iintro H; imodintro; iexact H
  | cons v vs ih =>
    unfold bumpRows twp
    iintro ⟨Hh, HR⟩
    ihave Hh' := (Entails.of_eq (hPts_access d i g).symm) $$ Hh
    iapply (SparseCore.wp_vectorStoreIdx 𝒱₀ (thr d i) none Set.univ (base := hV)) $$ Hh'
    iintro Hh'
    rw [hV_read, hV_write, storeIdx_eq]
    ihave Hh := (Entails.of_eq (hPts_access d i (countRow g v.1))) $$ Hh'
    iapply (ih (countRow g v.1))
    isplitl [Hh]; · iexact Hh
    iexact HR

/-- Reading the rows `rs` of trip `k` and counting them after the rows `vs`. -/
theorem readRows_ok (B : Vec F S16x512 .i32) (hB : ∀ p, (B p).toNat < 88320) (k : Fin k1_t2_loop.trips) (rs : List (Fin 16)) (vs : List (Row F)) (g : Hist F) (R : sProp 𝕄) :
    iprop(bufPts d i M B ∗ hPts d i g ∗ R) ⊢ twp d i (readRows i hV M (k1_pay86 (F := F)) k rs vs)
      fun _ => iprop(bufPts d i M B ∗ hPts d i ((vs.map Subtype.val ++ rs.map (rowOf B k)).foldl countRow g) ∗ R) := by
  induction rs generalizing vs with
  | nil =>
    unfold readRows
    rw [List.map_nil, List.append_nil]
    iintro ⟨HB, Hh, HR⟩
    iapply (wp_mono frame _ _ fun _ => (show iprop(hPts d i ((vs.map Subtype.val).foldl countRow g) ∗ (bufPts d i M B ∗ R)) ⊢ _ from ?_))
    rotate_left
    · iapply (bumpRows_ok d i vs g iprop(bufPts d i M B ∗ R))
      isplitl [Hh]; · iexact Hh
      isplitl [HB]; · iexact HB
      iexact HR
    iintro ⟨Hh, HB, HR⟩
    isplitl [HB]; · iexact HB
    isplitl [Hh]; · iexact Hh
    iexact HR
  | cons r rs ih =>
    unfold readRows readRow twp bufPts
    simp only [Prog.bind_op, Prog.bind_ret]
    iintro ⟨⟨%f, %hf, Hf⟩, Hh, HR⟩
    iapply (wp_load 𝒱₀ (thr d i) none Set.univ (m := M) (S := M.view.set) (View.setOn_subset_set _ _)) $$ Hf
    iintro Hf
    have hr : shapeCast S16 (M.view.readAt (Elt F) (Rect.unit (s := S16x512) (rowOff r k) S1x16.size (rowOff_inb r k)).toLoadRect f) shapeCasts_S1x16_S16 = rowOf B k r := by
      subst hf; rfl
    have hc : k1_chk1 (shapeCast S16 (M.view.readAt (Elt F) (Rect.unit (s := S16x512) (rowOff r k) S1x16.size (rowOff_inb r k)).toLoadRect f) shapeCasts_S1x16_S16) := by
      rw [hr]
      intro a x
      obtain rfl : a = 0 := Subsingleton.elim _ _
      exact hB _
    iapply (wp_assume 𝒱₀ (thr d i) none Set.univ hc)
    iapply (wp_mono frame _ _ fun _ => (show iprop(bufPts d i M B ∗ hPts d i (((vs ++ [(⟨_, hc⟩ : Row F)]).map Subtype.val ++ rs.map (rowOf B k)).foldl countRow g) ∗ R) ⊢ _ from ?_))
    rotate_left
    · iapply (ih (vs ++ [(⟨_, hc⟩ : Row F)]))
      isplitl [Hf]
      · unfold bufPts; iexists f; isplitr
        · ipureintro; exact hf
        iexact Hf
      isplitl [Hh]; · iexact Hh
      iexact HR
    have hl : (vs ++ [(⟨_, hc⟩ : Row F)]).map Subtype.val = vs.map Subtype.val ++ [rowOf B k r] := by
      rw [List.map_append]
      exact congrArg (fun z => vs.map Subtype.val ++ [z]) hr
    rw [hl, List.append_assoc]
    exact Entails.rfl

theorem tripsHist_succ (B : Vec F S16x512 .i32) (g : Hist F) (k : Fin k1_t2_loop.trips) :
    tripsHist B g (k.val + 1) = tripHist B k (tripsHist B g k.val) := by
  rw [tripsHist, dif_pos k.isLt]

/-- A loop keeps what each of its trips carries on. -/
theorem forLoop (L : Scf.Loop 32) (hL : L.OK) (body : Fin L.trips → Unit → TileProg F i Unit) (I : ℕ → sProp 𝕄)
    (step : ∀ (k : Fin L.trips) (acc : Unit), I k.val ⊢ twp d i (body k acc) fun _ => I (k.val + 1)) :
    I 0 ⊢ twp d i (Scf.Loop.for L hL ⟨⟩ body) fun _ => I L.trips := by
  refine BIBase.Entails.trans ?_ (Scf.wp_for frame (wpE (defs₀ (F := F)) 𝒱₀ (thr d i) none) Set.univ L.lb L.ub L.st hL ⟨⟩ body (fun n _ => I n) step)
  iintro H
  isplitl [H]; · iexact H
  iintro %acc H; iexact H

/-- Counting a chunk. -/
theorem loop_ok (B : Vec F S16x512 .i32) (hB : ∀ p, (B p).toNat < 88320) (g : Hist F) (R : sProp 𝕄) :
    iprop(bufPts d i M B ∗ hPts d i g ∗ R) ⊢ twp d i (Scf.Loop.for k1_t2_loop k1_t2_ok ⟨⟩ (trip i hV M (k1_pay86 (F := F))))
      fun _ => iprop(bufPts d i M B ∗ hPts d i (tripsHist B g k1_t2_loop.trips) ∗ R) := by
  have step : ∀ (k : Fin k1_t2_loop.trips) (acc : Unit), iprop(bufPts d i M B ∗ hPts d i (tripsHist B g k.val) ∗ R)
      ⊢ twp d i (trip i hV M (k1_pay86 (F := F)) k acc) fun _ => iprop(bufPts d i M B ∗ hPts d i (tripsHist B g (k.val + 1)) ∗ R) := by
    intro k acc
    have e : tripsHist B g (k.val + 1) = ((List.nil : List (Row F)).map Subtype.val ++ rows.map (rowOf B k)).foldl countRow (tripsHist B g k.val) := by
      rw [tripsHist_succ, List.map_nil, List.nil_append, List.foldl_map, tripHist]
    rw [e]
    exact readRows_ok d i M B hB k rows [] (tripsHist B g k.val) R
  exact forLoop d i k1_t2_loop k1_t2_ok (trip i hV M (k1_pay86 (F := F))) (fun n => iprop(bufPts d i M B ∗ hPts d i (tripsHist B g n) ∗ R)) step

/-- The elements of the histogram that start at `o`, as a loop addresses them. -/
theorem hPts_load (f : Hist F) (o : Fin 1 → ℕ) (h : ∀ a, o a + S16.size a ≤ S88320.size a) {α : Type}
    (hl) (k : Vec F S16 .f32 → TileProg F i α) (Q : α → sProp 𝕄) :
    hPts d i f ⊢ iprop((hPts d i f -∗ twp d i (k (lanes f o h)) Q)
      -∗ twp d i (.op (.load hV (Rect.unit (s := S88320) o S16.size h).toLoadRect hl) k) Q) := by
  iintro H Hk
  iapply (wp_load 𝒱₀ (thr d i) none Set.univ (m := hV) (S := Finset.univ) (Finset.subset_univ _)) $$ H
  iexact Hk

/-- A store of sixteen elements of the histogram that start at `o`. -/
def hStore (f : Hist F) (o : Fin 1 → ℕ) (h : ∀ a, o a + S16.size a ≤ S88320.size a) (w : Vec F S16 .f32) : Hist F :=
  ((hV).access (Rect.unit (s := S88320) o S16.size h)).write (Elt F) f w Finset.univ

theorem hPts_store (f : Hist F) (o : Fin 1 → ℕ) (h : ∀ a, o a + S16.size a ≤ S88320.size a) (w : Vec F S16 .f32) {α : Type}
    (hs hm) (k : Unit → TileProg F i α) (Q : α → sProp 𝕄) :
    hPts d i f ⊢ iprop((hPts d i (hStore f o h w) -∗ twp d i (k ⟨⟩) Q)
      -∗ twp d i (.op (.store hV (Rect.unit (s := S88320) o S16.size h) w Finset.univ hs hm) k) Q) := by
  iintro H Hk
  iapply (wp_store 𝒱₀ (thr d i) none Set.univ (m := hV) (r := Rect.unit (s := S88320) o S16.size h) (w := w) (Mk := Finset.univ) (f := f) (S := Finset.univ) (Finset.subset_univ _)) $$ H
  iexact Hk

/-- Folding a lane block. -/
theorem fold_ok (b : Fin 16) (g : Hist F) (R : sProp 𝕄) :
    iprop(hPts d i g ∗ R) ⊢ twp d i (Scf.Loop.for k1_t86_loop k1_t86_ok ⟨⟩ (foldTrip i hV b))
      fun _ => iprop(hPts d i (foldsHist b g k1_t86_loop.trips) ∗ R) := by
  have step : ∀ (k : Fin k1_t86_loop.trips) (acc : Unit), iprop(hPts d i (foldsHist b g k.val) ∗ R)
      ⊢ twp d i (foldTrip i hV b k acc) fun _ => iprop(hPts d i (foldsHist b g (k.val + 1)) ∗ R) := by
    intro k acc
    have e : foldsHist b g (k.val + 1) = foldHist b k (foldsHist b g k.val) := by
      rw [foldsHist, dif_pos k.isLt]
    rw [e]
    generalize foldsHist b g k.val = f
    unfold foldTrip
    iintro ⟨H, HR⟩
    iapply (hPts_load d i f _ _ _ _ _) $$ H; iintro H
    iapply (hPts_load d i f _ _ _ _ _) $$ H; iintro H
    iapply (hPts_load d i f _ _ _ _ _) $$ H; iintro H
    iapply (hPts_store d i f _ _ _ _ _ _ _) $$ H; iintro H
    unfold twp
    rw [wp_ret]; imodintro
    isplitl [H]; · iexact H
    iexact HR
  exact forLoop d i k1_t86_loop k1_t86_ok (foldTrip i hV b) (fun n => iprop(hPts d i (foldsHist b g n) ∗ R)) step

/-- The store, element by element. -/
theorem hStore_apply (f : Hist F) (o : Fin 1 → ℕ) (h : ∀ a, o a + S16.size a ≤ S88320.size a) (w : Vec F S16 .f32) (j : S88320.Idx) :
    hStore f o h w j = if hj : o 0 ≤ (j 0).val ∧ (j 0).val < o 0 + 16 then w (Shape.ofLane (d := S16.size) ⟨(j 0).val - o 0, by show _ < 16; omega⟩) else f j := by
  have hemb : ∀ x : S16.Idx, ((((hV).access (Rect.unit (s := S88320) o S16.size h)).emb x : S88320.Idx) 0).val = o 0 + (x 0).val := by
    intro x
    show (((Rect.unit (s := S88320) o S16.size h).toLoadRect.idx x) 0).val = _
    rw [LoadRect.idx_apply]; simp [Rect.unit]
  by_cases hj : o 0 ≤ (j 0).val ∧ (j 0).val < o 0 + 16
  · rw [dif_pos hj]
    set x : S16.Idx := Shape.ofLane (d := S16.size) ⟨(j 0).val - o 0, by show _ < 16; omega⟩ with hx
    have : j = ((hV).access (Rect.unit (s := S88320) o S16.size h)).emb x := by
      funext a; apply Fin.ext; obtain rfl : a = 0 := Subsingleton.elim _ _
      rw [hemb x]; show _ = o 0 + ((j 0).val - o 0); omega
    unfold hStore
    rw [this, View.write_emb]
    exact if_pos (Finset.mem_univ _)
  · rw [dif_neg hj]
    unfold hStore
    refine View.write_of_not_mem _ _ _ fun hm => ?_
    obtain ⟨x, -, rfl⟩ := Finset.mem_map.mp hm
    have := hemb x
    have hx : (x 0).val < 16 := (x 0).isLt
    exact hj ⟨by omega, by omega⟩

/-- The histogram is set to zero. -/
theorem zero_ok (harg2 harg3) (M₀ : Memref sig .scVector .vmem S16x512 .i32) (h₀ : M₀.IsWhole) (M₁ : Memref sig .scVector .vmem S16x512 .i32) (h₁ : M₁.IsWhole) (harg6)
    (s₀ s₁ s₂ : DmaSems sig S_) (R : sProp 𝕄) :
    iprop((∃ f, hPts d i f) ∗ R) ⊢ twp d i (Scf.Loop.for k1_t1_loop k1_t1_ok ⟨⟩ (k1_t1_body i gV harg2 oV harg3 M₀ h₀ M₁ h₁ hV harg6 s₀ s₁ s₂))
      fun _ => iprop(hPts d i (fun _ => Scalar.ofBits .f32 0x00000000#32) ∗ R) := by
  have hoff : ∀ k : Fin k1_t1_loop.trips, k1_off1 k 0 = 16 * k.val := by decide +kernel
  have htr : k1_t1_loop.trips = 5520 := by decide +kernel
  have step : ∀ (k : Fin k1_t1_loop.trips) (acc : Unit), iprop((∃ f, ⌜∀ j : S88320.Idx, (j 0).val < 16 * k.val → f j = Scalar.ofBits (F := F) .f32 0x00000000#32⌝ ∗ hPts d i f) ∗ R)
      ⊢ twp d i (k1_t1_body i gV harg2 oV harg3 M₀ h₀ M₁ h₁ hV harg6 s₀ s₁ s₂ k acc)
        fun _ => iprop((∃ f, ⌜∀ j : S88320.Idx, (j 0).val < 16 * (k.val + 1) → f j = Scalar.ofBits (F := F) .f32 0x00000000#32⌝ ∗ hPts d i f) ∗ R) := by
    intro k acc
    unfold k1_t1_body
    simp only [Prog.lift, Prog.bind_op, Prog.bind_ret, Prog.pure_eq_ret]
    iintro ⟨⟨%f, %hf, H⟩, HR⟩
    iapply (hPts_load d i f _ _ _ _ _) $$ H; iintro H
    iapply (hPts_store d i f _ _ _ _ _ _ _) $$ H; iintro H
    unfold twp
    rw [wp_ret]; imodintro
    isplitl [H]
    · iexists _; isplitr
      rotate_left
      · iexact H
      · ipureintro
        intro j hj
        rw [hStore_apply]
        have := hoff k
        split
        · rfl
        · next hn => exact hf j (by omega)
    iexact HR
  have := forLoop d i k1_t1_loop k1_t1_ok (k1_t1_body i gV harg2 oV harg3 M₀ h₀ M₁ h₁ hV harg6 s₀ s₁ s₂) (fun n => iprop((∃ f, ⌜∀ j : S88320.Idx, (j 0).val < 16 * n → f j = Scalar.ofBits (F := F) .f32 0x00000000#32⌝ ∗ hPts d i f) ∗ R)) step
  refine BIBase.Entails.trans ?_ (BIBase.Entails.trans this (wp_mono frame _ _ fun _ => ?_))
  · iintro ⟨⟨%f, H⟩, HR⟩
    isplitl [H]
    · iexists f; isplitr
      · ipureintro; intro j hj; omega
      iexact H
    iexact HR
  · iintro ⟨⟨%f, %hf, H⟩, HR⟩
    have : f = fun _ => Scalar.ofBits (F := F) .f32 0x00000000#32 := by
      funext j
      apply hf j
      have := (j 0).isLt
      rw [htr]
      exact lt_of_lt_of_eq this rfl
    subst this
    isplitl [H]; · iexact H
    iexact HR

/-- The counts that the tile has made after `n` steps, nothing being known before the first. -/
def histRes : ℕ → sProp 𝕄
  | 0 => iprop(∃ f, hPts d i f)
  | n + 1 => hPts d i (histAt i G n)

/-- What the two chunk buffers are doing and how many steps of counting are done. -/
structure St where
  e : Slot
  o : Slot
  h : ℕ
  deriving DecidableEq

/-- A buffer that is not receiving starts to receive chunk `n`. -/
def Slot.load (n : Fin 84) : Slot → Option Slot
  | .flight _ => none
  | _ => some (.flight n)

theorem Slot.load_eq {n : Fin 84} {s s' : Slot} (h : s.load n = some s') : (∀ m, s ≠ .flight m) ∧ s' = .flight n := by
  cases s with
  | flight m => exact absurd h (by simp [Slot.load])
  | _ =>
    refine ⟨nofun, ?_⟩
    simpa [Slot.load, eq_comm] using h

/-- A step of the kernel, where it is sound. -/
def exec : Op → St → Option St
  | .zero, s => some { s with h := 1 }
  | .enq n, s => if n.val % 2 = 0 then s.e.load n |>.map fun x => { s with e := x } else s.o.load n |>.map fun x => { s with o := x }
  | .wait n, s => if n.val % 2 = 0 then if s.e = .flight n then some { s with e := .full n } else none
    else if s.o = .flight n then some { s with o := .full n } else none
  | .loop n, s => if n.val % 2 = 0 then if s.e = .full n ∧ s.h = n.val + 1 then some { s with h := n.val + 2 } else none
    else if s.o = .full n ∧ s.h = n.val + 1 then some { s with h := n.val + 2 } else none
  | .fold b, s => if 1 ≤ b.val ∧ s.h = 84 + b.val then some { s with h := 84 + b.val + 1 } else none

/-- The steps of a list in turn. -/
def execs : List Op → St → Option St
  | [], s => some s
  | o :: os, s => (exec o s).bind (execs os)

/-- The two chunk buffers. -/
abbrev eV : Memref sig .scVector .vmem S16x512 .i32 := Memref.whole cc1_scratch0
abbrev odV : Memref sig .scVector .vmem S16x512 .i32 := Memref.whole cc1_scratch1

variable (qe qo : PosShare TreeShare) (O : CellTallies nD τ sig (HIx 1)) (W : Waits sig (HIx 1))

/-- What the tile holds between steps. -/
def Inv (s : St) : sProp 𝕄 :=
  iprop(bufRes d i G eV cc1_scratch3 qe s.e ∗ bufRes d i G odV cc1_scratch4 qo s.o ∗ histRes d i G s.h ∗ MayWaits (thr d i) none O ∗ owing d i O W)

theorem chunkVals_lt (hG : ∀ p, (G p).toNat < 88320) (n : Fin 84) (p : S16x512.Idx) : (chunkVals i G n p).toNat < 88320 := hG _

theorem enq_ok (M : Memref sig .scVector .vmem S16x512 .i32) (sem : DmaSems sig S_) (q : PosShare TreeShare) (n : Fin 84) (hM : M.IsWhole) (s : Slot) (hs : ∀ m, s ≠ .flight m) (R : sProp 𝕄) :
    iprop(bufRes d i G M sem q s ∗ R) ⊢ twp d i (enqChunk (F := F) i gV M hM sem n) fun _ => iprop(bufRes d i G M sem q (.flight n) ∗ R) := by
  refine BIBase.Entails.trans ?_ (enq_idle d i G M sem q n hM R)
  cases s with
  | idle => exact .rfl
  | full m =>
    iintro ⟨H, HR⟩
    isplitl [H]
    · iapply (bufRes_full_idle d i G M sem q m); iexact H
    iexact HR
  | flight m => exact absurd rfl (hs m)

/-- Counting a chunk that a buffer holds. -/
theorem count_ok (hG : ∀ p, (G p).toNat < 88320) (M : Memref sig .scVector .vmem S16x512 .i32) (sem : DmaSems sig S_) (q : PosShare TreeShare) (n : Fin 84) (R : sProp 𝕄) :
    iprop(bufRes d i G M sem q (.full n) ∗ histRes d i G (n.val + 1) ∗ R)
      ⊢ twp d i (Scf.Loop.for k1_t2_loop k1_t2_ok ⟨⟩ (trip i hV M (k1_pay86 (F := F))))
        fun _ => iprop(bufRes d i G M sem q (.full n) ∗ histRes d i G (n.val + 2) ∗ R) := by
  have e : histRes d i G (n.val + 2) = hPts d i (tripsHist (chunkVals i G n) (histAt i G n.val) k1_t2_loop.trips) := by
    show hPts d i (histAt i G (n.val + 1)) = _
    rw [histAt_chunk]
  rw [e]
  unfold bufRes histRes
  refine BIBase.Entails.trans ?_ (BIBase.Entails.trans (loop_ok d i M (chunkVals i G n) (chunkVals_lt i G hG n) (histAt i G n.val)
    iprop(semVal (thr d i, .dma sem.sem) 0 ∗ gPts d i G q ∗ R)) (wp_mono frame _ _ fun _ => ?_))
  · iintro ⟨⟨HB, Hs, Hg⟩, Hh, HR⟩
    isplitl [HB]; · iexact HB
    isplitl [Hh]; · iexact Hh
    isplitl [Hs]; · iexact Hs
    isplitl [Hg]; · iexact Hg
    iexact HR
  · iintro ⟨HB, Hh, Hs, Hg, HR⟩
    isplitl [HB Hs Hg]
    · isplitl [HB]; · iexact HB
      isplitl [Hs]; · iexact Hs
      iexact Hg
    isplitl [Hh]; · iexact Hh
    iexact HR

section Step
variable (arg2 : Memref sig .scVector .hbm S4x21x512x512 .i32) (harg2 : arg2.IsWhole) (arg3 : Memref sig .scVector .hbm S32x5504 .f32) (harg3 : arg3.IsWhole)
  (arg4 : Memref sig .scVector .vmem S16x512 .i32) (harg4 : arg4.IsWhole) (arg5 : Memref sig .scVector .vmem S16x512 .i32) (harg5 : arg5.IsWhole)
  (arg6 : Memref sig .scVector .vmem S88320 .f32) (harg6 : arg6.IsWhole) (arg7 arg8 v777_r0 : DmaSems sig S_) (v : FVec F S16 .f32) (n : Fin 84)

/-- Even chunks go to the first buffer, odd ones to the second; likewise below. -/
theorem step_enq : step (F := F) i arg2 harg2 arg3 harg3 arg4 harg4 arg5 harg5 arg6 harg6 arg7 arg8 v777_r0 v (.enq n)
    = if n.val % 2 = 0 then enqChunk i arg2 arg4 harg4 arg7 n else enqChunk i arg2 arg5 harg5 arg8 n := by
  rcases Nat.mod_two_eq_zero_or_one n.val with h | h <;> · simp only [step]; simp [h]

theorem step_wait : step (F := F) i arg2 harg2 arg3 harg3 arg4 harg4 arg5 harg5 arg6 harg6 arg7 arg8 v777_r0 v (.wait n)
    = if n.val % 2 = 0 then waitChunk i arg2 arg4 harg4 arg7 n else waitChunk i arg2 arg5 harg5 arg8 n := by
  rcases Nat.mod_two_eq_zero_or_one n.val with h | h <;> · simp only [step]; simp [h]

theorem step_loop : step (F := F) i arg2 harg2 arg3 harg3 arg4 harg4 arg5 harg5 arg6 harg6 arg7 arg8 v777_r0 v (.loop n)
    = if n.val % 2 = 0 then Scf.Loop.for k1_t2_loop k1_t2_ok ⟨⟩ (trip i arg6 arg4 v) else Scf.Loop.for k1_t2_loop k1_t2_ok ⟨⟩ (trip i arg6 arg5 v) := by
  rcases Nat.mod_two_eq_zero_or_one n.val with h | h <;> · simp only [step]; simp [h]; rfl

end Step

/-- Each sound step does what `exec` says. -/
theorem step_ok (hG : ∀ p, (G p).toNat < 88320) (harg2 harg3 harg4 harg5 harg6) (s₂ : DmaSems sig S_) (o : Op) (s s' : St) (h : exec o s = some s') :
    Inv d i G qe qo O W s ⊢ twp d i (step (F := F) i gV harg2 oV harg3 eV harg4 odV harg5 hV harg6 cc1_scratch3 cc1_scratch4 s₂ (k1_pay86 (F := F)) o)
      fun _ => Inv d i G qe qo O W s' := by
  obtain ⟨e, od, t⟩ := s
  unfold Inv
  cases o with
  | zero =>
    simp only [exec, Option.some.injEq] at h; subst h
    unfold step
    refine BIBase.Entails.trans ?_ (BIBase.Entails.trans (zero_ok d i harg2 harg3 eV harg4 odV harg5 harg6 cc1_scratch3 cc1_scratch4 s₂
      iprop(bufRes d i G eV cc1_scratch3 qe e ∗ bufRes d i G odV cc1_scratch4 qo od ∗ MayWaits (thr d i) none O ∗ owing d i O W)) (wp_mono frame _ _ fun _ => ?_))
    · iintro ⟨He, Ho, Hh, Hm, HO⟩
      isplitl [Hh]
      · cases t with
        | zero => unfold histRes; iexact Hh
        | succ t => unfold histRes; iexists _; iexact Hh
      isplitl [He]; · iexact He
      isplitl [Ho]; · iexact Ho
      isplitl [Hm]; · iexact Hm
      iexact HO
    · show _ ⊢ iprop(_ ∗ _ ∗ hPts d i (histAt i G 0) ∗ _ ∗ _)
      rw [histAt_zero]
      iintro ⟨Hh, He, Ho, Hm, HO⟩
      isplitl [He]; · iexact He
      isplitl [Ho]; · iexact Ho
      isplitl [Hh]; · iexact Hh
      isplitl [Hm]; · iexact Hm
      iexact HO
  | enq n =>
    simp only [exec] at h; rw [step_enq]
    by_cases hn : n.val % 2 = 0
    · rw [if_pos hn] at h; rw [if_pos hn]
      obtain ⟨x, hx, rfl⟩ := Option.map_eq_some_iff.mp h
      obtain ⟨hs, rfl⟩ := Slot.load_eq hx
      exact enq_ok d i G eV cc1_scratch3 qe n harg4 e hs _
    · rw [if_neg hn] at h; rw [if_neg hn]
      obtain ⟨x, hx, rfl⟩ := Option.map_eq_some_iff.mp h
      obtain ⟨hs, rfl⟩ := Slot.load_eq hx
      refine BIBase.Entails.trans ?_ (BIBase.Entails.trans (enq_ok d i G odV cc1_scratch4 qo n harg5 od hs
        iprop(bufRes d i G eV cc1_scratch3 qe e ∗ histRes d i G t ∗ MayWaits (thr d i) none O ∗ owing d i O W)) (wp_mono frame _ _ fun _ => ?_))
      · iintro ⟨He, Ho, H⟩
        isplitl [Ho]; · iexact Ho
        isplitl [He]; · iexact He
        iexact H
      · iintro ⟨Ho, He, H⟩
        isplitl [He]; · iexact He
        isplitl [Ho]; · iexact Ho
        iexact H
  | wait n =>
    simp only [exec] at h; rw [step_wait]
    by_cases hn : n.val % 2 = 0
    · rw [if_pos hn] at h; rw [if_pos hn]
      obtain ⟨rfl, rfl⟩ : e = .flight n ∧ s' = ⟨.full n, od, t⟩ := by
        by_cases he : e = .flight n <;> simp_all [eq_comm]
      refine BIBase.Entails.trans ?_ (BIBase.Entails.trans (wait_ok d i G eV cc1_scratch3 qe n harg4 O W
        iprop(bufRes d i G odV cc1_scratch4 qo od ∗ histRes d i G t ∗ MayWaits (thr d i) none O)) (wp_mono frame _ _ fun _ => ?_))
      · iintro ⟨He, Ho, Hh, #Hm, HO⟩
        isplitl [He]; · iexact He
        isplitr; · iexact Hm
        isplitl [HO]; · iexact HO
        isplitl [Ho]; · iexact Ho
        isplitl [Hh]; · iexact Hh
        iexact Hm
      · iintro ⟨He, HO, Ho, Hh, Hm⟩
        isplitl [He]; · iexact He
        isplitl [Ho]; · iexact Ho
        isplitl [Hh]; · iexact Hh
        isplitl [Hm]; · iexact Hm
        iexact HO
    · rw [if_neg hn] at h; rw [if_neg hn]
      obtain ⟨rfl, rfl⟩ : od = .flight n ∧ s' = ⟨e, .full n, t⟩ := by
        by_cases he : od = .flight n <;> simp_all [eq_comm]
      refine BIBase.Entails.trans ?_ (BIBase.Entails.trans (wait_ok d i G odV cc1_scratch4 qo n harg5 O W
        iprop(bufRes d i G eV cc1_scratch3 qe e ∗ histRes d i G t ∗ MayWaits (thr d i) none O)) (wp_mono frame _ _ fun _ => ?_))
      · iintro ⟨He, Ho, Hh, #Hm, HO⟩
        isplitl [Ho]; · iexact Ho
        isplitr; · iexact Hm
        isplitl [HO]; · iexact HO
        isplitl [He]; · iexact He
        isplitl [Hh]; · iexact Hh
        iexact Hm
      · iintro ⟨Ho, HO, He, Hh, Hm⟩
        isplitl [He]; · iexact He
        isplitl [Ho]; · iexact Ho
        isplitl [Hh]; · iexact Hh
        isplitl [Hm]; · iexact Hm
        iexact HO
  | loop n =>
    simp only [exec] at h; rw [step_loop]
    by_cases hn : n.val % 2 = 0
    · rw [if_pos hn] at h; rw [if_pos hn]
      obtain ⟨rfl, rfl, rfl⟩ : e = .full n ∧ t = n.val + 1 ∧ s' = ⟨.full n, od, n.val + 2⟩ := by
        by_cases he : e = .full n ∧ t = n.val + 1 <;> simp_all [eq_comm]
      refine BIBase.Entails.trans ?_ (BIBase.Entails.trans (count_ok d i G hG eV cc1_scratch3 qe n
        iprop(bufRes d i G odV cc1_scratch4 qo od ∗ MayWaits (thr d i) none O ∗ owing d i O W)) (wp_mono frame _ _ fun _ => ?_))
      · iintro ⟨He, Ho, Hh, H⟩
        isplitl [He]; · iexact He
        isplitl [Hh]; · iexact Hh
        isplitl [Ho]; · iexact Ho
        iexact H
      · iintro ⟨He, Hh, Ho, H⟩
        isplitl [He]; · iexact He
        isplitl [Ho]; · iexact Ho
        isplitl [Hh]; · iexact Hh
        iexact H
    · rw [if_neg hn] at h; rw [if_neg hn]
      obtain ⟨rfl, rfl, rfl⟩ : od = .full n ∧ t = n.val + 1 ∧ s' = ⟨e, .full n, n.val + 2⟩ := by
        by_cases he : od = .full n ∧ t = n.val + 1 <;> simp_all [eq_comm]
      refine BIBase.Entails.trans ?_ (BIBase.Entails.trans (count_ok d i G hG odV cc1_scratch4 qo n
        iprop(bufRes d i G eV cc1_scratch3 qe e ∗ MayWaits (thr d i) none O ∗ owing d i O W)) (wp_mono frame _ _ fun _ => ?_))
      · iintro ⟨He, Ho, Hh, H⟩
        isplitl [Ho]; · iexact Ho
        isplitl [Hh]; · iexact Hh
        isplitl [He]; · iexact He
        iexact H
      · iintro ⟨Ho, Hh, He, H⟩
        isplitl [He]; · iexact He
        isplitl [Ho]; · iexact Ho
        isplitl [Hh]; · iexact Hh
        iexact H
  | fold b =>
    obtain ⟨b, hb⟩ := b
    obtain ⟨hb1, rfl, rfl⟩ : 1 ≤ b ∧ t = 84 + b ∧ s' = ⟨e, od, 84 + b + 1⟩ := by
      unfold exec at h
      by_cases he : 1 ≤ b ∧ t = 84 + b <;> simp_all
    obtain ⟨b, rfl⟩ : ∃ b', b = b' + 1 := ⟨b - 1, by omega⟩
    unfold step
    have e2 : histRes d i G (84 + (b + 1) + 1) = hPts d i (foldsHist ⟨b + 1, hb⟩ (histAt i G (84 + b)) k1_t86_loop.trips) := by
      show hPts d i (histAt i G (84 + (b + 1))) = _
      rw [histAt_fold i G b hb]
    show iprop(_ ∗ _ ∗ histRes d i G (84 + b + 1) ∗ _ ∗ _) ⊢ _
    refine BIBase.Entails.trans ?_ (BIBase.Entails.trans (fold_ok d i ⟨b + 1, hb⟩ (histAt i G (84 + b))
      iprop(bufRes d i G eV cc1_scratch3 qe e ∗ bufRes d i G odV cc1_scratch4 qo od ∗ MayWaits (thr d i) none O ∗ owing d i O W)) (wp_mono frame _ _ fun _ => ?_))
    · unfold histRes
      iintro ⟨He, Ho, Hh, H⟩
      isplitl [Hh]; · iexact Hh
      isplitl [He]; · iexact He
      isplitl [Ho]; · iexact Ho
      iexact H
    · show _ ⊢ iprop(_ ∗ _ ∗ histRes d i G (84 + (b + 1) + 1) ∗ _ ∗ _)
      rw [e2]
      iintro ⟨Hh, He, Ho, H⟩
      isplitl [He]; · iexact He
      isplitl [Ho]; · iexact Ho
      isplitl [Hh]; · iexact Hh
      iexact H

/-- A sound list of steps, then a program that runs from where they end. -/
theorem run_ok (hG : ∀ p, (G p).toNat < 88320) (harg2 harg3 harg4 harg5 harg6) (s₂ : DmaSems sig S_) (os : List Op) (s s' : St) (h : execs os s = some s')
    {α : Type} (p : TileProg F i α) (Q : α → sProp 𝕄) (R : sProp 𝕄) (hp : iprop(Inv d i G qe qo O W s' ∗ R) ⊢ twp d i p Q) :
    iprop(Inv d i G qe qo O W s ∗ R) ⊢ twp d i (run (F := F) i gV harg2 oV harg3 eV harg4 odV harg5 hV harg6 cc1_scratch3 cc1_scratch4 s₂ (k1_pay86 (F := F)) os p) Q := by
  induction os generalizing s with
  | nil => obtain rfl : s = s' := by simpa [execs] using h
           exact hp
  | cons o os ih =>
    obtain ⟨s₁, h₁, h₂⟩ : ∃ s₁, exec o s = some s₁ ∧ execs os s₁ = some s' := by
      simpa [execs, Option.bind_eq_some_iff] using h
    unfold run
    unfold twp
    rw [wp_bind]
    refine BIBase.Entails.trans (sep_mono_left (step_ok d i G qe qo O W hG harg2 harg3 harg4 harg5 harg6 s₂ o s s₁ h₁)) ?_
    exact BIBase.Entails.trans (wp_frame_r frame _ _) (wp_mono frame _ _ fun _ => ih s₁ h₂)

end Tile

end Cert.Proof
-- ==== Proof.Trace.lean ====
/-
  The list of steps that the histogram kernel takes, and the copy of its result at the end.
-/
module

public import proofs.«01_k».proof.Proof.Ops

@[expose] public section

noncomputable section

namespace Cert.Proof

open Cert.KernelIdeal Cert.KernelIdeal.Gen
open Idealize.ShloMosaic Idealize.SL.Sem

variable {F : FTy → Type} [FloatOps F]

/-- The steps of chunk `n`: the copy of the next one is started, chunk `n` is waited for and counted. -/
def chunkSteps (n : Fin 84) : List Op :=
  (if h : n.val + 1 < 84 then [.enq ⟨n.val + 1, h⟩] else []) ++ [.wait n, .loop n]

/-- The fifteen lane blocks that are folded. -/
def foldSteps : List Op := (List.finRange 15).map fun b => .fold b.succ

/-- All steps of the kernel before its result is copied out. -/
def trace : List Op := .zero :: .enq 0 :: ((List.finRange 84).flatMap chunkSteps ++ foldSteps)

/-- The tile's row of the array of histograms, as the copy names it. -/
def outRow (i : grid1.Coords) (arg3 : Memref sig .scVector .hbm S32x5504 .f32) : Memref sig .scVector .hbm S5504 .f32 :=
  (arg3.slice (Rect.unit (s := S32x5504) (k1_off1460 i) S1x5504.size (k1_off1460_inb i)) (fun _ => rfl)).squeeze S5504 squeezes_S1x5504_S5504

/-- The part of the histogram that is copied out. -/
def outSrc (arg6 : Memref sig .scVector .vmem S88320 .f32) : Memref sig .scVector .vmem S5504 .f32 :=
  arg6.slice (Rect.unit (s := S88320) ![0] S5504.size inb_S88320_S5504_0) (fun _ => rfl)

/-- The copy of the result, and the wait for it. -/
def writeOut (i : grid1.Coords) (arg3 : Memref sig .scVector .hbm S32x5504 .f32) (arg6 : Memref sig .scVector .vmem S88320 .f32) (sem : DmaSems sig S_) :
    TileProg F i PUnit := do
  Prog.lift (.enqueueDma (outSrc arg6) (.here (outRow i arg3)) (.dma sem.sem) (View.wordExact_bits rfl) ((View.wordExact_bits rfl).reshape _ _) ⟨Or.inl rfl, trivial⟩)
  Prog.lift (.waitDma2 sem.sem (outSrc arg6) (outRow i arg3) (View.wordExact_bits rfl) ((View.wordExact_bits rfl).reshape _ _))
  pure ⟨⟩

end Cert.Proof
-- ==== Proof.TileBody.lean ====
/-
  The task of one tile: from its share of the index array and its row of the array of histograms, the row is left
  at the tile's histogram.
-/
module

public import proofs.«01_k».proof.Proof.Tile
public import proofs.«01_k».proof.Proof.Trace
public import Idealize.ShloMosaic.Lib.Pointwise.Reshape

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The grid point of tile number `w`. -/
def tileAt (w : Fin 32) : grid1.Coords := fun | 0 => ⟨w.val % 2, by show _ < 2; omega⟩ | 1 => ⟨w.val / 2, by show _ < 16; omega⟩ | ⟨_ + 2, h⟩ => absurd h (Nat.not_lt.2 (Nat.le_add_left _ _))

/-- The number of the tile at a grid point. -/
def tileIx (i : grid1.Coords) : Fin 32 := ⟨(i 1).val * 2 + (i 0).val, by
  have h0 : (i 0).val < 2 := (i 0).isLt
  have h1 : (i 1).val < 16 := (i 1).isLt
  omega⟩

theorem tileAt_ix (i : grid1.Coords) : tileAt (tileIx i) = i := by
  have h0 : (i 0).val < 2 := (i 0).isLt
  have h1 : (i 1).val < 16 := (i 1).isLt
  funext a
  match a with
  | 0 => apply Fin.ext; show ((i 1).val * 2 + (i 0).val) % 2 = (i 0).val; omega
  | 1 => apply Fin.ext; show ((i 1).val * 2 + (i 0).val) / 2 = (i 1).val; omega

theorem outOff_eq : ∀ i : grid1.Coords, k1_off1460 i 0 = (tileIx i).val ∧ k1_off1460 i 1 = 0 := by decide +kernel

/-- The array of all tiles' histograms: row `w` is what tile `w` counted and folded. -/
def allHists (G : Vec F S4x21x512x512 .i32) : Vec F S32x5504 .f32 :=
  fun j => histAt (tileAt ⟨(j 0).val, (j 0).isLt⟩) G 99 fun | 0 => ⟨(j 1).val, lt_trans (j 1).isLt (by show 5504 < 88320; decide)⟩

section Tile

variable (d : Dev nD) (i : grid1.Coords) (G : Vec F S4x21x512x512 .i32)

/-- Where element `x` of the tile's row lies in the array. -/
theorem outRow_emb (x : S5504.Idx) : ((show S32x5504.Idx from (outRow i oV).view.emb x) 0).val = (tileIx i).val ∧ ((show S32x5504.Idx from (outRow i oV).view.emb x) 1).val = (x 0).val := by
  have e : Shape.reshapeEquiv (squeezes_S1x5504_S5504).numel_eq x = (show S1x5504.Idx from fun | 0 => ⟨0, by decide⟩ | 1 => ⟨(x 0).val, (x 0).isLt⟩) := by
    simp only [reshapeIdx]
    funext a
    match a with
    | 0 => rfl
    | 1 => rfl
  have h := outOff_eq i
  constructor
  · show (((Rect.unit (s := S32x5504) (k1_off1460 i) S1x5504.size (k1_off1460_inb i)).toLoadRect.idx (Shape.reshapeEquiv (squeezes_S1x5504_S5504).numel_eq x)) 0).val = _
    rw [e, LoadRect.idx_apply]
    simp [Rect.unit, h.1]
  · show (((Rect.unit (s := S32x5504) (k1_off1460 i) S1x5504.size (k1_off1460_inb i)).toLoadRect.idx (Shape.reshapeEquiv (squeezes_S1x5504_S5504).numel_eq x)) 1).val = _
    rw [e, LoadRect.idx_apply]
    simp [Rect.unit, h.2]

/-- The tile's row of the array of histograms, full share, at some contents. -/
abbrev rowPts (f : Vec F S32x5504 .f32) : sProp 𝕄 := (outRow i oV).view.loc (thr d i) ↦[(outRow i oV).view.set]{fullShare} f

/-- The row written from the tile's histogram is the row of the array of all histograms. -/
theorem row_written (fo : Vec F S32x5504 .f32) :
    rowPts d i ((outRow i oV).view.write (Elt F) fo ((outSrc hV).view.read (Elt F) (histAt i G 99)) Finset.univ) = (rowPts d i (allHists G) : sProp 𝕄) := by
  refine pointsTo_congr fun j hj => ?_
  obtain ⟨x, -, rfl⟩ := Finset.mem_map.mp hj
  refine (View.write_emb_of_mem (v := (outRow i oV).view) _ _ (Finset.mem_univ x)).trans ?_
  have h := outRow_emb i x
  show (outSrc hV).view.read (Elt F) (histAt i G 99) x = allHists G _
  show histAt i G 99 ((Rect.unit (s := S88320) ![0] S5504.size inb_S88320_S5504_0).toLoadRect.idx x) = _
  unfold allHists
  have hi : tileAt ⟨((show S32x5504.Idx from (outRow i oV).view.emb x) 0).val, ((show S32x5504.Idx from (outRow i oV).view.emb x) 0).isLt⟩ = i := by
    rw [← tileAt_ix i]; congr 1; apply Fin.ext; rw [tileAt_ix]; exact h.1
  rw [hi]
  congr 1
  funext a; apply Fin.ext
  obtain rfl : a = 0 := Subsingleton.elim _ _
  rw [LoadRect.idx_apply]
  show 0 + 1 * (x 0).val = _
  exact (by omega : 0 + 1 * (x 0).val = (x 0).val).trans h.2.symm

/-- The result is copied out. -/
theorem writeOut_ok (f : Hist F) (fo : Vec F S32x5504 .f32) (sem : DmaSems sig S_) (O : CellTallies nD τ sig (HIx 1)) (W : Waits sig (HIx 1)) (R : sProp 𝕄) :
    iprop(hPts d i f ∗ rowPts d i fo ∗ semVal (thr d i, .dma sem.sem) 0 ∗ MayWaits (thr d i) none O ∗ owing d i O W ∗ R)
      ⊢ twp d i (writeOut (F := F) i oV hV sem) fun _ =>
        iprop(hPts d i f ∗ rowPts d i ((outRow i oV).view.write (Elt F) fo ((outSrc hV).view.read (Elt F) f) Finset.univ)
          ∗ semVal (thr d i, .dma sem.sem) 0 ∗ owing d i O W ∗ R) := by
  unfold writeOut twp owing
  simp only [Prog.lift, Prog.bind_op, Prog.bind_ret, Prog.pure_eq_ret]
  iintro ⟨Hh, Ho, Hs, #Hmw, ⟨%W', %hW', HO⟩, HR⟩
  ihave Hh' := (pointsTo_split_subset (S := Finset.univ) (I := (outSrc hV).view.set) (Finset.subset_univ _)).1 $$ Hh
  icases Hh' with ⟨Hh, Hrest⟩
  iapply (wp_dmaLocal EC 𝒱₀ (thr d i) none (hsrc := View.wordExact_bits rfl) (hdst := (View.wordExact_bits rfl).reshape _ _) (hsem := ⟨Or.inl rfl, trivial⟩) (src := outSrc hV) (dst := outRow i oV) (sm := .dma sem.sem) (q := fullShare) (fs := f) (fd := fo) (Sd := (outRow i oV).view.set)
    none (outRow i oV).view.dmaCredit rfl (View.dmaCredit_pos _ (by decide)) (Finset.Subset.refl _)) $$ [Hh Ho Hs]
  · isplitl [Hh]; · iexact Hh
    isplitl [Ho]; · iexact Ho
    iexact Hs
  iintro HF
  iapply (wp_waitLocalO EC 𝒱₀ (thr d i) none none (hsrc := View.wordExact_bits rfl) (hdst := (View.wordExact_bits rfl).reshape _ _) (sem := sem.sem) (srcw := outSrc hV) (dstw := outRow i oV) (N := (outRow i oV).view.dmaCredit) rfl (O := O) (W := W')) $$ [HF HO]
  · isplitl [HF]; · iexact HF
    isplitl [HO]; · iexact HO
    iapply (MayWaits.elim (SemLoc.dma sem.sem)); iexact Hmw
  iintro ⟨⟨Ho, Hh⟩, Hs, HO⟩
  rw [wp_ret]; imodintro
  isplitl [Hh Hrest]
  · iapply (pointsTo_split_subset (S := Finset.univ) (I := (outSrc hV).view.set) (Finset.subset_univ _)).2
    isplitl [Hh]; · iexact Hh
    iexact Hrest
  isplitl [Ho]; · iexact Ho
  isplitl [Hs]; · iexact Hs
  isplitl [HO]
  · iexists _; isplitr
    rotate_left
    · iexact HO
    · ipureintro; intro p hp
      rcases Finset.mem_insert.mp hp with rfl | hp
      · exact .inr rfl
      · exact hW' p hp
  iexact HR

/-- The steps of the kernel are sound: at the end the buffers hold the last two chunks and every chunk is counted and
    every lane block folded. -/
theorem trace_sound : execs trace ⟨.idle, .idle, 0⟩ = some ⟨.full 82, .full 83, 100⟩ := by decide +kernel

abbrev cellE : GSem nD τ sig := (thr d i, .dma cc1_scratch3.sem)
abbrev cellO : GSem nD τ sig := (thr d i, .dma cc1_scratch4.sem)
abbrev cellR : GSem nD τ sig := (thr d i, .dma cc1_scoped0.sem)

/-- The tile's three semaphores are among its own. -/
theorem ownSems0_tile :
    (ownSems0 (thr d i) : sProp 𝕄)
      = iprop(semVal (cellE d i) 0 ∗ semVal (cellO d i) 0 ∗ semVal (cellR d i) 0
          ∗ bigSep ((((ownCells (thr d i)).erase (cellE d i)).erase (cellO d i)).erase (cellR d i)) fun g => semVal g 0) := by
  unfold SparseCore.Cfg.ownSems0
  rw [SparseCore.bigSep_erase' ((mem_ownCells (g := cellE d i)).mpr ⟨rfl, by
      show (SemLoc.dma cc1_scratch3.sem : SemLoc sig).isScoped .scVector = true; decide⟩),
    SparseCore.bigSep_erase' (Finset.mem_erase.mpr ⟨by simp [cellE, cellO]; decide, (mem_ownCells (g := cellO d i)).mpr ⟨rfl, by
      show (SemLoc.dma cc1_scratch4.sem : SemLoc sig).isScoped .scVector = true; decide⟩⟩),
    SparseCore.bigSep_erase' (Finset.mem_erase.mpr ⟨by simp [cellO, cellR]; decide, Finset.mem_erase.mpr ⟨by simp [cellE, cellR]; decide,
      (mem_ownCells (g := cellR d i)).mpr ⟨rfl, by show (SemLoc.dma cc1_scoped0.sem : SemLoc sig).isScoped .scVector = true; decide⟩⟩⟩)]

/-- The tile's three scratch buffers are among its own. -/
theorem ownBufs_tile :
    (ownBufs (thr d i) : sProp 𝕄)
      = iprop((∃ f, (thr d i).loc cc1_scratch0 ↦{fullShare} f) ∗ (∃ f, (thr d i).loc cc1_scratch1 ↦{fullShare} f) ∗ (∃ f, (thr d i).loc cc1_scratch2 ↦{fullShare} f)
          ∗ bigSep ((((ownRefs (τ := τ) (thr d i).2).erase ((thr d i).2.devRef cc1_scratch0)).erase ((thr d i).2.devRef cc1_scratch1)).erase ((thr d i).2.devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d i).2) (b := (thr d i).2.devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := (thr d i).2) (b := (thr d i).2.devRef cc1_scratch2) rfl⟩⟩)]

theorem whole_pts (M : Ref sig .scVector) (f : Buf (Elt F) ((thr d i).loc M)) :
    ((Memref.whole M).view.loc (thr d i) ↦[(Memref.whole M).view.set]{fullShare} f : sProp 𝕄) = (thr d i).loc M ↦{fullShare} f := by
  simp only [Memref.view_whole, View.set_whole]

/-- The task of the tile: every chunk counted, the lane blocks folded, the row written. -/
theorem task_ok (hG : ∀ p, (G p).toNat < 88320) (q : PosShare TreeShare) (fo : Vec F S32x5504 .f32) (hF : (K (F := F)).Facts)
    (O : CellTallies nD τ sig (HIx 1)) (W : Waits sig (HIx 1)) (hO : ∀ g, O g none = 0) :
    iprop(levAts (K (F := F)).L (K (F := F)).lev ∗ (gPts d i G q ∗ rowPts d i fo) ∗ scopedBufs (thr d i) ∗ scopedSems0 (thr d i) ∗ owes (thr d i) O W)
      ⊢ twp d i (run (F := F) i gV (Memref.isWhole_whole _) oV (Memref.isWhole_whole _) eV (Memref.isWhole_whole _) odV (Memref.isWhole_whole _) hV (Memref.isWhole_whole _)
          cc1_scratch3 cc1_scratch4 cc1_scoped0 (k1_pay86 (F := F)) trace (writeOut i oV hV cc1_scoped0))
          fun _ => iprop((gPts d i G q ∗ rowPts d i (allHists G)) ∗ scopedBufs (thr d i) ∗ scopedSems0 (thr d i)
            ∗ ∃ W', ⌜∀ p ∈ W', p ∈ W ∨ p.2 = none⌝ ∗ owes (thr d i) O W') := by
  rw [(K (F := F)).scopedBufs_V hF d _ _, SparseCore.Cfg.scopedSems0_V (Val := Elt F) d _ _, ownSems0_tile, ownBufs_tile]
  iintro ⟨#Hlv, ⟨Hg, Hrow⟩, ⟨⟨%f0, H0⟩, ⟨%f1, H1⟩, ⟨%f2, H2⟩, Hbufs⟩, ⟨HsE, HsO, HsR, Hsems⟩, HO⟩
  ihave Hmw := ((K (F := F)).mayWaits_none (thr := thr d i) hO) $$ Hlv
  ihave Hg' := (pointsTo_share (PosShare.mem_left_op_right q)).1 $$ Hg
  icases Hg' with ⟨Hg1, Hg2⟩
  ihave H0 := (Entails.of_eq (whole_pts d i cc1_scratch0 f0).symm) $$ H0
  ihave H1 := (Entails.of_eq (whole_pts d i cc1_scratch1 f1).symm) $$ H1
  iapply (run_ok d i G q.left q.right O W hG _ _ _ _ _ cc1_scoped0 trace ⟨.idle, .idle, 0⟩ ⟨.full 82, .full 83, 100⟩ trace_sound
    (writeOut i oV hV cc1_scoped0) _ iprop(rowPts d i fo ∗ semVal (cellR d i) 0
      ∗ bigSep ((((ownRefs (τ := τ) (thr d i).2).erase ((thr d i).2.devRef cc1_scratch0)).erase ((thr d i).2.devRef cc1_scratch1)).erase ((thr d i).2.devRef cc1_scratch2))
              (fun b => iprop(∃ f, ((d, b) : Loc nD τ sig) ↦{fullShare} f))
      ∗ bigSep ((((ownCells (thr d i)).erase (cellE d i)).erase (cellO d i)).erase (cellR d i)) fun g => semVal g 0) ?hp) $$ [Hg1 Hg2 Hrow H0 H1 H2 Hbufs HsE HsO HsR Hsems Hmw HO]
  case hp =>
    unfold Inv
    iintro ⟨⟨He, Ho, Hh, Hmw, HO⟩, Hrow, HsR, Hbufs, Hsems⟩
    ihave Hh := (Entails.of_eq (show histRes d i G 100 = hPts d i (histAt i G 99) from rfl)) $$ Hh
    iapply (wp_mono frame _ _ fun _ => ?post)
    rotate_left
    · iapply (writeOut_ok d i (histAt i G 99) fo cc1_scoped0 O W iprop(bufRes d i G eV cc1_scratch3 q.left (.full 82) ∗ bufRes d i G odV cc1_scratch4 q.right (.full 83)
        ∗ bigSep ((((ownRefs (τ := τ) (thr d i).2).erase ((thr d i).2.devRef cc1_scratch0)).erase ((thr d i).2.devRef cc1_scratch1)).erase ((thr d i).2.devRef cc1_scratch2))
              (fun b => iprop(∃ f, ((d, b) : Loc nD τ sig) ↦{fullShare} f))
        ∗ bigSep ((((ownCells (thr d i)).erase (cellE d i)).erase (cellO d i)).erase (cellR d i)) fun g => semVal g 0))
      isplitl [Hh]; · iexact Hh
      isplitl [Hrow]; · iexact Hrow
      isplitl [HsR]; · iexact HsR
      isplitl [Hmw]; · iexact Hmw
      isplitl [HO]; · iexact HO
      isplitl [He]; · iexact He
      isplitl [Ho]; · iexact Ho
      isplitl [Hbufs]; · iexact Hbufs
      iexact Hsems
    case post =>
      rw [row_written]
      unfold bufRes bufPts owing
      iintro ⟨Hh, Hrow, HsR, HO, ⟨⟨%fe, %hfe, He⟩, HsE, Hg1⟩, ⟨⟨%fod, %hfod, Ho⟩, HsO, Hg2⟩, Hbufs, Hsems⟩
      isplitl [Hg1 Hg2 Hrow]
      · isplitr [Hrow]
        · iapply (pointsTo_share (PosShare.mem_left_op_right q)).2
          isplitl [Hg1]; · iexact Hg1
          iexact Hg2
        iexact Hrow
      isplitl [He Ho Hh Hbufs]
      · isplitl [He]
        · iexists fe; iapply (Entails.of_eq (whole_pts d i cc1_scratch0 fe)); iexact He
        isplitl [Ho]
        · iexists fod; iapply (Entails.of_eq (whole_pts d i cc1_scratch1 fod)); iexact Ho
        isplitl [Hh]
        · iexists _; iexact Hh
        iexact Hbufs
      isplitl [HsE HsO HsR Hsems]
      · isplitl [HsE]; · iexact HsE
        isplitl [HsO]; · iexact HsO
        isplitl [HsR]; · iexact HsR
        iexact Hsems
      iexact HO
  unfold Inv bufRes histRes owing
  isplitr [Hrow HsR Hbufs Hsems]
  · isplitl [H0 HsE Hg1]
    · isplitl [H0]
      · iexists f0; iexact H0
      isplitl [HsE]; · iexact HsE
      iexact Hg1
    isplitl [H1 HsO Hg2]
    · isplitl [H1]
      · iexists f1; iexact H1
      isplitl [HsO]; · iexact HsO
      iexact Hg2
    isplitl [H2]
    · iexists f2; iexact H2
    isplitl [Hmw]; · iexact Hmw
    iexists W; isplitr
    · ipureintro; exact fun p hp => .inl hp
    iexact HO
  isplitl [Hrow]; · iexact Hrow
  isplitl [HsR]; · iexact HsR
  isplitl [Hbufs]; · iexact Hbufs
  iexact Hsems

end Tile

end Cert.Proof
-- ==== Proof.Parts.lean ====
/-
  Each printed part of the histogram kernel is the run of its list of steps.
-/
module

public import proofs.«01_k».proof.Proof.Ops

@[expose] public section

set_option maxRecDepth 65536
set_option maxHeartbeats 0

noncomputable section

namespace Cert.Proof

open Cert.KernelIdeal Cert.KernelIdeal.Gen
open Idealize.ShloMosaic Idealize.SL.Sem

variable {F : FTy → Type} [FloatOps F]
variable (i : grid1.Coords) (arg2 : Memref sig .scVector .hbm S4x21x512x512 .i32) (harg2 : arg2.IsWhole)
  (arg3 : Memref sig .scVector .hbm S32x5504 .f32) (harg3 : arg3.IsWhole) (arg4 : Memref sig .scVector .vmem S16x512 .i32) (harg4 : arg4.IsWhole)
  (arg5 : Memref sig .scVector .vmem S16x512 .i32) (harg5 : arg5.IsWhole) (arg6 : Memref sig .scVector .vmem S88320 .f32) (harg6 : arg6.IsWhole)
  (arg7 arg8 v777_r0 : DmaSems sig S_)

/-- Part 169 is the run of its steps; likewise each part below. -/
theorem part169 : k1_part169 (F := F) i arg2 harg2 arg3 harg3 arg4 harg4 arg5 harg5 arg6 harg6 arg7 arg8 v777_r0
    = run i arg2 harg2 arg3 harg3 arg4 harg4 arg5 harg5 arg6 harg6 arg7 arg8 v777_r0 (k1_pay86 (F := F)) [.zero, .enq 0, .enq 1, .wait 0, .loop 0] (pure (k1_pay86 (F := F))) := by
  rw [k1_part169_eq_skeleton]; rfl

theorem part170 (v : FVec F S16 .f32) : k1_part170 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 2, .wait 1, .loop 1, .enq 3, .wait 2, .loop 2, .enq 4, .wait 3] (pure ⟨⟩) := by
  rw [k1_part170_eq_skeleton]; rfl

theorem part171 (v : FVec F S16 .f32) : k1_part171 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 3, .enq 5, .wait 4, .loop 4, .enq 6, .wait 5, .loop 5] (pure ⟨⟩) := by
  rw [k1_part171_eq_skeleton]; rfl

theorem part172 (v : FVec F S16 .f32) : k1_part172 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 7, .wait 6, .loop 6, .enq 8, .wait 7, .loop 7, .enq 9] (pure ⟨⟩) := by
  rw [k1_part172_eq_skeleton]; rfl

theorem part173 (v : FVec F S16 .f32) : k1_part173 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 8, .loop 8, .enq 10, .wait 9, .loop 9, .enq 11, .wait 10] (pure ⟨0#32, 1#32⟩) := by
  rw [k1_part173_eq_skeleton]; rfl

theorem part174 (v : FVec F S16 .f32) : k1_part174 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 10, .enq 12, .wait 11, .loop 11, .enq 13, .wait 12, .loop 12] (pure ⟨⟩) := by
  rw [k1_part174_eq_skeleton]; rfl

theorem part175 (v : FVec F S16 .f32) : k1_part175 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 14, .wait 13, .loop 13, .enq 15, .wait 14, .loop 14, .enq 16, .wait 15] (pure ⟨⟩) := by
  rw [k1_part175_eq_skeleton]; rfl

theorem part176 (v : FVec F S16 .f32) : k1_part176 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 15, .enq 17, .wait 16, .loop 16, .enq 18, .wait 17, .loop 17] (pure ⟨⟩) := by
  rw [k1_part176_eq_skeleton]; rfl

theorem part177 (v : FVec F S16 .f32) : k1_part177 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 19, .wait 18, .loop 18, .enq 20, .wait 19, .loop 19, .enq 21] (pure ⟨⟩) := by
  rw [k1_part177_eq_skeleton]; rfl

theorem part178 (v : FVec F S16 .f32) : k1_part178 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 20, .loop 20, .enq 22, .wait 21, .loop 21, .enq 23, .wait 22] (pure ⟨0#32, 1#32⟩) := by
  rw [k1_part178_eq_skeleton]; rfl

theorem part179 (v : FVec F S16 .f32) : k1_part179 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 22, .enq 24, .wait 23, .loop 23, .enq 25, .wait 24, .loop 24] (pure ⟨⟩) := by
  rw [k1_part179_eq_skeleton]; rfl

theorem part180 (v : FVec F S16 .f32) : k1_part180 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 26, .wait 25, .loop 25, .enq 27, .wait 26, .loop 26, .enq 28, .wait 27] (pure ⟨⟩) := by
  rw [k1_part180_eq_skeleton]; rfl

theorem part181 (v : FVec F S16 .f32) : k1_part181 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 27, .enq 29, .wait 28, .loop 28, .enq 30, .wait 29, .loop 29] (pure ⟨⟩) := by
  rw [k1_part181_eq_skeleton]; rfl

theorem part182 (v : FVec F S16 .f32) : k1_part182 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 31, .wait 30, .loop 30, .enq 32, .wait 31, .loop 31, .enq 33] (pure ⟨⟩) := by
  rw [k1_part182_eq_skeleton]; rfl

theorem part183 (v : FVec F S16 .f32) : k1_part183 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 32, .loop 32, .enq 34, .wait 33, .loop 33, .enq 35, .wait 34] (pure ⟨0#32, 1#32⟩) := by
  rw [k1_part183_eq_skeleton]; rfl

theorem part184 (v : FVec F S16 .f32) : k1_part184 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 34, .enq 36, .wait 35, .loop 35, .enq 37, .wait 36, .loop 36] (pure ⟨⟩) := by
  rw [k1_part184_eq_skeleton]; rfl

theorem part185 (v : FVec F S16 .f32) : k1_part185 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 38, .wait 37, .loop 37, .enq 39, .wait 38, .loop 38, .enq 40, .wait 39] (pure ⟨⟩) := by
  rw [k1_part185_eq_skeleton]; rfl

theorem part186 (v : FVec F S16 .f32) : k1_part186 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 39, .enq 41, .wait 40, .loop 40, .enq 42, .wait 41, .loop 41] (pure ⟨⟩) := by
  rw [k1_part186_eq_skeleton]; rfl

theorem part187 (v : FVec F S16 .f32) : k1_part187 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 43, .wait 42, .loop 42, .enq 44, .wait 43, .loop 43, .enq 45] (pure ⟨⟩) := by
  rw [k1_part187_eq_skeleton]; rfl

theorem part188 (v : FVec F S16 .f32) : k1_part188 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 44, .loop 44, .enq 46, .wait 45, .loop 45, .enq 47, .wait 46] (pure ⟨0#32, 1#32⟩) := by
  rw [k1_part188_eq_skeleton]; rfl

theorem part189 (v : FVec F S16 .f32) : k1_part189 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 46, .enq 48, .wait 47, .loop 47, .enq 49, .wait 48, .loop 48] (pure ⟨⟩) := by
  rw [k1_part189_eq_skeleton]; rfl

theorem part190 (v : FVec F S16 .f32) : k1_part190 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 50, .wait 49, .loop 49, .enq 51, .wait 50, .loop 50, .enq 52, .wait 51] (pure ⟨⟩) := by
  rw [k1_part190_eq_skeleton]; rfl

theorem part191 (v : FVec F S16 .f32) : k1_part191 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 51, .enq 53, .wait 52, .loop 52, .enq 54, .wait 53, .loop 53] (pure ⟨⟩) := by
  rw [k1_part191_eq_skeleton]; rfl

theorem part192 (v : FVec F S16 .f32) : k1_part192 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 55, .wait 54, .loop 54, .enq 56, .wait 55, .loop 55, .enq 57] (pure ⟨⟩) := by
  rw [k1_part192_eq_skeleton]; rfl

theorem part193 (v : FVec F S16 .f32) : k1_part193 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 56, .loop 56, .enq 58, .wait 57, .loop 57, .enq 59, .wait 58] (pure ⟨0#32, 1#32⟩) := by
  rw [k1_part193_eq_skeleton]; rfl

theorem part194 (v : FVec F S16 .f32) : k1_part194 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 58, .enq 60, .wait 59, .loop 59, .enq 61, .wait 60, .loop 60] (pure ⟨⟩) := by
  rw [k1_part194_eq_skeleton]; rfl

theorem part195 (v : FVec F S16 .f32) : k1_part195 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 62, .wait 61, .loop 61, .enq 63, .wait 62, .loop 62, .enq 64, .wait 63] (pure ⟨⟩) := by
  rw [k1_part195_eq_skeleton]; rfl

theorem part196 (v : FVec F S16 .f32) : k1_part196 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 63, .enq 65, .wait 64, .loop 64, .enq 66, .wait 65, .loop 65] (pure ⟨⟩) := by
  rw [k1_part196_eq_skeleton]; rfl

theorem part197 (v : FVec F S16 .f32) : k1_part197 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 67, .wait 66, .loop 66, .enq 68, .wait 67, .loop 67, .enq 69] (pure ⟨⟩) := by
  rw [k1_part197_eq_skeleton]; rfl

theorem part198 (v : FVec F S16 .f32) : k1_part198 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 68, .loop 68, .enq 70, .wait 69, .loop 69, .enq 71, .wait 70] (pure ⟨0#32, 1#32⟩) := by
  rw [k1_part198_eq_skeleton]; rfl

theorem part199 (v : FVec F S16 .f32) : k1_part199 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 70, .enq 72, .wait 71, .loop 71, .enq 73, .wait 72, .loop 72] (pure ⟨⟩) := by
  rw [k1_part199_eq_skeleton]; rfl

theorem part200 (v : FVec F S16 .f32) : k1_part200 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 74, .wait 73, .loop 73, .enq 75, .wait 74, .loop 74, .enq 76, .wait 75] (pure ⟨⟩) := by
  rw [k1_part200_eq_skeleton]; rfl

theorem part201 (v : FVec F S16 .f32) : k1_part201 (F := F) i arg2 harg2 arg3 harg3 arg4 harg4 arg5 harg5 arg6 harg6 arg7 arg8 v777_r0 v
    = run i arg2 harg2 arg3 harg3 arg4 harg4 arg5 harg5 arg6 harg6 arg7 arg8 v777_r0 v [.loop 75, .enq 77, .wait 76, .loop 76, .enq 78, .wait 77, .loop 77] (pure ⟨⟩) := by
  rw [k1_part201_eq_skeleton]; rfl

theorem part202 (v : FVec F S16 .f32) : k1_part202 (F := F) i arg2 harg2 arg3 harg3 arg4 harg4 arg5 harg5 arg6 harg6 arg7 arg8 v777_r0 v
    = run i arg2 harg2 arg3 harg3 arg4 harg4 arg5 harg5 arg6 harg6 arg7 arg8 v777_r0 v [.enq 79, .wait 78, .loop 78, .enq 80, .wait 79, .loop 79, .enq 81] (pure ⟨⟩) := by
  rw [k1_part202_eq_skeleton]; rfl

theorem part203 (v : FVec F S16 .f32) : k1_part203 (F := F) i arg2 harg2 arg3 harg3 arg4 harg4 arg5 harg5 arg6 harg6 arg7 arg8 v777_r0 v
    = run i arg2 harg2 arg3 harg3 arg4 harg4 arg5 harg5 arg6 harg6 arg7 arg8 v777_r0 v [.wait 80, .loop 80, .enq 82, .wait 81, .loop 81, .enq 83, .wait 82] (pure ⟨0#32, 1#32⟩) := by
  rw [k1_part203_eq_skeleton]; rfl

theorem part204 (v : FVec F S16 .f32) : k1_part204 (F := F) i arg2 harg2 arg3 harg3 arg4 harg4 arg5 harg5 arg6 harg6 arg7 arg8 v777_r0 v 0#32 1#32
    = run i arg2 harg2 arg3 harg3 arg4 harg4 arg5 harg5 arg6 harg6 arg7 arg8 v777_r0 v [.loop 82, .wait 83, .loop 83, .fold 1, .fold 2, .fold 3, .fold 4, .fold 5, .fold 6] (pure ⟨⟩) := by
  rw [k1_part204_eq_skeleton]; rfl

theorem part205 : k1_part205 (F := F) i arg2 harg2 arg3 harg3 arg4 harg4 arg5 harg5 arg6 harg6 arg7 arg8 v777_r0
    = run i arg2 harg2 arg3 harg3 arg4 harg4 arg5 harg5 arg6 harg6 arg7 arg8 v777_r0 (k1_pay86 (F := F)) [.fold 7, .fold 8, .fold 9, .fold 10, .fold 11, .fold 12, .fold 13, .fold 14] (pure 0#32) := by
  rw [k1_part205_eq_skeleton]; rfl

end Cert.Proof
-- ==== Proof.Body.lean ====
/-
  The printed body of the histogram kernel is the run of the whole list of steps, then the copy of the result.
-/
module

public import proofs.«01_k».proof.Proof.Parts
public import proofs.«01_k».proof.Proof.Trace

@[expose] public section

set_option maxRecDepth 65536
set_option maxHeartbeats 0

noncomputable section

namespace Cert.Proof

open Cert.KernelIdeal Cert.KernelIdeal.Gen
open Idealize.ShloMosaic Idealize.SL.Sem

variable {F : FTy → Type} [FloatOps F]
variable (i : grid1.Coords) (arg2 : Memref sig .scVector .hbm S4x21x512x512 .i32) (harg2 : arg2.IsWhole)
  (arg3 : Memref sig .scVector .hbm S32x5504 .f32) (harg3 : arg3.IsWhole) (arg4 : Memref sig .scVector .vmem S16x512 .i32) (harg4 : arg4.IsWhole)
  (arg5 : Memref sig .scVector .vmem S16x512 .i32) (harg5 : arg5.IsWhole) (arg6 : Memref sig .scVector .vmem S88320 .f32) (harg6 : arg6.IsWhole)
  (arg7 arg8 v777_r0 : DmaSems sig S_)

/-- The last lane block is folded by a step of its own. -/
theorem lastFold : Scf.Loop.for k1_t100_loop k1_t100_ok ⟨⟩ (k1_t100_body (F := F) i arg2 harg2 arg3 harg3 arg4 harg4 arg5 harg5 arg6 harg6 arg7 arg8 v777_r0)
    = run i arg2 harg2 arg3 harg3 arg4 harg4 arg5 harg5 arg6 harg6 arg7 arg8 v777_r0 (k1_pay86 (F := F)) [.fold 15] (pure ()) := by
  show _ = (step i arg2 harg2 arg3 harg3 arg4 harg4 arg5 harg5 arg6 harg6 arg7 arg8 v777_r0 (k1_pay86 (F := F)) (.fold 15) >>= fun _ => (pure () : TileProg F i Unit))
  rw [Prog.bind_pure]
  rfl

deriving instance DecidableEq for Op

/-- The steps in the order the parts give them. -/
def partSteps : List Op := List.append (α := Op) [.zero, .enq 0, .enq 1, .wait 0, .loop 0] (List.append (α := Op) [.enq 2, .wait 1, .loop 1, .enq 3, .wait 2, .loop 2, .enq 4, .wait 3] (List.append (α := Op) [.loop 3, .enq 5, .wait 4, .loop 4, .enq 6, .wait 5, .loop 5] (List.append (α := Op) [.enq 7, .wait 6, .loop 6, .enq 8, .wait 7, .loop 7, .enq 9] (List.append (α := Op) [.wait 8, .loop 8, .enq 10, .wait 9, .loop 9, .enq 11, .wait 10] (List.append (α := Op) [.loop 10, .enq 12, .wait 11, .loop 11, .enq 13, .wait 12, .loop 12] (List.append (α := Op) [.enq 14, .wait 13, .loop 13, .enq 15, .wait 14, .loop 14, .enq 16, .wait 15] (List.append (α := Op) [.loop 15, .enq 17, .wait 16, .loop 16, .enq 18, .wait 17, .loop 17] (List.append (α := Op) [.enq 19, .wait 18, .loop 18, .enq 20, .wait 19, .loop 19, .enq 21] (List.append (α := Op) [.wait 20, .loop 20, .enq 22, .wait 21, .loop 21, .enq 23, .wait 22] (List.append (α := Op) [.loop 22, .enq 24, .wait 23, .loop 23, .enq 25, .wait 24, .loop 24] (List.append (α := Op) [.enq 26, .wait 25, .loop 25, .enq 27, .wait 26, .loop 26, .enq 28, .wait 27] (List.append (α := Op) [.loop 27, .enq 29, .wait 28, .loop 28, .enq 30, .wait 29, .loop 29] (List.append (α := Op) [.enq 31, .wait 30, .loop 30, .enq 32, .wait 31, .loop 31, .enq 33] (List.append (α := Op) [.wait 32, .loop 32, .enq 34, .wait 33, .loop 33, .enq 35, .wait 34] (List.append (α := Op) [.loop 34, .enq 36, .wait 35, .loop 35, .enq 37, .wait 36, .loop 36] (List.append (α := Op) [.enq 38, .wait 37, .loop 37, .enq 39, .wait 38, .loop 38, .enq 40, .wait 39] (List.append (α := Op) [.loop 39, .enq 41, .wait 40, .loop 40, .enq 42, .wait 41, .loop 41] (List.append (α := Op) [.enq 43, .wait 42, .loop 42, .enq 44, .wait 43, .loop 43, .enq 45] (List.append (α := Op) [.wait 44, .loop 44, .enq 46, .wait 45, .loop 45, .enq 47, .wait 46] (List.append (α := Op) [.loop 46, .enq 48, .wait 47, .loop 47, .enq 49, .wait 48, .loop 48] (List.append (α := Op) [.enq 50, .wait 49, .loop 49, .enq 51, .wait 50, .loop 50, .enq 52, .wait 51] (List.append (α := Op) [.loop 51, .enq 53, .wait 52, .loop 52, .enq 54, .wait 53, .loop 53] (List.append (α := Op) [.enq 55, .wait 54, .loop 54, .enq 56, .wait 55, .loop 55, .enq 57] (List.append (α := Op) [.wait 56, .loop 56, .enq 58, .wait 57, .loop 57, .enq 59, .wait 58] (List.append (α := Op) [.loop 58, .enq 60, .wait 59, .loop 59, .enq 61, .wait 60, .loop 60] (List.append (α := Op) [.enq 62, .wait 61, .loop 61, .enq 63, .wait 62, .loop 62, .enq 64, .wait 63] (List.append (α := Op) [.loop 63, .enq 65, .wait 64, .loop 64, .enq 66, .wait 65, .loop 65] (List.append (α := Op) [.enq 67, .wait 66, .loop 66, .enq 68, .wait 67, .loop 67, .enq 69] (List.append (α := Op) [.wait 68, .loop 68, .enq 70, .wait 69, .loop 69, .enq 71, .wait 70] (List.append (α := Op) [.loop 70, .enq 72, .wait 71, .loop 71, .enq 73, .wait 72, .loop 72] (List.append (α := Op) [.enq 74, .wait 73, .loop 73, .enq 75, .wait 74, .loop 74, .enq 76, .wait 75] (List.append (α := Op) [.loop 75, .enq 77, .wait 76, .loop 76, .enq 78, .wait 77, .loop 77] (List.append (α := Op) [.enq 79, .wait 78, .loop 78, .enq 80, .wait 79, .loop 79, .enq 81] (List.append (α := Op) [.wait 80, .loop 80, .enq 82, .wait 81, .loop 81, .enq 83, .wait 82] (List.append (α := Op) [.loop 82, .wait 83, .loop 83, .fold 1, .fold 2, .fold 3, .fold 4, .fold 5, .fold 6] (List.append (α := Op) [.fold 7, .fold 8, .fold 9, .fold 10, .fold 11, .fold 12, .fold 13, .fold 14] (List.append (α := Op) [.fold 15] [])))))))))))))))))))))))))))))))))))))

theorem partSteps_eq : partSteps = trace := by decide +kernel

/-- A part that is a run of steps, then what is a run of more. -/
theorem chain {α β : Type} (v : FVec F S16 .f32) {os os' : List Op} {x : α} {p : TileProg F i α} {k : α → TileProg F i β} {q : TileProg F i β}
    (h : p = run i arg2 harg2 arg3 harg3 arg4 harg4 arg5 harg5 arg6 harg6 arg7 arg8 v777_r0 v os (pure x))
    (hk : k x = run i arg2 harg2 arg3 harg3 arg4 harg4 arg5 harg5 arg6 harg6 arg7 arg8 v777_r0 v os' q) :
    (p >>= k) = run i arg2 harg2 arg3 harg3 arg4 harg4 arg5 harg5 arg6 harg6 arg7 arg8 v777_r0 v (List.append os os') q := by
  show _ = run i arg2 harg2 arg3 harg3 arg4 harg4 arg5 harg5 arg6 harg6 arg7 arg8 v777_r0 v (os ++ os') q
  rw [h, run_bind, ← run_run, ← hk]; rfl

/-- The kernel's body is the run of its steps, then the copy of its result. -/
theorem body_eq : cc1__sc_hist_body (F := F) i arg2 harg2 arg3 harg3 arg4 harg4 arg5 harg5 arg6 harg6 arg7 arg8 v777_r0
    = run i arg2 harg2 arg3 harg3 arg4 harg4 arg5 harg5 arg6 harg6 arg7 arg8 v777_r0 (k1_pay86 (F := F)) trace (writeOut i arg3 arg6 v777_r0) := by
  rw [cc1__sc_hist_body_eq_skeleton, ← partSteps_eq]
  unfold cc1__sc_hist_body_skel writeOut
  rw [k1_part206_eq_skeleton, ← run_bind]
  refine congrArg (fun p => p >>= _) ?_
  unfold k1_part206_skel partSteps
  refine chain _ _ _ _ _ _ _ _ _ _ _ _ _ _ _ (part169 i arg2 harg2 arg3 harg3 arg4 harg4 arg5 harg5 arg6 harg6 arg7 arg8 v777_r0) ?_
  refine chain _ _ _ _ _ _ _ _ _ _ _ _ _ _ _ (part170 i arg2 harg2 arg3 harg3 arg4 harg4 arg5 harg5 arg6 harg6 arg7 arg8 v777_r0 _) ?_
  refine chain _ _ _ _ _ _ _ _ _ _ _ _ _ _ _ (part171 i arg2 harg2 arg3 harg3 arg4 harg4 arg5 harg5 arg6 harg6 arg7 arg8 v777_r0 _) ?_
  refine chain _ _ _ _ _ _ _ _ _ _ _ _ _ _ _ (part172 i arg2 harg2 arg3 harg3 arg4 harg4 arg5 harg5 arg6 harg6 arg7 arg8 v777_r0 _) ?_
  refine chain _ _ _ _ _ _ _ _ _ _ _ _ _ _ _ (part173 i arg2 harg2 arg3 harg3 arg4 harg4 arg5 harg5 arg6 harg6 arg7 arg8 v777_r0 _) ?_
  refine chain _ _ _ _ _ _ _ _ _ _ _ _ _ _ _ (part174 i arg2 harg2 arg3 harg3 arg4 harg4 arg5 harg5 arg6 harg6 arg7 arg8 v777_r0 _) ?_
  refine chain _ _ _ _ _ _ _ _ _ _ _ _ _ _ _ (part175 i arg2 harg2 arg3 harg3 arg4 harg4 arg5 harg5 arg6 harg6 arg7 arg8 v777_r0 _) ?_
  refine chain _ _ _ _ _ _ _ _ _ _ _ _ _ _ _ (part176 i arg2 harg2 arg3 harg3 arg4 harg4 arg5 harg5 arg6 harg6 arg7 arg8 v777_r0 _) ?_
  refine chain _ _ _ _ _ _ _ _ _ _ _ _ _ _ _ (part177 i arg2 harg2 arg3 harg3 arg4 harg4 arg5 harg5 arg6 harg6 arg7 arg8 v777_r0 _) ?_
  refine chain _ _ _ _ _ _ _ _ _ _ _ _ _ _ _ (part178 i arg2 harg2 arg3 harg3 arg4 harg4 arg5 harg5 arg6 harg6 arg7 arg8 v777_r0 _) ?_
  refine chain _ _ _ _ _ _ _ _ _ _ _ _ _ _ _ (part179 i arg2 harg2 arg3 harg3 arg4 harg4 arg5 harg5 arg6 harg6 arg7 arg8 v777_r0 _) ?_
  refine chain _ _ _ _ _ _ _ _ _ _ _ _ _ _ _ (part180 i arg2 harg2 arg3 harg3 arg4 harg4 arg5 harg5 arg6 harg6 arg7 arg8 v777_r0 _) ?_
  refine chain _ _ _ _ _ _ _ _ _ _ _ _ _ _ _ (part181 i arg2 harg2 arg3 harg3 arg4 harg4 arg5 harg5 arg6 harg6 arg7 arg8 v777_r0 _) ?_
  refine chain _ _ _ _ _ _ _ _ _ _ _ _ _ _ _ (part182 i arg2 harg2 arg3 harg3 arg4 harg4 arg5 harg5 arg6 harg6 arg7 arg8 v777_r0 _) ?_
  refine chain _ _ _ _ _ _ _ _ _ _ _ _ _ _ _ (part183 i arg2 harg2 arg3 harg3 arg4 harg4 arg5 harg5 arg6 harg6 arg7 arg8 v777_r0 _) ?_
  refine chain _ _ _ _ _ _ _ _ _ _ _ _ _ _ _ (part184 i arg2 harg2 arg3 harg3 arg4 harg4 arg5 harg5 arg6 harg6 arg7 arg8 v777_r0 _) ?_
  refine chain _ _ _ _ _ _ _ _ _ _ _ _ _ _ _ (part185 i arg2 harg2 arg3 harg3 arg4 harg4 arg5 harg5 arg6 harg6 arg7 arg8 v777_r0 _) ?_
  refine chain _ _ _ _ _ _ _ _ _ _ _ _ _ _ _ (part186 i arg2 harg2 arg3 harg3 arg4 harg4 arg5 harg5 arg6 harg6 arg7 arg8 v777_r0 _) ?_
  refine chain _ _ _ _ _ _ _ _ _ _ _ _ _ _ _ (part187 i arg2 harg2 arg3 harg3 arg4 harg4 arg5 harg5 arg6 harg6 arg7 arg8 v777_r0 _) ?_
  refine chain _ _ _ _ _ _ _ _ _ _ _ _ _ _ _ (part188 i arg2 harg2 arg3 harg3 arg4 harg4 arg5 harg5 arg6 harg6 arg7 arg8 v777_r0 _) ?_
  refine chain _ _ _ _ _ _ _ _ _ _ _ _ _ _ _ (part189 i arg2 harg2 arg3 harg3 arg4 harg4 arg5 harg5 arg6 harg6 arg7 arg8 v777_r0 _) ?_
  refine chain _ _ _ _ _ _ _ _ _ _ _ _ _ _ _ (part190 i arg2 harg2 arg3 harg3 arg4 harg4 arg5 harg5 arg6 harg6 arg7 arg8 v777_r0 _) ?_
  refine chain _ _ _ _ _ _ _ _ _ _ _ _ _ _ _ (part191 i arg2 harg2 arg3 harg3 arg4 harg4 arg5 harg5 arg6 harg6 arg7 arg8 v777_r0 _) ?_
  refine chain _ _ _ _ _ _ _ _ _ _ _ _ _ _ _ (part192 i arg2 harg2 arg3 harg3 arg4 harg4 arg5 harg5 arg6 harg6 arg7 arg8 v777_r0 _) ?_
  refine chain _ _ _ _ _ _ _ _ _ _ _ _ _ _ _ (part193 i arg2 harg2 arg3 harg3 arg4 harg4 arg5 harg5 arg6 harg6 arg7 arg8 v777_r0 _) ?_
  refine chain _ _ _ _ _ _ _ _ _ _ _ _ _ _ _ (part194 i arg2 harg2 arg3 harg3 arg4 harg4 arg5 harg5 arg6 harg6 arg7 arg8 v777_r0 _) ?_
  refine chain _ _ _ _ _ _ _ _ _ _ _ _ _ _ _ (part195 i arg2 harg2 arg3 harg3 arg4 harg4 arg5 harg5 arg6 harg6 arg7 arg8 v777_r0 _) ?_
  refine chain _ _ _ _ _ _ _ _ _ _ _ _ _ _ _ (part196 i arg2 harg2 arg3 harg3 arg4 harg4 arg5 harg5 arg6 harg6 arg7 arg8 v777_r0 _) ?_
  refine chain _ _ _ _ _ _ _ _ _ _ _ _ _ _ _ (part197 i arg2 harg2 arg3 harg3 arg4 harg4 arg5 harg5 arg6 harg6 arg7 arg8 v777_r0 _) ?_
  refine chain _ _ _ _ _ _ _ _ _ _ _ _ _ _ _ (part198 i arg2 harg2 arg3 harg3 arg4 harg4 arg5 harg5 arg6 harg6 arg7 arg8 v777_r0 _) ?_
  refine chain _ _ _ _ _ _ _ _ _ _ _ _ _ _ _ (part199 i arg2 harg2 arg3 harg3 arg4 harg4 arg5 harg5 arg6 harg6 arg7 arg8 v777_r0 _) ?_
  refine chain _ _ _ _ _ _ _ _ _ _ _ _ _ _ _ (part200 i arg2 harg2 arg3 harg3 arg4 harg4 arg5 harg5 arg6 harg6 arg7 arg8 v777_r0 _) ?_
  refine chain _ _ _ _ _ _ _ _ _ _ _ _ _ _ _ (part201 i arg2 harg2 arg3 harg3 arg4 harg4 arg5 harg5 arg6 harg6 arg7 arg8 v777_r0 _) ?_
  refine chain _ _ _ _ _ _ _ _ _ _ _ _ _ _ _ (part202 i arg2 harg2 arg3 harg3 arg4 harg4 arg5 harg5 arg6 harg6 arg7 arg8 v777_r0 _) ?_
  refine chain _ _ _ _ _ _ _ _ _ _ _ _ _ _ _ (part203 i arg2 harg2 arg3 harg3 arg4 harg4 arg5 harg5 arg6 harg6 arg7 arg8 v777_r0 _) ?_
  refine chain _ _ _ _ _ _ _ _ _ _ _ _ _ _ _ (part204 i arg2 harg2 arg3 harg3 arg4 harg4 arg5 harg5 arg6 harg6 arg7 arg8 v777_r0 _) ?_
  refine chain _ _ _ _ _ _ _ _ _ _ _ _ _ _ _ (part205 i arg2 harg2 arg3 harg3 arg4 harg4 arg5 harg5 arg6 harg6 arg7 arg8 v777_r0) ?_
  refine chain _ _ _ _ _ _ _ _ _ _ _ _ _ _ _ (lastFold i arg2 harg2 arg3 harg3 arg4 harg4 arg5 harg5 arg6 harg6 arg7 arg8 v777_r0) ?_
  rfl

end Cert.Proof
-- ==== Proof.Deal.lean ====
/-
  The SparseCore call: what the TensorCore hands each tile and gets back, and the tile's task as the launch theorem
  asks for it.
-/
module

public import proofs.«01_k».proof.Proof.TileBody
public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The tile on subcore `s` of SparseCore `c`. -/
def coordsOf (c : Fin 2) (s : Fin 16) : grid1.Coords :=
  fun | 0 => c | 1 => s | ⟨_ + 2, h⟩ => absurd h (Nat.not_lt.2 (Nat.le_add_left _ _))

/-- The tiles, counted. -/
def tiles : Fin 2 × Fin 16 ≃ Fin 32 where
  toFun p := tileIx (coordsOf p.1 p.2)
  invFun w := (⟨w.val % 2, by omega⟩, ⟨w.val / 2, by omega⟩)
  left_inv p := by
    rcases p with ⟨c, s⟩
    refine Prod.ext (Fin.ext ?_) (Fin.ext ?_)
    · show (s.val * 2 + c.val) % 2 = c.val; omega
    · show (s.val * 2 + c.val) / 2 = s.val; omega
  right_inv w := Fin.ext (by show w.val / 2 * 2 + w.val % 2 = w.val; omega)

/-- The vector subcore's body of the call. -/
theorem defs₀_vector (c : Fin τ.nSC) (s : Fin τ.nSub) :
    defs₀ (F := F) (.scVector c s) 1 ()
      = SparseCore.onTile hcore1 hsub1 (fun c s => cc1__sc_hist_body (coordsOf c s)
          gV (Memref.isWhole_whole _) oV (Memref.isWhole_whole _) eV (Memref.isWhole_whole _) odV (Memref.isWhole_whole _) hV (Memref.isWhole_whole _)
          cc1_scratch3 cc1_scratch4 cc1_scoped0) ⟨⟩ c s := rfl

section

variable (m : (ℓ : Loc nD τ sig) → Buf (Elt F) ℓ) (X : Dev nD → Vec F S4x21x512x512 .i32)

abbrev gLoc (d : Dev nD) : Loc nD τ sig := (T d : Thread nD τ).loc main_v0
abbrev rLoc (d : Dev nD) : Loc nD τ sig := (T d : Thread nD τ).loc main_v1

/-- A tile's part: a share of the index array and its row. -/
abbrev part (d : Dev nD) (i : grid1.Coords) (f : Vec F S32x5504 .f32) : sProp 𝕄 :=
  iprop(gPts d i (X d) (shareTok fullShare 32 (tileIx i)) ∗ rowPts d i f)

theorem pts_storable (ℓ : Loc nD τ sig) (A : Finset (Idx ℓ)) (q : PosShare TreeShare) (f : Buf (Elt F) ℓ) :
    BI.Storable (upEmb : UEmb _ 𝕄) (ℓ ↦[A]{q} f) := inferInstance

instance part_storable (d : Dev nD) (i : grid1.Coords) (f : Vec F S32x5504 .f32) : BI.Storable (upEmb : UEmb _ 𝕄) (part X d i f) := by
  have h1 : BI.Storable (upEmb : UEmb _ 𝕄) (gPts d i (X d) (shareTok fullShare 32 (tileIx i))) := by unfold gPts; infer_instance
  have h2 : BI.Storable (upEmb : UEmb _ 𝕄) (rowPts d i f) := pts_storable _ _ _ _
  unfold part; infer_instance

/-- What the call's messages carry: to each tile its part with the row as it was, back the row at the histogram. -/
def P : (K (F := F)).Pay (nD := nD) (Val := Elt F) (Name := ℕ) (U := UU) where
  st | 0, d, c => bigSep Finset.univ fun i => part X d (coordsOf c i) (m (rLoc d))
  dn | 0, d, c => bigSep Finset.univ fun i => part X d (coordsOf c i) (allHists (X d))
  go | 0, d, c, i => part X d (coordsOf c i) (m (rLoc d))
  td | 0, d, c, i => part X d (coordsOf c i) (allHists (X d))
  x _ _ := iprop(emp)

instance P_storable : (P m X).IsStorable where
  st | 0, d, c => (inferInstance : BI.Storable (upEmb : UEmb _ 𝕄) (bigSep Finset.univ fun i : Fin 16 => part X d (coordsOf c i) (m (rLoc d))))
  dn | 0, d, c => (inferInstance : BI.Storable (upEmb : UEmb _ 𝕄) (bigSep Finset.univ fun i : Fin 16 => part X d (coordsOf c i) (allHists (X d))))
  go | 0, d, c, i => (inferInstance : BI.Storable (upEmb : UEmb _ 𝕄) (part X d (coordsOf c i) (m (rLoc d))))
  td | 0, d, c, i => (inferInstance : BI.Storable (upEmb : UEmb _ 𝕄) (part X d (coordsOf c i) (allHists (X d))))

theorem vecSplit : (K (F := F)).VecSplit' (P m X) 0 := by
  intro d c
  show (bigSep Finset.univ fun i : Fin 16 => part X d (coordsOf c i) (m (rLoc d)))
    ⊢ |={Set.univ}=> iprop((bigSep Finset.univ fun i : Fin 16 => part X d (coordsOf c i) (m (rLoc d)))
      ∗ ((bigSep Finset.univ fun i : Fin 16 => part X d (coordsOf c i) (allHists (X d))) -∗ bigSep Finset.univ fun i : Fin 16 => part X d (coordsOf c i) (allHists (X d))))
  iintro H; imodintro
  isplitl [H]; · iexact H
  iintro H; iexact H

theorem wider {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem noExtra {A B C D E : sProp 𝕄} : iprop(A ∗ emp ∗ B ∗ C ∗ D ∗ E) ⊢ iprop(A ∗ B ∗ C ∗ D ∗ E) := by
  iintro ⟨HA, -, H⟩
  isplitl [HA]; · iexact HA
  iexact H

theorem tileObl (hX : ∀ d p, (X d p).toNat < 88320) : (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [body_eq]
  exact noExtra.trans ((task_ok d (coordsOf ⟨_, hc.1⟩ ⟨_, hc.2⟩) (X d) (hX d) (shareTok fullShare 32 (tileIx (coordsOf c i))) (m (rLoc d)) facts O W hO).trans (wp_mono frame _ _ fun _ => wider))

/-- The rows of the array of histograms. -/
def rowSet (w : Fin 32) : Finset S32x5504.Idx := Finset.univ.filter fun j => (j 0).val = w.val

theorem mem_rowSet {w : Fin 32} {j : S32x5504.Idx} : j ∈ rowSet w ↔ (j 0).val = w.val := by simp [rowSet]

theorem outRow_set (i : grid1.Coords) : ((outRow i oV).view.set : Finset S32x5504.Idx) = rowSet (tileIx i) := by
  ext j
  constructor
  · intro hj
    obtain ⟨x, -, rfl⟩ := Finset.mem_map.mp hj
    exact mem_rowSet.mpr (outRow_emb i x).1
  · intro hj
    have h0 := mem_rowSet.mp hj
    let x : S5504.Idx := fun | 0 => ⟨((show S32x5504.Idx from j) 1).val, ((show S32x5504.Idx from j) 1).isLt⟩
    refine Finset.mem_map.mpr ⟨x, Finset.mem_univ _, ?_⟩
    have h := outRow_emb i x
    show (show S32x5504.Idx from (outRow i oV).view.emb x) = j
    funext a
    match a with
    | 0 => exact Fin.ext (h.1.trans h0.symm)
    | 1 => exact Fin.ext h.2

theorem rows_cover : (Finset.univ : Finset (Fin 32)).biUnion rowSet = Finset.univ :=
  Finset.eq_univ_of_forall fun j => Finset.mem_biUnion.mpr ⟨⟨(j 0).val, (j 0).isLt⟩, Finset.mem_univ _, mem_rowSet.mpr rfl⟩

theorem rows_disjoint : ∀ w ∈ (Finset.univ : Finset (Fin 32)), ∀ w' ∈ (Finset.univ : Finset (Fin 32)), w ≠ w' → Disjoint (rowSet w) (rowSet w') :=
  fun w _ w' _ h => Finset.disjoint_left.mpr fun j h1 h2 => h (Fin.ext ((mem_rowSet.mp h1).symm.trans (mem_rowSet.mp h2)))

theorem rows_all (d : Dev nD) (f : Vec F S32x5504 .f32) :
    (rLoc d ↦{fullShare} f : sProp 𝕄) = bigSep Finset.univ fun w : Fin 32 => rLoc d ↦[rowSet w]{fullShare} f := by
  rw [← pointsTo_biUnion Finset.univ (ℓ := rLoc d) rowSet rows_disjoint, rows_cover]; try rfl

/-- The tiles' parts are the shares of the index array and the rows. -/
theorem parts_eq (d : Dev nD) (f : Vec F S32x5504 .f32) :
    (bigSep Finset.univ fun c : Fin 2 => bigSep Finset.univ fun i : Fin 16 => part X d (coordsOf c i) f)
      = (iprop((bigSep Finset.univ fun w : Fin 32 => gLoc d ↦{shareTok fullShare 32 w} X d) ∗ rLoc d ↦{fullShare} f) : sProp 𝕄) := by
  rw [rows_all, ← bigSep_sep', bigSep_univ_equiv tiles, bigSep_univ_prod]
  refine bigSep_congr fun c _ => bigSep_congr fun i _ => ?_
  show _ = iprop((gLoc d ↦{shareTok fullShare 32 (tileIx (coordsOf c i))} X d) ∗ rLoc d ↦[rowSet (tileIx (coordsOf c i))]{fullShare} f)
  rw [← outRow_set]; rfl

/-- The parts dealt. -/
theorem deal (d : Dev nD) (f : Vec F S32x5504 .f32) :
    iprop((gLoc d ↦{fullShare} X d) ∗ rLoc d ↦{fullShare} f)
      ⊢ (iprop((gLoc d ↦{shareDrop fullShare 32} X d)
          ∗ bigSep Finset.univ fun c : Fin 2 => bigSep Finset.univ fun i : Fin 16 => part X d (coordsOf c i) f) : sProp 𝕄) := by
  rw [parts_eq]
  iintro ⟨Hg, Hr⟩
  ihave H := (pointsTo_toks_split fullShare 32) $$ Hg
  icases H with ⟨Hd, Ht⟩
  isplitl [Hd]; · iexact Hd
  isplitl [Ht]; · iexact Ht
  iexact Hr

/-- The parts gathered. -/
theorem gather (d : Dev nD) (f : Vec F S32x5504 .f32) :
    iprop((gLoc d ↦{shareDrop fullShare 32} X d)
          ∗ bigSep Finset.univ fun c : Fin 2 => bigSep Finset.univ fun i : Fin 16 => part X d (coordsOf c i) f)
      ⊢ (iprop((gLoc d ↦{fullShare} X d) ∗ rLoc d ↦{fullShare} f) : sProp 𝕄) := by
  rw [parts_eq]
  iintro ⟨Hd, Ht, Hr⟩
  isplitl [Hd Ht]
  · iapply (pointsTo_toks_join fullShare 32)
    isplitl [Hd]; · iexact Hd
    iexact Ht
  iexact Hr

end

end Cert.Proof
-- ==== Proof.Launch.lean ====
/-
  The program's run: the preparing kernel, the SparseCore call, the host operations between, the loss kernel. Over any
  float values: it ends with the arguments unchanged, every semaphore at zero and the result at the loss of the
  histograms of the word indices.
-/
module

public import proofs.«01_k».proof.Proof.Segs
public import proofs.«01_k».proof.Proof.Deal
public import Idealize.ShloMosaic.Lib.StableHlo.Run

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The TensorCore's buffers as a valuation -/

abbrev Vals (F : FTy → Type) : Type := Valuation τ sig (Elt F)

/-- The TensorCore's unscoped buffers. -/
def kept : Finset (DevRef τ sig) := (StableHlo.tcRefs τ sig).filter fun b => ¬ b.isScoped

theorem kept_held (c : Dev nD) (W : Vals F) : (unscopedBufs c (fun b => W b) : sProp 𝕄) = StableHlo.held (T c) kept W := by
  unfold unscopedBufs StableHlo.held kept StableHlo.tcRefs
  rw [Finset.filter_map, bigSep_map]; rfl

/-- The slice, and the two changes of shape. -/
abbrev opSlice : HloOp τ sig (Elt F) :=
  StableHlo.unary main_v1 main_v2 ((extractStridedSlice S32x5376 ![0, 0] · slices_S32x5504_S32x5376_0_0) : (⟨S32x5504, .f32⟩ : BufTy).Contents (Elt F) → (⟨S32x5376, .f32⟩ : BufTy).Contents (Elt F))
abbrev opRows : HloOp τ sig (Elt F) := StableHlo.reshape main_v2 main_v3 (rfl : (.f32 : EltTy) = .f32) shapeCasts_S32x5376_S32x42x128
abbrev opOut : HloOp τ sig (Elt F) := StableHlo.reshape main_v4 main_v5 (rfl : (.f32 : EltTy) = .f32) shapeCasts_S1x1_S_

theorem opSlice_sub : (opSlice (F := F)).bufs ⊆ kept := show ({Proc.devRef .tc main_v1, Proc.devRef .tc main_v2} : Finset (DevRef τ sig)) ⊆ kept by decide
theorem opRows_sub : (opRows (F := F)).bufs ⊆ kept := show ({Proc.devRef .tc main_v2, Proc.devRef .tc main_v3} : Finset (DevRef τ sig)) ⊆ kept by decide
theorem opOut_sub : (opOut (F := F)).bufs ⊆ kept := show ({Proc.devRef .tc main_v4, Proc.devRef .tc main_v5} : Finset (DevRef τ sig)) ⊆ kept by decide

/-- The buffer written at a value. -/
def put (W : Vals F) (r : Ref sig .tc) (v : r.ty.Contents (Elt F)) : Vals F := Function.update W (r : DevRef τ sig) v

theorem put_self (W : Vals F) (r : Ref sig .tc) (v : r.ty.Contents (Elt F)) : put W r v r = v := Function.update_self _ _ _
theorem put_ne (W : Vals F) {r b : Ref sig .tc} (v : r.ty.Contents (Elt F)) (h : b ≠ r) : put W r v b = W b :=
  Function.update_of_ne (StableHlo.devRef_ne_of_ne h) _ _

section

variable (m : (ℓ : Loc nD τ sig) → Buf (Elt F) ℓ) (ρ : Dev nD → PrngReg)

/-- The buffers at the start, and after each operation. -/
def V0 (d : Dev nD) : Vals F := fun b => m (d, b)
/-- The array of word indices. -/
def idxs (d : Dev nD) : Vec F S4x21x512x512 .i32 := idxArr (V0 m d main_arg0) (V0 m d main_arg1)
def V1 (d : Dev nD) : Vals F := put (V0 m d) main_v0 (idxs m d)
def V2 (d : Dev nD) : Vals F := put (V1 m d) main_v1 (allHists (idxs m d))
def V3 (d : Dev nD) : Vals F := (opSlice (F := F)).result (V2 m d)
def V4 (d : Dev nD) : Vals F := (opRows (F := F)).result (V3 m d)
def V5 (d : Dev nD) : Vals F := put (V4 m d) main_v4 (k2_pay1 (F := F) (V4 m d main_v3))
def V6 (d : Dev nD) : Vals F := (opOut (F := F)).result (V5 m d)

/-- The histograms as the loss kernel reads them. -/
def histRows (d : Dev nD) : Vec F S32x42x128 .f32 :=
  shapeCast S32x42x128 (extractStridedSlice S32x5376 ![0, 0] (allHists (idxs m d)) slices_S32x5504_S32x5376_0_0) shapeCasts_S32x5376_S32x42x128

/-- The program's result. -/
def result (d : Dev nD) : Vec F S_ .f32 := shapeCast S_ (k2_pay1 (F := F) (histRows m d)) shapeCasts_S1x1_S_

theorem V4_v3 (d : Dev nD) : V4 m d main_v3 = histRows m d := by
  unfold V4 V3
  rw [StableHlo.reshape_result', StableHlo.unary_result']
  rw [show V2 m d main_v1 = allHists (idxs m d) from put_self _ _ _]; rfl

theorem V6_v5 (d : Dev nD) : V6 m d main_v5 = result m d := by
  unfold V6
  rw [StableHlo.reshape_result']
  rw [show V5 m d main_v4 = k2_pay1 (F := F) (histRows m d) from (put_self _ _ _).trans (by rw [V4_v3])]; rfl

theorem V6_arg0 (d : Dev nD) : V6 m d main_arg0 = m ((T d : Thread nD τ).loc main_arg0) := by
  unfold V6
  rw [StableHlo.reshape_result_ne' (h := show main_arg0 ≠ main_v5 by decide)]
  unfold V5
  rw [put_ne _ _ (show main_arg0 ≠ main_v4 by decide)]
  unfold V4 V3
  rw [StableHlo.reshape_result_ne' (h := show main_arg0 ≠ main_v3 by decide), StableHlo.unary_result_ne' (h := show main_arg0 ≠ main_v2 by decide)]
  unfold V2 V1
  rw [put_ne _ _ (show main_arg0 ≠ main_v1 by decide), put_ne _ _ (show main_arg0 ≠ main_v0 by decide)]; rfl

theorem V6_arg1 (d : Dev nD) : V6 m d main_arg1 = m ((T d : Thread nD τ).loc main_arg1) := by
  unfold V6
  rw [StableHlo.reshape_result_ne' (h := show main_arg1 ≠ main_v5 by decide)]
  unfold V5
  rw [put_ne _ _ (show main_arg1 ≠ main_v4 by decide)]
  unfold V4 V3
  rw [StableHlo.reshape_result_ne' (h := show main_arg1 ≠ main_v3 by decide), StableHlo.unary_result_ne' (h := show main_arg1 ≠ main_v2 by decide)]
  unfold V2 V1
  rw [put_ne _ _ (show main_arg1 ≠ main_v1 by decide), put_ne _ _ (show main_arg1 ≠ main_v0 by decide)]; rfl

/-! ## The steps of @main -/

abbrev mwp (d : Dev nD) {α : Type} (p : Prog (TpuEff nD τ sig (Elt F) (SparseCore.Sig (ΛP (F := F)) 1) .tc) α) (Q : α → sProp 𝕄) : sProp 𝕄 :=
  wp frame (wpE ((K (F := F)).defs (D (F := F))) 𝒱 (T d) none) Set.univ p Q

/-- The pipelines as the regions name them. -/
abbrev pins : Fin 2 → Pipeline.Cfg sig Λ₀ := Pipeline.pin (pcfgs (F := F)) adm
theorem pins_inj : Function.Injective (Pipeline.cellOf (nD := nD) (τ := τ) (pins (F := F))) := cellOf_inj

/-- A pipeline's ghost state on a core. -/
abbrev ghost (p : Fin 2) (c : Dev nD) : sProp 𝕄 := iprop(Pipeline.cellsGhost (pins (F := F)) EP p c ∗ Pipeline.toksInit (pins (F := F)) EP p c)

theorem region_ok [∀ e, Nonempty (Elt F e)] {pd : Data F} {p : Fin 2}
    (R : Pipeline.RegionSeg (pcfgs (F := F)) adm pd none defs₀ 𝒱₀ (K (F := F)).L (K (F := F)).lev p) (d : Dev nD) (Φ : PUnit → sProp 𝕄) :
    iprop((iprop(boundary (T d) ∗ R.post d) -∗ Φ ⟨⟩) ∗ boundary (T d) ∗ R.pre d ∗ levAts (K (F := F)).L (K (F := F)).lev ∗ ghost p d)
      ⊢ mwp d (Prog.lift (.customCall (SparseCore.inner (Pipeline.entry p)) ())) Φ := by
  have h := Pipeline.RegionSeg.wp (pcfgs (F := F)) adm pd none pins_inj EP defs₀ 𝒱₀ (K (F := F)).L (K (F := F)).lev R d none (fun u hu => by simp at hu)
    (fun _ => Prog.ret PUnit.unit) Φ
  have h' := (K (F := F)).wp_liftProg (D (F := F)) 𝒱 (T d) Set.univ none (.op (.customCall (Pipeline.entry p) ()) fun _ => Prog.ret PUnit.unit) Φ
  refine BIBase.Entails.trans ?_ (h.trans h')
  iintro ⟨Hk, Hb, Hp, Hl, Hg⟩
  isplitl [Hk]
  · iintro H
    rw [wp_ret]; imodintro
    iapply Hk; iexact H
  isplitl [Hb]; · iexact Hb
  isplitl [Hp]; · iexact Hp
  isplitl [Hl]; · iexact Hl
  iexact Hg

/-- The word indices' array and the histograms' array out of the buffers. -/
theorem take_two (d : Dev nD) (W : Vals F) :
    (StableHlo.held (T d) kept W : sProp 𝕄)
      = iprop((gLoc d ↦{fullShare} W main_v0) ∗ (rLoc d ↦{fullShare} W main_v1)
          ∗ StableHlo.held (T d) ((kept.erase (main_v0 : DevRef τ sig)).erase (main_v1 : DevRef τ sig)) W) := by
  unfold StableHlo.held
  rw [SparseCore.bigSep_erase' (show (main_v0 : DevRef τ sig) ∈ kept by decide),
    SparseCore.bigSep_erase' (show (main_v1 : DevRef τ sig) ∈ kept.erase (main_v0 : DevRef τ sig) by decide)]

theorem rest_eq (d : Dev nD) :
    (StableHlo.held (T d) ((kept.erase (main_v0 : DevRef τ sig)).erase (main_v1 : DevRef τ sig)) (V1 m d) : sProp 𝕄)
      = StableHlo.held (T d) ((kept.erase (main_v0 : DevRef τ sig)).erase (main_v1 : DevRef τ sig)) (V2 m d) :=
  StableHlo.held_congr _ fun b hb => (Function.update_of_ne (Finset.mem_erase.mp hb).1 _ _).symm

/-- The preparing kernel's region in this run. -/
def segA : Pipeline.RegionSeg (pcfgs (F := F)) adm (prepData fun c b => V0 m c b) none defs₀ 𝒱₀ (K (F := F)).L (K (F := F)).lev 0 :=
  prepSeg (fun c b => V0 m c b) (fun c b => V1 m c b) (fun c => put_self _ _ _) (fun c b h => put_ne _ _ h)

/-- The loss kernel's region in this run. -/
def segB : Pipeline.RegionSeg (pcfgs (F := F)) adm (lossData fun c b => V4 m c b) none defs₀ 𝒱₀ (K (F := F)).L (K (F := F)).lev 1 :=
  lossSeg (fun c b => V4 m c b) (fun c b => V5 m c b) (fun c => put_self _ _ _) (fun c b h => put_ne _ _ h)

theorem segA_pre (d : Dev nD) : (segA m).pre d = iprop(StableHlo.held (T d) kept (V0 m d) ∗ debts d 0) := by
  rw [← kept_held]; rfl
theorem segA_post (d : Dev nD) : (segA m).post d = iprop(StableHlo.held (T d) kept (V1 m d) ∗ debts d 0) := by
  rw [← kept_held]; rfl
theorem segB_pre (d : Dev nD) : (segB m).pre d = iprop(StableHlo.held (T d) kept (V4 m d) ∗ debts d 1) := by
  rw [← kept_held]; rfl
theorem segB_post (d : Dev nD) : (segB m).post d = iprop(StableHlo.held (T d) kept (V5 m d) ∗ debts d 1) := by
  rw [← kept_held]; rfl

/-- The SparseCore call on the buffers. -/
theorem call_ok (κ : GSem nD τ sig → ℕ) (d : Dev nD) (Φ : PUnit → sProp 𝕄) :
    iprop((K (F := F)).ctx EH (P m (idxs m)) κ ∗ (K (F := F)).tcSt EH d 0 ∗ StableHlo.held (T d) kept (V1 m d)
        ∗ (iprop((K (F := F)).tcSt EH d 1 ∗ StableHlo.held (T d) kept (V2 m d)) -∗ Φ ⟨⟩))
      ⊢ mwp d ((K (F := F)).run d 0) Φ := by
  rw [take_two, take_two, ← rest_eq, show V1 m d main_v0 = idxs m d from put_self _ _ _,
    show V1 m d main_v1 = m (rLoc d) from put_ne _ _ (show main_v1 ≠ main_v0 by decide),
    show V2 m d main_v0 = idxs m d from (put_ne _ _ (show main_v0 ≠ main_v1 by decide)).trans (put_self _ _ _),
    show V2 m d main_v1 = allHists (idxs m d) from put_self _ _ _]
  iintro ⟨#Hctx, Hst, ⟨Hg, Hr, Hrest⟩, Hk⟩
  ihave H := (deal (idxs m) d (m (rLoc d))) $$ [Hg Hr]
  · isplitl [Hg] <;> iassumption
  icases H with ⟨Hd, Hparts⟩
  iapply ((K (F := F)).wp_run (D (F := F)) 𝒱 (EH := EH) (P := P m (idxs m)) κ d 0) $$ [Hst Hparts Hd Hrest Hk]
  isplitr; · iexact Hctx
  isplitl [Hst]; · iexact Hst
  isplitl [Hparts]; · iexact Hparts
  iintro ⟨Hst, Hdn⟩
  iapply Hk
  isplitl [Hst]; · iexact Hst
  ihave H := (gather (idxs m) d (allHists (idxs m d))) $$ [Hd Hdn]
  · isplitl [Hd]; · iexact Hd
    iexact Hdn
  icases H with ⟨Hg, Hr⟩
  isplitl [Hg]; · iexact Hg
  isplitl [Hr]; · iexact Hr
  iexact Hrest

/-- What @main leaves the claim: the buffers after the last operation. -/
abbrev FIN (d : Dev nD) : sProp 𝕄 := StableHlo.held (T d) kept (V6 m d)

/-- The pipelines' ghost state on a core. -/
abbrev G (d : Dev nD) : sProp 𝕄 := iprop(ghost (F := F) 0 d ∗ ghost (F := F) 1 d)

theorem hmain [∀ e, Nonempty (Elt F e)] (κ : GSem nD τ sig → ℕ) (d : Dev nD) :
    iprop((K (F := F)).ctx EH (P m (idxs m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = StableHlo.held (T d) kept (V0 m d) from kept_held d (V0 m d)]
  simp only [main, wp_bind, wp_pure]
  iintro ⟨#Hctx, Hst, ⟨Hb, Hheld, Hts, -⟩, HgA, HgB⟩
  ihave #Hlev := ((K (F := F)).ctx_levAts κ) $$ Hctx
  unfold SparseCore.Cfg.tcSt
  icases Hst with ⟨HO, Hst⟩
  -- the preparing kernel
  iapply (region_ok (segA m) d _)
  isplitr [Hb Hheld HO HgA]
  rotate_left
  · isplitl [Hb]; · iexact Hb
    isplitl [Hheld HO]
    · rw [segA_pre]
      isplitl [Hheld]; · iexact Hheld
      iexact HO
    isplitr; · iexact Hlev
    iexact HgA
  rw [segA_post]
  iintro ⟨Hb, Hheld, HO⟩
  -- the SparseCore call
  iapply (call_ok m κ d _)
  isplitr; · iexact Hctx
  isplitl [HO Hst]
  · unfold SparseCore.Cfg.tcSt
    isplitl [HO]; · iexact HO
    iexact Hst
  isplitl [Hheld]; · iexact Hheld
  iintro ⟨Hst, Hheld⟩
  -- the slice and the change of shape
  iapply (StableHlo.wp_hlo_within 𝒱 (T d) none Set.univ (op := opSlice) (S := kept) opSlice_sub (V := V2 m d)) $$ [Hb Hheld]
  · isplitl [Hb] <;> iassumption
  iintro ⟨Hb, Hheld⟩
  rw [wp_ret]; imodintro
  iapply (StableHlo.wp_hlo_within 𝒱 (T d) none Set.univ (op := opRows) (S := kept) opRows_sub (V := V3 m d)) $$ [Hb Hheld]
  · isplitl [Hb]; · iexact Hb
    iexact Hheld
  iintro ⟨Hb, Hheld⟩
  rw [wp_ret]; imodintro
  -- the loss kernel
  unfold SparseCore.Cfg.tcSt
  icases Hst with ⟨HO, Hst⟩
  iapply (region_ok (segB m) d _)
  isplitr [Hb Hheld HO HgB]
  rotate_left
  · isplitl [Hb]; · iexact Hb
    isplitl [Hheld HO]
    · rw [segB_pre]
      isplitl [Hheld]; · iexact Hheld
      iexact HO
    isplitr; · iexact Hlev
    iexact HgB
  rw [segB_post]
  iintro ⟨Hb, Hheld, HO⟩
  -- the last change of shape
  iapply (StableHlo.wp_hlo_within 𝒱 (T d) none Set.univ (op := opOut) (S := kept) opOut_sub (V := V5 m d)) $$ [Hb Hheld]
  · isplitl [Hb] <;> iassumption
  iintro ⟨Hb, Hheld⟩
  rw [wp_ret]; imodintro; imodintro
  isplitl [HO Hst]
  · isplitl [HO]; · iexact HO
    iexact Hst
  isplitl [Hheld]; · iexact Hheld
  isplitl [Hb] <;> iassumption

/-! ## The launch's ghost state -/

def u₀ : UU := (initOf (K (F := F)).hsCells (K (F := F)).hsToks,
  (initOf (Pipeline.cells (pins (F := F)) pins_inj) (Pipeline.launchToks (pins (F := F)) pins_inj), 1))

theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem two_eq (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (idxs m)).x q thr) := by
  unfold u₀
  iintro Hu
  ihave H := (ownU_split _ _) $$ Hu
  icases H with ⟨HH, HK⟩
  imod (Pipeline.fund_ghost (pins (F := F)) EP pins_inj) $$ HK with ⟨Hc, Ht⟩
  imodintro
  isplitl [HH]; · iexact HH
  isplitl [Hc Ht]
  · simp only [two_eq, bigSep_sep']
    icases Hc with ⟨Hc0, Hc1⟩
    icases Ht with ⟨Ht0, Ht1⟩
    isplitl [Hc0 Ht0]
    · isplitl [Hc0] <;> iassumption
    · isplitl [Hc1] <;> iassumption
  rw [show (fun thr : Thread nD τ => bigSep Finset.univ fun q : Fin 1 => (P m (idxs m)).x q thr) = fun _ => iprop(emp) from
    funext fun thr => bigSep_emp' _, bigSep_emp']
  iempintro

/-! ## What the run leaves -/

theorem FIN_eq (d : Dev nD) :
    (FIN m d : sProp 𝕄)
      = iprop((((T d : Thread nD τ).loc main_arg0) ↦{fullShare} m ((T d : Thread nD τ).loc main_arg0)) ∗ (((T d : Thread nD τ).loc main_arg1) ↦{fullShare} m ((T d : Thread nD τ).loc main_arg1))
          ∗ (((T d : Thread nD τ).loc main_v5) ↦{fullShare} result m d)
          ∗ StableHlo.held (T d) (((kept.erase (main_arg0 : DevRef τ sig)).erase (main_arg1 : DevRef τ sig)).erase (main_v5 : DevRef τ sig)) (V6 m d)) := by
  rw [← V6_v5 m d, ← V6_arg0 m d, ← V6_arg1 m d]
  unfold FIN StableHlo.held
  rw [SparseCore.bigSep_erase' (show (main_arg0 : DevRef τ sig) ∈ kept by decide),
    SparseCore.bigSep_erase' (show (main_arg1 : DevRef τ sig) ∈ kept.erase (main_arg0 : DevRef τ sig) by decide),
    SparseCore.bigSep_erase' (show (main_v5 : DevRef τ sig) ∈ (kept.erase (main_arg0 : DevRef τ sig)).erase (main_arg1 : DevRef τ sig) by decide)]

def fq (d : Dev nD) (s' : Phys nD τ sig (Elt F)) : Prop :=
  s'.mem.mem ((T d : Thread nD τ).loc main_arg0) = m ((T d : Thread nD τ).loc main_arg0) ∧ s'.mem.mem ((T d : Thread nD τ).loc main_arg1) = m ((T d : Thread nD τ).loc main_arg1)
    ∧ s'.mem.mem ((T d : Thread nD τ).loc main_v5) = result m d

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  rw [FIN_eq]
  iintro ⟨⟨H0, H1, H5, -⟩, HSI⟩
  ihave H := (agree _ _ s') $$ [HSI H0]
  · isplitl [HSI] <;> iassumption
  icases H with ⟨%h0, HSI⟩
  ihave H := (agree _ _ s') $$ [HSI H1]
  · isplitl [HSI] <;> iassumption
  icases H with ⟨%h1, HSI⟩
  ihave H := (agree _ _ s') $$ [HSI H5]
  · isplitl [HSI] <;> iassumption
  icases H with ⟨%h5, -⟩
  ipureintro; exact ⟨h0, h1, h5⟩

/-- The program's run, over any float values: the arguments unchanged, the result, the semaphores at zero. -/
theorem run_main [∀ e, Nonempty (Elt F e)] (hX : ∀ d p, (idxs m d p).toNat < 88320) :
    θ_run (Cert.KernelIdeal.defs (F := F)) (Cert.KernelIdeal.threads (F := F)) ⟨m, fun _ => 0, ρ⟩
      fun r => (∀ c : Dev nD, r.2.mem ((T c : Thread nD τ).loc main_arg0) = m ((T c : Thread nD τ).loc main_arg0)
        ∧ r.2.mem ((T c : Thread nD τ).loc main_arg1) = m ((T c : Thread nD τ).loc main_arg1)
        ∧ r.2.mem ((T c : Thread nD τ).loc main_v5) = result m c) ∧ r.2.sem = fun _ => 0 :=
  SparseCore.Cfg.θ_run_sc_quiescent (K := K (F := F)) (D := D (F := F)) (𝒱 := 𝒱) (EH := EH) (P := P m (idxs m)) (A := ∅) facts v₀
    (fun q hq => match q with | 0 => nomatch hq)
    (fun q _ => match q with | 0 => tileObl m (idxs m) hX)
    (fun q _ => match q with | 0 => SparseCore.Cfg.VecSplit.of_plain (vecSplit m (idxs m)))
    m ρ main (fun d => G d) (FIN m) (u₀ (F := F)) (sep_elim_left.trans (hu₀ m)) (hmain m ρ) (fq m) (hfin m) _ (fun _ h hz => ⟨h, hz⟩)

end

end Cert.Proof
-- ==== Proof.Index.lean ====
/-
  The word indices the preparing kernel writes: lane block, row and bin of one score.
-/
module

public import proofs.«01_k».proof.Proof.Prep
public import Idealize.ShloMosaic.Lib.Pointwise

@[expose] public section

noncomputable section

namespace Cert.Proof

open Cert.KernelIdeal Cert.KernelIdeal.Gen
open Idealize.ShloMosaic Idealize.ShloMosaic.TcCoe

variable {F : FTy → Type} [FloatOps F]

/-- The lane of a word, as the kernel computes it. -/
def laneWord (b : BitVec 32) : BitVec 32 :=
  Scalar.select
    (IntOp.andi (IntOp.xori (IntOp.cmpi .slt (IntOp.remsi .vector b 16#32) 0#32) (Scalar.cmpi .slt (Scalar.select (Scalar.cmpi .eq 16#32 0#32) 1#32 16#32) 0#32))
      (IntOp.cmpi .ne (IntOp.remsi .vector b 16#32) 0#32))
    (IntOp.addi (IntOp.remsi .vector b 16#32) 16#32) (IntOp.remsi .vector b 16#32)

theorem laneWord_eq : ∀ w : Fin 512, laneWord (BitVec.ofNat 32 w.val) = BitVec.ofNat 32 (w.val % 16) := by decide +kernel

/-- The row of the histogram: the class, 21 further where the label is the class. -/
def rowWord (l : BitVec 32) (c : ℕ) : BitVec 32 := IntOp.addi (Scalar.select (IntOp.cmpi .eq l (BitVec.ofNat 32 c)) 21#32 0#32) (BitVec.ofNat 32 c)

/-- The bin, counted from the largest error: an error times 128 rounded to an integer, clipped to 0 … 127, from 127. -/
def clipWord (z : BitVec 32) : BitVec 32 := IntOp.minsi 127#32 (IntOp.maxsi 0#32 z)

theorem sel16 : Scalar.select (Scalar.cmpi .eq 16#32 0#32) 1#32 16#32 = 16#32 := by decide

theorem k0_pay1_at (v23 v27 : IVec S21x128x512 32) (c : Fin 21) (h : Fin 128) (w : Fin 512) :
    k0_pay1 v23 v27 (Scalar.select (Scalar.cmpi .eq 16#32 0#32) 1#32 16#32) k0_pay5 k0_pay6 k0_pay7
        (Scalar.cmpi .slt (Scalar.select (Scalar.cmpi .eq 16#32 0#32) 1#32 16#32) 0#32) (ix4 0 c h w)
      = IntOp.addi (IntOp.addi (IntOp.muli (laneWord (BitVec.ofNat 32 w.val)) 5519#32) (IntOp.muli (v27 (ix3 c h w)) 128#32)) (v23 (ix3 c h w)) := by
  unfold k0_pay1 k0_pay6 k0_pay7 k0_pay5 laneWord
  pointwise [sel16]

theorem k0_pay4_at (v7 : Vec F S1x128x512 .i32) (c : Fin 21) (h : Fin 128) (w : Fin 512) :
    k0_pay4 v7 (ix3 c h w) = rowWord (v7 (ix3 0 h w)) c.val := by
  unfold k0_pay4 k0_pay2 rowWord
  pointwise

/-- The probabilities of a block. -/
def probs (v0 : Vec F S1x21x128x512 .f32) : FVec F S21x128x512 .f32 :=
  divf (exp (shapeCast S21x128x512 v0 shapeCasts_S1x21x128x512_S21x128x512))
    (broadcastTo S21x128x512 (shapeCast S1x128x512
      (multiReduction .add [0] S128x512 (exp (shapeCast S21x128x512 v0 shapeCasts_S1x21x128x512_S21x128x512)) 0x00000000#32 reduces_S21x128x512_S128x512 (.inl rfl) rfl)
      shapeCasts_S128x512_S1x128x512) broadcasts_S1x128x512_S21x128x512)

/-- The error of probability `p` of class `c` under label `l`, times 128, as an integer. -/
def errWord (p : F .f32) (l : BitVec 32) (c : ℕ) : BitVec 32 :=
  FloatOps.fptosi 32 (FloatOps.mulf (FloatOps.absf (FloatOps.subf (FloatOps.sitofp .f32 ((IntOp.cmpi .eq l (BitVec.ofNat 32 c)).setWidth 32)) p))
    (Scalar.ofBits .f32 0x43000000#32))

theorem k0_pay3_at (v0 : Vec F S1x21x128x512 .f32) (v7 : Vec F S1x128x512 .i32) (c : Fin 21) (h : Fin 128) (w : Fin 512) :
    k0_pay3 v0 v7 (ix3 c h w) = IntOp.subi 127#32 (clipWord (errWord (probs v0 (ix3 c h w)) (v7 (ix3 0 h w)) c.val)) := by
  unfold k0_pay3 k0_pay2 clipWord errWord probs
  pointwise

/-- The clipped word is the integer clipped to 0 … 127. -/
theorem clipWord_eq (z : BitVec 32) : ((clipWord z).toNat : ℤ) = min 127 (max 0 z.toInt) := by
  unfold clipWord IntOp.minsi IntOp.maxsi
  by_cases h1 : z.slt 0#32 = true
  · have h1' := h1
    rw [BitVec.slt_eq_decide] at h1'
    have : z.toInt < 0 := by simpa using h1'
    rw [max_eq_left this.le]
    simp [h1]
  · have h1' := h1
    rw [BitVec.slt_eq_decide] at h1'
    have h0 : 0 ≤ z.toInt := by simpa using h1'
    rw [max_eq_right h0]
    have hz : (z.toNat : ℤ) = z.toInt := by rw [BitVec.toInt_eq_toNat_cond] at h0 ⊢; split <;> simp_all <;> omega
    by_cases h2 : (127#32).slt z = true
    · have h2' := h2
      rw [BitVec.slt_eq_decide] at h2'
      have h3 : 127 < z.toInt := by simpa using h2'
      rw [min_eq_left h3.le]
      simp [h1, h2]
    · have h2' := h2
      rw [BitVec.slt_eq_decide] at h2'
      have h3 : z.toInt ≤ 127 := by simpa using h2'
      rw [min_eq_right h3]
      simp [h1, h2, hz]

theorem clipWord_le (z : BitVec 32) : (clipWord z).toNat ≤ 127 := by
  have := clipWord_eq z; omega

/-- The row, as a number. -/
def histRow (l : BitVec 32) (c : ℕ) : ℕ := if l = BitVec.ofNat 32 c then 21 + c else c

theorem rowWord_same : ∀ c : Fin 21, rowWord (BitVec.ofNat 32 c.val) c.val = BitVec.ofNat 32 (21 + c.val) := by decide

theorem rowWord_eq (l : BitVec 32) (c : Fin 21) : rowWord l c.val = BitVec.ofNat 32 (histRow l c.val) := by
  unfold histRow
  by_cases h : l = BitVec.ofNat 32 c.val
  · rw [if_pos h, h]; exact rowWord_same c
  · rw [if_neg h]
    unfold rowWord
    rw [show IntOp.cmpi .eq l (BitVec.ofNat 32 c.val) = 0#1 by unfold IntOp.cmpi; simp only [beq_eq_false_iff_ne.mpr h]; rfl]
    simp [Scalar.select, IntOp.addi]

theorem histRow_le (l : BitVec 32) (c : Fin 21) : histRow l c.val ≤ 41 := by unfold histRow; split <;> omega

/-- The word index of one score. -/
theorem prepBlock_at (v0 : Vec F S1x21x128x512 .f32) (v7 : Vec F S1x128x512 .i32) (c : Fin 21) (h : Fin 128) (w : Fin 512) :
    (prepBlock v0 v7 (ix4 0 c h w)).toNat
      = (w.val % 16) * 5519 + (histRow (v7 (ix3 0 h w)) c.val * 128 + (127 - (clipWord (errWord (probs v0 (ix3 c h w)) (v7 (ix3 0 h w)) c.val)).toNat)) := by
  unfold prepBlock
  rw [k0_pay1_at, k0_pay3_at, k0_pay4_at, laneWord_eq, rowWord_eq]
  have h1 := clipWord_le (errWord (probs v0 (ix3 c h w)) (v7 (ix3 0 h w)) c.val)
  have h2 := histRow_le (v7 (ix3 0 h w)) c
  generalize clipWord _ = z at *
  generalize histRow _ _ = r at *
  simp only [IntOp.addi, IntOp.muli, IntOp.subi, BitVec.toNat_add, BitVec.toNat_mul, BitVec.toNat_sub, BitVec.toNat_ofNat]
  omega

theorem prepBlock_lt (v0 : Vec F S1x21x128x512 .f32) (v7 : Vec F S1x128x512 .i32) (y : S1x21x128x512.Idx) : (prepBlock v0 v7 y).toNat < 88320 := by
  obtain ⟨c, h, w, rfl⟩ : ∃ (c : Fin 21) (h : Fin 128) (w : Fin 512), y = ix4 0 c h w := ⟨y 1, y 2, y 3, by
    funext a
    match a with
    | 0 => exact Subsingleton.elim (α := Fin 1) _ _
    | 1 => rfl
    | 2 => rfl
    | 3 => rfl⟩
  rw [prepBlock_at]
  have h1 := histRow_le (v7 (ix3 0 h w)) c
  omega

theorem idxArr_lt (X0 : Vec F S4x21x512x512 .f32) (X1 : Vec F S4x512x512 .i32) (j : S4x21x512x512.Idx) : (idxArr X0 X1 j).toNat < 88320 :=
  prepBlock_lt _ _ _

end Cert.Proof
-- ==== Proof.Frames.lean ====
/-
  The frames: each program ends with its arguments unchanged and every semaphore at zero. The kernel and its idealized
  print have one text, so both frames are the one run, at the two kinds of float values.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Index

@[expose] public section

noncomputable section

namespace Cert.Proof

open Idealize.ShloMosaic Idealize.SL.Sem

open Cert.KernelIdeal in
/-- The frame of the one text, over any float values. -/
theorem frame_text {F : FTy → Type} [FloatOps F] [∀ e, Nonempty (Elt F e)] (m : (ℓ : Loc nD τ sig) → Buf (Elt F) ℓ)
    (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run Cert.KernelIdeal.defs _ _).mono (fun _ h => ⟨fun c => ⟨(h.1 c).1, (h.1 c).2.1⟩, h.2⟩)
    (run_main m ρ (fun _ p => idxArr_lt _ _ p))

theorem frame_kernelIdeal : Cert.quiescent_KernelIdeal := fun m ρ _ => frame_text m ρ

/-- The two prints' bodies agree, label by label. -/
theorem bodies_eq : Cert.Kernel.defs₀ (F := Bits) = Cert.KernelIdeal.defs₀ (F := Bits) := by
  funext k l
  match k, l with
  | .tc, 0 => rfl
  | .tc, 1 => rfl
  | .tc, 2 => rfl
  | .scVector c s, 0 => rfl
  | .scVector c s, 1 => rfl
  | .scVector c s, 2 => rfl
  | .scScalar c, 0 => rfl
  | .scScalar c, 1 => rfl
  | .scScalar c, 2 => rfl

theorem defs_eq : Cert.Kernel.defs (F := Bits) = Cert.KernelIdeal.defs (F := Bits) :=
  congrArg (fun D => Cert.KernelIdeal.sc.defs (Pipeline.defs (Cert.KernelIdeal.pcfgs (F := Bits)) D)) bodies_eq

theorem threads_eq : Cert.Kernel.threads (F := Bits) = Cert.KernelIdeal.threads (F := Bits) := rfl

theorem frame_kernel : Cert.quiescent_Kernel := fun m ρ _ => by
  have h := frame_text (F := Bits) m ρ
  rw [← defs_eq] at h
  exact h

theorem frame_referenceIdeal : Cert.quiescent_ReferenceIdeal := fun m ρ _ =>
  (θ_run Cert.ReferenceIdeal.defs _ _).mono (fun r h => ⟨fun c => ⟨(h c).2.1, (h c).2.2⟩,
    sem_eq_zero_of_no_sems (by decide) r.2⟩) (Cert.ReferenceIdeal.Value.run (F := Ideal) m ρ)

end Cert.Proof

end
-- ==== Proof.Loss.lean ====
/-
  The loss of one class over the reals: the sum over sorted errors equals the sum over the bins' cumulative counts.
-/
module

public import Idealize.ShloMosaic.Lib.Pointwise

@[expose] public section

noncomputable section

namespace Cert.Proof

open Idealize.ShloMosaic

theorem div_real (a b : ℝ) (hb : b ≠ 0) : Ideal.div (a : EReal) (b : EReal) = ((a / b : ℝ) : EReal) := by
  rw [Ideal.div_coe hb, ← EReal.coe_mul, mul_one_div]

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem max_real (a b : ℝ) : max (a : EReal) (b : EReal) = ((max a b : ℝ) : EReal) := (EReal.coe_strictMono.monotone.map_max).symm

theorem bits_128 : Ideal.ofBits .f32 0x43000000#32 = ((128 : ℝ) : EReal) := by
  simp [Ideal.ofBits, Ideal.ieee, -BitVec.ofNat_eq_ofNat]
  rw [← EReal.coe_mul]; norm_num

theorem bits_256 : Ideal.ofBits .f32 0x43800000#32 = ((256 : ℝ) : EReal) := by
  simp [Ideal.ofBits, Ideal.ieee, -BitVec.ofNat_eq_ofNat]
  rw [← EReal.coe_mul]; norm_num

theorem bits_half : Ideal.ofBits .f32 0x3F000000#32 = ((1 / 2 : ℝ) : EReal) := by
  simp [Ideal.ofBits, Ideal.ieee, -BitVec.ofNat_eq_ofNat]
  rw [← EReal.coe_mul]; norm_num

/-- The Jaccard term where, of `G` pixels of the class, `f` are among the first `a`. -/
def jac (G f a : ℕ) : ℝ := 1 - ((G : ℝ) - f) / max ((G : ℝ) + a - f) 1

/-- The loss of a class, of how many pixels (`A`) and how many of the class's own (`B`) lie in the bins up to each. -/
def classLoss (B A : ℕ → ℕ) : ℝ :=
  (∑ t ∈ Finset.range 128, jac (B 127) (B t) (A t)) / 128 - jac (B 127) (B 127) (A 127) / 256

/-- Whether the class has pixels, as a number. -/
def present (G : ℕ) : ℝ := if 0 < G then 1 else 0

/-- The mean loss over the classes that have pixels. -/
def meanLoss (B A : Fin 21 → ℕ → ℕ) : ℝ :=
  (∑ c, classLoss (B c) (A c) * present (B c 127)) / max (∑ c, present (B c 127)) 1

/-- A downward closed set of positions is the positions below its size. -/
theorem mem_iff_lt_card {N : ℕ} (P : Fin N → Prop) [DecidablePred P] (h : ∀ i j, i ≤ j → P j → P i) (i : Fin N) :
    P i ↔ i.val < (Finset.univ.filter P).card := by
  constructor
  · intro hp
    have : (Finset.Iic i).card ≤ (Finset.univ.filter P).card := Finset.card_le_card fun j hj =>
      Finset.mem_filter.2 ⟨Finset.mem_univ _, h j i (Finset.mem_Iic.1 hj) hp⟩
    rw [Fin.card_Iic] at this
    omega
  · intro hlt
    by_contra hn
    have : (Finset.univ.filter P).card ≤ (Finset.Iio i).card := Finset.card_le_card fun j hj => by
      rw [Finset.mem_Iio]
      by_contra hle
      exact hn (h i j (not_lt.1 hle) (Finset.mem_filter.1 hj).2)
    rw [Fin.card_Iio] at this
    omega

/-- A sum over the positions where a downward closed condition holds is a sum over the first ones. -/
theorem sum_initial {M : Type*} [AddCommMonoid M] {N : ℕ} (P : Fin N → Prop) [DecidablePred P] (h : ∀ i j, i ≤ j → P j → P i) (f : ℕ → M) :
    (∑ i : Fin N, if P i then f i.val else 0) = ∑ i ∈ Finset.range (Finset.univ.filter P).card, f i := by
  have hN : (Finset.univ.filter P).card ≤ N := (Finset.card_le_univ _).trans (by simp)
  rw [Finset.sum_congr rfl fun i _ => if_congr (mem_iff_lt_card P h i) rfl rfl]
  rw [← Finset.sum_range (fun i => if i < (Finset.univ.filter P).card then f i else 0), ← Finset.sum_filter]
  refine Finset.sum_congr (Finset.ext fun i => ?_) fun _ _ => rfl
  simp only [Finset.mem_filter, Finset.mem_range]
  omega

section Sorted

variable {N : ℕ} (b fg : Fin N → ℕ)

/-- How many of the first `n` pixels are of the class. -/
def firsts (n : ℕ) : ℕ := ∑ i ∈ Finset.range n, if h : i < N then fg ⟨i, h⟩ else 0

/-- The Jaccard term after the first `n` pixels. -/
def jacAt (n : ℕ) : ℝ := 1 - (((∑ i, fg i : ℕ) : ℝ) - firsts fg n) / (((∑ i, fg i : ℕ) : ℝ) + ((n : ℝ) - firsts fg n))

/-- How many pixels lie in the bins up to `t`. -/
def upTo (t : ℕ) : ℕ := ∑ i, if b i ≤ t then 1 else 0

/-- How many of the class's pixels lie in the bins up to `t`. -/
def upToFg (t : ℕ) : ℕ := ∑ i, if b i ≤ t then fg i else 0

theorem firsts_le (hfg : ∀ i, fg i ≤ 1) (n : ℕ) : firsts fg n ≤ n := by
  unfold firsts
  refine (Finset.sum_le_card_nsmul _ _ 1 fun i _ => ?_).trans (by simp)
  split
  · exact hfg _
  · exact Nat.zero_le _

theorem upTo_card (t : ℕ) : upTo b t = (Finset.univ.filter fun i => b i ≤ t).card := by
  unfold upTo; rw [Finset.card_filter]

theorem upToFg_firsts (hb : Monotone b) (t : ℕ) : upToFg b fg t = firsts fg (upTo b t) := by
  unfold firsts
  rw [upTo_card, ← sum_initial (fun i => b i ≤ t) (fun i j hij hj => (hb hij).trans hj)]
  unfold upToFg
  exact Finset.sum_congr rfl fun i _ => by simp

theorem jacAt_zero (hG : 0 < ∑ i, fg i) : jacAt fg 0 = 0 := by
  have : ((∑ i, fg i : ℕ) : ℝ) ≠ 0 := by exact_mod_cast hG.ne'
  unfold jacAt firsts
  rw [Finset.range_zero, Finset.sum_empty]
  simp only [Nat.cast_zero, sub_zero, add_zero]
  rw [div_self this, sub_self]

theorem jacAt_upTo (hb : Monotone b) (hfg : ∀ i, fg i ≤ 1) (hG : 0 < ∑ i, fg i) (t : ℕ) :
    jacAt fg (upTo b t) = jac (∑ i, fg i) (upToFg b fg t) (upTo b t) := by
  have h1 : ((firsts fg (upTo b t) : ℕ) : ℝ) ≤ upTo b t := by exact_mod_cast firsts_le fg hfg _
  have h2 : (1 : ℝ) ≤ ((∑ i, fg i : ℕ) : ℝ) := by exact_mod_cast hG
  unfold jacAt jac
  rw [upToFg_firsts b fg hb, max_eq_left (by linarith), add_sub_assoc]

/-- The increments of the pixels in the bins up to `t` add up to the term there. -/
theorem sum_increments (hb : Monotone b) (hG : 0 < ∑ i, fg i) (t : ℕ) :
    (∑ i : Fin N, if b i ≤ t then jacAt fg (i.val + 1) - jacAt fg i.val else 0) = jacAt fg (upTo b t) := by
  rw [sum_initial (fun i => b i ≤ t) (fun i j hij hj => (hb hij).trans hj) (fun i => jacAt fg (i + 1) - jacAt fg i), Finset.sum_range_sub,
    jacAt_zero fg hG, sub_zero, ← upTo_card]

/-- The midpoint of bin `k`, as a sum over the bins from it on. -/
theorem midpoint_eq (k : ℕ) (hk : k ≤ 127) :
    (127.5 - (k : ℝ)) / 128 = (∑ t ∈ Finset.range 128, if k ≤ t then (1 : ℝ) else 0) / 128 - 1 / 256 := by
  have h : (∑ t ∈ Finset.range 128, if k ≤ t then (1 : ℝ) else 0) = 128 - k := by
    rw [← Finset.sum_filter, Finset.sum_const, nsmul_eq_mul, mul_one]
    have : (Finset.range 128).filter (fun t => k ≤ t) = Finset.Ico k 128 := by
      ext t; simp only [Finset.mem_filter, Finset.mem_range, Finset.mem_Ico]; omega
    rw [this, Nat.card_Ico, Nat.cast_sub (by omega)]; norm_num
  rw [h]; ring

/-- Over sorted bins, the sum of midpoints times increments is the loss of the class. -/
theorem sorted_loss (hb : Monotone b) (h127 : ∀ i, b i ≤ 127) (hfg : ∀ i, fg i ≤ 1) (hG : 0 < ∑ i, fg i) :
    ∑ i : Fin N, (127.5 - (b i : ℝ)) / 128 * (jacAt fg (i.val + 1) - jacAt fg i.val) = classLoss (upToFg b fg) (upTo b) := by
  have hall : upToFg b fg 127 = ∑ i, fg i := Finset.sum_congr rfl fun i _ => if_pos (h127 i)
  unfold classLoss
  rw [hall, show jac (∑ i, fg i) (∑ i, fg i) (upTo b 127) = jacAt fg (upTo b 127) by rw [jacAt_upTo b fg hb hfg hG, hall]]
  rw [Finset.sum_congr rfl fun t _ => (jacAt_upTo b fg hb hfg hG t).symm]
  simp only [← sum_increments b fg hb hG]
  rw [Finset.sum_comm, Finset.sum_div, Finset.sum_div, ← Finset.sum_sub_distrib]
  refine Finset.sum_congr rfl fun i _ => ?_
  rw [midpoint_eq (b i) (h127 i), if_pos (h127 i)]
  have : ∀ d : ℝ, (∑ t ∈ Finset.range 128, if b i ≤ t then d else 0) = (∑ t ∈ Finset.range 128, if b i ≤ t then (1 : ℝ) else 0) * d := by
    intro d
    rw [Finset.sum_mul]
    exact Finset.sum_congr rfl fun t _ => by split <;> simp
  rw [this (jacAt fg (i.val + 1) - jacAt fg i.val)]
  ring

end Sorted

theorem upTo_comp {N : ℕ} (b : Fin N → ℕ) (σ : Equiv.Perm (Fin N)) (t : ℕ) : upTo (fun i => b (σ i)) t = upTo b t :=
  Equiv.sum_comp σ fun i => if b i ≤ t then 1 else 0

theorem upToFg_comp {N : ℕ} (b fg : Fin N → ℕ) (σ : Equiv.Perm (Fin N)) (t : ℕ) : upToFg (fun i => b (σ i)) (fun i => fg (σ i)) t = upToFg b fg t :=
  Equiv.sum_comp σ fun i => if b i ≤ t then fg i else 0

end Cert.Proof
-- ==== Proof.KLoss.lean ====
/-
  What the loss kernel computes of the histograms, over the reals.
-/
module

public import proofs.«01_k».proof.Proof.Loss
public import proofs.«01_k».proof.Proof.Gen.KernelIdeal.Skeleton

@[expose] public section

noncomputable section

namespace Cert.Proof

open Cert.KernelIdeal Cert.KernelIdeal.Gen
open Idealize.ShloMosaic

/-- The triangle of ones by which the kernel adds up bins. -/
def tri : FVec Ideal S128x128 .f32 :=
  sitofp .f32 (extui 32 (cmpi .sle (iota .tc S128x128 32 [0] iota_S128x128_d0_w32) (iota .tc S128x128 32 [1] iota_S128x128_d1_w32)) natLt_1_32)

/-- The bins added up. -/
def cums (x : FVec Ideal S21x128 .f32) : FVec Ideal S21x128 .f32 :=
  matmul dot_S21x128_S128x128_S21x128_1_0_0_1_n_n none x tri (constant S21x128 .f32 0x00000000#32)

/-- The Jaccard terms. -/
def jacs (f t : FVec Ideal S21x128 .f32) : FVec Ideal S21x128 .f32 :=
  subf (broadcast S21x128 (Scalar.ofBits .f32 0x3F800000#32))
    (divf (subf (broadcastTo S21x128 (extractStridedSlice S21x1 ![0, 127] f slices_S21x128_o0_127_S21x1) broadcasts_S21x1_S21x128) f)
      (maximumf (subf (addf (broadcastTo S21x128 (extractStridedSlice S21x1 ![0, 127] f slices_S21x128_o0_127_S21x1) broadcasts_S21x1_S21x128) t) f)
        (broadcast S21x128 (Scalar.ofBits .f32 0x3F800000#32))))

/-- The losses of the classes. -/
def losses (j : FVec Ideal S21x128 .f32) : FVec Ideal S21x1 .f32 :=
  subf (divf (shapeCast S21x1 (multiReduction .add [1] S21 j 0x00000000#32 reduces_S21x128_S21 (.inl rfl) rfl) shapeCasts_S21_S21x1)
      (broadcast S21x1 (Scalar.ofBits .f32 0x43000000#32)))
    (divf (extractStridedSlice S21x1 ![0, 127] j slices_S21x128_o0_127_S21x1) (broadcast S21x1 (Scalar.ofBits .f32 0x43800000#32)))

/-- Which classes have pixels. -/
def presents (f : FVec Ideal S21x128 .f32) : FVec Ideal S21x1 .f32 :=
  sitofp .f32 (extui 32 (cmpf .ogt (extractStridedSlice S21x1 ![0, 127] f slices_S21x128_o0_127_S21x1)
    (broadcast S21x1 (Scalar.ofBits .f32 0x00000000#32))) natLt_1_32)

/-- The mean. -/
def means (l p : FVec Ideal S21x1 .f32) : FVec Ideal S1x1 .f32 :=
  divf (shapeCast S1x1 (multiReduction .add [0] S1 (mulf l p) 0x00000000#32 reduces_S21x1_S1 (.inl rfl) rfl) shapeCasts_S1_S1x1)
    (maximumf (shapeCast S1x1 (multiReduction .add [0] S1 p 0x00000000#32 reduces_S21x1_S1 (.inl rfl) rfl) shapeCasts_S1_S1x1)
      (broadcast S1x1 (Scalar.ofBits .f32 0x3F800000#32)))

/-- All tiles' histograms added up. -/
def hists (v0 : Vec Ideal S32x42x128 .f32) : FVec Ideal S42x128 .f32 :=
  multiReduction .add [0] S42x128 (shapeCast S32x42x128 v0 shapeCasts_S32x42x128_S32x42x128) 0x00000000#32 reduces_S32x42x128_S42x128 (.inl rfl) rfl

theorem pay_eq (v0 : Vec Ideal S32x42x128 .f32) :
    k2_pay1 v0 = means
      (losses (jacs (cums (extractStridedSlice S21x128 ![21, 0] (hists v0) slices_S42x128_o21_0_S21x128))
        (cums (addf (extractStridedSlice S21x128 ![0, 0] (hists v0) slices_S42x128_o0_0_S21x128)
          (extractStridedSlice S21x128 ![21, 0] (hists v0) slices_S42x128_o21_0_S21x128)))))
      (presents (cums (extractStridedSlice S21x128 ![21, 0] (hists v0) slices_S42x128_o21_0_S21x128))) := rfl

theorem hists_at (v0 : Vec Ideal S32x42x128 .f32) (r : Fin 42) (k : Fin 128) : hists v0 (ix2 r k) = ∑ w : Fin 32, v0 (ix3 w r k) := by
  unfold hists
  pointwise

theorem tri_at (k t : Fin 128) : tri (ix2 k t) = if k.val ≤ t.val then ((1 : ℝ) : EReal) else ((0 : ℝ) : EReal) := by
  unfold tri
  pointwise
  show (((BitVec.toInt _ : ℤ) : ℝ) : EReal) = _
  have h : ∀ k t : Fin 128, (BitVec.setWidth 32 (IntOp.cmpi .sle (BitVec.ofNat 32 k.val) (BitVec.ofNat 32 t.val))).toInt = if k.val ≤ t.val then 1 else 0 := by
    decide +kernel
  rw [h]
  split <;> simp

theorem cums_at (x : FVec Ideal S21x128 .f32) (g : Fin 21 → Fin 128 → ℕ) (hx : ∀ c k, x (ix2 c k) = (((g c k : ℕ) : ℝ) : EReal)) (c : Fin 21) (t : Fin 128) :
    cums x (ix2 c t) = (((∑ k : Fin 128, if k.val ≤ t.val then g c k else 0 : ℕ) : ℝ) : EReal) := by
  unfold cums
  pointwise [tri_at, hx]
  rw [Nat.cast_sum, ← sum_real]
  refine Finset.sum_congr rfl fun k _ => ?_
  split <;> simp

theorem jacs_at (f t : FVec Ideal S21x128 .f32) (B A : Fin 21 → ℕ → ℕ) (hf : ∀ c k, f (ix2 c k) = (((B c k.val : ℕ) : ℝ) : EReal))
    (ht : ∀ c k, t (ix2 c k) = (((A c k.val : ℕ) : ℝ) : EReal)) (c : Fin 21) (k : Fin 128) :
    jacs f t (ix2 c k) = ((jac (B c 127) (B c k.val) (A c k.val) : ℝ) : EReal) := by
  unfold jacs
  pointwise [hf, ht]
  have h : max ((B c 127 : ℝ) + (A c k.val : ℝ) - (B c k.val : ℝ)) 1 ≠ 0 := by positivity
  rw [← EReal.coe_one, ← EReal.coe_sub, ← EReal.coe_add, ← EReal.coe_sub, max_real, div_real _ _ h, ← EReal.coe_sub]
  rfl

theorem losses_at (j : FVec Ideal S21x128 .f32) (q : Fin 21 → Fin 128 → ℝ) (hj : ∀ c k, j (ix2 c k) = ((q c k : ℝ) : EReal)) (c : Fin 21) :
    losses j (ix2 c 0) = (((∑ k, q c k) / 128 - q c 127 / 256 : ℝ) : EReal) := by
  unfold losses
  pointwise [hj]
  rw [bits_128, bits_256, sum_real, div_real _ _ (by norm_num), div_real _ _ (by norm_num), ← EReal.coe_sub]

theorem presents_at (f : FVec Ideal S21x128 .f32) (B : Fin 21 → ℕ → ℕ) (hf : ∀ c k, f (ix2 c k) = (((B c k.val : ℕ) : ℝ) : EReal)) (c : Fin 21) :
    presents f (ix2 c 0) = ((present (B c 127) : ℝ) : EReal) := by
  unfold presents
  pointwise [hf]
  show (((BitVec.toInt _ : ℤ) : ℝ) : EReal) = _
  unfold present
  by_cases h : 0 < B c 127
  · have h' : (0 : EReal) < ((B c 127 : ℝ) : EReal) := by exact_mod_cast h
    simp [h, h']
  · have h' : B c 127 = 0 := by omega
    simp [h']

theorem means_at (l p : FVec Ideal S21x1 .f32) (u v : Fin 21 → ℝ) (hl : ∀ c, l (ix2 c 0) = ((u c : ℝ) : EReal)) (hp : ∀ c, p (ix2 c 0) = ((v c : ℝ) : EReal)) :
    means l p (ix2 0 0) = (((∑ c, u c * v c) / max (∑ c, v c) 1 : ℝ) : EReal) := by
  unfold means
  pointwise [hl, hp]
  have h : max (∑ c, v c) 1 ≠ 0 := by positivity
  simp only [← EReal.coe_mul]
  rw [← EReal.coe_one, sum_real, sum_real, max_real, div_real _ _ h]

/-- What the loss kernel writes, where the added histograms count, per class and bin, pixels of other classes and the class's own. -/
theorem pay_at (v0 : Vec Ideal S32x42x128 .f32) (n0 n1 : Fin 21 → Fin 128 → ℕ) (B A : Fin 21 → ℕ → ℕ)
    (h0 : ∀ (c : Fin 21) (k : Fin 128), ∑ w : Fin 32, v0 (ix3 w (⟨c.val, by omega⟩ : Fin 42) k) = (((n0 c k : ℕ) : ℝ) : EReal))
    (h1 : ∀ (c : Fin 21) (k : Fin 128), ∑ w : Fin 32, v0 (ix3 w (⟨21 + c.val, by omega⟩ : Fin 42) k) = (((n1 c k : ℕ) : ℝ) : EReal))
    (hB : ∀ (c : Fin 21) (t : Fin 128), B c t.val = ∑ k : Fin 128, if k.val ≤ t.val then n1 c k else 0)
    (hA : ∀ (c : Fin 21) (t : Fin 128), A c t.val = ∑ k : Fin 128, if k.val ≤ t.val then n0 c k + n1 c k else 0) :
    k2_pay1 v0 (ix2 0 0) = ((meanLoss B A : ℝ) : EReal) := by
  have s1 : ∀ (c : Fin 21) (k : Fin 128), extractStridedSlice S21x128 ![21, 0] (hists v0) slices_S42x128_o21_0_S21x128 (ix2 c k) = (((n1 c k : ℕ) : ℝ) : EReal) := by
    intro c k
    pointwise [hists_at]
    refine Eq.trans ?_ (h1 c k)
    rfl
  have s0 : ∀ (c : Fin 21) (k : Fin 128), extractStridedSlice S21x128 ![0, 0] (hists v0) slices_S42x128_o0_0_S21x128 (ix2 c k) = (((n0 c k : ℕ) : ℝ) : EReal) := by
    intro c k
    pointwise [hists_at]
    refine Eq.trans ?_ (h0 c k)
    rfl
  have s01 : ∀ (c : Fin 21) (k : Fin 128), addf (extractStridedSlice S21x128 ![0, 0] (hists v0) slices_S42x128_o0_0_S21x128)
      (extractStridedSlice S21x128 ![21, 0] (hists v0) slices_S42x128_o21_0_S21x128) (ix2 c k) = (((n0 c k + n1 c k : ℕ) : ℝ) : EReal) := by
    intro c k
    show (_ : EReal) + _ = _
    rw [s0, s1, ← EReal.coe_add, Nat.cast_add]
  have f := fun c t => (cums_at _ n1 s1 c t).trans (congrArg (fun n : ℕ => ((n : ℝ) : EReal)) (hB c t).symm)
  have a := fun c t => (cums_at _ (fun c k => n0 c k + n1 c k) s01 c t).trans (congrArg (fun n : ℕ => ((n : ℝ) : EReal)) (hA c t).symm)
  rw [pay_eq, means_at _ _ _ _ (losses_at _ _ (jacs_at _ _ B A f a)) (presents_at _ B f)]
  unfold meanLoss classLoss
  simp only [Finset.sum_range]
  rfl

end Cert.Proof
-- ==== Proof.Count.lean ====
/-
  The histogram of one tile as numbers of words: how often each element is named, after counting and after folding.
-/
module

public import proofs.«01_k».proof.Proof.Values
public import Idealize.ShloMosaic.Lib.Pointwise
public import Idealize.ShloMosaic.PureOps.Ideal.Laws

@[expose] public section

noncomputable section

namespace Cert.Proof

open Cert.KernelIdeal Cert.KernelIdeal.Gen
open Idealize.ShloMosaic

/-- The histogram `f` holds the numbers `g`. -/
def Holds (f : Hist Ideal) (g : ℕ → ℕ) : Prop := ∀ j, f j = (((g (j 0).val : ℕ) : ℝ) : EReal)

theorem one_eq : (one : Ideal .f32) = ((1 : ℝ) : EReal) := by
  unfold one
  show Ideal.ofBits .f32 0x3F800000#32 = _
  rw [Ideal.ofBits_one_f32]; rfl

theorem zero_holds : Holds (fun _ => (Scalar.ofBits .f32 0x00000000#32 : Ideal .f32)) (fun _ => 0) := by
  intro j
  show (FloatOps.ofBits (F := Ideal) .f32 0x00000000#32 : EReal) = _
  rw [Ideal.ofBits_def, Ideal.ofBits_zero_f32]; simp

theorem Holds.congr {f : Hist Ideal} {g g' : ℕ → ℕ} (h : Holds f g) (e : ∀ x, g x = g' x) : Holds f g' := fun j => by rw [h j, e]

theorem Holds.bump {f : Hist Ideal} {g : ℕ → ℕ} (h : Holds f g) (t : ℕ) : Holds (bump f t) (fun x => g x + if x = t then 1 else 0) := by
  intro j
  unfold Cert.Proof.bump
  by_cases e : (j 0).val = t
  · rw [if_pos e]
    show FloatOps.idxAddf (f j) (one : Ideal .f32) = _
    rw [Ideal.idxAddf_def, h j, one_eq, ← EReal.coe_add]
    simp [e]
  · rw [if_neg e, h j]
    simp [e]

/-- Counting along a list adds up. -/
theorem Holds.foldl {α : Type} (st : Hist Ideal → α → Hist Ideal) (d : α → ℕ → ℕ)
    (H : ∀ f g a, Holds f g → Holds (st f a) (fun x => g x + d a x)) (l : List α) {f : Hist Ideal} {g : ℕ → ℕ} (h : Holds f g) :
    Holds (l.foldl st f) (fun x => g x + (l.map fun a => d a x).sum) := by
  induction l generalizing f g with
  | nil => simpa using h
  | cons a l ih =>
    rw [List.foldl_cons]
    refine (ih (H f g a h)).congr fun x => ?_
    simp [add_assoc]

theorem Holds.countRow {f : Hist Ideal} {g : ℕ → ℕ} (h : Holds f g) (v : Vec Ideal S16 .i32) :
    Holds (countRow f v) (fun x => g x + ∑ l : Fin 16, if x = (v (ix1 l)).toNat then 1 else 0) := by
  unfold Cert.Proof.countRow
  refine (Holds.foldl _ (fun l x => if x = (v (Shape.ofLane (d := S16.size) l)).toNat then 1 else 0) (fun f g a h => h.bump _) _ h).congr fun x => ?_
  rw [Fin.sum_univ_def]
  have e : ∀ l : Fin 16, (Shape.ofLane (d := S16.size) l : S16.Idx) = ix1 l := fun l => funext fun | 0 => rfl
  refine congrArg (g x + List.sum ·) (List.map_congr_left fun l _ => ?_)
  rw [e l]

theorem rows_eq : rows = List.finRange 16 := by decide

theorem rowOff_val : ∀ (r : Fin 16) (k : Fin k1_t2_loop.trips), rowOff r k 0 = r.val ∧ rowOff r k 1 = 16 * k.val := by decide +kernel

theorem trips_eq : k1_t2_loop.trips = 32 := by decide +kernel

theorem rowOf_at (B : Vec Ideal S16x512 .i32) (k : Fin k1_t2_loop.trips) (r : Fin 16) (l : Fin 16) (h : 16 * k.val + l.val < 512) :
    rowOf B k r (ix1 l) = B (ix2 r ⟨16 * k.val + l.val, h⟩) := by
  unfold rowOf
  pointwise
  refine congrArg B (funext fun a => Fin.ext ?_)
  obtain ⟨h0, h1⟩ := rowOff_val r k
  match a with
  | 0 => exact h0
  | 1 => show rowOff r k 1 + l.val = 16 * k.val + l.val; rw [h1]

/-- How often trip `k` over `B` names element `x`. -/
def tripCount (B : Vec Ideal S16x512 .i32) (k : ℕ) (x : ℕ) : ℕ :=
  ∑ r : Fin 16, ∑ l : Fin 16, if h : 16 * k + l.val < 512 then (if x = (B (ix2 r ⟨16 * k + l.val, h⟩)).toNat then 1 else 0) else 0

theorem Holds.trip {f : Hist Ideal} {g : ℕ → ℕ} (h : Holds f g) (B : Vec Ideal S16x512 .i32) (k : Fin k1_t2_loop.trips) :
    Holds (tripHist B k f) (fun x => g x + tripCount B k.val x) := by
  unfold tripHist
  refine (Holds.foldl _ (fun r x => ∑ l : Fin 16, if x = (rowOf B k r (ix1 l)).toNat then 1 else 0) (fun f g a h => h.countRow _) _ h).congr fun x => ?_
  unfold tripCount
  rw [rows_eq, Fin.sum_univ_def (n := 16)]
  refine congrArg (g x + List.sum ·) (List.map_congr_left fun r _ => Finset.sum_congr rfl fun l _ => ?_)
  have hk := k.isLt
  have hb : 16 * k.val + l.val < 512 := by have := l.isLt; have := trips_eq; omega
  rw [dif_pos hb, rowOf_at B k r l hb]

theorem Holds.trips {f : Hist Ideal} {g : ℕ → ℕ} (h : Holds f g) (B : Vec Ideal S16x512 .i32) (n : ℕ) (hn : n ≤ 32) :
    Holds (tripsHist B f n) (fun x => g x + ∑ k ∈ Finset.range n, tripCount B k x) := by
  induction n with
  | zero => simpa [tripsHist] using h
  | succ n ih =>
    rw [tripsHist, dif_pos (by have := trips_eq; omega)]
    refine ((ih (by omega)).trip B ⟨n, _⟩).congr fun x => ?_
    rw [Finset.sum_range_succ, add_assoc]

/-- How often a chunk names element `x`. -/
def chunkCount (B : Vec Ideal S16x512 .i32) (x : ℕ) : ℕ := ∑ r : Fin 16, ∑ w : Fin 512, if x = (B (ix2 r w)).toNat then 1 else 0

/-- A sum over tiles of `n` is the sum over all of them. -/
theorem sum_tiles {M : Type*} [AddCommMonoid M] (m n N : ℕ) (h : m * n = N) (f : ℕ → M) :
    ∑ i : Fin m, ∑ j : Fin n, f (n * i.val + j.val) = ∑ w : Fin N, f w.val := by
  subst h
  rw [← Fintype.sum_prod_type']
  exact Fintype.sum_equiv finProdFinEquiv _ _ fun x => by rw [finProdFinEquiv_apply_val, add_comm]

theorem chunkCount_eq (B : Vec Ideal S16x512 .i32) (x : ℕ) : ∑ k ∈ Finset.range 32, tripCount B k x = chunkCount B x := by
  unfold tripCount chunkCount
  rw [Finset.sum_comm]
  refine Finset.sum_congr rfl fun r _ => ?_
  rw [Finset.sum_range]
  refine (sum_tiles 32 16 512 rfl fun w => if h : w < 512 then (if x = (B (ix2 r ⟨w, h⟩)).toNat then 1 else 0) else 0).trans ?_
  exact Finset.sum_congr rfl fun w _ => dif_pos w.isLt

theorem Holds.chunk {f : Hist Ideal} {g : ℕ → ℕ} (h : Holds f g) (B : Vec Ideal S16x512 .i32) :
    Holds (tripsHist B f k1_t2_loop.trips) (fun x => g x + chunkCount B x) := by
  rw [trips_eq]
  exact (h.trips B 32 le_rfl).congr fun x => by rw [chunkCount_eq]

/-- How often the first `n` chunks of the tile at `i` name element `x`. -/
def counted (i : grid1.Coords) (G : Vec Ideal S4x21x512x512 .i32) (n : ℕ) (x : ℕ) : ℕ :=
  ∑ k ∈ Finset.range n, if h : k < 84 then chunkCount (chunkVals i G ⟨k, h⟩) x else 0

theorem chunks_holds (i : grid1.Coords) (G : Vec Ideal S4x21x512x512 .i32) (n : ℕ) (hn : n ≤ 84) : Holds (chunksHist i G n) (counted i G n) := by
  induction n with
  | zero => exact zero_holds.congr fun x => by simp [counted]
  | succ n ih =>
    rw [chunksHist, dif_pos (by omega)]
    refine ((ih (by omega)).chunk _).congr fun x => ?_
    unfold counted
    rw [Finset.sum_range_succ, dif_pos (by omega)]

theorem foldOff_val : ∀ (b : Fin 16) (k : Fin k1_t86_loop.trips), foldOff b k 0 = 16 * k.val + b.val * 5519 := by decide +kernel

theorem resOff_val : ∀ (k : Fin k1_t86_loop.trips), k1_off1430 k 0 = 16 * k.val := by decide +kernel

theorem ftrips_eq : k1_t86_loop.trips = 345 := by decide +kernel

theorem Holds.lanes {f : Hist Ideal} {g : ℕ → ℕ} (h : Holds f g) (o : Fin 1 → ℕ) (ho : ∀ a, o a + S16.size a ≤ S88320.size a) (x : S16.Idx) :
    lanes f o ho x = (((g (o 0 + (x 0).val) : ℕ) : ℝ) : EReal) := by
  unfold Cert.Proof.lanes
  rw [h]
  refine congrArg (fun n : ℕ => ((n : ℝ) : EReal)) (congrArg g ?_)
  show o 0 + _ = _
  simp

theorem Holds.foldStep {f : Hist Ideal} {g : ℕ → ℕ} (h : Holds f g) (b : Fin 16) (k : Fin k1_t86_loop.trips) :
    Holds (foldHist b k f) (fun x => if 16 * k.val ≤ x ∧ x < 16 * k.val + 16 then g x + g (b.val * 5519 + x) else g x) := by
  intro j
  unfold foldHist
  have hk := k.isLt
  have hres := resOff_val k
  by_cases e : 16 * k.val ≤ (j 0).val ∧ (j 0).val < 16 * k.val + 16
  · have hj : j = ((Memref.whole cc1_scratch2 : Memref sig .scVector .vmem S88320 .f32).access
        (Rect.unit (s := S88320) (k1_off1430 k) S16.size (k1_off1430_inb k))).emb (ix1 (⟨(j 0).val - 16 * k.val, by omega⟩ : Fin 16)) := by
      funext a
      obtain rfl : a = 0 := Subsingleton.elim _ _
      apply Fin.ext
      show (j 0).val = k1_off1430 k 0 + _
      rw [hres]; simp; omega
    refine Eq.trans ?_ (congrArg (fun n : ℕ => ((n : ℝ) : EReal)) (if_pos e).symm)
    rw [hj, View.write_emb_of_mem _ _ (Finset.mem_univ _), ← hj]
    unfold k1_pay87
    show (Cert.Proof.lanes f _ _ _ : EReal) + Cert.Proof.lanes f _ _ _ = _
    rw [h.lanes, h.lanes, ← EReal.coe_add, hres, foldOff_val, ← Nat.cast_add]
    refine congrArg (fun n : ℕ => ((n : ℝ) : EReal)) (congrArg₂ (· + ·) (congrArg g ?_) (congrArg g ?_))
    · show 16 * k.val + ((j 0).val - 16 * k.val) = _; omega
    · show 16 * k.val + b.val * 5519 + ((j 0).val - 16 * k.val) = _; omega
  · refine Eq.trans ?_ (congrArg (fun n : ℕ => ((n : ℝ) : EReal)) (if_neg e).symm)
    rw [View.write_of_not_mem, h j]
    intro hm
    obtain ⟨x, _, hx⟩ := Finset.mem_map.1 hm
    have h0 : k1_off1430 k 0 + 1 * (x 0).val = (j 0).val := congrArg (fun y : S88320.Idx => (y 0).val) hx
    have h1 : (x 0).val < 16 := (x 0).isLt
    omega

theorem Holds.folds {f : Hist Ideal} {g : ℕ → ℕ} (h : Holds f g) (b : Fin 16) (hb : 1 ≤ b.val) (n : ℕ) (hn : n ≤ 345) :
    Holds (foldsHist b f n) (fun x => if x < 16 * n then g x + g (b.val * 5519 + x) else g x) := by
  induction n with
  | zero => exact h.congr fun x => by simp
  | succ n ih =>
    rw [foldsHist, dif_pos (by have := ftrips_eq; omega)]
    refine ((ih (by omega)).foldStep b ⟨n, _⟩).congr fun x => ?_
    simp only
    have h1 : ¬ (b.val * 5519 + x < 16 * n) ∨ ¬ (16 * n ≤ x) := by omega
    split_ifs <;> first | rfl | omega

/-- After folding lane blocks 1 to `n`, the first elements hold the sums over the blocks. -/
theorem blocks_holds (i : grid1.Coords) (G : Vec Ideal S4x21x512x512 .i32) (n : ℕ) (hn : n < 16) :
    ∃ g, Holds (blocksHist i G n) g ∧ (∀ x < 5519, g x = ∑ b ∈ Finset.range (n + 1), counted i G 84 (b * 5519 + x)) ∧ ∀ x, n = 0 ∨ 5520 ≤ x → g x = counted i G 84 x := by
  induction n with
  | zero => exact ⟨_, chunks_holds i G 84 le_rfl, fun x _ => by rw [Finset.sum_range_one, Nat.zero_mul, Nat.zero_add], fun x _ => rfl⟩
  | succ n ih =>
    obtain ⟨g, hg, h1, h2⟩ := ih (by omega)
    have e : blocksHist i G (n + 1) = foldsHist ⟨n + 1, hn⟩ (blocksHist i G n) 345 := by rw [blocksHist, dif_pos hn, ftrips_eq]
    rw [e]
    generalize blocksHist i G n = f at *
    generalize counted i G 84 = q at *
    refine ⟨_, hg.folds ⟨n + 1, hn⟩ (Nat.le_add_left 1 n) 345 le_rfl, fun x hx => ?_, fun x hx => ?_⟩
    · have hlt : x < 16 * 345 := by omega
      refine (if_pos hlt).trans ?_
      rw [h1 x hx, Finset.sum_range_succ _ (n + 1), h2 _ (by
        rcases Nat.eq_zero_or_pos n with h | h
        · exact .inl h
        · exact .inr (by show 5520 ≤ (n + 1) * 5519 + x; omega))]
    · have hlt : ¬ x < 16 * 345 := by omega
      exact (if_neg hlt).trans (h2 x (.inr (by omega)))

end Cert.Proof
-- ==== Proof.Total.lean ====
/-
  All tiles' histograms added up: how many pixels of each class lie in each bin.
-/
module

public import proofs.«01_k».proof.Proof.Count
public import proofs.«01_k».proof.Proof.TileBody
public import proofs.«01_k».proof.Proof.Index

@[expose] public section

noncomputable section

namespace Cert.Proof

open Cert.KernelIdeal Cert.KernelIdeal.Gen
open Idealize.ShloMosaic

/-- The position at four numbers, each taken within its axis. -/
def pos4 (b c h w : ℕ) : S4x21x512x512.Idx :=
  ix4 (⟨b % 4, Nat.mod_lt _ (by decide)⟩ : Fin 4) (⟨c % 21, Nat.mod_lt _ (by decide)⟩ : Fin 21)
    (⟨h % 512, Nat.mod_lt _ (by decide)⟩ : Fin 512) (⟨w % 512, Nat.mod_lt _ (by decide)⟩ : Fin 512)

/-- One where the word at a position is `x`. -/
def hit (G : Vec Ideal S4x21x512x512 .i32) (x b c h w : ℕ) : ℕ := if x = (G (pos4 b c h w)).toNat then 1 else 0

theorem chunkOff_val : ∀ (n : Fin 84) (t : Fin 32), chunkOff n (tileAt t) 2 = 16 * t.val := by decide +kernel

theorem squeeze_at (v : Vec Ideal S1x1x16x512 .i32) (hc : S1x1x16x512.ShapeCasts S16x512) (r : Fin 16) (w : Fin 512) :
    shapeCast S16x512 v hc (ix2 r w) = v (ix4 0 0 r w) := by
  pointwise

theorem chunkVals_at (t : Fin 32) (G : Vec Ideal S4x21x512x512 .i32) (n : Fin 84) (r : Fin 16) (w : Fin 512) :
    chunkVals (tileAt t) G n (ix2 r w) = G (pos4 (n.val / 21) (n.val % 21) (16 * t.val + r.val) w.val) := by
  unfold chunkVals chunk
  rw [Memref.read_squeeze_slice (Memref.whole main_v0_scv) (Rect.unit (s := S4x21x512x512) (chunkOff n (tileAt t)) S1x1x16x512.size (chunkOff_inb n (tileAt t)))
    (fun _ => rfl) squeezes_S1x1x16x512_S16x512 (show S1x1x16x512.ShapeCasts S16x512 by decide)]
  refine (squeeze_at _ _ r w).trans ?_
  have h2 := chunkOff_val n t
  have := n.isLt
  have := t.isLt
  have := r.isLt
  refine congrArg G (funext fun a => Fin.ext ?_)
  match a with
  | 0 => show n.val / 21 + 1 * 0 = n.val / 21 % 4; omega
  | 1 => show n.val % 21 + 1 * 0 = n.val % 21 % 21; omega
  | 2 => show chunkOff n (tileAt t) 2 + 1 * r.val = (16 * t.val + r.val) % 512; rw [h2]; omega
  | 3 => show 0 + 1 * w.val = w.val % 512; omega

theorem counted_eq (t : Fin 32) (G : Vec Ideal S4x21x512x512 .i32) (x : ℕ) :
    counted (tileAt t) G 84 x = ∑ b : Fin 4, ∑ c : Fin 21, ∑ r : Fin 16, ∑ w : Fin 512, hit G x b.val c.val (16 * t.val + r.val) w.val := by
  unfold counted chunkCount
  rw [Finset.sum_range]
  have h := sum_tiles 4 21 84 rfl (fun n => ∑ r : Fin 16, ∑ w : Fin 512, hit G x (n / 21) (n % 21) (16 * t.val + r.val) w.val)
  refine Eq.trans ?_ (h.symm.trans ?_)
  · refine Finset.sum_congr rfl fun n _ => ?_
    rw [dif_pos n.isLt]
    refine Finset.sum_congr rfl fun r _ => Finset.sum_congr rfl fun w _ => ?_
    rw [chunkVals_at]
    rfl
  · refine Finset.sum_congr rfl fun b _ => Finset.sum_congr rfl fun c _ => ?_
    have := b.isLt
    have := c.isLt
    rw [show (21 * b.val + c.val) / 21 = b.val by omega, show (21 * b.val + c.val) % 21 = c.val by omega]

/-- How often, over all tiles and lane blocks, element `y` of a block is named. -/
def total (G : Vec Ideal S4x21x512x512 .i32) (y : ℕ) : ℕ :=
  ∑ t : Fin 32, ∑ l ∈ Finset.range 16, counted (tileAt t) G 84 (l * 5519 + y)

theorem total_eq (G : Vec Ideal S4x21x512x512 .i32) (y : ℕ) :
    total G y = ∑ b : Fin 4, ∑ c : Fin 21, ∑ h : Fin 512, ∑ w : Fin 512, ∑ l ∈ Finset.range 16, hit G (l * 5519 + y) b.val c.val h.val w.val := by
  unfold total
  simp only [counted_eq]
  have e : ∀ t : Fin 32, ∑ l ∈ Finset.range 16, ∑ b : Fin 4, ∑ c : Fin 21, ∑ r : Fin 16, ∑ w : Fin 512, hit G (l * 5519 + y) b.val c.val (16 * t.val + r.val) w.val
      = ∑ b : Fin 4, ∑ c : Fin 21, ∑ r : Fin 16, ∑ w : Fin 512, ∑ l ∈ Finset.range 16, hit G (l * 5519 + y) b.val c.val (16 * t.val + r.val) w.val := by
    intro t
    rw [Finset.sum_comm]; refine Finset.sum_congr rfl fun b _ => ?_
    rw [Finset.sum_comm]; refine Finset.sum_congr rfl fun c _ => ?_
    rw [Finset.sum_comm]; refine Finset.sum_congr rfl fun r _ => ?_
    rw [Finset.sum_comm]
  simp only [e]
  rw [Finset.sum_comm]; refine Finset.sum_congr rfl fun b _ => ?_
  rw [Finset.sum_comm]; refine Finset.sum_congr rfl fun c _ => ?_
  exact sum_tiles 32 16 512 rfl fun h => ∑ w : Fin 512, ∑ l ∈ Finset.range 16, hit G (l * 5519 + y) b.val c.val h w.val

section Pixels

variable (X0 : Vec Ideal S4x21x512x512 .f32) (X1 : Vec Ideal S4x512x512 .i32)

/-- The label at three numbers. -/
def labelOf (b h w : ℕ) : BitVec 32 :=
  X1 (ix3 (⟨b % 4, Nat.mod_lt _ (by decide)⟩ : Fin 4) (⟨h % 512, Nat.mod_lt _ (by decide)⟩ : Fin 512) (⟨w % 512, Nat.mod_lt _ (by decide)⟩ : Fin 512))

/-- The probability the kernel computes at a position. -/
def probOf (b c h w : ℕ) : EReal :=
  Ideal.div (Ideal.exp (X0 (pos4 b c h w))) (∑ k : Fin 21, Ideal.exp (X0 (pos4 b k.val h w)))

/-- The bin of a pixel for a class, counted from the largest error. -/
def binOf (b c h w : ℕ) : ℕ := 127 - (clipWord (errWord (F := Ideal) (probOf X0 b c h w) (labelOf X1 b h w) c)).toNat

theorem probs_at (v0 : Vec Ideal S1x21x128x512 .f32) (c : Fin 21) (h : Fin 128) (w : Fin 512) :
    probs v0 (ix3 c h w) = Ideal.div (Ideal.exp (v0 (ix4 0 c h w))) (∑ k : Fin 21, Ideal.exp (v0 (ix4 0 k h w))) := by
  unfold probs
  pointwise

theorem idxArr_at (b : Fin 4) (c : Fin 21) (h w : Fin 512) :
    (idxArr X0 X1 (pos4 b.val c.val h.val w.val)).toNat
      = (w.val % 16) * 5519 + (histRow (labelOf X1 b.val h.val w.val) c.val * 128 + binOf X0 X1 b.val c.val h.val w.val) := by
  unfold idxArr
  have h4 := b.isLt
  have h21 := c.isLt
  have hh := h.isLt
  have hw := w.isLt
  have e1 : inBlk (pos4 b.val c.val h.val w.val) = ix4 0 c (⟨h.val % 128, Nat.mod_lt _ (by decide)⟩ : Fin 128) w := by
    funext a
    apply Fin.ext
    match a with
    | 0 => rfl
    | 1 => show c.val % 21 = c.val; omega
    | 2 => show h.val % 512 % 128 = h.val % 128; omega
    | 3 => show w.val % 512 = w.val; omega
  have e2 : ∀ k : Fin 21, scoreAt (pos4 b.val c.val h.val w.val) (ix4 0 k (⟨h.val % 128, Nat.mod_lt _ (by decide)⟩ : Fin 128) w)
      = pos4 b.val k.val h.val w.val := by
    intro k
    have hk := k.isLt
    funext a
    apply Fin.ext
    match a with
    | 0 => rfl
    | 1 => show k.val = k.val % 21; omega
    | 2 => show h.val % 512 / 128 * 128 + h.val % 128 = h.val % 512; omega
    | 3 => show w.val = w.val % 512; omega
  have e3 : X1 (labelAt (pos4 b.val c.val h.val w.val) (ix3 0 (⟨h.val % 128, Nat.mod_lt _ (by decide)⟩ : Fin 128) w)) = labelOf X1 b.val h.val w.val := by
    refine congrArg X1 (funext fun a => Fin.ext ?_)
    match a with
    | 0 => rfl
    | 1 => show h.val % 512 / 128 * 128 + h.val % 128 = h.val % 512; omega
    | 2 => show w.val = w.val % 512; omega
  rw [e1, prepBlock_at, probs_at]
  simp only [e2, e3]
  rfl

theorem binOf_le (b c h w : ℕ) : binOf X0 X1 b c h w ≤ 127 := Nat.sub_le _ _

/-- Whether the pixel's label is the class, as a number. -/
def fgOf (b c h w : ℕ) : ℕ := if labelOf X1 b h w = BitVec.ofNat 32 c then 1 else 0

/-- The word of a position is hit, over the lane blocks, once if row and bin are the element's. -/
theorem hits_eq (y : ℕ) (hy : y < 5504) (b : Fin 4) (c : Fin 21) (h w : Fin 512) :
    ∑ l ∈ Finset.range 16, hit (idxArr X0 X1) (l * 5519 + y) b.val c.val h.val w.val
      = if y = histRow (labelOf X1 b.val h.val w.val) c.val * 128 + binOf X0 X1 b.val c.val h.val w.val then 1 else 0 := by
  unfold hit
  rw [idxArr_at]
  have h1 := histRow_le (labelOf X1 b.val h.val w.val) c
  have h2 := binOf_le X0 X1 b.val c.val h.val w.val
  have hz : histRow (labelOf X1 b.val h.val w.val) c.val * 128 + binOf X0 X1 b.val c.val h.val w.val < 5504 := by omega
  generalize histRow (labelOf X1 b.val h.val w.val) c.val * 128 + binOf X0 X1 b.val c.val h.val w.val = z at *
  have hl : w.val % 16 < 16 := Nat.mod_lt _ (by decide)
  generalize w.val % 16 = l0 at *
  rw [Finset.sum_eq_single l0]
  · exact if_congr (by omega) rfl rfl
  · intro l _ hne; exact if_neg (by omega)
  · intro hn; exact absurd (Finset.mem_range.2 hl) hn

/-- How many pixels have class `c` as their label, or not, and lie in bin `k` for it. -/
theorem total_row (c : Fin 21) (fg : Bool) (k : ℕ) (hk : k < 128) :
    total (idxArr X0 X1) ((if fg then 21 + c.val else c.val) * 128 + k)
      = ∑ b : Fin 4, ∑ h : Fin 512, ∑ w : Fin 512,
          if binOf X0 X1 b.val c.val h.val w.val = k then (if fg then fgOf X1 b.val c.val h.val w.val else 1 - fgOf X1 b.val c.val h.val w.val) else 0 := by
  rw [total_eq]
  have hc := c.isLt
  refine Finset.sum_congr rfl fun b _ => ?_
  rw [Finset.sum_eq_single c]
  · refine Finset.sum_congr rfl fun h _ => Finset.sum_congr rfl fun w _ => ?_
    rw [hits_eq _ _ _ (by split <;> omega)]
    have h2 := binOf_le X0 X1 b.val c.val h.val w.val
    unfold histRow fgOf
    generalize binOf X0 X1 _ _ _ _ = z at *
    cases fg <;> by_cases e : labelOf X1 b.val h.val w.val = BitVec.ofNat 32 c.val <;> simp only [e, if_true, if_false] <;> split_ifs <;> omega
  · intro c' _ hne
    have hc' := c'.isLt
    have hv : c'.val ≠ c.val := fun e => hne (Fin.ext e)
    refine Finset.sum_eq_zero fun h _ => Finset.sum_eq_zero fun w _ => ?_
    rw [hits_eq _ _ _ (by split <;> omega)]
    have h2 := binOf_le X0 X1 b.val c'.val h.val w.val
    unfold histRow
    refine if_neg fun e => ?_
    split_ifs at e <;> omega
  · intro hn; exact absurd (Finset.mem_univ _) hn

end Pixels

/-- A tile's row of the histograms, at element `y`. -/
theorem allHists_at (G : Vec Ideal S4x21x512x512 .i32) (t : Fin 32) (y : Fin 5504) :
    allHists G (ix2 t y) = (((∑ l ∈ Finset.range 16, counted (tileAt t) G 84 (l * 5519 + y.val) : ℕ) : ℝ) : EReal) := by
  obtain ⟨g, hg, h1, -⟩ := blocks_holds (tileAt t) G 15 (by decide)
  have e : histAt (tileAt t) G 99 = blocksHist (tileAt t) G 15 := by unfold histAt; rw [if_neg (by decide)]
  unfold allHists
  show histAt (tileAt t) G 99 _ = _
  rw [e, hg]
  exact congrArg (fun n : ℕ => ((n : ℝ) : EReal)) (h1 y.val (by have := y.isLt; omega))

end Cert.Proof
-- ==== Proof.KValue.lean ====
/-
  The value the kernel computes, as the mean loss of the bins' counts.
-/
module

public import proofs.«01_k».proof.Proof.KLoss
public import proofs.«01_k».proof.Proof.Total
public import proofs.«01_k».proof.Proof.Launch

@[expose] public section

noncomputable section

namespace Cert.Proof

open Cert.KernelIdeal Cert.KernelIdeal.Gen
open Idealize.ShloMosaic Idealize.SL.Sem

section Pixels

variable (X0 : Vec Ideal S4x21x512x512 .f32) (X1 : Vec Ideal S4x512x512 .i32)

/-- The bin of pixel `p` for class `c`. -/
def pixBin (c : Fin 21) (p : Fin 1048576) : ℕ := binOf X0 X1 (p.val / 262144) c.val (p.val / 512 % 512) (p.val % 512)

/-- Whether the label of pixel `p` is class `c`, as a number. -/
def pixFg (c : Fin 21) (p : Fin 1048576) : ℕ := fgOf X1 (p.val / 262144) c.val (p.val / 512 % 512) (p.val % 512)

theorem pixFg_le (c : Fin 21) (p : Fin 1048576) : pixFg X1 c p ≤ 1 := by unfold pixFg fgOf; split <;> omega

theorem pixBin_le (c : Fin 21) (p : Fin 1048576) : pixBin X0 X1 c p ≤ 127 := binOf_le _ _ _ _ _ _

/-- A sum over images, rows and columns is a sum over pixels. -/
theorem sum_pixels (f : ℕ → ℕ → ℕ → ℕ) :
    ∑ b : Fin 4, ∑ h : Fin 512, ∑ w : Fin 512, f b.val h.val w.val = ∑ p : Fin 1048576, f (p.val / 262144) (p.val / 512 % 512) (p.val % 512) := by
  have e : ∀ b : Fin 4, ∑ h : Fin 512, ∑ w : Fin 512, f b.val h.val w.val = ∑ q : Fin 262144, f b.val (q.val / 512) (q.val % 512) := by
    intro b
    refine Eq.trans ?_ (sum_tiles 512 512 262144 (by norm_num) fun q => f b.val (q / 512) (q % 512))
    refine Finset.sum_congr rfl fun h _ => Finset.sum_congr rfl fun w _ => ?_
    have := w.isLt
    rw [show (512 * h.val + w.val) / 512 = h.val by omega, show (512 * h.val + w.val) % 512 = w.val by omega]
  rw [Finset.sum_congr rfl fun b _ => e b]
  refine Eq.trans ?_ (sum_tiles 4 262144 1048576 (by norm_num) fun p => f (p / 262144) (p / 512 % 512) (p % 512))
  refine Finset.sum_congr rfl fun b _ => Finset.sum_congr rfl fun q _ => ?_
  have := q.isLt
  rw [show (262144 * b.val + q.val) / 262144 = b.val by omega, show (262144 * b.val + q.val) / 512 % 512 = q.val / 512 by omega,
    show (262144 * b.val + q.val) % 512 = q.val % 512 by omega]

theorem total_fg (c : Fin 21) (k : ℕ) (hk : k < 128) :
    total (idxArr X0 X1) ((21 + c.val) * 128 + k) = ∑ p, if pixBin X0 X1 c p = k then pixFg X1 c p else 0 := by
  refine (total_row X0 X1 c true k hk).trans ?_
  exact sum_pixels fun b h w => if binOf X0 X1 b c.val h w = k then fgOf X1 b c.val h w else 0

theorem total_bg (c : Fin 21) (k : ℕ) (hk : k < 128) :
    total (idxArr X0 X1) (c.val * 128 + k) = ∑ p, if pixBin X0 X1 c p = k then 1 - pixFg X1 c p else 0 := by
  refine (total_row X0 X1 c false k hk).trans ?_
  exact sum_pixels fun b h w => if binOf X0 X1 b c.val h w = k then 1 - fgOf X1 b c.val h w else 0

end Pixels

/-- Adding up, over the bins up to `t`, what lies in each. -/
theorem sum_bins {N : ℕ} (b f : Fin N → ℕ) (h : ∀ i, b i ≤ 127) (t : ℕ) :
    (∑ k : Fin 128, if k.val ≤ t then ∑ i, (if b i = k.val then f i else 0) else 0) = ∑ i, if b i ≤ t then f i else 0 := by
  have e : ∀ k : Fin 128, (if k.val ≤ t then ∑ i, (if b i = k.val then f i else 0) else 0) = ∑ i, if b i = k.val then (if k.val ≤ t then f i else 0) else 0 := by
    intro k
    by_cases hk : k.val ≤ t
    · simp only [hk, if_true]
    · simp [hk]
  rw [Finset.sum_congr rfl fun k _ => e k, Finset.sum_comm]
  refine Finset.sum_congr rfl fun i _ => ?_
  rw [Finset.sum_eq_single (⟨b i, by have := h i; omega⟩ : Fin 128)]
  · exact if_pos rfl
  · intro k _ hne; exact if_neg fun e => hne (Fin.ext e.symm)
  · intro hn; exact absurd (Finset.mem_univ _) hn

/-- The same count from the two parts each bin is kept in. -/
theorem sum_bins_all {N : ℕ} (b f : Fin N → ℕ) (h : ∀ i, b i ≤ 127) (hf : ∀ i, f i ≤ 1) (t : ℕ) :
    (∑ k : Fin 128, if k.val ≤ t then (∑ i, (if b i = k.val then 1 - f i else 0)) + ∑ i, (if b i = k.val then f i else 0) else 0) = upTo b t := by
  refine Eq.trans (Finset.sum_congr rfl fun k _ => ?_) (sum_bins b (fun _ => 1) h t)
  have e : (∑ i, (if b i = k.val then 1 - f i else 0)) + ∑ i, (if b i = k.val then f i else 0) = ∑ i, if b i = k.val then 1 else 0 := by
    rw [← Finset.sum_add_distrib]
    refine Finset.sum_congr rfl fun i _ => ?_
    have := hf i
    split <;> omega
  rw [e]

variable (m : (ℓ : Loc nD τ sig) → Buf (Elt Ideal) ℓ)

theorem histRows_at (d : Dev nD) (w : Fin 32) (r : Fin 42) (k : Fin 128) :
    histRows m d (ix3 w r k) = allHists (idxs m d) (ix2 w (⟨r.val * 128 + k.val, by omega⟩ : Fin 5504)) := by
  unfold histRows
  pointwise

theorem rows_at (d : Dev nD) (r : Fin 42) (k : Fin 128) : ∑ w : Fin 32, histRows m d (ix3 w r k) = (((total (idxs m d) (r.val * 128 + k.val) : ℕ) : ℝ) : EReal) := by
  unfold total
  rw [Nat.cast_sum, ← sum_real]
  exact Finset.sum_congr rfl fun w _ => by rw [histRows_at, allHists_at]

/-- The kernel's value is the mean loss of the bins' counts. -/
theorem result_eq (d : Dev nD) (X0 : Vec Ideal S4x21x512x512 .f32) (X1 : Vec Ideal S4x512x512 .i32) (h : idxs m d = idxArr X0 X1) (i : S_.Idx) :
    result m d i = ((meanLoss (fun c => upToFg (pixBin X0 X1 c) (pixFg X1 c)) (fun c => upTo (pixBin X0 X1 c)) : ℝ) : EReal) := by
  unfold result
  have e : ∀ v : Vec Ideal S1x1 .f32, shapeCast S_ v shapeCasts_S1x1_S_ i = v (ix2 0 0) := by
    intro v
    pointwise
  rw [e]
  refine pay_at _ (fun c k => ∑ p, if pixBin X0 X1 c p = k.val then 1 - pixFg X1 c p else 0)
    (fun c k => ∑ p, if pixBin X0 X1 c p = k.val then pixFg X1 c p else 0) _ _ (fun c k => ?_) (fun c k => ?_) (fun c t => ?_) (fun c t => ?_)
  · rw [rows_at, h]; exact congrArg (fun n : ℕ => ((n : ℝ) : EReal)) (total_bg X0 X1 c k.val k.isLt)
  · rw [rows_at, h]; exact congrArg (fun n : ℕ => ((n : ℝ) : EReal)) (total_fg X0 X1 c k.val k.isLt)
  · exact (sum_bins _ _ (pixBin_le X0 X1 c) t.val).symm
  · exact (sum_bins_all _ _ (pixBin_le X0 X1 c) (pixFg_le X1 c) t.val).symm

end Cert.Proof
-- ==== Proof.RefErr.lean ====
/-
  The errors of the reference: the softmax that subtracts the largest logit is the kernel's, and the rounded error of a
  pixel for a class is the midpoint of the pixel's bin.
-/
module

public import proofs.«01_k».proof.Proof.KValue
public import proofs.«01_k».proof.Proof.Gen.ReferenceIdeal.Read
public import Idealize.ShloMosaic.Lib.Pointwise

@[expose] public section

noncomputable section

namespace Cert.Proof

open Cert.ReferenceIdeal Cert.ReferenceIdeal.Gen Cert.ReferenceIdeal.Read
open Idealize.ShloMosaic

/-- Every logit is a real number. -/
def RealLogits (X0 : FVec Ideal S4x21x512x512 .f32) : Prop := ∀ i, ∃ r : ℝ, X0 i = (r : EReal)

variable (X0 : FVec Ideal S4x21x512x512 .f32) (X1 : IVec S4x512x512 32)

/-- The largest of finitely many reals, at least one, is a real. -/
theorem fold_max_real {n : ℕ} (f : Fin n → EReal) (k : Fin n) (h : ∀ i, ∃ r : ℝ, f i = (r : EReal)) :
    ∃ m : ℝ, (Finset.univ : Finset (Fin n)).fold max (⊥ : EReal) f = (m : EReal) := by
  have h1 : (Finset.univ : Finset (Fin n)).fold max (⊥ : EReal) f < ⊤ :=
    (Finset.fold_max_lt _).mpr ⟨bot_lt_top, fun i _ => by obtain ⟨r, e⟩ := h i; rw [e]; exact EReal.coe_lt_top r⟩
  have h2 : ⊥ < (Finset.univ : Finset (Fin n)).fold max (⊥ : EReal) f :=
    (Finset.lt_fold_max _).mpr (Or.inr ⟨k, Finset.mem_univ _, by obtain ⟨r, e⟩ := h k; rw [e]; exact EReal.bot_lt_coe r⟩)
  exact ⟨_, (EReal.coe_toReal h1.ne h2.ne').symm⟩

theorem bits_neg_inf : Ideal.ofBits .f32 0xFF800000#32 = ⊥ := by simp [Ideal.ofBits, Ideal.ieee]

theorem v0_at (b : Fin 4) (h w : Fin 512) (hr : S4x21x512x512.Reduces [1] S4x512x512) :
    val_main_v0 (F := Ideal) X0 (ix3 b h w) = (Finset.univ : Finset (Fin 21)).fold max (⊥ : EReal) fun k : Fin 21 => X0 (hr.lift (ix3 b h w) k) := by
  unfold val_main_v0
  refine (Host.reduce_eq_fold_single (max : EReal → EReal → EReal) X0 (val_main_cst (F := Ideal)) _ hr h_S_ (ix3 b h w)).trans ?_
  rw [val_main_cst_apply, Ideal.ofBits_def, bits_neg_inf]
  rfl

theorem v2_real (hX : RealLogits X0) (b : Fin 4) (h w : Fin 512) : ∃ m : ℝ, val_main_v2 (F := Ideal) X0 (ix3 b h w) = (m : EReal) := by
  have hr : S4x21x512x512.Reduces [1] S4x512x512 := by decide
  obtain ⟨m, hm⟩ := fold_max_real (fun k : Fin 21 => X0 (hr.lift (ix3 b h w) k)) 0 fun i => hX _
  refine ⟨m, ?_⟩
  rw [val_main_v2_apply, val_main_v1_apply, val_main_cst_0_apply, (v0_at X0 b h w hr).trans hm, Ideal.ofBits_def, bits_neg_inf]
  exact max_eq_right bot_le

theorem v6_at (r : S4x21x512x512.Idx → ℝ) (hr : ∀ i, X0 i = (r i : EReal)) (b : Fin 4) (c : Fin 21) (h w : Fin 512) (m : ℝ)
    (hm : val_main_v2 (F := Ideal) X0 (ix3 b h w) = (m : EReal)) :
    val_main_v6 (F := Ideal) X0 (ix4 b c h w) = ((Real.exp (r (ix4 b c h w) - m) : ℝ) : EReal) := by
  rw [val_main_v6_apply, val_main_v5_apply, val_main_v4_apply, val_main_v3_apply, hr,
    show idx_main_v3 (idx_main_v4 (ix4 b c h w)) = ix3 b h w from funext fun a => Fin.ext (by match a with | ⟨0, _⟩ => rfl | ⟨1, _⟩ => rfl | ⟨2, _⟩ => rfl), hm]
  rw [Ideal.hostUnary_exp_def]
  show Ideal.exp ((r (ix4 b c h w) : EReal) - (m : EReal)) = _
  rw [← EReal.coe_sub, Ideal.exp_coe]

theorem softmax_shift {n : ℕ} (r : Fin n → ℝ) (m : ℝ) (c : Fin n) :
    Real.exp (r c - m) / ∑ k, Real.exp (r k - m) = Real.exp (r c) / ∑ k, Real.exp (r k) := by
  simp only [Real.exp_sub, ← Finset.sum_div]
  rw [div_div_div_cancel_right₀ (Real.exp_pos m).ne']

theorem v10_at (hX : RealLogits X0) (b : Fin 4) (c : Fin 21) (h w : Fin 512) :
    val_main_v10 (F := Ideal) X0 (ix4 b c h w) = Ideal.div (Ideal.exp (X0 (ix4 b c h w))) (∑ k : Fin 21, Ideal.exp (X0 (ix4 b k h w))) := by
  choose r hr using hX
  obtain ⟨m, hm⟩ := v2_real X0 (fun i => ⟨r i, hr i⟩) b h w
  have pos : ∀ s : Fin 21 → ℝ, (∑ k, Real.exp (s k)) ≠ 0 := fun s => (Finset.sum_pos (fun k _ => Real.exp_pos _) ⟨c, Finset.mem_univ _⟩).ne'
  have e7 : val_main_v7 (F := Ideal) X0 (ix3 b h w) = ((∑ k : Fin 21, Real.exp (r (ix4 b k h w) - m) : ℝ) : EReal) := by
    rw [val_main_v7_apply, val_main_cst_1_apply, Ideal.ofBits_def, Ideal.ofBits_zero_f32, zero_add, ← sum_real]
    exact Finset.sum_congr rfl fun k _ => (congrArg _ (funext fun a => Fin.ext (by match a with | ⟨0, _⟩ => rfl | ⟨1, _⟩ => rfl | ⟨2, _⟩ => rfl | ⟨3, _⟩ => rfl))).trans
      (v6_at X0 r hr b k h w m hm)
  rw [val_main_v10_apply, val_main_v9_apply, val_main_v8_apply,
    show idx_main_v8 (idx_main_v9 (ix4 b c h w)) = ix3 b h w from funext fun a => Fin.ext (by match a with | ⟨0, _⟩ => rfl | ⟨1, _⟩ => rfl | ⟨2, _⟩ => rfl),
    e7, v6_at X0 r hr b c h w m hm]
  show Ideal.div _ _ = _
  rw [div_real _ _ (pos _)]
  simp only [hr, Ideal.exp_coe]
  rw [sum_real, div_real _ _ (pos _), softmax_shift (fun k => r (ix4 b k h w)) m c]

/-- The position of pixel `p` for class `c`. -/
theorem v12_at (hX : RealLogits X0) (c : Fin 21) (p : Fin 1048576) :
    val_main_v12 (F := Ideal) X0 (ix2 c p) = probOf X0 (p.val / 262144) c.val (p.val / 512 % 512) (p.val % 512) := by
  have hc := c.isLt
  have hp := p.isLt
  have e : idx_main_v11 (idx_main_v12 (ix2 c p)) = pos4 (p.val / 262144) c.val (p.val / 512 % 512) (p.val % 512) := by
    funext a
    refine Fin.ext ?_
    match a with
    | ⟨0, _⟩ => show (c.val * 1048576 + p.val) / 262144 % 4 = p.val / 262144 % 4; omega
    | ⟨1, _⟩ => show (c.val * 1048576 + p.val) / 1048576 = c.val % 21; omega
    | ⟨2, _⟩ => show (c.val * 1048576 + p.val) / 512 % 512 = p.val / 512 % 512 % 512; omega
    | ⟨3, _⟩ => show (c.val * 1048576 + p.val) % 512 = p.val % 512 % 512; omega
  rw [val_main_v12_apply, val_main_v11_apply, e]
  unfold pos4 probOf
  refine (v10_at X0 hX _ _ _ _).trans ?_
  refine congrArg (Ideal.div _) (Finset.sum_congr rfl fun k _ => ?_)
  refine congrArg (fun i => Ideal.exp (X0 i)) (funext fun a => Fin.ext ?_)
  have hk := k.isLt
  match a with
  | ⟨0, _⟩ => rfl
  | ⟨1, _⟩ => show k.val = k.val % 21; omega
  | ⟨2, _⟩ => rfl
  | ⟨3, _⟩ => rfl

theorem v16_at (c : Fin 21) (p : Fin 1048576) :
    val_main_v16 (F := Ideal) X1 (ix2 c p) = labelOf X1 (p.val / 262144) (p.val / 512 % 512) (p.val % 512) := by
  have hp := p.isLt
  rw [val_main_v16_apply, val_main_v13_apply]
  unfold labelOf
  refine congrArg X1 (funext fun a => Fin.ext ?_)
  match a with
  | ⟨0, _⟩ => show (0 * 1048576 + p.val) / 262144 = p.val / 262144 % 4; omega
  | ⟨1, _⟩ => show (0 * 1048576 + p.val) / 512 % 512 = p.val / 512 % 512 % 512; omega
  | ⟨2, _⟩ => show (0 * 1048576 + p.val) % 512 = p.val % 512 % 512; omega

theorem v18_at (c : Fin 21) (p : Fin 1048576) :
    val_main_v18 (F := Ideal) X1 (ix2 c p) = IntOp.cmpi .eq (labelOf X1 (p.val / 262144) (p.val / 512 % 512) (p.val % 512)) (BitVec.ofNat 32 c.val) := by
  rw [val_main_v18_apply, v16_at, val_main_v17_apply, val_main_v15_apply, val_main_v14_apply]
  rfl

theorem bit_real (x : BitVec 1) : (FloatOps.uitofp (F := Ideal) .f32 x : EReal) = FloatOps.sitofp (F := Ideal) .f32 (x.setWidth 32) := by
  show (((x.toNat : ℕ) : ℝ) : EReal) = ((((x.setWidth 32).toInt : ℤ) : ℝ) : EReal)
  rcases BitVec.eq_zero_or_eq_one x with h | h <;> subst h <;> simp

theorem v19_at (c : Fin 21) (p : Fin 1048576) : val_main_v19 (F := Ideal) X1 (ix2 c p) = (((pixFg X1 c p : ℕ) : ℝ) : EReal) := by
  rw [val_main_v19_apply, v18_at]
  unfold pixFg fgOf
  show (((BitVec.toNat (IntOp.cmpi .eq (labelOf X1 (p.val / 262144) (p.val / 512 % 512) (p.val % 512)) (BitVec.ofNat 32 c.val)) : ℕ) : ℝ) : EReal) = _
  generalize labelOf X1 (p.val / 262144) (p.val / 512 % 512) (p.val % 512) = l
  by_cases h : l = BitVec.ofNat 32 c.val
  · rw [if_pos h, h]; simp [IntOp.cmpi]
  · rw [if_neg h]
    have : IntOp.cmpi .eq l (BitVec.ofNat 32 c.val) = 0#1 := by
      show BitVec.ofBool (l == BitVec.ofNat 32 c.val) = 0#1
      rw [beq_false_of_ne h]; rfl
    rw [this]; rfl

theorem v25_at (hX : RealLogits X0) (c : Fin 21) (p : Fin 1048576) :
    val_main_v25 (F := Ideal) X0 X1 (ix2 c p)
      = clipWord (errWord (F := Ideal) (probOf X0 (p.val / 262144) c.val (p.val / 512 % 512) (p.val % 512)) (labelOf X1 (p.val / 262144) (p.val / 512 % 512) (p.val % 512)) c.val) := by
  rw [val_main_v25_apply, val_main_call0_v2_apply, val_main_v24_apply, val_main_v23_apply, val_main_v21_apply, val_main_v20_apply, v12_at X0 hX, val_main_v19_apply, v18_at,
    val_main_v22_apply, val_main_cst_2_apply, bit_real]
  rw [val_main_call0_v4_apply, val_main_call0_v3_apply, val_main_c_3_apply, val_main_call0_v1_apply, val_main_call0_v0_apply, val_main_c_apply]
  rfl

/-- The rounded error is the midpoint of the bin. -/
theorem v30_at (hX : RealLogits X0) (c : Fin 21) (p : Fin 1048576) :
    val_main_v30 (F := Ideal) X0 X1 (ix2 c p) = (((127.5 - (pixBin X0 X1 c p : ℝ)) / 128 : ℝ) : EReal) := by
  rw [val_main_v30_apply, val_main_v28_apply, val_main_v26_apply, v25_at X0 X1 hX, val_main_v27_apply, val_main_cst_4_apply, val_main_v29_apply, val_main_cst_5_apply,
    Ideal.ofBits_def, Ideal.ofBits_def, bits_half, bits_128]
  unfold pixBin binOf
  generalize errWord (F := Ideal) (probOf X0 (p.val / 262144) c.val (p.val / 512 % 512) (p.val % 512)) (labelOf X1 (p.val / 262144) (p.val / 512 % 512) (p.val % 512)) c.val = z
  have hz := clipWord_eq z
  have hle : (clipWord z).toNat ≤ 127 := by omega
  have hi : (clipWord z).toInt = ((clipWord z).toNat : ℤ) := BitVec.toInt_eq_toNat_of_lt (by omega)
  show Ideal.div ((((clipWord z).toInt : ℝ) : EReal) + ((1 / 2 : ℝ) : EReal)) ((128 : ℝ) : EReal) = _
  rw [← EReal.coe_add, div_real _ _ (by norm_num), hi, Nat.cast_sub hle]
  congr 2
  push_cast
  ring

end Cert.Proof
-- ==== Proof.Finite.lean ====
/-
  What the precondition says: every logit is a real number.
-/
module

public import proofs.«01_k».proof.Defs
public import proofs.«01_k».proof.Proof.RefErr

@[expose] public section

noncomputable section

namespace Cert.Proof

open Idealize.ShloMosaic

/-- The precondition's side conditions. -/
theorem finite_facts : Cert.Pre_finite.Facts where
  bcast_S_S4x21x512x512 := by decide
  reducesTo_S4x21x512x512_S_d0_1_2_3 := by decide
  h_S_ := by decide

theorem andi_one (x y : BitVec 1) (h : IntOp.andi x y = 1#1) : x = 1#1 ∧ y = 1#1 := by
  rcases BitVec.eq_zero_or_eq_one x with e | e <;> rcases BitVec.eq_zero_or_eq_one y with e' | e' <;> subst e <;> subst e' <;> revert h <;> decide

/-- Bits that conjoin to one are all one. -/
theorem fold_andi {ι : Type*} [DecidableEq ι] (S : Finset ι) (f : ι → BitVec 1) (v : BitVec 1) (h : S.fold IntOp.andi v f = 1#1) : ∀ i ∈ S, f i = 1#1 := by
  induction S using Finset.cons_induction with
  | empty => intro i hi; exact absurd hi (Finset.notMem_empty i)
  | cons a S ha ih =>
    rw [Finset.fold_cons] at h
    have := andi_one _ _ h
    intro i hi
    rcases Finset.mem_cons.mp hi with e | hi
    · rw [e]; exact this.1
    · exact ih this.2 i hi

theorem bits_inf : Ideal.ofBits .f32 0x7F800000#32 = ⊤ := by simp [Ideal.ofBits, Ideal.ieee]

/-- A number below infinity in absolute value is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [Ideal.ofBits_def, bits_inf] at h
  induction x using EReal.rec with
  | coe r => exact ⟨r, rfl⟩
  | bot =>
    change Ideal.cmp .olt (max ⊥ (-⊥)) ⊤ = 1#1 at h
    simp [Ideal.cmp] at h
  | top =>
    change Ideal.cmp .olt (max ⊤ (-⊤)) ⊤ = 1#1 at h
    simp [Ideal.cmp] at h

/-- The precondition makes every logit real. -/
theorem real_of_finite [Cert.Pre_finite.Facts] (X0 : FVec Ideal Cert.Pre_finite.S4x21x512x512 .f32) (X1 : IVec Cert.Pre_finite.S4x512x512 32)
    (h : Cert.Pre_finite.fn (F := Ideal) X0 X1 = fun _ => 1#1) : RealLogits X0 := by
  intro i
  refine real_of_abs _ ?_
  have e := congrFun h (Shape.Idx.first Cert.Pre_finite.Facts.h_S_)
  unfold Cert.Pre_finite.fn at e
  dsimp only at e
  rw [Host.reduce_eq_fold] at e
  exact fold_andi _ _ _ e i (Finset.mem_filter.mpr ⟨Finset.mem_univ _, funext fun a => a.elim0⟩)

end Cert.Proof

end
-- ==== Proof.Along.lean ====
/-
  The loss of one class along an order of its pixels, over the reals: its increments are at least zero and add up to
  one, so a change of the errors by at most `d` changes it by at most `d`.
-/
module

public import proofs.«01_k».proof.Proof.Loss

@[expose] public section

noncomputable section

namespace Cert.Proof

section Increments

variable {N : ℕ} (fg : Fin N → ℕ)

theorem firsts_succ (n : ℕ) : firsts fg (n + 1) = firsts fg n + if h : n < N then fg ⟨n, h⟩ else 0 := by
  unfold firsts; rw [Finset.sum_range_succ]

theorem firsts_all : firsts fg N = ∑ i, fg i := by
  unfold firsts
  rw [Finset.sum_range]
  exact Finset.sum_congr rfl fun i _ => dif_pos i.isLt

theorem firsts_mono {m n : ℕ} (h : m ≤ n) : firsts fg m ≤ firsts fg n :=
  Finset.sum_le_sum_of_subset (Finset.range_subset_range.2 h)

theorem firsts_le_all (n : ℕ) (h : n ≤ N) : firsts fg n ≤ ∑ i, fg i := by
  rw [← firsts_all]; exact firsts_mono fg h

/-- The Jaccard term doesn't fall. -/
theorem jacAt_step (hfg : ∀ i, fg i ≤ 1) (hG : 0 < ∑ i, fg i) (n : ℕ) (hn : n < N) : jacAt fg n ≤ jacAt fg (n + 1) := by
  have hs := firsts_succ fg n
  rw [dif_pos hn] at hs
  have ha := hfg ⟨n, hn⟩
  have h1 : ((firsts fg n : ℕ) : ℝ) ≤ n := by exact_mod_cast firsts_le fg hfg n
  have h2 : (1 : ℝ) ≤ ((∑ i, fg i : ℕ) : ℝ) := by exact_mod_cast hG
  have h3 : ((firsts fg (n + 1) : ℕ) : ℝ) ≤ ((∑ i, fg i : ℕ) : ℝ) := by exact_mod_cast firsts_le_all fg (n + 1) hn
  unfold jacAt
  refine sub_le_sub_left ?_ 1
  generalize ((∑ i, fg i : ℕ) : ℝ) = G at *
  generalize hf : ((firsts fg n : ℕ) : ℝ) = f at *
  have hn' : ((n + 1 : ℕ) : ℝ) = n + 1 := by push_cast; rfl
  rw [hn']
  rcases Nat.le_one_iff_eq_zero_or_eq_one.mp ha with e | e
  · have e' : ((firsts fg (n + 1) : ℕ) : ℝ) = f := by rw [hs, e, Nat.add_zero]; exact hf
    rw [e'] at h3 ⊢
    exact div_le_div_of_nonneg_left (by linarith) (by linarith) (by linarith)
  · have e' : ((firsts fg (n + 1) : ℕ) : ℝ) = f + 1 := by rw [hs, e, Nat.cast_add, hf, Nat.cast_one]
    rw [e'] at h3 ⊢
    rw [show G + ((n : ℝ) + 1 - (f + 1)) = G + ((n : ℝ) - f) by ring]
    exact div_le_div_of_nonneg_right (by linarith) (by linarith)

/-- The increments add up to one. -/
theorem sum_steps (hG : 0 < ∑ i, fg i) : ∑ i : Fin N, (jacAt fg (i.val + 1) - jacAt fg i.val) = 1 := by
  rw [← Finset.sum_range (fun i => jacAt fg (i + 1) - jacAt fg i), Finset.sum_range_sub, jacAt_zero fg hG, sub_zero]
  unfold jacAt
  rw [firsts_all, sub_self, zero_div, sub_zero]

end Increments

/-- The loss of a class of errors `e` and labels `g`, its pixels taken in the order `σ`. -/
def lossAlong {N : ℕ} (e : Fin N → ℝ) (g : Fin N → ℕ) (σ : Fin N → Fin N) : ℝ :=
  ∑ i : Fin N, e (σ i) * (jacAt (fun i => g (σ i)) (i.val + 1) - jacAt (fun i => g (σ i)) i.val)

/-- Errors that differ by at most `d` have losses that differ by at most `d`. -/
theorem lossAlong_near {N : ℕ} (e q : Fin N → ℝ) (g : Fin N → ℕ) (σ : Fin N → Fin N) (d : ℝ) (hd : ∀ p, |q p - e p| ≤ d) (hg : ∀ p, g p ≤ 1)
    (hG : 0 < ∑ i, g (σ i)) : |lossAlong q g σ - lossAlong e g σ| ≤ d := by
  have h0 : ∀ i : Fin N, 0 ≤ jacAt (fun i => g (σ i)) (i.val + 1) - jacAt (fun i => g (σ i)) i.val := fun i =>
    sub_nonneg.mpr (jacAt_step _ (fun i => hg _) hG i.val i.isLt)
  unfold lossAlong
  rw [← Finset.sum_sub_distrib]
  refine (Finset.abs_sum_le_sum_abs _ _).trans ?_
  calc _ ≤ ∑ i : Fin N, d * (jacAt (fun i => g (σ i)) (i.val + 1) - jacAt (fun i => g (σ i)) i.val) := Finset.sum_le_sum fun i _ => by
        rw [← sub_mul, abs_mul, abs_of_nonneg (h0 i)]
        exact mul_le_mul_of_nonneg_right (hd _) (h0 i)
    _ = d := by rw [← Finset.mul_sum, sum_steps _ hG, mul_one]

/-- Of midpoints of bins that rise along the order, the loss is the loss of the bins' counts. -/
theorem lossAlong_bins {N : ℕ} (b : Fin N → ℕ) (g : Fin N → ℕ) (σ : Fin N → Fin N) (hσ : Function.Bijective σ) (hb : ∀ i j, i ≤ j → b (σ i) ≤ b (σ j))
    (h127 : ∀ p, b p ≤ 127) (hg : ∀ p, g p ≤ 1) (hG : 0 < ∑ i, g (σ i)) :
    lossAlong (fun p => (127.5 - (b p : ℝ)) / 128) g σ = classLoss (upToFg b g) (upTo b) := by
  rw [show upToFg b g = upToFg (fun i => b (σ i)) (fun i => g (σ i)) from funext fun t => (upToFg_comp b g (Equiv.ofBijective σ hσ) t).symm,
    show upTo b = upTo (fun i => b (σ i)) from funext fun t => (upTo_comp b (Equiv.ofBijective σ hσ) t).symm]
  exact sorted_loss (fun i => b (σ i)) (fun i => g (σ i)) (fun i j h => hb i j h) (fun i => h127 _) (fun i => hg _) hG

/-- The mean of the losses `L` over the classes that have pixels, `G` to each class. -/
def meanOf {n : ℕ} (L : Fin n → ℝ) (G : Fin n → ℕ) : ℝ := (∑ c, L c * present (G c)) / max (∑ c, present (G c)) 1

theorem meanOf_congr {n : ℕ} (L M : Fin n → ℝ) (G : Fin n → ℕ) (h : ∀ c, 0 < G c → L c = M c) : meanOf L G = meanOf M G := by
  unfold meanOf
  refine congrArg (· / _) (Finset.sum_congr rfl fun c _ => ?_)
  unfold present
  split
  · next hc => rw [h c hc]
  · rw [mul_zero, mul_zero]

/-- Losses that differ by at most `d` have means that differ by at most `d`. -/
theorem meanOf_near {n : ℕ} (L M : Fin n → ℝ) (G : Fin n → ℕ) (d : ℝ) (h0 : 0 ≤ d) (h : ∀ c, 0 < G c → |L c - M c| ≤ d) : |meanOf L G - meanOf M G| ≤ d := by
  have hp : (0 : ℝ) < max (∑ c, present (G c)) 1 := lt_of_lt_of_le one_pos (le_max_right _ _)
  unfold meanOf
  rw [← sub_div, abs_div, abs_of_pos hp, div_le_iff₀ hp, ← Finset.sum_sub_distrib]
  calc _ ≤ ∑ c, d * present (G c) := (Finset.abs_sum_le_sum_abs _ _).trans (Finset.sum_le_sum fun c _ => by
        unfold present
        split
        · next hc => rw [mul_one, mul_one, mul_one]; exact h c hc
        · simp)
    _ = d * ∑ c, present (G c) := (Finset.mul_sum _ _ _).symm
    _ ≤ _ := mul_le_mul_of_nonneg_left (le_max_left _ _) h0

end Cert.Proof

end
-- ==== Proof.RefSort.lean ====
/-
  The order in which the reference sorts a class's pixels: a permutation of the row, along which the sort key rises.
-/
module

public import proofs.«01_k».proof.Proof.Gen.ReferenceIdeal.Read
public import Idealize.ShloMosaic.Lib.Pointwise
public import Idealize.ShloMosaic.Lib.SortFacts

@[expose] public section

noncomputable section

namespace Cert.Proof

open Cert.ReferenceIdeal Cert.ReferenceIdeal.Gen Cert.ReferenceIdeal.Read
open Idealize.ShloMosaic

/-- The comparison the sort is by, on the exact numbers: less than. -/
theorem comparator_eq (l r : EReal × BitVec 32) : comparator_f32_i32_d1 (F := Ideal) l r = BitVec.ofBool (decide (l.1 < r.1)) := by
  have hz : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have e₁ : FloatOps.cmpf (F := Ideal) (φ := .f32) .une x x = 0#1 := by
      show BitVec.ofBool (decide (x ≠ x)) = 0#1
      simp
    rw [e₁]
    show Scalar.select (FloatOps.cmpf (F := Ideal) (φ := .f32) .oeq x (FloatOps.ofBits (F := Ideal) .f32 0x00000000#32)) (FloatOps.ofBits (F := Ideal) .f32 0x00000000#32) x = x
    by_cases hx : x = FloatOps.ofBits (F := Ideal) .f32 0x00000000#32
    · have e₂ : FloatOps.cmpf (F := Ideal) (φ := .f32) .oeq x (FloatOps.ofBits (F := Ideal) .f32 0x00000000#32) = 1#1 := by
        show BitVec.ofBool (decide (x = _)) = 1#1
        rw [decide_eq_true hx]; rfl
      rw [e₂]; exact hx.symm
    · have e₂ : FloatOps.cmpf (F := Ideal) (φ := .f32) .oeq x (FloatOps.ofBits (F := Ideal) .f32 0x00000000#32) = 0#1 := by
        show BitVec.ofBool (decide (x = _)) = 0#1
        rw [decide_eq_false hx]; rfl
      rw [e₂]; rfl
  unfold comparator_f32_i32_d1
  dsimp only
  rw [hz, hz]
  rfl

/-- The order of row `c` under the keys `x`. -/
def order (x : FVec Ideal S21x1048576 .f32) (c : Fin 21) : Fin 1048576 → Fin 1048576 :=
  sortedFrom fun k k' => decide (x (ix2 c k) < x (ix2 c k'))

theorem order_bijective (x : FVec Ideal S21x1048576 .f32) (c : Fin 21) : Function.Bijective (order x c) :=
  ⟨sortedFrom_injective _, sortedFrom_surjective _⟩

theorem order_rises (x : FVec Ideal S21x1048576 .f32) (c : Fin 21) (i j : Fin 1048576) (h : i ≤ j) : x (ix2 c (order x c i)) ≤ x (ix2 c (order x c j)) := by
  rcases h.eq_or_lt with e | hlt
  · rw [e]
  · have := sortedFrom_noInversion (fun k k' => decide (x (ix2 c k) < x (ix2 c k'))) (fun k k' => decide (x (ix2 c k) < x (ix2 c k')))
      (fun a b hab => by
        simp only [decide_eq_true_eq, decide_eq_false_iff_not, not_lt] at hab ⊢
        exact hab.le)
      (fun a b hab => hab)
      (fun a b d hab hbd => by
        simp only [decide_eq_false_iff_not, not_lt] at hab hbd ⊢
        exact hbd.trans hab) i j hlt
    simp only [decide_eq_false_iff_not, not_lt] at this
    exact this

theorem along_row (c : Fin 21) (j : Fin 1048576) (k : Fin 1048576) : (ix2 c j : S21x1048576.Idx).along (1 : Fin 2) k = ix2 c k := by
  funext a
  unfold Shape.Idx.along
  match a with
  | ⟨0, _⟩ => rfl
  | ⟨1, _⟩ => rfl

/-- The indices the sort by the keys `x` returns. -/
def keyPlaces (x : FVec Ideal S21x1048576 .f32) : IVec S21x1048576 32 :=
  (Host.sort2 S21x1048576 1 comparator_f32_i32_d1 x (val_main_call1_v0 (F := Ideal))).2

/-- They are the order. -/
theorem keyPlaces_at (x : FVec Ideal S21x1048576 .f32) (c : Fin 21) (j : Fin 1048576) : keyPlaces x (ix2 c j) = BitVec.ofNat 32 (order x c j).val := by
  unfold keyPlaces
  unfold Host.sort2
  rw [dif_pos (show 1 < S21x1048576.rank from Nat.one_lt_two)]
  have e : ∀ k k' : Fin 1048576,
      (comparator_f32_i32_d1 (F := Ideal) (x ((ix2 c j : S21x1048576.Idx).along (1 : Fin 2) k), val_main_call1_v0 (F := Ideal) ((ix2 c j : S21x1048576.Idx).along (1 : Fin 2) k))
        (x ((ix2 c j : S21x1048576.Idx).along (1 : Fin 2) k'), val_main_call1_v0 (F := Ideal) ((ix2 c j : S21x1048576.Idx).along (1 : Fin 2) k')) == 1#1)
      = decide (x (ix2 c k) < x (ix2 c k')) := by
    intro k k'
    rw [along_row, along_row, comparator_eq]
    by_cases h : x (ix2 c k) < x (ix2 c k')
    · simp only [h]; rfl
    · simp only [h]; rfl
  show val_main_call1_v0 (F := Ideal) ((ix2 c j : S21x1048576.Idx).along (1 : Fin 2) (sortedFrom (fun k k' : Fin 1048576 =>
      comparator_f32_i32_d1 (F := Ideal) (x ((ix2 c j : S21x1048576.Idx).along (1 : Fin 2) k), val_main_call1_v0 (F := Ideal) ((ix2 c j : S21x1048576.Idx).along (1 : Fin 2) k))
        (x ((ix2 c j : S21x1048576.Idx).along (1 : Fin 2) k'), val_main_call1_v0 (F := Ideal) ((ix2 c j : S21x1048576.Idx).along (1 : Fin 2) k')) == 1#1) j)) = _
  refine (congrArg (val_main_call1_v0 (F := Ideal)) (along_row c j _)).trans ?_
  exact congrArg (fun f : Fin 1048576 → Fin 1048576 → Bool => BitVec.ofNat 32 (sortedFrom f j).val) (funext fun k => funext fun k' => e k k')

end Cert.Proof
-- ==== Proof.RefPick.lean ====
/-
  How the reference picks the sorted values out of a row: a gather along the row, with an index outside the row
  giving no number.
-/
module

public import proofs.«01_k».proof.Proof.Gen.ReferenceIdeal.Read
public import Idealize.ShloMosaic.Lib.Pointwise

@[expose] public section

noncomputable section

namespace Cert.Proof

open Cert.ReferenceIdeal Cert.ReferenceIdeal.Gen Cert.ReferenceIdeal.Read
open Idealize.ShloMosaic

/-- The place a negative index counted from the end of the row stands for. -/
def wrapped (q : IVec S21x1048576 32) : IVec S21x1048576 32 :=
  select (cmpi .slt q (val_main_call2_v0 (F := Ideal))) (addi q (val_main_call2_v2 (F := Ideal))) q

/-- The places, one to a gather. -/
def places (q : IVec S21x1048576 32) : IVec S21x1048576x1 32 :=
  shapeCast S21x1048576x1 (wrapped q) shapeCasts_S21x1048576_S21x1048576x1

/-- Whether the place lies in the row. -/
def inRow (q : IVec S21x1048576 32) : IVec S21x1048576 1 :=
  Host.reduce IntOp.andi (andi (cmpi .sge (places q) (val_main_call2_v6 (F := Ideal))) (cmpi .sle (places q) (val_main_call2_v9 (F := Ideal))))
    (val_main_call2_c_3 (F := Ideal)) reducesTo_S21x1048576x1_S21x1048576_d2 h_S_

/-- The values picked out of the rows `x` at the places `q`. -/
def picked (x : FVec Ideal S21x1048576 .f32) (q : IVec S21x1048576 32) : FVec Ideal S21x1048576 .f32 :=
  select (inRow q) (Host.gather gather_S21x1048576_S21x1048576x1_S21x1048576_n_1_0_0_1_2_11 x (places q)) (val_main_call2_v14 (F := Ideal))

theorem toInt_small (p : ℕ) (h : p < 1048576) : (BitVec.ofNat 32 p).toInt = p := by
  have e : (BitVec.ofNat 32 p).toNat = p := by rw [BitVec.toNat_ofNat]; exact Nat.mod_eq_of_lt (by omega)
  rw [BitVec.toInt_eq_toNat_of_lt (by rw [e]; omega), e]

variable (q : IVec S21x1048576 32) (c : Fin 21) (j p : Fin 1048576) (h : q (ix2 c j) = BitVec.ofNat 32 p.val)

include h

theorem wrapped_at : wrapped q (ix2 c j) = BitVec.ofNat 32 p.val := by
  unfold wrapped
  have e : IntOp.cmpi .slt (q (ix2 c j)) (0#32) = 0#1 := by
    rw [h]
    show BitVec.ofBool ((BitVec.ofNat 32 p.val).slt 0#32) = 0#1
    have : (BitVec.ofNat 32 p.val).slt 0#32 = false := by
      rw [BitVec.slt_eq_decide, toInt_small _ p.isLt]
      exact decide_eq_false (by simp)
    rw [this]; rfl
  show Scalar.select (IntOp.cmpi .slt (q (ix2 c j)) (0#32)) _ (q (ix2 c j)) = _
  rw [e, h]; rfl

theorem places_at : places q (ix3 c j (0 : Fin 1)) = BitVec.ofNat 32 p.val := by
  unfold places
  refine (shapeCast_apply (wrapped q) shapeCasts_S21x1048576_S21x1048576x1 _ (ix2 c j) ?_).trans (wrapped_at q c j p h)
  rw [Shape.rowMajor_val_two, Shape.rowMajor_val_three]
  show c.val * 1048576 + j.val = (c.val * 1048576 + j.val) * 1 + 0
  omega

theorem inRow_at : inRow q (ix2 c j) = 1#1 := by
  unfold inRow
  have hr : S21x1048576x1.Reduces [2] S21x1048576 := by decide
  rw [Host.reduce_eq_fold_single IntOp.andi _ _ _ hr h_S_]
  rw [show (Finset.univ : Finset (Fin (S21x1048576x1.size 2))) = {(⟨0, Nat.one_pos⟩ : Fin (S21x1048576x1.size 2))} from rfl, Finset.fold_singleton]
  have hl : hr.lift (ix2 c j) ⟨0, Nat.one_pos⟩ = ix3 c j (0 : Fin 1) := by
    funext a
    exact Fin.ext (by match a with | ⟨0, _⟩ => rfl | ⟨1, _⟩ => rfl | ⟨2, _⟩ => rfl)
  show IntOp.andi (IntOp.andi (IntOp.cmpi .sge (places q (hr.lift (ix2 c j) ⟨0, Nat.one_pos⟩)) (0#32))
    (IntOp.cmpi .sle (places q (hr.lift (ix2 c j) ⟨0, Nat.one_pos⟩)) (1048575#32))) (1#1) = 1#1
  rw [hl, places_at q c j p h]
  have hp := p.isLt
  have e₁ : IntOp.cmpi .sge (BitVec.ofNat 32 p.val) (0#32) = 1#1 := by
    show BitVec.ofBool ((0#32).sle (BitVec.ofNat 32 p.val)) = 1#1
    rw [BitVec.sle_eq_decide, toInt_small _ hp, decide_eq_true (by simp)]; rfl
  have e₂ : IntOp.cmpi .sle (BitVec.ofNat 32 p.val) (1048575#32) = 1#1 := by
    show BitVec.ofBool ((BitVec.ofNat 32 p.val).sle (BitVec.ofNat 32 1048575)) = 1#1
    rw [BitVec.sle_eq_decide, toInt_small _ hp, toInt_small _ (by decide), decide_eq_true (by omega)]; rfl
  rw [e₁, e₂]; rfl

theorem picked_at (x : FVec Ideal S21x1048576 .f32) : picked x q (ix2 c j) = x (ix2 c p) := by
  unfold picked
  show Scalar.select (inRow q (ix2 c j)) (Host.gather _ x (places q) (ix2 c j)) _ = _
  rw [inRow_at q c j p h]
  show Host.gather _ x (places q) (ix2 c j) = _
  unfold Host.gather
  refine congrArg x (funext fun a => Fin.ext ?_)
  generalize hD : gather_S21x1048576_S21x1048576x1_S21x1048576_n_1_0_0_1_2_11 = D
  have hsim : D.startIndexMap = [1] := by rw [← hD]; rfl
  have hob : D.operandBatchingDims = [0] := by rw [← hD]; rfl
  have hcl : D.collapsedSliceDims = [1] := by rw [← hD]; rfl
  show D.start (ix2 c j) (places q) a + D.batchCoord (ix2 c j) a + D.offCoord (ix2 c j) a = _
  have hk : D.offCoord (ix2 c j) a = 0 := D.offCoord_eq_zero _ _ fun hm => by
    have := (D.mem_sKept a).1 hm
    rw [hcl, hob] at this
    match a with
    | ⟨0, _⟩ => exact this.2 (List.mem_singleton.mpr rfl)
    | ⟨1, _⟩ => exact this.1 (List.mem_singleton.mpr rfl)
  rw [hk, Nat.add_zero]
  match a with
  | ⟨0, _⟩ =>
    rw [D.start_batching _ _ _ (by rw [hob]; exact List.mem_singleton.mpr rfl), Nat.zero_add]
    subst hD
    rfl
  | ⟨1, _⟩ =>
    rw [D.batchCoord_eq_zero _ _ (by rw [hob]; simp), Nat.add_zero]
    unfold GatherDims.start
    rw [dif_pos (by rw [hsim]; exact List.mem_singleton.mpr rfl)]
    subst hD
    have hsi : ∀ k, gather_S21x1048576_S21x1048576x1_S21x1048576_n_1_0_0_1_2_11.siIdx (ix2 c j) k = ix3 c j (0 : Fin 1) := by
      intro k
      funext b
      refine Fin.ext ?_
      match b with
      | ⟨0, _⟩ => rfl
      | ⟨1, _⟩ => rfl
      | ⟨2, _⟩ => exact Nat.lt_one_iff.mp (Fin.isLt _)
    rw [hsi, places_at q c j p h, toInt_small _ p.isLt]
    show min p.val 1048575 = p.val
    have := p.isLt
    omega

end Cert.Proof
-- ==== Proof.RefWindow.lean ====
/-
  The running sums of the reference, and its joining of the first difference to the rest.
-/
module

public import proofs.«01_k».proof.Proof.Gen.ReferenceIdeal.Read
public import Idealize.ShloMosaic.Lib.Pointwise

@[expose] public section

noncomputable section

namespace Cert.Proof

open Cert.ReferenceIdeal Cert.ReferenceIdeal.Gen Cert.ReferenceIdeal.Read
open Idealize.ShloMosaic

theorem numel_row (N : ℕ) : (⟨2, ![1, N]⟩ : Shape).numel = N := by
  simp [Shape.numel, Fin.prod_univ_two]

theorem symm_row (N : ℕ) (n : Fin (⟨2, ![1, N]⟩ : Shape).numel) (a : Fin 2) :
    ((⟨2, ![1, N]⟩ : Shape).rowMajor.symm n a).val = if a = 0 then 0 else n.val := by
  have e := congrArg Fin.val ((⟨2, ![1, N]⟩ : Shape).rowMajor.apply_symm_apply n)
  rw [Shape.rowMajor_val_two] at e
  have h0 : ((⟨2, ![1, N]⟩ : Shape).rowMajor.symm n 0).val = 0 := Nat.lt_one_iff.mp (Fin.isLt _)
  change ((⟨2, ![1, N]⟩ : Shape).rowMajor.symm n 0).val * N + ((⟨2, ![1, N]⟩ : Shape).rowMajor.symm n 1).val = n.val at e
  match a with
  | ⟨0, _⟩ => exact h0
  | ⟨1, _⟩ =>
    show ((⟨2, ![1, N]⟩ : Shape).rowMajor.symm n 1).val = n.val
    rw [h0, Nat.zero_mul, Nat.zero_add] at e
    exact e

/-- Adding up one thing after another is their sum. -/
theorem foldl_sum {n : ℕ} {M : Type*} [AddCommMonoid M] (f : Fin n → M) : (List.finRange n).foldl (fun r k => r + f k) 0 = ∑ k, f k := by
  rw [← List.foldl_map (f := f) (g := (· + ·)), ← List.sum_eq_foldl, Fin.sum_univ_def]

/-- The window that ends at `j` holds the entries up to `j`. -/
theorem sum_ending (M N j : ℕ) (hN : M + 1 = N) (hj : j < N) (g : ℕ → EReal) :
    ∑ n : Fin N, (if M ≤ j + n.val then g (j + n.val - M) else 0) = ∑ i ∈ Finset.range (j + 1), g i := by
  rw [Fin.sum_univ_eq_sum_range (fun n => if M ≤ j + n then g (j + n - M) else 0), show N = (M - j) + (j + 1) by omega, Finset.sum_range_add,
    Finset.sum_eq_zero (s := Finset.range (M - j)) (fun n hn => if_neg (by rw [Finset.mem_range] at hn; omega)), zero_add]
  exact Finset.sum_congr rfl fun n hn => by rw [if_pos (by omega), show j + (M - j + n) - M = n by omega]

/-- A running sum along the rows, read at one place. -/
theorem running_at {R M N : ℕ} (hN : M + 1 = N) (x : FVec Ideal ⟨2, ![R, N]⟩ .f32) (v : FVec Ideal S_ .f32) (hv : v (Shape.Idx.first h_S_) = (0 : EReal))
    (h : (⟨2, ![R, N]⟩ : Shape).ReduceWindows (![1, N] : Fin 2 → Nat) ![1, 1] ![0, M] ![0, 0] ⟨2, ![R, N]⟩) (c : Fin R) (j : Fin N) :
    Host.reduceWindowAdd ![1, N] ![1, 1] ![0, M] ![0, 0] x v h h_S_ (ix2 c j)
      = ∑ i ∈ Finset.range (j.val + 1), if hi : i < N then (x (ix2 c ⟨i, hi⟩) : EReal) else 0 := by
  show Ideal.hostReduceWindowAdd ![1, N] ![1, 1] ![0, M] ![0, 0] h x (v (Shape.Idx.first h_S_)) (ix2 c j) = _
  rw [hv]
  unfold Ideal.hostReduceWindowAdd Host.reduceWindow
  dsimp only
  refine (foldl_sum _).trans ?_
  refine Eq.trans ?_ (sum_ending M N j.val hN j.isLt _)
  refine Fintype.sum_equiv (finCongr (numel_row N)) _ _ fun n => ?_
  have h0 : ((⟨2, ![1, N]⟩ : Shape).rowMajor.symm n 0).val = 0 := (symm_row N n 0).trans rfl
  have h1 : ((⟨2, ![1, N]⟩ : Shape).rowMajor.symm n 1).val = n.val := (symm_row N n 1).trans rfl
  have hn : n.val < N := (n.cast (numel_row N)).isLt
  have hc := c.isLt
  have hj := j.isLt
  split
  · next hin =>
    have h1' := hin 1
    change M ≤ j.val * 1 + ((⟨2, ![1, N]⟩ : Shape).rowMajor.symm n 1).val
      ∧ j.val * 1 + ((⟨2, ![1, N]⟩ : Shape).rowMajor.symm n 1).val - M < N at h1'
    rw [h1] at h1'
    show _ = if M ≤ j.val + n.val then _ else _
    rw [if_pos (by omega)]
    refine Eq.trans ?_ (dif_pos (show j.val + n.val - M < N by omega)).symm
    refine congrArg x (funext fun a => Fin.ext ?_)
    match a with
    | ⟨0, _⟩ =>
      show c.val * 1 + ((⟨2, ![1, N]⟩ : Shape).rowMajor.symm n 0).val - 0 = c.val
      rw [h0]; omega
    | ⟨1, _⟩ =>
      show j.val * 1 + ((⟨2, ![1, N]⟩ : Shape).rowMajor.symm n 1).val - M = j.val + n.val - M
      rw [h1, Nat.mul_one]
  · next hin =>
    show _ = if M ≤ j.val + n.val then _ else _
    rw [if_neg fun hle => hin fun a => ?_]
    match a with
    | ⟨0, _⟩ =>
      show 0 ≤ c.val * 1 + ((⟨2, ![1, N]⟩ : Shape).rowMajor.symm n 0).val ∧ c.val * 1 + ((⟨2, ![1, N]⟩ : Shape).rowMajor.symm n 0).val - 0 < R
      rw [h0]; omega
    | ⟨1, _⟩ =>
      show M ≤ j.val * 1 + ((⟨2, ![1, N]⟩ : Shape).rowMajor.symm n 1).val ∧ j.val * 1 + ((⟨2, ![1, N]⟩ : Shape).rowMajor.symm n 1).val - M < N
      rw [h1]; omega

section Rows

variable (x : FVec Ideal S21x1048576 .f32) (c : Fin 21) (j : Fin 1048576)

/-- The running sums along the rows. -/
def running : FVec Ideal S21x1048576 .f32 :=
  Host.reduceWindowAdd ![1, 1048576] ![1, 1] ![0, 1048575] ![0, 0] x (val_main_call4_call0_v0 (F := Ideal))
    reduceWindows_S21x1048576_S21x1048576_w1s1p0_0_w1048576s1p1048575_0 h_S_

theorem running_row : running x (ix2 c j) = ∑ i ∈ Finset.range (j.val + 1), if hi : i < 1048576 then (x (ix2 c ⟨i, hi⟩) : EReal) else 0 := by
  unfold running
  exact running_at (by norm_num) _ _ (Ideal.ofBits_zero .f32) _ c j

/-- The first entry of each row, then the differences of neighbours. -/
def steps : FVec Ideal S21x1048576 .f32 :=
  concatenate S21x1048576 1 [⟨S21x1, extractStridedSlice S21x1 ![0, 0] x slices_S21x1048576_S21x1_0_0⟩,
    ⟨S21x1048575, subf (extractStridedSlice S21x1048575 ![0, 1] x slices_S21x1048576_S21x1048575_0_1)
      (extractStridedSlice S21x1048575 ![0, 0] x slices_S21x1048576_S21x1048575_0_0)⟩] concatenates_S21x1_S21x1048575_S21x1048576_d1

theorem steps_zero (hj : j.val = 0) : steps x (ix2 c j) = x (ix2 c j) := by
  unfold steps
  refine (concatenate_pair_apply_left (s₁ := S21x1) (s₂ := S21x1048575) (1 : Fin 2) _ _ concatenates_S21x1_S21x1048575_S21x1048576_d1 (ix2 c j) rfl (ix2 c (0 : Fin 1)) (fun b => ?_)).trans ?_
  · match b with
    | ⟨0, _⟩ => rfl
    | ⟨1, _⟩ => exact hj.symm
  · refine extractStridedSlice_apply ![0, 0] x slices_S21x1048576_S21x1_0_0 _ (ix2 c j) fun a => ?_
    match a with
    | ⟨0, _⟩ => exact (Nat.zero_add _).symm
    | ⟨1, _⟩ => exact hj

theorem steps_succ (k : Fin 1048576) (hj : j.val = k.val + 1) : steps x (ix2 c j) = (x (ix2 c j) - x (ix2 c k) : EReal) := by
  have hk : k.val < 1048575 := by have := j.isLt; omega
  unfold steps
  refine (concatenate_pair_apply_right (s₁ := S21x1) (s₂ := S21x1048575) (1 : Fin 2) _ _ concatenates_S21x1_S21x1048575_S21x1048576_d1 (ix2 c j) rfl rfl (ix2 c (⟨k.val, hk⟩ : Fin 1048575))
    (fun b hb => ?_) ?_).trans ?_
  · match b with
    | ⟨0, _⟩ => rfl
    | ⟨1, _⟩ => exact absurd rfl hb
  · exact hj.symm
  · refine congrArg₂ (fun a b : EReal => a - b)
      (extractStridedSlice_apply ![0, 1] x slices_S21x1048576_S21x1048575_0_1 _ (ix2 c j) fun a => ?_)
      (extractStridedSlice_apply ![0, 0] x slices_S21x1048576_S21x1048575_0_0 _ (ix2 c k) fun a => ?_)
    · match a with
      | ⟨0, _⟩ => exact (Nat.zero_add _).symm
      | ⟨1, _⟩ => show j.val = 1 + k.val; omega
    · match a with
      | ⟨0, _⟩ => exact (Nat.zero_add _).symm
      | ⟨1, _⟩ => exact (Nat.zero_add _).symm

end Rows

end Cert.Proof
-- ==== Proof.RefTail.lean ====
/-
  The mean loss that the reference takes of errors and labels, one row to a class, read as a number.
-/
module

public import proofs.«01_k».proof.Proof.Along
public import proofs.«01_k».proof.Proof.RefSort
public import proofs.«01_k».proof.Proof.RefPick
public import proofs.«01_k».proof.Proof.RefWindow

@[expose] public section

noncomputable section

namespace Cert.Proof

open Cert.ReferenceIdeal Cert.ReferenceIdeal.Gen Cert.ReferenceIdeal.Read
open Idealize.ShloMosaic

/-- A place in a table is known by its row and its column. -/
theorem ix2_ext {m n : ℕ} (i : (⟨2, ![m, n]⟩ : Shape).Idx) (r : Fin m) (k : Fin n) (h0 : (i 0).val = r.val) (h1 : (i 1).val = k.val) : i = ix2 r k := by
  funext a
  refine Fin.ext ?_
  match a with
  | ⟨0, _⟩ => exact h0
  | ⟨1, _⟩ => exact h1

section Places

variable {s : Shape} (x y : FVec Ideal s .f32) (i : s.Idx)

theorem subf_at : subf x y i = (x i - y i : EReal) := rfl

theorem addf_at : addf x y i = (x i + y i : EReal) := rfl

theorem mulf_at : mulf x y i = (x i * y i : EReal) := rfl

theorem hostDivf_at : Host.divf x y i = Ideal.div (x i) (y i) := rfl

theorem maximumf_at : maximumf x y i = (max (x i) (y i) : EReal) := rfl

theorem above_at : (uitofp .f32 (cmpf .ogt x y) : FVec Ideal s .f32) i = (((BitVec.ofBool (decide ((x i : EReal) > y i))).toNat : ℝ) : EReal) := rfl

theorem one_at : (constant s .f32 0x3F800000#32 : FVec Ideal s .f32) i = (1 : EReal) := Ideal.ofBits_one_f32

theorem zero_at : (constant s .f32 0x00000000#32 : FVec Ideal s .f32) i = (0 : EReal) := Ideal.ofBits_zero_f32

end Places

section Ops

variable (x : FVec Ideal S21x1048576 .f32) (y : FVec Ideal S21 .f32)

/-- The sums of the rows. -/
def rowSums : FVec Ideal S21 .f32 := Host.reduceAdd x (constant S_ .f32 0x00000000#32) reducesTo_S21x1048576_S21_d1 h_S_

/-- A row's number at each of its places. -/
def across : FVec Ideal S21x1048576 .f32 :=
  broadcastInDim S21x1048576 ![0, 1] bcast_S21x1_S21x1048576_0_1 (broadcastInDim S21x1 ![0] bcast_S21_S21x1_0 y)

/-- Ones. -/
def ones : FVec Ideal S21x1048576 .f32 := broadcastInDim S21x1048576 ![] bcast_S_S21x1048576 (constant S_ .f32 0x3F800000#32)

/-- The Jaccard terms of sorted labels. -/
def jaccard : FVec Ideal S21x1048576 .f32 :=
  subf ones (Host.divf (subf (across (rowSums x)) (running x)) (addf (across (rowSums x)) (running (subf ones x))))

/-- Which rows have labels, as numbers. -/
def hasLabels : FVec Ideal S21 .f32 := uitofp .f32 (cmpf .ogt (rowSums x) (broadcastInDim S21 ![] bcast_S_S21 (constant S_ .f32 0x00000000#32)))

/-- The sum over the classes. -/
def sumClasses : FVec Ideal S_ .f32 := Host.reduceAdd y (constant S_ .f32 0x00000000#32) reducesTo_S21_S_d0 h_S_

/-- The mean loss of the errors `E` and the labels `L`. -/
def lossOf (E L : FVec Ideal S21x1048576 .f32) : FVec Ideal S_ .f32 :=
  Host.divf (sumClasses (mulf (rowSums (mulf (picked E (keyPlaces (Host.negf E))) (steps (jaccard (picked L (keyPlaces (Host.negf E))))))) (hasLabels L)))
    (maximumf (sumClasses (hasLabels L)) (constant S_ .f32 0x3F800000#32))

theorem rowSums_at (c : Fin 21) : rowSums x (ix1 c) = ∑ k : Fin 1048576, (x (ix2 c k) : EReal) := by
  unfold rowSums
  simp only [Host.reduceAdd, Ideal.hostReduceAdd_def]
  rw [Ideal.hostReduceAdd_single reducesTo_S21x1048576_S21_d1 (by decide)]
  refine (congrArg₂ (· + ·) (zero_at _)
    (Finset.sum_congr rfl fun k _ => ?_)).trans (zero_add _)
  exact congrArg x (ix2_ext _ _ _ rfl rfl)

theorem across_at (c : Fin 21) (j : Fin 1048576) : across y (ix2 c j) = y (ix1 c) := by
  unfold across
  refine (broadcastInDim_apply _ bcast_S21x1_S21x1048576_0_1 _ (ix2 c j) (ix2 c (0 : Fin 1)) fun a => ?_).trans
    (broadcastInDim_apply _ bcast_S21_S21x1_0 y (ix2 c (0 : Fin 1)) (ix1 c) fun a => ?_)
  · match a with
    | ⟨0, _⟩ => exact (if_neg (show ¬ (21 : ℕ) = 1 by decide)).symm
    | ⟨1, _⟩ => exact (if_pos rfl).symm
  · match a with
    | ⟨0, _⟩ => exact (if_neg (show ¬ (21 : ℕ) = 1 by decide)).symm

theorem ones_at (i : S21x1048576.Idx) : ones i = (1 : EReal) := by
  unfold ones
  exact (broadcastInDim_apply _ bcast_S_S21x1048576 _ i (fun a => a.elim0) fun a => a.elim0).trans (one_at _)

theorem sumClasses_at (i : S_.Idx) : sumClasses y i = ∑ c : Fin 21, (y (ix1 c) : EReal) := by
  unfold sumClasses
  simp only [Host.reduceAdd, Ideal.hostReduceAdd_def]
  refine (Ideal.hostReduceAdd_total reducesTo_S21_S_d0 (fun b => b.elim0) y _ i).trans ?_
  refine (congrArg₂ (· + ·) (zero_at _) ?_).trans (zero_add _)
  exact (Fintype.sum_equiv ⟨fun c : Fin 21 => (ix1 c : S21.Idx), fun j => j 0, fun _ => rfl, fun j => funext fun a => by
    match a with
    | ⟨0, _⟩ => rfl⟩ _ _ fun _ => rfl).symm

end Ops

section Sums

variable {N : ℕ} (f : Fin N → ℕ)

theorem sum_cast_real {ι : Type*} (s : Finset ι) (g : ι → ℕ) : ∑ i ∈ s, (((g i : ℕ) : ℝ) : EReal) = (((∑ i ∈ s, g i : ℕ) : ℝ) : EReal) := by
  rw [sum_real, Nat.cast_sum]

theorem sum_along (σ : Fin N → Fin N) (h : Function.Bijective σ) : ∑ i, f (σ i) = ∑ i, f i := h.sum_comp f

theorem firsts_real (n : ℕ) : (∑ i ∈ Finset.range n, if hi : i < N then (((f ⟨i, hi⟩ : ℕ) : ℝ) : EReal) else 0) = (((firsts f n : ℕ) : ℝ) : EReal) := by
  unfold firsts
  rw [← sum_cast_real]
  exact Finset.sum_congr rfl fun i _ => by split <;> simp

theorem rest_real (n : ℕ) (hn : n ≤ N) :
    (∑ i ∈ Finset.range n, if hi : i < N then ((1 - (f ⟨i, hi⟩ : ℝ) : ℝ) : EReal) else 0) = (((n : ℝ) - (firsts f n : ℝ) : ℝ) : EReal) := by
  have e : (n : ℝ) - (firsts f n : ℝ) = ∑ i ∈ Finset.range n, if hi : i < N then (1 - (f ⟨i, hi⟩ : ℝ)) else 0 := by
    unfold firsts
    rw [Nat.cast_sum, show (n : ℝ) = ∑ i ∈ Finset.range n, (1 : ℝ) by simp, ← Finset.sum_sub_distrib]
    refine Finset.sum_congr rfl fun i hi => ?_
    have hi : i < N := lt_of_lt_of_le (Finset.mem_range.mp hi) hn
    rw [dif_pos hi, dif_pos hi]
  rw [e, ← sum_real]
  exact Finset.sum_congr rfl fun i _ => by split <;> simp

theorem jacAt_real (hf : ∀ i, f i ≤ 1) (hG : 0 < ∑ i, f i) (n : ℕ) :
    (1 : EReal) - Ideal.div ((((∑ i, f i : ℕ) : ℝ) : EReal) - (((firsts f n : ℕ) : ℝ) : EReal)) ((((∑ i, f i : ℕ) : ℝ) : EReal) + (((n : ℝ) - (firsts f n : ℝ) : ℝ) : EReal))
      = ((jacAt f n : ℝ) : EReal) := by
  have h1 : (0 : ℝ) < ((∑ i, f i : ℕ) : ℝ) := by exact_mod_cast hG
  have h2 : (firsts f n : ℝ) ≤ n := by exact_mod_cast firsts_le f hf n
  rw [← EReal.coe_sub, ← EReal.coe_add, div_real _ _ (by linarith), ← EReal.coe_one, ← EReal.coe_sub]
  rfl

theorem lossAlong_real (e : Fin N → ℝ) (σ : Fin N → Fin N) :
    ∑ i : Fin N, ((e (σ i) : ℝ) : EReal) * ((jacAt (fun i => f (σ i)) (i.val + 1) - jacAt (fun i => f (σ i)) i.val : ℝ) : EReal) = ((lossAlong e f σ : ℝ) : EReal) := by
  unfold lossAlong
  rw [← sum_real]
  exact Finset.sum_congr rfl fun i _ => (EReal.coe_mul _ _).symm

end Sums

section Labels

/-! Rows of sorted labels `s`, as numbers `f`. -/

variable (s : FVec Ideal S21x1048576 .f32) (c : Fin 21) (f : Fin 1048576 → ℕ) (hs : ∀ j, s (ix2 c j) = (((f j : ℕ) : ℝ) : EReal))

include hs

theorem rowSums_labels : rowSums s (ix1 c) = (((∑ i, f i : ℕ) : ℝ) : EReal) := by
  rw [rowSums_at, ← sum_cast_real]
  exact Finset.sum_congr rfl fun i _ => hs i

theorem running_labels (j : Fin 1048576) : running s (ix2 c j) = (((firsts f (j.val + 1) : ℕ) : ℝ) : EReal) := by
  rw [running_row, ← firsts_real]
  simp only [hs]

theorem running_rest (j : Fin 1048576) : running (subf ones s) (ix2 c j) = ((((j.val + 1 : ℕ) : ℝ) - (firsts f (j.val + 1) : ℝ) : ℝ) : EReal) := by
  have e : ∀ j, (subf ones s) (ix2 c j) = ((1 - (f j : ℝ) : ℝ) : EReal) := fun j => by
    show (ones (ix2 c j) - s (ix2 c j) : EReal) = _
    rw [ones_at, hs, EReal.coe_sub, EReal.coe_one]
  rw [running_row, ← rest_real _ _ j.isLt]
  simp only [e]

variable (hf : ∀ i, f i ≤ 1) (hG : 0 < ∑ i, f i)

include hf hG

theorem jaccard_at (j : Fin 1048576) : jaccard s (ix2 c j) = ((jacAt f (j.val + 1) : ℝ) : EReal) := by
  unfold jaccard
  rw [subf_at, hostDivf_at, subf_at, addf_at, ones_at, across_at, rowSums_labels s c f hs, running_labels s c f hs, running_rest s c f hs]
  exact jacAt_real f hf hG _

theorem steps_at (j : Fin 1048576) : steps (jaccard s) (ix2 c j) = ((jacAt f (j.val + 1) - jacAt f j.val : ℝ) : EReal) := by
  by_cases hj : j.val = 0
  · rw [steps_zero _ c j hj, jaccard_at s c f hs hf hG, hj, jacAt_zero _ hG, sub_zero]
  · have hk : j.val = (⟨j.val - 1, by have := j.isLt; omega⟩ : Fin 1048576).val + 1 := by show j.val = j.val - 1 + 1; omega
    rw [steps_succ _ c j _ hk, jaccard_at s c f hs hf hG, jaccard_at s c f hs hf hG, ← hk, EReal.coe_sub]

end Labels

section Loss

variable (E L : FVec Ideal S21x1048576 .f32) (e : Fin 21 → Fin 1048576 → ℝ) (g : Fin 21 → Fin 1048576 → ℕ)

/-- The pixel of class `c` at a sorted place. -/
def place (c : Fin 21) : Fin 1048576 → Fin 1048576 := order (Host.negf E) c

theorem place_bijective (c : Fin 21) : Function.Bijective (place E c) := order_bijective _ c

variable (hE : ∀ c p, E (ix2 c p) = ((e c p : ℝ) : EReal)) (hL : ∀ c p, L (ix2 c p) = (((g c p : ℕ) : ℝ) : EReal)) (hg : ∀ c p, g c p ≤ 1)

include hE in
/-- The errors fall along the order. -/
theorem place_falls (c : Fin 21) (i j : Fin 1048576) (h : i ≤ j) : e c (place E c j) ≤ e c (place E c i) := by
  have := order_rises (Host.negf E) c i j h
  change (-E (ix2 c (place E c i)) : EReal) ≤ -E (ix2 c (place E c j)) at this
  rw [hE, hE, EReal.neg_le_neg_iff, EReal.coe_le_coe_iff] at this
  exact this

include hL in
theorem hasLabels_at (c : Fin 21) : hasLabels L (ix1 c) = ((present (∑ p, g c p) : ℝ) : EReal) := by
  unfold hasLabels
  rw [above_at, rowSums_labels L c (g c) (hL c), (broadcastInDim_apply _ bcast_S_S21 _ (ix1 c) (fun a => a.elim0) fun a => a.elim0).trans (zero_at _)]
  generalize (∑ p, g c p) = G
  unfold present
  by_cases h : 0 < G
  · rw [if_pos h, decide_eq_true (by exact_mod_cast h)]; simp
  · rw [if_neg h, decide_eq_false (by exact_mod_cast h)]; simp

include hE hL hg in
theorem classLoss_at (c : Fin 21) : (rowSums (mulf (picked E (keyPlaces (Host.negf E))) (steps (jaccard (picked L (keyPlaces (Host.negf E)))))) (ix1 c)
      * hasLabels L (ix1 c) : EReal) = ((lossAlong (e c) (g c) (place E c) * present (∑ p, g c p) : ℝ) : EReal) := by
  rw [hasLabels_at L g hL]
  by_cases hG : 0 < ∑ p, g c p
  · have hG' : 0 < ∑ i, g c (place E c i) := by rw [sum_along (g c) (place E c) (place_bijective E c)]; exact hG
    rw [EReal.coe_mul, rowSums_at, ← lossAlong_real]
    refine congrArg (· * ((present (∑ p, g c p) : ℝ) : EReal)) (Finset.sum_congr rfl fun j _ => ?_)
    rw [mulf_at, picked_at _ c j (place E c j) (keyPlaces_at _ c j), hE,
      steps_at _ c (fun i => g c (place E c i)) (fun i => (picked_at _ c i (place E c i) (keyPlaces_at _ c i) L).trans (hL c _)) (fun i => hg c _) hG']
  · have h0 : present (∑ p, g c p) = 0 := if_neg hG
    rw [h0, mul_zero, EReal.coe_zero, mul_zero]

include hE hL hg in
/-- The mean loss, as a real. -/
theorem lossOf_at (i : S_.Idx) : lossOf E L i = ((meanOf (fun c => lossAlong (e c) (g c) (place E c)) (fun c => ∑ p, g c p) : ℝ) : EReal) := by
  unfold lossOf
  rw [hostDivf_at, maximumf_at, sumClasses_at, sumClasses_at, Finset.sum_congr rfl fun c _ => hasLabels_at L g hL c,
    one_at,
    Finset.sum_congr rfl fun c _ => (mulf_at _ _ (ix1 c)).trans (classLoss_at E L e g hE hL hg c)]
  rw [sum_real, sum_real, ← EReal.coe_one, max_real, div_real _ _ (ne_of_gt (lt_of_lt_of_le one_pos (le_max_right _ _)))]
  rfl

end Loss

end Cert.Proof

end
-- ==== Proof.RefValue.lean ====
/-
  The reference's value: the mean, over the classes with labels, of the loss of the errors rounded to midpoints.
-/
module

public import proofs.«01_k».proof.Proof.RefErr
public import proofs.«01_k».proof.Proof.RefTail

@[expose] public section

noncomputable section

namespace Cert.Proof

open Cert.ReferenceIdeal Cert.ReferenceIdeal.Gen Cert.ReferenceIdeal.Read
open Idealize.ShloMosaic

variable (X0 : FVec Ideal S4x21x512x512 .f32) (X1 : IVec S4x512x512 32)

/-- The reference takes the mean loss of the midpoints. -/
theorem v63_eq : val_main_v63 (F := Ideal) X0 X1 = lossOf (val_main_v30 (F := Ideal) X0 X1) (val_main_v19 (F := Ideal) X1) := by
  rfl

/-- The midpoint of a pixel's part. -/
def pixMid (c : Fin 21) (p : Fin 1048576) : ℝ := (127.5 - (pixBin X0 X1 c p : ℝ)) / 128

/-- Along an order in which the bins rise, the loss of the midpoints is the loss of the bins' counts. -/
theorem mean_mid (σ : Fin 21 → Fin 1048576 → Fin 1048576) (hσ : ∀ c, Function.Bijective (σ c)) (hb : ∀ c i j, i ≤ j → pixBin X0 X1 c (σ c i) ≤ pixBin X0 X1 c (σ c j)) :
    meanOf (fun c => lossAlong (pixMid X0 X1 c) (pixFg X1 c) (σ c)) (fun c => ∑ p, pixFg X1 c p)
      = meanLoss (fun c => upToFg (pixBin X0 X1 c) (pixFg X1 c)) (fun c => upTo (pixBin X0 X1 c)) := by
  have hall : ∀ c, upToFg (pixBin X0 X1 c) (pixFg X1 c) 127 = ∑ p, pixFg X1 c p := fun c =>
    Finset.sum_congr rfl fun p _ => if_pos (pixBin_le X0 X1 c p)
  refine (meanOf_congr _ _ _ fun c hG => lossAlong_bins _ _ (σ c) (hσ c) (hb c) (fun p => pixBin_le X0 X1 c p) (fun p => pixFg_le X1 c p) ?_).trans ?_
  · rw [sum_along (pixFg X1 c) (σ c) (hσ c)]; exact hG
  · unfold meanOf meanLoss
    simp only [hall]

/-- The reference's value is the mean loss of the bins' counts. -/
theorem reference_eq (hX : RealLogits X0) (i : S_.Idx) :
    val_main_v63 (F := Ideal) X0 X1 i
      = ((meanLoss (fun c => upToFg (pixBin X0 X1 c) (pixFg X1 c)) (fun c => upTo (pixBin X0 X1 c)) : ℝ) : EReal) := by
  have hE : ∀ c p, val_main_v30 (F := Ideal) X0 X1 (ix2 c p) = ((pixMid X0 X1 c p : ℝ) : EReal) := fun c p => v30_at X0 X1 hX c p
  rw [v63_eq, lossOf_at _ _ (pixMid X0 X1) (pixFg X1) hE (v19_at X1) (fun c p => pixFg_le X1 c p)]
  refine congrArg _ (mean_mid X0 X1 _ (place_bijective _) fun c i j hij => ?_)
  have h := place_falls _ _ hE c i j hij
  unfold pixMid at h
  have h' : ((pixBin X0 X1 c (place (val_main_v30 (F := Ideal) X0 X1) c i) : ℕ) : ℝ) ≤ ((pixBin X0 X1 c (place (val_main_v30 (F := Ideal) X0 X1) c j) : ℕ) : ℝ) := by linarith
  exact_mod_cast h'

end Cert.Proof

end
-- ==== Proof.Algebraic.lean ====
/-
  On real logits the kernel and the reference end with one value: both are the mean loss of the bins' counts.
-/
module

public import proofs.«01_k».proof.Defs
public import proofs.«01_k».proof.Proof.Gen.ReferenceIdeal.Run
public import proofs.«01_k».proof.Proof.Gen.ReferenceIdeal.Read
public import proofs.«01_k».proof.Proof.Launch
public import proofs.«01_k».proof.Proof.Index
public import proofs.«01_k».proof.Proof.KValue
public import proofs.«01_k».proof.Proof.RefValue
public import proofs.«01_k».proof.Proof.Finite
public import proofs.«01_k».proof.Proof.Frames

@[expose] public section

noncomputable section

namespace Cert.Proof

open Idealize.ShloMosaic Idealize.SL.Sem

/-- The kernel's result is the reference's value of the same arguments. -/
theorem values_eq (m : (ℓ : Loc Cert.KernelIdeal.nD Cert.KernelIdeal.τ Cert.KernelIdeal.sig) → Buf (Elt Ideal) ℓ) (d : Dev Cert.KernelIdeal.nD)
    (X0 : FVec Ideal Cert.ReferenceIdeal.S4x21x512x512 .f32) (X1 : IVec Cert.ReferenceIdeal.S4x512x512 32) (h : idxs m d = idxArr X0 X1) (hX : RealLogits X0) :
    Cert.ReferenceIdeal.Read.val_main_v63 (F := Ideal) X0 X1 = result m d :=
  funext fun i => (reference_eq X0 X1 hX i).trans (result_eq m d X0 X1 h i).symm

theorem algebraic [Cert.Pre_finite.Facts] : Cert.algebraic_KernelIdeal_ReferenceIdeal_pre_finite := by
  intro m g m' g' hfin hargs
  refine ⟨fun c => result m c, ?_, ?_⟩
  · exact (θ_run Cert.KernelIdeal.defs _ _).mono (fun _ h c => ⟨(h.1 c).2.2, (h.1 c).1, (h.1 c).2.1⟩)
      (run_main m g (fun _ p => idxArr_lt _ _ p))
  · refine (θ_run Cert.ReferenceIdeal.defs _ _).mono (fun r h c => ⟨(h c).1.trans ?_, (h c).2.1, (h c).2.2⟩)
      (Cert.ReferenceIdeal.Value.run (F := Ideal) m' g')
    refine (Cert.ReferenceIdeal.Read.val_main_v63_eq (StableHlo.launchContents m' c)).trans ?_
    rw [StableHlo.launchContents_devRef, StableHlo.launchContents_devRef, (hargs c).1, (hargs c).2]
    exact values_eq m c _ _ rfl (real_of_finite _ _ (hfin c))

end Cert.Proof

end
-- ==== Proof.RefExact.lean ====
/-
  The errors that aren't rounded: each lies within half a part of the midpoint of its part, and their order is an order
  of the parts too.
-/
module

public import proofs.«01_k».proof.Proof.RefValue

@[expose] public section

noncomputable section

namespace Cert.Proof

open Cert.ReferenceIdeal Cert.ReferenceIdeal.Gen Cert.ReferenceIdeal.Read
open Idealize.ShloMosaic

variable (X0 : FVec Ideal S4x21x512x512 .f32) (X1 : IVec S4x512x512 32)

/-- A probability is a real between zero and one. -/
theorem prob_real (hX : RealLogits X0) (b c h w : ℕ) (hc : c < 21) : ∃ p : ℝ, 0 ≤ p ∧ p ≤ 1 ∧ probOf X0 b c h w = (p : EReal) := by
  choose r hr using hX
  have hpos : 0 < ∑ k : Fin 21, Real.exp (r (pos4 b k.val h w)) := Finset.sum_pos (fun k _ => Real.exp_pos _) ⟨0, Finset.mem_univ _⟩
  refine ⟨Real.exp (r (pos4 b c h w)) / ∑ k : Fin 21, Real.exp (r (pos4 b k.val h w)), div_nonneg (Real.exp_pos _).le hpos.le, ?_, ?_⟩
  · rw [div_le_one hpos]
    exact Finset.single_le_sum (f := fun k : Fin 21 => Real.exp (r (pos4 b k.val h w))) (fun k _ => (Real.exp_pos _).le) (Finset.mem_univ (⟨c, hc⟩ : Fin 21))
  · unfold probOf
    simp only [hr, Ideal.exp_coe]
    rw [sum_real, div_real _ _ hpos.ne']

/-- The size of a real. -/
theorem abs_real (x : ℝ) : max (x : EReal) (-(x : EReal)) = ((|x| : ℝ) : EReal) := by
  rw [← EReal.coe_neg, max_real]; rfl

/-- The word of an error between zero and one is the part it lies in. -/
theorem part_of (e : ℝ) (h0 : 0 ≤ e) (h1 : e ≤ 1) :
    (((clipWord (Ideal.fptosi 32 ((e * 128 : ℝ) : EReal))).toNat : ℕ) : ℤ) = min 127 ⌊e * 128⌋ := by
  have hf0 : 0 ≤ ⌊e * 128⌋ := Int.floor_nonneg.mpr (by linarith)
  have hf1 : ⌊e * 128⌋ ≤ 128 := by
    have : ⌊e * 128⌋ ≤ ⌊(128 : ℝ)⌋ := Int.floor_le_floor (by linarith)
    simpa using this
  have hz : (Ideal.fptosi 32 ((e * 128 : ℝ) : EReal)).toInt = ⌊e * 128⌋ := by
    unfold Ideal.fptosi
    rw [Ideal.toIntClamped_coe, if_pos (by linarith)]
    generalize ⌊e * 128⌋ = k at *
    rw [show max (-((2 ^ (32 - 1) : ℕ) : ℤ)) (min (((2 ^ (32 - 1) : ℕ) : ℤ) - 1) k) = k by norm_num; omega, BitVec.toInt_ofInt]
    unfold Int.bmod
    norm_num
    omega
  rw [clipWord_eq, hz, max_eq_right hf0]

theorem part_near (e : ℝ) (h1 : e ≤ 1) (k : ℕ) (hk : (k : ℤ) = min 127 ⌊e * 128⌋) : |(127.5 - ((127 - k : ℕ) : ℝ)) / 128 - e| ≤ 1 / 256 := by
  have hk127 : k ≤ 127 := by omega
  have ha : (k : ℝ) ≤ e * 128 := le_trans (by exact_mod_cast (hk ▸ min_le_right _ _ : (k : ℤ) ≤ ⌊e * 128⌋)) (Int.floor_le _)
  have hb : e * 128 ≤ k + 1 := by
    rcases le_total 127 ⌊e * 128⌋ with h | h
    · rw [min_eq_left h] at hk
      have : (k : ℝ) = 127 := by exact_mod_cast hk
      linarith
    · rw [min_eq_right h] at hk
      have := Int.lt_floor_add_one (e * 128)
      rw [← hk] at this
      exact_mod_cast this.le
  rw [Nat.cast_sub hk127, abs_le]
  push_cast
  constructor <;> linarith

theorem part_mono (e f : ℝ) (h : f ≤ e) (k l : ℕ) (hk : (k : ℤ) = min 127 ⌊e * 128⌋) (hl : (l : ℤ) = min 127 ⌊f * 128⌋) : 127 - k ≤ 127 - l := by
  have : ⌊f * 128⌋ ≤ ⌊e * 128⌋ := Int.floor_le_floor (by linarith)
  omega

/-- An error, from its probability. -/
theorem v21_real (hX : RealLogits X0) (c : Fin 21) (p : Fin 1048576) (q : ℝ) (hq : probOf X0 (p.val / 262144) c.val (p.val / 512 % 512) (p.val % 512) = (q : EReal)) :
    val_main_v21 (F := Ideal) X0 X1 (ix2 c p) = ((|((pixFg X1 c p : ℕ) : ℝ) - q| : ℝ) : EReal) := by
  rw [val_main_v21_apply, val_main_v20_apply, v12_at X0 hX, v19_at, hq, Ideal.hostAbsf_def]
  exact (congrArg (fun x : EReal => max x (-x)) (EReal.coe_sub _ _).symm).trans (abs_real _)

/-- An error is a real between zero and one, and the pixel's bin is the part it lies in. -/
theorem v21_at (hX : RealLogits X0) (c : Fin 21) (p : Fin 1048576) :
    ∃ e : ℝ, ∃ k : ℕ, val_main_v21 (F := Ideal) X0 X1 (ix2 c p) = (e : EReal) ∧ e ≤ 1 ∧ (k : ℤ) = min 127 ⌊e * 128⌋ ∧ pixBin X0 X1 c p = 127 - k := by
  obtain ⟨q, hq0, hq1, hq⟩ := prob_real X0 hX (p.val / 262144) c.val (p.val / 512 % 512) (p.val % 512) c.isLt
  have hf := pixFg_le X1 c p
  have hf' : ((pixFg X1 c p : ℕ) : ℝ) = 0 ∨ ((pixFg X1 c p : ℕ) : ℝ) = 1 := by
    rcases Nat.le_one_iff_eq_zero_or_eq_one.mp hf with h | h <;> rw [h] <;> simp
  have he1 : |((pixFg X1 c p : ℕ) : ℝ) - q| ≤ 1 := by rw [abs_le]; rcases hf' with h | h <;> rw [h] <;> constructor <;> linarith
  have hv := v21_real X0 X1 hX c p q hq
  refine ⟨_, _, hv, he1, part_of _ (abs_nonneg _) he1, ?_⟩
  have hw : FloatOps.fptosi (F := Ideal) (φ := .f32) 32 (FloatOps.mulf (F := Ideal) (φ := .f32) (val_main_v21 (F := Ideal) X0 X1 (ix2 c p)) (Scalar.ofBits .f32 0x43000000#32)) =
      errWord (F := Ideal) (probOf X0 (p.val / 262144) c.val (p.val / 512 % 512) (p.val % 512)) (labelOf X1 (p.val / 262144) (p.val / 512 % 512) (p.val % 512)) c.val := by
    rw [val_main_v21_apply, val_main_v20_apply, v12_at X0 hX, val_main_v19_apply, v18_at, bit_real]
    rfl
  unfold pixBin binOf
  rw [← hw, hv]
  refine congrArg (fun x : EReal => 127 - (clipWord (Ideal.fptosi 32 x)).toNat) ?_
  show (((_ : ℝ) : EReal) * Ideal.ofBits .f32 0x43000000#32) = _
  rw [bits_128, EReal.coe_mul]

/-- Along the order of the errors the bins rise. -/
theorem bins_rise (hX : RealLogits X0) (c : Fin 21) (i j : Fin 1048576) (hij : i ≤ j) :
    pixBin X0 X1 c (place (val_main_v21 (F := Ideal) X0 X1) c i) ≤ pixBin X0 X1 c (place (val_main_v21 (F := Ideal) X0 X1) c j) := by
  choose e k he _ hk hb using v21_at X0 X1 hX
  rw [hb, hb]
  exact part_mono _ _ (place_falls _ _ he c i j hij) _ _ (hk c _) (hk c _)

end Cert.Proof

end
-- ==== Proof.Near.lean ====
/-
  The kernel's result lies within half a part of the loss of the errors as they are.
-/
module

public import proofs.«01_k».proof.Proof.RefExact
public import proofs.«01_k».proof.Proof.Algebraic

@[expose] public section

noncomputable section

namespace Cert.Proof

open Cert.ReferenceIdeal Cert.ReferenceIdeal.Gen Cert.ReferenceIdeal.Read
open Idealize.ShloMosaic Idealize.SL.Sem

theorem near_facts : Cert.Post_near.Facts where
  reducesTo_S4x21x512x512_S4x512x512_d1 := reducesTo_S4x21x512x512_S4x512x512_d1
  h_S_ := h_S_
  bcast_S_S4x512x512 := bcast_S_S4x512x512
  bcast_S4x512x512_S4x1x512x512_0_2_3 := bcast_S4x512x512_S4x1x512x512_0_2_3
  bcast_S4x1x512x512_S4x21x512x512_0_1_2_3 := bcast_S4x1x512x512_S4x21x512x512_0_1_2_3
  transposes_S4x21x512x512_S21x4x512x512_1_0_2_3 := transposes_S4x21x512x512_S21x4x512x512_1_0_2_3
  shapeCasts_S21x4x512x512_S21x1048576 := shapeCasts_S21x4x512x512_S21x1048576
  shapeCasts_S4x512x512_S1x1048576 := shapeCasts_S4x512x512_S1x1048576
  bcast_S21_S21x1_0 := bcast_S21_S21x1_0
  bcast_S1x1048576_S21x1048576_0_1 := bcast_S1x1048576_S21x1048576_0_1
  bcast_S21x1_S21x1048576_0_1 := bcast_S21x1_S21x1048576_0_1
  bcast_S_S21x1048576 := bcast_S_S21x1048576
  shapeCasts_S21x1048576_S21x1048576x1 := shapeCasts_S21x1048576_S21x1048576x1
  bcast_S_S21x1048576x1 := bcast_S_S21x1048576x1
  bcast_S1_S1x1x1_2 := bcast_S1_S1x1x1_2
  bcast_S1x1x1_S21x1048576x1_0_1_2 := bcast_S1x1x1_S21x1048576x1_0_1_2
  reducesTo_S21x1048576x1_S21x1048576_d2 := reducesTo_S21x1048576x1_S21x1048576_d2
  reducesTo_S21x1048576_S21_d1 := reducesTo_S21x1048576_S21_d1
  bcast_S_S_ := bcast_S_S_
  reduceWindows_S21x1048576_S21x1048576_w1s1p0_0_w1048576s1p1048575_0 := reduceWindows_S21x1048576_S21x1048576_w1s1p0_0_w1048576s1p1048575_0
  slices_S21x1048576_S21x1_0_0 := slices_S21x1048576_S21x1_0_0
  slices_S21x1048576_S21x1048575_0_1 := slices_S21x1048576_S21x1048575_0_1
  slices_S21x1048576_S21x1048575_0_0 := slices_S21x1048576_S21x1048575_0_0
  concatenates_S21x1_S21x1048575_S21x1048576_d1 := concatenates_S21x1_S21x1048575_S21x1048576_d1
  bcast_S_S21 := bcast_S_S21
  reducesTo_S21_S_d0 := reducesTo_S21_S_d0
  gather_S21x1048576_S21x1048576x1_S21x1048576_n_1_0_0_1_2_11_wf := gather_S21x1048576_S21x1048576x1_S21x1048576_n_1_0_0_1_2_11_wf

section

variable (X0 : FVec Ideal S4x21x512x512 .f32) (X1 : IVec S4x512x512 32)

/-- The condition asks how far a number lies from the mean loss of the errors. -/
theorem near_eq [Cert.Post_near.Facts] (out : FVec Ideal S_ .f32) :
    Cert.Post_near.fn (F := Ideal) X0 X1 out
      = cmpf .ole (Host.absf (subf out (lossOf (val_main_v21 (F := Ideal) X0 X1) (val_main_v19 (F := Ideal) X1)))) (constant S_ .f32 0x3B800000#32) := by
  rfl

theorem bits_near : Ideal.ofBits .f32 0x3B800000#32 = ((1 / 256 : ℝ) : EReal) := by
  simp [Ideal.ofBits, Ideal.ieee, -BitVec.ofNat_eq_ofNat]
  rw [← EReal.coe_mul]; norm_num

/-- The mean loss of the bins' counts lies within half a part of the mean loss of the errors. -/
theorem exact_near (hX : RealLogits X0) (i : S_.Idx) :
    ∃ x : ℝ, lossOf (val_main_v21 (F := Ideal) X0 X1) (val_main_v19 (F := Ideal) X1) i = (x : EReal)
      ∧ |meanLoss (fun c => upToFg (pixBin X0 X1 c) (pixFg X1 c)) (fun c => upTo (pixBin X0 X1 c)) - x| ≤ 1 / 256 := by
  choose e k he h1 hk hb using v21_at X0 X1 hX
  refine ⟨_, lossOf_at _ _ e (pixFg X1) he (v19_at X1) (fun c p => pixFg_le X1 c p) i, ?_⟩
  rw [← mean_mid X0 X1 (place (val_main_v21 (F := Ideal) X0 X1)) (place_bijective _) (bins_rise X0 X1 hX)]
  refine meanOf_near _ _ _ _ (by norm_num) fun c hG => lossAlong_near _ _ _ _ _ (fun p => ?_) (fun p => pixFg_le X1 c p) ?_
  · unfold pixMid
    rw [hb]
    exact part_near _ (h1 c p) _ (hk c p)
  · rw [sum_along (pixFg X1 c) _ (place_bijective _ c)]; exact hG

/-- A number near the mean loss of the errors meets the condition. -/
theorem near_of [Cert.Post_near.Facts] (hX : RealLogits X0) (out : FVec Ideal S_ .f32)
    (h : ∀ i, out i = ((meanLoss (fun c => upToFg (pixBin X0 X1 c) (pixFg X1 c)) (fun c => upTo (pixBin X0 X1 c)) : ℝ) : EReal)) :
    Cert.Post_near.fn (F := Ideal) X0 X1 out = fun _ => 1#1 := by
  rw [near_eq]
  funext i
  obtain ⟨x, hx, hn⟩ := exact_near X0 X1 hX i
  show BitVec.ofBool (decide ((max (out i - lossOf (val_main_v21 (F := Ideal) X0 X1) (val_main_v19 (F := Ideal) X1) i)
    (-(out i - lossOf (val_main_v21 (F := Ideal) X0 X1) (val_main_v19 (F := Ideal) X1) i)) : EReal) ≤ Ideal.ofBits .f32 0x3B800000#32)) = 1#1
  rw [h, hx, ← EReal.coe_sub, abs_real, bits_near, decide_eq_true (EReal.coe_le_coe_iff.mpr hn)]
  rfl

end

theorem near [Cert.Pre_finite.Facts] [Cert.Post_near.Facts] : Cert.holds_KernelIdeal_near_pre_finite := by
  intro m g hfin
  refine (θ_run Cert.KernelIdeal.defs _ _).mono (fun r h c => ⟨(h.1 c).1, (h.1 c).2.1, ?_⟩) (run_main m g (fun _ p => idxArr_lt _ _ p))
  rw [(h.1 c).2.2]
  exact near_of _ _ (real_of_finite _ _ (hfin c)) _ fun i => result_eq m c _ _ rfl i

end Cert.Proof

end
-- ==== Proof.Differs.lean ====
/-
  Where all logits and labels are zero the kernel's result isn't the loss of the errors as they are: every error of
  class 0, the one class with labels, is 20/21, and the midpoint of its part is 243/256.
-/
module

public import proofs.«01_k».proof.Proof.Near

@[expose] public section

noncomputable section

namespace Cert.Proof

open Cert.ReferenceIdeal Cert.ReferenceIdeal.Gen Cert.ReferenceIdeal.Read
open Idealize.ShloMosaic Idealize.SL.Sem

theorem zeros_facts : Cert.Pre_zeros.Facts where
  bcast_S_S4x21x512x512 := by decide
  reducesTo_S4x21x512x512_S_d0_1_2_3 := by decide
  h_S_ := by decide
  bcast_S_S4x512x512 := by decide
  reducesTo_S4x512x512_S_d0_1_2 := by decide

theorem differs_facts : Cert.Post_differs.Facts := { near_facts with }

/-- Equal errors have themselves as their loss. -/
theorem lossAlong_const {N : ℕ} (e : Fin N → ℝ) (g : Fin N → ℕ) (σ : Fin N → Fin N) (x : ℝ) (h : ∀ p, e p = x) (hG : 0 < ∑ i, g (σ i)) : lossAlong e g σ = x := by
  unfold lossAlong
  simp only [h]
  rw [← Finset.mul_sum, sum_steps _ hG, mul_one]

/-- The mean over one class is its loss. -/
theorem meanOf_one {n : ℕ} (L : Fin n → ℝ) (G : Fin n → ℕ) (c : Fin n) (hc : 0 < G c) (h : ∀ k, k ≠ c → G k = 0) : meanOf L G = L c := by
  have e1 : present (G c) = 1 := if_pos hc
  have e0 : ∀ k, k ≠ c → present (G k) = 0 := fun k hk => by rw [h k hk]; exact if_neg (lt_irrefl 0)
  unfold meanOf
  rw [Finset.sum_eq_single c (fun k _ hk => by rw [e0 k hk, mul_zero]) (fun hk => absurd (Finset.mem_univ c) hk),
    Finset.sum_eq_single c (fun k _ hk => e0 k hk) (fun hk => absurd (Finset.mem_univ c) hk), e1, max_self, mul_one, div_one]

/-- The condition makes every logit and every label zero. -/
theorem zero_of_zeros [Cert.Pre_zeros.Facts] (X0 : FVec Ideal Cert.Pre_zeros.S4x21x512x512 .f32) (X1 : IVec Cert.Pre_zeros.S4x512x512 32)
    (h : Cert.Pre_zeros.fn (F := Ideal) X0 X1 = fun _ => 1#1) : (∀ i, X0 i = (0 : EReal)) ∧ ∀ i, X1 i = 0#32 := by
  have e := congrFun h (Shape.Idx.first Cert.Pre_zeros.Facts.h_S_)
  unfold Cert.Pre_zeros.fn at e
  dsimp only at e
  have e' := andi_one _ _ e
  rw [Host.reduce_eq_fold, Host.reduce_eq_fold] at e'
  constructor
  · intro i
    have := fold_andi _ _ _ e'.1 i (Finset.mem_filter.mpr ⟨Finset.mem_univ _, funext fun a => a.elim0⟩)
    change BitVec.ofBool (decide ((X0 i : EReal) = Ideal.ofBits .f32 0x00000000#32)) = 1#1 at this
    rw [Ideal.ofBits_zero_f32] at this
    by_contra hne
    rw [decide_eq_false hne] at this
    exact absurd this (by decide)
  · intro i
    have := fold_andi _ _ _ e'.2 i (Finset.mem_filter.mpr ⟨Finset.mem_univ _, funext fun a => a.elim0⟩)
    change BitVec.ofBool (X1 i == 0#32) = 1#1 at this
    by_contra hne
    rw [beq_false_of_ne hne] at this
    exact absurd this (by decide)

section

variable (X0 : FVec Ideal S4x21x512x512 .f32) (X1 : IVec S4x512x512 32)

theorem differs_eq [Cert.Post_differs.Facts] (out : FVec Ideal S_ .f32) :
    Cert.Post_differs.fn (F := Ideal) X0 X1 out = cmpf .une out (lossOf (val_main_v21 (F := Ideal) X0 X1) (val_main_v19 (F := Ideal) X1)) := by
  rfl

variable (h0 : ∀ i, X0 i = (0 : EReal)) (h1 : ∀ i, X1 i = 0#32)

include h0 in
theorem real_zero : RealLogits X0 := fun i => ⟨0, (h0 i).trans EReal.coe_zero.symm⟩

include h0 in
theorem prob_zero (b c h w : ℕ) : probOf X0 b c h w = ((1 / 21 : ℝ) : EReal) := by
  unfold probOf
  simp only [h0]
  rw [← EReal.coe_zero, Ideal.exp_coe, Real.exp_zero, sum_real, div_real _ _ (by norm_num)]
  norm_num

include h1 in
theorem fg_zero (c : Fin 21) (p : Fin 1048576) : pixFg X1 c p = if c = 0 then 1 else 0 := by
  unfold pixFg fgOf labelOf
  rw [h1]
  have hc := c.isLt
  by_cases h : c = 0
  · rw [if_pos h, h]; rfl
  · have hv : c.val ≠ 0 := fun e => h (Fin.ext e)
    rw [if_neg h, if_neg]
    intro e
    have := congrArg BitVec.toNat e
    rw [show (BitVec.ofNat 32 c.val).toNat = c.val by rw [BitVec.toNat_ofNat]; exact Nat.mod_eq_of_lt (by omega)] at this
    exact hv this.symm

include h1 in
theorem sum_fg_zero : 0 < ∑ p, pixFg X1 0 p := by
  simp only [fg_zero X1 h1]
  simp

include h1 in
theorem sum_fg_other (c : Fin 21) (hc : c ≠ 0) : ∑ p, pixFg X1 c p = 0 := by
  simp only [fg_zero X1 h1, if_neg hc, Finset.sum_const_zero]

include h1 in
theorem mean_zero (L : Fin 21 → ℝ) : meanOf L (fun c => ∑ p, pixFg X1 c p) = L 0 := by
  have hp := sum_fg_zero X1 h1
  have hn := sum_fg_other X1 h1
  generalize hG : (fun c => ∑ p, pixFg X1 c p) = G
  exact meanOf_one L G 0 (hG ▸ hp) fun k hk => hG ▸ hn k hk

include h0 h1 in
/-- The two losses. -/
theorem zeros_values (i : S_.Idx) :
    lossOf (val_main_v21 (F := Ideal) X0 X1) (val_main_v19 (F := Ideal) X1) i = ((20 / 21 : ℝ) : EReal)
      ∧ meanLoss (fun c => upToFg (pixBin X0 X1 c) (pixFg X1 c)) (fun c => upTo (pixBin X0 X1 c)) = 243 / 256 := by
  have hX := real_zero X0 h0
  choose e k he _ hk hb using v21_at X0 X1 hX
  have he0 : ∀ p, e 0 p = 20 / 21 := fun p => by
    have := (he 0 p).symm.trans (v21_real X0 X1 hX 0 p (1 / 21) (prob_zero X0 h0 _ _ _ _))
    rw [EReal.coe_eq_coe_iff, fg_zero X1 h1, if_pos rfl] at this
    rw [this]
    norm_num [abs_of_pos]
  have hk0 : ∀ p, k 0 p = 121 := fun p => by
    have := hk 0 p
    rw [he0, show ⌊(20 / 21 : ℝ) * 128⌋ = 121 by rw [Int.floor_eq_iff]; norm_num] at this
    omega
  have hG : 0 < ∑ j, pixFg X1 0 (place (val_main_v21 (F := Ideal) X0 X1) 0 j) := by
    rw [sum_along (pixFg X1 0) _ (place_bijective _ 0)]; exact sum_fg_zero X1 h1
  constructor
  · rw [lossOf_at _ _ e (pixFg X1) he (v19_at X1) (fun c p => pixFg_le X1 c p) i, mean_zero X1 h1, lossAlong_const _ _ _ _ he0 hG]
  · rw [← mean_mid X0 X1 _ (place_bijective _) (bins_rise X0 X1 hX), mean_zero X1 h1]
    refine lossAlong_const _ _ _ _ (fun p => ?_) hG
    unfold pixMid
    rw [hb, hk0]
    norm_num

include h0 h1 in
theorem differs_of [Cert.Post_differs.Facts] (out : FVec Ideal S_ .f32)
    (h : ∀ i, out i = ((meanLoss (fun c => upToFg (pixBin X0 X1 c) (pixFg X1 c)) (fun c => upTo (pixBin X0 X1 c)) : ℝ) : EReal)) :
    Cert.Post_differs.fn (F := Ideal) X0 X1 out = fun _ => 1#1 := by
  rw [differs_eq]
  funext i
  have hv := zeros_values X0 X1 h0 h1 i
  show BitVec.ofBool (decide ((out i : EReal) ≠ lossOf (val_main_v21 (F := Ideal) X0 X1) (val_main_v19 (F := Ideal) X1) i)) = 1#1
  rw [h, hv.1, hv.2, decide_eq_true]
  · rfl
  · rw [Ne, EReal.coe_eq_coe_iff]; norm_num

end

theorem differs [Cert.Pre_zeros.Facts] [Cert.Post_differs.Facts] : Cert.holds_KernelIdeal_differs_pre_zeros := by
  intro m g hz
  refine (θ_run Cert.KernelIdeal.defs _ _).mono (fun r h c => ⟨(h.1 c).1, (h.1 c).2.1, ?_⟩) (run_main m g (fun _ p => idxArr_lt _ _ p))
  obtain ⟨h0, h1⟩ := zero_of_zeros _ _ (hz c)
  rw [(h.1 c).2.2]
  exact differs_of _ _ h0 h1 _ fun i => result_eq m c _ _ rfl i

end Cert.Proof

end
-- ==== Proof.lean ====
/-
  The claims, from the runs of the two programs (Proof/Frames.lean), their values (Proof/Algebraic.lean), the distance
  from the loss of the errors that aren't rounded (Proof/Near.lean) and a place where it isn't zero (Proof/Differs.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Finite
public import proofs.«01_k».proof.Proof.Algebraic
public import proofs.«01_k».proof.Proof.Near
public import proofs.«01_k».proof.Proof.Differs

@[expose] public section

noncomputable section

namespace Cert.Proof

theorem claim : Cert.Claim :=
  ⟨Cert.Kernel.Gen.facts, Cert.KernelIdeal.Gen.facts, Cert.ReferenceIdeal.Gen.facts, finite_facts, zeros_facts, near_facts, differs_facts,
    frame_kernel, frame_kernelIdeal, fun m ρ _ => frame_kernelIdeal m ρ trivial, fun m ρ _ => frame_kernelIdeal m ρ trivial,
    frame_referenceIdeal, fun m ρ _ => frame_referenceIdeal m ρ trivial, trivial,
    @algebraic finite_facts, @near finite_facts near_facts, @differs zeros_facts differs_facts⟩

end Cert.Proof

end
